-- ==== Defs.lean ====
def Pre_Kernel [hPre_edges_named : Cert.Pre_edges_named.Facts] (m : (ℓ : Loc Cert.Kernel.nD Cert.Kernel.τ Cert.Kernel.sig) → Buf (Elt Bits) ℓ) : Prop :=
  ∀ c : Dev Cert.Kernel.nD,
    (Cert.Pre_edges_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_edges_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2 = (fun _ => 1#1)

def Pre_KernelIdeal [hPre_edges_named : Cert.Pre_edges_named.Facts] (m : (ℓ : Loc Cert.KernelIdeal.nD Cert.KernelIdeal.τ Cert.KernelIdeal.sig) → Buf (Elt Ideal) ℓ) : Prop :=
  ∀ c : Dev Cert.KernelIdeal.nD,
    (Cert.Pre_edges_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_edges_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_KernelIdeal_edges_and_pooled [hPre_edges_and_pooled : Cert.Pre_edges_and_pooled.Facts] (m : (ℓ : Loc Cert.KernelIdeal.nD Cert.KernelIdeal.τ Cert.KernelIdeal.sig) → Buf (Elt Ideal) ℓ) : Prop :=
  ∀ c : Dev Cert.KernelIdeal.nD,
    (Cert.Pre_edges_and_pooled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_edges_and_pooled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_edges_and_pooled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal [hPre_edges_named : Cert.Pre_edges_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_edges_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_ReferenceIdeal_edges_and_pooled [hPre_edges_and_pooled : Cert.Pre_edges_and_pooled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_and_pooled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_edges_and_pooled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_edges_and_pooled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreReferenceIdeal (m : (ℓ : Loc Cert.PreReferenceIdeal.nD Cert.PreReferenceIdeal.τ Cert.PreReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Layer [hPre_graph_named : Cert.Pre_graph_named.Facts] (m : (ℓ : Loc Cert.Layer.nD Cert.Layer.τ Cert.Layer.sig) → Buf (Elt Bits) ℓ) : Prop :=
  ∀ c : Dev Cert.Layer.nD,
    (Cert.Pre_graph_named.fn (F := Bits) (m ((c.tc : Thread Cert.Layer.nD Cert.Layer.τ).loc Cert.Layer.main_arg0)) (m ((c.tc : Thread Cert.Layer.nD Cert.Layer.τ).loc Cert.Layer.main_arg1)) (m ((c.tc : Thread Cert.Layer.nD Cert.Layer.τ).loc Cert.Layer.main_arg2)) (m ((c.tc : Thread Cert.Layer.nD Cert.Layer.τ).loc Cert.Layer.main_arg3)) (m ((c.tc : Thread Cert.Layer.nD Cert.Layer.τ).loc Cert.Layer.main_arg4)) (m ((c.tc : Thread Cert.Layer.nD Cert.Layer.τ).loc Cert.Layer.main_arg5)) (m ((c.tc : Thread Cert.Layer.nD Cert.Layer.τ).loc Cert.Layer.main_arg6))) = (fun _ => 1#1)

def Pre_LayerIdeal [hPre_graph_named : Cert.Pre_graph_named.Facts] (m : (ℓ : Loc Cert.LayerIdeal.nD Cert.LayerIdeal.τ Cert.LayerIdeal.sig) → Buf (Elt Ideal) ℓ) : Prop :=
  ∀ c : Dev Cert.LayerIdeal.nD,
    (Cert.Pre_graph_named.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6))) = (fun _ => 1#1)

def Pre_LayerIdeal_graph_finite [hPre_graph_finite : Cert.Pre_graph_finite.Facts] (m : (ℓ : Loc Cert.LayerIdeal.nD Cert.LayerIdeal.τ Cert.LayerIdeal.sig) → Buf (Elt Ideal) ℓ) : Prop :=
  ∀ c : Dev Cert.LayerIdeal.nD,
    (Cert.Pre_graph_finite.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6))).1 = (fun _ => 1#1)
    ∧ (Cert.Pre_graph_finite.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6))).2.1 = (fun _ => 1#1)
    ∧ (Cert.Pre_graph_finite.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6))).2.2.1 = (fun _ => 1#1)
    ∧ (Cert.Pre_graph_finite.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6))).2.2.2 = (fun _ => 1#1)

def Pre_LayerReferenceIdeal [hPre_graph_named : Cert.Pre_graph_named.Facts] (m : (ℓ : Loc Cert.LayerReferenceIdeal.nD Cert.LayerReferenceIdeal.τ Cert.LayerReferenceIdeal.sig) → Buf (Elt Ideal) ℓ) : Prop :=
  ∀ c : Dev Cert.LayerReferenceIdeal.nD,
    (Cert.Pre_graph_named.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6))) = (fun _ => 1#1)

def Pre_LayerReferenceIdeal_graph_finite [hPre_graph_finite : Cert.Pre_graph_finite.Facts] (m : (ℓ : Loc Cert.LayerReferenceIdeal.nD Cert.LayerReferenceIdeal.τ Cert.LayerReferenceIdeal.sig) → Buf (Elt Ideal) ℓ) : Prop :=
  ∀ c : Dev Cert.LayerReferenceIdeal.nD,
    (Cert.Pre_graph_finite.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6))).1 = (fun _ => 1#1)
    ∧ (Cert.Pre_graph_finite.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6))).2.1 = (fun _ => 1#1)
    ∧ (Cert.Pre_graph_finite.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6))).2.2.1 = (fun _ => 1#1)
    ∧ (Cert.Pre_graph_finite.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6))).2.2.2 = (fun _ => 1#1)

def quiescent_Kernel [hKernel : Cert.Kernel.Facts] [hPre_edges_named : Cert.Pre_edges_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_edges_named : Cert.Pre_edges_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_edges_and_pooled [hKernelIdeal : Cert.KernelIdeal.Facts] [hPre_edges_and_pooled : Cert.Pre_edges_and_pooled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_and_pooled m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_edges_named : Cert.Pre_edges_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_edges_and_pooled [hReferenceIdeal : Cert.ReferenceIdeal.Facts] [hPre_edges_and_pooled : Cert.Pre_edges_and_pooled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_and_pooled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ r.2.sem = fun _ => 0)

def quiescent_PreReferenceIdeal [hPreReferenceIdeal : Cert.PreReferenceIdeal.Facts] : Prop :=
  ∀ (m : (ℓ : Loc Cert.PreReferenceIdeal.nD Cert.PreReferenceIdeal.τ Cert.PreReferenceIdeal.sig) → Buf (Elt Ideal) ℓ) (g : Dev Cert.PreReferenceIdeal.nD → PrngReg), Pre_PreReferenceIdeal m →
    θ_run (Cert.PreReferenceIdeal.defs (F := Ideal)) (onTc (τ := Cert.PreReferenceIdeal.τ) (Cert.PreReferenceIdeal.main (F := Ideal))) ⟨m, fun _ => 0, g⟩ (fun r => (∀ c : Dev Cert.PreReferenceIdeal.nD,
      r.2.mem ((c.tc : Thread Cert.PreReferenceIdeal.nD Cert.PreReferenceIdeal.τ).loc Cert.PreReferenceIdeal.main_arg0) = m ((c.tc : Thread Cert.PreReferenceIdeal.nD Cert.PreReferenceIdeal.τ).loc Cert.PreReferenceIdeal.main_arg0)
      ∧ r.2.mem ((c.tc : Thread Cert.PreReferenceIdeal.nD Cert.PreReferenceIdeal.τ).loc Cert.PreReferenceIdeal.main_arg1) = m ((c.tc : Thread Cert.PreReferenceIdeal.nD Cert.PreReferenceIdeal.τ).loc Cert.PreReferenceIdeal.main_arg1)
      ∧ r.2.mem ((c.tc : Thread Cert.PreReferenceIdeal.nD Cert.PreReferenceIdeal.τ).loc Cert.PreReferenceIdeal.main_arg2) = m ((c.tc : Thread Cert.PreReferenceIdeal.nD Cert.PreReferenceIdeal.τ).loc Cert.PreReferenceIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4))
      ∧ r.2.sem = fun _ => 0)

def quiescent_Layer [hLayer : Cert.Layer.Facts] [hPre_graph_named : Cert.Pre_graph_named.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (Cert.Layer.threads (F := Bits)) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6))
      ∧ r.2.sem = fun _ => 0)

def quiescent_LayerIdeal [hLayerIdeal : Cert.LayerIdeal.Facts] [hPre_graph_named : Cert.Pre_graph_named.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (Cert.LayerIdeal.threads (F := Ideal)) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6))
      ∧ r.2.sem = fun _ => 0)

def quiescent_LayerIdeal_pre_graph_finite [hLayerIdeal : Cert.LayerIdeal.Facts] [hPre_graph_finite : Cert.Pre_graph_finite.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal_graph_finite m →
    θ_run (Cert.LayerIdeal.defs (F := Ideal)) (Cert.LayerIdeal.threads (F := Ideal)) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6))
      ∧ r.2.sem = fun _ => 0)

def quiescent_LayerReferenceIdeal [hLayerReferenceIdeal : Cert.LayerReferenceIdeal.Facts] [hPre_graph_named : Cert.Pre_graph_named.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6))
      ∧ r.2.sem = fun _ => 0)

def quiescent_LayerReferenceIdeal_pre_graph_finite [hLayerReferenceIdeal : Cert.LayerReferenceIdeal.Facts] [hPre_graph_finite : Cert.Pre_graph_finite.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal_graph_finite m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6))
      ∧ r.2.sem = fun _ => 0)

def preserves_Kernel_KernelIdeal : Prop :=
  True

def algebraic_KernelIdeal_ReferenceIdeal_pre_edges_and_pooled [hKernelIdeal : Cert.KernelIdeal.Facts] [hReferenceIdeal : Cert.ReferenceIdeal.Facts] [hPre_edges_and_pooled : Cert.Pre_edges_and_pooled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_and_pooled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Pre_PreIdeal : Prop :=
  True

def algebraic_PreIdeal_PreReferenceIdeal [hPreIdeal : Cert.PreIdeal.Facts] [hPreReferenceIdeal : Cert.PreReferenceIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreReferenceIdeal.nD Cert.PreReferenceIdeal.τ Cert.PreReferenceIdeal.sig) → Buf (Elt Ideal) ℓ) (g' : Dev Cert.PreReferenceIdeal.nD → PrngReg), Pre_PreIdeal m →
    (∀ c : Dev Cert.PreIdeal.nD,
      m' ((c.tc : Thread Cert.PreReferenceIdeal.nD Cert.PreReferenceIdeal.τ).loc Cert.PreReferenceIdeal.main_arg0) = m ((c.tc : Thread Cert.PreIdeal.nD Cert.PreIdeal.τ).loc Cert.PreIdeal.main_arg0)
      ∧ m' ((c.tc : Thread Cert.PreReferenceIdeal.nD Cert.PreReferenceIdeal.τ).loc Cert.PreReferenceIdeal.main_arg1) = m ((c.tc : Thread Cert.PreIdeal.nD Cert.PreIdeal.τ).loc Cert.PreIdeal.main_arg1)
      ∧ m' ((c.tc : Thread Cert.PreReferenceIdeal.nD Cert.PreReferenceIdeal.τ).loc Cert.PreReferenceIdeal.main_arg2) = m ((c.tc : Thread Cert.PreIdeal.nD Cert.PreIdeal.τ).loc Cert.PreIdeal.main_arg2)) →
    ∃ (v0 : (c : Dev Cert.PreIdeal.nD) → Buf (Elt Ideal) ((c.tc : Thread Cert.PreIdeal.nD Cert.PreIdeal.τ).loc Cert.PreIdeal.main_v1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v1) = v0 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ θ_run (Cert.PreReferenceIdeal.defs (F := Ideal)) (onTc (τ := Cert.PreReferenceIdeal.τ) (Cert.PreReferenceIdeal.main (F := Ideal))) ⟨m', fun _ => 0, g'⟩ (fun r => ∀ c : Dev Cert.PreReferenceIdeal.nD,
          r.2.mem ((c.tc : Thread Cert.PreReferenceIdeal.nD Cert.PreReferenceIdeal.τ).loc Cert.PreReferenceIdeal.main_v4) = v0 c
          ∧ r.2.mem ((c.tc : Thread Cert.PreReferenceIdeal.nD Cert.PreReferenceIdeal.τ).loc Cert.PreReferenceIdeal.main_arg0) = m' ((c.tc : Thread Cert.PreReferenceIdeal.nD Cert.PreReferenceIdeal.τ).loc Cert.PreReferenceIdeal.main_arg0)
          ∧ r.2.mem ((c.tc : Thread Cert.PreReferenceIdeal.nD Cert.PreReferenceIdeal.τ).loc Cert.PreReferenceIdeal.main_arg1) = m' ((c.tc : Thread Cert.PreReferenceIdeal.nD Cert.PreReferenceIdeal.τ).loc Cert.PreReferenceIdeal.main_arg1)
          ∧ r.2.mem ((c.tc : Thread Cert.PreReferenceIdeal.nD Cert.PreReferenceIdeal.τ).loc Cert.PreReferenceIdeal.main_arg2) = m' ((c.tc : Thread Cert.PreReferenceIdeal.nD Cert.PreReferenceIdeal.τ).loc Cert.PreReferenceIdeal.main_arg2))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)
      ∧ m' ((c.tc : Thread Cert.MidReferenceIdeal.nD Cert.MidReferenceIdeal.τ).loc Cert.MidReferenceIdeal.main_arg5) = m ((c.tc : Thread Cert.MidIdeal.nD Cert.MidIdeal.τ).loc Cert.MidIdeal.main_arg5)
      ∧ m' ((c.tc : Thread Cert.MidReferenceIdeal.nD Cert.MidReferenceIdeal.τ).loc Cert.MidReferenceIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v2_0)) (v1 : (c : Dev Cert.MidIdeal.nD) → Buf (Elt Ideal) ((c.tc : Thread Cert.MidIdeal.nD Cert.MidIdeal.τ).loc Cert.MidIdeal.main_v2_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v2_0) = v0 c
          ∧ r.2.mem ((c.tc : Thread Cert.MidIdeal.nD Cert.MidIdeal.τ).loc Cert.MidIdeal.main_v2_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v6) = v0 c
          ∧ r.2.mem ((c.tc : Thread Cert.MidReferenceIdeal.nD Cert.MidReferenceIdeal.τ).loc Cert.MidReferenceIdeal.main_v11) = v1 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4)
          ∧ r.2.mem ((c.tc : Thread Cert.MidReferenceIdeal.nD Cert.MidReferenceIdeal.τ).loc Cert.MidReferenceIdeal.main_arg5) = m' ((c.tc : Thread Cert.MidReferenceIdeal.nD Cert.MidReferenceIdeal.τ).loc Cert.MidReferenceIdeal.main_arg5)
          ∧ r.2.mem ((c.tc : Thread Cert.MidReferenceIdeal.nD Cert.MidReferenceIdeal.τ).loc Cert.MidReferenceIdeal.main_arg6) = m' ((c.tc : Thread Cert.MidReferenceIdeal.nD Cert.MidReferenceIdeal.τ).loc Cert.MidReferenceIdeal.main_arg6))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v1) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v6) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4))

def preserves_Layer_LayerIdeal : Prop :=
  True

def algebraic_LayerIdeal_LayerReferenceIdeal_pre_graph_finite [hLayerIdeal : Cert.LayerIdeal.Facts] [hLayerReferenceIdeal : Cert.LayerReferenceIdeal.Facts] [hPre_graph_finite : Cert.Pre_graph_finite.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal_graph_finite m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)
      ∧ m' ((c.tc : Thread Cert.LayerReferenceIdeal.nD Cert.LayerReferenceIdeal.τ).loc Cert.LayerReferenceIdeal.main_arg4) = m ((c.tc : Thread Cert.LayerIdeal.nD Cert.LayerIdeal.τ).loc Cert.LayerIdeal.main_arg4)
      ∧ m' ((c.tc : Thread Cert.LayerReferenceIdeal.nD Cert.LayerReferenceIdeal.τ).loc Cert.LayerReferenceIdeal.main_arg5) = m ((c.tc : Thread Cert.LayerIdeal.nD Cert.LayerIdeal.τ).loc Cert.LayerIdeal.main_arg5)
      ∧ m' ((c.tc : Thread Cert.LayerReferenceIdeal.nD Cert.LayerReferenceIdeal.τ).loc Cert.LayerReferenceIdeal.main_arg6) = m ((c.tc : Thread Cert.LayerIdeal.nD Cert.LayerIdeal.τ).loc Cert.LayerIdeal.main_arg6)) →
    ∃ (v0 : (c : Dev Cert.LayerIdeal.nD) → Buf (Elt Ideal) ((c.tc : Thread Cert.LayerIdeal.nD Cert.LayerIdeal.τ).loc Cert.LayerIdeal.main_v11_0)),
      θ_run (Cert.LayerIdeal.defs (F := Ideal)) (Cert.LayerIdeal.threads (F := Ideal)) ⟨m, fun _ => 0, g⟩ (fun r => ∀ c : Dev Cert.LayerIdeal.nD,
          r.2.mem ((c.tc : Thread Cert.LayerIdeal.nD Cert.LayerIdeal.τ).loc Cert.LayerIdeal.main_v11_0) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v30) = v0 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4)
          ∧ r.2.mem ((c.tc : Thread Cert.LayerReferenceIdeal.nD Cert.LayerReferenceIdeal.τ).loc Cert.LayerReferenceIdeal.main_arg5) = m' ((c.tc : Thread Cert.LayerReferenceIdeal.nD Cert.LayerReferenceIdeal.τ).loc Cert.LayerReferenceIdeal.main_arg5)
          ∧ r.2.mem ((c.tc : Thread Cert.LayerReferenceIdeal.nD Cert.LayerReferenceIdeal.τ).loc Cert.LayerReferenceIdeal.main_arg6) = m' ((c.tc : Thread Cert.LayerReferenceIdeal.nD Cert.LayerReferenceIdeal.τ).loc Cert.LayerReferenceIdeal.main_arg6))

def Claim : Prop :=
  ∃ (hKernel : Cert.Kernel.Facts) (hKernelIdeal : Cert.KernelIdeal.Facts) (hReferenceIdeal : Cert.ReferenceIdeal.Facts) (hPre : Cert.Pre.Facts) (hPreIdeal : Cert.PreIdeal.Facts) (hPreReferenceIdeal : Cert.PreReferenceIdeal.Facts) (hMid : Cert.Mid.Facts) (hMidIdeal : Cert.MidIdeal.Facts) (hMidReferenceIdeal : Cert.MidReferenceIdeal.Facts) (hPost : Cert.Post.Facts) (hPostIdeal : Cert.PostIdeal.Facts) (hPostReferenceIdeal : Cert.PostReferenceIdeal.Facts) (hLayer : Cert.Layer.Facts) (hLayerIdeal : Cert.LayerIdeal.Facts) (hLayerReferenceIdeal : Cert.LayerReferenceIdeal.Facts) (hPre_edges_named : Cert.Pre_edges_named.Facts) (hPre_edges_and_pooled : Cert.Pre_edges_and_pooled.Facts) (hPre_graph_named : Cert.Pre_graph_named.Facts) (hPre_graph_finite : Cert.Pre_graph_finite.Facts),
    quiescent_Kernel (hKernel := hKernel) (hPre_edges_named := hPre_edges_named)
    ∧ quiescent_KernelIdeal (hKernelIdeal := hKernelIdeal) (hPre_edges_named := hPre_edges_named)
    ∧ quiescent_KernelIdeal_pre_edges_and_pooled (hKernelIdeal := hKernelIdeal) (hPre_edges_and_pooled := hPre_edges_and_pooled)
    ∧ quiescent_ReferenceIdeal (hReferenceIdeal := hReferenceIdeal) (hPre_edges_named := hPre_edges_named)
    ∧ quiescent_ReferenceIdeal_pre_edges_and_pooled (hReferenceIdeal := hReferenceIdeal) (hPre_edges_and_pooled := hPre_edges_and_pooled)
    ∧ quiescent_Pre (hPre := hPre)
    ∧ quiescent_PreIdeal (hPreIdeal := hPreIdeal)
    ∧ quiescent_PreReferenceIdeal (hPreReferenceIdeal := hPreReferenceIdeal)
    ∧ quiescent_Mid (hMid := hMid)
    ∧ quiescent_MidIdeal (hMidIdeal := hMidIdeal)
    ∧ quiescent_MidReferenceIdeal (hMidReferenceIdeal := hMidReferenceIdeal)
    ∧ quiescent_Post (hPost := hPost)
    ∧ quiescent_PostIdeal (hPostIdeal := hPostIdeal)
    ∧ quiescent_PostReferenceIdeal (hPostReferenceIdeal := hPostReferenceIdeal)
    ∧ quiescent_Layer (hLayer := hLayer) (hPre_graph_named := hPre_graph_named)
    ∧ quiescent_LayerIdeal (hLayerIdeal := hLayerIdeal) (hPre_graph_named := hPre_graph_named)
    ∧ quiescent_LayerIdeal_pre_graph_finite (hLayerIdeal := hLayerIdeal) (hPre_graph_finite := hPre_graph_finite)
    ∧ quiescent_LayerReferenceIdeal (hLayerReferenceIdeal := hLayerReferenceIdeal) (hPre_graph_named := hPre_graph_named)
    ∧ quiescent_LayerReferenceIdeal_pre_graph_finite (hLayerReferenceIdeal := hLayerReferenceIdeal) (hPre_graph_finite := hPre_graph_finite)
    ∧ preserves_Kernel_KernelIdeal
    ∧ algebraic_KernelIdeal_ReferenceIdeal_pre_edges_and_pooled (hKernelIdeal := hKernelIdeal) (hReferenceIdeal := hReferenceIdeal) (hPre_edges_and_pooled := hPre_edges_and_pooled)
    ∧ preserves_Pre_PreIdeal
    ∧ algebraic_PreIdeal_PreReferenceIdeal (hPreIdeal := hPreIdeal) (hPreReferenceIdeal := hPreReferenceIdeal)
    ∧ preserves_Mid_MidIdeal
    ∧ algebraic_MidIdeal_MidReferenceIdeal (hMidIdeal := hMidIdeal) (hMidReferenceIdeal := hMidReferenceIdeal)
    ∧ preserves_Post_PostIdeal
    ∧ algebraic_PostIdeal_PostReferenceIdeal (hPostIdeal := hPostIdeal) (hPostReferenceIdeal := hPostReferenceIdeal)
    ∧ preserves_Layer_LayerIdeal
    ∧ algebraic_LayerIdeal_LayerReferenceIdeal_pre_graph_finite (hLayerIdeal := hLayerIdeal) (hLayerReferenceIdeal := hLayerReferenceIdeal) (hPre_graph_finite := hPre_graph_finite)
-- ==== Pre_edges_and_pooled.lean ====
abbrev S10000x128 : Shape := ⟨2, ![10000, 128]⟩
abbrev S320000 : Shape := ⟨1, ![320000]⟩
abbrev S_ : Shape := ⟨0, ![]⟩

class Facts : Prop where
  bcast_S_S320000 : S_.BroadcastsInDim S320000 (![] : Fin 0 → Fin S320000.rank)
  bcast_S_S10000x128 : S_.BroadcastsInDim S10000x128 (![] : Fin 0 → Fin S10000x128.rank)

variable [Facts]

def fn {F : FTy → Type} [FloatOps F] (main_arg0 : FVec F S10000x128 .f32) (main_arg1 : IVec S320000 32) (main_arg2 : IVec S320000 32) : IVec S320000 1 × IVec S320000 1 × IVec S10000x128 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 32 := constantI S_ 32 0#32
  let main_v5 : IVec S320000 32 := broadcastInDim S320000 ![] bcast_S_S320000 main_c_1
  let main_v6 : IVec S320000 1 := cmpi .sge main_arg2 main_v5
  let main_c_2 : IVec S_ 32 := constantI S_ 32 10000#32
  let main_v7 : IVec S320000 32 := broadcastInDim S320000 ![] bcast_S_S320000 main_c_2
  let main_v8 : IVec S320000 1 := cmpi .slt main_arg2 main_v7
  let main_v9 : IVec S320000 1 := andi main_v6 main_v8
  let main_cst : FVec F S_ .f32 := constant S_ .f32 0x00000000#32
  let main_v10 : FVec F S10000x128 .f32 := broadcastInDim S10000x128 ![] bcast_S_S10000x128 main_cst
  let main_v11 : IVec S10000x128 1 := cmpf .oge main_arg0 main_v10
  let main_cst_3 : FVec F S_ .f32 := constant S_ .f32 0x7F800000#32
  let main_v12 : FVec F S10000x128 .f32 := broadcastInDim S10000x128 ![] bcast_S_S10000x128 main_cst_3
  let main_v13 : IVec S10000x128 1 := cmpf .olt main_arg0 main_v12
  let main_v14 : IVec S10000x128 1 := andi main_v11 main_v13
  (main_v4, main_v9, main_v14)
-- ==== Pre_edges_named.lean ====
abbrev S10000x128 : Shape := ⟨2, ![10000, 128]⟩
abbrev S320000 : Shape := ⟨1, ![320000]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : FVec F S10000x128 .f32) (main_arg1 : IVec S320000 32) (main_arg2 : IVec S320000 32) : IVec S320000 1 × IVec S320000 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 32 := constantI S_ 32 0#32
  let main_v5 : IVec S320000 32 := broadcastInDim S320000 ![] bcast_S_S320000 main_c_1
  let main_v6 : IVec S320000 1 := cmpi .sge main_arg2 main_v5
  let main_c_2 : IVec S_ 32 := constantI S_ 32 10000#32
  let main_v7 : IVec S320000 32 := broadcastInDim S320000 ![] bcast_S_S320000 main_c_2
  let main_v8 : IVec S320000 1 := cmpi .slt main_arg2 main_v7
  let main_v9 : IVec S320000 1 := andi main_v6 main_v8
  (main_v4, main_v9)
-- ==== Pre_graph_finite.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S2x320000 : S_.BroadcastsInDim S2x320000 (![] : Fin 0 → Fin S2x320000.rank)
  bcast_S_S10000x128 : S_.BroadcastsInDim S10000x128 (![] : Fin 0 → Fin S10000x128.rank)
  bcast_S_S128x128 : S_.BroadcastsInDim S128x128 (![] : Fin 0 → Fin S128x128.rank)
  bcast_S_S128 : S_.BroadcastsInDim S128 (![] : Fin 0 → Fin S128.rank)

variable [Facts]

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128x128 .f32) (main_arg6 : FVec F S128 .f32) : IVec S2x320000 1 × IVec S10000x128 1 × IVec S128x128 1 × IVec S128 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_v5 : FVec F S10000x128 .f32 := Host.absf main_arg0
  let main_cst : FVec F S_ .f32 := constant S_ .f32 0x7F800000#32
  let main_v6 : FVec F S10000x128 .f32 := broadcastInDim S10000x128 ![] bcast_S_S10000x128 main_cst
  let main_v7 : IVec S10000x128 1 := cmpf .olt main_v5 main_v6
  let main_v8 : FVec F S128x128 .f32 := Host.absf main_arg2
  let main_cst_1 : FVec F S_ .f32 := constant S_ .f32 0x7F800000#32
  let main_v9 : FVec F S128x128 .f32 := broadcastInDim S128x128 ![] bcast_S_S128x128 main_cst_1
  let main_v10 : IVec S128x128 1 := cmpf .olt main_v8 main_v9
  let main_v11 : FVec F S128 .f32 := Host.absf main_arg3
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  (main_v4, main_v7, main_v10, main_v13)
-- ==== Pre_graph_named.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S2x320000 : S_.BroadcastsInDim S2x320000 (![] : Fin 0 → Fin S2x320000.rank)

variable [Facts]

def fn {F : FTy → Type} [FloatOps F] (main_arg0 : FVec F S10000x128 .f32) (main_arg1 : IVec S2x320000 32) (main_arg2 : FVec F S128x128 .f32) (main_arg3 : FVec F S128 .f32) (main_arg4 : FVec F S128x128 .f32) (main_arg5 : FVec F S128x128 .f32) (main_arg6 : FVec F S128 .f32) : IVec S2x320000 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  main_v4
-- ==== Kernel.lean ====
abbrev S10000x128 : Shape := ⟨2, ![10000, 128]⟩
abbrev S320000 : Shape := ⟨1, ![320000]⟩
abbrev S1282048 : Shape := ⟨1, ![1282048]⟩
abbrev S40192 : Shape := ⟨1, ![40192]⟩
abbrev S16000 : Shape := ⟨1, ![16000]⟩
abbrev S8032 : Shape := ⟨1, ![8032]⟩
abbrev S4x32x128 : Shape := ⟨3, ![4, 32, 128]⟩
abbrev S4 : Shape := ⟨1, ![4]⟩
abbrev S2 : Shape := ⟨1, ![2]⟩
abbrev S16 : Shape := ⟨1, ![16]⟩
abbrev S8000 : Shape := ⟨1, ![8000]⟩
abbrev S1 : Shape := ⟨1, ![1]⟩
abbrev S_ : Shape := ⟨0, ![]⟩
abbrev S1x32x128 : Shape := ⟨3, ![1, 32, 128]⟩
abbrev S32x128 : Shape := ⟨2, ![32, 128]⟩
abbrev S32 : Shape := ⟨1, ![32]⟩
abbrev S1x1x16 : Shape := ⟨3, ![1, 1, 16]⟩
abbrev S40064 : Shape := ⟨1, ![40064]⟩
abbrev S10016x128 : Shape := ⟨2, ![10016, 128]⟩

abbrev nBuf : Table → Nat
  | .hbm => 6
  | .local .scVector .vmem => 6
  | _ => 0

abbrev bufTy : (tb : Table) → Fin (nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S1282048, .f32⟩
  | .hbm, ⟨4, _⟩ => ⟨S10016x128, .f32⟩
  | .hbm, ⟨5, _⟩ => ⟨S10000x128, .f32⟩
  | .local .scVector .vmem, ⟨0, _⟩ => ⟨S40192, .f32⟩
  | .local .scVector .vmem, ⟨1, _⟩ => ⟨S16000, .i32⟩
  | .local .scVector .vmem, ⟨2, _⟩ => ⟨S16000, .i32⟩
  | .local .scVector .vmem, ⟨3, _⟩ => ⟨S8032, .i32⟩
  | .local .scVector .vmem, ⟨4, _⟩ => ⟨S8032, .i32⟩
  | .local .scVector .vmem, ⟨5, _⟩ => ⟨S4x32x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c2512_i32 : BitVec 32 := 2512#32
  let v4 : BitVec 32 := Scalar.addi c0_i32_1 c2512_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg14 : BitVec 32 := Scf.iv c0_i32_1 c1_i32 k0_t1
  let c16_i32 : BitVec 32 := 16#32
  let v22 : BitVec 32 := Scalar.muli arg14 c16_i32
  let v23 : Index := Scalar.indexCast v22
  ![v23.toNat]
@[reducible] def k0_t2_loop : Scf.Loop 32 :=
  let c0_i32_14 : BitVec 32 := 0#32
  let c40_i32 : BitVec 32 := 40#32
  let v18 : BitVec 32 := Scalar.addi c0_i32_14 c40_i32
  let c1_i32_15 : BitVec 32 := 1#32
  ⟨c0_i32_14, v18, c1_i32_15⟩
def k0_off2 (k0_t2 : Fin k0_t2_loop.trips) : Fin 1 → Nat :=
  let c0_i32_14 : BitVec 32 := 0#32
  let c1_i32_15 : BitVec 32 := 1#32
  let arg14 : BitVec 32 := Scf.iv c0_i32_14 c1_i32_15 k0_t2
  let c2_i32_17 : BitVec 32 := 2#32
  let v21 : BitVec 32 := Scalar.remsi arg14 c2_i32_17
  let c8000_i32 : BitVec 32 := 8000#32
  let v22 : BitVec 32 := Scalar.muli v21 c8000_i32
  ![v22.toNat]
def k0_cond1 (k0_t2 : Fin k0_t2_loop.trips) : BitVec 1 :=
  let c0_i32_14 : BitVec 32 := 0#32
  let c1_i32_15 : BitVec 32 := 1#32
  let arg14 : BitVec 32 := Scf.iv c0_i32_14 c1_i32_15 k0_t2
  let c1_i32_25 : BitVec 32 := 1#32
  let v36 : BitVec 32 := Scalar.addi arg14 c1_i32_25
  let c40_i32_26 : BitVec 32 := 40#32
  let v37 : BitVec 1 := Scalar.cmpi .slt v36 c40_i32_26
  let v38 : BitVec 32 := Scalar.extui v37
  let c0_i32_27 : BitVec 32 := 0#32
  let v39 : BitVec 1 := Scalar.cmpi .ne v38 c0_i32_27
  v39

def k0_off3 (k0_t2 : Fin k0_t2_loop.trips) : Fin 1 → Nat :=
  let c1_i32_59 : BitVec 32 := 1#32
  let c0_i32_14 : BitVec 32 := 0#32
  let c1_i32_15 : BitVec 32 := 1#32
  let arg14 : BitVec 32 := Scf.iv c0_i32_14 c1_i32_15 k0_t2
  let c2_i32_17 : BitVec 32 := 2#32
  let v21 : BitVec 32 := Scalar.remsi arg14 c2_i32_17
  let v95 : BitVec 32 := Scalar.subi c1_i32_59 v21
  let c8000_i32_61 : BitVec 32 := 8000#32
  let v97 : BitVec 32 := Scalar.muli v95 c8000_i32_61
  ![v97.toNat]
def k0_off4 (k0_t2 : Fin k0_t2_loop.trips) : Fin 1 → Nat :=
  let c0_i32_14 : BitVec 32 := 0#32
  let c1_i32_15 : BitVec 32 := 1#32
  let arg14 : BitVec 32 := Scf.iv c0_i32_14 c1_i32_15 k0_t2
  let c1_i32_58 : BitVec 32 := 1#32
  let v94 : BitVec 32 := Scalar.addi arg14 c1_i32_58
  let c8000_i32_60 : BitVec 32 := 8000#32
  let v96 : BitVec 32 := Scalar.muli v94 c8000_i32_60
  ![v96.toNat]
@[reducible] def k0_t3_loop : Scf.Loop 32 :=
  let c0_i32_29 : BitVec 32 := 0#32
  let c125_i32 : BitVec 32 := 125#32
  let v40 : BitVec 32 := Scalar.addi c0_i32_29 c125_i32
  let c1_i32_30 : BitVec 32 := 1#32
  ⟨c0_i32_29, v40, c1_i32_30⟩
def k0_off5 (k0_t2 : Fin k0_t2_loop.trips) (k0_t3 : Fin k0_t3_loop.trips) (c0_i32_59 : BitVec 32) : Fin 1 → Nat :=
  let c0_i32_14 : BitVec 32 := 0#32
  let c1_i32_15 : BitVec 32 := 1#32
  let arg14 : BitVec 32 := Scf.iv c0_i32_14 c1_i32_15 k0_t2
  let c2_i32_17 : BitVec 32 := 2#32
  let v21 : BitVec 32 := Scalar.remsi arg14 c2_i32_17
  let c8000_i32_58 : BitVec 32 := 8000#32
  let v94 : BitVec 32 := Scalar.muli v21 c8000_i32_58
  let c4_i32 : BitVec 32 := 4#32
  let c0_i32_29 : BitVec 32 := 0#32
  let c1_i32_30 : BitVec 32 := 1#32
  let arg16 : BitVec 32 := Scf.iv c0_i32_29 c1_i32_30 k0_t3
  let v95 : BitVec 32 := Scalar.muli c4_i32 arg16
  let v96 : BitVec 32 := Scalar.addi v95 c0_i32_59
  let c16_i32_60 : BitVec 32 := 16#32
  let v97 : BitVec 32 := Scalar.muli v96 c16_i32_60
  let v98 : BitVec 32 := Scalar.addi v94 v97
  let v99 : Index := Scalar.indexCast v98
  ![v99.toNat]

def k0_chk1 (v187 : IVec S16 32) : Prop :=
  (∀ a x, ((![v187] : Fin 1 → IVec S16 32) a x).toNat < S8032.size a) ∧
  (∀ a x, ((![v187] : Fin 1 → IVec S16 32) a x).toNat < S8032.size a)
theorem k0_idx1_inb : ∀ (v187 : IVec S16 32) (k0_hw1 : k0_chk1 v187), ∀ a x, ((![v187] : Fin 1 → IVec S16 32) a x).toNat < S8032.size a := fun v187 k0_hw1 => k0_hw1.1
theorem k0_idx2_inb : ∀ (v187 : IVec S16 32) (k0_hw1 : k0_chk1 v187), ∀ a x, ((![v187] : Fin 1 → IVec S16 32) a x).toNat < S8032.size a := fun v187 k0_hw1 => k0_hw1.2

def k0_chk2 (v198 : IVec S16 32) : Prop :=
  (∀ a x, ((![v198] : Fin 1 → IVec S16 32) a x).toNat < S8032.size a) ∧
  (∀ a x, ((![v198] : Fin 1 → IVec S16 32) a x).toNat < S8032.size a)
theorem k0_idx3_inb : ∀ (v198 : IVec S16 32) (k0_hw2 : k0_chk2 v198), ∀ a x, ((![v198] : Fin 1 → IVec S16 32) a x).toNat < S8032.size a := fun v198 k0_hw2 => k0_hw2.1
theorem k0_idx4_inb : ∀ (v198 : IVec S16 32) (k0_hw2 : k0_chk2 v198), ∀ a x, ((![v198] : Fin 1 → IVec S16 32) a x).toNat < S8032.size a := fun v198 k0_hw2 => k0_hw2.2

def k0_chk3 (v209 : IVec S16 32) : Prop :=
  (∀ a x, ((![v209] : Fin 1 → IVec S16 32) a x).toNat < S8032.size a) ∧
  (∀ a x, ((![v209] : Fin 1 → IVec S16 32) a x).toNat < S8032.size a)
theorem k0_idx5_inb : ∀ (v209 : IVec S16 32) (k0_hw3 : k0_chk3 v209), ∀ a x, ((![v209] : Fin 1 → IVec S16 32) a x).toNat < S8032.size a := fun v209 k0_hw3 => k0_hw3.1
theorem k0_idx6_inb : ∀ (v209 : IVec S16 32) (k0_hw3 : k0_chk3 v209), ∀ a x, ((![v209] : Fin 1 → IVec S16 32) a x).toNat < S8032.size a := fun v209 k0_hw3 => k0_hw3.2

def k0_chk4 (v220 : IVec S16 32) : Prop :=
  (∀ a x, ((![v220] : Fin 1 → IVec S16 32) a x).toNat < S8032.size a) ∧
  (∀ a x, ((![v220] : Fin 1 → IVec S16 32) a x).toNat < S8032.size a)
theorem k0_idx7_inb : ∀ (v220 : IVec S16 32) (k0_hw4 : k0_chk4 v220), ∀ a x, ((![v220] : Fin 1 → IVec S16 32) a x).toNat < S8032.size a := fun v220 k0_hw4 => k0_hw4.1
theorem k0_idx8_inb : ∀ (v220 : IVec S16 32) (k0_hw4 : k0_chk4 v220), ∀ a x, ((![v220] : Fin 1 → IVec S16 32) a x).toNat < S8032.size a := fun v220 k0_hw4 => k0_hw4.2
def k0_off6 (v41 : BitVec 32) : Fin 1 → Nat :=
  let v43 : Index := Scalar.indexCast v41
  ![v43.toNat]

def k0_off7 (v41 : BitVec 32) : Fin 1 → Nat :=
  let c16_i32 : BitVec 32 := 16#32
  let v46 : BitVec 32 := Scalar.addi v41 c16_i32
  let v47 : Index := Scalar.indexCast v46
  ![v47.toNat]
def k0_off8 : Fin 3 → Nat :=
  let c0_i32_58 : BitVec 32 := 0#32
  let c4_i32 : BitVec 32 := 4#32
  let v94 : BitVec 32 := Scalar.remsi c0_i32_58 c4_i32
  let c0_i32_59 : BitVec 32 := 0#32
  let c0_i32_60 : BitVec 32 := 0#32
  ![v94.toNat, 0, 0]
def k0_off9 : Fin 1 → Nat :=
  let c0_i32_58 : BitVec 32 := 0#32
  let c4_i32 : BitVec 32 := 4#32
  let v94 : BitVec 32 := Scalar.remsi c0_i32_58 c4_i32
  ![v94.toNat]
def k0_off10 : Fin 3 → Nat :=
  let c1_i32_58 : BitVec 32 := 1#32
  let c4_i32 : BitVec 32 := 4#32
  let v94 : BitVec 32 := Scalar.remsi c1_i32_58 c4_i32
  let c0_i32_59 : BitVec 32 := 0#32
  let c0_i32_60 : BitVec 32 := 0#32
  ![v94.toNat, 0, 0]
def k0_off11 : Fin 1 → Nat :=
  let c1_i32_58 : BitVec 32 := 1#32
  let c4_i32 : BitVec 32 := 4#32
  let v94 : BitVec 32 := Scalar.remsi c1_i32_58 c4_i32
  ![v94.toNat]
def k0_off12 : Fin 3 → Nat :=
  let c2_i32_58 : BitVec 32 := 2#32
  let c4_i32 : BitVec 32 := 4#32
  let v94 : BitVec 32 := Scalar.remsi c2_i32_58 c4_i32
  let c0_i32_59 : BitVec 32 := 0#32
  let c0_i32_60 : BitVec 32 := 0#32
  ![v94.toNat, 0, 0]
def k0_off13 : Fin 1 → Nat :=
  let c2_i32_58 : BitVec 32 := 2#32
  let c4_i32 : BitVec 32 := 4#32
  let v94 : BitVec 32 := Scalar.remsi c2_i32_58 c4_i32
  ![v94.toNat]
def k0_off14 : Fin 3 → Nat :=
  let c3_i32_58 : BitVec 32 := 3#32
  let c4_i32 : BitVec 32 := 4#32
  let v94 : BitVec 32 := Scalar.remsi c3_i32_58 c4_i32
  let c0_i32_59 : BitVec 32 := 0#32
  let c0_i32_60 : BitVec 32 := 0#32
  ![v94.toNat, 0, 0]
def k0_off15 : Fin 1 → Nat :=
  let c3_i32_58 : BitVec 32 := 3#32
  let c4_i32 : BitVec 32 := 4#32
  let v94 : BitVec 32 := Scalar.remsi c3_i32_58 c4_i32
  ![v94.toNat]
@[reducible] def k0_t4_loop (v41 : BitVec 32) : Scf.Loop 32 :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_55 : BitVec 32 := 1#32
  ⟨c0_i32_52, v91, c1_i32_55⟩
def k0_off16 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let c0_i32_59 : BitVec 32 := 0#32
  let c0_i32_60 : BitVec 32 := 0#32
  ![v94.toNat, 0, 0]
def k0_off17 (v41 : BitVec 32) (k0_t4 : Fin (k0_t4_loop v41).trips) : Fin 1 → Nat :=
  let c0_i32_52 : BitVec 32 := 0#32
  let c1_i32_55 : BitVec 32 := 1#32
  let arg16 : BitVec 32 := Scf.iv c0_i32_52 c1_i32_55 k0_t4
  let c32_i32_58 : BitVec 32 := 32#32
  let v95 : BitVec 32 := Scalar.muli arg16 c32_i32_58
  ![v95.toNat]
def k0_off18 (v41 : BitVec 32) (k0_t4 : Fin (k0_t4_loop v41).trips) : Fin 1 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  ![v94.toNat]
def k0_off19 (v41 : BitVec 32) (k0_t4 : Fin (k0_t4_loop v41).trips) : Fin 1 → Nat :=
  let c0_i32_52 : BitVec 32 := 0#32
  let c1_i32_55 : BitVec 32 := 1#32
  let arg16 : BitVec 32 := Scf.iv c0_i32_52 c1_i32_55 k0_t4
  let c32_i32_63 : BitVec 32 := 32#32
  let v102 : BitVec 32 := Scalar.muli arg16 c32_i32_63
  let c0_i32_64 : BitVec 32 := 0#32
  let v103 : BitVec 32 := Scalar.addi v102 c0_i32_64
  let v104 : Index := Scalar.indexCast v103
  ![v104.toNat]
def k0_off20 (v107 : BitVec 32) (c0_i32_66 : BitVec 32) : Fin 1 → Nat :=
  let c128_i32_65 : BitVec 32 := 128#32
  let v108 : BitVec 32 := Scalar.muli v107 c128_i32_65
  let v109 : BitVec 32 := Scalar.addi v108 c0_i32_66
  let v110 : Index := Scalar.indexCast v109
  ![v110.toNat]

def k0_chk6 (v107 : BitVec 32) : Prop :=
  (∀ (r : Fin 8), ∀ a, (k0_off20 v107 (BitVec.ofNat 32 (16 * r.val))) a + S16.size a ≤ S40192.size a)
theorem k0_off20_inb : ∀ (v107 : BitVec 32) (k0_hw6 : k0_chk6 v107), ∀ (r : Fin 8), ∀ a, (k0_off20 v107 (BitVec.ofNat 32 (16 * r.val))) a + S16.size a ≤ S40192.size a := fun v107 k0_hw6 r => k0_hw6 r

def k0_off21 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v112 : Index := Scalar.indexCast v94
  let c0_i32_67 : BitVec 32 := 0#32
  let v113 : Index := Scalar.indexCast c0_i32_67
  let c0 : Index := 0#32
  ![v112.toNat, 0, 0]
def k0_off22 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v122 : Index := Scalar.indexCast v94
  let c0_i32_70 : BitVec 32 := 0#32
  let v123 : Index := Scalar.indexCast c0_i32_70
  let c16 : Index := 16#32
  ![v122.toNat, 0, 16]
def k0_off23 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v132 : Index := Scalar.indexCast v94
  let c0_i32_73 : BitVec 32 := 0#32
  let v133 : Index := Scalar.indexCast c0_i32_73
  let c32 : Index := 32#32
  ![v132.toNat, 0, 32]
def k0_off24 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v142 : Index := Scalar.indexCast v94
  let c0_i32_75 : BitVec 32 := 0#32
  let v143 : Index := Scalar.indexCast c0_i32_75
  let c48 : Index := 48#32
  ![v142.toNat, 0, 48]
def k0_off25 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v152 : Index := Scalar.indexCast v94
  let c0_i32_77 : BitVec 32 := 0#32
  let v153 : Index := Scalar.indexCast c0_i32_77
  let c64 : Index := 64#32
  ![v152.toNat, 0, 64]
def k0_off26 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v162 : Index := Scalar.indexCast v94
  let c0_i32_79 : BitVec 32 := 0#32
  let v163 : Index := Scalar.indexCast c0_i32_79
  let c80 : Index := 80#32
  ![v162.toNat, 0, 80]
def k0_off27 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v172 : Index := Scalar.indexCast v94
  let c0_i32_81 : BitVec 32 := 0#32
  let v173 : Index := Scalar.indexCast c0_i32_81
  let c96 : Index := 96#32
  ![v172.toNat, 0, 96]
def k0_off28 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v182 : Index := Scalar.indexCast v94
  let c0_i32_83 : BitVec 32 := 0#32
  let v183 : Index := Scalar.indexCast c0_i32_83
  let c112 : Index := 112#32
  ![v182.toNat, 0, 112]
def k0_off29 (v190 : BitVec 32) (c0_i32_86 : BitVec 32) : Fin 1 → Nat :=
  let c128_i32_85 : BitVec 32 := 128#32
  let v191 : BitVec 32 := Scalar.muli v190 c128_i32_85
  let v192 : BitVec 32 := Scalar.addi v191 c0_i32_86
  let v193 : Index := Scalar.indexCast v192
  ![v193.toNat]

def k0_chk7 (v190 : BitVec 32) : Prop :=
  (∀ (r : Fin 8), ∀ a, (k0_off29 v190 (BitVec.ofNat 32 (16 * r.val))) a + S16.size a ≤ S40192.size a)
theorem k0_off29_inb : ∀ (v190 : BitVec 32) (k0_hw7 : k0_chk7 v190), ∀ (r : Fin 8), ∀ a, (k0_off29 v190 (BitVec.ofNat 32 (16 * r.val))) a + S16.size a ≤ S40192.size a := fun v190 k0_hw7 r => k0_hw7 r

def k0_off30 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v195 : Index := Scalar.indexCast v94
  let c1_i32_87 : BitVec 32 := 1#32
  let v196 : Index := Scalar.indexCast c1_i32_87
  let c0_88 : Index := 0#32
  ![v195.toNat, 1, 0]
def k0_off31 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v205 : Index := Scalar.indexCast v94
  let c1_i32_91 : BitVec 32 := 1#32
  let v206 : Index := Scalar.indexCast c1_i32_91
  let c16_92 : Index := 16#32
  ![v205.toNat, 1, 16]
def k0_off32 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v215 : Index := Scalar.indexCast v94
  let c1_i32_95 : BitVec 32 := 1#32
  let v216 : Index := Scalar.indexCast c1_i32_95
  let c32_96 : Index := 32#32
  ![v215.toNat, 1, 32]
def k0_off33 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v225 : Index := Scalar.indexCast v94
  let c1_i32_99 : BitVec 32 := 1#32
  let v226 : Index := Scalar.indexCast c1_i32_99
  let c48_100 : Index := 48#32
  ![v225.toNat, 1, 48]
def k0_off34 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v235 : Index := Scalar.indexCast v94
  let c1_i32_103 : BitVec 32 := 1#32
  let v236 : Index := Scalar.indexCast c1_i32_103
  let c64_104 : Index := 64#32
  ![v235.toNat, 1, 64]
def k0_off35 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v245 : Index := Scalar.indexCast v94
  let c1_i32_107 : BitVec 32 := 1#32
  let v246 : Index := Scalar.indexCast c1_i32_107
  let c80_108 : Index := 80#32
  ![v245.toNat, 1, 80]
def k0_off36 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v255 : Index := Scalar.indexCast v94
  let c1_i32_111 : BitVec 32 := 1#32
  let v256 : Index := Scalar.indexCast c1_i32_111
  let c96_112 : Index := 96#32
  ![v255.toNat, 1, 96]
def k0_off37 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v265 : Index := Scalar.indexCast v94
  let c1_i32_115 : BitVec 32 := 1#32
  let v266 : Index := Scalar.indexCast c1_i32_115
  let c112_116 : Index := 112#32
  ![v265.toNat, 1, 112]
def k0_off38 (v273 : BitVec 32) (c0_i32_119 : BitVec 32) : Fin 1 → Nat :=
  let c128_i32_118 : BitVec 32 := 128#32
  let v274 : BitVec 32 := Scalar.muli v273 c128_i32_118
  let v275 : BitVec 32 := Scalar.addi v274 c0_i32_119
  let v276 : Index := Scalar.indexCast v275
  ![v276.toNat]

def k0_chk8 (v273 : BitVec 32) : Prop :=
  (∀ (r : Fin 8), ∀ a, (k0_off38 v273 (BitVec.ofNat 32 (16 * r.val))) a + S16.size a ≤ S40192.size a)
theorem k0_off38_inb : ∀ (v273 : BitVec 32) (k0_hw8 : k0_chk8 v273), ∀ (r : Fin 8), ∀ a, (k0_off38 v273 (BitVec.ofNat 32 (16 * r.val))) a + S16.size a ≤ S40192.size a := fun v273 k0_hw8 r => k0_hw8 r

def k0_off39 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v278 : Index := Scalar.indexCast v94
  let c2_i32_120 : BitVec 32 := 2#32
  let v279 : Index := Scalar.indexCast c2_i32_120
  let c0_121 : Index := 0#32
  ![v278.toNat, 2, 0]
def k0_off40 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v288 : Index := Scalar.indexCast v94
  let c2_i32_124 : BitVec 32 := 2#32
  let v289 : Index := Scalar.indexCast c2_i32_124
  let c16_125 : Index := 16#32
  ![v288.toNat, 2, 16]
def k0_off41 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v298 : Index := Scalar.indexCast v94
  let c2_i32_128 : BitVec 32 := 2#32
  let v299 : Index := Scalar.indexCast c2_i32_128
  let c32_129 : Index := 32#32
  ![v298.toNat, 2, 32]
def k0_off42 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v308 : Index := Scalar.indexCast v94
  let c2_i32_132 : BitVec 32 := 2#32
  let v309 : Index := Scalar.indexCast c2_i32_132
  let c48_133 : Index := 48#32
  ![v308.toNat, 2, 48]
def k0_off43 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v318 : Index := Scalar.indexCast v94
  let c2_i32_136 : BitVec 32 := 2#32
  let v319 : Index := Scalar.indexCast c2_i32_136
  let c64_137 : Index := 64#32
  ![v318.toNat, 2, 64]
def k0_off44 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v328 : Index := Scalar.indexCast v94
  let c2_i32_140 : BitVec 32 := 2#32
  let v329 : Index := Scalar.indexCast c2_i32_140
  let c80_141 : Index := 80#32
  ![v328.toNat, 2, 80]
def k0_off45 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v338 : Index := Scalar.indexCast v94
  let c2_i32_144 : BitVec 32 := 2#32
  let v339 : Index := Scalar.indexCast c2_i32_144
  let c96_145 : Index := 96#32
  ![v338.toNat, 2, 96]
def k0_off46 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v348 : Index := Scalar.indexCast v94
  let c2_i32_148 : BitVec 32 := 2#32
  let v349 : Index := Scalar.indexCast c2_i32_148
  let c112_149 : Index := 112#32
  ![v348.toNat, 2, 112]
def k0_off47 (v356 : BitVec 32) (c0_i32_152 : BitVec 32) : Fin 1 → Nat :=
  let c128_i32_151 : BitVec 32 := 128#32
  let v357 : BitVec 32 := Scalar.muli v356 c128_i32_151
  let v358 : BitVec 32 := Scalar.addi v357 c0_i32_152
  let v359 : Index := Scalar.indexCast v358
  ![v359.toNat]

def k0_chk9 (v356 : BitVec 32) : Prop :=
  (∀ (r : Fin 8), ∀ a, (k0_off47 v356 (BitVec.ofNat 32 (16 * r.val))) a + S16.size a ≤ S40192.size a)
theorem k0_off47_inb : ∀ (v356 : BitVec 32) (k0_hw9 : k0_chk9 v356), ∀ (r : Fin 8), ∀ a, (k0_off47 v356 (BitVec.ofNat 32 (16 * r.val))) a + S16.size a ≤ S40192.size a := fun v356 k0_hw9 r => k0_hw9 r

def k0_off48 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v361 : Index := Scalar.indexCast v94
  let c3_i32_153 : BitVec 32 := 3#32
  let v362 : Index := Scalar.indexCast c3_i32_153
  let c0_154 : Index := 0#32
  ![v361.toNat, 3, 0]
def k0_off49 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v371 : Index := Scalar.indexCast v94
  let c3_i32_157 : BitVec 32 := 3#32
  let v372 : Index := Scalar.indexCast c3_i32_157
  let c16_158 : Index := 16#32
  ![v371.toNat, 3, 16]
def k0_off50 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v381 : Index := Scalar.indexCast v94
  let c3_i32_161 : BitVec 32 := 3#32
  let v382 : Index := Scalar.indexCast c3_i32_161
  let c32_162 : Index := 32#32
  ![v381.toNat, 3, 32]
def k0_off51 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v391 : Index := Scalar.indexCast v94
  let c3_i32_165 : BitVec 32 := 3#32
  let v392 : Index := Scalar.indexCast c3_i32_165
  let c48_166 : Index := 48#32
  ![v391.toNat, 3, 48]
def k0_off52 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v401 : Index := Scalar.indexCast v94
  let c3_i32_169 : BitVec 32 := 3#32
  let v402 : Index := Scalar.indexCast c3_i32_169
  let c64_170 : Index := 64#32
  ![v401.toNat, 3, 64]
def k0_off53 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v411 : Index := Scalar.indexCast v94
  let c3_i32_173 : BitVec 32 := 3#32
  let v412 : Index := Scalar.indexCast c3_i32_173
  let c80_174 : Index := 80#32
  ![v411.toNat, 3, 80]
def k0_off54 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v421 : Index := Scalar.indexCast v94
  let c3_i32_177 : BitVec 32 := 3#32
  let v422 : Index := Scalar.indexCast c3_i32_177
  let c96_178 : Index := 96#32
  ![v421.toNat, 3, 96]
def k0_off55 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v431 : Index := Scalar.indexCast v94
  let c3_i32_181 : BitVec 32 := 3#32
  let v432 : Index := Scalar.indexCast c3_i32_181
  let c112_182 : Index := 112#32
  ![v431.toNat, 3, 112]
def k0_off56 (v439 : BitVec 32) (c0_i32_185 : BitVec 32) : Fin 1 → Nat :=
  let c128_i32_184 : BitVec 32 := 128#32
  let v440 : BitVec 32 := Scalar.muli v439 c128_i32_184
  let v441 : BitVec 32 := Scalar.addi v440 c0_i32_185
  let v442 : Index := Scalar.indexCast v441
  ![v442.toNat]

def k0_chk10 (v439 : BitVec 32) : Prop :=
  (∀ (r : Fin 8), ∀ a, (k0_off56 v439 (BitVec.ofNat 32 (16 * r.val))) a + S16.size a ≤ S40192.size a)
theorem k0_off56_inb : ∀ (v439 : BitVec 32) (k0_hw10 : k0_chk10 v439), ∀ (r : Fin 8), ∀ a, (k0_off56 v439 (BitVec.ofNat 32 (16 * r.val))) a + S16.size a ≤ S40192.size a := fun v439 k0_hw10 r => k0_hw10 r

def k0_off57 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v444 : Index := Scalar.indexCast v94
  let c4_i32_186 : BitVec 32 := 4#32
  let v445 : Index := Scalar.indexCast c4_i32_186
  let c0_187 : Index := 0#32
  ![v444.toNat, 4, 0]
def k0_off58 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v454 : Index := Scalar.indexCast v94
  let c4_i32_190 : BitVec 32 := 4#32
  let v455 : Index := Scalar.indexCast c4_i32_190
  let c16_191 : Index := 16#32
  ![v454.toNat, 4, 16]
def k0_off59 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v464 : Index := Scalar.indexCast v94
  let c4_i32_194 : BitVec 32 := 4#32
  let v465 : Index := Scalar.indexCast c4_i32_194
  let c32_195 : Index := 32#32
  ![v464.toNat, 4, 32]
def k0_off60 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v474 : Index := Scalar.indexCast v94
  let c4_i32_198 : BitVec 32 := 4#32
  let v475 : Index := Scalar.indexCast c4_i32_198
  let c48_199 : Index := 48#32
  ![v474.toNat, 4, 48]
def k0_off61 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v484 : Index := Scalar.indexCast v94
  let c4_i32_202 : BitVec 32 := 4#32
  let v485 : Index := Scalar.indexCast c4_i32_202
  let c64_203 : Index := 64#32
  ![v484.toNat, 4, 64]
def k0_off62 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v494 : Index := Scalar.indexCast v94
  let c4_i32_206 : BitVec 32 := 4#32
  let v495 : Index := Scalar.indexCast c4_i32_206
  let c80_207 : Index := 80#32
  ![v494.toNat, 4, 80]
def k0_off63 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v504 : Index := Scalar.indexCast v94
  let c4_i32_210 : BitVec 32 := 4#32
  let v505 : Index := Scalar.indexCast c4_i32_210
  let c96_211 : Index := 96#32
  ![v504.toNat, 4, 96]
def k0_off64 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v514 : Index := Scalar.indexCast v94
  let c4_i32_214 : BitVec 32 := 4#32
  let v515 : Index := Scalar.indexCast c4_i32_214
  let c112_215 : Index := 112#32
  ![v514.toNat, 4, 112]
def k0_off65 (v522 : BitVec 32) (c0_i32_218 : BitVec 32) : Fin 1 → Nat :=
  let c128_i32_217 : BitVec 32 := 128#32
  let v523 : BitVec 32 := Scalar.muli v522 c128_i32_217
  let v524 : BitVec 32 := Scalar.addi v523 c0_i32_218
  let v525 : Index := Scalar.indexCast v524
  ![v525.toNat]

def k0_chk11 (v522 : BitVec 32) : Prop :=
  (∀ (r : Fin 8), ∀ a, (k0_off65 v522 (BitVec.ofNat 32 (16 * r.val))) a + S16.size a ≤ S40192.size a)
theorem k0_off65_inb : ∀ (v522 : BitVec 32) (k0_hw11 : k0_chk11 v522), ∀ (r : Fin 8), ∀ a, (k0_off65 v522 (BitVec.ofNat 32 (16 * r.val))) a + S16.size a ≤ S40192.size a := fun v522 k0_hw11 r => k0_hw11 r

def k0_off66 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v527 : Index := Scalar.indexCast v94
  let c5_i32 : BitVec 32 := 5#32
  let v528 : Index := Scalar.indexCast c5_i32
  let c0_219 : Index := 0#32
  ![v527.toNat, 5, 0]
def k0_off67 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v537 : Index := Scalar.indexCast v94
  let c5_i32_222 : BitVec 32 := 5#32
  let v538 : Index := Scalar.indexCast c5_i32_222
  let c16_223 : Index := 16#32
  ![v537.toNat, 5, 16]
def k0_off68 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v547 : Index := Scalar.indexCast v94
  let c5_i32_226 : BitVec 32 := 5#32
  let v548 : Index := Scalar.indexCast c5_i32_226
  let c32_227 : Index := 32#32
  ![v547.toNat, 5, 32]
def k0_off69 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v557 : Index := Scalar.indexCast v94
  let c5_i32_230 : BitVec 32 := 5#32
  let v558 : Index := Scalar.indexCast c5_i32_230
  let c48_231 : Index := 48#32
  ![v557.toNat, 5, 48]
def k0_off70 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v567 : Index := Scalar.indexCast v94
  let c5_i32_234 : BitVec 32 := 5#32
  let v568 : Index := Scalar.indexCast c5_i32_234
  let c64_235 : Index := 64#32
  ![v567.toNat, 5, 64]
def k0_off71 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v577 : Index := Scalar.indexCast v94
  let c5_i32_238 : BitVec 32 := 5#32
  let v578 : Index := Scalar.indexCast c5_i32_238
  let c80_239 : Index := 80#32
  ![v577.toNat, 5, 80]
def k0_off72 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v587 : Index := Scalar.indexCast v94
  let c5_i32_242 : BitVec 32 := 5#32
  let v588 : Index := Scalar.indexCast c5_i32_242
  let c96_243 : Index := 96#32
  ![v587.toNat, 5, 96]
def k0_off73 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v597 : Index := Scalar.indexCast v94
  let c5_i32_246 : BitVec 32 := 5#32
  let v598 : Index := Scalar.indexCast c5_i32_246
  let c112_247 : Index := 112#32
  ![v597.toNat, 5, 112]
def k0_off74 (v605 : BitVec 32) (c0_i32_250 : BitVec 32) : Fin 1 → Nat :=
  let c128_i32_249 : BitVec 32 := 128#32
  let v606 : BitVec 32 := Scalar.muli v605 c128_i32_249
  let v607 : BitVec 32 := Scalar.addi v606 c0_i32_250
  let v608 : Index := Scalar.indexCast v607
  ![v608.toNat]

def k0_chk12 (v605 : BitVec 32) : Prop :=
  (∀ (r : Fin 8), ∀ a, (k0_off74 v605 (BitVec.ofNat 32 (16 * r.val))) a + S16.size a ≤ S40192.size a)
theorem k0_off74_inb : ∀ (v605 : BitVec 32) (k0_hw12 : k0_chk12 v605), ∀ (r : Fin 8), ∀ a, (k0_off74 v605 (BitVec.ofNat 32 (16 * r.val))) a + S16.size a ≤ S40192.size a := fun v605 k0_hw12 r => k0_hw12 r

def k0_off75 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v610 : Index := Scalar.indexCast v94
  let c6_i32 : BitVec 32 := 6#32
  let v611 : Index := Scalar.indexCast c6_i32
  let c0_251 : Index := 0#32
  ![v610.toNat, 6, 0]
def k0_off76 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v620 : Index := Scalar.indexCast v94
  let c6_i32_254 : BitVec 32 := 6#32
  let v621 : Index := Scalar.indexCast c6_i32_254
  let c16_255 : Index := 16#32
  ![v620.toNat, 6, 16]
def k0_off77 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v630 : Index := Scalar.indexCast v94
  let c6_i32_258 : BitVec 32 := 6#32
  let v631 : Index := Scalar.indexCast c6_i32_258
  let c32_259 : Index := 32#32
  ![v630.toNat, 6, 32]
def k0_off78 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v640 : Index := Scalar.indexCast v94
  let c6_i32_262 : BitVec 32 := 6#32
  let v641 : Index := Scalar.indexCast c6_i32_262
  let c48_263 : Index := 48#32
  ![v640.toNat, 6, 48]
def k0_off79 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v650 : Index := Scalar.indexCast v94
  let c6_i32_266 : BitVec 32 := 6#32
  let v651 : Index := Scalar.indexCast c6_i32_266
  let c64_267 : Index := 64#32
  ![v650.toNat, 6, 64]
def k0_off80 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v660 : Index := Scalar.indexCast v94
  let c6_i32_270 : BitVec 32 := 6#32
  let v661 : Index := Scalar.indexCast c6_i32_270
  let c80_271 : Index := 80#32
  ![v660.toNat, 6, 80]
def k0_off81 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v670 : Index := Scalar.indexCast v94
  let c6_i32_274 : BitVec 32 := 6#32
  let v671 : Index := Scalar.indexCast c6_i32_274
  let c96_275 : Index := 96#32
  ![v670.toNat, 6, 96]
def k0_off82 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v680 : Index := Scalar.indexCast v94
  let c6_i32_278 : BitVec 32 := 6#32
  let v681 : Index := Scalar.indexCast c6_i32_278
  let c112_279 : Index := 112#32
  ![v680.toNat, 6, 112]
def k0_off83 (v688 : BitVec 32) (c0_i32_282 : BitVec 32) : Fin 1 → Nat :=
  let c128_i32_281 : BitVec 32 := 128#32
  let v689 : BitVec 32 := Scalar.muli v688 c128_i32_281
  let v690 : BitVec 32 := Scalar.addi v689 c0_i32_282
  let v691 : Index := Scalar.indexCast v690
  ![v691.toNat]

def k0_chk13 (v688 : BitVec 32) : Prop :=
  (∀ (r : Fin 8), ∀ a, (k0_off83 v688 (BitVec.ofNat 32 (16 * r.val))) a + S16.size a ≤ S40192.size a)
theorem k0_off83_inb : ∀ (v688 : BitVec 32) (k0_hw13 : k0_chk13 v688), ∀ (r : Fin 8), ∀ a, (k0_off83 v688 (BitVec.ofNat 32 (16 * r.val))) a + S16.size a ≤ S40192.size a := fun v688 k0_hw13 r => k0_hw13 r

def k0_off84 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v693 : Index := Scalar.indexCast v94
  let c7_i32 : BitVec 32 := 7#32
  let v694 : Index := Scalar.indexCast c7_i32
  let c0_283 : Index := 0#32
  ![v693.toNat, 7, 0]
def k0_off85 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v703 : Index := Scalar.indexCast v94
  let c7_i32_286 : BitVec 32 := 7#32
  let v704 : Index := Scalar.indexCast c7_i32_286
  let c16_287 : Index := 16#32
  ![v703.toNat, 7, 16]
def k0_off86 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v713 : Index := Scalar.indexCast v94
  let c7_i32_290 : BitVec 32 := 7#32
  let v714 : Index := Scalar.indexCast c7_i32_290
  let c32_291 : Index := 32#32
  ![v713.toNat, 7, 32]
def k0_off87 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v723 : Index := Scalar.indexCast v94
  let c7_i32_294 : BitVec 32 := 7#32
  let v724 : Index := Scalar.indexCast c7_i32_294
  let c48_295 : Index := 48#32
  ![v723.toNat, 7, 48]
def k0_off88 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v733 : Index := Scalar.indexCast v94
  let c7_i32_298 : BitVec 32 := 7#32
  let v734 : Index := Scalar.indexCast c7_i32_298
  let c64_299 : Index := 64#32
  ![v733.toNat, 7, 64]
def k0_off89 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v743 : Index := Scalar.indexCast v94
  let c7_i32_302 : BitVec 32 := 7#32
  let v744 : Index := Scalar.indexCast c7_i32_302
  let c80_303 : Index := 80#32
  ![v743.toNat, 7, 80]
def k0_off90 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v753 : Index := Scalar.indexCast v94
  let c7_i32_306 : BitVec 32 := 7#32
  let v754 : Index := Scalar.indexCast c7_i32_306
  let c96_307 : Index := 96#32
  ![v753.toNat, 7, 96]
def k0_off91 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v763 : Index := Scalar.indexCast v94
  let c7_i32_310 : BitVec 32 := 7#32
  let v764 : Index := Scalar.indexCast c7_i32_310
  let c112_311 : Index := 112#32
  ![v763.toNat, 7, 112]
def k0_off92 (v771 : BitVec 32) (c0_i32_314 : BitVec 32) : Fin 1 → Nat :=
  let c128_i32_313 : BitVec 32 := 128#32
  let v772 : BitVec 32 := Scalar.muli v771 c128_i32_313
  let v773 : BitVec 32 := Scalar.addi v772 c0_i32_314
  let v774 : Index := Scalar.indexCast v773
  ![v774.toNat]

def k0_chk14 (v771 : BitVec 32) : Prop :=
  (∀ (r : Fin 8), ∀ a, (k0_off92 v771 (BitVec.ofNat 32 (16 * r.val))) a + S16.size a ≤ S40192.size a)
theorem k0_off92_inb : ∀ (v771 : BitVec 32) (k0_hw14 : k0_chk14 v771), ∀ (r : Fin 8), ∀ a, (k0_off92 v771 (BitVec.ofNat 32 (16 * r.val))) a + S16.size a ≤ S40192.size a := fun v771 k0_hw14 r => k0_hw14 r

def k0_off93 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v776 : Index := Scalar.indexCast v94
  let c8_i32 : BitVec 32 := 8#32
  let v777 : Index := Scalar.indexCast c8_i32
  let c0_315 : Index := 0#32
  ![v776.toNat, 8, 0]
def k0_off94 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v786 : Index := Scalar.indexCast v94
  let c8_i32_318 : BitVec 32 := 8#32
  let v787 : Index := Scalar.indexCast c8_i32_318
  let c16_319 : Index := 16#32
  ![v786.toNat, 8, 16]
def k0_off95 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v796 : Index := Scalar.indexCast v94
  let c8_i32_322 : BitVec 32 := 8#32
  let v797 : Index := Scalar.indexCast c8_i32_322
  let c32_323 : Index := 32#32
  ![v796.toNat, 8, 32]
def k0_off96 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v806 : Index := Scalar.indexCast v94
  let c8_i32_326 : BitVec 32 := 8#32
  let v807 : Index := Scalar.indexCast c8_i32_326
  let c48_327 : Index := 48#32
  ![v806.toNat, 8, 48]
def k0_off97 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v816 : Index := Scalar.indexCast v94
  let c8_i32_330 : BitVec 32 := 8#32
  let v817 : Index := Scalar.indexCast c8_i32_330
  let c64_331 : Index := 64#32
  ![v816.toNat, 8, 64]
def k0_off98 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v826 : Index := Scalar.indexCast v94
  let c8_i32_334 : BitVec 32 := 8#32
  let v827 : Index := Scalar.indexCast c8_i32_334
  let c80_335 : Index := 80#32
  ![v826.toNat, 8, 80]
def k0_off99 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v836 : Index := Scalar.indexCast v94
  let c8_i32_338 : BitVec 32 := 8#32
  let v837 : Index := Scalar.indexCast c8_i32_338
  let c96_339 : Index := 96#32
  ![v836.toNat, 8, 96]
def k0_off100 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v846 : Index := Scalar.indexCast v94
  let c8_i32_342 : BitVec 32 := 8#32
  let v847 : Index := Scalar.indexCast c8_i32_342
  let c112_343 : Index := 112#32
  ![v846.toNat, 8, 112]
def k0_off101 (v854 : BitVec 32) (c0_i32_346 : BitVec 32) : Fin 1 → Nat :=
  let c128_i32_345 : BitVec 32 := 128#32
  let v855 : BitVec 32 := Scalar.muli v854 c128_i32_345
  let v856 : BitVec 32 := Scalar.addi v855 c0_i32_346
  let v857 : Index := Scalar.indexCast v856
  ![v857.toNat]

def k0_chk15 (v854 : BitVec 32) : Prop :=
  (∀ (r : Fin 8), ∀ a, (k0_off101 v854 (BitVec.ofNat 32 (16 * r.val))) a + S16.size a ≤ S40192.size a)
theorem k0_off101_inb : ∀ (v854 : BitVec 32) (k0_hw15 : k0_chk15 v854), ∀ (r : Fin 8), ∀ a, (k0_off101 v854 (BitVec.ofNat 32 (16 * r.val))) a + S16.size a ≤ S40192.size a := fun v854 k0_hw15 r => k0_hw15 r

def k0_off102 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v859 : Index := Scalar.indexCast v94
  let c9_i32 : BitVec 32 := 9#32
  let v860 : Index := Scalar.indexCast c9_i32
  let c0_347 : Index := 0#32
  ![v859.toNat, 9, 0]
def k0_off103 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v869 : Index := Scalar.indexCast v94
  let c9_i32_350 : BitVec 32 := 9#32
  let v870 : Index := Scalar.indexCast c9_i32_350
  let c16_351 : Index := 16#32
  ![v869.toNat, 9, 16]
def k0_off104 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v879 : Index := Scalar.indexCast v94
  let c9_i32_354 : BitVec 32 := 9#32
  let v880 : Index := Scalar.indexCast c9_i32_354
  let c32_355 : Index := 32#32
  ![v879.toNat, 9, 32]
def k0_off105 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v889 : Index := Scalar.indexCast v94
  let c9_i32_358 : BitVec 32 := 9#32
  let v890 : Index := Scalar.indexCast c9_i32_358
  let c48_359 : Index := 48#32
  ![v889.toNat, 9, 48]
def k0_off106 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v899 : Index := Scalar.indexCast v94
  let c9_i32_362 : BitVec 32 := 9#32
  let v900 : Index := Scalar.indexCast c9_i32_362
  let c64_363 : Index := 64#32
  ![v899.toNat, 9, 64]
def k0_off107 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v909 : Index := Scalar.indexCast v94
  let c9_i32_366 : BitVec 32 := 9#32
  let v910 : Index := Scalar.indexCast c9_i32_366
  let c80_367 : Index := 80#32
  ![v909.toNat, 9, 80]
def k0_off108 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v919 : Index := Scalar.indexCast v94
  let c9_i32_370 : BitVec 32 := 9#32
  let v920 : Index := Scalar.indexCast c9_i32_370
  let c96_371 : Index := 96#32
  ![v919.toNat, 9, 96]
def k0_off109 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v929 : Index := Scalar.indexCast v94
  let c9_i32_374 : BitVec 32 := 9#32
  let v930 : Index := Scalar.indexCast c9_i32_374
  let c112_375 : Index := 112#32
  ![v929.toNat, 9, 112]
def k0_off110 (v937 : BitVec 32) (c0_i32_378 : BitVec 32) : Fin 1 → Nat :=
  let c128_i32_377 : BitVec 32 := 128#32
  let v938 : BitVec 32 := Scalar.muli v937 c128_i32_377
  let v939 : BitVec 32 := Scalar.addi v938 c0_i32_378
  let v940 : Index := Scalar.indexCast v939
  ![v940.toNat]

def k0_chk16 (v937 : BitVec 32) : Prop :=
  (∀ (r : Fin 8), ∀ a, (k0_off110 v937 (BitVec.ofNat 32 (16 * r.val))) a + S16.size a ≤ S40192.size a)
theorem k0_off110_inb : ∀ (v937 : BitVec 32) (k0_hw16 : k0_chk16 v937), ∀ (r : Fin 8), ∀ a, (k0_off110 v937 (BitVec.ofNat 32 (16 * r.val))) a + S16.size a ≤ S40192.size a := fun v937 k0_hw16 r => k0_hw16 r

def k0_off111 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v942 : Index := Scalar.indexCast v94
  let c10_i32 : BitVec 32 := 10#32
  let v943 : Index := Scalar.indexCast c10_i32
  let c0_379 : Index := 0#32
  ![v942.toNat, 10, 0]
def k0_off112 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v952 : Index := Scalar.indexCast v94
  let c10_i32_382 : BitVec 32 := 10#32
  let v953 : Index := Scalar.indexCast c10_i32_382
  let c16_383 : Index := 16#32
  ![v952.toNat, 10, 16]
def k0_off113 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v962 : Index := Scalar.indexCast v94
  let c10_i32_386 : BitVec 32 := 10#32
  let v963 : Index := Scalar.indexCast c10_i32_386
  let c32_387 : Index := 32#32
  ![v962.toNat, 10, 32]
def k0_off114 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v972 : Index := Scalar.indexCast v94
  let c10_i32_390 : BitVec 32 := 10#32
  let v973 : Index := Scalar.indexCast c10_i32_390
  let c48_391 : Index := 48#32
  ![v972.toNat, 10, 48]
def k0_off115 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v982 : Index := Scalar.indexCast v94
  let c10_i32_394 : BitVec 32 := 10#32
  let v983 : Index := Scalar.indexCast c10_i32_394
  let c64_395 : Index := 64#32
  ![v982.toNat, 10, 64]
def k0_off116 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v992 : Index := Scalar.indexCast v94
  let c10_i32_398 : BitVec 32 := 10#32
  let v993 : Index := Scalar.indexCast c10_i32_398
  let c80_399 : Index := 80#32
  ![v992.toNat, 10, 80]
def k0_off117 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1002 : Index := Scalar.indexCast v94
  let c10_i32_402 : BitVec 32 := 10#32
  let v1003 : Index := Scalar.indexCast c10_i32_402
  let c96_403 : Index := 96#32
  ![v1002.toNat, 10, 96]
def k0_off118 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1012 : Index := Scalar.indexCast v94
  let c10_i32_406 : BitVec 32 := 10#32
  let v1013 : Index := Scalar.indexCast c10_i32_406
  let c112_407 : Index := 112#32
  ![v1012.toNat, 10, 112]
def k0_off119 (v1020 : BitVec 32) (c0_i32_410 : BitVec 32) : Fin 1 → Nat :=
  let c128_i32_409 : BitVec 32 := 128#32
  let v1021 : BitVec 32 := Scalar.muli v1020 c128_i32_409
  let v1022 : BitVec 32 := Scalar.addi v1021 c0_i32_410
  let v1023 : Index := Scalar.indexCast v1022
  ![v1023.toNat]

def k0_chk17 (v1020 : BitVec 32) : Prop :=
  (∀ (r : Fin 8), ∀ a, (k0_off119 v1020 (BitVec.ofNat 32 (16 * r.val))) a + S16.size a ≤ S40192.size a)
theorem k0_off119_inb : ∀ (v1020 : BitVec 32) (k0_hw17 : k0_chk17 v1020), ∀ (r : Fin 8), ∀ a, (k0_off119 v1020 (BitVec.ofNat 32 (16 * r.val))) a + S16.size a ≤ S40192.size a := fun v1020 k0_hw17 r => k0_hw17 r

def k0_off120 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1025 : Index := Scalar.indexCast v94
  let c11_i32 : BitVec 32 := 11#32
  let v1026 : Index := Scalar.indexCast c11_i32
  let c0_411 : Index := 0#32
  ![v1025.toNat, 11, 0]
def k0_off121 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1035 : Index := Scalar.indexCast v94
  let c11_i32_414 : BitVec 32 := 11#32
  let v1036 : Index := Scalar.indexCast c11_i32_414
  let c16_415 : Index := 16#32
  ![v1035.toNat, 11, 16]
def k0_off122 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1045 : Index := Scalar.indexCast v94
  let c11_i32_418 : BitVec 32 := 11#32
  let v1046 : Index := Scalar.indexCast c11_i32_418
  let c32_419 : Index := 32#32
  ![v1045.toNat, 11, 32]
def k0_off123 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1055 : Index := Scalar.indexCast v94
  let c11_i32_422 : BitVec 32 := 11#32
  let v1056 : Index := Scalar.indexCast c11_i32_422
  let c48_423 : Index := 48#32
  ![v1055.toNat, 11, 48]
def k0_off124 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1065 : Index := Scalar.indexCast v94
  let c11_i32_426 : BitVec 32 := 11#32
  let v1066 : Index := Scalar.indexCast c11_i32_426
  let c64_427 : Index := 64#32
  ![v1065.toNat, 11, 64]
def k0_off125 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1075 : Index := Scalar.indexCast v94
  let c11_i32_430 : BitVec 32 := 11#32
  let v1076 : Index := Scalar.indexCast c11_i32_430
  let c80_431 : Index := 80#32
  ![v1075.toNat, 11, 80]
def k0_off126 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1085 : Index := Scalar.indexCast v94
  let c11_i32_434 : BitVec 32 := 11#32
  let v1086 : Index := Scalar.indexCast c11_i32_434
  let c96_435 : Index := 96#32
  ![v1085.toNat, 11, 96]
def k0_off127 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1095 : Index := Scalar.indexCast v94
  let c11_i32_438 : BitVec 32 := 11#32
  let v1096 : Index := Scalar.indexCast c11_i32_438
  let c112_439 : Index := 112#32
  ![v1095.toNat, 11, 112]
def k0_off128 (v1103 : BitVec 32) (c0_i32_442 : BitVec 32) : Fin 1 → Nat :=
  let c128_i32_441 : BitVec 32 := 128#32
  let v1104 : BitVec 32 := Scalar.muli v1103 c128_i32_441
  let v1105 : BitVec 32 := Scalar.addi v1104 c0_i32_442
  let v1106 : Index := Scalar.indexCast v1105
  ![v1106.toNat]

def k0_chk18 (v1103 : BitVec 32) : Prop :=
  (∀ (r : Fin 8), ∀ a, (k0_off128 v1103 (BitVec.ofNat 32 (16 * r.val))) a + S16.size a ≤ S40192.size a)
theorem k0_off128_inb : ∀ (v1103 : BitVec 32) (k0_hw18 : k0_chk18 v1103), ∀ (r : Fin 8), ∀ a, (k0_off128 v1103 (BitVec.ofNat 32 (16 * r.val))) a + S16.size a ≤ S40192.size a := fun v1103 k0_hw18 r => k0_hw18 r

def k0_off129 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1108 : Index := Scalar.indexCast v94
  let c12_i32 : BitVec 32 := 12#32
  let v1109 : Index := Scalar.indexCast c12_i32
  let c0_443 : Index := 0#32
  ![v1108.toNat, 12, 0]
def k0_off130 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1118 : Index := Scalar.indexCast v94
  let c12_i32_446 : BitVec 32 := 12#32
  let v1119 : Index := Scalar.indexCast c12_i32_446
  let c16_447 : Index := 16#32
  ![v1118.toNat, 12, 16]
def k0_off131 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1128 : Index := Scalar.indexCast v94
  let c12_i32_450 : BitVec 32 := 12#32
  let v1129 : Index := Scalar.indexCast c12_i32_450
  let c32_451 : Index := 32#32
  ![v1128.toNat, 12, 32]
def k0_off132 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1138 : Index := Scalar.indexCast v94
  let c12_i32_454 : BitVec 32 := 12#32
  let v1139 : Index := Scalar.indexCast c12_i32_454
  let c48_455 : Index := 48#32
  ![v1138.toNat, 12, 48]
def k0_off133 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1148 : Index := Scalar.indexCast v94
  let c12_i32_458 : BitVec 32 := 12#32
  let v1149 : Index := Scalar.indexCast c12_i32_458
  let c64_459 : Index := 64#32
  ![v1148.toNat, 12, 64]
def k0_off134 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1158 : Index := Scalar.indexCast v94
  let c12_i32_462 : BitVec 32 := 12#32
  let v1159 : Index := Scalar.indexCast c12_i32_462
  let c80_463 : Index := 80#32
  ![v1158.toNat, 12, 80]
def k0_off135 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1168 : Index := Scalar.indexCast v94
  let c12_i32_466 : BitVec 32 := 12#32
  let v1169 : Index := Scalar.indexCast c12_i32_466
  let c96_467 : Index := 96#32
  ![v1168.toNat, 12, 96]
def k0_off136 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1178 : Index := Scalar.indexCast v94
  let c12_i32_470 : BitVec 32 := 12#32
  let v1179 : Index := Scalar.indexCast c12_i32_470
  let c112_471 : Index := 112#32
  ![v1178.toNat, 12, 112]
def k0_off137 (v1186 : BitVec 32) (c0_i32_474 : BitVec 32) : Fin 1 → Nat :=
  let c128_i32_473 : BitVec 32 := 128#32
  let v1187 : BitVec 32 := Scalar.muli v1186 c128_i32_473
  let v1188 : BitVec 32 := Scalar.addi v1187 c0_i32_474
  let v1189 : Index := Scalar.indexCast v1188
  ![v1189.toNat]

def k0_chk19 (v1186 : BitVec 32) : Prop :=
  (∀ (r : Fin 8), ∀ a, (k0_off137 v1186 (BitVec.ofNat 32 (16 * r.val))) a + S16.size a ≤ S40192.size a)
theorem k0_off137_inb : ∀ (v1186 : BitVec 32) (k0_hw19 : k0_chk19 v1186), ∀ (r : Fin 8), ∀ a, (k0_off137 v1186 (BitVec.ofNat 32 (16 * r.val))) a + S16.size a ≤ S40192.size a := fun v1186 k0_hw19 r => k0_hw19 r

def k0_off138 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1191 : Index := Scalar.indexCast v94
  let c13_i32 : BitVec 32 := 13#32
  let v1192 : Index := Scalar.indexCast c13_i32
  let c0_475 : Index := 0#32
  ![v1191.toNat, 13, 0]
def k0_off139 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1201 : Index := Scalar.indexCast v94
  let c13_i32_478 : BitVec 32 := 13#32
  let v1202 : Index := Scalar.indexCast c13_i32_478
  let c16_479 : Index := 16#32
  ![v1201.toNat, 13, 16]
def k0_off140 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1211 : Index := Scalar.indexCast v94
  let c13_i32_482 : BitVec 32 := 13#32
  let v1212 : Index := Scalar.indexCast c13_i32_482
  let c32_483 : Index := 32#32
  ![v1211.toNat, 13, 32]
def k0_off141 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1221 : Index := Scalar.indexCast v94
  let c13_i32_486 : BitVec 32 := 13#32
  let v1222 : Index := Scalar.indexCast c13_i32_486
  let c48_487 : Index := 48#32
  ![v1221.toNat, 13, 48]
def k0_off142 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1231 : Index := Scalar.indexCast v94
  let c13_i32_490 : BitVec 32 := 13#32
  let v1232 : Index := Scalar.indexCast c13_i32_490
  let c64_491 : Index := 64#32
  ![v1231.toNat, 13, 64]
def k0_off143 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1241 : Index := Scalar.indexCast v94
  let c13_i32_494 : BitVec 32 := 13#32
  let v1242 : Index := Scalar.indexCast c13_i32_494
  let c80_495 : Index := 80#32
  ![v1241.toNat, 13, 80]
def k0_off144 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1251 : Index := Scalar.indexCast v94
  let c13_i32_498 : BitVec 32 := 13#32
  let v1252 : Index := Scalar.indexCast c13_i32_498
  let c96_499 : Index := 96#32
  ![v1251.toNat, 13, 96]
def k0_off145 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1261 : Index := Scalar.indexCast v94
  let c13_i32_502 : BitVec 32 := 13#32
  let v1262 : Index := Scalar.indexCast c13_i32_502
  let c112_503 : Index := 112#32
  ![v1261.toNat, 13, 112]
def k0_off146 (v1269 : BitVec 32) (c0_i32_506 : BitVec 32) : Fin 1 → Nat :=
  let c128_i32_505 : BitVec 32 := 128#32
  let v1270 : BitVec 32 := Scalar.muli v1269 c128_i32_505
  let v1271 : BitVec 32 := Scalar.addi v1270 c0_i32_506
  let v1272 : Index := Scalar.indexCast v1271
  ![v1272.toNat]

def k0_chk20 (v1269 : BitVec 32) : Prop :=
  (∀ (r : Fin 8), ∀ a, (k0_off146 v1269 (BitVec.ofNat 32 (16 * r.val))) a + S16.size a ≤ S40192.size a)
theorem k0_off146_inb : ∀ (v1269 : BitVec 32) (k0_hw20 : k0_chk20 v1269), ∀ (r : Fin 8), ∀ a, (k0_off146 v1269 (BitVec.ofNat 32 (16 * r.val))) a + S16.size a ≤ S40192.size a := fun v1269 k0_hw20 r => k0_hw20 r

def k0_off147 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1274 : Index := Scalar.indexCast v94
  let c14_i32 : BitVec 32 := 14#32
  let v1275 : Index := Scalar.indexCast c14_i32
  let c0_507 : Index := 0#32
  ![v1274.toNat, 14, 0]
def k0_off148 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1284 : Index := Scalar.indexCast v94
  let c14_i32_510 : BitVec 32 := 14#32
  let v1285 : Index := Scalar.indexCast c14_i32_510
  let c16_511 : Index := 16#32
  ![v1284.toNat, 14, 16]
def k0_off149 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1294 : Index := Scalar.indexCast v94
  let c14_i32_514 : BitVec 32 := 14#32
  let v1295 : Index := Scalar.indexCast c14_i32_514
  let c32_515 : Index := 32#32
  ![v1294.toNat, 14, 32]
def k0_off150 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1304 : Index := Scalar.indexCast v94
  let c14_i32_518 : BitVec 32 := 14#32
  let v1305 : Index := Scalar.indexCast c14_i32_518
  let c48_519 : Index := 48#32
  ![v1304.toNat, 14, 48]
def k0_off151 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1314 : Index := Scalar.indexCast v94
  let c14_i32_522 : BitVec 32 := 14#32
  let v1315 : Index := Scalar.indexCast c14_i32_522
  let c64_523 : Index := 64#32
  ![v1314.toNat, 14, 64]
def k0_off152 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1324 : Index := Scalar.indexCast v94
  let c14_i32_526 : BitVec 32 := 14#32
  let v1325 : Index := Scalar.indexCast c14_i32_526
  let c80_527 : Index := 80#32
  ![v1324.toNat, 14, 80]
def k0_off153 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1334 : Index := Scalar.indexCast v94
  let c14_i32_530 : BitVec 32 := 14#32
  let v1335 : Index := Scalar.indexCast c14_i32_530
  let c96_531 : Index := 96#32
  ![v1334.toNat, 14, 96]
def k0_off154 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1344 : Index := Scalar.indexCast v94
  let c14_i32_534 : BitVec 32 := 14#32
  let v1345 : Index := Scalar.indexCast c14_i32_534
  let c112_535 : Index := 112#32
  ![v1344.toNat, 14, 112]
def k0_off155 (v1352 : BitVec 32) (c0_i32_538 : BitVec 32) : Fin 1 → Nat :=
  let c128_i32_537 : BitVec 32 := 128#32
  let v1353 : BitVec 32 := Scalar.muli v1352 c128_i32_537
  let v1354 : BitVec 32 := Scalar.addi v1353 c0_i32_538
  let v1355 : Index := Scalar.indexCast v1354
  ![v1355.toNat]

def k0_chk21 (v1352 : BitVec 32) : Prop :=
  (∀ (r : Fin 8), ∀ a, (k0_off155 v1352 (BitVec.ofNat 32 (16 * r.val))) a + S16.size a ≤ S40192.size a)
theorem k0_off155_inb : ∀ (v1352 : BitVec 32) (k0_hw21 : k0_chk21 v1352), ∀ (r : Fin 8), ∀ a, (k0_off155 v1352 (BitVec.ofNat 32 (16 * r.val))) a + S16.size a ≤ S40192.size a := fun v1352 k0_hw21 r => k0_hw21 r

def k0_off156 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1357 : Index := Scalar.indexCast v94
  let c15_i32 : BitVec 32 := 15#32
  let v1358 : Index := Scalar.indexCast c15_i32
  let c0_539 : Index := 0#32
  ![v1357.toNat, 15, 0]
def k0_off157 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1367 : Index := Scalar.indexCast v94
  let c15_i32_542 : BitVec 32 := 15#32
  let v1368 : Index := Scalar.indexCast c15_i32_542
  let c16_543 : Index := 16#32
  ![v1367.toNat, 15, 16]
def k0_off158 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1377 : Index := Scalar.indexCast v94
  let c15_i32_546 : BitVec 32 := 15#32
  let v1378 : Index := Scalar.indexCast c15_i32_546
  let c32_547 : Index := 32#32
  ![v1377.toNat, 15, 32]
def k0_off159 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1387 : Index := Scalar.indexCast v94
  let c15_i32_550 : BitVec 32 := 15#32
  let v1388 : Index := Scalar.indexCast c15_i32_550
  let c48_551 : Index := 48#32
  ![v1387.toNat, 15, 48]
def k0_off160 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1397 : Index := Scalar.indexCast v94
  let c15_i32_554 : BitVec 32 := 15#32
  let v1398 : Index := Scalar.indexCast c15_i32_554
  let c64_555 : Index := 64#32
  ![v1397.toNat, 15, 64]
def k0_off161 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1407 : Index := Scalar.indexCast v94
  let c15_i32_558 : BitVec 32 := 15#32
  let v1408 : Index := Scalar.indexCast c15_i32_558
  let c80_559 : Index := 80#32
  ![v1407.toNat, 15, 80]
def k0_off162 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1417 : Index := Scalar.indexCast v94
  let c15_i32_562 : BitVec 32 := 15#32
  let v1418 : Index := Scalar.indexCast c15_i32_562
  let c96_563 : Index := 96#32
  ![v1417.toNat, 15, 96]
def k0_off163 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1427 : Index := Scalar.indexCast v94
  let c15_i32_566 : BitVec 32 := 15#32
  let v1428 : Index := Scalar.indexCast c15_i32_566
  let c112_567 : Index := 112#32
  ![v1427.toNat, 15, 112]
def k0_off164 (v41 : BitVec 32) (k0_t4 : Fin (k0_t4_loop v41).trips) : Fin 1 → Nat :=
  let c0_i32_52 : BitVec 32 := 0#32
  let c1_i32_55 : BitVec 32 := 1#32
  let arg16 : BitVec 32 := Scf.iv c0_i32_52 c1_i32_55 k0_t4
  let c32_i32_569 : BitVec 32 := 32#32
  let v1434 : BitVec 32 := Scalar.muli arg16 c32_i32_569
  let c16_i32_570 : BitVec 32 := 16#32
  let v1435 : BitVec 32 := Scalar.addi v1434 c16_i32_570
  let v1436 : Index := Scalar.indexCast v1435
  ![v1436.toNat]
def k0_off165 (v1439 : BitVec 32) (c0_i32_572 : BitVec 32) : Fin 1 → Nat :=
  let c128_i32_571 : BitVec 32 := 128#32
  let v1440 : BitVec 32 := Scalar.muli v1439 c128_i32_571
  let v1441 : BitVec 32 := Scalar.addi v1440 c0_i32_572
  let v1442 : Index := Scalar.indexCast v1441
  ![v1442.toNat]

def k0_chk22 (v1439 : BitVec 32) : Prop :=
  (∀ (r : Fin 8), ∀ a, (k0_off165 v1439 (BitVec.ofNat 32 (16 * r.val))) a + S16.size a ≤ S40192.size a)
theorem k0_off165_inb : ∀ (v1439 : BitVec 32) (k0_hw22 : k0_chk22 v1439), ∀ (r : Fin 8), ∀ a, (k0_off165 v1439 (BitVec.ofNat 32 (16 * r.val))) a + S16.size a ≤ S40192.size a := fun v1439 k0_hw22 r => k0_hw22 r

def k0_off166 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1444 : Index := Scalar.indexCast v94
  let c16_i32_573 : BitVec 32 := 16#32
  let v1445 : Index := Scalar.indexCast c16_i32_573
  let c0_574 : Index := 0#32
  ![v1444.toNat, 16, 0]
def k0_off167 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1454 : Index := Scalar.indexCast v94
  let c16_i32_577 : BitVec 32 := 16#32
  let v1455 : Index := Scalar.indexCast c16_i32_577
  let c16_578 : Index := 16#32
  ![v1454.toNat, 16, 16]
def k0_off168 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1464 : Index := Scalar.indexCast v94
  let c16_i32_581 : BitVec 32 := 16#32
  let v1465 : Index := Scalar.indexCast c16_i32_581
  let c32_582 : Index := 32#32
  ![v1464.toNat, 16, 32]
def k0_off169 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1474 : Index := Scalar.indexCast v94
  let c16_i32_585 : BitVec 32 := 16#32
  let v1475 : Index := Scalar.indexCast c16_i32_585
  let c48_586 : Index := 48#32
  ![v1474.toNat, 16, 48]
def k0_off170 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1484 : Index := Scalar.indexCast v94
  let c16_i32_589 : BitVec 32 := 16#32
  let v1485 : Index := Scalar.indexCast c16_i32_589
  let c64_590 : Index := 64#32
  ![v1484.toNat, 16, 64]
def k0_off171 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1494 : Index := Scalar.indexCast v94
  let c16_i32_593 : BitVec 32 := 16#32
  let v1495 : Index := Scalar.indexCast c16_i32_593
  let c80_594 : Index := 80#32
  ![v1494.toNat, 16, 80]
def k0_off172 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1504 : Index := Scalar.indexCast v94
  let c16_i32_597 : BitVec 32 := 16#32
  let v1505 : Index := Scalar.indexCast c16_i32_597
  let c96_598 : Index := 96#32
  ![v1504.toNat, 16, 96]
def k0_off173 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1514 : Index := Scalar.indexCast v94
  let c16_i32_601 : BitVec 32 := 16#32
  let v1515 : Index := Scalar.indexCast c16_i32_601
  let c112_602 : Index := 112#32
  ![v1514.toNat, 16, 112]
def k0_off174 (v1522 : BitVec 32) (c0_i32_605 : BitVec 32) : Fin 1 → Nat :=
  let c128_i32_604 : BitVec 32 := 128#32
  let v1523 : BitVec 32 := Scalar.muli v1522 c128_i32_604
  let v1524 : BitVec 32 := Scalar.addi v1523 c0_i32_605
  let v1525 : Index := Scalar.indexCast v1524
  ![v1525.toNat]

def k0_chk23 (v1522 : BitVec 32) : Prop :=
  (∀ (r : Fin 8), ∀ a, (k0_off174 v1522 (BitVec.ofNat 32 (16 * r.val))) a + S16.size a ≤ S40192.size a)
theorem k0_off174_inb : ∀ (v1522 : BitVec 32) (k0_hw23 : k0_chk23 v1522), ∀ (r : Fin 8), ∀ a, (k0_off174 v1522 (BitVec.ofNat 32 (16 * r.val))) a + S16.size a ≤ S40192.size a := fun v1522 k0_hw23 r => k0_hw23 r

def k0_off175 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1527 : Index := Scalar.indexCast v94
  let c17_i32 : BitVec 32 := 17#32
  let v1528 : Index := Scalar.indexCast c17_i32
  let c0_606 : Index := 0#32
  ![v1527.toNat, 17, 0]
def k0_off176 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1537 : Index := Scalar.indexCast v94
  let c17_i32_609 : BitVec 32 := 17#32
  let v1538 : Index := Scalar.indexCast c17_i32_609
  let c16_610 : Index := 16#32
  ![v1537.toNat, 17, 16]
def k0_off177 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1547 : Index := Scalar.indexCast v94
  let c17_i32_613 : BitVec 32 := 17#32
  let v1548 : Index := Scalar.indexCast c17_i32_613
  let c32_614 : Index := 32#32
  ![v1547.toNat, 17, 32]
def k0_off178 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1557 : Index := Scalar.indexCast v94
  let c17_i32_617 : BitVec 32 := 17#32
  let v1558 : Index := Scalar.indexCast c17_i32_617
  let c48_618 : Index := 48#32
  ![v1557.toNat, 17, 48]
def k0_off179 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1567 : Index := Scalar.indexCast v94
  let c17_i32_621 : BitVec 32 := 17#32
  let v1568 : Index := Scalar.indexCast c17_i32_621
  let c64_622 : Index := 64#32
  ![v1567.toNat, 17, 64]
def k0_off180 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1577 : Index := Scalar.indexCast v94
  let c17_i32_625 : BitVec 32 := 17#32
  let v1578 : Index := Scalar.indexCast c17_i32_625
  let c80_626 : Index := 80#32
  ![v1577.toNat, 17, 80]
def k0_off181 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1587 : Index := Scalar.indexCast v94
  let c17_i32_629 : BitVec 32 := 17#32
  let v1588 : Index := Scalar.indexCast c17_i32_629
  let c96_630 : Index := 96#32
  ![v1587.toNat, 17, 96]
def k0_off182 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1597 : Index := Scalar.indexCast v94
  let c17_i32_633 : BitVec 32 := 17#32
  let v1598 : Index := Scalar.indexCast c17_i32_633
  let c112_634 : Index := 112#32
  ![v1597.toNat, 17, 112]
def k0_off183 (v1605 : BitVec 32) (c0_i32_637 : BitVec 32) : Fin 1 → Nat :=
  let c128_i32_636 : BitVec 32 := 128#32
  let v1606 : BitVec 32 := Scalar.muli v1605 c128_i32_636
  let v1607 : BitVec 32 := Scalar.addi v1606 c0_i32_637
  let v1608 : Index := Scalar.indexCast v1607
  ![v1608.toNat]

def k0_chk24 (v1605 : BitVec 32) : Prop :=
  (∀ (r : Fin 8), ∀ a, (k0_off183 v1605 (BitVec.ofNat 32 (16 * r.val))) a + S16.size a ≤ S40192.size a)
theorem k0_off183_inb : ∀ (v1605 : BitVec 32) (k0_hw24 : k0_chk24 v1605), ∀ (r : Fin 8), ∀ a, (k0_off183 v1605 (BitVec.ofNat 32 (16 * r.val))) a + S16.size a ≤ S40192.size a := fun v1605 k0_hw24 r => k0_hw24 r

def k0_off184 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1610 : Index := Scalar.indexCast v94
  let c18_i32 : BitVec 32 := 18#32
  let v1611 : Index := Scalar.indexCast c18_i32
  let c0_638 : Index := 0#32
  ![v1610.toNat, 18, 0]
def k0_off185 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1620 : Index := Scalar.indexCast v94
  let c18_i32_641 : BitVec 32 := 18#32
  let v1621 : Index := Scalar.indexCast c18_i32_641
  let c16_642 : Index := 16#32
  ![v1620.toNat, 18, 16]
def k0_off186 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1630 : Index := Scalar.indexCast v94
  let c18_i32_645 : BitVec 32 := 18#32
  let v1631 : Index := Scalar.indexCast c18_i32_645
  let c32_646 : Index := 32#32
  ![v1630.toNat, 18, 32]
def k0_off187 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1640 : Index := Scalar.indexCast v94
  let c18_i32_649 : BitVec 32 := 18#32
  let v1641 : Index := Scalar.indexCast c18_i32_649
  let c48_650 : Index := 48#32
  ![v1640.toNat, 18, 48]
def k0_off188 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1650 : Index := Scalar.indexCast v94
  let c18_i32_653 : BitVec 32 := 18#32
  let v1651 : Index := Scalar.indexCast c18_i32_653
  let c64_654 : Index := 64#32
  ![v1650.toNat, 18, 64]
def k0_off189 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1660 : Index := Scalar.indexCast v94
  let c18_i32_657 : BitVec 32 := 18#32
  let v1661 : Index := Scalar.indexCast c18_i32_657
  let c80_658 : Index := 80#32
  ![v1660.toNat, 18, 80]
def k0_off190 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1670 : Index := Scalar.indexCast v94
  let c18_i32_661 : BitVec 32 := 18#32
  let v1671 : Index := Scalar.indexCast c18_i32_661
  let c96_662 : Index := 96#32
  ![v1670.toNat, 18, 96]
def k0_off191 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1680 : Index := Scalar.indexCast v94
  let c18_i32_665 : BitVec 32 := 18#32
  let v1681 : Index := Scalar.indexCast c18_i32_665
  let c112_666 : Index := 112#32
  ![v1680.toNat, 18, 112]
def k0_off192 (v1688 : BitVec 32) (c0_i32_669 : BitVec 32) : Fin 1 → Nat :=
  let c128_i32_668 : BitVec 32 := 128#32
  let v1689 : BitVec 32 := Scalar.muli v1688 c128_i32_668
  let v1690 : BitVec 32 := Scalar.addi v1689 c0_i32_669
  let v1691 : Index := Scalar.indexCast v1690
  ![v1691.toNat]

def k0_chk25 (v1688 : BitVec 32) : Prop :=
  (∀ (r : Fin 8), ∀ a, (k0_off192 v1688 (BitVec.ofNat 32 (16 * r.val))) a + S16.size a ≤ S40192.size a)
theorem k0_off192_inb : ∀ (v1688 : BitVec 32) (k0_hw25 : k0_chk25 v1688), ∀ (r : Fin 8), ∀ a, (k0_off192 v1688 (BitVec.ofNat 32 (16 * r.val))) a + S16.size a ≤ S40192.size a := fun v1688 k0_hw25 r => k0_hw25 r

def k0_off193 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1693 : Index := Scalar.indexCast v94
  let c19_i32 : BitVec 32 := 19#32
  let v1694 : Index := Scalar.indexCast c19_i32
  let c0_670 : Index := 0#32
  ![v1693.toNat, 19, 0]
def k0_off194 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1703 : Index := Scalar.indexCast v94
  let c19_i32_673 : BitVec 32 := 19#32
  let v1704 : Index := Scalar.indexCast c19_i32_673
  let c16_674 : Index := 16#32
  ![v1703.toNat, 19, 16]
def k0_off195 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1713 : Index := Scalar.indexCast v94
  let c19_i32_677 : BitVec 32 := 19#32
  let v1714 : Index := Scalar.indexCast c19_i32_677
  let c32_678 : Index := 32#32
  ![v1713.toNat, 19, 32]
def k0_off196 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1723 : Index := Scalar.indexCast v94
  let c19_i32_681 : BitVec 32 := 19#32
  let v1724 : Index := Scalar.indexCast c19_i32_681
  let c48_682 : Index := 48#32
  ![v1723.toNat, 19, 48]
def k0_off197 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1733 : Index := Scalar.indexCast v94
  let c19_i32_685 : BitVec 32 := 19#32
  let v1734 : Index := Scalar.indexCast c19_i32_685
  let c64_686 : Index := 64#32
  ![v1733.toNat, 19, 64]
def k0_off198 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1743 : Index := Scalar.indexCast v94
  let c19_i32_689 : BitVec 32 := 19#32
  let v1744 : Index := Scalar.indexCast c19_i32_689
  let c80_690 : Index := 80#32
  ![v1743.toNat, 19, 80]
def k0_off199 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1753 : Index := Scalar.indexCast v94
  let c19_i32_693 : BitVec 32 := 19#32
  let v1754 : Index := Scalar.indexCast c19_i32_693
  let c96_694 : Index := 96#32
  ![v1753.toNat, 19, 96]
def k0_off200 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1763 : Index := Scalar.indexCast v94
  let c19_i32_697 : BitVec 32 := 19#32
  let v1764 : Index := Scalar.indexCast c19_i32_697
  let c112_698 : Index := 112#32
  ![v1763.toNat, 19, 112]
def k0_off201 (v1771 : BitVec 32) (c0_i32_701 : BitVec 32) : Fin 1 → Nat :=
  let c128_i32_700 : BitVec 32 := 128#32
  let v1772 : BitVec 32 := Scalar.muli v1771 c128_i32_700
  let v1773 : BitVec 32 := Scalar.addi v1772 c0_i32_701
  let v1774 : Index := Scalar.indexCast v1773
  ![v1774.toNat]

def k0_chk26 (v1771 : BitVec 32) : Prop :=
  (∀ (r : Fin 8), ∀ a, (k0_off201 v1771 (BitVec.ofNat 32 (16 * r.val))) a + S16.size a ≤ S40192.size a)
theorem k0_off201_inb : ∀ (v1771 : BitVec 32) (k0_hw26 : k0_chk26 v1771), ∀ (r : Fin 8), ∀ a, (k0_off201 v1771 (BitVec.ofNat 32 (16 * r.val))) a + S16.size a ≤ S40192.size a := fun v1771 k0_hw26 r => k0_hw26 r

def k0_off202 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1776 : Index := Scalar.indexCast v94
  let c20_i32 : BitVec 32 := 20#32
  let v1777 : Index := Scalar.indexCast c20_i32
  let c0_702 : Index := 0#32
  ![v1776.toNat, 20, 0]
def k0_off203 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1786 : Index := Scalar.indexCast v94
  let c20_i32_705 : BitVec 32 := 20#32
  let v1787 : Index := Scalar.indexCast c20_i32_705
  let c16_706 : Index := 16#32
  ![v1786.toNat, 20, 16]
def k0_off204 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1796 : Index := Scalar.indexCast v94
  let c20_i32_709 : BitVec 32 := 20#32
  let v1797 : Index := Scalar.indexCast c20_i32_709
  let c32_710 : Index := 32#32
  ![v1796.toNat, 20, 32]
def k0_off205 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1806 : Index := Scalar.indexCast v94
  let c20_i32_713 : BitVec 32 := 20#32
  let v1807 : Index := Scalar.indexCast c20_i32_713
  let c48_714 : Index := 48#32
  ![v1806.toNat, 20, 48]
def k0_off206 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1816 : Index := Scalar.indexCast v94
  let c20_i32_717 : BitVec 32 := 20#32
  let v1817 : Index := Scalar.indexCast c20_i32_717
  let c64_718 : Index := 64#32
  ![v1816.toNat, 20, 64]
def k0_off207 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1826 : Index := Scalar.indexCast v94
  let c20_i32_721 : BitVec 32 := 20#32
  let v1827 : Index := Scalar.indexCast c20_i32_721
  let c80_722 : Index := 80#32
  ![v1826.toNat, 20, 80]
def k0_off208 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1836 : Index := Scalar.indexCast v94
  let c20_i32_725 : BitVec 32 := 20#32
  let v1837 : Index := Scalar.indexCast c20_i32_725
  let c96_726 : Index := 96#32
  ![v1836.toNat, 20, 96]
def k0_off209 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1846 : Index := Scalar.indexCast v94
  let c20_i32_729 : BitVec 32 := 20#32
  let v1847 : Index := Scalar.indexCast c20_i32_729
  let c112_730 : Index := 112#32
  ![v1846.toNat, 20, 112]
def k0_off210 (v1854 : BitVec 32) (c0_i32_733 : BitVec 32) : Fin 1 → Nat :=
  let c128_i32_732 : BitVec 32 := 128#32
  let v1855 : BitVec 32 := Scalar.muli v1854 c128_i32_732
  let v1856 : BitVec 32 := Scalar.addi v1855 c0_i32_733
  let v1857 : Index := Scalar.indexCast v1856
  ![v1857.toNat]

def k0_chk27 (v1854 : BitVec 32) : Prop :=
  (∀ (r : Fin 8), ∀ a, (k0_off210 v1854 (BitVec.ofNat 32 (16 * r.val))) a + S16.size a ≤ S40192.size a)
theorem k0_off210_inb : ∀ (v1854 : BitVec 32) (k0_hw27 : k0_chk27 v1854), ∀ (r : Fin 8), ∀ a, (k0_off210 v1854 (BitVec.ofNat 32 (16 * r.val))) a + S16.size a ≤ S40192.size a := fun v1854 k0_hw27 r => k0_hw27 r

def k0_off211 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1859 : Index := Scalar.indexCast v94
  let c21_i32 : BitVec 32 := 21#32
  let v1860 : Index := Scalar.indexCast c21_i32
  let c0_734 : Index := 0#32
  ![v1859.toNat, 21, 0]
def k0_off212 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1869 : Index := Scalar.indexCast v94
  let c21_i32_737 : BitVec 32 := 21#32
  let v1870 : Index := Scalar.indexCast c21_i32_737
  let c16_738 : Index := 16#32
  ![v1869.toNat, 21, 16]
def k0_off213 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1879 : Index := Scalar.indexCast v94
  let c21_i32_741 : BitVec 32 := 21#32
  let v1880 : Index := Scalar.indexCast c21_i32_741
  let c32_742 : Index := 32#32
  ![v1879.toNat, 21, 32]
def k0_off214 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1889 : Index := Scalar.indexCast v94
  let c21_i32_745 : BitVec 32 := 21#32
  let v1890 : Index := Scalar.indexCast c21_i32_745
  let c48_746 : Index := 48#32
  ![v1889.toNat, 21, 48]
def k0_off215 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1899 : Index := Scalar.indexCast v94
  let c21_i32_749 : BitVec 32 := 21#32
  let v1900 : Index := Scalar.indexCast c21_i32_749
  let c64_750 : Index := 64#32
  ![v1899.toNat, 21, 64]
def k0_off216 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1909 : Index := Scalar.indexCast v94
  let c21_i32_753 : BitVec 32 := 21#32
  let v1910 : Index := Scalar.indexCast c21_i32_753
  let c80_754 : Index := 80#32
  ![v1909.toNat, 21, 80]
def k0_off217 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1919 : Index := Scalar.indexCast v94
  let c21_i32_757 : BitVec 32 := 21#32
  let v1920 : Index := Scalar.indexCast c21_i32_757
  let c96_758 : Index := 96#32
  ![v1919.toNat, 21, 96]
def k0_off218 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1929 : Index := Scalar.indexCast v94
  let c21_i32_761 : BitVec 32 := 21#32
  let v1930 : Index := Scalar.indexCast c21_i32_761
  let c112_762 : Index := 112#32
  ![v1929.toNat, 21, 112]
def k0_off219 (v1937 : BitVec 32) (c0_i32_765 : BitVec 32) : Fin 1 → Nat :=
  let c128_i32_764 : BitVec 32 := 128#32
  let v1938 : BitVec 32 := Scalar.muli v1937 c128_i32_764
  let v1939 : BitVec 32 := Scalar.addi v1938 c0_i32_765
  let v1940 : Index := Scalar.indexCast v1939
  ![v1940.toNat]

def k0_chk28 (v1937 : BitVec 32) : Prop :=
  (∀ (r : Fin 8), ∀ a, (k0_off219 v1937 (BitVec.ofNat 32 (16 * r.val))) a + S16.size a ≤ S40192.size a)
theorem k0_off219_inb : ∀ (v1937 : BitVec 32) (k0_hw28 : k0_chk28 v1937), ∀ (r : Fin 8), ∀ a, (k0_off219 v1937 (BitVec.ofNat 32 (16 * r.val))) a + S16.size a ≤ S40192.size a := fun v1937 k0_hw28 r => k0_hw28 r

def k0_off220 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1942 : Index := Scalar.indexCast v94
  let c22_i32 : BitVec 32 := 22#32
  let v1943 : Index := Scalar.indexCast c22_i32
  let c0_766 : Index := 0#32
  ![v1942.toNat, 22, 0]
def k0_off221 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1952 : Index := Scalar.indexCast v94
  let c22_i32_769 : BitVec 32 := 22#32
  let v1953 : Index := Scalar.indexCast c22_i32_769
  let c16_770 : Index := 16#32
  ![v1952.toNat, 22, 16]
def k0_off222 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1962 : Index := Scalar.indexCast v94
  let c22_i32_773 : BitVec 32 := 22#32
  let v1963 : Index := Scalar.indexCast c22_i32_773
  let c32_774 : Index := 32#32
  ![v1962.toNat, 22, 32]
def k0_off223 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1972 : Index := Scalar.indexCast v94
  let c22_i32_777 : BitVec 32 := 22#32
  let v1973 : Index := Scalar.indexCast c22_i32_777
  let c48_778 : Index := 48#32
  ![v1972.toNat, 22, 48]
def k0_off224 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1982 : Index := Scalar.indexCast v94
  let c22_i32_781 : BitVec 32 := 22#32
  let v1983 : Index := Scalar.indexCast c22_i32_781
  let c64_782 : Index := 64#32
  ![v1982.toNat, 22, 64]
def k0_off225 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v1992 : Index := Scalar.indexCast v94
  let c22_i32_785 : BitVec 32 := 22#32
  let v1993 : Index := Scalar.indexCast c22_i32_785
  let c80_786 : Index := 80#32
  ![v1992.toNat, 22, 80]
def k0_off226 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2002 : Index := Scalar.indexCast v94
  let c22_i32_789 : BitVec 32 := 22#32
  let v2003 : Index := Scalar.indexCast c22_i32_789
  let c96_790 : Index := 96#32
  ![v2002.toNat, 22, 96]
def k0_off227 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2012 : Index := Scalar.indexCast v94
  let c22_i32_793 : BitVec 32 := 22#32
  let v2013 : Index := Scalar.indexCast c22_i32_793
  let c112_794 : Index := 112#32
  ![v2012.toNat, 22, 112]
def k0_off228 (v2020 : BitVec 32) (c0_i32_797 : BitVec 32) : Fin 1 → Nat :=
  let c128_i32_796 : BitVec 32 := 128#32
  let v2021 : BitVec 32 := Scalar.muli v2020 c128_i32_796
  let v2022 : BitVec 32 := Scalar.addi v2021 c0_i32_797
  let v2023 : Index := Scalar.indexCast v2022
  ![v2023.toNat]

def k0_chk29 (v2020 : BitVec 32) : Prop :=
  (∀ (r : Fin 8), ∀ a, (k0_off228 v2020 (BitVec.ofNat 32 (16 * r.val))) a + S16.size a ≤ S40192.size a)
theorem k0_off228_inb : ∀ (v2020 : BitVec 32) (k0_hw29 : k0_chk29 v2020), ∀ (r : Fin 8), ∀ a, (k0_off228 v2020 (BitVec.ofNat 32 (16 * r.val))) a + S16.size a ≤ S40192.size a := fun v2020 k0_hw29 r => k0_hw29 r

def k0_off229 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2025 : Index := Scalar.indexCast v94
  let c23_i32 : BitVec 32 := 23#32
  let v2026 : Index := Scalar.indexCast c23_i32
  let c0_798 : Index := 0#32
  ![v2025.toNat, 23, 0]
def k0_off230 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2035 : Index := Scalar.indexCast v94
  let c23_i32_801 : BitVec 32 := 23#32
  let v2036 : Index := Scalar.indexCast c23_i32_801
  let c16_802 : Index := 16#32
  ![v2035.toNat, 23, 16]
def k0_off231 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2045 : Index := Scalar.indexCast v94
  let c23_i32_805 : BitVec 32 := 23#32
  let v2046 : Index := Scalar.indexCast c23_i32_805
  let c32_806 : Index := 32#32
  ![v2045.toNat, 23, 32]
def k0_off232 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2055 : Index := Scalar.indexCast v94
  let c23_i32_809 : BitVec 32 := 23#32
  let v2056 : Index := Scalar.indexCast c23_i32_809
  let c48_810 : Index := 48#32
  ![v2055.toNat, 23, 48]
def k0_off233 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2065 : Index := Scalar.indexCast v94
  let c23_i32_813 : BitVec 32 := 23#32
  let v2066 : Index := Scalar.indexCast c23_i32_813
  let c64_814 : Index := 64#32
  ![v2065.toNat, 23, 64]
def k0_off234 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2075 : Index := Scalar.indexCast v94
  let c23_i32_817 : BitVec 32 := 23#32
  let v2076 : Index := Scalar.indexCast c23_i32_817
  let c80_818 : Index := 80#32
  ![v2075.toNat, 23, 80]
def k0_off235 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2085 : Index := Scalar.indexCast v94
  let c23_i32_821 : BitVec 32 := 23#32
  let v2086 : Index := Scalar.indexCast c23_i32_821
  let c96_822 : Index := 96#32
  ![v2085.toNat, 23, 96]
def k0_off236 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2095 : Index := Scalar.indexCast v94
  let c23_i32_825 : BitVec 32 := 23#32
  let v2096 : Index := Scalar.indexCast c23_i32_825
  let c112_826 : Index := 112#32
  ![v2095.toNat, 23, 112]
def k0_off237 (v2103 : BitVec 32) (c0_i32_829 : BitVec 32) : Fin 1 → Nat :=
  let c128_i32_828 : BitVec 32 := 128#32
  let v2104 : BitVec 32 := Scalar.muli v2103 c128_i32_828
  let v2105 : BitVec 32 := Scalar.addi v2104 c0_i32_829
  let v2106 : Index := Scalar.indexCast v2105
  ![v2106.toNat]

def k0_chk30 (v2103 : BitVec 32) : Prop :=
  (∀ (r : Fin 8), ∀ a, (k0_off237 v2103 (BitVec.ofNat 32 (16 * r.val))) a + S16.size a ≤ S40192.size a)
theorem k0_off237_inb : ∀ (v2103 : BitVec 32) (k0_hw30 : k0_chk30 v2103), ∀ (r : Fin 8), ∀ a, (k0_off237 v2103 (BitVec.ofNat 32 (16 * r.val))) a + S16.size a ≤ S40192.size a := fun v2103 k0_hw30 r => k0_hw30 r

def k0_off238 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2108 : Index := Scalar.indexCast v94
  let c24_i32 : BitVec 32 := 24#32
  let v2109 : Index := Scalar.indexCast c24_i32
  let c0_830 : Index := 0#32
  ![v2108.toNat, 24, 0]
def k0_off239 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2118 : Index := Scalar.indexCast v94
  let c24_i32_833 : BitVec 32 := 24#32
  let v2119 : Index := Scalar.indexCast c24_i32_833
  let c16_834 : Index := 16#32
  ![v2118.toNat, 24, 16]
def k0_off240 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2128 : Index := Scalar.indexCast v94
  let c24_i32_837 : BitVec 32 := 24#32
  let v2129 : Index := Scalar.indexCast c24_i32_837
  let c32_838 : Index := 32#32
  ![v2128.toNat, 24, 32]
def k0_off241 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2138 : Index := Scalar.indexCast v94
  let c24_i32_841 : BitVec 32 := 24#32
  let v2139 : Index := Scalar.indexCast c24_i32_841
  let c48_842 : Index := 48#32
  ![v2138.toNat, 24, 48]
def k0_off242 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2148 : Index := Scalar.indexCast v94
  let c24_i32_845 : BitVec 32 := 24#32
  let v2149 : Index := Scalar.indexCast c24_i32_845
  let c64_846 : Index := 64#32
  ![v2148.toNat, 24, 64]
def k0_off243 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2158 : Index := Scalar.indexCast v94
  let c24_i32_849 : BitVec 32 := 24#32
  let v2159 : Index := Scalar.indexCast c24_i32_849
  let c80_850 : Index := 80#32
  ![v2158.toNat, 24, 80]
def k0_off244 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2168 : Index := Scalar.indexCast v94
  let c24_i32_853 : BitVec 32 := 24#32
  let v2169 : Index := Scalar.indexCast c24_i32_853
  let c96_854 : Index := 96#32
  ![v2168.toNat, 24, 96]
def k0_off245 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2178 : Index := Scalar.indexCast v94
  let c24_i32_857 : BitVec 32 := 24#32
  let v2179 : Index := Scalar.indexCast c24_i32_857
  let c112_858 : Index := 112#32
  ![v2178.toNat, 24, 112]
def k0_off246 (v2186 : BitVec 32) (c0_i32_861 : BitVec 32) : Fin 1 → Nat :=
  let c128_i32_860 : BitVec 32 := 128#32
  let v2187 : BitVec 32 := Scalar.muli v2186 c128_i32_860
  let v2188 : BitVec 32 := Scalar.addi v2187 c0_i32_861
  let v2189 : Index := Scalar.indexCast v2188
  ![v2189.toNat]

def k0_chk31 (v2186 : BitVec 32) : Prop :=
  (∀ (r : Fin 8), ∀ a, (k0_off246 v2186 (BitVec.ofNat 32 (16 * r.val))) a + S16.size a ≤ S40192.size a)
theorem k0_off246_inb : ∀ (v2186 : BitVec 32) (k0_hw31 : k0_chk31 v2186), ∀ (r : Fin 8), ∀ a, (k0_off246 v2186 (BitVec.ofNat 32 (16 * r.val))) a + S16.size a ≤ S40192.size a := fun v2186 k0_hw31 r => k0_hw31 r

def k0_off247 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2191 : Index := Scalar.indexCast v94
  let c25_i32 : BitVec 32 := 25#32
  let v2192 : Index := Scalar.indexCast c25_i32
  let c0_862 : Index := 0#32
  ![v2191.toNat, 25, 0]
def k0_off248 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2201 : Index := Scalar.indexCast v94
  let c25_i32_865 : BitVec 32 := 25#32
  let v2202 : Index := Scalar.indexCast c25_i32_865
  let c16_866 : Index := 16#32
  ![v2201.toNat, 25, 16]
def k0_off249 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2211 : Index := Scalar.indexCast v94
  let c25_i32_869 : BitVec 32 := 25#32
  let v2212 : Index := Scalar.indexCast c25_i32_869
  let c32_870 : Index := 32#32
  ![v2211.toNat, 25, 32]
def k0_off250 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2221 : Index := Scalar.indexCast v94
  let c25_i32_873 : BitVec 32 := 25#32
  let v2222 : Index := Scalar.indexCast c25_i32_873
  let c48_874 : Index := 48#32
  ![v2221.toNat, 25, 48]
def k0_off251 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2231 : Index := Scalar.indexCast v94
  let c25_i32_877 : BitVec 32 := 25#32
  let v2232 : Index := Scalar.indexCast c25_i32_877
  let c64_878 : Index := 64#32
  ![v2231.toNat, 25, 64]
def k0_off252 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2241 : Index := Scalar.indexCast v94
  let c25_i32_881 : BitVec 32 := 25#32
  let v2242 : Index := Scalar.indexCast c25_i32_881
  let c80_882 : Index := 80#32
  ![v2241.toNat, 25, 80]
def k0_off253 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2251 : Index := Scalar.indexCast v94
  let c25_i32_885 : BitVec 32 := 25#32
  let v2252 : Index := Scalar.indexCast c25_i32_885
  let c96_886 : Index := 96#32
  ![v2251.toNat, 25, 96]
def k0_off254 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2261 : Index := Scalar.indexCast v94
  let c25_i32_889 : BitVec 32 := 25#32
  let v2262 : Index := Scalar.indexCast c25_i32_889
  let c112_890 : Index := 112#32
  ![v2261.toNat, 25, 112]
def k0_off255 (v2269 : BitVec 32) (c0_i32_893 : BitVec 32) : Fin 1 → Nat :=
  let c128_i32_892 : BitVec 32 := 128#32
  let v2270 : BitVec 32 := Scalar.muli v2269 c128_i32_892
  let v2271 : BitVec 32 := Scalar.addi v2270 c0_i32_893
  let v2272 : Index := Scalar.indexCast v2271
  ![v2272.toNat]

def k0_chk32 (v2269 : BitVec 32) : Prop :=
  (∀ (r : Fin 8), ∀ a, (k0_off255 v2269 (BitVec.ofNat 32 (16 * r.val))) a + S16.size a ≤ S40192.size a)
theorem k0_off255_inb : ∀ (v2269 : BitVec 32) (k0_hw32 : k0_chk32 v2269), ∀ (r : Fin 8), ∀ a, (k0_off255 v2269 (BitVec.ofNat 32 (16 * r.val))) a + S16.size a ≤ S40192.size a := fun v2269 k0_hw32 r => k0_hw32 r

def k0_off256 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2274 : Index := Scalar.indexCast v94
  let c26_i32 : BitVec 32 := 26#32
  let v2275 : Index := Scalar.indexCast c26_i32
  let c0_894 : Index := 0#32
  ![v2274.toNat, 26, 0]
def k0_off257 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2284 : Index := Scalar.indexCast v94
  let c26_i32_897 : BitVec 32 := 26#32
  let v2285 : Index := Scalar.indexCast c26_i32_897
  let c16_898 : Index := 16#32
  ![v2284.toNat, 26, 16]
def k0_off258 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2294 : Index := Scalar.indexCast v94
  let c26_i32_901 : BitVec 32 := 26#32
  let v2295 : Index := Scalar.indexCast c26_i32_901
  let c32_902 : Index := 32#32
  ![v2294.toNat, 26, 32]
def k0_off259 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2304 : Index := Scalar.indexCast v94
  let c26_i32_905 : BitVec 32 := 26#32
  let v2305 : Index := Scalar.indexCast c26_i32_905
  let c48_906 : Index := 48#32
  ![v2304.toNat, 26, 48]
def k0_off260 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2314 : Index := Scalar.indexCast v94
  let c26_i32_909 : BitVec 32 := 26#32
  let v2315 : Index := Scalar.indexCast c26_i32_909
  let c64_910 : Index := 64#32
  ![v2314.toNat, 26, 64]
def k0_off261 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2324 : Index := Scalar.indexCast v94
  let c26_i32_913 : BitVec 32 := 26#32
  let v2325 : Index := Scalar.indexCast c26_i32_913
  let c80_914 : Index := 80#32
  ![v2324.toNat, 26, 80]
def k0_off262 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2334 : Index := Scalar.indexCast v94
  let c26_i32_917 : BitVec 32 := 26#32
  let v2335 : Index := Scalar.indexCast c26_i32_917
  let c96_918 : Index := 96#32
  ![v2334.toNat, 26, 96]
def k0_off263 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2344 : Index := Scalar.indexCast v94
  let c26_i32_921 : BitVec 32 := 26#32
  let v2345 : Index := Scalar.indexCast c26_i32_921
  let c112_922 : Index := 112#32
  ![v2344.toNat, 26, 112]
def k0_off264 (v2352 : BitVec 32) (c0_i32_925 : BitVec 32) : Fin 1 → Nat :=
  let c128_i32_924 : BitVec 32 := 128#32
  let v2353 : BitVec 32 := Scalar.muli v2352 c128_i32_924
  let v2354 : BitVec 32 := Scalar.addi v2353 c0_i32_925
  let v2355 : Index := Scalar.indexCast v2354
  ![v2355.toNat]

def k0_chk33 (v2352 : BitVec 32) : Prop :=
  (∀ (r : Fin 8), ∀ a, (k0_off264 v2352 (BitVec.ofNat 32 (16 * r.val))) a + S16.size a ≤ S40192.size a)
theorem k0_off264_inb : ∀ (v2352 : BitVec 32) (k0_hw33 : k0_chk33 v2352), ∀ (r : Fin 8), ∀ a, (k0_off264 v2352 (BitVec.ofNat 32 (16 * r.val))) a + S16.size a ≤ S40192.size a := fun v2352 k0_hw33 r => k0_hw33 r

def k0_off265 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2357 : Index := Scalar.indexCast v94
  let c27_i32 : BitVec 32 := 27#32
  let v2358 : Index := Scalar.indexCast c27_i32
  let c0_926 : Index := 0#32
  ![v2357.toNat, 27, 0]
def k0_off266 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2367 : Index := Scalar.indexCast v94
  let c27_i32_929 : BitVec 32 := 27#32
  let v2368 : Index := Scalar.indexCast c27_i32_929
  let c16_930 : Index := 16#32
  ![v2367.toNat, 27, 16]
def k0_off267 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2377 : Index := Scalar.indexCast v94
  let c27_i32_933 : BitVec 32 := 27#32
  let v2378 : Index := Scalar.indexCast c27_i32_933
  let c32_934 : Index := 32#32
  ![v2377.toNat, 27, 32]
def k0_off268 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2387 : Index := Scalar.indexCast v94
  let c27_i32_937 : BitVec 32 := 27#32
  let v2388 : Index := Scalar.indexCast c27_i32_937
  let c48_938 : Index := 48#32
  ![v2387.toNat, 27, 48]
def k0_off269 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2397 : Index := Scalar.indexCast v94
  let c27_i32_941 : BitVec 32 := 27#32
  let v2398 : Index := Scalar.indexCast c27_i32_941
  let c64_942 : Index := 64#32
  ![v2397.toNat, 27, 64]
def k0_off270 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2407 : Index := Scalar.indexCast v94
  let c27_i32_945 : BitVec 32 := 27#32
  let v2408 : Index := Scalar.indexCast c27_i32_945
  let c80_946 : Index := 80#32
  ![v2407.toNat, 27, 80]
def k0_off271 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2417 : Index := Scalar.indexCast v94
  let c27_i32_949 : BitVec 32 := 27#32
  let v2418 : Index := Scalar.indexCast c27_i32_949
  let c96_950 : Index := 96#32
  ![v2417.toNat, 27, 96]
def k0_off272 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2427 : Index := Scalar.indexCast v94
  let c27_i32_953 : BitVec 32 := 27#32
  let v2428 : Index := Scalar.indexCast c27_i32_953
  let c112_954 : Index := 112#32
  ![v2427.toNat, 27, 112]
def k0_off273 (v2435 : BitVec 32) (c0_i32_957 : BitVec 32) : Fin 1 → Nat :=
  let c128_i32_956 : BitVec 32 := 128#32
  let v2436 : BitVec 32 := Scalar.muli v2435 c128_i32_956
  let v2437 : BitVec 32 := Scalar.addi v2436 c0_i32_957
  let v2438 : Index := Scalar.indexCast v2437
  ![v2438.toNat]

def k0_chk34 (v2435 : BitVec 32) : Prop :=
  (∀ (r : Fin 8), ∀ a, (k0_off273 v2435 (BitVec.ofNat 32 (16 * r.val))) a + S16.size a ≤ S40192.size a)
theorem k0_off273_inb : ∀ (v2435 : BitVec 32) (k0_hw34 : k0_chk34 v2435), ∀ (r : Fin 8), ∀ a, (k0_off273 v2435 (BitVec.ofNat 32 (16 * r.val))) a + S16.size a ≤ S40192.size a := fun v2435 k0_hw34 r => k0_hw34 r

def k0_off274 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2440 : Index := Scalar.indexCast v94
  let c28_i32 : BitVec 32 := 28#32
  let v2441 : Index := Scalar.indexCast c28_i32
  let c0_958 : Index := 0#32
  ![v2440.toNat, 28, 0]
def k0_off275 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2450 : Index := Scalar.indexCast v94
  let c28_i32_961 : BitVec 32 := 28#32
  let v2451 : Index := Scalar.indexCast c28_i32_961
  let c16_962 : Index := 16#32
  ![v2450.toNat, 28, 16]
def k0_off276 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2460 : Index := Scalar.indexCast v94
  let c28_i32_965 : BitVec 32 := 28#32
  let v2461 : Index := Scalar.indexCast c28_i32_965
  let c32_966 : Index := 32#32
  ![v2460.toNat, 28, 32]
def k0_off277 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2470 : Index := Scalar.indexCast v94
  let c28_i32_969 : BitVec 32 := 28#32
  let v2471 : Index := Scalar.indexCast c28_i32_969
  let c48_970 : Index := 48#32
  ![v2470.toNat, 28, 48]
def k0_off278 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2480 : Index := Scalar.indexCast v94
  let c28_i32_973 : BitVec 32 := 28#32
  let v2481 : Index := Scalar.indexCast c28_i32_973
  let c64_974 : Index := 64#32
  ![v2480.toNat, 28, 64]
def k0_off279 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2490 : Index := Scalar.indexCast v94
  let c28_i32_977 : BitVec 32 := 28#32
  let v2491 : Index := Scalar.indexCast c28_i32_977
  let c80_978 : Index := 80#32
  ![v2490.toNat, 28, 80]
def k0_off280 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2500 : Index := Scalar.indexCast v94
  let c28_i32_981 : BitVec 32 := 28#32
  let v2501 : Index := Scalar.indexCast c28_i32_981
  let c96_982 : Index := 96#32
  ![v2500.toNat, 28, 96]
def k0_off281 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2510 : Index := Scalar.indexCast v94
  let c28_i32_985 : BitVec 32 := 28#32
  let v2511 : Index := Scalar.indexCast c28_i32_985
  let c112_986 : Index := 112#32
  ![v2510.toNat, 28, 112]
def k0_off282 (v2518 : BitVec 32) (c0_i32_989 : BitVec 32) : Fin 1 → Nat :=
  let c128_i32_988 : BitVec 32 := 128#32
  let v2519 : BitVec 32 := Scalar.muli v2518 c128_i32_988
  let v2520 : BitVec 32 := Scalar.addi v2519 c0_i32_989
  let v2521 : Index := Scalar.indexCast v2520
  ![v2521.toNat]

def k0_chk35 (v2518 : BitVec 32) : Prop :=
  (∀ (r : Fin 8), ∀ a, (k0_off282 v2518 (BitVec.ofNat 32 (16 * r.val))) a + S16.size a ≤ S40192.size a)
theorem k0_off282_inb : ∀ (v2518 : BitVec 32) (k0_hw35 : k0_chk35 v2518), ∀ (r : Fin 8), ∀ a, (k0_off282 v2518 (BitVec.ofNat 32 (16 * r.val))) a + S16.size a ≤ S40192.size a := fun v2518 k0_hw35 r => k0_hw35 r

def k0_off283 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2523 : Index := Scalar.indexCast v94
  let c29_i32 : BitVec 32 := 29#32
  let v2524 : Index := Scalar.indexCast c29_i32
  let c0_990 : Index := 0#32
  ![v2523.toNat, 29, 0]
def k0_off284 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2533 : Index := Scalar.indexCast v94
  let c29_i32_993 : BitVec 32 := 29#32
  let v2534 : Index := Scalar.indexCast c29_i32_993
  let c16_994 : Index := 16#32
  ![v2533.toNat, 29, 16]
def k0_off285 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2543 : Index := Scalar.indexCast v94
  let c29_i32_997 : BitVec 32 := 29#32
  let v2544 : Index := Scalar.indexCast c29_i32_997
  let c32_998 : Index := 32#32
  ![v2543.toNat, 29, 32]
def k0_off286 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2553 : Index := Scalar.indexCast v94
  let c29_i32_1001 : BitVec 32 := 29#32
  let v2554 : Index := Scalar.indexCast c29_i32_1001
  let c48_1002 : Index := 48#32
  ![v2553.toNat, 29, 48]
def k0_off287 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2563 : Index := Scalar.indexCast v94
  let c29_i32_1005 : BitVec 32 := 29#32
  let v2564 : Index := Scalar.indexCast c29_i32_1005
  let c64_1006 : Index := 64#32
  ![v2563.toNat, 29, 64]
def k0_off288 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2573 : Index := Scalar.indexCast v94
  let c29_i32_1009 : BitVec 32 := 29#32
  let v2574 : Index := Scalar.indexCast c29_i32_1009
  let c80_1010 : Index := 80#32
  ![v2573.toNat, 29, 80]
def k0_off289 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2583 : Index := Scalar.indexCast v94
  let c29_i32_1013 : BitVec 32 := 29#32
  let v2584 : Index := Scalar.indexCast c29_i32_1013
  let c96_1014 : Index := 96#32
  ![v2583.toNat, 29, 96]
def k0_off290 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2593 : Index := Scalar.indexCast v94
  let c29_i32_1017 : BitVec 32 := 29#32
  let v2594 : Index := Scalar.indexCast c29_i32_1017
  let c112_1018 : Index := 112#32
  ![v2593.toNat, 29, 112]
def k0_off291 (v2601 : BitVec 32) (c0_i32_1021 : BitVec 32) : Fin 1 → Nat :=
  let c128_i32_1020 : BitVec 32 := 128#32
  let v2602 : BitVec 32 := Scalar.muli v2601 c128_i32_1020
  let v2603 : BitVec 32 := Scalar.addi v2602 c0_i32_1021
  let v2604 : Index := Scalar.indexCast v2603
  ![v2604.toNat]

def k0_chk36 (v2601 : BitVec 32) : Prop :=
  (∀ (r : Fin 8), ∀ a, (k0_off291 v2601 (BitVec.ofNat 32 (16 * r.val))) a + S16.size a ≤ S40192.size a)
theorem k0_off291_inb : ∀ (v2601 : BitVec 32) (k0_hw36 : k0_chk36 v2601), ∀ (r : Fin 8), ∀ a, (k0_off291 v2601 (BitVec.ofNat 32 (16 * r.val))) a + S16.size a ≤ S40192.size a := fun v2601 k0_hw36 r => k0_hw36 r

def k0_off292 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2606 : Index := Scalar.indexCast v94
  let c30_i32 : BitVec 32 := 30#32
  let v2607 : Index := Scalar.indexCast c30_i32
  let c0_1022 : Index := 0#32
  ![v2606.toNat, 30, 0]
def k0_off293 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2616 : Index := Scalar.indexCast v94
  let c30_i32_1025 : BitVec 32 := 30#32
  let v2617 : Index := Scalar.indexCast c30_i32_1025
  let c16_1026 : Index := 16#32
  ![v2616.toNat, 30, 16]
def k0_off294 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2626 : Index := Scalar.indexCast v94
  let c30_i32_1029 : BitVec 32 := 30#32
  let v2627 : Index := Scalar.indexCast c30_i32_1029
  let c32_1030 : Index := 32#32
  ![v2626.toNat, 30, 32]
def k0_off295 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2636 : Index := Scalar.indexCast v94
  let c30_i32_1033 : BitVec 32 := 30#32
  let v2637 : Index := Scalar.indexCast c30_i32_1033
  let c48_1034 : Index := 48#32
  ![v2636.toNat, 30, 48]
def k0_off296 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2646 : Index := Scalar.indexCast v94
  let c30_i32_1037 : BitVec 32 := 30#32
  let v2647 : Index := Scalar.indexCast c30_i32_1037
  let c64_1038 : Index := 64#32
  ![v2646.toNat, 30, 64]
def k0_off297 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2656 : Index := Scalar.indexCast v94
  let c30_i32_1041 : BitVec 32 := 30#32
  let v2657 : Index := Scalar.indexCast c30_i32_1041
  let c80_1042 : Index := 80#32
  ![v2656.toNat, 30, 80]
def k0_off298 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2666 : Index := Scalar.indexCast v94
  let c30_i32_1045 : BitVec 32 := 30#32
  let v2667 : Index := Scalar.indexCast c30_i32_1045
  let c96_1046 : Index := 96#32
  ![v2666.toNat, 30, 96]
def k0_off299 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2676 : Index := Scalar.indexCast v94
  let c30_i32_1049 : BitVec 32 := 30#32
  let v2677 : Index := Scalar.indexCast c30_i32_1049
  let c112_1050 : Index := 112#32
  ![v2676.toNat, 30, 112]
def k0_off300 (v2684 : BitVec 32) (c0_i32_1053 : BitVec 32) : Fin 1 → Nat :=
  let c128_i32_1052 : BitVec 32 := 128#32
  let v2685 : BitVec 32 := Scalar.muli v2684 c128_i32_1052
  let v2686 : BitVec 32 := Scalar.addi v2685 c0_i32_1053
  let v2687 : Index := Scalar.indexCast v2686
  ![v2687.toNat]

def k0_chk37 (v2684 : BitVec 32) : Prop :=
  (∀ (r : Fin 8), ∀ a, (k0_off300 v2684 (BitVec.ofNat 32 (16 * r.val))) a + S16.size a ≤ S40192.size a)
theorem k0_off300_inb : ∀ (v2684 : BitVec 32) (k0_hw37 : k0_chk37 v2684), ∀ (r : Fin 8), ∀ a, (k0_off300 v2684 (BitVec.ofNat 32 (16 * r.val))) a + S16.size a ≤ S40192.size a := fun v2684 k0_hw37 r => k0_hw37 r

def k0_off301 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2689 : Index := Scalar.indexCast v94
  let c31_i32 : BitVec 32 := 31#32
  let v2690 : Index := Scalar.indexCast c31_i32
  let c0_1054 : Index := 0#32
  ![v2689.toNat, 31, 0]
def k0_off302 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2699 : Index := Scalar.indexCast v94
  let c31_i32_1057 : BitVec 32 := 31#32
  let v2700 : Index := Scalar.indexCast c31_i32_1057
  let c16_1058 : Index := 16#32
  ![v2699.toNat, 31, 16]
def k0_off303 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2709 : Index := Scalar.indexCast v94
  let c31_i32_1061 : BitVec 32 := 31#32
  let v2710 : Index := Scalar.indexCast c31_i32_1061
  let c32_1062 : Index := 32#32
  ![v2709.toNat, 31, 32]
def k0_off304 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2719 : Index := Scalar.indexCast v94
  let c31_i32_1065 : BitVec 32 := 31#32
  let v2720 : Index := Scalar.indexCast c31_i32_1065
  let c48_1066 : Index := 48#32
  ![v2719.toNat, 31, 48]
def k0_off305 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2729 : Index := Scalar.indexCast v94
  let c31_i32_1069 : BitVec 32 := 31#32
  let v2730 : Index := Scalar.indexCast c31_i32_1069
  let c64_1070 : Index := 64#32
  ![v2729.toNat, 31, 64]
def k0_off306 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2739 : Index := Scalar.indexCast v94
  let c31_i32_1073 : BitVec 32 := 31#32
  let v2740 : Index := Scalar.indexCast c31_i32_1073
  let c80_1074 : Index := 80#32
  ![v2739.toNat, 31, 80]
def k0_off307 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2749 : Index := Scalar.indexCast v94
  let c31_i32_1077 : BitVec 32 := 31#32
  let v2750 : Index := Scalar.indexCast c31_i32_1077
  let c96_1078 : Index := 96#32
  ![v2749.toNat, 31, 96]
def k0_off308 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32 : BitVec 32 := 4#32
  let v94 : BitVec 32 := Scalar.remsi arg16 c4_i32
  let v2759 : Index := Scalar.indexCast v94
  let c31_i32_1081 : BitVec 32 := 31#32
  let v2760 : Index := Scalar.indexCast c31_i32_1081
  let c112_1082 : Index := 112#32
  ![v2759.toNat, 31, 112]
def k0_off309 (v41 : BitVec 32) (k0_t4 : Fin (k0_t4_loop v41).trips) : Fin 3 → Nat :=
  let c0_i32_52 : BitVec 32 := 0#32
  let c1_i32_55 : BitVec 32 := 1#32
  let arg16 : BitVec 32 := Scf.iv c0_i32_52 c1_i32_55 k0_t4
  let c4_i32_1087 : BitVec 32 := 4#32
  let v2770 : BitVec 32 := Scalar.addi arg16 c4_i32_1087
  let c4_i32_1088 : BitVec 32 := 4#32
  let v2771 : BitVec 32 := Scalar.remsi v2770 c4_i32_1088
  let c0_i32_1090 : BitVec 32 := 0#32
  let c0_i32_1091 : BitVec 32 := 0#32
  ![v2771.toNat, 0, 0]
def k0_cond6 (v41 : BitVec 32) (k0_t4 : Fin (k0_t4_loop v41).trips) : BitVec 1 :=
  let c0_i32_52 : BitVec 32 := 0#32
  let c1_i32_55 : BitVec 32 := 1#32
  let arg16 : BitVec 32 := Scf.iv c0_i32_52 c1_i32_55 k0_t4
  let c4_i32_1084 : BitVec 32 := 4#32
  let v2766 : BitVec 32 := Scalar.addi arg16 c4_i32_1084
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v2767 : BitVec 1 := Scalar.cmpi .slt v2766 v74
  let v2768 : BitVec 32 := Scalar.extui v2767
  let c0_i32_1085 : BitVec 32 := 0#32
  let v2769 : BitVec 1 := Scalar.cmpi .ne v2768 c0_i32_1085
  v2769

def k0_off310 (v41 : BitVec 32) (k0_t4 : Fin (k0_t4_loop v41).trips) : Fin 1 → Nat :=
  let c0_i32_52 : BitVec 32 := 0#32
  let c1_i32_55 : BitVec 32 := 1#32
  let arg16 : BitVec 32 := Scf.iv c0_i32_52 c1_i32_55 k0_t4
  let c4_i32_1087 : BitVec 32 := 4#32
  let v2770 : BitVec 32 := Scalar.addi arg16 c4_i32_1087
  let c32_i32_1089 : BitVec 32 := 32#32
  let v2772 : BitVec 32 := Scalar.muli v2770 c32_i32_1089
  ![v2772.toNat]
def k0_off311 (v41 : BitVec 32) (k0_t4 : Fin (k0_t4_loop v41).trips) : Fin 1 → Nat :=
  let c0_i32_52 : BitVec 32 := 0#32
  let c1_i32_55 : BitVec 32 := 1#32
  let arg16 : BitVec 32 := Scf.iv c0_i32_52 c1_i32_55 k0_t4
  let c4_i32_1087 : BitVec 32 := 4#32
  let v2770 : BitVec 32 := Scalar.addi arg16 c4_i32_1087
  let c4_i32_1088 : BitVec 32 := 4#32
  let v2771 : BitVec 32 := Scalar.remsi v2770 c4_i32_1088
  ![v2771.toNat]
@[reducible] def k0_t5_loop (v41 : BitVec 32) : Scf.Loop 32 :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let v88 : BitVec 32 := Scalar.addi c0_i32_52 v87
  let c1_i32_56 : BitVec 32 := 1#32
  ⟨v91, v88, c1_i32_56⟩
def k0_off312 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let c0_i32_59 : BitVec 32 := 0#32
  let c0_i32_60 : BitVec 32 := 0#32
  ![v94.toNat, 0, 0]
def k0_off313 (v41 : BitVec 32) (k0_t5 : Fin (k0_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c32_i32_58 : BitVec 32 := 32#32
  let v95 : BitVec 32 := Scalar.muli arg16 c32_i32_58
  ![v95.toNat]
def k0_off314 (v41 : BitVec 32) (k0_t5 : Fin (k0_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  ![v94.toNat]
def k0_off315 (v41 : BitVec 32) (k0_t5 : Fin (k0_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c32_i32_63 : BitVec 32 := 32#32
  let v102 : BitVec 32 := Scalar.muli arg16 c32_i32_63
  let c0_i32_64 : BitVec 32 := 0#32
  let v103 : BitVec 32 := Scalar.addi v102 c0_i32_64
  let v104 : Index := Scalar.indexCast v103
  ![v104.toNat]
def k0_off316 (v107 : BitVec 32) (c0_i32_66 : BitVec 32) : Fin 1 → Nat :=
  let c128_i32_65 : BitVec 32 := 128#32
  let v108 : BitVec 32 := Scalar.muli v107 c128_i32_65
  let v109 : BitVec 32 := Scalar.addi v108 c0_i32_66
  let v110 : Index := Scalar.indexCast v109
  ![v110.toNat]

def k0_chk38 (v107 : BitVec 32) : Prop :=
  (∀ (r : Fin 8), ∀ a, (k0_off316 v107 (BitVec.ofNat 32 (16 * r.val))) a + S16.size a ≤ S40192.size a)
theorem k0_off316_inb : ∀ (v107 : BitVec 32) (k0_hw38 : k0_chk38 v107), ∀ (r : Fin 8), ∀ a, (k0_off316 v107 (BitVec.ofNat 32 (16 * r.val))) a + S16.size a ≤ S40192.size a := fun v107 k0_hw38 r => k0_hw38 r

def k0_off317 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v112 : Index := Scalar.indexCast v94
  let c0_i32_67 : BitVec 32 := 0#32
  let v113 : Index := Scalar.indexCast c0_i32_67
  let c0 : Index := 0#32
  ![v112.toNat, 0, 0]
def k0_off318 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v122 : Index := Scalar.indexCast v94
  let c0_i32_70 : BitVec 32 := 0#32
  let v123 : Index := Scalar.indexCast c0_i32_70
  let c16 : Index := 16#32
  ![v122.toNat, 0, 16]
def k0_off319 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v132 : Index := Scalar.indexCast v94
  let c0_i32_73 : BitVec 32 := 0#32
  let v133 : Index := Scalar.indexCast c0_i32_73
  let c32 : Index := 32#32
  ![v132.toNat, 0, 32]
def k0_off320 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v142 : Index := Scalar.indexCast v94
  let c0_i32_75 : BitVec 32 := 0#32
  let v143 : Index := Scalar.indexCast c0_i32_75
  let c48 : Index := 48#32
  ![v142.toNat, 0, 48]
def k0_off321 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v152 : Index := Scalar.indexCast v94
  let c0_i32_77 : BitVec 32 := 0#32
  let v153 : Index := Scalar.indexCast c0_i32_77
  let c64 : Index := 64#32
  ![v152.toNat, 0, 64]
def k0_off322 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v162 : Index := Scalar.indexCast v94
  let c0_i32_79 : BitVec 32 := 0#32
  let v163 : Index := Scalar.indexCast c0_i32_79
  let c80 : Index := 80#32
  ![v162.toNat, 0, 80]
def k0_off323 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v172 : Index := Scalar.indexCast v94
  let c0_i32_81 : BitVec 32 := 0#32
  let v173 : Index := Scalar.indexCast c0_i32_81
  let c96 : Index := 96#32
  ![v172.toNat, 0, 96]
def k0_off324 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v182 : Index := Scalar.indexCast v94
  let c0_i32_83 : BitVec 32 := 0#32
  let v183 : Index := Scalar.indexCast c0_i32_83
  let c112 : Index := 112#32
  ![v182.toNat, 0, 112]
def k0_off325 (v190 : BitVec 32) (c0_i32_86 : BitVec 32) : Fin 1 → Nat :=
  let c128_i32_85 : BitVec 32 := 128#32
  let v191 : BitVec 32 := Scalar.muli v190 c128_i32_85
  let v192 : BitVec 32 := Scalar.addi v191 c0_i32_86
  let v193 : Index := Scalar.indexCast v192
  ![v193.toNat]

def k0_chk39 (v190 : BitVec 32) : Prop :=
  (∀ (r : Fin 8), ∀ a, (k0_off325 v190 (BitVec.ofNat 32 (16 * r.val))) a + S16.size a ≤ S40192.size a)
theorem k0_off325_inb : ∀ (v190 : BitVec 32) (k0_hw39 : k0_chk39 v190), ∀ (r : Fin 8), ∀ a, (k0_off325 v190 (BitVec.ofNat 32 (16 * r.val))) a + S16.size a ≤ S40192.size a := fun v190 k0_hw39 r => k0_hw39 r

def k0_off326 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v195 : Index := Scalar.indexCast v94
  let c1_i32_87 : BitVec 32 := 1#32
  let v196 : Index := Scalar.indexCast c1_i32_87
  let c0_88 : Index := 0#32
  ![v195.toNat, 1, 0]
def k0_off327 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v205 : Index := Scalar.indexCast v94
  let c1_i32_91 : BitVec 32 := 1#32
  let v206 : Index := Scalar.indexCast c1_i32_91
  let c16_92 : Index := 16#32
  ![v205.toNat, 1, 16]
def k0_off328 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v215 : Index := Scalar.indexCast v94
  let c1_i32_95 : BitVec 32 := 1#32
  let v216 : Index := Scalar.indexCast c1_i32_95
  let c32_96 : Index := 32#32
  ![v215.toNat, 1, 32]
def k0_off329 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v225 : Index := Scalar.indexCast v94
  let c1_i32_99 : BitVec 32 := 1#32
  let v226 : Index := Scalar.indexCast c1_i32_99
  let c48_100 : Index := 48#32
  ![v225.toNat, 1, 48]
def k0_off330 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v235 : Index := Scalar.indexCast v94
  let c1_i32_103 : BitVec 32 := 1#32
  let v236 : Index := Scalar.indexCast c1_i32_103
  let c64_104 : Index := 64#32
  ![v235.toNat, 1, 64]
def k0_off331 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v245 : Index := Scalar.indexCast v94
  let c1_i32_107 : BitVec 32 := 1#32
  let v246 : Index := Scalar.indexCast c1_i32_107
  let c80_108 : Index := 80#32
  ![v245.toNat, 1, 80]
def k0_off332 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v255 : Index := Scalar.indexCast v94
  let c1_i32_111 : BitVec 32 := 1#32
  let v256 : Index := Scalar.indexCast c1_i32_111
  let c96_112 : Index := 96#32
  ![v255.toNat, 1, 96]
def k0_off333 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v265 : Index := Scalar.indexCast v94
  let c1_i32_115 : BitVec 32 := 1#32
  let v266 : Index := Scalar.indexCast c1_i32_115
  let c112_116 : Index := 112#32
  ![v265.toNat, 1, 112]
def k0_off334 (v273 : BitVec 32) (c0_i32_119 : BitVec 32) : Fin 1 → Nat :=
  let c128_i32_118 : BitVec 32 := 128#32
  let v274 : BitVec 32 := Scalar.muli v273 c128_i32_118
  let v275 : BitVec 32 := Scalar.addi v274 c0_i32_119
  let v276 : Index := Scalar.indexCast v275
  ![v276.toNat]

def k0_chk40 (v273 : BitVec 32) : Prop :=
  (∀ (r : Fin 8), ∀ a, (k0_off334 v273 (BitVec.ofNat 32 (16 * r.val))) a + S16.size a ≤ S40192.size a)
theorem k0_off334_inb : ∀ (v273 : BitVec 32) (k0_hw40 : k0_chk40 v273), ∀ (r : Fin 8), ∀ a, (k0_off334 v273 (BitVec.ofNat 32 (16 * r.val))) a + S16.size a ≤ S40192.size a := fun v273 k0_hw40 r => k0_hw40 r

def k0_off335 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v278 : Index := Scalar.indexCast v94
  let c2_i32_120 : BitVec 32 := 2#32
  let v279 : Index := Scalar.indexCast c2_i32_120
  let c0_121 : Index := 0#32
  ![v278.toNat, 2, 0]
def k0_off336 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v288 : Index := Scalar.indexCast v94
  let c2_i32_124 : BitVec 32 := 2#32
  let v289 : Index := Scalar.indexCast c2_i32_124
  let c16_125 : Index := 16#32
  ![v288.toNat, 2, 16]
def k0_off337 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v298 : Index := Scalar.indexCast v94
  let c2_i32_128 : BitVec 32 := 2#32
  let v299 : Index := Scalar.indexCast c2_i32_128
  let c32_129 : Index := 32#32
  ![v298.toNat, 2, 32]
def k0_off338 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v308 : Index := Scalar.indexCast v94
  let c2_i32_132 : BitVec 32 := 2#32
  let v309 : Index := Scalar.indexCast c2_i32_132
  let c48_133 : Index := 48#32
  ![v308.toNat, 2, 48]
def k0_off339 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v318 : Index := Scalar.indexCast v94
  let c2_i32_136 : BitVec 32 := 2#32
  let v319 : Index := Scalar.indexCast c2_i32_136
  let c64_137 : Index := 64#32
  ![v318.toNat, 2, 64]
def k0_off340 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v328 : Index := Scalar.indexCast v94
  let c2_i32_140 : BitVec 32 := 2#32
  let v329 : Index := Scalar.indexCast c2_i32_140
  let c80_141 : Index := 80#32
  ![v328.toNat, 2, 80]
def k0_off341 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v338 : Index := Scalar.indexCast v94
  let c2_i32_144 : BitVec 32 := 2#32
  let v339 : Index := Scalar.indexCast c2_i32_144
  let c96_145 : Index := 96#32
  ![v338.toNat, 2, 96]
def k0_off342 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v348 : Index := Scalar.indexCast v94
  let c2_i32_148 : BitVec 32 := 2#32
  let v349 : Index := Scalar.indexCast c2_i32_148
  let c112_149 : Index := 112#32
  ![v348.toNat, 2, 112]
def k0_off343 (v356 : BitVec 32) (c0_i32_152 : BitVec 32) : Fin 1 → Nat :=
  let c128_i32_151 : BitVec 32 := 128#32
  let v357 : BitVec 32 := Scalar.muli v356 c128_i32_151
  let v358 : BitVec 32 := Scalar.addi v357 c0_i32_152
  let v359 : Index := Scalar.indexCast v358
  ![v359.toNat]

def k0_chk41 (v356 : BitVec 32) : Prop :=
  (∀ (r : Fin 8), ∀ a, (k0_off343 v356 (BitVec.ofNat 32 (16 * r.val))) a + S16.size a ≤ S40192.size a)
theorem k0_off343_inb : ∀ (v356 : BitVec 32) (k0_hw41 : k0_chk41 v356), ∀ (r : Fin 8), ∀ a, (k0_off343 v356 (BitVec.ofNat 32 (16 * r.val))) a + S16.size a ≤ S40192.size a := fun v356 k0_hw41 r => k0_hw41 r

def k0_off344 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v361 : Index := Scalar.indexCast v94
  let c3_i32_153 : BitVec 32 := 3#32
  let v362 : Index := Scalar.indexCast c3_i32_153
  let c0_154 : Index := 0#32
  ![v361.toNat, 3, 0]
def k0_off345 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v371 : Index := Scalar.indexCast v94
  let c3_i32_157 : BitVec 32 := 3#32
  let v372 : Index := Scalar.indexCast c3_i32_157
  let c16_158 : Index := 16#32
  ![v371.toNat, 3, 16]
def k0_off346 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v381 : Index := Scalar.indexCast v94
  let c3_i32_161 : BitVec 32 := 3#32
  let v382 : Index := Scalar.indexCast c3_i32_161
  let c32_162 : Index := 32#32
  ![v381.toNat, 3, 32]
def k0_off347 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v391 : Index := Scalar.indexCast v94
  let c3_i32_165 : BitVec 32 := 3#32
  let v392 : Index := Scalar.indexCast c3_i32_165
  let c48_166 : Index := 48#32
  ![v391.toNat, 3, 48]
def k0_off348 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v401 : Index := Scalar.indexCast v94
  let c3_i32_169 : BitVec 32 := 3#32
  let v402 : Index := Scalar.indexCast c3_i32_169
  let c64_170 : Index := 64#32
  ![v401.toNat, 3, 64]
def k0_off349 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v411 : Index := Scalar.indexCast v94
  let c3_i32_173 : BitVec 32 := 3#32
  let v412 : Index := Scalar.indexCast c3_i32_173
  let c80_174 : Index := 80#32
  ![v411.toNat, 3, 80]
def k0_off350 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v421 : Index := Scalar.indexCast v94
  let c3_i32_177 : BitVec 32 := 3#32
  let v422 : Index := Scalar.indexCast c3_i32_177
  let c96_178 : Index := 96#32
  ![v421.toNat, 3, 96]
def k0_off351 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v431 : Index := Scalar.indexCast v94
  let c3_i32_181 : BitVec 32 := 3#32
  let v432 : Index := Scalar.indexCast c3_i32_181
  let c112_182 : Index := 112#32
  ![v431.toNat, 3, 112]
def k0_off352 (v439 : BitVec 32) (c0_i32_185 : BitVec 32) : Fin 1 → Nat :=
  let c128_i32_184 : BitVec 32 := 128#32
  let v440 : BitVec 32 := Scalar.muli v439 c128_i32_184
  let v441 : BitVec 32 := Scalar.addi v440 c0_i32_185
  let v442 : Index := Scalar.indexCast v441
  ![v442.toNat]

def k0_chk42 (v439 : BitVec 32) : Prop :=
  (∀ (r : Fin 8), ∀ a, (k0_off352 v439 (BitVec.ofNat 32 (16 * r.val))) a + S16.size a ≤ S40192.size a)
theorem k0_off352_inb : ∀ (v439 : BitVec 32) (k0_hw42 : k0_chk42 v439), ∀ (r : Fin 8), ∀ a, (k0_off352 v439 (BitVec.ofNat 32 (16 * r.val))) a + S16.size a ≤ S40192.size a := fun v439 k0_hw42 r => k0_hw42 r

def k0_off353 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v444 : Index := Scalar.indexCast v94
  let c4_i32_186 : BitVec 32 := 4#32
  let v445 : Index := Scalar.indexCast c4_i32_186
  let c0_187 : Index := 0#32
  ![v444.toNat, 4, 0]
def k0_off354 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v454 : Index := Scalar.indexCast v94
  let c4_i32_190 : BitVec 32 := 4#32
  let v455 : Index := Scalar.indexCast c4_i32_190
  let c16_191 : Index := 16#32
  ![v454.toNat, 4, 16]
def k0_off355 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v464 : Index := Scalar.indexCast v94
  let c4_i32_194 : BitVec 32 := 4#32
  let v465 : Index := Scalar.indexCast c4_i32_194
  let c32_195 : Index := 32#32
  ![v464.toNat, 4, 32]
def k0_off356 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v474 : Index := Scalar.indexCast v94
  let c4_i32_198 : BitVec 32 := 4#32
  let v475 : Index := Scalar.indexCast c4_i32_198
  let c48_199 : Index := 48#32
  ![v474.toNat, 4, 48]
def k0_off357 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v484 : Index := Scalar.indexCast v94
  let c4_i32_202 : BitVec 32 := 4#32
  let v485 : Index := Scalar.indexCast c4_i32_202
  let c64_203 : Index := 64#32
  ![v484.toNat, 4, 64]
def k0_off358 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v494 : Index := Scalar.indexCast v94
  let c4_i32_206 : BitVec 32 := 4#32
  let v495 : Index := Scalar.indexCast c4_i32_206
  let c80_207 : Index := 80#32
  ![v494.toNat, 4, 80]
def k0_off359 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v504 : Index := Scalar.indexCast v94
  let c4_i32_210 : BitVec 32 := 4#32
  let v505 : Index := Scalar.indexCast c4_i32_210
  let c96_211 : Index := 96#32
  ![v504.toNat, 4, 96]
def k0_off360 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v514 : Index := Scalar.indexCast v94
  let c4_i32_214 : BitVec 32 := 4#32
  let v515 : Index := Scalar.indexCast c4_i32_214
  let c112_215 : Index := 112#32
  ![v514.toNat, 4, 112]
def k0_off361 (v522 : BitVec 32) (c0_i32_218 : BitVec 32) : Fin 1 → Nat :=
  let c128_i32_217 : BitVec 32 := 128#32
  let v523 : BitVec 32 := Scalar.muli v522 c128_i32_217
  let v524 : BitVec 32 := Scalar.addi v523 c0_i32_218
  let v525 : Index := Scalar.indexCast v524
  ![v525.toNat]

def k0_chk43 (v522 : BitVec 32) : Prop :=
  (∀ (r : Fin 8), ∀ a, (k0_off361 v522 (BitVec.ofNat 32 (16 * r.val))) a + S16.size a ≤ S40192.size a)
theorem k0_off361_inb : ∀ (v522 : BitVec 32) (k0_hw43 : k0_chk43 v522), ∀ (r : Fin 8), ∀ a, (k0_off361 v522 (BitVec.ofNat 32 (16 * r.val))) a + S16.size a ≤ S40192.size a := fun v522 k0_hw43 r => k0_hw43 r

def k0_off362 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v527 : Index := Scalar.indexCast v94
  let c5_i32 : BitVec 32 := 5#32
  let v528 : Index := Scalar.indexCast c5_i32
  let c0_219 : Index := 0#32
  ![v527.toNat, 5, 0]
def k0_off363 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v537 : Index := Scalar.indexCast v94
  let c5_i32_222 : BitVec 32 := 5#32
  let v538 : Index := Scalar.indexCast c5_i32_222
  let c16_223 : Index := 16#32
  ![v537.toNat, 5, 16]
def k0_off364 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v547 : Index := Scalar.indexCast v94
  let c5_i32_226 : BitVec 32 := 5#32
  let v548 : Index := Scalar.indexCast c5_i32_226
  let c32_227 : Index := 32#32
  ![v547.toNat, 5, 32]
def k0_off365 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v557 : Index := Scalar.indexCast v94
  let c5_i32_230 : BitVec 32 := 5#32
  let v558 : Index := Scalar.indexCast c5_i32_230
  let c48_231 : Index := 48#32
  ![v557.toNat, 5, 48]
def k0_off366 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v567 : Index := Scalar.indexCast v94
  let c5_i32_234 : BitVec 32 := 5#32
  let v568 : Index := Scalar.indexCast c5_i32_234
  let c64_235 : Index := 64#32
  ![v567.toNat, 5, 64]
def k0_off367 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v577 : Index := Scalar.indexCast v94
  let c5_i32_238 : BitVec 32 := 5#32
  let v578 : Index := Scalar.indexCast c5_i32_238
  let c80_239 : Index := 80#32
  ![v577.toNat, 5, 80]
def k0_off368 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v587 : Index := Scalar.indexCast v94
  let c5_i32_242 : BitVec 32 := 5#32
  let v588 : Index := Scalar.indexCast c5_i32_242
  let c96_243 : Index := 96#32
  ![v587.toNat, 5, 96]
def k0_off369 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v597 : Index := Scalar.indexCast v94
  let c5_i32_246 : BitVec 32 := 5#32
  let v598 : Index := Scalar.indexCast c5_i32_246
  let c112_247 : Index := 112#32
  ![v597.toNat, 5, 112]
def k0_off370 (v605 : BitVec 32) (c0_i32_250 : BitVec 32) : Fin 1 → Nat :=
  let c128_i32_249 : BitVec 32 := 128#32
  let v606 : BitVec 32 := Scalar.muli v605 c128_i32_249
  let v607 : BitVec 32 := Scalar.addi v606 c0_i32_250
  let v608 : Index := Scalar.indexCast v607
  ![v608.toNat]

def k0_chk44 (v605 : BitVec 32) : Prop :=
  (∀ (r : Fin 8), ∀ a, (k0_off370 v605 (BitVec.ofNat 32 (16 * r.val))) a + S16.size a ≤ S40192.size a)
theorem k0_off370_inb : ∀ (v605 : BitVec 32) (k0_hw44 : k0_chk44 v605), ∀ (r : Fin 8), ∀ a, (k0_off370 v605 (BitVec.ofNat 32 (16 * r.val))) a + S16.size a ≤ S40192.size a := fun v605 k0_hw44 r => k0_hw44 r

def k0_off371 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v610 : Index := Scalar.indexCast v94
  let c6_i32 : BitVec 32 := 6#32
  let v611 : Index := Scalar.indexCast c6_i32
  let c0_251 : Index := 0#32
  ![v610.toNat, 6, 0]
def k0_off372 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v620 : Index := Scalar.indexCast v94
  let c6_i32_254 : BitVec 32 := 6#32
  let v621 : Index := Scalar.indexCast c6_i32_254
  let c16_255 : Index := 16#32
  ![v620.toNat, 6, 16]
def k0_off373 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v630 : Index := Scalar.indexCast v94
  let c6_i32_258 : BitVec 32 := 6#32
  let v631 : Index := Scalar.indexCast c6_i32_258
  let c32_259 : Index := 32#32
  ![v630.toNat, 6, 32]
def k0_off374 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v640 : Index := Scalar.indexCast v94
  let c6_i32_262 : BitVec 32 := 6#32
  let v641 : Index := Scalar.indexCast c6_i32_262
  let c48_263 : Index := 48#32
  ![v640.toNat, 6, 48]
def k0_off375 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v650 : Index := Scalar.indexCast v94
  let c6_i32_266 : BitVec 32 := 6#32
  let v651 : Index := Scalar.indexCast c6_i32_266
  let c64_267 : Index := 64#32
  ![v650.toNat, 6, 64]
def k0_off376 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v660 : Index := Scalar.indexCast v94
  let c6_i32_270 : BitVec 32 := 6#32
  let v661 : Index := Scalar.indexCast c6_i32_270
  let c80_271 : Index := 80#32
  ![v660.toNat, 6, 80]
def k0_off377 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v670 : Index := Scalar.indexCast v94
  let c6_i32_274 : BitVec 32 := 6#32
  let v671 : Index := Scalar.indexCast c6_i32_274
  let c96_275 : Index := 96#32
  ![v670.toNat, 6, 96]
def k0_off378 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v680 : Index := Scalar.indexCast v94
  let c6_i32_278 : BitVec 32 := 6#32
  let v681 : Index := Scalar.indexCast c6_i32_278
  let c112_279 : Index := 112#32
  ![v680.toNat, 6, 112]
def k0_off379 (v688 : BitVec 32) (c0_i32_282 : BitVec 32) : Fin 1 → Nat :=
  let c128_i32_281 : BitVec 32 := 128#32
  let v689 : BitVec 32 := Scalar.muli v688 c128_i32_281
  let v690 : BitVec 32 := Scalar.addi v689 c0_i32_282
  let v691 : Index := Scalar.indexCast v690
  ![v691.toNat]

def k0_chk45 (v688 : BitVec 32) : Prop :=
  (∀ (r : Fin 8), ∀ a, (k0_off379 v688 (BitVec.ofNat 32 (16 * r.val))) a + S16.size a ≤ S40192.size a)
theorem k0_off379_inb : ∀ (v688 : BitVec 32) (k0_hw45 : k0_chk45 v688), ∀ (r : Fin 8), ∀ a, (k0_off379 v688 (BitVec.ofNat 32 (16 * r.val))) a + S16.size a ≤ S40192.size a := fun v688 k0_hw45 r => k0_hw45 r

def k0_off380 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v693 : Index := Scalar.indexCast v94
  let c7_i32 : BitVec 32 := 7#32
  let v694 : Index := Scalar.indexCast c7_i32
  let c0_283 : Index := 0#32
  ![v693.toNat, 7, 0]
def k0_off381 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v703 : Index := Scalar.indexCast v94
  let c7_i32_286 : BitVec 32 := 7#32
  let v704 : Index := Scalar.indexCast c7_i32_286
  let c16_287 : Index := 16#32
  ![v703.toNat, 7, 16]
def k0_off382 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v713 : Index := Scalar.indexCast v94
  let c7_i32_290 : BitVec 32 := 7#32
  let v714 : Index := Scalar.indexCast c7_i32_290
  let c32_291 : Index := 32#32
  ![v713.toNat, 7, 32]
def k0_off383 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v723 : Index := Scalar.indexCast v94
  let c7_i32_294 : BitVec 32 := 7#32
  let v724 : Index := Scalar.indexCast c7_i32_294
  let c48_295 : Index := 48#32
  ![v723.toNat, 7, 48]
def k0_off384 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v733 : Index := Scalar.indexCast v94
  let c7_i32_298 : BitVec 32 := 7#32
  let v734 : Index := Scalar.indexCast c7_i32_298
  let c64_299 : Index := 64#32
  ![v733.toNat, 7, 64]
def k0_off385 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v743 : Index := Scalar.indexCast v94
  let c7_i32_302 : BitVec 32 := 7#32
  let v744 : Index := Scalar.indexCast c7_i32_302
  let c80_303 : Index := 80#32
  ![v743.toNat, 7, 80]
def k0_off386 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v753 : Index := Scalar.indexCast v94
  let c7_i32_306 : BitVec 32 := 7#32
  let v754 : Index := Scalar.indexCast c7_i32_306
  let c96_307 : Index := 96#32
  ![v753.toNat, 7, 96]
def k0_off387 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v763 : Index := Scalar.indexCast v94
  let c7_i32_310 : BitVec 32 := 7#32
  let v764 : Index := Scalar.indexCast c7_i32_310
  let c112_311 : Index := 112#32
  ![v763.toNat, 7, 112]
def k0_off388 (v771 : BitVec 32) (c0_i32_314 : BitVec 32) : Fin 1 → Nat :=
  let c128_i32_313 : BitVec 32 := 128#32
  let v772 : BitVec 32 := Scalar.muli v771 c128_i32_313
  let v773 : BitVec 32 := Scalar.addi v772 c0_i32_314
  let v774 : Index := Scalar.indexCast v773
  ![v774.toNat]

def k0_chk46 (v771 : BitVec 32) : Prop :=
  (∀ (r : Fin 8), ∀ a, (k0_off388 v771 (BitVec.ofNat 32 (16 * r.val))) a + S16.size a ≤ S40192.size a)
theorem k0_off388_inb : ∀ (v771 : BitVec 32) (k0_hw46 : k0_chk46 v771), ∀ (r : Fin 8), ∀ a, (k0_off388 v771 (BitVec.ofNat 32 (16 * r.val))) a + S16.size a ≤ S40192.size a := fun v771 k0_hw46 r => k0_hw46 r

def k0_off389 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v776 : Index := Scalar.indexCast v94
  let c8_i32 : BitVec 32 := 8#32
  let v777 : Index := Scalar.indexCast c8_i32
  let c0_315 : Index := 0#32
  ![v776.toNat, 8, 0]
def k0_off390 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v786 : Index := Scalar.indexCast v94
  let c8_i32_318 : BitVec 32 := 8#32
  let v787 : Index := Scalar.indexCast c8_i32_318
  let c16_319 : Index := 16#32
  ![v786.toNat, 8, 16]
def k0_off391 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v796 : Index := Scalar.indexCast v94
  let c8_i32_322 : BitVec 32 := 8#32
  let v797 : Index := Scalar.indexCast c8_i32_322
  let c32_323 : Index := 32#32
  ![v796.toNat, 8, 32]
def k0_off392 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v806 : Index := Scalar.indexCast v94
  let c8_i32_326 : BitVec 32 := 8#32
  let v807 : Index := Scalar.indexCast c8_i32_326
  let c48_327 : Index := 48#32
  ![v806.toNat, 8, 48]
def k0_off393 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v816 : Index := Scalar.indexCast v94
  let c8_i32_330 : BitVec 32 := 8#32
  let v817 : Index := Scalar.indexCast c8_i32_330
  let c64_331 : Index := 64#32
  ![v816.toNat, 8, 64]
def k0_off394 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v826 : Index := Scalar.indexCast v94
  let c8_i32_334 : BitVec 32 := 8#32
  let v827 : Index := Scalar.indexCast c8_i32_334
  let c80_335 : Index := 80#32
  ![v826.toNat, 8, 80]
def k0_off395 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v836 : Index := Scalar.indexCast v94
  let c8_i32_338 : BitVec 32 := 8#32
  let v837 : Index := Scalar.indexCast c8_i32_338
  let c96_339 : Index := 96#32
  ![v836.toNat, 8, 96]
def k0_off396 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v846 : Index := Scalar.indexCast v94
  let c8_i32_342 : BitVec 32 := 8#32
  let v847 : Index := Scalar.indexCast c8_i32_342
  let c112_343 : Index := 112#32
  ![v846.toNat, 8, 112]
def k0_off397 (v854 : BitVec 32) (c0_i32_346 : BitVec 32) : Fin 1 → Nat :=
  let c128_i32_345 : BitVec 32 := 128#32
  let v855 : BitVec 32 := Scalar.muli v854 c128_i32_345
  let v856 : BitVec 32 := Scalar.addi v855 c0_i32_346
  let v857 : Index := Scalar.indexCast v856
  ![v857.toNat]

def k0_chk47 (v854 : BitVec 32) : Prop :=
  (∀ (r : Fin 8), ∀ a, (k0_off397 v854 (BitVec.ofNat 32 (16 * r.val))) a + S16.size a ≤ S40192.size a)
theorem k0_off397_inb : ∀ (v854 : BitVec 32) (k0_hw47 : k0_chk47 v854), ∀ (r : Fin 8), ∀ a, (k0_off397 v854 (BitVec.ofNat 32 (16 * r.val))) a + S16.size a ≤ S40192.size a := fun v854 k0_hw47 r => k0_hw47 r

def k0_off398 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v859 : Index := Scalar.indexCast v94
  let c9_i32 : BitVec 32 := 9#32
  let v860 : Index := Scalar.indexCast c9_i32
  let c0_347 : Index := 0#32
  ![v859.toNat, 9, 0]
def k0_off399 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v869 : Index := Scalar.indexCast v94
  let c9_i32_350 : BitVec 32 := 9#32
  let v870 : Index := Scalar.indexCast c9_i32_350
  let c16_351 : Index := 16#32
  ![v869.toNat, 9, 16]
def k0_off400 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v879 : Index := Scalar.indexCast v94
  let c9_i32_354 : BitVec 32 := 9#32
  let v880 : Index := Scalar.indexCast c9_i32_354
  let c32_355 : Index := 32#32
  ![v879.toNat, 9, 32]
def k0_off401 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v889 : Index := Scalar.indexCast v94
  let c9_i32_358 : BitVec 32 := 9#32
  let v890 : Index := Scalar.indexCast c9_i32_358
  let c48_359 : Index := 48#32
  ![v889.toNat, 9, 48]
def k0_off402 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v899 : Index := Scalar.indexCast v94
  let c9_i32_362 : BitVec 32 := 9#32
  let v900 : Index := Scalar.indexCast c9_i32_362
  let c64_363 : Index := 64#32
  ![v899.toNat, 9, 64]
def k0_off403 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v909 : Index := Scalar.indexCast v94
  let c9_i32_366 : BitVec 32 := 9#32
  let v910 : Index := Scalar.indexCast c9_i32_366
  let c80_367 : Index := 80#32
  ![v909.toNat, 9, 80]
def k0_off404 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v919 : Index := Scalar.indexCast v94
  let c9_i32_370 : BitVec 32 := 9#32
  let v920 : Index := Scalar.indexCast c9_i32_370
  let c96_371 : Index := 96#32
  ![v919.toNat, 9, 96]
def k0_off405 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v929 : Index := Scalar.indexCast v94
  let c9_i32_374 : BitVec 32 := 9#32
  let v930 : Index := Scalar.indexCast c9_i32_374
  let c112_375 : Index := 112#32
  ![v929.toNat, 9, 112]
def k0_off406 (v937 : BitVec 32) (c0_i32_378 : BitVec 32) : Fin 1 → Nat :=
  let c128_i32_377 : BitVec 32 := 128#32
  let v938 : BitVec 32 := Scalar.muli v937 c128_i32_377
  let v939 : BitVec 32 := Scalar.addi v938 c0_i32_378
  let v940 : Index := Scalar.indexCast v939
  ![v940.toNat]

def k0_chk48 (v937 : BitVec 32) : Prop :=
  (∀ (r : Fin 8), ∀ a, (k0_off406 v937 (BitVec.ofNat 32 (16 * r.val))) a + S16.size a ≤ S40192.size a)
theorem k0_off406_inb : ∀ (v937 : BitVec 32) (k0_hw48 : k0_chk48 v937), ∀ (r : Fin 8), ∀ a, (k0_off406 v937 (BitVec.ofNat 32 (16 * r.val))) a + S16.size a ≤ S40192.size a := fun v937 k0_hw48 r => k0_hw48 r

def k0_off407 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v942 : Index := Scalar.indexCast v94
  let c10_i32 : BitVec 32 := 10#32
  let v943 : Index := Scalar.indexCast c10_i32
  let c0_379 : Index := 0#32
  ![v942.toNat, 10, 0]
def k0_off408 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v952 : Index := Scalar.indexCast v94
  let c10_i32_382 : BitVec 32 := 10#32
  let v953 : Index := Scalar.indexCast c10_i32_382
  let c16_383 : Index := 16#32
  ![v952.toNat, 10, 16]
def k0_off409 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v962 : Index := Scalar.indexCast v94
  let c10_i32_386 : BitVec 32 := 10#32
  let v963 : Index := Scalar.indexCast c10_i32_386
  let c32_387 : Index := 32#32
  ![v962.toNat, 10, 32]
def k0_off410 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v972 : Index := Scalar.indexCast v94
  let c10_i32_390 : BitVec 32 := 10#32
  let v973 : Index := Scalar.indexCast c10_i32_390
  let c48_391 : Index := 48#32
  ![v972.toNat, 10, 48]
def k0_off411 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v982 : Index := Scalar.indexCast v94
  let c10_i32_394 : BitVec 32 := 10#32
  let v983 : Index := Scalar.indexCast c10_i32_394
  let c64_395 : Index := 64#32
  ![v982.toNat, 10, 64]
def k0_off412 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v992 : Index := Scalar.indexCast v94
  let c10_i32_398 : BitVec 32 := 10#32
  let v993 : Index := Scalar.indexCast c10_i32_398
  let c80_399 : Index := 80#32
  ![v992.toNat, 10, 80]
def k0_off413 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1002 : Index := Scalar.indexCast v94
  let c10_i32_402 : BitVec 32 := 10#32
  let v1003 : Index := Scalar.indexCast c10_i32_402
  let c96_403 : Index := 96#32
  ![v1002.toNat, 10, 96]
def k0_off414 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1012 : Index := Scalar.indexCast v94
  let c10_i32_406 : BitVec 32 := 10#32
  let v1013 : Index := Scalar.indexCast c10_i32_406
  let c112_407 : Index := 112#32
  ![v1012.toNat, 10, 112]
def k0_off415 (v1020 : BitVec 32) (c0_i32_410 : BitVec 32) : Fin 1 → Nat :=
  let c128_i32_409 : BitVec 32 := 128#32
  let v1021 : BitVec 32 := Scalar.muli v1020 c128_i32_409
  let v1022 : BitVec 32 := Scalar.addi v1021 c0_i32_410
  let v1023 : Index := Scalar.indexCast v1022
  ![v1023.toNat]

def k0_chk49 (v1020 : BitVec 32) : Prop :=
  (∀ (r : Fin 8), ∀ a, (k0_off415 v1020 (BitVec.ofNat 32 (16 * r.val))) a + S16.size a ≤ S40192.size a)
theorem k0_off415_inb : ∀ (v1020 : BitVec 32) (k0_hw49 : k0_chk49 v1020), ∀ (r : Fin 8), ∀ a, (k0_off415 v1020 (BitVec.ofNat 32 (16 * r.val))) a + S16.size a ≤ S40192.size a := fun v1020 k0_hw49 r => k0_hw49 r

def k0_off416 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1025 : Index := Scalar.indexCast v94
  let c11_i32 : BitVec 32 := 11#32
  let v1026 : Index := Scalar.indexCast c11_i32
  let c0_411 : Index := 0#32
  ![v1025.toNat, 11, 0]
def k0_off417 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1035 : Index := Scalar.indexCast v94
  let c11_i32_414 : BitVec 32 := 11#32
  let v1036 : Index := Scalar.indexCast c11_i32_414
  let c16_415 : Index := 16#32
  ![v1035.toNat, 11, 16]
def k0_off418 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1045 : Index := Scalar.indexCast v94
  let c11_i32_418 : BitVec 32 := 11#32
  let v1046 : Index := Scalar.indexCast c11_i32_418
  let c32_419 : Index := 32#32
  ![v1045.toNat, 11, 32]
def k0_off419 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1055 : Index := Scalar.indexCast v94
  let c11_i32_422 : BitVec 32 := 11#32
  let v1056 : Index := Scalar.indexCast c11_i32_422
  let c48_423 : Index := 48#32
  ![v1055.toNat, 11, 48]
def k0_off420 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1065 : Index := Scalar.indexCast v94
  let c11_i32_426 : BitVec 32 := 11#32
  let v1066 : Index := Scalar.indexCast c11_i32_426
  let c64_427 : Index := 64#32
  ![v1065.toNat, 11, 64]
def k0_off421 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1075 : Index := Scalar.indexCast v94
  let c11_i32_430 : BitVec 32 := 11#32
  let v1076 : Index := Scalar.indexCast c11_i32_430
  let c80_431 : Index := 80#32
  ![v1075.toNat, 11, 80]
def k0_off422 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1085 : Index := Scalar.indexCast v94
  let c11_i32_434 : BitVec 32 := 11#32
  let v1086 : Index := Scalar.indexCast c11_i32_434
  let c96_435 : Index := 96#32
  ![v1085.toNat, 11, 96]
def k0_off423 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1095 : Index := Scalar.indexCast v94
  let c11_i32_438 : BitVec 32 := 11#32
  let v1096 : Index := Scalar.indexCast c11_i32_438
  let c112_439 : Index := 112#32
  ![v1095.toNat, 11, 112]
def k0_off424 (v1103 : BitVec 32) (c0_i32_442 : BitVec 32) : Fin 1 → Nat :=
  let c128_i32_441 : BitVec 32 := 128#32
  let v1104 : BitVec 32 := Scalar.muli v1103 c128_i32_441
  let v1105 : BitVec 32 := Scalar.addi v1104 c0_i32_442
  let v1106 : Index := Scalar.indexCast v1105
  ![v1106.toNat]

def k0_chk50 (v1103 : BitVec 32) : Prop :=
  (∀ (r : Fin 8), ∀ a, (k0_off424 v1103 (BitVec.ofNat 32 (16 * r.val))) a + S16.size a ≤ S40192.size a)
theorem k0_off424_inb : ∀ (v1103 : BitVec 32) (k0_hw50 : k0_chk50 v1103), ∀ (r : Fin 8), ∀ a, (k0_off424 v1103 (BitVec.ofNat 32 (16 * r.val))) a + S16.size a ≤ S40192.size a := fun v1103 k0_hw50 r => k0_hw50 r

def k0_off425 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1108 : Index := Scalar.indexCast v94
  let c12_i32 : BitVec 32 := 12#32
  let v1109 : Index := Scalar.indexCast c12_i32
  let c0_443 : Index := 0#32
  ![v1108.toNat, 12, 0]
def k0_off426 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1118 : Index := Scalar.indexCast v94
  let c12_i32_446 : BitVec 32 := 12#32
  let v1119 : Index := Scalar.indexCast c12_i32_446
  let c16_447 : Index := 16#32
  ![v1118.toNat, 12, 16]
def k0_off427 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1128 : Index := Scalar.indexCast v94
  let c12_i32_450 : BitVec 32 := 12#32
  let v1129 : Index := Scalar.indexCast c12_i32_450
  let c32_451 : Index := 32#32
  ![v1128.toNat, 12, 32]
def k0_off428 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1138 : Index := Scalar.indexCast v94
  let c12_i32_454 : BitVec 32 := 12#32
  let v1139 : Index := Scalar.indexCast c12_i32_454
  let c48_455 : Index := 48#32
  ![v1138.toNat, 12, 48]
def k0_off429 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1148 : Index := Scalar.indexCast v94
  let c12_i32_458 : BitVec 32 := 12#32
  let v1149 : Index := Scalar.indexCast c12_i32_458
  let c64_459 : Index := 64#32
  ![v1148.toNat, 12, 64]
def k0_off430 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1158 : Index := Scalar.indexCast v94
  let c12_i32_462 : BitVec 32 := 12#32
  let v1159 : Index := Scalar.indexCast c12_i32_462
  let c80_463 : Index := 80#32
  ![v1158.toNat, 12, 80]
def k0_off431 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1168 : Index := Scalar.indexCast v94
  let c12_i32_466 : BitVec 32 := 12#32
  let v1169 : Index := Scalar.indexCast c12_i32_466
  let c96_467 : Index := 96#32
  ![v1168.toNat, 12, 96]
def k0_off432 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1178 : Index := Scalar.indexCast v94
  let c12_i32_470 : BitVec 32 := 12#32
  let v1179 : Index := Scalar.indexCast c12_i32_470
  let c112_471 : Index := 112#32
  ![v1178.toNat, 12, 112]
def k0_off433 (v1186 : BitVec 32) (c0_i32_474 : BitVec 32) : Fin 1 → Nat :=
  let c128_i32_473 : BitVec 32 := 128#32
  let v1187 : BitVec 32 := Scalar.muli v1186 c128_i32_473
  let v1188 : BitVec 32 := Scalar.addi v1187 c0_i32_474
  let v1189 : Index := Scalar.indexCast v1188
  ![v1189.toNat]

def k0_chk51 (v1186 : BitVec 32) : Prop :=
  (∀ (r : Fin 8), ∀ a, (k0_off433 v1186 (BitVec.ofNat 32 (16 * r.val))) a + S16.size a ≤ S40192.size a)
theorem k0_off433_inb : ∀ (v1186 : BitVec 32) (k0_hw51 : k0_chk51 v1186), ∀ (r : Fin 8), ∀ a, (k0_off433 v1186 (BitVec.ofNat 32 (16 * r.val))) a + S16.size a ≤ S40192.size a := fun v1186 k0_hw51 r => k0_hw51 r

def k0_off434 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1191 : Index := Scalar.indexCast v94
  let c13_i32 : BitVec 32 := 13#32
  let v1192 : Index := Scalar.indexCast c13_i32
  let c0_475 : Index := 0#32
  ![v1191.toNat, 13, 0]
def k0_off435 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1201 : Index := Scalar.indexCast v94
  let c13_i32_478 : BitVec 32 := 13#32
  let v1202 : Index := Scalar.indexCast c13_i32_478
  let c16_479 : Index := 16#32
  ![v1201.toNat, 13, 16]
def k0_off436 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1211 : Index := Scalar.indexCast v94
  let c13_i32_482 : BitVec 32 := 13#32
  let v1212 : Index := Scalar.indexCast c13_i32_482
  let c32_483 : Index := 32#32
  ![v1211.toNat, 13, 32]
def k0_off437 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1221 : Index := Scalar.indexCast v94
  let c13_i32_486 : BitVec 32 := 13#32
  let v1222 : Index := Scalar.indexCast c13_i32_486
  let c48_487 : Index := 48#32
  ![v1221.toNat, 13, 48]
def k0_off438 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1231 : Index := Scalar.indexCast v94
  let c13_i32_490 : BitVec 32 := 13#32
  let v1232 : Index := Scalar.indexCast c13_i32_490
  let c64_491 : Index := 64#32
  ![v1231.toNat, 13, 64]
def k0_off439 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1241 : Index := Scalar.indexCast v94
  let c13_i32_494 : BitVec 32 := 13#32
  let v1242 : Index := Scalar.indexCast c13_i32_494
  let c80_495 : Index := 80#32
  ![v1241.toNat, 13, 80]
def k0_off440 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1251 : Index := Scalar.indexCast v94
  let c13_i32_498 : BitVec 32 := 13#32
  let v1252 : Index := Scalar.indexCast c13_i32_498
  let c96_499 : Index := 96#32
  ![v1251.toNat, 13, 96]
def k0_off441 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1261 : Index := Scalar.indexCast v94
  let c13_i32_502 : BitVec 32 := 13#32
  let v1262 : Index := Scalar.indexCast c13_i32_502
  let c112_503 : Index := 112#32
  ![v1261.toNat, 13, 112]
def k0_off442 (v1269 : BitVec 32) (c0_i32_506 : BitVec 32) : Fin 1 → Nat :=
  let c128_i32_505 : BitVec 32 := 128#32
  let v1270 : BitVec 32 := Scalar.muli v1269 c128_i32_505
  let v1271 : BitVec 32 := Scalar.addi v1270 c0_i32_506
  let v1272 : Index := Scalar.indexCast v1271
  ![v1272.toNat]

def k0_chk52 (v1269 : BitVec 32) : Prop :=
  (∀ (r : Fin 8), ∀ a, (k0_off442 v1269 (BitVec.ofNat 32 (16 * r.val))) a + S16.size a ≤ S40192.size a)
theorem k0_off442_inb : ∀ (v1269 : BitVec 32) (k0_hw52 : k0_chk52 v1269), ∀ (r : Fin 8), ∀ a, (k0_off442 v1269 (BitVec.ofNat 32 (16 * r.val))) a + S16.size a ≤ S40192.size a := fun v1269 k0_hw52 r => k0_hw52 r

def k0_off443 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1274 : Index := Scalar.indexCast v94
  let c14_i32 : BitVec 32 := 14#32
  let v1275 : Index := Scalar.indexCast c14_i32
  let c0_507 : Index := 0#32
  ![v1274.toNat, 14, 0]
def k0_off444 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1284 : Index := Scalar.indexCast v94
  let c14_i32_510 : BitVec 32 := 14#32
  let v1285 : Index := Scalar.indexCast c14_i32_510
  let c16_511 : Index := 16#32
  ![v1284.toNat, 14, 16]
def k0_off445 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1294 : Index := Scalar.indexCast v94
  let c14_i32_514 : BitVec 32 := 14#32
  let v1295 : Index := Scalar.indexCast c14_i32_514
  let c32_515 : Index := 32#32
  ![v1294.toNat, 14, 32]
def k0_off446 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1304 : Index := Scalar.indexCast v94
  let c14_i32_518 : BitVec 32 := 14#32
  let v1305 : Index := Scalar.indexCast c14_i32_518
  let c48_519 : Index := 48#32
  ![v1304.toNat, 14, 48]
def k0_off447 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1314 : Index := Scalar.indexCast v94
  let c14_i32_522 : BitVec 32 := 14#32
  let v1315 : Index := Scalar.indexCast c14_i32_522
  let c64_523 : Index := 64#32
  ![v1314.toNat, 14, 64]
def k0_off448 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1324 : Index := Scalar.indexCast v94
  let c14_i32_526 : BitVec 32 := 14#32
  let v1325 : Index := Scalar.indexCast c14_i32_526
  let c80_527 : Index := 80#32
  ![v1324.toNat, 14, 80]
def k0_off449 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1334 : Index := Scalar.indexCast v94
  let c14_i32_530 : BitVec 32 := 14#32
  let v1335 : Index := Scalar.indexCast c14_i32_530
  let c96_531 : Index := 96#32
  ![v1334.toNat, 14, 96]
def k0_off450 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1344 : Index := Scalar.indexCast v94
  let c14_i32_534 : BitVec 32 := 14#32
  let v1345 : Index := Scalar.indexCast c14_i32_534
  let c112_535 : Index := 112#32
  ![v1344.toNat, 14, 112]
def k0_off451 (v1352 : BitVec 32) (c0_i32_538 : BitVec 32) : Fin 1 → Nat :=
  let c128_i32_537 : BitVec 32 := 128#32
  let v1353 : BitVec 32 := Scalar.muli v1352 c128_i32_537
  let v1354 : BitVec 32 := Scalar.addi v1353 c0_i32_538
  let v1355 : Index := Scalar.indexCast v1354
  ![v1355.toNat]

def k0_chk53 (v1352 : BitVec 32) : Prop :=
  (∀ (r : Fin 8), ∀ a, (k0_off451 v1352 (BitVec.ofNat 32 (16 * r.val))) a + S16.size a ≤ S40192.size a)
theorem k0_off451_inb : ∀ (v1352 : BitVec 32) (k0_hw53 : k0_chk53 v1352), ∀ (r : Fin 8), ∀ a, (k0_off451 v1352 (BitVec.ofNat 32 (16 * r.val))) a + S16.size a ≤ S40192.size a := fun v1352 k0_hw53 r => k0_hw53 r

def k0_off452 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1357 : Index := Scalar.indexCast v94
  let c15_i32 : BitVec 32 := 15#32
  let v1358 : Index := Scalar.indexCast c15_i32
  let c0_539 : Index := 0#32
  ![v1357.toNat, 15, 0]
def k0_off453 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1367 : Index := Scalar.indexCast v94
  let c15_i32_542 : BitVec 32 := 15#32
  let v1368 : Index := Scalar.indexCast c15_i32_542
  let c16_543 : Index := 16#32
  ![v1367.toNat, 15, 16]
def k0_off454 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1377 : Index := Scalar.indexCast v94
  let c15_i32_546 : BitVec 32 := 15#32
  let v1378 : Index := Scalar.indexCast c15_i32_546
  let c32_547 : Index := 32#32
  ![v1377.toNat, 15, 32]
def k0_off455 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1387 : Index := Scalar.indexCast v94
  let c15_i32_550 : BitVec 32 := 15#32
  let v1388 : Index := Scalar.indexCast c15_i32_550
  let c48_551 : Index := 48#32
  ![v1387.toNat, 15, 48]
def k0_off456 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1397 : Index := Scalar.indexCast v94
  let c15_i32_554 : BitVec 32 := 15#32
  let v1398 : Index := Scalar.indexCast c15_i32_554
  let c64_555 : Index := 64#32
  ![v1397.toNat, 15, 64]
def k0_off457 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1407 : Index := Scalar.indexCast v94
  let c15_i32_558 : BitVec 32 := 15#32
  let v1408 : Index := Scalar.indexCast c15_i32_558
  let c80_559 : Index := 80#32
  ![v1407.toNat, 15, 80]
def k0_off458 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1417 : Index := Scalar.indexCast v94
  let c15_i32_562 : BitVec 32 := 15#32
  let v1418 : Index := Scalar.indexCast c15_i32_562
  let c96_563 : Index := 96#32
  ![v1417.toNat, 15, 96]
def k0_off459 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1427 : Index := Scalar.indexCast v94
  let c15_i32_566 : BitVec 32 := 15#32
  let v1428 : Index := Scalar.indexCast c15_i32_566
  let c112_567 : Index := 112#32
  ![v1427.toNat, 15, 112]
def k0_off460 (v41 : BitVec 32) (k0_t5 : Fin (k0_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c32_i32_569 : BitVec 32 := 32#32
  let v1434 : BitVec 32 := Scalar.muli arg16 c32_i32_569
  let c16_i32_570 : BitVec 32 := 16#32
  let v1435 : BitVec 32 := Scalar.addi v1434 c16_i32_570
  let v1436 : Index := Scalar.indexCast v1435
  ![v1436.toNat]
def k0_off461 (v1439 : BitVec 32) (c0_i32_572 : BitVec 32) : Fin 1 → Nat :=
  let c128_i32_571 : BitVec 32 := 128#32
  let v1440 : BitVec 32 := Scalar.muli v1439 c128_i32_571
  let v1441 : BitVec 32 := Scalar.addi v1440 c0_i32_572
  let v1442 : Index := Scalar.indexCast v1441
  ![v1442.toNat]

def k0_chk54 (v1439 : BitVec 32) : Prop :=
  (∀ (r : Fin 8), ∀ a, (k0_off461 v1439 (BitVec.ofNat 32 (16 * r.val))) a + S16.size a ≤ S40192.size a)
theorem k0_off461_inb : ∀ (v1439 : BitVec 32) (k0_hw54 : k0_chk54 v1439), ∀ (r : Fin 8), ∀ a, (k0_off461 v1439 (BitVec.ofNat 32 (16 * r.val))) a + S16.size a ≤ S40192.size a := fun v1439 k0_hw54 r => k0_hw54 r

def k0_off462 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1444 : Index := Scalar.indexCast v94
  let c16_i32_573 : BitVec 32 := 16#32
  let v1445 : Index := Scalar.indexCast c16_i32_573
  let c0_574 : Index := 0#32
  ![v1444.toNat, 16, 0]
def k0_off463 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1454 : Index := Scalar.indexCast v94
  let c16_i32_577 : BitVec 32 := 16#32
  let v1455 : Index := Scalar.indexCast c16_i32_577
  let c16_578 : Index := 16#32
  ![v1454.toNat, 16, 16]
def k0_off464 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1464 : Index := Scalar.indexCast v94
  let c16_i32_581 : BitVec 32 := 16#32
  let v1465 : Index := Scalar.indexCast c16_i32_581
  let c32_582 : Index := 32#32
  ![v1464.toNat, 16, 32]
def k0_off465 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1474 : Index := Scalar.indexCast v94
  let c16_i32_585 : BitVec 32 := 16#32
  let v1475 : Index := Scalar.indexCast c16_i32_585
  let c48_586 : Index := 48#32
  ![v1474.toNat, 16, 48]
def k0_off466 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1484 : Index := Scalar.indexCast v94
  let c16_i32_589 : BitVec 32 := 16#32
  let v1485 : Index := Scalar.indexCast c16_i32_589
  let c64_590 : Index := 64#32
  ![v1484.toNat, 16, 64]
def k0_off467 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1494 : Index := Scalar.indexCast v94
  let c16_i32_593 : BitVec 32 := 16#32
  let v1495 : Index := Scalar.indexCast c16_i32_593
  let c80_594 : Index := 80#32
  ![v1494.toNat, 16, 80]
def k0_off468 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1504 : Index := Scalar.indexCast v94
  let c16_i32_597 : BitVec 32 := 16#32
  let v1505 : Index := Scalar.indexCast c16_i32_597
  let c96_598 : Index := 96#32
  ![v1504.toNat, 16, 96]
def k0_off469 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1514 : Index := Scalar.indexCast v94
  let c16_i32_601 : BitVec 32 := 16#32
  let v1515 : Index := Scalar.indexCast c16_i32_601
  let c112_602 : Index := 112#32
  ![v1514.toNat, 16, 112]
def k0_off470 (v1522 : BitVec 32) (c0_i32_605 : BitVec 32) : Fin 1 → Nat :=
  let c128_i32_604 : BitVec 32 := 128#32
  let v1523 : BitVec 32 := Scalar.muli v1522 c128_i32_604
  let v1524 : BitVec 32 := Scalar.addi v1523 c0_i32_605
  let v1525 : Index := Scalar.indexCast v1524
  ![v1525.toNat]

def k0_chk55 (v1522 : BitVec 32) : Prop :=
  (∀ (r : Fin 8), ∀ a, (k0_off470 v1522 (BitVec.ofNat 32 (16 * r.val))) a + S16.size a ≤ S40192.size a)
theorem k0_off470_inb : ∀ (v1522 : BitVec 32) (k0_hw55 : k0_chk55 v1522), ∀ (r : Fin 8), ∀ a, (k0_off470 v1522 (BitVec.ofNat 32 (16 * r.val))) a + S16.size a ≤ S40192.size a := fun v1522 k0_hw55 r => k0_hw55 r

def k0_off471 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1527 : Index := Scalar.indexCast v94
  let c17_i32 : BitVec 32 := 17#32
  let v1528 : Index := Scalar.indexCast c17_i32
  let c0_606 : Index := 0#32
  ![v1527.toNat, 17, 0]
def k0_off472 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1537 : Index := Scalar.indexCast v94
  let c17_i32_609 : BitVec 32 := 17#32
  let v1538 : Index := Scalar.indexCast c17_i32_609
  let c16_610 : Index := 16#32
  ![v1537.toNat, 17, 16]
def k0_off473 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1547 : Index := Scalar.indexCast v94
  let c17_i32_613 : BitVec 32 := 17#32
  let v1548 : Index := Scalar.indexCast c17_i32_613
  let c32_614 : Index := 32#32
  ![v1547.toNat, 17, 32]
def k0_off474 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1557 : Index := Scalar.indexCast v94
  let c17_i32_617 : BitVec 32 := 17#32
  let v1558 : Index := Scalar.indexCast c17_i32_617
  let c48_618 : Index := 48#32
  ![v1557.toNat, 17, 48]
def k0_off475 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1567 : Index := Scalar.indexCast v94
  let c17_i32_621 : BitVec 32 := 17#32
  let v1568 : Index := Scalar.indexCast c17_i32_621
  let c64_622 : Index := 64#32
  ![v1567.toNat, 17, 64]
def k0_off476 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1577 : Index := Scalar.indexCast v94
  let c17_i32_625 : BitVec 32 := 17#32
  let v1578 : Index := Scalar.indexCast c17_i32_625
  let c80_626 : Index := 80#32
  ![v1577.toNat, 17, 80]
def k0_off477 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1587 : Index := Scalar.indexCast v94
  let c17_i32_629 : BitVec 32 := 17#32
  let v1588 : Index := Scalar.indexCast c17_i32_629
  let c96_630 : Index := 96#32
  ![v1587.toNat, 17, 96]
def k0_off478 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1597 : Index := Scalar.indexCast v94
  let c17_i32_633 : BitVec 32 := 17#32
  let v1598 : Index := Scalar.indexCast c17_i32_633
  let c112_634 : Index := 112#32
  ![v1597.toNat, 17, 112]
def k0_off479 (v1605 : BitVec 32) (c0_i32_637 : BitVec 32) : Fin 1 → Nat :=
  let c128_i32_636 : BitVec 32 := 128#32
  let v1606 : BitVec 32 := Scalar.muli v1605 c128_i32_636
  let v1607 : BitVec 32 := Scalar.addi v1606 c0_i32_637
  let v1608 : Index := Scalar.indexCast v1607
  ![v1608.toNat]

def k0_chk56 (v1605 : BitVec 32) : Prop :=
  (∀ (r : Fin 8), ∀ a, (k0_off479 v1605 (BitVec.ofNat 32 (16 * r.val))) a + S16.size a ≤ S40192.size a)
theorem k0_off479_inb : ∀ (v1605 : BitVec 32) (k0_hw56 : k0_chk56 v1605), ∀ (r : Fin 8), ∀ a, (k0_off479 v1605 (BitVec.ofNat 32 (16 * r.val))) a + S16.size a ≤ S40192.size a := fun v1605 k0_hw56 r => k0_hw56 r

def k0_off480 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1610 : Index := Scalar.indexCast v94
  let c18_i32 : BitVec 32 := 18#32
  let v1611 : Index := Scalar.indexCast c18_i32
  let c0_638 : Index := 0#32
  ![v1610.toNat, 18, 0]
def k0_off481 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1620 : Index := Scalar.indexCast v94
  let c18_i32_641 : BitVec 32 := 18#32
  let v1621 : Index := Scalar.indexCast c18_i32_641
  let c16_642 : Index := 16#32
  ![v1620.toNat, 18, 16]
def k0_off482 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1630 : Index := Scalar.indexCast v94
  let c18_i32_645 : BitVec 32 := 18#32
  let v1631 : Index := Scalar.indexCast c18_i32_645
  let c32_646 : Index := 32#32
  ![v1630.toNat, 18, 32]
def k0_off483 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1640 : Index := Scalar.indexCast v94
  let c18_i32_649 : BitVec 32 := 18#32
  let v1641 : Index := Scalar.indexCast c18_i32_649
  let c48_650 : Index := 48#32
  ![v1640.toNat, 18, 48]
def k0_off484 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1650 : Index := Scalar.indexCast v94
  let c18_i32_653 : BitVec 32 := 18#32
  let v1651 : Index := Scalar.indexCast c18_i32_653
  let c64_654 : Index := 64#32
  ![v1650.toNat, 18, 64]
def k0_off485 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1660 : Index := Scalar.indexCast v94
  let c18_i32_657 : BitVec 32 := 18#32
  let v1661 : Index := Scalar.indexCast c18_i32_657
  let c80_658 : Index := 80#32
  ![v1660.toNat, 18, 80]
def k0_off486 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1670 : Index := Scalar.indexCast v94
  let c18_i32_661 : BitVec 32 := 18#32
  let v1671 : Index := Scalar.indexCast c18_i32_661
  let c96_662 : Index := 96#32
  ![v1670.toNat, 18, 96]
def k0_off487 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1680 : Index := Scalar.indexCast v94
  let c18_i32_665 : BitVec 32 := 18#32
  let v1681 : Index := Scalar.indexCast c18_i32_665
  let c112_666 : Index := 112#32
  ![v1680.toNat, 18, 112]
def k0_off488 (v1688 : BitVec 32) (c0_i32_669 : BitVec 32) : Fin 1 → Nat :=
  let c128_i32_668 : BitVec 32 := 128#32
  let v1689 : BitVec 32 := Scalar.muli v1688 c128_i32_668
  let v1690 : BitVec 32 := Scalar.addi v1689 c0_i32_669
  let v1691 : Index := Scalar.indexCast v1690
  ![v1691.toNat]

def k0_chk57 (v1688 : BitVec 32) : Prop :=
  (∀ (r : Fin 8), ∀ a, (k0_off488 v1688 (BitVec.ofNat 32 (16 * r.val))) a + S16.size a ≤ S40192.size a)
theorem k0_off488_inb : ∀ (v1688 : BitVec 32) (k0_hw57 : k0_chk57 v1688), ∀ (r : Fin 8), ∀ a, (k0_off488 v1688 (BitVec.ofNat 32 (16 * r.val))) a + S16.size a ≤ S40192.size a := fun v1688 k0_hw57 r => k0_hw57 r

def k0_off489 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1693 : Index := Scalar.indexCast v94
  let c19_i32 : BitVec 32 := 19#32
  let v1694 : Index := Scalar.indexCast c19_i32
  let c0_670 : Index := 0#32
  ![v1693.toNat, 19, 0]
def k0_off490 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1703 : Index := Scalar.indexCast v94
  let c19_i32_673 : BitVec 32 := 19#32
  let v1704 : Index := Scalar.indexCast c19_i32_673
  let c16_674 : Index := 16#32
  ![v1703.toNat, 19, 16]
def k0_off491 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1713 : Index := Scalar.indexCast v94
  let c19_i32_677 : BitVec 32 := 19#32
  let v1714 : Index := Scalar.indexCast c19_i32_677
  let c32_678 : Index := 32#32
  ![v1713.toNat, 19, 32]
def k0_off492 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1723 : Index := Scalar.indexCast v94
  let c19_i32_681 : BitVec 32 := 19#32
  let v1724 : Index := Scalar.indexCast c19_i32_681
  let c48_682 : Index := 48#32
  ![v1723.toNat, 19, 48]
def k0_off493 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1733 : Index := Scalar.indexCast v94
  let c19_i32_685 : BitVec 32 := 19#32
  let v1734 : Index := Scalar.indexCast c19_i32_685
  let c64_686 : Index := 64#32
  ![v1733.toNat, 19, 64]
def k0_off494 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1743 : Index := Scalar.indexCast v94
  let c19_i32_689 : BitVec 32 := 19#32
  let v1744 : Index := Scalar.indexCast c19_i32_689
  let c80_690 : Index := 80#32
  ![v1743.toNat, 19, 80]
def k0_off495 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1753 : Index := Scalar.indexCast v94
  let c19_i32_693 : BitVec 32 := 19#32
  let v1754 : Index := Scalar.indexCast c19_i32_693
  let c96_694 : Index := 96#32
  ![v1753.toNat, 19, 96]
def k0_off496 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1763 : Index := Scalar.indexCast v94
  let c19_i32_697 : BitVec 32 := 19#32
  let v1764 : Index := Scalar.indexCast c19_i32_697
  let c112_698 : Index := 112#32
  ![v1763.toNat, 19, 112]
def k0_off497 (v1771 : BitVec 32) (c0_i32_701 : BitVec 32) : Fin 1 → Nat :=
  let c128_i32_700 : BitVec 32 := 128#32
  let v1772 : BitVec 32 := Scalar.muli v1771 c128_i32_700
  let v1773 : BitVec 32 := Scalar.addi v1772 c0_i32_701
  let v1774 : Index := Scalar.indexCast v1773
  ![v1774.toNat]

def k0_chk58 (v1771 : BitVec 32) : Prop :=
  (∀ (r : Fin 8), ∀ a, (k0_off497 v1771 (BitVec.ofNat 32 (16 * r.val))) a + S16.size a ≤ S40192.size a)
theorem k0_off497_inb : ∀ (v1771 : BitVec 32) (k0_hw58 : k0_chk58 v1771), ∀ (r : Fin 8), ∀ a, (k0_off497 v1771 (BitVec.ofNat 32 (16 * r.val))) a + S16.size a ≤ S40192.size a := fun v1771 k0_hw58 r => k0_hw58 r

def k0_off498 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1776 : Index := Scalar.indexCast v94
  let c20_i32 : BitVec 32 := 20#32
  let v1777 : Index := Scalar.indexCast c20_i32
  let c0_702 : Index := 0#32
  ![v1776.toNat, 20, 0]
def k0_off499 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1786 : Index := Scalar.indexCast v94
  let c20_i32_705 : BitVec 32 := 20#32
  let v1787 : Index := Scalar.indexCast c20_i32_705
  let c16_706 : Index := 16#32
  ![v1786.toNat, 20, 16]
def k0_off500 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1796 : Index := Scalar.indexCast v94
  let c20_i32_709 : BitVec 32 := 20#32
  let v1797 : Index := Scalar.indexCast c20_i32_709
  let c32_710 : Index := 32#32
  ![v1796.toNat, 20, 32]
def k0_off501 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1806 : Index := Scalar.indexCast v94
  let c20_i32_713 : BitVec 32 := 20#32
  let v1807 : Index := Scalar.indexCast c20_i32_713
  let c48_714 : Index := 48#32
  ![v1806.toNat, 20, 48]
def k0_off502 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1816 : Index := Scalar.indexCast v94
  let c20_i32_717 : BitVec 32 := 20#32
  let v1817 : Index := Scalar.indexCast c20_i32_717
  let c64_718 : Index := 64#32
  ![v1816.toNat, 20, 64]
def k0_off503 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1826 : Index := Scalar.indexCast v94
  let c20_i32_721 : BitVec 32 := 20#32
  let v1827 : Index := Scalar.indexCast c20_i32_721
  let c80_722 : Index := 80#32
  ![v1826.toNat, 20, 80]
def k0_off504 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1836 : Index := Scalar.indexCast v94
  let c20_i32_725 : BitVec 32 := 20#32
  let v1837 : Index := Scalar.indexCast c20_i32_725
  let c96_726 : Index := 96#32
  ![v1836.toNat, 20, 96]
def k0_off505 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1846 : Index := Scalar.indexCast v94
  let c20_i32_729 : BitVec 32 := 20#32
  let v1847 : Index := Scalar.indexCast c20_i32_729
  let c112_730 : Index := 112#32
  ![v1846.toNat, 20, 112]
def k0_off506 (v1854 : BitVec 32) (c0_i32_733 : BitVec 32) : Fin 1 → Nat :=
  let c128_i32_732 : BitVec 32 := 128#32
  let v1855 : BitVec 32 := Scalar.muli v1854 c128_i32_732
  let v1856 : BitVec 32 := Scalar.addi v1855 c0_i32_733
  let v1857 : Index := Scalar.indexCast v1856
  ![v1857.toNat]

def k0_chk59 (v1854 : BitVec 32) : Prop :=
  (∀ (r : Fin 8), ∀ a, (k0_off506 v1854 (BitVec.ofNat 32 (16 * r.val))) a + S16.size a ≤ S40192.size a)
theorem k0_off506_inb : ∀ (v1854 : BitVec 32) (k0_hw59 : k0_chk59 v1854), ∀ (r : Fin 8), ∀ a, (k0_off506 v1854 (BitVec.ofNat 32 (16 * r.val))) a + S16.size a ≤ S40192.size a := fun v1854 k0_hw59 r => k0_hw59 r

def k0_off507 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1859 : Index := Scalar.indexCast v94
  let c21_i32 : BitVec 32 := 21#32
  let v1860 : Index := Scalar.indexCast c21_i32
  let c0_734 : Index := 0#32
  ![v1859.toNat, 21, 0]
def k0_off508 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1869 : Index := Scalar.indexCast v94
  let c21_i32_737 : BitVec 32 := 21#32
  let v1870 : Index := Scalar.indexCast c21_i32_737
  let c16_738 : Index := 16#32
  ![v1869.toNat, 21, 16]
def k0_off509 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1879 : Index := Scalar.indexCast v94
  let c21_i32_741 : BitVec 32 := 21#32
  let v1880 : Index := Scalar.indexCast c21_i32_741
  let c32_742 : Index := 32#32
  ![v1879.toNat, 21, 32]
def k0_off510 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1889 : Index := Scalar.indexCast v94
  let c21_i32_745 : BitVec 32 := 21#32
  let v1890 : Index := Scalar.indexCast c21_i32_745
  let c48_746 : Index := 48#32
  ![v1889.toNat, 21, 48]
def k0_off511 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1899 : Index := Scalar.indexCast v94
  let c21_i32_749 : BitVec 32 := 21#32
  let v1900 : Index := Scalar.indexCast c21_i32_749
  let c64_750 : Index := 64#32
  ![v1899.toNat, 21, 64]
def k0_off512 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1909 : Index := Scalar.indexCast v94
  let c21_i32_753 : BitVec 32 := 21#32
  let v1910 : Index := Scalar.indexCast c21_i32_753
  let c80_754 : Index := 80#32
  ![v1909.toNat, 21, 80]
def k0_off513 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1919 : Index := Scalar.indexCast v94
  let c21_i32_757 : BitVec 32 := 21#32
  let v1920 : Index := Scalar.indexCast c21_i32_757
  let c96_758 : Index := 96#32
  ![v1919.toNat, 21, 96]
def k0_off514 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1929 : Index := Scalar.indexCast v94
  let c21_i32_761 : BitVec 32 := 21#32
  let v1930 : Index := Scalar.indexCast c21_i32_761
  let c112_762 : Index := 112#32
  ![v1929.toNat, 21, 112]
def k0_off515 (v1937 : BitVec 32) (c0_i32_765 : BitVec 32) : Fin 1 → Nat :=
  let c128_i32_764 : BitVec 32 := 128#32
  let v1938 : BitVec 32 := Scalar.muli v1937 c128_i32_764
  let v1939 : BitVec 32 := Scalar.addi v1938 c0_i32_765
  let v1940 : Index := Scalar.indexCast v1939
  ![v1940.toNat]

def k0_chk60 (v1937 : BitVec 32) : Prop :=
  (∀ (r : Fin 8), ∀ a, (k0_off515 v1937 (BitVec.ofNat 32 (16 * r.val))) a + S16.size a ≤ S40192.size a)
theorem k0_off515_inb : ∀ (v1937 : BitVec 32) (k0_hw60 : k0_chk60 v1937), ∀ (r : Fin 8), ∀ a, (k0_off515 v1937 (BitVec.ofNat 32 (16 * r.val))) a + S16.size a ≤ S40192.size a := fun v1937 k0_hw60 r => k0_hw60 r

def k0_off516 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1942 : Index := Scalar.indexCast v94
  let c22_i32 : BitVec 32 := 22#32
  let v1943 : Index := Scalar.indexCast c22_i32
  let c0_766 : Index := 0#32
  ![v1942.toNat, 22, 0]
def k0_off517 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1952 : Index := Scalar.indexCast v94
  let c22_i32_769 : BitVec 32 := 22#32
  let v1953 : Index := Scalar.indexCast c22_i32_769
  let c16_770 : Index := 16#32
  ![v1952.toNat, 22, 16]
def k0_off518 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1962 : Index := Scalar.indexCast v94
  let c22_i32_773 : BitVec 32 := 22#32
  let v1963 : Index := Scalar.indexCast c22_i32_773
  let c32_774 : Index := 32#32
  ![v1962.toNat, 22, 32]
def k0_off519 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1972 : Index := Scalar.indexCast v94
  let c22_i32_777 : BitVec 32 := 22#32
  let v1973 : Index := Scalar.indexCast c22_i32_777
  let c48_778 : Index := 48#32
  ![v1972.toNat, 22, 48]
def k0_off520 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1982 : Index := Scalar.indexCast v94
  let c22_i32_781 : BitVec 32 := 22#32
  let v1983 : Index := Scalar.indexCast c22_i32_781
  let c64_782 : Index := 64#32
  ![v1982.toNat, 22, 64]
def k0_off521 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v1992 : Index := Scalar.indexCast v94
  let c22_i32_785 : BitVec 32 := 22#32
  let v1993 : Index := Scalar.indexCast c22_i32_785
  let c80_786 : Index := 80#32
  ![v1992.toNat, 22, 80]
def k0_off522 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2002 : Index := Scalar.indexCast v94
  let c22_i32_789 : BitVec 32 := 22#32
  let v2003 : Index := Scalar.indexCast c22_i32_789
  let c96_790 : Index := 96#32
  ![v2002.toNat, 22, 96]
def k0_off523 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2012 : Index := Scalar.indexCast v94
  let c22_i32_793 : BitVec 32 := 22#32
  let v2013 : Index := Scalar.indexCast c22_i32_793
  let c112_794 : Index := 112#32
  ![v2012.toNat, 22, 112]
def k0_off524 (v2020 : BitVec 32) (c0_i32_797 : BitVec 32) : Fin 1 → Nat :=
  let c128_i32_796 : BitVec 32 := 128#32
  let v2021 : BitVec 32 := Scalar.muli v2020 c128_i32_796
  let v2022 : BitVec 32 := Scalar.addi v2021 c0_i32_797
  let v2023 : Index := Scalar.indexCast v2022
  ![v2023.toNat]

def k0_chk61 (v2020 : BitVec 32) : Prop :=
  (∀ (r : Fin 8), ∀ a, (k0_off524 v2020 (BitVec.ofNat 32 (16 * r.val))) a + S16.size a ≤ S40192.size a)
theorem k0_off524_inb : ∀ (v2020 : BitVec 32) (k0_hw61 : k0_chk61 v2020), ∀ (r : Fin 8), ∀ a, (k0_off524 v2020 (BitVec.ofNat 32 (16 * r.val))) a + S16.size a ≤ S40192.size a := fun v2020 k0_hw61 r => k0_hw61 r

def k0_off525 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2025 : Index := Scalar.indexCast v94
  let c23_i32 : BitVec 32 := 23#32
  let v2026 : Index := Scalar.indexCast c23_i32
  let c0_798 : Index := 0#32
  ![v2025.toNat, 23, 0]
def k0_off526 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2035 : Index := Scalar.indexCast v94
  let c23_i32_801 : BitVec 32 := 23#32
  let v2036 : Index := Scalar.indexCast c23_i32_801
  let c16_802 : Index := 16#32
  ![v2035.toNat, 23, 16]
def k0_off527 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2045 : Index := Scalar.indexCast v94
  let c23_i32_805 : BitVec 32 := 23#32
  let v2046 : Index := Scalar.indexCast c23_i32_805
  let c32_806 : Index := 32#32
  ![v2045.toNat, 23, 32]
def k0_off528 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2055 : Index := Scalar.indexCast v94
  let c23_i32_809 : BitVec 32 := 23#32
  let v2056 : Index := Scalar.indexCast c23_i32_809
  let c48_810 : Index := 48#32
  ![v2055.toNat, 23, 48]
def k0_off529 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2065 : Index := Scalar.indexCast v94
  let c23_i32_813 : BitVec 32 := 23#32
  let v2066 : Index := Scalar.indexCast c23_i32_813
  let c64_814 : Index := 64#32
  ![v2065.toNat, 23, 64]
def k0_off530 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2075 : Index := Scalar.indexCast v94
  let c23_i32_817 : BitVec 32 := 23#32
  let v2076 : Index := Scalar.indexCast c23_i32_817
  let c80_818 : Index := 80#32
  ![v2075.toNat, 23, 80]
def k0_off531 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2085 : Index := Scalar.indexCast v94
  let c23_i32_821 : BitVec 32 := 23#32
  let v2086 : Index := Scalar.indexCast c23_i32_821
  let c96_822 : Index := 96#32
  ![v2085.toNat, 23, 96]
def k0_off532 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2095 : Index := Scalar.indexCast v94
  let c23_i32_825 : BitVec 32 := 23#32
  let v2096 : Index := Scalar.indexCast c23_i32_825
  let c112_826 : Index := 112#32
  ![v2095.toNat, 23, 112]
def k0_off533 (v2103 : BitVec 32) (c0_i32_829 : BitVec 32) : Fin 1 → Nat :=
  let c128_i32_828 : BitVec 32 := 128#32
  let v2104 : BitVec 32 := Scalar.muli v2103 c128_i32_828
  let v2105 : BitVec 32 := Scalar.addi v2104 c0_i32_829
  let v2106 : Index := Scalar.indexCast v2105
  ![v2106.toNat]

def k0_chk62 (v2103 : BitVec 32) : Prop :=
  (∀ (r : Fin 8), ∀ a, (k0_off533 v2103 (BitVec.ofNat 32 (16 * r.val))) a + S16.size a ≤ S40192.size a)
theorem k0_off533_inb : ∀ (v2103 : BitVec 32) (k0_hw62 : k0_chk62 v2103), ∀ (r : Fin 8), ∀ a, (k0_off533 v2103 (BitVec.ofNat 32 (16 * r.val))) a + S16.size a ≤ S40192.size a := fun v2103 k0_hw62 r => k0_hw62 r

def k0_off534 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2108 : Index := Scalar.indexCast v94
  let c24_i32 : BitVec 32 := 24#32
  let v2109 : Index := Scalar.indexCast c24_i32
  let c0_830 : Index := 0#32
  ![v2108.toNat, 24, 0]
def k0_off535 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2118 : Index := Scalar.indexCast v94
  let c24_i32_833 : BitVec 32 := 24#32
  let v2119 : Index := Scalar.indexCast c24_i32_833
  let c16_834 : Index := 16#32
  ![v2118.toNat, 24, 16]
def k0_off536 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2128 : Index := Scalar.indexCast v94
  let c24_i32_837 : BitVec 32 := 24#32
  let v2129 : Index := Scalar.indexCast c24_i32_837
  let c32_838 : Index := 32#32
  ![v2128.toNat, 24, 32]
def k0_off537 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2138 : Index := Scalar.indexCast v94
  let c24_i32_841 : BitVec 32 := 24#32
  let v2139 : Index := Scalar.indexCast c24_i32_841
  let c48_842 : Index := 48#32
  ![v2138.toNat, 24, 48]
def k0_off538 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2148 : Index := Scalar.indexCast v94
  let c24_i32_845 : BitVec 32 := 24#32
  let v2149 : Index := Scalar.indexCast c24_i32_845
  let c64_846 : Index := 64#32
  ![v2148.toNat, 24, 64]
def k0_off539 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2158 : Index := Scalar.indexCast v94
  let c24_i32_849 : BitVec 32 := 24#32
  let v2159 : Index := Scalar.indexCast c24_i32_849
  let c80_850 : Index := 80#32
  ![v2158.toNat, 24, 80]
def k0_off540 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2168 : Index := Scalar.indexCast v94
  let c24_i32_853 : BitVec 32 := 24#32
  let v2169 : Index := Scalar.indexCast c24_i32_853
  let c96_854 : Index := 96#32
  ![v2168.toNat, 24, 96]
def k0_off541 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2178 : Index := Scalar.indexCast v94
  let c24_i32_857 : BitVec 32 := 24#32
  let v2179 : Index := Scalar.indexCast c24_i32_857
  let c112_858 : Index := 112#32
  ![v2178.toNat, 24, 112]
def k0_off542 (v2186 : BitVec 32) (c0_i32_861 : BitVec 32) : Fin 1 → Nat :=
  let c128_i32_860 : BitVec 32 := 128#32
  let v2187 : BitVec 32 := Scalar.muli v2186 c128_i32_860
  let v2188 : BitVec 32 := Scalar.addi v2187 c0_i32_861
  let v2189 : Index := Scalar.indexCast v2188
  ![v2189.toNat]

def k0_chk63 (v2186 : BitVec 32) : Prop :=
  (∀ (r : Fin 8), ∀ a, (k0_off542 v2186 (BitVec.ofNat 32 (16 * r.val))) a + S16.size a ≤ S40192.size a)
theorem k0_off542_inb : ∀ (v2186 : BitVec 32) (k0_hw63 : k0_chk63 v2186), ∀ (r : Fin 8), ∀ a, (k0_off542 v2186 (BitVec.ofNat 32 (16 * r.val))) a + S16.size a ≤ S40192.size a := fun v2186 k0_hw63 r => k0_hw63 r

def k0_off543 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2191 : Index := Scalar.indexCast v94
  let c25_i32 : BitVec 32 := 25#32
  let v2192 : Index := Scalar.indexCast c25_i32
  let c0_862 : Index := 0#32
  ![v2191.toNat, 25, 0]
def k0_off544 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2201 : Index := Scalar.indexCast v94
  let c25_i32_865 : BitVec 32 := 25#32
  let v2202 : Index := Scalar.indexCast c25_i32_865
  let c16_866 : Index := 16#32
  ![v2201.toNat, 25, 16]
def k0_off545 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2211 : Index := Scalar.indexCast v94
  let c25_i32_869 : BitVec 32 := 25#32
  let v2212 : Index := Scalar.indexCast c25_i32_869
  let c32_870 : Index := 32#32
  ![v2211.toNat, 25, 32]
def k0_off546 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2221 : Index := Scalar.indexCast v94
  let c25_i32_873 : BitVec 32 := 25#32
  let v2222 : Index := Scalar.indexCast c25_i32_873
  let c48_874 : Index := 48#32
  ![v2221.toNat, 25, 48]
def k0_off547 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2231 : Index := Scalar.indexCast v94
  let c25_i32_877 : BitVec 32 := 25#32
  let v2232 : Index := Scalar.indexCast c25_i32_877
  let c64_878 : Index := 64#32
  ![v2231.toNat, 25, 64]
def k0_off548 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2241 : Index := Scalar.indexCast v94
  let c25_i32_881 : BitVec 32 := 25#32
  let v2242 : Index := Scalar.indexCast c25_i32_881
  let c80_882 : Index := 80#32
  ![v2241.toNat, 25, 80]
def k0_off549 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2251 : Index := Scalar.indexCast v94
  let c25_i32_885 : BitVec 32 := 25#32
  let v2252 : Index := Scalar.indexCast c25_i32_885
  let c96_886 : Index := 96#32
  ![v2251.toNat, 25, 96]
def k0_off550 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2261 : Index := Scalar.indexCast v94
  let c25_i32_889 : BitVec 32 := 25#32
  let v2262 : Index := Scalar.indexCast c25_i32_889
  let c112_890 : Index := 112#32
  ![v2261.toNat, 25, 112]
def k0_off551 (v2269 : BitVec 32) (c0_i32_893 : BitVec 32) : Fin 1 → Nat :=
  let c128_i32_892 : BitVec 32 := 128#32
  let v2270 : BitVec 32 := Scalar.muli v2269 c128_i32_892
  let v2271 : BitVec 32 := Scalar.addi v2270 c0_i32_893
  let v2272 : Index := Scalar.indexCast v2271
  ![v2272.toNat]

def k0_chk64 (v2269 : BitVec 32) : Prop :=
  (∀ (r : Fin 8), ∀ a, (k0_off551 v2269 (BitVec.ofNat 32 (16 * r.val))) a + S16.size a ≤ S40192.size a)
theorem k0_off551_inb : ∀ (v2269 : BitVec 32) (k0_hw64 : k0_chk64 v2269), ∀ (r : Fin 8), ∀ a, (k0_off551 v2269 (BitVec.ofNat 32 (16 * r.val))) a + S16.size a ≤ S40192.size a := fun v2269 k0_hw64 r => k0_hw64 r

def k0_off552 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2274 : Index := Scalar.indexCast v94
  let c26_i32 : BitVec 32 := 26#32
  let v2275 : Index := Scalar.indexCast c26_i32
  let c0_894 : Index := 0#32
  ![v2274.toNat, 26, 0]
def k0_off553 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2284 : Index := Scalar.indexCast v94
  let c26_i32_897 : BitVec 32 := 26#32
  let v2285 : Index := Scalar.indexCast c26_i32_897
  let c16_898 : Index := 16#32
  ![v2284.toNat, 26, 16]
def k0_off554 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2294 : Index := Scalar.indexCast v94
  let c26_i32_901 : BitVec 32 := 26#32
  let v2295 : Index := Scalar.indexCast c26_i32_901
  let c32_902 : Index := 32#32
  ![v2294.toNat, 26, 32]
def k0_off555 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2304 : Index := Scalar.indexCast v94
  let c26_i32_905 : BitVec 32 := 26#32
  let v2305 : Index := Scalar.indexCast c26_i32_905
  let c48_906 : Index := 48#32
  ![v2304.toNat, 26, 48]
def k0_off556 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2314 : Index := Scalar.indexCast v94
  let c26_i32_909 : BitVec 32 := 26#32
  let v2315 : Index := Scalar.indexCast c26_i32_909
  let c64_910 : Index := 64#32
  ![v2314.toNat, 26, 64]
def k0_off557 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2324 : Index := Scalar.indexCast v94
  let c26_i32_913 : BitVec 32 := 26#32
  let v2325 : Index := Scalar.indexCast c26_i32_913
  let c80_914 : Index := 80#32
  ![v2324.toNat, 26, 80]
def k0_off558 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2334 : Index := Scalar.indexCast v94
  let c26_i32_917 : BitVec 32 := 26#32
  let v2335 : Index := Scalar.indexCast c26_i32_917
  let c96_918 : Index := 96#32
  ![v2334.toNat, 26, 96]
def k0_off559 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2344 : Index := Scalar.indexCast v94
  let c26_i32_921 : BitVec 32 := 26#32
  let v2345 : Index := Scalar.indexCast c26_i32_921
  let c112_922 : Index := 112#32
  ![v2344.toNat, 26, 112]
def k0_off560 (v2352 : BitVec 32) (c0_i32_925 : BitVec 32) : Fin 1 → Nat :=
  let c128_i32_924 : BitVec 32 := 128#32
  let v2353 : BitVec 32 := Scalar.muli v2352 c128_i32_924
  let v2354 : BitVec 32 := Scalar.addi v2353 c0_i32_925
  let v2355 : Index := Scalar.indexCast v2354
  ![v2355.toNat]

def k0_chk65 (v2352 : BitVec 32) : Prop :=
  (∀ (r : Fin 8), ∀ a, (k0_off560 v2352 (BitVec.ofNat 32 (16 * r.val))) a + S16.size a ≤ S40192.size a)
theorem k0_off560_inb : ∀ (v2352 : BitVec 32) (k0_hw65 : k0_chk65 v2352), ∀ (r : Fin 8), ∀ a, (k0_off560 v2352 (BitVec.ofNat 32 (16 * r.val))) a + S16.size a ≤ S40192.size a := fun v2352 k0_hw65 r => k0_hw65 r

def k0_off561 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2357 : Index := Scalar.indexCast v94
  let c27_i32 : BitVec 32 := 27#32
  let v2358 : Index := Scalar.indexCast c27_i32
  let c0_926 : Index := 0#32
  ![v2357.toNat, 27, 0]
def k0_off562 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2367 : Index := Scalar.indexCast v94
  let c27_i32_929 : BitVec 32 := 27#32
  let v2368 : Index := Scalar.indexCast c27_i32_929
  let c16_930 : Index := 16#32
  ![v2367.toNat, 27, 16]
def k0_off563 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2377 : Index := Scalar.indexCast v94
  let c27_i32_933 : BitVec 32 := 27#32
  let v2378 : Index := Scalar.indexCast c27_i32_933
  let c32_934 : Index := 32#32
  ![v2377.toNat, 27, 32]
def k0_off564 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2387 : Index := Scalar.indexCast v94
  let c27_i32_937 : BitVec 32 := 27#32
  let v2388 : Index := Scalar.indexCast c27_i32_937
  let c48_938 : Index := 48#32
  ![v2387.toNat, 27, 48]
def k0_off565 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2397 : Index := Scalar.indexCast v94
  let c27_i32_941 : BitVec 32 := 27#32
  let v2398 : Index := Scalar.indexCast c27_i32_941
  let c64_942 : Index := 64#32
  ![v2397.toNat, 27, 64]
def k0_off566 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2407 : Index := Scalar.indexCast v94
  let c27_i32_945 : BitVec 32 := 27#32
  let v2408 : Index := Scalar.indexCast c27_i32_945
  let c80_946 : Index := 80#32
  ![v2407.toNat, 27, 80]
def k0_off567 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2417 : Index := Scalar.indexCast v94
  let c27_i32_949 : BitVec 32 := 27#32
  let v2418 : Index := Scalar.indexCast c27_i32_949
  let c96_950 : Index := 96#32
  ![v2417.toNat, 27, 96]
def k0_off568 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2427 : Index := Scalar.indexCast v94
  let c27_i32_953 : BitVec 32 := 27#32
  let v2428 : Index := Scalar.indexCast c27_i32_953
  let c112_954 : Index := 112#32
  ![v2427.toNat, 27, 112]
def k0_off569 (v2435 : BitVec 32) (c0_i32_957 : BitVec 32) : Fin 1 → Nat :=
  let c128_i32_956 : BitVec 32 := 128#32
  let v2436 : BitVec 32 := Scalar.muli v2435 c128_i32_956
  let v2437 : BitVec 32 := Scalar.addi v2436 c0_i32_957
  let v2438 : Index := Scalar.indexCast v2437
  ![v2438.toNat]

def k0_chk66 (v2435 : BitVec 32) : Prop :=
  (∀ (r : Fin 8), ∀ a, (k0_off569 v2435 (BitVec.ofNat 32 (16 * r.val))) a + S16.size a ≤ S40192.size a)
theorem k0_off569_inb : ∀ (v2435 : BitVec 32) (k0_hw66 : k0_chk66 v2435), ∀ (r : Fin 8), ∀ a, (k0_off569 v2435 (BitVec.ofNat 32 (16 * r.val))) a + S16.size a ≤ S40192.size a := fun v2435 k0_hw66 r => k0_hw66 r

def k0_off570 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2440 : Index := Scalar.indexCast v94
  let c28_i32 : BitVec 32 := 28#32
  let v2441 : Index := Scalar.indexCast c28_i32
  let c0_958 : Index := 0#32
  ![v2440.toNat, 28, 0]
def k0_off571 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2450 : Index := Scalar.indexCast v94
  let c28_i32_961 : BitVec 32 := 28#32
  let v2451 : Index := Scalar.indexCast c28_i32_961
  let c16_962 : Index := 16#32
  ![v2450.toNat, 28, 16]
def k0_off572 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2460 : Index := Scalar.indexCast v94
  let c28_i32_965 : BitVec 32 := 28#32
  let v2461 : Index := Scalar.indexCast c28_i32_965
  let c32_966 : Index := 32#32
  ![v2460.toNat, 28, 32]
def k0_off573 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2470 : Index := Scalar.indexCast v94
  let c28_i32_969 : BitVec 32 := 28#32
  let v2471 : Index := Scalar.indexCast c28_i32_969
  let c48_970 : Index := 48#32
  ![v2470.toNat, 28, 48]
def k0_off574 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2480 : Index := Scalar.indexCast v94
  let c28_i32_973 : BitVec 32 := 28#32
  let v2481 : Index := Scalar.indexCast c28_i32_973
  let c64_974 : Index := 64#32
  ![v2480.toNat, 28, 64]
def k0_off575 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2490 : Index := Scalar.indexCast v94
  let c28_i32_977 : BitVec 32 := 28#32
  let v2491 : Index := Scalar.indexCast c28_i32_977
  let c80_978 : Index := 80#32
  ![v2490.toNat, 28, 80]
def k0_off576 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2500 : Index := Scalar.indexCast v94
  let c28_i32_981 : BitVec 32 := 28#32
  let v2501 : Index := Scalar.indexCast c28_i32_981
  let c96_982 : Index := 96#32
  ![v2500.toNat, 28, 96]
def k0_off577 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2510 : Index := Scalar.indexCast v94
  let c28_i32_985 : BitVec 32 := 28#32
  let v2511 : Index := Scalar.indexCast c28_i32_985
  let c112_986 : Index := 112#32
  ![v2510.toNat, 28, 112]
def k0_off578 (v2518 : BitVec 32) (c0_i32_989 : BitVec 32) : Fin 1 → Nat :=
  let c128_i32_988 : BitVec 32 := 128#32
  let v2519 : BitVec 32 := Scalar.muli v2518 c128_i32_988
  let v2520 : BitVec 32 := Scalar.addi v2519 c0_i32_989
  let v2521 : Index := Scalar.indexCast v2520
  ![v2521.toNat]

def k0_chk67 (v2518 : BitVec 32) : Prop :=
  (∀ (r : Fin 8), ∀ a, (k0_off578 v2518 (BitVec.ofNat 32 (16 * r.val))) a + S16.size a ≤ S40192.size a)
theorem k0_off578_inb : ∀ (v2518 : BitVec 32) (k0_hw67 : k0_chk67 v2518), ∀ (r : Fin 8), ∀ a, (k0_off578 v2518 (BitVec.ofNat 32 (16 * r.val))) a + S16.size a ≤ S40192.size a := fun v2518 k0_hw67 r => k0_hw67 r

def k0_off579 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2523 : Index := Scalar.indexCast v94
  let c29_i32 : BitVec 32 := 29#32
  let v2524 : Index := Scalar.indexCast c29_i32
  let c0_990 : Index := 0#32
  ![v2523.toNat, 29, 0]
def k0_off580 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2533 : Index := Scalar.indexCast v94
  let c29_i32_993 : BitVec 32 := 29#32
  let v2534 : Index := Scalar.indexCast c29_i32_993
  let c16_994 : Index := 16#32
  ![v2533.toNat, 29, 16]
def k0_off581 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2543 : Index := Scalar.indexCast v94
  let c29_i32_997 : BitVec 32 := 29#32
  let v2544 : Index := Scalar.indexCast c29_i32_997
  let c32_998 : Index := 32#32
  ![v2543.toNat, 29, 32]
def k0_off582 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2553 : Index := Scalar.indexCast v94
  let c29_i32_1001 : BitVec 32 := 29#32
  let v2554 : Index := Scalar.indexCast c29_i32_1001
  let c48_1002 : Index := 48#32
  ![v2553.toNat, 29, 48]
def k0_off583 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2563 : Index := Scalar.indexCast v94
  let c29_i32_1005 : BitVec 32 := 29#32
  let v2564 : Index := Scalar.indexCast c29_i32_1005
  let c64_1006 : Index := 64#32
  ![v2563.toNat, 29, 64]
def k0_off584 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2573 : Index := Scalar.indexCast v94
  let c29_i32_1009 : BitVec 32 := 29#32
  let v2574 : Index := Scalar.indexCast c29_i32_1009
  let c80_1010 : Index := 80#32
  ![v2573.toNat, 29, 80]
def k0_off585 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2583 : Index := Scalar.indexCast v94
  let c29_i32_1013 : BitVec 32 := 29#32
  let v2584 : Index := Scalar.indexCast c29_i32_1013
  let c96_1014 : Index := 96#32
  ![v2583.toNat, 29, 96]
def k0_off586 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2593 : Index := Scalar.indexCast v94
  let c29_i32_1017 : BitVec 32 := 29#32
  let v2594 : Index := Scalar.indexCast c29_i32_1017
  let c112_1018 : Index := 112#32
  ![v2593.toNat, 29, 112]
def k0_off587 (v2601 : BitVec 32) (c0_i32_1021 : BitVec 32) : Fin 1 → Nat :=
  let c128_i32_1020 : BitVec 32 := 128#32
  let v2602 : BitVec 32 := Scalar.muli v2601 c128_i32_1020
  let v2603 : BitVec 32 := Scalar.addi v2602 c0_i32_1021
  let v2604 : Index := Scalar.indexCast v2603
  ![v2604.toNat]

def k0_chk68 (v2601 : BitVec 32) : Prop :=
  (∀ (r : Fin 8), ∀ a, (k0_off587 v2601 (BitVec.ofNat 32 (16 * r.val))) a + S16.size a ≤ S40192.size a)
theorem k0_off587_inb : ∀ (v2601 : BitVec 32) (k0_hw68 : k0_chk68 v2601), ∀ (r : Fin 8), ∀ a, (k0_off587 v2601 (BitVec.ofNat 32 (16 * r.val))) a + S16.size a ≤ S40192.size a := fun v2601 k0_hw68 r => k0_hw68 r

def k0_off588 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2606 : Index := Scalar.indexCast v94
  let c30_i32 : BitVec 32 := 30#32
  let v2607 : Index := Scalar.indexCast c30_i32
  let c0_1022 : Index := 0#32
  ![v2606.toNat, 30, 0]
def k0_off589 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2616 : Index := Scalar.indexCast v94
  let c30_i32_1025 : BitVec 32 := 30#32
  let v2617 : Index := Scalar.indexCast c30_i32_1025
  let c16_1026 : Index := 16#32
  ![v2616.toNat, 30, 16]
def k0_off590 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2626 : Index := Scalar.indexCast v94
  let c30_i32_1029 : BitVec 32 := 30#32
  let v2627 : Index := Scalar.indexCast c30_i32_1029
  let c32_1030 : Index := 32#32
  ![v2626.toNat, 30, 32]
def k0_off591 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2636 : Index := Scalar.indexCast v94
  let c30_i32_1033 : BitVec 32 := 30#32
  let v2637 : Index := Scalar.indexCast c30_i32_1033
  let c48_1034 : Index := 48#32
  ![v2636.toNat, 30, 48]
def k0_off592 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2646 : Index := Scalar.indexCast v94
  let c30_i32_1037 : BitVec 32 := 30#32
  let v2647 : Index := Scalar.indexCast c30_i32_1037
  let c64_1038 : Index := 64#32
  ![v2646.toNat, 30, 64]
def k0_off593 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2656 : Index := Scalar.indexCast v94
  let c30_i32_1041 : BitVec 32 := 30#32
  let v2657 : Index := Scalar.indexCast c30_i32_1041
  let c80_1042 : Index := 80#32
  ![v2656.toNat, 30, 80]
def k0_off594 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2666 : Index := Scalar.indexCast v94
  let c30_i32_1045 : BitVec 32 := 30#32
  let v2667 : Index := Scalar.indexCast c30_i32_1045
  let c96_1046 : Index := 96#32
  ![v2666.toNat, 30, 96]
def k0_off595 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2676 : Index := Scalar.indexCast v94
  let c30_i32_1049 : BitVec 32 := 30#32
  let v2677 : Index := Scalar.indexCast c30_i32_1049
  let c112_1050 : Index := 112#32
  ![v2676.toNat, 30, 112]
def k0_off596 (v2684 : BitVec 32) (c0_i32_1053 : BitVec 32) : Fin 1 → Nat :=
  let c128_i32_1052 : BitVec 32 := 128#32
  let v2685 : BitVec 32 := Scalar.muli v2684 c128_i32_1052
  let v2686 : BitVec 32 := Scalar.addi v2685 c0_i32_1053
  let v2687 : Index := Scalar.indexCast v2686
  ![v2687.toNat]

def k0_chk69 (v2684 : BitVec 32) : Prop :=
  (∀ (r : Fin 8), ∀ a, (k0_off596 v2684 (BitVec.ofNat 32 (16 * r.val))) a + S16.size a ≤ S40192.size a)
theorem k0_off596_inb : ∀ (v2684 : BitVec 32) (k0_hw69 : k0_chk69 v2684), ∀ (r : Fin 8), ∀ a, (k0_off596 v2684 (BitVec.ofNat 32 (16 * r.val))) a + S16.size a ≤ S40192.size a := fun v2684 k0_hw69 r => k0_hw69 r

def k0_off597 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2689 : Index := Scalar.indexCast v94
  let c31_i32 : BitVec 32 := 31#32
  let v2690 : Index := Scalar.indexCast c31_i32
  let c0_1054 : Index := 0#32
  ![v2689.toNat, 31, 0]
def k0_off598 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2699 : Index := Scalar.indexCast v94
  let c31_i32_1057 : BitVec 32 := 31#32
  let v2700 : Index := Scalar.indexCast c31_i32_1057
  let c16_1058 : Index := 16#32
  ![v2699.toNat, 31, 16]
def k0_off599 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2709 : Index := Scalar.indexCast v94
  let c31_i32_1061 : BitVec 32 := 31#32
  let v2710 : Index := Scalar.indexCast c31_i32_1061
  let c32_1062 : Index := 32#32
  ![v2709.toNat, 31, 32]
def k0_off600 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2719 : Index := Scalar.indexCast v94
  let c31_i32_1065 : BitVec 32 := 31#32
  let v2720 : Index := Scalar.indexCast c31_i32_1065
  let c48_1066 : Index := 48#32
  ![v2719.toNat, 31, 48]
def k0_off601 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2729 : Index := Scalar.indexCast v94
  let c31_i32_1069 : BitVec 32 := 31#32
  let v2730 : Index := Scalar.indexCast c31_i32_1069
  let c64_1070 : Index := 64#32
  ![v2729.toNat, 31, 64]
def k0_off602 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2739 : Index := Scalar.indexCast v94
  let c31_i32_1073 : BitVec 32 := 31#32
  let v2740 : Index := Scalar.indexCast c31_i32_1073
  let c80_1074 : Index := 80#32
  ![v2739.toNat, 31, 80]
def k0_off603 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2749 : Index := Scalar.indexCast v94
  let c31_i32_1077 : BitVec 32 := 31#32
  let v2750 : Index := Scalar.indexCast c31_i32_1077
  let c96_1078 : Index := 96#32
  ![v2749.toNat, 31, 96]
def k0_off604 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32 : BitVec 32 := 4#32
  let v94 : BitVec 32 := Scalar.remsi arg16 c4_i32
  let v2759 : Index := Scalar.indexCast v94
  let c31_i32_1081 : BitVec 32 := 31#32
  let v2760 : Index := Scalar.indexCast c31_i32_1081
  let c112_1082 : Index := 112#32
  ![v2759.toNat, 31, 112]
def k0_off605 (v41 : BitVec 32) (k0_t5 : Fin (k0_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32_1087 : BitVec 32 := 4#32
  let v2770 : BitVec 32 := Scalar.addi arg16 c4_i32_1087
  let c4_i32_1088 : BitVec 32 := 4#32
  let v2771 : BitVec 32 := Scalar.remsi v2770 c4_i32_1088
  let c0_i32_1090 : BitVec 32 := 0#32
  let c0_i32_1091 : BitVec 32 := 0#32
  ![v2771.toNat, 0, 0]
def k0_cond7 (v41 : BitVec 32) (k0_t5 : Fin (k0_t5_loop v41).trips) : BitVec 1 :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32_1084 : BitVec 32 := 4#32
  let v2766 : BitVec 32 := Scalar.addi arg16 c4_i32_1084
  let v2767 : BitVec 1 := Scalar.cmpi .slt v2766 v74
  let v2768 : BitVec 32 := Scalar.extui v2767
  let c0_i32_1085 : BitVec 32 := 0#32
  let v2769 : BitVec 1 := Scalar.cmpi .ne v2768 c0_i32_1085
  v2769

def k0_off606 (v41 : BitVec 32) (k0_t5 : Fin (k0_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32_1087 : BitVec 32 := 4#32
  let v2770 : BitVec 32 := Scalar.addi arg16 c4_i32_1087
  let c32_i32_1089 : BitVec 32 := 32#32
  let v2772 : BitVec 32 := Scalar.muli v2770 c32_i32_1089
  ![v2772.toNat]
def k0_off607 (v41 : BitVec 32) (k0_t5 : Fin (k0_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k0_t5
  let c4_i32_1087 : BitVec 32 := 4#32
  let v2770 : BitVec 32 := Scalar.addi arg16 c4_i32_1087
  let c4_i32_1088 : BitVec 32 := 4#32
  let v2771 : BitVec 32 := Scalar.remsi v2770 c4_i32_1088
  ![v2771.toNat]

def k0_chk5_0 (v41 : BitVec 32) : Prop :=
  (∀ a, (k0_off6 v41) a + S16.size a ≤ S8032.size a) ∧
  (∀ a, (k0_off7 v41) a + S16.size a ≤ S8032.size a) ∧
  ((k0_t4_loop v41).OK) ∧
  (∀ k0_t4 : Fin (k0_t4_loop v41).trips, ∀ a, (k0_off16 v41 k0_t4) a + S1x32x128.size a ≤ S4x32x128.size a) ∧
  (∀ k0_t4 : Fin (k0_t4_loop v41).trips, ∀ a, (k0_off17 v41 k0_t4) a + S32.size a ≤ S8032.size a) ∧
  (∀ k0_t4 : Fin (k0_t4_loop v41).trips, ∀ a, (k0_off18 v41 k0_t4) a + S1.size a ≤ S4.size a) ∧
  (∀ k0_t4 : Fin (k0_t4_loop v41).trips, ∀ a, (k0_off19 v41 k0_t4) a + S16.size a ≤ S8032.size a) ∧
  (∀ k0_t4 : Fin (k0_t4_loop v41).trips, ∀ a, (k0_off21 v41 k0_t4) a + S1x1x16.size a ≤ S4x32x128.size a) ∧
  (∀ k0_t4 : Fin (k0_t4_loop v41).trips, ∀ a, (k0_off22 v41 k0_t4) a + S1x1x16.size a ≤ S4x32x128.size a) ∧
  (∀ k0_t4 : Fin (k0_t4_loop v41).trips, ∀ a, (k0_off23 v41 k0_t4) a + S1x1x16.size a ≤ S4x32x128.size a) ∧
  (∀ k0_t4 : Fin (k0_t4_loop v41).trips, ∀ a, (k0_off24 v41 k0_t4) a + S1x1x16.size a ≤ S4x32x128.size a) ∧
  (∀ k0_t4 : Fin (k0_t4_loop v41).trips, ∀ a, (k0_off25 v41 k0_t4) a + S1x1x16.size a ≤ S4x32x128.size a) ∧
  (∀ k0_t4 : Fin (k0_t4_loop v41).trips, ∀ a, (k0_off26 v41 k0_t4) a + S1x1x16.size a ≤ S4x32x128.size a) ∧
  (∀ k0_t4 : Fin (k0_t4_loop v41).trips, ∀ a, (k0_off27 v41 k0_t4) a + S1x1x16.size a ≤ S4x32x128.size a) ∧
  (∀ k0_t4 : Fin (k0_t4_loop v41).trips, ∀ a, (k0_off28 v41 k0_t4) a + S1x1x16.size a ≤ S4x32x128.size a) ∧
  (∀ k0_t4 : Fin (k0_t4_loop v41).trips, ∀ a, (k0_off30 v41 k0_t4) a + S1x1x16.size a ≤ S4x32x128.size a) ∧
  (∀ k0_t4 : Fin (k0_t4_loop v41).trips, ∀ a, (k0_off31 v41 k0_t4) a + S1x1x16.size a ≤ S4x32x128.size a) ∧
  (∀ k0_t4 : Fin (k0_t4_loop v41).trips, ∀ a, (k0_off32 v41 k0_t4) a + S1x1x16.size a ≤ S4x32x128.size a) ∧
  (∀ k0_t4 : Fin (k0_t4_loop v41).trips, ∀ a, (k0_off33 v41 k0_t4) a + S1x1x16.size a ≤ S4x32x128.size a) ∧
  (∀ k0_t4 : Fin (k0_t4_loop v41).trips, ∀ a, (k0_off34 v41 k0_t4) a + S1x1x16.size a ≤ S4x32x128.size a) ∧
  (∀ k0_t4 : Fin (k0_t4_loop v41).trips, ∀ a, (k0_off35 v41 k0_t4) a + S1x1x16.size a ≤ S4x32x128.size a) ∧
  (∀ k0_t4 : Fin (k0_t4_loop v41).trips, ∀ a, (k0_off36 v41 k0_t4) a + S1x1x16.size a ≤ S4x32x128.size a) ∧
  (∀ k0_t4 : Fin (k0_t4_loop v41).trips, ∀ a, (k0_off37 v41 k0_t4) a + S1x1x16.size a ≤ S4x32x128.size a) ∧
  (∀ k0_t4 : Fin (k0_t4_loop v41).trips, ∀ a, (k0_off39 v41 k0_t4) a + S1x1x16.size a ≤ S4x32x128.size a) ∧
  (∀ k0_t4 : Fin (k0_t4_loop v41).trips, ∀ a, (k0_off40 v41 k0_t4) a + S1x1x16.size a ≤ S4x32x128.size a) ∧
  (∀ k0_t4 : Fin (k0_t4_loop v41).trips, ∀ a, (k0_off41 v41 k0_t4) a + S1x1x16.size a ≤ S4x32x128.size a) ∧
  (∀ k0_t4 : Fin (k0_t4_loop v41).trips, ∀ a, (k0_off42 v41 k0_t4) a + S1x1x16.size a ≤ S4x32x128.size a) ∧
  (∀ k0_t4 : Fin (k0_t4_loop v41).trips, ∀ a, (k0_off43 v41 k0_t4) a + S1x1x16.size a ≤ S4x32x128.size a) ∧
  (∀ k0_t4 : Fin (k0_t4_loop v41).trips, ∀ a, (k0_off44 v41 k0_t4) a + S1x1x16.size a ≤ S4x32x128.size a) ∧
  (∀ k0_t4 : Fin (k0_t4_loop v41).trips, ∀ a, (k0_off45 v41 k0_t4) a + S1x1x16.size a ≤ S4x32x128.size a) ∧
  (∀ k0_t4 : Fin (k0_t4_loop v41).trips, ∀ a, (k0_off46 v41 k0_t4) a + S1x1x16.size a ≤ S4x32x128.size a) ∧
  (∀ k0_t4 : Fin (k0_t4_loop v41).trips, ∀ a, (k0_off48 v41 k0_t4) a + S1x1x16.size a ≤ S4x32x128.size a)
def k0_chk5_1 (v41 : BitVec 32) : Prop :=
  (∀ k0_t4 : Fin (k0_t4_loop v41).trips, ∀ a, (k0_off49 v41 k0_t4) a + S1x1x16.size a ≤ S4x32x128.size a) ∧
  (∀ k0_t4 : Fin (k0_t4_loop v41).trips, ∀ a, (k0_off50 v41 k0_t4) a + S1x1x16.size a ≤ S4x32x128.size a) ∧
  (∀ k0_t4 : Fin (k0_t4_loop v41).trips, ∀ a, (k0_off51 v41 k0_t4) a + S1x1x16.size a ≤ S4x32x128.size a) ∧
  (∀ k0_t4 : Fin (k0_t4_loop v41).trips, ∀ a, (k0_off52 v41 k0_t4) a + S1x1x16.size a ≤ S4x32x128.size a) ∧
  (∀ k0_t4 : Fin (k0_t4_loop v41).trips, ∀ a, (k0_off53 v41 k0_t4) a + S1x1x16.size a ≤ S4x32x128.size a) ∧
  (∀ k0_t4 : Fin (k0_t4_loop v41).trips, ∀ a, (k0_off54 v41 k0_t4) a + S1x1x16.size a ≤ S4x32x128.size a) ∧
  (∀ k0_t4 : Fin (k0_t4_loop v41).trips, ∀ a, (k0_off55 v41 k0_t4) a + S1x1x16.size a ≤ S4x32x128.size a) ∧
  (∀ k0_t4 : Fin (k0_t4_loop v41).trips, ∀ a, (k0_off57 v41 k0_t4) a + S1x1x16.size a ≤ S4x32x128.size a) ∧
  (∀ k0_t4 : Fin (k0_t4_loop v41).trips, ∀ a, (k0_off58 v41 k0_t4) a + S1x1x16.size a ≤ S4x32x128.size a) ∧
  (∀ k0_t4 : Fin (k0_t4_loop v41).trips, ∀ a, (k0_off59 v41 k0_t4) a + S1x1x16.size a ≤ S4x32x128.size a) ∧
  (∀ k0_t4 : Fin (k0_t4_loop v41).trips, ∀ a, (k0_off60 v41 k0_t4) a + S1x1x16.size a ≤ S4x32x128.size a) ∧
  (∀ k0_t4 : Fin (k0_t4_loop v41).trips, ∀ a, (k0_off61 v41 k0_t4) a + S1x1x16.size a ≤ S4x32x128.size a) ∧
  (∀ k0_t4 : Fin (k0_t4_loop v41).trips, ∀ a, (k0_off62 v41 k0_t4) a + S1x1x16.size a ≤ S4x32x128.size a) ∧
  (∀ k0_t4 : Fin (k0_t4_loop v41).trips, ∀ a, (k0_off63 v41 k0_t4) a + S1x1x16.size a ≤ S4x32x128.size a) ∧
  (∀ k0_t4 : Fin (k0_t4_loop v41).trips, ∀ a, (k0_off64 v41 k0_t4) a + S1x1x16.size a ≤ S4x32x128.size a) ∧
  (∀ k0_t4 : Fin (k0_t4_loop v41).trips, ∀ a, (k0_off66 v41 k0_t4) a + S1x1x16.size a ≤ S4x32x128.size a) ∧
  (∀ k0_t4 : Fin (k0_t4_loop v41).trips, ∀ a, (k0_off67 v41 k0_t4) a + S1x1x16.size a ≤ S4x32x128.size a) ∧
  (∀ k0_t4 : Fin (k0_t4_loop v41).trips, ∀ a, (k0_off68 v41 k0_t4) a + S1x1x16.size a ≤ S4x32x128.size a) ∧
  (∀ k0_t4 : Fin (k0_t4_loop v41).trips, ∀ a, (k0_off69 v41 k0_t4) a + S1x1x16.size a ≤ S4x32x128.size a) ∧
  (∀ k0_t4 : Fin (k0_t4_loop v41).trips, ∀ a, (k0_off70 v41 k0_t4) a + S1x1x16.size a ≤ S4x32x128.size a) ∧
  (∀ k0_t4 : Fin (k0_t4_loop v41).trips, ∀ a, (k0_off71 v41 k0_t4) a + S1x1x16.size a ≤ S4x32x128.size a) ∧
  (∀ k0_t4 : Fin (k0_t4_loop v41).trips, ∀ a, (k0_off72 v41 k0_t4) a + S1x1x16.size a ≤ S4x32x128.size a) ∧
  (∀ k0_t4 : Fin (k0_t4_loop v41).trips, ∀ a, (k0_off73 v41 k0_t4) a + S1x1x16.size a ≤ S4x32x128.size a) ∧
  (∀ k0_t4 : Fin (k0_t4_loop v41).trips, ∀ a, (k0_off75 v41 k0_t4) a + S1x1x16.size a ≤ S4x32x128.size a) ∧
  (∀ k0_t4 : Fin (k0_t4_loop v41).trips, ∀ a, (k0_off76 v41 k0_t4) a + S1x1x16.size a ≤ S4x32x128.size a) ∧
  (∀ k0_t4 : Fin (k0_t4_loop v41).trips, ∀ a, (k0_off77 v41 k0_t4) a + S1x1x16.size a ≤ S4x32x128.size a) ∧
  (∀ k0_t4 : Fin (k0_t4_loop v41).trips, ∀ a, (k0_off78 v41 k0_t4) a + S1x1x16.size a ≤ S4x32x128.size a) ∧
  (∀ k0_t4 : Fin (k0_t4_loop v41).trips, ∀ a, (k0_off79 v41 k0_t4) a + S1x1x16.size a ≤ S4x32x128.size a) ∧
  (∀ k0_t4 : Fin (k0_t4_loop v41).trips, ∀ a, (k0_off80 v41 k0_t4) a + S1x1x16.size a ≤ S4x32x128.size a) ∧
  (∀ k0_t4 : Fin (k0_t4_loop v41).trips, ∀ a, (k0_off81 v41 k0_t4) a + S1x1x16.size a ≤ S4x32x128.size a) ∧
  (∀ k0_t4 : Fin (k0_t4_loop v41).trips, ∀ a, (k0_off82 v41 k0_t4) a + S1x1x16.size a ≤ S4x32x128.size a) ∧
  (∀ k0_t4 : Fin (k0_t4_loop v41).trips, ∀ a, (k0_off84 v41 k0_t4) a + S1x1x16.size a ≤ S4x32x128.size a)
def k0_chk5_2 (v41 : BitVec 32) : Prop :=
  (∀ k0_t4 : Fin (k0_t4_loop v41).trips, ∀ a, (k0_off85 v41 k0_t4) a + S1x1x16.size a ≤ S4x32x128.size a) ∧
  (∀ k0_t4 : Fin (k0_t4_loop v41).trips, ∀ a, (k0_off86 v41 k0_t4) a + S1x1x16.size a ≤ S4x32x128.size a) ∧
  (∀ k0_t4 : Fin (k0_t4_loop v41).trips, ∀ a, (k0_off87 v41 k0_t4) a + S1x1x16.size a ≤ S4x32x128.size a) ∧
  (∀ k0_t4 : Fin (k0_t4_loop v41).trips, ∀ a, (k0_off88 v41 k0_t4) a + S1x1x16.size a ≤ S4x32x128.size a) ∧
  (∀ k0_t4 : Fin (k0_t4_loop v41).trips, ∀ a, (k0_off89 v41 k0_t4) a + S1x1x16.size a ≤ S4x32x128.size a) ∧
  (∀ k0_t4 : Fin (k0_t4_loop v41).trips, ∀ a, (k0_off90 v41 k0_t4) a + S1x1x16.size a ≤ S4x32x128.size a) ∧
  (∀ k0_t4 : Fin (k0_t4_loop v41).trips, ∀ a, (k0_off91 v41 k0_t4) a + S1x1x16.size a ≤ S4x32x128.size a) ∧
  (∀ k0_t4 : Fin (k0_t4_loop v41).trips, ∀ a, (k0_off93 v41 k0_t4) a + S1x1x16.size a ≤ S4x32x128.size a) ∧
  (∀ k0_t4 : Fin (k0_t4_loop v41).trips, ∀ a, (k0_off94 v41 k0_t4) a + S1x1x16.size a ≤ S4x32x128.size a) ∧
  (∀ k0_t4 : Fin (k0_t4_loop v41).trips, ∀ a, (k0_off95 v41 k0_t4) a + S1x1x16.size a ≤ S4x32x128.size a) ∧
  (∀ k0_t4 : Fin (k0_t4_loop v41).trips, ∀ a, (k0_off96 v41 k0_t4) a + S1x1x16.size a ≤ S4x32x128.size a) ∧
  (∀ k0_t4 : Fin (k0_t4_loop v41).trips, ∀ a, (k0_off97 v41 k0_t4) a + S1x1x16.size a ≤ S4x32x128.size a) ∧
  (∀ k0_t4 : Fin (k0_t4_loop v41).trips, ∀ a, (k0_off98 v41 k0_t4) a + S1x1x16.size a ≤ S4x32x128.size a) ∧
  (∀ k0_t4 : Fin (k0_t4_loop v41).trips, ∀ a, (k0_off99 v41 k0_t4) a + S1x1x16.size a ≤ S4x32x128.size a) ∧
  (∀ k0_t4 : Fin (k0_t4_loop v41).trips, ∀ a, (k0_off100 v41 k0_t4) a + S1x1x16.size a ≤ S4x32x128.size a) ∧
  (∀ k0_t4 : Fin (k0_t4_loop v41).trips, ∀ a, (k0_off102 v41 k0_t4) a + S1x1x16.size a ≤ S4x32x128.size a) ∧
  (∀ k0_t4 : Fin (k0_t4_loop v41).trips, ∀ a, (k0_off103 v41 k0_t4) a + S1x1x16.size a ≤ S4x32x128.size a) ∧
  (∀ k0_t4 : Fin (k0_t4_loop v41).trips, ∀ a, (k0_off104 v41 k0_t4) a + S1x1x16.size a ≤ S4x32x128.size a) ∧
  (∀ k0_t4 : Fin (k0_t4_loop v41).trips, ∀ a, (k0_off105 v41 k0_t4) a + S1x1x16.size a ≤ S4x32x128.size a) ∧
  (∀ k0_t4 : Fin (k0_t4_loop v41).trips, ∀ a, (k0_off106 v41 k0_t4) a + S1x1x16.size a ≤ S4x32x128.size a) ∧
  (∀ k0_t4 : Fin (k0_t4_loop v41).trips, ∀ a, (k0_off107 v41 k0_t4) a + S1x1x16.size a ≤ S4x32x128.size a) ∧
  (∀ k0_t4 : Fin (k0_t4_loop v41).trips, ∀ a, (k0_off108 v41 k0_t4) a + S1x1x16.size a ≤ S4x32x128.size a) ∧
  (∀ k0_t4 : Fin (k0_t4_loop v41).trips, ∀ a, (k0_off109 v41 k0_t4) a + S1x1x16.size a ≤ S4x32x128.size a) ∧
  (∀ k0_t4 : Fin (k0_t4_loop v41).trips, ∀ a, (k0_off111 v41 k0_t4) a + S1x1x16.size a ≤ S4x32x128.size a) ∧
  (∀ k0_t4 : Fin (k0_t4_loop v41).trips, ∀ a, (k0_off112 v41 k0_t4) a + S1x1x16.size a ≤ S4x32x128.size a) ∧
  (∀ k0_t4 : Fin (k0_t4_loop v41).trips, ∀ a, (k0_off113 v41 k0_t4) a + S1x1x16.size a ≤ S4x32x128.size a) ∧
  (∀ k0_t4 : Fin (k0_t4_loop v41).trips, ∀ a, (k0_off114 v41 k0_t4) a + S1x1x16.size a ≤ S4x32x128.size a) ∧
  (∀ k0_t4 : Fin (k0_t4_loop v41).trips, ∀ a, (k0_off115 v41 k0_t4) a + S1x1x16.size a ≤ S4x32x128.size a) ∧
  (∀ k0_t4 : Fin (k0_t4_loop v41).trips, ∀ a, (k0_off116 v41 k0_t4) a + S1x1x16.size a ≤ S4x32x128.size a) ∧
  (∀ k0_t4 : Fin (k0_t4_loop v41).trips, ∀ a, (k0_off117 v41 k0_t4) a + S1x1x16.size a ≤ S4x32x128.size a) ∧
  (∀ k0_t4 : Fin (k0_t4_loop v41).trips, ∀ a, (k0_off118 v41 k0_t4) a + S1x1x16.size a ≤ S4x32x128.size a) ∧
  (∀ k0_t4 : Fin (k0_t4_loop v41).trips, ∀ a, (k0_off120 v41 k0_t4) a + S1x1x16.size a ≤ S4x32x128.size a)
def k0_chk5_3 (v41 : BitVec 32) : Prop :=
  (∀ k0_t4 : Fin (k0_t4_loop v41).trips, ∀ a, (k0_off121 v41 k0_t4) a + S1x1x16.size a ≤ S4x32x128.size a) ∧
  (∀ k0_t4 : Fin (k0_t4_loop v41).trips, ∀ a, (k0_off122 v41 k0_t4) a + S1x1x16.size a ≤ S4x32x128.size a) ∧
  (∀ k0_t4 : Fin (k0_t4_loop v41).trips, ∀ a, (k0_off123 v41 k0_t4) a + S1x1x16.size a ≤ S4x32x128.size a) ∧
  (∀ k0_t4 : Fin (k0_t4_loop v41).trips, ∀ a, (k0_off124 v41 k0_t4) a + S1x1x16.size a ≤ S4x32x128.size a) ∧
  (∀ k0_t4 : Fin (k0_t4_loop v41).trips, ∀ a, (k0_off125 v41 k0_t4) a + S1x1x16.size a ≤ S4x32x128.size a) ∧
  (∀ k0_t4 : Fin (k0_t4_loop v41).trips, ∀ a, (k0_off126 v41 k0_t4) a + S1x1x16.size a ≤ S4x32x128.size a) ∧
  (∀ k0_t4 : Fin (k0_t4_loop v41).trips, ∀ a, (k0_off127 v41 k0_t4) a + S1x1x16.size a ≤ S4x32x128.size a) ∧
  (∀ k0_t4 : Fin (k0_t4_loop v41).trips, ∀ a, (k0_off129 v41 k0_t4) a + S1x1x16.size a ≤ S4x32x128.size a) ∧
  (∀ k0_t4 : Fin (k0_t4_loop v41).trips, ∀ a, (k0_off130 v41 k0_t4) a + S1x1x16.size a ≤ S4x32x128.size a) ∧
  (∀ k0_t4 : Fin (k0_t4_loop v41).trips, ∀ a, (k0_off131 v41 k0_t4) a + S1x1x16.size a ≤ S4x32x128.size a) ∧
  (∀ k0_t4 : Fin (k0_t4_loop v41).trips, ∀ a, (k0_off132 v41 k0_t4) a + S1x1x16.size a ≤ S4x32x128.size a) ∧
  (∀ k0_t4 : Fin (k0_t4_loop v41).trips, ∀ a, (k0_off133 v41 k0_t4) a + S1x1x16.size a ≤ S4x32x128.size a) ∧
  (∀ k0_t4 : Fin (k0_t4_loop v41).trips, ∀ a, (k0_off134 v41 k0_t4) a + S1x1x16.size a ≤ S4x32x128.size a) ∧
  (∀ k0_t4 : Fin (k0_t4_loop v41).trips, ∀ a, (k0_off135 v41 k0_t4) a + S1x1x16.size a ≤ S4x32x128.size a) ∧
  (∀ k0_t4 : Fin (k0_t4_loop v41).trips, ∀ a, (k0_off136 v41 k0_t4) a + S1x1x16.size a ≤ S4x32x128.size a) ∧
  (∀ k0_t4 : Fin (k0_t4_loop v41).trips, ∀ a, (k0_off138 v41 k0_t4) a + S1x1x16.size a ≤ S4x32x128.size a) ∧
  (∀ k0_t4 : Fin (k0_t4_loop v41).trips, ∀ a, (k0_off139 v41 k0_t4) a + S1x1x16.size a ≤ S4x32x128.size a) ∧
  (∀ k0_t4 : Fin (k0_t4_loop v41).trips, ∀ a, (k0_off140 v41 k0_t4) a + S1x1x16.size a ≤ S4x32x128.size a) ∧
  (∀ k0_t4 : Fin (k0_t4_loop v41).trips, ∀ a, (k0_off141 v41 k0_t4) a + S1x1x16.size a ≤ S4x32x128.size a) ∧
  (∀ k0_t4 : Fin (k0_t4_loop v41).trips, ∀ a, (k0_off142 v41 k0_t4) a + S1x1x16.size a ≤ S4x32x128.size a) ∧
  (∀ k0_t4 : Fin (k0_t4_loop v41).trips, ∀ a, (k0_off143 v41 k0_t4) a + S1x1x16.size a ≤ S4x32x128.size a) ∧
  (∀ k0_t4 : Fin (k0_t4_loop v41).trips, ∀ a, (k0_off144 v41 k0_t4) a + S1x1x16.size a ≤ S4x32x128.size a) ∧
  (∀ k0_t4 : Fin (k0_t4_loop v41).trips, ∀ a, (k0_off145 v41 k0_t4) a + S1x1x16.size a ≤ S4x32x128.size a) ∧
  (∀ k0_t4 : Fin (k0_t4_loop v41).trips, ∀ a, (k0_off147 v41 k0_t4) a + S1x1x16.size a ≤ S4x32x128.size a) ∧
  (∀ k0_t4 : Fin (k0_t4_loop v41).trips, ∀ a, (k0_off148 v41 k0_t4) a + S1x1x16.size a ≤ S4x32x128.size a) ∧
  (∀ k0_t4 : Fin (k0_t4_loop v41).trips, ∀ a, (k0_off149 v41 k0_t4) a + S1x1x16.size a ≤ S4x32x128.size a) ∧
  (∀ k0_t4 : Fin (k0_t4_loop v41).trips, ∀ a, (k0_off150 v41 k0_t4) a + S1x1x16.size a ≤ S4x32x128.size a) ∧
  (∀ k0_t4 : Fin (k0_t4_loop v41).trips, ∀ a, (k0_off151 v41 k0_t4) a + S1x1x16.size a ≤ S4x32x128.size a) ∧
  (∀ k0_t4 : Fin (k0_t4_loop v41).trips, ∀ a, (k0_off152 v41 k0_t4) a + S1x1x16.size a ≤ S4x32x128.size a) ∧
  (∀ k0_t4 : Fin (k0_t4_loop v41).trips, ∀ a, (k0_off153 v41 k0_t4) a + S1x1x16.size a ≤ S4x32x128.size a) ∧
  (∀ k0_t4 : Fin (k0_t4_loop v41).trips, ∀ a, (k0_off154 v41 k0_t4) a + S1x1x16.size a ≤ S4x32x128.size a) ∧
  (∀ k0_t4 : Fin (k0_t4_loop v41).trips, ∀ a, (k0_off156 v41 k0_t4) a + S1x1x16.size a ≤ S4x32x128.size a)
def k0_chk5_4 (v41 : BitVec 32) : Prop :=
  (∀ k0_t4 : Fin (k0_t4_loop v41).trips, ∀ a, (k0_off157 v41 k0_t4) a + S1x1x16.size a ≤ S4x32x128.size a) ∧
  (∀ k0_t4 : Fin (k0_t4_loop v41).trips, ∀ a, (k0_off158 v41 k0_t4) a + S1x1x16.size a ≤ S4x32x128.size a) ∧
  (∀ k0_t4 : Fin (k0_t4_loop v41).trips, ∀ a, (k0_off159 v41 k0_t4) a + S1x1x16.size a ≤ S4x32x128.size a) ∧
  (∀ k0_t4 : Fin (k0_t4_loop v41).trips, ∀ a, (k0_off160 v41 k0_t4) a + S1x1x16.size a ≤ S4x32x128.size a) ∧
  (∀ k0_t4 : Fin (k0_t4_loop v41).trips, ∀ a, (k0_off161 v41 k0_t4) a + S1x1x16.size a ≤ S4x32x128.size a) ∧
  (∀ k0_t4 : Fin (k0_t4_loop v41).trips, ∀ a, (k0_off162 v41 k0_t4) a + S1x1x16.size a ≤ S4x32x128.size a) ∧
  (∀ k0_t4 : Fin (k0_t4_loop v41).trips, ∀ a, (k0_off163 v41 k0_t4) a + S1x1x16.size a ≤ S4x32x128.size a) ∧
  (∀ k0_t4 : Fin (k0_t4_loop v41).trips, ∀ a, (k0_off164 v41 k0_t4) a + S16.size a ≤ S8032.size a) ∧
  (∀ k0_t4 : Fin (k0_t4_loop v41).trips, ∀ a, (k0_off166 v41 k0_t4) a + S1x1x16.size a ≤ S4x32x128.size a) ∧
  (∀ k0_t4 : Fin (k0_t4_loop v41).trips, ∀ a, (k0_off167 v41 k0_t4) a + S1x1x16.size a ≤ S4x32x128.size a) ∧
  (∀ k0_t4 : Fin (k0_t4_loop v41).trips, ∀ a, (k0_off168 v41 k0_t4) a + S1x1x16.size a ≤ S4x32x128.size a) ∧
  (∀ k0_t4 : Fin (k0_t4_loop v41).trips, ∀ a, (k0_off169 v41 k0_t4) a + S1x1x16.size a ≤ S4x32x128.size a) ∧
  (∀ k0_t4 : Fin (k0_t4_loop v41).trips, ∀ a, (k0_off170 v41 k0_t4) a + S1x1x16.size a ≤ S4x32x128.size a) ∧
  (∀ k0_t4 : Fin (k0_t4_loop v41).trips, ∀ a, (k0_off171 v41 k0_t4) a + S1x1x16.size a ≤ S4x32x128.size a) ∧
  (∀ k0_t4 : Fin (k0_t4_loop v41).trips, ∀ a, (k0_off172 v41 k0_t4) a + S1x1x16.size a ≤ S4x32x128.size a) ∧
  (∀ k0_t4 : Fin (k0_t4_loop v41).trips, ∀ a, (k0_off173 v41 k0_t4) a + S1x1x16.size a ≤ S4x32x128.size a) ∧
  (∀ k0_t4 : Fin (k0_t4_loop v41).trips, ∀ a, (k0_off175 v41 k0_t4) a + S1x1x16.size a ≤ S4x32x128.size a) ∧
  (∀ k0_t4 : Fin (k0_t4_loop v41).trips, ∀ a, (k0_off176 v41 k0_t4) a + S1x1x16.size a ≤ S4x32x128.size a) ∧
  (∀ k0_t4 : Fin (k0_t4_loop v41).trips, ∀ a, (k0_off177 v41 k0_t4) a + S1x1x16.size a ≤ S4x32x128.size a) ∧
  (∀ k0_t4 : Fin (k0_t4_loop v41).trips, ∀ a, (k0_off178 v41 k0_t4) a + S1x1x16.size a ≤ S4x32x128.size a) ∧
  (∀ k0_t4 : Fin (k0_t4_loop v41).trips, ∀ a, (k0_off179 v41 k0_t4) a + S1x1x16.size a ≤ S4x32x128.size a) ∧
  (∀ k0_t4 : Fin (k0_t4_loop v41).trips, ∀ a, (k0_off180 v41 k0_t4) a + S1x1x16.size a ≤ S4x32x128.size a) ∧
  (∀ k0_t4 : Fin (k0_t4_loop v41).trips, ∀ a, (k0_off181 v41 k0_t4) a + S1x1x16.size a ≤ S4x32x128.size a) ∧
  (∀ k0_t4 : Fin (k0_t4_loop v41).trips, ∀ a, (k0_off182 v41 k0_t4) a + S1x1x16.size a ≤ S4x32x128.size a) ∧
  (∀ k0_t4 : Fin (k0_t4_loop v41).trips, ∀ a, (k0_off184 v41 k0_t4) a + S1x1x16.size a ≤ S4x32x128.size a) ∧
  (∀ k0_t4 : Fin (k0_t4_loop v41).trips, ∀ a, (k0_off185 v41 k0_t4) a + S1x1x16.size a ≤ S4x32x128.size a) ∧
  (∀ k0_t4 : Fin (k0_t4_loop v41).trips, ∀ a, (k0_off186 v41 k0_t4) a + S1x1x16.size a ≤ S4x32x128.size a) ∧
  (∀ k0_t4 : Fin (k0_t4_loop v41).trips, ∀ a, (k0_off187 v41 k0_t4) a + S1x1x16.size a ≤ S4x32x128.size a) ∧
  (∀ k0_t4 : Fin (k0_t4_loop v41).trips, ∀ a, (k0_off188 v41 k0_t4) a + S1x1x16.size a ≤ S4x32x128.size a) ∧
  (∀ k0_t4 : Fin (k0_t4_loop v41).trips, ∀ a, (k0_off189 v41 k0_t4) a + S1x1x16.size a ≤ S4x32x128.size a) ∧
  (∀ k0_t4 : Fin (k0_t4_loop v41).trips, ∀ a, (k0_off190 v41 k0_t4) a + S1x1x16.size a ≤ S4x32x128.size a) ∧
  (∀ k0_t4 : Fin (k0_t4_loop v41).trips, ∀ a, (k0_off191 v41 k0_t4) a + S1x1x16.size a ≤ S4x32x128.size a)
def k0_chk5_5 (v41 : BitVec 32) : Prop :=
  (∀ k0_t4 : Fin (k0_t4_loop v41).trips, ∀ a, (k0_off193 v41 k0_t4) a + S1x1x16.size a ≤ S4x32x128.size a) ∧
  (∀ k0_t4 : Fin (k0_t4_loop v41).trips, ∀ a, (k0_off194 v41 k0_t4) a + S1x1x16.size a ≤ S4x32x128.size a) ∧
  (∀ k0_t4 : Fin (k0_t4_loop v41).trips, ∀ a, (k0_off195 v41 k0_t4) a + S1x1x16.size a ≤ S4x32x128.size a) ∧
  (∀ k0_t4 : Fin (k0_t4_loop v41).trips, ∀ a, (k0_off196 v41 k0_t4) a + S1x1x16.size a ≤ S4x32x128.size a) ∧
  (∀ k0_t4 : Fin (k0_t4_loop v41).trips, ∀ a, (k0_off197 v41 k0_t4) a + S1x1x16.size a ≤ S4x32x128.size a) ∧
  (∀ k0_t4 : Fin (k0_t4_loop v41).trips, ∀ a, (k0_off198 v41 k0_t4) a + S1x1x16.size a ≤ S4x32x128.size a) ∧
  (∀ k0_t4 : Fin (k0_t4_loop v41).trips, ∀ a, (k0_off199 v41 k0_t4) a + S1x1x16.size a ≤ S4x32x128.size a) ∧
  (∀ k0_t4 : Fin (k0_t4_loop v41).trips, ∀ a, (k0_off200 v41 k0_t4) a + S1x1x16.size a ≤ S4x32x128.size a) ∧
  (∀ k0_t4 : Fin (k0_t4_loop v41).trips, ∀ a, (k0_off202 v41 k0_t4) a + S1x1x16.size a ≤ S4x32x128.size a) ∧
  (∀ k0_t4 : Fin (k0_t4_loop v41).trips, ∀ a, (k0_off203 v41 k0_t4) a + S1x1x16.size a ≤ S4x32x128.size a) ∧
  (∀ k0_t4 : Fin (k0_t4_loop v41).trips, ∀ a, (k0_off204 v41 k0_t4) a + S1x1x16.size a ≤ S4x32x128.size a) ∧
  (∀ k0_t4 : Fin (k0_t4_loop v41).trips, ∀ a, (k0_off205 v41 k0_t4) a + S1x1x16.size a ≤ S4x32x128.size a) ∧
  (∀ k0_t4 : Fin (k0_t4_loop v41).trips, ∀ a, (k0_off206 v41 k0_t4) a + S1x1x16.size a ≤ S4x32x128.size a) ∧
  (∀ k0_t4 : Fin (k0_t4_loop v41).trips, ∀ a, (k0_off207 v41 k0_t4) a + S1x1x16.size a ≤ S4x32x128.size a) ∧
  (∀ k0_t4 : Fin (k0_t4_loop v41).trips, ∀ a, (k0_off208 v41 k0_t4) a + S1x1x16.size a ≤ S4x32x128.size a) ∧
  (∀ k0_t4 : Fin (k0_t4_loop v41).trips, ∀ a, (k0_off209 v41 k0_t4) a + S1x1x16.size a ≤ S4x32x128.size a) ∧
  (∀ k0_t4 : Fin (k0_t4_loop v41).trips, ∀ a, (k0_off211 v41 k0_t4) a + S1x1x16.size a ≤ S4x32x128.size a) ∧
  (∀ k0_t4 : Fin (k0_t4_loop v41).trips, ∀ a, (k0_off212 v41 k0_t4) a + S1x1x16.size a ≤ S4x32x128.size a) ∧
  (∀ k0_t4 : Fin (k0_t4_loop v41).trips, ∀ a, (k0_off213 v41 k0_t4) a + S1x1x16.size a ≤ S4x32x128.size a) ∧
  (∀ k0_t4 : Fin (k0_t4_loop v41).trips, ∀ a, (k0_off214 v41 k0_t4) a + S1x1x16.size a ≤ S4x32x128.size a) ∧
  (∀ k0_t4 : Fin (k0_t4_loop v41).trips, ∀ a, (k0_off215 v41 k0_t4) a + S1x1x16.size a ≤ S4x32x128.size a) ∧
  (∀ k0_t4 : Fin (k0_t4_loop v41).trips, ∀ a, (k0_off216 v41 k0_t4) a + S1x1x16.size a ≤ S4x32x128.size a) ∧
  (∀ k0_t4 : Fin (k0_t4_loop v41).trips, ∀ a, (k0_off217 v41 k0_t4) a + S1x1x16.size a ≤ S4x32x128.size a) ∧
  (∀ k0_t4 : Fin (k0_t4_loop v41).trips, ∀ a, (k0_off218 v41 k0_t4) a + S1x1x16.size a ≤ S4x32x128.size a) ∧
  (∀ k0_t4 : Fin (k0_t4_loop v41).trips, ∀ a, (k0_off220 v41 k0_t4) a + S1x1x16.size a ≤ S4x32x128.size a) ∧
  (∀ k0_t4 : Fin (k0_t4_loop v41).trips, ∀ a, (k0_off221 v41 k0_t4) a + S1x1x16.size a ≤ S4x32x128.size a) ∧
  (∀ k0_t4 : Fin (k0_t4_loop v41).trips, ∀ a, (k0_off222 v41 k0_t4) a + S1x1x16.size a ≤ S4x32x128.size a) ∧
  (∀ k0_t4 : Fin (k0_t4_loop v41).trips, ∀ a, (k0_off223 v41 k0_t4) a + S1x1x16.size a ≤ S4x32x128.size a) ∧
  (∀ k0_t4 : Fin (k0_t4_loop v41).trips, ∀ a, (k0_off224 v41 k0_t4) a + S1x1x16.size a ≤ S4x32x128.size a) ∧
  (∀ k0_t4 : Fin (k0_t4_loop v41).trips, ∀ a, (k0_off225 v41 k0_t4) a + S1x1x16.size a ≤ S4x32x128.size a) ∧
  (∀ k0_t4 : Fin (k0_t4_loop v41).trips, ∀ a, (k0_off226 v41 k0_t4) a + S1x1x16.size a ≤ S4x32x128.size a) ∧
  (∀ k0_t4 : Fin (k0_t4_loop v41).trips, ∀ a, (k0_off227 v41 k0_t4) a + S1x1x16.size a ≤ S4x32x128.size a)
def k0_chk5_6 (v41 : BitVec 32) : Prop :=
  (∀ k0_t4 : Fin (k0_t4_loop v41).trips, ∀ a, (k0_off229 v41 k0_t4) a + S1x1x16.size a ≤ S4x32x128.size a) ∧
  (∀ k0_t4 : Fin (k0_t4_loop v41).trips, ∀ a, (k0_off230 v41 k0_t4) a + S1x1x16.size a ≤ S4x32x128.size a) ∧
  (∀ k0_t4 : Fin (k0_t4_loop v41).trips, ∀ a, (k0_off231 v41 k0_t4) a + S1x1x16.size a ≤ S4x32x128.size a) ∧
  (∀ k0_t4 : Fin (k0_t4_loop v41).trips, ∀ a, (k0_off232 v41 k0_t4) a + S1x1x16.size a ≤ S4x32x128.size a) ∧
  (∀ k0_t4 : Fin (k0_t4_loop v41).trips, ∀ a, (k0_off233 v41 k0_t4) a + S1x1x16.size a ≤ S4x32x128.size a) ∧
  (∀ k0_t4 : Fin (k0_t4_loop v41).trips, ∀ a, (k0_off234 v41 k0_t4) a + S1x1x16.size a ≤ S4x32x128.size a) ∧
  (∀ k0_t4 : Fin (k0_t4_loop v41).trips, ∀ a, (k0_off235 v41 k0_t4) a + S1x1x16.size a ≤ S4x32x128.size a) ∧
  (∀ k0_t4 : Fin (k0_t4_loop v41).trips, ∀ a, (k0_off236 v41 k0_t4) a + S1x1x16.size a ≤ S4x32x128.size a) ∧
  (∀ k0_t4 : Fin (k0_t4_loop v41).trips, ∀ a, (k0_off238 v41 k0_t4) a + S1x1x16.size a ≤ S4x32x128.size a) ∧
  (∀ k0_t4 : Fin (k0_t4_loop v41).trips, ∀ a, (k0_off239 v41 k0_t4) a + S1x1x16.size a ≤ S4x32x128.size a) ∧
  (∀ k0_t4 : Fin (k0_t4_loop v41).trips, ∀ a, (k0_off240 v41 k0_t4) a + S1x1x16.size a ≤ S4x32x128.size a) ∧
  (∀ k0_t4 : Fin (k0_t4_loop v41).trips, ∀ a, (k0_off241 v41 k0_t4) a + S1x1x16.size a ≤ S4x32x128.size a) ∧
  (∀ k0_t4 : Fin (k0_t4_loop v41).trips, ∀ a, (k0_off242 v41 k0_t4) a + S1x1x16.size a ≤ S4x32x128.size a) ∧
  (∀ k0_t4 : Fin (k0_t4_loop v41).trips, ∀ a, (k0_off243 v41 k0_t4) a + S1x1x16.size a ≤ S4x32x128.size a) ∧
  (∀ k0_t4 : Fin (k0_t4_loop v41).trips, ∀ a, (k0_off244 v41 k0_t4) a + S1x1x16.size a ≤ S4x32x128.size a) ∧
  (∀ k0_t4 : Fin (k0_t4_loop v41).trips, ∀ a, (k0_off245 v41 k0_t4) a + S1x1x16.size a ≤ S4x32x128.size a) ∧
  (∀ k0_t4 : Fin (k0_t4_loop v41).trips, ∀ a, (k0_off247 v41 k0_t4) a + S1x1x16.size a ≤ S4x32x128.size a) ∧
  (∀ k0_t4 : Fin (k0_t4_loop v41).trips, ∀ a, (k0_off248 v41 k0_t4) a + S1x1x16.size a ≤ S4x32x128.size a) ∧
  (∀ k0_t4 : Fin (k0_t4_loop v41).trips, ∀ a, (k0_off249 v41 k0_t4) a + S1x1x16.size a ≤ S4x32x128.size a) ∧
  (∀ k0_t4 : Fin (k0_t4_loop v41).trips, ∀ a, (k0_off250 v41 k0_t4) a + S1x1x16.size a ≤ S4x32x128.size a) ∧
  (∀ k0_t4 : Fin (k0_t4_loop v41).trips, ∀ a, (k0_off251 v41 k0_t4) a + S1x1x16.size a ≤ S4x32x128.size a) ∧
  (∀ k0_t4 : Fin (k0_t4_loop v41).trips, ∀ a, (k0_off252 v41 k0_t4) a + S1x1x16.size a ≤ S4x32x128.size a) ∧
  (∀ k0_t4 : Fin (k0_t4_loop v41).trips, ∀ a, (k0_off253 v41 k0_t4) a + S1x1x16.size a ≤ S4x32x128.size a) ∧
  (∀ k0_t4 : Fin (k0_t4_loop v41).trips, ∀ a, (k0_off254 v41 k0_t4) a + S1x1x16.size a ≤ S4x32x128.size a) ∧
  (∀ k0_t4 : Fin (k0_t4_loop v41).trips, ∀ a, (k0_off256 v41 k0_t4) a + S1x1x16.size a ≤ S4x32x128.size a) ∧
  (∀ k0_t4 : Fin (k0_t4_loop v41).trips, ∀ a, (k0_off257 v41 k0_t4) a + S1x1x16.size a ≤ S4x32x128.size a) ∧
  (∀ k0_t4 : Fin (k0_t4_loop v41).trips, ∀ a, (k0_off258 v41 k0_t4) a + S1x1x16.size a ≤ S4x32x128.size a) ∧
  (∀ k0_t4 : Fin (k0_t4_loop v41).trips, ∀ a, (k0_off259 v41 k0_t4) a + S1x1x16.size a ≤ S4x32x128.size a) ∧
  (∀ k0_t4 : Fin (k0_t4_loop v41).trips, ∀ a, (k0_off260 v41 k0_t4) a + S1x1x16.size a ≤ S4x32x128.size a) ∧
  (∀ k0_t4 : Fin (k0_t4_loop v41).trips, ∀ a, (k0_off261 v41 k0_t4) a + S1x1x16.size a ≤ S4x32x128.size a) ∧
  (∀ k0_t4 : Fin (k0_t4_loop v41).trips, ∀ a, (k0_off262 v41 k0_t4) a + S1x1x16.size a ≤ S4x32x128.size a) ∧
  (∀ k0_t4 : Fin (k0_t4_loop v41).trips, ∀ a, (k0_off263 v41 k0_t4) a + S1x1x16.size a ≤ S4x32x128.size a)
def k0_chk5_7 (v41 : BitVec 32) : Prop :=
  (∀ k0_t4 : Fin (k0_t4_loop v41).trips, ∀ a, (k0_off265 v41 k0_t4) a + S1x1x16.size a ≤ S4x32x128.size a) ∧
  (∀ k0_t4 : Fin (k0_t4_loop v41).trips, ∀ a, (k0_off266 v41 k0_t4) a + S1x1x16.size a ≤ S4x32x128.size a) ∧
  (∀ k0_t4 : Fin (k0_t4_loop v41).trips, ∀ a, (k0_off267 v41 k0_t4) a + S1x1x16.size a ≤ S4x32x128.size a) ∧
  (∀ k0_t4 : Fin (k0_t4_loop v41).trips, ∀ a, (k0_off268 v41 k0_t4) a + S1x1x16.size a ≤ S4x32x128.size a) ∧
  (∀ k0_t4 : Fin (k0_t4_loop v41).trips, ∀ a, (k0_off269 v41 k0_t4) a + S1x1x16.size a ≤ S4x32x128.size a) ∧
  (∀ k0_t4 : Fin (k0_t4_loop v41).trips, ∀ a, (k0_off270 v41 k0_t4) a + S1x1x16.size a ≤ S4x32x128.size a) ∧
  (∀ k0_t4 : Fin (k0_t4_loop v41).trips, ∀ a, (k0_off271 v41 k0_t4) a + S1x1x16.size a ≤ S4x32x128.size a) ∧
  (∀ k0_t4 : Fin (k0_t4_loop v41).trips, ∀ a, (k0_off272 v41 k0_t4) a + S1x1x16.size a ≤ S4x32x128.size a) ∧
  (∀ k0_t4 : Fin (k0_t4_loop v41).trips, ∀ a, (k0_off274 v41 k0_t4) a + S1x1x16.size a ≤ S4x32x128.size a) ∧
  (∀ k0_t4 : Fin (k0_t4_loop v41).trips, ∀ a, (k0_off275 v41 k0_t4) a + S1x1x16.size a ≤ S4x32x128.size a) ∧
  (∀ k0_t4 : Fin (k0_t4_loop v41).trips, ∀ a, (k0_off276 v41 k0_t4) a + S1x1x16.size a ≤ S4x32x128.size a) ∧
  (∀ k0_t4 : Fin (k0_t4_loop v41).trips, ∀ a, (k0_off277 v41 k0_t4) a + S1x1x16.size a ≤ S4x32x128.size a) ∧
  (∀ k0_t4 : Fin (k0_t4_loop v41).trips, ∀ a, (k0_off278 v41 k0_t4) a + S1x1x16.size a ≤ S4x32x128.size a) ∧
  (∀ k0_t4 : Fin (k0_t4_loop v41).trips, ∀ a, (k0_off279 v41 k0_t4) a + S1x1x16.size a ≤ S4x32x128.size a) ∧
  (∀ k0_t4 : Fin (k0_t4_loop v41).trips, ∀ a, (k0_off280 v41 k0_t4) a + S1x1x16.size a ≤ S4x32x128.size a) ∧
  (∀ k0_t4 : Fin (k0_t4_loop v41).trips, ∀ a, (k0_off281 v41 k0_t4) a + S1x1x16.size a ≤ S4x32x128.size a) ∧
  (∀ k0_t4 : Fin (k0_t4_loop v41).trips, ∀ a, (k0_off283 v41 k0_t4) a + S1x1x16.size a ≤ S4x32x128.size a) ∧
  (∀ k0_t4 : Fin (k0_t4_loop v41).trips, ∀ a, (k0_off284 v41 k0_t4) a + S1x1x16.size a ≤ S4x32x128.size a) ∧
  (∀ k0_t4 : Fin (k0_t4_loop v41).trips, ∀ a, (k0_off285 v41 k0_t4) a + S1x1x16.size a ≤ S4x32x128.size a) ∧
  (∀ k0_t4 : Fin (k0_t4_loop v41).trips, ∀ a, (k0_off286 v41 k0_t4) a + S1x1x16.size a ≤ S4x32x128.size a) ∧
  (∀ k0_t4 : Fin (k0_t4_loop v41).trips, ∀ a, (k0_off287 v41 k0_t4) a + S1x1x16.size a ≤ S4x32x128.size a) ∧
  (∀ k0_t4 : Fin (k0_t4_loop v41).trips, ∀ a, (k0_off288 v41 k0_t4) a + S1x1x16.size a ≤ S4x32x128.size a) ∧
  (∀ k0_t4 : Fin (k0_t4_loop v41).trips, ∀ a, (k0_off289 v41 k0_t4) a + S1x1x16.size a ≤ S4x32x128.size a) ∧
  (∀ k0_t4 : Fin (k0_t4_loop v41).trips, ∀ a, (k0_off290 v41 k0_t4) a + S1x1x16.size a ≤ S4x32x128.size a) ∧
  (∀ k0_t4 : Fin (k0_t4_loop v41).trips, ∀ a, (k0_off292 v41 k0_t4) a + S1x1x16.size a ≤ S4x32x128.size a) ∧
  (∀ k0_t4 : Fin (k0_t4_loop v41).trips, ∀ a, (k0_off293 v41 k0_t4) a + S1x1x16.size a ≤ S4x32x128.size a) ∧
  (∀ k0_t4 : Fin (k0_t4_loop v41).trips, ∀ a, (k0_off294 v41 k0_t4) a + S1x1x16.size a ≤ S4x32x128.size a) ∧
  (∀ k0_t4 : Fin (k0_t4_loop v41).trips, ∀ a, (k0_off295 v41 k0_t4) a + S1x1x16.size a ≤ S4x32x128.size a) ∧
  (∀ k0_t4 : Fin (k0_t4_loop v41).trips, ∀ a, (k0_off296 v41 k0_t4) a + S1x1x16.size a ≤ S4x32x128.size a) ∧
  (∀ k0_t4 : Fin (k0_t4_loop v41).trips, ∀ a, (k0_off297 v41 k0_t4) a + S1x1x16.size a ≤ S4x32x128.size a) ∧
  (∀ k0_t4 : Fin (k0_t4_loop v41).trips, ∀ a, (k0_off298 v41 k0_t4) a + S1x1x16.size a ≤ S4x32x128.size a) ∧
  (∀ k0_t4 : Fin (k0_t4_loop v41).trips, ∀ a, (k0_off299 v41 k0_t4) a + S1x1x16.size a ≤ S4x32x128.size a)
def k0_chk5_8 (v41 : BitVec 32) : Prop :=
  (∀ k0_t4 : Fin (k0_t4_loop v41).trips, ∀ a, (k0_off301 v41 k0_t4) a + S1x1x16.size a ≤ S4x32x128.size a) ∧
  (∀ k0_t4 : Fin (k0_t4_loop v41).trips, ∀ a, (k0_off302 v41 k0_t4) a + S1x1x16.size a ≤ S4x32x128.size a) ∧
  (∀ k0_t4 : Fin (k0_t4_loop v41).trips, ∀ a, (k0_off303 v41 k0_t4) a + S1x1x16.size a ≤ S4x32x128.size a) ∧
  (∀ k0_t4 : Fin (k0_t4_loop v41).trips, ∀ a, (k0_off304 v41 k0_t4) a + S1x1x16.size a ≤ S4x32x128.size a) ∧
  (∀ k0_t4 : Fin (k0_t4_loop v41).trips, ∀ a, (k0_off305 v41 k0_t4) a + S1x1x16.size a ≤ S4x32x128.size a) ∧
  (∀ k0_t4 : Fin (k0_t4_loop v41).trips, ∀ a, (k0_off306 v41 k0_t4) a + S1x1x16.size a ≤ S4x32x128.size a) ∧
  (∀ k0_t4 : Fin (k0_t4_loop v41).trips, ∀ a, (k0_off307 v41 k0_t4) a + S1x1x16.size a ≤ S4x32x128.size a) ∧
  (∀ k0_t4 : Fin (k0_t4_loop v41).trips, ∀ a, (k0_off308 v41 k0_t4) a + S1x1x16.size a ≤ S4x32x128.size a) ∧
  (∀ k0_t4 : Fin (k0_t4_loop v41).trips, ∀ (k0_h6 : k0_cond6 v41 k0_t4 = 1#1), ∀ a, (k0_off309 v41 k0_t4) a + S1x32x128.size a ≤ S4x32x128.size a) ∧
  (∀ k0_t4 : Fin (k0_t4_loop v41).trips, ∀ (k0_h6 : k0_cond6 v41 k0_t4 = 1#1), ∀ a, (k0_off310 v41 k0_t4) a + S32.size a ≤ S8032.size a) ∧
  (∀ k0_t4 : Fin (k0_t4_loop v41).trips, ∀ (k0_h6 : k0_cond6 v41 k0_t4 = 1#1), ∀ a, (k0_off311 v41 k0_t4) a + S1.size a ≤ S4.size a) ∧
  ((k0_t5_loop v41).OK) ∧
  (∀ k0_t5 : Fin (k0_t5_loop v41).trips, ∀ a, (k0_off312 v41 k0_t5) a + S1x32x128.size a ≤ S4x32x128.size a) ∧
  (∀ k0_t5 : Fin (k0_t5_loop v41).trips, ∀ a, (k0_off313 v41 k0_t5) a + S32.size a ≤ S8032.size a) ∧
  (∀ k0_t5 : Fin (k0_t5_loop v41).trips, ∀ a, (k0_off314 v41 k0_t5) a + S1.size a ≤ S4.size a) ∧
  (∀ k0_t5 : Fin (k0_t5_loop v41).trips, ∀ a, (k0_off315 v41 k0_t5) a + S16.size a ≤ S8032.size a) ∧
  (∀ k0_t5 : Fin (k0_t5_loop v41).trips, ∀ a, (k0_off317 v41 k0_t5) a + S1x1x16.size a ≤ S4x32x128.size a) ∧
  (∀ k0_t5 : Fin (k0_t5_loop v41).trips, ∀ a, (k0_off318 v41 k0_t5) a + S1x1x16.size a ≤ S4x32x128.size a) ∧
  (∀ k0_t5 : Fin (k0_t5_loop v41).trips, ∀ a, (k0_off319 v41 k0_t5) a + S1x1x16.size a ≤ S4x32x128.size a) ∧
  (∀ k0_t5 : Fin (k0_t5_loop v41).trips, ∀ a, (k0_off320 v41 k0_t5) a + S1x1x16.size a ≤ S4x32x128.size a) ∧
  (∀ k0_t5 : Fin (k0_t5_loop v41).trips, ∀ a, (k0_off321 v41 k0_t5) a + S1x1x16.size a ≤ S4x32x128.size a) ∧
  (∀ k0_t5 : Fin (k0_t5_loop v41).trips, ∀ a, (k0_off322 v41 k0_t5) a + S1x1x16.size a ≤ S4x32x128.size a) ∧
  (∀ k0_t5 : Fin (k0_t5_loop v41).trips, ∀ a, (k0_off323 v41 k0_t5) a + S1x1x16.size a ≤ S4x32x128.size a) ∧
  (∀ k0_t5 : Fin (k0_t5_loop v41).trips, ∀ a, (k0_off324 v41 k0_t5) a + S1x1x16.size a ≤ S4x32x128.size a) ∧
  (∀ k0_t5 : Fin (k0_t5_loop v41).trips, ∀ a, (k0_off326 v41 k0_t5) a + S1x1x16.size a ≤ S4x32x128.size a) ∧
  (∀ k0_t5 : Fin (k0_t5_loop v41).trips, ∀ a, (k0_off327 v41 k0_t5) a + S1x1x16.size a ≤ S4x32x128.size a) ∧
  (∀ k0_t5 : Fin (k0_t5_loop v41).trips, ∀ a, (k0_off328 v41 k0_t5) a + S1x1x16.size a ≤ S4x32x128.size a) ∧
  (∀ k0_t5 : Fin (k0_t5_loop v41).trips, ∀ a, (k0_off329 v41 k0_t5) a + S1x1x16.size a ≤ S4x32x128.size a) ∧
  (∀ k0_t5 : Fin (k0_t5_loop v41).trips, ∀ a, (k0_off330 v41 k0_t5) a + S1x1x16.size a ≤ S4x32x128.size a) ∧
  (∀ k0_t5 : Fin (k0_t5_loop v41).trips, ∀ a, (k0_off331 v41 k0_t5) a + S1x1x16.size a ≤ S4x32x128.size a) ∧
  (∀ k0_t5 : Fin (k0_t5_loop v41).trips, ∀ a, (k0_off332 v41 k0_t5) a + S1x1x16.size a ≤ S4x32x128.size a) ∧
  (∀ k0_t5 : Fin (k0_t5_loop v41).trips, ∀ a, (k0_off333 v41 k0_t5) a + S1x1x16.size a ≤ S4x32x128.size a)
def k0_chk5_9 (v41 : BitVec 32) : Prop :=
  (∀ k0_t5 : Fin (k0_t5_loop v41).trips, ∀ a, (k0_off335 v41 k0_t5) a + S1x1x16.size a ≤ S4x32x128.size a) ∧
  (∀ k0_t5 : Fin (k0_t5_loop v41).trips, ∀ a, (k0_off336 v41 k0_t5) a + S1x1x16.size a ≤ S4x32x128.size a) ∧
  (∀ k0_t5 : Fin (k0_t5_loop v41).trips, ∀ a, (k0_off337 v41 k0_t5) a + S1x1x16.size a ≤ S4x32x128.size a) ∧
  (∀ k0_t5 : Fin (k0_t5_loop v41).trips, ∀ a, (k0_off338 v41 k0_t5) a + S1x1x16.size a ≤ S4x32x128.size a) ∧
  (∀ k0_t5 : Fin (k0_t5_loop v41).trips, ∀ a, (k0_off339 v41 k0_t5) a + S1x1x16.size a ≤ S4x32x128.size a) ∧
  (∀ k0_t5 : Fin (k0_t5_loop v41).trips, ∀ a, (k0_off340 v41 k0_t5) a + S1x1x16.size a ≤ S4x32x128.size a) ∧
  (∀ k0_t5 : Fin (k0_t5_loop v41).trips, ∀ a, (k0_off341 v41 k0_t5) a + S1x1x16.size a ≤ S4x32x128.size a) ∧
  (∀ k0_t5 : Fin (k0_t5_loop v41).trips, ∀ a, (k0_off342 v41 k0_t5) a + S1x1x16.size a ≤ S4x32x128.size a) ∧
  (∀ k0_t5 : Fin (k0_t5_loop v41).trips, ∀ a, (k0_off344 v41 k0_t5) a + S1x1x16.size a ≤ S4x32x128.size a) ∧
  (∀ k0_t5 : Fin (k0_t5_loop v41).trips, ∀ a, (k0_off345 v41 k0_t5) a + S1x1x16.size a ≤ S4x32x128.size a) ∧
  (∀ k0_t5 : Fin (k0_t5_loop v41).trips, ∀ a, (k0_off346 v41 k0_t5) a + S1x1x16.size a ≤ S4x32x128.size a) ∧
  (∀ k0_t5 : Fin (k0_t5_loop v41).trips, ∀ a, (k0_off347 v41 k0_t5) a + S1x1x16.size a ≤ S4x32x128.size a) ∧
  (∀ k0_t5 : Fin (k0_t5_loop v41).trips, ∀ a, (k0_off348 v41 k0_t5) a + S1x1x16.size a ≤ S4x32x128.size a) ∧
  (∀ k0_t5 : Fin (k0_t5_loop v41).trips, ∀ a, (k0_off349 v41 k0_t5) a + S1x1x16.size a ≤ S4x32x128.size a) ∧
  (∀ k0_t5 : Fin (k0_t5_loop v41).trips, ∀ a, (k0_off350 v41 k0_t5) a + S1x1x16.size a ≤ S4x32x128.size a) ∧
  (∀ k0_t5 : Fin (k0_t5_loop v41).trips, ∀ a, (k0_off351 v41 k0_t5) a + S1x1x16.size a ≤ S4x32x128.size a) ∧
  (∀ k0_t5 : Fin (k0_t5_loop v41).trips, ∀ a, (k0_off353 v41 k0_t5) a + S1x1x16.size a ≤ S4x32x128.size a) ∧
  (∀ k0_t5 : Fin (k0_t5_loop v41).trips, ∀ a, (k0_off354 v41 k0_t5) a + S1x1x16.size a ≤ S4x32x128.size a) ∧
  (∀ k0_t5 : Fin (k0_t5_loop v41).trips, ∀ a, (k0_off355 v41 k0_t5) a + S1x1x16.size a ≤ S4x32x128.size a) ∧
  (∀ k0_t5 : Fin (k0_t5_loop v41).trips, ∀ a, (k0_off356 v41 k0_t5) a + S1x1x16.size a ≤ S4x32x128.size a) ∧
  (∀ k0_t5 : Fin (k0_t5_loop v41).trips, ∀ a, (k0_off357 v41 k0_t5) a + S1x1x16.size a ≤ S4x32x128.size a) ∧
  (∀ k0_t5 : Fin (k0_t5_loop v41).trips, ∀ a, (k0_off358 v41 k0_t5) a + S1x1x16.size a ≤ S4x32x128.size a) ∧
  (∀ k0_t5 : Fin (k0_t5_loop v41).trips, ∀ a, (k0_off359 v41 k0_t5) a + S1x1x16.size a ≤ S4x32x128.size a) ∧
  (∀ k0_t5 : Fin (k0_t5_loop v41).trips, ∀ a, (k0_off360 v41 k0_t5) a + S1x1x16.size a ≤ S4x32x128.size a) ∧
  (∀ k0_t5 : Fin (k0_t5_loop v41).trips, ∀ a, (k0_off362 v41 k0_t5) a + S1x1x16.size a ≤ S4x32x128.size a) ∧
  (∀ k0_t5 : Fin (k0_t5_loop v41).trips, ∀ a, (k0_off363 v41 k0_t5) a + S1x1x16.size a ≤ S4x32x128.size a) ∧
  (∀ k0_t5 : Fin (k0_t5_loop v41).trips, ∀ a, (k0_off364 v41 k0_t5) a + S1x1x16.size a ≤ S4x32x128.size a) ∧
  (∀ k0_t5 : Fin (k0_t5_loop v41).trips, ∀ a, (k0_off365 v41 k0_t5) a + S1x1x16.size a ≤ S4x32x128.size a) ∧
  (∀ k0_t5 : Fin (k0_t5_loop v41).trips, ∀ a, (k0_off366 v41 k0_t5) a + S1x1x16.size a ≤ S4x32x128.size a) ∧
  (∀ k0_t5 : Fin (k0_t5_loop v41).trips, ∀ a, (k0_off367 v41 k0_t5) a + S1x1x16.size a ≤ S4x32x128.size a) ∧
  (∀ k0_t5 : Fin (k0_t5_loop v41).trips, ∀ a, (k0_off368 v41 k0_t5) a + S1x1x16.size a ≤ S4x32x128.size a) ∧
  (∀ k0_t5 : Fin (k0_t5_loop v41).trips, ∀ a, (k0_off369 v41 k0_t5) a + S1x1x16.size a ≤ S4x32x128.size a)
def k0_chk5_10 (v41 : BitVec 32) : Prop :=
  (∀ k0_t5 : Fin (k0_t5_loop v41).trips, ∀ a, (k0_off371 v41 k0_t5) a + S1x1x16.size a ≤ S4x32x128.size a) ∧
  (∀ k0_t5 : Fin (k0_t5_loop v41).trips, ∀ a, (k0_off372 v41 k0_t5) a + S1x1x16.size a ≤ S4x32x128.size a) ∧
  (∀ k0_t5 : Fin (k0_t5_loop v41).trips, ∀ a, (k0_off373 v41 k0_t5) a + S1x1x16.size a ≤ S4x32x128.size a) ∧
  (∀ k0_t5 : Fin (k0_t5_loop v41).trips, ∀ a, (k0_off374 v41 k0_t5) a + S1x1x16.size a ≤ S4x32x128.size a) ∧
  (∀ k0_t5 : Fin (k0_t5_loop v41).trips, ∀ a, (k0_off375 v41 k0_t5) a + S1x1x16.size a ≤ S4x32x128.size a) ∧
  (∀ k0_t5 : Fin (k0_t5_loop v41).trips, ∀ a, (k0_off376 v41 k0_t5) a + S1x1x16.size a ≤ S4x32x128.size a) ∧
  (∀ k0_t5 : Fin (k0_t5_loop v41).trips, ∀ a, (k0_off377 v41 k0_t5) a + S1x1x16.size a ≤ S4x32x128.size a) ∧
  (∀ k0_t5 : Fin (k0_t5_loop v41).trips, ∀ a, (k0_off378 v41 k0_t5) a + S1x1x16.size a ≤ S4x32x128.size a) ∧
  (∀ k0_t5 : Fin (k0_t5_loop v41).trips, ∀ a, (k0_off380 v41 k0_t5) a + S1x1x16.size a ≤ S4x32x128.size a) ∧
  (∀ k0_t5 : Fin (k0_t5_loop v41).trips, ∀ a, (k0_off381 v41 k0_t5) a + S1x1x16.size a ≤ S4x32x128.size a) ∧
  (∀ k0_t5 : Fin (k0_t5_loop v41).trips, ∀ a, (k0_off382 v41 k0_t5) a + S1x1x16.size a ≤ S4x32x128.size a) ∧
  (∀ k0_t5 : Fin (k0_t5_loop v41).trips, ∀ a, (k0_off383 v41 k0_t5) a + S1x1x16.size a ≤ S4x32x128.size a) ∧
  (∀ k0_t5 : Fin (k0_t5_loop v41).trips, ∀ a, (k0_off384 v41 k0_t5) a + S1x1x16.size a ≤ S4x32x128.size a) ∧
  (∀ k0_t5 : Fin (k0_t5_loop v41).trips, ∀ a, (k0_off385 v41 k0_t5) a + S1x1x16.size a ≤ S4x32x128.size a) ∧
  (∀ k0_t5 : Fin (k0_t5_loop v41).trips, ∀ a, (k0_off386 v41 k0_t5) a + S1x1x16.size a ≤ S4x32x128.size a) ∧
  (∀ k0_t5 : Fin (k0_t5_loop v41).trips, ∀ a, (k0_off387 v41 k0_t5) a + S1x1x16.size a ≤ S4x32x128.size a) ∧
  (∀ k0_t5 : Fin (k0_t5_loop v41).trips, ∀ a, (k0_off389 v41 k0_t5) a + S1x1x16.size a ≤ S4x32x128.size a) ∧
  (∀ k0_t5 : Fin (k0_t5_loop v41).trips, ∀ a, (k0_off390 v41 k0_t5) a + S1x1x16.size a ≤ S4x32x128.size a) ∧
  (∀ k0_t5 : Fin (k0_t5_loop v41).trips, ∀ a, (k0_off391 v41 k0_t5) a + S1x1x16.size a ≤ S4x32x128.size a) ∧
  (∀ k0_t5 : Fin (k0_t5_loop v41).trips, ∀ a, (k0_off392 v41 k0_t5) a + S1x1x16.size a ≤ S4x32x128.size a) ∧
  (∀ k0_t5 : Fin (k0_t5_loop v41).trips, ∀ a, (k0_off393 v41 k0_t5) a + S1x1x16.size a ≤ S4x32x128.size a) ∧
  (∀ k0_t5 : Fin (k0_t5_loop v41).trips, ∀ a, (k0_off394 v41 k0_t5) a + S1x1x16.size a ≤ S4x32x128.size a) ∧
  (∀ k0_t5 : Fin (k0_t5_loop v41).trips, ∀ a, (k0_off395 v41 k0_t5) a + S1x1x16.size a ≤ S4x32x128.size a) ∧
  (∀ k0_t5 : Fin (k0_t5_loop v41).trips, ∀ a, (k0_off396 v41 k0_t5) a + S1x1x16.size a ≤ S4x32x128.size a) ∧
  (∀ k0_t5 : Fin (k0_t5_loop v41).trips, ∀ a, (k0_off398 v41 k0_t5) a + S1x1x16.size a ≤ S4x32x128.size a) ∧
  (∀ k0_t5 : Fin (k0_t5_loop v41).trips, ∀ a, (k0_off399 v41 k0_t5) a + S1x1x16.size a ≤ S4x32x128.size a) ∧
  (∀ k0_t5 : Fin (k0_t5_loop v41).trips, ∀ a, (k0_off400 v41 k0_t5) a + S1x1x16.size a ≤ S4x32x128.size a) ∧
  (∀ k0_t5 : Fin (k0_t5_loop v41).trips, ∀ a, (k0_off401 v41 k0_t5) a + S1x1x16.size a ≤ S4x32x128.size a) ∧
  (∀ k0_t5 : Fin (k0_t5_loop v41).trips, ∀ a, (k0_off402 v41 k0_t5) a + S1x1x16.size a ≤ S4x32x128.size a) ∧
  (∀ k0_t5 : Fin (k0_t5_loop v41).trips, ∀ a, (k0_off403 v41 k0_t5) a + S1x1x16.size a ≤ S4x32x128.size a) ∧
  (∀ k0_t5 : Fin (k0_t5_loop v41).trips, ∀ a, (k0_off404 v41 k0_t5) a + S1x1x16.size a ≤ S4x32x128.size a) ∧
  (∀ k0_t5 : Fin (k0_t5_loop v41).trips, ∀ a, (k0_off405 v41 k0_t5) a + S1x1x16.size a ≤ S4x32x128.size a)
def k0_chk5_11 (v41 : BitVec 32) : Prop :=
  (∀ k0_t5 : Fin (k0_t5_loop v41).trips, ∀ a, (k0_off407 v41 k0_t5) a + S1x1x16.size a ≤ S4x32x128.size a) ∧
  (∀ k0_t5 : Fin (k0_t5_loop v41).trips, ∀ a, (k0_off408 v41 k0_t5) a + S1x1x16.size a ≤ S4x32x128.size a) ∧
  (∀ k0_t5 : Fin (k0_t5_loop v41).trips, ∀ a, (k0_off409 v41 k0_t5) a + S1x1x16.size a ≤ S4x32x128.size a) ∧
  (∀ k0_t5 : Fin (k0_t5_loop v41).trips, ∀ a, (k0_off410 v41 k0_t5) a + S1x1x16.size a ≤ S4x32x128.size a) ∧
  (∀ k0_t5 : Fin (k0_t5_loop v41).trips, ∀ a, (k0_off411 v41 k0_t5) a + S1x1x16.size a ≤ S4x32x128.size a) ∧
  (∀ k0_t5 : Fin (k0_t5_loop v41).trips, ∀ a, (k0_off412 v41 k0_t5) a + S1x1x16.size a ≤ S4x32x128.size a) ∧
  (∀ k0_t5 : Fin (k0_t5_loop v41).trips, ∀ a, (k0_off413 v41 k0_t5) a + S1x1x16.size a ≤ S4x32x128.size a) ∧
  (∀ k0_t5 : Fin (k0_t5_loop v41).trips, ∀ a, (k0_off414 v41 k0_t5) a + S1x1x16.size a ≤ S4x32x128.size a) ∧
  (∀ k0_t5 : Fin (k0_t5_loop v41).trips, ∀ a, (k0_off416 v41 k0_t5) a + S1x1x16.size a ≤ S4x32x128.size a) ∧
  (∀ k0_t5 : Fin (k0_t5_loop v41).trips, ∀ a, (k0_off417 v41 k0_t5) a + S1x1x16.size a ≤ S4x32x128.size a) ∧
  (∀ k0_t5 : Fin (k0_t5_loop v41).trips, ∀ a, (k0_off418 v41 k0_t5) a + S1x1x16.size a ≤ S4x32x128.size a) ∧
  (∀ k0_t5 : Fin (k0_t5_loop v41).trips, ∀ a, (k0_off419 v41 k0_t5) a + S1x1x16.size a ≤ S4x32x128.size a) ∧
  (∀ k0_t5 : Fin (k0_t5_loop v41).trips, ∀ a, (k0_off420 v41 k0_t5) a + S1x1x16.size a ≤ S4x32x128.size a) ∧
  (∀ k0_t5 : Fin (k0_t5_loop v41).trips, ∀ a, (k0_off421 v41 k0_t5) a + S1x1x16.size a ≤ S4x32x128.size a) ∧
  (∀ k0_t5 : Fin (k0_t5_loop v41).trips, ∀ a, (k0_off422 v41 k0_t5) a + S1x1x16.size a ≤ S4x32x128.size a) ∧
  (∀ k0_t5 : Fin (k0_t5_loop v41).trips, ∀ a, (k0_off423 v41 k0_t5) a + S1x1x16.size a ≤ S4x32x128.size a) ∧
  (∀ k0_t5 : Fin (k0_t5_loop v41).trips, ∀ a, (k0_off425 v41 k0_t5) a + S1x1x16.size a ≤ S4x32x128.size a) ∧
  (∀ k0_t5 : Fin (k0_t5_loop v41).trips, ∀ a, (k0_off426 v41 k0_t5) a + S1x1x16.size a ≤ S4x32x128.size a) ∧
  (∀ k0_t5 : Fin (k0_t5_loop v41).trips, ∀ a, (k0_off427 v41 k0_t5) a + S1x1x16.size a ≤ S4x32x128.size a) ∧
  (∀ k0_t5 : Fin (k0_t5_loop v41).trips, ∀ a, (k0_off428 v41 k0_t5) a + S1x1x16.size a ≤ S4x32x128.size a) ∧
  (∀ k0_t5 : Fin (k0_t5_loop v41).trips, ∀ a, (k0_off429 v41 k0_t5) a + S1x1x16.size a ≤ S4x32x128.size a) ∧
  (∀ k0_t5 : Fin (k0_t5_loop v41).trips, ∀ a, (k0_off430 v41 k0_t5) a + S1x1x16.size a ≤ S4x32x128.size a) ∧
  (∀ k0_t5 : Fin (k0_t5_loop v41).trips, ∀ a, (k0_off431 v41 k0_t5) a + S1x1x16.size a ≤ S4x32x128.size a) ∧
  (∀ k0_t5 : Fin (k0_t5_loop v41).trips, ∀ a, (k0_off432 v41 k0_t5) a + S1x1x16.size a ≤ S4x32x128.size a) ∧
  (∀ k0_t5 : Fin (k0_t5_loop v41).trips, ∀ a, (k0_off434 v41 k0_t5) a + S1x1x16.size a ≤ S4x32x128.size a) ∧
  (∀ k0_t5 : Fin (k0_t5_loop v41).trips, ∀ a, (k0_off435 v41 k0_t5) a + S1x1x16.size a ≤ S4x32x128.size a) ∧
  (∀ k0_t5 : Fin (k0_t5_loop v41).trips, ∀ a, (k0_off436 v41 k0_t5) a + S1x1x16.size a ≤ S4x32x128.size a) ∧
  (∀ k0_t5 : Fin (k0_t5_loop v41).trips, ∀ a, (k0_off437 v41 k0_t5) a + S1x1x16.size a ≤ S4x32x128.size a) ∧
  (∀ k0_t5 : Fin (k0_t5_loop v41).trips, ∀ a, (k0_off438 v41 k0_t5) a + S1x1x16.size a ≤ S4x32x128.size a) ∧
  (∀ k0_t5 : Fin (k0_t5_loop v41).trips, ∀ a, (k0_off439 v41 k0_t5) a + S1x1x16.size a ≤ S4x32x128.size a) ∧
  (∀ k0_t5 : Fin (k0_t5_loop v41).trips, ∀ a, (k0_off440 v41 k0_t5) a + S1x1x16.size a ≤ S4x32x128.size a) ∧
  (∀ k0_t5 : Fin (k0_t5_loop v41).trips, ∀ a, (k0_off441 v41 k0_t5) a + S1x1x16.size a ≤ S4x32x128.size a)
def k0_chk5_12 (v41 : BitVec 32) : Prop :=
  (∀ k0_t5 : Fin (k0_t5_loop v41).trips, ∀ a, (k0_off443 v41 k0_t5) a + S1x1x16.size a ≤ S4x32x128.size a) ∧
  (∀ k0_t5 : Fin (k0_t5_loop v41).trips, ∀ a, (k0_off444 v41 k0_t5) a + S1x1x16.size a ≤ S4x32x128.size a) ∧
  (∀ k0_t5 : Fin (k0_t5_loop v41).trips, ∀ a, (k0_off445 v41 k0_t5) a + S1x1x16.size a ≤ S4x32x128.size a) ∧
  (∀ k0_t5 : Fin (k0_t5_loop v41).trips, ∀ a, (k0_off446 v41 k0_t5) a + S1x1x16.size a ≤ S4x32x128.size a) ∧
  (∀ k0_t5 : Fin (k0_t5_loop v41).trips, ∀ a, (k0_off447 v41 k0_t5) a + S1x1x16.size a ≤ S4x32x128.size a) ∧
  (∀ k0_t5 : Fin (k0_t5_loop v41).trips, ∀ a, (k0_off448 v41 k0_t5) a + S1x1x16.size a ≤ S4x32x128.size a) ∧
  (∀ k0_t5 : Fin (k0_t5_loop v41).trips, ∀ a, (k0_off449 v41 k0_t5) a + S1x1x16.size a ≤ S4x32x128.size a) ∧
  (∀ k0_t5 : Fin (k0_t5_loop v41).trips, ∀ a, (k0_off450 v41 k0_t5) a + S1x1x16.size a ≤ S4x32x128.size a) ∧
  (∀ k0_t5 : Fin (k0_t5_loop v41).trips, ∀ a, (k0_off452 v41 k0_t5) a + S1x1x16.size a ≤ S4x32x128.size a) ∧
  (∀ k0_t5 : Fin (k0_t5_loop v41).trips, ∀ a, (k0_off453 v41 k0_t5) a + S1x1x16.size a ≤ S4x32x128.size a) ∧
  (∀ k0_t5 : Fin (k0_t5_loop v41).trips, ∀ a, (k0_off454 v41 k0_t5) a + S1x1x16.size a ≤ S4x32x128.size a) ∧
  (∀ k0_t5 : Fin (k0_t5_loop v41).trips, ∀ a, (k0_off455 v41 k0_t5) a + S1x1x16.size a ≤ S4x32x128.size a) ∧
  (∀ k0_t5 : Fin (k0_t5_loop v41).trips, ∀ a, (k0_off456 v41 k0_t5) a + S1x1x16.size a ≤ S4x32x128.size a) ∧
  (∀ k0_t5 : Fin (k0_t5_loop v41).trips, ∀ a, (k0_off457 v41 k0_t5) a + S1x1x16.size a ≤ S4x32x128.size a) ∧
  (∀ k0_t5 : Fin (k0_t5_loop v41).trips, ∀ a, (k0_off458 v41 k0_t5) a + S1x1x16.size a ≤ S4x32x128.size a) ∧
  (∀ k0_t5 : Fin (k0_t5_loop v41).trips, ∀ a, (k0_off459 v41 k0_t5) a + S1x1x16.size a ≤ S4x32x128.size a) ∧
  (∀ k0_t5 : Fin (k0_t5_loop v41).trips, ∀ a, (k0_off460 v41 k0_t5) a + S16.size a ≤ S8032.size a) ∧
  (∀ k0_t5 : Fin (k0_t5_loop v41).trips, ∀ a, (k0_off462 v41 k0_t5) a + S1x1x16.size a ≤ S4x32x128.size a) ∧
  (∀ k0_t5 : Fin (k0_t5_loop v41).trips, ∀ a, (k0_off463 v41 k0_t5) a + S1x1x16.size a ≤ S4x32x128.size a) ∧
  (∀ k0_t5 : Fin (k0_t5_loop v41).trips, ∀ a, (k0_off464 v41 k0_t5) a + S1x1x16.size a ≤ S4x32x128.size a) ∧
  (∀ k0_t5 : Fin (k0_t5_loop v41).trips, ∀ a, (k0_off465 v41 k0_t5) a + S1x1x16.size a ≤ S4x32x128.size a) ∧
  (∀ k0_t5 : Fin (k0_t5_loop v41).trips, ∀ a, (k0_off466 v41 k0_t5) a + S1x1x16.size a ≤ S4x32x128.size a) ∧
  (∀ k0_t5 : Fin (k0_t5_loop v41).trips, ∀ a, (k0_off467 v41 k0_t5) a + S1x1x16.size a ≤ S4x32x128.size a) ∧
  (∀ k0_t5 : Fin (k0_t5_loop v41).trips, ∀ a, (k0_off468 v41 k0_t5) a + S1x1x16.size a ≤ S4x32x128.size a) ∧
  (∀ k0_t5 : Fin (k0_t5_loop v41).trips, ∀ a, (k0_off469 v41 k0_t5) a + S1x1x16.size a ≤ S4x32x128.size a) ∧
  (∀ k0_t5 : Fin (k0_t5_loop v41).trips, ∀ a, (k0_off471 v41 k0_t5) a + S1x1x16.size a ≤ S4x32x128.size a) ∧
  (∀ k0_t5 : Fin (k0_t5_loop v41).trips, ∀ a, (k0_off472 v41 k0_t5) a + S1x1x16.size a ≤ S4x32x128.size a) ∧
  (∀ k0_t5 : Fin (k0_t5_loop v41).trips, ∀ a, (k0_off473 v41 k0_t5) a + S1x1x16.size a ≤ S4x32x128.size a) ∧
  (∀ k0_t5 : Fin (k0_t5_loop v41).trips, ∀ a, (k0_off474 v41 k0_t5) a + S1x1x16.size a ≤ S4x32x128.size a) ∧
  (∀ k0_t5 : Fin (k0_t5_loop v41).trips, ∀ a, (k0_off475 v41 k0_t5) a + S1x1x16.size a ≤ S4x32x128.size a) ∧
  (∀ k0_t5 : Fin (k0_t5_loop v41).trips, ∀ a, (k0_off476 v41 k0_t5) a + S1x1x16.size a ≤ S4x32x128.size a) ∧
  (∀ k0_t5 : Fin (k0_t5_loop v41).trips, ∀ a, (k0_off477 v41 k0_t5) a + S1x1x16.size a ≤ S4x32x128.size a)
def k0_chk5_13 (v41 : BitVec 32) : Prop :=
  (∀ k0_t5 : Fin (k0_t5_loop v41).trips, ∀ a, (k0_off478 v41 k0_t5) a + S1x1x16.size a ≤ S4x32x128.size a) ∧
  (∀ k0_t5 : Fin (k0_t5_loop v41).trips, ∀ a, (k0_off480 v41 k0_t5) a + S1x1x16.size a ≤ S4x32x128.size a) ∧
  (∀ k0_t5 : Fin (k0_t5_loop v41).trips, ∀ a, (k0_off481 v41 k0_t5) a + S1x1x16.size a ≤ S4x32x128.size a) ∧
  (∀ k0_t5 : Fin (k0_t5_loop v41).trips, ∀ a, (k0_off482 v41 k0_t5) a + S1x1x16.size a ≤ S4x32x128.size a) ∧
  (∀ k0_t5 : Fin (k0_t5_loop v41).trips, ∀ a, (k0_off483 v41 k0_t5) a + S1x1x16.size a ≤ S4x32x128.size a) ∧
  (∀ k0_t5 : Fin (k0_t5_loop v41).trips, ∀ a, (k0_off484 v41 k0_t5) a + S1x1x16.size a ≤ S4x32x128.size a) ∧
  (∀ k0_t5 : Fin (k0_t5_loop v41).trips, ∀ a, (k0_off485 v41 k0_t5) a + S1x1x16.size a ≤ S4x32x128.size a) ∧
  (∀ k0_t5 : Fin (k0_t5_loop v41).trips, ∀ a, (k0_off486 v41 k0_t5) a + S1x1x16.size a ≤ S4x32x128.size a) ∧
  (∀ k0_t5 : Fin (k0_t5_loop v41).trips, ∀ a, (k0_off487 v41 k0_t5) a + S1x1x16.size a ≤ S4x32x128.size a) ∧
  (∀ k0_t5 : Fin (k0_t5_loop v41).trips, ∀ a, (k0_off489 v41 k0_t5) a + S1x1x16.size a ≤ S4x32x128.size a) ∧
  (∀ k0_t5 : Fin (k0_t5_loop v41).trips, ∀ a, (k0_off490 v41 k0_t5) a + S1x1x16.size a ≤ S4x32x128.size a) ∧
  (∀ k0_t5 : Fin (k0_t5_loop v41).trips, ∀ a, (k0_off491 v41 k0_t5) a + S1x1x16.size a ≤ S4x32x128.size a) ∧
  (∀ k0_t5 : Fin (k0_t5_loop v41).trips, ∀ a, (k0_off492 v41 k0_t5) a + S1x1x16.size a ≤ S4x32x128.size a) ∧
  (∀ k0_t5 : Fin (k0_t5_loop v41).trips, ∀ a, (k0_off493 v41 k0_t5) a + S1x1x16.size a ≤ S4x32x128.size a) ∧
  (∀ k0_t5 : Fin (k0_t5_loop v41).trips, ∀ a, (k0_off494 v41 k0_t5) a + S1x1x16.size a ≤ S4x32x128.size a) ∧
  (∀ k0_t5 : Fin (k0_t5_loop v41).trips, ∀ a, (k0_off495 v41 k0_t5) a + S1x1x16.size a ≤ S4x32x128.size a) ∧
  (∀ k0_t5 : Fin (k0_t5_loop v41).trips, ∀ a, (k0_off496 v41 k0_t5) a + S1x1x16.size a ≤ S4x32x128.size a) ∧
  (∀ k0_t5 : Fin (k0_t5_loop v41).trips, ∀ a, (k0_off498 v41 k0_t5) a + S1x1x16.size a ≤ S4x32x128.size a) ∧
  (∀ k0_t5 : Fin (k0_t5_loop v41).trips, ∀ a, (k0_off499 v41 k0_t5) a + S1x1x16.size a ≤ S4x32x128.size a) ∧
  (∀ k0_t5 : Fin (k0_t5_loop v41).trips, ∀ a, (k0_off500 v41 k0_t5) a + S1x1x16.size a ≤ S4x32x128.size a) ∧
  (∀ k0_t5 : Fin (k0_t5_loop v41).trips, ∀ a, (k0_off501 v41 k0_t5) a + S1x1x16.size a ≤ S4x32x128.size a) ∧
  (∀ k0_t5 : Fin (k0_t5_loop v41).trips, ∀ a, (k0_off502 v41 k0_t5) a + S1x1x16.size a ≤ S4x32x128.size a) ∧
  (∀ k0_t5 : Fin (k0_t5_loop v41).trips, ∀ a, (k0_off503 v41 k0_t5) a + S1x1x16.size a ≤ S4x32x128.size a) ∧
  (∀ k0_t5 : Fin (k0_t5_loop v41).trips, ∀ a, (k0_off504 v41 k0_t5) a + S1x1x16.size a ≤ S4x32x128.size a) ∧
  (∀ k0_t5 : Fin (k0_t5_loop v41).trips, ∀ a, (k0_off505 v41 k0_t5) a + S1x1x16.size a ≤ S4x32x128.size a) ∧
  (∀ k0_t5 : Fin (k0_t5_loop v41).trips, ∀ a, (k0_off507 v41 k0_t5) a + S1x1x16.size a ≤ S4x32x128.size a) ∧
  (∀ k0_t5 : Fin (k0_t5_loop v41).trips, ∀ a, (k0_off508 v41 k0_t5) a + S1x1x16.size a ≤ S4x32x128.size a) ∧
  (∀ k0_t5 : Fin (k0_t5_loop v41).trips, ∀ a, (k0_off509 v41 k0_t5) a + S1x1x16.size a ≤ S4x32x128.size a) ∧
  (∀ k0_t5 : Fin (k0_t5_loop v41).trips, ∀ a, (k0_off510 v41 k0_t5) a + S1x1x16.size a ≤ S4x32x128.size a) ∧
  (∀ k0_t5 : Fin (k0_t5_loop v41).trips, ∀ a, (k0_off511 v41 k0_t5) a + S1x1x16.size a ≤ S4x32x128.size a) ∧
  (∀ k0_t5 : Fin (k0_t5_loop v41).trips, ∀ a, (k0_off512 v41 k0_t5) a + S1x1x16.size a ≤ S4x32x128.size a) ∧
  (∀ k0_t5 : Fin (k0_t5_loop v41).trips, ∀ a, (k0_off513 v41 k0_t5) a + S1x1x16.size a ≤ S4x32x128.size a)
def k0_chk5_14 (v41 : BitVec 32) : Prop :=
  (∀ k0_t5 : Fin (k0_t5_loop v41).trips, ∀ a, (k0_off514 v41 k0_t5) a + S1x1x16.size a ≤ S4x32x128.size a) ∧
  (∀ k0_t5 : Fin (k0_t5_loop v41).trips, ∀ a, (k0_off516 v41 k0_t5) a + S1x1x16.size a ≤ S4x32x128.size a) ∧
  (∀ k0_t5 : Fin (k0_t5_loop v41).trips, ∀ a, (k0_off517 v41 k0_t5) a + S1x1x16.size a ≤ S4x32x128.size a) ∧
  (∀ k0_t5 : Fin (k0_t5_loop v41).trips, ∀ a, (k0_off518 v41 k0_t5) a + S1x1x16.size a ≤ S4x32x128.size a) ∧
  (∀ k0_t5 : Fin (k0_t5_loop v41).trips, ∀ a, (k0_off519 v41 k0_t5) a + S1x1x16.size a ≤ S4x32x128.size a) ∧
  (∀ k0_t5 : Fin (k0_t5_loop v41).trips, ∀ a, (k0_off520 v41 k0_t5) a + S1x1x16.size a ≤ S4x32x128.size a) ∧
  (∀ k0_t5 : Fin (k0_t5_loop v41).trips, ∀ a, (k0_off521 v41 k0_t5) a + S1x1x16.size a ≤ S4x32x128.size a) ∧
  (∀ k0_t5 : Fin (k0_t5_loop v41).trips, ∀ a, (k0_off522 v41 k0_t5) a + S1x1x16.size a ≤ S4x32x128.size a) ∧
  (∀ k0_t5 : Fin (k0_t5_loop v41).trips, ∀ a, (k0_off523 v41 k0_t5) a + S1x1x16.size a ≤ S4x32x128.size a) ∧
  (∀ k0_t5 : Fin (k0_t5_loop v41).trips, ∀ a, (k0_off525 v41 k0_t5) a + S1x1x16.size a ≤ S4x32x128.size a) ∧
  (∀ k0_t5 : Fin (k0_t5_loop v41).trips, ∀ a, (k0_off526 v41 k0_t5) a + S1x1x16.size a ≤ S4x32x128.size a) ∧
  (∀ k0_t5 : Fin (k0_t5_loop v41).trips, ∀ a, (k0_off527 v41 k0_t5) a + S1x1x16.size a ≤ S4x32x128.size a) ∧
  (∀ k0_t5 : Fin (k0_t5_loop v41).trips, ∀ a, (k0_off528 v41 k0_t5) a + S1x1x16.size a ≤ S4x32x128.size a) ∧
  (∀ k0_t5 : Fin (k0_t5_loop v41).trips, ∀ a, (k0_off529 v41 k0_t5) a + S1x1x16.size a ≤ S4x32x128.size a) ∧
  (∀ k0_t5 : Fin (k0_t5_loop v41).trips, ∀ a, (k0_off530 v41 k0_t5) a + S1x1x16.size a ≤ S4x32x128.size a) ∧
  (∀ k0_t5 : Fin (k0_t5_loop v41).trips, ∀ a, (k0_off531 v41 k0_t5) a + S1x1x16.size a ≤ S4x32x128.size a) ∧
  (∀ k0_t5 : Fin (k0_t5_loop v41).trips, ∀ a, (k0_off532 v41 k0_t5) a + S1x1x16.size a ≤ S4x32x128.size a) ∧
  (∀ k0_t5 : Fin (k0_t5_loop v41).trips, ∀ a, (k0_off534 v41 k0_t5) a + S1x1x16.size a ≤ S4x32x128.size a) ∧
  (∀ k0_t5 : Fin (k0_t5_loop v41).trips, ∀ a, (k0_off535 v41 k0_t5) a + S1x1x16.size a ≤ S4x32x128.size a) ∧
  (∀ k0_t5 : Fin (k0_t5_loop v41).trips, ∀ a, (k0_off536 v41 k0_t5) a + S1x1x16.size a ≤ S4x32x128.size a) ∧
  (∀ k0_t5 : Fin (k0_t5_loop v41).trips, ∀ a, (k0_off537 v41 k0_t5) a + S1x1x16.size a ≤ S4x32x128.size a) ∧
  (∀ k0_t5 : Fin (k0_t5_loop v41).trips, ∀ a, (k0_off538 v41 k0_t5) a + S1x1x16.size a ≤ S4x32x128.size a) ∧
  (∀ k0_t5 : Fin (k0_t5_loop v41).trips, ∀ a, (k0_off539 v41 k0_t5) a + S1x1x16.size a ≤ S4x32x128.size a) ∧
  (∀ k0_t5 : Fin (k0_t5_loop v41).trips, ∀ a, (k0_off540 v41 k0_t5) a + S1x1x16.size a ≤ S4x32x128.size a) ∧
  (∀ k0_t5 : Fin (k0_t5_loop v41).trips, ∀ a, (k0_off541 v41 k0_t5) a + S1x1x16.size a ≤ S4x32x128.size a) ∧
  (∀ k0_t5 : Fin (k0_t5_loop v41).trips, ∀ a, (k0_off543 v41 k0_t5) a + S1x1x16.size a ≤ S4x32x128.size a) ∧
  (∀ k0_t5 : Fin (k0_t5_loop v41).trips, ∀ a, (k0_off544 v41 k0_t5) a + S1x1x16.size a ≤ S4x32x128.size a) ∧
  (∀ k0_t5 : Fin (k0_t5_loop v41).trips, ∀ a, (k0_off545 v41 k0_t5) a + S1x1x16.size a ≤ S4x32x128.size a) ∧
  (∀ k0_t5 : Fin (k0_t5_loop v41).trips, ∀ a, (k0_off546 v41 k0_t5) a + S1x1x16.size a ≤ S4x32x128.size a) ∧
  (∀ k0_t5 : Fin (k0_t5_loop v41).trips, ∀ a, (k0_off547 v41 k0_t5) a + S1x1x16.size a ≤ S4x32x128.size a) ∧
  (∀ k0_t5 : Fin (k0_t5_loop v41).trips, ∀ a, (k0_off548 v41 k0_t5) a + S1x1x16.size a ≤ S4x32x128.size a) ∧
  (∀ k0_t5 : Fin (k0_t5_loop v41).trips, ∀ a, (k0_off549 v41 k0_t5) a + S1x1x16.size a ≤ S4x32x128.size a)
def k0_chk5_15 (v41 : BitVec 32) : Prop :=
  (∀ k0_t5 : Fin (k0_t5_loop v41).trips, ∀ a, (k0_off550 v41 k0_t5) a + S1x1x16.size a ≤ S4x32x128.size a) ∧
  (∀ k0_t5 : Fin (k0_t5_loop v41).trips, ∀ a, (k0_off552 v41 k0_t5) a + S1x1x16.size a ≤ S4x32x128.size a) ∧
  (∀ k0_t5 : Fin (k0_t5_loop v41).trips, ∀ a, (k0_off553 v41 k0_t5) a + S1x1x16.size a ≤ S4x32x128.size a) ∧
  (∀ k0_t5 : Fin (k0_t5_loop v41).trips, ∀ a, (k0_off554 v41 k0_t5) a + S1x1x16.size a ≤ S4x32x128.size a) ∧
  (∀ k0_t5 : Fin (k0_t5_loop v41).trips, ∀ a, (k0_off555 v41 k0_t5) a + S1x1x16.size a ≤ S4x32x128.size a) ∧
  (∀ k0_t5 : Fin (k0_t5_loop v41).trips, ∀ a, (k0_off556 v41 k0_t5) a + S1x1x16.size a ≤ S4x32x128.size a) ∧
  (∀ k0_t5 : Fin (k0_t5_loop v41).trips, ∀ a, (k0_off557 v41 k0_t5) a + S1x1x16.size a ≤ S4x32x128.size a) ∧
  (∀ k0_t5 : Fin (k0_t5_loop v41).trips, ∀ a, (k0_off558 v41 k0_t5) a + S1x1x16.size a ≤ S4x32x128.size a) ∧
  (∀ k0_t5 : Fin (k0_t5_loop v41).trips, ∀ a, (k0_off559 v41 k0_t5) a + S1x1x16.size a ≤ S4x32x128.size a) ∧
  (∀ k0_t5 : Fin (k0_t5_loop v41).trips, ∀ a, (k0_off561 v41 k0_t5) a + S1x1x16.size a ≤ S4x32x128.size a) ∧
  (∀ k0_t5 : Fin (k0_t5_loop v41).trips, ∀ a, (k0_off562 v41 k0_t5) a + S1x1x16.size a ≤ S4x32x128.size a) ∧
  (∀ k0_t5 : Fin (k0_t5_loop v41).trips, ∀ a, (k0_off563 v41 k0_t5) a + S1x1x16.size a ≤ S4x32x128.size a) ∧
  (∀ k0_t5 : Fin (k0_t5_loop v41).trips, ∀ a, (k0_off564 v41 k0_t5) a + S1x1x16.size a ≤ S4x32x128.size a) ∧
  (∀ k0_t5 : Fin (k0_t5_loop v41).trips, ∀ a, (k0_off565 v41 k0_t5) a + S1x1x16.size a ≤ S4x32x128.size a) ∧
  (∀ k0_t5 : Fin (k0_t5_loop v41).trips, ∀ a, (k0_off566 v41 k0_t5) a + S1x1x16.size a ≤ S4x32x128.size a) ∧
  (∀ k0_t5 : Fin (k0_t5_loop v41).trips, ∀ a, (k0_off567 v41 k0_t5) a + S1x1x16.size a ≤ S4x32x128.size a) ∧
  (∀ k0_t5 : Fin (k0_t5_loop v41).trips, ∀ a, (k0_off568 v41 k0_t5) a + S1x1x16.size a ≤ S4x32x128.size a) ∧
  (∀ k0_t5 : Fin (k0_t5_loop v41).trips, ∀ a, (k0_off570 v41 k0_t5) a + S1x1x16.size a ≤ S4x32x128.size a) ∧
  (∀ k0_t5 : Fin (k0_t5_loop v41).trips, ∀ a, (k0_off571 v41 k0_t5) a + S1x1x16.size a ≤ S4x32x128.size a) ∧
  (∀ k0_t5 : Fin (k0_t5_loop v41).trips, ∀ a, (k0_off572 v41 k0_t5) a + S1x1x16.size a ≤ S4x32x128.size a) ∧
  (∀ k0_t5 : Fin (k0_t5_loop v41).trips, ∀ a, (k0_off573 v41 k0_t5) a + S1x1x16.size a ≤ S4x32x128.size a) ∧
  (∀ k0_t5 : Fin (k0_t5_loop v41).trips, ∀ a, (k0_off574 v41 k0_t5) a + S1x1x16.size a ≤ S4x32x128.size a) ∧
  (∀ k0_t5 : Fin (k0_t5_loop v41).trips, ∀ a, (k0_off575 v41 k0_t5) a + S1x1x16.size a ≤ S4x32x128.size a) ∧
  (∀ k0_t5 : Fin (k0_t5_loop v41).trips, ∀ a, (k0_off576 v41 k0_t5) a + S1x1x16.size a ≤ S4x32x128.size a) ∧
  (∀ k0_t5 : Fin (k0_t5_loop v41).trips, ∀ a, (k0_off577 v41 k0_t5) a + S1x1x16.size a ≤ S4x32x128.size a) ∧
  (∀ k0_t5 : Fin (k0_t5_loop v41).trips, ∀ a, (k0_off579 v41 k0_t5) a + S1x1x16.size a ≤ S4x32x128.size a) ∧
  (∀ k0_t5 : Fin (k0_t5_loop v41).trips, ∀ a, (k0_off580 v41 k0_t5) a + S1x1x16.size a ≤ S4x32x128.size a) ∧
  (∀ k0_t5 : Fin (k0_t5_loop v41).trips, ∀ a, (k0_off581 v41 k0_t5) a + S1x1x16.size a ≤ S4x32x128.size a) ∧
  (∀ k0_t5 : Fin (k0_t5_loop v41).trips, ∀ a, (k0_off582 v41 k0_t5) a + S1x1x16.size a ≤ S4x32x128.size a) ∧
  (∀ k0_t5 : Fin (k0_t5_loop v41).trips, ∀ a, (k0_off583 v41 k0_t5) a + S1x1x16.size a ≤ S4x32x128.size a) ∧
  (∀ k0_t5 : Fin (k0_t5_loop v41).trips, ∀ a, (k0_off584 v41 k0_t5) a + S1x1x16.size a ≤ S4x32x128.size a) ∧
  (∀ k0_t5 : Fin (k0_t5_loop v41).trips, ∀ a, (k0_off585 v41 k0_t5) a + S1x1x16.size a ≤ S4x32x128.size a)
def k0_chk5_16 (v41 : BitVec 32) : Prop :=
  (∀ k0_t5 : Fin (k0_t5_loop v41).trips, ∀ a, (k0_off586 v41 k0_t5) a + S1x1x16.size a ≤ S4x32x128.size a) ∧
  (∀ k0_t5 : Fin (k0_t5_loop v41).trips, ∀ a, (k0_off588 v41 k0_t5) a + S1x1x16.size a ≤ S4x32x128.size a) ∧
  (∀ k0_t5 : Fin (k0_t5_loop v41).trips, ∀ a, (k0_off589 v41 k0_t5) a + S1x1x16.size a ≤ S4x32x128.size a) ∧
  (∀ k0_t5 : Fin (k0_t5_loop v41).trips, ∀ a, (k0_off590 v41 k0_t5) a + S1x1x16.size a ≤ S4x32x128.size a) ∧
  (∀ k0_t5 : Fin (k0_t5_loop v41).trips, ∀ a, (k0_off591 v41 k0_t5) a + S1x1x16.size a ≤ S4x32x128.size a) ∧
  (∀ k0_t5 : Fin (k0_t5_loop v41).trips, ∀ a, (k0_off592 v41 k0_t5) a + S1x1x16.size a ≤ S4x32x128.size a) ∧
  (∀ k0_t5 : Fin (k0_t5_loop v41).trips, ∀ a, (k0_off593 v41 k0_t5) a + S1x1x16.size a ≤ S4x32x128.size a) ∧
  (∀ k0_t5 : Fin (k0_t5_loop v41).trips, ∀ a, (k0_off594 v41 k0_t5) a + S1x1x16.size a ≤ S4x32x128.size a) ∧
  (∀ k0_t5 : Fin (k0_t5_loop v41).trips, ∀ a, (k0_off595 v41 k0_t5) a + S1x1x16.size a ≤ S4x32x128.size a) ∧
  (∀ k0_t5 : Fin (k0_t5_loop v41).trips, ∀ a, (k0_off597 v41 k0_t5) a + S1x1x16.size a ≤ S4x32x128.size a) ∧
  (∀ k0_t5 : Fin (k0_t5_loop v41).trips, ∀ a, (k0_off598 v41 k0_t5) a + S1x1x16.size a ≤ S4x32x128.size a) ∧
  (∀ k0_t5 : Fin (k0_t5_loop v41).trips, ∀ a, (k0_off599 v41 k0_t5) a + S1x1x16.size a ≤ S4x32x128.size a) ∧
  (∀ k0_t5 : Fin (k0_t5_loop v41).trips, ∀ a, (k0_off600 v41 k0_t5) a + S1x1x16.size a ≤ S4x32x128.size a) ∧
  (∀ k0_t5 : Fin (k0_t5_loop v41).trips, ∀ a, (k0_off601 v41 k0_t5) a + S1x1x16.size a ≤ S4x32x128.size a) ∧
  (∀ k0_t5 : Fin (k0_t5_loop v41).trips, ∀ a, (k0_off602 v41 k0_t5) a + S1x1x16.size a ≤ S4x32x128.size a) ∧
  (∀ k0_t5 : Fin (k0_t5_loop v41).trips, ∀ a, (k0_off603 v41 k0_t5) a + S1x1x16.size a ≤ S4x32x128.size a) ∧
  (∀ k0_t5 : Fin (k0_t5_loop v41).trips, ∀ a, (k0_off604 v41 k0_t5) a + S1x1x16.size a ≤ S4x32x128.size a) ∧
  (∀ k0_t5 : Fin (k0_t5_loop v41).trips, ∀ (k0_h7 : k0_cond7 v41 k0_t5 = 1#1), ∀ a, (k0_off605 v41 k0_t5) a + S1x32x128.size a ≤ S4x32x128.size a) ∧
  (∀ k0_t5 : Fin (k0_t5_loop v41).trips, ∀ (k0_h7 : k0_cond7 v41 k0_t5 = 1#1), ∀ a, (k0_off606 v41 k0_t5) a + S32.size a ≤ S8032.size a) ∧
  (∀ k0_t5 : Fin (k0_t5_loop v41).trips, ∀ (k0_h7 : k0_cond7 v41 k0_t5 = 1#1), ∀ a, (k0_off607 v41 k0_t5) a + S1.size a ≤ S4.size a)
def k0_chk5 (v41 : BitVec 32) : Prop :=
  k0_chk5_0 v41 ∧
  k0_chk5_1 v41 ∧
  k0_chk5_2 v41 ∧
  k0_chk5_3 v41 ∧
  k0_chk5_4 v41 ∧
  k0_chk5_5 v41 ∧
  k0_chk5_6 v41 ∧
  k0_chk5_7 v41 ∧
  k0_chk5_8 v41 ∧
  k0_chk5_9 v41 ∧
  k0_chk5_10 v41 ∧
  k0_chk5_11 v41 ∧
  k0_chk5_12 v41 ∧
  k0_chk5_13 v41 ∧
  k0_chk5_14 v41 ∧
  k0_chk5_15 v41 ∧
  k0_chk5_16 v41
theorem k0_off6_inb : ∀ (v41 : BitVec 32) (k0_hw5 : k0_chk5 v41), ∀ a, (k0_off6 v41) a + S16.size a ≤ S8032.size a := fun v41 k0_hw5 => k0_hw5.1.1
theorem k0_off7_inb : ∀ (v41 : BitVec 32) (k0_hw5 : k0_chk5 v41), ∀ a, (k0_off7 v41) a + S16.size a ≤ S8032.size a := fun v41 k0_hw5 => k0_hw5.1.2.1
theorem k0_t4_ok : ∀ (v41 : BitVec 32) (k0_hw5 : k0_chk5 v41), (k0_t4_loop v41).OK := fun v41 k0_hw5 => k0_hw5.1.2.2.1
theorem k0_off16_inb : ∀ (v41 : BitVec 32) (k0_hw5 : k0_chk5 v41) (k0_t4 : Fin (k0_t4_loop v41).trips), ∀ a, (k0_off16 v41 k0_t4) a + S1x32x128.size a ≤ S4x32x128.size a := fun v41 k0_hw5 k0_t4 => k0_hw5.1.2.2.2.1 k0_t4
theorem k0_off17_inb : ∀ (v41 : BitVec 32) (k0_hw5 : k0_chk5 v41) (k0_t4 : Fin (k0_t4_loop v41).trips), ∀ a, (k0_off17 v41 k0_t4) a + S32.size a ≤ S8032.size a := fun v41 k0_hw5 k0_t4 => k0_hw5.1.2.2.2.2.1 k0_t4
theorem k0_off18_inb : ∀ (v41 : BitVec 32) (k0_hw5 : k0_chk5 v41) (k0_t4 : Fin (k0_t4_loop v41).trips), ∀ a, (k0_off18 v41 k0_t4) a + S1.size a ≤ S4.size a := fun v41 k0_hw5 k0_t4 => k0_hw5.1.2.2.2.2.2.1 k0_t4
theorem k0_off19_inb : ∀ (v41 : BitVec 32) (k0_hw5 : k0_chk5 v41) (k0_t4 : Fin (k0_t4_loop v41).trips), ∀ a, (k0_off19 v41 k0_t4) a + S16.size a ≤ S8032.size a := fun v41 k0_hw5 k0_t4 => k0_hw5.1.2.2.2.2.2.2.1 k0_t4
theorem k0_off21_inb : ∀ (v41 : BitVec 32) (k0_hw5 : k0_chk5 v41) (k0_t4 : Fin (k0_t4_loop v41).trips), ∀ a, (k0_off21 v41 k0_t4) a + S1x1x16.size a ≤ S4x32x128.size a := fun v41 k0_hw5 k0_t4 => k0_hw5.1.2.2.2.2.2.2.2.1 k0_t4
theorem k0_off22_inb : ∀ (v41 : BitVec 32) (k0_hw5 : k0_chk5 v41) (k0_t4 : Fin (k0_t4_loop v41).trips), ∀ a, (k0_off22 v41 k0_t4) a + S1x1x16.size a ≤ S4x32x128.size a := fun v41 k0_hw5 k0_t4 => k0_hw5.1.2.2.2.2.2.2.2.2.1 k0_t4
theorem k0_off23_inb : ∀ (v41 : BitVec 32) (k0_hw5 : k0_chk5 v41) (k0_t4 : Fin (k0_t4_loop v41).trips), ∀ a, (k0_off23 v41 k0_t4) a + S1x1x16.size a ≤ S4x32x128.size a := fun v41 k0_hw5 k0_t4 => k0_hw5.1.2.2.2.2.2.2.2.2.2.1 k0_t4
theorem k0_off24_inb : ∀ (v41 : BitVec 32) (k0_hw5 : k0_chk5 v41) (k0_t4 : Fin (k0_t4_loop v41).trips), ∀ a, (k0_off24 v41 k0_t4) a + S1x1x16.size a ≤ S4x32x128.size a := fun v41 k0_hw5 k0_t4 => k0_hw5.1.2.2.2.2.2.2.2.2.2.2.1 k0_t4
theorem k0_off25_inb : ∀ (v41 : BitVec 32) (k0_hw5 : k0_chk5 v41) (k0_t4 : Fin (k0_t4_loop v41).trips), ∀ a, (k0_off25 v41 k0_t4) a + S1x1x16.size a ≤ S4x32x128.size a := fun v41 k0_hw5 k0_t4 => k0_hw5.1.2.2.2.2.2.2.2.2.2.2.2.1 k0_t4
theorem k0_off26_inb : ∀ (v41 : BitVec 32) (k0_hw5 : k0_chk5 v41) (k0_t4 : Fin (k0_t4_loop v41).trips), ∀ a, (k0_off26 v41 k0_t4) a + S1x1x16.size a ≤ S4x32x128.size a := fun v41 k0_hw5 k0_t4 => k0_hw5.1.2.2.2.2.2.2.2.2.2.2.2.2.1 k0_t4
theorem k0_off27_inb : ∀ (v41 : BitVec 32) (k0_hw5 : k0_chk5 v41) (k0_t4 : Fin (k0_t4_loop v41).trips), ∀ a, (k0_off27 v41 k0_t4) a + S1x1x16.size a ≤ S4x32x128.size a := fun v41 k0_hw5 k0_t4 => k0_hw5.1.2.2.2.2.2.2.2.2.2.2.2.2.2.1 k0_t4
theorem k0_off28_inb : ∀ (v41 : BitVec 32) (k0_hw5 : k0_chk5 v41) (k0_t4 : Fin (k0_t4_loop v41).trips), ∀ a, (k0_off28 v41 k0_t4) a + S1x1x16.size a ≤ S4x32x128.size a := fun v41 k0_hw5 k0_t4 => k0_hw5.1.2.2.2.2.2.2.2.2.2.2.2.2.2.2.1 k0_t4
theorem k0_off30_inb : ∀ (v41 : BitVec 32) (k0_hw5 : k0_chk5 v41) (k0_t4 : Fin (k0_t4_loop v41).trips), ∀ a, (k0_off30 v41 k0_t4) a + S1x1x16.size a ≤ S4x32x128.size a := fun v41 k0_hw5 k0_t4 => k0_hw5.1.2.2.2.2.2.2.2.2.2.2.2.2.2.2.2.1 k0_t4
theorem k0_off31_inb : ∀ (v41 : BitVec 32) (k0_hw5 : k0_chk5 v41) (k0_t4 : Fin (k0_t4_loop v41).trips), ∀ a, (k0_off31 v41 k0_t4) a + S1x1x16.size a ≤ S4x32x128.size a := fun v41 k0_hw5 k0_t4 => k0_hw5.1.2.2.2.2.2.2.2.2.2.2.2.2.2.2.2.2.1 k0_t4
theorem k0_off32_inb : ∀ (v41 : BitVec 32) (k0_hw5 : k0_chk5 v41) (k0_t4 : Fin (k0_t4_loop v41).trips), ∀ a, (k0_off32 v41 k0_t4) a + S1x1x16.size a ≤ S4x32x128.size a := fun v41 k0_hw5 k0_t4 => k0_hw5.1.2.2.2.2.2.2.2.2.2.2.2.2.2.2.2.2.2.1 k0_t4
theorem k0_off33_inb : ∀ (v41 : BitVec 32) (k0_hw5 : k0_chk5 v41) (k0_t4 : Fin (k0_t4_loop v41).trips), ∀ a, (k0_off33 v41 k0_t4) a + S1x1x16.size a ≤ S4x32x128.size a := fun v41 k0_hw5 k0_t4 => k0_hw5.1.2.2.2.2.2.2.2.2.2.2.2.2.2.2.2.2.2.2.1 k0_t4
theorem k0_off34_inb : ∀ (v41 : BitVec 32) (k0_hw5 : k0_chk5 v41) (k0_t4 : Fin (k0_t4_loop v41).trips), ∀ a, (k0_off34 v41 k0_t4) a + S1x1x16.size a ≤ S4x32x128.size a := fun v41 k0_hw5 k0_t4 => k0_hw5.1.2.2.2.2.2.2.2.2.2.2.2.2.2.2.2.2.2.2.2.1 k0_t4
theorem k0_off35_inb : ∀ (v41 : BitVec 32) (k0_hw5 : k0_chk5 v41) (k0_t4 : Fin (k0_t4_loop v41).trips), ∀ a, (k0_off35 v41 k0_t4) a + S1x1x16.size a ≤ S4x32x128.size a := fun v41 k0_hw5 k0_t4 => k0_hw5.1.2.2.2.2.2.2.2.2.2.2.2.2.2.2.2.2.2.2.2.2.1 k0_t4
theorem k0_off36_inb : ∀ (v41 : BitVec 32) (k0_hw5 : k0_chk5 v41) (k0_t4 : Fin (k0_t4_loop v41).trips), ∀ a, (k0_off36 v41 k0_t4) a + S1x1x16.size a ≤ S4x32x128.size a := fun v41 k0_hw5 k0_t4 => k0_hw5.1.2.2.2.2.2.2.2.2.2.2.2.2.2.2.2.2.2.2.2.2.2.1 k0_t4
theorem k0_off37_inb : ∀ (v41 : BitVec 32) (k0_hw5 : k0_chk5 v41) (k0_t4 : Fin (k0_t4_loop v41).trips), ∀ a, (k0_off37 v41 k0_t4) a + S1x1x16.size a ≤ S4x32x128.size a := fun v41 k0_hw5 k0_t4 => k0_hw5.1.2.2.2.2.2.2.2.2.2.2.2.2.2.2.2.2.2.2.2.2.2.2.1 k0_t4
theorem k0_off39_inb : ∀ (v41 : BitVec 32) (k0_hw5 : k0_chk5 v41) (k0_t4 : Fin (k0_t4_loop v41).trips), ∀ a, (k0_off39 v41 k0_t4) a + S1x1x16.size a ≤ S4x32x128.size a := fun v41 k0_hw5 k0_t4 => k0_hw5.1.2.2.2.2.2.2.2.2.2.2.2.2.2.2.2.2.2.2.2.2.2.2.2.1 k0_t4
theorem k0_off40_inb : ∀ (v41 : BitVec 32) (k0_hw5 : k0_chk5 v41) (k0_t4 : Fin (k0_t4_loop v41).trips), ∀ a, (k0_off40 v41 k0_t4) a + S1x1x16.size a ≤ S4x32x128.size a := fun v41 k0_hw5 k0_t4 => k0_hw5.1.2.2.2.2.2.2.2.2.2.2.2.2.2.2.2.2.2.2.2.2.2.2.2.2.1 k0_t4
theorem k0_off41_inb : ∀ (v41 : BitVec 32) (k0_hw5 : k0_chk5 v41) (k0_t4 : Fin (k0_t4_loop v41).trips), ∀ a, (k0_off41 v41 k0_t4) a + S1x1x16.size a ≤ S4x32x128.size a := fun v41 k0_hw5 k0_t4 => k0_hw5.1.2.2.2.2.2.2.2.2.2.2.2.2.2.2.2.2.2.2.2.2.2.2.2.2.2.1 k0_t4
theorem k0_off42_inb : ∀ (v41 : BitVec 32) (k0_hw5 : k0_chk5 v41) (k0_t4 : Fin (k0_t4_loop v41).trips), ∀ a, (k0_off42 v41 k0_t4) a + S1x1x16.size a ≤ S4x32x128.size a := fun v41 k0_hw5 k0_t4 => k0_hw5.1.2.2.2.2.2.2.2.2.2.2.2.2.2.2.2.2.2.2.2.2.2.2.2.2.2.2.1 k0_t4
theorem k0_off43_inb : ∀ (v41 : BitVec 32) (k0_hw5 : k0_chk5 v41) (k0_t4 : Fin (k0_t4_loop v41).trips), ∀ a, (k0_off43 v41 k0_t4) a + S1x1x16.size a ≤ S4x32x128.size a := fun v41 k0_hw5 k0_t4 => k0_hw5.1.2.2.2.2.2.2.2.2.2.2.2.2.2.2.2.2.2.2.2.2.2.2.2.2.2.2.2.1 k0_t4
theorem k0_off44_inb : ∀ (v41 : BitVec 32) (k0_hw5 : k0_chk5 v41) (k0_t4 : Fin (k0_t4_loop v41).trips), ∀ a, (k0_off44 v41 k0_t4) a + S1x1x16.size a ≤ S4x32x128.size a := fun v41 k0_hw5 k0_t4 => k0_hw5.1.2.2.2.2.2.2.2.2.2.2.2.2.2.2.2.2.2.2.2.2.2.2.2.2.2.2.2.2.1 k0_t4
theorem k0_off45_inb : ∀ (v41 : BitVec 32) (k0_hw5 : k0_chk5 v41) (k0_t4 : Fin (k0_t4_loop v41).trips), ∀ a, (k0_off45 v41 k0_t4) a + S1x1x16.size a ≤ S4x32x128.size a := fun v41 k0_hw5 k0_t4 => k0_hw5.1.2.2.2.2.2.2.2.2.2.2.2.2.2.2.2.2.2.2.2.2.2.2.2.2.2.2.2.2.2.1 k0_t4
theorem k0_off46_inb : ∀ (v41 : BitVec 32) (k0_hw5 : k0_chk5 v41) (k0_t4 : Fin (k0_t4_loop v41).trips), ∀ a, (k0_off46 v41 k0_t4) a + S1x1x16.size a ≤ S4x32x128.size a := fun v41 k0_hw5 k0_t4 => k0_hw5.1.2.2.2.2.2.2.2.2.2.2.2.2.2.2.2.2.2.2.2.2.2.2.2.2.2.2.2.2.2.2.1 k0_t4
theorem k0_off48_inb : ∀ (v41 : BitVec 32) (k0_hw5 : k0_chk5 v41) (k0_t4 : Fin (k0_t4_loop v41).trips), ∀ a, (k0_off48 v41 k0_t4) a + S1x1x16.size a ≤ S4x32x128.size a := fun v41 k0_hw5 k0_t4 => k0_hw5.1.2.2.2.2.2.2.2.2.2.2.2.2.2.2.2.2.2.2.2.2.2.2.2.2.2.2.2.2.2.2.2 k0_t4
theorem k0_off49_inb : ∀ (v41 : BitVec 32) (k0_hw5 : k0_chk5 v41) (k0_t4 : Fin (k0_t4_loop v41).trips), ∀ a, (k0_off49 v41 k0_t4) a + S1x1x16.size a ≤ S4x32x128.size a := fun v41 k0_hw5 k0_t4 => k0_hw5.2.1.1 k0_t4
theorem k0_off50_inb : ∀ (v41 : BitVec 32) (k0_hw5 : k0_chk5 v41) (k0_t4 : Fin (k0_t4_loop v41).trips), ∀ a, (k0_off50 v41 k0_t4) a + S1x1x16.size a ≤ S4x32x128.size a := fun v41 k0_hw5 k0_t4 => k0_hw5.2.1.2.1 k0_t4
theorem k0_off51_inb : ∀ (v41 : BitVec 32) (k0_hw5 : k0_chk5 v41) (k0_t4 : Fin (k0_t4_loop v41).trips), ∀ a, (k0_off51 v41 k0_t4) a + S1x1x16.size a ≤ S4x32x128.size a := fun v41 k0_hw5 k0_t4 => k0_hw5.2.1.2.2.1 k0_t4
theorem k0_off52_inb : ∀ (v41 : BitVec 32) (k0_hw5 : k0_chk5 v41) (k0_t4 : Fin (k0_t4_loop v41).trips), ∀ a, (k0_off52 v41 k0_t4) a + S1x1x16.size a ≤ S4x32x128.size a := fun v41 k0_hw5 k0_t4 => k0_hw5.2.1.2.2.2.1 k0_t4
theorem k0_off53_inb : ∀ (v41 : BitVec 32) (k0_hw5 : k0_chk5 v41) (k0_t4 : Fin (k0_t4_loop v41).trips), ∀ a, (k0_off53 v41 k0_t4) a + S1x1x16.size a ≤ S4x32x128.size a := fun v41 k0_hw5 k0_t4 => k0_hw5.2.1.2.2.2.2.1 k0_t4
theorem k0_off54_inb : ∀ (v41 : BitVec 32) (k0_hw5 : k0_chk5 v41) (k0_t4 : Fin (k0_t4_loop v41).trips), ∀ a, (k0_off54 v41 k0_t4) a + S1x1x16.size a ≤ S4x32x128.size a := fun v41 k0_hw5 k0_t4 => k0_hw5.2.1.2.2.2.2.2.1 k0_t4
theorem k0_off55_inb : ∀ (v41 : BitVec 32) (k0_hw5 : k0_chk5 v41) (k0_t4 : Fin (k0_t4_loop v41).trips), ∀ a, (k0_off55 v41 k0_t4) a + S1x1x16.size a ≤ S4x32x128.size a := fun v41 k0_hw5 k0_t4 => k0_hw5.2.1.2.2.2.2.2.2.1 k0_t4
theorem k0_off57_inb : ∀ (v41 : BitVec 32) (k0_hw5 : k0_chk5 v41) (k0_t4 : Fin (k0_t4_loop v41).trips), ∀ a, (k0_off57 v41 k0_t4) a + S1x1x16.size a ≤ S4x32x128.size a := fun v41 k0_hw5 k0_t4 => k0_hw5.2.1.2.2.2.2.2.2.2.1 k0_t4
theorem k0_off58_inb : ∀ (v41 : BitVec 32) (k0_hw5 : k0_chk5 v41) (k0_t4 : Fin (k0_t4_loop v41).trips), ∀ a, (k0_off58 v41 k0_t4) a + S1x1x16.size a ≤ S4x32x128.size a := fun v41 k0_hw5 k0_t4 => k0_hw5.2.1.2.2.2.2.2.2.2.2.1 k0_t4
theorem k0_off59_inb : ∀ (v41 : BitVec 32) (k0_hw5 : k0_chk5 v41) (k0_t4 : Fin (k0_t4_loop v41).trips), ∀ a, (k0_off59 v41 k0_t4) a + S1x1x16.size a ≤ S4x32x128.size a := fun v41 k0_hw5 k0_t4 => k0_hw5.2.1.2.2.2.2.2.2.2.2.2.1 k0_t4
theorem k0_off60_inb : ∀ (v41 : BitVec 32) (k0_hw5 : k0_chk5 v41) (k0_t4 : Fin (k0_t4_loop v41).trips), ∀ a, (k0_off60 v41 k0_t4) a + S1x1x16.size a ≤ S4x32x128.size a := fun v41 k0_hw5 k0_t4 => k0_hw5.2.1.2.2.2.2.2.2.2.2.2.2.1 k0_t4
theorem k0_off61_inb : ∀ (v41 : BitVec 32) (k0_hw5 : k0_chk5 v41) (k0_t4 : Fin (k0_t4_loop v41).trips), ∀ a, (k0_off61 v41 k0_t4) a + S1x1x16.size a ≤ S4x32x128.size a := fun v41 k0_hw5 k0_t4 => k0_hw5.2.1.2.2.2.2.2.2.2.2.2.2.2.1 k0_t4
theorem k0_off62_inb : ∀ (v41 : BitVec 32) (k0_hw5 : k0_chk5 v41) (k0_t4 : Fin (k0_t4_loop v41).trips), ∀ a, (k0_off62 v41 k0_t4) a + S1x1x16.size a ≤ S4x32x128.size a := fun v41 k0_hw5 k0_t4 => k0_hw5.2.1.2.2.2.2.2.2.2.2.2.2.2.2.1 k0_t4
theorem k0_off63_inb : ∀ (v41 : BitVec 32) (k0_hw5 : k0_chk5 v41) (k0_t4 : Fin (k0_t4_loop v41).trips), ∀ a, (k0_off63 v41 k0_t4) a + S1x1x16.size a ≤ S4x32x128.size a := fun v41 k0_hw5 k0_t4 => k0_hw5.2.1.2.2.2.2.2.2.2.2.2.2.2.2.2.1 k0_t4
theorem k0_off64_inb : ∀ (v41 : BitVec 32) (k0_hw5 : k0_chk5 v41) (k0_t4 : Fin (k0_t4_loop v41).trips), ∀ a, (k0_off64 v41 k0_t4) a + S1x1x16.size a ≤ S4x32x128.size a := fun v41 k0_hw5 k0_t4 => k0_hw5.2.1.2.2.2.2.2.2.2.2.2.2.2.2.2.2.1 k0_t4
theorem k0_off66_inb : ∀ (v41 : BitVec 32) (k0_hw5 : k0_chk5 v41) (k0_t4 : Fin (k0_t4_loop v41).trips), ∀ a, (k0_off66 v41 k0_t4) a + S1x1x16.size a ≤ S4x32x128.size a := fun v41 k0_hw5 k0_t4 => k0_hw5.2.1.2.2.2.2.2.2.2.2.2.2.2.2.2.2.2.1 k0_t4
theorem k0_off67_inb : ∀ (v41 : BitVec 32) (k0_hw5 : k0_chk5 v41) (k0_t4 : Fin (k0_t4_loop v41).trips), ∀ a, (k0_off67 v41 k0_t4) a + S1x1x16.size a ≤ S4x32x128.size a := fun v41 k0_hw5 k0_t4 => k0_hw5.2.1.2.2.2.2.2.2.2.2.2.2.2.2.2.2.2.2.1 k0_t4
theorem k0_off68_inb : ∀ (v41 : BitVec 32) (k0_hw5 : k0_chk5 v41) (k0_t4 : Fin (k0_t4_loop v41).trips), ∀ a, (k0_off68 v41 k0_t4) a + S1x1x16.size a ≤ S4x32x128.size a := fun v41 k0_hw5 k0_t4 => k0_hw5.2.1.2.2.2.2.2.2.2.2.2.2.2.2.2.2.2.2.2.1 k0_t4
theorem k0_off69_inb : ∀ (v41 : BitVec 32) (k0_hw5 : k0_chk5 v41) (k0_t4 : Fin (k0_t4_loop v41).trips), ∀ a, (k0_off69 v41 k0_t4) a + S1x1x16.size a ≤ S4x32x128.size a := fun v41 k0_hw5 k0_t4 => k0_hw5.2.1.2.2.2.2.2.2.2.2.2.2.2.2.2.2.2.2.2.2.1 k0_t4
theorem k0_off70_inb : ∀ (v41 : BitVec 32) (k0_hw5 : k0_chk5 v41) (k0_t4 : Fin (k0_t4_loop v41).trips), ∀ a, (k0_off70 v41 k0_t4) a + S1x1x16.size a ≤ S4x32x128.size a := fun v41 k0_hw5 k0_t4 => k0_hw5.2.1.2.2.2.2.2.2.2.2.2.2.2.2.2.2.2.2.2.2.2.1 k0_t4
theorem k0_off71_inb : ∀ (v41 : BitVec 32) (k0_hw5 : k0_chk5 v41) (k0_t4 : Fin (k0_t4_loop v41).trips), ∀ a, (k0_off71 v41 k0_t4) a + S1x1x16.size a ≤ S4x32x128.size a := fun v41 k0_hw5 k0_t4 => k0_hw5.2.1.2.2.2.2.2.2.2.2.2.2.2.2.2.2.2.2.2.2.2.2.1 k0_t4
theorem k0_off72_inb : ∀ (v41 : BitVec 32) (k0_hw5 : k0_chk5 v41) (k0_t4 : Fin (k0_t4_loop v41).trips), ∀ a, (k0_off72 v41 k0_t4) a + S1x1x16.size a ≤ S4x32x128.size a := fun v41 k0_hw5 k0_t4 => k0_hw5.2.1.2.2.2.2.2.2.2.2.2.2.2.2.2.2.2.2.2.2.2.2.2.1 k0_t4
theorem k0_off73_inb : ∀ (v41 : BitVec 32) (k0_hw5 : k0_chk5 v41) (k0_t4 : Fin (k0_t4_loop v41).trips), ∀ a, (k0_off73 v41 k0_t4) a + S1x1x16.size a ≤ S4x32x128.size a := fun v41 k0_hw5 k0_t4 => k0_hw5.2.1.2.2.2.2.2.2.2.2.2.2.2.2.2.2.2.2.2.2.2.2.2.2.1 k0_t4
theorem k0_off75_inb : ∀ (v41 : BitVec 32) (k0_hw5 : k0_chk5 v41) (k0_t4 : Fin (k0_t4_loop v41).trips), ∀ a, (k0_off75 v41 k0_t4) a + S1x1x16.size a ≤ S4x32x128.size a := fun v41 k0_hw5 k0_t4 => k0_hw5.2.1.2.2.2.2.2.2.2.2.2.2.2.2.2.2.2.2.2.2.2.2.2.2.2.1 k0_t4
theorem k0_off76_inb : ∀ (v41 : BitVec 32) (k0_hw5 : k0_chk5 v41) (k0_t4 : Fin (k0_t4_loop v41).trips), ∀ a, (k0_off76 v41 k0_t4) a + S1x1x16.size a ≤ S4x32x128.size a := fun v41 k0_hw5 k0_t4 => k0_hw5.2.1.2.2.2.2.2.2.2.2.2.2.2.2.2.2.2.2.2.2.2.2.2.2.2.2.1 k0_t4
theorem k0_off77_inb : ∀ (v41 : BitVec 32) (k0_hw5 : k0_chk5 v41) (k0_t4 : Fin (k0_t4_loop v41).trips), ∀ a, (k0_off77 v41 k0_t4) a + S1x1x16.size a ≤ S4x32x128.size a := fun v41 k0_hw5 k0_t4 => k0_hw5.2.1.2.2.2.2.2.2.2.2.2.2.2.2.2.2.2.2.2.2.2.2.2.2.2.2.2.1 k0_t4
theorem k0_off78_inb : ∀ (v41 : BitVec 32) (k0_hw5 : k0_chk5 v41) (k0_t4 : Fin (k0_t4_loop v41).trips), ∀ a, (k0_off78 v41 k0_t4) a + S1x1x16.size a ≤ S4x32x128.size a := fun v41 k0_hw5 k0_t4 => k0_hw5.2.1.2.2.2.2.2.2.2.2.2.2.2.2.2.2.2.2.2.2.2.2.2.2.2.2.2.2.1 k0_t4
theorem k0_off79_inb : ∀ (v41 : BitVec 32) (k0_hw5 : k0_chk5 v41) (k0_t4 : Fin (k0_t4_loop v41).trips), ∀ a, (k0_off79 v41 k0_t4) a + S1x1x16.size a ≤ S4x32x128.size a := fun v41 k0_hw5 k0_t4 => k0_hw5.2.1.2.2.2.2.2.2.2.2.2.2.2.2.2.2.2.2.2.2.2.2.2.2.2.2.2.2.2.1 k0_t4
theorem k0_off80_inb : ∀ (v41 : BitVec 32) (k0_hw5 : k0_chk5 v41) (k0_t4 : Fin (k0_t4_loop v41).trips), ∀ a, (k0_off80 v41 k0_t4) a + S1x1x16.size a ≤ S4x32x128.size a := fun v41 k0_hw5 k0_t4 => k0_hw5.2.1.2.2.2.2.2.2.2.2.2.2.2.2.2.2.2.2.2.2.2.2.2.2.2.2.2.2.2.2.1 k0_t4
theorem k0_off81_inb : ∀ (v41 : BitVec 32) (k0_hw5 : k0_chk5 v41) (k0_t4 : Fin (k0_t4_loop v41).trips), ∀ a, (k0_off81 v41 k0_t4) a + S1x1x16.size a ≤ S4x32x128.size a := fun v41 k0_hw5 k0_t4 => k0_hw5.2.1.2.2.2.2.2.2.2.2.2.2.2.2.2.2.2.2.2.2.2.2.2.2.2.2.2.2.2.2.2.1 k0_t4
theorem k0_off82_inb : ∀ (v41 : BitVec 32) (k0_hw5 : k0_chk5 v41) (k0_t4 : Fin (k0_t4_loop v41).trips), ∀ a, (k0_off82 v41 k0_t4) a + S1x1x16.size a ≤ S4x32x128.size a := fun v41 k0_hw5 k0_t4 => k0_hw5.2.1.2.2.2.2.2.2.2.2.2.2.2.2.2.2.2.2.2.2.2.2.2.2.2.2.2.2.2.2.2.2.1 k0_t4
theorem k0_off84_inb : ∀ (v41 : BitVec 32) (k0_hw5 : k0_chk5 v41) (k0_t4 : Fin (k0_t4_loop v41).trips), ∀ a, (k0_off84 v41 k0_t4) a + S1x1x16.size a ≤ S4x32x128.size a := fun v41 k0_hw5 k0_t4 => k0_hw5.2.1.2.2.2.2.2.2.2.2.2.2.2.2.2.2.2.2.2.2.2.2.2.2.2.2.2.2.2.2.2.2.2 k0_t4
theorem k0_off85_inb : ∀ (v41 : BitVec 32) (k0_hw5 : k0_chk5 v41) (k0_t4 : Fin (k0_t4_loop v41).trips), ∀ a, (k0_off85 v41 k0_t4) a + S1x1x16.size a ≤ S4x32x128.size a := fun v41 k0_hw5 k0_t4 => k0_hw5.2.2.1.1 k0_t4
theorem k0_off86_inb : ∀ (v41 : BitVec 32) (k0_hw5 : k0_chk5 v41) (k0_t4 : Fin (k0_t4_loop v41).trips), ∀ a, (k0_off86 v41 k0_t4) a + S1x1x16.size a ≤ S4x32x128.size a := fun v41 k0_hw5 k0_t4 => k0_hw5.2.2.1.2.1 k0_t4
theorem k0_off87_inb : ∀ (v41 : BitVec 32) (k0_hw5 : k0_chk5 v41) (k0_t4 : Fin (k0_t4_loop v41).trips), ∀ a, (k0_off87 v41 k0_t4) a + S1x1x16.size a ≤ S4x32x128.size a := fun v41 k0_hw5 k0_t4 => k0_hw5.2.2.1.2.2.1 k0_t4
theorem k0_off88_inb : ∀ (v41 : BitVec 32) (k0_hw5 : k0_chk5 v41) (k0_t4 : Fin (k0_t4_loop v41).trips), ∀ a, (k0_off88 v41 k0_t4) a + S1x1x16.size a ≤ S4x32x128.size a := fun v41 k0_hw5 k0_t4 => k0_hw5.2.2.1.2.2.2.1 k0_t4
theorem k0_off89_inb : ∀ (v41 : BitVec 32) (k0_hw5 : k0_chk5 v41) (k0_t4 : Fin (k0_t4_loop v41).trips), ∀ a, (k0_off89 v41 k0_t4) a + S1x1x16.size a ≤ S4x32x128.size a := fun v41 k0_hw5 k0_t4 => k0_hw5.2.2.1.2.2.2.2.1 k0_t4
theorem k0_off90_inb : ∀ (v41 : BitVec 32) (k0_hw5 : k0_chk5 v41) (k0_t4 : Fin (k0_t4_loop v41).trips), ∀ a, (k0_off90 v41 k0_t4) a + S1x1x16.size a ≤ S4x32x128.size a := fun v41 k0_hw5 k0_t4 => k0_hw5.2.2.1.2.2.2.2.2.1 k0_t4
theorem k0_off91_inb : ∀ (v41 : BitVec 32) (k0_hw5 : k0_chk5 v41) (k0_t4 : Fin (k0_t4_loop v41).trips), ∀ a, (k0_off91 v41 k0_t4) a + S1x1x16.size a ≤ S4x32x128.size a := fun v41 k0_hw5 k0_t4 => k0_hw5.2.2.1.2.2.2.2.2.2.1 k0_t4
theorem k0_off93_inb : ∀ (v41 : BitVec 32) (k0_hw5 : k0_chk5 v41) (k0_t4 : Fin (k0_t4_loop v41).trips), ∀ a, (k0_off93 v41 k0_t4) a + S1x1x16.size a ≤ S4x32x128.size a := fun v41 k0_hw5 k0_t4 => k0_hw5.2.2.1.2.2.2.2.2.2.2.1 k0_t4
theorem k0_off94_inb : ∀ (v41 : BitVec 32) (k0_hw5 : k0_chk5 v41) (k0_t4 : Fin (k0_t4_loop v41).trips), ∀ a, (k0_off94 v41 k0_t4) a + S1x1x16.size a ≤ S4x32x128.size a := fun v41 k0_hw5 k0_t4 => k0_hw5.2.2.1.2.2.2.2.2.2.2.2.1 k0_t4
theorem k0_off95_inb : ∀ (v41 : BitVec 32) (k0_hw5 : k0_chk5 v41) (k0_t4 : Fin (k0_t4_loop v41).trips), ∀ a, (k0_off95 v41 k0_t4) a + S1x1x16.size a ≤ S4x32x128.size a := fun v41 k0_hw5 k0_t4 => k0_hw5.2.2.1.2.2.2.2.2.2.2.2.2.1 k0_t4
theorem k0_off96_inb : ∀ (v41 : BitVec 32) (k0_hw5 : k0_chk5 v41) (k0_t4 : Fin (k0_t4_loop v41).trips), ∀ a, (k0_off96 v41 k0_t4) a + S1x1x16.size a ≤ S4x32x128.size a := fun v41 k0_hw5 k0_t4 => k0_hw5.2.2.1.2.2.2.2.2.2.2.2.2.2.1 k0_t4
theorem k0_off97_inb : ∀ (v41 : BitVec 32) (k0_hw5 : k0_chk5 v41) (k0_t4 : Fin (k0_t4_loop v41).trips), ∀ a, (k0_off97 v41 k0_t4) a + S1x1x16.size a ≤ S4x32x128.size a := fun v41 k0_hw5 k0_t4 => k0_hw5.2.2.1.2.2.2.2.2.2.2.2.2.2.2.1 k0_t4
theorem k0_off98_inb : ∀ (v41 : BitVec 32) (k0_hw5 : k0_chk5 v41) (k0_t4 : Fin (k0_t4_loop v41).trips), ∀ a, (k0_off98 v41 k0_t4) a + S1x1x16.size a ≤ S4x32x128.size a := fun v41 k0_hw5 k0_t4 => k0_hw5.2.2.1.2.2.2.2.2.2.2.2.2.2.2.2.1 k0_t4
theorem k0_off99_inb : ∀ (v41 : BitVec 32) (k0_hw5 : k0_chk5 v41) (k0_t4 : Fin (k0_t4_loop v41).trips), ∀ a, (k0_off99 v41 k0_t4) a + S1x1x16.size a ≤ S4x32x128.size a := fun v41 k0_hw5 k0_t4 => k0_hw5.2.2.1.2.2.2.2.2.2.2.2.2.2.2.2.2.1 k0_t4
theorem k0_off100_inb : ∀ (v41 : BitVec 32) (k0_hw5 : k0_chk5 v41) (k0_t4 : Fin (k0_t4_loop v41).trips), ∀ a, (k0_off100 v41 k0_t4) a + S1x1x16.size a ≤ S4x32x128.size a := fun v41 k0_hw5 k0_t4 => k0_hw5.2.2.1.2.2.2.2.2.2.2.2.2.2.2.2.2.2.1 k0_t4
theorem k0_off102_inb : ∀ (v41 : BitVec 32) (k0_hw5 : k0_chk5 v41) (k0_t4 : Fin (k0_t4_loop v41).trips), ∀ a, (k0_off102 v41 k0_t4) a + S1x1x16.size a ≤ S4x32x128.size a := fun v41 k0_hw5 k0_t4 => k0_hw5.2.2.1.2.2.2.2.2.2.2.2.2.2.2.2.2.2.2.1 k0_t4
theorem k0_off103_inb : ∀ (v41 : BitVec 32) (k0_hw5 : k0_chk5 v41) (k0_t4 : Fin (k0_t4_loop v41).trips), ∀ a, (k0_off103 v41 k0_t4) a + S1x1x16.size a ≤ S4x32x128.size a := fun v41 k0_hw5 k0_t4 => k0_hw5.2.2.1.2.2.2.2.2.2.2.2.2.2.2.2.2.2.2.2.1 k0_t4
theorem k0_off104_inb : ∀ (v41 : BitVec 32) (k0_hw5 : k0_chk5 v41) (k0_t4 : Fin (k0_t4_loop v41).trips), ∀ a, (k0_off104 v41 k0_t4) a + S1x1x16.size a ≤ S4x32x128.size a := fun v41 k0_hw5 k0_t4 => k0_hw5.2.2.1.2.2.2.2.2.2.2.2.2.2.2.2.2.2.2.2.2.1 k0_t4
theorem k0_off105_inb : ∀ (v41 : BitVec 32) (k0_hw5 : k0_chk5 v41) (k0_t4 : Fin (k0_t4_loop v41).trips), ∀ a, (k0_off105 v41 k0_t4) a + S1x1x16.size a ≤ S4x32x128.size a := fun v41 k0_hw5 k0_t4 => k0_hw5.2.2.1.2.2.2.2.2.2.2.2.2.2.2.2.2.2.2.2.2.2.1 k0_t4
theorem k0_off106_inb : ∀ (v41 : BitVec 32) (k0_hw5 : k0_chk5 v41) (k0_t4 : Fin (k0_t4_loop v41).trips), ∀ a, (k0_off106 v41 k0_t4) a + S1x1x16.size a ≤ S4x32x128.size a := fun v41 k0_hw5 k0_t4 => k0_hw5.2.2.1.2.2.2.2.2.2.2.2.2.2.2.2.2.2.2.2.2.2.2.1 k0_t4
theorem k0_off107_inb : ∀ (v41 : BitVec 32) (k0_hw5 : k0_chk5 v41) (k0_t4 : Fin (k0_t4_loop v41).trips), ∀ a, (k0_off107 v41 k0_t4) a + S1x1x16.size a ≤ S4x32x128.size a := fun v41 k0_hw5 k0_t4 => k0_hw5.2.2.1.2.2.2.2.2.2.2.2.2.2.2.2.2.2.2.2.2.2.2.2.1 k0_t4
theorem k0_off108_inb : ∀ (v41 : BitVec 32) (k0_hw5 : k0_chk5 v41) (k0_t4 : Fin (k0_t4_loop v41).trips), ∀ a, (k0_off108 v41 k0_t4) a + S1x1x16.size a ≤ S4x32x128.size a := fun v41 k0_hw5 k0_t4 => k0_hw5.2.2.1.2.2.2.2.2.2.2.2.2.2.2.2.2.2.2.2.2.2.2.2.2.1 k0_t4
theorem k0_off109_inb : ∀ (v41 : BitVec 32) (k0_hw5 : k0_chk5 v41) (k0_t4 : Fin (k0_t4_loop v41).trips), ∀ a, (k0_off109 v41 k0_t4) a + S1x1x16.size a ≤ S4x32x128.size a := fun v41 k0_hw5 k0_t4 => k0_hw5.2.2.1.2.2.2.2.2.2.2.2.2.2.2.2.2.2.2.2.2.2.2.2.2.2.1 k0_t4
theorem k0_off111_inb : ∀ (v41 : BitVec 32) (k0_hw5 : k0_chk5 v41) (k0_t4 : Fin (k0_t4_loop v41).trips), ∀ a, (k0_off111 v41 k0_t4) a + S1x1x16.size a ≤ S4x32x128.size a := fun v41 k0_hw5 k0_t4 => k0_hw5.2.2.1.2.2.2.2.2.2.2.2.2.2.2.2.2.2.2.2.2.2.2.2.2.2.2.1 k0_t4
theorem k0_off112_inb : ∀ (v41 : BitVec 32) (k0_hw5 : k0_chk5 v41) (k0_t4 : Fin (k0_t4_loop v41).trips), ∀ a, (k0_off112 v41 k0_t4) a + S1x1x16.size a ≤ S4x32x128.size a := fun v41 k0_hw5 k0_t4 => k0_hw5.2.2.1.2.2.2.2.2.2.2.2.2.2.2.2.2.2.2.2.2.2.2.2.2.2.2.2.1 k0_t4
theorem k0_off113_inb : ∀ (v41 : BitVec 32) (k0_hw5 : k0_chk5 v41) (k0_t4 : Fin (k0_t4_loop v41).trips), ∀ a, (k0_off113 v41 k0_t4) a + S1x1x16.size a ≤ S4x32x128.size a := fun v41 k0_hw5 k0_t4 => k0_hw5.2.2.1.2.2.2.2.2.2.2.2.2.2.2.2.2.2.2.2.2.2.2.2.2.2.2.2.2.1 k0_t4
theorem k0_off114_inb : ∀ (v41 : BitVec 32) (k0_hw5 : k0_chk5 v41) (k0_t4 : Fin (k0_t4_loop v41).trips), ∀ a, (k0_off114 v41 k0_t4) a + S1x1x16.size a ≤ S4x32x128.size a := fun v41 k0_hw5 k0_t4 => k0_hw5.2.2.1.2.2.2.2.2.2.2.2.2.2.2.2.2.2.2.2.2.2.2.2.2.2.2.2.2.2.1 k0_t4
theorem k0_off115_inb : ∀ (v41 : BitVec 32) (k0_hw5 : k0_chk5 v41) (k0_t4 : Fin (k0_t4_loop v41).trips), ∀ a, (k0_off115 v41 k0_t4) a + S1x1x16.size a ≤ S4x32x128.size a := fun v41 k0_hw5 k0_t4 => k0_hw5.2.2.1.2.2.2.2.2.2.2.2.2.2.2.2.2.2.2.2.2.2.2.2.2.2.2.2.2.2.2.1 k0_t4
theorem k0_off116_inb : ∀ (v41 : BitVec 32) (k0_hw5 : k0_chk5 v41) (k0_t4 : Fin (k0_t4_loop v41).trips), ∀ a, (k0_off116 v41 k0_t4) a + S1x1x16.size a ≤ S4x32x128.size a := fun v41 k0_hw5 k0_t4 => k0_hw5.2.2.1.2.2.2.2.2.2.2.2.2.2.2.2.2.2.2.2.2.2.2.2.2.2.2.2.2.2.2.2.1 k0_t4
theorem k0_off117_inb : ∀ (v41 : BitVec 32) (k0_hw5 : k0_chk5 v41) (k0_t4 : Fin (k0_t4_loop v41).trips), ∀ a, (k0_off117 v41 k0_t4) a + S1x1x16.size a ≤ S4x32x128.size a := fun v41 k0_hw5 k0_t4 => k0_hw5.2.2.1.2.2.2.2.2.2.2.2.2.2.2.2.2.2.2.2.2.2.2.2.2.2.2.2.2.2.2.2.2.1 k0_t4
theorem k0_off118_inb : ∀ (v41 : BitVec 32) (k0_hw5 : k0_chk5 v41) (k0_t4 : Fin (k0_t4_loop v41).trips), ∀ a, (k0_off118 v41 k0_t4) a + S1x1x16.size a ≤ S4x32x128.size a := fun v41 k0_hw5 k0_t4 => k0_hw5.2.2.1.2.2.2.2.2.2.2.2.2.2.2.2.2.2.2.2.2.2.2.2.2.2.2.2.2.2.2.2.2.2.1 k0_t4
theorem k0_off120_inb : ∀ (v41 : BitVec 32) (k0_hw5 : k0_chk5 v41) (k0_t4 : Fin (k0_t4_loop v41).trips), ∀ a, (k0_off120 v41 k0_t4) a + S1x1x16.size a ≤ S4x32x128.size a := fun v41 k0_hw5 k0_t4 => k0_hw5.2.2.1.2.2.2.2.2.2.2.2.2.2.2.2.2.2.2.2.2.2.2.2.2.2.2.2.2.2.2.2.2.2.2 k0_t4
theorem k0_off121_inb : ∀ (v41 : BitVec 32) (k0_hw5 : k0_chk5 v41) (k0_t4 : Fin (k0_t4_loop v41).trips), ∀ a, (k0_off121 v41 k0_t4) a + S1x1x16.size a ≤ S4x32x128.size a := fun v41 k0_hw5 k0_t4 => k0_hw5.2.2.2.1.1 k0_t4
theorem k0_off122_inb : ∀ (v41 : BitVec 32) (k0_hw5 : k0_chk5 v41) (k0_t4 : Fin (k0_t4_loop v41).trips), ∀ a, (k0_off122 v41 k0_t4) a + S1x1x16.size a ≤ S4x32x128.size a := fun v41 k0_hw5 k0_t4 => k0_hw5.2.2.2.1.2.1 k0_t4
theorem k0_off123_inb : ∀ (v41 : BitVec 32) (k0_hw5 : k0_chk5 v41) (k0_t4 : Fin (k0_t4_loop v41).trips), ∀ a, (k0_off123 v41 k0_t4) a + S1x1x16.size a ≤ S4x32x128.size a := fun v41 k0_hw5 k0_t4 => k0_hw5.2.2.2.1.2.2.1 k0_t4
theorem k0_off124_inb : ∀ (v41 : BitVec 32) (k0_hw5 : k0_chk5 v41) (k0_t4 : Fin (k0_t4_loop v41).trips), ∀ a, (k0_off124 v41 k0_t4) a + S1x1x16.size a ≤ S4x32x128.size a := fun v41 k0_hw5 k0_t4 => k0_hw5.2.2.2.1.2.2.2.1 k0_t4
theorem k0_off125_inb : ∀ (v41 : BitVec 32) (k0_hw5 : k0_chk5 v41) (k0_t4 : Fin (k0_t4_loop v41).trips), ∀ a, (k0_off125 v41 k0_t4) a + S1x1x16.size a ≤ S4x32x128.size a := fun v41 k0_hw5 k0_t4 => k0_hw5.2.2.2.1.2.2.2.2.1 k0_t4
theorem k0_off126_inb : ∀ (v41 : BitVec 32) (k0_hw5 : k0_chk5 v41) (k0_t4 : Fin (k0_t4_loop v41).trips), ∀ a, (k0_off126 v41 k0_t4) a + S1x1x16.size a ≤ S4x32x128.size a := fun v41 k0_hw5 k0_t4 => k0_hw5.2.2.2.1.2.2.2.2.2.1 k0_t4
theorem k0_off127_inb : ∀ (v41 : BitVec 32) (k0_hw5 : k0_chk5 v41) (k0_t4 : Fin (k0_t4_loop v41).trips), ∀ a, (k0_off127 v41 k0_t4) a + S1x1x16.size a ≤ S4x32x128.size a := fun v41 k0_hw5 k0_t4 => k0_hw5.2.2.2.1.2.2.2.2.2.2.1 k0_t4
theorem k0_off129_inb : ∀ (v41 : BitVec 32) (k0_hw5 : k0_chk5 v41) (k0_t4 : Fin (k0_t4_loop v41).trips), ∀ a, (k0_off129 v41 k0_t4) a + S1x1x16.size a ≤ S4x32x128.size a := fun v41 k0_hw5 k0_t4 => k0_hw5.2.2.2.1.2.2.2.2.2.2.2.1 k0_t4
theorem k0_off130_inb : ∀ (v41 : BitVec 32) (k0_hw5 : k0_chk5 v41) (k0_t4 : Fin (k0_t4_loop v41).trips), ∀ a, (k0_off130 v41 k0_t4) a + S1x1x16.size a ≤ S4x32x128.size a := fun v41 k0_hw5 k0_t4 => k0_hw5.2.2.2.1.2.2.2.2.2.2.2.2.1 k0_t4
theorem k0_off131_inb : ∀ (v41 : BitVec 32) (k0_hw5 : k0_chk5 v41) (k0_t4 : Fin (k0_t4_loop v41).trips), ∀ a, (k0_off131 v41 k0_t4) a + S1x1x16.size a ≤ S4x32x128.size a := fun v41 k0_hw5 k0_t4 => k0_hw5.2.2.2.1.2.2.2.2.2.2.2.2.2.1 k0_t4
theorem k0_off132_inb : ∀ (v41 : BitVec 32) (k0_hw5 : k0_chk5 v41) (k0_t4 : Fin (k0_t4_loop v41).trips), ∀ a, (k0_off132 v41 k0_t4) a + S1x1x16.size a ≤ S4x32x128.size a := fun v41 k0_hw5 k0_t4 => k0_hw5.2.2.2.1.2.2.2.2.2.2.2.2.2.2.1 k0_t4
theorem k0_off133_inb : ∀ (v41 : BitVec 32) (k0_hw5 : k0_chk5 v41) (k0_t4 : Fin (k0_t4_loop v41).trips), ∀ a, (k0_off133 v41 k0_t4) a + S1x1x16.size a ≤ S4x32x128.size a := fun v41 k0_hw5 k0_t4 => k0_hw5.2.2.2.1.2.2.2.2.2.2.2.2.2.2.2.1 k0_t4
theorem k0_off134_inb : ∀ (v41 : BitVec 32) (k0_hw5 : k0_chk5 v41) (k0_t4 : Fin (k0_t4_loop v41).trips), ∀ a, (k0_off134 v41 k0_t4) a + S1x1x16.size a ≤ S4x32x128.size a := fun v41 k0_hw5 k0_t4 => k0_hw5.2.2.2.1.2.2.2.2.2.2.2.2.2.2.2.2.1 k0_t4
theorem k0_off135_inb : ∀ (v41 : BitVec 32) (k0_hw5 : k0_chk5 v41) (k0_t4 : Fin (k0_t4_loop v41).trips), ∀ a, (k0_off135 v41 k0_t4) a + S1x1x16.size a ≤ S4x32x128.size a := fun v41 k0_hw5 k0_t4 => k0_hw5.2.2.2.1.2.2.2.2.2.2.2.2.2.2.2.2.2.1 k0_t4
theorem k0_off136_inb : ∀ (v41 : BitVec 32) (k0_hw5 : k0_chk5 v41) (k0_t4 : Fin (k0_t4_loop v41).trips), ∀ a, (k0_off136 v41 k0_t4) a + S1x1x16.size a ≤ S4x32x128.size a := fun v41 k0_hw5 k0_t4 => k0_hw5.2.2.2.1.2.2.2.2.2.2.2.2.2.2.2.2.2.2.1 k0_t4
theorem k0_off138_inb : ∀ (v41 : BitVec 32) (k0_hw5 : k0_chk5 v41) (k0_t4 : Fin (k0_t4_loop v41).trips), ∀ a, (k0_off138 v41 k0_t4) a + S1x1x16.size a ≤ S4x32x128.size a := fun v41 k0_hw5 k0_t4 => k0_hw5.2.2.2.1.2.2.2.2.2.2.2.2.2.2.2.2.2.2.2.1 k0_t4
theorem k0_off139_inb : ∀ (v41 : BitVec 32) (k0_hw5 : k0_chk5 v41) (k0_t4 : Fin (k0_t4_loop v41).trips), ∀ a, (k0_off139 v41 k0_t4) a + S1x1x16.size a ≤ S4x32x128.size a := fun v41 k0_hw5 k0_t4 => k0_hw5.2.2.2.1.2.2.2.2.2.2.2.2.2.2.2.2.2.2.2.2.1 k0_t4
theorem k0_off140_inb : ∀ (v41 : BitVec 32) (k0_hw5 : k0_chk5 v41) (k0_t4 : Fin (k0_t4_loop v41).trips), ∀ a, (k0_off140 v41 k0_t4) a + S1x1x16.size a ≤ S4x32x128.size a := fun v41 k0_hw5 k0_t4 => k0_hw5.2.2.2.1.2.2.2.2.2.2.2.2.2.2.2.2.2.2.2.2.2.1 k0_t4
theorem k0_off141_inb : ∀ (v41 : BitVec 32) (k0_hw5 : k0_chk5 v41) (k0_t4 : Fin (k0_t4_loop v41).trips), ∀ a, (k0_off141 v41 k0_t4) a + S1x1x16.size a ≤ S4x32x128.size a := fun v41 k0_hw5 k0_t4 => k0_hw5.2.2.2.1.2.2.2.2.2.2.2.2.2.2.2.2.2.2.2.2.2.2.1 k0_t4
theorem k0_off142_inb : ∀ (v41 : BitVec 32) (k0_hw5 : k0_chk5 v41) (k0_t4 : Fin (k0_t4_loop v41).trips), ∀ a, (k0_off142 v41 k0_t4) a + S1x1x16.size a ≤ S4x32x128.size a := fun v41 k0_hw5 k0_t4 => k0_hw5.2.2.2.1.2.2.2.2.2.2.2.2.2.2.2.2.2.2.2.2.2.2.2.1 k0_t4
theorem k0_off143_inb : ∀ (v41 : BitVec 32) (k0_hw5 : k0_chk5 v41) (k0_t4 : Fin (k0_t4_loop v41).trips), ∀ a, (k0_off143 v41 k0_t4) a + S1x1x16.size a ≤ S4x32x128.size a := fun v41 k0_hw5 k0_t4 => k0_hw5.2.2.2.1.2.2.2.2.2.2.2.2.2.2.2.2.2.2.2.2.2.2.2.2.1 k0_t4
theorem k0_off144_inb : ∀ (v41 : BitVec 32) (k0_hw5 : k0_chk5 v41) (k0_t4 : Fin (k0_t4_loop v41).trips), ∀ a, (k0_off144 v41 k0_t4) a + S1x1x16.size a ≤ S4x32x128.size a := fun v41 k0_hw5 k0_t4 => k0_hw5.2.2.2.1.2.2.2.2.2.2.2.2.2.2.2.2.2.2.2.2.2.2.2.2.2.1 k0_t4
theorem k0_off145_inb : ∀ (v41 : BitVec 32) (k0_hw5 : k0_chk5 v41) (k0_t4 : Fin (k0_t4_loop v41).trips), ∀ a, (k0_off145 v41 k0_t4) a + S1x1x16.size a ≤ S4x32x128.size a := fun v41 k0_hw5 k0_t4 => k0_hw5.2.2.2.1.2.2.2.2.2.2.2.2.2.2.2.2.2.2.2.2.2.2.2.2.2.2.1 k0_t4
theorem k0_off147_inb : ∀ (v41 : BitVec 32) (k0_hw5 : k0_chk5 v41) (k0_t4 : Fin (k0_t4_loop v41).trips), ∀ a, (k0_off147 v41 k0_t4) a + S1x1x16.size a ≤ S4x32x128.size a := fun v41 k0_hw5 k0_t4 => k0_hw5.2.2.2.1.2.2.2.2.2.2.2.2.2.2.2.2.2.2.2.2.2.2.2.2.2.2.2.1 k0_t4
theorem k0_off148_inb : ∀ (v41 : BitVec 32) (k0_hw5 : k0_chk5 v41) (k0_t4 : Fin (k0_t4_loop v41).trips), ∀ a, (k0_off148 v41 k0_t4) a + S1x1x16.size a ≤ S4x32x128.size a := fun v41 k0_hw5 k0_t4 => k0_hw5.2.2.2.1.2.2.2.2.2.2.2.2.2.2.2.2.2.2.2.2.2.2.2.2.2.2.2.2.1 k0_t4
theorem k0_off149_inb : ∀ (v41 : BitVec 32) (k0_hw5 : k0_chk5 v41) (k0_t4 : Fin (k0_t4_loop v41).trips), ∀ a, (k0_off149 v41 k0_t4) a + S1x1x16.size a ≤ S4x32x128.size a := fun v41 k0_hw5 k0_t4 => k0_hw5.2.2.2.1.2.2.2.2.2.2.2.2.2.2.2.2.2.2.2.2.2.2.2.2.2.2.2.2.2.1 k0_t4
theorem k0_off150_inb : ∀ (v41 : BitVec 32) (k0_hw5 : k0_chk5 v41) (k0_t4 : Fin (k0_t4_loop v41).trips), ∀ a, (k0_off150 v41 k0_t4) a + S1x1x16.size a ≤ S4x32x128.size a := fun v41 k0_hw5 k0_t4 => k0_hw5.2.2.2.1.2.2.2.2.2.2.2.2.2.2.2.2.2.2.2.2.2.2.2.2.2.2.2.2.2.2.1 k0_t4
theorem k0_off151_inb : ∀ (v41 : BitVec 32) (k0_hw5 : k0_chk5 v41) (k0_t4 : Fin (k0_t4_loop v41).trips), ∀ a, (k0_off151 v41 k0_t4) a + S1x1x16.size a ≤ S4x32x128.size a := fun v41 k0_hw5 k0_t4 => k0_hw5.2.2.2.1.2.2.2.2.2.2.2.2.2.2.2.2.2.2.2.2.2.2.2.2.2.2.2.2.2.2.2.1 k0_t4
theorem k0_off152_inb : ∀ (v41 : BitVec 32) (k0_hw5 : k0_chk5 v41) (k0_t4 : Fin (k0_t4_loop v41).trips), ∀ a, (k0_off152 v41 k0_t4) a + S1x1x16.size a ≤ S4x32x128.size a := fun v41 k0_hw5 k0_t4 => k0_hw5.2.2.2.1.2.2.2.2.2.2.2.2.2.2.2.2.2.2.2.2.2.2.2.2.2.2.2.2.2.2.2.2.1 k0_t4
theorem k0_off153_inb : ∀ (v41 : BitVec 32) (k0_hw5 : k0_chk5 v41) (k0_t4 : Fin (k0_t4_loop v41).trips), ∀ a, (k0_off153 v41 k0_t4) a + S1x1x16.size a ≤ S4x32x128.size a := fun v41 k0_hw5 k0_t4 => k0_hw5.2.2.2.1.2.2.2.2.2.2.2.2.2.2.2.2.2.2.2.2.2.2.2.2.2.2.2.2.2.2.2.2.2.1 k0_t4
theorem k0_off154_inb : ∀ (v41 : BitVec 32) (k0_hw5 : k0_chk5 v41) (k0_t4 : Fin (k0_t4_loop v41).trips), ∀ a, (k0_off154 v41 k0_t4) a + S1x1x16.size a ≤ S4x32x128.size a := fun v41 k0_hw5 k0_t4 => k0_hw5.2.2.2.1.2.2.2.2.2.2.2.2.2.2.2.2.2.2.2.2.2.2.2.2.2.2.2.2.2.2.2.2.2.2.1 k0_t4
theorem k0_off156_inb : ∀ (v41 : BitVec 32) (k0_hw5 : k0_chk5 v41) (k0_t4 : Fin (k0_t4_loop v41).trips), ∀ a, (k0_off156 v41 k0_t4) a + S1x1x16.size a ≤ S4x32x128.size a := fun v41 k0_hw5 k0_t4 => k0_hw5.2.2.2.1.2.2.2.2.2.2.2.2.2.2.2.2.2.2.2.2.2.2.2.2.2.2.2.2.2.2.2.2.2.2.2 k0_t4
theorem k0_off157_inb : ∀ (v41 : BitVec 32) (k0_hw5 : k0_chk5 v41) (k0_t4 : Fin (k0_t4_loop v41).trips), ∀ a, (k0_off157 v41 k0_t4) a + S1x1x16.size a ≤ S4x32x128.size a := fun v41 k0_hw5 k0_t4 => k0_hw5.2.2.2.2.1.1 k0_t4
theorem k0_off158_inb : ∀ (v41 : BitVec 32) (k0_hw5 : k0_chk5 v41) (k0_t4 : Fin (k0_t4_loop v41).trips), ∀ a, (k0_off158 v41 k0_t4) a + S1x1x16.size a ≤ S4x32x128.size a := fun v41 k0_hw5 k0_t4 => k0_hw5.2.2.2.2.1.2.1 k0_t4
theorem k0_off159_inb : ∀ (v41 : BitVec 32) (k0_hw5 : k0_chk5 v41) (k0_t4 : Fin (k0_t4_loop v41).trips), ∀ a, (k0_off159 v41 k0_t4) a + S1x1x16.size a ≤ S4x32x128.size a := fun v41 k0_hw5 k0_t4 => k0_hw5.2.2.2.2.1.2.2.1 k0_t4
theorem k0_off160_inb : ∀ (v41 : BitVec 32) (k0_hw5 : k0_chk5 v41) (k0_t4 : Fin (k0_t4_loop v41).trips), ∀ a, (k0_off160 v41 k0_t4) a + S1x1x16.size a ≤ S4x32x128.size a := fun v41 k0_hw5 k0_t4 => k0_hw5.2.2.2.2.1.2.2.2.1 k0_t4
theorem k0_off161_inb : ∀ (v41 : BitVec 32) (k0_hw5 : k0_chk5 v41) (k0_t4 : Fin (k0_t4_loop v41).trips), ∀ a, (k0_off161 v41 k0_t4) a + S1x1x16.size a ≤ S4x32x128.size a := fun v41 k0_hw5 k0_t4 => k0_hw5.2.2.2.2.1.2.2.2.2.1 k0_t4
theorem k0_off162_inb : ∀ (v41 : BitVec 32) (k0_hw5 : k0_chk5 v41) (k0_t4 : Fin (k0_t4_loop v41).trips), ∀ a, (k0_off162 v41 k0_t4) a + S1x1x16.size a ≤ S4x32x128.size a := fun v41 k0_hw5 k0_t4 => k0_hw5.2.2.2.2.1.2.2.2.2.2.1 k0_t4
theorem k0_off163_inb : ∀ (v41 : BitVec 32) (k0_hw5 : k0_chk5 v41) (k0_t4 : Fin (k0_t4_loop v41).trips), ∀ a, (k0_off163 v41 k0_t4) a + S1x1x16.size a ≤ S4x32x128.size a := fun v41 k0_hw5 k0_t4 => k0_hw5.2.2.2.2.1.2.2.2.2.2.2.1 k0_t4
theorem k0_off164_inb : ∀ (v41 : BitVec 32) (k0_hw5 : k0_chk5 v41) (k0_t4 : Fin (k0_t4_loop v41).trips), ∀ a, (k0_off164 v41 k0_t4) a + S16.size a ≤ S8032.size a := fun v41 k0_hw5 k0_t4 => k0_hw5.2.2.2.2.1.2.2.2.2.2.2.2.1 k0_t4
theorem k0_off166_inb : ∀ (v41 : BitVec 32) (k0_hw5 : k0_chk5 v41) (k0_t4 : Fin (k0_t4_loop v41).trips), ∀ a, (k0_off166 v41 k0_t4) a + S1x1x16.size a ≤ S4x32x128.size a := fun v41 k0_hw5 k0_t4 => k0_hw5.2.2.2.2.1.2.2.2.2.2.2.2.2.1 k0_t4
theorem k0_off167_inb : ∀ (v41 : BitVec 32) (k0_hw5 : k0_chk5 v41) (k0_t4 : Fin (k0_t4_loop v41).trips), ∀ a, (k0_off167 v41 k0_t4) a + S1x1x16.size a ≤ S4x32x128.size a := fun v41 k0_hw5 k0_t4 => k0_hw5.2.2.2.2.1.2.2.2.2.2.2.2.2.2.1 k0_t4
theorem k0_off168_inb : ∀ (v41 : BitVec 32) (k0_hw5 : k0_chk5 v41) (k0_t4 : Fin (k0_t4_loop v41).trips), ∀ a, (k0_off168 v41 k0_t4) a + S1x1x16.size a ≤ S4x32x128.size a := fun v41 k0_hw5 k0_t4 => k0_hw5.2.2.2.2.1.2.2.2.2.2.2.2.2.2.2.1 k0_t4
theorem k0_off169_inb : ∀ (v41 : BitVec 32) (k0_hw5 : k0_chk5 v41) (k0_t4 : Fin (k0_t4_loop v41).trips), ∀ a, (k0_off169 v41 k0_t4) a + S1x1x16.size a ≤ S4x32x128.size a := fun v41 k0_hw5 k0_t4 => k0_hw5.2.2.2.2.1.2.2.2.2.2.2.2.2.2.2.2.1 k0_t4
theorem k0_off170_inb : ∀ (v41 : BitVec 32) (k0_hw5 : k0_chk5 v41) (k0_t4 : Fin (k0_t4_loop v41).trips), ∀ a, (k0_off170 v41 k0_t4) a + S1x1x16.size a ≤ S4x32x128.size a := fun v41 k0_hw5 k0_t4 => k0_hw5.2.2.2.2.1.2.2.2.2.2.2.2.2.2.2.2.2.1 k0_t4
theorem k0_off171_inb : ∀ (v41 : BitVec 32) (k0_hw5 : k0_chk5 v41) (k0_t4 : Fin (k0_t4_loop v41).trips), ∀ a, (k0_off171 v41 k0_t4) a + S1x1x16.size a ≤ S4x32x128.size a := fun v41 k0_hw5 k0_t4 => k0_hw5.2.2.2.2.1.2.2.2.2.2.2.2.2.2.2.2.2.2.1 k0_t4
theorem k0_off172_inb : ∀ (v41 : BitVec 32) (k0_hw5 : k0_chk5 v41) (k0_t4 : Fin (k0_t4_loop v41).trips), ∀ a, (k0_off172 v41 k0_t4) a + S1x1x16.size a ≤ S4x32x128.size a := fun v41 k0_hw5 k0_t4 => k0_hw5.2.2.2.2.1.2.2.2.2.2.2.2.2.2.2.2.2.2.2.1 k0_t4
theorem k0_off173_inb : ∀ (v41 : BitVec 32) (k0_hw5 : k0_chk5 v41) (k0_t4 : Fin (k0_t4_loop v41).trips), ∀ a, (k0_off173 v41 k0_t4) a + S1x1x16.size a ≤ S4x32x128.size a := fun v41 k0_hw5 k0_t4 => k0_hw5.2.2.2.2.1.2.2.2.2.2.2.2.2.2.2.2.2.2.2.2.1 k0_t4
theorem k0_off175_inb : ∀ (v41 : BitVec 32) (k0_hw5 : k0_chk5 v41) (k0_t4 : Fin (k0_t4_loop v41).trips), ∀ a, (k0_off175 v41 k0_t4) a + S1x1x16.size a ≤ S4x32x128.size a := fun v41 k0_hw5 k0_t4 => k0_hw5.2.2.2.2.1.2.2.2.2.2.2.2.2.2.2.2.2.2.2.2.2.1 k0_t4
theorem k0_off176_inb : ∀ (v41 : BitVec 32) (k0_hw5 : k0_chk5 v41) (k0_t4 : Fin (k0_t4_loop v41).trips), ∀ a, (k0_off176 v41 k0_t4) a + S1x1x16.size a ≤ S4x32x128.size a := fun v41 k0_hw5 k0_t4 => k0_hw5.2.2.2.2.1.2.2.2.2.2.2.2.2.2.2.2.2.2.2.2.2.2.1 k0_t4
theorem k0_off177_inb : ∀ (v41 : BitVec 32) (k0_hw5 : k0_chk5 v41) (k0_t4 : Fin (k0_t4_loop v41).trips), ∀ a, (k0_off177 v41 k0_t4) a + S1x1x16.size a ≤ S4x32x128.size a := fun v41 k0_hw5 k0_t4 => k0_hw5.2.2.2.2.1.2.2.2.2.2.2.2.2.2.2.2.2.2.2.2.2.2.2.1 k0_t4
theorem k0_off178_inb : ∀ (v41 : BitVec 32) (k0_hw5 : k0_chk5 v41) (k0_t4 : Fin (k0_t4_loop v41).trips), ∀ a, (k0_off178 v41 k0_t4) a + S1x1x16.size a ≤ S4x32x128.size a := fun v41 k0_hw5 k0_t4 => k0_hw5.2.2.2.2.1.2.2.2.2.2.2.2.2.2.2.2.2.2.2.2.2.2.2.2.1 k0_t4
theorem k0_off179_inb : ∀ (v41 : BitVec 32) (k0_hw5 : k0_chk5 v41) (k0_t4 : Fin (k0_t4_loop v41).trips), ∀ a, (k0_off179 v41 k0_t4) a + S1x1x16.size a ≤ S4x32x128.size a := fun v41 k0_hw5 k0_t4 => k0_hw5.2.2.2.2.1.2.2.2.2.2.2.2.2.2.2.2.2.2.2.2.2.2.2.2.2.1 k0_t4
theorem k0_off180_inb : ∀ (v41 : BitVec 32) (k0_hw5 : k0_chk5 v41) (k0_t4 : Fin (k0_t4_loop v41).trips), ∀ a, (k0_off180 v41 k0_t4) a + S1x1x16.size a ≤ S4x32x128.size a := fun v41 k0_hw5 k0_t4 => k0_hw5.2.2.2.2.1.2.2.2.2.2.2.2.2.2.2.2.2.2.2.2.2.2.2.2.2.2.1 k0_t4
theorem k0_off181_inb : ∀ (v41 : BitVec 32) (k0_hw5 : k0_chk5 v41) (k0_t4 : Fin (k0_t4_loop v41).trips), ∀ a, (k0_off181 v41 k0_t4) a + S1x1x16.size a ≤ S4x32x128.size a := fun v41 k0_hw5 k0_t4 => k0_hw5.2.2.2.2.1.2.2.2.2.2.2.2.2.2.2.2.2.2.2.2.2.2.2.2.2.2.2.1 k0_t4
theorem k0_off182_inb : ∀ (v41 : BitVec 32) (k0_hw5 : k0_chk5 v41) (k0_t4 : Fin (k0_t4_loop v41).trips), ∀ a, (k0_off182 v41 k0_t4) a + S1x1x16.size a ≤ S4x32x128.size a := fun v41 k0_hw5 k0_t4 => k0_hw5.2.2.2.2.1.2.2.2.2.2.2.2.2.2.2.2.2.2.2.2.2.2.2.2.2.2.2.2.1 k0_t4
theorem k0_off184_inb : ∀ (v41 : BitVec 32) (k0_hw5 : k0_chk5 v41) (k0_t4 : Fin (k0_t4_loop v41).trips), ∀ a, (k0_off184 v41 k0_t4) a + S1x1x16.size a ≤ S4x32x128.size a := fun v41 k0_hw5 k0_t4 => k0_hw5.2.2.2.2.1.2.2.2.2.2.2.2.2.2.2.2.2.2.2.2.2.2.2.2.2.2.2.2.2.1 k0_t4
theorem k0_off185_inb : ∀ (v41 : BitVec 32) (k0_hw5 : k0_chk5 v41) (k0_t4 : Fin (k0_t4_loop v41).trips), ∀ a, (k0_off185 v41 k0_t4) a + S1x1x16.size a ≤ S4x32x128.size a := fun v41 k0_hw5 k0_t4 => k0_hw5.2.2.2.2.1.2.2.2.2.2.2.2.2.2.2.2.2.2.2.2.2.2.2.2.2.2.2.2.2.2.1 k0_t4
theorem k0_off186_inb : ∀ (v41 : BitVec 32) (k0_hw5 : k0_chk5 v41) (k0_t4 : Fin (k0_t4_loop v41).trips), ∀ a, (k0_off186 v41 k0_t4) a + S1x1x16.size a ≤ S4x32x128.size a := fun v41 k0_hw5 k0_t4 => k0_hw5.2.2.2.2.1.2.2.2.2.2.2.2.2.2.2.2.2.2.2.2.2.2.2.2.2.2.2.2.2.2.2.1 k0_t4
theorem k0_off187_inb : ∀ (v41 : BitVec 32) (k0_hw5 : k0_chk5 v41) (k0_t4 : Fin (k0_t4_loop v41).trips), ∀ a, (k0_off187 v41 k0_t4) a + S1x1x16.size a ≤ S4x32x128.size a := fun v41 k0_hw5 k0_t4 => k0_hw5.2.2.2.2.1.2.2.2.2.2.2.2.2.2.2.2.2.2.2.2.2.2.2.2.2.2.2.2.2.2.2.2.1 k0_t4
theorem k0_off188_inb : ∀ (v41 : BitVec 32) (k0_hw5 : k0_chk5 v41) (k0_t4 : Fin (k0_t4_loop v41).trips), ∀ a, (k0_off188 v41 k0_t4) a + S1x1x16.size a ≤ S4x32x128.size a := fun v41 k0_hw5 k0_t4 => k0_hw5.2.2.2.2.1.2.2.2.2.2.2.2.2.2.2.2.2.2.2.2.2.2.2.2.2.2.2.2.2.2.2.2.2.1 k0_t4
theorem k0_off189_inb : ∀ (v41 : BitVec 32) (k0_hw5 : k0_chk5 v41) (k0_t4 : Fin (k0_t4_loop v41).trips), ∀ a, (k0_off189 v41 k0_t4) a + S1x1x16.size a ≤ S4x32x128.size a := fun v41 k0_hw5 k0_t4 => k0_hw5.2.2.2.2.1.2.2.2.2.2.2.2.2.2.2.2.2.2.2.2.2.2.2.2.2.2.2.2.2.2.2.2.2.2.1 k0_t4
theorem k0_off190_inb : ∀ (v41 : BitVec 32) (k0_hw5 : k0_chk5 v41) (k0_t4 : Fin (k0_t4_loop v41).trips), ∀ a, (k0_off190 v41 k0_t4) a + S1x1x16.size a ≤ S4x32x128.size a := fun v41 k0_hw5 k0_t4 => k0_hw5.2.2.2.2.1.2.2.2.2.2.2.2.2.2.2.2.2.2.2.2.2.2.2.2.2.2.2.2.2.2.2.2.2.2.2.1 k0_t4
theorem k0_off191_inb : ∀ (v41 : BitVec 32) (k0_hw5 : k0_chk5 v41) (k0_t4 : Fin (k0_t4_loop v41).trips), ∀ a, (k0_off191 v41 k0_t4) a + S1x1x16.size a ≤ S4x32x128.size a := fun v41 k0_hw5 k0_t4 => k0_hw5.2.2.2.2.1.2.2.2.2.2.2.2.2.2.2.2.2.2.2.2.2.2.2.2.2.2.2.2.2.2.2.2.2.2.2.2 k0_t4
theorem k0_off193_inb : ∀ (v41 : BitVec 32) (k0_hw5 : k0_chk5 v41) (k0_t4 : Fin (k0_t4_loop v41).trips), ∀ a, (k0_off193 v41 k0_t4) a + S1x1x16.size a ≤ S4x32x128.size a := fun v41 k0_hw5 k0_t4 => k0_hw5.2.2.2.2.2.1.1 k0_t4
theorem k0_off194_inb : ∀ (v41 : BitVec 32) (k0_hw5 : k0_chk5 v41) (k0_t4 : Fin (k0_t4_loop v41).trips), ∀ a, (k0_off194 v41 k0_t4) a + S1x1x16.size a ≤ S4x32x128.size a := fun v41 k0_hw5 k0_t4 => k0_hw5.2.2.2.2.2.1.2.1 k0_t4
theorem k0_off195_inb : ∀ (v41 : BitVec 32) (k0_hw5 : k0_chk5 v41) (k0_t4 : Fin (k0_t4_loop v41).trips), ∀ a, (k0_off195 v41 k0_t4) a + S1x1x16.size a ≤ S4x32x128.size a := fun v41 k0_hw5 k0_t4 => k0_hw5.2.2.2.2.2.1.2.2.1 k0_t4
theorem k0_off196_inb : ∀ (v41 : BitVec 32) (k0_hw5 : k0_chk5 v41) (k0_t4 : Fin (k0_t4_loop v41).trips), ∀ a, (k0_off196 v41 k0_t4) a + S1x1x16.size a ≤ S4x32x128.size a := fun v41 k0_hw5 k0_t4 => k0_hw5.2.2.2.2.2.1.2.2.2.1 k0_t4
theorem k0_off197_inb : ∀ (v41 : BitVec 32) (k0_hw5 : k0_chk5 v41) (k0_t4 : Fin (k0_t4_loop v41).trips), ∀ a, (k0_off197 v41 k0_t4) a + S1x1x16.size a ≤ S4x32x128.size a := fun v41 k0_hw5 k0_t4 => k0_hw5.2.2.2.2.2.1.2.2.2.2.1 k0_t4
theorem k0_off198_inb : ∀ (v41 : BitVec 32) (k0_hw5 : k0_chk5 v41) (k0_t4 : Fin (k0_t4_loop v41).trips), ∀ a, (k0_off198 v41 k0_t4) a + S1x1x16.size a ≤ S4x32x128.size a := fun v41 k0_hw5 k0_t4 => k0_hw5.2.2.2.2.2.1.2.2.2.2.2.1 k0_t4
theorem k0_off199_inb : ∀ (v41 : BitVec 32) (k0_hw5 : k0_chk5 v41) (k0_t4 : Fin (k0_t4_loop v41).trips), ∀ a, (k0_off199 v41 k0_t4) a + S1x1x16.size a ≤ S4x32x128.size a := fun v41 k0_hw5 k0_t4 => k0_hw5.2.2.2.2.2.1.2.2.2.2.2.2.1 k0_t4
theorem k0_off200_inb : ∀ (v41 : BitVec 32) (k0_hw5 : k0_chk5 v41) (k0_t4 : Fin (k0_t4_loop v41).trips), ∀ a, (k0_off200 v41 k0_t4) a + S1x1x16.size a ≤ S4x32x128.size a := fun v41 k0_hw5 k0_t4 => k0_hw5.2.2.2.2.2.1.2.2.2.2.2.2.2.1 k0_t4
theorem k0_off202_inb : ∀ (v41 : BitVec 32) (k0_hw5 : k0_chk5 v41) (k0_t4 : Fin (k0_t4_loop v41).trips), ∀ a, (k0_off202 v41 k0_t4) a + S1x1x16.size a ≤ S4x32x128.size a := fun v41 k0_hw5 k0_t4 => k0_hw5.2.2.2.2.2.1.2.2.2.2.2.2.2.2.1 k0_t4
theorem k0_off203_inb : ∀ (v41 : BitVec 32) (k0_hw5 : k0_chk5 v41) (k0_t4 : Fin (k0_t4_loop v41).trips), ∀ a, (k0_off203 v41 k0_t4) a + S1x1x16.size a ≤ S4x32x128.size a := fun v41 k0_hw5 k0_t4 => k0_hw5.2.2.2.2.2.1.2.2.2.2.2.2.2.2.2.1 k0_t4
theorem k0_off204_inb : ∀ (v41 : BitVec 32) (k0_hw5 : k0_chk5 v41) (k0_t4 : Fin (k0_t4_loop v41).trips), ∀ a, (k0_off204 v41 k0_t4) a + S1x1x16.size a ≤ S4x32x128.size a := fun v41 k0_hw5 k0_t4 => k0_hw5.2.2.2.2.2.1.2.2.2.2.2.2.2.2.2.2.1 k0_t4
theorem k0_off205_inb : ∀ (v41 : BitVec 32) (k0_hw5 : k0_chk5 v41) (k0_t4 : Fin (k0_t4_loop v41).trips), ∀ a, (k0_off205 v41 k0_t4) a + S1x1x16.size a ≤ S4x32x128.size a := fun v41 k0_hw5 k0_t4 => k0_hw5.2.2.2.2.2.1.2.2.2.2.2.2.2.2.2.2.2.1 k0_t4
theorem k0_off206_inb : ∀ (v41 : BitVec 32) (k0_hw5 : k0_chk5 v41) (k0_t4 : Fin (k0_t4_loop v41).trips), ∀ a, (k0_off206 v41 k0_t4) a + S1x1x16.size a ≤ S4x32x128.size a := fun v41 k0_hw5 k0_t4 => k0_hw5.2.2.2.2.2.1.2.2.2.2.2.2.2.2.2.2.2.2.1 k0_t4
theorem k0_off207_inb : ∀ (v41 : BitVec 32) (k0_hw5 : k0_chk5 v41) (k0_t4 : Fin (k0_t4_loop v41).trips), ∀ a, (k0_off207 v41 k0_t4) a + S1x1x16.size a ≤ S4x32x128.size a := fun v41 k0_hw5 k0_t4 => k0_hw5.2.2.2.2.2.1.2.2.2.2.2.2.2.2.2.2.2.2.2.1 k0_t4
theorem k0_off208_inb : ∀ (v41 : BitVec 32) (k0_hw5 : k0_chk5 v41) (k0_t4 : Fin (k0_t4_loop v41).trips), ∀ a, (k0_off208 v41 k0_t4) a + S1x1x16.size a ≤ S4x32x128.size a := fun v41 k0_hw5 k0_t4 => k0_hw5.2.2.2.2.2.1.2.2.2.2.2.2.2.2.2.2.2.2.2.2.1 k0_t4
theorem k0_off209_inb : ∀ (v41 : BitVec 32) (k0_hw5 : k0_chk5 v41) (k0_t4 : Fin (k0_t4_loop v41).trips), ∀ a, (k0_off209 v41 k0_t4) a + S1x1x16.size a ≤ S4x32x128.size a := fun v41 k0_hw5 k0_t4 => k0_hw5.2.2.2.2.2.1.2.2.2.2.2.2.2.2.2.2.2.2.2.2.2.1 k0_t4
theorem k0_off211_inb : ∀ (v41 : BitVec 32) (k0_hw5 : k0_chk5 v41) (k0_t4 : Fin (k0_t4_loop v41).trips), ∀ a, (k0_off211 v41 k0_t4) a + S1x1x16.size a ≤ S4x32x128.size a := fun v41 k0_hw5 k0_t4 => k0_hw5.2.2.2.2.2.1.2.2.2.2.2.2.2.2.2.2.2.2.2.2.2.2.1 k0_t4
theorem k0_off212_inb : ∀ (v41 : BitVec 32) (k0_hw5 : k0_chk5 v41) (k0_t4 : Fin (k0_t4_loop v41).trips), ∀ a, (k0_off212 v41 k0_t4) a + S1x1x16.size a ≤ S4x32x128.size a := fun v41 k0_hw5 k0_t4 => k0_hw5.2.2.2.2.2.1.2.2.2.2.2.2.2.2.2.2.2.2.2.2.2.2.2.1 k0_t4
theorem k0_off213_inb : ∀ (v41 : BitVec 32) (k0_hw5 : k0_chk5 v41) (k0_t4 : Fin (k0_t4_loop v41).trips), ∀ a, (k0_off213 v41 k0_t4) a + S1x1x16.size a ≤ S4x32x128.size a := fun v41 k0_hw5 k0_t4 => k0_hw5.2.2.2.2.2.1.2.2.2.2.2.2.2.2.2.2.2.2.2.2.2.2.2.2.1 k0_t4
theorem k0_off214_inb : ∀ (v41 : BitVec 32) (k0_hw5 : k0_chk5 v41) (k0_t4 : Fin (k0_t4_loop v41).trips), ∀ a, (k0_off214 v41 k0_t4) a + S1x1x16.size a ≤ S4x32x128.size a := fun v41 k0_hw5 k0_t4 => k0_hw5.2.2.2.2.2.1.2.2.2.2.2.2.2.2.2.2.2.2.2.2.2.2.2.2.2.1 k0_t4
theorem k0_off215_inb : ∀ (v41 : BitVec 32) (k0_hw5 : k0_chk5 v41) (k0_t4 : Fin (k0_t4_loop v41).trips), ∀ a, (k0_off215 v41 k0_t4) a + S1x1x16.size a ≤ S4x32x128.size a := fun v41 k0_hw5 k0_t4 => k0_hw5.2.2.2.2.2.1.2.2.2.2.2.2.2.2.2.2.2.2.2.2.2.2.2.2.2.2.1 k0_t4
theorem k0_off216_inb : ∀ (v41 : BitVec 32) (k0_hw5 : k0_chk5 v41) (k0_t4 : Fin (k0_t4_loop v41).trips), ∀ a, (k0_off216 v41 k0_t4) a + S1x1x16.size a ≤ S4x32x128.size a := fun v41 k0_hw5 k0_t4 => k0_hw5.2.2.2.2.2.1.2.2.2.2.2.2.2.2.2.2.2.2.2.2.2.2.2.2.2.2.2.1 k0_t4
theorem k0_off217_inb : ∀ (v41 : BitVec 32) (k0_hw5 : k0_chk5 v41) (k0_t4 : Fin (k0_t4_loop v41).trips), ∀ a, (k0_off217 v41 k0_t4) a + S1x1x16.size a ≤ S4x32x128.size a := fun v41 k0_hw5 k0_t4 => k0_hw5.2.2.2.2.2.1.2.2.2.2.2.2.2.2.2.2.2.2.2.2.2.2.2.2.2.2.2.2.1 k0_t4
theorem k0_off218_inb : ∀ (v41 : BitVec 32) (k0_hw5 : k0_chk5 v41) (k0_t4 : Fin (k0_t4_loop v41).trips), ∀ a, (k0_off218 v41 k0_t4) a + S1x1x16.size a ≤ S4x32x128.size a := fun v41 k0_hw5 k0_t4 => k0_hw5.2.2.2.2.2.1.2.2.2.2.2.2.2.2.2.2.2.2.2.2.2.2.2.2.2.2.2.2.2.1 k0_t4
theorem k0_off220_inb : ∀ (v41 : BitVec 32) (k0_hw5 : k0_chk5 v41) (k0_t4 : Fin (k0_t4_loop v41).trips), ∀ a, (k0_off220 v41 k0_t4) a + S1x1x16.size a ≤ S4x32x128.size a := fun v41 k0_hw5 k0_t4 => k0_hw5.2.2.2.2.2.1.2.2.2.2.2.2.2.2.2.2.2.2.2.2.2.2.2.2.2.2.2.2.2.2.1 k0_t4
theorem k0_off221_inb : ∀ (v41 : BitVec 32) (k0_hw5 : k0_chk5 v41) (k0_t4 : Fin (k0_t4_loop v41).trips), ∀ a, (k0_off221 v41 k0_t4) a + S1x1x16.size a ≤ S4x32x128.size a := fun v41 k0_hw5 k0_t4 => k0_hw5.2.2.2.2.2.1.2.2.2.2.2.2.2.2.2.2.2.2.2.2.2.2.2.2.2.2.2.2.2.2.2.1 k0_t4
theorem k0_off222_inb : ∀ (v41 : BitVec 32) (k0_hw5 : k0_chk5 v41) (k0_t4 : Fin (k0_t4_loop v41).trips), ∀ a, (k0_off222 v41 k0_t4) a + S1x1x16.size a ≤ S4x32x128.size a := fun v41 k0_hw5 k0_t4 => k0_hw5.2.2.2.2.2.1.2.2.2.2.2.2.2.2.2.2.2.2.2.2.2.2.2.2.2.2.2.2.2.2.2.2.1 k0_t4
theorem k0_off223_inb : ∀ (v41 : BitVec 32) (k0_hw5 : k0_chk5 v41) (k0_t4 : Fin (k0_t4_loop v41).trips), ∀ a, (k0_off223 v41 k0_t4) a + S1x1x16.size a ≤ S4x32x128.size a := fun v41 k0_hw5 k0_t4 => k0_hw5.2.2.2.2.2.1.2.2.2.2.2.2.2.2.2.2.2.2.2.2.2.2.2.2.2.2.2.2.2.2.2.2.2.1 k0_t4
theorem k0_off224_inb : ∀ (v41 : BitVec 32) (k0_hw5 : k0_chk5 v41) (k0_t4 : Fin (k0_t4_loop v41).trips), ∀ a, (k0_off224 v41 k0_t4) a + S1x1x16.size a ≤ S4x32x128.size a := fun v41 k0_hw5 k0_t4 => k0_hw5.2.2.2.2.2.1.2.2.2.2.2.2.2.2.2.2.2.2.2.2.2.2.2.2.2.2.2.2.2.2.2.2.2.2.1 k0_t4
theorem k0_off225_inb : ∀ (v41 : BitVec 32) (k0_hw5 : k0_chk5 v41) (k0_t4 : Fin (k0_t4_loop v41).trips), ∀ a, (k0_off225 v41 k0_t4) a + S1x1x16.size a ≤ S4x32x128.size a := fun v41 k0_hw5 k0_t4 => k0_hw5.2.2.2.2.2.1.2.2.2.2.2.2.2.2.2.2.2.2.2.2.2.2.2.2.2.2.2.2.2.2.2.2.2.2.2.1 k0_t4
theorem k0_off226_inb : ∀ (v41 : BitVec 32) (k0_hw5 : k0_chk5 v41) (k0_t4 : Fin (k0_t4_loop v41).trips), ∀ a, (k0_off226 v41 k0_t4) a + S1x1x16.size a ≤ S4x32x128.size a := fun v41 k0_hw5 k0_t4 => k0_hw5.2.2.2.2.2.1.2.2.2.2.2.2.2.2.2.2.2.2.2.2.2.2.2.2.2.2.2.2.2.2.2.2.2.2.2.2.1 k0_t4
theorem k0_off227_inb : ∀ (v41 : BitVec 32) (k0_hw5 : k0_chk5 v41) (k0_t4 : Fin (k0_t4_loop v41).trips), ∀ a, (k0_off227 v41 k0_t4) a + S1x1x16.size a ≤ S4x32x128.size a := fun v41 k0_hw5 k0_t4 => k0_hw5.2.2.2.2.2.1.2.2.2.2.2.2.2.2.2.2.2.2.2.2.2.2.2.2.2.2.2.2.2.2.2.2.2.2.2.2.2 k0_t4
theorem k0_off229_inb : ∀ (v41 : BitVec 32) (k0_hw5 : k0_chk5 v41) (k0_t4 : Fin (k0_t4_loop v41).trips), ∀ a, (k0_off229 v41 k0_t4) a + S1x1x16.size a ≤ S4x32x128.size a := fun v41 k0_hw5 k0_t4 => k0_hw5.2.2.2.2.2.2.1.1 k0_t4
theorem k0_off230_inb : ∀ (v41 : BitVec 32) (k0_hw5 : k0_chk5 v41) (k0_t4 : Fin (k0_t4_loop v41).trips), ∀ a, (k0_off230 v41 k0_t4) a + S1x1x16.size a ≤ S4x32x128.size a := fun v41 k0_hw5 k0_t4 => k0_hw5.2.2.2.2.2.2.1.2.1 k0_t4
theorem k0_off231_inb : ∀ (v41 : BitVec 32) (k0_hw5 : k0_chk5 v41) (k0_t4 : Fin (k0_t4_loop v41).trips), ∀ a, (k0_off231 v41 k0_t4) a + S1x1x16.size a ≤ S4x32x128.size a := fun v41 k0_hw5 k0_t4 => k0_hw5.2.2.2.2.2.2.1.2.2.1 k0_t4
theorem k0_off232_inb : ∀ (v41 : BitVec 32) (k0_hw5 : k0_chk5 v41) (k0_t4 : Fin (k0_t4_loop v41).trips), ∀ a, (k0_off232 v41 k0_t4) a + S1x1x16.size a ≤ S4x32x128.size a := fun v41 k0_hw5 k0_t4 => k0_hw5.2.2.2.2.2.2.1.2.2.2.1 k0_t4
theorem k0_off233_inb : ∀ (v41 : BitVec 32) (k0_hw5 : k0_chk5 v41) (k0_t4 : Fin (k0_t4_loop v41).trips), ∀ a, (k0_off233 v41 k0_t4) a + S1x1x16.size a ≤ S4x32x128.size a := fun v41 k0_hw5 k0_t4 => k0_hw5.2.2.2.2.2.2.1.2.2.2.2.1 k0_t4
theorem k0_off234_inb : ∀ (v41 : BitVec 32) (k0_hw5 : k0_chk5 v41) (k0_t4 : Fin (k0_t4_loop v41).trips), ∀ a, (k0_off234 v41 k0_t4) a + S1x1x16.size a ≤ S4x32x128.size a := fun v41 k0_hw5 k0_t4 => k0_hw5.2.2.2.2.2.2.1.2.2.2.2.2.1 k0_t4
theorem k0_off235_inb : ∀ (v41 : BitVec 32) (k0_hw5 : k0_chk5 v41) (k0_t4 : Fin (k0_t4_loop v41).trips), ∀ a, (k0_off235 v41 k0_t4) a + S1x1x16.size a ≤ S4x32x128.size a := fun v41 k0_hw5 k0_t4 => k0_hw5.2.2.2.2.2.2.1.2.2.2.2.2.2.1 k0_t4
theorem k0_off236_inb : ∀ (v41 : BitVec 32) (k0_hw5 : k0_chk5 v41) (k0_t4 : Fin (k0_t4_loop v41).trips), ∀ a, (k0_off236 v41 k0_t4) a + S1x1x16.size a ≤ S4x32x128.size a := fun v41 k0_hw5 k0_t4 => k0_hw5.2.2.2.2.2.2.1.2.2.2.2.2.2.2.1 k0_t4
theorem k0_off238_inb : ∀ (v41 : BitVec 32) (k0_hw5 : k0_chk5 v41) (k0_t4 : Fin (k0_t4_loop v41).trips), ∀ a, (k0_off238 v41 k0_t4) a + S1x1x16.size a ≤ S4x32x128.size a := fun v41 k0_hw5 k0_t4 => k0_hw5.2.2.2.2.2.2.1.2.2.2.2.2.2.2.2.1 k0_t4
theorem k0_off239_inb : ∀ (v41 : BitVec 32) (k0_hw5 : k0_chk5 v41) (k0_t4 : Fin (k0_t4_loop v41).trips), ∀ a, (k0_off239 v41 k0_t4) a + S1x1x16.size a ≤ S4x32x128.size a := fun v41 k0_hw5 k0_t4 => k0_hw5.2.2.2.2.2.2.1.2.2.2.2.2.2.2.2.2.1 k0_t4
theorem k0_off240_inb : ∀ (v41 : BitVec 32) (k0_hw5 : k0_chk5 v41) (k0_t4 : Fin (k0_t4_loop v41).trips), ∀ a, (k0_off240 v41 k0_t4) a + S1x1x16.size a ≤ S4x32x128.size a := fun v41 k0_hw5 k0_t4 => k0_hw5.2.2.2.2.2.2.1.2.2.2.2.2.2.2.2.2.2.1 k0_t4
theorem k0_off241_inb : ∀ (v41 : BitVec 32) (k0_hw5 : k0_chk5 v41) (k0_t4 : Fin (k0_t4_loop v41).trips), ∀ a, (k0_off241 v41 k0_t4) a + S1x1x16.size a ≤ S4x32x128.size a := fun v41 k0_hw5 k0_t4 => k0_hw5.2.2.2.2.2.2.1.2.2.2.2.2.2.2.2.2.2.2.1 k0_t4
theorem k0_off242_inb : ∀ (v41 : BitVec 32) (k0_hw5 : k0_chk5 v41) (k0_t4 : Fin (k0_t4_loop v41).trips), ∀ a, (k0_off242 v41 k0_t4) a + S1x1x16.size a ≤ S4x32x128.size a := fun v41 k0_hw5 k0_t4 => k0_hw5.2.2.2.2.2.2.1.2.2.2.2.2.2.2.2.2.2.2.2.1 k0_t4
theorem k0_off243_inb : ∀ (v41 : BitVec 32) (k0_hw5 : k0_chk5 v41) (k0_t4 : Fin (k0_t4_loop v41).trips), ∀ a, (k0_off243 v41 k0_t4) a + S1x1x16.size a ≤ S4x32x128.size a := fun v41 k0_hw5 k0_t4 => k0_hw5.2.2.2.2.2.2.1.2.2.2.2.2.2.2.2.2.2.2.2.2.1 k0_t4
theorem k0_off244_inb : ∀ (v41 : BitVec 32) (k0_hw5 : k0_chk5 v41) (k0_t4 : Fin (k0_t4_loop v41).trips), ∀ a, (k0_off244 v41 k0_t4) a + S1x1x16.size a ≤ S4x32x128.size a := fun v41 k0_hw5 k0_t4 => k0_hw5.2.2.2.2.2.2.1.2.2.2.2.2.2.2.2.2.2.2.2.2.2.1 k0_t4
theorem k0_off245_inb : ∀ (v41 : BitVec 32) (k0_hw5 : k0_chk5 v41) (k0_t4 : Fin (k0_t4_loop v41).trips), ∀ a, (k0_off245 v41 k0_t4) a + S1x1x16.size a ≤ S4x32x128.size a := fun v41 k0_hw5 k0_t4 => k0_hw5.2.2.2.2.2.2.1.2.2.2.2.2.2.2.2.2.2.2.2.2.2.2.1 k0_t4
theorem k0_off247_inb : ∀ (v41 : BitVec 32) (k0_hw5 : k0_chk5 v41) (k0_t4 : Fin (k0_t4_loop v41).trips), ∀ a, (k0_off247 v41 k0_t4) a + S1x1x16.size a ≤ S4x32x128.size a := fun v41 k0_hw5 k0_t4 => k0_hw5.2.2.2.2.2.2.1.2.2.2.2.2.2.2.2.2.2.2.2.2.2.2.2.1 k0_t4
theorem k0_off248_inb : ∀ (v41 : BitVec 32) (k0_hw5 : k0_chk5 v41) (k0_t4 : Fin (k0_t4_loop v41).trips), ∀ a, (k0_off248 v41 k0_t4) a + S1x1x16.size a ≤ S4x32x128.size a := fun v41 k0_hw5 k0_t4 => k0_hw5.2.2.2.2.2.2.1.2.2.2.2.2.2.2.2.2.2.2.2.2.2.2.2.2.1 k0_t4
theorem k0_off249_inb : ∀ (v41 : BitVec 32) (k0_hw5 : k0_chk5 v41) (k0_t4 : Fin (k0_t4_loop v41).trips), ∀ a, (k0_off249 v41 k0_t4) a + S1x1x16.size a ≤ S4x32x128.size a := fun v41 k0_hw5 k0_t4 => k0_hw5.2.2.2.2.2.2.1.2.2.2.2.2.2.2.2.2.2.2.2.2.2.2.2.2.2.1 k0_t4
theorem k0_off250_inb : ∀ (v41 : BitVec 32) (k0_hw5 : k0_chk5 v41) (k0_t4 : Fin (k0_t4_loop v41).trips), ∀ a, (k0_off250 v41 k0_t4) a + S1x1x16.size a ≤ S4x32x128.size a := fun v41 k0_hw5 k0_t4 => k0_hw5.2.2.2.2.2.2.1.2.2.2.2.2.2.2.2.2.2.2.2.2.2.2.2.2.2.2.1 k0_t4
theorem k0_off251_inb : ∀ (v41 : BitVec 32) (k0_hw5 : k0_chk5 v41) (k0_t4 : Fin (k0_t4_loop v41).trips), ∀ a, (k0_off251 v41 k0_t4) a + S1x1x16.size a ≤ S4x32x128.size a := fun v41 k0_hw5 k0_t4 => k0_hw5.2.2.2.2.2.2.1.2.2.2.2.2.2.2.2.2.2.2.2.2.2.2.2.2.2.2.2.1 k0_t4
theorem k0_off252_inb : ∀ (v41 : BitVec 32) (k0_hw5 : k0_chk5 v41) (k0_t4 : Fin (k0_t4_loop v41).trips), ∀ a, (k0_off252 v41 k0_t4) a + S1x1x16.size a ≤ S4x32x128.size a := fun v41 k0_hw5 k0_t4 => k0_hw5.2.2.2.2.2.2.1.2.2.2.2.2.2.2.2.2.2.2.2.2.2.2.2.2.2.2.2.2.1 k0_t4
theorem k0_off253_inb : ∀ (v41 : BitVec 32) (k0_hw5 : k0_chk5 v41) (k0_t4 : Fin (k0_t4_loop v41).trips), ∀ a, (k0_off253 v41 k0_t4) a + S1x1x16.size a ≤ S4x32x128.size a := fun v41 k0_hw5 k0_t4 => k0_hw5.2.2.2.2.2.2.1.2.2.2.2.2.2.2.2.2.2.2.2.2.2.2.2.2.2.2.2.2.2.1 k0_t4
theorem k0_off254_inb : ∀ (v41 : BitVec 32) (k0_hw5 : k0_chk5 v41) (k0_t4 : Fin (k0_t4_loop v41).trips), ∀ a, (k0_off254 v41 k0_t4) a + S1x1x16.size a ≤ S4x32x128.size a := fun v41 k0_hw5 k0_t4 => k0_hw5.2.2.2.2.2.2.1.2.2.2.2.2.2.2.2.2.2.2.2.2.2.2.2.2.2.2.2.2.2.2.1 k0_t4
theorem k0_off256_inb : ∀ (v41 : BitVec 32) (k0_hw5 : k0_chk5 v41) (k0_t4 : Fin (k0_t4_loop v41).trips), ∀ a, (k0_off256 v41 k0_t4) a + S1x1x16.size a ≤ S4x32x128.size a := fun v41 k0_hw5 k0_t4 => k0_hw5.2.2.2.2.2.2.1.2.2.2.2.2.2.2.2.2.2.2.2.2.2.2.2.2.2.2.2.2.2.2.2.1 k0_t4
theorem k0_off257_inb : ∀ (v41 : BitVec 32) (k0_hw5 : k0_chk5 v41) (k0_t4 : Fin (k0_t4_loop v41).trips), ∀ a, (k0_off257 v41 k0_t4) a + S1x1x16.size a ≤ S4x32x128.size a := fun v41 k0_hw5 k0_t4 => k0_hw5.2.2.2.2.2.2.1.2.2.2.2.2.2.2.2.2.2.2.2.2.2.2.2.2.2.2.2.2.2.2.2.2.1 k0_t4
theorem k0_off258_inb : ∀ (v41 : BitVec 32) (k0_hw5 : k0_chk5 v41) (k0_t4 : Fin (k0_t4_loop v41).trips), ∀ a, (k0_off258 v41 k0_t4) a + S1x1x16.size a ≤ S4x32x128.size a := fun v41 k0_hw5 k0_t4 => k0_hw5.2.2.2.2.2.2.1.2.2.2.2.2.2.2.2.2.2.2.2.2.2.2.2.2.2.2.2.2.2.2.2.2.2.1 k0_t4
theorem k0_off259_inb : ∀ (v41 : BitVec 32) (k0_hw5 : k0_chk5 v41) (k0_t4 : Fin (k0_t4_loop v41).trips), ∀ a, (k0_off259 v41 k0_t4) a + S1x1x16.size a ≤ S4x32x128.size a := fun v41 k0_hw5 k0_t4 => k0_hw5.2.2.2.2.2.2.1.2.2.2.2.2.2.2.2.2.2.2.2.2.2.2.2.2.2.2.2.2.2.2.2.2.2.2.1 k0_t4
theorem k0_off260_inb : ∀ (v41 : BitVec 32) (k0_hw5 : k0_chk5 v41) (k0_t4 : Fin (k0_t4_loop v41).trips), ∀ a, (k0_off260 v41 k0_t4) a + S1x1x16.size a ≤ S4x32x128.size a := fun v41 k0_hw5 k0_t4 => k0_hw5.2.2.2.2.2.2.1.2.2.2.2.2.2.2.2.2.2.2.2.2.2.2.2.2.2.2.2.2.2.2.2.2.2.2.2.1 k0_t4
theorem k0_off261_inb : ∀ (v41 : BitVec 32) (k0_hw5 : k0_chk5 v41) (k0_t4 : Fin (k0_t4_loop v41).trips), ∀ a, (k0_off261 v41 k0_t4) a + S1x1x16.size a ≤ S4x32x128.size a := fun v41 k0_hw5 k0_t4 => k0_hw5.2.2.2.2.2.2.1.2.2.2.2.2.2.2.2.2.2.2.2.2.2.2.2.2.2.2.2.2.2.2.2.2.2.2.2.2.1 k0_t4
theorem k0_off262_inb : ∀ (v41 : BitVec 32) (k0_hw5 : k0_chk5 v41) (k0_t4 : Fin (k0_t4_loop v41).trips), ∀ a, (k0_off262 v41 k0_t4) a + S1x1x16.size a ≤ S4x32x128.size a := fun v41 k0_hw5 k0_t4 => k0_hw5.2.2.2.2.2.2.1.2.2.2.2.2.2.2.2.2.2.2.2.2.2.2.2.2.2.2.2.2.2.2.2.2.2.2.2.2.2.1 k0_t4
theorem k0_off263_inb : ∀ (v41 : BitVec 32) (k0_hw5 : k0_chk5 v41) (k0_t4 : Fin (k0_t4_loop v41).trips), ∀ a, (k0_off263 v41 k0_t4) a + S1x1x16.size a ≤ S4x32x128.size a := fun v41 k0_hw5 k0_t4 => k0_hw5.2.2.2.2.2.2.1.2.2.2.2.2.2.2.2.2.2.2.2.2.2.2.2.2.2.2.2.2.2.2.2.2.2.2.2.2.2.2 k0_t4
theorem k0_off265_inb : ∀ (v41 : BitVec 32) (k0_hw5 : k0_chk5 v41) (k0_t4 : Fin (k0_t4_loop v41).trips), ∀ a, (k0_off265 v41 k0_t4) a + S1x1x16.size a ≤ S4x32x128.size a := fun v41 k0_hw5 k0_t4 => k0_hw5.2.2.2.2.2.2.2.1.1 k0_t4
theorem k0_off266_inb : ∀ (v41 : BitVec 32) (k0_hw5 : k0_chk5 v41) (k0_t4 : Fin (k0_t4_loop v41).trips), ∀ a, (k0_off266 v41 k0_t4) a + S1x1x16.size a ≤ S4x32x128.size a := fun v41 k0_hw5 k0_t4 => k0_hw5.2.2.2.2.2.2.2.1.2.1 k0_t4
theorem k0_off267_inb : ∀ (v41 : BitVec 32) (k0_hw5 : k0_chk5 v41) (k0_t4 : Fin (k0_t4_loop v41).trips), ∀ a, (k0_off267 v41 k0_t4) a + S1x1x16.size a ≤ S4x32x128.size a := fun v41 k0_hw5 k0_t4 => k0_hw5.2.2.2.2.2.2.2.1.2.2.1 k0_t4
theorem k0_off268_inb : ∀ (v41 : BitVec 32) (k0_hw5 : k0_chk5 v41) (k0_t4 : Fin (k0_t4_loop v41).trips), ∀ a, (k0_off268 v41 k0_t4) a + S1x1x16.size a ≤ S4x32x128.size a := fun v41 k0_hw5 k0_t4 => k0_hw5.2.2.2.2.2.2.2.1.2.2.2.1 k0_t4
theorem k0_off269_inb : ∀ (v41 : BitVec 32) (k0_hw5 : k0_chk5 v41) (k0_t4 : Fin (k0_t4_loop v41).trips), ∀ a, (k0_off269 v41 k0_t4) a + S1x1x16.size a ≤ S4x32x128.size a := fun v41 k0_hw5 k0_t4 => k0_hw5.2.2.2.2.2.2.2.1.2.2.2.2.1 k0_t4
theorem k0_off270_inb : ∀ (v41 : BitVec 32) (k0_hw5 : k0_chk5 v41) (k0_t4 : Fin (k0_t4_loop v41).trips), ∀ a, (k0_off270 v41 k0_t4) a + S1x1x16.size a ≤ S4x32x128.size a := fun v41 k0_hw5 k0_t4 => k0_hw5.2.2.2.2.2.2.2.1.2.2.2.2.2.1 k0_t4
theorem k0_off271_inb : ∀ (v41 : BitVec 32) (k0_hw5 : k0_chk5 v41) (k0_t4 : Fin (k0_t4_loop v41).trips), ∀ a, (k0_off271 v41 k0_t4) a + S1x1x16.size a ≤ S4x32x128.size a := fun v41 k0_hw5 k0_t4 => k0_hw5.2.2.2.2.2.2.2.1.2.2.2.2.2.2.1 k0_t4
theorem k0_off272_inb : ∀ (v41 : BitVec 32) (k0_hw5 : k0_chk5 v41) (k0_t4 : Fin (k0_t4_loop v41).trips), ∀ a, (k0_off272 v41 k0_t4) a + S1x1x16.size a ≤ S4x32x128.size a := fun v41 k0_hw5 k0_t4 => k0_hw5.2.2.2.2.2.2.2.1.2.2.2.2.2.2.2.1 k0_t4
theorem k0_off274_inb : ∀ (v41 : BitVec 32) (k0_hw5 : k0_chk5 v41) (k0_t4 : Fin (k0_t4_loop v41).trips), ∀ a, (k0_off274 v41 k0_t4) a + S1x1x16.size a ≤ S4x32x128.size a := fun v41 k0_hw5 k0_t4 => k0_hw5.2.2.2.2.2.2.2.1.2.2.2.2.2.2.2.2.1 k0_t4
theorem k0_off275_inb : ∀ (v41 : BitVec 32) (k0_hw5 : k0_chk5 v41) (k0_t4 : Fin (k0_t4_loop v41).trips), ∀ a, (k0_off275 v41 k0_t4) a + S1x1x16.size a ≤ S4x32x128.size a := fun v41 k0_hw5 k0_t4 => k0_hw5.2.2.2.2.2.2.2.1.2.2.2.2.2.2.2.2.2.1 k0_t4
theorem k0_off276_inb : ∀ (v41 : BitVec 32) (k0_hw5 : k0_chk5 v41) (k0_t4 : Fin (k0_t4_loop v41).trips), ∀ a, (k0_off276 v41 k0_t4) a + S1x1x16.size a ≤ S4x32x128.size a := fun v41 k0_hw5 k0_t4 => k0_hw5.2.2.2.2.2.2.2.1.2.2.2.2.2.2.2.2.2.2.1 k0_t4
theorem k0_off277_inb : ∀ (v41 : BitVec 32) (k0_hw5 : k0_chk5 v41) (k0_t4 : Fin (k0_t4_loop v41).trips), ∀ a, (k0_off277 v41 k0_t4) a + S1x1x16.size a ≤ S4x32x128.size a := fun v41 k0_hw5 k0_t4 => k0_hw5.2.2.2.2.2.2.2.1.2.2.2.2.2.2.2.2.2.2.2.1 k0_t4
theorem k0_off278_inb : ∀ (v41 : BitVec 32) (k0_hw5 : k0_chk5 v41) (k0_t4 : Fin (k0_t4_loop v41).trips), ∀ a, (k0_off278 v41 k0_t4) a + S1x1x16.size a ≤ S4x32x128.size a := fun v41 k0_hw5 k0_t4 => k0_hw5.2.2.2.2.2.2.2.1.2.2.2.2.2.2.2.2.2.2.2.2.1 k0_t4
theorem k0_off279_inb : ∀ (v41 : BitVec 32) (k0_hw5 : k0_chk5 v41) (k0_t4 : Fin (k0_t4_loop v41).trips), ∀ a, (k0_off279 v41 k0_t4) a + S1x1x16.size a ≤ S4x32x128.size a := fun v41 k0_hw5 k0_t4 => k0_hw5.2.2.2.2.2.2.2.1.2.2.2.2.2.2.2.2.2.2.2.2.2.1 k0_t4
theorem k0_off280_inb : ∀ (v41 : BitVec 32) (k0_hw5 : k0_chk5 v41) (k0_t4 : Fin (k0_t4_loop v41).trips), ∀ a, (k0_off280 v41 k0_t4) a + S1x1x16.size a ≤ S4x32x128.size a := fun v41 k0_hw5 k0_t4 => k0_hw5.2.2.2.2.2.2.2.1.2.2.2.2.2.2.2.2.2.2.2.2.2.2.1 k0_t4
theorem k0_off281_inb : ∀ (v41 : BitVec 32) (k0_hw5 : k0_chk5 v41) (k0_t4 : Fin (k0_t4_loop v41).trips), ∀ a, (k0_off281 v41 k0_t4) a + S1x1x16.size a ≤ S4x32x128.size a := fun v41 k0_hw5 k0_t4 => k0_hw5.2.2.2.2.2.2.2.1.2.2.2.2.2.2.2.2.2.2.2.2.2.2.2.1 k0_t4
theorem k0_off283_inb : ∀ (v41 : BitVec 32) (k0_hw5 : k0_chk5 v41) (k0_t4 : Fin (k0_t4_loop v41).trips), ∀ a, (k0_off283 v41 k0_t4) a + S1x1x16.size a ≤ S4x32x128.size a := fun v41 k0_hw5 k0_t4 => k0_hw5.2.2.2.2.2.2.2.1.2.2.2.2.2.2.2.2.2.2.2.2.2.2.2.2.1 k0_t4
theorem k0_off284_inb : ∀ (v41 : BitVec 32) (k0_hw5 : k0_chk5 v41) (k0_t4 : Fin (k0_t4_loop v41).trips), ∀ a, (k0_off284 v41 k0_t4) a + S1x1x16.size a ≤ S4x32x128.size a := fun v41 k0_hw5 k0_t4 => k0_hw5.2.2.2.2.2.2.2.1.2.2.2.2.2.2.2.2.2.2.2.2.2.2.2.2.2.1 k0_t4
theorem k0_off285_inb : ∀ (v41 : BitVec 32) (k0_hw5 : k0_chk5 v41) (k0_t4 : Fin (k0_t4_loop v41).trips), ∀ a, (k0_off285 v41 k0_t4) a + S1x1x16.size a ≤ S4x32x128.size a := fun v41 k0_hw5 k0_t4 => k0_hw5.2.2.2.2.2.2.2.1.2.2.2.2.2.2.2.2.2.2.2.2.2.2.2.2.2.2.1 k0_t4
theorem k0_off286_inb : ∀ (v41 : BitVec 32) (k0_hw5 : k0_chk5 v41) (k0_t4 : Fin (k0_t4_loop v41).trips), ∀ a, (k0_off286 v41 k0_t4) a + S1x1x16.size a ≤ S4x32x128.size a := fun v41 k0_hw5 k0_t4 => k0_hw5.2.2.2.2.2.2.2.1.2.2.2.2.2.2.2.2.2.2.2.2.2.2.2.2.2.2.2.1 k0_t4
theorem k0_off287_inb : ∀ (v41 : BitVec 32) (k0_hw5 : k0_chk5 v41) (k0_t4 : Fin (k0_t4_loop v41).trips), ∀ a, (k0_off287 v41 k0_t4) a + S1x1x16.size a ≤ S4x32x128.size a := fun v41 k0_hw5 k0_t4 => k0_hw5.2.2.2.2.2.2.2.1.2.2.2.2.2.2.2.2.2.2.2.2.2.2.2.2.2.2.2.2.1 k0_t4
theorem k0_off288_inb : ∀ (v41 : BitVec 32) (k0_hw5 : k0_chk5 v41) (k0_t4 : Fin (k0_t4_loop v41).trips), ∀ a, (k0_off288 v41 k0_t4) a + S1x1x16.size a ≤ S4x32x128.size a := fun v41 k0_hw5 k0_t4 => k0_hw5.2.2.2.2.2.2.2.1.2.2.2.2.2.2.2.2.2.2.2.2.2.2.2.2.2.2.2.2.2.1 k0_t4
theorem k0_off289_inb : ∀ (v41 : BitVec 32) (k0_hw5 : k0_chk5 v41) (k0_t4 : Fin (k0_t4_loop v41).trips), ∀ a, (k0_off289 v41 k0_t4) a + S1x1x16.size a ≤ S4x32x128.size a := fun v41 k0_hw5 k0_t4 => k0_hw5.2.2.2.2.2.2.2.1.2.2.2.2.2.2.2.2.2.2.2.2.2.2.2.2.2.2.2.2.2.2.1 k0_t4
theorem k0_off290_inb : ∀ (v41 : BitVec 32) (k0_hw5 : k0_chk5 v41) (k0_t4 : Fin (k0_t4_loop v41).trips), ∀ a, (k0_off290 v41 k0_t4) a + S1x1x16.size a ≤ S4x32x128.size a := fun v41 k0_hw5 k0_t4 => k0_hw5.2.2.2.2.2.2.2.1.2.2.2.2.2.2.2.2.2.2.2.2.2.2.2.2.2.2.2.2.2.2.2.1 k0_t4
theorem k0_off292_inb : ∀ (v41 : BitVec 32) (k0_hw5 : k0_chk5 v41) (k0_t4 : Fin (k0_t4_loop v41).trips), ∀ a, (k0_off292 v41 k0_t4) a + S1x1x16.size a ≤ S4x32x128.size a := fun v41 k0_hw5 k0_t4 => k0_hw5.2.2.2.2.2.2.2.1.2.2.2.2.2.2.2.2.2.2.2.2.2.2.2.2.2.2.2.2.2.2.2.2.1 k0_t4
theorem k0_off293_inb : ∀ (v41 : BitVec 32) (k0_hw5 : k0_chk5 v41) (k0_t4 : Fin (k0_t4_loop v41).trips), ∀ a, (k0_off293 v41 k0_t4) a + S1x1x16.size a ≤ S4x32x128.size a := fun v41 k0_hw5 k0_t4 => k0_hw5.2.2.2.2.2.2.2.1.2.2.2.2.2.2.2.2.2.2.2.2.2.2.2.2.2.2.2.2.2.2.2.2.2.1 k0_t4
theorem k0_off294_inb : ∀ (v41 : BitVec 32) (k0_hw5 : k0_chk5 v41) (k0_t4 : Fin (k0_t4_loop v41).trips), ∀ a, (k0_off294 v41 k0_t4) a + S1x1x16.size a ≤ S4x32x128.size a := fun v41 k0_hw5 k0_t4 => k0_hw5.2.2.2.2.2.2.2.1.2.2.2.2.2.2.2.2.2.2.2.2.2.2.2.2.2.2.2.2.2.2.2.2.2.2.1 k0_t4
theorem k0_off295_inb : ∀ (v41 : BitVec 32) (k0_hw5 : k0_chk5 v41) (k0_t4 : Fin (k0_t4_loop v41).trips), ∀ a, (k0_off295 v41 k0_t4) a + S1x1x16.size a ≤ S4x32x128.size a := fun v41 k0_hw5 k0_t4 => k0_hw5.2.2.2.2.2.2.2.1.2.2.2.2.2.2.2.2.2.2.2.2.2.2.2.2.2.2.2.2.2.2.2.2.2.2.2.1 k0_t4
theorem k0_off296_inb : ∀ (v41 : BitVec 32) (k0_hw5 : k0_chk5 v41) (k0_t4 : Fin (k0_t4_loop v41).trips), ∀ a, (k0_off296 v41 k0_t4) a + S1x1x16.size a ≤ S4x32x128.size a := fun v41 k0_hw5 k0_t4 => k0_hw5.2.2.2.2.2.2.2.1.2.2.2.2.2.2.2.2.2.2.2.2.2.2.2.2.2.2.2.2.2.2.2.2.2.2.2.2.1 k0_t4
theorem k0_off297_inb : ∀ (v41 : BitVec 32) (k0_hw5 : k0_chk5 v41) (k0_t4 : Fin (k0_t4_loop v41).trips), ∀ a, (k0_off297 v41 k0_t4) a + S1x1x16.size a ≤ S4x32x128.size a := fun v41 k0_hw5 k0_t4 => k0_hw5.2.2.2.2.2.2.2.1.2.2.2.2.2.2.2.2.2.2.2.2.2.2.2.2.2.2.2.2.2.2.2.2.2.2.2.2.2.1 k0_t4
theorem k0_off298_inb : ∀ (v41 : BitVec 32) (k0_hw5 : k0_chk5 v41) (k0_t4 : Fin (k0_t4_loop v41).trips), ∀ a, (k0_off298 v41 k0_t4) a + S1x1x16.size a ≤ S4x32x128.size a := fun v41 k0_hw5 k0_t4 => k0_hw5.2.2.2.2.2.2.2.1.2.2.2.2.2.2.2.2.2.2.2.2.2.2.2.2.2.2.2.2.2.2.2.2.2.2.2.2.2.2.1 k0_t4
theorem k0_off299_inb : ∀ (v41 : BitVec 32) (k0_hw5 : k0_chk5 v41) (k0_t4 : Fin (k0_t4_loop v41).trips), ∀ a, (k0_off299 v41 k0_t4) a + S1x1x16.size a ≤ S4x32x128.size a := fun v41 k0_hw5 k0_t4 => k0_hw5.2.2.2.2.2.2.2.1.2.2.2.2.2.2.2.2.2.2.2.2.2.2.2.2.2.2.2.2.2.2.2.2.2.2.2.2.2.2.2 k0_t4
theorem k0_off301_inb : ∀ (v41 : BitVec 32) (k0_hw5 : k0_chk5 v41) (k0_t4 : Fin (k0_t4_loop v41).trips), ∀ a, (k0_off301 v41 k0_t4) a + S1x1x16.size a ≤ S4x32x128.size a := fun v41 k0_hw5 k0_t4 => k0_hw5.2.2.2.2.2.2.2.2.1.1 k0_t4
theorem k0_off302_inb : ∀ (v41 : BitVec 32) (k0_hw5 : k0_chk5 v41) (k0_t4 : Fin (k0_t4_loop v41).trips), ∀ a, (k0_off302 v41 k0_t4) a + S1x1x16.size a ≤ S4x32x128.size a := fun v41 k0_hw5 k0_t4 => k0_hw5.2.2.2.2.2.2.2.2.1.2.1 k0_t4
theorem k0_off303_inb : ∀ (v41 : BitVec 32) (k0_hw5 : k0_chk5 v41) (k0_t4 : Fin (k0_t4_loop v41).trips), ∀ a, (k0_off303 v41 k0_t4) a + S1x1x16.size a ≤ S4x32x128.size a := fun v41 k0_hw5 k0_t4 => k0_hw5.2.2.2.2.2.2.2.2.1.2.2.1 k0_t4
theorem k0_off304_inb : ∀ (v41 : BitVec 32) (k0_hw5 : k0_chk5 v41) (k0_t4 : Fin (k0_t4_loop v41).trips), ∀ a, (k0_off304 v41 k0_t4) a + S1x1x16.size a ≤ S4x32x128.size a := fun v41 k0_hw5 k0_t4 => k0_hw5.2.2.2.2.2.2.2.2.1.2.2.2.1 k0_t4
theorem k0_off305_inb : ∀ (v41 : BitVec 32) (k0_hw5 : k0_chk5 v41) (k0_t4 : Fin (k0_t4_loop v41).trips), ∀ a, (k0_off305 v41 k0_t4) a + S1x1x16.size a ≤ S4x32x128.size a := fun v41 k0_hw5 k0_t4 => k0_hw5.2.2.2.2.2.2.2.2.1.2.2.2.2.1 k0_t4
theorem k0_off306_inb : ∀ (v41 : BitVec 32) (k0_hw5 : k0_chk5 v41) (k0_t4 : Fin (k0_t4_loop v41).trips), ∀ a, (k0_off306 v41 k0_t4) a + S1x1x16.size a ≤ S4x32x128.size a := fun v41 k0_hw5 k0_t4 => k0_hw5.2.2.2.2.2.2.2.2.1.2.2.2.2.2.1 k0_t4
theorem k0_off307_inb : ∀ (v41 : BitVec 32) (k0_hw5 : k0_chk5 v41) (k0_t4 : Fin (k0_t4_loop v41).trips), ∀ a, (k0_off307 v41 k0_t4) a + S1x1x16.size a ≤ S4x32x128.size a := fun v41 k0_hw5 k0_t4 => k0_hw5.2.2.2.2.2.2.2.2.1.2.2.2.2.2.2.1 k0_t4
theorem k0_off308_inb : ∀ (v41 : BitVec 32) (k0_hw5 : k0_chk5 v41) (k0_t4 : Fin (k0_t4_loop v41).trips), ∀ a, (k0_off308 v41 k0_t4) a + S1x1x16.size a ≤ S4x32x128.size a := fun v41 k0_hw5 k0_t4 => k0_hw5.2.2.2.2.2.2.2.2.1.2.2.2.2.2.2.2.1 k0_t4
theorem k0_off309_inb : ∀ (v41 : BitVec 32) (k0_hw5 : k0_chk5 v41) (k0_t4 : Fin (k0_t4_loop v41).trips), ∀ (k0_h6 : k0_cond6 v41 k0_t4 = 1#1), ∀ a, (k0_off309 v41 k0_t4) a + S1x32x128.size a ≤ S4x32x128.size a := fun v41 k0_hw5 k0_t4 k0_h6 => k0_hw5.2.2.2.2.2.2.2.2.1.2.2.2.2.2.2.2.2.1 k0_t4 k0_h6
theorem k0_off310_inb : ∀ (v41 : BitVec 32) (k0_hw5 : k0_chk5 v41) (k0_t4 : Fin (k0_t4_loop v41).trips), ∀ (k0_h6 : k0_cond6 v41 k0_t4 = 1#1), ∀ a, (k0_off310 v41 k0_t4) a + S32.size a ≤ S8032.size a := fun v41 k0_hw5 k0_t4 k0_h6 => k0_hw5.2.2.2.2.2.2.2.2.1.2.2.2.2.2.2.2.2.2.1 k0_t4 k0_h6
theorem k0_off311_inb : ∀ (v41 : BitVec 32) (k0_hw5 : k0_chk5 v41) (k0_t4 : Fin (k0_t4_loop v41).trips), ∀ (k0_h6 : k0_cond6 v41 k0_t4 = 1#1), ∀ a, (k0_off311 v41 k0_t4) a + S1.size a ≤ S4.size a := fun v41 k0_hw5 k0_t4 k0_h6 => k0_hw5.2.2.2.2.2.2.2.2.1.2.2.2.2.2.2.2.2.2.2.1 k0_t4 k0_h6
theorem k0_t5_ok : ∀ (v41 : BitVec 32) (k0_hw5 : k0_chk5 v41), (k0_t5_loop v41).OK := fun v41 k0_hw5 => k0_hw5.2.2.2.2.2.2.2.2.1.2.2.2.2.2.2.2.2.2.2.2.1
theorem k0_off312_inb : ∀ (v41 : BitVec 32) (k0_hw5 : k0_chk5 v41) (k0_t5 : Fin (k0_t5_loop v41).trips), ∀ a, (k0_off312 v41 k0_t5) a + S1x32x128.size a ≤ S4x32x128.size a := fun v41 k0_hw5 k0_t5 => k0_hw5.2.2.2.2.2.2.2.2.1.2.2.2.2.2.2.2.2.2.2.2.2.1 k0_t5
theorem k0_off313_inb : ∀ (v41 : BitVec 32) (k0_hw5 : k0_chk5 v41) (k0_t5 : Fin (k0_t5_loop v41).trips), ∀ a, (k0_off313 v41 k0_t5) a + S32.size a ≤ S8032.size a := fun v41 k0_hw5 k0_t5 => k0_hw5.2.2.2.2.2.2.2.2.1.2.2.2.2.2.2.2.2.2.2.2.2.2.1 k0_t5
theorem k0_off314_inb : ∀ (v41 : BitVec 32) (k0_hw5 : k0_chk5 v41) (k0_t5 : Fin (k0_t5_loop v41).trips), ∀ a, (k0_off314 v41 k0_t5) a + S1.size a ≤ S4.size a := fun v41 k0_hw5 k0_t5 => k0_hw5.2.2.2.2.2.2.2.2.1.2.2.2.2.2.2.2.2.2.2.2.2.2.2.1 k0_t5
theorem k0_off315_inb : ∀ (v41 : BitVec 32) (k0_hw5 : k0_chk5 v41) (k0_t5 : Fin (k0_t5_loop v41).trips), ∀ a, (k0_off315 v41 k0_t5) a + S16.size a ≤ S8032.size a := fun v41 k0_hw5 k0_t5 => k0_hw5.2.2.2.2.2.2.2.2.1.2.2.2.2.2.2.2.2.2.2.2.2.2.2.2.1 k0_t5
theorem k0_off317_inb : ∀ (v41 : BitVec 32) (k0_hw5 : k0_chk5 v41) (k0_t5 : Fin (k0_t5_loop v41).trips), ∀ a, (k0_off317 v41 k0_t5) a + S1x1x16.size a ≤ S4x32x128.size a := fun v41 k0_hw5 k0_t5 => k0_hw5.2.2.2.2.2.2.2.2.1.2.2.2.2.2.2.2.2.2.2.2.2.2.2.2.2.1 k0_t5
theorem k0_off318_inb : ∀ (v41 : BitVec 32) (k0_hw5 : k0_chk5 v41) (k0_t5 : Fin (k0_t5_loop v41).trips), ∀ a, (k0_off318 v41 k0_t5) a + S1x1x16.size a ≤ S4x32x128.size a := fun v41 k0_hw5 k0_t5 => k0_hw5.2.2.2.2.2.2.2.2.1.2.2.2.2.2.2.2.2.2.2.2.2.2.2.2.2.2.1 k0_t5
theorem k0_off319_inb : ∀ (v41 : BitVec 32) (k0_hw5 : k0_chk5 v41) (k0_t5 : Fin (k0_t5_loop v41).trips), ∀ a, (k0_off319 v41 k0_t5) a + S1x1x16.size a ≤ S4x32x128.size a := fun v41 k0_hw5 k0_t5 => k0_hw5.2.2.2.2.2.2.2.2.1.2.2.2.2.2.2.2.2.2.2.2.2.2.2.2.2.2.2.1 k0_t5
theorem k0_off320_inb : ∀ (v41 : BitVec 32) (k0_hw5 : k0_chk5 v41) (k0_t5 : Fin (k0_t5_loop v41).trips), ∀ a, (k0_off320 v41 k0_t5) a + S1x1x16.size a ≤ S4x32x128.size a := fun v41 k0_hw5 k0_t5 => k0_hw5.2.2.2.2.2.2.2.2.1.2.2.2.2.2.2.2.2.2.2.2.2.2.2.2.2.2.2.2.1 k0_t5
theorem k0_off321_inb : ∀ (v41 : BitVec 32) (k0_hw5 : k0_chk5 v41) (k0_t5 : Fin (k0_t5_loop v41).trips), ∀ a, (k0_off321 v41 k0_t5) a + S1x1x16.size a ≤ S4x32x128.size a := fun v41 k0_hw5 k0_t5 => k0_hw5.2.2.2.2.2.2.2.2.1.2.2.2.2.2.2.2.2.2.2.2.2.2.2.2.2.2.2.2.2.1 k0_t5
theorem k0_off322_inb : ∀ (v41 : BitVec 32) (k0_hw5 : k0_chk5 v41) (k0_t5 : Fin (k0_t5_loop v41).trips), ∀ a, (k0_off322 v41 k0_t5) a + S1x1x16.size a ≤ S4x32x128.size a := fun v41 k0_hw5 k0_t5 => k0_hw5.2.2.2.2.2.2.2.2.1.2.2.2.2.2.2.2.2.2.2.2.2.2.2.2.2.2.2.2.2.2.1 k0_t5
theorem k0_off323_inb : ∀ (v41 : BitVec 32) (k0_hw5 : k0_chk5 v41) (k0_t5 : Fin (k0_t5_loop v41).trips), ∀ a, (k0_off323 v41 k0_t5) a + S1x1x16.size a ≤ S4x32x128.size a := fun v41 k0_hw5 k0_t5 => k0_hw5.2.2.2.2.2.2.2.2.1.2.2.2.2.2.2.2.2.2.2.2.2.2.2.2.2.2.2.2.2.2.2.1 k0_t5
theorem k0_off324_inb : ∀ (v41 : BitVec 32) (k0_hw5 : k0_chk5 v41) (k0_t5 : Fin (k0_t5_loop v41).trips), ∀ a, (k0_off324 v41 k0_t5) a + S1x1x16.size a ≤ S4x32x128.size a := fun v41 k0_hw5 k0_t5 => k0_hw5.2.2.2.2.2.2.2.2.1.2.2.2.2.2.2.2.2.2.2.2.2.2.2.2.2.2.2.2.2.2.2.2.1 k0_t5
theorem k0_off326_inb : ∀ (v41 : BitVec 32) (k0_hw5 : k0_chk5 v41) (k0_t5 : Fin (k0_t5_loop v41).trips), ∀ a, (k0_off326 v41 k0_t5) a + S1x1x16.size a ≤ S4x32x128.size a := fun v41 k0_hw5 k0_t5 => k0_hw5.2.2.2.2.2.2.2.2.1.2.2.2.2.2.2.2.2.2.2.2.2.2.2.2.2.2.2.2.2.2.2.2.2.1 k0_t5
theorem k0_off327_inb : ∀ (v41 : BitVec 32) (k0_hw5 : k0_chk5 v41) (k0_t5 : Fin (k0_t5_loop v41).trips), ∀ a, (k0_off327 v41 k0_t5) a + S1x1x16.size a ≤ S4x32x128.size a := fun v41 k0_hw5 k0_t5 => k0_hw5.2.2.2.2.2.2.2.2.1.2.2.2.2.2.2.2.2.2.2.2.2.2.2.2.2.2.2.2.2.2.2.2.2.2.1 k0_t5
theorem k0_off328_inb : ∀ (v41 : BitVec 32) (k0_hw5 : k0_chk5 v41) (k0_t5 : Fin (k0_t5_loop v41).trips), ∀ a, (k0_off328 v41 k0_t5) a + S1x1x16.size a ≤ S4x32x128.size a := fun v41 k0_hw5 k0_t5 => k0_hw5.2.2.2.2.2.2.2.2.1.2.2.2.2.2.2.2.2.2.2.2.2.2.2.2.2.2.2.2.2.2.2.2.2.2.2.1 k0_t5
theorem k0_off329_inb : ∀ (v41 : BitVec 32) (k0_hw5 : k0_chk5 v41) (k0_t5 : Fin (k0_t5_loop v41).trips), ∀ a, (k0_off329 v41 k0_t5) a + S1x1x16.size a ≤ S4x32x128.size a := fun v41 k0_hw5 k0_t5 => k0_hw5.2.2.2.2.2.2.2.2.1.2.2.2.2.2.2.2.2.2.2.2.2.2.2.2.2.2.2.2.2.2.2.2.2.2.2.2.1 k0_t5
theorem k0_off330_inb : ∀ (v41 : BitVec 32) (k0_hw5 : k0_chk5 v41) (k0_t5 : Fin (k0_t5_loop v41).trips), ∀ a, (k0_off330 v41 k0_t5) a + S1x1x16.size a ≤ S4x32x128.size a := fun v41 k0_hw5 k0_t5 => k0_hw5.2.2.2.2.2.2.2.2.1.2.2.2.2.2.2.2.2.2.2.2.2.2.2.2.2.2.2.2.2.2.2.2.2.2.2.2.2.1 k0_t5
theorem k0_off331_inb : ∀ (v41 : BitVec 32) (k0_hw5 : k0_chk5 v41) (k0_t5 : Fin (k0_t5_loop v41).trips), ∀ a, (k0_off331 v41 k0_t5) a + S1x1x16.size a ≤ S4x32x128.size a := fun v41 k0_hw5 k0_t5 => k0_hw5.2.2.2.2.2.2.2.2.1.2.2.2.2.2.2.2.2.2.2.2.2.2.2.2.2.2.2.2.2.2.2.2.2.2.2.2.2.2.1 k0_t5
theorem k0_off332_inb : ∀ (v41 : BitVec 32) (k0_hw5 : k0_chk5 v41) (k0_t5 : Fin (k0_t5_loop v41).trips), ∀ a, (k0_off332 v41 k0_t5) a + S1x1x16.size a ≤ S4x32x128.size a := fun v41 k0_hw5 k0_t5 => k0_hw5.2.2.2.2.2.2.2.2.1.2.2.2.2.2.2.2.2.2.2.2.2.2.2.2.2.2.2.2.2.2.2.2.2.2.2.2.2.2.2.1 k0_t5
theorem k0_off333_inb : ∀ (v41 : BitVec 32) (k0_hw5 : k0_chk5 v41) (k0_t5 : Fin (k0_t5_loop v41).trips), ∀ a, (k0_off333 v41 k0_t5) a + S1x1x16.size a ≤ S4x32x128.size a := fun v41 k0_hw5 k0_t5 => k0_hw5.2.2.2.2.2.2.2.2.1.2.2.2.2.2.2.2.2.2.2.2.2.2.2.2.2.2.2.2.2.2.2.2.2.2.2.2.2.2.2.2 k0_t5
theorem k0_off335_inb : ∀ (v41 : BitVec 32) (k0_hw5 : k0_chk5 v41) (k0_t5 : Fin (k0_t5_loop v41).trips), ∀ a, (k0_off335 v41 k0_t5) a + S1x1x16.size a ≤ S4x32x128.size a := fun v41 k0_hw5 k0_t5 => k0_hw5.2.2.2.2.2.2.2.2.2.1.1 k0_t5
theorem k0_off336_inb : ∀ (v41 : BitVec 32) (k0_hw5 : k0_chk5 v41) (k0_t5 : Fin (k0_t5_loop v41).trips), ∀ a, (k0_off336 v41 k0_t5) a + S1x1x16.size a ≤ S4x32x128.size a := fun v41 k0_hw5 k0_t5 => k0_hw5.2.2.2.2.2.2.2.2.2.1.2.1 k0_t5
theorem k0_off337_inb : ∀ (v41 : BitVec 32) (k0_hw5 : k0_chk5 v41) (k0_t5 : Fin (k0_t5_loop v41).trips), ∀ a, (k0_off337 v41 k0_t5) a + S1x1x16.size a ≤ S4x32x128.size a := fun v41 k0_hw5 k0_t5 => k0_hw5.2.2.2.2.2.2.2.2.2.1.2.2.1 k0_t5
theorem k0_off338_inb : ∀ (v41 : BitVec 32) (k0_hw5 : k0_chk5 v41) (k0_t5 : Fin (k0_t5_loop v41).trips), ∀ a, (k0_off338 v41 k0_t5) a + S1x1x16.size a ≤ S4x32x128.size a := fun v41 k0_hw5 k0_t5 => k0_hw5.2.2.2.2.2.2.2.2.2.1.2.2.2.1 k0_t5
theorem k0_off339_inb : ∀ (v41 : BitVec 32) (k0_hw5 : k0_chk5 v41) (k0_t5 : Fin (k0_t5_loop v41).trips), ∀ a, (k0_off339 v41 k0_t5) a + S1x1x16.size a ≤ S4x32x128.size a := fun v41 k0_hw5 k0_t5 => k0_hw5.2.2.2.2.2.2.2.2.2.1.2.2.2.2.1 k0_t5
theorem k0_off340_inb : ∀ (v41 : BitVec 32) (k0_hw5 : k0_chk5 v41) (k0_t5 : Fin (k0_t5_loop v41).trips), ∀ a, (k0_off340 v41 k0_t5) a + S1x1x16.size a ≤ S4x32x128.size a := fun v41 k0_hw5 k0_t5 => k0_hw5.2.2.2.2.2.2.2.2.2.1.2.2.2.2.2.1 k0_t5
theorem k0_off341_inb : ∀ (v41 : BitVec 32) (k0_hw5 : k0_chk5 v41) (k0_t5 : Fin (k0_t5_loop v41).trips), ∀ a, (k0_off341 v41 k0_t5) a + S1x1x16.size a ≤ S4x32x128.size a := fun v41 k0_hw5 k0_t5 => k0_hw5.2.2.2.2.2.2.2.2.2.1.2.2.2.2.2.2.1 k0_t5
theorem k0_off342_inb : ∀ (v41 : BitVec 32) (k0_hw5 : k0_chk5 v41) (k0_t5 : Fin (k0_t5_loop v41).trips), ∀ a, (k0_off342 v41 k0_t5) a + S1x1x16.size a ≤ S4x32x128.size a := fun v41 k0_hw5 k0_t5 => k0_hw5.2.2.2.2.2.2.2.2.2.1.2.2.2.2.2.2.2.1 k0_t5
theorem k0_off344_inb : ∀ (v41 : BitVec 32) (k0_hw5 : k0_chk5 v41) (k0_t5 : Fin (k0_t5_loop v41).trips), ∀ a, (k0_off344 v41 k0_t5) a + S1x1x16.size a ≤ S4x32x128.size a := fun v41 k0_hw5 k0_t5 => k0_hw5.2.2.2.2.2.2.2.2.2.1.2.2.2.2.2.2.2.2.1 k0_t5
theorem k0_off345_inb : ∀ (v41 : BitVec 32) (k0_hw5 : k0_chk5 v41) (k0_t5 : Fin (k0_t5_loop v41).trips), ∀ a, (k0_off345 v41 k0_t5) a + S1x1x16.size a ≤ S4x32x128.size a := fun v41 k0_hw5 k0_t5 => k0_hw5.2.2.2.2.2.2.2.2.2.1.2.2.2.2.2.2.2.2.2.1 k0_t5
theorem k0_off346_inb : ∀ (v41 : BitVec 32) (k0_hw5 : k0_chk5 v41) (k0_t5 : Fin (k0_t5_loop v41).trips), ∀ a, (k0_off346 v41 k0_t5) a + S1x1x16.size a ≤ S4x32x128.size a := fun v41 k0_hw5 k0_t5 => k0_hw5.2.2.2.2.2.2.2.2.2.1.2.2.2.2.2.2.2.2.2.2.1 k0_t5
theorem k0_off347_inb : ∀ (v41 : BitVec 32) (k0_hw5 : k0_chk5 v41) (k0_t5 : Fin (k0_t5_loop v41).trips), ∀ a, (k0_off347 v41 k0_t5) a + S1x1x16.size a ≤ S4x32x128.size a := fun v41 k0_hw5 k0_t5 => k0_hw5.2.2.2.2.2.2.2.2.2.1.2.2.2.2.2.2.2.2.2.2.2.1 k0_t5
theorem k0_off348_inb : ∀ (v41 : BitVec 32) (k0_hw5 : k0_chk5 v41) (k0_t5 : Fin (k0_t5_loop v41).trips), ∀ a, (k0_off348 v41 k0_t5) a + S1x1x16.size a ≤ S4x32x128.size a := fun v41 k0_hw5 k0_t5 => k0_hw5.2.2.2.2.2.2.2.2.2.1.2.2.2.2.2.2.2.2.2.2.2.2.1 k0_t5
theorem k0_off349_inb : ∀ (v41 : BitVec 32) (k0_hw5 : k0_chk5 v41) (k0_t5 : Fin (k0_t5_loop v41).trips), ∀ a, (k0_off349 v41 k0_t5) a + S1x1x16.size a ≤ S4x32x128.size a := fun v41 k0_hw5 k0_t5 => k0_hw5.2.2.2.2.2.2.2.2.2.1.2.2.2.2.2.2.2.2.2.2.2.2.2.1 k0_t5
theorem k0_off350_inb : ∀ (v41 : BitVec 32) (k0_hw5 : k0_chk5 v41) (k0_t5 : Fin (k0_t5_loop v41).trips), ∀ a, (k0_off350 v41 k0_t5) a + S1x1x16.size a ≤ S4x32x128.size a := fun v41 k0_hw5 k0_t5 => k0_hw5.2.2.2.2.2.2.2.2.2.1.2.2.2.2.2.2.2.2.2.2.2.2.2.2.1 k0_t5
theorem k0_off351_inb : ∀ (v41 : BitVec 32) (k0_hw5 : k0_chk5 v41) (k0_t5 : Fin (k0_t5_loop v41).trips), ∀ a, (k0_off351 v41 k0_t5) a + S1x1x16.size a ≤ S4x32x128.size a := fun v41 k0_hw5 k0_t5 => k0_hw5.2.2.2.2.2.2.2.2.2.1.2.2.2.2.2.2.2.2.2.2.2.2.2.2.2.1 k0_t5
theorem k0_off353_inb : ∀ (v41 : BitVec 32) (k0_hw5 : k0_chk5 v41) (k0_t5 : Fin (k0_t5_loop v41).trips), ∀ a, (k0_off353 v41 k0_t5) a + S1x1x16.size a ≤ S4x32x128.size a := fun v41 k0_hw5 k0_t5 => k0_hw5.2.2.2.2.2.2.2.2.2.1.2.2.2.2.2.2.2.2.2.2.2.2.2.2.2.2.1 k0_t5
theorem k0_off354_inb : ∀ (v41 : BitVec 32) (k0_hw5 : k0_chk5 v41) (k0_t5 : Fin (k0_t5_loop v41).trips), ∀ a, (k0_off354 v41 k0_t5) a + S1x1x16.size a ≤ S4x32x128.size a := fun v41 k0_hw5 k0_t5 => k0_hw5.2.2.2.2.2.2.2.2.2.1.2.2.2.2.2.2.2.2.2.2.2.2.2.2.2.2.2.1 k0_t5
theorem k0_off355_inb : ∀ (v41 : BitVec 32) (k0_hw5 : k0_chk5 v41) (k0_t5 : Fin (k0_t5_loop v41).trips), ∀ a, (k0_off355 v41 k0_t5) a + S1x1x16.size a ≤ S4x32x128.size a := fun v41 k0_hw5 k0_t5 => k0_hw5.2.2.2.2.2.2.2.2.2.1.2.2.2.2.2.2.2.2.2.2.2.2.2.2.2.2.2.2.1 k0_t5
theorem k0_off356_inb : ∀ (v41 : BitVec 32) (k0_hw5 : k0_chk5 v41) (k0_t5 : Fin (k0_t5_loop v41).trips), ∀ a, (k0_off356 v41 k0_t5) a + S1x1x16.size a ≤ S4x32x128.size a := fun v41 k0_hw5 k0_t5 => k0_hw5.2.2.2.2.2.2.2.2.2.1.2.2.2.2.2.2.2.2.2.2.2.2.2.2.2.2.2.2.2.1 k0_t5
theorem k0_off357_inb : ∀ (v41 : BitVec 32) (k0_hw5 : k0_chk5 v41) (k0_t5 : Fin (k0_t5_loop v41).trips), ∀ a, (k0_off357 v41 k0_t5) a + S1x1x16.size a ≤ S4x32x128.size a := fun v41 k0_hw5 k0_t5 => k0_hw5.2.2.2.2.2.2.2.2.2.1.2.2.2.2.2.2.2.2.2.2.2.2.2.2.2.2.2.2.2.2.1 k0_t5
theorem k0_off358_inb : ∀ (v41 : BitVec 32) (k0_hw5 : k0_chk5 v41) (k0_t5 : Fin (k0_t5_loop v41).trips), ∀ a, (k0_off358 v41 k0_t5) a + S1x1x16.size a ≤ S4x32x128.size a := fun v41 k0_hw5 k0_t5 => k0_hw5.2.2.2.2.2.2.2.2.2.1.2.2.2.2.2.2.2.2.2.2.2.2.2.2.2.2.2.2.2.2.2.1 k0_t5
theorem k0_off359_inb : ∀ (v41 : BitVec 32) (k0_hw5 : k0_chk5 v41) (k0_t5 : Fin (k0_t5_loop v41).trips), ∀ a, (k0_off359 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.1 k0_t5
theorem k0_off360_inb : ∀ (v41 : BitVec 32) (k0_hw5 : k0_chk5 v41) (k0_t5 : Fin (k0_t5_loop v41).trips), ∀ a, (k0_off360 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.2.1 k0_t5
theorem k0_off362_inb : ∀ (v41 : BitVec 32) (k0_hw5 : k0_chk5 v41) (k0_t5 : Fin (k0_t5_loop v41).trips), ∀ a, (k0_off362 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.2.2.1 k0_t5
theorem k0_off363_inb : ∀ (v41 : BitVec 32) (k0_hw5 : k0_chk5 v41) (k0_t5 : Fin (k0_t5_loop v41).trips), ∀ a, (k0_off363 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.2.2.2.1 k0_t5
theorem k0_off364_inb : ∀ (v41 : BitVec 32) (k0_hw5 : k0_chk5 v41) (k0_t5 : Fin (k0_t5_loop v41).trips), ∀ a, (k0_off364 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.2.2.2.2.1 k0_t5
theorem k0_off365_inb : ∀ (v41 : BitVec 32) (k0_hw5 : k0_chk5 v41) (k0_t5 : Fin (k0_t5_loop v41).trips), ∀ a, (k0_off365 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.2.2.2.2.2.1 k0_t5
theorem k0_off366_inb : ∀ (v41 : BitVec 32) (k0_hw5 : k0_chk5 v41) (k0_t5 : Fin (k0_t5_loop v41).trips), ∀ a, (k0_off366 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.2.2.2.2.2.2.1 k0_t5
theorem k0_off367_inb : ∀ (v41 : BitVec 32) (k0_hw5 : k0_chk5 v41) (k0_t5 : Fin (k0_t5_loop v41).trips), ∀ a, (k0_off367 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.2.2.2.2.2.2.2.1 k0_t5
theorem k0_off368_inb : ∀ (v41 : BitVec 32) (k0_hw5 : k0_chk5 v41) (k0_t5 : Fin (k0_t5_loop v41).trips), ∀ a, (k0_off368 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.2.2.2.2.2.2.2.2.1 k0_t5
theorem k0_off369_inb : ∀ (v41 : BitVec 32) (k0_hw5 : k0_chk5 v41) (k0_t5 : Fin (k0_t5_loop v41).trips), ∀ a, (k0_off369 v41 k0_t5) a + S1x1x16.size a ≤ S4x32x128.size a := fun v41 k0_hw5 k0_t5 => k0_hw5.2.2.2.2.2.2.2.2.2.1.2.2.2.2.2.2.2.2.2.2.2.2.2.2.2.2.2.2.2.2.2.2.2.2.2.2.2.2.2.2.2 k0_t5
theorem k0_off371_inb : ∀ (v41 : BitVec 32) (k0_hw5 : k0_chk5 v41) (k0_t5 : Fin (k0_t5_loop v41).trips), ∀ a, (k0_off371 v41 k0_t5) a + S1x1x16.size a ≤ S4x32x128.size a := fun v41 k0_hw5 k0_t5 => k0_hw5.2.2.2.2.2.2.2.2.2.2.1.1 k0_t5
theorem k0_off372_inb : ∀ (v41 : BitVec 32) (k0_hw5 : k0_chk5 v41) (k0_t5 : Fin (k0_t5_loop v41).trips), ∀ a, (k0_off372 v41 k0_t5) a + S1x1x16.size a ≤ S4x32x128.size a := fun v41 k0_hw5 k0_t5 => k0_hw5.2.2.2.2.2.2.2.2.2.2.1.2.1 k0_t5
theorem k0_off373_inb : ∀ (v41 : BitVec 32) (k0_hw5 : k0_chk5 v41) (k0_t5 : Fin (k0_t5_loop v41).trips), ∀ a, (k0_off373 v41 k0_t5) a + S1x1x16.size a ≤ S4x32x128.size a := fun v41 k0_hw5 k0_t5 => k0_hw5.2.2.2.2.2.2.2.2.2.2.1.2.2.1 k0_t5
theorem k0_off374_inb : ∀ (v41 : BitVec 32) (k0_hw5 : k0_chk5 v41) (k0_t5 : Fin (k0_t5_loop v41).trips), ∀ a, (k0_off374 v41 k0_t5) a + S1x1x16.size a ≤ S4x32x128.size a := fun v41 k0_hw5 k0_t5 => k0_hw5.2.2.2.2.2.2.2.2.2.2.1.2.2.2.1 k0_t5
theorem k0_off375_inb : ∀ (v41 : BitVec 32) (k0_hw5 : k0_chk5 v41) (k0_t5 : Fin (k0_t5_loop v41).trips), ∀ a, (k0_off375 v41 k0_t5) a + S1x1x16.size a ≤ S4x32x128.size a := fun v41 k0_hw5 k0_t5 => k0_hw5.2.2.2.2.2.2.2.2.2.2.1.2.2.2.2.1 k0_t5
theorem k0_off376_inb : ∀ (v41 : BitVec 32) (k0_hw5 : k0_chk5 v41) (k0_t5 : Fin (k0_t5_loop v41).trips), ∀ a, (k0_off376 v41 k0_t5) a + S1x1x16.size a ≤ S4x32x128.size a := fun v41 k0_hw5 k0_t5 => k0_hw5.2.2.2.2.2.2.2.2.2.2.1.2.2.2.2.2.1 k0_t5
theorem k0_off377_inb : ∀ (v41 : BitVec 32) (k0_hw5 : k0_chk5 v41) (k0_t5 : Fin (k0_t5_loop v41).trips), ∀ a, (k0_off377 v41 k0_t5) a + S1x1x16.size a ≤ S4x32x128.size a := fun v41 k0_hw5 k0_t5 => k0_hw5.2.2.2.2.2.2.2.2.2.2.1.2.2.2.2.2.2.1 k0_t5
theorem k0_off378_inb : ∀ (v41 : BitVec 32) (k0_hw5 : k0_chk5 v41) (k0_t5 : Fin (k0_t5_loop v41).trips), ∀ a, (k0_off378 v41 k0_t5) a + S1x1x16.size a ≤ S4x32x128.size a := fun v41 k0_hw5 k0_t5 => k0_hw5.2.2.2.2.2.2.2.2.2.2.1.2.2.2.2.2.2.2.1 k0_t5
theorem k0_off380_inb : ∀ (v41 : BitVec 32) (k0_hw5 : k0_chk5 v41) (k0_t5 : Fin (k0_t5_loop v41).trips), ∀ a, (k0_off380 v41 k0_t5) a + S1x1x16.size a ≤ S4x32x128.size a := fun v41 k0_hw5 k0_t5 => k0_hw5.2.2.2.2.2.2.2.2.2.2.1.2.2.2.2.2.2.2.2.1 k0_t5
theorem k0_off381_inb : ∀ (v41 : BitVec 32) (k0_hw5 : k0_chk5 v41) (k0_t5 : Fin (k0_t5_loop v41).trips), ∀ a, (k0_off381 v41 k0_t5) a + S1x1x16.size a ≤ S4x32x128.size a := fun v41 k0_hw5 k0_t5 => k0_hw5.2.2.2.2.2.2.2.2.2.2.1.2.2.2.2.2.2.2.2.2.1 k0_t5
theorem k0_off382_inb : ∀ (v41 : BitVec 32) (k0_hw5 : k0_chk5 v41) (k0_t5 : Fin (k0_t5_loop v41).trips), ∀ a, (k0_off382 v41 k0_t5) a + S1x1x16.size a ≤ S4x32x128.size a := fun v41 k0_hw5 k0_t5 => k0_hw5.2.2.2.2.2.2.2.2.2.2.1.2.2.2.2.2.2.2.2.2.2.1 k0_t5
theorem k0_off383_inb : ∀ (v41 : BitVec 32) (k0_hw5 : k0_chk5 v41) (k0_t5 : Fin (k0_t5_loop v41).trips), ∀ a, (k0_off383 v41 k0_t5) a + S1x1x16.size a ≤ S4x32x128.size a := fun v41 k0_hw5 k0_t5 => k0_hw5.2.2.2.2.2.2.2.2.2.2.1.2.2.2.2.2.2.2.2.2.2.2.1 k0_t5
theorem k0_off384_inb : ∀ (v41 : BitVec 32) (k0_hw5 : k0_chk5 v41) (k0_t5 : Fin (k0_t5_loop v41).trips), ∀ a, (k0_off384 v41 k0_t5) a + S1x1x16.size a ≤ S4x32x128.size a := fun v41 k0_hw5 k0_t5 => k0_hw5.2.2.2.2.2.2.2.2.2.2.1.2.2.2.2.2.2.2.2.2.2.2.2.1 k0_t5
theorem k0_off385_inb : ∀ (v41 : BitVec 32) (k0_hw5 : k0_chk5 v41) (k0_t5 : Fin (k0_t5_loop v41).trips), ∀ a, (k0_off385 v41 k0_t5) a + S1x1x16.size a ≤ S4x32x128.size a := fun v41 k0_hw5 k0_t5 => k0_hw5.2.2.2.2.2.2.2.2.2.2.1.2.2.2.2.2.2.2.2.2.2.2.2.2.1 k0_t5
theorem k0_off386_inb : ∀ (v41 : BitVec 32) (k0_hw5 : k0_chk5 v41) (k0_t5 : Fin (k0_t5_loop v41).trips), ∀ a, (k0_off386 v41 k0_t5) a + S1x1x16.size a ≤ S4x32x128.size a := fun v41 k0_hw5 k0_t5 => k0_hw5.2.2.2.2.2.2.2.2.2.2.1.2.2.2.2.2.2.2.2.2.2.2.2.2.2.1 k0_t5
theorem k0_off387_inb : ∀ (v41 : BitVec 32) (k0_hw5 : k0_chk5 v41) (k0_t5 : Fin (k0_t5_loop v41).trips), ∀ a, (k0_off387 v41 k0_t5) a + S1x1x16.size a ≤ S4x32x128.size a := fun v41 k0_hw5 k0_t5 => k0_hw5.2.2.2.2.2.2.2.2.2.2.1.2.2.2.2.2.2.2.2.2.2.2.2.2.2.2.1 k0_t5
theorem k0_off389_inb : ∀ (v41 : BitVec 32) (k0_hw5 : k0_chk5 v41) (k0_t5 : Fin (k0_t5_loop v41).trips), ∀ a, (k0_off389 v41 k0_t5) a + S1x1x16.size a ≤ S4x32x128.size a := fun v41 k0_hw5 k0_t5 => k0_hw5.2.2.2.2.2.2.2.2.2.2.1.2.2.2.2.2.2.2.2.2.2.2.2.2.2.2.2.1 k0_t5
theorem k0_off390_inb : ∀ (v41 : BitVec 32) (k0_hw5 : k0_chk5 v41) (k0_t5 : Fin (k0_t5_loop v41).trips), ∀ a, (k0_off390 v41 k0_t5) a + S1x1x16.size a ≤ S4x32x128.size a := fun v41 k0_hw5 k0_t5 => k0_hw5.2.2.2.2.2.2.2.2.2.2.1.2.2.2.2.2.2.2.2.2.2.2.2.2.2.2.2.2.1 k0_t5
theorem k0_off391_inb : ∀ (v41 : BitVec 32) (k0_hw5 : k0_chk5 v41) (k0_t5 : Fin (k0_t5_loop v41).trips), ∀ a, (k0_off391 v41 k0_t5) a + S1x1x16.size a ≤ S4x32x128.size a := fun v41 k0_hw5 k0_t5 => k0_hw5.2.2.2.2.2.2.2.2.2.2.1.2.2.2.2.2.2.2.2.2.2.2.2.2.2.2.2.2.2.1 k0_t5
theorem k0_off392_inb : ∀ (v41 : BitVec 32) (k0_hw5 : k0_chk5 v41) (k0_t5 : Fin (k0_t5_loop v41).trips), ∀ a, (k0_off392 v41 k0_t5) a + S1x1x16.size a ≤ S4x32x128.size a := fun v41 k0_hw5 k0_t5 => k0_hw5.2.2.2.2.2.2.2.2.2.2.1.2.2.2.2.2.2.2.2.2.2.2.2.2.2.2.2.2.2.2.1 k0_t5
theorem k0_off393_inb : ∀ (v41 : BitVec 32) (k0_hw5 : k0_chk5 v41) (k0_t5 : Fin (k0_t5_loop v41).trips), ∀ a, (k0_off393 v41 k0_t5) a + S1x1x16.size a ≤ S4x32x128.size a := fun v41 k0_hw5 k0_t5 => k0_hw5.2.2.2.2.2.2.2.2.2.2.1.2.2.2.2.2.2.2.2.2.2.2.2.2.2.2.2.2.2.2.2.1 k0_t5
theorem k0_off394_inb : ∀ (v41 : BitVec 32) (k0_hw5 : k0_chk5 v41) (k0_t5 : Fin (k0_t5_loop v41).trips), ∀ a, (k0_off394 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.1 k0_t5
theorem k0_off395_inb : ∀ (v41 : BitVec 32) (k0_hw5 : k0_chk5 v41) (k0_t5 : Fin (k0_t5_loop v41).trips), ∀ a, (k0_off395 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.1 k0_t5
theorem k0_off396_inb : ∀ (v41 : BitVec 32) (k0_hw5 : k0_chk5 v41) (k0_t5 : Fin (k0_t5_loop v41).trips), ∀ a, (k0_off396 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.2.1 k0_t5
theorem k0_off398_inb : ∀ (v41 : BitVec 32) (k0_hw5 : k0_chk5 v41) (k0_t5 : Fin (k0_t5_loop v41).trips), ∀ a, (k0_off398 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.2.2.1 k0_t5
theorem k0_off399_inb : ∀ (v41 : BitVec 32) (k0_hw5 : k0_chk5 v41) (k0_t5 : Fin (k0_t5_loop v41).trips), ∀ a, (k0_off399 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.2.2.2.1 k0_t5
theorem k0_off400_inb : ∀ (v41 : BitVec 32) (k0_hw5 : k0_chk5 v41) (k0_t5 : Fin (k0_t5_loop v41).trips), ∀ a, (k0_off400 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.2.2.2.2.1 k0_t5
theorem k0_off401_inb : ∀ (v41 : BitVec 32) (k0_hw5 : k0_chk5 v41) (k0_t5 : Fin (k0_t5_loop v41).trips), ∀ a, (k0_off401 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.2.2.2.2.2.1 k0_t5
theorem k0_off402_inb : ∀ (v41 : BitVec 32) (k0_hw5 : k0_chk5 v41) (k0_t5 : Fin (k0_t5_loop v41).trips), ∀ a, (k0_off402 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.2.2.2.2.2.2.1 k0_t5
theorem k0_off403_inb : ∀ (v41 : BitVec 32) (k0_hw5 : k0_chk5 v41) (k0_t5 : Fin (k0_t5_loop v41).trips), ∀ a, (k0_off403 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.2.2.2.2.2.2.2.1 k0_t5
theorem k0_off404_inb : ∀ (v41 : BitVec 32) (k0_hw5 : k0_chk5 v41) (k0_t5 : Fin (k0_t5_loop v41).trips), ∀ a, (k0_off404 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.2.2.2.2.2.2.2.2.1 k0_t5
theorem k0_off405_inb : ∀ (v41 : BitVec 32) (k0_hw5 : k0_chk5 v41) (k0_t5 : Fin (k0_t5_loop v41).trips), ∀ a, (k0_off405 v41 k0_t5) a + S1x1x16.size a ≤ S4x32x128.size a := fun v41 k0_hw5 k0_t5 => k0_hw5.2.2.2.2.2.2.2.2.2.2.1.2.2.2.2.2.2.2.2.2.2.2.2.2.2.2.2.2.2.2.2.2.2.2.2.2.2.2.2.2.2.2 k0_t5
theorem k0_off407_inb : ∀ (v41 : BitVec 32) (k0_hw5 : k0_chk5 v41) (k0_t5 : Fin (k0_t5_loop v41).trips), ∀ a, (k0_off407 v41 k0_t5) a + S1x1x16.size a ≤ S4x32x128.size a := fun v41 k0_hw5 k0_t5 => k0_hw5.2.2.2.2.2.2.2.2.2.2.2.1.1 k0_t5
theorem k0_off408_inb : ∀ (v41 : BitVec 32) (k0_hw5 : k0_chk5 v41) (k0_t5 : Fin (k0_t5_loop v41).trips), ∀ a, (k0_off408 v41 k0_t5) a + S1x1x16.size a ≤ S4x32x128.size a := fun v41 k0_hw5 k0_t5 => k0_hw5.2.2.2.2.2.2.2.2.2.2.2.1.2.1 k0_t5
theorem k0_off409_inb : ∀ (v41 : BitVec 32) (k0_hw5 : k0_chk5 v41) (k0_t5 : Fin (k0_t5_loop v41).trips), ∀ a, (k0_off409 v41 k0_t5) a + S1x1x16.size a ≤ S4x32x128.size a := fun v41 k0_hw5 k0_t5 => k0_hw5.2.2.2.2.2.2.2.2.2.2.2.1.2.2.1 k0_t5
theorem k0_off410_inb : ∀ (v41 : BitVec 32) (k0_hw5 : k0_chk5 v41) (k0_t5 : Fin (k0_t5_loop v41).trips), ∀ a, (k0_off410 v41 k0_t5) a + S1x1x16.size a ≤ S4x32x128.size a := fun v41 k0_hw5 k0_t5 => k0_hw5.2.2.2.2.2.2.2.2.2.2.2.1.2.2.2.1 k0_t5
theorem k0_off411_inb : ∀ (v41 : BitVec 32) (k0_hw5 : k0_chk5 v41) (k0_t5 : Fin (k0_t5_loop v41).trips), ∀ a, (k0_off411 v41 k0_t5) a + S1x1x16.size a ≤ S4x32x128.size a := fun v41 k0_hw5 k0_t5 => k0_hw5.2.2.2.2.2.2.2.2.2.2.2.1.2.2.2.2.1 k0_t5
theorem k0_off412_inb : ∀ (v41 : BitVec 32) (k0_hw5 : k0_chk5 v41) (k0_t5 : Fin (k0_t5_loop v41).trips), ∀ a, (k0_off412 v41 k0_t5) a + S1x1x16.size a ≤ S4x32x128.size a := fun v41 k0_hw5 k0_t5 => k0_hw5.2.2.2.2.2.2.2.2.2.2.2.1.2.2.2.2.2.1 k0_t5
theorem k0_off413_inb : ∀ (v41 : BitVec 32) (k0_hw5 : k0_chk5 v41) (k0_t5 : Fin (k0_t5_loop v41).trips), ∀ a, (k0_off413 v41 k0_t5) a + S1x1x16.size a ≤ S4x32x128.size a := fun v41 k0_hw5 k0_t5 => k0_hw5.2.2.2.2.2.2.2.2.2.2.2.1.2.2.2.2.2.2.1 k0_t5
theorem k0_off414_inb : ∀ (v41 : BitVec 32) (k0_hw5 : k0_chk5 v41) (k0_t5 : Fin (k0_t5_loop v41).trips), ∀ a, (k0_off414 v41 k0_t5) a + S1x1x16.size a ≤ S4x32x128.size a := fun v41 k0_hw5 k0_t5 => k0_hw5.2.2.2.2.2.2.2.2.2.2.2.1.2.2.2.2.2.2.2.1 k0_t5
theorem k0_off416_inb : ∀ (v41 : BitVec 32) (k0_hw5 : k0_chk5 v41) (k0_t5 : Fin (k0_t5_loop v41).trips), ∀ a, (k0_off416 v41 k0_t5) a + S1x1x16.size a ≤ S4x32x128.size a := fun v41 k0_hw5 k0_t5 => k0_hw5.2.2.2.2.2.2.2.2.2.2.2.1.2.2.2.2.2.2.2.2.1 k0_t5
theorem k0_off417_inb : ∀ (v41 : BitVec 32) (k0_hw5 : k0_chk5 v41) (k0_t5 : Fin (k0_t5_loop v41).trips), ∀ a, (k0_off417 v41 k0_t5) a + S1x1x16.size a ≤ S4x32x128.size a := fun v41 k0_hw5 k0_t5 => k0_hw5.2.2.2.2.2.2.2.2.2.2.2.1.2.2.2.2.2.2.2.2.2.1 k0_t5
theorem k0_off418_inb : ∀ (v41 : BitVec 32) (k0_hw5 : k0_chk5 v41) (k0_t5 : Fin (k0_t5_loop v41).trips), ∀ a, (k0_off418 v41 k0_t5) a + S1x1x16.size a ≤ S4x32x128.size a := fun v41 k0_hw5 k0_t5 => k0_hw5.2.2.2.2.2.2.2.2.2.2.2.1.2.2.2.2.2.2.2.2.2.2.1 k0_t5
theorem k0_off419_inb : ∀ (v41 : BitVec 32) (k0_hw5 : k0_chk5 v41) (k0_t5 : Fin (k0_t5_loop v41).trips), ∀ a, (k0_off419 v41 k0_t5) a + S1x1x16.size a ≤ S4x32x128.size a := fun v41 k0_hw5 k0_t5 => k0_hw5.2.2.2.2.2.2.2.2.2.2.2.1.2.2.2.2.2.2.2.2.2.2.2.1 k0_t5
theorem k0_off420_inb : ∀ (v41 : BitVec 32) (k0_hw5 : k0_chk5 v41) (k0_t5 : Fin (k0_t5_loop v41).trips), ∀ a, (k0_off420 v41 k0_t5) a + S1x1x16.size a ≤ S4x32x128.size a := fun v41 k0_hw5 k0_t5 => k0_hw5.2.2.2.2.2.2.2.2.2.2.2.1.2.2.2.2.2.2.2.2.2.2.2.2.1 k0_t5
theorem k0_off421_inb : ∀ (v41 : BitVec 32) (k0_hw5 : k0_chk5 v41) (k0_t5 : Fin (k0_t5_loop v41).trips), ∀ a, (k0_off421 v41 k0_t5) a + S1x1x16.size a ≤ S4x32x128.size a := fun v41 k0_hw5 k0_t5 => k0_hw5.2.2.2.2.2.2.2.2.2.2.2.1.2.2.2.2.2.2.2.2.2.2.2.2.2.1 k0_t5
theorem k0_off422_inb : ∀ (v41 : BitVec 32) (k0_hw5 : k0_chk5 v41) (k0_t5 : Fin (k0_t5_loop v41).trips), ∀ a, (k0_off422 v41 k0_t5) a + S1x1x16.size a ≤ S4x32x128.size a := fun v41 k0_hw5 k0_t5 => k0_hw5.2.2.2.2.2.2.2.2.2.2.2.1.2.2.2.2.2.2.2.2.2.2.2.2.2.2.1 k0_t5
theorem k0_off423_inb : ∀ (v41 : BitVec 32) (k0_hw5 : k0_chk5 v41) (k0_t5 : Fin (k0_t5_loop v41).trips), ∀ a, (k0_off423 v41 k0_t5) a + S1x1x16.size a ≤ S4x32x128.size a := fun v41 k0_hw5 k0_t5 => k0_hw5.2.2.2.2.2.2.2.2.2.2.2.1.2.2.2.2.2.2.2.2.2.2.2.2.2.2.2.1 k0_t5
theorem k0_off425_inb : ∀ (v41 : BitVec 32) (k0_hw5 : k0_chk5 v41) (k0_t5 : Fin (k0_t5_loop v41).trips), ∀ a, (k0_off425 v41 k0_t5) a + S1x1x16.size a ≤ S4x32x128.size a := fun v41 k0_hw5 k0_t5 => k0_hw5.2.2.2.2.2.2.2.2.2.2.2.1.2.2.2.2.2.2.2.2.2.2.2.2.2.2.2.2.1 k0_t5
theorem k0_off426_inb : ∀ (v41 : BitVec 32) (k0_hw5 : k0_chk5 v41) (k0_t5 : Fin (k0_t5_loop v41).trips), ∀ a, (k0_off426 v41 k0_t5) a + S1x1x16.size a ≤ S4x32x128.size a := fun v41 k0_hw5 k0_t5 => k0_hw5.2.2.2.2.2.2.2.2.2.2.2.1.2.2.2.2.2.2.2.2.2.2.2.2.2.2.2.2.2.1 k0_t5
theorem k0_off427_inb : ∀ (v41 : BitVec 32) (k0_hw5 : k0_chk5 v41) (k0_t5 : Fin (k0_t5_loop v41).trips), ∀ a, (k0_off427 v41 k0_t5) a + S1x1x16.size a ≤ S4x32x128.size a := fun v41 k0_hw5 k0_t5 => k0_hw5.2.2.2.2.2.2.2.2.2.2.2.1.2.2.2.2.2.2.2.2.2.2.2.2.2.2.2.2.2.2.1 k0_t5
theorem k0_off428_inb : ∀ (v41 : BitVec 32) (k0_hw5 : k0_chk5 v41) (k0_t5 : Fin (k0_t5_loop v41).trips), ∀ a, (k0_off428 v41 k0_t5) a + S1x1x16.size a ≤ S4x32x128.size a := fun v41 k0_hw5 k0_t5 => k0_hw5.2.2.2.2.2.2.2.2.2.2.2.1.2.2.2.2.2.2.2.2.2.2.2.2.2.2.2.2.2.2.2.1 k0_t5
theorem k0_off429_inb : ∀ (v41 : BitVec 32) (k0_hw5 : k0_chk5 v41) (k0_t5 : Fin (k0_t5_loop v41).trips), ∀ a, (k0_off429 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.1 k0_t5
theorem k0_off430_inb : ∀ (v41 : BitVec 32) (k0_hw5 : k0_chk5 v41) (k0_t5 : Fin (k0_t5_loop v41).trips), ∀ a, (k0_off430 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.1 k0_t5
theorem k0_off431_inb : ∀ (v41 : BitVec 32) (k0_hw5 : k0_chk5 v41) (k0_t5 : Fin (k0_t5_loop v41).trips), ∀ a, (k0_off431 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.1 k0_t5
theorem k0_off432_inb : ∀ (v41 : BitVec 32) (k0_hw5 : k0_chk5 v41) (k0_t5 : Fin (k0_t5_loop v41).trips), ∀ a, (k0_off432 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.2.1 k0_t5
theorem k0_off434_inb : ∀ (v41 : BitVec 32) (k0_hw5 : k0_chk5 v41) (k0_t5 : Fin (k0_t5_loop v41).trips), ∀ a, (k0_off434 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.2.2.1 k0_t5
theorem k0_off435_inb : ∀ (v41 : BitVec 32) (k0_hw5 : k0_chk5 v41) (k0_t5 : Fin (k0_t5_loop v41).trips), ∀ a, (k0_off435 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.2.2.2.1 k0_t5
theorem k0_off436_inb : ∀ (v41 : BitVec 32) (k0_hw5 : k0_chk5 v41) (k0_t5 : Fin (k0_t5_loop v41).trips), ∀ a, (k0_off436 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.2.2.2.2.1 k0_t5
theorem k0_off437_inb : ∀ (v41 : BitVec 32) (k0_hw5 : k0_chk5 v41) (k0_t5 : Fin (k0_t5_loop v41).trips), ∀ a, (k0_off437 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.2.2.2.2.2.1 k0_t5
theorem k0_off438_inb : ∀ (v41 : BitVec 32) (k0_hw5 : k0_chk5 v41) (k0_t5 : Fin (k0_t5_loop v41).trips), ∀ a, (k0_off438 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.2.2.2.2.2.2.1 k0_t5
theorem k0_off439_inb : ∀ (v41 : BitVec 32) (k0_hw5 : k0_chk5 v41) (k0_t5 : Fin (k0_t5_loop v41).trips), ∀ a, (k0_off439 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.2.2.2.2.2.2.2.1 k0_t5
theorem k0_off440_inb : ∀ (v41 : BitVec 32) (k0_hw5 : k0_chk5 v41) (k0_t5 : Fin (k0_t5_loop v41).trips), ∀ a, (k0_off440 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.2.2.2.2.2.2.2.2.1 k0_t5
theorem k0_off441_inb : ∀ (v41 : BitVec 32) (k0_hw5 : k0_chk5 v41) (k0_t5 : Fin (k0_t5_loop v41).trips), ∀ a, (k0_off441 v41 k0_t5) a + S1x1x16.size a ≤ S4x32x128.size a := fun v41 k0_hw5 k0_t5 => k0_hw5.2.2.2.2.2.2.2.2.2.2.2.1.2.2.2.2.2.2.2.2.2.2.2.2.2.2.2.2.2.2.2.2.2.2.2.2.2.2.2.2.2.2.2 k0_t5
theorem k0_off443_inb : ∀ (v41 : BitVec 32) (k0_hw5 : k0_chk5 v41) (k0_t5 : Fin (k0_t5_loop v41).trips), ∀ a, (k0_off443 v41 k0_t5) a + S1x1x16.size a ≤ S4x32x128.size a := fun v41 k0_hw5 k0_t5 => k0_hw5.2.2.2.2.2.2.2.2.2.2.2.2.1.1 k0_t5
theorem k0_off444_inb : ∀ (v41 : BitVec 32) (k0_hw5 : k0_chk5 v41) (k0_t5 : Fin (k0_t5_loop v41).trips), ∀ a, (k0_off444 v41 k0_t5) a + S1x1x16.size a ≤ S4x32x128.size a := fun v41 k0_hw5 k0_t5 => k0_hw5.2.2.2.2.2.2.2.2.2.2.2.2.1.2.1 k0_t5
theorem k0_off445_inb : ∀ (v41 : BitVec 32) (k0_hw5 : k0_chk5 v41) (k0_t5 : Fin (k0_t5_loop v41).trips), ∀ a, (k0_off445 v41 k0_t5) a + S1x1x16.size a ≤ S4x32x128.size a := fun v41 k0_hw5 k0_t5 => k0_hw5.2.2.2.2.2.2.2.2.2.2.2.2.1.2.2.1 k0_t5
theorem k0_off446_inb : ∀ (v41 : BitVec 32) (k0_hw5 : k0_chk5 v41) (k0_t5 : Fin (k0_t5_loop v41).trips), ∀ a, (k0_off446 v41 k0_t5) a + S1x1x16.size a ≤ S4x32x128.size a := fun v41 k0_hw5 k0_t5 => k0_hw5.2.2.2.2.2.2.2.2.2.2.2.2.1.2.2.2.1 k0_t5
theorem k0_off447_inb : ∀ (v41 : BitVec 32) (k0_hw5 : k0_chk5 v41) (k0_t5 : Fin (k0_t5_loop v41).trips), ∀ a, (k0_off447 v41 k0_t5) a + S1x1x16.size a ≤ S4x32x128.size a := fun v41 k0_hw5 k0_t5 => k0_hw5.2.2.2.2.2.2.2.2.2.2.2.2.1.2.2.2.2.1 k0_t5
theorem k0_off448_inb : ∀ (v41 : BitVec 32) (k0_hw5 : k0_chk5 v41) (k0_t5 : Fin (k0_t5_loop v41).trips), ∀ a, (k0_off448 v41 k0_t5) a + S1x1x16.size a ≤ S4x32x128.size a := fun v41 k0_hw5 k0_t5 => k0_hw5.2.2.2.2.2.2.2.2.2.2.2.2.1.2.2.2.2.2.1 k0_t5
theorem k0_off449_inb : ∀ (v41 : BitVec 32) (k0_hw5 : k0_chk5 v41) (k0_t5 : Fin (k0_t5_loop v41).trips), ∀ a, (k0_off449 v41 k0_t5) a + S1x1x16.size a ≤ S4x32x128.size a := fun v41 k0_hw5 k0_t5 => k0_hw5.2.2.2.2.2.2.2.2.2.2.2.2.1.2.2.2.2.2.2.1 k0_t5
theorem k0_off450_inb : ∀ (v41 : BitVec 32) (k0_hw5 : k0_chk5 v41) (k0_t5 : Fin (k0_t5_loop v41).trips), ∀ a, (k0_off450 v41 k0_t5) a + S1x1x16.size a ≤ S4x32x128.size a := fun v41 k0_hw5 k0_t5 => k0_hw5.2.2.2.2.2.2.2.2.2.2.2.2.1.2.2.2.2.2.2.2.1 k0_t5
theorem k0_off452_inb : ∀ (v41 : BitVec 32) (k0_hw5 : k0_chk5 v41) (k0_t5 : Fin (k0_t5_loop v41).trips), ∀ a, (k0_off452 v41 k0_t5) a + S1x1x16.size a ≤ S4x32x128.size a := fun v41 k0_hw5 k0_t5 => k0_hw5.2.2.2.2.2.2.2.2.2.2.2.2.1.2.2.2.2.2.2.2.2.1 k0_t5
theorem k0_off453_inb : ∀ (v41 : BitVec 32) (k0_hw5 : k0_chk5 v41) (k0_t5 : Fin (k0_t5_loop v41).trips), ∀ a, (k0_off453 v41 k0_t5) a + S1x1x16.size a ≤ S4x32x128.size a := fun v41 k0_hw5 k0_t5 => k0_hw5.2.2.2.2.2.2.2.2.2.2.2.2.1.2.2.2.2.2.2.2.2.2.1 k0_t5
theorem k0_off454_inb : ∀ (v41 : BitVec 32) (k0_hw5 : k0_chk5 v41) (k0_t5 : Fin (k0_t5_loop v41).trips), ∀ a, (k0_off454 v41 k0_t5) a + S1x1x16.size a ≤ S4x32x128.size a := fun v41 k0_hw5 k0_t5 => k0_hw5.2.2.2.2.2.2.2.2.2.2.2.2.1.2.2.2.2.2.2.2.2.2.2.1 k0_t5
theorem k0_off455_inb : ∀ (v41 : BitVec 32) (k0_hw5 : k0_chk5 v41) (k0_t5 : Fin (k0_t5_loop v41).trips), ∀ a, (k0_off455 v41 k0_t5) a + S1x1x16.size a ≤ S4x32x128.size a := fun v41 k0_hw5 k0_t5 => k0_hw5.2.2.2.2.2.2.2.2.2.2.2.2.1.2.2.2.2.2.2.2.2.2.2.2.1 k0_t5
theorem k0_off456_inb : ∀ (v41 : BitVec 32) (k0_hw5 : k0_chk5 v41) (k0_t5 : Fin (k0_t5_loop v41).trips), ∀ a, (k0_off456 v41 k0_t5) a + S1x1x16.size a ≤ S4x32x128.size a := fun v41 k0_hw5 k0_t5 => k0_hw5.2.2.2.2.2.2.2.2.2.2.2.2.1.2.2.2.2.2.2.2.2.2.2.2.2.1 k0_t5
theorem k0_off457_inb : ∀ (v41 : BitVec 32) (k0_hw5 : k0_chk5 v41) (k0_t5 : Fin (k0_t5_loop v41).trips), ∀ a, (k0_off457 v41 k0_t5) a + S1x1x16.size a ≤ S4x32x128.size a := fun v41 k0_hw5 k0_t5 => k0_hw5.2.2.2.2.2.2.2.2.2.2.2.2.1.2.2.2.2.2.2.2.2.2.2.2.2.2.1 k0_t5
theorem k0_off458_inb : ∀ (v41 : BitVec 32) (k0_hw5 : k0_chk5 v41) (k0_t5 : Fin (k0_t5_loop v41).trips), ∀ a, (k0_off458 v41 k0_t5) a + S1x1x16.size a ≤ S4x32x128.size a := fun v41 k0_hw5 k0_t5 => k0_hw5.2.2.2.2.2.2.2.2.2.2.2.2.1.2.2.2.2.2.2.2.2.2.2.2.2.2.2.1 k0_t5
theorem k0_off459_inb : ∀ (v41 : BitVec 32) (k0_hw5 : k0_chk5 v41) (k0_t5 : Fin (k0_t5_loop v41).trips), ∀ a, (k0_off459 v41 k0_t5) a + S1x1x16.size a ≤ S4x32x128.size a := fun v41 k0_hw5 k0_t5 => k0_hw5.2.2.2.2.2.2.2.2.2.2.2.2.1.2.2.2.2.2.2.2.2.2.2.2.2.2.2.2.1 k0_t5
theorem k0_off460_inb : ∀ (v41 : BitVec 32) (k0_hw5 : k0_chk5 v41) (k0_t5 : Fin (k0_t5_loop v41).trips), ∀ a, (k0_off460 v41 k0_t5) a + S16.size a ≤ S8032.size a := fun v41 k0_hw5 k0_t5 => k0_hw5.2.2.2.2.2.2.2.2.2.2.2.2.1.2.2.2.2.2.2.2.2.2.2.2.2.2.2.2.2.1 k0_t5
theorem k0_off462_inb : ∀ (v41 : BitVec 32) (k0_hw5 : k0_chk5 v41) (k0_t5 : Fin (k0_t5_loop v41).trips), ∀ a, (k0_off462 v41 k0_t5) a + S1x1x16.size a ≤ S4x32x128.size a := fun v41 k0_hw5 k0_t5 => k0_hw5.2.2.2.2.2.2.2.2.2.2.2.2.1.2.2.2.2.2.2.2.2.2.2.2.2.2.2.2.2.2.1 k0_t5
theorem k0_off463_inb : ∀ (v41 : BitVec 32) (k0_hw5 : k0_chk5 v41) (k0_t5 : Fin (k0_t5_loop v41).trips), ∀ a, (k0_off463 v41 k0_t5) a + S1x1x16.size a ≤ S4x32x128.size a := fun v41 k0_hw5 k0_t5 => k0_hw5.2.2.2.2.2.2.2.2.2.2.2.2.1.2.2.2.2.2.2.2.2.2.2.2.2.2.2.2.2.2.2.1 k0_t5
theorem k0_off464_inb : ∀ (v41 : BitVec 32) (k0_hw5 : k0_chk5 v41) (k0_t5 : Fin (k0_t5_loop v41).trips), ∀ a, (k0_off464 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.1 k0_t5
theorem k0_off465_inb : ∀ (v41 : BitVec 32) (k0_hw5 : k0_chk5 v41) (k0_t5 : Fin (k0_t5_loop v41).trips), ∀ a, (k0_off465 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.1 k0_t5
theorem k0_off466_inb : ∀ (v41 : BitVec 32) (k0_hw5 : k0_chk5 v41) (k0_t5 : Fin (k0_t5_loop v41).trips), ∀ a, (k0_off466 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.1 k0_t5
theorem k0_off467_inb : ∀ (v41 : BitVec 32) (k0_hw5 : k0_chk5 v41) (k0_t5 : Fin (k0_t5_loop v41).trips), ∀ a, (k0_off467 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.1 k0_t5
theorem k0_off468_inb : ∀ (v41 : BitVec 32) (k0_hw5 : k0_chk5 v41) (k0_t5 : Fin (k0_t5_loop v41).trips), ∀ a, (k0_off468 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.2.1 k0_t5
theorem k0_off469_inb : ∀ (v41 : BitVec 32) (k0_hw5 : k0_chk5 v41) (k0_t5 : Fin (k0_t5_loop v41).trips), ∀ a, (k0_off469 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.2.2.1 k0_t5
theorem k0_off471_inb : ∀ (v41 : BitVec 32) (k0_hw5 : k0_chk5 v41) (k0_t5 : Fin (k0_t5_loop v41).trips), ∀ a, (k0_off471 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.2.2.2.1 k0_t5
theorem k0_off472_inb : ∀ (v41 : BitVec 32) (k0_hw5 : k0_chk5 v41) (k0_t5 : Fin (k0_t5_loop v41).trips), ∀ a, (k0_off472 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.2.2.2.2.1 k0_t5
theorem k0_off473_inb : ∀ (v41 : BitVec 32) (k0_hw5 : k0_chk5 v41) (k0_t5 : Fin (k0_t5_loop v41).trips), ∀ a, (k0_off473 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.2.2.2.2.2.1 k0_t5
theorem k0_off474_inb : ∀ (v41 : BitVec 32) (k0_hw5 : k0_chk5 v41) (k0_t5 : Fin (k0_t5_loop v41).trips), ∀ a, (k0_off474 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.2.2.2.2.2.2.1 k0_t5
theorem k0_off475_inb : ∀ (v41 : BitVec 32) (k0_hw5 : k0_chk5 v41) (k0_t5 : Fin (k0_t5_loop v41).trips), ∀ a, (k0_off475 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.2.2.2.2.2.2.2.1 k0_t5
theorem k0_off476_inb : ∀ (v41 : BitVec 32) (k0_hw5 : k0_chk5 v41) (k0_t5 : Fin (k0_t5_loop v41).trips), ∀ a, (k0_off476 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.2.2.2.2.2.2.2.2.1 k0_t5
theorem k0_off477_inb : ∀ (v41 : BitVec 32) (k0_hw5 : k0_chk5 v41) (k0_t5 : Fin (k0_t5_loop v41).trips), ∀ a, (k0_off477 v41 k0_t5) a + S1x1x16.size a ≤ S4x32x128.size a := fun v41 k0_hw5 k0_t5 => k0_hw5.2.2.2.2.2.2.2.2.2.2.2.2.1.2.2.2.2.2.2.2.2.2.2.2.2.2.2.2.2.2.2.2.2.2.2.2.2.2.2.2.2.2.2.2 k0_t5
theorem k0_off478_inb : ∀ (v41 : BitVec 32) (k0_hw5 : k0_chk5 v41) (k0_t5 : Fin (k0_t5_loop v41).trips), ∀ a, (k0_off478 v41 k0_t5) a + S1x1x16.size a ≤ S4x32x128.size a := fun v41 k0_hw5 k0_t5 => k0_hw5.2.2.2.2.2.2.2.2.2.2.2.2.2.1.1 k0_t5
theorem k0_off480_inb : ∀ (v41 : BitVec 32) (k0_hw5 : k0_chk5 v41) (k0_t5 : Fin (k0_t5_loop v41).trips), ∀ a, (k0_off480 v41 k0_t5) a + S1x1x16.size a ≤ S4x32x128.size a := fun v41 k0_hw5 k0_t5 => k0_hw5.2.2.2.2.2.2.2.2.2.2.2.2.2.1.2.1 k0_t5
theorem k0_off481_inb : ∀ (v41 : BitVec 32) (k0_hw5 : k0_chk5 v41) (k0_t5 : Fin (k0_t5_loop v41).trips), ∀ a, (k0_off481 v41 k0_t5) a + S1x1x16.size a ≤ S4x32x128.size a := fun v41 k0_hw5 k0_t5 => k0_hw5.2.2.2.2.2.2.2.2.2.2.2.2.2.1.2.2.1 k0_t5
theorem k0_off482_inb : ∀ (v41 : BitVec 32) (k0_hw5 : k0_chk5 v41) (k0_t5 : Fin (k0_t5_loop v41).trips), ∀ a, (k0_off482 v41 k0_t5) a + S1x1x16.size a ≤ S4x32x128.size a := fun v41 k0_hw5 k0_t5 => k0_hw5.2.2.2.2.2.2.2.2.2.2.2.2.2.1.2.2.2.1 k0_t5
theorem k0_off483_inb : ∀ (v41 : BitVec 32) (k0_hw5 : k0_chk5 v41) (k0_t5 : Fin (k0_t5_loop v41).trips), ∀ a, (k0_off483 v41 k0_t5) a + S1x1x16.size a ≤ S4x32x128.size a := fun v41 k0_hw5 k0_t5 => k0_hw5.2.2.2.2.2.2.2.2.2.2.2.2.2.1.2.2.2.2.1 k0_t5
theorem k0_off484_inb : ∀ (v41 : BitVec 32) (k0_hw5 : k0_chk5 v41) (k0_t5 : Fin (k0_t5_loop v41).trips), ∀ a, (k0_off484 v41 k0_t5) a + S1x1x16.size a ≤ S4x32x128.size a := fun v41 k0_hw5 k0_t5 => k0_hw5.2.2.2.2.2.2.2.2.2.2.2.2.2.1.2.2.2.2.2.1 k0_t5
theorem k0_off485_inb : ∀ (v41 : BitVec 32) (k0_hw5 : k0_chk5 v41) (k0_t5 : Fin (k0_t5_loop v41).trips), ∀ a, (k0_off485 v41 k0_t5) a + S1x1x16.size a ≤ S4x32x128.size a := fun v41 k0_hw5 k0_t5 => k0_hw5.2.2.2.2.2.2.2.2.2.2.2.2.2.1.2.2.2.2.2.2.1 k0_t5
theorem k0_off486_inb : ∀ (v41 : BitVec 32) (k0_hw5 : k0_chk5 v41) (k0_t5 : Fin (k0_t5_loop v41).trips), ∀ a, (k0_off486 v41 k0_t5) a + S1x1x16.size a ≤ S4x32x128.size a := fun v41 k0_hw5 k0_t5 => k0_hw5.2.2.2.2.2.2.2.2.2.2.2.2.2.1.2.2.2.2.2.2.2.1 k0_t5
theorem k0_off487_inb : ∀ (v41 : BitVec 32) (k0_hw5 : k0_chk5 v41) (k0_t5 : Fin (k0_t5_loop v41).trips), ∀ a, (k0_off487 v41 k0_t5) a + S1x1x16.size a ≤ S4x32x128.size a := fun v41 k0_hw5 k0_t5 => k0_hw5.2.2.2.2.2.2.2.2.2.2.2.2.2.1.2.2.2.2.2.2.2.2.1 k0_t5
theorem k0_off489_inb : ∀ (v41 : BitVec 32) (k0_hw5 : k0_chk5 v41) (k0_t5 : Fin (k0_t5_loop v41).trips), ∀ a, (k0_off489 v41 k0_t5) a + S1x1x16.size a ≤ S4x32x128.size a := fun v41 k0_hw5 k0_t5 => k0_hw5.2.2.2.2.2.2.2.2.2.2.2.2.2.1.2.2.2.2.2.2.2.2.2.1 k0_t5
theorem k0_off490_inb : ∀ (v41 : BitVec 32) (k0_hw5 : k0_chk5 v41) (k0_t5 : Fin (k0_t5_loop v41).trips), ∀ a, (k0_off490 v41 k0_t5) a + S1x1x16.size a ≤ S4x32x128.size a := fun v41 k0_hw5 k0_t5 => k0_hw5.2.2.2.2.2.2.2.2.2.2.2.2.2.1.2.2.2.2.2.2.2.2.2.2.1 k0_t5
theorem k0_off491_inb : ∀ (v41 : BitVec 32) (k0_hw5 : k0_chk5 v41) (k0_t5 : Fin (k0_t5_loop v41).trips), ∀ a, (k0_off491 v41 k0_t5) a + S1x1x16.size a ≤ S4x32x128.size a := fun v41 k0_hw5 k0_t5 => k0_hw5.2.2.2.2.2.2.2.2.2.2.2.2.2.1.2.2.2.2.2.2.2.2.2.2.2.1 k0_t5
theorem k0_off492_inb : ∀ (v41 : BitVec 32) (k0_hw5 : k0_chk5 v41) (k0_t5 : Fin (k0_t5_loop v41).trips), ∀ a, (k0_off492 v41 k0_t5) a + S1x1x16.size a ≤ S4x32x128.size a := fun v41 k0_hw5 k0_t5 => k0_hw5.2.2.2.2.2.2.2.2.2.2.2.2.2.1.2.2.2.2.2.2.2.2.2.2.2.2.1 k0_t5
theorem k0_off493_inb : ∀ (v41 : BitVec 32) (k0_hw5 : k0_chk5 v41) (k0_t5 : Fin (k0_t5_loop v41).trips), ∀ a, (k0_off493 v41 k0_t5) a + S1x1x16.size a ≤ S4x32x128.size a := fun v41 k0_hw5 k0_t5 => k0_hw5.2.2.2.2.2.2.2.2.2.2.2.2.2.1.2.2.2.2.2.2.2.2.2.2.2.2.2.1 k0_t5
theorem k0_off494_inb : ∀ (v41 : BitVec 32) (k0_hw5 : k0_chk5 v41) (k0_t5 : Fin (k0_t5_loop v41).trips), ∀ a, (k0_off494 v41 k0_t5) a + S1x1x16.size a ≤ S4x32x128.size a := fun v41 k0_hw5 k0_t5 => k0_hw5.2.2.2.2.2.2.2.2.2.2.2.2.2.1.2.2.2.2.2.2.2.2.2.2.2.2.2.2.1 k0_t5
theorem k0_off495_inb : ∀ (v41 : BitVec 32) (k0_hw5 : k0_chk5 v41) (k0_t5 : Fin (k0_t5_loop v41).trips), ∀ a, (k0_off495 v41 k0_t5) a + S1x1x16.size a ≤ S4x32x128.size a := fun v41 k0_hw5 k0_t5 => k0_hw5.2.2.2.2.2.2.2.2.2.2.2.2.2.1.2.2.2.2.2.2.2.2.2.2.2.2.2.2.2.1 k0_t5
theorem k0_off496_inb : ∀ (v41 : BitVec 32) (k0_hw5 : k0_chk5 v41) (k0_t5 : Fin (k0_t5_loop v41).trips), ∀ a, (k0_off496 v41 k0_t5) a + S1x1x16.size a ≤ S4x32x128.size a := fun v41 k0_hw5 k0_t5 => k0_hw5.2.2.2.2.2.2.2.2.2.2.2.2.2.1.2.2.2.2.2.2.2.2.2.2.2.2.2.2.2.2.1 k0_t5
theorem k0_off498_inb : ∀ (v41 : BitVec 32) (k0_hw5 : k0_chk5 v41) (k0_t5 : Fin (k0_t5_loop v41).trips), ∀ a, (k0_off498 v41 k0_t5) a + S1x1x16.size a ≤ S4x32x128.size a := fun v41 k0_hw5 k0_t5 => k0_hw5.2.2.2.2.2.2.2.2.2.2.2.2.2.1.2.2.2.2.2.2.2.2.2.2.2.2.2.2.2.2.2.1 k0_t5
theorem k0_off499_inb : ∀ (v41 : BitVec 32) (k0_hw5 : k0_chk5 v41) (k0_t5 : Fin (k0_t5_loop v41).trips), ∀ a, (k0_off499 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.1 k0_t5
theorem k0_off500_inb : ∀ (v41 : BitVec 32) (k0_hw5 : k0_chk5 v41) (k0_t5 : Fin (k0_t5_loop v41).trips), ∀ a, (k0_off500 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.1 k0_t5
theorem k0_off501_inb : ∀ (v41 : BitVec 32) (k0_hw5 : k0_chk5 v41) (k0_t5 : Fin (k0_t5_loop v41).trips), ∀ a, (k0_off501 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.1 k0_t5
theorem k0_off502_inb : ∀ (v41 : BitVec 32) (k0_hw5 : k0_chk5 v41) (k0_t5 : Fin (k0_t5_loop v41).trips), ∀ a, (k0_off502 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.1 k0_t5
theorem k0_off503_inb : ∀ (v41 : BitVec 32) (k0_hw5 : k0_chk5 v41) (k0_t5 : Fin (k0_t5_loop v41).trips), ∀ a, (k0_off503 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.1 k0_t5
theorem k0_off504_inb : ∀ (v41 : BitVec 32) (k0_hw5 : k0_chk5 v41) (k0_t5 : Fin (k0_t5_loop v41).trips), ∀ a, (k0_off504 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.2.1 k0_t5
theorem k0_off505_inb : ∀ (v41 : BitVec 32) (k0_hw5 : k0_chk5 v41) (k0_t5 : Fin (k0_t5_loop v41).trips), ∀ a, (k0_off505 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.2.2.1 k0_t5
theorem k0_off507_inb : ∀ (v41 : BitVec 32) (k0_hw5 : k0_chk5 v41) (k0_t5 : Fin (k0_t5_loop v41).trips), ∀ a, (k0_off507 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.2.2.2.1 k0_t5
theorem k0_off508_inb : ∀ (v41 : BitVec 32) (k0_hw5 : k0_chk5 v41) (k0_t5 : Fin (k0_t5_loop v41).trips), ∀ a, (k0_off508 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.2.2.2.2.1 k0_t5
theorem k0_off509_inb : ∀ (v41 : BitVec 32) (k0_hw5 : k0_chk5 v41) (k0_t5 : Fin (k0_t5_loop v41).trips), ∀ a, (k0_off509 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.2.2.2.2.2.1 k0_t5
theorem k0_off510_inb : ∀ (v41 : BitVec 32) (k0_hw5 : k0_chk5 v41) (k0_t5 : Fin (k0_t5_loop v41).trips), ∀ a, (k0_off510 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.2.2.2.2.2.2.1 k0_t5
theorem k0_off511_inb : ∀ (v41 : BitVec 32) (k0_hw5 : k0_chk5 v41) (k0_t5 : Fin (k0_t5_loop v41).trips), ∀ a, (k0_off511 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.2.2.2.2.2.2.2.1 k0_t5
theorem k0_off512_inb : ∀ (v41 : BitVec 32) (k0_hw5 : k0_chk5 v41) (k0_t5 : Fin (k0_t5_loop v41).trips), ∀ a, (k0_off512 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.2.2.2.2.2.2.2.2.1 k0_t5
theorem k0_off513_inb : ∀ (v41 : BitVec 32) (k0_hw5 : k0_chk5 v41) (k0_t5 : Fin (k0_t5_loop v41).trips), ∀ a, (k0_off513 v41 k0_t5) a + S1x1x16.size a ≤ S4x32x128.size a := fun v41 k0_hw5 k0_t5 => k0_hw5.2.2.2.2.2.2.2.2.2.2.2.2.2.1.2.2.2.2.2.2.2.2.2.2.2.2.2.2.2.2.2.2.2.2.2.2.2.2.2.2.2.2.2.2.2 k0_t5
theorem k0_off514_inb : ∀ (v41 : BitVec 32) (k0_hw5 : k0_chk5 v41) (k0_t5 : Fin (k0_t5_loop v41).trips), ∀ a, (k0_off514 v41 k0_t5) a + S1x1x16.size a ≤ S4x32x128.size a := fun v41 k0_hw5 k0_t5 => k0_hw5.2.2.2.2.2.2.2.2.2.2.2.2.2.2.1.1 k0_t5
theorem k0_off516_inb : ∀ (v41 : BitVec 32) (k0_hw5 : k0_chk5 v41) (k0_t5 : Fin (k0_t5_loop v41).trips), ∀ a, (k0_off516 v41 k0_t5) a + S1x1x16.size a ≤ S4x32x128.size a := fun v41 k0_hw5 k0_t5 => k0_hw5.2.2.2.2.2.2.2.2.2.2.2.2.2.2.1.2.1 k0_t5
theorem k0_off517_inb : ∀ (v41 : BitVec 32) (k0_hw5 : k0_chk5 v41) (k0_t5 : Fin (k0_t5_loop v41).trips), ∀ a, (k0_off517 v41 k0_t5) a + S1x1x16.size a ≤ S4x32x128.size a := fun v41 k0_hw5 k0_t5 => k0_hw5.2.2.2.2.2.2.2.2.2.2.2.2.2.2.1.2.2.1 k0_t5
theorem k0_off518_inb : ∀ (v41 : BitVec 32) (k0_hw5 : k0_chk5 v41) (k0_t5 : Fin (k0_t5_loop v41).trips), ∀ a, (k0_off518 v41 k0_t5) a + S1x1x16.size a ≤ S4x32x128.size a := fun v41 k0_hw5 k0_t5 => k0_hw5.2.2.2.2.2.2.2.2.2.2.2.2.2.2.1.2.2.2.1 k0_t5
theorem k0_off519_inb : ∀ (v41 : BitVec 32) (k0_hw5 : k0_chk5 v41) (k0_t5 : Fin (k0_t5_loop v41).trips), ∀ a, (k0_off519 v41 k0_t5) a + S1x1x16.size a ≤ S4x32x128.size a := fun v41 k0_hw5 k0_t5 => k0_hw5.2.2.2.2.2.2.2.2.2.2.2.2.2.2.1.2.2.2.2.1 k0_t5
theorem k0_off520_inb : ∀ (v41 : BitVec 32) (k0_hw5 : k0_chk5 v41) (k0_t5 : Fin (k0_t5_loop v41).trips), ∀ a, (k0_off520 v41 k0_t5) a + S1x1x16.size a ≤ S4x32x128.size a := fun v41 k0_hw5 k0_t5 => k0_hw5.2.2.2.2.2.2.2.2.2.2.2.2.2.2.1.2.2.2.2.2.1 k0_t5
theorem k0_off521_inb : ∀ (v41 : BitVec 32) (k0_hw5 : k0_chk5 v41) (k0_t5 : Fin (k0_t5_loop v41).trips), ∀ a, (k0_off521 v41 k0_t5) a + S1x1x16.size a ≤ S4x32x128.size a := fun v41 k0_hw5 k0_t5 => k0_hw5.2.2.2.2.2.2.2.2.2.2.2.2.2.2.1.2.2.2.2.2.2.1 k0_t5
theorem k0_off522_inb : ∀ (v41 : BitVec 32) (k0_hw5 : k0_chk5 v41) (k0_t5 : Fin (k0_t5_loop v41).trips), ∀ a, (k0_off522 v41 k0_t5) a + S1x1x16.size a ≤ S4x32x128.size a := fun v41 k0_hw5 k0_t5 => k0_hw5.2.2.2.2.2.2.2.2.2.2.2.2.2.2.1.2.2.2.2.2.2.2.1 k0_t5
theorem k0_off523_inb : ∀ (v41 : BitVec 32) (k0_hw5 : k0_chk5 v41) (k0_t5 : Fin (k0_t5_loop v41).trips), ∀ a, (k0_off523 v41 k0_t5) a + S1x1x16.size a ≤ S4x32x128.size a := fun v41 k0_hw5 k0_t5 => k0_hw5.2.2.2.2.2.2.2.2.2.2.2.2.2.2.1.2.2.2.2.2.2.2.2.1 k0_t5
theorem k0_off525_inb : ∀ (v41 : BitVec 32) (k0_hw5 : k0_chk5 v41) (k0_t5 : Fin (k0_t5_loop v41).trips), ∀ a, (k0_off525 v41 k0_t5) a + S1x1x16.size a ≤ S4x32x128.size a := fun v41 k0_hw5 k0_t5 => k0_hw5.2.2.2.2.2.2.2.2.2.2.2.2.2.2.1.2.2.2.2.2.2.2.2.2.1 k0_t5
theorem k0_off526_inb : ∀ (v41 : BitVec 32) (k0_hw5 : k0_chk5 v41) (k0_t5 : Fin (k0_t5_loop v41).trips), ∀ a, (k0_off526 v41 k0_t5) a + S1x1x16.size a ≤ S4x32x128.size a := fun v41 k0_hw5 k0_t5 => k0_hw5.2.2.2.2.2.2.2.2.2.2.2.2.2.2.1.2.2.2.2.2.2.2.2.2.2.1 k0_t5
theorem k0_off527_inb : ∀ (v41 : BitVec 32) (k0_hw5 : k0_chk5 v41) (k0_t5 : Fin (k0_t5_loop v41).trips), ∀ a, (k0_off527 v41 k0_t5) a + S1x1x16.size a ≤ S4x32x128.size a := fun v41 k0_hw5 k0_t5 => k0_hw5.2.2.2.2.2.2.2.2.2.2.2.2.2.2.1.2.2.2.2.2.2.2.2.2.2.2.1 k0_t5
theorem k0_off528_inb : ∀ (v41 : BitVec 32) (k0_hw5 : k0_chk5 v41) (k0_t5 : Fin (k0_t5_loop v41).trips), ∀ a, (k0_off528 v41 k0_t5) a + S1x1x16.size a ≤ S4x32x128.size a := fun v41 k0_hw5 k0_t5 => k0_hw5.2.2.2.2.2.2.2.2.2.2.2.2.2.2.1.2.2.2.2.2.2.2.2.2.2.2.2.1 k0_t5
theorem k0_off529_inb : ∀ (v41 : BitVec 32) (k0_hw5 : k0_chk5 v41) (k0_t5 : Fin (k0_t5_loop v41).trips), ∀ a, (k0_off529 v41 k0_t5) a + S1x1x16.size a ≤ S4x32x128.size a := fun v41 k0_hw5 k0_t5 => k0_hw5.2.2.2.2.2.2.2.2.2.2.2.2.2.2.1.2.2.2.2.2.2.2.2.2.2.2.2.2.1 k0_t5
theorem k0_off530_inb : ∀ (v41 : BitVec 32) (k0_hw5 : k0_chk5 v41) (k0_t5 : Fin (k0_t5_loop v41).trips), ∀ a, (k0_off530 v41 k0_t5) a + S1x1x16.size a ≤ S4x32x128.size a := fun v41 k0_hw5 k0_t5 => k0_hw5.2.2.2.2.2.2.2.2.2.2.2.2.2.2.1.2.2.2.2.2.2.2.2.2.2.2.2.2.2.1 k0_t5
theorem k0_off531_inb : ∀ (v41 : BitVec 32) (k0_hw5 : k0_chk5 v41) (k0_t5 : Fin (k0_t5_loop v41).trips), ∀ a, (k0_off531 v41 k0_t5) a + S1x1x16.size a ≤ S4x32x128.size a := fun v41 k0_hw5 k0_t5 => k0_hw5.2.2.2.2.2.2.2.2.2.2.2.2.2.2.1.2.2.2.2.2.2.2.2.2.2.2.2.2.2.2.1 k0_t5
theorem k0_off532_inb : ∀ (v41 : BitVec 32) (k0_hw5 : k0_chk5 v41) (k0_t5 : Fin (k0_t5_loop v41).trips), ∀ a, (k0_off532 v41 k0_t5) a + S1x1x16.size a ≤ S4x32x128.size a := fun v41 k0_hw5 k0_t5 => k0_hw5.2.2.2.2.2.2.2.2.2.2.2.2.2.2.1.2.2.2.2.2.2.2.2.2.2.2.2.2.2.2.2.1 k0_t5
theorem k0_off534_inb : ∀ (v41 : BitVec 32) (k0_hw5 : k0_chk5 v41) (k0_t5 : Fin (k0_t5_loop v41).trips), ∀ a, (k0_off534 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.1 k0_t5
theorem k0_off535_inb : ∀ (v41 : BitVec 32) (k0_hw5 : k0_chk5 v41) (k0_t5 : Fin (k0_t5_loop v41).trips), ∀ a, (k0_off535 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.1 k0_t5
theorem k0_off536_inb : ∀ (v41 : BitVec 32) (k0_hw5 : k0_chk5 v41) (k0_t5 : Fin (k0_t5_loop v41).trips), ∀ a, (k0_off536 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.1 k0_t5
theorem k0_off537_inb : ∀ (v41 : BitVec 32) (k0_hw5 : k0_chk5 v41) (k0_t5 : Fin (k0_t5_loop v41).trips), ∀ a, (k0_off537 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.1 k0_t5
theorem k0_off538_inb : ∀ (v41 : BitVec 32) (k0_hw5 : k0_chk5 v41) (k0_t5 : Fin (k0_t5_loop v41).trips), ∀ a, (k0_off538 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.1 k0_t5
theorem k0_off539_inb : ∀ (v41 : BitVec 32) (k0_hw5 : k0_chk5 v41) (k0_t5 : Fin (k0_t5_loop v41).trips), ∀ a, (k0_off539 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.1 k0_t5
theorem k0_off540_inb : ∀ (v41 : BitVec 32) (k0_hw5 : k0_chk5 v41) (k0_t5 : Fin (k0_t5_loop v41).trips), ∀ a, (k0_off540 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.2.1 k0_t5
theorem k0_off541_inb : ∀ (v41 : BitVec 32) (k0_hw5 : k0_chk5 v41) (k0_t5 : Fin (k0_t5_loop v41).trips), ∀ a, (k0_off541 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.2.2.1 k0_t5
theorem k0_off543_inb : ∀ (v41 : BitVec 32) (k0_hw5 : k0_chk5 v41) (k0_t5 : Fin (k0_t5_loop v41).trips), ∀ a, (k0_off543 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.2.2.2.1 k0_t5
theorem k0_off544_inb : ∀ (v41 : BitVec 32) (k0_hw5 : k0_chk5 v41) (k0_t5 : Fin (k0_t5_loop v41).trips), ∀ a, (k0_off544 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.2.2.2.2.1 k0_t5
theorem k0_off545_inb : ∀ (v41 : BitVec 32) (k0_hw5 : k0_chk5 v41) (k0_t5 : Fin (k0_t5_loop v41).trips), ∀ a, (k0_off545 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.2.2.2.2.2.1 k0_t5
theorem k0_off546_inb : ∀ (v41 : BitVec 32) (k0_hw5 : k0_chk5 v41) (k0_t5 : Fin (k0_t5_loop v41).trips), ∀ a, (k0_off546 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.2.2.2.2.2.2.1 k0_t5
theorem k0_off547_inb : ∀ (v41 : BitVec 32) (k0_hw5 : k0_chk5 v41) (k0_t5 : Fin (k0_t5_loop v41).trips), ∀ a, (k0_off547 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.2.2.2.2.2.2.2.1 k0_t5
theorem k0_off548_inb : ∀ (v41 : BitVec 32) (k0_hw5 : k0_chk5 v41) (k0_t5 : Fin (k0_t5_loop v41).trips), ∀ a, (k0_off548 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.2.2.2.2.2.2.2.2.1 k0_t5
theorem k0_off549_inb : ∀ (v41 : BitVec 32) (k0_hw5 : k0_chk5 v41) (k0_t5 : Fin (k0_t5_loop v41).trips), ∀ a, (k0_off549 v41 k0_t5) a + S1x1x16.size a ≤ S4x32x128.size a := fun v41 k0_hw5 k0_t5 => k0_hw5.2.2.2.2.2.2.2.2.2.2.2.2.2.2.1.2.2.2.2.2.2.2.2.2.2.2.2.2.2.2.2.2.2.2.2.2.2.2.2.2.2.2.2.2.2.2 k0_t5
theorem k0_off550_inb : ∀ (v41 : BitVec 32) (k0_hw5 : k0_chk5 v41) (k0_t5 : Fin (k0_t5_loop v41).trips), ∀ a, (k0_off550 v41 k0_t5) a + S1x1x16.size a ≤ S4x32x128.size a := fun v41 k0_hw5 k0_t5 => k0_hw5.2.2.2.2.2.2.2.2.2.2.2.2.2.2.2.1.1 k0_t5
theorem k0_off552_inb : ∀ (v41 : BitVec 32) (k0_hw5 : k0_chk5 v41) (k0_t5 : Fin (k0_t5_loop v41).trips), ∀ a, (k0_off552 v41 k0_t5) a + S1x1x16.size a ≤ S4x32x128.size a := fun v41 k0_hw5 k0_t5 => k0_hw5.2.2.2.2.2.2.2.2.2.2.2.2.2.2.2.1.2.1 k0_t5
theorem k0_off553_inb : ∀ (v41 : BitVec 32) (k0_hw5 : k0_chk5 v41) (k0_t5 : Fin (k0_t5_loop v41).trips), ∀ a, (k0_off553 v41 k0_t5) a + S1x1x16.size a ≤ S4x32x128.size a := fun v41 k0_hw5 k0_t5 => k0_hw5.2.2.2.2.2.2.2.2.2.2.2.2.2.2.2.1.2.2.1 k0_t5
theorem k0_off554_inb : ∀ (v41 : BitVec 32) (k0_hw5 : k0_chk5 v41) (k0_t5 : Fin (k0_t5_loop v41).trips), ∀ a, (k0_off554 v41 k0_t5) a + S1x1x16.size a ≤ S4x32x128.size a := fun v41 k0_hw5 k0_t5 => k0_hw5.2.2.2.2.2.2.2.2.2.2.2.2.2.2.2.1.2.2.2.1 k0_t5
theorem k0_off555_inb : ∀ (v41 : BitVec 32) (k0_hw5 : k0_chk5 v41) (k0_t5 : Fin (k0_t5_loop v41).trips), ∀ a, (k0_off555 v41 k0_t5) a + S1x1x16.size a ≤ S4x32x128.size a := fun v41 k0_hw5 k0_t5 => k0_hw5.2.2.2.2.2.2.2.2.2.2.2.2.2.2.2.1.2.2.2.2.1 k0_t5
theorem k0_off556_inb : ∀ (v41 : BitVec 32) (k0_hw5 : k0_chk5 v41) (k0_t5 : Fin (k0_t5_loop v41).trips), ∀ a, (k0_off556 v41 k0_t5) a + S1x1x16.size a ≤ S4x32x128.size a := fun v41 k0_hw5 k0_t5 => k0_hw5.2.2.2.2.2.2.2.2.2.2.2.2.2.2.2.1.2.2.2.2.2.1 k0_t5
theorem k0_off557_inb : ∀ (v41 : BitVec 32) (k0_hw5 : k0_chk5 v41) (k0_t5 : Fin (k0_t5_loop v41).trips), ∀ a, (k0_off557 v41 k0_t5) a + S1x1x16.size a ≤ S4x32x128.size a := fun v41 k0_hw5 k0_t5 => k0_hw5.2.2.2.2.2.2.2.2.2.2.2.2.2.2.2.1.2.2.2.2.2.2.1 k0_t5
theorem k0_off558_inb : ∀ (v41 : BitVec 32) (k0_hw5 : k0_chk5 v41) (k0_t5 : Fin (k0_t5_loop v41).trips), ∀ a, (k0_off558 v41 k0_t5) a + S1x1x16.size a ≤ S4x32x128.size a := fun v41 k0_hw5 k0_t5 => k0_hw5.2.2.2.2.2.2.2.2.2.2.2.2.2.2.2.1.2.2.2.2.2.2.2.1 k0_t5
theorem k0_off559_inb : ∀ (v41 : BitVec 32) (k0_hw5 : k0_chk5 v41) (k0_t5 : Fin (k0_t5_loop v41).trips), ∀ a, (k0_off559 v41 k0_t5) a + S1x1x16.size a ≤ S4x32x128.size a := fun v41 k0_hw5 k0_t5 => k0_hw5.2.2.2.2.2.2.2.2.2.2.2.2.2.2.2.1.2.2.2.2.2.2.2.2.1 k0_t5
theorem k0_off561_inb : ∀ (v41 : BitVec 32) (k0_hw5 : k0_chk5 v41) (k0_t5 : Fin (k0_t5_loop v41).trips), ∀ a, (k0_off561 v41 k0_t5) a + S1x1x16.size a ≤ S4x32x128.size a := fun v41 k0_hw5 k0_t5 => k0_hw5.2.2.2.2.2.2.2.2.2.2.2.2.2.2.2.1.2.2.2.2.2.2.2.2.2.1 k0_t5
theorem k0_off562_inb : ∀ (v41 : BitVec 32) (k0_hw5 : k0_chk5 v41) (k0_t5 : Fin (k0_t5_loop v41).trips), ∀ a, (k0_off562 v41 k0_t5) a + S1x1x16.size a ≤ S4x32x128.size a := fun v41 k0_hw5 k0_t5 => k0_hw5.2.2.2.2.2.2.2.2.2.2.2.2.2.2.2.1.2.2.2.2.2.2.2.2.2.2.1 k0_t5
theorem k0_off563_inb : ∀ (v41 : BitVec 32) (k0_hw5 : k0_chk5 v41) (k0_t5 : Fin (k0_t5_loop v41).trips), ∀ a, (k0_off563 v41 k0_t5) a + S1x1x16.size a ≤ S4x32x128.size a := fun v41 k0_hw5 k0_t5 => k0_hw5.2.2.2.2.2.2.2.2.2.2.2.2.2.2.2.1.2.2.2.2.2.2.2.2.2.2.2.1 k0_t5
theorem k0_off564_inb : ∀ (v41 : BitVec 32) (k0_hw5 : k0_chk5 v41) (k0_t5 : Fin (k0_t5_loop v41).trips), ∀ a, (k0_off564 v41 k0_t5) a + S1x1x16.size a ≤ S4x32x128.size a := fun v41 k0_hw5 k0_t5 => k0_hw5.2.2.2.2.2.2.2.2.2.2.2.2.2.2.2.1.2.2.2.2.2.2.2.2.2.2.2.2.1 k0_t5
theorem k0_off565_inb : ∀ (v41 : BitVec 32) (k0_hw5 : k0_chk5 v41) (k0_t5 : Fin (k0_t5_loop v41).trips), ∀ a, (k0_off565 v41 k0_t5) a + S1x1x16.size a ≤ S4x32x128.size a := fun v41 k0_hw5 k0_t5 => k0_hw5.2.2.2.2.2.2.2.2.2.2.2.2.2.2.2.1.2.2.2.2.2.2.2.2.2.2.2.2.2.1 k0_t5
theorem k0_off566_inb : ∀ (v41 : BitVec 32) (k0_hw5 : k0_chk5 v41) (k0_t5 : Fin (k0_t5_loop v41).trips), ∀ a, (k0_off566 v41 k0_t5) a + S1x1x16.size a ≤ S4x32x128.size a := fun v41 k0_hw5 k0_t5 => k0_hw5.2.2.2.2.2.2.2.2.2.2.2.2.2.2.2.1.2.2.2.2.2.2.2.2.2.2.2.2.2.2.1 k0_t5
theorem k0_off567_inb : ∀ (v41 : BitVec 32) (k0_hw5 : k0_chk5 v41) (k0_t5 : Fin (k0_t5_loop v41).trips), ∀ a, (k0_off567 v41 k0_t5) a + S1x1x16.size a ≤ S4x32x128.size a := fun v41 k0_hw5 k0_t5 => k0_hw5.2.2.2.2.2.2.2.2.2.2.2.2.2.2.2.1.2.2.2.2.2.2.2.2.2.2.2.2.2.2.2.1 k0_t5
theorem k0_off568_inb : ∀ (v41 : BitVec 32) (k0_hw5 : k0_chk5 v41) (k0_t5 : Fin (k0_t5_loop v41).trips), ∀ a, (k0_off568 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.1 k0_t5
theorem k0_off570_inb : ∀ (v41 : BitVec 32) (k0_hw5 : k0_chk5 v41) (k0_t5 : Fin (k0_t5_loop v41).trips), ∀ a, (k0_off570 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.1 k0_t5
theorem k0_off571_inb : ∀ (v41 : BitVec 32) (k0_hw5 : k0_chk5 v41) (k0_t5 : Fin (k0_t5_loop v41).trips), ∀ a, (k0_off571 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.1 k0_t5
theorem k0_off572_inb : ∀ (v41 : BitVec 32) (k0_hw5 : k0_chk5 v41) (k0_t5 : Fin (k0_t5_loop v41).trips), ∀ a, (k0_off572 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.1 k0_t5
theorem k0_off573_inb : ∀ (v41 : BitVec 32) (k0_hw5 : k0_chk5 v41) (k0_t5 : Fin (k0_t5_loop v41).trips), ∀ a, (k0_off573 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.1 k0_t5
theorem k0_off574_inb : ∀ (v41 : BitVec 32) (k0_hw5 : k0_chk5 v41) (k0_t5 : Fin (k0_t5_loop v41).trips), ∀ a, (k0_off574 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.1 k0_t5
theorem k0_off575_inb : ∀ (v41 : BitVec 32) (k0_hw5 : k0_chk5 v41) (k0_t5 : Fin (k0_t5_loop v41).trips), ∀ a, (k0_off575 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.1 k0_t5
theorem k0_off576_inb : ∀ (v41 : BitVec 32) (k0_hw5 : k0_chk5 v41) (k0_t5 : Fin (k0_t5_loop v41).trips), ∀ a, (k0_off576 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.2.1 k0_t5
theorem k0_off577_inb : ∀ (v41 : BitVec 32) (k0_hw5 : k0_chk5 v41) (k0_t5 : Fin (k0_t5_loop v41).trips), ∀ a, (k0_off577 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.2.2.1 k0_t5
theorem k0_off579_inb : ∀ (v41 : BitVec 32) (k0_hw5 : k0_chk5 v41) (k0_t5 : Fin (k0_t5_loop v41).trips), ∀ a, (k0_off579 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.2.2.2.1 k0_t5
theorem k0_off580_inb : ∀ (v41 : BitVec 32) (k0_hw5 : k0_chk5 v41) (k0_t5 : Fin (k0_t5_loop v41).trips), ∀ a, (k0_off580 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.2.2.2.2.1 k0_t5
theorem k0_off581_inb : ∀ (v41 : BitVec 32) (k0_hw5 : k0_chk5 v41) (k0_t5 : Fin (k0_t5_loop v41).trips), ∀ a, (k0_off581 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.2.2.2.2.2.1 k0_t5
theorem k0_off582_inb : ∀ (v41 : BitVec 32) (k0_hw5 : k0_chk5 v41) (k0_t5 : Fin (k0_t5_loop v41).trips), ∀ a, (k0_off582 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.2.2.2.2.2.2.1 k0_t5
theorem k0_off583_inb : ∀ (v41 : BitVec 32) (k0_hw5 : k0_chk5 v41) (k0_t5 : Fin (k0_t5_loop v41).trips), ∀ a, (k0_off583 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.2.2.2.2.2.2.2.1 k0_t5
theorem k0_off584_inb : ∀ (v41 : BitVec 32) (k0_hw5 : k0_chk5 v41) (k0_t5 : Fin (k0_t5_loop v41).trips), ∀ a, (k0_off584 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.2.2.2.2.2.2.2.2.1 k0_t5
theorem k0_off585_inb : ∀ (v41 : BitVec 32) (k0_hw5 : k0_chk5 v41) (k0_t5 : Fin (k0_t5_loop v41).trips), ∀ a, (k0_off585 v41 k0_t5) a + S1x1x16.size a ≤ S4x32x128.size a := fun v41 k0_hw5 k0_t5 => k0_hw5.2.2.2.2.2.2.2.2.2.2.2.2.2.2.2.1.2.2.2.2.2.2.2.2.2.2.2.2.2.2.2.2.2.2.2.2.2.2.2.2.2.2.2.2.2.2.2 k0_t5
theorem k0_off586_inb : ∀ (v41 : BitVec 32) (k0_hw5 : k0_chk5 v41) (k0_t5 : Fin (k0_t5_loop v41).trips), ∀ a, (k0_off586 v41 k0_t5) a + S1x1x16.size a ≤ S4x32x128.size a := fun v41 k0_hw5 k0_t5 => k0_hw5.2.2.2.2.2.2.2.2.2.2.2.2.2.2.2.2.1 k0_t5
theorem k0_off588_inb : ∀ (v41 : BitVec 32) (k0_hw5 : k0_chk5 v41) (k0_t5 : Fin (k0_t5_loop v41).trips), ∀ a, (k0_off588 v41 k0_t5) a + S1x1x16.size a ≤ S4x32x128.size a := fun v41 k0_hw5 k0_t5 => k0_hw5.2.2.2.2.2.2.2.2.2.2.2.2.2.2.2.2.2.1 k0_t5
theorem k0_off589_inb : ∀ (v41 : BitVec 32) (k0_hw5 : k0_chk5 v41) (k0_t5 : Fin (k0_t5_loop v41).trips), ∀ a, (k0_off589 v41 k0_t5) a + S1x1x16.size a ≤ S4x32x128.size a := fun v41 k0_hw5 k0_t5 => k0_hw5.2.2.2.2.2.2.2.2.2.2.2.2.2.2.2.2.2.2.1 k0_t5
theorem k0_off590_inb : ∀ (v41 : BitVec 32) (k0_hw5 : k0_chk5 v41) (k0_t5 : Fin (k0_t5_loop v41).trips), ∀ a, (k0_off590 v41 k0_t5) a + S1x1x16.size a ≤ S4x32x128.size a := fun v41 k0_hw5 k0_t5 => k0_hw5.2.2.2.2.2.2.2.2.2.2.2.2.2.2.2.2.2.2.2.1 k0_t5
theorem k0_off591_inb : ∀ (v41 : BitVec 32) (k0_hw5 : k0_chk5 v41) (k0_t5 : Fin (k0_t5_loop v41).trips), ∀ a, (k0_off591 v41 k0_t5) a + S1x1x16.size a ≤ S4x32x128.size a := fun v41 k0_hw5 k0_t5 => k0_hw5.2.2.2.2.2.2.2.2.2.2.2.2.2.2.2.2.2.2.2.2.1 k0_t5
theorem k0_off592_inb : ∀ (v41 : BitVec 32) (k0_hw5 : k0_chk5 v41) (k0_t5 : Fin (k0_t5_loop v41).trips), ∀ a, (k0_off592 v41 k0_t5) a + S1x1x16.size a ≤ S4x32x128.size a := fun v41 k0_hw5 k0_t5 => k0_hw5.2.2.2.2.2.2.2.2.2.2.2.2.2.2.2.2.2.2.2.2.2.1 k0_t5
theorem k0_off593_inb : ∀ (v41 : BitVec 32) (k0_hw5 : k0_chk5 v41) (k0_t5 : Fin (k0_t5_loop v41).trips), ∀ a, (k0_off593 v41 k0_t5) a + S1x1x16.size a ≤ S4x32x128.size a := fun v41 k0_hw5 k0_t5 => k0_hw5.2.2.2.2.2.2.2.2.2.2.2.2.2.2.2.2.2.2.2.2.2.2.1 k0_t5
theorem k0_off594_inb : ∀ (v41 : BitVec 32) (k0_hw5 : k0_chk5 v41) (k0_t5 : Fin (k0_t5_loop v41).trips), ∀ a, (k0_off594 v41 k0_t5) a + S1x1x16.size a ≤ S4x32x128.size a := fun v41 k0_hw5 k0_t5 => k0_hw5.2.2.2.2.2.2.2.2.2.2.2.2.2.2.2.2.2.2.2.2.2.2.2.1 k0_t5
theorem k0_off595_inb : ∀ (v41 : BitVec 32) (k0_hw5 : k0_chk5 v41) (k0_t5 : Fin (k0_t5_loop v41).trips), ∀ a, (k0_off595 v41 k0_t5) a + S1x1x16.size a ≤ S4x32x128.size a := fun v41 k0_hw5 k0_t5 => k0_hw5.2.2.2.2.2.2.2.2.2.2.2.2.2.2.2.2.2.2.2.2.2.2.2.2.1 k0_t5
theorem k0_off597_inb : ∀ (v41 : BitVec 32) (k0_hw5 : k0_chk5 v41) (k0_t5 : Fin (k0_t5_loop v41).trips), ∀ a, (k0_off597 v41 k0_t5) a + S1x1x16.size a ≤ S4x32x128.size a := fun v41 k0_hw5 k0_t5 => k0_hw5.2.2.2.2.2.2.2.2.2.2.2.2.2.2.2.2.2.2.2.2.2.2.2.2.2.1 k0_t5
theorem k0_off598_inb : ∀ (v41 : BitVec 32) (k0_hw5 : k0_chk5 v41) (k0_t5 : Fin (k0_t5_loop v41).trips), ∀ a, (k0_off598 v41 k0_t5) a + S1x1x16.size a ≤ S4x32x128.size a := fun v41 k0_hw5 k0_t5 => k0_hw5.2.2.2.2.2.2.2.2.2.2.2.2.2.2.2.2.2.2.2.2.2.2.2.2.2.2.1 k0_t5
theorem k0_off599_inb : ∀ (v41 : BitVec 32) (k0_hw5 : k0_chk5 v41) (k0_t5 : Fin (k0_t5_loop v41).trips), ∀ a, (k0_off599 v41 k0_t5) a + S1x1x16.size a ≤ S4x32x128.size a := fun v41 k0_hw5 k0_t5 => k0_hw5.2.2.2.2.2.2.2.2.2.2.2.2.2.2.2.2.2.2.2.2.2.2.2.2.2.2.2.1 k0_t5
theorem k0_off600_inb : ∀ (v41 : BitVec 32) (k0_hw5 : k0_chk5 v41) (k0_t5 : Fin (k0_t5_loop v41).trips), ∀ a, (k0_off600 v41 k0_t5) a + S1x1x16.size a ≤ S4x32x128.size a := fun v41 k0_hw5 k0_t5 => k0_hw5.2.2.2.2.2.2.2.2.2.2.2.2.2.2.2.2.2.2.2.2.2.2.2.2.2.2.2.2.1 k0_t5
theorem k0_off601_inb : ∀ (v41 : BitVec 32) (k0_hw5 : k0_chk5 v41) (k0_t5 : Fin (k0_t5_loop v41).trips), ∀ a, (k0_off601 v41 k0_t5) a + S1x1x16.size a ≤ S4x32x128.size a := fun v41 k0_hw5 k0_t5 => k0_hw5.2.2.2.2.2.2.2.2.2.2.2.2.2.2.2.2.2.2.2.2.2.2.2.2.2.2.2.2.2.1 k0_t5
theorem k0_off602_inb : ∀ (v41 : BitVec 32) (k0_hw5 : k0_chk5 v41) (k0_t5 : Fin (k0_t5_loop v41).trips), ∀ a, (k0_off602 v41 k0_t5) a + S1x1x16.size a ≤ S4x32x128.size a := fun v41 k0_hw5 k0_t5 => k0_hw5.2.2.2.2.2.2.2.2.2.2.2.2.2.2.2.2.2.2.2.2.2.2.2.2.2.2.2.2.2.2.1 k0_t5
theorem k0_off603_inb : ∀ (v41 : BitVec 32) (k0_hw5 : k0_chk5 v41) (k0_t5 : Fin (k0_t5_loop v41).trips), ∀ a, (k0_off603 v41 k0_t5) a + S1x1x16.size a ≤ S4x32x128.size a := fun v41 k0_hw5 k0_t5 => k0_hw5.2.2.2.2.2.2.2.2.2.2.2.2.2.2.2.2.2.2.2.2.2.2.2.2.2.2.2.2.2.2.2.1 k0_t5
theorem k0_off604_inb : ∀ (v41 : BitVec 32) (k0_hw5 : k0_chk5 v41) (k0_t5 : Fin (k0_t5_loop v41).trips), ∀ a, (k0_off604 v41 k0_t5) a + S1x1x16.size a ≤ S4x32x128.size a := fun v41 k0_hw5 k0_t5 => k0_hw5.2.2.2.2.2.2.2.2.2.2.2.2.2.2.2.2.2.2.2.2.2.2.2.2.2.2.2.2.2.2.2.2.1 k0_t5
theorem k0_off605_inb : ∀ (v41 : BitVec 32) (k0_hw5 : k0_chk5 v41) (k0_t5 : Fin (k0_t5_loop v41).trips), ∀ (k0_h7 : k0_cond7 v41 k0_t5 = 1#1), ∀ a, (k0_off605 v41 k0_t5) a + S1x32x128.size a ≤ S4x32x128.size a := fun v41 k0_hw5 k0_t5 k0_h7 => k0_hw5.2.2.2.2.2.2.2.2.2.2.2.2.2.2.2.2.2.2.2.2.2.2.2.2.2.2.2.2.2.2.2.2.2.1 k0_t5 k0_h7
theorem k0_off606_inb : ∀ (v41 : BitVec 32) (k0_hw5 : k0_chk5 v41) (k0_t5 : Fin (k0_t5_loop v41).trips), ∀ (k0_h7 : k0_cond7 v41 k0_t5 = 1#1), ∀ a, (k0_off606 v41 k0_t5) a + S32.size a ≤ S8032.size a := fun v41 k0_hw5 k0_t5 k0_h7 => k0_hw5.2.2.2.2.2.2.2.2.2.2.2.2.2.2.2.2.2.2.2.2.2.2.2.2.2.2.2.2.2.2.2.2.2.2.1 k0_t5 k0_h7
theorem k0_off607_inb : ∀ (v41 : BitVec 32) (k0_hw5 : k0_chk5 v41) (k0_t5 : Fin (k0_t5_loop v41).trips), ∀ (k0_h7 : k0_cond7 v41 k0_t5 = 1#1), ∀ a, (k0_off607 v41 k0_t5) a + S1.size a ≤ S4.size a := fun v41 k0_hw5 k0_t5 k0_h7 => k0_hw5.2.2.2.2.2.2.2.2.2.2.2.2.2.2.2.2.2.2.2.2.2.2.2.2.2.2.2.2.2.2.2.2.2.2.2 k0_t5 k0_h7

def k0_off608 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v2 : BitVec 32 := Scalar.muli v1 c313_i32
  let c128_i32 : BitVec 32 := 128#32
  let v20 : BitVec 32 := Scalar.muli v2 c128_i32
  ![v20.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S320000 : Shape := ⟨1, ![320000]⟩
abbrev S320000x1 : Shape := ⟨2, ![320000, 1]⟩
abbrev S320000x128 : Shape := ⟨2, ![320000, 128]⟩
abbrev S1x320000 : Shape := ⟨2, ![1, 320000]⟩
abbrev S10000 : Shape := ⟨1, ![10000]⟩
abbrev S10000x1 : Shape := ⟨2, ![10000, 1]⟩
abbrev S10000x320000 : Shape := ⟨2, ![10000, 320000]⟩
abbrev S10000x320000x1 : Shape := ⟨3, ![10000, 320000, 1]⟩
abbrev S1x320000x128 : Shape := ⟨3, ![1, 320000, 128]⟩
abbrev S_ : Shape := ⟨0, ![]⟩
abbrev S10000x320000x128 : Shape := ⟨3, ![10000, 320000, 128]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S320000x1, .i32⟩
  | .hbm, ⟨4, _⟩ => ⟨S320000x128, .f32⟩
  | .hbm, ⟨5, _⟩ => ⟨S1x320000, .i32⟩
  | .hbm, ⟨6, _⟩ => ⟨S10000, .i32⟩
  | .hbm, ⟨7, _⟩ => ⟨S10000x1, .i32⟩
  | .hbm, ⟨8, _⟩ => ⟨S10000x320000, .i32⟩
  | .hbm, ⟨9, _⟩ => ⟨S10000x320000, .i32⟩
  | .hbm, ⟨10, _⟩ => ⟨S10000x320000, .i1⟩
  | .hbm, ⟨11, _⟩ => ⟨S10000x320000x1, .i1⟩
  | .hbm, ⟨12, _⟩ => ⟨S1x320000x128, .f32⟩
  | .hbm, ⟨13, _⟩ => ⟨S_, .f32⟩
  | .hbm, ⟨14, _⟩ => ⟨S_, .f32⟩
  | .hbm, ⟨15, _⟩ => ⟨S10000x320000x128, .i1⟩
  | .hbm, ⟨16, _⟩ => ⟨S10000x320000x128, .f32⟩
  | .hbm, ⟨17, _⟩ => ⟨S10000x320000x128, .f32⟩
  | .hbm, ⟨18, _⟩ => ⟨S10000x320000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .i1⟩
  | .hbm, ⟨25, _⟩ => ⟨S_, .f32⟩
  | .hbm, ⟨26, _⟩ => ⟨S_, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call2_v0 : Ref sig .tc := ⟨.hbm, 26, rfl⟩
abbrev main_call2_v1 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== Pre.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩

abbrev nBuf : Space → Nat
  | .hbm => 5
  | .vmem => 4
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== PreReferenceIdeal.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S10000x128, .f32⟩
  | .hbm, ⟨4, _⟩ => ⟨S1x128, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S10000x128, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Mid.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩

abbrev nBuf : Space → Nat
  | .hbm => 11
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S10000x128, .f32⟩
  | .hbm, ⟨10, _⟩ => ⟨S10000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S10000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10000x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== MidReferenceIdeal.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Post.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩

abbrev nBuf : Space → Nat
  | .hbm => 7
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S10000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== PostReferenceIdeal.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Layer.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S1x128 : Shape := ⟨2, ![1, 128]⟩
abbrev S1282048 : Shape := ⟨1, ![1282048]⟩
abbrev S40192 : Shape := ⟨1, ![40192]⟩
abbrev S16000 : Shape := ⟨1, ![16000]⟩
abbrev S8032 : Shape := ⟨1, ![8032]⟩
abbrev S4x32x128 : Shape := ⟨3, ![4, 32, 128]⟩
abbrev S4 : Shape := ⟨1, ![4]⟩
abbrev S2 : Shape := ⟨1, ![2]⟩
abbrev S16 : Shape := ⟨1, ![16]⟩
abbrev S8000 : Shape := ⟨1, ![8000]⟩
abbrev S1 : Shape := ⟨1, ![1]⟩
abbrev S_ : Shape := ⟨0, ![]⟩
abbrev S1x32x128 : Shape := ⟨3, ![1, 32, 128]⟩
abbrev S32x128 : Shape := ⟨2, ![32, 128]⟩
abbrev S32 : Shape := ⟨1, ![32]⟩
abbrev S1x1x16 : Shape := ⟨3, ![1, 1, 16]⟩
abbrev S40064 : Shape := ⟨1, ![40064]⟩
abbrev S10016x128 : Shape := ⟨2, ![10016, 128]⟩

abbrev nBuf : Table → Nat
  | .hbm => 20
  | .local .tc .vmem => 13
  | .local .scVector .vmem => 6
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S1x128, .f32⟩
  | .hbm, ⟨12, _⟩ => ⟨S10000x128, .f32⟩
  | .hbm, ⟨13, _⟩ => ⟨S1282048, .f32⟩
  | .hbm, ⟨14, _⟩ => ⟨S10016x128, .f32⟩
  | .hbm, ⟨15, _⟩ => ⟨S10000x128, .f32⟩
  | .hbm, ⟨16, _⟩ => ⟨S1x128, .f32⟩
  | .hbm, ⟨17, _⟩ => ⟨S1x128, .f32⟩
  | .hbm, ⟨18, _⟩ => ⟨S10000x128, .f32⟩
  | .hbm, ⟨19, _⟩ => ⟨S10000x128, .f32⟩
  | .local .tc .vmem, ⟨0, _⟩ => ⟨S10000x128, .f32⟩
  | .local .tc .vmem, ⟨1, _⟩ => ⟨S128x128, .f32⟩
  | .local .tc .vmem, ⟨2, _⟩ => ⟨S1x128, .f32⟩
  | .local .tc .vmem, ⟨3, _⟩ => ⟨S10000x128, .f32⟩
  | .local .tc .vmem, ⟨4, _⟩ => ⟨S10000x128, .f32⟩
  | .local .tc .vmem, ⟨5, _⟩ => ⟨S10000x128, .f32⟩
  | .local .tc .vmem, ⟨6, _⟩ => ⟨S128x128, .f32⟩
  | .local .tc .vmem, ⟨7, _⟩ => ⟨S128x128, .f32⟩
  | .local .tc .vmem, ⟨8, _⟩ => ⟨S1x128, .f32⟩
  | .local .tc .vmem, ⟨9, _⟩ => ⟨S128x128, .f32⟩
  | .local .tc .vmem, ⟨10, _⟩ => ⟨S1x128, .f32⟩
  | .local .tc .vmem, ⟨11, _⟩ => ⟨S10000x128, .f32⟩
  | .local .tc .vmem, ⟨12, _⟩ => ⟨S10000x128, .f32⟩
  | .local .scVector .vmem, ⟨0, _⟩ => ⟨S40192, .f32⟩
  | .local .scVector .vmem, ⟨1, _⟩ => ⟨S16000, .i32⟩
  | .local .scVector .vmem, ⟨2, _⟩ => ⟨S16000, .i32⟩
  | .local .scVector .vmem, ⟨3, _⟩ => ⟨S8032, .i32⟩
  | .local .scVector .vmem, ⟨4, _⟩ => ⟨S8032, .i32⟩
  | .local .scVector .vmem, ⟨5, _⟩ => ⟨S4x32x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v5_scv : Ref sig .scVector := ⟨.hbm, 12, rfl⟩
abbrev main_v1_scv : Ref sig .scVector := ⟨.hbm, 8, rfl⟩
abbrev main_v3_scv : Ref sig .scVector := ⟨.hbm, 10, rfl⟩
abbrev main_v6_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc2_stg8_0 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem8_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_1 : BitVec 32 := 0#32
  let c2512_i32 : BitVec 32 := 2512#32
  let v4 : BitVec 32 := Scalar.addi c0_i32_1 c2512_i32
  let c1_i32 : BitVec 32 := 1#32
  ⟨c0_i32_1, v4, c1_i32⟩
def k1_off1 (k1_t1 : Fin k1_t1_loop.trips) : Fin 1 → Nat :=
  let c0_i32_1 : BitVec 32 := 0#32
  let c1_i32 : BitVec 32 := 1#32
  let arg14 : BitVec 32 := Scf.iv c0_i32_1 c1_i32 k1_t1
  let c16_i32 : BitVec 32 := 16#32
  let v22 : BitVec 32 := Scalar.muli arg14 c16_i32
  let v23 : Index := Scalar.indexCast v22
  ![v23.toNat]
@[reducible] def k1_t2_loop : Scf.Loop 32 :=
  let c0_i32_14 : BitVec 32 := 0#32
  let c40_i32 : BitVec 32 := 40#32
  let v18 : BitVec 32 := Scalar.addi c0_i32_14 c40_i32
  let c1_i32_15 : BitVec 32 := 1#32
  ⟨c0_i32_14, v18, c1_i32_15⟩
def k1_off2 (k1_t2 : Fin k1_t2_loop.trips) : Fin 1 → Nat :=
  let c0_i32_14 : BitVec 32 := 0#32
  let c1_i32_15 : BitVec 32 := 1#32
  let arg14 : BitVec 32 := Scf.iv c0_i32_14 c1_i32_15 k1_t2
  let c2_i32_17 : BitVec 32 := 2#32
  let v21 : BitVec 32 := Scalar.remsi arg14 c2_i32_17
  let c8000_i32 : BitVec 32 := 8000#32
  let v22 : BitVec 32 := Scalar.muli v21 c8000_i32
  ![v22.toNat]
def k1_cond1 (k1_t2 : Fin k1_t2_loop.trips) : BitVec 1 :=
  let c0_i32_14 : BitVec 32 := 0#32
  let c1_i32_15 : BitVec 32 := 1#32
  let arg14 : BitVec 32 := Scf.iv c0_i32_14 c1_i32_15 k1_t2
  let c1_i32_25 : BitVec 32 := 1#32
  let v36 : BitVec 32 := Scalar.addi arg14 c1_i32_25
  let c40_i32_26 : BitVec 32 := 40#32
  let v37 : BitVec 1 := Scalar.cmpi .slt v36 c40_i32_26
  let v38 : BitVec 32 := Scalar.extui v37
  let c0_i32_27 : BitVec 32 := 0#32
  let v39 : BitVec 1 := Scalar.cmpi .ne v38 c0_i32_27
  v39

def k1_off3 (k1_t2 : Fin k1_t2_loop.trips) : Fin 1 → Nat :=
  let c1_i32_59 : BitVec 32 := 1#32
  let c0_i32_14 : BitVec 32 := 0#32
  let c1_i32_15 : BitVec 32 := 1#32
  let arg14 : BitVec 32 := Scf.iv c0_i32_14 c1_i32_15 k1_t2
  let c2_i32_17 : BitVec 32 := 2#32
  let v21 : BitVec 32 := Scalar.remsi arg14 c2_i32_17
  let v95 : BitVec 32 := Scalar.subi c1_i32_59 v21
  let c8000_i32_61 : BitVec 32 := 8000#32
  let v97 : BitVec 32 := Scalar.muli v95 c8000_i32_61
  ![v97.toNat]
def k1_off4 (k1_t2 : Fin k1_t2_loop.trips) : Fin 1 → Nat :=
  let c0_i32_14 : BitVec 32 := 0#32
  let c1_i32_15 : BitVec 32 := 1#32
  let arg14 : BitVec 32 := Scf.iv c0_i32_14 c1_i32_15 k1_t2
  let c1_i32_58 : BitVec 32 := 1#32
  let v94 : BitVec 32 := Scalar.addi arg14 c1_i32_58
  let c8000_i32_60 : BitVec 32 := 8000#32
  let v96 : BitVec 32 := Scalar.muli v94 c8000_i32_60
  ![v96.toNat]
@[reducible] def k1_t3_loop : Scf.Loop 32 :=
  let c0_i32_29 : BitVec 32 := 0#32
  let c125_i32 : BitVec 32 := 125#32
  let v40 : BitVec 32 := Scalar.addi c0_i32_29 c125_i32
  let c1_i32_30 : BitVec 32 := 1#32
  ⟨c0_i32_29, v40, c1_i32_30⟩
def k1_off5 (k1_t2 : Fin k1_t2_loop.trips) (k1_t3 : Fin k1_t3_loop.trips) (c0_i32_59 : BitVec 32) : Fin 1 → Nat :=
  let c0_i32_14 : BitVec 32 := 0#32
  let c1_i32_15 : BitVec 32 := 1#32
  let arg14 : BitVec 32 := Scf.iv c0_i32_14 c1_i32_15 k1_t2
  let c2_i32_17 : BitVec 32 := 2#32
  let v21 : BitVec 32 := Scalar.remsi arg14 c2_i32_17
  let c8000_i32_58 : BitVec 32 := 8000#32
  let v94 : BitVec 32 := Scalar.muli v21 c8000_i32_58
  let c4_i32 : BitVec 32 := 4#32
  let c0_i32_29 : BitVec 32 := 0#32
  let c1_i32_30 : BitVec 32 := 1#32
  let arg16 : BitVec 32 := Scf.iv c0_i32_29 c1_i32_30 k1_t3
  let v95 : BitVec 32 := Scalar.muli c4_i32 arg16
  let v96 : BitVec 32 := Scalar.addi v95 c0_i32_59
  let c16_i32_60 : BitVec 32 := 16#32
  let v97 : BitVec 32 := Scalar.muli v96 c16_i32_60
  let v98 : BitVec 32 := Scalar.addi v94 v97
  let v99 : Index := Scalar.indexCast v98
  ![v99.toNat]

def k1_chk1 (v187 : IVec S16 32) : Prop :=
  (∀ a x, ((![v187] : Fin 1 → IVec S16 32) a x).toNat < S8032.size a) ∧
  (∀ a x, ((![v187] : Fin 1 → IVec S16 32) a x).toNat < S8032.size a)
theorem k1_idx1_inb : ∀ (v187 : IVec S16 32) (k1_hw1 : k1_chk1 v187), ∀ a x, ((![v187] : Fin 1 → IVec S16 32) a x).toNat < S8032.size a := fun v187 k1_hw1 => k1_hw1.1
theorem k1_idx2_inb : ∀ (v187 : IVec S16 32) (k1_hw1 : k1_chk1 v187), ∀ a x, ((![v187] : Fin 1 → IVec S16 32) a x).toNat < S8032.size a := fun v187 k1_hw1 => k1_hw1.2

def k1_chk2 (v198 : IVec S16 32) : Prop :=
  (∀ a x, ((![v198] : Fin 1 → IVec S16 32) a x).toNat < S8032.size a) ∧
  (∀ a x, ((![v198] : Fin 1 → IVec S16 32) a x).toNat < S8032.size a)
theorem k1_idx3_inb : ∀ (v198 : IVec S16 32) (k1_hw2 : k1_chk2 v198), ∀ a x, ((![v198] : Fin 1 → IVec S16 32) a x).toNat < S8032.size a := fun v198 k1_hw2 => k1_hw2.1
theorem k1_idx4_inb : ∀ (v198 : IVec S16 32) (k1_hw2 : k1_chk2 v198), ∀ a x, ((![v198] : Fin 1 → IVec S16 32) a x).toNat < S8032.size a := fun v198 k1_hw2 => k1_hw2.2

def k1_chk3 (v209 : IVec S16 32) : Prop :=
  (∀ a x, ((![v209] : Fin 1 → IVec S16 32) a x).toNat < S8032.size a) ∧
  (∀ a x, ((![v209] : Fin 1 → IVec S16 32) a x).toNat < S8032.size a)
theorem k1_idx5_inb : ∀ (v209 : IVec S16 32) (k1_hw3 : k1_chk3 v209), ∀ a x, ((![v209] : Fin 1 → IVec S16 32) a x).toNat < S8032.size a := fun v209 k1_hw3 => k1_hw3.1
theorem k1_idx6_inb : ∀ (v209 : IVec S16 32) (k1_hw3 : k1_chk3 v209), ∀ a x, ((![v209] : Fin 1 → IVec S16 32) a x).toNat < S8032.size a := fun v209 k1_hw3 => k1_hw3.2

def k1_chk4 (v220 : IVec S16 32) : Prop :=
  (∀ a x, ((![v220] : Fin 1 → IVec S16 32) a x).toNat < S8032.size a) ∧
  (∀ a x, ((![v220] : Fin 1 → IVec S16 32) a x).toNat < S8032.size a)
theorem k1_idx7_inb : ∀ (v220 : IVec S16 32) (k1_hw4 : k1_chk4 v220), ∀ a x, ((![v220] : Fin 1 → IVec S16 32) a x).toNat < S8032.size a := fun v220 k1_hw4 => k1_hw4.1
theorem k1_idx8_inb : ∀ (v220 : IVec S16 32) (k1_hw4 : k1_chk4 v220), ∀ a x, ((![v220] : Fin 1 → IVec S16 32) a x).toNat < S8032.size a := fun v220 k1_hw4 => k1_hw4.2
def k1_off6 (v41 : BitVec 32) : Fin 1 → Nat :=
  let v43 : Index := Scalar.indexCast v41
  ![v43.toNat]

def k1_off7 (v41 : BitVec 32) : Fin 1 → Nat :=
  let c16_i32 : BitVec 32 := 16#32
  let v46 : BitVec 32 := Scalar.addi v41 c16_i32
  let v47 : Index := Scalar.indexCast v46
  ![v47.toNat]
def k1_off8 : Fin 3 → Nat :=
  let c0_i32_58 : BitVec 32 := 0#32
  let c4_i32 : BitVec 32 := 4#32
  let v94 : BitVec 32 := Scalar.remsi c0_i32_58 c4_i32
  let c0_i32_59 : BitVec 32 := 0#32
  let c0_i32_60 : BitVec 32 := 0#32
  ![v94.toNat, 0, 0]
def k1_off9 : Fin 1 → Nat :=
  let c0_i32_58 : BitVec 32 := 0#32
  let c4_i32 : BitVec 32 := 4#32
  let v94 : BitVec 32 := Scalar.remsi c0_i32_58 c4_i32
  ![v94.toNat]
def k1_off10 : Fin 3 → Nat :=
  let c1_i32_58 : BitVec 32 := 1#32
  let c4_i32 : BitVec 32 := 4#32
  let v94 : BitVec 32 := Scalar.remsi c1_i32_58 c4_i32
  let c0_i32_59 : BitVec 32 := 0#32
  let c0_i32_60 : BitVec 32 := 0#32
  ![v94.toNat, 0, 0]
def k1_off11 : Fin 1 → Nat :=
  let c1_i32_58 : BitVec 32 := 1#32
  let c4_i32 : BitVec 32 := 4#32
  let v94 : BitVec 32 := Scalar.remsi c1_i32_58 c4_i32
  ![v94.toNat]
def k1_off12 : Fin 3 → Nat :=
  let c2_i32_58 : BitVec 32 := 2#32
  let c4_i32 : BitVec 32 := 4#32
  let v94 : BitVec 32 := Scalar.remsi c2_i32_58 c4_i32
  let c0_i32_59 : BitVec 32 := 0#32
  let c0_i32_60 : BitVec 32 := 0#32
  ![v94.toNat, 0, 0]
def k1_off13 : Fin 1 → Nat :=
  let c2_i32_58 : BitVec 32 := 2#32
  let c4_i32 : BitVec 32 := 4#32
  let v94 : BitVec 32 := Scalar.remsi c2_i32_58 c4_i32
  ![v94.toNat]
def k1_off14 : Fin 3 → Nat :=
  let c3_i32_58 : BitVec 32 := 3#32
  let c4_i32 : BitVec 32 := 4#32
  let v94 : BitVec 32 := Scalar.remsi c3_i32_58 c4_i32
  let c0_i32_59 : BitVec 32 := 0#32
  let c0_i32_60 : BitVec 32 := 0#32
  ![v94.toNat, 0, 0]
def k1_off15 : Fin 1 → Nat :=
  let c3_i32_58 : BitVec 32 := 3#32
  let c4_i32 : BitVec 32 := 4#32
  let v94 : BitVec 32 := Scalar.remsi c3_i32_58 c4_i32
  ![v94.toNat]
@[reducible] def k1_t4_loop (v41 : BitVec 32) : Scf.Loop 32 :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_55 : BitVec 32 := 1#32
  ⟨c0_i32_52, v91, c1_i32_55⟩
def k1_off16 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let c0_i32_59 : BitVec 32 := 0#32
  let c0_i32_60 : BitVec 32 := 0#32
  ![v94.toNat, 0, 0]
def k1_off17 (v41 : BitVec 32) (k1_t4 : Fin (k1_t4_loop v41).trips) : Fin 1 → Nat :=
  let c0_i32_52 : BitVec 32 := 0#32
  let c1_i32_55 : BitVec 32 := 1#32
  let arg16 : BitVec 32 := Scf.iv c0_i32_52 c1_i32_55 k1_t4
  let c32_i32_58 : BitVec 32 := 32#32
  let v95 : BitVec 32 := Scalar.muli arg16 c32_i32_58
  ![v95.toNat]
def k1_off18 (v41 : BitVec 32) (k1_t4 : Fin (k1_t4_loop v41).trips) : Fin 1 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  ![v94.toNat]
def k1_off19 (v41 : BitVec 32) (k1_t4 : Fin (k1_t4_loop v41).trips) : Fin 1 → Nat :=
  let c0_i32_52 : BitVec 32 := 0#32
  let c1_i32_55 : BitVec 32 := 1#32
  let arg16 : BitVec 32 := Scf.iv c0_i32_52 c1_i32_55 k1_t4
  let c32_i32_63 : BitVec 32 := 32#32
  let v102 : BitVec 32 := Scalar.muli arg16 c32_i32_63
  let c0_i32_64 : BitVec 32 := 0#32
  let v103 : BitVec 32 := Scalar.addi v102 c0_i32_64
  let v104 : Index := Scalar.indexCast v103
  ![v104.toNat]
def k1_off20 (v107 : BitVec 32) (c0_i32_66 : BitVec 32) : Fin 1 → Nat :=
  let c128_i32_65 : BitVec 32 := 128#32
  let v108 : BitVec 32 := Scalar.muli v107 c128_i32_65
  let v109 : BitVec 32 := Scalar.addi v108 c0_i32_66
  let v110 : Index := Scalar.indexCast v109
  ![v110.toNat]

def k1_chk6 (v107 : BitVec 32) : Prop :=
  (∀ (r : Fin 8), ∀ a, (k1_off20 v107 (BitVec.ofNat 32 (16 * r.val))) a + S16.size a ≤ S40192.size a)
theorem k1_off20_inb : ∀ (v107 : BitVec 32) (k1_hw6 : k1_chk6 v107), ∀ (r : Fin 8), ∀ a, (k1_off20 v107 (BitVec.ofNat 32 (16 * r.val))) a + S16.size a ≤ S40192.size a := fun v107 k1_hw6 r => k1_hw6 r

def k1_off21 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v112 : Index := Scalar.indexCast v94
  let c0_i32_67 : BitVec 32 := 0#32
  let v113 : Index := Scalar.indexCast c0_i32_67
  let c0 : Index := 0#32
  ![v112.toNat, 0, 0]
def k1_off22 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v122 : Index := Scalar.indexCast v94
  let c0_i32_70 : BitVec 32 := 0#32
  let v123 : Index := Scalar.indexCast c0_i32_70
  let c16 : Index := 16#32
  ![v122.toNat, 0, 16]
def k1_off23 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v132 : Index := Scalar.indexCast v94
  let c0_i32_73 : BitVec 32 := 0#32
  let v133 : Index := Scalar.indexCast c0_i32_73
  let c32 : Index := 32#32
  ![v132.toNat, 0, 32]
def k1_off24 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v142 : Index := Scalar.indexCast v94
  let c0_i32_75 : BitVec 32 := 0#32
  let v143 : Index := Scalar.indexCast c0_i32_75
  let c48 : Index := 48#32
  ![v142.toNat, 0, 48]
def k1_off25 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v152 : Index := Scalar.indexCast v94
  let c0_i32_77 : BitVec 32 := 0#32
  let v153 : Index := Scalar.indexCast c0_i32_77
  let c64 : Index := 64#32
  ![v152.toNat, 0, 64]
def k1_off26 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v162 : Index := Scalar.indexCast v94
  let c0_i32_79 : BitVec 32 := 0#32
  let v163 : Index := Scalar.indexCast c0_i32_79
  let c80 : Index := 80#32
  ![v162.toNat, 0, 80]
def k1_off27 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v172 : Index := Scalar.indexCast v94
  let c0_i32_81 : BitVec 32 := 0#32
  let v173 : Index := Scalar.indexCast c0_i32_81
  let c96 : Index := 96#32
  ![v172.toNat, 0, 96]
def k1_off28 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v182 : Index := Scalar.indexCast v94
  let c0_i32_83 : BitVec 32 := 0#32
  let v183 : Index := Scalar.indexCast c0_i32_83
  let c112 : Index := 112#32
  ![v182.toNat, 0, 112]
def k1_off29 (v190 : BitVec 32) (c0_i32_86 : BitVec 32) : Fin 1 → Nat :=
  let c128_i32_85 : BitVec 32 := 128#32
  let v191 : BitVec 32 := Scalar.muli v190 c128_i32_85
  let v192 : BitVec 32 := Scalar.addi v191 c0_i32_86
  let v193 : Index := Scalar.indexCast v192
  ![v193.toNat]

def k1_chk7 (v190 : BitVec 32) : Prop :=
  (∀ (r : Fin 8), ∀ a, (k1_off29 v190 (BitVec.ofNat 32 (16 * r.val))) a + S16.size a ≤ S40192.size a)
theorem k1_off29_inb : ∀ (v190 : BitVec 32) (k1_hw7 : k1_chk7 v190), ∀ (r : Fin 8), ∀ a, (k1_off29 v190 (BitVec.ofNat 32 (16 * r.val))) a + S16.size a ≤ S40192.size a := fun v190 k1_hw7 r => k1_hw7 r

def k1_off30 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v195 : Index := Scalar.indexCast v94
  let c1_i32_87 : BitVec 32 := 1#32
  let v196 : Index := Scalar.indexCast c1_i32_87
  let c0_88 : Index := 0#32
  ![v195.toNat, 1, 0]
def k1_off31 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v205 : Index := Scalar.indexCast v94
  let c1_i32_91 : BitVec 32 := 1#32
  let v206 : Index := Scalar.indexCast c1_i32_91
  let c16_92 : Index := 16#32
  ![v205.toNat, 1, 16]
def k1_off32 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v215 : Index := Scalar.indexCast v94
  let c1_i32_95 : BitVec 32 := 1#32
  let v216 : Index := Scalar.indexCast c1_i32_95
  let c32_96 : Index := 32#32
  ![v215.toNat, 1, 32]
def k1_off33 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v225 : Index := Scalar.indexCast v94
  let c1_i32_99 : BitVec 32 := 1#32
  let v226 : Index := Scalar.indexCast c1_i32_99
  let c48_100 : Index := 48#32
  ![v225.toNat, 1, 48]
def k1_off34 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v235 : Index := Scalar.indexCast v94
  let c1_i32_103 : BitVec 32 := 1#32
  let v236 : Index := Scalar.indexCast c1_i32_103
  let c64_104 : Index := 64#32
  ![v235.toNat, 1, 64]
def k1_off35 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v245 : Index := Scalar.indexCast v94
  let c1_i32_107 : BitVec 32 := 1#32
  let v246 : Index := Scalar.indexCast c1_i32_107
  let c80_108 : Index := 80#32
  ![v245.toNat, 1, 80]
def k1_off36 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v255 : Index := Scalar.indexCast v94
  let c1_i32_111 : BitVec 32 := 1#32
  let v256 : Index := Scalar.indexCast c1_i32_111
  let c96_112 : Index := 96#32
  ![v255.toNat, 1, 96]
def k1_off37 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v265 : Index := Scalar.indexCast v94
  let c1_i32_115 : BitVec 32 := 1#32
  let v266 : Index := Scalar.indexCast c1_i32_115
  let c112_116 : Index := 112#32
  ![v265.toNat, 1, 112]
def k1_off38 (v273 : BitVec 32) (c0_i32_119 : BitVec 32) : Fin 1 → Nat :=
  let c128_i32_118 : BitVec 32 := 128#32
  let v274 : BitVec 32 := Scalar.muli v273 c128_i32_118
  let v275 : BitVec 32 := Scalar.addi v274 c0_i32_119
  let v276 : Index := Scalar.indexCast v275
  ![v276.toNat]

def k1_chk8 (v273 : BitVec 32) : Prop :=
  (∀ (r : Fin 8), ∀ a, (k1_off38 v273 (BitVec.ofNat 32 (16 * r.val))) a + S16.size a ≤ S40192.size a)
theorem k1_off38_inb : ∀ (v273 : BitVec 32) (k1_hw8 : k1_chk8 v273), ∀ (r : Fin 8), ∀ a, (k1_off38 v273 (BitVec.ofNat 32 (16 * r.val))) a + S16.size a ≤ S40192.size a := fun v273 k1_hw8 r => k1_hw8 r

def k1_off39 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v278 : Index := Scalar.indexCast v94
  let c2_i32_120 : BitVec 32 := 2#32
  let v279 : Index := Scalar.indexCast c2_i32_120
  let c0_121 : Index := 0#32
  ![v278.toNat, 2, 0]
def k1_off40 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v288 : Index := Scalar.indexCast v94
  let c2_i32_124 : BitVec 32 := 2#32
  let v289 : Index := Scalar.indexCast c2_i32_124
  let c16_125 : Index := 16#32
  ![v288.toNat, 2, 16]
def k1_off41 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v298 : Index := Scalar.indexCast v94
  let c2_i32_128 : BitVec 32 := 2#32
  let v299 : Index := Scalar.indexCast c2_i32_128
  let c32_129 : Index := 32#32
  ![v298.toNat, 2, 32]
def k1_off42 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v308 : Index := Scalar.indexCast v94
  let c2_i32_132 : BitVec 32 := 2#32
  let v309 : Index := Scalar.indexCast c2_i32_132
  let c48_133 : Index := 48#32
  ![v308.toNat, 2, 48]
def k1_off43 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v318 : Index := Scalar.indexCast v94
  let c2_i32_136 : BitVec 32 := 2#32
  let v319 : Index := Scalar.indexCast c2_i32_136
  let c64_137 : Index := 64#32
  ![v318.toNat, 2, 64]
def k1_off44 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v328 : Index := Scalar.indexCast v94
  let c2_i32_140 : BitVec 32 := 2#32
  let v329 : Index := Scalar.indexCast c2_i32_140
  let c80_141 : Index := 80#32
  ![v328.toNat, 2, 80]
def k1_off45 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v338 : Index := Scalar.indexCast v94
  let c2_i32_144 : BitVec 32 := 2#32
  let v339 : Index := Scalar.indexCast c2_i32_144
  let c96_145 : Index := 96#32
  ![v338.toNat, 2, 96]
def k1_off46 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v348 : Index := Scalar.indexCast v94
  let c2_i32_148 : BitVec 32 := 2#32
  let v349 : Index := Scalar.indexCast c2_i32_148
  let c112_149 : Index := 112#32
  ![v348.toNat, 2, 112]
def k1_off47 (v356 : BitVec 32) (c0_i32_152 : BitVec 32) : Fin 1 → Nat :=
  let c128_i32_151 : BitVec 32 := 128#32
  let v357 : BitVec 32 := Scalar.muli v356 c128_i32_151
  let v358 : BitVec 32 := Scalar.addi v357 c0_i32_152
  let v359 : Index := Scalar.indexCast v358
  ![v359.toNat]

def k1_chk9 (v356 : BitVec 32) : Prop :=
  (∀ (r : Fin 8), ∀ a, (k1_off47 v356 (BitVec.ofNat 32 (16 * r.val))) a + S16.size a ≤ S40192.size a)
theorem k1_off47_inb : ∀ (v356 : BitVec 32) (k1_hw9 : k1_chk9 v356), ∀ (r : Fin 8), ∀ a, (k1_off47 v356 (BitVec.ofNat 32 (16 * r.val))) a + S16.size a ≤ S40192.size a := fun v356 k1_hw9 r => k1_hw9 r

def k1_off48 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v361 : Index := Scalar.indexCast v94
  let c3_i32_153 : BitVec 32 := 3#32
  let v362 : Index := Scalar.indexCast c3_i32_153
  let c0_154 : Index := 0#32
  ![v361.toNat, 3, 0]
def k1_off49 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v371 : Index := Scalar.indexCast v94
  let c3_i32_157 : BitVec 32 := 3#32
  let v372 : Index := Scalar.indexCast c3_i32_157
  let c16_158 : Index := 16#32
  ![v371.toNat, 3, 16]
def k1_off50 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v381 : Index := Scalar.indexCast v94
  let c3_i32_161 : BitVec 32 := 3#32
  let v382 : Index := Scalar.indexCast c3_i32_161
  let c32_162 : Index := 32#32
  ![v381.toNat, 3, 32]
def k1_off51 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v391 : Index := Scalar.indexCast v94
  let c3_i32_165 : BitVec 32 := 3#32
  let v392 : Index := Scalar.indexCast c3_i32_165
  let c48_166 : Index := 48#32
  ![v391.toNat, 3, 48]
def k1_off52 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v401 : Index := Scalar.indexCast v94
  let c3_i32_169 : BitVec 32 := 3#32
  let v402 : Index := Scalar.indexCast c3_i32_169
  let c64_170 : Index := 64#32
  ![v401.toNat, 3, 64]
def k1_off53 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v411 : Index := Scalar.indexCast v94
  let c3_i32_173 : BitVec 32 := 3#32
  let v412 : Index := Scalar.indexCast c3_i32_173
  let c80_174 : Index := 80#32
  ![v411.toNat, 3, 80]
def k1_off54 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v421 : Index := Scalar.indexCast v94
  let c3_i32_177 : BitVec 32 := 3#32
  let v422 : Index := Scalar.indexCast c3_i32_177
  let c96_178 : Index := 96#32
  ![v421.toNat, 3, 96]
def k1_off55 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v431 : Index := Scalar.indexCast v94
  let c3_i32_181 : BitVec 32 := 3#32
  let v432 : Index := Scalar.indexCast c3_i32_181
  let c112_182 : Index := 112#32
  ![v431.toNat, 3, 112]
def k1_off56 (v439 : BitVec 32) (c0_i32_185 : BitVec 32) : Fin 1 → Nat :=
  let c128_i32_184 : BitVec 32 := 128#32
  let v440 : BitVec 32 := Scalar.muli v439 c128_i32_184
  let v441 : BitVec 32 := Scalar.addi v440 c0_i32_185
  let v442 : Index := Scalar.indexCast v441
  ![v442.toNat]

def k1_chk10 (v439 : BitVec 32) : Prop :=
  (∀ (r : Fin 8), ∀ a, (k1_off56 v439 (BitVec.ofNat 32 (16 * r.val))) a + S16.size a ≤ S40192.size a)
theorem k1_off56_inb : ∀ (v439 : BitVec 32) (k1_hw10 : k1_chk10 v439), ∀ (r : Fin 8), ∀ a, (k1_off56 v439 (BitVec.ofNat 32 (16 * r.val))) a + S16.size a ≤ S40192.size a := fun v439 k1_hw10 r => k1_hw10 r

def k1_off57 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v444 : Index := Scalar.indexCast v94
  let c4_i32_186 : BitVec 32 := 4#32
  let v445 : Index := Scalar.indexCast c4_i32_186
  let c0_187 : Index := 0#32
  ![v444.toNat, 4, 0]
def k1_off58 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v454 : Index := Scalar.indexCast v94
  let c4_i32_190 : BitVec 32 := 4#32
  let v455 : Index := Scalar.indexCast c4_i32_190
  let c16_191 : Index := 16#32
  ![v454.toNat, 4, 16]
def k1_off59 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v464 : Index := Scalar.indexCast v94
  let c4_i32_194 : BitVec 32 := 4#32
  let v465 : Index := Scalar.indexCast c4_i32_194
  let c32_195 : Index := 32#32
  ![v464.toNat, 4, 32]
def k1_off60 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v474 : Index := Scalar.indexCast v94
  let c4_i32_198 : BitVec 32 := 4#32
  let v475 : Index := Scalar.indexCast c4_i32_198
  let c48_199 : Index := 48#32
  ![v474.toNat, 4, 48]
def k1_off61 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v484 : Index := Scalar.indexCast v94
  let c4_i32_202 : BitVec 32 := 4#32
  let v485 : Index := Scalar.indexCast c4_i32_202
  let c64_203 : Index := 64#32
  ![v484.toNat, 4, 64]
def k1_off62 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v494 : Index := Scalar.indexCast v94
  let c4_i32_206 : BitVec 32 := 4#32
  let v495 : Index := Scalar.indexCast c4_i32_206
  let c80_207 : Index := 80#32
  ![v494.toNat, 4, 80]
def k1_off63 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v504 : Index := Scalar.indexCast v94
  let c4_i32_210 : BitVec 32 := 4#32
  let v505 : Index := Scalar.indexCast c4_i32_210
  let c96_211 : Index := 96#32
  ![v504.toNat, 4, 96]
def k1_off64 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v514 : Index := Scalar.indexCast v94
  let c4_i32_214 : BitVec 32 := 4#32
  let v515 : Index := Scalar.indexCast c4_i32_214
  let c112_215 : Index := 112#32
  ![v514.toNat, 4, 112]
def k1_off65 (v522 : BitVec 32) (c0_i32_218 : BitVec 32) : Fin 1 → Nat :=
  let c128_i32_217 : BitVec 32 := 128#32
  let v523 : BitVec 32 := Scalar.muli v522 c128_i32_217
  let v524 : BitVec 32 := Scalar.addi v523 c0_i32_218
  let v525 : Index := Scalar.indexCast v524
  ![v525.toNat]

def k1_chk11 (v522 : BitVec 32) : Prop :=
  (∀ (r : Fin 8), ∀ a, (k1_off65 v522 (BitVec.ofNat 32 (16 * r.val))) a + S16.size a ≤ S40192.size a)
theorem k1_off65_inb : ∀ (v522 : BitVec 32) (k1_hw11 : k1_chk11 v522), ∀ (r : Fin 8), ∀ a, (k1_off65 v522 (BitVec.ofNat 32 (16 * r.val))) a + S16.size a ≤ S40192.size a := fun v522 k1_hw11 r => k1_hw11 r

def k1_off66 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v527 : Index := Scalar.indexCast v94
  let c5_i32 : BitVec 32 := 5#32
  let v528 : Index := Scalar.indexCast c5_i32
  let c0_219 : Index := 0#32
  ![v527.toNat, 5, 0]
def k1_off67 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v537 : Index := Scalar.indexCast v94
  let c5_i32_222 : BitVec 32 := 5#32
  let v538 : Index := Scalar.indexCast c5_i32_222
  let c16_223 : Index := 16#32
  ![v537.toNat, 5, 16]
def k1_off68 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v547 : Index := Scalar.indexCast v94
  let c5_i32_226 : BitVec 32 := 5#32
  let v548 : Index := Scalar.indexCast c5_i32_226
  let c32_227 : Index := 32#32
  ![v547.toNat, 5, 32]
def k1_off69 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v557 : Index := Scalar.indexCast v94
  let c5_i32_230 : BitVec 32 := 5#32
  let v558 : Index := Scalar.indexCast c5_i32_230
  let c48_231 : Index := 48#32
  ![v557.toNat, 5, 48]
def k1_off70 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v567 : Index := Scalar.indexCast v94
  let c5_i32_234 : BitVec 32 := 5#32
  let v568 : Index := Scalar.indexCast c5_i32_234
  let c64_235 : Index := 64#32
  ![v567.toNat, 5, 64]
def k1_off71 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v577 : Index := Scalar.indexCast v94
  let c5_i32_238 : BitVec 32 := 5#32
  let v578 : Index := Scalar.indexCast c5_i32_238
  let c80_239 : Index := 80#32
  ![v577.toNat, 5, 80]
def k1_off72 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v587 : Index := Scalar.indexCast v94
  let c5_i32_242 : BitVec 32 := 5#32
  let v588 : Index := Scalar.indexCast c5_i32_242
  let c96_243 : Index := 96#32
  ![v587.toNat, 5, 96]
def k1_off73 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v597 : Index := Scalar.indexCast v94
  let c5_i32_246 : BitVec 32 := 5#32
  let v598 : Index := Scalar.indexCast c5_i32_246
  let c112_247 : Index := 112#32
  ![v597.toNat, 5, 112]
def k1_off74 (v605 : BitVec 32) (c0_i32_250 : BitVec 32) : Fin 1 → Nat :=
  let c128_i32_249 : BitVec 32 := 128#32
  let v606 : BitVec 32 := Scalar.muli v605 c128_i32_249
  let v607 : BitVec 32 := Scalar.addi v606 c0_i32_250
  let v608 : Index := Scalar.indexCast v607
  ![v608.toNat]

def k1_chk12 (v605 : BitVec 32) : Prop :=
  (∀ (r : Fin 8), ∀ a, (k1_off74 v605 (BitVec.ofNat 32 (16 * r.val))) a + S16.size a ≤ S40192.size a)
theorem k1_off74_inb : ∀ (v605 : BitVec 32) (k1_hw12 : k1_chk12 v605), ∀ (r : Fin 8), ∀ a, (k1_off74 v605 (BitVec.ofNat 32 (16 * r.val))) a + S16.size a ≤ S40192.size a := fun v605 k1_hw12 r => k1_hw12 r

def k1_off75 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v610 : Index := Scalar.indexCast v94
  let c6_i32 : BitVec 32 := 6#32
  let v611 : Index := Scalar.indexCast c6_i32
  let c0_251 : Index := 0#32
  ![v610.toNat, 6, 0]
def k1_off76 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v620 : Index := Scalar.indexCast v94
  let c6_i32_254 : BitVec 32 := 6#32
  let v621 : Index := Scalar.indexCast c6_i32_254
  let c16_255 : Index := 16#32
  ![v620.toNat, 6, 16]
def k1_off77 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v630 : Index := Scalar.indexCast v94
  let c6_i32_258 : BitVec 32 := 6#32
  let v631 : Index := Scalar.indexCast c6_i32_258
  let c32_259 : Index := 32#32
  ![v630.toNat, 6, 32]
def k1_off78 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v640 : Index := Scalar.indexCast v94
  let c6_i32_262 : BitVec 32 := 6#32
  let v641 : Index := Scalar.indexCast c6_i32_262
  let c48_263 : Index := 48#32
  ![v640.toNat, 6, 48]
def k1_off79 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v650 : Index := Scalar.indexCast v94
  let c6_i32_266 : BitVec 32 := 6#32
  let v651 : Index := Scalar.indexCast c6_i32_266
  let c64_267 : Index := 64#32
  ![v650.toNat, 6, 64]
def k1_off80 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v660 : Index := Scalar.indexCast v94
  let c6_i32_270 : BitVec 32 := 6#32
  let v661 : Index := Scalar.indexCast c6_i32_270
  let c80_271 : Index := 80#32
  ![v660.toNat, 6, 80]
def k1_off81 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v670 : Index := Scalar.indexCast v94
  let c6_i32_274 : BitVec 32 := 6#32
  let v671 : Index := Scalar.indexCast c6_i32_274
  let c96_275 : Index := 96#32
  ![v670.toNat, 6, 96]
def k1_off82 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v680 : Index := Scalar.indexCast v94
  let c6_i32_278 : BitVec 32 := 6#32
  let v681 : Index := Scalar.indexCast c6_i32_278
  let c112_279 : Index := 112#32
  ![v680.toNat, 6, 112]
def k1_off83 (v688 : BitVec 32) (c0_i32_282 : BitVec 32) : Fin 1 → Nat :=
  let c128_i32_281 : BitVec 32 := 128#32
  let v689 : BitVec 32 := Scalar.muli v688 c128_i32_281
  let v690 : BitVec 32 := Scalar.addi v689 c0_i32_282
  let v691 : Index := Scalar.indexCast v690
  ![v691.toNat]

def k1_chk13 (v688 : BitVec 32) : Prop :=
  (∀ (r : Fin 8), ∀ a, (k1_off83 v688 (BitVec.ofNat 32 (16 * r.val))) a + S16.size a ≤ S40192.size a)
theorem k1_off83_inb : ∀ (v688 : BitVec 32) (k1_hw13 : k1_chk13 v688), ∀ (r : Fin 8), ∀ a, (k1_off83 v688 (BitVec.ofNat 32 (16 * r.val))) a + S16.size a ≤ S40192.size a := fun v688 k1_hw13 r => k1_hw13 r

def k1_off84 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v693 : Index := Scalar.indexCast v94
  let c7_i32 : BitVec 32 := 7#32
  let v694 : Index := Scalar.indexCast c7_i32
  let c0_283 : Index := 0#32
  ![v693.toNat, 7, 0]
def k1_off85 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v703 : Index := Scalar.indexCast v94
  let c7_i32_286 : BitVec 32 := 7#32
  let v704 : Index := Scalar.indexCast c7_i32_286
  let c16_287 : Index := 16#32
  ![v703.toNat, 7, 16]
def k1_off86 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v713 : Index := Scalar.indexCast v94
  let c7_i32_290 : BitVec 32 := 7#32
  let v714 : Index := Scalar.indexCast c7_i32_290
  let c32_291 : Index := 32#32
  ![v713.toNat, 7, 32]
def k1_off87 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v723 : Index := Scalar.indexCast v94
  let c7_i32_294 : BitVec 32 := 7#32
  let v724 : Index := Scalar.indexCast c7_i32_294
  let c48_295 : Index := 48#32
  ![v723.toNat, 7, 48]
def k1_off88 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v733 : Index := Scalar.indexCast v94
  let c7_i32_298 : BitVec 32 := 7#32
  let v734 : Index := Scalar.indexCast c7_i32_298
  let c64_299 : Index := 64#32
  ![v733.toNat, 7, 64]
def k1_off89 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v743 : Index := Scalar.indexCast v94
  let c7_i32_302 : BitVec 32 := 7#32
  let v744 : Index := Scalar.indexCast c7_i32_302
  let c80_303 : Index := 80#32
  ![v743.toNat, 7, 80]
def k1_off90 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v753 : Index := Scalar.indexCast v94
  let c7_i32_306 : BitVec 32 := 7#32
  let v754 : Index := Scalar.indexCast c7_i32_306
  let c96_307 : Index := 96#32
  ![v753.toNat, 7, 96]
def k1_off91 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v763 : Index := Scalar.indexCast v94
  let c7_i32_310 : BitVec 32 := 7#32
  let v764 : Index := Scalar.indexCast c7_i32_310
  let c112_311 : Index := 112#32
  ![v763.toNat, 7, 112]
def k1_off92 (v771 : BitVec 32) (c0_i32_314 : BitVec 32) : Fin 1 → Nat :=
  let c128_i32_313 : BitVec 32 := 128#32
  let v772 : BitVec 32 := Scalar.muli v771 c128_i32_313
  let v773 : BitVec 32 := Scalar.addi v772 c0_i32_314
  let v774 : Index := Scalar.indexCast v773
  ![v774.toNat]

def k1_chk14 (v771 : BitVec 32) : Prop :=
  (∀ (r : Fin 8), ∀ a, (k1_off92 v771 (BitVec.ofNat 32 (16 * r.val))) a + S16.size a ≤ S40192.size a)
theorem k1_off92_inb : ∀ (v771 : BitVec 32) (k1_hw14 : k1_chk14 v771), ∀ (r : Fin 8), ∀ a, (k1_off92 v771 (BitVec.ofNat 32 (16 * r.val))) a + S16.size a ≤ S40192.size a := fun v771 k1_hw14 r => k1_hw14 r

def k1_off93 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v776 : Index := Scalar.indexCast v94
  let c8_i32 : BitVec 32 := 8#32
  let v777 : Index := Scalar.indexCast c8_i32
  let c0_315 : Index := 0#32
  ![v776.toNat, 8, 0]
def k1_off94 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v786 : Index := Scalar.indexCast v94
  let c8_i32_318 : BitVec 32 := 8#32
  let v787 : Index := Scalar.indexCast c8_i32_318
  let c16_319 : Index := 16#32
  ![v786.toNat, 8, 16]
def k1_off95 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v796 : Index := Scalar.indexCast v94
  let c8_i32_322 : BitVec 32 := 8#32
  let v797 : Index := Scalar.indexCast c8_i32_322
  let c32_323 : Index := 32#32
  ![v796.toNat, 8, 32]
def k1_off96 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v806 : Index := Scalar.indexCast v94
  let c8_i32_326 : BitVec 32 := 8#32
  let v807 : Index := Scalar.indexCast c8_i32_326
  let c48_327 : Index := 48#32
  ![v806.toNat, 8, 48]
def k1_off97 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v816 : Index := Scalar.indexCast v94
  let c8_i32_330 : BitVec 32 := 8#32
  let v817 : Index := Scalar.indexCast c8_i32_330
  let c64_331 : Index := 64#32
  ![v816.toNat, 8, 64]
def k1_off98 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v826 : Index := Scalar.indexCast v94
  let c8_i32_334 : BitVec 32 := 8#32
  let v827 : Index := Scalar.indexCast c8_i32_334
  let c80_335 : Index := 80#32
  ![v826.toNat, 8, 80]
def k1_off99 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v836 : Index := Scalar.indexCast v94
  let c8_i32_338 : BitVec 32 := 8#32
  let v837 : Index := Scalar.indexCast c8_i32_338
  let c96_339 : Index := 96#32
  ![v836.toNat, 8, 96]
def k1_off100 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v846 : Index := Scalar.indexCast v94
  let c8_i32_342 : BitVec 32 := 8#32
  let v847 : Index := Scalar.indexCast c8_i32_342
  let c112_343 : Index := 112#32
  ![v846.toNat, 8, 112]
def k1_off101 (v854 : BitVec 32) (c0_i32_346 : BitVec 32) : Fin 1 → Nat :=
  let c128_i32_345 : BitVec 32 := 128#32
  let v855 : BitVec 32 := Scalar.muli v854 c128_i32_345
  let v856 : BitVec 32 := Scalar.addi v855 c0_i32_346
  let v857 : Index := Scalar.indexCast v856
  ![v857.toNat]

def k1_chk15 (v854 : BitVec 32) : Prop :=
  (∀ (r : Fin 8), ∀ a, (k1_off101 v854 (BitVec.ofNat 32 (16 * r.val))) a + S16.size a ≤ S40192.size a)
theorem k1_off101_inb : ∀ (v854 : BitVec 32) (k1_hw15 : k1_chk15 v854), ∀ (r : Fin 8), ∀ a, (k1_off101 v854 (BitVec.ofNat 32 (16 * r.val))) a + S16.size a ≤ S40192.size a := fun v854 k1_hw15 r => k1_hw15 r

def k1_off102 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v859 : Index := Scalar.indexCast v94
  let c9_i32 : BitVec 32 := 9#32
  let v860 : Index := Scalar.indexCast c9_i32
  let c0_347 : Index := 0#32
  ![v859.toNat, 9, 0]
def k1_off103 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v869 : Index := Scalar.indexCast v94
  let c9_i32_350 : BitVec 32 := 9#32
  let v870 : Index := Scalar.indexCast c9_i32_350
  let c16_351 : Index := 16#32
  ![v869.toNat, 9, 16]
def k1_off104 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v879 : Index := Scalar.indexCast v94
  let c9_i32_354 : BitVec 32 := 9#32
  let v880 : Index := Scalar.indexCast c9_i32_354
  let c32_355 : Index := 32#32
  ![v879.toNat, 9, 32]
def k1_off105 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v889 : Index := Scalar.indexCast v94
  let c9_i32_358 : BitVec 32 := 9#32
  let v890 : Index := Scalar.indexCast c9_i32_358
  let c48_359 : Index := 48#32
  ![v889.toNat, 9, 48]
def k1_off106 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v899 : Index := Scalar.indexCast v94
  let c9_i32_362 : BitVec 32 := 9#32
  let v900 : Index := Scalar.indexCast c9_i32_362
  let c64_363 : Index := 64#32
  ![v899.toNat, 9, 64]
def k1_off107 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v909 : Index := Scalar.indexCast v94
  let c9_i32_366 : BitVec 32 := 9#32
  let v910 : Index := Scalar.indexCast c9_i32_366
  let c80_367 : Index := 80#32
  ![v909.toNat, 9, 80]
def k1_off108 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v919 : Index := Scalar.indexCast v94
  let c9_i32_370 : BitVec 32 := 9#32
  let v920 : Index := Scalar.indexCast c9_i32_370
  let c96_371 : Index := 96#32
  ![v919.toNat, 9, 96]
def k1_off109 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v929 : Index := Scalar.indexCast v94
  let c9_i32_374 : BitVec 32 := 9#32
  let v930 : Index := Scalar.indexCast c9_i32_374
  let c112_375 : Index := 112#32
  ![v929.toNat, 9, 112]
def k1_off110 (v937 : BitVec 32) (c0_i32_378 : BitVec 32) : Fin 1 → Nat :=
  let c128_i32_377 : BitVec 32 := 128#32
  let v938 : BitVec 32 := Scalar.muli v937 c128_i32_377
  let v939 : BitVec 32 := Scalar.addi v938 c0_i32_378
  let v940 : Index := Scalar.indexCast v939
  ![v940.toNat]

def k1_chk16 (v937 : BitVec 32) : Prop :=
  (∀ (r : Fin 8), ∀ a, (k1_off110 v937 (BitVec.ofNat 32 (16 * r.val))) a + S16.size a ≤ S40192.size a)
theorem k1_off110_inb : ∀ (v937 : BitVec 32) (k1_hw16 : k1_chk16 v937), ∀ (r : Fin 8), ∀ a, (k1_off110 v937 (BitVec.ofNat 32 (16 * r.val))) a + S16.size a ≤ S40192.size a := fun v937 k1_hw16 r => k1_hw16 r

def k1_off111 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v942 : Index := Scalar.indexCast v94
  let c10_i32 : BitVec 32 := 10#32
  let v943 : Index := Scalar.indexCast c10_i32
  let c0_379 : Index := 0#32
  ![v942.toNat, 10, 0]
def k1_off112 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v952 : Index := Scalar.indexCast v94
  let c10_i32_382 : BitVec 32 := 10#32
  let v953 : Index := Scalar.indexCast c10_i32_382
  let c16_383 : Index := 16#32
  ![v952.toNat, 10, 16]
def k1_off113 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v962 : Index := Scalar.indexCast v94
  let c10_i32_386 : BitVec 32 := 10#32
  let v963 : Index := Scalar.indexCast c10_i32_386
  let c32_387 : Index := 32#32
  ![v962.toNat, 10, 32]
def k1_off114 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v972 : Index := Scalar.indexCast v94
  let c10_i32_390 : BitVec 32 := 10#32
  let v973 : Index := Scalar.indexCast c10_i32_390
  let c48_391 : Index := 48#32
  ![v972.toNat, 10, 48]
def k1_off115 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v982 : Index := Scalar.indexCast v94
  let c10_i32_394 : BitVec 32 := 10#32
  let v983 : Index := Scalar.indexCast c10_i32_394
  let c64_395 : Index := 64#32
  ![v982.toNat, 10, 64]
def k1_off116 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v992 : Index := Scalar.indexCast v94
  let c10_i32_398 : BitVec 32 := 10#32
  let v993 : Index := Scalar.indexCast c10_i32_398
  let c80_399 : Index := 80#32
  ![v992.toNat, 10, 80]
def k1_off117 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1002 : Index := Scalar.indexCast v94
  let c10_i32_402 : BitVec 32 := 10#32
  let v1003 : Index := Scalar.indexCast c10_i32_402
  let c96_403 : Index := 96#32
  ![v1002.toNat, 10, 96]
def k1_off118 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1012 : Index := Scalar.indexCast v94
  let c10_i32_406 : BitVec 32 := 10#32
  let v1013 : Index := Scalar.indexCast c10_i32_406
  let c112_407 : Index := 112#32
  ![v1012.toNat, 10, 112]
def k1_off119 (v1020 : BitVec 32) (c0_i32_410 : BitVec 32) : Fin 1 → Nat :=
  let c128_i32_409 : BitVec 32 := 128#32
  let v1021 : BitVec 32 := Scalar.muli v1020 c128_i32_409
  let v1022 : BitVec 32 := Scalar.addi v1021 c0_i32_410
  let v1023 : Index := Scalar.indexCast v1022
  ![v1023.toNat]

def k1_chk17 (v1020 : BitVec 32) : Prop :=
  (∀ (r : Fin 8), ∀ a, (k1_off119 v1020 (BitVec.ofNat 32 (16 * r.val))) a + S16.size a ≤ S40192.size a)
theorem k1_off119_inb : ∀ (v1020 : BitVec 32) (k1_hw17 : k1_chk17 v1020), ∀ (r : Fin 8), ∀ a, (k1_off119 v1020 (BitVec.ofNat 32 (16 * r.val))) a + S16.size a ≤ S40192.size a := fun v1020 k1_hw17 r => k1_hw17 r

def k1_off120 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1025 : Index := Scalar.indexCast v94
  let c11_i32 : BitVec 32 := 11#32
  let v1026 : Index := Scalar.indexCast c11_i32
  let c0_411 : Index := 0#32
  ![v1025.toNat, 11, 0]
def k1_off121 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1035 : Index := Scalar.indexCast v94
  let c11_i32_414 : BitVec 32 := 11#32
  let v1036 : Index := Scalar.indexCast c11_i32_414
  let c16_415 : Index := 16#32
  ![v1035.toNat, 11, 16]
def k1_off122 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1045 : Index := Scalar.indexCast v94
  let c11_i32_418 : BitVec 32 := 11#32
  let v1046 : Index := Scalar.indexCast c11_i32_418
  let c32_419 : Index := 32#32
  ![v1045.toNat, 11, 32]
def k1_off123 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1055 : Index := Scalar.indexCast v94
  let c11_i32_422 : BitVec 32 := 11#32
  let v1056 : Index := Scalar.indexCast c11_i32_422
  let c48_423 : Index := 48#32
  ![v1055.toNat, 11, 48]
def k1_off124 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1065 : Index := Scalar.indexCast v94
  let c11_i32_426 : BitVec 32 := 11#32
  let v1066 : Index := Scalar.indexCast c11_i32_426
  let c64_427 : Index := 64#32
  ![v1065.toNat, 11, 64]
def k1_off125 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1075 : Index := Scalar.indexCast v94
  let c11_i32_430 : BitVec 32 := 11#32
  let v1076 : Index := Scalar.indexCast c11_i32_430
  let c80_431 : Index := 80#32
  ![v1075.toNat, 11, 80]
def k1_off126 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1085 : Index := Scalar.indexCast v94
  let c11_i32_434 : BitVec 32 := 11#32
  let v1086 : Index := Scalar.indexCast c11_i32_434
  let c96_435 : Index := 96#32
  ![v1085.toNat, 11, 96]
def k1_off127 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1095 : Index := Scalar.indexCast v94
  let c11_i32_438 : BitVec 32 := 11#32
  let v1096 : Index := Scalar.indexCast c11_i32_438
  let c112_439 : Index := 112#32
  ![v1095.toNat, 11, 112]
def k1_off128 (v1103 : BitVec 32) (c0_i32_442 : BitVec 32) : Fin 1 → Nat :=
  let c128_i32_441 : BitVec 32 := 128#32
  let v1104 : BitVec 32 := Scalar.muli v1103 c128_i32_441
  let v1105 : BitVec 32 := Scalar.addi v1104 c0_i32_442
  let v1106 : Index := Scalar.indexCast v1105
  ![v1106.toNat]

def k1_chk18 (v1103 : BitVec 32) : Prop :=
  (∀ (r : Fin 8), ∀ a, (k1_off128 v1103 (BitVec.ofNat 32 (16 * r.val))) a + S16.size a ≤ S40192.size a)
theorem k1_off128_inb : ∀ (v1103 : BitVec 32) (k1_hw18 : k1_chk18 v1103), ∀ (r : Fin 8), ∀ a, (k1_off128 v1103 (BitVec.ofNat 32 (16 * r.val))) a + S16.size a ≤ S40192.size a := fun v1103 k1_hw18 r => k1_hw18 r

def k1_off129 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1108 : Index := Scalar.indexCast v94
  let c12_i32 : BitVec 32 := 12#32
  let v1109 : Index := Scalar.indexCast c12_i32
  let c0_443 : Index := 0#32
  ![v1108.toNat, 12, 0]
def k1_off130 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1118 : Index := Scalar.indexCast v94
  let c12_i32_446 : BitVec 32 := 12#32
  let v1119 : Index := Scalar.indexCast c12_i32_446
  let c16_447 : Index := 16#32
  ![v1118.toNat, 12, 16]
def k1_off131 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1128 : Index := Scalar.indexCast v94
  let c12_i32_450 : BitVec 32 := 12#32
  let v1129 : Index := Scalar.indexCast c12_i32_450
  let c32_451 : Index := 32#32
  ![v1128.toNat, 12, 32]
def k1_off132 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1138 : Index := Scalar.indexCast v94
  let c12_i32_454 : BitVec 32 := 12#32
  let v1139 : Index := Scalar.indexCast c12_i32_454
  let c48_455 : Index := 48#32
  ![v1138.toNat, 12, 48]
def k1_off133 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1148 : Index := Scalar.indexCast v94
  let c12_i32_458 : BitVec 32 := 12#32
  let v1149 : Index := Scalar.indexCast c12_i32_458
  let c64_459 : Index := 64#32
  ![v1148.toNat, 12, 64]
def k1_off134 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1158 : Index := Scalar.indexCast v94
  let c12_i32_462 : BitVec 32 := 12#32
  let v1159 : Index := Scalar.indexCast c12_i32_462
  let c80_463 : Index := 80#32
  ![v1158.toNat, 12, 80]
def k1_off135 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1168 : Index := Scalar.indexCast v94
  let c12_i32_466 : BitVec 32 := 12#32
  let v1169 : Index := Scalar.indexCast c12_i32_466
  let c96_467 : Index := 96#32
  ![v1168.toNat, 12, 96]
def k1_off136 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1178 : Index := Scalar.indexCast v94
  let c12_i32_470 : BitVec 32 := 12#32
  let v1179 : Index := Scalar.indexCast c12_i32_470
  let c112_471 : Index := 112#32
  ![v1178.toNat, 12, 112]
def k1_off137 (v1186 : BitVec 32) (c0_i32_474 : BitVec 32) : Fin 1 → Nat :=
  let c128_i32_473 : BitVec 32 := 128#32
  let v1187 : BitVec 32 := Scalar.muli v1186 c128_i32_473
  let v1188 : BitVec 32 := Scalar.addi v1187 c0_i32_474
  let v1189 : Index := Scalar.indexCast v1188
  ![v1189.toNat]

def k1_chk19 (v1186 : BitVec 32) : Prop :=
  (∀ (r : Fin 8), ∀ a, (k1_off137 v1186 (BitVec.ofNat 32 (16 * r.val))) a + S16.size a ≤ S40192.size a)
theorem k1_off137_inb : ∀ (v1186 : BitVec 32) (k1_hw19 : k1_chk19 v1186), ∀ (r : Fin 8), ∀ a, (k1_off137 v1186 (BitVec.ofNat 32 (16 * r.val))) a + S16.size a ≤ S40192.size a := fun v1186 k1_hw19 r => k1_hw19 r

def k1_off138 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1191 : Index := Scalar.indexCast v94
  let c13_i32 : BitVec 32 := 13#32
  let v1192 : Index := Scalar.indexCast c13_i32
  let c0_475 : Index := 0#32
  ![v1191.toNat, 13, 0]
def k1_off139 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1201 : Index := Scalar.indexCast v94
  let c13_i32_478 : BitVec 32 := 13#32
  let v1202 : Index := Scalar.indexCast c13_i32_478
  let c16_479 : Index := 16#32
  ![v1201.toNat, 13, 16]
def k1_off140 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1211 : Index := Scalar.indexCast v94
  let c13_i32_482 : BitVec 32 := 13#32
  let v1212 : Index := Scalar.indexCast c13_i32_482
  let c32_483 : Index := 32#32
  ![v1211.toNat, 13, 32]
def k1_off141 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1221 : Index := Scalar.indexCast v94
  let c13_i32_486 : BitVec 32 := 13#32
  let v1222 : Index := Scalar.indexCast c13_i32_486
  let c48_487 : Index := 48#32
  ![v1221.toNat, 13, 48]
def k1_off142 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1231 : Index := Scalar.indexCast v94
  let c13_i32_490 : BitVec 32 := 13#32
  let v1232 : Index := Scalar.indexCast c13_i32_490
  let c64_491 : Index := 64#32
  ![v1231.toNat, 13, 64]
def k1_off143 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1241 : Index := Scalar.indexCast v94
  let c13_i32_494 : BitVec 32 := 13#32
  let v1242 : Index := Scalar.indexCast c13_i32_494
  let c80_495 : Index := 80#32
  ![v1241.toNat, 13, 80]
def k1_off144 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1251 : Index := Scalar.indexCast v94
  let c13_i32_498 : BitVec 32 := 13#32
  let v1252 : Index := Scalar.indexCast c13_i32_498
  let c96_499 : Index := 96#32
  ![v1251.toNat, 13, 96]
def k1_off145 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1261 : Index := Scalar.indexCast v94
  let c13_i32_502 : BitVec 32 := 13#32
  let v1262 : Index := Scalar.indexCast c13_i32_502
  let c112_503 : Index := 112#32
  ![v1261.toNat, 13, 112]
def k1_off146 (v1269 : BitVec 32) (c0_i32_506 : BitVec 32) : Fin 1 → Nat :=
  let c128_i32_505 : BitVec 32 := 128#32
  let v1270 : BitVec 32 := Scalar.muli v1269 c128_i32_505
  let v1271 : BitVec 32 := Scalar.addi v1270 c0_i32_506
  let v1272 : Index := Scalar.indexCast v1271
  ![v1272.toNat]

def k1_chk20 (v1269 : BitVec 32) : Prop :=
  (∀ (r : Fin 8), ∀ a, (k1_off146 v1269 (BitVec.ofNat 32 (16 * r.val))) a + S16.size a ≤ S40192.size a)
theorem k1_off146_inb : ∀ (v1269 : BitVec 32) (k1_hw20 : k1_chk20 v1269), ∀ (r : Fin 8), ∀ a, (k1_off146 v1269 (BitVec.ofNat 32 (16 * r.val))) a + S16.size a ≤ S40192.size a := fun v1269 k1_hw20 r => k1_hw20 r

def k1_off147 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1274 : Index := Scalar.indexCast v94
  let c14_i32 : BitVec 32 := 14#32
  let v1275 : Index := Scalar.indexCast c14_i32
  let c0_507 : Index := 0#32
  ![v1274.toNat, 14, 0]
def k1_off148 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1284 : Index := Scalar.indexCast v94
  let c14_i32_510 : BitVec 32 := 14#32
  let v1285 : Index := Scalar.indexCast c14_i32_510
  let c16_511 : Index := 16#32
  ![v1284.toNat, 14, 16]
def k1_off149 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1294 : Index := Scalar.indexCast v94
  let c14_i32_514 : BitVec 32 := 14#32
  let v1295 : Index := Scalar.indexCast c14_i32_514
  let c32_515 : Index := 32#32
  ![v1294.toNat, 14, 32]
def k1_off150 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1304 : Index := Scalar.indexCast v94
  let c14_i32_518 : BitVec 32 := 14#32
  let v1305 : Index := Scalar.indexCast c14_i32_518
  let c48_519 : Index := 48#32
  ![v1304.toNat, 14, 48]
def k1_off151 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1314 : Index := Scalar.indexCast v94
  let c14_i32_522 : BitVec 32 := 14#32
  let v1315 : Index := Scalar.indexCast c14_i32_522
  let c64_523 : Index := 64#32
  ![v1314.toNat, 14, 64]
def k1_off152 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1324 : Index := Scalar.indexCast v94
  let c14_i32_526 : BitVec 32 := 14#32
  let v1325 : Index := Scalar.indexCast c14_i32_526
  let c80_527 : Index := 80#32
  ![v1324.toNat, 14, 80]
def k1_off153 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1334 : Index := Scalar.indexCast v94
  let c14_i32_530 : BitVec 32 := 14#32
  let v1335 : Index := Scalar.indexCast c14_i32_530
  let c96_531 : Index := 96#32
  ![v1334.toNat, 14, 96]
def k1_off154 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1344 : Index := Scalar.indexCast v94
  let c14_i32_534 : BitVec 32 := 14#32
  let v1345 : Index := Scalar.indexCast c14_i32_534
  let c112_535 : Index := 112#32
  ![v1344.toNat, 14, 112]
def k1_off155 (v1352 : BitVec 32) (c0_i32_538 : BitVec 32) : Fin 1 → Nat :=
  let c128_i32_537 : BitVec 32 := 128#32
  let v1353 : BitVec 32 := Scalar.muli v1352 c128_i32_537
  let v1354 : BitVec 32 := Scalar.addi v1353 c0_i32_538
  let v1355 : Index := Scalar.indexCast v1354
  ![v1355.toNat]

def k1_chk21 (v1352 : BitVec 32) : Prop :=
  (∀ (r : Fin 8), ∀ a, (k1_off155 v1352 (BitVec.ofNat 32 (16 * r.val))) a + S16.size a ≤ S40192.size a)
theorem k1_off155_inb : ∀ (v1352 : BitVec 32) (k1_hw21 : k1_chk21 v1352), ∀ (r : Fin 8), ∀ a, (k1_off155 v1352 (BitVec.ofNat 32 (16 * r.val))) a + S16.size a ≤ S40192.size a := fun v1352 k1_hw21 r => k1_hw21 r

def k1_off156 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1357 : Index := Scalar.indexCast v94
  let c15_i32 : BitVec 32 := 15#32
  let v1358 : Index := Scalar.indexCast c15_i32
  let c0_539 : Index := 0#32
  ![v1357.toNat, 15, 0]
def k1_off157 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1367 : Index := Scalar.indexCast v94
  let c15_i32_542 : BitVec 32 := 15#32
  let v1368 : Index := Scalar.indexCast c15_i32_542
  let c16_543 : Index := 16#32
  ![v1367.toNat, 15, 16]
def k1_off158 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1377 : Index := Scalar.indexCast v94
  let c15_i32_546 : BitVec 32 := 15#32
  let v1378 : Index := Scalar.indexCast c15_i32_546
  let c32_547 : Index := 32#32
  ![v1377.toNat, 15, 32]
def k1_off159 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1387 : Index := Scalar.indexCast v94
  let c15_i32_550 : BitVec 32 := 15#32
  let v1388 : Index := Scalar.indexCast c15_i32_550
  let c48_551 : Index := 48#32
  ![v1387.toNat, 15, 48]
def k1_off160 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1397 : Index := Scalar.indexCast v94
  let c15_i32_554 : BitVec 32 := 15#32
  let v1398 : Index := Scalar.indexCast c15_i32_554
  let c64_555 : Index := 64#32
  ![v1397.toNat, 15, 64]
def k1_off161 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1407 : Index := Scalar.indexCast v94
  let c15_i32_558 : BitVec 32 := 15#32
  let v1408 : Index := Scalar.indexCast c15_i32_558
  let c80_559 : Index := 80#32
  ![v1407.toNat, 15, 80]
def k1_off162 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1417 : Index := Scalar.indexCast v94
  let c15_i32_562 : BitVec 32 := 15#32
  let v1418 : Index := Scalar.indexCast c15_i32_562
  let c96_563 : Index := 96#32
  ![v1417.toNat, 15, 96]
def k1_off163 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1427 : Index := Scalar.indexCast v94
  let c15_i32_566 : BitVec 32 := 15#32
  let v1428 : Index := Scalar.indexCast c15_i32_566
  let c112_567 : Index := 112#32
  ![v1427.toNat, 15, 112]
def k1_off164 (v41 : BitVec 32) (k1_t4 : Fin (k1_t4_loop v41).trips) : Fin 1 → Nat :=
  let c0_i32_52 : BitVec 32 := 0#32
  let c1_i32_55 : BitVec 32 := 1#32
  let arg16 : BitVec 32 := Scf.iv c0_i32_52 c1_i32_55 k1_t4
  let c32_i32_569 : BitVec 32 := 32#32
  let v1434 : BitVec 32 := Scalar.muli arg16 c32_i32_569
  let c16_i32_570 : BitVec 32 := 16#32
  let v1435 : BitVec 32 := Scalar.addi v1434 c16_i32_570
  let v1436 : Index := Scalar.indexCast v1435
  ![v1436.toNat]
def k1_off165 (v1439 : BitVec 32) (c0_i32_572 : BitVec 32) : Fin 1 → Nat :=
  let c128_i32_571 : BitVec 32 := 128#32
  let v1440 : BitVec 32 := Scalar.muli v1439 c128_i32_571
  let v1441 : BitVec 32 := Scalar.addi v1440 c0_i32_572
  let v1442 : Index := Scalar.indexCast v1441
  ![v1442.toNat]

def k1_chk22 (v1439 : BitVec 32) : Prop :=
  (∀ (r : Fin 8), ∀ a, (k1_off165 v1439 (BitVec.ofNat 32 (16 * r.val))) a + S16.size a ≤ S40192.size a)
theorem k1_off165_inb : ∀ (v1439 : BitVec 32) (k1_hw22 : k1_chk22 v1439), ∀ (r : Fin 8), ∀ a, (k1_off165 v1439 (BitVec.ofNat 32 (16 * r.val))) a + S16.size a ≤ S40192.size a := fun v1439 k1_hw22 r => k1_hw22 r

def k1_off166 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1444 : Index := Scalar.indexCast v94
  let c16_i32_573 : BitVec 32 := 16#32
  let v1445 : Index := Scalar.indexCast c16_i32_573
  let c0_574 : Index := 0#32
  ![v1444.toNat, 16, 0]
def k1_off167 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1454 : Index := Scalar.indexCast v94
  let c16_i32_577 : BitVec 32 := 16#32
  let v1455 : Index := Scalar.indexCast c16_i32_577
  let c16_578 : Index := 16#32
  ![v1454.toNat, 16, 16]
def k1_off168 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1464 : Index := Scalar.indexCast v94
  let c16_i32_581 : BitVec 32 := 16#32
  let v1465 : Index := Scalar.indexCast c16_i32_581
  let c32_582 : Index := 32#32
  ![v1464.toNat, 16, 32]
def k1_off169 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1474 : Index := Scalar.indexCast v94
  let c16_i32_585 : BitVec 32 := 16#32
  let v1475 : Index := Scalar.indexCast c16_i32_585
  let c48_586 : Index := 48#32
  ![v1474.toNat, 16, 48]
def k1_off170 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1484 : Index := Scalar.indexCast v94
  let c16_i32_589 : BitVec 32 := 16#32
  let v1485 : Index := Scalar.indexCast c16_i32_589
  let c64_590 : Index := 64#32
  ![v1484.toNat, 16, 64]
def k1_off171 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1494 : Index := Scalar.indexCast v94
  let c16_i32_593 : BitVec 32 := 16#32
  let v1495 : Index := Scalar.indexCast c16_i32_593
  let c80_594 : Index := 80#32
  ![v1494.toNat, 16, 80]
def k1_off172 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1504 : Index := Scalar.indexCast v94
  let c16_i32_597 : BitVec 32 := 16#32
  let v1505 : Index := Scalar.indexCast c16_i32_597
  let c96_598 : Index := 96#32
  ![v1504.toNat, 16, 96]
def k1_off173 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1514 : Index := Scalar.indexCast v94
  let c16_i32_601 : BitVec 32 := 16#32
  let v1515 : Index := Scalar.indexCast c16_i32_601
  let c112_602 : Index := 112#32
  ![v1514.toNat, 16, 112]
def k1_off174 (v1522 : BitVec 32) (c0_i32_605 : BitVec 32) : Fin 1 → Nat :=
  let c128_i32_604 : BitVec 32 := 128#32
  let v1523 : BitVec 32 := Scalar.muli v1522 c128_i32_604
  let v1524 : BitVec 32 := Scalar.addi v1523 c0_i32_605
  let v1525 : Index := Scalar.indexCast v1524
  ![v1525.toNat]

def k1_chk23 (v1522 : BitVec 32) : Prop :=
  (∀ (r : Fin 8), ∀ a, (k1_off174 v1522 (BitVec.ofNat 32 (16 * r.val))) a + S16.size a ≤ S40192.size a)
theorem k1_off174_inb : ∀ (v1522 : BitVec 32) (k1_hw23 : k1_chk23 v1522), ∀ (r : Fin 8), ∀ a, (k1_off174 v1522 (BitVec.ofNat 32 (16 * r.val))) a + S16.size a ≤ S40192.size a := fun v1522 k1_hw23 r => k1_hw23 r

def k1_off175 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1527 : Index := Scalar.indexCast v94
  let c17_i32 : BitVec 32 := 17#32
  let v1528 : Index := Scalar.indexCast c17_i32
  let c0_606 : Index := 0#32
  ![v1527.toNat, 17, 0]
def k1_off176 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1537 : Index := Scalar.indexCast v94
  let c17_i32_609 : BitVec 32 := 17#32
  let v1538 : Index := Scalar.indexCast c17_i32_609
  let c16_610 : Index := 16#32
  ![v1537.toNat, 17, 16]
def k1_off177 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1547 : Index := Scalar.indexCast v94
  let c17_i32_613 : BitVec 32 := 17#32
  let v1548 : Index := Scalar.indexCast c17_i32_613
  let c32_614 : Index := 32#32
  ![v1547.toNat, 17, 32]
def k1_off178 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1557 : Index := Scalar.indexCast v94
  let c17_i32_617 : BitVec 32 := 17#32
  let v1558 : Index := Scalar.indexCast c17_i32_617
  let c48_618 : Index := 48#32
  ![v1557.toNat, 17, 48]
def k1_off179 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1567 : Index := Scalar.indexCast v94
  let c17_i32_621 : BitVec 32 := 17#32
  let v1568 : Index := Scalar.indexCast c17_i32_621
  let c64_622 : Index := 64#32
  ![v1567.toNat, 17, 64]
def k1_off180 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1577 : Index := Scalar.indexCast v94
  let c17_i32_625 : BitVec 32 := 17#32
  let v1578 : Index := Scalar.indexCast c17_i32_625
  let c80_626 : Index := 80#32
  ![v1577.toNat, 17, 80]
def k1_off181 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1587 : Index := Scalar.indexCast v94
  let c17_i32_629 : BitVec 32 := 17#32
  let v1588 : Index := Scalar.indexCast c17_i32_629
  let c96_630 : Index := 96#32
  ![v1587.toNat, 17, 96]
def k1_off182 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1597 : Index := Scalar.indexCast v94
  let c17_i32_633 : BitVec 32 := 17#32
  let v1598 : Index := Scalar.indexCast c17_i32_633
  let c112_634 : Index := 112#32
  ![v1597.toNat, 17, 112]
def k1_off183 (v1605 : BitVec 32) (c0_i32_637 : BitVec 32) : Fin 1 → Nat :=
  let c128_i32_636 : BitVec 32 := 128#32
  let v1606 : BitVec 32 := Scalar.muli v1605 c128_i32_636
  let v1607 : BitVec 32 := Scalar.addi v1606 c0_i32_637
  let v1608 : Index := Scalar.indexCast v1607
  ![v1608.toNat]

def k1_chk24 (v1605 : BitVec 32) : Prop :=
  (∀ (r : Fin 8), ∀ a, (k1_off183 v1605 (BitVec.ofNat 32 (16 * r.val))) a + S16.size a ≤ S40192.size a)
theorem k1_off183_inb : ∀ (v1605 : BitVec 32) (k1_hw24 : k1_chk24 v1605), ∀ (r : Fin 8), ∀ a, (k1_off183 v1605 (BitVec.ofNat 32 (16 * r.val))) a + S16.size a ≤ S40192.size a := fun v1605 k1_hw24 r => k1_hw24 r

def k1_off184 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1610 : Index := Scalar.indexCast v94
  let c18_i32 : BitVec 32 := 18#32
  let v1611 : Index := Scalar.indexCast c18_i32
  let c0_638 : Index := 0#32
  ![v1610.toNat, 18, 0]
def k1_off185 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1620 : Index := Scalar.indexCast v94
  let c18_i32_641 : BitVec 32 := 18#32
  let v1621 : Index := Scalar.indexCast c18_i32_641
  let c16_642 : Index := 16#32
  ![v1620.toNat, 18, 16]
def k1_off186 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1630 : Index := Scalar.indexCast v94
  let c18_i32_645 : BitVec 32 := 18#32
  let v1631 : Index := Scalar.indexCast c18_i32_645
  let c32_646 : Index := 32#32
  ![v1630.toNat, 18, 32]
def k1_off187 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1640 : Index := Scalar.indexCast v94
  let c18_i32_649 : BitVec 32 := 18#32
  let v1641 : Index := Scalar.indexCast c18_i32_649
  let c48_650 : Index := 48#32
  ![v1640.toNat, 18, 48]
def k1_off188 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1650 : Index := Scalar.indexCast v94
  let c18_i32_653 : BitVec 32 := 18#32
  let v1651 : Index := Scalar.indexCast c18_i32_653
  let c64_654 : Index := 64#32
  ![v1650.toNat, 18, 64]
def k1_off189 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1660 : Index := Scalar.indexCast v94
  let c18_i32_657 : BitVec 32 := 18#32
  let v1661 : Index := Scalar.indexCast c18_i32_657
  let c80_658 : Index := 80#32
  ![v1660.toNat, 18, 80]
def k1_off190 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1670 : Index := Scalar.indexCast v94
  let c18_i32_661 : BitVec 32 := 18#32
  let v1671 : Index := Scalar.indexCast c18_i32_661
  let c96_662 : Index := 96#32
  ![v1670.toNat, 18, 96]
def k1_off191 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1680 : Index := Scalar.indexCast v94
  let c18_i32_665 : BitVec 32 := 18#32
  let v1681 : Index := Scalar.indexCast c18_i32_665
  let c112_666 : Index := 112#32
  ![v1680.toNat, 18, 112]
def k1_off192 (v1688 : BitVec 32) (c0_i32_669 : BitVec 32) : Fin 1 → Nat :=
  let c128_i32_668 : BitVec 32 := 128#32
  let v1689 : BitVec 32 := Scalar.muli v1688 c128_i32_668
  let v1690 : BitVec 32 := Scalar.addi v1689 c0_i32_669
  let v1691 : Index := Scalar.indexCast v1690
  ![v1691.toNat]

def k1_chk25 (v1688 : BitVec 32) : Prop :=
  (∀ (r : Fin 8), ∀ a, (k1_off192 v1688 (BitVec.ofNat 32 (16 * r.val))) a + S16.size a ≤ S40192.size a)
theorem k1_off192_inb : ∀ (v1688 : BitVec 32) (k1_hw25 : k1_chk25 v1688), ∀ (r : Fin 8), ∀ a, (k1_off192 v1688 (BitVec.ofNat 32 (16 * r.val))) a + S16.size a ≤ S40192.size a := fun v1688 k1_hw25 r => k1_hw25 r

def k1_off193 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1693 : Index := Scalar.indexCast v94
  let c19_i32 : BitVec 32 := 19#32
  let v1694 : Index := Scalar.indexCast c19_i32
  let c0_670 : Index := 0#32
  ![v1693.toNat, 19, 0]
def k1_off194 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1703 : Index := Scalar.indexCast v94
  let c19_i32_673 : BitVec 32 := 19#32
  let v1704 : Index := Scalar.indexCast c19_i32_673
  let c16_674 : Index := 16#32
  ![v1703.toNat, 19, 16]
def k1_off195 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1713 : Index := Scalar.indexCast v94
  let c19_i32_677 : BitVec 32 := 19#32
  let v1714 : Index := Scalar.indexCast c19_i32_677
  let c32_678 : Index := 32#32
  ![v1713.toNat, 19, 32]
def k1_off196 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1723 : Index := Scalar.indexCast v94
  let c19_i32_681 : BitVec 32 := 19#32
  let v1724 : Index := Scalar.indexCast c19_i32_681
  let c48_682 : Index := 48#32
  ![v1723.toNat, 19, 48]
def k1_off197 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1733 : Index := Scalar.indexCast v94
  let c19_i32_685 : BitVec 32 := 19#32
  let v1734 : Index := Scalar.indexCast c19_i32_685
  let c64_686 : Index := 64#32
  ![v1733.toNat, 19, 64]
def k1_off198 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1743 : Index := Scalar.indexCast v94
  let c19_i32_689 : BitVec 32 := 19#32
  let v1744 : Index := Scalar.indexCast c19_i32_689
  let c80_690 : Index := 80#32
  ![v1743.toNat, 19, 80]
def k1_off199 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1753 : Index := Scalar.indexCast v94
  let c19_i32_693 : BitVec 32 := 19#32
  let v1754 : Index := Scalar.indexCast c19_i32_693
  let c96_694 : Index := 96#32
  ![v1753.toNat, 19, 96]
def k1_off200 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1763 : Index := Scalar.indexCast v94
  let c19_i32_697 : BitVec 32 := 19#32
  let v1764 : Index := Scalar.indexCast c19_i32_697
  let c112_698 : Index := 112#32
  ![v1763.toNat, 19, 112]
def k1_off201 (v1771 : BitVec 32) (c0_i32_701 : BitVec 32) : Fin 1 → Nat :=
  let c128_i32_700 : BitVec 32 := 128#32
  let v1772 : BitVec 32 := Scalar.muli v1771 c128_i32_700
  let v1773 : BitVec 32 := Scalar.addi v1772 c0_i32_701
  let v1774 : Index := Scalar.indexCast v1773
  ![v1774.toNat]

def k1_chk26 (v1771 : BitVec 32) : Prop :=
  (∀ (r : Fin 8), ∀ a, (k1_off201 v1771 (BitVec.ofNat 32 (16 * r.val))) a + S16.size a ≤ S40192.size a)
theorem k1_off201_inb : ∀ (v1771 : BitVec 32) (k1_hw26 : k1_chk26 v1771), ∀ (r : Fin 8), ∀ a, (k1_off201 v1771 (BitVec.ofNat 32 (16 * r.val))) a + S16.size a ≤ S40192.size a := fun v1771 k1_hw26 r => k1_hw26 r

def k1_off202 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1776 : Index := Scalar.indexCast v94
  let c20_i32 : BitVec 32 := 20#32
  let v1777 : Index := Scalar.indexCast c20_i32
  let c0_702 : Index := 0#32
  ![v1776.toNat, 20, 0]
def k1_off203 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1786 : Index := Scalar.indexCast v94
  let c20_i32_705 : BitVec 32 := 20#32
  let v1787 : Index := Scalar.indexCast c20_i32_705
  let c16_706 : Index := 16#32
  ![v1786.toNat, 20, 16]
def k1_off204 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1796 : Index := Scalar.indexCast v94
  let c20_i32_709 : BitVec 32 := 20#32
  let v1797 : Index := Scalar.indexCast c20_i32_709
  let c32_710 : Index := 32#32
  ![v1796.toNat, 20, 32]
def k1_off205 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1806 : Index := Scalar.indexCast v94
  let c20_i32_713 : BitVec 32 := 20#32
  let v1807 : Index := Scalar.indexCast c20_i32_713
  let c48_714 : Index := 48#32
  ![v1806.toNat, 20, 48]
def k1_off206 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1816 : Index := Scalar.indexCast v94
  let c20_i32_717 : BitVec 32 := 20#32
  let v1817 : Index := Scalar.indexCast c20_i32_717
  let c64_718 : Index := 64#32
  ![v1816.toNat, 20, 64]
def k1_off207 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1826 : Index := Scalar.indexCast v94
  let c20_i32_721 : BitVec 32 := 20#32
  let v1827 : Index := Scalar.indexCast c20_i32_721
  let c80_722 : Index := 80#32
  ![v1826.toNat, 20, 80]
def k1_off208 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1836 : Index := Scalar.indexCast v94
  let c20_i32_725 : BitVec 32 := 20#32
  let v1837 : Index := Scalar.indexCast c20_i32_725
  let c96_726 : Index := 96#32
  ![v1836.toNat, 20, 96]
def k1_off209 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1846 : Index := Scalar.indexCast v94
  let c20_i32_729 : BitVec 32 := 20#32
  let v1847 : Index := Scalar.indexCast c20_i32_729
  let c112_730 : Index := 112#32
  ![v1846.toNat, 20, 112]
def k1_off210 (v1854 : BitVec 32) (c0_i32_733 : BitVec 32) : Fin 1 → Nat :=
  let c128_i32_732 : BitVec 32 := 128#32
  let v1855 : BitVec 32 := Scalar.muli v1854 c128_i32_732
  let v1856 : BitVec 32 := Scalar.addi v1855 c0_i32_733
  let v1857 : Index := Scalar.indexCast v1856
  ![v1857.toNat]

def k1_chk27 (v1854 : BitVec 32) : Prop :=
  (∀ (r : Fin 8), ∀ a, (k1_off210 v1854 (BitVec.ofNat 32 (16 * r.val))) a + S16.size a ≤ S40192.size a)
theorem k1_off210_inb : ∀ (v1854 : BitVec 32) (k1_hw27 : k1_chk27 v1854), ∀ (r : Fin 8), ∀ a, (k1_off210 v1854 (BitVec.ofNat 32 (16 * r.val))) a + S16.size a ≤ S40192.size a := fun v1854 k1_hw27 r => k1_hw27 r

def k1_off211 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1859 : Index := Scalar.indexCast v94
  let c21_i32 : BitVec 32 := 21#32
  let v1860 : Index := Scalar.indexCast c21_i32
  let c0_734 : Index := 0#32
  ![v1859.toNat, 21, 0]
def k1_off212 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1869 : Index := Scalar.indexCast v94
  let c21_i32_737 : BitVec 32 := 21#32
  let v1870 : Index := Scalar.indexCast c21_i32_737
  let c16_738 : Index := 16#32
  ![v1869.toNat, 21, 16]
def k1_off213 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1879 : Index := Scalar.indexCast v94
  let c21_i32_741 : BitVec 32 := 21#32
  let v1880 : Index := Scalar.indexCast c21_i32_741
  let c32_742 : Index := 32#32
  ![v1879.toNat, 21, 32]
def k1_off214 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1889 : Index := Scalar.indexCast v94
  let c21_i32_745 : BitVec 32 := 21#32
  let v1890 : Index := Scalar.indexCast c21_i32_745
  let c48_746 : Index := 48#32
  ![v1889.toNat, 21, 48]
def k1_off215 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1899 : Index := Scalar.indexCast v94
  let c21_i32_749 : BitVec 32 := 21#32
  let v1900 : Index := Scalar.indexCast c21_i32_749
  let c64_750 : Index := 64#32
  ![v1899.toNat, 21, 64]
def k1_off216 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1909 : Index := Scalar.indexCast v94
  let c21_i32_753 : BitVec 32 := 21#32
  let v1910 : Index := Scalar.indexCast c21_i32_753
  let c80_754 : Index := 80#32
  ![v1909.toNat, 21, 80]
def k1_off217 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1919 : Index := Scalar.indexCast v94
  let c21_i32_757 : BitVec 32 := 21#32
  let v1920 : Index := Scalar.indexCast c21_i32_757
  let c96_758 : Index := 96#32
  ![v1919.toNat, 21, 96]
def k1_off218 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1929 : Index := Scalar.indexCast v94
  let c21_i32_761 : BitVec 32 := 21#32
  let v1930 : Index := Scalar.indexCast c21_i32_761
  let c112_762 : Index := 112#32
  ![v1929.toNat, 21, 112]
def k1_off219 (v1937 : BitVec 32) (c0_i32_765 : BitVec 32) : Fin 1 → Nat :=
  let c128_i32_764 : BitVec 32 := 128#32
  let v1938 : BitVec 32 := Scalar.muli v1937 c128_i32_764
  let v1939 : BitVec 32 := Scalar.addi v1938 c0_i32_765
  let v1940 : Index := Scalar.indexCast v1939
  ![v1940.toNat]

def k1_chk28 (v1937 : BitVec 32) : Prop :=
  (∀ (r : Fin 8), ∀ a, (k1_off219 v1937 (BitVec.ofNat 32 (16 * r.val))) a + S16.size a ≤ S40192.size a)
theorem k1_off219_inb : ∀ (v1937 : BitVec 32) (k1_hw28 : k1_chk28 v1937), ∀ (r : Fin 8), ∀ a, (k1_off219 v1937 (BitVec.ofNat 32 (16 * r.val))) a + S16.size a ≤ S40192.size a := fun v1937 k1_hw28 r => k1_hw28 r

def k1_off220 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1942 : Index := Scalar.indexCast v94
  let c22_i32 : BitVec 32 := 22#32
  let v1943 : Index := Scalar.indexCast c22_i32
  let c0_766 : Index := 0#32
  ![v1942.toNat, 22, 0]
def k1_off221 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1952 : Index := Scalar.indexCast v94
  let c22_i32_769 : BitVec 32 := 22#32
  let v1953 : Index := Scalar.indexCast c22_i32_769
  let c16_770 : Index := 16#32
  ![v1952.toNat, 22, 16]
def k1_off222 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1962 : Index := Scalar.indexCast v94
  let c22_i32_773 : BitVec 32 := 22#32
  let v1963 : Index := Scalar.indexCast c22_i32_773
  let c32_774 : Index := 32#32
  ![v1962.toNat, 22, 32]
def k1_off223 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1972 : Index := Scalar.indexCast v94
  let c22_i32_777 : BitVec 32 := 22#32
  let v1973 : Index := Scalar.indexCast c22_i32_777
  let c48_778 : Index := 48#32
  ![v1972.toNat, 22, 48]
def k1_off224 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1982 : Index := Scalar.indexCast v94
  let c22_i32_781 : BitVec 32 := 22#32
  let v1983 : Index := Scalar.indexCast c22_i32_781
  let c64_782 : Index := 64#32
  ![v1982.toNat, 22, 64]
def k1_off225 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v1992 : Index := Scalar.indexCast v94
  let c22_i32_785 : BitVec 32 := 22#32
  let v1993 : Index := Scalar.indexCast c22_i32_785
  let c80_786 : Index := 80#32
  ![v1992.toNat, 22, 80]
def k1_off226 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2002 : Index := Scalar.indexCast v94
  let c22_i32_789 : BitVec 32 := 22#32
  let v2003 : Index := Scalar.indexCast c22_i32_789
  let c96_790 : Index := 96#32
  ![v2002.toNat, 22, 96]
def k1_off227 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2012 : Index := Scalar.indexCast v94
  let c22_i32_793 : BitVec 32 := 22#32
  let v2013 : Index := Scalar.indexCast c22_i32_793
  let c112_794 : Index := 112#32
  ![v2012.toNat, 22, 112]
def k1_off228 (v2020 : BitVec 32) (c0_i32_797 : BitVec 32) : Fin 1 → Nat :=
  let c128_i32_796 : BitVec 32 := 128#32
  let v2021 : BitVec 32 := Scalar.muli v2020 c128_i32_796
  let v2022 : BitVec 32 := Scalar.addi v2021 c0_i32_797
  let v2023 : Index := Scalar.indexCast v2022
  ![v2023.toNat]

def k1_chk29 (v2020 : BitVec 32) : Prop :=
  (∀ (r : Fin 8), ∀ a, (k1_off228 v2020 (BitVec.ofNat 32 (16 * r.val))) a + S16.size a ≤ S40192.size a)
theorem k1_off228_inb : ∀ (v2020 : BitVec 32) (k1_hw29 : k1_chk29 v2020), ∀ (r : Fin 8), ∀ a, (k1_off228 v2020 (BitVec.ofNat 32 (16 * r.val))) a + S16.size a ≤ S40192.size a := fun v2020 k1_hw29 r => k1_hw29 r

def k1_off229 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2025 : Index := Scalar.indexCast v94
  let c23_i32 : BitVec 32 := 23#32
  let v2026 : Index := Scalar.indexCast c23_i32
  let c0_798 : Index := 0#32
  ![v2025.toNat, 23, 0]
def k1_off230 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2035 : Index := Scalar.indexCast v94
  let c23_i32_801 : BitVec 32 := 23#32
  let v2036 : Index := Scalar.indexCast c23_i32_801
  let c16_802 : Index := 16#32
  ![v2035.toNat, 23, 16]
def k1_off231 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2045 : Index := Scalar.indexCast v94
  let c23_i32_805 : BitVec 32 := 23#32
  let v2046 : Index := Scalar.indexCast c23_i32_805
  let c32_806 : Index := 32#32
  ![v2045.toNat, 23, 32]
def k1_off232 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2055 : Index := Scalar.indexCast v94
  let c23_i32_809 : BitVec 32 := 23#32
  let v2056 : Index := Scalar.indexCast c23_i32_809
  let c48_810 : Index := 48#32
  ![v2055.toNat, 23, 48]
def k1_off233 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2065 : Index := Scalar.indexCast v94
  let c23_i32_813 : BitVec 32 := 23#32
  let v2066 : Index := Scalar.indexCast c23_i32_813
  let c64_814 : Index := 64#32
  ![v2065.toNat, 23, 64]
def k1_off234 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2075 : Index := Scalar.indexCast v94
  let c23_i32_817 : BitVec 32 := 23#32
  let v2076 : Index := Scalar.indexCast c23_i32_817
  let c80_818 : Index := 80#32
  ![v2075.toNat, 23, 80]
def k1_off235 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2085 : Index := Scalar.indexCast v94
  let c23_i32_821 : BitVec 32 := 23#32
  let v2086 : Index := Scalar.indexCast c23_i32_821
  let c96_822 : Index := 96#32
  ![v2085.toNat, 23, 96]
def k1_off236 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2095 : Index := Scalar.indexCast v94
  let c23_i32_825 : BitVec 32 := 23#32
  let v2096 : Index := Scalar.indexCast c23_i32_825
  let c112_826 : Index := 112#32
  ![v2095.toNat, 23, 112]
def k1_off237 (v2103 : BitVec 32) (c0_i32_829 : BitVec 32) : Fin 1 → Nat :=
  let c128_i32_828 : BitVec 32 := 128#32
  let v2104 : BitVec 32 := Scalar.muli v2103 c128_i32_828
  let v2105 : BitVec 32 := Scalar.addi v2104 c0_i32_829
  let v2106 : Index := Scalar.indexCast v2105
  ![v2106.toNat]

def k1_chk30 (v2103 : BitVec 32) : Prop :=
  (∀ (r : Fin 8), ∀ a, (k1_off237 v2103 (BitVec.ofNat 32 (16 * r.val))) a + S16.size a ≤ S40192.size a)
theorem k1_off237_inb : ∀ (v2103 : BitVec 32) (k1_hw30 : k1_chk30 v2103), ∀ (r : Fin 8), ∀ a, (k1_off237 v2103 (BitVec.ofNat 32 (16 * r.val))) a + S16.size a ≤ S40192.size a := fun v2103 k1_hw30 r => k1_hw30 r

def k1_off238 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2108 : Index := Scalar.indexCast v94
  let c24_i32 : BitVec 32 := 24#32
  let v2109 : Index := Scalar.indexCast c24_i32
  let c0_830 : Index := 0#32
  ![v2108.toNat, 24, 0]
def k1_off239 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2118 : Index := Scalar.indexCast v94
  let c24_i32_833 : BitVec 32 := 24#32
  let v2119 : Index := Scalar.indexCast c24_i32_833
  let c16_834 : Index := 16#32
  ![v2118.toNat, 24, 16]
def k1_off240 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2128 : Index := Scalar.indexCast v94
  let c24_i32_837 : BitVec 32 := 24#32
  let v2129 : Index := Scalar.indexCast c24_i32_837
  let c32_838 : Index := 32#32
  ![v2128.toNat, 24, 32]
def k1_off241 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2138 : Index := Scalar.indexCast v94
  let c24_i32_841 : BitVec 32 := 24#32
  let v2139 : Index := Scalar.indexCast c24_i32_841
  let c48_842 : Index := 48#32
  ![v2138.toNat, 24, 48]
def k1_off242 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2148 : Index := Scalar.indexCast v94
  let c24_i32_845 : BitVec 32 := 24#32
  let v2149 : Index := Scalar.indexCast c24_i32_845
  let c64_846 : Index := 64#32
  ![v2148.toNat, 24, 64]
def k1_off243 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2158 : Index := Scalar.indexCast v94
  let c24_i32_849 : BitVec 32 := 24#32
  let v2159 : Index := Scalar.indexCast c24_i32_849
  let c80_850 : Index := 80#32
  ![v2158.toNat, 24, 80]
def k1_off244 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2168 : Index := Scalar.indexCast v94
  let c24_i32_853 : BitVec 32 := 24#32
  let v2169 : Index := Scalar.indexCast c24_i32_853
  let c96_854 : Index := 96#32
  ![v2168.toNat, 24, 96]
def k1_off245 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2178 : Index := Scalar.indexCast v94
  let c24_i32_857 : BitVec 32 := 24#32
  let v2179 : Index := Scalar.indexCast c24_i32_857
  let c112_858 : Index := 112#32
  ![v2178.toNat, 24, 112]
def k1_off246 (v2186 : BitVec 32) (c0_i32_861 : BitVec 32) : Fin 1 → Nat :=
  let c128_i32_860 : BitVec 32 := 128#32
  let v2187 : BitVec 32 := Scalar.muli v2186 c128_i32_860
  let v2188 : BitVec 32 := Scalar.addi v2187 c0_i32_861
  let v2189 : Index := Scalar.indexCast v2188
  ![v2189.toNat]

def k1_chk31 (v2186 : BitVec 32) : Prop :=
  (∀ (r : Fin 8), ∀ a, (k1_off246 v2186 (BitVec.ofNat 32 (16 * r.val))) a + S16.size a ≤ S40192.size a)
theorem k1_off246_inb : ∀ (v2186 : BitVec 32) (k1_hw31 : k1_chk31 v2186), ∀ (r : Fin 8), ∀ a, (k1_off246 v2186 (BitVec.ofNat 32 (16 * r.val))) a + S16.size a ≤ S40192.size a := fun v2186 k1_hw31 r => k1_hw31 r

def k1_off247 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2191 : Index := Scalar.indexCast v94
  let c25_i32 : BitVec 32 := 25#32
  let v2192 : Index := Scalar.indexCast c25_i32
  let c0_862 : Index := 0#32
  ![v2191.toNat, 25, 0]
def k1_off248 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2201 : Index := Scalar.indexCast v94
  let c25_i32_865 : BitVec 32 := 25#32
  let v2202 : Index := Scalar.indexCast c25_i32_865
  let c16_866 : Index := 16#32
  ![v2201.toNat, 25, 16]
def k1_off249 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2211 : Index := Scalar.indexCast v94
  let c25_i32_869 : BitVec 32 := 25#32
  let v2212 : Index := Scalar.indexCast c25_i32_869
  let c32_870 : Index := 32#32
  ![v2211.toNat, 25, 32]
def k1_off250 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2221 : Index := Scalar.indexCast v94
  let c25_i32_873 : BitVec 32 := 25#32
  let v2222 : Index := Scalar.indexCast c25_i32_873
  let c48_874 : Index := 48#32
  ![v2221.toNat, 25, 48]
def k1_off251 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2231 : Index := Scalar.indexCast v94
  let c25_i32_877 : BitVec 32 := 25#32
  let v2232 : Index := Scalar.indexCast c25_i32_877
  let c64_878 : Index := 64#32
  ![v2231.toNat, 25, 64]
def k1_off252 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2241 : Index := Scalar.indexCast v94
  let c25_i32_881 : BitVec 32 := 25#32
  let v2242 : Index := Scalar.indexCast c25_i32_881
  let c80_882 : Index := 80#32
  ![v2241.toNat, 25, 80]
def k1_off253 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2251 : Index := Scalar.indexCast v94
  let c25_i32_885 : BitVec 32 := 25#32
  let v2252 : Index := Scalar.indexCast c25_i32_885
  let c96_886 : Index := 96#32
  ![v2251.toNat, 25, 96]
def k1_off254 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2261 : Index := Scalar.indexCast v94
  let c25_i32_889 : BitVec 32 := 25#32
  let v2262 : Index := Scalar.indexCast c25_i32_889
  let c112_890 : Index := 112#32
  ![v2261.toNat, 25, 112]
def k1_off255 (v2269 : BitVec 32) (c0_i32_893 : BitVec 32) : Fin 1 → Nat :=
  let c128_i32_892 : BitVec 32 := 128#32
  let v2270 : BitVec 32 := Scalar.muli v2269 c128_i32_892
  let v2271 : BitVec 32 := Scalar.addi v2270 c0_i32_893
  let v2272 : Index := Scalar.indexCast v2271
  ![v2272.toNat]

def k1_chk32 (v2269 : BitVec 32) : Prop :=
  (∀ (r : Fin 8), ∀ a, (k1_off255 v2269 (BitVec.ofNat 32 (16 * r.val))) a + S16.size a ≤ S40192.size a)
theorem k1_off255_inb : ∀ (v2269 : BitVec 32) (k1_hw32 : k1_chk32 v2269), ∀ (r : Fin 8), ∀ a, (k1_off255 v2269 (BitVec.ofNat 32 (16 * r.val))) a + S16.size a ≤ S40192.size a := fun v2269 k1_hw32 r => k1_hw32 r

def k1_off256 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2274 : Index := Scalar.indexCast v94
  let c26_i32 : BitVec 32 := 26#32
  let v2275 : Index := Scalar.indexCast c26_i32
  let c0_894 : Index := 0#32
  ![v2274.toNat, 26, 0]
def k1_off257 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2284 : Index := Scalar.indexCast v94
  let c26_i32_897 : BitVec 32 := 26#32
  let v2285 : Index := Scalar.indexCast c26_i32_897
  let c16_898 : Index := 16#32
  ![v2284.toNat, 26, 16]
def k1_off258 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2294 : Index := Scalar.indexCast v94
  let c26_i32_901 : BitVec 32 := 26#32
  let v2295 : Index := Scalar.indexCast c26_i32_901
  let c32_902 : Index := 32#32
  ![v2294.toNat, 26, 32]
def k1_off259 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2304 : Index := Scalar.indexCast v94
  let c26_i32_905 : BitVec 32 := 26#32
  let v2305 : Index := Scalar.indexCast c26_i32_905
  let c48_906 : Index := 48#32
  ![v2304.toNat, 26, 48]
def k1_off260 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2314 : Index := Scalar.indexCast v94
  let c26_i32_909 : BitVec 32 := 26#32
  let v2315 : Index := Scalar.indexCast c26_i32_909
  let c64_910 : Index := 64#32
  ![v2314.toNat, 26, 64]
def k1_off261 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2324 : Index := Scalar.indexCast v94
  let c26_i32_913 : BitVec 32 := 26#32
  let v2325 : Index := Scalar.indexCast c26_i32_913
  let c80_914 : Index := 80#32
  ![v2324.toNat, 26, 80]
def k1_off262 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2334 : Index := Scalar.indexCast v94
  let c26_i32_917 : BitVec 32 := 26#32
  let v2335 : Index := Scalar.indexCast c26_i32_917
  let c96_918 : Index := 96#32
  ![v2334.toNat, 26, 96]
def k1_off263 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2344 : Index := Scalar.indexCast v94
  let c26_i32_921 : BitVec 32 := 26#32
  let v2345 : Index := Scalar.indexCast c26_i32_921
  let c112_922 : Index := 112#32
  ![v2344.toNat, 26, 112]
def k1_off264 (v2352 : BitVec 32) (c0_i32_925 : BitVec 32) : Fin 1 → Nat :=
  let c128_i32_924 : BitVec 32 := 128#32
  let v2353 : BitVec 32 := Scalar.muli v2352 c128_i32_924
  let v2354 : BitVec 32 := Scalar.addi v2353 c0_i32_925
  let v2355 : Index := Scalar.indexCast v2354
  ![v2355.toNat]

def k1_chk33 (v2352 : BitVec 32) : Prop :=
  (∀ (r : Fin 8), ∀ a, (k1_off264 v2352 (BitVec.ofNat 32 (16 * r.val))) a + S16.size a ≤ S40192.size a)
theorem k1_off264_inb : ∀ (v2352 : BitVec 32) (k1_hw33 : k1_chk33 v2352), ∀ (r : Fin 8), ∀ a, (k1_off264 v2352 (BitVec.ofNat 32 (16 * r.val))) a + S16.size a ≤ S40192.size a := fun v2352 k1_hw33 r => k1_hw33 r

def k1_off265 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2357 : Index := Scalar.indexCast v94
  let c27_i32 : BitVec 32 := 27#32
  let v2358 : Index := Scalar.indexCast c27_i32
  let c0_926 : Index := 0#32
  ![v2357.toNat, 27, 0]
def k1_off266 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2367 : Index := Scalar.indexCast v94
  let c27_i32_929 : BitVec 32 := 27#32
  let v2368 : Index := Scalar.indexCast c27_i32_929
  let c16_930 : Index := 16#32
  ![v2367.toNat, 27, 16]
def k1_off267 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2377 : Index := Scalar.indexCast v94
  let c27_i32_933 : BitVec 32 := 27#32
  let v2378 : Index := Scalar.indexCast c27_i32_933
  let c32_934 : Index := 32#32
  ![v2377.toNat, 27, 32]
def k1_off268 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2387 : Index := Scalar.indexCast v94
  let c27_i32_937 : BitVec 32 := 27#32
  let v2388 : Index := Scalar.indexCast c27_i32_937
  let c48_938 : Index := 48#32
  ![v2387.toNat, 27, 48]
def k1_off269 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2397 : Index := Scalar.indexCast v94
  let c27_i32_941 : BitVec 32 := 27#32
  let v2398 : Index := Scalar.indexCast c27_i32_941
  let c64_942 : Index := 64#32
  ![v2397.toNat, 27, 64]
def k1_off270 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2407 : Index := Scalar.indexCast v94
  let c27_i32_945 : BitVec 32 := 27#32
  let v2408 : Index := Scalar.indexCast c27_i32_945
  let c80_946 : Index := 80#32
  ![v2407.toNat, 27, 80]
def k1_off271 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2417 : Index := Scalar.indexCast v94
  let c27_i32_949 : BitVec 32 := 27#32
  let v2418 : Index := Scalar.indexCast c27_i32_949
  let c96_950 : Index := 96#32
  ![v2417.toNat, 27, 96]
def k1_off272 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2427 : Index := Scalar.indexCast v94
  let c27_i32_953 : BitVec 32 := 27#32
  let v2428 : Index := Scalar.indexCast c27_i32_953
  let c112_954 : Index := 112#32
  ![v2427.toNat, 27, 112]
def k1_off273 (v2435 : BitVec 32) (c0_i32_957 : BitVec 32) : Fin 1 → Nat :=
  let c128_i32_956 : BitVec 32 := 128#32
  let v2436 : BitVec 32 := Scalar.muli v2435 c128_i32_956
  let v2437 : BitVec 32 := Scalar.addi v2436 c0_i32_957
  let v2438 : Index := Scalar.indexCast v2437
  ![v2438.toNat]

def k1_chk34 (v2435 : BitVec 32) : Prop :=
  (∀ (r : Fin 8), ∀ a, (k1_off273 v2435 (BitVec.ofNat 32 (16 * r.val))) a + S16.size a ≤ S40192.size a)
theorem k1_off273_inb : ∀ (v2435 : BitVec 32) (k1_hw34 : k1_chk34 v2435), ∀ (r : Fin 8), ∀ a, (k1_off273 v2435 (BitVec.ofNat 32 (16 * r.val))) a + S16.size a ≤ S40192.size a := fun v2435 k1_hw34 r => k1_hw34 r

def k1_off274 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2440 : Index := Scalar.indexCast v94
  let c28_i32 : BitVec 32 := 28#32
  let v2441 : Index := Scalar.indexCast c28_i32
  let c0_958 : Index := 0#32
  ![v2440.toNat, 28, 0]
def k1_off275 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2450 : Index := Scalar.indexCast v94
  let c28_i32_961 : BitVec 32 := 28#32
  let v2451 : Index := Scalar.indexCast c28_i32_961
  let c16_962 : Index := 16#32
  ![v2450.toNat, 28, 16]
def k1_off276 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2460 : Index := Scalar.indexCast v94
  let c28_i32_965 : BitVec 32 := 28#32
  let v2461 : Index := Scalar.indexCast c28_i32_965
  let c32_966 : Index := 32#32
  ![v2460.toNat, 28, 32]
def k1_off277 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2470 : Index := Scalar.indexCast v94
  let c28_i32_969 : BitVec 32 := 28#32
  let v2471 : Index := Scalar.indexCast c28_i32_969
  let c48_970 : Index := 48#32
  ![v2470.toNat, 28, 48]
def k1_off278 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2480 : Index := Scalar.indexCast v94
  let c28_i32_973 : BitVec 32 := 28#32
  let v2481 : Index := Scalar.indexCast c28_i32_973
  let c64_974 : Index := 64#32
  ![v2480.toNat, 28, 64]
def k1_off279 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2490 : Index := Scalar.indexCast v94
  let c28_i32_977 : BitVec 32 := 28#32
  let v2491 : Index := Scalar.indexCast c28_i32_977
  let c80_978 : Index := 80#32
  ![v2490.toNat, 28, 80]
def k1_off280 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2500 : Index := Scalar.indexCast v94
  let c28_i32_981 : BitVec 32 := 28#32
  let v2501 : Index := Scalar.indexCast c28_i32_981
  let c96_982 : Index := 96#32
  ![v2500.toNat, 28, 96]
def k1_off281 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2510 : Index := Scalar.indexCast v94
  let c28_i32_985 : BitVec 32 := 28#32
  let v2511 : Index := Scalar.indexCast c28_i32_985
  let c112_986 : Index := 112#32
  ![v2510.toNat, 28, 112]
def k1_off282 (v2518 : BitVec 32) (c0_i32_989 : BitVec 32) : Fin 1 → Nat :=
  let c128_i32_988 : BitVec 32 := 128#32
  let v2519 : BitVec 32 := Scalar.muli v2518 c128_i32_988
  let v2520 : BitVec 32 := Scalar.addi v2519 c0_i32_989
  let v2521 : Index := Scalar.indexCast v2520
  ![v2521.toNat]

def k1_chk35 (v2518 : BitVec 32) : Prop :=
  (∀ (r : Fin 8), ∀ a, (k1_off282 v2518 (BitVec.ofNat 32 (16 * r.val))) a + S16.size a ≤ S40192.size a)
theorem k1_off282_inb : ∀ (v2518 : BitVec 32) (k1_hw35 : k1_chk35 v2518), ∀ (r : Fin 8), ∀ a, (k1_off282 v2518 (BitVec.ofNat 32 (16 * r.val))) a + S16.size a ≤ S40192.size a := fun v2518 k1_hw35 r => k1_hw35 r

def k1_off283 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2523 : Index := Scalar.indexCast v94
  let c29_i32 : BitVec 32 := 29#32
  let v2524 : Index := Scalar.indexCast c29_i32
  let c0_990 : Index := 0#32
  ![v2523.toNat, 29, 0]
def k1_off284 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2533 : Index := Scalar.indexCast v94
  let c29_i32_993 : BitVec 32 := 29#32
  let v2534 : Index := Scalar.indexCast c29_i32_993
  let c16_994 : Index := 16#32
  ![v2533.toNat, 29, 16]
def k1_off285 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2543 : Index := Scalar.indexCast v94
  let c29_i32_997 : BitVec 32 := 29#32
  let v2544 : Index := Scalar.indexCast c29_i32_997
  let c32_998 : Index := 32#32
  ![v2543.toNat, 29, 32]
def k1_off286 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2553 : Index := Scalar.indexCast v94
  let c29_i32_1001 : BitVec 32 := 29#32
  let v2554 : Index := Scalar.indexCast c29_i32_1001
  let c48_1002 : Index := 48#32
  ![v2553.toNat, 29, 48]
def k1_off287 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2563 : Index := Scalar.indexCast v94
  let c29_i32_1005 : BitVec 32 := 29#32
  let v2564 : Index := Scalar.indexCast c29_i32_1005
  let c64_1006 : Index := 64#32
  ![v2563.toNat, 29, 64]
def k1_off288 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2573 : Index := Scalar.indexCast v94
  let c29_i32_1009 : BitVec 32 := 29#32
  let v2574 : Index := Scalar.indexCast c29_i32_1009
  let c80_1010 : Index := 80#32
  ![v2573.toNat, 29, 80]
def k1_off289 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2583 : Index := Scalar.indexCast v94
  let c29_i32_1013 : BitVec 32 := 29#32
  let v2584 : Index := Scalar.indexCast c29_i32_1013
  let c96_1014 : Index := 96#32
  ![v2583.toNat, 29, 96]
def k1_off290 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2593 : Index := Scalar.indexCast v94
  let c29_i32_1017 : BitVec 32 := 29#32
  let v2594 : Index := Scalar.indexCast c29_i32_1017
  let c112_1018 : Index := 112#32
  ![v2593.toNat, 29, 112]
def k1_off291 (v2601 : BitVec 32) (c0_i32_1021 : BitVec 32) : Fin 1 → Nat :=
  let c128_i32_1020 : BitVec 32 := 128#32
  let v2602 : BitVec 32 := Scalar.muli v2601 c128_i32_1020
  let v2603 : BitVec 32 := Scalar.addi v2602 c0_i32_1021
  let v2604 : Index := Scalar.indexCast v2603
  ![v2604.toNat]

def k1_chk36 (v2601 : BitVec 32) : Prop :=
  (∀ (r : Fin 8), ∀ a, (k1_off291 v2601 (BitVec.ofNat 32 (16 * r.val))) a + S16.size a ≤ S40192.size a)
theorem k1_off291_inb : ∀ (v2601 : BitVec 32) (k1_hw36 : k1_chk36 v2601), ∀ (r : Fin 8), ∀ a, (k1_off291 v2601 (BitVec.ofNat 32 (16 * r.val))) a + S16.size a ≤ S40192.size a := fun v2601 k1_hw36 r => k1_hw36 r

def k1_off292 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2606 : Index := Scalar.indexCast v94
  let c30_i32 : BitVec 32 := 30#32
  let v2607 : Index := Scalar.indexCast c30_i32
  let c0_1022 : Index := 0#32
  ![v2606.toNat, 30, 0]
def k1_off293 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2616 : Index := Scalar.indexCast v94
  let c30_i32_1025 : BitVec 32 := 30#32
  let v2617 : Index := Scalar.indexCast c30_i32_1025
  let c16_1026 : Index := 16#32
  ![v2616.toNat, 30, 16]
def k1_off294 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2626 : Index := Scalar.indexCast v94
  let c30_i32_1029 : BitVec 32 := 30#32
  let v2627 : Index := Scalar.indexCast c30_i32_1029
  let c32_1030 : Index := 32#32
  ![v2626.toNat, 30, 32]
def k1_off295 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2636 : Index := Scalar.indexCast v94
  let c30_i32_1033 : BitVec 32 := 30#32
  let v2637 : Index := Scalar.indexCast c30_i32_1033
  let c48_1034 : Index := 48#32
  ![v2636.toNat, 30, 48]
def k1_off296 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2646 : Index := Scalar.indexCast v94
  let c30_i32_1037 : BitVec 32 := 30#32
  let v2647 : Index := Scalar.indexCast c30_i32_1037
  let c64_1038 : Index := 64#32
  ![v2646.toNat, 30, 64]
def k1_off297 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2656 : Index := Scalar.indexCast v94
  let c30_i32_1041 : BitVec 32 := 30#32
  let v2657 : Index := Scalar.indexCast c30_i32_1041
  let c80_1042 : Index := 80#32
  ![v2656.toNat, 30, 80]
def k1_off298 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2666 : Index := Scalar.indexCast v94
  let c30_i32_1045 : BitVec 32 := 30#32
  let v2667 : Index := Scalar.indexCast c30_i32_1045
  let c96_1046 : Index := 96#32
  ![v2666.toNat, 30, 96]
def k1_off299 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2676 : Index := Scalar.indexCast v94
  let c30_i32_1049 : BitVec 32 := 30#32
  let v2677 : Index := Scalar.indexCast c30_i32_1049
  let c112_1050 : Index := 112#32
  ![v2676.toNat, 30, 112]
def k1_off300 (v2684 : BitVec 32) (c0_i32_1053 : BitVec 32) : Fin 1 → Nat :=
  let c128_i32_1052 : BitVec 32 := 128#32
  let v2685 : BitVec 32 := Scalar.muli v2684 c128_i32_1052
  let v2686 : BitVec 32 := Scalar.addi v2685 c0_i32_1053
  let v2687 : Index := Scalar.indexCast v2686
  ![v2687.toNat]

def k1_chk37 (v2684 : BitVec 32) : Prop :=
  (∀ (r : Fin 8), ∀ a, (k1_off300 v2684 (BitVec.ofNat 32 (16 * r.val))) a + S16.size a ≤ S40192.size a)
theorem k1_off300_inb : ∀ (v2684 : BitVec 32) (k1_hw37 : k1_chk37 v2684), ∀ (r : Fin 8), ∀ a, (k1_off300 v2684 (BitVec.ofNat 32 (16 * r.val))) a + S16.size a ≤ S40192.size a := fun v2684 k1_hw37 r => k1_hw37 r

def k1_off301 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2689 : Index := Scalar.indexCast v94
  let c31_i32 : BitVec 32 := 31#32
  let v2690 : Index := Scalar.indexCast c31_i32
  let c0_1054 : Index := 0#32
  ![v2689.toNat, 31, 0]
def k1_off302 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2699 : Index := Scalar.indexCast v94
  let c31_i32_1057 : BitVec 32 := 31#32
  let v2700 : Index := Scalar.indexCast c31_i32_1057
  let c16_1058 : Index := 16#32
  ![v2699.toNat, 31, 16]
def k1_off303 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2709 : Index := Scalar.indexCast v94
  let c31_i32_1061 : BitVec 32 := 31#32
  let v2710 : Index := Scalar.indexCast c31_i32_1061
  let c32_1062 : Index := 32#32
  ![v2709.toNat, 31, 32]
def k1_off304 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2719 : Index := Scalar.indexCast v94
  let c31_i32_1065 : BitVec 32 := 31#32
  let v2720 : Index := Scalar.indexCast c31_i32_1065
  let c48_1066 : Index := 48#32
  ![v2719.toNat, 31, 48]
def k1_off305 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2729 : Index := Scalar.indexCast v94
  let c31_i32_1069 : BitVec 32 := 31#32
  let v2730 : Index := Scalar.indexCast c31_i32_1069
  let c64_1070 : Index := 64#32
  ![v2729.toNat, 31, 64]
def k1_off306 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2739 : Index := Scalar.indexCast v94
  let c31_i32_1073 : BitVec 32 := 31#32
  let v2740 : Index := Scalar.indexCast c31_i32_1073
  let c80_1074 : Index := 80#32
  ![v2739.toNat, 31, 80]
def k1_off307 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2749 : Index := Scalar.indexCast v94
  let c31_i32_1077 : BitVec 32 := 31#32
  let v2750 : Index := Scalar.indexCast c31_i32_1077
  let c96_1078 : Index := 96#32
  ![v2749.toNat, 31, 96]
def k1_off308 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32 : BitVec 32 := 4#32
  let v94 : BitVec 32 := Scalar.remsi arg16 c4_i32
  let v2759 : Index := Scalar.indexCast v94
  let c31_i32_1081 : BitVec 32 := 31#32
  let v2760 : Index := Scalar.indexCast c31_i32_1081
  let c112_1082 : Index := 112#32
  ![v2759.toNat, 31, 112]
def k1_off309 (v41 : BitVec 32) (k1_t4 : Fin (k1_t4_loop v41).trips) : Fin 3 → Nat :=
  let c0_i32_52 : BitVec 32 := 0#32
  let c1_i32_55 : BitVec 32 := 1#32
  let arg16 : BitVec 32 := Scf.iv c0_i32_52 c1_i32_55 k1_t4
  let c4_i32_1087 : BitVec 32 := 4#32
  let v2770 : BitVec 32 := Scalar.addi arg16 c4_i32_1087
  let c4_i32_1088 : BitVec 32 := 4#32
  let v2771 : BitVec 32 := Scalar.remsi v2770 c4_i32_1088
  let c0_i32_1090 : BitVec 32 := 0#32
  let c0_i32_1091 : BitVec 32 := 0#32
  ![v2771.toNat, 0, 0]
def k1_cond6 (v41 : BitVec 32) (k1_t4 : Fin (k1_t4_loop v41).trips) : BitVec 1 :=
  let c0_i32_52 : BitVec 32 := 0#32
  let c1_i32_55 : BitVec 32 := 1#32
  let arg16 : BitVec 32 := Scf.iv c0_i32_52 c1_i32_55 k1_t4
  let c4_i32_1084 : BitVec 32 := 4#32
  let v2766 : BitVec 32 := Scalar.addi arg16 c4_i32_1084
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v2767 : BitVec 1 := Scalar.cmpi .slt v2766 v74
  let v2768 : BitVec 32 := Scalar.extui v2767
  let c0_i32_1085 : BitVec 32 := 0#32
  let v2769 : BitVec 1 := Scalar.cmpi .ne v2768 c0_i32_1085
  v2769

def k1_off310 (v41 : BitVec 32) (k1_t4 : Fin (k1_t4_loop v41).trips) : Fin 1 → Nat :=
  let c0_i32_52 : BitVec 32 := 0#32
  let c1_i32_55 : BitVec 32 := 1#32
  let arg16 : BitVec 32 := Scf.iv c0_i32_52 c1_i32_55 k1_t4
  let c4_i32_1087 : BitVec 32 := 4#32
  let v2770 : BitVec 32 := Scalar.addi arg16 c4_i32_1087
  let c32_i32_1089 : BitVec 32 := 32#32
  let v2772 : BitVec 32 := Scalar.muli v2770 c32_i32_1089
  ![v2772.toNat]
def k1_off311 (v41 : BitVec 32) (k1_t4 : Fin (k1_t4_loop v41).trips) : Fin 1 → Nat :=
  let c0_i32_52 : BitVec 32 := 0#32
  let c1_i32_55 : BitVec 32 := 1#32
  let arg16 : BitVec 32 := Scf.iv c0_i32_52 c1_i32_55 k1_t4
  let c4_i32_1087 : BitVec 32 := 4#32
  let v2770 : BitVec 32 := Scalar.addi arg16 c4_i32_1087
  let c4_i32_1088 : BitVec 32 := 4#32
  let v2771 : BitVec 32 := Scalar.remsi v2770 c4_i32_1088
  ![v2771.toNat]
@[reducible] def k1_t5_loop (v41 : BitVec 32) : Scf.Loop 32 :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let v88 : BitVec 32 := Scalar.addi c0_i32_52 v87
  let c1_i32_56 : BitVec 32 := 1#32
  ⟨v91, v88, c1_i32_56⟩
def k1_off312 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let c0_i32_59 : BitVec 32 := 0#32
  let c0_i32_60 : BitVec 32 := 0#32
  ![v94.toNat, 0, 0]
def k1_off313 (v41 : BitVec 32) (k1_t5 : Fin (k1_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c32_i32_58 : BitVec 32 := 32#32
  let v95 : BitVec 32 := Scalar.muli arg16 c32_i32_58
  ![v95.toNat]
def k1_off314 (v41 : BitVec 32) (k1_t5 : Fin (k1_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  ![v94.toNat]
def k1_off315 (v41 : BitVec 32) (k1_t5 : Fin (k1_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c32_i32_63 : BitVec 32 := 32#32
  let v102 : BitVec 32 := Scalar.muli arg16 c32_i32_63
  let c0_i32_64 : BitVec 32 := 0#32
  let v103 : BitVec 32 := Scalar.addi v102 c0_i32_64
  let v104 : Index := Scalar.indexCast v103
  ![v104.toNat]
def k1_off316 (v107 : BitVec 32) (c0_i32_66 : BitVec 32) : Fin 1 → Nat :=
  let c128_i32_65 : BitVec 32 := 128#32
  let v108 : BitVec 32 := Scalar.muli v107 c128_i32_65
  let v109 : BitVec 32 := Scalar.addi v108 c0_i32_66
  let v110 : Index := Scalar.indexCast v109
  ![v110.toNat]

def k1_chk38 (v107 : BitVec 32) : Prop :=
  (∀ (r : Fin 8), ∀ a, (k1_off316 v107 (BitVec.ofNat 32 (16 * r.val))) a + S16.size a ≤ S40192.size a)
theorem k1_off316_inb : ∀ (v107 : BitVec 32) (k1_hw38 : k1_chk38 v107), ∀ (r : Fin 8), ∀ a, (k1_off316 v107 (BitVec.ofNat 32 (16 * r.val))) a + S16.size a ≤ S40192.size a := fun v107 k1_hw38 r => k1_hw38 r

def k1_off317 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v112 : Index := Scalar.indexCast v94
  let c0_i32_67 : BitVec 32 := 0#32
  let v113 : Index := Scalar.indexCast c0_i32_67
  let c0 : Index := 0#32
  ![v112.toNat, 0, 0]
def k1_off318 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v122 : Index := Scalar.indexCast v94
  let c0_i32_70 : BitVec 32 := 0#32
  let v123 : Index := Scalar.indexCast c0_i32_70
  let c16 : Index := 16#32
  ![v122.toNat, 0, 16]
def k1_off319 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v132 : Index := Scalar.indexCast v94
  let c0_i32_73 : BitVec 32 := 0#32
  let v133 : Index := Scalar.indexCast c0_i32_73
  let c32 : Index := 32#32
  ![v132.toNat, 0, 32]
def k1_off320 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v142 : Index := Scalar.indexCast v94
  let c0_i32_75 : BitVec 32 := 0#32
  let v143 : Index := Scalar.indexCast c0_i32_75
  let c48 : Index := 48#32
  ![v142.toNat, 0, 48]
def k1_off321 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v152 : Index := Scalar.indexCast v94
  let c0_i32_77 : BitVec 32 := 0#32
  let v153 : Index := Scalar.indexCast c0_i32_77
  let c64 : Index := 64#32
  ![v152.toNat, 0, 64]
def k1_off322 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v162 : Index := Scalar.indexCast v94
  let c0_i32_79 : BitVec 32 := 0#32
  let v163 : Index := Scalar.indexCast c0_i32_79
  let c80 : Index := 80#32
  ![v162.toNat, 0, 80]
def k1_off323 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v172 : Index := Scalar.indexCast v94
  let c0_i32_81 : BitVec 32 := 0#32
  let v173 : Index := Scalar.indexCast c0_i32_81
  let c96 : Index := 96#32
  ![v172.toNat, 0, 96]
def k1_off324 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v182 : Index := Scalar.indexCast v94
  let c0_i32_83 : BitVec 32 := 0#32
  let v183 : Index := Scalar.indexCast c0_i32_83
  let c112 : Index := 112#32
  ![v182.toNat, 0, 112]
def k1_off325 (v190 : BitVec 32) (c0_i32_86 : BitVec 32) : Fin 1 → Nat :=
  let c128_i32_85 : BitVec 32 := 128#32
  let v191 : BitVec 32 := Scalar.muli v190 c128_i32_85
  let v192 : BitVec 32 := Scalar.addi v191 c0_i32_86
  let v193 : Index := Scalar.indexCast v192
  ![v193.toNat]

def k1_chk39 (v190 : BitVec 32) : Prop :=
  (∀ (r : Fin 8), ∀ a, (k1_off325 v190 (BitVec.ofNat 32 (16 * r.val))) a + S16.size a ≤ S40192.size a)
theorem k1_off325_inb : ∀ (v190 : BitVec 32) (k1_hw39 : k1_chk39 v190), ∀ (r : Fin 8), ∀ a, (k1_off325 v190 (BitVec.ofNat 32 (16 * r.val))) a + S16.size a ≤ S40192.size a := fun v190 k1_hw39 r => k1_hw39 r

def k1_off326 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v195 : Index := Scalar.indexCast v94
  let c1_i32_87 : BitVec 32 := 1#32
  let v196 : Index := Scalar.indexCast c1_i32_87
  let c0_88 : Index := 0#32
  ![v195.toNat, 1, 0]
def k1_off327 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v205 : Index := Scalar.indexCast v94
  let c1_i32_91 : BitVec 32 := 1#32
  let v206 : Index := Scalar.indexCast c1_i32_91
  let c16_92 : Index := 16#32
  ![v205.toNat, 1, 16]
def k1_off328 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v215 : Index := Scalar.indexCast v94
  let c1_i32_95 : BitVec 32 := 1#32
  let v216 : Index := Scalar.indexCast c1_i32_95
  let c32_96 : Index := 32#32
  ![v215.toNat, 1, 32]
def k1_off329 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v225 : Index := Scalar.indexCast v94
  let c1_i32_99 : BitVec 32 := 1#32
  let v226 : Index := Scalar.indexCast c1_i32_99
  let c48_100 : Index := 48#32
  ![v225.toNat, 1, 48]
def k1_off330 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v235 : Index := Scalar.indexCast v94
  let c1_i32_103 : BitVec 32 := 1#32
  let v236 : Index := Scalar.indexCast c1_i32_103
  let c64_104 : Index := 64#32
  ![v235.toNat, 1, 64]
def k1_off331 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v245 : Index := Scalar.indexCast v94
  let c1_i32_107 : BitVec 32 := 1#32
  let v246 : Index := Scalar.indexCast c1_i32_107
  let c80_108 : Index := 80#32
  ![v245.toNat, 1, 80]
def k1_off332 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v255 : Index := Scalar.indexCast v94
  let c1_i32_111 : BitVec 32 := 1#32
  let v256 : Index := Scalar.indexCast c1_i32_111
  let c96_112 : Index := 96#32
  ![v255.toNat, 1, 96]
def k1_off333 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v265 : Index := Scalar.indexCast v94
  let c1_i32_115 : BitVec 32 := 1#32
  let v266 : Index := Scalar.indexCast c1_i32_115
  let c112_116 : Index := 112#32
  ![v265.toNat, 1, 112]
def k1_off334 (v273 : BitVec 32) (c0_i32_119 : BitVec 32) : Fin 1 → Nat :=
  let c128_i32_118 : BitVec 32 := 128#32
  let v274 : BitVec 32 := Scalar.muli v273 c128_i32_118
  let v275 : BitVec 32 := Scalar.addi v274 c0_i32_119
  let v276 : Index := Scalar.indexCast v275
  ![v276.toNat]

def k1_chk40 (v273 : BitVec 32) : Prop :=
  (∀ (r : Fin 8), ∀ a, (k1_off334 v273 (BitVec.ofNat 32 (16 * r.val))) a + S16.size a ≤ S40192.size a)
theorem k1_off334_inb : ∀ (v273 : BitVec 32) (k1_hw40 : k1_chk40 v273), ∀ (r : Fin 8), ∀ a, (k1_off334 v273 (BitVec.ofNat 32 (16 * r.val))) a + S16.size a ≤ S40192.size a := fun v273 k1_hw40 r => k1_hw40 r

def k1_off335 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v278 : Index := Scalar.indexCast v94
  let c2_i32_120 : BitVec 32 := 2#32
  let v279 : Index := Scalar.indexCast c2_i32_120
  let c0_121 : Index := 0#32
  ![v278.toNat, 2, 0]
def k1_off336 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v288 : Index := Scalar.indexCast v94
  let c2_i32_124 : BitVec 32 := 2#32
  let v289 : Index := Scalar.indexCast c2_i32_124
  let c16_125 : Index := 16#32
  ![v288.toNat, 2, 16]
def k1_off337 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v298 : Index := Scalar.indexCast v94
  let c2_i32_128 : BitVec 32 := 2#32
  let v299 : Index := Scalar.indexCast c2_i32_128
  let c32_129 : Index := 32#32
  ![v298.toNat, 2, 32]
def k1_off338 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v308 : Index := Scalar.indexCast v94
  let c2_i32_132 : BitVec 32 := 2#32
  let v309 : Index := Scalar.indexCast c2_i32_132
  let c48_133 : Index := 48#32
  ![v308.toNat, 2, 48]
def k1_off339 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v318 : Index := Scalar.indexCast v94
  let c2_i32_136 : BitVec 32 := 2#32
  let v319 : Index := Scalar.indexCast c2_i32_136
  let c64_137 : Index := 64#32
  ![v318.toNat, 2, 64]
def k1_off340 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v328 : Index := Scalar.indexCast v94
  let c2_i32_140 : BitVec 32 := 2#32
  let v329 : Index := Scalar.indexCast c2_i32_140
  let c80_141 : Index := 80#32
  ![v328.toNat, 2, 80]
def k1_off341 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v338 : Index := Scalar.indexCast v94
  let c2_i32_144 : BitVec 32 := 2#32
  let v339 : Index := Scalar.indexCast c2_i32_144
  let c96_145 : Index := 96#32
  ![v338.toNat, 2, 96]
def k1_off342 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v348 : Index := Scalar.indexCast v94
  let c2_i32_148 : BitVec 32 := 2#32
  let v349 : Index := Scalar.indexCast c2_i32_148
  let c112_149 : Index := 112#32
  ![v348.toNat, 2, 112]
def k1_off343 (v356 : BitVec 32) (c0_i32_152 : BitVec 32) : Fin 1 → Nat :=
  let c128_i32_151 : BitVec 32 := 128#32
  let v357 : BitVec 32 := Scalar.muli v356 c128_i32_151
  let v358 : BitVec 32 := Scalar.addi v357 c0_i32_152
  let v359 : Index := Scalar.indexCast v358
  ![v359.toNat]

def k1_chk41 (v356 : BitVec 32) : Prop :=
  (∀ (r : Fin 8), ∀ a, (k1_off343 v356 (BitVec.ofNat 32 (16 * r.val))) a + S16.size a ≤ S40192.size a)
theorem k1_off343_inb : ∀ (v356 : BitVec 32) (k1_hw41 : k1_chk41 v356), ∀ (r : Fin 8), ∀ a, (k1_off343 v356 (BitVec.ofNat 32 (16 * r.val))) a + S16.size a ≤ S40192.size a := fun v356 k1_hw41 r => k1_hw41 r

def k1_off344 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v361 : Index := Scalar.indexCast v94
  let c3_i32_153 : BitVec 32 := 3#32
  let v362 : Index := Scalar.indexCast c3_i32_153
  let c0_154 : Index := 0#32
  ![v361.toNat, 3, 0]
def k1_off345 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v371 : Index := Scalar.indexCast v94
  let c3_i32_157 : BitVec 32 := 3#32
  let v372 : Index := Scalar.indexCast c3_i32_157
  let c16_158 : Index := 16#32
  ![v371.toNat, 3, 16]
def k1_off346 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v381 : Index := Scalar.indexCast v94
  let c3_i32_161 : BitVec 32 := 3#32
  let v382 : Index := Scalar.indexCast c3_i32_161
  let c32_162 : Index := 32#32
  ![v381.toNat, 3, 32]
def k1_off347 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v391 : Index := Scalar.indexCast v94
  let c3_i32_165 : BitVec 32 := 3#32
  let v392 : Index := Scalar.indexCast c3_i32_165
  let c48_166 : Index := 48#32
  ![v391.toNat, 3, 48]
def k1_off348 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v401 : Index := Scalar.indexCast v94
  let c3_i32_169 : BitVec 32 := 3#32
  let v402 : Index := Scalar.indexCast c3_i32_169
  let c64_170 : Index := 64#32
  ![v401.toNat, 3, 64]
def k1_off349 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v411 : Index := Scalar.indexCast v94
  let c3_i32_173 : BitVec 32 := 3#32
  let v412 : Index := Scalar.indexCast c3_i32_173
  let c80_174 : Index := 80#32
  ![v411.toNat, 3, 80]
def k1_off350 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v421 : Index := Scalar.indexCast v94
  let c3_i32_177 : BitVec 32 := 3#32
  let v422 : Index := Scalar.indexCast c3_i32_177
  let c96_178 : Index := 96#32
  ![v421.toNat, 3, 96]
def k1_off351 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v431 : Index := Scalar.indexCast v94
  let c3_i32_181 : BitVec 32 := 3#32
  let v432 : Index := Scalar.indexCast c3_i32_181
  let c112_182 : Index := 112#32
  ![v431.toNat, 3, 112]
def k1_off352 (v439 : BitVec 32) (c0_i32_185 : BitVec 32) : Fin 1 → Nat :=
  let c128_i32_184 : BitVec 32 := 128#32
  let v440 : BitVec 32 := Scalar.muli v439 c128_i32_184
  let v441 : BitVec 32 := Scalar.addi v440 c0_i32_185
  let v442 : Index := Scalar.indexCast v441
  ![v442.toNat]

def k1_chk42 (v439 : BitVec 32) : Prop :=
  (∀ (r : Fin 8), ∀ a, (k1_off352 v439 (BitVec.ofNat 32 (16 * r.val))) a + S16.size a ≤ S40192.size a)
theorem k1_off352_inb : ∀ (v439 : BitVec 32) (k1_hw42 : k1_chk42 v439), ∀ (r : Fin 8), ∀ a, (k1_off352 v439 (BitVec.ofNat 32 (16 * r.val))) a + S16.size a ≤ S40192.size a := fun v439 k1_hw42 r => k1_hw42 r

def k1_off353 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v444 : Index := Scalar.indexCast v94
  let c4_i32_186 : BitVec 32 := 4#32
  let v445 : Index := Scalar.indexCast c4_i32_186
  let c0_187 : Index := 0#32
  ![v444.toNat, 4, 0]
def k1_off354 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v454 : Index := Scalar.indexCast v94
  let c4_i32_190 : BitVec 32 := 4#32
  let v455 : Index := Scalar.indexCast c4_i32_190
  let c16_191 : Index := 16#32
  ![v454.toNat, 4, 16]
def k1_off355 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v464 : Index := Scalar.indexCast v94
  let c4_i32_194 : BitVec 32 := 4#32
  let v465 : Index := Scalar.indexCast c4_i32_194
  let c32_195 : Index := 32#32
  ![v464.toNat, 4, 32]
def k1_off356 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v474 : Index := Scalar.indexCast v94
  let c4_i32_198 : BitVec 32 := 4#32
  let v475 : Index := Scalar.indexCast c4_i32_198
  let c48_199 : Index := 48#32
  ![v474.toNat, 4, 48]
def k1_off357 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v484 : Index := Scalar.indexCast v94
  let c4_i32_202 : BitVec 32 := 4#32
  let v485 : Index := Scalar.indexCast c4_i32_202
  let c64_203 : Index := 64#32
  ![v484.toNat, 4, 64]
def k1_off358 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v494 : Index := Scalar.indexCast v94
  let c4_i32_206 : BitVec 32 := 4#32
  let v495 : Index := Scalar.indexCast c4_i32_206
  let c80_207 : Index := 80#32
  ![v494.toNat, 4, 80]
def k1_off359 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v504 : Index := Scalar.indexCast v94
  let c4_i32_210 : BitVec 32 := 4#32
  let v505 : Index := Scalar.indexCast c4_i32_210
  let c96_211 : Index := 96#32
  ![v504.toNat, 4, 96]
def k1_off360 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v514 : Index := Scalar.indexCast v94
  let c4_i32_214 : BitVec 32 := 4#32
  let v515 : Index := Scalar.indexCast c4_i32_214
  let c112_215 : Index := 112#32
  ![v514.toNat, 4, 112]
def k1_off361 (v522 : BitVec 32) (c0_i32_218 : BitVec 32) : Fin 1 → Nat :=
  let c128_i32_217 : BitVec 32 := 128#32
  let v523 : BitVec 32 := Scalar.muli v522 c128_i32_217
  let v524 : BitVec 32 := Scalar.addi v523 c0_i32_218
  let v525 : Index := Scalar.indexCast v524
  ![v525.toNat]

def k1_chk43 (v522 : BitVec 32) : Prop :=
  (∀ (r : Fin 8), ∀ a, (k1_off361 v522 (BitVec.ofNat 32 (16 * r.val))) a + S16.size a ≤ S40192.size a)
theorem k1_off361_inb : ∀ (v522 : BitVec 32) (k1_hw43 : k1_chk43 v522), ∀ (r : Fin 8), ∀ a, (k1_off361 v522 (BitVec.ofNat 32 (16 * r.val))) a + S16.size a ≤ S40192.size a := fun v522 k1_hw43 r => k1_hw43 r

def k1_off362 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v527 : Index := Scalar.indexCast v94
  let c5_i32 : BitVec 32 := 5#32
  let v528 : Index := Scalar.indexCast c5_i32
  let c0_219 : Index := 0#32
  ![v527.toNat, 5, 0]
def k1_off363 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v537 : Index := Scalar.indexCast v94
  let c5_i32_222 : BitVec 32 := 5#32
  let v538 : Index := Scalar.indexCast c5_i32_222
  let c16_223 : Index := 16#32
  ![v537.toNat, 5, 16]
def k1_off364 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v547 : Index := Scalar.indexCast v94
  let c5_i32_226 : BitVec 32 := 5#32
  let v548 : Index := Scalar.indexCast c5_i32_226
  let c32_227 : Index := 32#32
  ![v547.toNat, 5, 32]
def k1_off365 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v557 : Index := Scalar.indexCast v94
  let c5_i32_230 : BitVec 32 := 5#32
  let v558 : Index := Scalar.indexCast c5_i32_230
  let c48_231 : Index := 48#32
  ![v557.toNat, 5, 48]
def k1_off366 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v567 : Index := Scalar.indexCast v94
  let c5_i32_234 : BitVec 32 := 5#32
  let v568 : Index := Scalar.indexCast c5_i32_234
  let c64_235 : Index := 64#32
  ![v567.toNat, 5, 64]
def k1_off367 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v577 : Index := Scalar.indexCast v94
  let c5_i32_238 : BitVec 32 := 5#32
  let v578 : Index := Scalar.indexCast c5_i32_238
  let c80_239 : Index := 80#32
  ![v577.toNat, 5, 80]
def k1_off368 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v587 : Index := Scalar.indexCast v94
  let c5_i32_242 : BitVec 32 := 5#32
  let v588 : Index := Scalar.indexCast c5_i32_242
  let c96_243 : Index := 96#32
  ![v587.toNat, 5, 96]
def k1_off369 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v597 : Index := Scalar.indexCast v94
  let c5_i32_246 : BitVec 32 := 5#32
  let v598 : Index := Scalar.indexCast c5_i32_246
  let c112_247 : Index := 112#32
  ![v597.toNat, 5, 112]
def k1_off370 (v605 : BitVec 32) (c0_i32_250 : BitVec 32) : Fin 1 → Nat :=
  let c128_i32_249 : BitVec 32 := 128#32
  let v606 : BitVec 32 := Scalar.muli v605 c128_i32_249
  let v607 : BitVec 32 := Scalar.addi v606 c0_i32_250
  let v608 : Index := Scalar.indexCast v607
  ![v608.toNat]

def k1_chk44 (v605 : BitVec 32) : Prop :=
  (∀ (r : Fin 8), ∀ a, (k1_off370 v605 (BitVec.ofNat 32 (16 * r.val))) a + S16.size a ≤ S40192.size a)
theorem k1_off370_inb : ∀ (v605 : BitVec 32) (k1_hw44 : k1_chk44 v605), ∀ (r : Fin 8), ∀ a, (k1_off370 v605 (BitVec.ofNat 32 (16 * r.val))) a + S16.size a ≤ S40192.size a := fun v605 k1_hw44 r => k1_hw44 r

def k1_off371 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v610 : Index := Scalar.indexCast v94
  let c6_i32 : BitVec 32 := 6#32
  let v611 : Index := Scalar.indexCast c6_i32
  let c0_251 : Index := 0#32
  ![v610.toNat, 6, 0]
def k1_off372 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v620 : Index := Scalar.indexCast v94
  let c6_i32_254 : BitVec 32 := 6#32
  let v621 : Index := Scalar.indexCast c6_i32_254
  let c16_255 : Index := 16#32
  ![v620.toNat, 6, 16]
def k1_off373 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v630 : Index := Scalar.indexCast v94
  let c6_i32_258 : BitVec 32 := 6#32
  let v631 : Index := Scalar.indexCast c6_i32_258
  let c32_259 : Index := 32#32
  ![v630.toNat, 6, 32]
def k1_off374 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v640 : Index := Scalar.indexCast v94
  let c6_i32_262 : BitVec 32 := 6#32
  let v641 : Index := Scalar.indexCast c6_i32_262
  let c48_263 : Index := 48#32
  ![v640.toNat, 6, 48]
def k1_off375 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v650 : Index := Scalar.indexCast v94
  let c6_i32_266 : BitVec 32 := 6#32
  let v651 : Index := Scalar.indexCast c6_i32_266
  let c64_267 : Index := 64#32
  ![v650.toNat, 6, 64]
def k1_off376 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v660 : Index := Scalar.indexCast v94
  let c6_i32_270 : BitVec 32 := 6#32
  let v661 : Index := Scalar.indexCast c6_i32_270
  let c80_271 : Index := 80#32
  ![v660.toNat, 6, 80]
def k1_off377 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v670 : Index := Scalar.indexCast v94
  let c6_i32_274 : BitVec 32 := 6#32
  let v671 : Index := Scalar.indexCast c6_i32_274
  let c96_275 : Index := 96#32
  ![v670.toNat, 6, 96]
def k1_off378 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v680 : Index := Scalar.indexCast v94
  let c6_i32_278 : BitVec 32 := 6#32
  let v681 : Index := Scalar.indexCast c6_i32_278
  let c112_279 : Index := 112#32
  ![v680.toNat, 6, 112]
def k1_off379 (v688 : BitVec 32) (c0_i32_282 : BitVec 32) : Fin 1 → Nat :=
  let c128_i32_281 : BitVec 32 := 128#32
  let v689 : BitVec 32 := Scalar.muli v688 c128_i32_281
  let v690 : BitVec 32 := Scalar.addi v689 c0_i32_282
  let v691 : Index := Scalar.indexCast v690
  ![v691.toNat]

def k1_chk45 (v688 : BitVec 32) : Prop :=
  (∀ (r : Fin 8), ∀ a, (k1_off379 v688 (BitVec.ofNat 32 (16 * r.val))) a + S16.size a ≤ S40192.size a)
theorem k1_off379_inb : ∀ (v688 : BitVec 32) (k1_hw45 : k1_chk45 v688), ∀ (r : Fin 8), ∀ a, (k1_off379 v688 (BitVec.ofNat 32 (16 * r.val))) a + S16.size a ≤ S40192.size a := fun v688 k1_hw45 r => k1_hw45 r

def k1_off380 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v693 : Index := Scalar.indexCast v94
  let c7_i32 : BitVec 32 := 7#32
  let v694 : Index := Scalar.indexCast c7_i32
  let c0_283 : Index := 0#32
  ![v693.toNat, 7, 0]
def k1_off381 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v703 : Index := Scalar.indexCast v94
  let c7_i32_286 : BitVec 32 := 7#32
  let v704 : Index := Scalar.indexCast c7_i32_286
  let c16_287 : Index := 16#32
  ![v703.toNat, 7, 16]
def k1_off382 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v713 : Index := Scalar.indexCast v94
  let c7_i32_290 : BitVec 32 := 7#32
  let v714 : Index := Scalar.indexCast c7_i32_290
  let c32_291 : Index := 32#32
  ![v713.toNat, 7, 32]
def k1_off383 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v723 : Index := Scalar.indexCast v94
  let c7_i32_294 : BitVec 32 := 7#32
  let v724 : Index := Scalar.indexCast c7_i32_294
  let c48_295 : Index := 48#32
  ![v723.toNat, 7, 48]
def k1_off384 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v733 : Index := Scalar.indexCast v94
  let c7_i32_298 : BitVec 32 := 7#32
  let v734 : Index := Scalar.indexCast c7_i32_298
  let c64_299 : Index := 64#32
  ![v733.toNat, 7, 64]
def k1_off385 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v743 : Index := Scalar.indexCast v94
  let c7_i32_302 : BitVec 32 := 7#32
  let v744 : Index := Scalar.indexCast c7_i32_302
  let c80_303 : Index := 80#32
  ![v743.toNat, 7, 80]
def k1_off386 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v753 : Index := Scalar.indexCast v94
  let c7_i32_306 : BitVec 32 := 7#32
  let v754 : Index := Scalar.indexCast c7_i32_306
  let c96_307 : Index := 96#32
  ![v753.toNat, 7, 96]
def k1_off387 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v763 : Index := Scalar.indexCast v94
  let c7_i32_310 : BitVec 32 := 7#32
  let v764 : Index := Scalar.indexCast c7_i32_310
  let c112_311 : Index := 112#32
  ![v763.toNat, 7, 112]
def k1_off388 (v771 : BitVec 32) (c0_i32_314 : BitVec 32) : Fin 1 → Nat :=
  let c128_i32_313 : BitVec 32 := 128#32
  let v772 : BitVec 32 := Scalar.muli v771 c128_i32_313
  let v773 : BitVec 32 := Scalar.addi v772 c0_i32_314
  let v774 : Index := Scalar.indexCast v773
  ![v774.toNat]

def k1_chk46 (v771 : BitVec 32) : Prop :=
  (∀ (r : Fin 8), ∀ a, (k1_off388 v771 (BitVec.ofNat 32 (16 * r.val))) a + S16.size a ≤ S40192.size a)
theorem k1_off388_inb : ∀ (v771 : BitVec 32) (k1_hw46 : k1_chk46 v771), ∀ (r : Fin 8), ∀ a, (k1_off388 v771 (BitVec.ofNat 32 (16 * r.val))) a + S16.size a ≤ S40192.size a := fun v771 k1_hw46 r => k1_hw46 r

def k1_off389 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v776 : Index := Scalar.indexCast v94
  let c8_i32 : BitVec 32 := 8#32
  let v777 : Index := Scalar.indexCast c8_i32
  let c0_315 : Index := 0#32
  ![v776.toNat, 8, 0]
def k1_off390 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v786 : Index := Scalar.indexCast v94
  let c8_i32_318 : BitVec 32 := 8#32
  let v787 : Index := Scalar.indexCast c8_i32_318
  let c16_319 : Index := 16#32
  ![v786.toNat, 8, 16]
def k1_off391 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v796 : Index := Scalar.indexCast v94
  let c8_i32_322 : BitVec 32 := 8#32
  let v797 : Index := Scalar.indexCast c8_i32_322
  let c32_323 : Index := 32#32
  ![v796.toNat, 8, 32]
def k1_off392 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v806 : Index := Scalar.indexCast v94
  let c8_i32_326 : BitVec 32 := 8#32
  let v807 : Index := Scalar.indexCast c8_i32_326
  let c48_327 : Index := 48#32
  ![v806.toNat, 8, 48]
def k1_off393 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v816 : Index := Scalar.indexCast v94
  let c8_i32_330 : BitVec 32 := 8#32
  let v817 : Index := Scalar.indexCast c8_i32_330
  let c64_331 : Index := 64#32
  ![v816.toNat, 8, 64]
def k1_off394 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v826 : Index := Scalar.indexCast v94
  let c8_i32_334 : BitVec 32 := 8#32
  let v827 : Index := Scalar.indexCast c8_i32_334
  let c80_335 : Index := 80#32
  ![v826.toNat, 8, 80]
def k1_off395 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v836 : Index := Scalar.indexCast v94
  let c8_i32_338 : BitVec 32 := 8#32
  let v837 : Index := Scalar.indexCast c8_i32_338
  let c96_339 : Index := 96#32
  ![v836.toNat, 8, 96]
def k1_off396 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v846 : Index := Scalar.indexCast v94
  let c8_i32_342 : BitVec 32 := 8#32
  let v847 : Index := Scalar.indexCast c8_i32_342
  let c112_343 : Index := 112#32
  ![v846.toNat, 8, 112]
def k1_off397 (v854 : BitVec 32) (c0_i32_346 : BitVec 32) : Fin 1 → Nat :=
  let c128_i32_345 : BitVec 32 := 128#32
  let v855 : BitVec 32 := Scalar.muli v854 c128_i32_345
  let v856 : BitVec 32 := Scalar.addi v855 c0_i32_346
  let v857 : Index := Scalar.indexCast v856
  ![v857.toNat]

def k1_chk47 (v854 : BitVec 32) : Prop :=
  (∀ (r : Fin 8), ∀ a, (k1_off397 v854 (BitVec.ofNat 32 (16 * r.val))) a + S16.size a ≤ S40192.size a)
theorem k1_off397_inb : ∀ (v854 : BitVec 32) (k1_hw47 : k1_chk47 v854), ∀ (r : Fin 8), ∀ a, (k1_off397 v854 (BitVec.ofNat 32 (16 * r.val))) a + S16.size a ≤ S40192.size a := fun v854 k1_hw47 r => k1_hw47 r

def k1_off398 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v859 : Index := Scalar.indexCast v94
  let c9_i32 : BitVec 32 := 9#32
  let v860 : Index := Scalar.indexCast c9_i32
  let c0_347 : Index := 0#32
  ![v859.toNat, 9, 0]
def k1_off399 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v869 : Index := Scalar.indexCast v94
  let c9_i32_350 : BitVec 32 := 9#32
  let v870 : Index := Scalar.indexCast c9_i32_350
  let c16_351 : Index := 16#32
  ![v869.toNat, 9, 16]
def k1_off400 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v879 : Index := Scalar.indexCast v94
  let c9_i32_354 : BitVec 32 := 9#32
  let v880 : Index := Scalar.indexCast c9_i32_354
  let c32_355 : Index := 32#32
  ![v879.toNat, 9, 32]
def k1_off401 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v889 : Index := Scalar.indexCast v94
  let c9_i32_358 : BitVec 32 := 9#32
  let v890 : Index := Scalar.indexCast c9_i32_358
  let c48_359 : Index := 48#32
  ![v889.toNat, 9, 48]
def k1_off402 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v899 : Index := Scalar.indexCast v94
  let c9_i32_362 : BitVec 32 := 9#32
  let v900 : Index := Scalar.indexCast c9_i32_362
  let c64_363 : Index := 64#32
  ![v899.toNat, 9, 64]
def k1_off403 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v909 : Index := Scalar.indexCast v94
  let c9_i32_366 : BitVec 32 := 9#32
  let v910 : Index := Scalar.indexCast c9_i32_366
  let c80_367 : Index := 80#32
  ![v909.toNat, 9, 80]
def k1_off404 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v919 : Index := Scalar.indexCast v94
  let c9_i32_370 : BitVec 32 := 9#32
  let v920 : Index := Scalar.indexCast c9_i32_370
  let c96_371 : Index := 96#32
  ![v919.toNat, 9, 96]
def k1_off405 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v929 : Index := Scalar.indexCast v94
  let c9_i32_374 : BitVec 32 := 9#32
  let v930 : Index := Scalar.indexCast c9_i32_374
  let c112_375 : Index := 112#32
  ![v929.toNat, 9, 112]
def k1_off406 (v937 : BitVec 32) (c0_i32_378 : BitVec 32) : Fin 1 → Nat :=
  let c128_i32_377 : BitVec 32 := 128#32
  let v938 : BitVec 32 := Scalar.muli v937 c128_i32_377
  let v939 : BitVec 32 := Scalar.addi v938 c0_i32_378
  let v940 : Index := Scalar.indexCast v939
  ![v940.toNat]

def k1_chk48 (v937 : BitVec 32) : Prop :=
  (∀ (r : Fin 8), ∀ a, (k1_off406 v937 (BitVec.ofNat 32 (16 * r.val))) a + S16.size a ≤ S40192.size a)
theorem k1_off406_inb : ∀ (v937 : BitVec 32) (k1_hw48 : k1_chk48 v937), ∀ (r : Fin 8), ∀ a, (k1_off406 v937 (BitVec.ofNat 32 (16 * r.val))) a + S16.size a ≤ S40192.size a := fun v937 k1_hw48 r => k1_hw48 r

def k1_off407 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v942 : Index := Scalar.indexCast v94
  let c10_i32 : BitVec 32 := 10#32
  let v943 : Index := Scalar.indexCast c10_i32
  let c0_379 : Index := 0#32
  ![v942.toNat, 10, 0]
def k1_off408 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v952 : Index := Scalar.indexCast v94
  let c10_i32_382 : BitVec 32 := 10#32
  let v953 : Index := Scalar.indexCast c10_i32_382
  let c16_383 : Index := 16#32
  ![v952.toNat, 10, 16]
def k1_off409 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v962 : Index := Scalar.indexCast v94
  let c10_i32_386 : BitVec 32 := 10#32
  let v963 : Index := Scalar.indexCast c10_i32_386
  let c32_387 : Index := 32#32
  ![v962.toNat, 10, 32]
def k1_off410 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v972 : Index := Scalar.indexCast v94
  let c10_i32_390 : BitVec 32 := 10#32
  let v973 : Index := Scalar.indexCast c10_i32_390
  let c48_391 : Index := 48#32
  ![v972.toNat, 10, 48]
def k1_off411 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v982 : Index := Scalar.indexCast v94
  let c10_i32_394 : BitVec 32 := 10#32
  let v983 : Index := Scalar.indexCast c10_i32_394
  let c64_395 : Index := 64#32
  ![v982.toNat, 10, 64]
def k1_off412 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v992 : Index := Scalar.indexCast v94
  let c10_i32_398 : BitVec 32 := 10#32
  let v993 : Index := Scalar.indexCast c10_i32_398
  let c80_399 : Index := 80#32
  ![v992.toNat, 10, 80]
def k1_off413 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1002 : Index := Scalar.indexCast v94
  let c10_i32_402 : BitVec 32 := 10#32
  let v1003 : Index := Scalar.indexCast c10_i32_402
  let c96_403 : Index := 96#32
  ![v1002.toNat, 10, 96]
def k1_off414 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1012 : Index := Scalar.indexCast v94
  let c10_i32_406 : BitVec 32 := 10#32
  let v1013 : Index := Scalar.indexCast c10_i32_406
  let c112_407 : Index := 112#32
  ![v1012.toNat, 10, 112]
def k1_off415 (v1020 : BitVec 32) (c0_i32_410 : BitVec 32) : Fin 1 → Nat :=
  let c128_i32_409 : BitVec 32 := 128#32
  let v1021 : BitVec 32 := Scalar.muli v1020 c128_i32_409
  let v1022 : BitVec 32 := Scalar.addi v1021 c0_i32_410
  let v1023 : Index := Scalar.indexCast v1022
  ![v1023.toNat]

def k1_chk49 (v1020 : BitVec 32) : Prop :=
  (∀ (r : Fin 8), ∀ a, (k1_off415 v1020 (BitVec.ofNat 32 (16 * r.val))) a + S16.size a ≤ S40192.size a)
theorem k1_off415_inb : ∀ (v1020 : BitVec 32) (k1_hw49 : k1_chk49 v1020), ∀ (r : Fin 8), ∀ a, (k1_off415 v1020 (BitVec.ofNat 32 (16 * r.val))) a + S16.size a ≤ S40192.size a := fun v1020 k1_hw49 r => k1_hw49 r

def k1_off416 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1025 : Index := Scalar.indexCast v94
  let c11_i32 : BitVec 32 := 11#32
  let v1026 : Index := Scalar.indexCast c11_i32
  let c0_411 : Index := 0#32
  ![v1025.toNat, 11, 0]
def k1_off417 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1035 : Index := Scalar.indexCast v94
  let c11_i32_414 : BitVec 32 := 11#32
  let v1036 : Index := Scalar.indexCast c11_i32_414
  let c16_415 : Index := 16#32
  ![v1035.toNat, 11, 16]
def k1_off418 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1045 : Index := Scalar.indexCast v94
  let c11_i32_418 : BitVec 32 := 11#32
  let v1046 : Index := Scalar.indexCast c11_i32_418
  let c32_419 : Index := 32#32
  ![v1045.toNat, 11, 32]
def k1_off419 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1055 : Index := Scalar.indexCast v94
  let c11_i32_422 : BitVec 32 := 11#32
  let v1056 : Index := Scalar.indexCast c11_i32_422
  let c48_423 : Index := 48#32
  ![v1055.toNat, 11, 48]
def k1_off420 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1065 : Index := Scalar.indexCast v94
  let c11_i32_426 : BitVec 32 := 11#32
  let v1066 : Index := Scalar.indexCast c11_i32_426
  let c64_427 : Index := 64#32
  ![v1065.toNat, 11, 64]
def k1_off421 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1075 : Index := Scalar.indexCast v94
  let c11_i32_430 : BitVec 32 := 11#32
  let v1076 : Index := Scalar.indexCast c11_i32_430
  let c80_431 : Index := 80#32
  ![v1075.toNat, 11, 80]
def k1_off422 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1085 : Index := Scalar.indexCast v94
  let c11_i32_434 : BitVec 32 := 11#32
  let v1086 : Index := Scalar.indexCast c11_i32_434
  let c96_435 : Index := 96#32
  ![v1085.toNat, 11, 96]
def k1_off423 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1095 : Index := Scalar.indexCast v94
  let c11_i32_438 : BitVec 32 := 11#32
  let v1096 : Index := Scalar.indexCast c11_i32_438
  let c112_439 : Index := 112#32
  ![v1095.toNat, 11, 112]
def k1_off424 (v1103 : BitVec 32) (c0_i32_442 : BitVec 32) : Fin 1 → Nat :=
  let c128_i32_441 : BitVec 32 := 128#32
  let v1104 : BitVec 32 := Scalar.muli v1103 c128_i32_441
  let v1105 : BitVec 32 := Scalar.addi v1104 c0_i32_442
  let v1106 : Index := Scalar.indexCast v1105
  ![v1106.toNat]

def k1_chk50 (v1103 : BitVec 32) : Prop :=
  (∀ (r : Fin 8), ∀ a, (k1_off424 v1103 (BitVec.ofNat 32 (16 * r.val))) a + S16.size a ≤ S40192.size a)
theorem k1_off424_inb : ∀ (v1103 : BitVec 32) (k1_hw50 : k1_chk50 v1103), ∀ (r : Fin 8), ∀ a, (k1_off424 v1103 (BitVec.ofNat 32 (16 * r.val))) a + S16.size a ≤ S40192.size a := fun v1103 k1_hw50 r => k1_hw50 r

def k1_off425 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1108 : Index := Scalar.indexCast v94
  let c12_i32 : BitVec 32 := 12#32
  let v1109 : Index := Scalar.indexCast c12_i32
  let c0_443 : Index := 0#32
  ![v1108.toNat, 12, 0]
def k1_off426 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1118 : Index := Scalar.indexCast v94
  let c12_i32_446 : BitVec 32 := 12#32
  let v1119 : Index := Scalar.indexCast c12_i32_446
  let c16_447 : Index := 16#32
  ![v1118.toNat, 12, 16]
def k1_off427 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1128 : Index := Scalar.indexCast v94
  let c12_i32_450 : BitVec 32 := 12#32
  let v1129 : Index := Scalar.indexCast c12_i32_450
  let c32_451 : Index := 32#32
  ![v1128.toNat, 12, 32]
def k1_off428 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1138 : Index := Scalar.indexCast v94
  let c12_i32_454 : BitVec 32 := 12#32
  let v1139 : Index := Scalar.indexCast c12_i32_454
  let c48_455 : Index := 48#32
  ![v1138.toNat, 12, 48]
def k1_off429 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1148 : Index := Scalar.indexCast v94
  let c12_i32_458 : BitVec 32 := 12#32
  let v1149 : Index := Scalar.indexCast c12_i32_458
  let c64_459 : Index := 64#32
  ![v1148.toNat, 12, 64]
def k1_off430 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1158 : Index := Scalar.indexCast v94
  let c12_i32_462 : BitVec 32 := 12#32
  let v1159 : Index := Scalar.indexCast c12_i32_462
  let c80_463 : Index := 80#32
  ![v1158.toNat, 12, 80]
def k1_off431 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1168 : Index := Scalar.indexCast v94
  let c12_i32_466 : BitVec 32 := 12#32
  let v1169 : Index := Scalar.indexCast c12_i32_466
  let c96_467 : Index := 96#32
  ![v1168.toNat, 12, 96]
def k1_off432 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1178 : Index := Scalar.indexCast v94
  let c12_i32_470 : BitVec 32 := 12#32
  let v1179 : Index := Scalar.indexCast c12_i32_470
  let c112_471 : Index := 112#32
  ![v1178.toNat, 12, 112]
def k1_off433 (v1186 : BitVec 32) (c0_i32_474 : BitVec 32) : Fin 1 → Nat :=
  let c128_i32_473 : BitVec 32 := 128#32
  let v1187 : BitVec 32 := Scalar.muli v1186 c128_i32_473
  let v1188 : BitVec 32 := Scalar.addi v1187 c0_i32_474
  let v1189 : Index := Scalar.indexCast v1188
  ![v1189.toNat]

def k1_chk51 (v1186 : BitVec 32) : Prop :=
  (∀ (r : Fin 8), ∀ a, (k1_off433 v1186 (BitVec.ofNat 32 (16 * r.val))) a + S16.size a ≤ S40192.size a)
theorem k1_off433_inb : ∀ (v1186 : BitVec 32) (k1_hw51 : k1_chk51 v1186), ∀ (r : Fin 8), ∀ a, (k1_off433 v1186 (BitVec.ofNat 32 (16 * r.val))) a + S16.size a ≤ S40192.size a := fun v1186 k1_hw51 r => k1_hw51 r

def k1_off434 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1191 : Index := Scalar.indexCast v94
  let c13_i32 : BitVec 32 := 13#32
  let v1192 : Index := Scalar.indexCast c13_i32
  let c0_475 : Index := 0#32
  ![v1191.toNat, 13, 0]
def k1_off435 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1201 : Index := Scalar.indexCast v94
  let c13_i32_478 : BitVec 32 := 13#32
  let v1202 : Index := Scalar.indexCast c13_i32_478
  let c16_479 : Index := 16#32
  ![v1201.toNat, 13, 16]
def k1_off436 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1211 : Index := Scalar.indexCast v94
  let c13_i32_482 : BitVec 32 := 13#32
  let v1212 : Index := Scalar.indexCast c13_i32_482
  let c32_483 : Index := 32#32
  ![v1211.toNat, 13, 32]
def k1_off437 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1221 : Index := Scalar.indexCast v94
  let c13_i32_486 : BitVec 32 := 13#32
  let v1222 : Index := Scalar.indexCast c13_i32_486
  let c48_487 : Index := 48#32
  ![v1221.toNat, 13, 48]
def k1_off438 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1231 : Index := Scalar.indexCast v94
  let c13_i32_490 : BitVec 32 := 13#32
  let v1232 : Index := Scalar.indexCast c13_i32_490
  let c64_491 : Index := 64#32
  ![v1231.toNat, 13, 64]
def k1_off439 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1241 : Index := Scalar.indexCast v94
  let c13_i32_494 : BitVec 32 := 13#32
  let v1242 : Index := Scalar.indexCast c13_i32_494
  let c80_495 : Index := 80#32
  ![v1241.toNat, 13, 80]
def k1_off440 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1251 : Index := Scalar.indexCast v94
  let c13_i32_498 : BitVec 32 := 13#32
  let v1252 : Index := Scalar.indexCast c13_i32_498
  let c96_499 : Index := 96#32
  ![v1251.toNat, 13, 96]
def k1_off441 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1261 : Index := Scalar.indexCast v94
  let c13_i32_502 : BitVec 32 := 13#32
  let v1262 : Index := Scalar.indexCast c13_i32_502
  let c112_503 : Index := 112#32
  ![v1261.toNat, 13, 112]
def k1_off442 (v1269 : BitVec 32) (c0_i32_506 : BitVec 32) : Fin 1 → Nat :=
  let c128_i32_505 : BitVec 32 := 128#32
  let v1270 : BitVec 32 := Scalar.muli v1269 c128_i32_505
  let v1271 : BitVec 32 := Scalar.addi v1270 c0_i32_506
  let v1272 : Index := Scalar.indexCast v1271
  ![v1272.toNat]

def k1_chk52 (v1269 : BitVec 32) : Prop :=
  (∀ (r : Fin 8), ∀ a, (k1_off442 v1269 (BitVec.ofNat 32 (16 * r.val))) a + S16.size a ≤ S40192.size a)
theorem k1_off442_inb : ∀ (v1269 : BitVec 32) (k1_hw52 : k1_chk52 v1269), ∀ (r : Fin 8), ∀ a, (k1_off442 v1269 (BitVec.ofNat 32 (16 * r.val))) a + S16.size a ≤ S40192.size a := fun v1269 k1_hw52 r => k1_hw52 r

def k1_off443 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1274 : Index := Scalar.indexCast v94
  let c14_i32 : BitVec 32 := 14#32
  let v1275 : Index := Scalar.indexCast c14_i32
  let c0_507 : Index := 0#32
  ![v1274.toNat, 14, 0]
def k1_off444 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1284 : Index := Scalar.indexCast v94
  let c14_i32_510 : BitVec 32 := 14#32
  let v1285 : Index := Scalar.indexCast c14_i32_510
  let c16_511 : Index := 16#32
  ![v1284.toNat, 14, 16]
def k1_off445 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1294 : Index := Scalar.indexCast v94
  let c14_i32_514 : BitVec 32 := 14#32
  let v1295 : Index := Scalar.indexCast c14_i32_514
  let c32_515 : Index := 32#32
  ![v1294.toNat, 14, 32]
def k1_off446 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1304 : Index := Scalar.indexCast v94
  let c14_i32_518 : BitVec 32 := 14#32
  let v1305 : Index := Scalar.indexCast c14_i32_518
  let c48_519 : Index := 48#32
  ![v1304.toNat, 14, 48]
def k1_off447 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1314 : Index := Scalar.indexCast v94
  let c14_i32_522 : BitVec 32 := 14#32
  let v1315 : Index := Scalar.indexCast c14_i32_522
  let c64_523 : Index := 64#32
  ![v1314.toNat, 14, 64]
def k1_off448 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1324 : Index := Scalar.indexCast v94
  let c14_i32_526 : BitVec 32 := 14#32
  let v1325 : Index := Scalar.indexCast c14_i32_526
  let c80_527 : Index := 80#32
  ![v1324.toNat, 14, 80]
def k1_off449 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1334 : Index := Scalar.indexCast v94
  let c14_i32_530 : BitVec 32 := 14#32
  let v1335 : Index := Scalar.indexCast c14_i32_530
  let c96_531 : Index := 96#32
  ![v1334.toNat, 14, 96]
def k1_off450 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1344 : Index := Scalar.indexCast v94
  let c14_i32_534 : BitVec 32 := 14#32
  let v1345 : Index := Scalar.indexCast c14_i32_534
  let c112_535 : Index := 112#32
  ![v1344.toNat, 14, 112]
def k1_off451 (v1352 : BitVec 32) (c0_i32_538 : BitVec 32) : Fin 1 → Nat :=
  let c128_i32_537 : BitVec 32 := 128#32
  let v1353 : BitVec 32 := Scalar.muli v1352 c128_i32_537
  let v1354 : BitVec 32 := Scalar.addi v1353 c0_i32_538
  let v1355 : Index := Scalar.indexCast v1354
  ![v1355.toNat]

def k1_chk53 (v1352 : BitVec 32) : Prop :=
  (∀ (r : Fin 8), ∀ a, (k1_off451 v1352 (BitVec.ofNat 32 (16 * r.val))) a + S16.size a ≤ S40192.size a)
theorem k1_off451_inb : ∀ (v1352 : BitVec 32) (k1_hw53 : k1_chk53 v1352), ∀ (r : Fin 8), ∀ a, (k1_off451 v1352 (BitVec.ofNat 32 (16 * r.val))) a + S16.size a ≤ S40192.size a := fun v1352 k1_hw53 r => k1_hw53 r

def k1_off452 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1357 : Index := Scalar.indexCast v94
  let c15_i32 : BitVec 32 := 15#32
  let v1358 : Index := Scalar.indexCast c15_i32
  let c0_539 : Index := 0#32
  ![v1357.toNat, 15, 0]
def k1_off453 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1367 : Index := Scalar.indexCast v94
  let c15_i32_542 : BitVec 32 := 15#32
  let v1368 : Index := Scalar.indexCast c15_i32_542
  let c16_543 : Index := 16#32
  ![v1367.toNat, 15, 16]
def k1_off454 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1377 : Index := Scalar.indexCast v94
  let c15_i32_546 : BitVec 32 := 15#32
  let v1378 : Index := Scalar.indexCast c15_i32_546
  let c32_547 : Index := 32#32
  ![v1377.toNat, 15, 32]
def k1_off455 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1387 : Index := Scalar.indexCast v94
  let c15_i32_550 : BitVec 32 := 15#32
  let v1388 : Index := Scalar.indexCast c15_i32_550
  let c48_551 : Index := 48#32
  ![v1387.toNat, 15, 48]
def k1_off456 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1397 : Index := Scalar.indexCast v94
  let c15_i32_554 : BitVec 32 := 15#32
  let v1398 : Index := Scalar.indexCast c15_i32_554
  let c64_555 : Index := 64#32
  ![v1397.toNat, 15, 64]
def k1_off457 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1407 : Index := Scalar.indexCast v94
  let c15_i32_558 : BitVec 32 := 15#32
  let v1408 : Index := Scalar.indexCast c15_i32_558
  let c80_559 : Index := 80#32
  ![v1407.toNat, 15, 80]
def k1_off458 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1417 : Index := Scalar.indexCast v94
  let c15_i32_562 : BitVec 32 := 15#32
  let v1418 : Index := Scalar.indexCast c15_i32_562
  let c96_563 : Index := 96#32
  ![v1417.toNat, 15, 96]
def k1_off459 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1427 : Index := Scalar.indexCast v94
  let c15_i32_566 : BitVec 32 := 15#32
  let v1428 : Index := Scalar.indexCast c15_i32_566
  let c112_567 : Index := 112#32
  ![v1427.toNat, 15, 112]
def k1_off460 (v41 : BitVec 32) (k1_t5 : Fin (k1_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c32_i32_569 : BitVec 32 := 32#32
  let v1434 : BitVec 32 := Scalar.muli arg16 c32_i32_569
  let c16_i32_570 : BitVec 32 := 16#32
  let v1435 : BitVec 32 := Scalar.addi v1434 c16_i32_570
  let v1436 : Index := Scalar.indexCast v1435
  ![v1436.toNat]
def k1_off461 (v1439 : BitVec 32) (c0_i32_572 : BitVec 32) : Fin 1 → Nat :=
  let c128_i32_571 : BitVec 32 := 128#32
  let v1440 : BitVec 32 := Scalar.muli v1439 c128_i32_571
  let v1441 : BitVec 32 := Scalar.addi v1440 c0_i32_572
  let v1442 : Index := Scalar.indexCast v1441
  ![v1442.toNat]

def k1_chk54 (v1439 : BitVec 32) : Prop :=
  (∀ (r : Fin 8), ∀ a, (k1_off461 v1439 (BitVec.ofNat 32 (16 * r.val))) a + S16.size a ≤ S40192.size a)
theorem k1_off461_inb : ∀ (v1439 : BitVec 32) (k1_hw54 : k1_chk54 v1439), ∀ (r : Fin 8), ∀ a, (k1_off461 v1439 (BitVec.ofNat 32 (16 * r.val))) a + S16.size a ≤ S40192.size a := fun v1439 k1_hw54 r => k1_hw54 r

def k1_off462 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1444 : Index := Scalar.indexCast v94
  let c16_i32_573 : BitVec 32 := 16#32
  let v1445 : Index := Scalar.indexCast c16_i32_573
  let c0_574 : Index := 0#32
  ![v1444.toNat, 16, 0]
def k1_off463 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1454 : Index := Scalar.indexCast v94
  let c16_i32_577 : BitVec 32 := 16#32
  let v1455 : Index := Scalar.indexCast c16_i32_577
  let c16_578 : Index := 16#32
  ![v1454.toNat, 16, 16]
def k1_off464 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1464 : Index := Scalar.indexCast v94
  let c16_i32_581 : BitVec 32 := 16#32
  let v1465 : Index := Scalar.indexCast c16_i32_581
  let c32_582 : Index := 32#32
  ![v1464.toNat, 16, 32]
def k1_off465 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1474 : Index := Scalar.indexCast v94
  let c16_i32_585 : BitVec 32 := 16#32
  let v1475 : Index := Scalar.indexCast c16_i32_585
  let c48_586 : Index := 48#32
  ![v1474.toNat, 16, 48]
def k1_off466 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1484 : Index := Scalar.indexCast v94
  let c16_i32_589 : BitVec 32 := 16#32
  let v1485 : Index := Scalar.indexCast c16_i32_589
  let c64_590 : Index := 64#32
  ![v1484.toNat, 16, 64]
def k1_off467 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1494 : Index := Scalar.indexCast v94
  let c16_i32_593 : BitVec 32 := 16#32
  let v1495 : Index := Scalar.indexCast c16_i32_593
  let c80_594 : Index := 80#32
  ![v1494.toNat, 16, 80]
def k1_off468 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1504 : Index := Scalar.indexCast v94
  let c16_i32_597 : BitVec 32 := 16#32
  let v1505 : Index := Scalar.indexCast c16_i32_597
  let c96_598 : Index := 96#32
  ![v1504.toNat, 16, 96]
def k1_off469 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1514 : Index := Scalar.indexCast v94
  let c16_i32_601 : BitVec 32 := 16#32
  let v1515 : Index := Scalar.indexCast c16_i32_601
  let c112_602 : Index := 112#32
  ![v1514.toNat, 16, 112]
def k1_off470 (v1522 : BitVec 32) (c0_i32_605 : BitVec 32) : Fin 1 → Nat :=
  let c128_i32_604 : BitVec 32 := 128#32
  let v1523 : BitVec 32 := Scalar.muli v1522 c128_i32_604
  let v1524 : BitVec 32 := Scalar.addi v1523 c0_i32_605
  let v1525 : Index := Scalar.indexCast v1524
  ![v1525.toNat]

def k1_chk55 (v1522 : BitVec 32) : Prop :=
  (∀ (r : Fin 8), ∀ a, (k1_off470 v1522 (BitVec.ofNat 32 (16 * r.val))) a + S16.size a ≤ S40192.size a)
theorem k1_off470_inb : ∀ (v1522 : BitVec 32) (k1_hw55 : k1_chk55 v1522), ∀ (r : Fin 8), ∀ a, (k1_off470 v1522 (BitVec.ofNat 32 (16 * r.val))) a + S16.size a ≤ S40192.size a := fun v1522 k1_hw55 r => k1_hw55 r

def k1_off471 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1527 : Index := Scalar.indexCast v94
  let c17_i32 : BitVec 32 := 17#32
  let v1528 : Index := Scalar.indexCast c17_i32
  let c0_606 : Index := 0#32
  ![v1527.toNat, 17, 0]
def k1_off472 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1537 : Index := Scalar.indexCast v94
  let c17_i32_609 : BitVec 32 := 17#32
  let v1538 : Index := Scalar.indexCast c17_i32_609
  let c16_610 : Index := 16#32
  ![v1537.toNat, 17, 16]
def k1_off473 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1547 : Index := Scalar.indexCast v94
  let c17_i32_613 : BitVec 32 := 17#32
  let v1548 : Index := Scalar.indexCast c17_i32_613
  let c32_614 : Index := 32#32
  ![v1547.toNat, 17, 32]
def k1_off474 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1557 : Index := Scalar.indexCast v94
  let c17_i32_617 : BitVec 32 := 17#32
  let v1558 : Index := Scalar.indexCast c17_i32_617
  let c48_618 : Index := 48#32
  ![v1557.toNat, 17, 48]
def k1_off475 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1567 : Index := Scalar.indexCast v94
  let c17_i32_621 : BitVec 32 := 17#32
  let v1568 : Index := Scalar.indexCast c17_i32_621
  let c64_622 : Index := 64#32
  ![v1567.toNat, 17, 64]
def k1_off476 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1577 : Index := Scalar.indexCast v94
  let c17_i32_625 : BitVec 32 := 17#32
  let v1578 : Index := Scalar.indexCast c17_i32_625
  let c80_626 : Index := 80#32
  ![v1577.toNat, 17, 80]
def k1_off477 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1587 : Index := Scalar.indexCast v94
  let c17_i32_629 : BitVec 32 := 17#32
  let v1588 : Index := Scalar.indexCast c17_i32_629
  let c96_630 : Index := 96#32
  ![v1587.toNat, 17, 96]
def k1_off478 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1597 : Index := Scalar.indexCast v94
  let c17_i32_633 : BitVec 32 := 17#32
  let v1598 : Index := Scalar.indexCast c17_i32_633
  let c112_634 : Index := 112#32
  ![v1597.toNat, 17, 112]
def k1_off479 (v1605 : BitVec 32) (c0_i32_637 : BitVec 32) : Fin 1 → Nat :=
  let c128_i32_636 : BitVec 32 := 128#32
  let v1606 : BitVec 32 := Scalar.muli v1605 c128_i32_636
  let v1607 : BitVec 32 := Scalar.addi v1606 c0_i32_637
  let v1608 : Index := Scalar.indexCast v1607
  ![v1608.toNat]

def k1_chk56 (v1605 : BitVec 32) : Prop :=
  (∀ (r : Fin 8), ∀ a, (k1_off479 v1605 (BitVec.ofNat 32 (16 * r.val))) a + S16.size a ≤ S40192.size a)
theorem k1_off479_inb : ∀ (v1605 : BitVec 32) (k1_hw56 : k1_chk56 v1605), ∀ (r : Fin 8), ∀ a, (k1_off479 v1605 (BitVec.ofNat 32 (16 * r.val))) a + S16.size a ≤ S40192.size a := fun v1605 k1_hw56 r => k1_hw56 r

def k1_off480 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1610 : Index := Scalar.indexCast v94
  let c18_i32 : BitVec 32 := 18#32
  let v1611 : Index := Scalar.indexCast c18_i32
  let c0_638 : Index := 0#32
  ![v1610.toNat, 18, 0]
def k1_off481 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1620 : Index := Scalar.indexCast v94
  let c18_i32_641 : BitVec 32 := 18#32
  let v1621 : Index := Scalar.indexCast c18_i32_641
  let c16_642 : Index := 16#32
  ![v1620.toNat, 18, 16]
def k1_off482 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1630 : Index := Scalar.indexCast v94
  let c18_i32_645 : BitVec 32 := 18#32
  let v1631 : Index := Scalar.indexCast c18_i32_645
  let c32_646 : Index := 32#32
  ![v1630.toNat, 18, 32]
def k1_off483 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1640 : Index := Scalar.indexCast v94
  let c18_i32_649 : BitVec 32 := 18#32
  let v1641 : Index := Scalar.indexCast c18_i32_649
  let c48_650 : Index := 48#32
  ![v1640.toNat, 18, 48]
def k1_off484 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1650 : Index := Scalar.indexCast v94
  let c18_i32_653 : BitVec 32 := 18#32
  let v1651 : Index := Scalar.indexCast c18_i32_653
  let c64_654 : Index := 64#32
  ![v1650.toNat, 18, 64]
def k1_off485 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1660 : Index := Scalar.indexCast v94
  let c18_i32_657 : BitVec 32 := 18#32
  let v1661 : Index := Scalar.indexCast c18_i32_657
  let c80_658 : Index := 80#32
  ![v1660.toNat, 18, 80]
def k1_off486 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1670 : Index := Scalar.indexCast v94
  let c18_i32_661 : BitVec 32 := 18#32
  let v1671 : Index := Scalar.indexCast c18_i32_661
  let c96_662 : Index := 96#32
  ![v1670.toNat, 18, 96]
def k1_off487 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1680 : Index := Scalar.indexCast v94
  let c18_i32_665 : BitVec 32 := 18#32
  let v1681 : Index := Scalar.indexCast c18_i32_665
  let c112_666 : Index := 112#32
  ![v1680.toNat, 18, 112]
def k1_off488 (v1688 : BitVec 32) (c0_i32_669 : BitVec 32) : Fin 1 → Nat :=
  let c128_i32_668 : BitVec 32 := 128#32
  let v1689 : BitVec 32 := Scalar.muli v1688 c128_i32_668
  let v1690 : BitVec 32 := Scalar.addi v1689 c0_i32_669
  let v1691 : Index := Scalar.indexCast v1690
  ![v1691.toNat]

def k1_chk57 (v1688 : BitVec 32) : Prop :=
  (∀ (r : Fin 8), ∀ a, (k1_off488 v1688 (BitVec.ofNat 32 (16 * r.val))) a + S16.size a ≤ S40192.size a)
theorem k1_off488_inb : ∀ (v1688 : BitVec 32) (k1_hw57 : k1_chk57 v1688), ∀ (r : Fin 8), ∀ a, (k1_off488 v1688 (BitVec.ofNat 32 (16 * r.val))) a + S16.size a ≤ S40192.size a := fun v1688 k1_hw57 r => k1_hw57 r

def k1_off489 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1693 : Index := Scalar.indexCast v94
  let c19_i32 : BitVec 32 := 19#32
  let v1694 : Index := Scalar.indexCast c19_i32
  let c0_670 : Index := 0#32
  ![v1693.toNat, 19, 0]
def k1_off490 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1703 : Index := Scalar.indexCast v94
  let c19_i32_673 : BitVec 32 := 19#32
  let v1704 : Index := Scalar.indexCast c19_i32_673
  let c16_674 : Index := 16#32
  ![v1703.toNat, 19, 16]
def k1_off491 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1713 : Index := Scalar.indexCast v94
  let c19_i32_677 : BitVec 32 := 19#32
  let v1714 : Index := Scalar.indexCast c19_i32_677
  let c32_678 : Index := 32#32
  ![v1713.toNat, 19, 32]
def k1_off492 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1723 : Index := Scalar.indexCast v94
  let c19_i32_681 : BitVec 32 := 19#32
  let v1724 : Index := Scalar.indexCast c19_i32_681
  let c48_682 : Index := 48#32
  ![v1723.toNat, 19, 48]
def k1_off493 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1733 : Index := Scalar.indexCast v94
  let c19_i32_685 : BitVec 32 := 19#32
  let v1734 : Index := Scalar.indexCast c19_i32_685
  let c64_686 : Index := 64#32
  ![v1733.toNat, 19, 64]
def k1_off494 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1743 : Index := Scalar.indexCast v94
  let c19_i32_689 : BitVec 32 := 19#32
  let v1744 : Index := Scalar.indexCast c19_i32_689
  let c80_690 : Index := 80#32
  ![v1743.toNat, 19, 80]
def k1_off495 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1753 : Index := Scalar.indexCast v94
  let c19_i32_693 : BitVec 32 := 19#32
  let v1754 : Index := Scalar.indexCast c19_i32_693
  let c96_694 : Index := 96#32
  ![v1753.toNat, 19, 96]
def k1_off496 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1763 : Index := Scalar.indexCast v94
  let c19_i32_697 : BitVec 32 := 19#32
  let v1764 : Index := Scalar.indexCast c19_i32_697
  let c112_698 : Index := 112#32
  ![v1763.toNat, 19, 112]
def k1_off497 (v1771 : BitVec 32) (c0_i32_701 : BitVec 32) : Fin 1 → Nat :=
  let c128_i32_700 : BitVec 32 := 128#32
  let v1772 : BitVec 32 := Scalar.muli v1771 c128_i32_700
  let v1773 : BitVec 32 := Scalar.addi v1772 c0_i32_701
  let v1774 : Index := Scalar.indexCast v1773
  ![v1774.toNat]

def k1_chk58 (v1771 : BitVec 32) : Prop :=
  (∀ (r : Fin 8), ∀ a, (k1_off497 v1771 (BitVec.ofNat 32 (16 * r.val))) a + S16.size a ≤ S40192.size a)
theorem k1_off497_inb : ∀ (v1771 : BitVec 32) (k1_hw58 : k1_chk58 v1771), ∀ (r : Fin 8), ∀ a, (k1_off497 v1771 (BitVec.ofNat 32 (16 * r.val))) a + S16.size a ≤ S40192.size a := fun v1771 k1_hw58 r => k1_hw58 r

def k1_off498 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1776 : Index := Scalar.indexCast v94
  let c20_i32 : BitVec 32 := 20#32
  let v1777 : Index := Scalar.indexCast c20_i32
  let c0_702 : Index := 0#32
  ![v1776.toNat, 20, 0]
def k1_off499 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1786 : Index := Scalar.indexCast v94
  let c20_i32_705 : BitVec 32 := 20#32
  let v1787 : Index := Scalar.indexCast c20_i32_705
  let c16_706 : Index := 16#32
  ![v1786.toNat, 20, 16]
def k1_off500 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1796 : Index := Scalar.indexCast v94
  let c20_i32_709 : BitVec 32 := 20#32
  let v1797 : Index := Scalar.indexCast c20_i32_709
  let c32_710 : Index := 32#32
  ![v1796.toNat, 20, 32]
def k1_off501 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1806 : Index := Scalar.indexCast v94
  let c20_i32_713 : BitVec 32 := 20#32
  let v1807 : Index := Scalar.indexCast c20_i32_713
  let c48_714 : Index := 48#32
  ![v1806.toNat, 20, 48]
def k1_off502 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1816 : Index := Scalar.indexCast v94
  let c20_i32_717 : BitVec 32 := 20#32
  let v1817 : Index := Scalar.indexCast c20_i32_717
  let c64_718 : Index := 64#32
  ![v1816.toNat, 20, 64]
def k1_off503 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1826 : Index := Scalar.indexCast v94
  let c20_i32_721 : BitVec 32 := 20#32
  let v1827 : Index := Scalar.indexCast c20_i32_721
  let c80_722 : Index := 80#32
  ![v1826.toNat, 20, 80]
def k1_off504 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1836 : Index := Scalar.indexCast v94
  let c20_i32_725 : BitVec 32 := 20#32
  let v1837 : Index := Scalar.indexCast c20_i32_725
  let c96_726 : Index := 96#32
  ![v1836.toNat, 20, 96]
def k1_off505 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1846 : Index := Scalar.indexCast v94
  let c20_i32_729 : BitVec 32 := 20#32
  let v1847 : Index := Scalar.indexCast c20_i32_729
  let c112_730 : Index := 112#32
  ![v1846.toNat, 20, 112]
def k1_off506 (v1854 : BitVec 32) (c0_i32_733 : BitVec 32) : Fin 1 → Nat :=
  let c128_i32_732 : BitVec 32 := 128#32
  let v1855 : BitVec 32 := Scalar.muli v1854 c128_i32_732
  let v1856 : BitVec 32 := Scalar.addi v1855 c0_i32_733
  let v1857 : Index := Scalar.indexCast v1856
  ![v1857.toNat]

def k1_chk59 (v1854 : BitVec 32) : Prop :=
  (∀ (r : Fin 8), ∀ a, (k1_off506 v1854 (BitVec.ofNat 32 (16 * r.val))) a + S16.size a ≤ S40192.size a)
theorem k1_off506_inb : ∀ (v1854 : BitVec 32) (k1_hw59 : k1_chk59 v1854), ∀ (r : Fin 8), ∀ a, (k1_off506 v1854 (BitVec.ofNat 32 (16 * r.val))) a + S16.size a ≤ S40192.size a := fun v1854 k1_hw59 r => k1_hw59 r

def k1_off507 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1859 : Index := Scalar.indexCast v94
  let c21_i32 : BitVec 32 := 21#32
  let v1860 : Index := Scalar.indexCast c21_i32
  let c0_734 : Index := 0#32
  ![v1859.toNat, 21, 0]
def k1_off508 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1869 : Index := Scalar.indexCast v94
  let c21_i32_737 : BitVec 32 := 21#32
  let v1870 : Index := Scalar.indexCast c21_i32_737
  let c16_738 : Index := 16#32
  ![v1869.toNat, 21, 16]
def k1_off509 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1879 : Index := Scalar.indexCast v94
  let c21_i32_741 : BitVec 32 := 21#32
  let v1880 : Index := Scalar.indexCast c21_i32_741
  let c32_742 : Index := 32#32
  ![v1879.toNat, 21, 32]
def k1_off510 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1889 : Index := Scalar.indexCast v94
  let c21_i32_745 : BitVec 32 := 21#32
  let v1890 : Index := Scalar.indexCast c21_i32_745
  let c48_746 : Index := 48#32
  ![v1889.toNat, 21, 48]
def k1_off511 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1899 : Index := Scalar.indexCast v94
  let c21_i32_749 : BitVec 32 := 21#32
  let v1900 : Index := Scalar.indexCast c21_i32_749
  let c64_750 : Index := 64#32
  ![v1899.toNat, 21, 64]
def k1_off512 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1909 : Index := Scalar.indexCast v94
  let c21_i32_753 : BitVec 32 := 21#32
  let v1910 : Index := Scalar.indexCast c21_i32_753
  let c80_754 : Index := 80#32
  ![v1909.toNat, 21, 80]
def k1_off513 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1919 : Index := Scalar.indexCast v94
  let c21_i32_757 : BitVec 32 := 21#32
  let v1920 : Index := Scalar.indexCast c21_i32_757
  let c96_758 : Index := 96#32
  ![v1919.toNat, 21, 96]
def k1_off514 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1929 : Index := Scalar.indexCast v94
  let c21_i32_761 : BitVec 32 := 21#32
  let v1930 : Index := Scalar.indexCast c21_i32_761
  let c112_762 : Index := 112#32
  ![v1929.toNat, 21, 112]
def k1_off515 (v1937 : BitVec 32) (c0_i32_765 : BitVec 32) : Fin 1 → Nat :=
  let c128_i32_764 : BitVec 32 := 128#32
  let v1938 : BitVec 32 := Scalar.muli v1937 c128_i32_764
  let v1939 : BitVec 32 := Scalar.addi v1938 c0_i32_765
  let v1940 : Index := Scalar.indexCast v1939
  ![v1940.toNat]

def k1_chk60 (v1937 : BitVec 32) : Prop :=
  (∀ (r : Fin 8), ∀ a, (k1_off515 v1937 (BitVec.ofNat 32 (16 * r.val))) a + S16.size a ≤ S40192.size a)
theorem k1_off515_inb : ∀ (v1937 : BitVec 32) (k1_hw60 : k1_chk60 v1937), ∀ (r : Fin 8), ∀ a, (k1_off515 v1937 (BitVec.ofNat 32 (16 * r.val))) a + S16.size a ≤ S40192.size a := fun v1937 k1_hw60 r => k1_hw60 r

def k1_off516 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1942 : Index := Scalar.indexCast v94
  let c22_i32 : BitVec 32 := 22#32
  let v1943 : Index := Scalar.indexCast c22_i32
  let c0_766 : Index := 0#32
  ![v1942.toNat, 22, 0]
def k1_off517 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1952 : Index := Scalar.indexCast v94
  let c22_i32_769 : BitVec 32 := 22#32
  let v1953 : Index := Scalar.indexCast c22_i32_769
  let c16_770 : Index := 16#32
  ![v1952.toNat, 22, 16]
def k1_off518 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1962 : Index := Scalar.indexCast v94
  let c22_i32_773 : BitVec 32 := 22#32
  let v1963 : Index := Scalar.indexCast c22_i32_773
  let c32_774 : Index := 32#32
  ![v1962.toNat, 22, 32]
def k1_off519 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1972 : Index := Scalar.indexCast v94
  let c22_i32_777 : BitVec 32 := 22#32
  let v1973 : Index := Scalar.indexCast c22_i32_777
  let c48_778 : Index := 48#32
  ![v1972.toNat, 22, 48]
def k1_off520 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1982 : Index := Scalar.indexCast v94
  let c22_i32_781 : BitVec 32 := 22#32
  let v1983 : Index := Scalar.indexCast c22_i32_781
  let c64_782 : Index := 64#32
  ![v1982.toNat, 22, 64]
def k1_off521 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v1992 : Index := Scalar.indexCast v94
  let c22_i32_785 : BitVec 32 := 22#32
  let v1993 : Index := Scalar.indexCast c22_i32_785
  let c80_786 : Index := 80#32
  ![v1992.toNat, 22, 80]
def k1_off522 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2002 : Index := Scalar.indexCast v94
  let c22_i32_789 : BitVec 32 := 22#32
  let v2003 : Index := Scalar.indexCast c22_i32_789
  let c96_790 : Index := 96#32
  ![v2002.toNat, 22, 96]
def k1_off523 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2012 : Index := Scalar.indexCast v94
  let c22_i32_793 : BitVec 32 := 22#32
  let v2013 : Index := Scalar.indexCast c22_i32_793
  let c112_794 : Index := 112#32
  ![v2012.toNat, 22, 112]
def k1_off524 (v2020 : BitVec 32) (c0_i32_797 : BitVec 32) : Fin 1 → Nat :=
  let c128_i32_796 : BitVec 32 := 128#32
  let v2021 : BitVec 32 := Scalar.muli v2020 c128_i32_796
  let v2022 : BitVec 32 := Scalar.addi v2021 c0_i32_797
  let v2023 : Index := Scalar.indexCast v2022
  ![v2023.toNat]

def k1_chk61 (v2020 : BitVec 32) : Prop :=
  (∀ (r : Fin 8), ∀ a, (k1_off524 v2020 (BitVec.ofNat 32 (16 * r.val))) a + S16.size a ≤ S40192.size a)
theorem k1_off524_inb : ∀ (v2020 : BitVec 32) (k1_hw61 : k1_chk61 v2020), ∀ (r : Fin 8), ∀ a, (k1_off524 v2020 (BitVec.ofNat 32 (16 * r.val))) a + S16.size a ≤ S40192.size a := fun v2020 k1_hw61 r => k1_hw61 r

def k1_off525 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2025 : Index := Scalar.indexCast v94
  let c23_i32 : BitVec 32 := 23#32
  let v2026 : Index := Scalar.indexCast c23_i32
  let c0_798 : Index := 0#32
  ![v2025.toNat, 23, 0]
def k1_off526 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2035 : Index := Scalar.indexCast v94
  let c23_i32_801 : BitVec 32 := 23#32
  let v2036 : Index := Scalar.indexCast c23_i32_801
  let c16_802 : Index := 16#32
  ![v2035.toNat, 23, 16]
def k1_off527 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2045 : Index := Scalar.indexCast v94
  let c23_i32_805 : BitVec 32 := 23#32
  let v2046 : Index := Scalar.indexCast c23_i32_805
  let c32_806 : Index := 32#32
  ![v2045.toNat, 23, 32]
def k1_off528 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2055 : Index := Scalar.indexCast v94
  let c23_i32_809 : BitVec 32 := 23#32
  let v2056 : Index := Scalar.indexCast c23_i32_809
  let c48_810 : Index := 48#32
  ![v2055.toNat, 23, 48]
def k1_off529 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2065 : Index := Scalar.indexCast v94
  let c23_i32_813 : BitVec 32 := 23#32
  let v2066 : Index := Scalar.indexCast c23_i32_813
  let c64_814 : Index := 64#32
  ![v2065.toNat, 23, 64]
def k1_off530 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2075 : Index := Scalar.indexCast v94
  let c23_i32_817 : BitVec 32 := 23#32
  let v2076 : Index := Scalar.indexCast c23_i32_817
  let c80_818 : Index := 80#32
  ![v2075.toNat, 23, 80]
def k1_off531 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2085 : Index := Scalar.indexCast v94
  let c23_i32_821 : BitVec 32 := 23#32
  let v2086 : Index := Scalar.indexCast c23_i32_821
  let c96_822 : Index := 96#32
  ![v2085.toNat, 23, 96]
def k1_off532 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2095 : Index := Scalar.indexCast v94
  let c23_i32_825 : BitVec 32 := 23#32
  let v2096 : Index := Scalar.indexCast c23_i32_825
  let c112_826 : Index := 112#32
  ![v2095.toNat, 23, 112]
def k1_off533 (v2103 : BitVec 32) (c0_i32_829 : BitVec 32) : Fin 1 → Nat :=
  let c128_i32_828 : BitVec 32 := 128#32
  let v2104 : BitVec 32 := Scalar.muli v2103 c128_i32_828
  let v2105 : BitVec 32 := Scalar.addi v2104 c0_i32_829
  let v2106 : Index := Scalar.indexCast v2105
  ![v2106.toNat]

def k1_chk62 (v2103 : BitVec 32) : Prop :=
  (∀ (r : Fin 8), ∀ a, (k1_off533 v2103 (BitVec.ofNat 32 (16 * r.val))) a + S16.size a ≤ S40192.size a)
theorem k1_off533_inb : ∀ (v2103 : BitVec 32) (k1_hw62 : k1_chk62 v2103), ∀ (r : Fin 8), ∀ a, (k1_off533 v2103 (BitVec.ofNat 32 (16 * r.val))) a + S16.size a ≤ S40192.size a := fun v2103 k1_hw62 r => k1_hw62 r

def k1_off534 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2108 : Index := Scalar.indexCast v94
  let c24_i32 : BitVec 32 := 24#32
  let v2109 : Index := Scalar.indexCast c24_i32
  let c0_830 : Index := 0#32
  ![v2108.toNat, 24, 0]
def k1_off535 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2118 : Index := Scalar.indexCast v94
  let c24_i32_833 : BitVec 32 := 24#32
  let v2119 : Index := Scalar.indexCast c24_i32_833
  let c16_834 : Index := 16#32
  ![v2118.toNat, 24, 16]
def k1_off536 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2128 : Index := Scalar.indexCast v94
  let c24_i32_837 : BitVec 32 := 24#32
  let v2129 : Index := Scalar.indexCast c24_i32_837
  let c32_838 : Index := 32#32
  ![v2128.toNat, 24, 32]
def k1_off537 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2138 : Index := Scalar.indexCast v94
  let c24_i32_841 : BitVec 32 := 24#32
  let v2139 : Index := Scalar.indexCast c24_i32_841
  let c48_842 : Index := 48#32
  ![v2138.toNat, 24, 48]
def k1_off538 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2148 : Index := Scalar.indexCast v94
  let c24_i32_845 : BitVec 32 := 24#32
  let v2149 : Index := Scalar.indexCast c24_i32_845
  let c64_846 : Index := 64#32
  ![v2148.toNat, 24, 64]
def k1_off539 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2158 : Index := Scalar.indexCast v94
  let c24_i32_849 : BitVec 32 := 24#32
  let v2159 : Index := Scalar.indexCast c24_i32_849
  let c80_850 : Index := 80#32
  ![v2158.toNat, 24, 80]
def k1_off540 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2168 : Index := Scalar.indexCast v94
  let c24_i32_853 : BitVec 32 := 24#32
  let v2169 : Index := Scalar.indexCast c24_i32_853
  let c96_854 : Index := 96#32
  ![v2168.toNat, 24, 96]
def k1_off541 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2178 : Index := Scalar.indexCast v94
  let c24_i32_857 : BitVec 32 := 24#32
  let v2179 : Index := Scalar.indexCast c24_i32_857
  let c112_858 : Index := 112#32
  ![v2178.toNat, 24, 112]
def k1_off542 (v2186 : BitVec 32) (c0_i32_861 : BitVec 32) : Fin 1 → Nat :=
  let c128_i32_860 : BitVec 32 := 128#32
  let v2187 : BitVec 32 := Scalar.muli v2186 c128_i32_860
  let v2188 : BitVec 32 := Scalar.addi v2187 c0_i32_861
  let v2189 : Index := Scalar.indexCast v2188
  ![v2189.toNat]

def k1_chk63 (v2186 : BitVec 32) : Prop :=
  (∀ (r : Fin 8), ∀ a, (k1_off542 v2186 (BitVec.ofNat 32 (16 * r.val))) a + S16.size a ≤ S40192.size a)
theorem k1_off542_inb : ∀ (v2186 : BitVec 32) (k1_hw63 : k1_chk63 v2186), ∀ (r : Fin 8), ∀ a, (k1_off542 v2186 (BitVec.ofNat 32 (16 * r.val))) a + S16.size a ≤ S40192.size a := fun v2186 k1_hw63 r => k1_hw63 r

def k1_off543 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2191 : Index := Scalar.indexCast v94
  let c25_i32 : BitVec 32 := 25#32
  let v2192 : Index := Scalar.indexCast c25_i32
  let c0_862 : Index := 0#32
  ![v2191.toNat, 25, 0]
def k1_off544 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2201 : Index := Scalar.indexCast v94
  let c25_i32_865 : BitVec 32 := 25#32
  let v2202 : Index := Scalar.indexCast c25_i32_865
  let c16_866 : Index := 16#32
  ![v2201.toNat, 25, 16]
def k1_off545 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2211 : Index := Scalar.indexCast v94
  let c25_i32_869 : BitVec 32 := 25#32
  let v2212 : Index := Scalar.indexCast c25_i32_869
  let c32_870 : Index := 32#32
  ![v2211.toNat, 25, 32]
def k1_off546 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2221 : Index := Scalar.indexCast v94
  let c25_i32_873 : BitVec 32 := 25#32
  let v2222 : Index := Scalar.indexCast c25_i32_873
  let c48_874 : Index := 48#32
  ![v2221.toNat, 25, 48]
def k1_off547 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2231 : Index := Scalar.indexCast v94
  let c25_i32_877 : BitVec 32 := 25#32
  let v2232 : Index := Scalar.indexCast c25_i32_877
  let c64_878 : Index := 64#32
  ![v2231.toNat, 25, 64]
def k1_off548 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2241 : Index := Scalar.indexCast v94
  let c25_i32_881 : BitVec 32 := 25#32
  let v2242 : Index := Scalar.indexCast c25_i32_881
  let c80_882 : Index := 80#32
  ![v2241.toNat, 25, 80]
def k1_off549 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2251 : Index := Scalar.indexCast v94
  let c25_i32_885 : BitVec 32 := 25#32
  let v2252 : Index := Scalar.indexCast c25_i32_885
  let c96_886 : Index := 96#32
  ![v2251.toNat, 25, 96]
def k1_off550 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2261 : Index := Scalar.indexCast v94
  let c25_i32_889 : BitVec 32 := 25#32
  let v2262 : Index := Scalar.indexCast c25_i32_889
  let c112_890 : Index := 112#32
  ![v2261.toNat, 25, 112]
def k1_off551 (v2269 : BitVec 32) (c0_i32_893 : BitVec 32) : Fin 1 → Nat :=
  let c128_i32_892 : BitVec 32 := 128#32
  let v2270 : BitVec 32 := Scalar.muli v2269 c128_i32_892
  let v2271 : BitVec 32 := Scalar.addi v2270 c0_i32_893
  let v2272 : Index := Scalar.indexCast v2271
  ![v2272.toNat]

def k1_chk64 (v2269 : BitVec 32) : Prop :=
  (∀ (r : Fin 8), ∀ a, (k1_off551 v2269 (BitVec.ofNat 32 (16 * r.val))) a + S16.size a ≤ S40192.size a)
theorem k1_off551_inb : ∀ (v2269 : BitVec 32) (k1_hw64 : k1_chk64 v2269), ∀ (r : Fin 8), ∀ a, (k1_off551 v2269 (BitVec.ofNat 32 (16 * r.val))) a + S16.size a ≤ S40192.size a := fun v2269 k1_hw64 r => k1_hw64 r

def k1_off552 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2274 : Index := Scalar.indexCast v94
  let c26_i32 : BitVec 32 := 26#32
  let v2275 : Index := Scalar.indexCast c26_i32
  let c0_894 : Index := 0#32
  ![v2274.toNat, 26, 0]
def k1_off553 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2284 : Index := Scalar.indexCast v94
  let c26_i32_897 : BitVec 32 := 26#32
  let v2285 : Index := Scalar.indexCast c26_i32_897
  let c16_898 : Index := 16#32
  ![v2284.toNat, 26, 16]
def k1_off554 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2294 : Index := Scalar.indexCast v94
  let c26_i32_901 : BitVec 32 := 26#32
  let v2295 : Index := Scalar.indexCast c26_i32_901
  let c32_902 : Index := 32#32
  ![v2294.toNat, 26, 32]
def k1_off555 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2304 : Index := Scalar.indexCast v94
  let c26_i32_905 : BitVec 32 := 26#32
  let v2305 : Index := Scalar.indexCast c26_i32_905
  let c48_906 : Index := 48#32
  ![v2304.toNat, 26, 48]
def k1_off556 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2314 : Index := Scalar.indexCast v94
  let c26_i32_909 : BitVec 32 := 26#32
  let v2315 : Index := Scalar.indexCast c26_i32_909
  let c64_910 : Index := 64#32
  ![v2314.toNat, 26, 64]
def k1_off557 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2324 : Index := Scalar.indexCast v94
  let c26_i32_913 : BitVec 32 := 26#32
  let v2325 : Index := Scalar.indexCast c26_i32_913
  let c80_914 : Index := 80#32
  ![v2324.toNat, 26, 80]
def k1_off558 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2334 : Index := Scalar.indexCast v94
  let c26_i32_917 : BitVec 32 := 26#32
  let v2335 : Index := Scalar.indexCast c26_i32_917
  let c96_918 : Index := 96#32
  ![v2334.toNat, 26, 96]
def k1_off559 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2344 : Index := Scalar.indexCast v94
  let c26_i32_921 : BitVec 32 := 26#32
  let v2345 : Index := Scalar.indexCast c26_i32_921
  let c112_922 : Index := 112#32
  ![v2344.toNat, 26, 112]
def k1_off560 (v2352 : BitVec 32) (c0_i32_925 : BitVec 32) : Fin 1 → Nat :=
  let c128_i32_924 : BitVec 32 := 128#32
  let v2353 : BitVec 32 := Scalar.muli v2352 c128_i32_924
  let v2354 : BitVec 32 := Scalar.addi v2353 c0_i32_925
  let v2355 : Index := Scalar.indexCast v2354
  ![v2355.toNat]

def k1_chk65 (v2352 : BitVec 32) : Prop :=
  (∀ (r : Fin 8), ∀ a, (k1_off560 v2352 (BitVec.ofNat 32 (16 * r.val))) a + S16.size a ≤ S40192.size a)
theorem k1_off560_inb : ∀ (v2352 : BitVec 32) (k1_hw65 : k1_chk65 v2352), ∀ (r : Fin 8), ∀ a, (k1_off560 v2352 (BitVec.ofNat 32 (16 * r.val))) a + S16.size a ≤ S40192.size a := fun v2352 k1_hw65 r => k1_hw65 r

def k1_off561 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2357 : Index := Scalar.indexCast v94
  let c27_i32 : BitVec 32 := 27#32
  let v2358 : Index := Scalar.indexCast c27_i32
  let c0_926 : Index := 0#32
  ![v2357.toNat, 27, 0]
def k1_off562 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2367 : Index := Scalar.indexCast v94
  let c27_i32_929 : BitVec 32 := 27#32
  let v2368 : Index := Scalar.indexCast c27_i32_929
  let c16_930 : Index := 16#32
  ![v2367.toNat, 27, 16]
def k1_off563 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2377 : Index := Scalar.indexCast v94
  let c27_i32_933 : BitVec 32 := 27#32
  let v2378 : Index := Scalar.indexCast c27_i32_933
  let c32_934 : Index := 32#32
  ![v2377.toNat, 27, 32]
def k1_off564 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2387 : Index := Scalar.indexCast v94
  let c27_i32_937 : BitVec 32 := 27#32
  let v2388 : Index := Scalar.indexCast c27_i32_937
  let c48_938 : Index := 48#32
  ![v2387.toNat, 27, 48]
def k1_off565 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2397 : Index := Scalar.indexCast v94
  let c27_i32_941 : BitVec 32 := 27#32
  let v2398 : Index := Scalar.indexCast c27_i32_941
  let c64_942 : Index := 64#32
  ![v2397.toNat, 27, 64]
def k1_off566 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2407 : Index := Scalar.indexCast v94
  let c27_i32_945 : BitVec 32 := 27#32
  let v2408 : Index := Scalar.indexCast c27_i32_945
  let c80_946 : Index := 80#32
  ![v2407.toNat, 27, 80]
def k1_off567 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2417 : Index := Scalar.indexCast v94
  let c27_i32_949 : BitVec 32 := 27#32
  let v2418 : Index := Scalar.indexCast c27_i32_949
  let c96_950 : Index := 96#32
  ![v2417.toNat, 27, 96]
def k1_off568 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2427 : Index := Scalar.indexCast v94
  let c27_i32_953 : BitVec 32 := 27#32
  let v2428 : Index := Scalar.indexCast c27_i32_953
  let c112_954 : Index := 112#32
  ![v2427.toNat, 27, 112]
def k1_off569 (v2435 : BitVec 32) (c0_i32_957 : BitVec 32) : Fin 1 → Nat :=
  let c128_i32_956 : BitVec 32 := 128#32
  let v2436 : BitVec 32 := Scalar.muli v2435 c128_i32_956
  let v2437 : BitVec 32 := Scalar.addi v2436 c0_i32_957
  let v2438 : Index := Scalar.indexCast v2437
  ![v2438.toNat]

def k1_chk66 (v2435 : BitVec 32) : Prop :=
  (∀ (r : Fin 8), ∀ a, (k1_off569 v2435 (BitVec.ofNat 32 (16 * r.val))) a + S16.size a ≤ S40192.size a)
theorem k1_off569_inb : ∀ (v2435 : BitVec 32) (k1_hw66 : k1_chk66 v2435), ∀ (r : Fin 8), ∀ a, (k1_off569 v2435 (BitVec.ofNat 32 (16 * r.val))) a + S16.size a ≤ S40192.size a := fun v2435 k1_hw66 r => k1_hw66 r

def k1_off570 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2440 : Index := Scalar.indexCast v94
  let c28_i32 : BitVec 32 := 28#32
  let v2441 : Index := Scalar.indexCast c28_i32
  let c0_958 : Index := 0#32
  ![v2440.toNat, 28, 0]
def k1_off571 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2450 : Index := Scalar.indexCast v94
  let c28_i32_961 : BitVec 32 := 28#32
  let v2451 : Index := Scalar.indexCast c28_i32_961
  let c16_962 : Index := 16#32
  ![v2450.toNat, 28, 16]
def k1_off572 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2460 : Index := Scalar.indexCast v94
  let c28_i32_965 : BitVec 32 := 28#32
  let v2461 : Index := Scalar.indexCast c28_i32_965
  let c32_966 : Index := 32#32
  ![v2460.toNat, 28, 32]
def k1_off573 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2470 : Index := Scalar.indexCast v94
  let c28_i32_969 : BitVec 32 := 28#32
  let v2471 : Index := Scalar.indexCast c28_i32_969
  let c48_970 : Index := 48#32
  ![v2470.toNat, 28, 48]
def k1_off574 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2480 : Index := Scalar.indexCast v94
  let c28_i32_973 : BitVec 32 := 28#32
  let v2481 : Index := Scalar.indexCast c28_i32_973
  let c64_974 : Index := 64#32
  ![v2480.toNat, 28, 64]
def k1_off575 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2490 : Index := Scalar.indexCast v94
  let c28_i32_977 : BitVec 32 := 28#32
  let v2491 : Index := Scalar.indexCast c28_i32_977
  let c80_978 : Index := 80#32
  ![v2490.toNat, 28, 80]
def k1_off576 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2500 : Index := Scalar.indexCast v94
  let c28_i32_981 : BitVec 32 := 28#32
  let v2501 : Index := Scalar.indexCast c28_i32_981
  let c96_982 : Index := 96#32
  ![v2500.toNat, 28, 96]
def k1_off577 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2510 : Index := Scalar.indexCast v94
  let c28_i32_985 : BitVec 32 := 28#32
  let v2511 : Index := Scalar.indexCast c28_i32_985
  let c112_986 : Index := 112#32
  ![v2510.toNat, 28, 112]
def k1_off578 (v2518 : BitVec 32) (c0_i32_989 : BitVec 32) : Fin 1 → Nat :=
  let c128_i32_988 : BitVec 32 := 128#32
  let v2519 : BitVec 32 := Scalar.muli v2518 c128_i32_988
  let v2520 : BitVec 32 := Scalar.addi v2519 c0_i32_989
  let v2521 : Index := Scalar.indexCast v2520
  ![v2521.toNat]

def k1_chk67 (v2518 : BitVec 32) : Prop :=
  (∀ (r : Fin 8), ∀ a, (k1_off578 v2518 (BitVec.ofNat 32 (16 * r.val))) a + S16.size a ≤ S40192.size a)
theorem k1_off578_inb : ∀ (v2518 : BitVec 32) (k1_hw67 : k1_chk67 v2518), ∀ (r : Fin 8), ∀ a, (k1_off578 v2518 (BitVec.ofNat 32 (16 * r.val))) a + S16.size a ≤ S40192.size a := fun v2518 k1_hw67 r => k1_hw67 r

def k1_off579 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2523 : Index := Scalar.indexCast v94
  let c29_i32 : BitVec 32 := 29#32
  let v2524 : Index := Scalar.indexCast c29_i32
  let c0_990 : Index := 0#32
  ![v2523.toNat, 29, 0]
def k1_off580 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2533 : Index := Scalar.indexCast v94
  let c29_i32_993 : BitVec 32 := 29#32
  let v2534 : Index := Scalar.indexCast c29_i32_993
  let c16_994 : Index := 16#32
  ![v2533.toNat, 29, 16]
def k1_off581 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2543 : Index := Scalar.indexCast v94
  let c29_i32_997 : BitVec 32 := 29#32
  let v2544 : Index := Scalar.indexCast c29_i32_997
  let c32_998 : Index := 32#32
  ![v2543.toNat, 29, 32]
def k1_off582 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2553 : Index := Scalar.indexCast v94
  let c29_i32_1001 : BitVec 32 := 29#32
  let v2554 : Index := Scalar.indexCast c29_i32_1001
  let c48_1002 : Index := 48#32
  ![v2553.toNat, 29, 48]
def k1_off583 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2563 : Index := Scalar.indexCast v94
  let c29_i32_1005 : BitVec 32 := 29#32
  let v2564 : Index := Scalar.indexCast c29_i32_1005
  let c64_1006 : Index := 64#32
  ![v2563.toNat, 29, 64]
def k1_off584 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2573 : Index := Scalar.indexCast v94
  let c29_i32_1009 : BitVec 32 := 29#32
  let v2574 : Index := Scalar.indexCast c29_i32_1009
  let c80_1010 : Index := 80#32
  ![v2573.toNat, 29, 80]
def k1_off585 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2583 : Index := Scalar.indexCast v94
  let c29_i32_1013 : BitVec 32 := 29#32
  let v2584 : Index := Scalar.indexCast c29_i32_1013
  let c96_1014 : Index := 96#32
  ![v2583.toNat, 29, 96]
def k1_off586 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2593 : Index := Scalar.indexCast v94
  let c29_i32_1017 : BitVec 32 := 29#32
  let v2594 : Index := Scalar.indexCast c29_i32_1017
  let c112_1018 : Index := 112#32
  ![v2593.toNat, 29, 112]
def k1_off587 (v2601 : BitVec 32) (c0_i32_1021 : BitVec 32) : Fin 1 → Nat :=
  let c128_i32_1020 : BitVec 32 := 128#32
  let v2602 : BitVec 32 := Scalar.muli v2601 c128_i32_1020
  let v2603 : BitVec 32 := Scalar.addi v2602 c0_i32_1021
  let v2604 : Index := Scalar.indexCast v2603
  ![v2604.toNat]

def k1_chk68 (v2601 : BitVec 32) : Prop :=
  (∀ (r : Fin 8), ∀ a, (k1_off587 v2601 (BitVec.ofNat 32 (16 * r.val))) a + S16.size a ≤ S40192.size a)
theorem k1_off587_inb : ∀ (v2601 : BitVec 32) (k1_hw68 : k1_chk68 v2601), ∀ (r : Fin 8), ∀ a, (k1_off587 v2601 (BitVec.ofNat 32 (16 * r.val))) a + S16.size a ≤ S40192.size a := fun v2601 k1_hw68 r => k1_hw68 r

def k1_off588 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2606 : Index := Scalar.indexCast v94
  let c30_i32 : BitVec 32 := 30#32
  let v2607 : Index := Scalar.indexCast c30_i32
  let c0_1022 : Index := 0#32
  ![v2606.toNat, 30, 0]
def k1_off589 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2616 : Index := Scalar.indexCast v94
  let c30_i32_1025 : BitVec 32 := 30#32
  let v2617 : Index := Scalar.indexCast c30_i32_1025
  let c16_1026 : Index := 16#32
  ![v2616.toNat, 30, 16]
def k1_off590 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2626 : Index := Scalar.indexCast v94
  let c30_i32_1029 : BitVec 32 := 30#32
  let v2627 : Index := Scalar.indexCast c30_i32_1029
  let c32_1030 : Index := 32#32
  ![v2626.toNat, 30, 32]
def k1_off591 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2636 : Index := Scalar.indexCast v94
  let c30_i32_1033 : BitVec 32 := 30#32
  let v2637 : Index := Scalar.indexCast c30_i32_1033
  let c48_1034 : Index := 48#32
  ![v2636.toNat, 30, 48]
def k1_off592 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2646 : Index := Scalar.indexCast v94
  let c30_i32_1037 : BitVec 32 := 30#32
  let v2647 : Index := Scalar.indexCast c30_i32_1037
  let c64_1038 : Index := 64#32
  ![v2646.toNat, 30, 64]
def k1_off593 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2656 : Index := Scalar.indexCast v94
  let c30_i32_1041 : BitVec 32 := 30#32
  let v2657 : Index := Scalar.indexCast c30_i32_1041
  let c80_1042 : Index := 80#32
  ![v2656.toNat, 30, 80]
def k1_off594 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2666 : Index := Scalar.indexCast v94
  let c30_i32_1045 : BitVec 32 := 30#32
  let v2667 : Index := Scalar.indexCast c30_i32_1045
  let c96_1046 : Index := 96#32
  ![v2666.toNat, 30, 96]
def k1_off595 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2676 : Index := Scalar.indexCast v94
  let c30_i32_1049 : BitVec 32 := 30#32
  let v2677 : Index := Scalar.indexCast c30_i32_1049
  let c112_1050 : Index := 112#32
  ![v2676.toNat, 30, 112]
def k1_off596 (v2684 : BitVec 32) (c0_i32_1053 : BitVec 32) : Fin 1 → Nat :=
  let c128_i32_1052 : BitVec 32 := 128#32
  let v2685 : BitVec 32 := Scalar.muli v2684 c128_i32_1052
  let v2686 : BitVec 32 := Scalar.addi v2685 c0_i32_1053
  let v2687 : Index := Scalar.indexCast v2686
  ![v2687.toNat]

def k1_chk69 (v2684 : BitVec 32) : Prop :=
  (∀ (r : Fin 8), ∀ a, (k1_off596 v2684 (BitVec.ofNat 32 (16 * r.val))) a + S16.size a ≤ S40192.size a)
theorem k1_off596_inb : ∀ (v2684 : BitVec 32) (k1_hw69 : k1_chk69 v2684), ∀ (r : Fin 8), ∀ a, (k1_off596 v2684 (BitVec.ofNat 32 (16 * r.val))) a + S16.size a ≤ S40192.size a := fun v2684 k1_hw69 r => k1_hw69 r

def k1_off597 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2689 : Index := Scalar.indexCast v94
  let c31_i32 : BitVec 32 := 31#32
  let v2690 : Index := Scalar.indexCast c31_i32
  let c0_1054 : Index := 0#32
  ![v2689.toNat, 31, 0]
def k1_off598 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2699 : Index := Scalar.indexCast v94
  let c31_i32_1057 : BitVec 32 := 31#32
  let v2700 : Index := Scalar.indexCast c31_i32_1057
  let c16_1058 : Index := 16#32
  ![v2699.toNat, 31, 16]
def k1_off599 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2709 : Index := Scalar.indexCast v94
  let c31_i32_1061 : BitVec 32 := 31#32
  let v2710 : Index := Scalar.indexCast c31_i32_1061
  let c32_1062 : Index := 32#32
  ![v2709.toNat, 31, 32]
def k1_off600 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2719 : Index := Scalar.indexCast v94
  let c31_i32_1065 : BitVec 32 := 31#32
  let v2720 : Index := Scalar.indexCast c31_i32_1065
  let c48_1066 : Index := 48#32
  ![v2719.toNat, 31, 48]
def k1_off601 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2729 : Index := Scalar.indexCast v94
  let c31_i32_1069 : BitVec 32 := 31#32
  let v2730 : Index := Scalar.indexCast c31_i32_1069
  let c64_1070 : Index := 64#32
  ![v2729.toNat, 31, 64]
def k1_off602 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2739 : Index := Scalar.indexCast v94
  let c31_i32_1073 : BitVec 32 := 31#32
  let v2740 : Index := Scalar.indexCast c31_i32_1073
  let c80_1074 : Index := 80#32
  ![v2739.toNat, 31, 80]
def k1_off603 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2749 : Index := Scalar.indexCast v94
  let c31_i32_1077 : BitVec 32 := 31#32
  let v2750 : Index := Scalar.indexCast c31_i32_1077
  let c96_1078 : Index := 96#32
  ![v2749.toNat, 31, 96]
def k1_off604 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32 : BitVec 32 := 4#32
  let v94 : BitVec 32 := Scalar.remsi arg16 c4_i32
  let v2759 : Index := Scalar.indexCast v94
  let c31_i32_1081 : BitVec 32 := 31#32
  let v2760 : Index := Scalar.indexCast c31_i32_1081
  let c112_1082 : Index := 112#32
  ![v2759.toNat, 31, 112]
def k1_off605 (v41 : BitVec 32) (k1_t5 : Fin (k1_t5_loop v41).trips) : Fin 3 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32_1087 : BitVec 32 := 4#32
  let v2770 : BitVec 32 := Scalar.addi arg16 c4_i32_1087
  let c4_i32_1088 : BitVec 32 := 4#32
  let v2771 : BitVec 32 := Scalar.remsi v2770 c4_i32_1088
  let c0_i32_1090 : BitVec 32 := 0#32
  let c0_i32_1091 : BitVec 32 := 0#32
  ![v2771.toNat, 0, 0]
def k1_cond7 (v41 : BitVec 32) (k1_t5 : Fin (k1_t5_loop v41).trips) : BitVec 1 :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32_1084 : BitVec 32 := 4#32
  let v2766 : BitVec 32 := Scalar.addi arg16 c4_i32_1084
  let v2767 : BitVec 1 := Scalar.cmpi .slt v2766 v74
  let v2768 : BitVec 32 := Scalar.extui v2767
  let c0_i32_1085 : BitVec 32 := 0#32
  let v2769 : BitVec 1 := Scalar.cmpi .ne v2768 c0_i32_1085
  v2769

def k1_off606 (v41 : BitVec 32) (k1_t5 : Fin (k1_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32_1087 : BitVec 32 := 4#32
  let v2770 : BitVec 32 := Scalar.addi arg16 c4_i32_1087
  let c32_i32_1089 : BitVec 32 := 32#32
  let v2772 : BitVec 32 := Scalar.muli v2770 c32_i32_1089
  ![v2772.toNat]
def k1_off607 (v41 : BitVec 32) (k1_t5 : Fin (k1_t5_loop v41).trips) : Fin 1 → Nat :=
  let c0_i32_52 : BitVec 32 := 0#32
  let c32_i32 : BitVec 32 := 32#32
  let v56 : BitVec 32 := Scalar.addi v41 c32_i32
  let c1_i32_37 : BitVec 32 := 1#32
  let v57 : BitVec 32 := Scalar.subi v56 c1_i32_37
  let c0_i32_39 : BitVec 32 := 0#32
  let v59 : BitVec 1 := Scalar.cmpi .sgt v57 c0_i32_39
  let v60 : BitVec 32 := Scalar.extui v59
  let c0_i32_40 : BitVec 32 := 0#32
  let v61 : BitVec 1 := Scalar.cmpi .slt v57 c0_i32_40
  let v62 : BitVec 32 := Scalar.extui v61
  let v63 : BitVec 32 := Scalar.subi v60 v62
  let c32_i32_38 : BitVec 32 := 32#32
  let c0_i32_41 : BitVec 32 := 0#32
  let v64 : BitVec 1 := Scalar.cmpi .sgt c32_i32_38 c0_i32_41
  let v65 : BitVec 32 := Scalar.extui v64
  let c0_i32_42 : BitVec 32 := 0#32
  let v66 : BitVec 1 := Scalar.cmpi .slt c32_i32_38 c0_i32_42
  let v67 : BitVec 32 := Scalar.extui v66
  let v68 : BitVec 32 := Scalar.subi v65 v67
  let v69 : BitVec 1 := Scalar.cmpi .ne v63 v68
  let v70 : BitVec 32 := Scalar.remsi v57 c32_i32_38
  let c0_i32_43 : BitVec 32 := 0#32
  let v71 : BitVec 1 := Scalar.cmpi .ne v70 c0_i32_43
  let v72 : BitVec 1 := Scalar.andi v69 v71
  let v58 : BitVec 32 := Scalar.divsi v57 c32_i32_38
  let c1_i32_44 : BitVec 32 := 1#32
  let v73 : BitVec 32 := Scalar.subi v58 c1_i32_44
  let v74 : BitVec 32 := Scalar.select v72 v73 v58
  let v87 : BitVec 32 := Scalar.subi v74 c0_i32_52
  let c1_i32_54 : BitVec 32 := 1#32
  let v89 : BitVec 32 := Scalar.divsi v87 c1_i32_54
  let v90 : BitVec 32 := Scalar.muli v89 c1_i32_54
  let v91 : BitVec 32 := Scalar.addi c0_i32_52 v90
  let c1_i32_56 : BitVec 32 := 1#32
  let arg16 : BitVec 32 := Scf.iv v91 c1_i32_56 k1_t5
  let c4_i32_1087 : BitVec 32 := 4#32
  let v2770 : BitVec 32 := Scalar.addi arg16 c4_i32_1087
  let c4_i32_1088 : BitVec 32 := 4#32
  let v2771 : BitVec 32 := Scalar.remsi v2770 c4_i32_1088
  ![v2771.toNat]

def k1_chk5_0 (v41 : BitVec 32) : Prop :=
  (∀ a, (k1_off6 v41) a + S16.size a ≤ S8032.size a) ∧
  (∀ a, (k1_off7 v41) a + S16.size a ≤ S8032.size a) ∧
  ((k1_t4_loop v41).OK) ∧
  (∀ k1_t4 : Fin (k1_t4_loop v41).trips, ∀ a, (k1_off16 v41 k1_t4) a + S1x32x128.size a ≤ S4x32x128.size a) ∧
  (∀ k1_t4 : Fin (k1_t4_loop v41).trips, ∀ a, (k1_off17 v41 k1_t4) a + S32.size a ≤ S8032.size a) ∧
  (∀ k1_t4 : Fin (k1_t4_loop v41).trips, ∀ a, (k1_off18 v41 k1_t4) a + S1.size a ≤ S4.size a) ∧
  (∀ k1_t4 : Fin (k1_t4_loop v41).trips, ∀ a, (k1_off19 v41 k1_t4) a + S16.size a ≤ S8032.size a) ∧
  (∀ k1_t4 : Fin (k1_t4_loop v41).trips, ∀ a, (k1_off21 v41 k1_t4) a + S1x1x16.size a ≤ S4x32x128.size a) ∧
  (∀ k1_t4 : Fin (k1_t4_loop v41).trips, ∀ a, (k1_off22 v41 k1_t4) a + S1x1x16.size a ≤ S4x32x128.size a) ∧
  (∀ k1_t4 : Fin (k1_t4_loop v41).trips, ∀ a, (k1_off23 v41 k1_t4) a + S1x1x16.size a ≤ S4x32x128.size a) ∧
  (∀ k1_t4 : Fin (k1_t4_loop v41).trips, ∀ a, (k1_off24 v41 k1_t4) a + S1x1x16.size a ≤ S4x32x128.size a) ∧
  (∀ k1_t4 : Fin (k1_t4_loop v41).trips, ∀ a, (k1_off25 v41 k1_t4) a + S1x1x16.size a ≤ S4x32x128.size a) ∧
  (∀ k1_t4 : Fin (k1_t4_loop v41).trips, ∀ a, (k1_off26 v41 k1_t4) a + S1x1x16.size a ≤ S4x32x128.size a) ∧
  (∀ k1_t4 : Fin (k1_t4_loop v41).trips, ∀ a, (k1_off27 v41 k1_t4) a + S1x1x16.size a ≤ S4x32x128.size a) ∧
  (∀ k1_t4 : Fin (k1_t4_loop v41).trips, ∀ a, (k1_off28 v41 k1_t4) a + S1x1x16.size a ≤ S4x32x128.size a) ∧
  (∀ k1_t4 : Fin (k1_t4_loop v41).trips, ∀ a, (k1_off30 v41 k1_t4) a + S1x1x16.size a ≤ S4x32x128.size a) ∧
  (∀ k1_t4 : Fin (k1_t4_loop v41).trips, ∀ a, (k1_off31 v41 k1_t4) a + S1x1x16.size a ≤ S4x32x128.size a) ∧
  (∀ k1_t4 : Fin (k1_t4_loop v41).trips, ∀ a, (k1_off32 v41 k1_t4) a + S1x1x16.size a ≤ S4x32x128.size a) ∧
  (∀ k1_t4 : Fin (k1_t4_loop v41).trips, ∀ a, (k1_off33 v41 k1_t4) a + S1x1x16.size a ≤ S4x32x128.size a) ∧
  (∀ k1_t4 : Fin (k1_t4_loop v41).trips, ∀ a, (k1_off34 v41 k1_t4) a + S1x1x16.size a ≤ S4x32x128.size a) ∧
  (∀ k1_t4 : Fin (k1_t4_loop v41).trips, ∀ a, (k1_off35 v41 k1_t4) a + S1x1x16.size a ≤ S4x32x128.size a) ∧
  (∀ k1_t4 : Fin (k1_t4_loop v41).trips, ∀ a, (k1_off36 v41 k1_t4) a + S1x1x16.size a ≤ S4x32x128.size a) ∧
  (∀ k1_t4 : Fin (k1_t4_loop v41).trips, ∀ a, (k1_off37 v41 k1_t4) a + S1x1x16.size a ≤ S4x32x128.size a) ∧
  (∀ k1_t4 : Fin (k1_t4_loop v41).trips, ∀ a, (k1_off39 v41 k1_t4) a + S1x1x16.size a ≤ S4x32x128.size a) ∧
  (∀ k1_t4 : Fin (k1_t4_loop v41).trips, ∀ a, (k1_off40 v41 k1_t4) a + S1x1x16.size a ≤ S4x32x128.size a) ∧
  (∀ k1_t4 : Fin (k1_t4_loop v41).trips, ∀ a, (k1_off41 v41 k1_t4) a + S1x1x16.size a ≤ S4x32x128.size a) ∧
  (∀ k1_t4 : Fin (k1_t4_loop v41).trips, ∀ a, (k1_off42 v41 k1_t4) a + S1x1x16.size a ≤ S4x32x128.size a) ∧
  (∀ k1_t4 : Fin (k1_t4_loop v41).trips, ∀ a, (k1_off43 v41 k1_t4) a + S1x1x16.size a ≤ S4x32x128.size a) ∧
  (∀ k1_t4 : Fin (k1_t4_loop v41).trips, ∀ a, (k1_off44 v41 k1_t4) a + S1x1x16.size a ≤ S4x32x128.size a) ∧
  (∀ k1_t4 : Fin (k1_t4_loop v41).trips, ∀ a, (k1_off45 v41 k1_t4) a + S1x1x16.size a ≤ S4x32x128.size a) ∧
  (∀ k1_t4 : Fin (k1_t4_loop v41).trips, ∀ a, (k1_off46 v41 k1_t4) a + S1x1x16.size a ≤ S4x32x128.size a) ∧
  (∀ k1_t4 : Fin (k1_t4_loop v41).trips, ∀ a, (k1_off48 v41 k1_t4) a + S1x1x16.size a ≤ S4x32x128.size a)
def k1_chk5_1 (v41 : BitVec 32) : Prop :=
  (∀ k1_t4 : Fin (k1_t4_loop v41).trips, ∀ a, (k1_off49 v41 k1_t4) a + S1x1x16.size a ≤ S4x32x128.size a) ∧
  (∀ k1_t4 : Fin (k1_t4_loop v41).trips, ∀ a, (k1_off50 v41 k1_t4) a + S1x1x16.size a ≤ S4x32x128.size a) ∧
  (∀ k1_t4 : Fin (k1_t4_loop v41).trips, ∀ a, (k1_off51 v41 k1_t4) a + S1x1x16.size a ≤ S4x32x128.size a) ∧
  (∀ k1_t4 : Fin (k1_t4_loop v41).trips, ∀ a, (k1_off52 v41 k1_t4) a + S1x1x16.size a ≤ S4x32x128.size a) ∧
  (∀ k1_t4 : Fin (k1_t4_loop v41).trips, ∀ a, (k1_off53 v41 k1_t4) a + S1x1x16.size a ≤ S4x32x128.size a) ∧
  (∀ k1_t4 : Fin (k1_t4_loop v41).trips, ∀ a, (k1_off54 v41 k1_t4) a + S1x1x16.size a ≤ S4x32x128.size a) ∧
  (∀ k1_t4 : Fin (k1_t4_loop v41).trips, ∀ a, (k1_off55 v41 k1_t4) a + S1x1x16.size a ≤ S4x32x128.size a) ∧
  (∀ k1_t4 : Fin (k1_t4_loop v41).trips, ∀ a, (k1_off57 v41 k1_t4) a + S1x1x16.size a ≤ S4x32x128.size a) ∧
  (∀ k1_t4 : Fin (k1_t4_loop v41).trips, ∀ a, (k1_off58 v41 k1_t4) a + S1x1x16.size a ≤ S4x32x128.size a) ∧
  (∀ k1_t4 : Fin (k1_t4_loop v41).trips, ∀ a, (k1_off59 v41 k1_t4) a + S1x1x16.size a ≤ S4x32x128.size a) ∧
  (∀ k1_t4 : Fin (k1_t4_loop v41).trips, ∀ a, (k1_off60 v41 k1_t4) a + S1x1x16.size a ≤ S4x32x128.size a) ∧
  (∀ k1_t4 : Fin (k1_t4_loop v41).trips, ∀ a, (k1_off61 v41 k1_t4) a + S1x1x16.size a ≤ S4x32x128.size a) ∧
  (∀ k1_t4 : Fin (k1_t4_loop v41).trips, ∀ a, (k1_off62 v41 k1_t4) a + S1x1x16.size a ≤ S4x32x128.size a) ∧
  (∀ k1_t4 : Fin (k1_t4_loop v41).trips, ∀ a, (k1_off63 v41 k1_t4) a + S1x1x16.size a ≤ S4x32x128.size a) ∧
  (∀ k1_t4 : Fin (k1_t4_loop v41).trips, ∀ a, (k1_off64 v41 k1_t4) a + S1x1x16.size a ≤ S4x32x128.size a) ∧
  (∀ k1_t4 : Fin (k1_t4_loop v41).trips, ∀ a, (k1_off66 v41 k1_t4) a + S1x1x16.size a ≤ S4x32x128.size a) ∧
  (∀ k1_t4 : Fin (k1_t4_loop v41).trips, ∀ a, (k1_off67 v41 k1_t4) a + S1x1x16.size a ≤ S4x32x128.size a) ∧
  (∀ k1_t4 : Fin (k1_t4_loop v41).trips, ∀ a, (k1_off68 v41 k1_t4) a + S1x1x16.size a ≤ S4x32x128.size a) ∧
  (∀ k1_t4 : Fin (k1_t4_loop v41).trips, ∀ a, (k1_off69 v41 k1_t4) a + S1x1x16.size a ≤ S4x32x128.size a) ∧
  (∀ k1_t4 : Fin (k1_t4_loop v41).trips, ∀ a, (k1_off70 v41 k1_t4) a + S1x1x16.size a ≤ S4x32x128.size a) ∧
  (∀ k1_t4 : Fin (k1_t4_loop v41).trips, ∀ a, (k1_off71 v41 k1_t4) a + S1x1x16.size a ≤ S4x32x128.size a) ∧
  (∀ k1_t4 : Fin (k1_t4_loop v41).trips, ∀ a, (k1_off72 v41 k1_t4) a + S1x1x16.size a ≤ S4x32x128.size a) ∧
  (∀ k1_t4 : Fin (k1_t4_loop v41).trips, ∀ a, (k1_off73 v41 k1_t4) a + S1x1x16.size a ≤ S4x32x128.size a) ∧
  (∀ k1_t4 : Fin (k1_t4_loop v41).trips, ∀ a, (k1_off75 v41 k1_t4) a + S1x1x16.size a ≤ S4x32x128.size a) ∧
  (∀ k1_t4 : Fin (k1_t4_loop v41).trips, ∀ a, (k1_off76 v41 k1_t4) a + S1x1x16.size a ≤ S4x32x128.size a) ∧
  (∀ k1_t4 : Fin (k1_t4_loop v41).trips, ∀ a, (k1_off77 v41 k1_t4) a + S1x1x16.size a ≤ S4x32x128.size a) ∧
  (∀ k1_t4 : Fin (k1_t4_loop v41).trips, ∀ a, (k1_off78 v41 k1_t4) a + S1x1x16.size a ≤ S4x32x128.size a) ∧
  (∀ k1_t4 : Fin (k1_t4_loop v41).trips, ∀ a, (k1_off79 v41 k1_t4) a + S1x1x16.size a ≤ S4x32x128.size a) ∧
  (∀ k1_t4 : Fin (k1_t4_loop v41).trips, ∀ a, (k1_off80 v41 k1_t4) a + S1x1x16.size a ≤ S4x32x128.size a) ∧
  (∀ k1_t4 : Fin (k1_t4_loop v41).trips, ∀ a, (k1_off81 v41 k1_t4) a + S1x1x16.size a ≤ S4x32x128.size a) ∧
  (∀ k1_t4 : Fin (k1_t4_loop v41).trips, ∀ a, (k1_off82 v41 k1_t4) a + S1x1x16.size a ≤ S4x32x128.size a) ∧
  (∀ k1_t4 : Fin (k1_t4_loop v41).trips, ∀ a, (k1_off84 v41 k1_t4) a + S1x1x16.size a ≤ S4x32x128.size a)
def k1_chk5_2 (v41 : BitVec 32) : Prop :=
  (∀ k1_t4 : Fin (k1_t4_loop v41).trips, ∀ a, (k1_off85 v41 k1_t4) a + S1x1x16.size a ≤ S4x32x128.size a) ∧
  (∀ k1_t4 : Fin (k1_t4_loop v41).trips, ∀ a, (k1_off86 v41 k1_t4) a + S1x1x16.size a ≤ S4x32x128.size a) ∧
  (∀ k1_t4 : Fin (k1_t4_loop v41).trips, ∀ a, (k1_off87 v41 k1_t4) a + S1x1x16.size a ≤ S4x32x128.size a) ∧
  (∀ k1_t4 : Fin (k1_t4_loop v41).trips, ∀ a, (k1_off88 v41 k1_t4) a + S1x1x16.size a ≤ S4x32x128.size a) ∧
  (∀ k1_t4 : Fin (k1_t4_loop v41).trips, ∀ a, (k1_off89 v41 k1_t4) a + S1x1x16.size a ≤ S4x32x128.size a) ∧
  (∀ k1_t4 : Fin (k1_t4_loop v41).trips, ∀ a, (k1_off90 v41 k1_t4) a + S1x1x16.size a ≤ S4x32x128.size a) ∧
  (∀ k1_t4 : Fin (k1_t4_loop v41).trips, ∀ a, (k1_off91 v41 k1_t4) a + S1x1x16.size a ≤ S4x32x128.size a) ∧
  (∀ k1_t4 : Fin (k1_t4_loop v41).trips, ∀ a, (k1_off93 v41 k1_t4) a + S1x1x16.size a ≤ S4x32x128.size a) ∧
  (∀ k1_t4 : Fin (k1_t4_loop v41).trips, ∀ a, (k1_off94 v41 k1_t4) a + S1x1x16.size a ≤ S4x32x128.size a) ∧
  (∀ k1_t4 : Fin (k1_t4_loop v41).trips, ∀ a, (k1_off95 v41 k1_t4) a + S1x1x16.size a ≤ S4x32x128.size a) ∧
  (∀ k1_t4 : Fin (k1_t4_loop v41).trips, ∀ a, (k1_off96 v41 k1_t4) a + S1x1x16.size a ≤ S4x32x128.size a) ∧
  (∀ k1_t4 : Fin (k1_t4_loop v41).trips, ∀ a, (k1_off97 v41 k1_t4) a + S1x1x16.size a ≤ S4x32x128.size a) ∧
  (∀ k1_t4 : Fin (k1_t4_loop v41).trips, ∀ a, (k1_off98 v41 k1_t4) a + S1x1x16.size a ≤ S4x32x128.size a) ∧
  (∀ k1_t4 : Fin (k1_t4_loop v41).trips, ∀ a, (k1_off99 v41 k1_t4) a + S1x1x16.size a ≤ S4x32x128.size a) ∧
  (∀ k1_t4 : Fin (k1_t4_loop v41).trips, ∀ a, (k1_off100 v41 k1_t4) a + S1x1x16.size a ≤ S4x32x128.size a) ∧
  (∀ k1_t4 : Fin (k1_t4_loop v41).trips, ∀ a, (k1_off102 v41 k1_t4) a + S1x1x16.size a ≤ S4x32x128.size a) ∧
  (∀ k1_t4 : Fin (k1_t4_loop v41).trips, ∀ a, (k1_off103 v41 k1_t4) a + S1x1x16.size a ≤ S4x32x128.size a) ∧
  (∀ k1_t4 : Fin (k1_t4_loop v41).trips, ∀ a, (k1_off104 v41 k1_t4) a + S1x1x16.size a ≤ S4x32x128.size a) ∧
  (∀ k1_t4 : Fin (k1_t4_loop v41).trips, ∀ a, (k1_off105 v41 k1_t4) a + S1x1x16.size a ≤ S4x32x128.size a) ∧
  (∀ k1_t4 : Fin (k1_t4_loop v41).trips, ∀ a, (k1_off106 v41 k1_t4) a + S1x1x16.size a ≤ S4x32x128.size a) ∧
  (∀ k1_t4 : Fin (k1_t4_loop v41).trips, ∀ a, (k1_off107 v41 k1_t4) a + S1x1x16.size a ≤ S4x32x128.size a) ∧
  (∀ k1_t4 : Fin (k1_t4_loop v41).trips, ∀ a, (k1_off108 v41 k1_t4) a + S1x1x16.size a ≤ S4x32x128.size a) ∧
  (∀ k1_t4 : Fin (k1_t4_loop v41).trips, ∀ a, (k1_off109 v41 k1_t4) a + S1x1x16.size a ≤ S4x32x128.size a) ∧
  (∀ k1_t4 : Fin (k1_t4_loop v41).trips, ∀ a, (k1_off111 v41 k1_t4) a + S1x1x16.size a ≤ S4x32x128.size a) ∧
  (∀ k1_t4 : Fin (k1_t4_loop v41).trips, ∀ a, (k1_off112 v41 k1_t4) a + S1x1x16.size a ≤ S4x32x128.size a) ∧
  (∀ k1_t4 : Fin (k1_t4_loop v41).trips, ∀ a, (k1_off113 v41 k1_t4) a + S1x1x16.size a ≤ S4x32x128.size a) ∧
  (∀ k1_t4 : Fin (k1_t4_loop v41).trips, ∀ a, (k1_off114 v41 k1_t4) a + S1x1x16.size a ≤ S4x32x128.size a) ∧
  (∀ k1_t4 : Fin (k1_t4_loop v41).trips, ∀ a, (k1_off115 v41 k1_t4) a + S1x1x16.size a ≤ S4x32x128.size a) ∧
  (∀ k1_t4 : Fin (k1_t4_loop v41).trips, ∀ a, (k1_off116 v41 k1_t4) a + S1x1x16.size a ≤ S4x32x128.size a) ∧
  (∀ k1_t4 : Fin (k1_t4_loop v41).trips, ∀ a, (k1_off117 v41 k1_t4) a + S1x1x16.size a ≤ S4x32x128.size a) ∧
  (∀ k1_t4 : Fin (k1_t4_loop v41).trips, ∀ a, (k1_off118 v41 k1_t4) a + S1x1x16.size a ≤ S4x32x128.size a) ∧
  (∀ k1_t4 : Fin (k1_t4_loop v41).trips, ∀ a, (k1_off120 v41 k1_t4) a + S1x1x16.size a ≤ S4x32x128.size a)
def k1_chk5_3 (v41 : BitVec 32) : Prop :=
  (∀ k1_t4 : Fin (k1_t4_loop v41).trips, ∀ a, (k1_off121 v41 k1_t4) a + S1x1x16.size a ≤ S4x32x128.size a) ∧
  (∀ k1_t4 : Fin (k1_t4_loop v41).trips, ∀ a, (k1_off122 v41 k1_t4) a + S1x1x16.size a ≤ S4x32x128.size a) ∧
  (∀ k1_t4 : Fin (k1_t4_loop v41).trips, ∀ a, (k1_off123 v41 k1_t4) a + S1x1x16.size a ≤ S4x32x128.size a) ∧
  (∀ k1_t4 : Fin (k1_t4_loop v41).trips, ∀ a, (k1_off124 v41 k1_t4) a + S1x1x16.size a ≤ S4x32x128.size a) ∧
  (∀ k1_t4 : Fin (k1_t4_loop v41).trips, ∀ a, (k1_off125 v41 k1_t4) a + S1x1x16.size a ≤ S4x32x128.size a) ∧
  (∀ k1_t4 : Fin (k1_t4_loop v41).trips, ∀ a, (k1_off126 v41 k1_t4) a + S1x1x16.size a ≤ S4x32x128.size a) ∧
  (∀ k1_t4 : Fin (k1_t4_loop v41).trips, ∀ a, (k1_off127 v41 k1_t4) a + S1x1x16.size a ≤ S4x32x128.size a) ∧
  (∀ k1_t4 : Fin (k1_t4_loop v41).trips, ∀ a, (k1_off129 v41 k1_t4) a + S1x1x16.size a ≤ S4x32x128.size a) ∧
  (∀ k1_t4 : Fin (k1_t4_loop v41).trips, ∀ a, (k1_off130 v41 k1_t4) a + S1x1x16.size a ≤ S4x32x128.size a) ∧
  (∀ k1_t4 : Fin (k1_t4_loop v41).trips, ∀ a, (k1_off131 v41 k1_t4) a + S1x1x16.size a ≤ S4x32x128.size a) ∧
  (∀ k1_t4 : Fin (k1_t4_loop v41).trips, ∀ a, (k1_off132 v41 k1_t4) a + S1x1x16.size a ≤ S4x32x128.size a) ∧
  (∀ k1_t4 : Fin (k1_t4_loop v41).trips, ∀ a, (k1_off133 v41 k1_t4) a + S1x1x16.size a ≤ S4x32x128.size a) ∧
  (∀ k1_t4 : Fin (k1_t4_loop v41).trips, ∀ a, (k1_off134 v41 k1_t4) a + S1x1x16.size a ≤ S4x32x128.size a) ∧
  (∀ k1_t4 : Fin (k1_t4_loop v41).trips, ∀ a, (k1_off135 v41 k1_t4) a + S1x1x16.size a ≤ S4x32x128.size a) ∧
  (∀ k1_t4 : Fin (k1_t4_loop v41).trips, ∀ a, (k1_off136 v41 k1_t4) a + S1x1x16.size a ≤ S4x32x128.size a) ∧
  (∀ k1_t4 : Fin (k1_t4_loop v41).trips, ∀ a, (k1_off138 v41 k1_t4) a + S1x1x16.size a ≤ S4x32x128.size a) ∧
  (∀ k1_t4 : Fin (k1_t4_loop v41).trips, ∀ a, (k1_off139 v41 k1_t4) a + S1x1x16.size a ≤ S4x32x128.size a) ∧
  (∀ k1_t4 : Fin (k1_t4_loop v41).trips, ∀ a, (k1_off140 v41 k1_t4) a + S1x1x16.size a ≤ S4x32x128.size a) ∧
  (∀ k1_t4 : Fin (k1_t4_loop v41).trips, ∀ a, (k1_off141 v41 k1_t4) a + S1x1x16.size a ≤ S4x32x128.size a) ∧
  (∀ k1_t4 : Fin (k1_t4_loop v41).trips, ∀ a, (k1_off142 v41 k1_t4) a + S1x1x16.size a ≤ S4x32x128.size a) ∧
  (∀ k1_t4 : Fin (k1_t4_loop v41).trips, ∀ a, (k1_off143 v41 k1_t4) a + S1x1x16.size a ≤ S4x32x128.size a) ∧
  (∀ k1_t4 : Fin (k1_t4_loop v41).trips, ∀ a, (k1_off144 v41 k1_t4) a + S1x1x16.size a ≤ S4x32x128.size a) ∧
  (∀ k1_t4 : Fin (k1_t4_loop v41).trips, ∀ a, (k1_off145 v41 k1_t4) a + S1x1x16.size a ≤ S4x32x128.size a) ∧
  (∀ k1_t4 : Fin (k1_t4_loop v41).trips, ∀ a, (k1_off147 v41 k1_t4) a + S1x1x16.size a ≤ S4x32x128.size a) ∧
  (∀ k1_t4 : Fin (k1_t4_loop v41).trips, ∀ a, (k1_off148 v41 k1_t4) a + S1x1x16.size a ≤ S4x32x128.size a) ∧
  (∀ k1_t4 : Fin (k1_t4_loop v41).trips, ∀ a, (k1_off149 v41 k1_t4) a + S1x1x16.size a ≤ S4x32x128.size a) ∧
  (∀ k1_t4 : Fin (k1_t4_loop v41).trips, ∀ a, (k1_off150 v41 k1_t4) a + S1x1x16.size a ≤ S4x32x128.size a) ∧
  (∀ k1_t4 : Fin (k1_t4_loop v41).trips, ∀ a, (k1_off151 v41 k1_t4) a + S1x1x16.size a ≤ S4x32x128.size a) ∧
  (∀ k1_t4 : Fin (k1_t4_loop v41).trips, ∀ a, (k1_off152 v41 k1_t4) a + S1x1x16.size a ≤ S4x32x128.size a) ∧
  (∀ k1_t4 : Fin (k1_t4_loop v41).trips, ∀ a, (k1_off153 v41 k1_t4) a + S1x1x16.size a ≤ S4x32x128.size a) ∧
  (∀ k1_t4 : Fin (k1_t4_loop v41).trips, ∀ a, (k1_off154 v41 k1_t4) a + S1x1x16.size a ≤ S4x32x128.size a) ∧
  (∀ k1_t4 : Fin (k1_t4_loop v41).trips, ∀ a, (k1_off156 v41 k1_t4) a + S1x1x16.size a ≤ S4x32x128.size a)
def k1_chk5_4 (v41 : BitVec 32) : Prop :=
  (∀ k1_t4 : Fin (k1_t4_loop v41).trips, ∀ a, (k1_off157 v41 k1_t4) a + S1x1x16.size a ≤ S4x32x128.size a) ∧
  (∀ k1_t4 : Fin (k1_t4_loop v41).trips, ∀ a, (k1_off158 v41 k1_t4) a + S1x1x16.size a ≤ S4x32x128.size a) ∧
  (∀ k1_t4 : Fin (k1_t4_loop v41).trips, ∀ a, (k1_off159 v41 k1_t4) a + S1x1x16.size a ≤ S4x32x128.size a) ∧
  (∀ k1_t4 : Fin (k1_t4_loop v41).trips, ∀ a, (k1_off160 v41 k1_t4) a + S1x1x16.size a ≤ S4x32x128.size a) ∧
  (∀ k1_t4 : Fin (k1_t4_loop v41).trips, ∀ a, (k1_off161 v41 k1_t4) a + S1x1x16.size a ≤ S4x32x128.size a) ∧
  (∀ k1_t4 : Fin (k1_t4_loop v41).trips, ∀ a, (k1_off162 v41 k1_t4) a + S1x1x16.size a ≤ S4x32x128.size a) ∧
  (∀ k1_t4 : Fin (k1_t4_loop v41).trips, ∀ a, (k1_off163 v41 k1_t4) a + S1x1x16.size a ≤ S4x32x128.size a) ∧
  (∀ k1_t4 : Fin (k1_t4_loop v41).trips, ∀ a, (k1_off164 v41 k1_t4) a + S16.size a ≤ S8032.size a) ∧
  (∀ k1_t4 : Fin (k1_t4_loop v41).trips, ∀ a, (k1_off166 v41 k1_t4) a + S1x1x16.size a ≤ S4x32x128.size a) ∧
  (∀ k1_t4 : Fin (k1_t4_loop v41).trips, ∀ a, (k1_off167 v41 k1_t4) a + S1x1x16.size a ≤ S4x32x128.size a) ∧
  (∀ k1_t4 : Fin (k1_t4_loop v41).trips, ∀ a, (k1_off168 v41 k1_t4) a + S1x1x16.size a ≤ S4x32x128.size a) ∧
  (∀ k1_t4 : Fin (k1_t4_loop v41).trips, ∀ a, (k1_off169 v41 k1_t4) a + S1x1x16.size a ≤ S4x32x128.size a) ∧
  (∀ k1_t4 : Fin (k1_t4_loop v41).trips, ∀ a, (k1_off170 v41 k1_t4) a + S1x1x16.size a ≤ S4x32x128.size a) ∧
  (∀ k1_t4 : Fin (k1_t4_loop v41).trips, ∀ a, (k1_off171 v41 k1_t4) a + S1x1x16.size a ≤ S4x32x128.size a) ∧
  (∀ k1_t4 : Fin (k1_t4_loop v41).trips, ∀ a, (k1_off172 v41 k1_t4) a + S1x1x16.size a ≤ S4x32x128.size a) ∧
  (∀ k1_t4 : Fin (k1_t4_loop v41).trips, ∀ a, (k1_off173 v41 k1_t4) a + S1x1x16.size a ≤ S4x32x128.size a) ∧
  (∀ k1_t4 : Fin (k1_t4_loop v41).trips, ∀ a, (k1_off175 v41 k1_t4) a + S1x1x16.size a ≤ S4x32x128.size a) ∧
  (∀ k1_t4 : Fin (k1_t4_loop v41).trips, ∀ a, (k1_off176 v41 k1_t4) a + S1x1x16.size a ≤ S4x32x128.size a) ∧
  (∀ k1_t4 : Fin (k1_t4_loop v41).trips, ∀ a, (k1_off177 v41 k1_t4) a + S1x1x16.size a ≤ S4x32x128.size a) ∧
  (∀ k1_t4 : Fin (k1_t4_loop v41).trips, ∀ a, (k1_off178 v41 k1_t4) a + S1x1x16.size a ≤ S4x32x128.size a) ∧
  (∀ k1_t4 : Fin (k1_t4_loop v41).trips, ∀ a, (k1_off179 v41 k1_t4) a + S1x1x16.size a ≤ S4x32x128.size a) ∧
  (∀ k1_t4 : Fin (k1_t4_loop v41).trips, ∀ a, (k1_off180 v41 k1_t4) a + S1x1x16.size a ≤ S4x32x128.size a) ∧
  (∀ k1_t4 : Fin (k1_t4_loop v41).trips, ∀ a, (k1_off181 v41 k1_t4) a + S1x1x16.size a ≤ S4x32x128.size a) ∧
  (∀ k1_t4 : Fin (k1_t4_loop v41).trips, ∀ a, (k1_off182 v41 k1_t4) a + S1x1x16.size a ≤ S4x32x128.size a) ∧
  (∀ k1_t4 : Fin (k1_t4_loop v41).trips, ∀ a, (k1_off184 v41 k1_t4) a + S1x1x16.size a ≤ S4x32x128.size a) ∧
  (∀ k1_t4 : Fin (k1_t4_loop v41).trips, ∀ a, (k1_off185 v41 k1_t4) a + S1x1x16.size a ≤ S4x32x128.size a) ∧
  (∀ k1_t4 : Fin (k1_t4_loop v41).trips, ∀ a, (k1_off186 v41 k1_t4) a + S1x1x16.size a ≤ S4x32x128.size a) ∧
  (∀ k1_t4 : Fin (k1_t4_loop v41).trips, ∀ a, (k1_off187 v41 k1_t4) a + S1x1x16.size a ≤ S4x32x128.size a) ∧
  (∀ k1_t4 : Fin (k1_t4_loop v41).trips, ∀ a, (k1_off188 v41 k1_t4) a + S1x1x16.size a ≤ S4x32x128.size a) ∧
  (∀ k1_t4 : Fin (k1_t4_loop v41).trips, ∀ a, (k1_off189 v41 k1_t4) a + S1x1x16.size a ≤ S4x32x128.size a) ∧
  (∀ k1_t4 : Fin (k1_t4_loop v41).trips, ∀ a, (k1_off190 v41 k1_t4) a + S1x1x16.size a ≤ S4x32x128.size a) ∧
  (∀ k1_t4 : Fin (k1_t4_loop v41).trips, ∀ a, (k1_off191 v41 k1_t4) a + S1x1x16.size a ≤ S4x32x128.size a)
def k1_chk5_5 (v41 : BitVec 32) : Prop :=
  (∀ k1_t4 : Fin (k1_t4_loop v41).trips, ∀ a, (k1_off193 v41 k1_t4) a + S1x1x16.size a ≤ S4x32x128.size a) ∧
  (∀ k1_t4 : Fin (k1_t4_loop v41).trips, ∀ a, (k1_off194 v41 k1_t4) a + S1x1x16.size a ≤ S4x32x128.size a) ∧
  (∀ k1_t4 : Fin (k1_t4_loop v41).trips, ∀ a, (k1_off195 v41 k1_t4) a + S1x1x16.size a ≤ S4x32x128.size a) ∧
  (∀ k1_t4 : Fin (k1_t4_loop v41).trips, ∀ a, (k1_off196 v41 k1_t4) a + S1x1x16.size a ≤ S4x32x128.size a) ∧
  (∀ k1_t4 : Fin (k1_t4_loop v41).trips, ∀ a, (k1_off197 v41 k1_t4) a + S1x1x16.size a ≤ S4x32x128.size a) ∧
  (∀ k1_t4 : Fin (k1_t4_loop v41).trips, ∀ a, (k1_off198 v41 k1_t4) a + S1x1x16.size a ≤ S4x32x128.size a) ∧
  (∀ k1_t4 : Fin (k1_t4_loop v41).trips, ∀ a, (k1_off199 v41 k1_t4) a + S1x1x16.size a ≤ S4x32x128.size a) ∧
  (∀ k1_t4 : Fin (k1_t4_loop v41).trips, ∀ a, (k1_off200 v41 k1_t4) a + S1x1x16.size a ≤ S4x32x128.size a) ∧
  (∀ k1_t4 : Fin (k1_t4_loop v41).trips, ∀ a, (k1_off202 v41 k1_t4) a + S1x1x16.size a ≤ S4x32x128.size a) ∧
  (∀ k1_t4 : Fin (k1_t4_loop v41).trips, ∀ a, (k1_off203 v41 k1_t4) a + S1x1x16.size a ≤ S4x32x128.size a) ∧
  (∀ k1_t4 : Fin (k1_t4_loop v41).trips, ∀ a, (k1_off204 v41 k1_t4) a + S1x1x16.size a ≤ S4x32x128.size a) ∧
  (∀ k1_t4 : Fin (k1_t4_loop v41).trips, ∀ a, (k1_off205 v41 k1_t4) a + S1x1x16.size a ≤ S4x32x128.size a) ∧
  (∀ k1_t4 : Fin (k1_t4_loop v41).trips, ∀ a, (k1_off206 v41 k1_t4) a + S1x1x16.size a ≤ S4x32x128.size a) ∧
  (∀ k1_t4 : Fin (k1_t4_loop v41).trips, ∀ a, (k1_off207 v41 k1_t4) a + S1x1x16.size a ≤ S4x32x128.size a) ∧
  (∀ k1_t4 : Fin (k1_t4_loop v41).trips, ∀ a, (k1_off208 v41 k1_t4) a + S1x1x16.size a ≤ S4x32x128.size a) ∧
  (∀ k1_t4 : Fin (k1_t4_loop v41).trips, ∀ a, (k1_off209 v41 k1_t4) a + S1x1x16.size a ≤ S4x32x128.size a) ∧
  (∀ k1_t4 : Fin (k1_t4_loop v41).trips, ∀ a, (k1_off211 v41 k1_t4) a + S1x1x16.size a ≤ S4x32x128.size a) ∧
  (∀ k1_t4 : Fin (k1_t4_loop v41).trips, ∀ a, (k1_off212 v41 k1_t4) a + S1x1x16.size a ≤ S4x32x128.size a) ∧
  (∀ k1_t4 : Fin (k1_t4_loop v41).trips, ∀ a, (k1_off213 v41 k1_t4) a + S1x1x16.size a ≤ S4x32x128.size a) ∧
  (∀ k1_t4 : Fin (k1_t4_loop v41).trips, ∀ a, (k1_off214 v41 k1_t4) a + S1x1x16.size a ≤ S4x32x128.size a) ∧
  (∀ k1_t4 : Fin (k1_t4_loop v41).trips, ∀ a, (k1_off215 v41 k1_t4) a + S1x1x16.size a ≤ S4x32x128.size a) ∧
  (∀ k1_t4 : Fin (k1_t4_loop v41).trips, ∀ a, (k1_off216 v41 k1_t4) a + S1x1x16.size a ≤ S4x32x128.size a) ∧
  (∀ k1_t4 : Fin (k1_t4_loop v41).trips, ∀ a, (k1_off217 v41 k1_t4) a + S1x1x16.size a ≤ S4x32x128.size a) ∧
  (∀ k1_t4 : Fin (k1_t4_loop v41).trips, ∀ a, (k1_off218 v41 k1_t4) a + S1x1x16.size a ≤ S4x32x128.size a) ∧
  (∀ k1_t4 : Fin (k1_t4_loop v41).trips, ∀ a, (k1_off220 v41 k1_t4) a + S1x1x16.size a ≤ S4x32x128.size a) ∧
  (∀ k1_t4 : Fin (k1_t4_loop v41).trips, ∀ a, (k1_off221 v41 k1_t4) a + S1x1x16.size a ≤ S4x32x128.size a) ∧
  (∀ k1_t4 : Fin (k1_t4_loop v41).trips, ∀ a, (k1_off222 v41 k1_t4) a + S1x1x16.size a ≤ S4x32x128.size a) ∧
  (∀ k1_t4 : Fin (k1_t4_loop v41).trips, ∀ a, (k1_off223 v41 k1_t4) a + S1x1x16.size a ≤ S4x32x128.size a) ∧
  (∀ k1_t4 : Fin (k1_t4_loop v41).trips, ∀ a, (k1_off224 v41 k1_t4) a + S1x1x16.size a ≤ S4x32x128.size a) ∧
  (∀ k1_t4 : Fin (k1_t4_loop v41).trips, ∀ a, (k1_off225 v41 k1_t4) a + S1x1x16.size a ≤ S4x32x128.size a) ∧
  (∀ k1_t4 : Fin (k1_t4_loop v41).trips, ∀ a, (k1_off226 v41 k1_t4) a + S1x1x16.size a ≤ S4x32x128.size a) ∧
  (∀ k1_t4 : Fin (k1_t4_loop v41).trips, ∀ a, (k1_off227 v41 k1_t4) a + S1x1x16.size a ≤ S4x32x128.size a)
def k1_chk5_6 (v41 : BitVec 32) : Prop :=
  (∀ k1_t4 : Fin (k1_t4_loop v41).trips, ∀ a, (k1_off229 v41 k1_t4) a + S1x1x16.size a ≤ S4x32x128.size a) ∧
  (∀ k1_t4 : Fin (k1_t4_loop v41).trips, ∀ a, (k1_off230 v41 k1_t4) a + S1x1x16.size a ≤ S4x32x128.size a) ∧
  (∀ k1_t4 : Fin (k1_t4_loop v41).trips, ∀ a, (k1_off231 v41 k1_t4) a + S1x1x16.size a ≤ S4x32x128.size a) ∧
  (∀ k1_t4 : Fin (k1_t4_loop v41).trips, ∀ a, (k1_off232 v41 k1_t4) a + S1x1x16.size a ≤ S4x32x128.size a) ∧
  (∀ k1_t4 : Fin (k1_t4_loop v41).trips, ∀ a, (k1_off233 v41 k1_t4) a + S1x1x16.size a ≤ S4x32x128.size a) ∧
  (∀ k1_t4 : Fin (k1_t4_loop v41).trips, ∀ a, (k1_off234 v41 k1_t4) a + S1x1x16.size a ≤ S4x32x128.size a) ∧
  (∀ k1_t4 : Fin (k1_t4_loop v41).trips, ∀ a, (k1_off235 v41 k1_t4) a + S1x1x16.size a ≤ S4x32x128.size a) ∧
  (∀ k1_t4 : Fin (k1_t4_loop v41).trips, ∀ a, (k1_off236 v41 k1_t4) a + S1x1x16.size a ≤ S4x32x128.size a) ∧
  (∀ k1_t4 : Fin (k1_t4_loop v41).trips, ∀ a, (k1_off238 v41 k1_t4) a + S1x1x16.size a ≤ S4x32x128.size a) ∧
  (∀ k1_t4 : Fin (k1_t4_loop v41).trips, ∀ a, (k1_off239 v41 k1_t4) a + S1x1x16.size a ≤ S4x32x128.size a) ∧
  (∀ k1_t4 : Fin (k1_t4_loop v41).trips, ∀ a, (k1_off240 v41 k1_t4) a + S1x1x16.size a ≤ S4x32x128.size a) ∧
  (∀ k1_t4 : Fin (k1_t4_loop v41).trips, ∀ a, (k1_off241 v41 k1_t4) a + S1x1x16.size a ≤ S4x32x128.size a) ∧
  (∀ k1_t4 : Fin (k1_t4_loop v41).trips, ∀ a, (k1_off242 v41 k1_t4) a + S1x1x16.size a ≤ S4x32x128.size a) ∧
  (∀ k1_t4 : Fin (k1_t4_loop v41).trips, ∀ a, (k1_off243 v41 k1_t4) a + S1x1x16.size a ≤ S4x32x128.size a) ∧
  (∀ k1_t4 : Fin (k1_t4_loop v41).trips, ∀ a, (k1_off244 v41 k1_t4) a + S1x1x16.size a ≤ S4x32x128.size a) ∧
  (∀ k1_t4 : Fin (k1_t4_loop v41).trips, ∀ a, (k1_off245 v41 k1_t4) a + S1x1x16.size a ≤ S4x32x128.size a) ∧
  (∀ k1_t4 : Fin (k1_t4_loop v41).trips, ∀ a, (k1_off247 v41 k1_t4) a + S1x1x16.size a ≤ S4x32x128.size a) ∧
  (∀ k1_t4 : Fin (k1_t4_loop v41).trips, ∀ a, (k1_off248 v41 k1_t4) a + S1x1x16.size a ≤ S4x32x128.size a) ∧
  (∀ k1_t4 : Fin (k1_t4_loop v41).trips, ∀ a, (k1_off249 v41 k1_t4) a + S1x1x16.size a ≤ S4x32x128.size a) ∧
  (∀ k1_t4 : Fin (k1_t4_loop v41).trips, ∀ a, (k1_off250 v41 k1_t4) a + S1x1x16.size a ≤ S4x32x128.size a) ∧
  (∀ k1_t4 : Fin (k1_t4_loop v41).trips, ∀ a, (k1_off251 v41 k1_t4) a + S1x1x16.size a ≤ S4x32x128.size a) ∧
  (∀ k1_t4 : Fin (k1_t4_loop v41).trips, ∀ a, (k1_off252 v41 k1_t4) a + S1x1x16.size a ≤ S4x32x128.size a) ∧
  (∀ k1_t4 : Fin (k1_t4_loop v41).trips, ∀ a, (k1_off253 v41 k1_t4) a + S1x1x16.size a ≤ S4x32x128.size a) ∧
  (∀ k1_t4 : Fin (k1_t4_loop v41).trips, ∀ a, (k1_off254 v41 k1_t4) a + S1x1x16.size a ≤ S4x32x128.size a) ∧
  (∀ k1_t4 : Fin (k1_t4_loop v41).trips, ∀ a, (k1_off256 v41 k1_t4) a + S1x1x16.size a ≤ S4x32x128.size a) ∧
  (∀ k1_t4 : Fin (k1_t4_loop v41).trips, ∀ a, (k1_off257 v41 k1_t4) a + S1x1x16.size a ≤ S4x32x128.size a) ∧
  (∀ k1_t4 : Fin (k1_t4_loop v41).trips, ∀ a, (k1_off258 v41 k1_t4) a + S1x1x16.size a ≤ S4x32x128.size a) ∧
  (∀ k1_t4 : Fin (k1_t4_loop v41).trips, ∀ a, (k1_off259 v41 k1_t4) a + S1x1x16.size a ≤ S4x32x128.size a) ∧
  (∀ k1_t4 : Fin (k1_t4_loop v41).trips, ∀ a, (k1_off260 v41 k1_t4) a + S1x1x16.size a ≤ S4x32x128.size a) ∧
  (∀ k1_t4 : Fin (k1_t4_loop v41).trips, ∀ a, (k1_off261 v41 k1_t4) a + S1x1x16.size a ≤ S4x32x128.size a) ∧
  (∀ k1_t4 : Fin (k1_t4_loop v41).trips, ∀ a, (k1_off262 v41 k1_t4) a + S1x1x16.size a ≤ S4x32x128.size a) ∧
  (∀ k1_t4 : Fin (k1_t4_loop v41).trips, ∀ a, (k1_off263 v41 k1_t4) a + S1x1x16.size a ≤ S4x32x128.size a)
def k1_chk5_7 (v41 : BitVec 32) : Prop :=
  (∀ k1_t4 : Fin (k1_t4_loop v41).trips, ∀ a, (k1_off265 v41 k1_t4) a + S1x1x16.size a ≤ S4x32x128.size a) ∧
  (∀ k1_t4 : Fin (k1_t4_loop v41).trips, ∀ a, (k1_off266 v41 k1_t4) a + S1x1x16.size a ≤ S4x32x128.size a) ∧
  (∀ k1_t4 : Fin (k1_t4_loop v41).trips, ∀ a, (k1_off267 v41 k1_t4) a + S1x1x16.size a ≤ S4x32x128.size a) ∧
  (∀ k1_t4 : Fin (k1_t4_loop v41).trips, ∀ a, (k1_off268 v41 k1_t4) a + S1x1x16.size a ≤ S4x32x128.size a) ∧
  (∀ k1_t4 : Fin (k1_t4_loop v41).trips, ∀ a, (k1_off269 v41 k1_t4) a + S1x1x16.size a ≤ S4x32x128.size a) ∧
  (∀ k1_t4 : Fin (k1_t4_loop v41).trips, ∀ a, (k1_off270 v41 k1_t4) a + S1x1x16.size a ≤ S4x32x128.size a) ∧
  (∀ k1_t4 : Fin (k1_t4_loop v41).trips, ∀ a, (k1_off271 v41 k1_t4) a + S1x1x16.size a ≤ S4x32x128.size a) ∧
  (∀ k1_t4 : Fin (k1_t4_loop v41).trips, ∀ a, (k1_off272 v41 k1_t4) a + S1x1x16.size a ≤ S4x32x128.size a) ∧
  (∀ k1_t4 : Fin (k1_t4_loop v41).trips, ∀ a, (k1_off274 v41 k1_t4) a + S1x1x16.size a ≤ S4x32x128.size a) ∧
  (∀ k1_t4 : Fin (k1_t4_loop v41).trips, ∀ a, (k1_off275 v41 k1_t4) a + S1x1x16.size a ≤ S4x32x128.size a) ∧
  (∀ k1_t4 : Fin (k1_t4_loop v41).trips, ∀ a, (k1_off276 v41 k1_t4) a + S1x1x16.size a ≤ S4x32x128.size a) ∧
  (∀ k1_t4 : Fin (k1_t4_loop v41).trips, ∀ a, (k1_off277 v41 k1_t4) a + S1x1x16.size a ≤ S4x32x128.size a) ∧
  (∀ k1_t4 : Fin (k1_t4_loop v41).trips, ∀ a, (k1_off278 v41 k1_t4) a + S1x1x16.size a ≤ S4x32x128.size a) ∧
  (∀ k1_t4 : Fin (k1_t4_loop v41).trips, ∀ a, (k1_off279 v41 k1_t4) a + S1x1x16.size a ≤ S4x32x128.size a) ∧
  (∀ k1_t4 : Fin (k1_t4_loop v41).trips, ∀ a, (k1_off280 v41 k1_t4) a + S1x1x16.size a ≤ S4x32x128.size a) ∧
  (∀ k1_t4 : Fin (k1_t4_loop v41).trips, ∀ a, (k1_off281 v41 k1_t4) a + S1x1x16.size a ≤ S4x32x128.size a) ∧
  (∀ k1_t4 : Fin (k1_t4_loop v41).trips, ∀ a, (k1_off283 v41 k1_t4) a + S1x1x16.size a ≤ S4x32x128.size a) ∧
  (∀ k1_t4 : Fin (k1_t4_loop v41).trips, ∀ a, (k1_off284 v41 k1_t4) a + S1x1x16.size a ≤ S4x32x128.size a) ∧
  (∀ k1_t4 : Fin (k1_t4_loop v41).trips, ∀ a, (k1_off285 v41 k1_t4) a + S1x1x16.size a ≤ S4x32x128.size a) ∧
  (∀ k1_t4 : Fin (k1_t4_loop v41).trips, ∀ a, (k1_off286 v41 k1_t4) a + S1x1x16.size a ≤ S4x32x128.size a) ∧
  (∀ k1_t4 : Fin (k1_t4_loop v41).trips, ∀ a, (k1_off287 v41 k1_t4) a + S1x1x16.size a ≤ S4x32x128.size a) ∧
  (∀ k1_t4 : Fin (k1_t4_loop v41).trips, ∀ a, (k1_off288 v41 k1_t4) a + S1x1x16.size a ≤ S4x32x128.size a) ∧
  (∀ k1_t4 : Fin (k1_t4_loop v41).trips, ∀ a, (k1_off289 v41 k1_t4) a + S1x1x16.size a ≤ S4x32x128.size a) ∧
  (∀ k1_t4 : Fin (k1_t4_loop v41).trips, ∀ a, (k1_off290 v41 k1_t4) a + S1x1x16.size a ≤ S4x32x128.size a) ∧
  (∀ k1_t4 : Fin (k1_t4_loop v41).trips, ∀ a, (k1_off292 v41 k1_t4) a + S1x1x16.size a ≤ S4x32x128.size a) ∧
  (∀ k1_t4 : Fin (k1_t4_loop v41).trips, ∀ a, (k1_off293 v41 k1_t4) a + S1x1x16.size a ≤ S4x32x128.size a) ∧
  (∀ k1_t4 : Fin (k1_t4_loop v41).trips, ∀ a, (k1_off294 v41 k1_t4) a + S1x1x16.size a ≤ S4x32x128.size a) ∧
  (∀ k1_t4 : Fin (k1_t4_loop v41).trips, ∀ a, (k1_off295 v41 k1_t4) a + S1x1x16.size a ≤ S4x32x128.size a) ∧
  (∀ k1_t4 : Fin (k1_t4_loop v41).trips, ∀ a, (k1_off296 v41 k1_t4) a + S1x1x16.size a ≤ S4x32x128.size a) ∧
  (∀ k1_t4 : Fin (k1_t4_loop v41).trips, ∀ a, (k1_off297 v41 k1_t4) a + S1x1x16.size a ≤ S4x32x128.size a) ∧
  (∀ k1_t4 : Fin (k1_t4_loop v41).trips, ∀ a, (k1_off298 v41 k1_t4) a + S1x1x16.size a ≤ S4x32x128.size a) ∧
  (∀ k1_t4 : Fin (k1_t4_loop v41).trips, ∀ a, (k1_off299 v41 k1_t4) a + S1x1x16.size a ≤ S4x32x128.size a)
def k1_chk5_8 (v41 : BitVec 32) : Prop :=
  (∀ k1_t4 : Fin (k1_t4_loop v41).trips, ∀ a, (k1_off301 v41 k1_t4) a + S1x1x16.size a ≤ S4x32x128.size a) ∧
  (∀ k1_t4 : Fin (k1_t4_loop v41).trips, ∀ a, (k1_off302 v41 k1_t4) a + S1x1x16.size a ≤ S4x32x128.size a) ∧
  (∀ k1_t4 : Fin (k1_t4_loop v41).trips, ∀ a, (k1_off303 v41 k1_t4) a + S1x1x16.size a ≤ S4x32x128.size a) ∧
  (∀ k1_t4 : Fin (k1_t4_loop v41).trips, ∀ a, (k1_off304 v41 k1_t4) a + S1x1x16.size a ≤ S4x32x128.size a) ∧
  (∀ k1_t4 : Fin (k1_t4_loop v41).trips, ∀ a, (k1_off305 v41 k1_t4) a + S1x1x16.size a ≤ S4x32x128.size a) ∧
  (∀ k1_t4 : Fin (k1_t4_loop v41).trips, ∀ a, (k1_off306 v41 k1_t4) a + S1x1x16.size a ≤ S4x32x128.size a) ∧
  (∀ k1_t4 : Fin (k1_t4_loop v41).trips, ∀ a, (k1_off307 v41 k1_t4) a + S1x1x16.size a ≤ S4x32x128.size a) ∧
  (∀ k1_t4 : Fin (k1_t4_loop v41).trips, ∀ a, (k1_off308 v41 k1_t4) a + S1x1x16.size a ≤ S4x32x128.size a) ∧
  (∀ k1_t4 : Fin (k1_t4_loop v41).trips, ∀ (k1_h6 : k1_cond6 v41 k1_t4 = 1#1), ∀ a, (k1_off309 v41 k1_t4) a + S1x32x128.size a ≤ S4x32x128.size a) ∧
  (∀ k1_t4 : Fin (k1_t4_loop v41).trips, ∀ (k1_h6 : k1_cond6 v41 k1_t4 = 1#1), ∀ a, (k1_off310 v41 k1_t4) a + S32.size a ≤ S8032.size a) ∧
  (∀ k1_t4 : Fin (k1_t4_loop v41).trips, ∀ (k1_h6 : k1_cond6 v41 k1_t4 = 1#1), ∀ a, (k1_off311 v41 k1_t4) a + S1.size a ≤ S4.size a) ∧
  ((k1_t5_loop v41).OK) ∧
  (∀ k1_t5 : Fin (k1_t5_loop v41).trips, ∀ a, (k1_off312 v41 k1_t5) a + S1x32x128.size a ≤ S4x32x128.size a) ∧
  (∀ k1_t5 : Fin (k1_t5_loop v41).trips, ∀ a, (k1_off313 v41 k1_t5) a + S32.size a ≤ S8032.size a) ∧
  (∀ k1_t5 : Fin (k1_t5_loop v41).trips, ∀ a, (k1_off314 v41 k1_t5) a + S1.size a ≤ S4.size a) ∧
  (∀ k1_t5 : Fin (k1_t5_loop v41).trips, ∀ a, (k1_off315 v41 k1_t5) a + S16.size a ≤ S8032.size a) ∧
  (∀ k1_t5 : Fin (k1_t5_loop v41).trips, ∀ a, (k1_off317 v41 k1_t5) a + S1x1x16.size a ≤ S4x32x128.size a) ∧
  (∀ k1_t5 : Fin (k1_t5_loop v41).trips, ∀ a, (k1_off318 v41 k1_t5) a + S1x1x16.size a ≤ S4x32x128.size a) ∧
  (∀ k1_t5 : Fin (k1_t5_loop v41).trips, ∀ a, (k1_off319 v41 k1_t5) a + S1x1x16.size a ≤ S4x32x128.size a) ∧
  (∀ k1_t5 : Fin (k1_t5_loop v41).trips, ∀ a, (k1_off320 v41 k1_t5) a + S1x1x16.size a ≤ S4x32x128.size a) ∧
  (∀ k1_t5 : Fin (k1_t5_loop v41).trips, ∀ a, (k1_off321 v41 k1_t5) a + S1x1x16.size a ≤ S4x32x128.size a) ∧
  (∀ k1_t5 : Fin (k1_t5_loop v41).trips, ∀ a, (k1_off322 v41 k1_t5) a + S1x1x16.size a ≤ S4x32x128.size a) ∧
  (∀ k1_t5 : Fin (k1_t5_loop v41).trips, ∀ a, (k1_off323 v41 k1_t5) a + S1x1x16.size a ≤ S4x32x128.size a) ∧
  (∀ k1_t5 : Fin (k1_t5_loop v41).trips, ∀ a, (k1_off324 v41 k1_t5) a + S1x1x16.size a ≤ S4x32x128.size a) ∧
  (∀ k1_t5 : Fin (k1_t5_loop v41).trips, ∀ a, (k1_off326 v41 k1_t5) a + S1x1x16.size a ≤ S4x32x128.size a) ∧
  (∀ k1_t5 : Fin (k1_t5_loop v41).trips, ∀ a, (k1_off327 v41 k1_t5) a + S1x1x16.size a ≤ S4x32x128.size a) ∧
  (∀ k1_t5 : Fin (k1_t5_loop v41).trips, ∀ a, (k1_off328 v41 k1_t5) a + S1x1x16.size a ≤ S4x32x128.size a) ∧
  (∀ k1_t5 : Fin (k1_t5_loop v41).trips, ∀ a, (k1_off329 v41 k1_t5) a + S1x1x16.size a ≤ S4x32x128.size a) ∧
  (∀ k1_t5 : Fin (k1_t5_loop v41).trips, ∀ a, (k1_off330 v41 k1_t5) a + S1x1x16.size a ≤ S4x32x128.size a) ∧
  (∀ k1_t5 : Fin (k1_t5_loop v41).trips, ∀ a, (k1_off331 v41 k1_t5) a + S1x1x16.size a ≤ S4x32x128.size a) ∧
  (∀ k1_t5 : Fin (k1_t5_loop v41).trips, ∀ a, (k1_off332 v41 k1_t5) a + S1x1x16.size a ≤ S4x32x128.size a) ∧
  (∀ k1_t5 : Fin (k1_t5_loop v41).trips, ∀ a, (k1_off333 v41 k1_t5) a + S1x1x16.size a ≤ S4x32x128.size a)
def k1_chk5_9 (v41 : BitVec 32) : Prop :=
  (∀ k1_t5 : Fin (k1_t5_loop v41).trips, ∀ a, (k1_off335 v41 k1_t5) a + S1x1x16.size a ≤ S4x32x128.size a) ∧
  (∀ k1_t5 : Fin (k1_t5_loop v41).trips, ∀ a, (k1_off336 v41 k1_t5) a + S1x1x16.size a ≤ S4x32x128.size a) ∧
  (∀ k1_t5 : Fin (k1_t5_loop v41).trips, ∀ a, (k1_off337 v41 k1_t5) a + S1x1x16.size a ≤ S4x32x128.size a) ∧
  (∀ k1_t5 : Fin (k1_t5_loop v41).trips, ∀ a, (k1_off338 v41 k1_t5) a + S1x1x16.size a ≤ S4x32x128.size a) ∧
  (∀ k1_t5 : Fin (k1_t5_loop v41).trips, ∀ a, (k1_off339 v41 k1_t5) a + S1x1x16.size a ≤ S4x32x128.size a) ∧
  (∀ k1_t5 : Fin (k1_t5_loop v41).trips, ∀ a, (k1_off340 v41 k1_t5) a + S1x1x16.size a ≤ S4x32x128.size a) ∧
  (∀ k1_t5 : Fin (k1_t5_loop v41).trips, ∀ a, (k1_off341 v41 k1_t5) a + S1x1x16.size a ≤ S4x32x128.size a) ∧
  (∀ k1_t5 : Fin (k1_t5_loop v41).trips, ∀ a, (k1_off342 v41 k1_t5) a + S1x1x16.size a ≤ S4x32x128.size a) ∧
  (∀ k1_t5 : Fin (k1_t5_loop v41).trips, ∀ a, (k1_off344 v41 k1_t5) a + S1x1x16.size a ≤ S4x32x128.size a) ∧
  (∀ k1_t5 : Fin (k1_t5_loop v41).trips, ∀ a, (k1_off345 v41 k1_t5) a + S1x1x16.size a ≤ S4x32x128.size a) ∧
  (∀ k1_t5 : Fin (k1_t5_loop v41).trips, ∀ a, (k1_off346 v41 k1_t5) a + S1x1x16.size a ≤ S4x32x128.size a) ∧
  (∀ k1_t5 : Fin (k1_t5_loop v41).trips, ∀ a, (k1_off347 v41 k1_t5) a + S1x1x16.size a ≤ S4x32x128.size a) ∧
  (∀ k1_t5 : Fin (k1_t5_loop v41).trips, ∀ a, (k1_off348 v41 k1_t5) a + S1x1x16.size a ≤ S4x32x128.size a) ∧
  (∀ k1_t5 : Fin (k1_t5_loop v41).trips, ∀ a, (k1_off349 v41 k1_t5) a + S1x1x16.size a ≤ S4x32x128.size a) ∧
  (∀ k1_t5 : Fin (k1_t5_loop v41).trips, ∀ a, (k1_off350 v41 k1_t5) a + S1x1x16.size a ≤ S4x32x128.size a) ∧
  (∀ k1_t5 : Fin (k1_t5_loop v41).trips, ∀ a, (k1_off351 v41 k1_t5) a + S1x1x16.size a ≤ S4x32x128.size a) ∧
  (∀ k1_t5 : Fin (k1_t5_loop v41).trips, ∀ a, (k1_off353 v41 k1_t5) a + S1x1x16.size a ≤ S4x32x128.size a) ∧
  (∀ k1_t5 : Fin (k1_t5_loop v41).trips, ∀ a, (k1_off354 v41 k1_t5) a + S1x1x16.size a ≤ S4x32x128.size a) ∧
  (∀ k1_t5 : Fin (k1_t5_loop v41).trips, ∀ a, (k1_off355 v41 k1_t5) a + S1x1x16.size a ≤ S4x32x128.size a) ∧
  (∀ k1_t5 : Fin (k1_t5_loop v41).trips, ∀ a, (k1_off356 v41 k1_t5) a + S1x1x16.size a ≤ S4x32x128.size a) ∧
  (∀ k1_t5 : Fin (k1_t5_loop v41).trips, ∀ a, (k1_off357 v41 k1_t5) a + S1x1x16.size a ≤ S4x32x128.size a) ∧
  (∀ k1_t5 : Fin (k1_t5_loop v41).trips, ∀ a, (k1_off358 v41 k1_t5) a + S1x1x16.size a ≤ S4x32x128.size a) ∧
  (∀ k1_t5 : Fin (k1_t5_loop v41).trips, ∀ a, (k1_off359 v41 k1_t5) a + S1x1x16.size a ≤ S4x32x128.size a) ∧
  (∀ k1_t5 : Fin (k1_t5_loop v41).trips, ∀ a, (k1_off360 v41 k1_t5) a + S1x1x16.size a ≤ S4x32x128.size a) ∧
  (∀ k1_t5 : Fin (k1_t5_loop v41).trips, ∀ a, (k1_off362 v41 k1_t5) a + S1x1x16.size a ≤ S4x32x128.size a) ∧
  (∀ k1_t5 : Fin (k1_t5_loop v41).trips, ∀ a, (k1_off363 v41 k1_t5) a + S1x1x16.size a ≤ S4x32x128.size a) ∧
  (∀ k1_t5 : Fin (k1_t5_loop v41).trips, ∀ a, (k1_off364 v41 k1_t5) a + S1x1x16.size a ≤ S4x32x128.size a) ∧
  (∀ k1_t5 : Fin (k1_t5_loop v41).trips, ∀ a, (k1_off365 v41 k1_t5) a + S1x1x16.size a ≤ S4x32x128.size a) ∧
  (∀ k1_t5 : Fin (k1_t5_loop v41).trips, ∀ a, (k1_off366 v41 k1_t5) a + S1x1x16.size a ≤ S4x32x128.size a) ∧
  (∀ k1_t5 : Fin (k1_t5_loop v41).trips, ∀ a, (k1_off367 v41 k1_t5) a + S1x1x16.size a ≤ S4x32x128.size a) ∧
  (∀ k1_t5 : Fin (k1_t5_loop v41).trips, ∀ a, (k1_off368 v41 k1_t5) a + S1x1x16.size a ≤ S4x32x128.size a) ∧
  (∀ k1_t5 : Fin (k1_t5_loop v41).trips, ∀ a, (k1_off369 v41 k1_t5) a + S1x1x16.size a ≤ S4x32x128.size a)
def k1_chk5_10 (v41 : BitVec 32) : Prop :=
  (∀ k1_t5 : Fin (k1_t5_loop v41).trips, ∀ a, (k1_off371 v41 k1_t5) a + S1x1x16.size a ≤ S4x32x128.size a) ∧
  (∀ k1_t5 : Fin (k1_t5_loop v41).trips, ∀ a, (k1_off372 v41 k1_t5) a + S1x1x16.size a ≤ S4x32x128.size a) ∧
  (∀ k1_t5 : Fin (k1_t5_loop v41).trips, ∀ a, (k1_off373 v41 k1_t5) a + S1x1x16.size a ≤ S4x32x128.size a) ∧
  (∀ k1_t5 : Fin (k1_t5_loop v41).trips, ∀ a, (k1_off374 v41 k1_t5) a + S1x1x16.size a ≤ S4x32x128.size a) ∧
  (∀ k1_t5 : Fin (k1_t5_loop v41).trips, ∀ a, (k1_off375 v41 k1_t5) a + S1x1x16.size a ≤ S4x32x128.size a) ∧
  (∀ k1_t5 : Fin (k1_t5_loop v41).trips, ∀ a, (k1_off376 v41 k1_t5) a + S1x1x16.size a ≤ S4x32x128.size a) ∧
  (∀ k1_t5 : Fin (k1_t5_loop v41).trips, ∀ a, (k1_off377 v41 k1_t5) a + S1x1x16.size a ≤ S4x32x128.size a) ∧
  (∀ k1_t5 : Fin (k1_t5_loop v41).trips, ∀ a, (k1_off378 v41 k1_t5) a + S1x1x16.size a ≤ S4x32x128.size a) ∧
  (∀ k1_t5 : Fin (k1_t5_loop v41).trips, ∀ a, (k1_off380 v41 k1_t5) a + S1x1x16.size a ≤ S4x32x128.size a) ∧
  (∀ k1_t5 : Fin (k1_t5_loop v41).trips, ∀ a, (k1_off381 v41 k1_t5) a + S1x1x16.size a ≤ S4x32x128.size a) ∧
  (∀ k1_t5 : Fin (k1_t5_loop v41).trips, ∀ a, (k1_off382 v41 k1_t5) a + S1x1x16.size a ≤ S4x32x128.size a) ∧
  (∀ k1_t5 : Fin (k1_t5_loop v41).trips, ∀ a, (k1_off383 v41 k1_t5) a + S1x1x16.size a ≤ S4x32x128.size a) ∧
  (∀ k1_t5 : Fin (k1_t5_loop v41).trips, ∀ a, (k1_off384 v41 k1_t5) a + S1x1x16.size a ≤ S4x32x128.size a) ∧
  (∀ k1_t5 : Fin (k1_t5_loop v41).trips, ∀ a, (k1_off385 v41 k1_t5) a + S1x1x16.size a ≤ S4x32x128.size a) ∧
  (∀ k1_t5 : Fin (k1_t5_loop v41).trips, ∀ a, (k1_off386 v41 k1_t5) a + S1x1x16.size a ≤ S4x32x128.size a) ∧
  (∀ k1_t5 : Fin (k1_t5_loop v41).trips, ∀ a, (k1_off387 v41 k1_t5) a + S1x1x16.size a ≤ S4x32x128.size a) ∧
  (∀ k1_t5 : Fin (k1_t5_loop v41).trips, ∀ a, (k1_off389 v41 k1_t5) a + S1x1x16.size a ≤ S4x32x128.size a) ∧
  (∀ k1_t5 : Fin (k1_t5_loop v41).trips, ∀ a, (k1_off390 v41 k1_t5) a + S1x1x16.size a ≤ S4x32x128.size a) ∧
  (∀ k1_t5 : Fin (k1_t5_loop v41).trips, ∀ a, (k1_off391 v41 k1_t5) a + S1x1x16.size a ≤ S4x32x128.size a) ∧
  (∀ k1_t5 : Fin (k1_t5_loop v41).trips, ∀ a, (k1_off392 v41 k1_t5) a + S1x1x16.size a ≤ S4x32x128.size a) ∧
  (∀ k1_t5 : Fin (k1_t5_loop v41).trips, ∀ a, (k1_off393 v41 k1_t5) a + S1x1x16.size a ≤ S4x32x128.size a) ∧
  (∀ k1_t5 : Fin (k1_t5_loop v41).trips, ∀ a, (k1_off394 v41 k1_t5) a + S1x1x16.size a ≤ S4x32x128.size a) ∧
  (∀ k1_t5 : Fin (k1_t5_loop v41).trips, ∀ a, (k1_off395 v41 k1_t5) a + S1x1x16.size a ≤ S4x32x128.size a) ∧
  (∀ k1_t5 : Fin (k1_t5_loop v41).trips, ∀ a, (k1_off396 v41 k1_t5) a + S1x1x16.size a ≤ S4x32x128.size a) ∧
  (∀ k1_t5 : Fin (k1_t5_loop v41).trips, ∀ a, (k1_off398 v41 k1_t5) a + S1x1x16.size a ≤ S4x32x128.size a) ∧
  (∀ k1_t5 : Fin (k1_t5_loop v41).trips, ∀ a, (k1_off399 v41 k1_t5) a + S1x1x16.size a ≤ S4x32x128.size a) ∧
  (∀ k1_t5 : Fin (k1_t5_loop v41).trips, ∀ a, (k1_off400 v41 k1_t5) a + S1x1x16.size a ≤ S4x32x128.size a) ∧
  (∀ k1_t5 : Fin (k1_t5_loop v41).trips, ∀ a, (k1_off401 v41 k1_t5) a + S1x1x16.size a ≤ S4x32x128.size a) ∧
  (∀ k1_t5 : Fin (k1_t5_loop v41).trips, ∀ a, (k1_off402 v41 k1_t5) a + S1x1x16.size a ≤ S4x32x128.size a) ∧
  (∀ k1_t5 : Fin (k1_t5_loop v41).trips, ∀ a, (k1_off403 v41 k1_t5) a + S1x1x16.size a ≤ S4x32x128.size a) ∧
  (∀ k1_t5 : Fin (k1_t5_loop v41).trips, ∀ a, (k1_off404 v41 k1_t5) a + S1x1x16.size a ≤ S4x32x128.size a) ∧
  (∀ k1_t5 : Fin (k1_t5_loop v41).trips, ∀ a, (k1_off405 v41 k1_t5) a + S1x1x16.size a ≤ S4x32x128.size a)
def k1_chk5_11 (v41 : BitVec 32) : Prop :=
  (∀ k1_t5 : Fin (k1_t5_loop v41).trips, ∀ a, (k1_off407 v41 k1_t5) a + S1x1x16.size a ≤ S4x32x128.size a) ∧
  (∀ k1_t5 : Fin (k1_t5_loop v41).trips, ∀ a, (k1_off408 v41 k1_t5) a + S1x1x16.size a ≤ S4x32x128.size a) ∧
  (∀ k1_t5 : Fin (k1_t5_loop v41).trips, ∀ a, (k1_off409 v41 k1_t5) a + S1x1x16.size a ≤ S4x32x128.size a) ∧
  (∀ k1_t5 : Fin (k1_t5_loop v41).trips, ∀ a, (k1_off410 v41 k1_t5) a + S1x1x16.size a ≤ S4x32x128.size a) ∧
  (∀ k1_t5 : Fin (k1_t5_loop v41).trips, ∀ a, (k1_off411 v41 k1_t5) a + S1x1x16.size a ≤ S4x32x128.size a) ∧
  (∀ k1_t5 : Fin (k1_t5_loop v41).trips, ∀ a, (k1_off412 v41 k1_t5) a + S1x1x16.size a ≤ S4x32x128.size a) ∧
  (∀ k1_t5 : Fin (k1_t5_loop v41).trips, ∀ a, (k1_off413 v41 k1_t5) a + S1x1x16.size a ≤ S4x32x128.size a) ∧
  (∀ k1_t5 : Fin (k1_t5_loop v41).trips, ∀ a, (k1_off414 v41 k1_t5) a + S1x1x16.size a ≤ S4x32x128.size a) ∧
  (∀ k1_t5 : Fin (k1_t5_loop v41).trips, ∀ a, (k1_off416 v41 k1_t5) a + S1x1x16.size a ≤ S4x32x128.size a) ∧
  (∀ k1_t5 : Fin (k1_t5_loop v41).trips, ∀ a, (k1_off417 v41 k1_t5) a + S1x1x16.size a ≤ S4x32x128.size a) ∧
  (∀ k1_t5 : Fin (k1_t5_loop v41).trips, ∀ a, (k1_off418 v41 k1_t5) a + S1x1x16.size a ≤ S4x32x128.size a) ∧
  (∀ k1_t5 : Fin (k1_t5_loop v41).trips, ∀ a, (k1_off419 v41 k1_t5) a + S1x1x16.size a ≤ S4x32x128.size a) ∧
  (∀ k1_t5 : Fin (k1_t5_loop v41).trips, ∀ a, (k1_off420 v41 k1_t5) a + S1x1x16.size a ≤ S4x32x128.size a) ∧
  (∀ k1_t5 : Fin (k1_t5_loop v41).trips, ∀ a, (k1_off421 v41 k1_t5) a + S1x1x16.size a ≤ S4x32x128.size a) ∧
  (∀ k1_t5 : Fin (k1_t5_loop v41).trips, ∀ a, (k1_off422 v41 k1_t5) a + S1x1x16.size a ≤ S4x32x128.size a) ∧
  (∀ k1_t5 : Fin (k1_t5_loop v41).trips, ∀ a, (k1_off423 v41 k1_t5) a + S1x1x16.size a ≤ S4x32x128.size a) ∧
  (∀ k1_t5 : Fin (k1_t5_loop v41).trips, ∀ a, (k1_off425 v41 k1_t5) a + S1x1x16.size a ≤ S4x32x128.size a) ∧
  (∀ k1_t5 : Fin (k1_t5_loop v41).trips, ∀ a, (k1_off426 v41 k1_t5) a + S1x1x16.size a ≤ S4x32x128.size a) ∧
  (∀ k1_t5 : Fin (k1_t5_loop v41).trips, ∀ a, (k1_off427 v41 k1_t5) a + S1x1x16.size a ≤ S4x32x128.size a) ∧
  (∀ k1_t5 : Fin (k1_t5_loop v41).trips, ∀ a, (k1_off428 v41 k1_t5) a + S1x1x16.size a ≤ S4x32x128.size a) ∧
  (∀ k1_t5 : Fin (k1_t5_loop v41).trips, ∀ a, (k1_off429 v41 k1_t5) a + S1x1x16.size a ≤ S4x32x128.size a) ∧
  (∀ k1_t5 : Fin (k1_t5_loop v41).trips, ∀ a, (k1_off430 v41 k1_t5) a + S1x1x16.size a ≤ S4x32x128.size a) ∧
  (∀ k1_t5 : Fin (k1_t5_loop v41).trips, ∀ a, (k1_off431 v41 k1_t5) a + S1x1x16.size a ≤ S4x32x128.size a) ∧
  (∀ k1_t5 : Fin (k1_t5_loop v41).trips, ∀ a, (k1_off432 v41 k1_t5) a + S1x1x16.size a ≤ S4x32x128.size a) ∧
  (∀ k1_t5 : Fin (k1_t5_loop v41).trips, ∀ a, (k1_off434 v41 k1_t5) a + S1x1x16.size a ≤ S4x32x128.size a) ∧
  (∀ k1_t5 : Fin (k1_t5_loop v41).trips, ∀ a, (k1_off435 v41 k1_t5) a + S1x1x16.size a ≤ S4x32x128.size a) ∧
  (∀ k1_t5 : Fin (k1_t5_loop v41).trips, ∀ a, (k1_off436 v41 k1_t5) a + S1x1x16.size a ≤ S4x32x128.size a) ∧
  (∀ k1_t5 : Fin (k1_t5_loop v41).trips, ∀ a, (k1_off437 v41 k1_t5) a + S1x1x16.size a ≤ S4x32x128.size a) ∧
  (∀ k1_t5 : Fin (k1_t5_loop v41).trips, ∀ a, (k1_off438 v41 k1_t5) a + S1x1x16.size a ≤ S4x32x128.size a) ∧
  (∀ k1_t5 : Fin (k1_t5_loop v41).trips, ∀ a, (k1_off439 v41 k1_t5) a + S1x1x16.size a ≤ S4x32x128.size a) ∧
  (∀ k1_t5 : Fin (k1_t5_loop v41).trips, ∀ a, (k1_off440 v41 k1_t5) a + S1x1x16.size a ≤ S4x32x128.size a) ∧
  (∀ k1_t5 : Fin (k1_t5_loop v41).trips, ∀ a, (k1_off441 v41 k1_t5) a + S1x1x16.size a ≤ S4x32x128.size a)
def k1_chk5_12 (v41 : BitVec 32) : Prop :=
  (∀ k1_t5 : Fin (k1_t5_loop v41).trips, ∀ a, (k1_off443 v41 k1_t5) a + S1x1x16.size a ≤ S4x32x128.size a) ∧
  (∀ k1_t5 : Fin (k1_t5_loop v41).trips, ∀ a, (k1_off444 v41 k1_t5) a + S1x1x16.size a ≤ S4x32x128.size a) ∧
  (∀ k1_t5 : Fin (k1_t5_loop v41).trips, ∀ a, (k1_off445 v41 k1_t5) a + S1x1x16.size a ≤ S4x32x128.size a) ∧
  (∀ k1_t5 : Fin (k1_t5_loop v41).trips, ∀ a, (k1_off446 v41 k1_t5) a + S1x1x16.size a ≤ S4x32x128.size a) ∧
  (∀ k1_t5 : Fin (k1_t5_loop v41).trips, ∀ a, (k1_off447 v41 k1_t5) a + S1x1x16.size a ≤ S4x32x128.size a) ∧
  (∀ k1_t5 : Fin (k1_t5_loop v41).trips, ∀ a, (k1_off448 v41 k1_t5) a + S1x1x16.size a ≤ S4x32x128.size a) ∧
  (∀ k1_t5 : Fin (k1_t5_loop v41).trips, ∀ a, (k1_off449 v41 k1_t5) a + S1x1x16.size a ≤ S4x32x128.size a) ∧
  (∀ k1_t5 : Fin (k1_t5_loop v41).trips, ∀ a, (k1_off450 v41 k1_t5) a + S1x1x16.size a ≤ S4x32x128.size a) ∧
  (∀ k1_t5 : Fin (k1_t5_loop v41).trips, ∀ a, (k1_off452 v41 k1_t5) a + S1x1x16.size a ≤ S4x32x128.size a) ∧
  (∀ k1_t5 : Fin (k1_t5_loop v41).trips, ∀ a, (k1_off453 v41 k1_t5) a + S1x1x16.size a ≤ S4x32x128.size a) ∧
  (∀ k1_t5 : Fin (k1_t5_loop v41).trips, ∀ a, (k1_off454 v41 k1_t5) a + S1x1x16.size a ≤ S4x32x128.size a) ∧
  (∀ k1_t5 : Fin (k1_t5_loop v41).trips, ∀ a, (k1_off455 v41 k1_t5) a + S1x1x16.size a ≤ S4x32x128.size a) ∧
  (∀ k1_t5 : Fin (k1_t5_loop v41).trips, ∀ a, (k1_off456 v41 k1_t5) a + S1x1x16.size a ≤ S4x32x128.size a) ∧
  (∀ k1_t5 : Fin (k1_t5_loop v41).trips, ∀ a, (k1_off457 v41 k1_t5) a + S1x1x16.size a ≤ S4x32x128.size a) ∧
  (∀ k1_t5 : Fin (k1_t5_loop v41).trips, ∀ a, (k1_off458 v41 k1_t5) a + S1x1x16.size a ≤ S4x32x128.size a) ∧
  (∀ k1_t5 : Fin (k1_t5_loop v41).trips, ∀ a, (k1_off459 v41 k1_t5) a + S1x1x16.size a ≤ S4x32x128.size a) ∧
  (∀ k1_t5 : Fin (k1_t5_loop v41).trips, ∀ a, (k1_off460 v41 k1_t5) a + S16.size a ≤ S8032.size a) ∧
  (∀ k1_t5 : Fin (k1_t5_loop v41).trips, ∀ a, (k1_off462 v41 k1_t5) a + S1x1x16.size a ≤ S4x32x128.size a) ∧
  (∀ k1_t5 : Fin (k1_t5_loop v41).trips, ∀ a, (k1_off463 v41 k1_t5) a + S1x1x16.size a ≤ S4x32x128.size a) ∧
  (∀ k1_t5 : Fin (k1_t5_loop v41).trips, ∀ a, (k1_off464 v41 k1_t5) a + S1x1x16.size a ≤ S4x32x128.size a) ∧
  (∀ k1_t5 : Fin (k1_t5_loop v41).trips, ∀ a, (k1_off465 v41 k1_t5) a + S1x1x16.size a ≤ S4x32x128.size a) ∧
  (∀ k1_t5 : Fin (k1_t5_loop v41).trips, ∀ a, (k1_off466 v41 k1_t5) a + S1x1x16.size a ≤ S4x32x128.size a) ∧
  (∀ k1_t5 : Fin (k1_t5_loop v41).trips, ∀ a, (k1_off467 v41 k1_t5) a + S1x1x16.size a ≤ S4x32x128.size a) ∧
  (∀ k1_t5 : Fin (k1_t5_loop v41).trips, ∀ a, (k1_off468 v41 k1_t5) a + S1x1x16.size a ≤ S4x32x128.size a) ∧
  (∀ k1_t5 : Fin (k1_t5_loop v41).trips, ∀ a, (k1_off469 v41 k1_t5) a + S1x1x16.size a ≤ S4x32x128.size a) ∧
  (∀ k1_t5 : Fin (k1_t5_loop v41).trips, ∀ a, (k1_off471 v41 k1_t5) a + S1x1x16.size a ≤ S4x32x128.size a) ∧
  (∀ k1_t5 : Fin (k1_t5_loop v41).trips, ∀ a, (k1_off472 v41 k1_t5) a + S1x1x16.size a ≤ S4x32x128.size a) ∧
  (∀ k1_t5 : Fin (k1_t5_loop v41).trips, ∀ a, (k1_off473 v41 k1_t5) a + S1x1x16.size a ≤ S4x32x128.size a) ∧
  (∀ k1_t5 : Fin (k1_t5_loop v41).trips, ∀ a, (k1_off474 v41 k1_t5) a + S1x1x16.size a ≤ S4x32x128.size a) ∧
  (∀ k1_t5 : Fin (k1_t5_loop v41).trips, ∀ a, (k1_off475 v41 k1_t5) a + S1x1x16.size a ≤ S4x32x128.size a) ∧
  (∀ k1_t5 : Fin (k1_t5_loop v41).trips, ∀ a, (k1_off476 v41 k1_t5) a + S1x1x16.size a ≤ S4x32x128.size a) ∧
  (∀ k1_t5 : Fin (k1_t5_loop v41).trips, ∀ a, (k1_off477 v41 k1_t5) a + S1x1x16.size a ≤ S4x32x128.size a)
def k1_chk5_13 (v41 : BitVec 32) : Prop :=
  (∀ k1_t5 : Fin (k1_t5_loop v41).trips, ∀ a, (k1_off478 v41 k1_t5) a + S1x1x16.size a ≤ S4x32x128.size a) ∧
  (∀ k1_t5 : Fin (k1_t5_loop v41).trips, ∀ a, (k1_off480 v41 k1_t5) a + S1x1x16.size a ≤ S4x32x128.size a) ∧
  (∀ k1_t5 : Fin (k1_t5_loop v41).trips, ∀ a, (k1_off481 v41 k1_t5) a + S1x1x16.size a ≤ S4x32x128.size a) ∧
  (∀ k1_t5 : Fin (k1_t5_loop v41).trips, ∀ a, (k1_off482 v41 k1_t5) a + S1x1x16.size a ≤ S4x32x128.size a) ∧
  (∀ k1_t5 : Fin (k1_t5_loop v41).trips, ∀ a, (k1_off483 v41 k1_t5) a + S1x1x16.size a ≤ S4x32x128.size a) ∧
  (∀ k1_t5 : Fin (k1_t5_loop v41).trips, ∀ a, (k1_off484 v41 k1_t5) a + S1x1x16.size a ≤ S4x32x128.size a) ∧
  (∀ k1_t5 : Fin (k1_t5_loop v41).trips, ∀ a, (k1_off485 v41 k1_t5) a + S1x1x16.size a ≤ S4x32x128.size a) ∧
  (∀ k1_t5 : Fin (k1_t5_loop v41).trips, ∀ a, (k1_off486 v41 k1_t5) a + S1x1x16.size a ≤ S4x32x128.size a) ∧
  (∀ k1_t5 : Fin (k1_t5_loop v41).trips, ∀ a, (k1_off487 v41 k1_t5) a + S1x1x16.size a ≤ S4x32x128.size a) ∧
  (∀ k1_t5 : Fin (k1_t5_loop v41).trips, ∀ a, (k1_off489 v41 k1_t5) a + S1x1x16.size a ≤ S4x32x128.size a) ∧
  (∀ k1_t5 : Fin (k1_t5_loop v41).trips, ∀ a, (k1_off490 v41 k1_t5) a + S1x1x16.size a ≤ S4x32x128.size a) ∧
  (∀ k1_t5 : Fin (k1_t5_loop v41).trips, ∀ a, (k1_off491 v41 k1_t5) a + S1x1x16.size a ≤ S4x32x128.size a) ∧
  (∀ k1_t5 : Fin (k1_t5_loop v41).trips, ∀ a, (k1_off492 v41 k1_t5) a + S1x1x16.size a ≤ S4x32x128.size a) ∧
  (∀ k1_t5 : Fin (k1_t5_loop v41).trips, ∀ a, (k1_off493 v41 k1_t5) a + S1x1x16.size a ≤ S4x32x128.size a) ∧
  (∀ k1_t5 : Fin (k1_t5_loop v41).trips, ∀ a, (k1_off494 v41 k1_t5) a + S1x1x16.size a ≤ S4x32x128.size a) ∧
  (∀ k1_t5 : Fin (k1_t5_loop v41).trips, ∀ a, (k1_off495 v41 k1_t5) a + S1x1x16.size a ≤ S4x32x128.size a) ∧
  (∀ k1_t5 : Fin (k1_t5_loop v41).trips, ∀ a, (k1_off496 v41 k1_t5) a + S1x1x16.size a ≤ S4x32x128.size a) ∧
  (∀ k1_t5 : Fin (k1_t5_loop v41).trips, ∀ a, (k1_off498 v41 k1_t5) a + S1x1x16.size a ≤ S4x32x128.size a) ∧
  (∀ k1_t5 : Fin (k1_t5_loop v41).trips, ∀ a, (k1_off499 v41 k1_t5) a + S1x1x16.size a ≤ S4x32x128.size a) ∧
  (∀ k1_t5 : Fin (k1_t5_loop v41).trips, ∀ a, (k1_off500 v41 k1_t5) a + S1x1x16.size a ≤ S4x32x128.size a) ∧
  (∀ k1_t5 : Fin (k1_t5_loop v41).trips, ∀ a, (k1_off501 v41 k1_t5) a + S1x1x16.size a ≤ S4x32x128.size a) ∧
  (∀ k1_t5 : Fin (k1_t5_loop v41).trips, ∀ a, (k1_off502 v41 k1_t5) a + S1x1x16.size a ≤ S4x32x128.size a) ∧
  (∀ k1_t5 : Fin (k1_t5_loop v41).trips, ∀ a, (k1_off503 v41 k1_t5) a + S1x1x16.size a ≤ S4x32x128.size a) ∧
  (∀ k1_t5 : Fin (k1_t5_loop v41).trips, ∀ a, (k1_off504 v41 k1_t5) a + S1x1x16.size a ≤ S4x32x128.size a) ∧
  (∀ k1_t5 : Fin (k1_t5_loop v41).trips, ∀ a, (k1_off505 v41 k1_t5) a + S1x1x16.size a ≤ S4x32x128.size a) ∧
  (∀ k1_t5 : Fin (k1_t5_loop v41).trips, ∀ a, (k1_off507 v41 k1_t5) a + S1x1x16.size a ≤ S4x32x128.size a) ∧
  (∀ k1_t5 : Fin (k1_t5_loop v41).trips, ∀ a, (k1_off508 v41 k1_t5) a + S1x1x16.size a ≤ S4x32x128.size a) ∧
  (∀ k1_t5 : Fin (k1_t5_loop v41).trips, ∀ a, (k1_off509 v41 k1_t5) a + S1x1x16.size a ≤ S4x32x128.size a) ∧
  (∀ k1_t5 : Fin (k1_t5_loop v41).trips, ∀ a, (k1_off510 v41 k1_t5) a + S1x1x16.size a ≤ S4x32x128.size a) ∧
  (∀ k1_t5 : Fin (k1_t5_loop v41).trips, ∀ a, (k1_off511 v41 k1_t5) a + S1x1x16.size a ≤ S4x32x128.size a) ∧
  (∀ k1_t5 : Fin (k1_t5_loop v41).trips, ∀ a, (k1_off512 v41 k1_t5) a + S1x1x16.size a ≤ S4x32x128.size a) ∧
  (∀ k1_t5 : Fin (k1_t5_loop v41).trips, ∀ a, (k1_off513 v41 k1_t5) a + S1x1x16.size a ≤ S4x32x128.size a)
def k1_chk5_14 (v41 : BitVec 32) : Prop :=
  (∀ k1_t5 : Fin (k1_t5_loop v41).trips, ∀ a, (k1_off514 v41 k1_t5) a + S1x1x16.size a ≤ S4x32x128.size a) ∧
  (∀ k1_t5 : Fin (k1_t5_loop v41).trips, ∀ a, (k1_off516 v41 k1_t5) a + S1x1x16.size a ≤ S4x32x128.size a) ∧
  (∀ k1_t5 : Fin (k1_t5_loop v41).trips, ∀ a, (k1_off517 v41 k1_t5) a + S1x1x16.size a ≤ S4x32x128.size a) ∧
  (∀ k1_t5 : Fin (k1_t5_loop v41).trips, ∀ a, (k1_off518 v41 k1_t5) a + S1x1x16.size a ≤ S4x32x128.size a) ∧
  (∀ k1_t5 : Fin (k1_t5_loop v41).trips, ∀ a, (k1_off519 v41 k1_t5) a + S1x1x16.size a ≤ S4x32x128.size a) ∧
  (∀ k1_t5 : Fin (k1_t5_loop v41).trips, ∀ a, (k1_off520 v41 k1_t5) a + S1x1x16.size a ≤ S4x32x128.size a) ∧
  (∀ k1_t5 : Fin (k1_t5_loop v41).trips, ∀ a, (k1_off521 v41 k1_t5) a + S1x1x16.size a ≤ S4x32x128.size a) ∧
  (∀ k1_t5 : Fin (k1_t5_loop v41).trips, ∀ a, (k1_off522 v41 k1_t5) a + S1x1x16.size a ≤ S4x32x128.size a) ∧
  (∀ k1_t5 : Fin (k1_t5_loop v41).trips, ∀ a, (k1_off523 v41 k1_t5) a + S1x1x16.size a ≤ S4x32x128.size a) ∧
  (∀ k1_t5 : Fin (k1_t5_loop v41).trips, ∀ a, (k1_off525 v41 k1_t5) a + S1x1x16.size a ≤ S4x32x128.size a) ∧
  (∀ k1_t5 : Fin (k1_t5_loop v41).trips, ∀ a, (k1_off526 v41 k1_t5) a + S1x1x16.size a ≤ S4x32x128.size a) ∧
  (∀ k1_t5 : Fin (k1_t5_loop v41).trips, ∀ a, (k1_off527 v41 k1_t5) a + S1x1x16.size a ≤ S4x32x128.size a) ∧
  (∀ k1_t5 : Fin (k1_t5_loop v41).trips, ∀ a, (k1_off528 v41 k1_t5) a + S1x1x16.size a ≤ S4x32x128.size a) ∧
  (∀ k1_t5 : Fin (k1_t5_loop v41).trips, ∀ a, (k1_off529 v41 k1_t5) a + S1x1x16.size a ≤ S4x32x128.size a) ∧
  (∀ k1_t5 : Fin (k1_t5_loop v41).trips, ∀ a, (k1_off530 v41 k1_t5) a + S1x1x16.size a ≤ S4x32x128.size a) ∧
  (∀ k1_t5 : Fin (k1_t5_loop v41).trips, ∀ a, (k1_off531 v41 k1_t5) a + S1x1x16.size a ≤ S4x32x128.size a) ∧
  (∀ k1_t5 : Fin (k1_t5_loop v41).trips, ∀ a, (k1_off532 v41 k1_t5) a + S1x1x16.size a ≤ S4x32x128.size a) ∧
  (∀ k1_t5 : Fin (k1_t5_loop v41).trips, ∀ a, (k1_off534 v41 k1_t5) a + S1x1x16.size a ≤ S4x32x128.size a) ∧
  (∀ k1_t5 : Fin (k1_t5_loop v41).trips, ∀ a, (k1_off535 v41 k1_t5) a + S1x1x16.size a ≤ S4x32x128.size a) ∧
  (∀ k1_t5 : Fin (k1_t5_loop v41).trips, ∀ a, (k1_off536 v41 k1_t5) a + S1x1x16.size a ≤ S4x32x128.size a) ∧
  (∀ k1_t5 : Fin (k1_t5_loop v41).trips, ∀ a, (k1_off537 v41 k1_t5) a + S1x1x16.size a ≤ S4x32x128.size a) ∧
  (∀ k1_t5 : Fin (k1_t5_loop v41).trips, ∀ a, (k1_off538 v41 k1_t5) a + S1x1x16.size a ≤ S4x32x128.size a) ∧
  (∀ k1_t5 : Fin (k1_t5_loop v41).trips, ∀ a, (k1_off539 v41 k1_t5) a + S1x1x16.size a ≤ S4x32x128.size a) ∧
  (∀ k1_t5 : Fin (k1_t5_loop v41).trips, ∀ a, (k1_off540 v41 k1_t5) a + S1x1x16.size a ≤ S4x32x128.size a) ∧
  (∀ k1_t5 : Fin (k1_t5_loop v41).trips, ∀ a, (k1_off541 v41 k1_t5) a + S1x1x16.size a ≤ S4x32x128.size a) ∧
  (∀ k1_t5 : Fin (k1_t5_loop v41).trips, ∀ a, (k1_off543 v41 k1_t5) a + S1x1x16.size a ≤ S4x32x128.size a) ∧
  (∀ k1_t5 : Fin (k1_t5_loop v41).trips, ∀ a, (k1_off544 v41 k1_t5) a + S1x1x16.size a ≤ S4x32x128.size a) ∧
  (∀ k1_t5 : Fin (k1_t5_loop v41).trips, ∀ a, (k1_off545 v41 k1_t5) a + S1x1x16.size a ≤ S4x32x128.size a) ∧
  (∀ k1_t5 : Fin (k1_t5_loop v41).trips, ∀ a, (k1_off546 v41 k1_t5) a + S1x1x16.size a ≤ S4x32x128.size a) ∧
  (∀ k1_t5 : Fin (k1_t5_loop v41).trips, ∀ a, (k1_off547 v41 k1_t5) a + S1x1x16.size a ≤ S4x32x128.size a) ∧
  (∀ k1_t5 : Fin (k1_t5_loop v41).trips, ∀ a, (k1_off548 v41 k1_t5) a + S1x1x16.size a ≤ S4x32x128.size a) ∧
  (∀ k1_t5 : Fin (k1_t5_loop v41).trips, ∀ a, (k1_off549 v41 k1_t5) a + S1x1x16.size a ≤ S4x32x128.size a)
def k1_chk5_15 (v41 : BitVec 32) : Prop :=
  (∀ k1_t5 : Fin (k1_t5_loop v41).trips, ∀ a, (k1_off550 v41 k1_t5) a + S1x1x16.size a ≤ S4x32x128.size a) ∧
  (∀ k1_t5 : Fin (k1_t5_loop v41).trips, ∀ a, (k1_off552 v41 k1_t5) a + S1x1x16.size a ≤ S4x32x128.size a) ∧
  (∀ k1_t5 : Fin (k1_t5_loop v41).trips, ∀ a, (k1_off553 v41 k1_t5) a + S1x1x16.size a ≤ S4x32x128.size a) ∧
  (∀ k1_t5 : Fin (k1_t5_loop v41).trips, ∀ a, (k1_off554 v41 k1_t5) a + S1x1x16.size a ≤ S4x32x128.size a) ∧
  (∀ k1_t5 : Fin (k1_t5_loop v41).trips, ∀ a, (k1_off555 v41 k1_t5) a + S1x1x16.size a ≤ S4x32x128.size a) ∧
  (∀ k1_t5 : Fin (k1_t5_loop v41).trips, ∀ a, (k1_off556 v41 k1_t5) a + S1x1x16.size a ≤ S4x32x128.size a) ∧
  (∀ k1_t5 : Fin (k1_t5_loop v41).trips, ∀ a, (k1_off557 v41 k1_t5) a + S1x1x16.size a ≤ S4x32x128.size a) ∧
  (∀ k1_t5 : Fin (k1_t5_loop v41).trips, ∀ a, (k1_off558 v41 k1_t5) a + S1x1x16.size a ≤ S4x32x128.size a) ∧
  (∀ k1_t5 : Fin (k1_t5_loop v41).trips, ∀ a, (k1_off559 v41 k1_t5) a + S1x1x16.size a ≤ S4x32x128.size a) ∧
  (∀ k1_t5 : Fin (k1_t5_loop v41).trips, ∀ a, (k1_off561 v41 k1_t5) a + S1x1x16.size a ≤ S4x32x128.size a) ∧
  (∀ k1_t5 : Fin (k1_t5_loop v41).trips, ∀ a, (k1_off562 v41 k1_t5) a + S1x1x16.size a ≤ S4x32x128.size a) ∧
  (∀ k1_t5 : Fin (k1_t5_loop v41).trips, ∀ a, (k1_off563 v41 k1_t5) a + S1x1x16.size a ≤ S4x32x128.size a) ∧
  (∀ k1_t5 : Fin (k1_t5_loop v41).trips, ∀ a, (k1_off564 v41 k1_t5) a + S1x1x16.size a ≤ S4x32x128.size a) ∧
  (∀ k1_t5 : Fin (k1_t5_loop v41).trips, ∀ a, (k1_off565 v41 k1_t5) a + S1x1x16.size a ≤ S4x32x128.size a) ∧
  (∀ k1_t5 : Fin (k1_t5_loop v41).trips, ∀ a, (k1_off566 v41 k1_t5) a + S1x1x16.size a ≤ S4x32x128.size a) ∧
  (∀ k1_t5 : Fin (k1_t5_loop v41).trips, ∀ a, (k1_off567 v41 k1_t5) a + S1x1x16.size a ≤ S4x32x128.size a) ∧
  (∀ k1_t5 : Fin (k1_t5_loop v41).trips, ∀ a, (k1_off568 v41 k1_t5) a + S1x1x16.size a ≤ S4x32x128.size a) ∧
  (∀ k1_t5 : Fin (k1_t5_loop v41).trips, ∀ a, (k1_off570 v41 k1_t5) a + S1x1x16.size a ≤ S4x32x128.size a) ∧
  (∀ k1_t5 : Fin (k1_t5_loop v41).trips, ∀ a, (k1_off571 v41 k1_t5) a + S1x1x16.size a ≤ S4x32x128.size a) ∧
  (∀ k1_t5 : Fin (k1_t5_loop v41).trips, ∀ a, (k1_off572 v41 k1_t5) a + S1x1x16.size a ≤ S4x32x128.size a) ∧
  (∀ k1_t5 : Fin (k1_t5_loop v41).trips, ∀ a, (k1_off573 v41 k1_t5) a + S1x1x16.size a ≤ S4x32x128.size a) ∧
  (∀ k1_t5 : Fin (k1_t5_loop v41).trips, ∀ a, (k1_off574 v41 k1_t5) a + S1x1x16.size a ≤ S4x32x128.size a) ∧
  (∀ k1_t5 : Fin (k1_t5_loop v41).trips, ∀ a, (k1_off575 v41 k1_t5) a + S1x1x16.size a ≤ S4x32x128.size a) ∧
  (∀ k1_t5 : Fin (k1_t5_loop v41).trips, ∀ a, (k1_off576 v41 k1_t5) a + S1x1x16.size a ≤ S4x32x128.size a) ∧
  (∀ k1_t5 : Fin (k1_t5_loop v41).trips, ∀ a, (k1_off577 v41 k1_t5) a + S1x1x16.size a ≤ S4x32x128.size a) ∧
  (∀ k1_t5 : Fin (k1_t5_loop v41).trips, ∀ a, (k1_off579 v41 k1_t5) a + S1x1x16.size a ≤ S4x32x128.size a) ∧
  (∀ k1_t5 : Fin (k1_t5_loop v41).trips, ∀ a, (k1_off580 v41 k1_t5) a + S1x1x16.size a ≤ S4x32x128.size a) ∧
  (∀ k1_t5 : Fin (k1_t5_loop v41).trips, ∀ a, (k1_off581 v41 k1_t5) a + S1x1x16.size a ≤ S4x32x128.size a) ∧
  (∀ k1_t5 : Fin (k1_t5_loop v41).trips, ∀ a, (k1_off582 v41 k1_t5) a + S1x1x16.size a ≤ S4x32x128.size a) ∧
  (∀ k1_t5 : Fin (k1_t5_loop v41).trips, ∀ a, (k1_off583 v41 k1_t5) a + S1x1x16.size a ≤ S4x32x128.size a) ∧
  (∀ k1_t5 : Fin (k1_t5_loop v41).trips, ∀ a, (k1_off584 v41 k1_t5) a + S1x1x16.size a ≤ S4x32x128.size a) ∧
  (∀ k1_t5 : Fin (k1_t5_loop v41).trips, ∀ a, (k1_off585 v41 k1_t5) a + S1x1x16.size a ≤ S4x32x128.size a)
def k1_chk5_16 (v41 : BitVec 32) : Prop :=
  (∀ k1_t5 : Fin (k1_t5_loop v41).trips, ∀ a, (k1_off586 v41 k1_t5) a + S1x1x16.size a ≤ S4x32x128.size a) ∧
  (∀ k1_t5 : Fin (k1_t5_loop v41).trips, ∀ a, (k1_off588 v41 k1_t5) a + S1x1x16.size a ≤ S4x32x128.size a) ∧
  (∀ k1_t5 : Fin (k1_t5_loop v41).trips, ∀ a, (k1_off589 v41 k1_t5) a + S1x1x16.size a ≤ S4x32x128.size a) ∧
  (∀ k1_t5 : Fin (k1_t5_loop v41).trips, ∀ a, (k1_off590 v41 k1_t5) a + S1x1x16.size a ≤ S4x32x128.size a) ∧
  (∀ k1_t5 : Fin (k1_t5_loop v41).trips, ∀ a, (k1_off591 v41 k1_t5) a + S1x1x16.size a ≤ S4x32x128.size a) ∧
  (∀ k1_t5 : Fin (k1_t5_loop v41).trips, ∀ a, (k1_off592 v41 k1_t5) a + S1x1x16.size a ≤ S4x32x128.size a) ∧
  (∀ k1_t5 : Fin (k1_t5_loop v41).trips, ∀ a, (k1_off593 v41 k1_t5) a + S1x1x16.size a ≤ S4x32x128.size a) ∧
  (∀ k1_t5 : Fin (k1_t5_loop v41).trips, ∀ a, (k1_off594 v41 k1_t5) a + S1x1x16.size a ≤ S4x32x128.size a) ∧
  (∀ k1_t5 : Fin (k1_t5_loop v41).trips, ∀ a, (k1_off595 v41 k1_t5) a + S1x1x16.size a ≤ S4x32x128.size a) ∧
  (∀ k1_t5 : Fin (k1_t5_loop v41).trips, ∀ a, (k1_off597 v41 k1_t5) a + S1x1x16.size a ≤ S4x32x128.size a) ∧
  (∀ k1_t5 : Fin (k1_t5_loop v41).trips, ∀ a, (k1_off598 v41 k1_t5) a + S1x1x16.size a ≤ S4x32x128.size a) ∧
  (∀ k1_t5 : Fin (k1_t5_loop v41).trips, ∀ a, (k1_off599 v41 k1_t5) a + S1x1x16.size a ≤ S4x32x128.size a) ∧
  (∀ k1_t5 : Fin (k1_t5_loop v41).trips, ∀ a, (k1_off600 v41 k1_t5) a + S1x1x16.size a ≤ S4x32x128.size a) ∧
  (∀ k1_t5 : Fin (k1_t5_loop v41).trips, ∀ a, (k1_off601 v41 k1_t5) a + S1x1x16.size a ≤ S4x32x128.size a) ∧
  (∀ k1_t5 : Fin (k1_t5_loop v41).trips, ∀ a, (k1_off602 v41 k1_t5) a + S1x1x16.size a ≤ S4x32x128.size a) ∧
  (∀ k1_t5 : Fin (k1_t5_loop v41).trips, ∀ a, (k1_off603 v41 k1_t5) a + S1x1x16.size a ≤ S4x32x128.size a) ∧
  (∀ k1_t5 : Fin (k1_t5_loop v41).trips, ∀ a, (k1_off604 v41 k1_t5) a + S1x1x16.size a ≤ S4x32x128.size a) ∧
  (∀ k1_t5 : Fin (k1_t5_loop v41).trips, ∀ (k1_h7 : k1_cond7 v41 k1_t5 = 1#1), ∀ a, (k1_off605 v41 k1_t5) a + S1x32x128.size a ≤ S4x32x128.size a) ∧
  (∀ k1_t5 : Fin (k1_t5_loop v41).trips, ∀ (k1_h7 : k1_cond7 v41 k1_t5 = 1#1), ∀ a, (k1_off606 v41 k1_t5) a + S32.size a ≤ S8032.size a) ∧
  (∀ k1_t5 : Fin (k1_t5_loop v41).trips, ∀ (k1_h7 : k1_cond7 v41 k1_t5 = 1#1), ∀ a, (k1_off607 v41 k1_t5) a + S1.size a ≤ S4.size a)
def k1_chk5 (v41 : BitVec 32) : Prop :=
  k1_chk5_0 v41 ∧
  k1_chk5_1 v41 ∧
  k1_chk5_2 v41 ∧
  k1_chk5_3 v41 ∧
  k1_chk5_4 v41 ∧
  k1_chk5_5 v41 ∧
  k1_chk5_6 v41 ∧
  k1_chk5_7 v41 ∧
  k1_chk5_8 v41 ∧
  k1_chk5_9 v41 ∧
  k1_chk5_10 v41 ∧
  k1_chk5_11 v41 ∧
  k1_chk5_12 v41 ∧
  k1_chk5_13 v41 ∧
  k1_chk5_14 v41 ∧
  k1_chk5_15 v41 ∧
  k1_chk5_16 v41
theorem k1_off6_inb : ∀ (v41 : BitVec 32) (k1_hw5 : k1_chk5 v41), ∀ a, (k1_off6 v41) a + S16.size a ≤ S8032.size a := fun v41 k1_hw5 => k1_hw5.1.1
theorem k1_off7_inb : ∀ (v41 : BitVec 32) (k1_hw5 : k1_chk5 v41), ∀ a, (k1_off7 v41) a + S16.size a ≤ S8032.size a := fun v41 k1_hw5 => k1_hw5.1.2.1
theorem k1_t4_ok : ∀ (v41 : BitVec 32) (k1_hw5 : k1_chk5 v41), (k1_t4_loop v41).OK := fun v41 k1_hw5 => k1_hw5.1.2.2.1
theorem k1_off16_inb : ∀ (v41 : BitVec 32) (k1_hw5 : k1_chk5 v41) (k1_t4 : Fin (k1_t4_loop v41).trips), ∀ a, (k1_off16 v41 k1_t4) a + S1x32x128.size a ≤ S4x32x128.size a := fun v41 k1_hw5 k1_t4 => k1_hw5.1.2.2.2.1 k1_t4
theorem k1_off17_inb : ∀ (v41 : BitVec 32) (k1_hw5 : k1_chk5 v41) (k1_t4 : Fin (k1_t4_loop v41).trips), ∀ a, (k1_off17 v41 k1_t4) a + S32.size a ≤ S8032.size a := fun v41 k1_hw5 k1_t4 => k1_hw5.1.2.2.2.2.1 k1_t4
theorem k1_off18_inb : ∀ (v41 : BitVec 32) (k1_hw5 : k1_chk5 v41) (k1_t4 : Fin (k1_t4_loop v41).trips), ∀ a, (k1_off18 v41 k1_t4) a + S1.size a ≤ S4.size a := fun v41 k1_hw5 k1_t4 => k1_hw5.1.2.2.2.2.2.1 k1_t4
theorem k1_off19_inb : ∀ (v41 : BitVec 32) (k1_hw5 : k1_chk5 v41) (k1_t4 : Fin (k1_t4_loop v41).trips), ∀ a, (k1_off19 v41 k1_t4) a + S16.size a ≤ S8032.size a := fun v41 k1_hw5 k1_t4 => k1_hw5.1.2.2.2.2.2.2.1 k1_t4
theorem k1_off21_inb : ∀ (v41 : BitVec 32) (k1_hw5 : k1_chk5 v41) (k1_t4 : Fin (k1_t4_loop v41).trips), ∀ a, (k1_off21 v41 k1_t4) a + S1x1x16.size a ≤ S4x32x128.size a := fun v41 k1_hw5 k1_t4 => k1_hw5.1.2.2.2.2.2.2.2.1 k1_t4
theorem k1_off22_inb : ∀ (v41 : BitVec 32) (k1_hw5 : k1_chk5 v41) (k1_t4 : Fin (k1_t4_loop v41).trips), ∀ a, (k1_off22 v41 k1_t4) a + S1x1x16.size a ≤ S4x32x128.size a := fun v41 k1_hw5 k1_t4 => k1_hw5.1.2.2.2.2.2.2.2.2.1 k1_t4
theorem k1_off23_inb : ∀ (v41 : BitVec 32) (k1_hw5 : k1_chk5 v41) (k1_t4 : Fin (k1_t4_loop v41).trips), ∀ a, (k1_off23 v41 k1_t4) a + S1x1x16.size a ≤ S4x32x128.size a := fun v41 k1_hw5 k1_t4 => k1_hw5.1.2.2.2.2.2.2.2.2.2.1 k1_t4
theorem k1_off24_inb : ∀ (v41 : BitVec 32) (k1_hw5 : k1_chk5 v41) (k1_t4 : Fin (k1_t4_loop v41).trips), ∀ a, (k1_off24 v41 k1_t4) a + S1x1x16.size a ≤ S4x32x128.size a := fun v41 k1_hw5 k1_t4 => k1_hw5.1.2.2.2.2.2.2.2.2.2.2.1 k1_t4
theorem k1_off25_inb : ∀ (v41 : BitVec 32) (k1_hw5 : k1_chk5 v41) (k1_t4 : Fin (k1_t4_loop v41).trips), ∀ a, (k1_off25 v41 k1_t4) a + S1x1x16.size a ≤ S4x32x128.size a := fun v41 k1_hw5 k1_t4 => k1_hw5.1.2.2.2.2.2.2.2.2.2.2.2.1 k1_t4
theorem k1_off26_inb : ∀ (v41 : BitVec 32) (k1_hw5 : k1_chk5 v41) (k1_t4 : Fin (k1_t4_loop v41).trips), ∀ a, (k1_off26 v41 k1_t4) a + S1x1x16.size a ≤ S4x32x128.size a := fun v41 k1_hw5 k1_t4 => k1_hw5.1.2.2.2.2.2.2.2.2.2.2.2.2.1 k1_t4
theorem k1_off27_inb : ∀ (v41 : BitVec 32) (k1_hw5 : k1_chk5 v41) (k1_t4 : Fin (k1_t4_loop v41).trips), ∀ a, (k1_off27 v41 k1_t4) a + S1x1x16.size a ≤ S4x32x128.size a := fun v41 k1_hw5 k1_t4 => k1_hw5.1.2.2.2.2.2.2.2.2.2.2.2.2.2.1 k1_t4
theorem k1_off28_inb : ∀ (v41 : BitVec 32) (k1_hw5 : k1_chk5 v41) (k1_t4 : Fin (k1_t4_loop v41).trips), ∀ a, (k1_off28 v41 k1_t4) a + S1x1x16.size a ≤ S4x32x128.size a := fun v41 k1_hw5 k1_t4 => k1_hw5.1.2.2.2.2.2.2.2.2.2.2.2.2.2.2.1 k1_t4
theorem k1_off30_inb : ∀ (v41 : BitVec 32) (k1_hw5 : k1_chk5 v41) (k1_t4 : Fin (k1_t4_loop v41).trips), ∀ a, (k1_off30 v41 k1_t4) a + S1x1x16.size a ≤ S4x32x128.size a := fun v41 k1_hw5 k1_t4 => k1_hw5.1.2.2.2.2.2.2.2.2.2.2.2.2.2.2.2.1 k1_t4
theorem k1_off31_inb : ∀ (v41 : BitVec 32) (k1_hw5 : k1_chk5 v41) (k1_t4 : Fin (k1_t4_loop v41).trips), ∀ a, (k1_off31 v41 k1_t4) a + S1x1x16.size a ≤ S4x32x128.size a := fun v41 k1_hw5 k1_t4 => k1_hw5.1.2.2.2.2.2.2.2.2.2.2.2.2.2.2.2.2.1 k1_t4
theorem k1_off32_inb : ∀ (v41 : BitVec 32) (k1_hw5 : k1_chk5 v41) (k1_t4 : Fin (k1_t4_loop v41).trips), ∀ a, (k1_off32 v41 k1_t4) a + S1x1x16.size a ≤ S4x32x128.size a := fun v41 k1_hw5 k1_t4 => k1_hw5.1.2.2.2.2.2.2.2.2.2.2.2.2.2.2.2.2.2.1 k1_t4
theorem k1_off33_inb : ∀ (v41 : BitVec 32) (k1_hw5 : k1_chk5 v41) (k1_t4 : Fin (k1_t4_loop v41).trips), ∀ a, (k1_off33 v41 k1_t4) a + S1x1x16.size a ≤ S4x32x128.size a := fun v41 k1_hw5 k1_t4 => k1_hw5.1.2.2.2.2.2.2.2.2.2.2.2.2.2.2.2.2.2.2.1 k1_t4
theorem k1_off34_inb : ∀ (v41 : BitVec 32) (k1_hw5 : k1_chk5 v41) (k1_t4 : Fin (k1_t4_loop v41).trips), ∀ a, (k1_off34 v41 k1_t4) a + S1x1x16.size a ≤ S4x32x128.size a := fun v41 k1_hw5 k1_t4 => k1_hw5.1.2.2.2.2.2.2.2.2.2.2.2.2.2.2.2.2.2.2.2.1 k1_t4
theorem k1_off35_inb : ∀ (v41 : BitVec 32) (k1_hw5 : k1_chk5 v41) (k1_t4 : Fin (k1_t4_loop v41).trips), ∀ a, (k1_off35 v41 k1_t4) a + S1x1x16.size a ≤ S4x32x128.size a := fun v41 k1_hw5 k1_t4 => k1_hw5.1.2.2.2.2.2.2.2.2.2.2.2.2.2.2.2.2.2.2.2.2.1 k1_t4
theorem k1_off36_inb : ∀ (v41 : BitVec 32) (k1_hw5 : k1_chk5 v41) (k1_t4 : Fin (k1_t4_loop v41).trips), ∀ a, (k1_off36 v41 k1_t4) a + S1x1x16.size a ≤ S4x32x128.size a := fun v41 k1_hw5 k1_t4 => k1_hw5.1.2.2.2.2.2.2.2.2.2.2.2.2.2.2.2.2.2.2.2.2.2.1 k1_t4
theorem k1_off37_inb : ∀ (v41 : BitVec 32) (k1_hw5 : k1_chk5 v41) (k1_t4 : Fin (k1_t4_loop v41).trips), ∀ a, (k1_off37 v41 k1_t4) a + S1x1x16.size a ≤ S4x32x128.size a := fun v41 k1_hw5 k1_t4 => k1_hw5.1.2.2.2.2.2.2.2.2.2.2.2.2.2.2.2.2.2.2.2.2.2.2.1 k1_t4
theorem k1_off39_inb : ∀ (v41 : BitVec 32) (k1_hw5 : k1_chk5 v41) (k1_t4 : Fin (k1_t4_loop v41).trips), ∀ a, (k1_off39 v41 k1_t4) a + S1x1x16.size a ≤ S4x32x128.size a := fun v41 k1_hw5 k1_t4 => k1_hw5.1.2.2.2.2.2.2.2.2.2.2.2.2.2.2.2.2.2.2.2.2.2.2.2.1 k1_t4
theorem k1_off40_inb : ∀ (v41 : BitVec 32) (k1_hw5 : k1_chk5 v41) (k1_t4 : Fin (k1_t4_loop v41).trips), ∀ a, (k1_off40 v41 k1_t4) a + S1x1x16.size a ≤ S4x32x128.size a := fun v41 k1_hw5 k1_t4 => k1_hw5.1.2.2.2.2.2.2.2.2.2.2.2.2.2.2.2.2.2.2.2.2.2.2.2.2.1 k1_t4
theorem k1_off41_inb : ∀ (v41 : BitVec 32) (k1_hw5 : k1_chk5 v41) (k1_t4 : Fin (k1_t4_loop v41).trips), ∀ a, (k1_off41 v41 k1_t4) a + S1x1x16.size a ≤ S4x32x128.size a := fun v41 k1_hw5 k1_t4 => k1_hw5.1.2.2.2.2.2.2.2.2.2.2.2.2.2.2.2.2.2.2.2.2.2.2.2.2.2.1 k1_t4
theorem k1_off42_inb : ∀ (v41 : BitVec 32) (k1_hw5 : k1_chk5 v41) (k1_t4 : Fin (k1_t4_loop v41).trips), ∀ a, (k1_off42 v41 k1_t4) a + S1x1x16.size a ≤ S4x32x128.size a := fun v41 k1_hw5 k1_t4 => k1_hw5.1.2.2.2.2.2.2.2.2.2.2.2.2.2.2.2.2.2.2.2.2.2.2.2.2.2.2.1 k1_t4
theorem k1_off43_inb : ∀ (v41 : BitVec 32) (k1_hw5 : k1_chk5 v41) (k1_t4 : Fin (k1_t4_loop v41).trips), ∀ a, (k1_off43 v41 k1_t4) a + S1x1x16.size a ≤ S4x32x128.size a := fun v41 k1_hw5 k1_t4 => k1_hw5.1.2.2.2.2.2.2.2.2.2.2.2.2.2.2.2.2.2.2.2.2.2.2.2.2.2.2.2.1 k1_t4
theorem k1_off44_inb : ∀ (v41 : BitVec 32) (k1_hw5 : k1_chk5 v41) (k1_t4 : Fin (k1_t4_loop v41).trips), ∀ a, (k1_off44 v41 k1_t4) a + S1x1x16.size a ≤ S4x32x128.size a := fun v41 k1_hw5 k1_t4 => k1_hw5.1.2.2.2.2.2.2.2.2.2.2.2.2.2.2.2.2.2.2.2.2.2.2.2.2.2.2.2.2.1 k1_t4
theorem k1_off45_inb : ∀ (v41 : BitVec 32) (k1_hw5 : k1_chk5 v41) (k1_t4 : Fin (k1_t4_loop v41).trips), ∀ a, (k1_off45 v41 k1_t4) a + S1x1x16.size a ≤ S4x32x128.size a := fun v41 k1_hw5 k1_t4 => k1_hw5.1.2.2.2.2.2.2.2.2.2.2.2.2.2.2.2.2.2.2.2.2.2.2.2.2.2.2.2.2.2.1 k1_t4
theorem k1_off46_inb : ∀ (v41 : BitVec 32) (k1_hw5 : k1_chk5 v41) (k1_t4 : Fin (k1_t4_loop v41).trips), ∀ a, (k1_off46 v41 k1_t4) a + S1x1x16.size a ≤ S4x32x128.size a := fun v41 k1_hw5 k1_t4 => k1_hw5.1.2.2.2.2.2.2.2.2.2.2.2.2.2.2.2.2.2.2.2.2.2.2.2.2.2.2.2.2.2.2.1 k1_t4
theorem k1_off48_inb : ∀ (v41 : BitVec 32) (k1_hw5 : k1_chk5 v41) (k1_t4 : Fin (k1_t4_loop v41).trips), ∀ a, (k1_off48 v41 k1_t4) a + S1x1x16.size a ≤ S4x32x128.size a := fun v41 k1_hw5 k1_t4 => k1_hw5.1.2.2.2.2.2.2.2.2.2.2.2.2.2.2.2.2.2.2.2.2.2.2.2.2.2.2.2.2.2.2.2 k1_t4
theorem k1_off49_inb : ∀ (v41 : BitVec 32) (k1_hw5 : k1_chk5 v41) (k1_t4 : Fin (k1_t4_loop v41).trips), ∀ a, (k1_off49 v41 k1_t4) a + S1x1x16.size a ≤ S4x32x128.size a := fun v41 k1_hw5 k1_t4 => k1_hw5.2.1.1 k1_t4
theorem k1_off50_inb : ∀ (v41 : BitVec 32) (k1_hw5 : k1_chk5 v41) (k1_t4 : Fin (k1_t4_loop v41).trips), ∀ a, (k1_off50 v41 k1_t4) a + S1x1x16.size a ≤ S4x32x128.size a := fun v41 k1_hw5 k1_t4 => k1_hw5.2.1.2.1 k1_t4
theorem k1_off51_inb : ∀ (v41 : BitVec 32) (k1_hw5 : k1_chk5 v41) (k1_t4 : Fin (k1_t4_loop v41).trips), ∀ a, (k1_off51 v41 k1_t4) a + S1x1x16.size a ≤ S4x32x128.size a := fun v41 k1_hw5 k1_t4 => k1_hw5.2.1.2.2.1 k1_t4
theorem k1_off52_inb : ∀ (v41 : BitVec 32) (k1_hw5 : k1_chk5 v41) (k1_t4 : Fin (k1_t4_loop v41).trips), ∀ a, (k1_off52 v41 k1_t4) a + S1x1x16.size a ≤ S4x32x128.size a := fun v41 k1_hw5 k1_t4 => k1_hw5.2.1.2.2.2.1 k1_t4
theorem k1_off53_inb : ∀ (v41 : BitVec 32) (k1_hw5 : k1_chk5 v41) (k1_t4 : Fin (k1_t4_loop v41).trips), ∀ a, (k1_off53 v41 k1_t4) a + S1x1x16.size a ≤ S4x32x128.size a := fun v41 k1_hw5 k1_t4 => k1_hw5.2.1.2.2.2.2.1 k1_t4
theorem k1_off54_inb : ∀ (v41 : BitVec 32) (k1_hw5 : k1_chk5 v41) (k1_t4 : Fin (k1_t4_loop v41).trips), ∀ a, (k1_off54 v41 k1_t4) a + S1x1x16.size a ≤ S4x32x128.size a := fun v41 k1_hw5 k1_t4 => k1_hw5.2.1.2.2.2.2.2.1 k1_t4
theorem k1_off55_inb : ∀ (v41 : BitVec 32) (k1_hw5 : k1_chk5 v41) (k1_t4 : Fin (k1_t4_loop v41).trips), ∀ a, (k1_off55 v41 k1_t4) a + S1x1x16.size a ≤ S4x32x128.size a := fun v41 k1_hw5 k1_t4 => k1_hw5.2.1.2.2.2.2.2.2.1 k1_t4
theorem k1_off57_inb : ∀ (v41 : BitVec 32) (k1_hw5 : k1_chk5 v41) (k1_t4 : Fin (k1_t4_loop v41).trips), ∀ a, (k1_off57 v41 k1_t4) a + S1x1x16.size a ≤ S4x32x128.size a := fun v41 k1_hw5 k1_t4 => k1_hw5.2.1.2.2.2.2.2.2.2.1 k1_t4
theorem k1_off58_inb : ∀ (v41 : BitVec 32) (k1_hw5 : k1_chk5 v41) (k1_t4 : Fin (k1_t4_loop v41).trips), ∀ a, (k1_off58 v41 k1_t4) a + S1x1x16.size a ≤ S4x32x128.size a := fun v41 k1_hw5 k1_t4 => k1_hw5.2.1.2.2.2.2.2.2.2.2.1 k1_t4
theorem k1_off59_inb : ∀ (v41 : BitVec 32) (k1_hw5 : k1_chk5 v41) (k1_t4 : Fin (k1_t4_loop v41).trips), ∀ a, (k1_off59 v41 k1_t4) a + S1x1x16.size a ≤ S4x32x128.size a := fun v41 k1_hw5 k1_t4 => k1_hw5.2.1.2.2.2.2.2.2.2.2.2.1 k1_t4
theorem k1_off60_inb : ∀ (v41 : BitVec 32) (k1_hw5 : k1_chk5 v41) (k1_t4 : Fin (k1_t4_loop v41).trips), ∀ a, (k1_off60 v41 k1_t4) a + S1x1x16.size a ≤ S4x32x128.size a := fun v41 k1_hw5 k1_t4 => k1_hw5.2.1.2.2.2.2.2.2.2.2.2.2.1 k1_t4
theorem k1_off61_inb : ∀ (v41 : BitVec 32) (k1_hw5 : k1_chk5 v41) (k1_t4 : Fin (k1_t4_loop v41).trips), ∀ a, (k1_off61 v41 k1_t4) a + S1x1x16.size a ≤ S4x32x128.size a := fun v41 k1_hw5 k1_t4 => k1_hw5.2.1.2.2.2.2.2.2.2.2.2.2.2.1 k1_t4
theorem k1_off62_inb : ∀ (v41 : BitVec 32) (k1_hw5 : k1_chk5 v41) (k1_t4 : Fin (k1_t4_loop v41).trips), ∀ a, (k1_off62 v41 k1_t4) a + S1x1x16.size a ≤ S4x32x128.size a := fun v41 k1_hw5 k1_t4 => k1_hw5.2.1.2.2.2.2.2.2.2.2.2.2.2.2.1 k1_t4
theorem k1_off63_inb : ∀ (v41 : BitVec 32) (k1_hw5 : k1_chk5 v41) (k1_t4 : Fin (k1_t4_loop v41).trips), ∀ a, (k1_off63 v41 k1_t4) a + S1x1x16.size a ≤ S4x32x128.size a := fun v41 k1_hw5 k1_t4 => k1_hw5.2.1.2.2.2.2.2.2.2.2.2.2.2.2.2.1 k1_t4
theorem k1_off64_inb : ∀ (v41 : BitVec 32) (k1_hw5 : k1_chk5 v41) (k1_t4 : Fin (k1_t4_loop v41).trips), ∀ a, (k1_off64 v41 k1_t4) a + S1x1x16.size a ≤ S4x32x128.size a := fun v41 k1_hw5 k1_t4 => k1_hw5.2.1.2.2.2.2.2.2.2.2.2.2.2.2.2.2.1 k1_t4
theorem k1_off66_inb : ∀ (v41 : BitVec 32) (k1_hw5 : k1_chk5 v41) (k1_t4 : Fin (k1_t4_loop v41).trips), ∀ a, (k1_off66 v41 k1_t4) a + S1x1x16.size a ≤ S4x32x128.size a := fun v41 k1_hw5 k1_t4 => k1_hw5.2.1.2.2.2.2.2.2.2.2.2.2.2.2.2.2.2.1 k1_t4
theorem k1_off67_inb : ∀ (v41 : BitVec 32) (k1_hw5 : k1_chk5 v41) (k1_t4 : Fin (k1_t4_loop v41).trips), ∀ a, (k1_off67 v41 k1_t4) a + S1x1x16.size a ≤ S4x32x128.size a := fun v41 k1_hw5 k1_t4 => k1_hw5.2.1.2.2.2.2.2.2.2.2.2.2.2.2.2.2.2.2.1 k1_t4
theorem k1_off68_inb : ∀ (v41 : BitVec 32) (k1_hw5 : k1_chk5 v41) (k1_t4 : Fin (k1_t4_loop v41).trips), ∀ a, (k1_off68 v41 k1_t4) a + S1x1x16.size a ≤ S4x32x128.size a := fun v41 k1_hw5 k1_t4 => k1_hw5.2.1.2.2.2.2.2.2.2.2.2.2.2.2.2.2.2.2.2.1 k1_t4
theorem k1_off69_inb : ∀ (v41 : BitVec 32) (k1_hw5 : k1_chk5 v41) (k1_t4 : Fin (k1_t4_loop v41).trips), ∀ a, (k1_off69 v41 k1_t4) a + S1x1x16.size a ≤ S4x32x128.size a := fun v41 k1_hw5 k1_t4 => k1_hw5.2.1.2.2.2.2.2.2.2.2.2.2.2.2.2.2.2.2.2.2.1 k1_t4
theorem k1_off70_inb : ∀ (v41 : BitVec 32) (k1_hw5 : k1_chk5 v41) (k1_t4 : Fin (k1_t4_loop v41).trips), ∀ a, (k1_off70 v41 k1_t4) a + S1x1x16.size a ≤ S4x32x128.size a := fun v41 k1_hw5 k1_t4 => k1_hw5.2.1.2.2.2.2.2.2.2.2.2.2.2.2.2.2.2.2.2.2.2.1 k1_t4
theorem k1_off71_inb : ∀ (v41 : BitVec 32) (k1_hw5 : k1_chk5 v41) (k1_t4 : Fin (k1_t4_loop v41).trips), ∀ a, (k1_off71 v41 k1_t4) a + S1x1x16.size a ≤ S4x32x128.size a := fun v41 k1_hw5 k1_t4 => k1_hw5.2.1.2.2.2.2.2.2.2.2.2.2.2.2.2.2.2.2.2.2.2.2.1 k1_t4
theorem k1_off72_inb : ∀ (v41 : BitVec 32) (k1_hw5 : k1_chk5 v41) (k1_t4 : Fin (k1_t4_loop v41).trips), ∀ a, (k1_off72 v41 k1_t4) a + S1x1x16.size a ≤ S4x32x128.size a := fun v41 k1_hw5 k1_t4 => k1_hw5.2.1.2.2.2.2.2.2.2.2.2.2.2.2.2.2.2.2.2.2.2.2.2.1 k1_t4
theorem k1_off73_inb : ∀ (v41 : BitVec 32) (k1_hw5 : k1_chk5 v41) (k1_t4 : Fin (k1_t4_loop v41).trips), ∀ a, (k1_off73 v41 k1_t4) a + S1x1x16.size a ≤ S4x32x128.size a := fun v41 k1_hw5 k1_t4 => k1_hw5.2.1.2.2.2.2.2.2.2.2.2.2.2.2.2.2.2.2.2.2.2.2.2.2.1 k1_t4
theorem k1_off75_inb : ∀ (v41 : BitVec 32) (k1_hw5 : k1_chk5 v41) (k1_t4 : Fin (k1_t4_loop v41).trips), ∀ a, (k1_off75 v41 k1_t4) a + S1x1x16.size a ≤ S4x32x128.size a := fun v41 k1_hw5 k1_t4 => k1_hw5.2.1.2.2.2.2.2.2.2.2.2.2.2.2.2.2.2.2.2.2.2.2.2.2.2.1 k1_t4
theorem k1_off76_inb : ∀ (v41 : BitVec 32) (k1_hw5 : k1_chk5 v41) (k1_t4 : Fin (k1_t4_loop v41).trips), ∀ a, (k1_off76 v41 k1_t4) a + S1x1x16.size a ≤ S4x32x128.size a := fun v41 k1_hw5 k1_t4 => k1_hw5.2.1.2.2.2.2.2.2.2.2.2.2.2.2.2.2.2.2.2.2.2.2.2.2.2.2.1 k1_t4
theorem k1_off77_inb : ∀ (v41 : BitVec 32) (k1_hw5 : k1_chk5 v41) (k1_t4 : Fin (k1_t4_loop v41).trips), ∀ a, (k1_off77 v41 k1_t4) a + S1x1x16.size a ≤ S4x32x128.size a := fun v41 k1_hw5 k1_t4 => k1_hw5.2.1.2.2.2.2.2.2.2.2.2.2.2.2.2.2.2.2.2.2.2.2.2.2.2.2.2.1 k1_t4
theorem k1_off78_inb : ∀ (v41 : BitVec 32) (k1_hw5 : k1_chk5 v41) (k1_t4 : Fin (k1_t4_loop v41).trips), ∀ a, (k1_off78 v41 k1_t4) a + S1x1x16.size a ≤ S4x32x128.size a := fun v41 k1_hw5 k1_t4 => k1_hw5.2.1.2.2.2.2.2.2.2.2.2.2.2.2.2.2.2.2.2.2.2.2.2.2.2.2.2.2.1 k1_t4
theorem k1_off79_inb : ∀ (v41 : BitVec 32) (k1_hw5 : k1_chk5 v41) (k1_t4 : Fin (k1_t4_loop v41).trips), ∀ a, (k1_off79 v41 k1_t4) a + S1x1x16.size a ≤ S4x32x128.size a := fun v41 k1_hw5 k1_t4 => k1_hw5.2.1.2.2.2.2.2.2.2.2.2.2.2.2.2.2.2.2.2.2.2.2.2.2.2.2.2.2.2.1 k1_t4
theorem k1_off80_inb : ∀ (v41 : BitVec 32) (k1_hw5 : k1_chk5 v41) (k1_t4 : Fin (k1_t4_loop v41).trips), ∀ a, (k1_off80 v41 k1_t4) a + S1x1x16.size a ≤ S4x32x128.size a := fun v41 k1_hw5 k1_t4 => k1_hw5.2.1.2.2.2.2.2.2.2.2.2.2.2.2.2.2.2.2.2.2.2.2.2.2.2.2.2.2.2.2.1 k1_t4
theorem k1_off81_inb : ∀ (v41 : BitVec 32) (k1_hw5 : k1_chk5 v41) (k1_t4 : Fin (k1_t4_loop v41).trips), ∀ a, (k1_off81 v41 k1_t4) a + S1x1x16.size a ≤ S4x32x128.size a := fun v41 k1_hw5 k1_t4 => k1_hw5.2.1.2.2.2.2.2.2.2.2.2.2.2.2.2.2.2.2.2.2.2.2.2.2.2.2.2.2.2.2.2.1 k1_t4
theorem k1_off82_inb : ∀ (v41 : BitVec 32) (k1_hw5 : k1_chk5 v41) (k1_t4 : Fin (k1_t4_loop v41).trips), ∀ a, (k1_off82 v41 k1_t4) a + S1x1x16.size a ≤ S4x32x128.size a := fun v41 k1_hw5 k1_t4 => k1_hw5.2.1.2.2.2.2.2.2.2.2.2.2.2.2.2.2.2.2.2.2.2.2.2.2.2.2.2.2.2.2.2.2.1 k1_t4
theorem k1_off84_inb : ∀ (v41 : BitVec 32) (k1_hw5 : k1_chk5 v41) (k1_t4 : Fin (k1_t4_loop v41).trips), ∀ a, (k1_off84 v41 k1_t4) a + S1x1x16.size a ≤ S4x32x128.size a := fun v41 k1_hw5 k1_t4 => k1_hw5.2.1.2.2.2.2.2.2.2.2.2.2.2.2.2.2.2.2.2.2.2.2.2.2.2.2.2.2.2.2.2.2.2 k1_t4
theorem k1_off85_inb : ∀ (v41 : BitVec 32) (k1_hw5 : k1_chk5 v41) (k1_t4 : Fin (k1_t4_loop v41).trips), ∀ a, (k1_off85 v41 k1_t4) a + S1x1x16.size a ≤ S4x32x128.size a := fun v41 k1_hw5 k1_t4 => k1_hw5.2.2.1.1 k1_t4
theorem k1_off86_inb : ∀ (v41 : BitVec 32) (k1_hw5 : k1_chk5 v41) (k1_t4 : Fin (k1_t4_loop v41).trips), ∀ a, (k1_off86 v41 k1_t4) a + S1x1x16.size a ≤ S4x32x128.size a := fun v41 k1_hw5 k1_t4 => k1_hw5.2.2.1.2.1 k1_t4
theorem k1_off87_inb : ∀ (v41 : BitVec 32) (k1_hw5 : k1_chk5 v41) (k1_t4 : Fin (k1_t4_loop v41).trips), ∀ a, (k1_off87 v41 k1_t4) a + S1x1x16.size a ≤ S4x32x128.size a := fun v41 k1_hw5 k1_t4 => k1_hw5.2.2.1.2.2.1 k1_t4
theorem k1_off88_inb : ∀ (v41 : BitVec 32) (k1_hw5 : k1_chk5 v41) (k1_t4 : Fin (k1_t4_loop v41).trips), ∀ a, (k1_off88 v41 k1_t4) a + S1x1x16.size a ≤ S4x32x128.size a := fun v41 k1_hw5 k1_t4 => k1_hw5.2.2.1.2.2.2.1 k1_t4
theorem k1_off89_inb : ∀ (v41 : BitVec 32) (k1_hw5 : k1_chk5 v41) (k1_t4 : Fin (k1_t4_loop v41).trips), ∀ a, (k1_off89 v41 k1_t4) a + S1x1x16.size a ≤ S4x32x128.size a := fun v41 k1_hw5 k1_t4 => k1_hw5.2.2.1.2.2.2.2.1 k1_t4
theorem k1_off90_inb : ∀ (v41 : BitVec 32) (k1_hw5 : k1_chk5 v41) (k1_t4 : Fin (k1_t4_loop v41).trips), ∀ a, (k1_off90 v41 k1_t4) a + S1x1x16.size a ≤ S4x32x128.size a := fun v41 k1_hw5 k1_t4 => k1_hw5.2.2.1.2.2.2.2.2.1 k1_t4
theorem k1_off91_inb : ∀ (v41 : BitVec 32) (k1_hw5 : k1_chk5 v41) (k1_t4 : Fin (k1_t4_loop v41).trips), ∀ a, (k1_off91 v41 k1_t4) a + S1x1x16.size a ≤ S4x32x128.size a := fun v41 k1_hw5 k1_t4 => k1_hw5.2.2.1.2.2.2.2.2.2.1 k1_t4
theorem k1_off93_inb : ∀ (v41 : BitVec 32) (k1_hw5 : k1_chk5 v41) (k1_t4 : Fin (k1_t4_loop v41).trips), ∀ a, (k1_off93 v41 k1_t4) a + S1x1x16.size a ≤ S4x32x128.size a := fun v41 k1_hw5 k1_t4 => k1_hw5.2.2.1.2.2.2.2.2.2.2.1 k1_t4
theorem k1_off94_inb : ∀ (v41 : BitVec 32) (k1_hw5 : k1_chk5 v41) (k1_t4 : Fin (k1_t4_loop v41).trips), ∀ a, (k1_off94 v41 k1_t4) a + S1x1x16.size a ≤ S4x32x128.size a := fun v41 k1_hw5 k1_t4 => k1_hw5.2.2.1.2.2.2.2.2.2.2.2.1 k1_t4
theorem k1_off95_inb : ∀ (v41 : BitVec 32) (k1_hw5 : k1_chk5 v41) (k1_t4 : Fin (k1_t4_loop v41).trips), ∀ a, (k1_off95 v41 k1_t4) a + S1x1x16.size a ≤ S4x32x128.size a := fun v41 k1_hw5 k1_t4 => k1_hw5.2.2.1.2.2.2.2.2.2.2.2.2.1 k1_t4
theorem k1_off96_inb : ∀ (v41 : BitVec 32) (k1_hw5 : k1_chk5 v41) (k1_t4 : Fin (k1_t4_loop v41).trips), ∀ a, (k1_off96 v41 k1_t4) a + S1x1x16.size a ≤ S4x32x128.size a := fun v41 k1_hw5 k1_t4 => k1_hw5.2.2.1.2.2.2.2.2.2.2.2.2.2.1 k1_t4
theorem k1_off97_inb : ∀ (v41 : BitVec 32) (k1_hw5 : k1_chk5 v41) (k1_t4 : Fin (k1_t4_loop v41).trips), ∀ a, (k1_off97 v41 k1_t4) a + S1x1x16.size a ≤ S4x32x128.size a := fun v41 k1_hw5 k1_t4 => k1_hw5.2.2.1.2.2.2.2.2.2.2.2.2.2.2.1 k1_t4
theorem k1_off98_inb : ∀ (v41 : BitVec 32) (k1_hw5 : k1_chk5 v41) (k1_t4 : Fin (k1_t4_loop v41).trips), ∀ a, (k1_off98 v41 k1_t4) a + S1x1x16.size a ≤ S4x32x128.size a := fun v41 k1_hw5 k1_t4 => k1_hw5.2.2.1.2.2.2.2.2.2.2.2.2.2.2.2.1 k1_t4
theorem k1_off99_inb : ∀ (v41 : BitVec 32) (k1_hw5 : k1_chk5 v41) (k1_t4 : Fin (k1_t4_loop v41).trips), ∀ a, (k1_off99 v41 k1_t4) a + S1x1x16.size a ≤ S4x32x128.size a := fun v41 k1_hw5 k1_t4 => k1_hw5.2.2.1.2.2.2.2.2.2.2.2.2.2.2.2.2.1 k1_t4
theorem k1_off100_inb : ∀ (v41 : BitVec 32) (k1_hw5 : k1_chk5 v41) (k1_t4 : Fin (k1_t4_loop v41).trips), ∀ a, (k1_off100 v41 k1_t4) a + S1x1x16.size a ≤ S4x32x128.size a := fun v41 k1_hw5 k1_t4 => k1_hw5.2.2.1.2.2.2.2.2.2.2.2.2.2.2.2.2.2.1 k1_t4
theorem k1_off102_inb : ∀ (v41 : BitVec 32) (k1_hw5 : k1_chk5 v41) (k1_t4 : Fin (k1_t4_loop v41).trips), ∀ a, (k1_off102 v41 k1_t4) a + S1x1x16.size a ≤ S4x32x128.size a := fun v41 k1_hw5 k1_t4 => k1_hw5.2.2.1.2.2.2.2.2.2.2.2.2.2.2.2.2.2.2.1 k1_t4
theorem k1_off103_inb : ∀ (v41 : BitVec 32) (k1_hw5 : k1_chk5 v41) (k1_t4 : Fin (k1_t4_loop v41).trips), ∀ a, (k1_off103 v41 k1_t4) a + S1x1x16.size a ≤ S4x32x128.size a := fun v41 k1_hw5 k1_t4 => k1_hw5.2.2.1.2.2.2.2.2.2.2.2.2.2.2.2.2.2.2.2.1 k1_t4
theorem k1_off104_inb : ∀ (v41 : BitVec 32) (k1_hw5 : k1_chk5 v41) (k1_t4 : Fin (k1_t4_loop v41).trips), ∀ a, (k1_off104 v41 k1_t4) a + S1x1x16.size a ≤ S4x32x128.size a := fun v41 k1_hw5 k1_t4 => k1_hw5.2.2.1.2.2.2.2.2.2.2.2.2.2.2.2.2.2.2.2.2.1 k1_t4
theorem k1_off105_inb : ∀ (v41 : BitVec 32) (k1_hw5 : k1_chk5 v41) (k1_t4 : Fin (k1_t4_loop v41).trips), ∀ a, (k1_off105 v41 k1_t4) a + S1x1x16.size a ≤ S4x32x128.size a := fun v41 k1_hw5 k1_t4 => k1_hw5.2.2.1.2.2.2.2.2.2.2.2.2.2.2.2.2.2.2.2.2.2.1 k1_t4
theorem k1_off106_inb : ∀ (v41 : BitVec 32) (k1_hw5 : k1_chk5 v41) (k1_t4 : Fin (k1_t4_loop v41).trips), ∀ a, (k1_off106 v41 k1_t4) a + S1x1x16.size a ≤ S4x32x128.size a := fun v41 k1_hw5 k1_t4 => k1_hw5.2.2.1.2.2.2.2.2.2.2.2.2.2.2.2.2.2.2.2.2.2.2.1 k1_t4
theorem k1_off107_inb : ∀ (v41 : BitVec 32) (k1_hw5 : k1_chk5 v41) (k1_t4 : Fin (k1_t4_loop v41).trips), ∀ a, (k1_off107 v41 k1_t4) a + S1x1x16.size a ≤ S4x32x128.size a := fun v41 k1_hw5 k1_t4 => k1_hw5.2.2.1.2.2.2.2.2.2.2.2.2.2.2.2.2.2.2.2.2.2.2.2.1 k1_t4
theorem k1_off108_inb : ∀ (v41 : BitVec 32) (k1_hw5 : k1_chk5 v41) (k1_t4 : Fin (k1_t4_loop v41).trips), ∀ a, (k1_off108 v41 k1_t4) a + S1x1x16.size a ≤ S4x32x128.size a := fun v41 k1_hw5 k1_t4 => k1_hw5.2.2.1.2.2.2.2.2.2.2.2.2.2.2.2.2.2.2.2.2.2.2.2.2.1 k1_t4
theorem k1_off109_inb : ∀ (v41 : BitVec 32) (k1_hw5 : k1_chk5 v41) (k1_t4 : Fin (k1_t4_loop v41).trips), ∀ a, (k1_off109 v41 k1_t4) a + S1x1x16.size a ≤ S4x32x128.size a := fun v41 k1_hw5 k1_t4 => k1_hw5.2.2.1.2.2.2.2.2.2.2.2.2.2.2.2.2.2.2.2.2.2.2.2.2.2.1 k1_t4
theorem k1_off111_inb : ∀ (v41 : BitVec 32) (k1_hw5 : k1_chk5 v41) (k1_t4 : Fin (k1_t4_loop v41).trips), ∀ a, (k1_off111 v41 k1_t4) a + S1x1x16.size a ≤ S4x32x128.size a := fun v41 k1_hw5 k1_t4 => k1_hw5.2.2.1.2.2.2.2.2.2.2.2.2.2.2.2.2.2.2.2.2.2.2.2.2.2.2.1 k1_t4
theorem k1_off112_inb : ∀ (v41 : BitVec 32) (k1_hw5 : k1_chk5 v41) (k1_t4 : Fin (k1_t4_loop v41).trips), ∀ a, (k1_off112 v41 k1_t4) a + S1x1x16.size a ≤ S4x32x128.size a := fun v41 k1_hw5 k1_t4 => k1_hw5.2.2.1.2.2.2.2.2.2.2.2.2.2.2.2.2.2.2.2.2.2.2.2.2.2.2.2.1 k1_t4
theorem k1_off113_inb : ∀ (v41 : BitVec 32) (k1_hw5 : k1_chk5 v41) (k1_t4 : Fin (k1_t4_loop v41).trips), ∀ a, (k1_off113 v41 k1_t4) a + S1x1x16.size a ≤ S4x32x128.size a := fun v41 k1_hw5 k1_t4 => k1_hw5.2.2.1.2.2.2.2.2.2.2.2.2.2.2.2.2.2.2.2.2.2.2.2.2.2.2.2.2.1 k1_t4
theorem k1_off114_inb : ∀ (v41 : BitVec 32) (k1_hw5 : k1_chk5 v41) (k1_t4 : Fin (k1_t4_loop v41).trips), ∀ a, (k1_off114 v41 k1_t4) a + S1x1x16.size a ≤ S4x32x128.size a := fun v41 k1_hw5 k1_t4 => k1_hw5.2.2.1.2.2.2.2.2.2.2.2.2.2.2.2.2.2.2.2.2.2.2.2.2.2.2.2.2.2.1 k1_t4
theorem k1_off115_inb : ∀ (v41 : BitVec 32) (k1_hw5 : k1_chk5 v41) (k1_t4 : Fin (k1_t4_loop v41).trips), ∀ a, (k1_off115 v41 k1_t4) a + S1x1x16.size a ≤ S4x32x128.size a := fun v41 k1_hw5 k1_t4 => k1_hw5.2.2.1.2.2.2.2.2.2.2.2.2.2.2.2.2.2.2.2.2.2.2.2.2.2.2.2.2.2.2.1 k1_t4
theorem k1_off116_inb : ∀ (v41 : BitVec 32) (k1_hw5 : k1_chk5 v41) (k1_t4 : Fin (k1_t4_loop v41).trips), ∀ a, (k1_off116 v41 k1_t4) a + S1x1x16.size a ≤ S4x32x128.size a := fun v41 k1_hw5 k1_t4 => k1_hw5.2.2.1.2.2.2.2.2.2.2.2.2.2.2.2.2.2.2.2.2.2.2.2.2.2.2.2.2.2.2.2.1 k1_t4
theorem k1_off117_inb : ∀ (v41 : BitVec 32) (k1_hw5 : k1_chk5 v41) (k1_t4 : Fin (k1_t4_loop v41).trips), ∀ a, (k1_off117 v41 k1_t4) a + S1x1x16.size a ≤ S4x32x128.size a := fun v41 k1_hw5 k1_t4 => k1_hw5.2.2.1.2.2.2.2.2.2.2.2.2.2.2.2.2.2.2.2.2.2.2.2.2.2.2.2.2.2.2.2.2.1 k1_t4
theorem k1_off118_inb : ∀ (v41 : BitVec 32) (k1_hw5 : k1_chk5 v41) (k1_t4 : Fin (k1_t4_loop v41).trips), ∀ a, (k1_off118 v41 k1_t4) a + S1x1x16.size a ≤ S4x32x128.size a := fun v41 k1_hw5 k1_t4 => k1_hw5.2.2.1.2.2.2.2.2.2.2.2.2.2.2.2.2.2.2.2.2.2.2.2.2.2.2.2.2.2.2.2.2.2.1 k1_t4
theorem k1_off120_inb : ∀ (v41 : BitVec 32) (k1_hw5 : k1_chk5 v41) (k1_t4 : Fin (k1_t4_loop v41).trips), ∀ a, (k1_off120 v41 k1_t4) a + S1x1x16.size a ≤ S4x32x128.size a := fun v41 k1_hw5 k1_t4 => k1_hw5.2.2.1.2.2.2.2.2.2.2.2.2.2.2.2.2.2.2.2.2.2.2.2.2.2.2.2.2.2.2.2.2.2.2 k1_t4
theorem k1_off121_inb : ∀ (v41 : BitVec 32) (k1_hw5 : k1_chk5 v41) (k1_t4 : Fin (k1_t4_loop v41).trips), ∀ a, (k1_off121 v41 k1_t4) a + S1x1x16.size a ≤ S4x32x128.size a := fun v41 k1_hw5 k1_t4 => k1_hw5.2.2.2.1.1 k1_t4
theorem k1_off122_inb : ∀ (v41 : BitVec 32) (k1_hw5 : k1_chk5 v41) (k1_t4 : Fin (k1_t4_loop v41).trips), ∀ a, (k1_off122 v41 k1_t4) a + S1x1x16.size a ≤ S4x32x128.size a := fun v41 k1_hw5 k1_t4 => k1_hw5.2.2.2.1.2.1 k1_t4
theorem k1_off123_inb : ∀ (v41 : BitVec 32) (k1_hw5 : k1_chk5 v41) (k1_t4 : Fin (k1_t4_loop v41).trips), ∀ a, (k1_off123 v41 k1_t4) a + S1x1x16.size a ≤ S4x32x128.size a := fun v41 k1_hw5 k1_t4 => k1_hw5.2.2.2.1.2.2.1 k1_t4
theorem k1_off124_inb : ∀ (v41 : BitVec 32) (k1_hw5 : k1_chk5 v41) (k1_t4 : Fin (k1_t4_loop v41).trips), ∀ a, (k1_off124 v41 k1_t4) a + S1x1x16.size a ≤ S4x32x128.size a := fun v41 k1_hw5 k1_t4 => k1_hw5.2.2.2.1.2.2.2.1 k1_t4
theorem k1_off125_inb : ∀ (v41 : BitVec 32) (k1_hw5 : k1_chk5 v41) (k1_t4 : Fin (k1_t4_loop v41).trips), ∀ a, (k1_off125 v41 k1_t4) a + S1x1x16.size a ≤ S4x32x128.size a := fun v41 k1_hw5 k1_t4 => k1_hw5.2.2.2.1.2.2.2.2.1 k1_t4
theorem k1_off126_inb : ∀ (v41 : BitVec 32) (k1_hw5 : k1_chk5 v41) (k1_t4 : Fin (k1_t4_loop v41).trips), ∀ a, (k1_off126 v41 k1_t4) a + S1x1x16.size a ≤ S4x32x128.size a := fun v41 k1_hw5 k1_t4 => k1_hw5.2.2.2.1.2.2.2.2.2.1 k1_t4
theorem k1_off127_inb : ∀ (v41 : BitVec 32) (k1_hw5 : k1_chk5 v41) (k1_t4 : Fin (k1_t4_loop v41).trips), ∀ a, (k1_off127 v41 k1_t4) a + S1x1x16.size a ≤ S4x32x128.size a := fun v41 k1_hw5 k1_t4 => k1_hw5.2.2.2.1.2.2.2.2.2.2.1 k1_t4
theorem k1_off129_inb : ∀ (v41 : BitVec 32) (k1_hw5 : k1_chk5 v41) (k1_t4 : Fin (k1_t4_loop v41).trips), ∀ a, (k1_off129 v41 k1_t4) a + S1x1x16.size a ≤ S4x32x128.size a := fun v41 k1_hw5 k1_t4 => k1_hw5.2.2.2.1.2.2.2.2.2.2.2.1 k1_t4
theorem k1_off130_inb : ∀ (v41 : BitVec 32) (k1_hw5 : k1_chk5 v41) (k1_t4 : Fin (k1_t4_loop v41).trips), ∀ a, (k1_off130 v41 k1_t4) a + S1x1x16.size a ≤ S4x32x128.size a := fun v41 k1_hw5 k1_t4 => k1_hw5.2.2.2.1.2.2.2.2.2.2.2.2.1 k1_t4
theorem k1_off131_inb : ∀ (v41 : BitVec 32) (k1_hw5 : k1_chk5 v41) (k1_t4 : Fin (k1_t4_loop v41).trips), ∀ a, (k1_off131 v41 k1_t4) a + S1x1x16.size a ≤ S4x32x128.size a := fun v41 k1_hw5 k1_t4 => k1_hw5.2.2.2.1.2.2.2.2.2.2.2.2.2.1 k1_t4
theorem k1_off132_inb : ∀ (v41 : BitVec 32) (k1_hw5 : k1_chk5 v41) (k1_t4 : Fin (k1_t4_loop v41).trips), ∀ a, (k1_off132 v41 k1_t4) a + S1x1x16.size a ≤ S4x32x128.size a := fun v41 k1_hw5 k1_t4 => k1_hw5.2.2.2.1.2.2.2.2.2.2.2.2.2.2.1 k1_t4
theorem k1_off133_inb : ∀ (v41 : BitVec 32) (k1_hw5 : k1_chk5 v41) (k1_t4 : Fin (k1_t4_loop v41).trips), ∀ a, (k1_off133 v41 k1_t4) a + S1x1x16.size a ≤ S4x32x128.size a := fun v41 k1_hw5 k1_t4 => k1_hw5.2.2.2.1.2.2.2.2.2.2.2.2.2.2.2.1 k1_t4
theorem k1_off134_inb : ∀ (v41 : BitVec 32) (k1_hw5 : k1_chk5 v41) (k1_t4 : Fin (k1_t4_loop v41).trips), ∀ a, (k1_off134 v41 k1_t4) a + S1x1x16.size a ≤ S4x32x128.size a := fun v41 k1_hw5 k1_t4 => k1_hw5.2.2.2.1.2.2.2.2.2.2.2.2.2.2.2.2.1 k1_t4
theorem k1_off135_inb : ∀ (v41 : BitVec 32) (k1_hw5 : k1_chk5 v41) (k1_t4 : Fin (k1_t4_loop v41).trips), ∀ a, (k1_off135 v41 k1_t4) a + S1x1x16.size a ≤ S4x32x128.size a := fun v41 k1_hw5 k1_t4 => k1_hw5.2.2.2.1.2.2.2.2.2.2.2.2.2.2.2.2.2.1 k1_t4
theorem k1_off136_inb : ∀ (v41 : BitVec 32) (k1_hw5 : k1_chk5 v41) (k1_t4 : Fin (k1_t4_loop v41).trips), ∀ a, (k1_off136 v41 k1_t4) a + S1x1x16.size a ≤ S4x32x128.size a := fun v41 k1_hw5 k1_t4 => k1_hw5.2.2.2.1.2.2.2.2.2.2.2.2.2.2.2.2.2.2.1 k1_t4
theorem k1_off138_inb : ∀ (v41 : BitVec 32) (k1_hw5 : k1_chk5 v41) (k1_t4 : Fin (k1_t4_loop v41).trips), ∀ a, (k1_off138 v41 k1_t4) a + S1x1x16.size a ≤ S4x32x128.size a := fun v41 k1_hw5 k1_t4 => k1_hw5.2.2.2.1.2.2.2.2.2.2.2.2.2.2.2.2.2.2.2.1 k1_t4
theorem k1_off139_inb : ∀ (v41 : BitVec 32) (k1_hw5 : k1_chk5 v41) (k1_t4 : Fin (k1_t4_loop v41).trips), ∀ a, (k1_off139 v41 k1_t4) a + S1x1x16.size a ≤ S4x32x128.size a := fun v41 k1_hw5 k1_t4 => k1_hw5.2.2.2.1.2.2.2.2.2.2.2.2.2.2.2.2.2.2.2.2.1 k1_t4
theorem k1_off140_inb : ∀ (v41 : BitVec 32) (k1_hw5 : k1_chk5 v41) (k1_t4 : Fin (k1_t4_loop v41).trips), ∀ a, (k1_off140 v41 k1_t4) a + S1x1x16.size a ≤ S4x32x128.size a := fun v41 k1_hw5 k1_t4 => k1_hw5.2.2.2.1.2.2.2.2.2.2.2.2.2.2.2.2.2.2.2.2.2.1 k1_t4
theorem k1_off141_inb : ∀ (v41 : BitVec 32) (k1_hw5 : k1_chk5 v41) (k1_t4 : Fin (k1_t4_loop v41).trips), ∀ a, (k1_off141 v41 k1_t4) a + S1x1x16.size a ≤ S4x32x128.size a := fun v41 k1_hw5 k1_t4 => k1_hw5.2.2.2.1.2.2.2.2.2.2.2.2.2.2.2.2.2.2.2.2.2.2.1 k1_t4
theorem k1_off142_inb : ∀ (v41 : BitVec 32) (k1_hw5 : k1_chk5 v41) (k1_t4 : Fin (k1_t4_loop v41).trips), ∀ a, (k1_off142 v41 k1_t4) a + S1x1x16.size a ≤ S4x32x128.size a := fun v41 k1_hw5 k1_t4 => k1_hw5.2.2.2.1.2.2.2.2.2.2.2.2.2.2.2.2.2.2.2.2.2.2.2.1 k1_t4
theorem k1_off143_inb : ∀ (v41 : BitVec 32) (k1_hw5 : k1_chk5 v41) (k1_t4 : Fin (k1_t4_loop v41).trips), ∀ a, (k1_off143 v41 k1_t4) a + S1x1x16.size a ≤ S4x32x128.size a := fun v41 k1_hw5 k1_t4 => k1_hw5.2.2.2.1.2.2.2.2.2.2.2.2.2.2.2.2.2.2.2.2.2.2.2.2.1 k1_t4
theorem k1_off144_inb : ∀ (v41 : BitVec 32) (k1_hw5 : k1_chk5 v41) (k1_t4 : Fin (k1_t4_loop v41).trips), ∀ a, (k1_off144 v41 k1_t4) a + S1x1x16.size a ≤ S4x32x128.size a := fun v41 k1_hw5 k1_t4 => k1_hw5.2.2.2.1.2.2.2.2.2.2.2.2.2.2.2.2.2.2.2.2.2.2.2.2.2.1 k1_t4
theorem k1_off145_inb : ∀ (v41 : BitVec 32) (k1_hw5 : k1_chk5 v41) (k1_t4 : Fin (k1_t4_loop v41).trips), ∀ a, (k1_off145 v41 k1_t4) a + S1x1x16.size a ≤ S4x32x128.size a := fun v41 k1_hw5 k1_t4 => k1_hw5.2.2.2.1.2.2.2.2.2.2.2.2.2.2.2.2.2.2.2.2.2.2.2.2.2.2.1 k1_t4
theorem k1_off147_inb : ∀ (v41 : BitVec 32) (k1_hw5 : k1_chk5 v41) (k1_t4 : Fin (k1_t4_loop v41).trips), ∀ a, (k1_off147 v41 k1_t4) a + S1x1x16.size a ≤ S4x32x128.size a := fun v41 k1_hw5 k1_t4 => k1_hw5.2.2.2.1.2.2.2.2.2.2.2.2.2.2.2.2.2.2.2.2.2.2.2.2.2.2.2.1 k1_t4
theorem k1_off148_inb : ∀ (v41 : BitVec 32) (k1_hw5 : k1_chk5 v41) (k1_t4 : Fin (k1_t4_loop v41).trips), ∀ a, (k1_off148 v41 k1_t4) a + S1x1x16.size a ≤ S4x32x128.size a := fun v41 k1_hw5 k1_t4 => k1_hw5.2.2.2.1.2.2.2.2.2.2.2.2.2.2.2.2.2.2.2.2.2.2.2.2.2.2.2.2.1 k1_t4
theorem k1_off149_inb : ∀ (v41 : BitVec 32) (k1_hw5 : k1_chk5 v41) (k1_t4 : Fin (k1_t4_loop v41).trips), ∀ a, (k1_off149 v41 k1_t4) a + S1x1x16.size a ≤ S4x32x128.size a := fun v41 k1_hw5 k1_t4 => k1_hw5.2.2.2.1.2.2.2.2.2.2.2.2.2.2.2.2.2.2.2.2.2.2.2.2.2.2.2.2.2.1 k1_t4
theorem k1_off150_inb : ∀ (v41 : BitVec 32) (k1_hw5 : k1_chk5 v41) (k1_t4 : Fin (k1_t4_loop v41).trips), ∀ a, (k1_off150 v41 k1_t4) a + S1x1x16.size a ≤ S4x32x128.size a := fun v41 k1_hw5 k1_t4 => k1_hw5.2.2.2.1.2.2.2.2.2.2.2.2.2.2.2.2.2.2.2.2.2.2.2.2.2.2.2.2.2.2.1 k1_t4
theorem k1_off151_inb : ∀ (v41 : BitVec 32) (k1_hw5 : k1_chk5 v41) (k1_t4 : Fin (k1_t4_loop v41).trips), ∀ a, (k1_off151 v41 k1_t4) a + S1x1x16.size a ≤ S4x32x128.size a := fun v41 k1_hw5 k1_t4 => k1_hw5.2.2.2.1.2.2.2.2.2.2.2.2.2.2.2.2.2.2.2.2.2.2.2.2.2.2.2.2.2.2.2.1 k1_t4
theorem k1_off152_inb : ∀ (v41 : BitVec 32) (k1_hw5 : k1_chk5 v41) (k1_t4 : Fin (k1_t4_loop v41).trips), ∀ a, (k1_off152 v41 k1_t4) a + S1x1x16.size a ≤ S4x32x128.size a := fun v41 k1_hw5 k1_t4 => k1_hw5.2.2.2.1.2.2.2.2.2.2.2.2.2.2.2.2.2.2.2.2.2.2.2.2.2.2.2.2.2.2.2.2.1 k1_t4
theorem k1_off153_inb : ∀ (v41 : BitVec 32) (k1_hw5 : k1_chk5 v41) (k1_t4 : Fin (k1_t4_loop v41).trips), ∀ a, (k1_off153 v41 k1_t4) a + S1x1x16.size a ≤ S4x32x128.size a := fun v41 k1_hw5 k1_t4 => k1_hw5.2.2.2.1.2.2.2.2.2.2.2.2.2.2.2.2.2.2.2.2.2.2.2.2.2.2.2.2.2.2.2.2.2.1 k1_t4
theorem k1_off154_inb : ∀ (v41 : BitVec 32) (k1_hw5 : k1_chk5 v41) (k1_t4 : Fin (k1_t4_loop v41).trips), ∀ a, (k1_off154 v41 k1_t4) a + S1x1x16.size a ≤ S4x32x128.size a := fun v41 k1_hw5 k1_t4 => k1_hw5.2.2.2.1.2.2.2.2.2.2.2.2.2.2.2.2.2.2.2.2.2.2.2.2.2.2.2.2.2.2.2.2.2.2.1 k1_t4
theorem k1_off156_inb : ∀ (v41 : BitVec 32) (k1_hw5 : k1_chk5 v41) (k1_t4 : Fin (k1_t4_loop v41).trips), ∀ a, (k1_off156 v41 k1_t4) a + S1x1x16.size a ≤ S4x32x128.size a := fun v41 k1_hw5 k1_t4 => k1_hw5.2.2.2.1.2.2.2.2.2.2.2.2.2.2.2.2.2.2.2.2.2.2.2.2.2.2.2.2.2.2.2.2.2.2.2 k1_t4
theorem k1_off157_inb : ∀ (v41 : BitVec 32) (k1_hw5 : k1_chk5 v41) (k1_t4 : Fin (k1_t4_loop v41).trips), ∀ a, (k1_off157 v41 k1_t4) a + S1x1x16.size a ≤ S4x32x128.size a := fun v41 k1_hw5 k1_t4 => k1_hw5.2.2.2.2.1.1 k1_t4
theorem k1_off158_inb : ∀ (v41 : BitVec 32) (k1_hw5 : k1_chk5 v41) (k1_t4 : Fin (k1_t4_loop v41).trips), ∀ a, (k1_off158 v41 k1_t4) a + S1x1x16.size a ≤ S4x32x128.size a := fun v41 k1_hw5 k1_t4 => k1_hw5.2.2.2.2.1.2.1 k1_t4
theorem k1_off159_inb : ∀ (v41 : BitVec 32) (k1_hw5 : k1_chk5 v41) (k1_t4 : Fin (k1_t4_loop v41).trips), ∀ a, (k1_off159 v41 k1_t4) a + S1x1x16.size a ≤ S4x32x128.size a := fun v41 k1_hw5 k1_t4 => k1_hw5.2.2.2.2.1.2.2.1 k1_t4
theorem k1_off160_inb : ∀ (v41 : BitVec 32) (k1_hw5 : k1_chk5 v41) (k1_t4 : Fin (k1_t4_loop v41).trips), ∀ a, (k1_off160 v41 k1_t4) a + S1x1x16.size a ≤ S4x32x128.size a := fun v41 k1_hw5 k1_t4 => k1_hw5.2.2.2.2.1.2.2.2.1 k1_t4
theorem k1_off161_inb : ∀ (v41 : BitVec 32) (k1_hw5 : k1_chk5 v41) (k1_t4 : Fin (k1_t4_loop v41).trips), ∀ a, (k1_off161 v41 k1_t4) a + S1x1x16.size a ≤ S4x32x128.size a := fun v41 k1_hw5 k1_t4 => k1_hw5.2.2.2.2.1.2.2.2.2.1 k1_t4
theorem k1_off162_inb : ∀ (v41 : BitVec 32) (k1_hw5 : k1_chk5 v41) (k1_t4 : Fin (k1_t4_loop v41).trips), ∀ a, (k1_off162 v41 k1_t4) a + S1x1x16.size a ≤ S4x32x128.size a := fun v41 k1_hw5 k1_t4 => k1_hw5.2.2.2.2.1.2.2.2.2.2.1 k1_t4
theorem k1_off163_inb : ∀ (v41 : BitVec 32) (k1_hw5 : k1_chk5 v41) (k1_t4 : Fin (k1_t4_loop v41).trips), ∀ a, (k1_off163 v41 k1_t4) a + S1x1x16.size a ≤ S4x32x128.size a := fun v41 k1_hw5 k1_t4 => k1_hw5.2.2.2.2.1.2.2.2.2.2.2.1 k1_t4
theorem k1_off164_inb : ∀ (v41 : BitVec 32) (k1_hw5 : k1_chk5 v41) (k1_t4 : Fin (k1_t4_loop v41).trips), ∀ a, (k1_off164 v41 k1_t4) a + S16.size a ≤ S8032.size a := fun v41 k1_hw5 k1_t4 => k1_hw5.2.2.2.2.1.2.2.2.2.2.2.2.1 k1_t4
theorem k1_off166_inb : ∀ (v41 : BitVec 32) (k1_hw5 : k1_chk5 v41) (k1_t4 : Fin (k1_t4_loop v41).trips), ∀ a, (k1_off166 v41 k1_t4) a + S1x1x16.size a ≤ S4x32x128.size a := fun v41 k1_hw5 k1_t4 => k1_hw5.2.2.2.2.1.2.2.2.2.2.2.2.2.1 k1_t4
theorem k1_off167_inb : ∀ (v41 : BitVec 32) (k1_hw5 : k1_chk5 v41) (k1_t4 : Fin (k1_t4_loop v41).trips), ∀ a, (k1_off167 v41 k1_t4) a + S1x1x16.size a ≤ S4x32x128.size a := fun v41 k1_hw5 k1_t4 => k1_hw5.2.2.2.2.1.2.2.2.2.2.2.2.2.2.1 k1_t4
theorem k1_off168_inb : ∀ (v41 : BitVec 32) (k1_hw5 : k1_chk5 v41) (k1_t4 : Fin (k1_t4_loop v41).trips), ∀ a, (k1_off168 v41 k1_t4) a + S1x1x16.size a ≤ S4x32x128.size a := fun v41 k1_hw5 k1_t4 => k1_hw5.2.2.2.2.1.2.2.2.2.2.2.2.2.2.2.1 k1_t4
theorem k1_off169_inb : ∀ (v41 : BitVec 32) (k1_hw5 : k1_chk5 v41) (k1_t4 : Fin (k1_t4_loop v41).trips), ∀ a, (k1_off169 v41 k1_t4) a + S1x1x16.size a ≤ S4x32x128.size a := fun v41 k1_hw5 k1_t4 => k1_hw5.2.2.2.2.1.2.2.2.2.2.2.2.2.2.2.2.1 k1_t4
theorem k1_off170_inb : ∀ (v41 : BitVec 32) (k1_hw5 : k1_chk5 v41) (k1_t4 : Fin (k1_t4_loop v41).trips), ∀ a, (k1_off170 v41 k1_t4) a + S1x1x16.size a ≤ S4x32x128.size a := fun v41 k1_hw5 k1_t4 => k1_hw5.2.2.2.2.1.2.2.2.2.2.2.2.2.2.2.2.2.1 k1_t4
theorem k1_off171_inb : ∀ (v41 : BitVec 32) (k1_hw5 : k1_chk5 v41) (k1_t4 : Fin (k1_t4_loop v41).trips), ∀ a, (k1_off171 v41 k1_t4) a + S1x1x16.size a ≤ S4x32x128.size a := fun v41 k1_hw5 k1_t4 => k1_hw5.2.2.2.2.1.2.2.2.2.2.2.2.2.2.2.2.2.2.1 k1_t4
theorem k1_off172_inb : ∀ (v41 : BitVec 32) (k1_hw5 : k1_chk5 v41) (k1_t4 : Fin (k1_t4_loop v41).trips), ∀ a, (k1_off172 v41 k1_t4) a + S1x1x16.size a ≤ S4x32x128.size a := fun v41 k1_hw5 k1_t4 => k1_hw5.2.2.2.2.1.2.2.2.2.2.2.2.2.2.2.2.2.2.2.1 k1_t4
theorem k1_off173_inb : ∀ (v41 : BitVec 32) (k1_hw5 : k1_chk5 v41) (k1_t4 : Fin (k1_t4_loop v41).trips), ∀ a, (k1_off173 v41 k1_t4) a + S1x1x16.size a ≤ S4x32x128.size a := fun v41 k1_hw5 k1_t4 => k1_hw5.2.2.2.2.1.2.2.2.2.2.2.2.2.2.2.2.2.2.2.2.1 k1_t4
theorem k1_off175_inb : ∀ (v41 : BitVec 32) (k1_hw5 : k1_chk5 v41) (k1_t4 : Fin (k1_t4_loop v41).trips), ∀ a, (k1_off175 v41 k1_t4) a + S1x1x16.size a ≤ S4x32x128.size a := fun v41 k1_hw5 k1_t4 => k1_hw5.2.2.2.2.1.2.2.2.2.2.2.2.2.2.2.2.2.2.2.2.2.1 k1_t4
theorem k1_off176_inb : ∀ (v41 : BitVec 32) (k1_hw5 : k1_chk5 v41) (k1_t4 : Fin (k1_t4_loop v41).trips), ∀ a, (k1_off176 v41 k1_t4) a + S1x1x16.size a ≤ S4x32x128.size a := fun v41 k1_hw5 k1_t4 => k1_hw5.2.2.2.2.1.2.2.2.2.2.2.2.2.2.2.2.2.2.2.2.2.2.1 k1_t4
theorem k1_off177_inb : ∀ (v41 : BitVec 32) (k1_hw5 : k1_chk5 v41) (k1_t4 : Fin (k1_t4_loop v41).trips), ∀ a, (k1_off177 v41 k1_t4) a + S1x1x16.size a ≤ S4x32x128.size a := fun v41 k1_hw5 k1_t4 => k1_hw5.2.2.2.2.1.2.2.2.2.2.2.2.2.2.2.2.2.2.2.2.2.2.2.1 k1_t4
theorem k1_off178_inb : ∀ (v41 : BitVec 32) (k1_hw5 : k1_chk5 v41) (k1_t4 : Fin (k1_t4_loop v41).trips), ∀ a, (k1_off178 v41 k1_t4) a + S1x1x16.size a ≤ S4x32x128.size a := fun v41 k1_hw5 k1_t4 => k1_hw5.2.2.2.2.1.2.2.2.2.2.2.2.2.2.2.2.2.2.2.2.2.2.2.2.1 k1_t4
theorem k1_off179_inb : ∀ (v41 : BitVec 32) (k1_hw5 : k1_chk5 v41) (k1_t4 : Fin (k1_t4_loop v41).trips), ∀ a, (k1_off179 v41 k1_t4) a + S1x1x16.size a ≤ S4x32x128.size a := fun v41 k1_hw5 k1_t4 => k1_hw5.2.2.2.2.1.2.2.2.2.2.2.2.2.2.2.2.2.2.2.2.2.2.2.2.2.1 k1_t4
theorem k1_off180_inb : ∀ (v41 : BitVec 32) (k1_hw5 : k1_chk5 v41) (k1_t4 : Fin (k1_t4_loop v41).trips), ∀ a, (k1_off180 v41 k1_t4) a + S1x1x16.size a ≤ S4x32x128.size a := fun v41 k1_hw5 k1_t4 => k1_hw5.2.2.2.2.1.2.2.2.2.2.2.2.2.2.2.2.2.2.2.2.2.2.2.2.2.2.1 k1_t4
theorem k1_off181_inb : ∀ (v41 : BitVec 32) (k1_hw5 : k1_chk5 v41) (k1_t4 : Fin (k1_t4_loop v41).trips), ∀ a, (k1_off181 v41 k1_t4) a + S1x1x16.size a ≤ S4x32x128.size a := fun v41 k1_hw5 k1_t4 => k1_hw5.2.2.2.2.1.2.2.2.2.2.2.2.2.2.2.2.2.2.2.2.2.2.2.2.2.2.2.1 k1_t4
theorem k1_off182_inb : ∀ (v41 : BitVec 32) (k1_hw5 : k1_chk5 v41) (k1_t4 : Fin (k1_t4_loop v41).trips), ∀ a, (k1_off182 v41 k1_t4) a + S1x1x16.size a ≤ S4x32x128.size a := fun v41 k1_hw5 k1_t4 => k1_hw5.2.2.2.2.1.2.2.2.2.2.2.2.2.2.2.2.2.2.2.2.2.2.2.2.2.2.2.2.1 k1_t4
theorem k1_off184_inb : ∀ (v41 : BitVec 32) (k1_hw5 : k1_chk5 v41) (k1_t4 : Fin (k1_t4_loop v41).trips), ∀ a, (k1_off184 v41 k1_t4) a + S1x1x16.size a ≤ S4x32x128.size a := fun v41 k1_hw5 k1_t4 => k1_hw5.2.2.2.2.1.2.2.2.2.2.2.2.2.2.2.2.2.2.2.2.2.2.2.2.2.2.2.2.2.1 k1_t4
theorem k1_off185_inb : ∀ (v41 : BitVec 32) (k1_hw5 : k1_chk5 v41) (k1_t4 : Fin (k1_t4_loop v41).trips), ∀ a, (k1_off185 v41 k1_t4) a + S1x1x16.size a ≤ S4x32x128.size a := fun v41 k1_hw5 k1_t4 => k1_hw5.2.2.2.2.1.2.2.2.2.2.2.2.2.2.2.2.2.2.2.2.2.2.2.2.2.2.2.2.2.2.1 k1_t4
theorem k1_off186_inb : ∀ (v41 : BitVec 32) (k1_hw5 : k1_chk5 v41) (k1_t4 : Fin (k1_t4_loop v41).trips), ∀ a, (k1_off186 v41 k1_t4) a + S1x1x16.size a ≤ S4x32x128.size a := fun v41 k1_hw5 k1_t4 => k1_hw5.2.2.2.2.1.2.2.2.2.2.2.2.2.2.2.2.2.2.2.2.2.2.2.2.2.2.2.2.2.2.2.1 k1_t4
theorem k1_off187_inb : ∀ (v41 : BitVec 32) (k1_hw5 : k1_chk5 v41) (k1_t4 : Fin (k1_t4_loop v41).trips), ∀ a, (k1_off187 v41 k1_t4) a + S1x1x16.size a ≤ S4x32x128.size a := fun v41 k1_hw5 k1_t4 => k1_hw5.2.2.2.2.1.2.2.2.2.2.2.2.2.2.2.2.2.2.2.2.2.2.2.2.2.2.2.2.2.2.2.2.1 k1_t4
theorem k1_off188_inb : ∀ (v41 : BitVec 32) (k1_hw5 : k1_chk5 v41) (k1_t4 : Fin (k1_t4_loop v41).trips), ∀ a, (k1_off188 v41 k1_t4) a + S1x1x16.size a ≤ S4x32x128.size a := fun v41 k1_hw5 k1_t4 => k1_hw5.2.2.2.2.1.2.2.2.2.2.2.2.2.2.2.2.2.2.2.2.2.2.2.2.2.2.2.2.2.2.2.2.2.1 k1_t4
theorem k1_off189_inb : ∀ (v41 : BitVec 32) (k1_hw5 : k1_chk5 v41) (k1_t4 : Fin (k1_t4_loop v41).trips), ∀ a, (k1_off189 v41 k1_t4) a + S1x1x16.size a ≤ S4x32x128.size a := fun v41 k1_hw5 k1_t4 => k1_hw5.2.2.2.2.1.2.2.2.2.2.2.2.2.2.2.2.2.2.2.2.2.2.2.2.2.2.2.2.2.2.2.2.2.2.1 k1_t4
theorem k1_off190_inb : ∀ (v41 : BitVec 32) (k1_hw5 : k1_chk5 v41) (k1_t4 : Fin (k1_t4_loop v41).trips), ∀ a, (k1_off190 v41 k1_t4) a + S1x1x16.size a ≤ S4x32x128.size a := fun v41 k1_hw5 k1_t4 => k1_hw5.2.2.2.2.1.2.2.2.2.2.2.2.2.2.2.2.2.2.2.2.2.2.2.2.2.2.2.2.2.2.2.2.2.2.2.1 k1_t4
theorem k1_off191_inb : ∀ (v41 : BitVec 32) (k1_hw5 : k1_chk5 v41) (k1_t4 : Fin (k1_t4_loop v41).trips), ∀ a, (k1_off191 v41 k1_t4) a + S1x1x16.size a ≤ S4x32x128.size a := fun v41 k1_hw5 k1_t4 => k1_hw5.2.2.2.2.1.2.2.2.2.2.2.2.2.2.2.2.2.2.2.2.2.2.2.2.2.2.2.2.2.2.2.2.2.2.2.2 k1_t4
theorem k1_off193_inb : ∀ (v41 : BitVec 32) (k1_hw5 : k1_chk5 v41) (k1_t4 : Fin (k1_t4_loop v41).trips), ∀ a, (k1_off193 v41 k1_t4) a + S1x1x16.size a ≤ S4x32x128.size a := fun v41 k1_hw5 k1_t4 => k1_hw5.2.2.2.2.2.1.1 k1_t4
theorem k1_off194_inb : ∀ (v41 : BitVec 32) (k1_hw5 : k1_chk5 v41) (k1_t4 : Fin (k1_t4_loop v41).trips), ∀ a, (k1_off194 v41 k1_t4) a + S1x1x16.size a ≤ S4x32x128.size a := fun v41 k1_hw5 k1_t4 => k1_hw5.2.2.2.2.2.1.2.1 k1_t4
theorem k1_off195_inb : ∀ (v41 : BitVec 32) (k1_hw5 : k1_chk5 v41) (k1_t4 : Fin (k1_t4_loop v41).trips), ∀ a, (k1_off195 v41 k1_t4) a + S1x1x16.size a ≤ S4x32x128.size a := fun v41 k1_hw5 k1_t4 => k1_hw5.2.2.2.2.2.1.2.2.1 k1_t4
theorem k1_off196_inb : ∀ (v41 : BitVec 32) (k1_hw5 : k1_chk5 v41) (k1_t4 : Fin (k1_t4_loop v41).trips), ∀ a, (k1_off196 v41 k1_t4) a + S1x1x16.size a ≤ S4x32x128.size a := fun v41 k1_hw5 k1_t4 => k1_hw5.2.2.2.2.2.1.2.2.2.1 k1_t4
theorem k1_off197_inb : ∀ (v41 : BitVec 32) (k1_hw5 : k1_chk5 v41) (k1_t4 : Fin (k1_t4_loop v41).trips), ∀ a, (k1_off197 v41 k1_t4) a + S1x1x16.size a ≤ S4x32x128.size a := fun v41 k1_hw5 k1_t4 => k1_hw5.2.2.2.2.2.1.2.2.2.2.1 k1_t4
theorem k1_off198_inb : ∀ (v41 : BitVec 32) (k1_hw5 : k1_chk5 v41) (k1_t4 : Fin (k1_t4_loop v41).trips), ∀ a, (k1_off198 v41 k1_t4) a + S1x1x16.size a ≤ S4x32x128.size a := fun v41 k1_hw5 k1_t4 => k1_hw5.2.2.2.2.2.1.2.2.2.2.2.1 k1_t4
theorem k1_off199_inb : ∀ (v41 : BitVec 32) (k1_hw5 : k1_chk5 v41) (k1_t4 : Fin (k1_t4_loop v41).trips), ∀ a, (k1_off199 v41 k1_t4) a + S1x1x16.size a ≤ S4x32x128.size a := fun v41 k1_hw5 k1_t4 => k1_hw5.2.2.2.2.2.1.2.2.2.2.2.2.1 k1_t4
theorem k1_off200_inb : ∀ (v41 : BitVec 32) (k1_hw5 : k1_chk5 v41) (k1_t4 : Fin (k1_t4_loop v41).trips), ∀ a, (k1_off200 v41 k1_t4) a + S1x1x16.size a ≤ S4x32x128.size a := fun v41 k1_hw5 k1_t4 => k1_hw5.2.2.2.2.2.1.2.2.2.2.2.2.2.1 k1_t4
theorem k1_off202_inb : ∀ (v41 : BitVec 32) (k1_hw5 : k1_chk5 v41) (k1_t4 : Fin (k1_t4_loop v41).trips), ∀ a, (k1_off202 v41 k1_t4) a + S1x1x16.size a ≤ S4x32x128.size a := fun v41 k1_hw5 k1_t4 => k1_hw5.2.2.2.2.2.1.2.2.2.2.2.2.2.2.1 k1_t4
theorem k1_off203_inb : ∀ (v41 : BitVec 32) (k1_hw5 : k1_chk5 v41) (k1_t4 : Fin (k1_t4_loop v41).trips), ∀ a, (k1_off203 v41 k1_t4) a + S1x1x16.size a ≤ S4x32x128.size a := fun v41 k1_hw5 k1_t4 => k1_hw5.2.2.2.2.2.1.2.2.2.2.2.2.2.2.2.1 k1_t4
theorem k1_off204_inb : ∀ (v41 : BitVec 32) (k1_hw5 : k1_chk5 v41) (k1_t4 : Fin (k1_t4_loop v41).trips), ∀ a, (k1_off204 v41 k1_t4) a + S1x1x16.size a ≤ S4x32x128.size a := fun v41 k1_hw5 k1_t4 => k1_hw5.2.2.2.2.2.1.2.2.2.2.2.2.2.2.2.2.1 k1_t4
theorem k1_off205_inb : ∀ (v41 : BitVec 32) (k1_hw5 : k1_chk5 v41) (k1_t4 : Fin (k1_t4_loop v41).trips), ∀ a, (k1_off205 v41 k1_t4) a + S1x1x16.size a ≤ S4x32x128.size a := fun v41 k1_hw5 k1_t4 => k1_hw5.2.2.2.2.2.1.2.2.2.2.2.2.2.2.2.2.2.1 k1_t4
theorem k1_off206_inb : ∀ (v41 : BitVec 32) (k1_hw5 : k1_chk5 v41) (k1_t4 : Fin (k1_t4_loop v41).trips), ∀ a, (k1_off206 v41 k1_t4) a + S1x1x16.size a ≤ S4x32x128.size a := fun v41 k1_hw5 k1_t4 => k1_hw5.2.2.2.2.2.1.2.2.2.2.2.2.2.2.2.2.2.2.1 k1_t4
theorem k1_off207_inb : ∀ (v41 : BitVec 32) (k1_hw5 : k1_chk5 v41) (k1_t4 : Fin (k1_t4_loop v41).trips), ∀ a, (k1_off207 v41 k1_t4) a + S1x1x16.size a ≤ S4x32x128.size a := fun v41 k1_hw5 k1_t4 => k1_hw5.2.2.2.2.2.1.2.2.2.2.2.2.2.2.2.2.2.2.2.1 k1_t4
theorem k1_off208_inb : ∀ (v41 : BitVec 32) (k1_hw5 : k1_chk5 v41) (k1_t4 : Fin (k1_t4_loop v41).trips), ∀ a, (k1_off208 v41 k1_t4) a + S1x1x16.size a ≤ S4x32x128.size a := fun v41 k1_hw5 k1_t4 => k1_hw5.2.2.2.2.2.1.2.2.2.2.2.2.2.2.2.2.2.2.2.2.1 k1_t4
theorem k1_off209_inb : ∀ (v41 : BitVec 32) (k1_hw5 : k1_chk5 v41) (k1_t4 : Fin (k1_t4_loop v41).trips), ∀ a, (k1_off209 v41 k1_t4) a + S1x1x16.size a ≤ S4x32x128.size a := fun v41 k1_hw5 k1_t4 => k1_hw5.2.2.2.2.2.1.2.2.2.2.2.2.2.2.2.2.2.2.2.2.2.1 k1_t4
theorem k1_off211_inb : ∀ (v41 : BitVec 32) (k1_hw5 : k1_chk5 v41) (k1_t4 : Fin (k1_t4_loop v41).trips), ∀ a, (k1_off211 v41 k1_t4) a + S1x1x16.size a ≤ S4x32x128.size a := fun v41 k1_hw5 k1_t4 => k1_hw5.2.2.2.2.2.1.2.2.2.2.2.2.2.2.2.2.2.2.2.2.2.2.1 k1_t4
theorem k1_off212_inb : ∀ (v41 : BitVec 32) (k1_hw5 : k1_chk5 v41) (k1_t4 : Fin (k1_t4_loop v41).trips), ∀ a, (k1_off212 v41 k1_t4) a + S1x1x16.size a ≤ S4x32x128.size a := fun v41 k1_hw5 k1_t4 => k1_hw5.2.2.2.2.2.1.2.2.2.2.2.2.2.2.2.2.2.2.2.2.2.2.2.1 k1_t4
theorem k1_off213_inb : ∀ (v41 : BitVec 32) (k1_hw5 : k1_chk5 v41) (k1_t4 : Fin (k1_t4_loop v41).trips), ∀ a, (k1_off213 v41 k1_t4) a + S1x1x16.size a ≤ S4x32x128.size a := fun v41 k1_hw5 k1_t4 => k1_hw5.2.2.2.2.2.1.2.2.2.2.2.2.2.2.2.2.2.2.2.2.2.2.2.2.1 k1_t4
theorem k1_off214_inb : ∀ (v41 : BitVec 32) (k1_hw5 : k1_chk5 v41) (k1_t4 : Fin (k1_t4_loop v41).trips), ∀ a, (k1_off214 v41 k1_t4) a + S1x1x16.size a ≤ S4x32x128.size a := fun v41 k1_hw5 k1_t4 => k1_hw5.2.2.2.2.2.1.2.2.2.2.2.2.2.2.2.2.2.2.2.2.2.2.2.2.2.1 k1_t4
theorem k1_off215_inb : ∀ (v41 : BitVec 32) (k1_hw5 : k1_chk5 v41) (k1_t4 : Fin (k1_t4_loop v41).trips), ∀ a, (k1_off215 v41 k1_t4) a + S1x1x16.size a ≤ S4x32x128.size a := fun v41 k1_hw5 k1_t4 => k1_hw5.2.2.2.2.2.1.2.2.2.2.2.2.2.2.2.2.2.2.2.2.2.2.2.2.2.2.1 k1_t4
theorem k1_off216_inb : ∀ (v41 : BitVec 32) (k1_hw5 : k1_chk5 v41) (k1_t4 : Fin (k1_t4_loop v41).trips), ∀ a, (k1_off216 v41 k1_t4) a + S1x1x16.size a ≤ S4x32x128.size a := fun v41 k1_hw5 k1_t4 => k1_hw5.2.2.2.2.2.1.2.2.2.2.2.2.2.2.2.2.2.2.2.2.2.2.2.2.2.2.2.1 k1_t4
theorem k1_off217_inb : ∀ (v41 : BitVec 32) (k1_hw5 : k1_chk5 v41) (k1_t4 : Fin (k1_t4_loop v41).trips), ∀ a, (k1_off217 v41 k1_t4) a + S1x1x16.size a ≤ S4x32x128.size a := fun v41 k1_hw5 k1_t4 => k1_hw5.2.2.2.2.2.1.2.2.2.2.2.2.2.2.2.2.2.2.2.2.2.2.2.2.2.2.2.2.1 k1_t4
theorem k1_off218_inb : ∀ (v41 : BitVec 32) (k1_hw5 : k1_chk5 v41) (k1_t4 : Fin (k1_t4_loop v41).trips), ∀ a, (k1_off218 v41 k1_t4) a + S1x1x16.size a ≤ S4x32x128.size a := fun v41 k1_hw5 k1_t4 => k1_hw5.2.2.2.2.2.1.2.2.2.2.2.2.2.2.2.2.2.2.2.2.2.2.2.2.2.2.2.2.2.1 k1_t4
theorem k1_off220_inb : ∀ (v41 : BitVec 32) (k1_hw5 : k1_chk5 v41) (k1_t4 : Fin (k1_t4_loop v41).trips), ∀ a, (k1_off220 v41 k1_t4) a + S1x1x16.size a ≤ S4x32x128.size a := fun v41 k1_hw5 k1_t4 => k1_hw5.2.2.2.2.2.1.2.2.2.2.2.2.2.2.2.2.2.2.2.2.2.2.2.2.2.2.2.2.2.2.1 k1_t4
theorem k1_off221_inb : ∀ (v41 : BitVec 32) (k1_hw5 : k1_chk5 v41) (k1_t4 : Fin (k1_t4_loop v41).trips), ∀ a, (k1_off221 v41 k1_t4) a + S1x1x16.size a ≤ S4x32x128.size a := fun v41 k1_hw5 k1_t4 => k1_hw5.2.2.2.2.2.1.2.2.2.2.2.2.2.2.2.2.2.2.2.2.2.2.2.2.2.2.2.2.2.2.2.1 k1_t4
theorem k1_off222_inb : ∀ (v41 : BitVec 32) (k1_hw5 : k1_chk5 v41) (k1_t4 : Fin (k1_t4_loop v41).trips), ∀ a, (k1_off222 v41 k1_t4) a + S1x1x16.size a ≤ S4x32x128.size a := fun v41 k1_hw5 k1_t4 => k1_hw5.2.2.2.2.2.1.2.2.2.2.2.2.2.2.2.2.2.2.2.2.2.2.2.2.2.2.2.2.2.2.2.2.1 k1_t4
theorem k1_off223_inb : ∀ (v41 : BitVec 32) (k1_hw5 : k1_chk5 v41) (k1_t4 : Fin (k1_t4_loop v41).trips), ∀ a, (k1_off223 v41 k1_t4) a + S1x1x16.size a ≤ S4x32x128.size a := fun v41 k1_hw5 k1_t4 => k1_hw5.2.2.2.2.2.1.2.2.2.2.2.2.2.2.2.2.2.2.2.2.2.2.2.2.2.2.2.2.2.2.2.2.2.1 k1_t4
theorem k1_off224_inb : ∀ (v41 : BitVec 32) (k1_hw5 : k1_chk5 v41) (k1_t4 : Fin (k1_t4_loop v41).trips), ∀ a, (k1_off224 v41 k1_t4) a + S1x1x16.size a ≤ S4x32x128.size a := fun v41 k1_hw5 k1_t4 => k1_hw5.2.2.2.2.2.1.2.2.2.2.2.2.2.2.2.2.2.2.2.2.2.2.2.2.2.2.2.2.2.2.2.2.2.2.1 k1_t4
theorem k1_off225_inb : ∀ (v41 : BitVec 32) (k1_hw5 : k1_chk5 v41) (k1_t4 : Fin (k1_t4_loop v41).trips), ∀ a, (k1_off225 v41 k1_t4) a + S1x1x16.size a ≤ S4x32x128.size a := fun v41 k1_hw5 k1_t4 => k1_hw5.2.2.2.2.2.1.2.2.2.2.2.2.2.2.2.2.2.2.2.2.2.2.2.2.2.2.2.2.2.2.2.2.2.2.2.1 k1_t4
theorem k1_off226_inb : ∀ (v41 : BitVec 32) (k1_hw5 : k1_chk5 v41) (k1_t4 : Fin (k1_t4_loop v41).trips), ∀ a, (k1_off226 v41 k1_t4) a + S1x1x16.size a ≤ S4x32x128.size a := fun v41 k1_hw5 k1_t4 => k1_hw5.2.2.2.2.2.1.2.2.2.2.2.2.2.2.2.2.2.2.2.2.2.2.2.2.2.2.2.2.2.2.2.2.2.2.2.2.1 k1_t4
theorem k1_off227_inb : ∀ (v41 : BitVec 32) (k1_hw5 : k1_chk5 v41) (k1_t4 : Fin (k1_t4_loop v41).trips), ∀ a, (k1_off227 v41 k1_t4) a + S1x1x16.size a ≤ S4x32x128.size a := fun v41 k1_hw5 k1_t4 => k1_hw5.2.2.2.2.2.1.2.2.2.2.2.2.2.2.2.2.2.2.2.2.2.2.2.2.2.2.2.2.2.2.2.2.2.2.2.2.2 k1_t4
theorem k1_off229_inb : ∀ (v41 : BitVec 32) (k1_hw5 : k1_chk5 v41) (k1_t4 : Fin (k1_t4_loop v41).trips), ∀ a, (k1_off229 v41 k1_t4) a + S1x1x16.size a ≤ S4x32x128.size a := fun v41 k1_hw5 k1_t4 => k1_hw5.2.2.2.2.2.2.1.1 k1_t4
theorem k1_off230_inb : ∀ (v41 : BitVec 32) (k1_hw5 : k1_chk5 v41) (k1_t4 : Fin (k1_t4_loop v41).trips), ∀ a, (k1_off230 v41 k1_t4) a + S1x1x16.size a ≤ S4x32x128.size a := fun v41 k1_hw5 k1_t4 => k1_hw5.2.2.2.2.2.2.1.2.1 k1_t4
theorem k1_off231_inb : ∀ (v41 : BitVec 32) (k1_hw5 : k1_chk5 v41) (k1_t4 : Fin (k1_t4_loop v41).trips), ∀ a, (k1_off231 v41 k1_t4) a + S1x1x16.size a ≤ S4x32x128.size a := fun v41 k1_hw5 k1_t4 => k1_hw5.2.2.2.2.2.2.1.2.2.1 k1_t4
theorem k1_off232_inb : ∀ (v41 : BitVec 32) (k1_hw5 : k1_chk5 v41) (k1_t4 : Fin (k1_t4_loop v41).trips), ∀ a, (k1_off232 v41 k1_t4) a + S1x1x16.size a ≤ S4x32x128.size a := fun v41 k1_hw5 k1_t4 => k1_hw5.2.2.2.2.2.2.1.2.2.2.1 k1_t4
theorem k1_off233_inb : ∀ (v41 : BitVec 32) (k1_hw5 : k1_chk5 v41) (k1_t4 : Fin (k1_t4_loop v41).trips), ∀ a, (k1_off233 v41 k1_t4) a + S1x1x16.size a ≤ S4x32x128.size a := fun v41 k1_hw5 k1_t4 => k1_hw5.2.2.2.2.2.2.1.2.2.2.2.1 k1_t4
theorem k1_off234_inb : ∀ (v41 : BitVec 32) (k1_hw5 : k1_chk5 v41) (k1_t4 : Fin (k1_t4_loop v41).trips), ∀ a, (k1_off234 v41 k1_t4) a + S1x1x16.size a ≤ S4x32x128.size a := fun v41 k1_hw5 k1_t4 => k1_hw5.2.2.2.2.2.2.1.2.2.2.2.2.1 k1_t4
theorem k1_off235_inb : ∀ (v41 : BitVec 32) (k1_hw5 : k1_chk5 v41) (k1_t4 : Fin (k1_t4_loop v41).trips), ∀ a, (k1_off235 v41 k1_t4) a + S1x1x16.size a ≤ S4x32x128.size a := fun v41 k1_hw5 k1_t4 => k1_hw5.2.2.2.2.2.2.1.2.2.2.2.2.2.1 k1_t4
theorem k1_off236_inb : ∀ (v41 : BitVec 32) (k1_hw5 : k1_chk5 v41) (k1_t4 : Fin (k1_t4_loop v41).trips), ∀ a, (k1_off236 v41 k1_t4) a + S1x1x16.size a ≤ S4x32x128.size a := fun v41 k1_hw5 k1_t4 => k1_hw5.2.2.2.2.2.2.1.2.2.2.2.2.2.2.1 k1_t4
theorem k1_off238_inb : ∀ (v41 : BitVec 32) (k1_hw5 : k1_chk5 v41) (k1_t4 : Fin (k1_t4_loop v41).trips), ∀ a, (k1_off238 v41 k1_t4) a + S1x1x16.size a ≤ S4x32x128.size a := fun v41 k1_hw5 k1_t4 => k1_hw5.2.2.2.2.2.2.1.2.2.2.2.2.2.2.2.1 k1_t4
theorem k1_off239_inb : ∀ (v41 : BitVec 32) (k1_hw5 : k1_chk5 v41) (k1_t4 : Fin (k1_t4_loop v41).trips), ∀ a, (k1_off239 v41 k1_t4) a + S1x1x16.size a ≤ S4x32x128.size a := fun v41 k1_hw5 k1_t4 => k1_hw5.2.2.2.2.2.2.1.2.2.2.2.2.2.2.2.2.1 k1_t4
theorem k1_off240_inb : ∀ (v41 : BitVec 32) (k1_hw5 : k1_chk5 v41) (k1_t4 : Fin (k1_t4_loop v41).trips), ∀ a, (k1_off240 v41 k1_t4) a + S1x1x16.size a ≤ S4x32x128.size a := fun v41 k1_hw5 k1_t4 => k1_hw5.2.2.2.2.2.2.1.2.2.2.2.2.2.2.2.2.2.1 k1_t4
theorem k1_off241_inb : ∀ (v41 : BitVec 32) (k1_hw5 : k1_chk5 v41) (k1_t4 : Fin (k1_t4_loop v41).trips), ∀ a, (k1_off241 v41 k1_t4) a + S1x1x16.size a ≤ S4x32x128.size a := fun v41 k1_hw5 k1_t4 => k1_hw5.2.2.2.2.2.2.1.2.2.2.2.2.2.2.2.2.2.2.1 k1_t4
theorem k1_off242_inb : ∀ (v41 : BitVec 32) (k1_hw5 : k1_chk5 v41) (k1_t4 : Fin (k1_t4_loop v41).trips), ∀ a, (k1_off242 v41 k1_t4) a + S1x1x16.size a ≤ S4x32x128.size a := fun v41 k1_hw5 k1_t4 => k1_hw5.2.2.2.2.2.2.1.2.2.2.2.2.2.2.2.2.2.2.2.1 k1_t4
theorem k1_off243_inb : ∀ (v41 : BitVec 32) (k1_hw5 : k1_chk5 v41) (k1_t4 : Fin (k1_t4_loop v41).trips), ∀ a, (k1_off243 v41 k1_t4) a + S1x1x16.size a ≤ S4x32x128.size a := fun v41 k1_hw5 k1_t4 => k1_hw5.2.2.2.2.2.2.1.2.2.2.2.2.2.2.2.2.2.2.2.2.1 k1_t4
theorem k1_off244_inb : ∀ (v41 : BitVec 32) (k1_hw5 : k1_chk5 v41) (k1_t4 : Fin (k1_t4_loop v41).trips), ∀ a, (k1_off244 v41 k1_t4) a + S1x1x16.size a ≤ S4x32x128.size a := fun v41 k1_hw5 k1_t4 => k1_hw5.2.2.2.2.2.2.1.2.2.2.2.2.2.2.2.2.2.2.2.2.2.1 k1_t4
theorem k1_off245_inb : ∀ (v41 : BitVec 32) (k1_hw5 : k1_chk5 v41) (k1_t4 : Fin (k1_t4_loop v41).trips), ∀ a, (k1_off245 v41 k1_t4) a + S1x1x16.size a ≤ S4x32x128.size a := fun v41 k1_hw5 k1_t4 => k1_hw5.2.2.2.2.2.2.1.2.2.2.2.2.2.2.2.2.2.2.2.2.2.2.1 k1_t4
theorem k1_off247_inb : ∀ (v41 : BitVec 32) (k1_hw5 : k1_chk5 v41) (k1_t4 : Fin (k1_t4_loop v41).trips), ∀ a, (k1_off247 v41 k1_t4) a + S1x1x16.size a ≤ S4x32x128.size a := fun v41 k1_hw5 k1_t4 => k1_hw5.2.2.2.2.2.2.1.2.2.2.2.2.2.2.2.2.2.2.2.2.2.2.2.1 k1_t4
theorem k1_off248_inb : ∀ (v41 : BitVec 32) (k1_hw5 : k1_chk5 v41) (k1_t4 : Fin (k1_t4_loop v41).trips), ∀ a, (k1_off248 v41 k1_t4) a + S1x1x16.size a ≤ S4x32x128.size a := fun v41 k1_hw5 k1_t4 => k1_hw5.2.2.2.2.2.2.1.2.2.2.2.2.2.2.2.2.2.2.2.2.2.2.2.2.1 k1_t4
theorem k1_off249_inb : ∀ (v41 : BitVec 32) (k1_hw5 : k1_chk5 v41) (k1_t4 : Fin (k1_t4_loop v41).trips), ∀ a, (k1_off249 v41 k1_t4) a + S1x1x16.size a ≤ S4x32x128.size a := fun v41 k1_hw5 k1_t4 => k1_hw5.2.2.2.2.2.2.1.2.2.2.2.2.2.2.2.2.2.2.2.2.2.2.2.2.2.1 k1_t4
theorem k1_off250_inb : ∀ (v41 : BitVec 32) (k1_hw5 : k1_chk5 v41) (k1_t4 : Fin (k1_t4_loop v41).trips), ∀ a, (k1_off250 v41 k1_t4) a + S1x1x16.size a ≤ S4x32x128.size a := fun v41 k1_hw5 k1_t4 => k1_hw5.2.2.2.2.2.2.1.2.2.2.2.2.2.2.2.2.2.2.2.2.2.2.2.2.2.2.1 k1_t4
theorem k1_off251_inb : ∀ (v41 : BitVec 32) (k1_hw5 : k1_chk5 v41) (k1_t4 : Fin (k1_t4_loop v41).trips), ∀ a, (k1_off251 v41 k1_t4) a + S1x1x16.size a ≤ S4x32x128.size a := fun v41 k1_hw5 k1_t4 => k1_hw5.2.2.2.2.2.2.1.2.2.2.2.2.2.2.2.2.2.2.2.2.2.2.2.2.2.2.2.1 k1_t4
theorem k1_off252_inb : ∀ (v41 : BitVec 32) (k1_hw5 : k1_chk5 v41) (k1_t4 : Fin (k1_t4_loop v41).trips), ∀ a, (k1_off252 v41 k1_t4) a + S1x1x16.size a ≤ S4x32x128.size a := fun v41 k1_hw5 k1_t4 => k1_hw5.2.2.2.2.2.2.1.2.2.2.2.2.2.2.2.2.2.2.2.2.2.2.2.2.2.2.2.2.1 k1_t4
theorem k1_off253_inb : ∀ (v41 : BitVec 32) (k1_hw5 : k1_chk5 v41) (k1_t4 : Fin (k1_t4_loop v41).trips), ∀ a, (k1_off253 v41 k1_t4) a + S1x1x16.size a ≤ S4x32x128.size a := fun v41 k1_hw5 k1_t4 => k1_hw5.2.2.2.2.2.2.1.2.2.2.2.2.2.2.2.2.2.2.2.2.2.2.2.2.2.2.2.2.2.1 k1_t4
theorem k1_off254_inb : ∀ (v41 : BitVec 32) (k1_hw5 : k1_chk5 v41) (k1_t4 : Fin (k1_t4_loop v41).trips), ∀ a, (k1_off254 v41 k1_t4) a + S1x1x16.size a ≤ S4x32x128.size a := fun v41 k1_hw5 k1_t4 => k1_hw5.2.2.2.2.2.2.1.2.2.2.2.2.2.2.2.2.2.2.2.2.2.2.2.2.2.2.2.2.2.2.1 k1_t4
theorem k1_off256_inb : ∀ (v41 : BitVec 32) (k1_hw5 : k1_chk5 v41) (k1_t4 : Fin (k1_t4_loop v41).trips), ∀ a, (k1_off256 v41 k1_t4) a + S1x1x16.size a ≤ S4x32x128.size a := fun v41 k1_hw5 k1_t4 => k1_hw5.2.2.2.2.2.2.1.2.2.2.2.2.2.2.2.2.2.2.2.2.2.2.2.2.2.2.2.2.2.2.2.1 k1_t4
theorem k1_off257_inb : ∀ (v41 : BitVec 32) (k1_hw5 : k1_chk5 v41) (k1_t4 : Fin (k1_t4_loop v41).trips), ∀ a, (k1_off257 v41 k1_t4) a + S1x1x16.size a ≤ S4x32x128.size a := fun v41 k1_hw5 k1_t4 => k1_hw5.2.2.2.2.2.2.1.2.2.2.2.2.2.2.2.2.2.2.2.2.2.2.2.2.2.2.2.2.2.2.2.2.1 k1_t4
theorem k1_off258_inb : ∀ (v41 : BitVec 32) (k1_hw5 : k1_chk5 v41) (k1_t4 : Fin (k1_t4_loop v41).trips), ∀ a, (k1_off258 v41 k1_t4) a + S1x1x16.size a ≤ S4x32x128.size a := fun v41 k1_hw5 k1_t4 => k1_hw5.2.2.2.2.2.2.1.2.2.2.2.2.2.2.2.2.2.2.2.2.2.2.2.2.2.2.2.2.2.2.2.2.2.1 k1_t4
theorem k1_off259_inb : ∀ (v41 : BitVec 32) (k1_hw5 : k1_chk5 v41) (k1_t4 : Fin (k1_t4_loop v41).trips), ∀ a, (k1_off259 v41 k1_t4) a + S1x1x16.size a ≤ S4x32x128.size a := fun v41 k1_hw5 k1_t4 => k1_hw5.2.2.2.2.2.2.1.2.2.2.2.2.2.2.2.2.2.2.2.2.2.2.2.2.2.2.2.2.2.2.2.2.2.2.1 k1_t4
theorem k1_off260_inb : ∀ (v41 : BitVec 32) (k1_hw5 : k1_chk5 v41) (k1_t4 : Fin (k1_t4_loop v41).trips), ∀ a, (k1_off260 v41 k1_t4) a + S1x1x16.size a ≤ S4x32x128.size a := fun v41 k1_hw5 k1_t4 => k1_hw5.2.2.2.2.2.2.1.2.2.2.2.2.2.2.2.2.2.2.2.2.2.2.2.2.2.2.2.2.2.2.2.2.2.2.2.1 k1_t4
theorem k1_off261_inb : ∀ (v41 : BitVec 32) (k1_hw5 : k1_chk5 v41) (k1_t4 : Fin (k1_t4_loop v41).trips), ∀ a, (k1_off261 v41 k1_t4) a + S1x1x16.size a ≤ S4x32x128.size a := fun v41 k1_hw5 k1_t4 => k1_hw5.2.2.2.2.2.2.1.2.2.2.2.2.2.2.2.2.2.2.2.2.2.2.2.2.2.2.2.2.2.2.2.2.2.2.2.2.1 k1_t4
theorem k1_off262_inb : ∀ (v41 : BitVec 32) (k1_hw5 : k1_chk5 v41) (k1_t4 : Fin (k1_t4_loop v41).trips), ∀ a, (k1_off262 v41 k1_t4) a + S1x1x16.size a ≤ S4x32x128.size a := fun v41 k1_hw5 k1_t4 => k1_hw5.2.2.2.2.2.2.1.2.2.2.2.2.2.2.2.2.2.2.2.2.2.2.2.2.2.2.2.2.2.2.2.2.2.2.2.2.2.1 k1_t4
theorem k1_off263_inb : ∀ (v41 : BitVec 32) (k1_hw5 : k1_chk5 v41) (k1_t4 : Fin (k1_t4_loop v41).trips), ∀ a, (k1_off263 v41 k1_t4) a + S1x1x16.size a ≤ S4x32x128.size a := fun v41 k1_hw5 k1_t4 => k1_hw5.2.2.2.2.2.2.1.2.2.2.2.2.2.2.2.2.2.2.2.2.2.2.2.2.2.2.2.2.2.2.2.2.2.2.2.2.2.2 k1_t4
theorem k1_off265_inb : ∀ (v41 : BitVec 32) (k1_hw5 : k1_chk5 v41) (k1_t4 : Fin (k1_t4_loop v41).trips), ∀ a, (k1_off265 v41 k1_t4) a + S1x1x16.size a ≤ S4x32x128.size a := fun v41 k1_hw5 k1_t4 => k1_hw5.2.2.2.2.2.2.2.1.1 k1_t4
theorem k1_off266_inb : ∀ (v41 : BitVec 32) (k1_hw5 : k1_chk5 v41) (k1_t4 : Fin (k1_t4_loop v41).trips), ∀ a, (k1_off266 v41 k1_t4) a + S1x1x16.size a ≤ S4x32x128.size a := fun v41 k1_hw5 k1_t4 => k1_hw5.2.2.2.2.2.2.2.1.2.1 k1_t4
theorem k1_off267_inb : ∀ (v41 : BitVec 32) (k1_hw5 : k1_chk5 v41) (k1_t4 : Fin (k1_t4_loop v41).trips), ∀ a, (k1_off267 v41 k1_t4) a + S1x1x16.size a ≤ S4x32x128.size a := fun v41 k1_hw5 k1_t4 => k1_hw5.2.2.2.2.2.2.2.1.2.2.1 k1_t4
theorem k1_off268_inb : ∀ (v41 : BitVec 32) (k1_hw5 : k1_chk5 v41) (k1_t4 : Fin (k1_t4_loop v41).trips), ∀ a, (k1_off268 v41 k1_t4) a + S1x1x16.size a ≤ S4x32x128.size a := fun v41 k1_hw5 k1_t4 => k1_hw5.2.2.2.2.2.2.2.1.2.2.2.1 k1_t4
theorem k1_off269_inb : ∀ (v41 : BitVec 32) (k1_hw5 : k1_chk5 v41) (k1_t4 : Fin (k1_t4_loop v41).trips), ∀ a, (k1_off269 v41 k1_t4) a + S1x1x16.size a ≤ S4x32x128.size a := fun v41 k1_hw5 k1_t4 => k1_hw5.2.2.2.2.2.2.2.1.2.2.2.2.1 k1_t4
theorem k1_off270_inb : ∀ (v41 : BitVec 32) (k1_hw5 : k1_chk5 v41) (k1_t4 : Fin (k1_t4_loop v41).trips), ∀ a, (k1_off270 v41 k1_t4) a + S1x1x16.size a ≤ S4x32x128.size a := fun v41 k1_hw5 k1_t4 => k1_hw5.2.2.2.2.2.2.2.1.2.2.2.2.2.1 k1_t4
theorem k1_off271_inb : ∀ (v41 : BitVec 32) (k1_hw5 : k1_chk5 v41) (k1_t4 : Fin (k1_t4_loop v41).trips), ∀ a, (k1_off271 v41 k1_t4) a + S1x1x16.size a ≤ S4x32x128.size a := fun v41 k1_hw5 k1_t4 => k1_hw5.2.2.2.2.2.2.2.1.2.2.2.2.2.2.1 k1_t4
theorem k1_off272_inb : ∀ (v41 : BitVec 32) (k1_hw5 : k1_chk5 v41) (k1_t4 : Fin (k1_t4_loop v41).trips), ∀ a, (k1_off272 v41 k1_t4) a + S1x1x16.size a ≤ S4x32x128.size a := fun v41 k1_hw5 k1_t4 => k1_hw5.2.2.2.2.2.2.2.1.2.2.2.2.2.2.2.1 k1_t4
theorem k1_off274_inb : ∀ (v41 : BitVec 32) (k1_hw5 : k1_chk5 v41) (k1_t4 : Fin (k1_t4_loop v41).trips), ∀ a, (k1_off274 v41 k1_t4) a + S1x1x16.size a ≤ S4x32x128.size a := fun v41 k1_hw5 k1_t4 => k1_hw5.2.2.2.2.2.2.2.1.2.2.2.2.2.2.2.2.1 k1_t4
theorem k1_off275_inb : ∀ (v41 : BitVec 32) (k1_hw5 : k1_chk5 v41) (k1_t4 : Fin (k1_t4_loop v41).trips), ∀ a, (k1_off275 v41 k1_t4) a + S1x1x16.size a ≤ S4x32x128.size a := fun v41 k1_hw5 k1_t4 => k1_hw5.2.2.2.2.2.2.2.1.2.2.2.2.2.2.2.2.2.1 k1_t4
theorem k1_off276_inb : ∀ (v41 : BitVec 32) (k1_hw5 : k1_chk5 v41) (k1_t4 : Fin (k1_t4_loop v41).trips), ∀ a, (k1_off276 v41 k1_t4) a + S1x1x16.size a ≤ S4x32x128.size a := fun v41 k1_hw5 k1_t4 => k1_hw5.2.2.2.2.2.2.2.1.2.2.2.2.2.2.2.2.2.2.1 k1_t4
theorem k1_off277_inb : ∀ (v41 : BitVec 32) (k1_hw5 : k1_chk5 v41) (k1_t4 : Fin (k1_t4_loop v41).trips), ∀ a, (k1_off277 v41 k1_t4) a + S1x1x16.size a ≤ S4x32x128.size a := fun v41 k1_hw5 k1_t4 => k1_hw5.2.2.2.2.2.2.2.1.2.2.2.2.2.2.2.2.2.2.2.1 k1_t4
theorem k1_off278_inb : ∀ (v41 : BitVec 32) (k1_hw5 : k1_chk5 v41) (k1_t4 : Fin (k1_t4_loop v41).trips), ∀ a, (k1_off278 v41 k1_t4) a + S1x1x16.size a ≤ S4x32x128.size a := fun v41 k1_hw5 k1_t4 => k1_hw5.2.2.2.2.2.2.2.1.2.2.2.2.2.2.2.2.2.2.2.2.1 k1_t4
theorem k1_off279_inb : ∀ (v41 : BitVec 32) (k1_hw5 : k1_chk5 v41) (k1_t4 : Fin (k1_t4_loop v41).trips), ∀ a, (k1_off279 v41 k1_t4) a + S1x1x16.size a ≤ S4x32x128.size a := fun v41 k1_hw5 k1_t4 => k1_hw5.2.2.2.2.2.2.2.1.2.2.2.2.2.2.2.2.2.2.2.2.2.1 k1_t4
theorem k1_off280_inb : ∀ (v41 : BitVec 32) (k1_hw5 : k1_chk5 v41) (k1_t4 : Fin (k1_t4_loop v41).trips), ∀ a, (k1_off280 v41 k1_t4) a + S1x1x16.size a ≤ S4x32x128.size a := fun v41 k1_hw5 k1_t4 => k1_hw5.2.2.2.2.2.2.2.1.2.2.2.2.2.2.2.2.2.2.2.2.2.2.1 k1_t4
theorem k1_off281_inb : ∀ (v41 : BitVec 32) (k1_hw5 : k1_chk5 v41) (k1_t4 : Fin (k1_t4_loop v41).trips), ∀ a, (k1_off281 v41 k1_t4) a + S1x1x16.size a ≤ S4x32x128.size a := fun v41 k1_hw5 k1_t4 => k1_hw5.2.2.2.2.2.2.2.1.2.2.2.2.2.2.2.2.2.2.2.2.2.2.2.1 k1_t4
theorem k1_off283_inb : ∀ (v41 : BitVec 32) (k1_hw5 : k1_chk5 v41) (k1_t4 : Fin (k1_t4_loop v41).trips), ∀ a, (k1_off283 v41 k1_t4) a + S1x1x16.size a ≤ S4x32x128.size a := fun v41 k1_hw5 k1_t4 => k1_hw5.2.2.2.2.2.2.2.1.2.2.2.2.2.2.2.2.2.2.2.2.2.2.2.2.1 k1_t4
theorem k1_off284_inb : ∀ (v41 : BitVec 32) (k1_hw5 : k1_chk5 v41) (k1_t4 : Fin (k1_t4_loop v41).trips), ∀ a, (k1_off284 v41 k1_t4) a + S1x1x16.size a ≤ S4x32x128.size a := fun v41 k1_hw5 k1_t4 => k1_hw5.2.2.2.2.2.2.2.1.2.2.2.2.2.2.2.2.2.2.2.2.2.2.2.2.2.1 k1_t4
theorem k1_off285_inb : ∀ (v41 : BitVec 32) (k1_hw5 : k1_chk5 v41) (k1_t4 : Fin (k1_t4_loop v41).trips), ∀ a, (k1_off285 v41 k1_t4) a + S1x1x16.size a ≤ S4x32x128.size a := fun v41 k1_hw5 k1_t4 => k1_hw5.2.2.2.2.2.2.2.1.2.2.2.2.2.2.2.2.2.2.2.2.2.2.2.2.2.2.1 k1_t4
theorem k1_off286_inb : ∀ (v41 : BitVec 32) (k1_hw5 : k1_chk5 v41) (k1_t4 : Fin (k1_t4_loop v41).trips), ∀ a, (k1_off286 v41 k1_t4) a + S1x1x16.size a ≤ S4x32x128.size a := fun v41 k1_hw5 k1_t4 => k1_hw5.2.2.2.2.2.2.2.1.2.2.2.2.2.2.2.2.2.2.2.2.2.2.2.2.2.2.2.1 k1_t4
theorem k1_off287_inb : ∀ (v41 : BitVec 32) (k1_hw5 : k1_chk5 v41) (k1_t4 : Fin (k1_t4_loop v41).trips), ∀ a, (k1_off287 v41 k1_t4) a + S1x1x16.size a ≤ S4x32x128.size a := fun v41 k1_hw5 k1_t4 => k1_hw5.2.2.2.2.2.2.2.1.2.2.2.2.2.2.2.2.2.2.2.2.2.2.2.2.2.2.2.2.1 k1_t4
theorem k1_off288_inb : ∀ (v41 : BitVec 32) (k1_hw5 : k1_chk5 v41) (k1_t4 : Fin (k1_t4_loop v41).trips), ∀ a, (k1_off288 v41 k1_t4) a + S1x1x16.size a ≤ S4x32x128.size a := fun v41 k1_hw5 k1_t4 => k1_hw5.2.2.2.2.2.2.2.1.2.2.2.2.2.2.2.2.2.2.2.2.2.2.2.2.2.2.2.2.2.1 k1_t4
theorem k1_off289_inb : ∀ (v41 : BitVec 32) (k1_hw5 : k1_chk5 v41) (k1_t4 : Fin (k1_t4_loop v41).trips), ∀ a, (k1_off289 v41 k1_t4) a + S1x1x16.size a ≤ S4x32x128.size a := fun v41 k1_hw5 k1_t4 => k1_hw5.2.2.2.2.2.2.2.1.2.2.2.2.2.2.2.2.2.2.2.2.2.2.2.2.2.2.2.2.2.2.1 k1_t4
theorem k1_off290_inb : ∀ (v41 : BitVec 32) (k1_hw5 : k1_chk5 v41) (k1_t4 : Fin (k1_t4_loop v41).trips), ∀ a, (k1_off290 v41 k1_t4) a + S1x1x16.size a ≤ S4x32x128.size a := fun v41 k1_hw5 k1_t4 => k1_hw5.2.2.2.2.2.2.2.1.2.2.2.2.2.2.2.2.2.2.2.2.2.2.2.2.2.2.2.2.2.2.2.1 k1_t4
theorem k1_off292_inb : ∀ (v41 : BitVec 32) (k1_hw5 : k1_chk5 v41) (k1_t4 : Fin (k1_t4_loop v41).trips), ∀ a, (k1_off292 v41 k1_t4) a + S1x1x16.size a ≤ S4x32x128.size a := fun v41 k1_hw5 k1_t4 => k1_hw5.2.2.2.2.2.2.2.1.2.2.2.2.2.2.2.2.2.2.2.2.2.2.2.2.2.2.2.2.2.2.2.2.1 k1_t4
theorem k1_off293_inb : ∀ (v41 : BitVec 32) (k1_hw5 : k1_chk5 v41) (k1_t4 : Fin (k1_t4_loop v41).trips), ∀ a, (k1_off293 v41 k1_t4) a + S1x1x16.size a ≤ S4x32x128.size a := fun v41 k1_hw5 k1_t4 => k1_hw5.2.2.2.2.2.2.2.1.2.2.2.2.2.2.2.2.2.2.2.2.2.2.2.2.2.2.2.2.2.2.2.2.2.1 k1_t4
theorem k1_off294_inb : ∀ (v41 : BitVec 32) (k1_hw5 : k1_chk5 v41) (k1_t4 : Fin (k1_t4_loop v41).trips), ∀ a, (k1_off294 v41 k1_t4) a + S1x1x16.size a ≤ S4x32x128.size a := fun v41 k1_hw5 k1_t4 => k1_hw5.2.2.2.2.2.2.2.1.2.2.2.2.2.2.2.2.2.2.2.2.2.2.2.2.2.2.2.2.2.2.2.2.2.2.1 k1_t4
theorem k1_off295_inb : ∀ (v41 : BitVec 32) (k1_hw5 : k1_chk5 v41) (k1_t4 : Fin (k1_t4_loop v41).trips), ∀ a, (k1_off295 v41 k1_t4) a + S1x1x16.size a ≤ S4x32x128.size a := fun v41 k1_hw5 k1_t4 => k1_hw5.2.2.2.2.2.2.2.1.2.2.2.2.2.2.2.2.2.2.2.2.2.2.2.2.2.2.2.2.2.2.2.2.2.2.2.1 k1_t4
theorem k1_off296_inb : ∀ (v41 : BitVec 32) (k1_hw5 : k1_chk5 v41) (k1_t4 : Fin (k1_t4_loop v41).trips), ∀ a, (k1_off296 v41 k1_t4) a + S1x1x16.size a ≤ S4x32x128.size a := fun v41 k1_hw5 k1_t4 => k1_hw5.2.2.2.2.2.2.2.1.2.2.2.2.2.2.2.2.2.2.2.2.2.2.2.2.2.2.2.2.2.2.2.2.2.2.2.2.1 k1_t4
theorem k1_off297_inb : ∀ (v41 : BitVec 32) (k1_hw5 : k1_chk5 v41) (k1_t4 : Fin (k1_t4_loop v41).trips), ∀ a, (k1_off297 v41 k1_t4) a + S1x1x16.size a ≤ S4x32x128.size a := fun v41 k1_hw5 k1_t4 => k1_hw5.2.2.2.2.2.2.2.1.2.2.2.2.2.2.2.2.2.2.2.2.2.2.2.2.2.2.2.2.2.2.2.2.2.2.2.2.2.1 k1_t4
theorem k1_off298_inb : ∀ (v41 : BitVec 32) (k1_hw5 : k1_chk5 v41) (k1_t4 : Fin (k1_t4_loop v41).trips), ∀ a, (k1_off298 v41 k1_t4) a + S1x1x16.size a ≤ S4x32x128.size a := fun v41 k1_hw5 k1_t4 => k1_hw5.2.2.2.2.2.2.2.1.2.2.2.2.2.2.2.2.2.2.2.2.2.2.2.2.2.2.2.2.2.2.2.2.2.2.2.2.2.2.1 k1_t4
theorem k1_off299_inb : ∀ (v41 : BitVec 32) (k1_hw5 : k1_chk5 v41) (k1_t4 : Fin (k1_t4_loop v41).trips), ∀ a, (k1_off299 v41 k1_t4) a + S1x1x16.size a ≤ S4x32x128.size a := fun v41 k1_hw5 k1_t4 => k1_hw5.2.2.2.2.2.2.2.1.2.2.2.2.2.2.2.2.2.2.2.2.2.2.2.2.2.2.2.2.2.2.2.2.2.2.2.2.2.2.2 k1_t4
theorem k1_off301_inb : ∀ (v41 : BitVec 32) (k1_hw5 : k1_chk5 v41) (k1_t4 : Fin (k1_t4_loop v41).trips), ∀ a, (k1_off301 v41 k1_t4) a + S1x1x16.size a ≤ S4x32x128.size a := fun v41 k1_hw5 k1_t4 => k1_hw5.2.2.2.2.2.2.2.2.1.1 k1_t4
theorem k1_off302_inb : ∀ (v41 : BitVec 32) (k1_hw5 : k1_chk5 v41) (k1_t4 : Fin (k1_t4_loop v41).trips), ∀ a, (k1_off302 v41 k1_t4) a + S1x1x16.size a ≤ S4x32x128.size a := fun v41 k1_hw5 k1_t4 => k1_hw5.2.2.2.2.2.2.2.2.1.2.1 k1_t4
theorem k1_off303_inb : ∀ (v41 : BitVec 32) (k1_hw5 : k1_chk5 v41) (k1_t4 : Fin (k1_t4_loop v41).trips), ∀ a, (k1_off303 v41 k1_t4) a + S1x1x16.size a ≤ S4x32x128.size a := fun v41 k1_hw5 k1_t4 => k1_hw5.2.2.2.2.2.2.2.2.1.2.2.1 k1_t4
theorem k1_off304_inb : ∀ (v41 : BitVec 32) (k1_hw5 : k1_chk5 v41) (k1_t4 : Fin (k1_t4_loop v41).trips), ∀ a, (k1_off304 v41 k1_t4) a + S1x1x16.size a ≤ S4x32x128.size a := fun v41 k1_hw5 k1_t4 => k1_hw5.2.2.2.2.2.2.2.2.1.2.2.2.1 k1_t4
theorem k1_off305_inb : ∀ (v41 : BitVec 32) (k1_hw5 : k1_chk5 v41) (k1_t4 : Fin (k1_t4_loop v41).trips), ∀ a, (k1_off305 v41 k1_t4) a + S1x1x16.size a ≤ S4x32x128.size a := fun v41 k1_hw5 k1_t4 => k1_hw5.2.2.2.2.2.2.2.2.1.2.2.2.2.1 k1_t4
theorem k1_off306_inb : ∀ (v41 : BitVec 32) (k1_hw5 : k1_chk5 v41) (k1_t4 : Fin (k1_t4_loop v41).trips), ∀ a, (k1_off306 v41 k1_t4) a + S1x1x16.size a ≤ S4x32x128.size a := fun v41 k1_hw5 k1_t4 => k1_hw5.2.2.2.2.2.2.2.2.1.2.2.2.2.2.1 k1_t4
theorem k1_off307_inb : ∀ (v41 : BitVec 32) (k1_hw5 : k1_chk5 v41) (k1_t4 : Fin (k1_t4_loop v41).trips), ∀ a, (k1_off307 v41 k1_t4) a + S1x1x16.size a ≤ S4x32x128.size a := fun v41 k1_hw5 k1_t4 => k1_hw5.2.2.2.2.2.2.2.2.1.2.2.2.2.2.2.1 k1_t4
theorem k1_off308_inb : ∀ (v41 : BitVec 32) (k1_hw5 : k1_chk5 v41) (k1_t4 : Fin (k1_t4_loop v41).trips), ∀ a, (k1_off308 v41 k1_t4) a + S1x1x16.size a ≤ S4x32x128.size a := fun v41 k1_hw5 k1_t4 => k1_hw5.2.2.2.2.2.2.2.2.1.2.2.2.2.2.2.2.1 k1_t4
theorem k1_off309_inb : ∀ (v41 : BitVec 32) (k1_hw5 : k1_chk5 v41) (k1_t4 : Fin (k1_t4_loop v41).trips), ∀ (k1_h6 : k1_cond6 v41 k1_t4 = 1#1), ∀ a, (k1_off309 v41 k1_t4) a + S1x32x128.size a ≤ S4x32x128.size a := fun v41 k1_hw5 k1_t4 k1_h6 => k1_hw5.2.2.2.2.2.2.2.2.1.2.2.2.2.2.2.2.2.1 k1_t4 k1_h6
theorem k1_off310_inb : ∀ (v41 : BitVec 32) (k1_hw5 : k1_chk5 v41) (k1_t4 : Fin (k1_t4_loop v41).trips), ∀ (k1_h6 : k1_cond6 v41 k1_t4 = 1#1), ∀ a, (k1_off310 v41 k1_t4) a + S32.size a ≤ S8032.size a := fun v41 k1_hw5 k1_t4 k1_h6 => k1_hw5.2.2.2.2.2.2.2.2.1.2.2.2.2.2.2.2.2.2.1 k1_t4 k1_h6
theorem k1_off311_inb : ∀ (v41 : BitVec 32) (k1_hw5 : k1_chk5 v41) (k1_t4 : Fin (k1_t4_loop v41).trips), ∀ (k1_h6 : k1_cond6 v41 k1_t4 = 1#1), ∀ a, (k1_off311 v41 k1_t4) a + S1.size a ≤ S4.size a := fun v41 k1_hw5 k1_t4 k1_h6 => k1_hw5.2.2.2.2.2.2.2.2.1.2.2.2.2.2.2.2.2.2.2.1 k1_t4 k1_h6
theorem k1_t5_ok : ∀ (v41 : BitVec 32) (k1_hw5 : k1_chk5 v41), (k1_t5_loop v41).OK := fun v41 k1_hw5 => k1_hw5.2.2.2.2.2.2.2.2.1.2.2.2.2.2.2.2.2.2.2.2.1
theorem k1_off312_inb : ∀ (v41 : BitVec 32) (k1_hw5 : k1_chk5 v41) (k1_t5 : Fin (k1_t5_loop v41).trips), ∀ a, (k1_off312 v41 k1_t5) a + S1x32x128.size a ≤ S4x32x128.size a := fun v41 k1_hw5 k1_t5 => k1_hw5.2.2.2.2.2.2.2.2.1.2.2.2.2.2.2.2.2.2.2.2.2.1 k1_t5
theorem k1_off313_inb : ∀ (v41 : BitVec 32) (k1_hw5 : k1_chk5 v41) (k1_t5 : Fin (k1_t5_loop v41).trips), ∀ a, (k1_off313 v41 k1_t5) a + S32.size a ≤ S8032.size a := fun v41 k1_hw5 k1_t5 => k1_hw5.2.2.2.2.2.2.2.2.1.2.2.2.2.2.2.2.2.2.2.2.2.2.1 k1_t5
theorem k1_off314_inb : ∀ (v41 : BitVec 32) (k1_hw5 : k1_chk5 v41) (k1_t5 : Fin (k1_t5_loop v41).trips), ∀ a, (k1_off314 v41 k1_t5) a + S1.size a ≤ S4.size a := fun v41 k1_hw5 k1_t5 => k1_hw5.2.2.2.2.2.2.2.2.1.2.2.2.2.2.2.2.2.2.2.2.2.2.2.1 k1_t5
theorem k1_off315_inb : ∀ (v41 : BitVec 32) (k1_hw5 : k1_chk5 v41) (k1_t5 : Fin (k1_t5_loop v41).trips), ∀ a, (k1_off315 v41 k1_t5) a + S16.size a ≤ S8032.size a := fun v41 k1_hw5 k1_t5 => k1_hw5.2.2.2.2.2.2.2.2.1.2.2.2.2.2.2.2.2.2.2.2.2.2.2.2.1 k1_t5
theorem k1_off317_inb : ∀ (v41 : BitVec 32) (k1_hw5 : k1_chk5 v41) (k1_t5 : Fin (k1_t5_loop v41).trips), ∀ a, (k1_off317 v41 k1_t5) a + S1x1x16.size a ≤ S4x32x128.size a := fun v41 k1_hw5 k1_t5 => k1_hw5.2.2.2.2.2.2.2.2.1.2.2.2.2.2.2.2.2.2.2.2.2.2.2.2.2.1 k1_t5
theorem k1_off318_inb : ∀ (v41 : BitVec 32) (k1_hw5 : k1_chk5 v41) (k1_t5 : Fin (k1_t5_loop v41).trips), ∀ a, (k1_off318 v41 k1_t5) a + S1x1x16.size a ≤ S4x32x128.size a := fun v41 k1_hw5 k1_t5 => k1_hw5.2.2.2.2.2.2.2.2.1.2.2.2.2.2.2.2.2.2.2.2.2.2.2.2.2.2.1 k1_t5
theorem k1_off319_inb : ∀ (v41 : BitVec 32) (k1_hw5 : k1_chk5 v41) (k1_t5 : Fin (k1_t5_loop v41).trips), ∀ a, (k1_off319 v41 k1_t5) a + S1x1x16.size a ≤ S4x32x128.size a := fun v41 k1_hw5 k1_t5 => k1_hw5.2.2.2.2.2.2.2.2.1.2.2.2.2.2.2.2.2.2.2.2.2.2.2.2.2.2.2.1 k1_t5
theorem k1_off320_inb : ∀ (v41 : BitVec 32) (k1_hw5 : k1_chk5 v41) (k1_t5 : Fin (k1_t5_loop v41).trips), ∀ a, (k1_off320 v41 k1_t5) a + S1x1x16.size a ≤ S4x32x128.size a := fun v41 k1_hw5 k1_t5 => k1_hw5.2.2.2.2.2.2.2.2.1.2.2.2.2.2.2.2.2.2.2.2.2.2.2.2.2.2.2.2.1 k1_t5
theorem k1_off321_inb : ∀ (v41 : BitVec 32) (k1_hw5 : k1_chk5 v41) (k1_t5 : Fin (k1_t5_loop v41).trips), ∀ a, (k1_off321 v41 k1_t5) a + S1x1x16.size a ≤ S4x32x128.size a := fun v41 k1_hw5 k1_t5 => k1_hw5.2.2.2.2.2.2.2.2.1.2.2.2.2.2.2.2.2.2.2.2.2.2.2.2.2.2.2.2.2.1 k1_t5
theorem k1_off322_inb : ∀ (v41 : BitVec 32) (k1_hw5 : k1_chk5 v41) (k1_t5 : Fin (k1_t5_loop v41).trips), ∀ a, (k1_off322 v41 k1_t5) a + S1x1x16.size a ≤ S4x32x128.size a := fun v41 k1_hw5 k1_t5 => k1_hw5.2.2.2.2.2.2.2.2.1.2.2.2.2.2.2.2.2.2.2.2.2.2.2.2.2.2.2.2.2.2.1 k1_t5
theorem k1_off323_inb : ∀ (v41 : BitVec 32) (k1_hw5 : k1_chk5 v41) (k1_t5 : Fin (k1_t5_loop v41).trips), ∀ a, (k1_off323 v41 k1_t5) a + S1x1x16.size a ≤ S4x32x128.size a := fun v41 k1_hw5 k1_t5 => k1_hw5.2.2.2.2.2.2.2.2.1.2.2.2.2.2.2.2.2.2.2.2.2.2.2.2.2.2.2.2.2.2.2.1 k1_t5
theorem k1_off324_inb : ∀ (v41 : BitVec 32) (k1_hw5 : k1_chk5 v41) (k1_t5 : Fin (k1_t5_loop v41).trips), ∀ a, (k1_off324 v41 k1_t5) a + S1x1x16.size a ≤ S4x32x128.size a := fun v41 k1_hw5 k1_t5 => k1_hw5.2.2.2.2.2.2.2.2.1.2.2.2.2.2.2.2.2.2.2.2.2.2.2.2.2.2.2.2.2.2.2.2.1 k1_t5
theorem k1_off326_inb : ∀ (v41 : BitVec 32) (k1_hw5 : k1_chk5 v41) (k1_t5 : Fin (k1_t5_loop v41).trips), ∀ a, (k1_off326 v41 k1_t5) a + S1x1x16.size a ≤ S4x32x128.size a := fun v41 k1_hw5 k1_t5 => k1_hw5.2.2.2.2.2.2.2.2.1.2.2.2.2.2.2.2.2.2.2.2.2.2.2.2.2.2.2.2.2.2.2.2.2.1 k1_t5
theorem k1_off327_inb : ∀ (v41 : BitVec 32) (k1_hw5 : k1_chk5 v41) (k1_t5 : Fin (k1_t5_loop v41).trips), ∀ a, (k1_off327 v41 k1_t5) a + S1x1x16.size a ≤ S4x32x128.size a := fun v41 k1_hw5 k1_t5 => k1_hw5.2.2.2.2.2.2.2.2.1.2.2.2.2.2.2.2.2.2.2.2.2.2.2.2.2.2.2.2.2.2.2.2.2.2.1 k1_t5
theorem k1_off328_inb : ∀ (v41 : BitVec 32) (k1_hw5 : k1_chk5 v41) (k1_t5 : Fin (k1_t5_loop v41).trips), ∀ a, (k1_off328 v41 k1_t5) a + S1x1x16.size a ≤ S4x32x128.size a := fun v41 k1_hw5 k1_t5 => k1_hw5.2.2.2.2.2.2.2.2.1.2.2.2.2.2.2.2.2.2.2.2.2.2.2.2.2.2.2.2.2.2.2.2.2.2.2.1 k1_t5
theorem k1_off329_inb : ∀ (v41 : BitVec 32) (k1_hw5 : k1_chk5 v41) (k1_t5 : Fin (k1_t5_loop v41).trips), ∀ a, (k1_off329 v41 k1_t5) a + S1x1x16.size a ≤ S4x32x128.size a := fun v41 k1_hw5 k1_t5 => k1_hw5.2.2.2.2.2.2.2.2.1.2.2.2.2.2.2.2.2.2.2.2.2.2.2.2.2.2.2.2.2.2.2.2.2.2.2.2.1 k1_t5
theorem k1_off330_inb : ∀ (v41 : BitVec 32) (k1_hw5 : k1_chk5 v41) (k1_t5 : Fin (k1_t5_loop v41).trips), ∀ a, (k1_off330 v41 k1_t5) a + S1x1x16.size a ≤ S4x32x128.size a := fun v41 k1_hw5 k1_t5 => k1_hw5.2.2.2.2.2.2.2.2.1.2.2.2.2.2.2.2.2.2.2.2.2.2.2.2.2.2.2.2.2.2.2.2.2.2.2.2.2.1 k1_t5
theorem k1_off331_inb : ∀ (v41 : BitVec 32) (k1_hw5 : k1_chk5 v41) (k1_t5 : Fin (k1_t5_loop v41).trips), ∀ a, (k1_off331 v41 k1_t5) a + S1x1x16.size a ≤ S4x32x128.size a := fun v41 k1_hw5 k1_t5 => k1_hw5.2.2.2.2.2.2.2.2.1.2.2.2.2.2.2.2.2.2.2.2.2.2.2.2.2.2.2.2.2.2.2.2.2.2.2.2.2.2.1 k1_t5
theorem k1_off332_inb : ∀ (v41 : BitVec 32) (k1_hw5 : k1_chk5 v41) (k1_t5 : Fin (k1_t5_loop v41).trips), ∀ a, (k1_off332 v41 k1_t5) a + S1x1x16.size a ≤ S4x32x128.size a := fun v41 k1_hw5 k1_t5 => k1_hw5.2.2.2.2.2.2.2.2.1.2.2.2.2.2.2.2.2.2.2.2.2.2.2.2.2.2.2.2.2.2.2.2.2.2.2.2.2.2.2.1 k1_t5
theorem k1_off333_inb : ∀ (v41 : BitVec 32) (k1_hw5 : k1_chk5 v41) (k1_t5 : Fin (k1_t5_loop v41).trips), ∀ a, (k1_off333 v41 k1_t5) a + S1x1x16.size a ≤ S4x32x128.size a := fun v41 k1_hw5 k1_t5 => k1_hw5.2.2.2.2.2.2.2.2.1.2.2.2.2.2.2.2.2.2.2.2.2.2.2.2.2.2.2.2.2.2.2.2.2.2.2.2.2.2.2.2 k1_t5
theorem k1_off335_inb : ∀ (v41 : BitVec 32) (k1_hw5 : k1_chk5 v41) (k1_t5 : Fin (k1_t5_loop v41).trips), ∀ a, (k1_off335 v41 k1_t5) a + S1x1x16.size a ≤ S4x32x128.size a := fun v41 k1_hw5 k1_t5 => k1_hw5.2.2.2.2.2.2.2.2.2.1.1 k1_t5
theorem k1_off336_inb : ∀ (v41 : BitVec 32) (k1_hw5 : k1_chk5 v41) (k1_t5 : Fin (k1_t5_loop v41).trips), ∀ a, (k1_off336 v41 k1_t5) a + S1x1x16.size a ≤ S4x32x128.size a := fun v41 k1_hw5 k1_t5 => k1_hw5.2.2.2.2.2.2.2.2.2.1.2.1 k1_t5
theorem k1_off337_inb : ∀ (v41 : BitVec 32) (k1_hw5 : k1_chk5 v41) (k1_t5 : Fin (k1_t5_loop v41).trips), ∀ a, (k1_off337 v41 k1_t5) a + S1x1x16.size a ≤ S4x32x128.size a := fun v41 k1_hw5 k1_t5 => k1_hw5.2.2.2.2.2.2.2.2.2.1.2.2.1 k1_t5
theorem k1_off338_inb : ∀ (v41 : BitVec 32) (k1_hw5 : k1_chk5 v41) (k1_t5 : Fin (k1_t5_loop v41).trips), ∀ a, (k1_off338 v41 k1_t5) a + S1x1x16.size a ≤ S4x32x128.size a := fun v41 k1_hw5 k1_t5 => k1_hw5.2.2.2.2.2.2.2.2.2.1.2.2.2.1 k1_t5
theorem k1_off339_inb : ∀ (v41 : BitVec 32) (k1_hw5 : k1_chk5 v41) (k1_t5 : Fin (k1_t5_loop v41).trips), ∀ a, (k1_off339 v41 k1_t5) a + S1x1x16.size a ≤ S4x32x128.size a := fun v41 k1_hw5 k1_t5 => k1_hw5.2.2.2.2.2.2.2.2.2.1.2.2.2.2.1 k1_t5
theorem k1_off340_inb : ∀ (v41 : BitVec 32) (k1_hw5 : k1_chk5 v41) (k1_t5 : Fin (k1_t5_loop v41).trips), ∀ a, (k1_off340 v41 k1_t5) a + S1x1x16.size a ≤ S4x32x128.size a := fun v41 k1_hw5 k1_t5 => k1_hw5.2.2.2.2.2.2.2.2.2.1.2.2.2.2.2.1 k1_t5
theorem k1_off341_inb : ∀ (v41 : BitVec 32) (k1_hw5 : k1_chk5 v41) (k1_t5 : Fin (k1_t5_loop v41).trips), ∀ a, (k1_off341 v41 k1_t5) a + S1x1x16.size a ≤ S4x32x128.size a := fun v41 k1_hw5 k1_t5 => k1_hw5.2.2.2.2.2.2.2.2.2.1.2.2.2.2.2.2.1 k1_t5
theorem k1_off342_inb : ∀ (v41 : BitVec 32) (k1_hw5 : k1_chk5 v41) (k1_t5 : Fin (k1_t5_loop v41).trips), ∀ a, (k1_off342 v41 k1_t5) a + S1x1x16.size a ≤ S4x32x128.size a := fun v41 k1_hw5 k1_t5 => k1_hw5.2.2.2.2.2.2.2.2.2.1.2.2.2.2.2.2.2.1 k1_t5
theorem k1_off344_inb : ∀ (v41 : BitVec 32) (k1_hw5 : k1_chk5 v41) (k1_t5 : Fin (k1_t5_loop v41).trips), ∀ a, (k1_off344 v41 k1_t5) a + S1x1x16.size a ≤ S4x32x128.size a := fun v41 k1_hw5 k1_t5 => k1_hw5.2.2.2.2.2.2.2.2.2.1.2.2.2.2.2.2.2.2.1 k1_t5
theorem k1_off345_inb : ∀ (v41 : BitVec 32) (k1_hw5 : k1_chk5 v41) (k1_t5 : Fin (k1_t5_loop v41).trips), ∀ a, (k1_off345 v41 k1_t5) a + S1x1x16.size a ≤ S4x32x128.size a := fun v41 k1_hw5 k1_t5 => k1_hw5.2.2.2.2.2.2.2.2.2.1.2.2.2.2.2.2.2.2.2.1 k1_t5
theorem k1_off346_inb : ∀ (v41 : BitVec 32) (k1_hw5 : k1_chk5 v41) (k1_t5 : Fin (k1_t5_loop v41).trips), ∀ a, (k1_off346 v41 k1_t5) a + S1x1x16.size a ≤ S4x32x128.size a := fun v41 k1_hw5 k1_t5 => k1_hw5.2.2.2.2.2.2.2.2.2.1.2.2.2.2.2.2.2.2.2.2.1 k1_t5
theorem k1_off347_inb : ∀ (v41 : BitVec 32) (k1_hw5 : k1_chk5 v41) (k1_t5 : Fin (k1_t5_loop v41).trips), ∀ a, (k1_off347 v41 k1_t5) a + S1x1x16.size a ≤ S4x32x128.size a := fun v41 k1_hw5 k1_t5 => k1_hw5.2.2.2.2.2.2.2.2.2.1.2.2.2.2.2.2.2.2.2.2.2.1 k1_t5
theorem k1_off348_inb : ∀ (v41 : BitVec 32) (k1_hw5 : k1_chk5 v41) (k1_t5 : Fin (k1_t5_loop v41).trips), ∀ a, (k1_off348 v41 k1_t5) a + S1x1x16.size a ≤ S4x32x128.size a := fun v41 k1_hw5 k1_t5 => k1_hw5.2.2.2.2.2.2.2.2.2.1.2.2.2.2.2.2.2.2.2.2.2.2.1 k1_t5
theorem k1_off349_inb : ∀ (v41 : BitVec 32) (k1_hw5 : k1_chk5 v41) (k1_t5 : Fin (k1_t5_loop v41).trips), ∀ a, (k1_off349 v41 k1_t5) a + S1x1x16.size a ≤ S4x32x128.size a := fun v41 k1_hw5 k1_t5 => k1_hw5.2.2.2.2.2.2.2.2.2.1.2.2.2.2.2.2.2.2.2.2.2.2.2.1 k1_t5
theorem k1_off350_inb : ∀ (v41 : BitVec 32) (k1_hw5 : k1_chk5 v41) (k1_t5 : Fin (k1_t5_loop v41).trips), ∀ a, (k1_off350 v41 k1_t5) a + S1x1x16.size a ≤ S4x32x128.size a := fun v41 k1_hw5 k1_t5 => k1_hw5.2.2.2.2.2.2.2.2.2.1.2.2.2.2.2.2.2.2.2.2.2.2.2.2.1 k1_t5
theorem k1_off351_inb : ∀ (v41 : BitVec 32) (k1_hw5 : k1_chk5 v41) (k1_t5 : Fin (k1_t5_loop v41).trips), ∀ a, (k1_off351 v41 k1_t5) a + S1x1x16.size a ≤ S4x32x128.size a := fun v41 k1_hw5 k1_t5 => k1_hw5.2.2.2.2.2.2.2.2.2.1.2.2.2.2.2.2.2.2.2.2.2.2.2.2.2.1 k1_t5
theorem k1_off353_inb : ∀ (v41 : BitVec 32) (k1_hw5 : k1_chk5 v41) (k1_t5 : Fin (k1_t5_loop v41).trips), ∀ a, (k1_off353 v41 k1_t5) a + S1x1x16.size a ≤ S4x32x128.size a := fun v41 k1_hw5 k1_t5 => k1_hw5.2.2.2.2.2.2.2.2.2.1.2.2.2.2.2.2.2.2.2.2.2.2.2.2.2.2.1 k1_t5
theorem k1_off354_inb : ∀ (v41 : BitVec 32) (k1_hw5 : k1_chk5 v41) (k1_t5 : Fin (k1_t5_loop v41).trips), ∀ a, (k1_off354 v41 k1_t5) a + S1x1x16.size a ≤ S4x32x128.size a := fun v41 k1_hw5 k1_t5 => k1_hw5.2.2.2.2.2.2.2.2.2.1.2.2.2.2.2.2.2.2.2.2.2.2.2.2.2.2.2.1 k1_t5
theorem k1_off355_inb : ∀ (v41 : BitVec 32) (k1_hw5 : k1_chk5 v41) (k1_t5 : Fin (k1_t5_loop v41).trips), ∀ a, (k1_off355 v41 k1_t5) a + S1x1x16.size a ≤ S4x32x128.size a := fun v41 k1_hw5 k1_t5 => k1_hw5.2.2.2.2.2.2.2.2.2.1.2.2.2.2.2.2.2.2.2.2.2.2.2.2.2.2.2.2.1 k1_t5
theorem k1_off356_inb : ∀ (v41 : BitVec 32) (k1_hw5 : k1_chk5 v41) (k1_t5 : Fin (k1_t5_loop v41).trips), ∀ a, (k1_off356 v41 k1_t5) a + S1x1x16.size a ≤ S4x32x128.size a := fun v41 k1_hw5 k1_t5 => k1_hw5.2.2.2.2.2.2.2.2.2.1.2.2.2.2.2.2.2.2.2.2.2.2.2.2.2.2.2.2.2.1 k1_t5
theorem k1_off357_inb : ∀ (v41 : BitVec 32) (k1_hw5 : k1_chk5 v41) (k1_t5 : Fin (k1_t5_loop v41).trips), ∀ a, (k1_off357 v41 k1_t5) a + S1x1x16.size a ≤ S4x32x128.size a := fun v41 k1_hw5 k1_t5 => k1_hw5.2.2.2.2.2.2.2.2.2.1.2.2.2.2.2.2.2.2.2.2.2.2.2.2.2.2.2.2.2.2.1 k1_t5
theorem k1_off358_inb : ∀ (v41 : BitVec 32) (k1_hw5 : k1_chk5 v41) (k1_t5 : Fin (k1_t5_loop v41).trips), ∀ a, (k1_off358 v41 k1_t5) a + S1x1x16.size a ≤ S4x32x128.size a := fun v41 k1_hw5 k1_t5 => k1_hw5.2.2.2.2.2.2.2.2.2.1.2.2.2.2.2.2.2.2.2.2.2.2.2.2.2.2.2.2.2.2.2.1 k1_t5
theorem k1_off359_inb : ∀ (v41 : BitVec 32) (k1_hw5 : k1_chk5 v41) (k1_t5 : Fin (k1_t5_loop v41).trips), ∀ a, (k1_off359 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.1 k1_t5
theorem k1_off360_inb : ∀ (v41 : BitVec 32) (k1_hw5 : k1_chk5 v41) (k1_t5 : Fin (k1_t5_loop v41).trips), ∀ a, (k1_off360 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.2.1 k1_t5
theorem k1_off362_inb : ∀ (v41 : BitVec 32) (k1_hw5 : k1_chk5 v41) (k1_t5 : Fin (k1_t5_loop v41).trips), ∀ a, (k1_off362 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.2.2.1 k1_t5
theorem k1_off363_inb : ∀ (v41 : BitVec 32) (k1_hw5 : k1_chk5 v41) (k1_t5 : Fin (k1_t5_loop v41).trips), ∀ a, (k1_off363 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.2.2.2.1 k1_t5
theorem k1_off364_inb : ∀ (v41 : BitVec 32) (k1_hw5 : k1_chk5 v41) (k1_t5 : Fin (k1_t5_loop v41).trips), ∀ a, (k1_off364 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.2.2.2.2.1 k1_t5
theorem k1_off365_inb : ∀ (v41 : BitVec 32) (k1_hw5 : k1_chk5 v41) (k1_t5 : Fin (k1_t5_loop v41).trips), ∀ a, (k1_off365 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.2.2.2.2.2.1 k1_t5
theorem k1_off366_inb : ∀ (v41 : BitVec 32) (k1_hw5 : k1_chk5 v41) (k1_t5 : Fin (k1_t5_loop v41).trips), ∀ a, (k1_off366 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.2.2.2.2.2.2.1 k1_t5
theorem k1_off367_inb : ∀ (v41 : BitVec 32) (k1_hw5 : k1_chk5 v41) (k1_t5 : Fin (k1_t5_loop v41).trips), ∀ a, (k1_off367 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.2.2.2.2.2.2.2.1 k1_t5
theorem k1_off368_inb : ∀ (v41 : BitVec 32) (k1_hw5 : k1_chk5 v41) (k1_t5 : Fin (k1_t5_loop v41).trips), ∀ a, (k1_off368 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.2.2.2.2.2.2.2.2.1 k1_t5
theorem k1_off369_inb : ∀ (v41 : BitVec 32) (k1_hw5 : k1_chk5 v41) (k1_t5 : Fin (k1_t5_loop v41).trips), ∀ a, (k1_off369 v41 k1_t5) a + S1x1x16.size a ≤ S4x32x128.size a := fun v41 k1_hw5 k1_t5 => k1_hw5.2.2.2.2.2.2.2.2.2.1.2.2.2.2.2.2.2.2.2.2.2.2.2.2.2.2.2.2.2.2.2.2.2.2.2.2.2.2.2.2.2 k1_t5
theorem k1_off371_inb : ∀ (v41 : BitVec 32) (k1_hw5 : k1_chk5 v41) (k1_t5 : Fin (k1_t5_loop v41).trips), ∀ a, (k1_off371 v41 k1_t5) a + S1x1x16.size a ≤ S4x32x128.size a := fun v41 k1_hw5 k1_t5 => k1_hw5.2.2.2.2.2.2.2.2.2.2.1.1 k1_t5
theorem k1_off372_inb : ∀ (v41 : BitVec 32) (k1_hw5 : k1_chk5 v41) (k1_t5 : Fin (k1_t5_loop v41).trips), ∀ a, (k1_off372 v41 k1_t5) a + S1x1x16.size a ≤ S4x32x128.size a := fun v41 k1_hw5 k1_t5 => k1_hw5.2.2.2.2.2.2.2.2.2.2.1.2.1 k1_t5
theorem k1_off373_inb : ∀ (v41 : BitVec 32) (k1_hw5 : k1_chk5 v41) (k1_t5 : Fin (k1_t5_loop v41).trips), ∀ a, (k1_off373 v41 k1_t5) a + S1x1x16.size a ≤ S4x32x128.size a := fun v41 k1_hw5 k1_t5 => k1_hw5.2.2.2.2.2.2.2.2.2.2.1.2.2.1 k1_t5
theorem k1_off374_inb : ∀ (v41 : BitVec 32) (k1_hw5 : k1_chk5 v41) (k1_t5 : Fin (k1_t5_loop v41).trips), ∀ a, (k1_off374 v41 k1_t5) a + S1x1x16.size a ≤ S4x32x128.size a := fun v41 k1_hw5 k1_t5 => k1_hw5.2.2.2.2.2.2.2.2.2.2.1.2.2.2.1 k1_t5
theorem k1_off375_inb : ∀ (v41 : BitVec 32) (k1_hw5 : k1_chk5 v41) (k1_t5 : Fin (k1_t5_loop v41).trips), ∀ a, (k1_off375 v41 k1_t5) a + S1x1x16.size a ≤ S4x32x128.size a := fun v41 k1_hw5 k1_t5 => k1_hw5.2.2.2.2.2.2.2.2.2.2.1.2.2.2.2.1 k1_t5
theorem k1_off376_inb : ∀ (v41 : BitVec 32) (k1_hw5 : k1_chk5 v41) (k1_t5 : Fin (k1_t5_loop v41).trips), ∀ a, (k1_off376 v41 k1_t5) a + S1x1x16.size a ≤ S4x32x128.size a := fun v41 k1_hw5 k1_t5 => k1_hw5.2.2.2.2.2.2.2.2.2.2.1.2.2.2.2.2.1 k1_t5
theorem k1_off377_inb : ∀ (v41 : BitVec 32) (k1_hw5 : k1_chk5 v41) (k1_t5 : Fin (k1_t5_loop v41).trips), ∀ a, (k1_off377 v41 k1_t5) a + S1x1x16.size a ≤ S4x32x128.size a := fun v41 k1_hw5 k1_t5 => k1_hw5.2.2.2.2.2.2.2.2.2.2.1.2.2.2.2.2.2.1 k1_t5
theorem k1_off378_inb : ∀ (v41 : BitVec 32) (k1_hw5 : k1_chk5 v41) (k1_t5 : Fin (k1_t5_loop v41).trips), ∀ a, (k1_off378 v41 k1_t5) a + S1x1x16.size a ≤ S4x32x128.size a := fun v41 k1_hw5 k1_t5 => k1_hw5.2.2.2.2.2.2.2.2.2.2.1.2.2.2.2.2.2.2.1 k1_t5
theorem k1_off380_inb : ∀ (v41 : BitVec 32) (k1_hw5 : k1_chk5 v41) (k1_t5 : Fin (k1_t5_loop v41).trips), ∀ a, (k1_off380 v41 k1_t5) a + S1x1x16.size a ≤ S4x32x128.size a := fun v41 k1_hw5 k1_t5 => k1_hw5.2.2.2.2.2.2.2.2.2.2.1.2.2.2.2.2.2.2.2.1 k1_t5
theorem k1_off381_inb : ∀ (v41 : BitVec 32) (k1_hw5 : k1_chk5 v41) (k1_t5 : Fin (k1_t5_loop v41).trips), ∀ a, (k1_off381 v41 k1_t5) a + S1x1x16.size a ≤ S4x32x128.size a := fun v41 k1_hw5 k1_t5 => k1_hw5.2.2.2.2.2.2.2.2.2.2.1.2.2.2.2.2.2.2.2.2.1 k1_t5
theorem k1_off382_inb : ∀ (v41 : BitVec 32) (k1_hw5 : k1_chk5 v41) (k1_t5 : Fin (k1_t5_loop v41).trips), ∀ a, (k1_off382 v41 k1_t5) a + S1x1x16.size a ≤ S4x32x128.size a := fun v41 k1_hw5 k1_t5 => k1_hw5.2.2.2.2.2.2.2.2.2.2.1.2.2.2.2.2.2.2.2.2.2.1 k1_t5
theorem k1_off383_inb : ∀ (v41 : BitVec 32) (k1_hw5 : k1_chk5 v41) (k1_t5 : Fin (k1_t5_loop v41).trips), ∀ a, (k1_off383 v41 k1_t5) a + S1x1x16.size a ≤ S4x32x128.size a := fun v41 k1_hw5 k1_t5 => k1_hw5.2.2.2.2.2.2.2.2.2.2.1.2.2.2.2.2.2.2.2.2.2.2.1 k1_t5
theorem k1_off384_inb : ∀ (v41 : BitVec 32) (k1_hw5 : k1_chk5 v41) (k1_t5 : Fin (k1_t5_loop v41).trips), ∀ a, (k1_off384 v41 k1_t5) a + S1x1x16.size a ≤ S4x32x128.size a := fun v41 k1_hw5 k1_t5 => k1_hw5.2.2.2.2.2.2.2.2.2.2.1.2.2.2.2.2.2.2.2.2.2.2.2.1 k1_t5
theorem k1_off385_inb : ∀ (v41 : BitVec 32) (k1_hw5 : k1_chk5 v41) (k1_t5 : Fin (k1_t5_loop v41).trips), ∀ a, (k1_off385 v41 k1_t5) a + S1x1x16.size a ≤ S4x32x128.size a := fun v41 k1_hw5 k1_t5 => k1_hw5.2.2.2.2.2.2.2.2.2.2.1.2.2.2.2.2.2.2.2.2.2.2.2.2.1 k1_t5
theorem k1_off386_inb : ∀ (v41 : BitVec 32) (k1_hw5 : k1_chk5 v41) (k1_t5 : Fin (k1_t5_loop v41).trips), ∀ a, (k1_off386 v41 k1_t5) a + S1x1x16.size a ≤ S4x32x128.size a := fun v41 k1_hw5 k1_t5 => k1_hw5.2.2.2.2.2.2.2.2.2.2.1.2.2.2.2.2.2.2.2.2.2.2.2.2.2.1 k1_t5
theorem k1_off387_inb : ∀ (v41 : BitVec 32) (k1_hw5 : k1_chk5 v41) (k1_t5 : Fin (k1_t5_loop v41).trips), ∀ a, (k1_off387 v41 k1_t5) a + S1x1x16.size a ≤ S4x32x128.size a := fun v41 k1_hw5 k1_t5 => k1_hw5.2.2.2.2.2.2.2.2.2.2.1.2.2.2.2.2.2.2.2.2.2.2.2.2.2.2.1 k1_t5
theorem k1_off389_inb : ∀ (v41 : BitVec 32) (k1_hw5 : k1_chk5 v41) (k1_t5 : Fin (k1_t5_loop v41).trips), ∀ a, (k1_off389 v41 k1_t5) a + S1x1x16.size a ≤ S4x32x128.size a := fun v41 k1_hw5 k1_t5 => k1_hw5.2.2.2.2.2.2.2.2.2.2.1.2.2.2.2.2.2.2.2.2.2.2.2.2.2.2.2.1 k1_t5
theorem k1_off390_inb : ∀ (v41 : BitVec 32) (k1_hw5 : k1_chk5 v41) (k1_t5 : Fin (k1_t5_loop v41).trips), ∀ a, (k1_off390 v41 k1_t5) a + S1x1x16.size a ≤ S4x32x128.size a := fun v41 k1_hw5 k1_t5 => k1_hw5.2.2.2.2.2.2.2.2.2.2.1.2.2.2.2.2.2.2.2.2.2.2.2.2.2.2.2.2.1 k1_t5
theorem k1_off391_inb : ∀ (v41 : BitVec 32) (k1_hw5 : k1_chk5 v41) (k1_t5 : Fin (k1_t5_loop v41).trips), ∀ a, (k1_off391 v41 k1_t5) a + S1x1x16.size a ≤ S4x32x128.size a := fun v41 k1_hw5 k1_t5 => k1_hw5.2.2.2.2.2.2.2.2.2.2.1.2.2.2.2.2.2.2.2.2.2.2.2.2.2.2.2.2.2.1 k1_t5
theorem k1_off392_inb : ∀ (v41 : BitVec 32) (k1_hw5 : k1_chk5 v41) (k1_t5 : Fin (k1_t5_loop v41).trips), ∀ a, (k1_off392 v41 k1_t5) a + S1x1x16.size a ≤ S4x32x128.size a := fun v41 k1_hw5 k1_t5 => k1_hw5.2.2.2.2.2.2.2.2.2.2.1.2.2.2.2.2.2.2.2.2.2.2.2.2.2.2.2.2.2.2.1 k1_t5
theorem k1_off393_inb : ∀ (v41 : BitVec 32) (k1_hw5 : k1_chk5 v41) (k1_t5 : Fin (k1_t5_loop v41).trips), ∀ a, (k1_off393 v41 k1_t5) a + S1x1x16.size a ≤ S4x32x128.size a := fun v41 k1_hw5 k1_t5 => k1_hw5.2.2.2.2.2.2.2.2.2.2.1.2.2.2.2.2.2.2.2.2.2.2.2.2.2.2.2.2.2.2.2.1 k1_t5
theorem k1_off394_inb : ∀ (v41 : BitVec 32) (k1_hw5 : k1_chk5 v41) (k1_t5 : Fin (k1_t5_loop v41).trips), ∀ a, (k1_off394 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.1 k1_t5
theorem k1_off395_inb : ∀ (v41 : BitVec 32) (k1_hw5 : k1_chk5 v41) (k1_t5 : Fin (k1_t5_loop v41).trips), ∀ a, (k1_off395 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.1 k1_t5
theorem k1_off396_inb : ∀ (v41 : BitVec 32) (k1_hw5 : k1_chk5 v41) (k1_t5 : Fin (k1_t5_loop v41).trips), ∀ a, (k1_off396 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.2.1 k1_t5
theorem k1_off398_inb : ∀ (v41 : BitVec 32) (k1_hw5 : k1_chk5 v41) (k1_t5 : Fin (k1_t5_loop v41).trips), ∀ a, (k1_off398 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.2.2.1 k1_t5
theorem k1_off399_inb : ∀ (v41 : BitVec 32) (k1_hw5 : k1_chk5 v41) (k1_t5 : Fin (k1_t5_loop v41).trips), ∀ a, (k1_off399 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.2.2.2.1 k1_t5
theorem k1_off400_inb : ∀ (v41 : BitVec 32) (k1_hw5 : k1_chk5 v41) (k1_t5 : Fin (k1_t5_loop v41).trips), ∀ a, (k1_off400 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.2.2.2.2.1 k1_t5
theorem k1_off401_inb : ∀ (v41 : BitVec 32) (k1_hw5 : k1_chk5 v41) (k1_t5 : Fin (k1_t5_loop v41).trips), ∀ a, (k1_off401 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.2.2.2.2.2.1 k1_t5
theorem k1_off402_inb : ∀ (v41 : BitVec 32) (k1_hw5 : k1_chk5 v41) (k1_t5 : Fin (k1_t5_loop v41).trips), ∀ a, (k1_off402 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.2.2.2.2.2.2.1 k1_t5
theorem k1_off403_inb : ∀ (v41 : BitVec 32) (k1_hw5 : k1_chk5 v41) (k1_t5 : Fin (k1_t5_loop v41).trips), ∀ a, (k1_off403 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.2.2.2.2.2.2.2.1 k1_t5
theorem k1_off404_inb : ∀ (v41 : BitVec 32) (k1_hw5 : k1_chk5 v41) (k1_t5 : Fin (k1_t5_loop v41).trips), ∀ a, (k1_off404 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.2.2.2.2.2.2.2.2.1 k1_t5
theorem k1_off405_inb : ∀ (v41 : BitVec 32) (k1_hw5 : k1_chk5 v41) (k1_t5 : Fin (k1_t5_loop v41).trips), ∀ a, (k1_off405 v41 k1_t5) a + S1x1x16.size a ≤ S4x32x128.size a := fun v41 k1_hw5 k1_t5 => k1_hw5.2.2.2.2.2.2.2.2.2.2.1.2.2.2.2.2.2.2.2.2.2.2.2.2.2.2.2.2.2.2.2.2.2.2.2.2.2.2.2.2.2.2 k1_t5
theorem k1_off407_inb : ∀ (v41 : BitVec 32) (k1_hw5 : k1_chk5 v41) (k1_t5 : Fin (k1_t5_loop v41).trips), ∀ a, (k1_off407 v41 k1_t5) a + S1x1x16.size a ≤ S4x32x128.size a := fun v41 k1_hw5 k1_t5 => k1_hw5.2.2.2.2.2.2.2.2.2.2.2.1.1 k1_t5
theorem k1_off408_inb : ∀ (v41 : BitVec 32) (k1_hw5 : k1_chk5 v41) (k1_t5 : Fin (k1_t5_loop v41).trips), ∀ a, (k1_off408 v41 k1_t5) a + S1x1x16.size a ≤ S4x32x128.size a := fun v41 k1_hw5 k1_t5 => k1_hw5.2.2.2.2.2.2.2.2.2.2.2.1.2.1 k1_t5
theorem k1_off409_inb : ∀ (v41 : BitVec 32) (k1_hw5 : k1_chk5 v41) (k1_t5 : Fin (k1_t5_loop v41).trips), ∀ a, (k1_off409 v41 k1_t5) a + S1x1x16.size a ≤ S4x32x128.size a := fun v41 k1_hw5 k1_t5 => k1_hw5.2.2.2.2.2.2.2.2.2.2.2.1.2.2.1 k1_t5
theorem k1_off410_inb : ∀ (v41 : BitVec 32) (k1_hw5 : k1_chk5 v41) (k1_t5 : Fin (k1_t5_loop v41).trips), ∀ a, (k1_off410 v41 k1_t5) a + S1x1x16.size a ≤ S4x32x128.size a := fun v41 k1_hw5 k1_t5 => k1_hw5.2.2.2.2.2.2.2.2.2.2.2.1.2.2.2.1 k1_t5
theorem k1_off411_inb : ∀ (v41 : BitVec 32) (k1_hw5 : k1_chk5 v41) (k1_t5 : Fin (k1_t5_loop v41).trips), ∀ a, (k1_off411 v41 k1_t5) a + S1x1x16.size a ≤ S4x32x128.size a := fun v41 k1_hw5 k1_t5 => k1_hw5.2.2.2.2.2.2.2.2.2.2.2.1.2.2.2.2.1 k1_t5
theorem k1_off412_inb : ∀ (v41 : BitVec 32) (k1_hw5 : k1_chk5 v41) (k1_t5 : Fin (k1_t5_loop v41).trips), ∀ a, (k1_off412 v41 k1_t5) a + S1x1x16.size a ≤ S4x32x128.size a := fun v41 k1_hw5 k1_t5 => k1_hw5.2.2.2.2.2.2.2.2.2.2.2.1.2.2.2.2.2.1 k1_t5
theorem k1_off413_inb : ∀ (v41 : BitVec 32) (k1_hw5 : k1_chk5 v41) (k1_t5 : Fin (k1_t5_loop v41).trips), ∀ a, (k1_off413 v41 k1_t5) a + S1x1x16.size a ≤ S4x32x128.size a := fun v41 k1_hw5 k1_t5 => k1_hw5.2.2.2.2.2.2.2.2.2.2.2.1.2.2.2.2.2.2.1 k1_t5
theorem k1_off414_inb : ∀ (v41 : BitVec 32) (k1_hw5 : k1_chk5 v41) (k1_t5 : Fin (k1_t5_loop v41).trips), ∀ a, (k1_off414 v41 k1_t5) a + S1x1x16.size a ≤ S4x32x128.size a := fun v41 k1_hw5 k1_t5 => k1_hw5.2.2.2.2.2.2.2.2.2.2.2.1.2.2.2.2.2.2.2.1 k1_t5
theorem k1_off416_inb : ∀ (v41 : BitVec 32) (k1_hw5 : k1_chk5 v41) (k1_t5 : Fin (k1_t5_loop v41).trips), ∀ a, (k1_off416 v41 k1_t5) a + S1x1x16.size a ≤ S4x32x128.size a := fun v41 k1_hw5 k1_t5 => k1_hw5.2.2.2.2.2.2.2.2.2.2.2.1.2.2.2.2.2.2.2.2.1 k1_t5
theorem k1_off417_inb : ∀ (v41 : BitVec 32) (k1_hw5 : k1_chk5 v41) (k1_t5 : Fin (k1_t5_loop v41).trips), ∀ a, (k1_off417 v41 k1_t5) a + S1x1x16.size a ≤ S4x32x128.size a := fun v41 k1_hw5 k1_t5 => k1_hw5.2.2.2.2.2.2.2.2.2.2.2.1.2.2.2.2.2.2.2.2.2.1 k1_t5
theorem k1_off418_inb : ∀ (v41 : BitVec 32) (k1_hw5 : k1_chk5 v41) (k1_t5 : Fin (k1_t5_loop v41).trips), ∀ a, (k1_off418 v41 k1_t5) a + S1x1x16.size a ≤ S4x32x128.size a := fun v41 k1_hw5 k1_t5 => k1_hw5.2.2.2.2.2.2.2.2.2.2.2.1.2.2.2.2.2.2.2.2.2.2.1 k1_t5
theorem k1_off419_inb : ∀ (v41 : BitVec 32) (k1_hw5 : k1_chk5 v41) (k1_t5 : Fin (k1_t5_loop v41).trips), ∀ a, (k1_off419 v41 k1_t5) a + S1x1x16.size a ≤ S4x32x128.size a := fun v41 k1_hw5 k1_t5 => k1_hw5.2.2.2.2.2.2.2.2.2.2.2.1.2.2.2.2.2.2.2.2.2.2.2.1 k1_t5
theorem k1_off420_inb : ∀ (v41 : BitVec 32) (k1_hw5 : k1_chk5 v41) (k1_t5 : Fin (k1_t5_loop v41).trips), ∀ a, (k1_off420 v41 k1_t5) a + S1x1x16.size a ≤ S4x32x128.size a := fun v41 k1_hw5 k1_t5 => k1_hw5.2.2.2.2.2.2.2.2.2.2.2.1.2.2.2.2.2.2.2.2.2.2.2.2.1 k1_t5
theorem k1_off421_inb : ∀ (v41 : BitVec 32) (k1_hw5 : k1_chk5 v41) (k1_t5 : Fin (k1_t5_loop v41).trips), ∀ a, (k1_off421 v41 k1_t5) a + S1x1x16.size a ≤ S4x32x128.size a := fun v41 k1_hw5 k1_t5 => k1_hw5.2.2.2.2.2.2.2.2.2.2.2.1.2.2.2.2.2.2.2.2.2.2.2.2.2.1 k1_t5
theorem k1_off422_inb : ∀ (v41 : BitVec 32) (k1_hw5 : k1_chk5 v41) (k1_t5 : Fin (k1_t5_loop v41).trips), ∀ a, (k1_off422 v41 k1_t5) a + S1x1x16.size a ≤ S4x32x128.size a := fun v41 k1_hw5 k1_t5 => k1_hw5.2.2.2.2.2.2.2.2.2.2.2.1.2.2.2.2.2.2.2.2.2.2.2.2.2.2.1 k1_t5
theorem k1_off423_inb : ∀ (v41 : BitVec 32) (k1_hw5 : k1_chk5 v41) (k1_t5 : Fin (k1_t5_loop v41).trips), ∀ a, (k1_off423 v41 k1_t5) a + S1x1x16.size a ≤ S4x32x128.size a := fun v41 k1_hw5 k1_t5 => k1_hw5.2.2.2.2.2.2.2.2.2.2.2.1.2.2.2.2.2.2.2.2.2.2.2.2.2.2.2.1 k1_t5
theorem k1_off425_inb : ∀ (v41 : BitVec 32) (k1_hw5 : k1_chk5 v41) (k1_t5 : Fin (k1_t5_loop v41).trips), ∀ a, (k1_off425 v41 k1_t5) a + S1x1x16.size a ≤ S4x32x128.size a := fun v41 k1_hw5 k1_t5 => k1_hw5.2.2.2.2.2.2.2.2.2.2.2.1.2.2.2.2.2.2.2.2.2.2.2.2.2.2.2.2.1 k1_t5
theorem k1_off426_inb : ∀ (v41 : BitVec 32) (k1_hw5 : k1_chk5 v41) (k1_t5 : Fin (k1_t5_loop v41).trips), ∀ a, (k1_off426 v41 k1_t5) a + S1x1x16.size a ≤ S4x32x128.size a := fun v41 k1_hw5 k1_t5 => k1_hw5.2.2.2.2.2.2.2.2.2.2.2.1.2.2.2.2.2.2.2.2.2.2.2.2.2.2.2.2.2.1 k1_t5
theorem k1_off427_inb : ∀ (v41 : BitVec 32) (k1_hw5 : k1_chk5 v41) (k1_t5 : Fin (k1_t5_loop v41).trips), ∀ a, (k1_off427 v41 k1_t5) a + S1x1x16.size a ≤ S4x32x128.size a := fun v41 k1_hw5 k1_t5 => k1_hw5.2.2.2.2.2.2.2.2.2.2.2.1.2.2.2.2.2.2.2.2.2.2.2.2.2.2.2.2.2.2.1 k1_t5
theorem k1_off428_inb : ∀ (v41 : BitVec 32) (k1_hw5 : k1_chk5 v41) (k1_t5 : Fin (k1_t5_loop v41).trips), ∀ a, (k1_off428 v41 k1_t5) a + S1x1x16.size a ≤ S4x32x128.size a := fun v41 k1_hw5 k1_t5 => k1_hw5.2.2.2.2.2.2.2.2.2.2.2.1.2.2.2.2.2.2.2.2.2.2.2.2.2.2.2.2.2.2.2.1 k1_t5
theorem k1_off429_inb : ∀ (v41 : BitVec 32) (k1_hw5 : k1_chk5 v41) (k1_t5 : Fin (k1_t5_loop v41).trips), ∀ a, (k1_off429 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.1 k1_t5
theorem k1_off430_inb : ∀ (v41 : BitVec 32) (k1_hw5 : k1_chk5 v41) (k1_t5 : Fin (k1_t5_loop v41).trips), ∀ a, (k1_off430 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.1 k1_t5
theorem k1_off431_inb : ∀ (v41 : BitVec 32) (k1_hw5 : k1_chk5 v41) (k1_t5 : Fin (k1_t5_loop v41).trips), ∀ a, (k1_off431 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.1 k1_t5
theorem k1_off432_inb : ∀ (v41 : BitVec 32) (k1_hw5 : k1_chk5 v41) (k1_t5 : Fin (k1_t5_loop v41).trips), ∀ a, (k1_off432 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.2.1 k1_t5
theorem k1_off434_inb : ∀ (v41 : BitVec 32) (k1_hw5 : k1_chk5 v41) (k1_t5 : Fin (k1_t5_loop v41).trips), ∀ a, (k1_off434 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.2.2.1 k1_t5
theorem k1_off435_inb : ∀ (v41 : BitVec 32) (k1_hw5 : k1_chk5 v41) (k1_t5 : Fin (k1_t5_loop v41).trips), ∀ a, (k1_off435 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.2.2.2.1 k1_t5
theorem k1_off436_inb : ∀ (v41 : BitVec 32) (k1_hw5 : k1_chk5 v41) (k1_t5 : Fin (k1_t5_loop v41).trips), ∀ a, (k1_off436 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.2.2.2.2.1 k1_t5
theorem k1_off437_inb : ∀ (v41 : BitVec 32) (k1_hw5 : k1_chk5 v41) (k1_t5 : Fin (k1_t5_loop v41).trips), ∀ a, (k1_off437 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.2.2.2.2.2.1 k1_t5
theorem k1_off438_inb : ∀ (v41 : BitVec 32) (k1_hw5 : k1_chk5 v41) (k1_t5 : Fin (k1_t5_loop v41).trips), ∀ a, (k1_off438 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.2.2.2.2.2.2.1 k1_t5
theorem k1_off439_inb : ∀ (v41 : BitVec 32) (k1_hw5 : k1_chk5 v41) (k1_t5 : Fin (k1_t5_loop v41).trips), ∀ a, (k1_off439 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.2.2.2.2.2.2.2.1 k1_t5
theorem k1_off440_inb : ∀ (v41 : BitVec 32) (k1_hw5 : k1_chk5 v41) (k1_t5 : Fin (k1_t5_loop v41).trips), ∀ a, (k1_off440 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.2.2.2.2.2.2.2.2.1 k1_t5
theorem k1_off441_inb : ∀ (v41 : BitVec 32) (k1_hw5 : k1_chk5 v41) (k1_t5 : Fin (k1_t5_loop v41).trips), ∀ a, (k1_off441 v41 k1_t5) a + S1x1x16.size a ≤ S4x32x128.size a := fun v41 k1_hw5 k1_t5 => k1_hw5.2.2.2.2.2.2.2.2.2.2.2.1.2.2.2.2.2.2.2.2.2.2.2.2.2.2.2.2.2.2.2.2.2.2.2.2.2.2.2.2.2.2.2 k1_t5
theorem k1_off443_inb : ∀ (v41 : BitVec 32) (k1_hw5 : k1_chk5 v41) (k1_t5 : Fin (k1_t5_loop v41).trips), ∀ a, (k1_off443 v41 k1_t5) a + S1x1x16.size a ≤ S4x32x128.size a := fun v41 k1_hw5 k1_t5 => k1_hw5.2.2.2.2.2.2.2.2.2.2.2.2.1.1 k1_t5
theorem k1_off444_inb : ∀ (v41 : BitVec 32) (k1_hw5 : k1_chk5 v41) (k1_t5 : Fin (k1_t5_loop v41).trips), ∀ a, (k1_off444 v41 k1_t5) a + S1x1x16.size a ≤ S4x32x128.size a := fun v41 k1_hw5 k1_t5 => k1_hw5.2.2.2.2.2.2.2.2.2.2.2.2.1.2.1 k1_t5
theorem k1_off445_inb : ∀ (v41 : BitVec 32) (k1_hw5 : k1_chk5 v41) (k1_t5 : Fin (k1_t5_loop v41).trips), ∀ a, (k1_off445 v41 k1_t5) a + S1x1x16.size a ≤ S4x32x128.size a := fun v41 k1_hw5 k1_t5 => k1_hw5.2.2.2.2.2.2.2.2.2.2.2.2.1.2.2.1 k1_t5
theorem k1_off446_inb : ∀ (v41 : BitVec 32) (k1_hw5 : k1_chk5 v41) (k1_t5 : Fin (k1_t5_loop v41).trips), ∀ a, (k1_off446 v41 k1_t5) a + S1x1x16.size a ≤ S4x32x128.size a := fun v41 k1_hw5 k1_t5 => k1_hw5.2.2.2.2.2.2.2.2.2.2.2.2.1.2.2.2.1 k1_t5
theorem k1_off447_inb : ∀ (v41 : BitVec 32) (k1_hw5 : k1_chk5 v41) (k1_t5 : Fin (k1_t5_loop v41).trips), ∀ a, (k1_off447 v41 k1_t5) a + S1x1x16.size a ≤ S4x32x128.size a := fun v41 k1_hw5 k1_t5 => k1_hw5.2.2.2.2.2.2.2.2.2.2.2.2.1.2.2.2.2.1 k1_t5
theorem k1_off448_inb : ∀ (v41 : BitVec 32) (k1_hw5 : k1_chk5 v41) (k1_t5 : Fin (k1_t5_loop v41).trips), ∀ a, (k1_off448 v41 k1_t5) a + S1x1x16.size a ≤ S4x32x128.size a := fun v41 k1_hw5 k1_t5 => k1_hw5.2.2.2.2.2.2.2.2.2.2.2.2.1.2.2.2.2.2.1 k1_t5
theorem k1_off449_inb : ∀ (v41 : BitVec 32) (k1_hw5 : k1_chk5 v41) (k1_t5 : Fin (k1_t5_loop v41).trips), ∀ a, (k1_off449 v41 k1_t5) a + S1x1x16.size a ≤ S4x32x128.size a := fun v41 k1_hw5 k1_t5 => k1_hw5.2.2.2.2.2.2.2.2.2.2.2.2.1.2.2.2.2.2.2.1 k1_t5
theorem k1_off450_inb : ∀ (v41 : BitVec 32) (k1_hw5 : k1_chk5 v41) (k1_t5 : Fin (k1_t5_loop v41).trips), ∀ a, (k1_off450 v41 k1_t5) a + S1x1x16.size a ≤ S4x32x128.size a := fun v41 k1_hw5 k1_t5 => k1_hw5.2.2.2.2.2.2.2.2.2.2.2.2.1.2.2.2.2.2.2.2.1 k1_t5
theorem k1_off452_inb : ∀ (v41 : BitVec 32) (k1_hw5 : k1_chk5 v41) (k1_t5 : Fin (k1_t5_loop v41).trips), ∀ a, (k1_off452 v41 k1_t5) a + S1x1x16.size a ≤ S4x32x128.size a := fun v41 k1_hw5 k1_t5 => k1_hw5.2.2.2.2.2.2.2.2.2.2.2.2.1.2.2.2.2.2.2.2.2.1 k1_t5
theorem k1_off453_inb : ∀ (v41 : BitVec 32) (k1_hw5 : k1_chk5 v41) (k1_t5 : Fin (k1_t5_loop v41).trips), ∀ a, (k1_off453 v41 k1_t5) a + S1x1x16.size a ≤ S4x32x128.size a := fun v41 k1_hw5 k1_t5 => k1_hw5.2.2.2.2.2.2.2.2.2.2.2.2.1.2.2.2.2.2.2.2.2.2.1 k1_t5
theorem k1_off454_inb : ∀ (v41 : BitVec 32) (k1_hw5 : k1_chk5 v41) (k1_t5 : Fin (k1_t5_loop v41).trips), ∀ a, (k1_off454 v41 k1_t5) a + S1x1x16.size a ≤ S4x32x128.size a := fun v41 k1_hw5 k1_t5 => k1_hw5.2.2.2.2.2.2.2.2.2.2.2.2.1.2.2.2.2.2.2.2.2.2.2.1 k1_t5
theorem k1_off455_inb : ∀ (v41 : BitVec 32) (k1_hw5 : k1_chk5 v41) (k1_t5 : Fin (k1_t5_loop v41).trips), ∀ a, (k1_off455 v41 k1_t5) a + S1x1x16.size a ≤ S4x32x128.size a := fun v41 k1_hw5 k1_t5 => k1_hw5.2.2.2.2.2.2.2.2.2.2.2.2.1.2.2.2.2.2.2.2.2.2.2.2.1 k1_t5
theorem k1_off456_inb : ∀ (v41 : BitVec 32) (k1_hw5 : k1_chk5 v41) (k1_t5 : Fin (k1_t5_loop v41).trips), ∀ a, (k1_off456 v41 k1_t5) a + S1x1x16.size a ≤ S4x32x128.size a := fun v41 k1_hw5 k1_t5 => k1_hw5.2.2.2.2.2.2.2.2.2.2.2.2.1.2.2.2.2.2.2.2.2.2.2.2.2.1 k1_t5
theorem k1_off457_inb : ∀ (v41 : BitVec 32) (k1_hw5 : k1_chk5 v41) (k1_t5 : Fin (k1_t5_loop v41).trips), ∀ a, (k1_off457 v41 k1_t5) a + S1x1x16.size a ≤ S4x32x128.size a := fun v41 k1_hw5 k1_t5 => k1_hw5.2.2.2.2.2.2.2.2.2.2.2.2.1.2.2.2.2.2.2.2.2.2.2.2.2.2.1 k1_t5
theorem k1_off458_inb : ∀ (v41 : BitVec 32) (k1_hw5 : k1_chk5 v41) (k1_t5 : Fin (k1_t5_loop v41).trips), ∀ a, (k1_off458 v41 k1_t5) a + S1x1x16.size a ≤ S4x32x128.size a := fun v41 k1_hw5 k1_t5 => k1_hw5.2.2.2.2.2.2.2.2.2.2.2.2.1.2.2.2.2.2.2.2.2.2.2.2.2.2.2.1 k1_t5
theorem k1_off459_inb : ∀ (v41 : BitVec 32) (k1_hw5 : k1_chk5 v41) (k1_t5 : Fin (k1_t5_loop v41).trips), ∀ a, (k1_off459 v41 k1_t5) a + S1x1x16.size a ≤ S4x32x128.size a := fun v41 k1_hw5 k1_t5 => k1_hw5.2.2.2.2.2.2.2.2.2.2.2.2.1.2.2.2.2.2.2.2.2.2.2.2.2.2.2.2.1 k1_t5
theorem k1_off460_inb : ∀ (v41 : BitVec 32) (k1_hw5 : k1_chk5 v41) (k1_t5 : Fin (k1_t5_loop v41).trips), ∀ a, (k1_off460 v41 k1_t5) a + S16.size a ≤ S8032.size a := fun v41 k1_hw5 k1_t5 => k1_hw5.2.2.2.2.2.2.2.2.2.2.2.2.1.2.2.2.2.2.2.2.2.2.2.2.2.2.2.2.2.1 k1_t5
theorem k1_off462_inb : ∀ (v41 : BitVec 32) (k1_hw5 : k1_chk5 v41) (k1_t5 : Fin (k1_t5_loop v41).trips), ∀ a, (k1_off462 v41 k1_t5) a + S1x1x16.size a ≤ S4x32x128.size a := fun v41 k1_hw5 k1_t5 => k1_hw5.2.2.2.2.2.2.2.2.2.2.2.2.1.2.2.2.2.2.2.2.2.2.2.2.2.2.2.2.2.2.1 k1_t5
theorem k1_off463_inb : ∀ (v41 : BitVec 32) (k1_hw5 : k1_chk5 v41) (k1_t5 : Fin (k1_t5_loop v41).trips), ∀ a, (k1_off463 v41 k1_t5) a + S1x1x16.size a ≤ S4x32x128.size a := fun v41 k1_hw5 k1_t5 => k1_hw5.2.2.2.2.2.2.2.2.2.2.2.2.1.2.2.2.2.2.2.2.2.2.2.2.2.2.2.2.2.2.2.1 k1_t5
theorem k1_off464_inb : ∀ (v41 : BitVec 32) (k1_hw5 : k1_chk5 v41) (k1_t5 : Fin (k1_t5_loop v41).trips), ∀ a, (k1_off464 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.1 k1_t5
theorem k1_off465_inb : ∀ (v41 : BitVec 32) (k1_hw5 : k1_chk5 v41) (k1_t5 : Fin (k1_t5_loop v41).trips), ∀ a, (k1_off465 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.1 k1_t5
theorem k1_off466_inb : ∀ (v41 : BitVec 32) (k1_hw5 : k1_chk5 v41) (k1_t5 : Fin (k1_t5_loop v41).trips), ∀ a, (k1_off466 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.1 k1_t5
theorem k1_off467_inb : ∀ (v41 : BitVec 32) (k1_hw5 : k1_chk5 v41) (k1_t5 : Fin (k1_t5_loop v41).trips), ∀ a, (k1_off467 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.1 k1_t5
theorem k1_off468_inb : ∀ (v41 : BitVec 32) (k1_hw5 : k1_chk5 v41) (k1_t5 : Fin (k1_t5_loop v41).trips), ∀ a, (k1_off468 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.2.1 k1_t5
theorem k1_off469_inb : ∀ (v41 : BitVec 32) (k1_hw5 : k1_chk5 v41) (k1_t5 : Fin (k1_t5_loop v41).trips), ∀ a, (k1_off469 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.2.2.1 k1_t5
theorem k1_off471_inb : ∀ (v41 : BitVec 32) (k1_hw5 : k1_chk5 v41) (k1_t5 : Fin (k1_t5_loop v41).trips), ∀ a, (k1_off471 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.2.2.2.1 k1_t5
theorem k1_off472_inb : ∀ (v41 : BitVec 32) (k1_hw5 : k1_chk5 v41) (k1_t5 : Fin (k1_t5_loop v41).trips), ∀ a, (k1_off472 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.2.2.2.2.1 k1_t5
theorem k1_off473_inb : ∀ (v41 : BitVec 32) (k1_hw5 : k1_chk5 v41) (k1_t5 : Fin (k1_t5_loop v41).trips), ∀ a, (k1_off473 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.2.2.2.2.2.1 k1_t5
theorem k1_off474_inb : ∀ (v41 : BitVec 32) (k1_hw5 : k1_chk5 v41) (k1_t5 : Fin (k1_t5_loop v41).trips), ∀ a, (k1_off474 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.2.2.2.2.2.2.1 k1_t5
theorem k1_off475_inb : ∀ (v41 : BitVec 32) (k1_hw5 : k1_chk5 v41) (k1_t5 : Fin (k1_t5_loop v41).trips), ∀ a, (k1_off475 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.2.2.2.2.2.2.2.1 k1_t5
theorem k1_off476_inb : ∀ (v41 : BitVec 32) (k1_hw5 : k1_chk5 v41) (k1_t5 : Fin (k1_t5_loop v41).trips), ∀ a, (k1_off476 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.2.2.2.2.2.2.2.2.1 k1_t5
theorem k1_off477_inb : ∀ (v41 : BitVec 32) (k1_hw5 : k1_chk5 v41) (k1_t5 : Fin (k1_t5_loop v41).trips), ∀ a, (k1_off477 v41 k1_t5) a + S1x1x16.size a ≤ S4x32x128.size a := fun v41 k1_hw5 k1_t5 => k1_hw5.2.2.2.2.2.2.2.2.2.2.2.2.1.2.2.2.2.2.2.2.2.2.2.2.2.2.2.2.2.2.2.2.2.2.2.2.2.2.2.2.2.2.2.2 k1_t5
theorem k1_off478_inb : ∀ (v41 : BitVec 32) (k1_hw5 : k1_chk5 v41) (k1_t5 : Fin (k1_t5_loop v41).trips), ∀ a, (k1_off478 v41 k1_t5) a + S1x1x16.size a ≤ S4x32x128.size a := fun v41 k1_hw5 k1_t5 => k1_hw5.2.2.2.2.2.2.2.2.2.2.2.2.2.1.1 k1_t5
theorem k1_off480_inb : ∀ (v41 : BitVec 32) (k1_hw5 : k1_chk5 v41) (k1_t5 : Fin (k1_t5_loop v41).trips), ∀ a, (k1_off480 v41 k1_t5) a + S1x1x16.size a ≤ S4x32x128.size a := fun v41 k1_hw5 k1_t5 => k1_hw5.2.2.2.2.2.2.2.2.2.2.2.2.2.1.2.1 k1_t5
theorem k1_off481_inb : ∀ (v41 : BitVec 32) (k1_hw5 : k1_chk5 v41) (k1_t5 : Fin (k1_t5_loop v41).trips), ∀ a, (k1_off481 v41 k1_t5) a + S1x1x16.size a ≤ S4x32x128.size a := fun v41 k1_hw5 k1_t5 => k1_hw5.2.2.2.2.2.2.2.2.2.2.2.2.2.1.2.2.1 k1_t5
theorem k1_off482_inb : ∀ (v41 : BitVec 32) (k1_hw5 : k1_chk5 v41) (k1_t5 : Fin (k1_t5_loop v41).trips), ∀ a, (k1_off482 v41 k1_t5) a + S1x1x16.size a ≤ S4x32x128.size a := fun v41 k1_hw5 k1_t5 => k1_hw5.2.2.2.2.2.2.2.2.2.2.2.2.2.1.2.2.2.1 k1_t5
theorem k1_off483_inb : ∀ (v41 : BitVec 32) (k1_hw5 : k1_chk5 v41) (k1_t5 : Fin (k1_t5_loop v41).trips), ∀ a, (k1_off483 v41 k1_t5) a + S1x1x16.size a ≤ S4x32x128.size a := fun v41 k1_hw5 k1_t5 => k1_hw5.2.2.2.2.2.2.2.2.2.2.2.2.2.1.2.2.2.2.1 k1_t5
theorem k1_off484_inb : ∀ (v41 : BitVec 32) (k1_hw5 : k1_chk5 v41) (k1_t5 : Fin (k1_t5_loop v41).trips), ∀ a, (k1_off484 v41 k1_t5) a + S1x1x16.size a ≤ S4x32x128.size a := fun v41 k1_hw5 k1_t5 => k1_hw5.2.2.2.2.2.2.2.2.2.2.2.2.2.1.2.2.2.2.2.1 k1_t5
theorem k1_off485_inb : ∀ (v41 : BitVec 32) (k1_hw5 : k1_chk5 v41) (k1_t5 : Fin (k1_t5_loop v41).trips), ∀ a, (k1_off485 v41 k1_t5) a + S1x1x16.size a ≤ S4x32x128.size a := fun v41 k1_hw5 k1_t5 => k1_hw5.2.2.2.2.2.2.2.2.2.2.2.2.2.1.2.2.2.2.2.2.1 k1_t5
theorem k1_off486_inb : ∀ (v41 : BitVec 32) (k1_hw5 : k1_chk5 v41) (k1_t5 : Fin (k1_t5_loop v41).trips), ∀ a, (k1_off486 v41 k1_t5) a + S1x1x16.size a ≤ S4x32x128.size a := fun v41 k1_hw5 k1_t5 => k1_hw5.2.2.2.2.2.2.2.2.2.2.2.2.2.1.2.2.2.2.2.2.2.1 k1_t5
theorem k1_off487_inb : ∀ (v41 : BitVec 32) (k1_hw5 : k1_chk5 v41) (k1_t5 : Fin (k1_t5_loop v41).trips), ∀ a, (k1_off487 v41 k1_t5) a + S1x1x16.size a ≤ S4x32x128.size a := fun v41 k1_hw5 k1_t5 => k1_hw5.2.2.2.2.2.2.2.2.2.2.2.2.2.1.2.2.2.2.2.2.2.2.1 k1_t5
theorem k1_off489_inb : ∀ (v41 : BitVec 32) (k1_hw5 : k1_chk5 v41) (k1_t5 : Fin (k1_t5_loop v41).trips), ∀ a, (k1_off489 v41 k1_t5) a + S1x1x16.size a ≤ S4x32x128.size a := fun v41 k1_hw5 k1_t5 => k1_hw5.2.2.2.2.2.2.2.2.2.2.2.2.2.1.2.2.2.2.2.2.2.2.2.1 k1_t5
theorem k1_off490_inb : ∀ (v41 : BitVec 32) (k1_hw5 : k1_chk5 v41) (k1_t5 : Fin (k1_t5_loop v41).trips), ∀ a, (k1_off490 v41 k1_t5) a + S1x1x16.size a ≤ S4x32x128.size a := fun v41 k1_hw5 k1_t5 => k1_hw5.2.2.2.2.2.2.2.2.2.2.2.2.2.1.2.2.2.2.2.2.2.2.2.2.1 k1_t5
theorem k1_off491_inb : ∀ (v41 : BitVec 32) (k1_hw5 : k1_chk5 v41) (k1_t5 : Fin (k1_t5_loop v41).trips), ∀ a, (k1_off491 v41 k1_t5) a + S1x1x16.size a ≤ S4x32x128.size a := fun v41 k1_hw5 k1_t5 => k1_hw5.2.2.2.2.2.2.2.2.2.2.2.2.2.1.2.2.2.2.2.2.2.2.2.2.2.1 k1_t5
theorem k1_off492_inb : ∀ (v41 : BitVec 32) (k1_hw5 : k1_chk5 v41) (k1_t5 : Fin (k1_t5_loop v41).trips), ∀ a, (k1_off492 v41 k1_t5) a + S1x1x16.size a ≤ S4x32x128.size a := fun v41 k1_hw5 k1_t5 => k1_hw5.2.2.2.2.2.2.2.2.2.2.2.2.2.1.2.2.2.2.2.2.2.2.2.2.2.2.1 k1_t5
theorem k1_off493_inb : ∀ (v41 : BitVec 32) (k1_hw5 : k1_chk5 v41) (k1_t5 : Fin (k1_t5_loop v41).trips), ∀ a, (k1_off493 v41 k1_t5) a + S1x1x16.size a ≤ S4x32x128.size a := fun v41 k1_hw5 k1_t5 => k1_hw5.2.2.2.2.2.2.2.2.2.2.2.2.2.1.2.2.2.2.2.2.2.2.2.2.2.2.2.1 k1_t5
theorem k1_off494_inb : ∀ (v41 : BitVec 32) (k1_hw5 : k1_chk5 v41) (k1_t5 : Fin (k1_t5_loop v41).trips), ∀ a, (k1_off494 v41 k1_t5) a + S1x1x16.size a ≤ S4x32x128.size a := fun v41 k1_hw5 k1_t5 => k1_hw5.2.2.2.2.2.2.2.2.2.2.2.2.2.1.2.2.2.2.2.2.2.2.2.2.2.2.2.2.1 k1_t5
theorem k1_off495_inb : ∀ (v41 : BitVec 32) (k1_hw5 : k1_chk5 v41) (k1_t5 : Fin (k1_t5_loop v41).trips), ∀ a, (k1_off495 v41 k1_t5) a + S1x1x16.size a ≤ S4x32x128.size a := fun v41 k1_hw5 k1_t5 => k1_hw5.2.2.2.2.2.2.2.2.2.2.2.2.2.1.2.2.2.2.2.2.2.2.2.2.2.2.2.2.2.1 k1_t5
theorem k1_off496_inb : ∀ (v41 : BitVec 32) (k1_hw5 : k1_chk5 v41) (k1_t5 : Fin (k1_t5_loop v41).trips), ∀ a, (k1_off496 v41 k1_t5) a + S1x1x16.size a ≤ S4x32x128.size a := fun v41 k1_hw5 k1_t5 => k1_hw5.2.2.2.2.2.2.2.2.2.2.2.2.2.1.2.2.2.2.2.2.2.2.2.2.2.2.2.2.2.2.1 k1_t5
theorem k1_off498_inb : ∀ (v41 : BitVec 32) (k1_hw5 : k1_chk5 v41) (k1_t5 : Fin (k1_t5_loop v41).trips), ∀ a, (k1_off498 v41 k1_t5) a + S1x1x16.size a ≤ S4x32x128.size a := fun v41 k1_hw5 k1_t5 => k1_hw5.2.2.2.2.2.2.2.2.2.2.2.2.2.1.2.2.2.2.2.2.2.2.2.2.2.2.2.2.2.2.2.1 k1_t5
theorem k1_off499_inb : ∀ (v41 : BitVec 32) (k1_hw5 : k1_chk5 v41) (k1_t5 : Fin (k1_t5_loop v41).trips), ∀ a, (k1_off499 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.1 k1_t5
theorem k1_off500_inb : ∀ (v41 : BitVec 32) (k1_hw5 : k1_chk5 v41) (k1_t5 : Fin (k1_t5_loop v41).trips), ∀ a, (k1_off500 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.1 k1_t5
theorem k1_off501_inb : ∀ (v41 : BitVec 32) (k1_hw5 : k1_chk5 v41) (k1_t5 : Fin (k1_t5_loop v41).trips), ∀ a, (k1_off501 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.1 k1_t5
theorem k1_off502_inb : ∀ (v41 : BitVec 32) (k1_hw5 : k1_chk5 v41) (k1_t5 : Fin (k1_t5_loop v41).trips), ∀ a, (k1_off502 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.1 k1_t5
theorem k1_off503_inb : ∀ (v41 : BitVec 32) (k1_hw5 : k1_chk5 v41) (k1_t5 : Fin (k1_t5_loop v41).trips), ∀ a, (k1_off503 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.1 k1_t5
theorem k1_off504_inb : ∀ (v41 : BitVec 32) (k1_hw5 : k1_chk5 v41) (k1_t5 : Fin (k1_t5_loop v41).trips), ∀ a, (k1_off504 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.2.1 k1_t5
theorem k1_off505_inb : ∀ (v41 : BitVec 32) (k1_hw5 : k1_chk5 v41) (k1_t5 : Fin (k1_t5_loop v41).trips), ∀ a, (k1_off505 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.2.2.1 k1_t5
theorem k1_off507_inb : ∀ (v41 : BitVec 32) (k1_hw5 : k1_chk5 v41) (k1_t5 : Fin (k1_t5_loop v41).trips), ∀ a, (k1_off507 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.2.2.2.1 k1_t5
theorem k1_off508_inb : ∀ (v41 : BitVec 32) (k1_hw5 : k1_chk5 v41) (k1_t5 : Fin (k1_t5_loop v41).trips), ∀ a, (k1_off508 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.2.2.2.2.1 k1_t5
theorem k1_off509_inb : ∀ (v41 : BitVec 32) (k1_hw5 : k1_chk5 v41) (k1_t5 : Fin (k1_t5_loop v41).trips), ∀ a, (k1_off509 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.2.2.2.2.2.1 k1_t5
theorem k1_off510_inb : ∀ (v41 : BitVec 32) (k1_hw5 : k1_chk5 v41) (k1_t5 : Fin (k1_t5_loop v41).trips), ∀ a, (k1_off510 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.2.2.2.2.2.2.1 k1_t5
theorem k1_off511_inb : ∀ (v41 : BitVec 32) (k1_hw5 : k1_chk5 v41) (k1_t5 : Fin (k1_t5_loop v41).trips), ∀ a, (k1_off511 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.2.2.2.2.2.2.2.1 k1_t5
theorem k1_off512_inb : ∀ (v41 : BitVec 32) (k1_hw5 : k1_chk5 v41) (k1_t5 : Fin (k1_t5_loop v41).trips), ∀ a, (k1_off512 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.2.2.2.2.2.2.2.2.1 k1_t5
theorem k1_off513_inb : ∀ (v41 : BitVec 32) (k1_hw5 : k1_chk5 v41) (k1_t5 : Fin (k1_t5_loop v41).trips), ∀ a, (k1_off513 v41 k1_t5) a + S1x1x16.size a ≤ S4x32x128.size a := fun v41 k1_hw5 k1_t5 => k1_hw5.2.2.2.2.2.2.2.2.2.2.2.2.2.1.2.2.2.2.2.2.2.2.2.2.2.2.2.2.2.2.2.2.2.2.2.2.2.2.2.2.2.2.2.2.2 k1_t5
theorem k1_off514_inb : ∀ (v41 : BitVec 32) (k1_hw5 : k1_chk5 v41) (k1_t5 : Fin (k1_t5_loop v41).trips), ∀ a, (k1_off514 v41 k1_t5) a + S1x1x16.size a ≤ S4x32x128.size a := fun v41 k1_hw5 k1_t5 => k1_hw5.2.2.2.2.2.2.2.2.2.2.2.2.2.2.1.1 k1_t5
theorem k1_off516_inb : ∀ (v41 : BitVec 32) (k1_hw5 : k1_chk5 v41) (k1_t5 : Fin (k1_t5_loop v41).trips), ∀ a, (k1_off516 v41 k1_t5) a + S1x1x16.size a ≤ S4x32x128.size a := fun v41 k1_hw5 k1_t5 => k1_hw5.2.2.2.2.2.2.2.2.2.2.2.2.2.2.1.2.1 k1_t5
theorem k1_off517_inb : ∀ (v41 : BitVec 32) (k1_hw5 : k1_chk5 v41) (k1_t5 : Fin (k1_t5_loop v41).trips), ∀ a, (k1_off517 v41 k1_t5) a + S1x1x16.size a ≤ S4x32x128.size a := fun v41 k1_hw5 k1_t5 => k1_hw5.2.2.2.2.2.2.2.2.2.2.2.2.2.2.1.2.2.1 k1_t5
theorem k1_off518_inb : ∀ (v41 : BitVec 32) (k1_hw5 : k1_chk5 v41) (k1_t5 : Fin (k1_t5_loop v41).trips), ∀ a, (k1_off518 v41 k1_t5) a + S1x1x16.size a ≤ S4x32x128.size a := fun v41 k1_hw5 k1_t5 => k1_hw5.2.2.2.2.2.2.2.2.2.2.2.2.2.2.1.2.2.2.1 k1_t5
theorem k1_off519_inb : ∀ (v41 : BitVec 32) (k1_hw5 : k1_chk5 v41) (k1_t5 : Fin (k1_t5_loop v41).trips), ∀ a, (k1_off519 v41 k1_t5) a + S1x1x16.size a ≤ S4x32x128.size a := fun v41 k1_hw5 k1_t5 => k1_hw5.2.2.2.2.2.2.2.2.2.2.2.2.2.2.1.2.2.2.2.1 k1_t5
theorem k1_off520_inb : ∀ (v41 : BitVec 32) (k1_hw5 : k1_chk5 v41) (k1_t5 : Fin (k1_t5_loop v41).trips), ∀ a, (k1_off520 v41 k1_t5) a + S1x1x16.size a ≤ S4x32x128.size a := fun v41 k1_hw5 k1_t5 => k1_hw5.2.2.2.2.2.2.2.2.2.2.2.2.2.2.1.2.2.2.2.2.1 k1_t5
theorem k1_off521_inb : ∀ (v41 : BitVec 32) (k1_hw5 : k1_chk5 v41) (k1_t5 : Fin (k1_t5_loop v41).trips), ∀ a, (k1_off521 v41 k1_t5) a + S1x1x16.size a ≤ S4x32x128.size a := fun v41 k1_hw5 k1_t5 => k1_hw5.2.2.2.2.2.2.2.2.2.2.2.2.2.2.1.2.2.2.2.2.2.1 k1_t5
theorem k1_off522_inb : ∀ (v41 : BitVec 32) (k1_hw5 : k1_chk5 v41) (k1_t5 : Fin (k1_t5_loop v41).trips), ∀ a, (k1_off522 v41 k1_t5) a + S1x1x16.size a ≤ S4x32x128.size a := fun v41 k1_hw5 k1_t5 => k1_hw5.2.2.2.2.2.2.2.2.2.2.2.2.2.2.1.2.2.2.2.2.2.2.1 k1_t5
theorem k1_off523_inb : ∀ (v41 : BitVec 32) (k1_hw5 : k1_chk5 v41) (k1_t5 : Fin (k1_t5_loop v41).trips), ∀ a, (k1_off523 v41 k1_t5) a + S1x1x16.size a ≤ S4x32x128.size a := fun v41 k1_hw5 k1_t5 => k1_hw5.2.2.2.2.2.2.2.2.2.2.2.2.2.2.1.2.2.2.2.2.2.2.2.1 k1_t5
theorem k1_off525_inb : ∀ (v41 : BitVec 32) (k1_hw5 : k1_chk5 v41) (k1_t5 : Fin (k1_t5_loop v41).trips), ∀ a, (k1_off525 v41 k1_t5) a + S1x1x16.size a ≤ S4x32x128.size a := fun v41 k1_hw5 k1_t5 => k1_hw5.2.2.2.2.2.2.2.2.2.2.2.2.2.2.1.2.2.2.2.2.2.2.2.2.1 k1_t5
theorem k1_off526_inb : ∀ (v41 : BitVec 32) (k1_hw5 : k1_chk5 v41) (k1_t5 : Fin (k1_t5_loop v41).trips), ∀ a, (k1_off526 v41 k1_t5) a + S1x1x16.size a ≤ S4x32x128.size a := fun v41 k1_hw5 k1_t5 => k1_hw5.2.2.2.2.2.2.2.2.2.2.2.2.2.2.1.2.2.2.2.2.2.2.2.2.2.1 k1_t5
theorem k1_off527_inb : ∀ (v41 : BitVec 32) (k1_hw5 : k1_chk5 v41) (k1_t5 : Fin (k1_t5_loop v41).trips), ∀ a, (k1_off527 v41 k1_t5) a + S1x1x16.size a ≤ S4x32x128.size a := fun v41 k1_hw5 k1_t5 => k1_hw5.2.2.2.2.2.2.2.2.2.2.2.2.2.2.1.2.2.2.2.2.2.2.2.2.2.2.1 k1_t5
theorem k1_off528_inb : ∀ (v41 : BitVec 32) (k1_hw5 : k1_chk5 v41) (k1_t5 : Fin (k1_t5_loop v41).trips), ∀ a, (k1_off528 v41 k1_t5) a + S1x1x16.size a ≤ S4x32x128.size a := fun v41 k1_hw5 k1_t5 => k1_hw5.2.2.2.2.2.2.2.2.2.2.2.2.2.2.1.2.2.2.2.2.2.2.2.2.2.2.2.1 k1_t5
theorem k1_off529_inb : ∀ (v41 : BitVec 32) (k1_hw5 : k1_chk5 v41) (k1_t5 : Fin (k1_t5_loop v41).trips), ∀ a, (k1_off529 v41 k1_t5) a + S1x1x16.size a ≤ S4x32x128.size a := fun v41 k1_hw5 k1_t5 => k1_hw5.2.2.2.2.2.2.2.2.2.2.2.2.2.2.1.2.2.2.2.2.2.2.2.2.2.2.2.2.1 k1_t5
theorem k1_off530_inb : ∀ (v41 : BitVec 32) (k1_hw5 : k1_chk5 v41) (k1_t5 : Fin (k1_t5_loop v41).trips), ∀ a, (k1_off530 v41 k1_t5) a + S1x1x16.size a ≤ S4x32x128.size a := fun v41 k1_hw5 k1_t5 => k1_hw5.2.2.2.2.2.2.2.2.2.2.2.2.2.2.1.2.2.2.2.2.2.2.2.2.2.2.2.2.2.1 k1_t5
theorem k1_off531_inb : ∀ (v41 : BitVec 32) (k1_hw5 : k1_chk5 v41) (k1_t5 : Fin (k1_t5_loop v41).trips), ∀ a, (k1_off531 v41 k1_t5) a + S1x1x16.size a ≤ S4x32x128.size a := fun v41 k1_hw5 k1_t5 => k1_hw5.2.2.2.2.2.2.2.2.2.2.2.2.2.2.1.2.2.2.2.2.2.2.2.2.2.2.2.2.2.2.1 k1_t5
theorem k1_off532_inb : ∀ (v41 : BitVec 32) (k1_hw5 : k1_chk5 v41) (k1_t5 : Fin (k1_t5_loop v41).trips), ∀ a, (k1_off532 v41 k1_t5) a + S1x1x16.size a ≤ S4x32x128.size a := fun v41 k1_hw5 k1_t5 => k1_hw5.2.2.2.2.2.2.2.2.2.2.2.2.2.2.1.2.2.2.2.2.2.2.2.2.2.2.2.2.2.2.2.1 k1_t5
theorem k1_off534_inb : ∀ (v41 : BitVec 32) (k1_hw5 : k1_chk5 v41) (k1_t5 : Fin (k1_t5_loop v41).trips), ∀ a, (k1_off534 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.1 k1_t5
theorem k1_off535_inb : ∀ (v41 : BitVec 32) (k1_hw5 : k1_chk5 v41) (k1_t5 : Fin (k1_t5_loop v41).trips), ∀ a, (k1_off535 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.1 k1_t5
theorem k1_off536_inb : ∀ (v41 : BitVec 32) (k1_hw5 : k1_chk5 v41) (k1_t5 : Fin (k1_t5_loop v41).trips), ∀ a, (k1_off536 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.1 k1_t5
theorem k1_off537_inb : ∀ (v41 : BitVec 32) (k1_hw5 : k1_chk5 v41) (k1_t5 : Fin (k1_t5_loop v41).trips), ∀ a, (k1_off537 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.1 k1_t5
theorem k1_off538_inb : ∀ (v41 : BitVec 32) (k1_hw5 : k1_chk5 v41) (k1_t5 : Fin (k1_t5_loop v41).trips), ∀ a, (k1_off538 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.1 k1_t5
theorem k1_off539_inb : ∀ (v41 : BitVec 32) (k1_hw5 : k1_chk5 v41) (k1_t5 : Fin (k1_t5_loop v41).trips), ∀ a, (k1_off539 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.1 k1_t5
theorem k1_off540_inb : ∀ (v41 : BitVec 32) (k1_hw5 : k1_chk5 v41) (k1_t5 : Fin (k1_t5_loop v41).trips), ∀ a, (k1_off540 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.2.1 k1_t5
theorem k1_off541_inb : ∀ (v41 : BitVec 32) (k1_hw5 : k1_chk5 v41) (k1_t5 : Fin (k1_t5_loop v41).trips), ∀ a, (k1_off541 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.2.2.1 k1_t5
theorem k1_off543_inb : ∀ (v41 : BitVec 32) (k1_hw5 : k1_chk5 v41) (k1_t5 : Fin (k1_t5_loop v41).trips), ∀ a, (k1_off543 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.2.2.2.1 k1_t5
theorem k1_off544_inb : ∀ (v41 : BitVec 32) (k1_hw5 : k1_chk5 v41) (k1_t5 : Fin (k1_t5_loop v41).trips), ∀ a, (k1_off544 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.2.2.2.2.1 k1_t5
theorem k1_off545_inb : ∀ (v41 : BitVec 32) (k1_hw5 : k1_chk5 v41) (k1_t5 : Fin (k1_t5_loop v41).trips), ∀ a, (k1_off545 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.2.2.2.2.2.1 k1_t5
theorem k1_off546_inb : ∀ (v41 : BitVec 32) (k1_hw5 : k1_chk5 v41) (k1_t5 : Fin (k1_t5_loop v41).trips), ∀ a, (k1_off546 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.2.2.2.2.2.2.1 k1_t5
theorem k1_off547_inb : ∀ (v41 : BitVec 32) (k1_hw5 : k1_chk5 v41) (k1_t5 : Fin (k1_t5_loop v41).trips), ∀ a, (k1_off547 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.2.2.2.2.2.2.2.1 k1_t5
theorem k1_off548_inb : ∀ (v41 : BitVec 32) (k1_hw5 : k1_chk5 v41) (k1_t5 : Fin (k1_t5_loop v41).trips), ∀ a, (k1_off548 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.2.2.2.2.2.2.2.2.1 k1_t5
theorem k1_off549_inb : ∀ (v41 : BitVec 32) (k1_hw5 : k1_chk5 v41) (k1_t5 : Fin (k1_t5_loop v41).trips), ∀ a, (k1_off549 v41 k1_t5) a + S1x1x16.size a ≤ S4x32x128.size a := fun v41 k1_hw5 k1_t5 => k1_hw5.2.2.2.2.2.2.2.2.2.2.2.2.2.2.1.2.2.2.2.2.2.2.2.2.2.2.2.2.2.2.2.2.2.2.2.2.2.2.2.2.2.2.2.2.2.2 k1_t5
theorem k1_off550_inb : ∀ (v41 : BitVec 32) (k1_hw5 : k1_chk5 v41) (k1_t5 : Fin (k1_t5_loop v41).trips), ∀ a, (k1_off550 v41 k1_t5) a + S1x1x16.size a ≤ S4x32x128.size a := fun v41 k1_hw5 k1_t5 => k1_hw5.2.2.2.2.2.2.2.2.2.2.2.2.2.2.2.1.1 k1_t5
theorem k1_off552_inb : ∀ (v41 : BitVec 32) (k1_hw5 : k1_chk5 v41) (k1_t5 : Fin (k1_t5_loop v41).trips), ∀ a, (k1_off552 v41 k1_t5) a + S1x1x16.size a ≤ S4x32x128.size a := fun v41 k1_hw5 k1_t5 => k1_hw5.2.2.2.2.2.2.2.2.2.2.2.2.2.2.2.1.2.1 k1_t5
theorem k1_off553_inb : ∀ (v41 : BitVec 32) (k1_hw5 : k1_chk5 v41) (k1_t5 : Fin (k1_t5_loop v41).trips), ∀ a, (k1_off553 v41 k1_t5) a + S1x1x16.size a ≤ S4x32x128.size a := fun v41 k1_hw5 k1_t5 => k1_hw5.2.2.2.2.2.2.2.2.2.2.2.2.2.2.2.1.2.2.1 k1_t5
theorem k1_off554_inb : ∀ (v41 : BitVec 32) (k1_hw5 : k1_chk5 v41) (k1_t5 : Fin (k1_t5_loop v41).trips), ∀ a, (k1_off554 v41 k1_t5) a + S1x1x16.size a ≤ S4x32x128.size a := fun v41 k1_hw5 k1_t5 => k1_hw5.2.2.2.2.2.2.2.2.2.2.2.2.2.2.2.1.2.2.2.1 k1_t5
theorem k1_off555_inb : ∀ (v41 : BitVec 32) (k1_hw5 : k1_chk5 v41) (k1_t5 : Fin (k1_t5_loop v41).trips), ∀ a, (k1_off555 v41 k1_t5) a + S1x1x16.size a ≤ S4x32x128.size a := fun v41 k1_hw5 k1_t5 => k1_hw5.2.2.2.2.2.2.2.2.2.2.2.2.2.2.2.1.2.2.2.2.1 k1_t5
theorem k1_off556_inb : ∀ (v41 : BitVec 32) (k1_hw5 : k1_chk5 v41) (k1_t5 : Fin (k1_t5_loop v41).trips), ∀ a, (k1_off556 v41 k1_t5) a + S1x1x16.size a ≤ S4x32x128.size a := fun v41 k1_hw5 k1_t5 => k1_hw5.2.2.2.2.2.2.2.2.2.2.2.2.2.2.2.1.2.2.2.2.2.1 k1_t5
theorem k1_off557_inb : ∀ (v41 : BitVec 32) (k1_hw5 : k1_chk5 v41) (k1_t5 : Fin (k1_t5_loop v41).trips), ∀ a, (k1_off557 v41 k1_t5) a + S1x1x16.size a ≤ S4x32x128.size a := fun v41 k1_hw5 k1_t5 => k1_hw5.2.2.2.2.2.2.2.2.2.2.2.2.2.2.2.1.2.2.2.2.2.2.1 k1_t5
theorem k1_off558_inb : ∀ (v41 : BitVec 32) (k1_hw5 : k1_chk5 v41) (k1_t5 : Fin (k1_t5_loop v41).trips), ∀ a, (k1_off558 v41 k1_t5) a + S1x1x16.size a ≤ S4x32x128.size a := fun v41 k1_hw5 k1_t5 => k1_hw5.2.2.2.2.2.2.2.2.2.2.2.2.2.2.2.1.2.2.2.2.2.2.2.1 k1_t5
theorem k1_off559_inb : ∀ (v41 : BitVec 32) (k1_hw5 : k1_chk5 v41) (k1_t5 : Fin (k1_t5_loop v41).trips), ∀ a, (k1_off559 v41 k1_t5) a + S1x1x16.size a ≤ S4x32x128.size a := fun v41 k1_hw5 k1_t5 => k1_hw5.2.2.2.2.2.2.2.2.2.2.2.2.2.2.2.1.2.2.2.2.2.2.2.2.1 k1_t5
theorem k1_off561_inb : ∀ (v41 : BitVec 32) (k1_hw5 : k1_chk5 v41) (k1_t5 : Fin (k1_t5_loop v41).trips), ∀ a, (k1_off561 v41 k1_t5) a + S1x1x16.size a ≤ S4x32x128.size a := fun v41 k1_hw5 k1_t5 => k1_hw5.2.2.2.2.2.2.2.2.2.2.2.2.2.2.2.1.2.2.2.2.2.2.2.2.2.1 k1_t5
theorem k1_off562_inb : ∀ (v41 : BitVec 32) (k1_hw5 : k1_chk5 v41) (k1_t5 : Fin (k1_t5_loop v41).trips), ∀ a, (k1_off562 v41 k1_t5) a + S1x1x16.size a ≤ S4x32x128.size a := fun v41 k1_hw5 k1_t5 => k1_hw5.2.2.2.2.2.2.2.2.2.2.2.2.2.2.2.1.2.2.2.2.2.2.2.2.2.2.1 k1_t5
theorem k1_off563_inb : ∀ (v41 : BitVec 32) (k1_hw5 : k1_chk5 v41) (k1_t5 : Fin (k1_t5_loop v41).trips), ∀ a, (k1_off563 v41 k1_t5) a + S1x1x16.size a ≤ S4x32x128.size a := fun v41 k1_hw5 k1_t5 => k1_hw5.2.2.2.2.2.2.2.2.2.2.2.2.2.2.2.1.2.2.2.2.2.2.2.2.2.2.2.1 k1_t5
theorem k1_off564_inb : ∀ (v41 : BitVec 32) (k1_hw5 : k1_chk5 v41) (k1_t5 : Fin (k1_t5_loop v41).trips), ∀ a, (k1_off564 v41 k1_t5) a + S1x1x16.size a ≤ S4x32x128.size a := fun v41 k1_hw5 k1_t5 => k1_hw5.2.2.2.2.2.2.2.2.2.2.2.2.2.2.2.1.2.2.2.2.2.2.2.2.2.2.2.2.1 k1_t5
theorem k1_off565_inb : ∀ (v41 : BitVec 32) (k1_hw5 : k1_chk5 v41) (k1_t5 : Fin (k1_t5_loop v41).trips), ∀ a, (k1_off565 v41 k1_t5) a + S1x1x16.size a ≤ S4x32x128.size a := fun v41 k1_hw5 k1_t5 => k1_hw5.2.2.2.2.2.2.2.2.2.2.2.2.2.2.2.1.2.2.2.2.2.2.2.2.2.2.2.2.2.1 k1_t5
theorem k1_off566_inb : ∀ (v41 : BitVec 32) (k1_hw5 : k1_chk5 v41) (k1_t5 : Fin (k1_t5_loop v41).trips), ∀ a, (k1_off566 v41 k1_t5) a + S1x1x16.size a ≤ S4x32x128.size a := fun v41 k1_hw5 k1_t5 => k1_hw5.2.2.2.2.2.2.2.2.2.2.2.2.2.2.2.1.2.2.2.2.2.2.2.2.2.2.2.2.2.2.1 k1_t5
theorem k1_off567_inb : ∀ (v41 : BitVec 32) (k1_hw5 : k1_chk5 v41) (k1_t5 : Fin (k1_t5_loop v41).trips), ∀ a, (k1_off567 v41 k1_t5) a + S1x1x16.size a ≤ S4x32x128.size a := fun v41 k1_hw5 k1_t5 => k1_hw5.2.2.2.2.2.2.2.2.2.2.2.2.2.2.2.1.2.2.2.2.2.2.2.2.2.2.2.2.2.2.2.1 k1_t5
theorem k1_off568_inb : ∀ (v41 : BitVec 32) (k1_hw5 : k1_chk5 v41) (k1_t5 : Fin (k1_t5_loop v41).trips), ∀ a, (k1_off568 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.1 k1_t5
theorem k1_off570_inb : ∀ (v41 : BitVec 32) (k1_hw5 : k1_chk5 v41) (k1_t5 : Fin (k1_t5_loop v41).trips), ∀ a, (k1_off570 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.1 k1_t5
theorem k1_off571_inb : ∀ (v41 : BitVec 32) (k1_hw5 : k1_chk5 v41) (k1_t5 : Fin (k1_t5_loop v41).trips), ∀ a, (k1_off571 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.1 k1_t5
theorem k1_off572_inb : ∀ (v41 : BitVec 32) (k1_hw5 : k1_chk5 v41) (k1_t5 : Fin (k1_t5_loop v41).trips), ∀ a, (k1_off572 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.1 k1_t5
theorem k1_off573_inb : ∀ (v41 : BitVec 32) (k1_hw5 : k1_chk5 v41) (k1_t5 : Fin (k1_t5_loop v41).trips), ∀ a, (k1_off573 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.1 k1_t5
theorem k1_off574_inb : ∀ (v41 : BitVec 32) (k1_hw5 : k1_chk5 v41) (k1_t5 : Fin (k1_t5_loop v41).trips), ∀ a, (k1_off574 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.1 k1_t5
theorem k1_off575_inb : ∀ (v41 : BitVec 32) (k1_hw5 : k1_chk5 v41) (k1_t5 : Fin (k1_t5_loop v41).trips), ∀ a, (k1_off575 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.1 k1_t5
theorem k1_off576_inb : ∀ (v41 : BitVec 32) (k1_hw5 : k1_chk5 v41) (k1_t5 : Fin (k1_t5_loop v41).trips), ∀ a, (k1_off576 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.2.1 k1_t5
theorem k1_off577_inb : ∀ (v41 : BitVec 32) (k1_hw5 : k1_chk5 v41) (k1_t5 : Fin (k1_t5_loop v41).trips), ∀ a, (k1_off577 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.2.2.1 k1_t5
theorem k1_off579_inb : ∀ (v41 : BitVec 32) (k1_hw5 : k1_chk5 v41) (k1_t5 : Fin (k1_t5_loop v41).trips), ∀ a, (k1_off579 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.2.2.2.1 k1_t5
theorem k1_off580_inb : ∀ (v41 : BitVec 32) (k1_hw5 : k1_chk5 v41) (k1_t5 : Fin (k1_t5_loop v41).trips), ∀ a, (k1_off580 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.2.2.2.2.1 k1_t5
theorem k1_off581_inb : ∀ (v41 : BitVec 32) (k1_hw5 : k1_chk5 v41) (k1_t5 : Fin (k1_t5_loop v41).trips), ∀ a, (k1_off581 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.2.2.2.2.2.1 k1_t5
theorem k1_off582_inb : ∀ (v41 : BitVec 32) (k1_hw5 : k1_chk5 v41) (k1_t5 : Fin (k1_t5_loop v41).trips), ∀ a, (k1_off582 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.2.2.2.2.2.2.1 k1_t5
theorem k1_off583_inb : ∀ (v41 : BitVec 32) (k1_hw5 : k1_chk5 v41) (k1_t5 : Fin (k1_t5_loop v41).trips), ∀ a, (k1_off583 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.2.2.2.2.2.2.2.1 k1_t5
theorem k1_off584_inb : ∀ (v41 : BitVec 32) (k1_hw5 : k1_chk5 v41) (k1_t5 : Fin (k1_t5_loop v41).trips), ∀ a, (k1_off584 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.2.2.2.2.2.2.2.2.1 k1_t5
theorem k1_off585_inb : ∀ (v41 : BitVec 32) (k1_hw5 : k1_chk5 v41) (k1_t5 : Fin (k1_t5_loop v41).trips), ∀ a, (k1_off585 v41 k1_t5) a + S1x1x16.size a ≤ S4x32x128.size a := fun v41 k1_hw5 k1_t5 => k1_hw5.2.2.2.2.2.2.2.2.2.2.2.2.2.2.2.1.2.2.2.2.2.2.2.2.2.2.2.2.2.2.2.2.2.2.2.2.2.2.2.2.2.2.2.2.2.2.2 k1_t5
theorem k1_off586_inb : ∀ (v41 : BitVec 32) (k1_hw5 : k1_chk5 v41) (k1_t5 : Fin (k1_t5_loop v41).trips), ∀ a, (k1_off586 v41 k1_t5) a + S1x1x16.size a ≤ S4x32x128.size a := fun v41 k1_hw5 k1_t5 => k1_hw5.2.2.2.2.2.2.2.2.2.2.2.2.2.2.2.2.1 k1_t5
theorem k1_off588_inb : ∀ (v41 : BitVec 32) (k1_hw5 : k1_chk5 v41) (k1_t5 : Fin (k1_t5_loop v41).trips), ∀ a, (k1_off588 v41 k1_t5) a + S1x1x16.size a ≤ S4x32x128.size a := fun v41 k1_hw5 k1_t5 => k1_hw5.2.2.2.2.2.2.2.2.2.2.2.2.2.2.2.2.2.1 k1_t5
theorem k1_off589_inb : ∀ (v41 : BitVec 32) (k1_hw5 : k1_chk5 v41) (k1_t5 : Fin (k1_t5_loop v41).trips), ∀ a, (k1_off589 v41 k1_t5) a + S1x1x16.size a ≤ S4x32x128.size a := fun v41 k1_hw5 k1_t5 => k1_hw5.2.2.2.2.2.2.2.2.2.2.2.2.2.2.2.2.2.2.1 k1_t5
theorem k1_off590_inb : ∀ (v41 : BitVec 32) (k1_hw5 : k1_chk5 v41) (k1_t5 : Fin (k1_t5_loop v41).trips), ∀ a, (k1_off590 v41 k1_t5) a + S1x1x16.size a ≤ S4x32x128.size a := fun v41 k1_hw5 k1_t5 => k1_hw5.2.2.2.2.2.2.2.2.2.2.2.2.2.2.2.2.2.2.2.1 k1_t5
theorem k1_off591_inb : ∀ (v41 : BitVec 32) (k1_hw5 : k1_chk5 v41) (k1_t5 : Fin (k1_t5_loop v41).trips), ∀ a, (k1_off591 v41 k1_t5) a + S1x1x16.size a ≤ S4x32x128.size a := fun v41 k1_hw5 k1_t5 => k1_hw5.2.2.2.2.2.2.2.2.2.2.2.2.2.2.2.2.2.2.2.2.1 k1_t5
theorem k1_off592_inb : ∀ (v41 : BitVec 32) (k1_hw5 : k1_chk5 v41) (k1_t5 : Fin (k1_t5_loop v41).trips), ∀ a, (k1_off592 v41 k1_t5) a + S1x1x16.size a ≤ S4x32x128.size a := fun v41 k1_hw5 k1_t5 => k1_hw5.2.2.2.2.2.2.2.2.2.2.2.2.2.2.2.2.2.2.2.2.2.1 k1_t5
theorem k1_off593_inb : ∀ (v41 : BitVec 32) (k1_hw5 : k1_chk5 v41) (k1_t5 : Fin (k1_t5_loop v41).trips), ∀ a, (k1_off593 v41 k1_t5) a + S1x1x16.size a ≤ S4x32x128.size a := fun v41 k1_hw5 k1_t5 => k1_hw5.2.2.2.2.2.2.2.2.2.2.2.2.2.2.2.2.2.2.2.2.2.2.1 k1_t5
theorem k1_off594_inb : ∀ (v41 : BitVec 32) (k1_hw5 : k1_chk5 v41) (k1_t5 : Fin (k1_t5_loop v41).trips), ∀ a, (k1_off594 v41 k1_t5) a + S1x1x16.size a ≤ S4x32x128.size a := fun v41 k1_hw5 k1_t5 => k1_hw5.2.2.2.2.2.2.2.2.2.2.2.2.2.2.2.2.2.2.2.2.2.2.2.1 k1_t5
theorem k1_off595_inb : ∀ (v41 : BitVec 32) (k1_hw5 : k1_chk5 v41) (k1_t5 : Fin (k1_t5_loop v41).trips), ∀ a, (k1_off595 v41 k1_t5) a + S1x1x16.size a ≤ S4x32x128.size a := fun v41 k1_hw5 k1_t5 => k1_hw5.2.2.2.2.2.2.2.2.2.2.2.2.2.2.2.2.2.2.2.2.2.2.2.2.1 k1_t5
theorem k1_off597_inb : ∀ (v41 : BitVec 32) (k1_hw5 : k1_chk5 v41) (k1_t5 : Fin (k1_t5_loop v41).trips), ∀ a, (k1_off597 v41 k1_t5) a + S1x1x16.size a ≤ S4x32x128.size a := fun v41 k1_hw5 k1_t5 => k1_hw5.2.2.2.2.2.2.2.2.2.2.2.2.2.2.2.2.2.2.2.2.2.2.2.2.2.1 k1_t5
theorem k1_off598_inb : ∀ (v41 : BitVec 32) (k1_hw5 : k1_chk5 v41) (k1_t5 : Fin (k1_t5_loop v41).trips), ∀ a, (k1_off598 v41 k1_t5) a + S1x1x16.size a ≤ S4x32x128.size a := fun v41 k1_hw5 k1_t5 => k1_hw5.2.2.2.2.2.2.2.2.2.2.2.2.2.2.2.2.2.2.2.2.2.2.2.2.2.2.1 k1_t5
theorem k1_off599_inb : ∀ (v41 : BitVec 32) (k1_hw5 : k1_chk5 v41) (k1_t5 : Fin (k1_t5_loop v41).trips), ∀ a, (k1_off599 v41 k1_t5) a + S1x1x16.size a ≤ S4x32x128.size a := fun v41 k1_hw5 k1_t5 => k1_hw5.2.2.2.2.2.2.2.2.2.2.2.2.2.2.2.2.2.2.2.2.2.2.2.2.2.2.2.1 k1_t5
theorem k1_off600_inb : ∀ (v41 : BitVec 32) (k1_hw5 : k1_chk5 v41) (k1_t5 : Fin (k1_t5_loop v41).trips), ∀ a, (k1_off600 v41 k1_t5) a + S1x1x16.size a ≤ S4x32x128.size a := fun v41 k1_hw5 k1_t5 => k1_hw5.2.2.2.2.2.2.2.2.2.2.2.2.2.2.2.2.2.2.2.2.2.2.2.2.2.2.2.2.1 k1_t5
theorem k1_off601_inb : ∀ (v41 : BitVec 32) (k1_hw5 : k1_chk5 v41) (k1_t5 : Fin (k1_t5_loop v41).trips), ∀ a, (k1_off601 v41 k1_t5) a + S1x1x16.size a ≤ S4x32x128.size a := fun v41 k1_hw5 k1_t5 => k1_hw5.2.2.2.2.2.2.2.2.2.2.2.2.2.2.2.2.2.2.2.2.2.2.2.2.2.2.2.2.2.1 k1_t5
theorem k1_off602_inb : ∀ (v41 : BitVec 32) (k1_hw5 : k1_chk5 v41) (k1_t5 : Fin (k1_t5_loop v41).trips), ∀ a, (k1_off602 v41 k1_t5) a + S1x1x16.size a ≤ S4x32x128.size a := fun v41 k1_hw5 k1_t5 => k1_hw5.2.2.2.2.2.2.2.2.2.2.2.2.2.2.2.2.2.2.2.2.2.2.2.2.2.2.2.2.2.2.1 k1_t5
theorem k1_off603_inb : ∀ (v41 : BitVec 32) (k1_hw5 : k1_chk5 v41) (k1_t5 : Fin (k1_t5_loop v41).trips), ∀ a, (k1_off603 v41 k1_t5) a + S1x1x16.size a ≤ S4x32x128.size a := fun v41 k1_hw5 k1_t5 => k1_hw5.2.2.2.2.2.2.2.2.2.2.2.2.2.2.2.2.2.2.2.2.2.2.2.2.2.2.2.2.2.2.2.1 k1_t5
theorem k1_off604_inb : ∀ (v41 : BitVec 32) (k1_hw5 : k1_chk5 v41) (k1_t5 : Fin (k1_t5_loop v41).trips), ∀ a, (k1_off604 v41 k1_t5) a + S1x1x16.size a ≤ S4x32x128.size a := fun v41 k1_hw5 k1_t5 => k1_hw5.2.2.2.2.2.2.2.2.2.2.2.2.2.2.2.2.2.2.2.2.2.2.2.2.2.2.2.2.2.2.2.2.1 k1_t5
theorem k1_off605_inb : ∀ (v41 : BitVec 32) (k1_hw5 : k1_chk5 v41) (k1_t5 : Fin (k1_t5_loop v41).trips), ∀ (k1_h7 : k1_cond7 v41 k1_t5 = 1#1), ∀ a, (k1_off605 v41 k1_t5) a + S1x32x128.size a ≤ S4x32x128.size a := fun v41 k1_hw5 k1_t5 k1_h7 => k1_hw5.2.2.2.2.2.2.2.2.2.2.2.2.2.2.2.2.2.2.2.2.2.2.2.2.2.2.2.2.2.2.2.2.2.1 k1_t5 k1_h7
theorem k1_off606_inb : ∀ (v41 : BitVec 32) (k1_hw5 : k1_chk5 v41) (k1_t5 : Fin (k1_t5_loop v41).trips), ∀ (k1_h7 : k1_cond7 v41 k1_t5 = 1#1), ∀ a, (k1_off606 v41 k1_t5) a + S32.size a ≤ S8032.size a := fun v41 k1_hw5 k1_t5 k1_h7 => k1_hw5.2.2.2.2.2.2.2.2.2.2.2.2.2.2.2.2.2.2.2.2.2.2.2.2.2.2.2.2.2.2.2.2.2.2.1 k1_t5 k1_h7
theorem k1_off607_inb : ∀ (v41 : BitVec 32) (k1_hw5 : k1_chk5 v41) (k1_t5 : Fin (k1_t5_loop v41).trips), ∀ (k1_h7 : k1_cond7 v41 k1_t5 = 1#1), ∀ a, (k1_off607 v41 k1_t5) a + S1.size a ≤ S4.size a := fun v41 k1_hw5 k1_t5 k1_h7 => k1_hw5.2.2.2.2.2.2.2.2.2.2.2.2.2.2.2.2.2.2.2.2.2.2.2.2.2.2.2.2.2.2.2.2.2.2.2 k1_t5 k1_h7

def k1_off608 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c313_i32 : BitVec 32 := 313#32
  let v2 : BitVec 32 := Scalar.muli v1 c313_i32
  let c128_i32 : BitVec 32 := 128#32
  let v20 : BitVec 32 := Scalar.muli v2 c128_i32
  ![v20.toNat]
abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S10000x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S10000x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LayerReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S1x128 : Shape := ⟨2, ![1, 128]⟩
abbrev S_ : Shape := ⟨0, ![]⟩
abbrev S320000x1 : Shape := ⟨2, ![320000, 1]⟩
abbrev S320000x128 : Shape := ⟨2, ![320000, 128]⟩
abbrev S10000 : Shape := ⟨1, ![10000]⟩
abbrev S10000x1 : Shape := ⟨2, ![10000, 1]⟩
abbrev S10000x320000 : Shape := ⟨2, ![10000, 320000]⟩
abbrev S10000x320000x1 : Shape := ⟨3, ![10000, 320000, 1]⟩
abbrev S1x320000x128 : Shape := ⟨3, ![1, 320000, 128]⟩
abbrev S10000x320000x128 : Shape := ⟨3, ![10000, 320000, 128]⟩

abbrev nBuf : Space → Nat
  | .hbm => 53
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S320000x1, .i32⟩
  | .hbm, ⟨19, _⟩ => ⟨S320000x128, .f32⟩
  | .hbm, ⟨20, _⟩ => ⟨S1x320000, .i32⟩
  | .hbm, ⟨21, _⟩ => ⟨S10000, .i32⟩
  | .hbm, ⟨22, _⟩ => ⟨S10000x1, .i32⟩
  | .hbm, ⟨23, _⟩ => ⟨S10000x320000, .i32⟩
  | .hbm, ⟨24, _⟩ => ⟨S10000x320000, .i32⟩
  | .hbm, ⟨25, _⟩ => ⟨S10000x320000, .i1⟩
  | .hbm, ⟨26, _⟩ => ⟨S10000x320000x1, .i1⟩
  | .hbm, ⟨27, _⟩ => ⟨S1x320000x128, .f32⟩
  | .hbm, ⟨28, _⟩ => ⟨S_, .f32⟩
  | .hbm, ⟨29, _⟩ => ⟨S_, .f32⟩
  | .hbm, ⟨30, _⟩ => ⟨S10000x320000x128, .i1⟩
  | .hbm, ⟨31, _⟩ => ⟨S10000x320000x128, .f32⟩
  | .hbm, ⟨32, _⟩ => ⟨S10000x320000x128, .f32⟩
  | .hbm, ⟨33, _⟩ => ⟨S10000x320000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .i1⟩
  | .hbm, ⟨40, _⟩ => ⟨S_, .f32⟩
  | .hbm, ⟨41, _⟩ => ⟨S_, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S1x128, .f32⟩
  | .hbm, ⟨48, _⟩ => ⟨S10000x128, .f32⟩
  | .hbm, ⟨49, _⟩ => ⟨S10000x128, .f32⟩
  | .hbm, ⟨50, _⟩ => ⟨S_, .f32⟩
  | .hbm, ⟨51, _⟩ => ⟨S10000x128, .f32⟩
  | .hbm, ⟨52, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_call3_v0 : Ref sig .tc := ⟨.hbm, 41, rfl⟩
abbrev main_call3_v1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call4_cst : Ref sig .tc := ⟨.hbm, 50, rfl⟩
abbrev main_call4_v0 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Proof.Body.lean ====
/-
  The edge group of the kernel's tile, written once. The printed body of the group loop spells out 32 edges of 8
  sixteen-lane maxima each; here it is one lane (`lane`), one edge (`edge`), one half of a group (`half`), and the
  theorem that the printed body is this program.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sage

open Cert.KernelIdeal Cert.KernelIdeal.Facts₀ Cert.KernelIdeal.Facts
open Idealize.ShloMosaic
open Idealize.SL.Sem

variable {F : FTy → Type} [FloatOps F] [Facts]

/-- The effects of the tile at grid point `i`. -/
abbrev Tile (F : FTy → Type) (i : grid0.Coords) : Type → Type := TpuEff nD τ sig (Elt F) Λ₀ (Proc.scVector ((i 0).castLE hcore0) ((i 1).castLE hsub0))

section
variable (i : grid0.Coords) (acc : Memref sig .scVector .vmem S40192 .f32) (rows : Memref sig .scVector .vmem S4x32x128 .f32)

/-- One lane of sixteen: the accumulator's sixteen words at `o`, each replaced by the greater of itself and the row's word. -/
def lane (o : Fin 1 → ℕ) (ho : ∀ a, o a + S16.size a ≤ S40192.size a) (r : Fin 3 → ℕ) (hr : ∀ a, r a + S1x1x16.size a ≤ S4x32x128.size a) :
    Prog (Tile F i) PUnit := do
  let a : Vec F S16 .f32 ← Prog.lift (TpuEff.load acc (Rect.unit (s := S40192) o S16.size ho).toLoadRect (View.loadsAt_vmem h_S16))
  let b : Vec F S1x1x16 .f32 ← Prog.lift (TpuEff.load rows (Rect.unit (s := S4x32x128) r S1x1x16.size hr).toLoadRect (View.loadsAt_vmem h_S1x1x16))
  let _c : Vec F S16 .f32 ← Prog.lift (TpuEff.load acc (Rect.unit (s := S40192) o S16.size ho).toLoadRect (View.loadsAt_vmem h_S16))
  Prog.lift (TpuEff.store acc (Rect.unit (s := S40192) o S16.size ho) (maximumf a (shapeCast S16 b shapeCasts_S1x1x16_S16)) Finset.univ (View.stores_vmem_bits_univ h_S16 rfl) (.inl rfl))

/-- Where lane `j` of row `e` of slot `p` stands among the gathered rows. -/
abbrev rowOff (p : BitVec 32) (e j : ℕ) : Fin 3 → ℕ := ![(Scalar.indexCast p).toNat, e, 16 * j]

theorem rowOff_inb (p : BitVec 32) (hp : p.toNat < 4) (e j : ℕ) (he : e < 32) (hj : j < 8) :
    ∀ a, rowOff p e j a + S1x1x16.size a ≤ S4x32x128.size a := by
  have h4 : (Scalar.indexCast p).toNat < 4 := by simpa [Scalar.indexCast] using hp
  intro a
  fin_cases a <;> simp [rowOff] <;> first | omega | skip

/-- One edge: the row `e` of slot `p` into the accumulator's row `v`, lane by lane. -/
def edge (v : BitVec 32) (p : BitVec 32) (hp : p.toNat < 4) (e : ℕ) (he : e < 32) : Prog (Tile F i) PUnit := do
  have hv : k0_chk6 v := (← Prog.lift (TpuEff.assume (k0_chk6 v) (k0_chk6.dec v))).down
  lane i acc rows (k0_off20 v (BitVec.ofNat 32 (16 * 0))) (k0_off20_inb v hv 0) (rowOff p e 0) (rowOff_inb p hp e 0 he (by decide))
  lane i acc rows (k0_off20 v (BitVec.ofNat 32 (16 * 1))) (k0_off20_inb v hv 1) (rowOff p e 1) (rowOff_inb p hp e 1 he (by decide))
  lane i acc rows (k0_off20 v (BitVec.ofNat 32 (16 * 2))) (k0_off20_inb v hv 2) (rowOff p e 2) (rowOff_inb p hp e 2 he (by decide))
  lane i acc rows (k0_off20 v (BitVec.ofNat 32 (16 * 3))) (k0_off20_inb v hv 3) (rowOff p e 3) (rowOff_inb p hp e 3 he (by decide))
  lane i acc rows (k0_off20 v (BitVec.ofNat 32 (16 * 4))) (k0_off20_inb v hv 4) (rowOff p e 4) (rowOff_inb p hp e 4 he (by decide))
  lane i acc rows (k0_off20 v (BitVec.ofNat 32 (16 * 5))) (k0_off20_inb v hv 5) (rowOff p e 5) (rowOff_inb p hp e 5 he (by decide))
  lane i acc rows (k0_off20 v (BitVec.ofNat 32 (16 * 6))) (k0_off20_inb v hv 6) (rowOff p e 6) (rowOff_inb p hp e 6 he (by decide))
  lane i acc rows (k0_off20 v (BitVec.ofNat 32 (16 * 7))) (k0_off20_inb v hv 7) (rowOff p e 7) (rowOff_inb p hp e 7 he (by decide))

theorem slices_lane (e : ℕ) (he : e < 16) : S16.Slices ![e] S1 := by
  have h : ∀ e : Fin 16, S16.Slices ![(e : ℕ)] S1 := by decide
  exact h ⟨e, he⟩

/-- The destination of edge `e` of the sixteen that `d` names. -/
abbrev dstAt (d : Vec F S16 .i32) (e : ℕ) (he : e < 16) : BitVec 32 := extractAt ![0] (extractStridedSlice S1 ![e] d (slices_lane e he)) inpos_S1_p0

/-- Half a group: sixteen edges, whose destinations are the words of `d`. -/
def half (d : Vec F S16 .i32) (p : BitVec 32) (hp : p.toNat < 4) (g : ℕ) (hg : g < 2) : Prog (Tile F i) PUnit := do
  edge i acc rows (dstAt d 0 (by decide)) p hp (16 * g + 0) (by omega)
  edge i acc rows (dstAt d 1 (by decide)) p hp (16 * g + 1) (by omega)
  edge i acc rows (dstAt d 2 (by decide)) p hp (16 * g + 2) (by omega)
  edge i acc rows (dstAt d 3 (by decide)) p hp (16 * g + 3) (by omega)
  edge i acc rows (dstAt d 4 (by decide)) p hp (16 * g + 4) (by omega)
  edge i acc rows (dstAt d 5 (by decide)) p hp (16 * g + 5) (by omega)
  edge i acc rows (dstAt d 6 (by decide)) p hp (16 * g + 6) (by omega)
  edge i acc rows (dstAt d 7 (by decide)) p hp (16 * g + 7) (by omega)
  edge i acc rows (dstAt d 8 (by decide)) p hp (16 * g + 8) (by omega)
  edge i acc rows (dstAt d 9 (by decide)) p hp (16 * g + 9) (by omega)
  edge i acc rows (dstAt d 10 (by decide)) p hp (16 * g + 10) (by omega)
  edge i acc rows (dstAt d 11 (by decide)) p hp (16 * g + 11) (by omega)
  edge i acc rows (dstAt d 12 (by decide)) p hp (16 * g + 12) (by omega)
  edge i acc rows (dstAt d 13 (by decide)) p hp (16 * g + 13) (by omega)
  edge i acc rows (dstAt d 14 (by decide)) p hp (16 * g + 14) (by omega)
  edge i acc rows (dstAt d 15 (by decide)) p hp (16 * g + 15) (by omega)

end

section
variable (i : grid0.Coords) (hp : Memref sig .scVector .hbm S10000x128 .f32) (src dst : Memref sig .scVector .hbm S320000 .i32)
  (out : Memref sig .scVector .hbm S1282048 .f32) (acc : Memref sig .scVector .vmem S40192 .f32) (srcC dstC : Memref sig .scVector .vmem S16000 .i32)
  (selS selD : Memref sig .scVector .vmem S8032 .i32) (rows : Memref sig .scVector .vmem S4x32x128 .f32) (gsem : DmaSems sig S4)
  (csem : DmaSems sig S2) (osem : DmaSems sig S_)

/-- The slot of the gathered rows at offset `o`. -/
abbrev slotAt (o : Fin 3 → ℕ) (ho : ∀ a, o a + S1x32x128.size a ≤ S4x32x128.size a) : Memref sig .scVector .vmem S32x128 .f32 :=
  (rows.slice (Rect.unit (s := S4x32x128) o S1x32x128.size ho) (fun _ => rfl)).squeeze S32x128 squeezes_S1x32x128_S32x128
/-- Its semaphore. -/
abbrev slotSem (o : Fin 1 → ℕ) (ho : ∀ a, o a + S1.size a ≤ S4.size a) : DmaSem sig :=
  ((gsem.slice (Rect.unit (s := S4) o S1.size ho)).squeeze S_ squeezes_S1_S_).sem
/-- The whole table, as the gathers name it. -/
abbrev table : Memref sig .scVector .hbm S10000x128 .f32 :=
  hp.slice (Rect.unit (s := S10000x128) ![0, 0] S10000x128.size inb_S10000x128_S10000x128_0_0) (fun _ => rfl)

/-- Start the gather of thirty-two rows, named by the list at `o`, into the slot at `r`. -/
def gatherAt (r : Fin 3 → ℕ) (hr : ∀ a, r a + S1x32x128.size a ≤ S4x32x128.size a) (o : Fin 1 → ℕ) (ho : ∀ a, o a + S32.size a ≤ S8032.size a)
    (g : Fin 1 → ℕ) (hg : ∀ a, g a + S1.size a ≤ S4.size a) : Prog (Tile F i) PUnit := do
  SparseCore.enqueueIndirectGather rfl (table hp) (slotAt rows r hr) gathers_S10000x128_S32x128
    (selS.slice (Rect.unit (s := S8032) o S32.size ho) (fun _ => rfl)) rfl (slotSem gsem g hg) (View.wordExact_bits rfl) rfl (Or.inl rfl)

theorem slot_lt {v : BitVec 32} (hv : k0_chk5 v) (t : Fin (k0_t4_loop v).trips) : (Scalar.remsi (Scf.iv 0#32 1#32 t) 4#32).toNat < 4 := by
  have h : (Scalar.remsi (Scf.iv 0#32 1#32 t) 4#32).toNat + 1 ≤ 4 := k0_off16_inb v hv t 0
  omega

/-- One group of thirty-two edges: wait for its rows, take them into the accumulator, start the group four on. -/
def group (v : BitVec 32) (hv : k0_chk5 v) (t : Fin (k0_t4_loop v).trips) : Prog (Tile F i) (BitVec 32) := do
  SparseCore.waitIndirectGather (slotSem gsem (k0_off18 v t) (k0_off18_inb v hv t)) (table hp) (slotAt rows (k0_off16 v t) (k0_off16_inb v hv t))
    (View.wordExact_bits rfl) ((View.wordExact_bits rfl).reshape _ _)
  let d : Vec F S16 .i32 ← Prog.lift (TpuEff.load selD (Rect.unit (s := S8032) (k0_off19 v t) S16.size (k0_off19_inb v hv t)).toLoadRect (View.loadsAt_vmem h_S16))
  half i acc rows d (Scalar.remsi (Scf.iv 0#32 1#32 t) 4#32) (slot_lt hv t) 0 (by decide)
  let e : Vec F S16 .i32 ← Prog.lift (TpuEff.load selD (Rect.unit (s := S8032) (k0_off164 v t) S16.size (k0_off164_inb v hv t)).toLoadRect (View.loadsAt_vmem h_S16))
  half i acc rows e (Scalar.remsi (Scf.iv 0#32 1#32 t) 4#32) (slot_lt hv t) 1 (by decide)
  if h : k0_cond6 v t = 1#1 then do
    gatherAt i hp selS rows gsem (k0_off309 v t) (k0_off309_inb v hv t h) (k0_off310 v t) (k0_off310_inb v hv t h) (k0_off311 v t) (k0_off311_inb v hv t h)
    pure ⟨⟩
  else do
    pure ⟨⟩
  pure 0#32

/-- The first node of the tile, and the first one after its nodes. -/
abbrev lo : BitVec 32 := Scalar.muli (Scalar.addi (Scalar.muli (BitVec.ofNat 32 (i 1).val) 2#32) (BitVec.ofNat 32 (i 0).val)) 313#32
abbrev hi : BitVec 32 := Scalar.addi (lo i) 313#32

/-- Which of sixteen destinations are the tile's. -/
abbrev mine (d : Vec F S16 .i32) : IVec S16 1 := andi (cmpi .sge d (broadcast S16 (lo i))) (cmpi .slt d (broadcast S16 (hi i)))
/-- How many of the first lanes up to each one are set. -/
abbrev counts (m : IVec S16 1) : IVec S16 32 := scan .sum (extui 32 m natLt_1_32)
/-- Where each lane goes, from `off` on. -/
abbrev places (off : BitVec 32) (c : IVec S16 32) : IVec S16 32 :=
  maxsi (subi (addi (broadcast S16 off) c) (broadcast S16 1#32)) (broadcast S16 0#32)
/-- The offset after the sixteen. -/
abbrev after (off : BitVec 32) (c : IVec S16 32) : BitVec 32 :=
  Scalar.addi off (extractAt ![0] (extractStridedSlice S1 ![15] c slices_S16_o15_S1) inpos_S1_p0)

/-- Put the chosen lanes of sixteen edges at the end of the two lists. -/
def put (off : BitVec 32) (d s : Vec F S16 .i32) : Prog (Tile F i) PUnit := do
  have h : k0_chk1 (places off (counts (mine i d))) := (← Prog.lift (TpuEff.assume (k0_chk1 (places off (counts (mine i d)))) (k0_chk1.dec _))).down
  SparseCore.vectorStoreIdx selS ![places off (counts (mine i d))] s (mine i d) false (k0_idx1_inb _ h) (View.stores_vmem_bits_univ h_S8032 rfl)
  SparseCore.vectorStoreIdx selD ![places off (counts (mine i d))] (subi d (broadcast S16 (lo i))) (mine i d) false (k0_idx2_inb _ h) (View.stores_vmem_bits_univ h_S8032 rfl)

/-- Sixteen words of a chunk. -/
abbrev word (m : Memref sig .scVector .vmem S16000 .i32) (t2 : Fin k0_t2_loop.trips) (t3 : Fin k0_t3_loop.trips) (u : Fin 4) : Prog (Tile F i) (Vec F S16 .i32) :=
  Prog.lift (TpuEff.load m (Rect.unit (s := S16000) (k0_off5 t2 t3 (BitVec.ofNat 32 u.val)) S16.size (k0_off5_inb t2 t3 u)).toLoadRect (View.loadsAt_vmem h_S16))

/-- One trip of the scan: sixty-four edges. -/
def scanTrip (t2 : Fin k0_t2_loop.trips) (t3 : Fin k0_t3_loop.trips) (off : BitVec 32) : Prog (Tile F i) (BitVec 32) := do
  let d0 ← word i dstC t2 t3 0
  let s0 ← word i srcC t2 t3 0
  let d1 ← word i dstC t2 t3 1
  let s1 ← word i srcC t2 t3 1
  let d2 ← word i dstC t2 t3 2
  let s2 ← word i srcC t2 t3 2
  let d3 ← word i dstC t2 t3 3
  let s3 ← word i srcC t2 t3 3
  put i selS selD off d0 s0
  put i selS selD (after off (counts (mine i d0))) d1 s1
  put i selS selD (after (after off (counts (mine i d0))) (counts (mine i d1))) d2 s2
  put i selS selD (after (after (after off (counts (mine i d0))) (counts (mine i d1))) (counts (mine i d2))) d3 s3
  pure (after (after (after (after off (counts (mine i d0))) (counts (mine i d1))) (counts (mine i d2))) (counts (mine i d3)))

/-- A semaphore of the chunk copies. -/
abbrev chunkSem (o : Fin 1 → ℕ) (ho : ∀ a, o a + S1.size a ≤ S2.size a) : DmaSem sig :=
  ((csem.slice (Rect.unit (s := S2) o S1.size ho)).squeeze S_ squeezes_S1_S_).sem
/-- One of the two chunks that a buffer holds, and a chunk of an edge list. -/
abbrev chunkOf (m : Memref sig .scVector .vmem S16000 .i32) (o : Fin 1 → ℕ) (ho : ∀ a, o a + S8000.size a ≤ S16000.size a) : Memref sig .scVector .vmem S8000 .i32 :=
  m.slice (Rect.unit (s := S16000) o S8000.size ho) (fun _ => rfl)
abbrev edgesOf (m : Memref sig .scVector .hbm S320000 .i32) (o : Fin 1 → ℕ) (ho : ∀ a, o a + S8000.size a ≤ S320000.size a) : Memref sig .scVector .hbm S8000 .i32 :=
  m.slice (Rect.unit (s := S320000) o S8000.size ho) (fun _ => rfl)

/-- Start the copy of a chunk of an edge list. -/
abbrev fetch (m : Memref sig .scVector .hbm S320000 .i32) (c : Memref sig .scVector .vmem S16000 .i32) (o : Fin 1 → ℕ) (ho : ∀ a, o a + S8000.size a ≤ S320000.size a)
    (o' : Fin 1 → ℕ) (ho' : ∀ a, o' a + S8000.size a ≤ S16000.size a) (q : Fin 1 → ℕ) (hq : ∀ a, q a + S1.size a ≤ S2.size a) : Prog (Tile F i) PUnit :=
  Prog.lift (TpuEff.enqueueDma (edgesOf m o ho) (.here (chunkOf c o' ho')) (.dma (chunkSem csem q hq)) (View.wordExact_bits rfl) (View.wordExact_bits rfl) ⟨Or.inl rfl, trivial⟩)
/-- Wait for it. -/
abbrev fetched (m : Memref sig .scVector .hbm S320000 .i32) (c : Memref sig .scVector .vmem S16000 .i32)
    (o' : Fin 1 → ℕ) (ho' : ∀ a, o' a + S8000.size a ≤ S16000.size a) (q : Fin 1 → ℕ) (hq : ∀ a, q a + S1.size a ≤ S2.size a) : Prog (Tile F i) PUnit :=
  Prog.lift (TpuEff.waitDma2 (chunkSem csem q hq) (edgesOf m ![0] inb_S320000_S8000_0) (chunkOf c o' ho') (View.wordExact_bits rfl) (View.wordExact_bits rfl))

/-- Sixteen equal words into a list. -/
def pad (m : Memref sig .scVector .vmem S8032 .i32) (o : Fin 1 → ℕ) (ho : ∀ a, o a + S16.size a ≤ S8032.size a) (x : BitVec 32) : Prog (Tile F i) PUnit := do
  let _a : Vec F S16 .i32 ← Prog.lift (TpuEff.load m (Rect.unit (s := S8032) o S16.size ho).toLoadRect (View.loadsAt_vmem h_S16))
  Prog.lift (TpuEff.store m (Rect.unit (s := S8032) o S16.size ho) (broadcast S16 x) Finset.univ (View.stores_vmem_bits_univ h_S16 rfl) (.inl rfl))

/-- The edges of one chunk that are the tile's, in the two lists, and the lists' padding. -/
def select (t2 : Fin k0_t2_loop.trips) : Prog (Tile F i) (Σ' v : BitVec 32, k0_chk5 v) := do
  fetched i csem src srcC (k0_off2 t2) (k0_off2_inb t2) ![0] inb_S2_S1_0
  fetched i csem dst dstC (k0_off2 t2) (k0_off2_inb t2) ![1] inb_S2_S1_1
  if h : k0_cond1 t2 = 1#1 then do
    fetch i csem src srcC (k0_off4 t2) (k0_off4_inb t2 h) (k0_off3 t2) (k0_off3_inb t2 h) ![0] inb_S2_S1_0
    fetch i csem dst dstC (k0_off4 t2) (k0_off4_inb t2 h) (k0_off3 t2) (k0_off3_inb t2 h) ![1] inb_S2_S1_1
    pure ⟨⟩
  else do
    pure ⟨⟩
  let v : BitVec 32 ← Scf.Loop.for k0_t3_loop k0_t3_ok 0#32 (fun t3 off => scanTrip i srcC dstC selS selD t2 t3 off)
  have hv : k0_chk5 v := (← Prog.lift (TpuEff.assume (k0_chk5 v) (k0_chk5.dec v))).down
  pad i selS (k0_off6 v) (k0_off6_inb v hv) 0#32
  pad i selS (k0_off7 v) (k0_off7_inb v hv) 0#32
  pad i selD (k0_off6 v) (k0_off6_inb v hv) 313#32
  pure ⟨v, hv⟩

/-- The number of groups of thirty-two that `v` edges make. -/
def groups (v : BitVec 32) : BitVec 32 :=
  let v56 : BitVec 32 := Scalar.addi v 32#32
  let v57 : BitVec 32 := Scalar.subi v56 1#32
  let v58 : BitVec 32 := Scalar.divsi v57 32#32
  let v59 : BitVec 1 := Scalar.cmpi .sgt v57 0#32
  let v60 : BitVec 32 := Scalar.extui v59
  let v61 : BitVec 1 := Scalar.cmpi .slt v57 0#32
  let v62 : BitVec 32 := Scalar.extui v61
  let v63 : BitVec 32 := Scalar.subi v60 v62
  let v64 : BitVec 1 := Scalar.cmpi .sgt 32#32 0#32
  let v65 : BitVec 32 := Scalar.extui v64
  let v66 : BitVec 1 := Scalar.cmpi .slt 32#32 0#32
  let v67 : BitVec 32 := Scalar.extui v66
  let v68 : BitVec 32 := Scalar.subi v65 v67
  let v69 : BitVec 1 := Scalar.cmpi .ne v63 v68
  let v70 : BitVec 32 := Scalar.remsi v57 32#32
  let v71 : BitVec 1 := Scalar.cmpi .ne v70 0#32
  let v72 : BitVec 1 := Scalar.andi v69 v71
  let v73 : BitVec 32 := Scalar.subi v58 1#32
  Scalar.select v72 v73 v58

/-- Is group `k` one of those that `v` edges make? -/
abbrev more (v k : BitVec 32) : BitVec 1 := Scalar.cmpi .ne ((Scalar.extui (Scalar.cmpi .sgt (groups v) k) : BitVec 32)) 0#32

/-- The first groups' gathers. -/
def starts (v : BitVec 32) (hv : k0_chk5 v) : Prog (Tile F i) (Σ' (_ : BitVec 32), BitVec 32) := do
  pad i selD (k0_off7 v) (k0_off7_inb v hv) 313#32
  if more v 0#32 = 1#1 then do
    gatherAt i hp selS rows gsem k0_off8 k0_off8_inb ![0] inb_S8032_S32_0 k0_off9 k0_off9_inb
    pure ⟨⟩
  else do
    pure ⟨⟩
  if more v 1#32 = 1#1 then do
    gatherAt i hp selS rows gsem k0_off10 k0_off10_inb ![32] inb_S8032_S32_32 k0_off11 k0_off11_inb
    pure ⟨⟩
  else do
    pure ⟨⟩
  if more v 2#32 = 1#1 then do
    gatherAt i hp selS rows gsem k0_off12 k0_off12_inb ![64] inb_S8032_S32_64 k0_off13 k0_off13_inb
    pure ⟨⟩
  else do
    pure ⟨⟩
  if more v 3#32 = 1#1 then do
    gatherAt i hp selS rows gsem k0_off14 k0_off14_inb ![96] inb_S8032_S32_96 k0_off15 k0_off15_inb
    pure ⟨⟩
  else do
    pure ⟨⟩
  pure ⟨groups v, 0#32⟩

/-- One chunk of edges. -/
def chunkTrip (t2 : Fin k0_t2_loop.trips) : Prog (Tile F i) (BitVec 32) := do
  let ⟨v, hv⟩ ← select i src dst srcC dstC selS selD csem t2
  let ⟨_, _⟩ ← starts i hp selS selD rows gsem v hv
  let _r : BitVec 32 ← Scf.Loop.for (k0_t4_loop v) (k0_t4_ok v hv) 0#32 (fun t _ => group i hp acc selS selD rows gsem v hv t)
  pure 0#32

/-- One trip of the clearing of the accumulator. -/
def clear (t : Fin k0_t1_loop.trips) : Prog (Tile F i) (BitVec 32) := do
  let _a : Vec F S16 .f32 ← Prog.lift (TpuEff.load acc (Rect.unit (s := S40192) (k0_off1 t) S16.size (k0_off1_inb t)).toLoadRect (View.loadsAt_vmem h_S16))
  Prog.lift (TpuEff.store acc (Rect.unit (s := S40192) (k0_off1 t) S16.size (k0_off1_inb t)) (broadcast S16 (Scalar.ofBits .f32 0x00000000#32)) Finset.univ (View.stores_vmem_bits_univ h_S16 rfl) (.inl rfl))
  pure 0#32

/-- The tile's program. -/
def tile : Prog (Tile F i) PUnit := do
  let _a : BitVec 32 ← Scf.Loop.for k0_t1_loop k0_t1_ok 0#32 (fun t _ => clear i acc t)
  fetch i csem src srcC ![0] inb_S320000_S8000_0 ![0] inb_S16000_S8000_0 ![0] inb_S2_S1_0
  fetch i csem dst dstC ![0] inb_S320000_S8000_0 ![0] inb_S16000_S8000_0 ![1] inb_S2_S1_1
  let _b : BitVec 32 ← Scf.Loop.for k0_t2_loop k0_t2_ok 0#32 (fun t2 _ => chunkTrip i hp src dst acc srcC dstC selS selD rows gsem csem t2)
  Prog.lift (TpuEff.enqueueDma (acc.slice (Rect.unit (s := S40192) ![0] S40064.size inb_S40192_S40064_0) (fun _ => rfl))
    (.here (out.slice (Rect.unit (s := S1282048) (k0_off608 i) S40064.size (k0_off608_inb i)) (fun _ => rfl))) (.dma osem.sem)
    (View.wordExact_bits rfl) (View.wordExact_bits rfl) ⟨Or.inl rfl, trivial⟩)
  pure ⟨⟩

end

end Cert.Proof.Sage

end
-- ==== Proof.Eq.lean ====
/-
  The printed body of the tile is the program of Body.lean: the same effects in the same order.
-/
module

public import proofs.«01_k».proof.Proof.Body

@[expose] public section

noncomputable section

namespace Cert.Proof.Sage

open Cert.KernelIdeal Cert.KernelIdeal.Facts₀ Cert.KernelIdeal.Facts
open Idealize.ShloMosaic
open Idealize.SL.Sem

variable {F : FTy → Type} [FloatOps F] [Facts]

theorem op_congr {E : Type → Type} {α β : Type} {e e' : E β} {k k' : β → Prog E α} (he : e = e') (hk : ∀ x, k x = k' x) :
    Prog.op e k = Prog.op e' k' := by subst he; exact congrArg _ (funext hk)

theorem bind_congr {E : Type → Type} {α β : Type} {x x' : Prog E α} {k k' : α → Prog E β} (hx : x = x') (hk : ∀ a, k a = k' a) :
    (x >>= k) = (x' >>= k') := by subst hx; exact congrArg _ (funext hk)

theorem for_congr {E : Type → Type} {σ : Type} {l : Scf.Loop 32} {hok : l.OK} {init : σ}
    {body body' : Fin l.trips → σ → Prog E σ} (h : ∀ t a, body t a = body' t a) :
    Scf.Loop.for l hok init body = Scf.Loop.for l hok init body' := by
  have : body = body' := funext fun t => funext (h t)
  rw [this]

theorem dite_congr' {α : Sort*} {c : Prop} {d : Decidable c} {t t' : c → α} {e e' : ¬ c → α} (ht : ∀ h, t h = t' h) (he : ∀ h, e h = e' h) :
    @dite α c d t e = @dite α c d t' e' := by
  rw [funext ht, funext he]

theorem ite_congr' {α : Sort*} {c : Prop} {d : Decidable c} {t t' e e' : α} (ht : t = t') (he : e = e') :
    @ite α c d t e = @ite α c d t' e' := by
  rw [ht, he]

theorem for_bind_congr {E : Type → Type} {σ β : Type} {l : Scf.Loop 32} {hok : l.OK} {init : σ} {body body' : Fin l.trips → σ → Prog E σ}
    {k k' : σ → Prog E β} (h : ∀ t a, body t a = body' t a) (hk : ∀ a, k a = k' a) :
    (Scf.Loop.for l hok init body >>= k) = (Scf.Loop.for l hok init body' >>= k') := bind_congr (for_congr h) hk

theorem op_bind {E : Type → Type} {α β γ : Type} (e : E α) (c : α → Prog E β) (f : β → Prog E γ) :
    (Prog.op e c >>= f) = Prog.op e (fun x => c x >>= f) := rfl
theorem ret_bind {E : Type → Type} {α β : Type} (a : α) (f : α → Prog E β) : ((Prog.ret a : Prog E α) >>= f) = f a := rfl
theorem pure_eq {E : Type → Type} {α : Type} (a : α) : (pure a : Prog E α) = Prog.ret a := rfl

/-- A loop of no trips. -/
theorem for_none {E : Type → Type} {σ : Type} {l : Scf.Loop 32} {hok : l.OK} {init : σ} {body : Fin l.trips → σ → Prog E σ} (h : l.trips = 0) :
    Scf.Loop.for l hok init body = .ret init := by
  unfold Scf.Loop.for
  rw [Scf.for_eq]
  have : List.finRange (Scf.trips l.lb l.ub l.st) = [] := by
    rw [show Scf.trips l.lb l.ub l.st = 0 from h]; rfl
  rw [this]; rfl

theorem for_none_bind {E : Type → Type} {σ β : Type} {l : Scf.Loop 32} {hok : l.OK} {init : σ} {body : Fin l.trips → σ → Prog E σ} {k : σ → Prog E β}
    (h : l.trips = 0) : (Scf.Loop.for l hok init body >>= k) = k init := by
  rw [for_none h]; rfl

theorem no_rest (v : BitVec 32) : (k0_t5_loop v).trips = 0 := by
  have h : (k0_t5_loop v).lb = (k0_t5_loop v).ub := by
    show Scalar.addi 0#32 (Scalar.muli (Scalar.divsi (Scalar.subi (groups v) 0#32) 1#32) 1#32) = Scalar.addi 0#32 (Scalar.subi (groups v) 0#32)
    generalize groups v = g
    have h1 : Scalar.divsi (Scalar.subi g 0#32) 1#32 = g := by
      have hs : g.sdiv 1#32 = g := by rw [BitVec.sdiv_one]
      simp [Scalar.divsi, Scalar.subi, IntOp.divsi, IntOp.subi, IntOp.SDivCorner, hs]
    rw [h1]
    simp [Scalar.addi, Scalar.muli, Scalar.subi, IntOp.addi, IntOp.muli, IntOp.subi]
  show Scf.trips _ _ _ = 0
  rw [h]
  show (((k0_t5_loop v).ub.toInt - (k0_t5_loop v).ub.toInt + 1 - 1) / 1).toNat = 0
  simp

section
variable (i : grid0.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S1282048 .f32) (harg5 : arg5.IsWhole) (arg6 : Memref sig .scVector .vmem S40192 .f32) (harg6 : arg6.IsWhole) (arg7 : Memref sig .scVector .vmem S16000 .i32) (harg7 : arg7.IsWhole) (arg8 : Memref sig .scVector .vmem S16000 .i32) (harg8 : arg8.IsWhole) (arg9 : Memref sig .scVector .vmem S8032 .i32) (harg9 : arg9.IsWhole) (arg10 : Memref sig .scVector .vmem S8032 .i32) (harg10 : arg10.IsWhole) (arg11 : Memref sig .scVector .vmem S4x32x128 .f32) (harg11 : arg11.IsWhole) (arg12 : DmaSems sig S4) (arg13 : DmaSems sig S2) (v21_r0 : DmaSems sig S_)

set_option maxRecDepth 100000 in
theorem select_eq (t2 : Fin k0_t2_loop.trips) : k0_part148 (F := F) i arg2 harg2 arg3 harg3 arg4 harg4 arg5 harg5 arg6 harg6 arg7 harg7 arg8 harg8 arg9 harg9 arg10 harg10 arg11 harg11 arg12 arg13 v21_r0 (lo i) (hi i) 0#32 1#32 t2 = select i arg3 arg4 arg7 arg8 arg9 arg10 arg13 t2 := by
  unfold k0_part148 select
  refine op_congr rfl fun x => op_congr rfl fun x => ?_
  refine dite_congr' (fun h => op_congr rfl fun x => op_congr rfl fun x => ?_) (fun h => ?_)
  all_goals
    refine for_bind_congr (fun t a => ?_) fun v => ?_
    · simp only [k0_part1, k0_part2, k0_part3, scanTrip, put, word, Prog.lift, SparseCore.vectorStoreIdx, op_bind, ret_bind, pure_eq]
      rfl
    · simp only [pad, Prog.lift, op_bind, ret_bind, pure_eq]

theorem starts_eq (v : BitVec 32) (hv : k0_chk5 v) : k0_part149 (F := F) i arg2 harg2 arg3 harg3 arg4 harg4 arg5 harg5 arg6 harg6 arg7 harg7 arg8 harg8 arg9 harg9 arg10 harg10 arg11 harg11 arg12 arg13 v21_r0 v hv = starts i arg2 arg9 arg10 arg11 arg12 v hv := by
  simp only [k0_part149, starts, pad, gatherAt, SparseCore.enqueueIndirectGather, Prog.lift, op_bind, ret_bind, pure_eq]
  rfl

set_option maxHeartbeats 40000000 in
set_option maxRecDepth 100000 in
theorem tile_eq : k0_part150 (F := F) i arg2 harg2 arg3 harg3 arg4 harg4 arg5 harg5 arg6 harg6 arg7 harg7 arg8 harg8 arg9 harg9 arg10 harg10 arg11 harg11 arg12 arg13 v21_r0 = tile i arg2 arg3 arg4 arg5 arg6 arg7 arg8 arg9 arg10 arg11 arg12 arg13 v21_r0 := by
  unfold k0_part150 tile
  refine bind_congr rfl fun x => ?_
  refine op_congr rfl fun x => op_congr rfl fun x => ?_
  refine for_bind_congr (fun t2 a => ?_) fun v => rfl
  refine bind_congr (select_eq ..) fun v => ?_
  obtain ⟨v, hv⟩ := v
  refine bind_congr (starts_eq ..) fun w => ?_
  obtain ⟨w, w'⟩ := w
  refine for_bind_congr (fun t a => ?_) fun r => ?_
  · iterate 1059 (refine op_congr ?_ (fun x => ?_); · rfl)
    rfl
  · exact for_none_bind (no_rest v)

end

end Cert.Proof.Sage

end
-- ==== Proof.Setup.lean ====
/-
  The names that the tile's proof is written in: the program as the launch theorem sees it, the resource algebra, the
  tile's buffers, and what a run of words written or read through a rectangle of a buffer is.
-/
module

public import proofs.«01_k».proof.Proof.Eq
public import Idealize.ShloMosaic.Lib.Pipeline.Value

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

abbrev UH : Type := URounds (GSem nD τ sig) ℕ
abbrev UU : Type := UH × Counters

/-- The algebra of the whole proof. -/
abbrev MM (F : FTy → Type) := MT nD τ sig (HIx 1) (Elt F) ℕ UU ℕ

abbrev 𝒱₀ : Variants := Variants.none

variable {F : FTy → Type}

abbrev cV (i : grid0.Coords) : Fin τ.nSC := (i 0).castLE hcore0
abbrev jV (i : grid0.Coords) : Fin τ.nSub := (i 1).castLE hsub0
/-- The tile's thread. -/
abbrev thr (d : Dev nD) (i : grid0.Coords) : Thread nD τ := V d (cV i) (jV i)

abbrev hpV : Memref sig .scVector .hbm S10000x128 .f32 := Memref.whole main_arg0_scv
abbrev srcV : Memref sig .scVector .hbm S320000 .i32 := Memref.whole main_arg1_scv
abbrev dstV : Memref sig .scVector .hbm S320000 .i32 := Memref.whole main_arg2_scv
abbrev outV : Memref sig .scVector .hbm S1282048 .f32 := Memref.whole main_v0_scv
abbrev accV : Memref sig .scVector .vmem S40192 .f32 := Memref.whole cc0_scratch0
abbrev srcCV : Memref sig .scVector .vmem S16000 .i32 := Memref.whole cc0_scratch1
abbrev dstCV : Memref sig .scVector .vmem S16000 .i32 := Memref.whole cc0_scratch2
abbrev selSV : Memref sig .scVector .vmem S8032 .i32 := Memref.whole cc0_scratch3
abbrev selDV : Memref sig .scVector .vmem S8032 .i32 := Memref.whole cc0_scratch4
abbrev rowsV : Memref sig .scVector .vmem S4x32x128 .f32 := Memref.whole cc0_scratch5

/-- A run of the tile at grid point `i`, on device `d`. -/
abbrev run [FloatOps F] [Facts] (d : Dev nD) (i : grid0.Coords) {α : Type} (p : Prog (Tile F i) α) (Q : α → sProp (MM F)) : sProp (MM F) :=
  wp frame (wpE (defs₀ (F := F)) 𝒱₀ (thr d i) none) Set.univ p Q

/-! ## Words through a rectangle of a flat buffer -/

/-- Index `x` of a flat shape. -/
abbrev at1 {n : ℕ} (x : ℕ) (h : x < n) : (⟨1, ![n]⟩ : Shape).Idx := fun a => ⟨x, by rw [Fin.eq_zero a]; exact h⟩

theorem eq_at1 {n : ℕ} (i : (⟨1, ![n]⟩ : Shape).Idx) (h : (i 0).val < n) : i = at1 (i 0).val h := by
  funext a; rw [Fin.eq_zero a]

/-- The words `o, …, o + m - 1` of a flat buffer replaced by `w`. -/
theorem write_flat {n m : ℕ} {κ : Kind} {Val : EltTy → Type} {sp : Space} {e : EltTy} (v : View sig κ sp ⟨1, ![n]⟩ e) (f : v.ty.Contents Val)
    (w : (⟨1, ![m]⟩ : Shape).Idx → Val e) (o : Fin 1 → ℕ) (ho : ∀ a, o a + (![m] : Fin 1 → ℕ) a ≤ (⟨1, ![n]⟩ : Shape).size a)
    (i : (⟨1, ![n]⟩ : Shape).Idx) :
    v.read Val ((v.slice (Rect.unit (s := ⟨1, ![n]⟩) o ![m] ho)).write Val f w Finset.univ) i
      = if h : o 0 ≤ (i 0).val ∧ (i 0).val < o 0 + m then w (at1 ((i 0).val - o 0) (by omega)) else v.read Val f i := by
  split
  · next h =>
    have e : i = (Rect.unit (s := ⟨1, ![n]⟩) o ![m] ho).emb (at1 (n := m) ((i 0).val - o 0) (by omega)) := by
      funext a; rw [Fin.eq_zero a]; apply Fin.ext; simp only [Rect.emb_apply]
      show (i 0).val = o 0 + 1 * ((i 0).val - o 0); omega
    conv_lhs => rw [e]
    exact View.read_slice_write_emb _ _ _ (Finset.mem_univ _)
  · next h =>
    refine View.read_slice_write_of_not_mem _ _ _ _ fun hm => h ?_
    obtain ⟨x, -, hx⟩ := Finset.mem_map.mp hm
    have hx0 : (x 0).val < m := (x 0).isLt
    have := congrArg (fun i : (⟨1, ![n]⟩ : Shape).Idx => (i 0).val) hx
    have e0 : o 0 + 1 * (x 0).val = (i 0).val := this
    omega

/-- The words of a flat buffer through a rectangle. -/
theorem read_flat {n m : ℕ} {κ : Kind} {Val : EltTy → Type} {sp : Space} {e : EltTy} (v : View sig κ sp ⟨1, ![n]⟩ e) (f : v.ty.Contents Val)
    (o : Fin 1 → ℕ) (ho : ∀ a, o a + (![m] : Fin 1 → ℕ) a ≤ (⟨1, ![n]⟩ : Shape).size a) (j : (⟨1, ![m]⟩ : Shape).Idx) :
    (v.slice (Rect.unit (s := ⟨1, ![n]⟩) o ![m] ho)).read Val f j
      = v.read Val f (at1 (o 0 + (j 0).val) (by have h1 := ho 0; have h2 : (j 0).val < m := (j 0).isLt; simp at h1; omega)) := by
  rw [View.read_apply, View.read_apply]
  congr 2
  show v.emb _ = v.emb _
  congr 1
  funext a; rw [Fin.eq_zero a]; apply Fin.ext
  show o 0 + 1 * (j 0).val = _; simp

end Cert.Proof.Sage

end
-- ==== Proof.Pick.lean ====
/-
  The choice of a tile's edges, as functions of the edge lists: how many of the first `n` edges of a chunk are the
  tile's (`cnt`) and where each goes (`lst`); and that the running sums of a mask and the masked scatter compute them.
-/
module

public import proofs.«01_k».proof.Proof.Setup

@[expose] public section

noncomputable section

namespace Cert.Proof.Sage

open Cert.KernelIdeal Cert.KernelIdeal.Facts₀ Cert.KernelIdeal.Facts
open Idealize.ShloMosaic

variable {F : FTy → Type} [FloatOps F] [Facts]

/-- A property carried along a fold over `0, …, n - 1`. -/
theorem foldl_finRange {σ : Type} : ∀ (n : ℕ) (f : σ → Fin n → σ) (P : ℕ → σ → Prop) (g : σ), P 0 g →
    (∀ (k : Fin n) (g : σ), P k.val g → P (k.val + 1) (f g k)) → P n ((List.finRange n).foldl f g)
  | 0, f, P, g, h0, _ => by simpa using h0
  | n + 1, f, P, g, h0, hs => by
    rw [List.finRange_succ, List.foldl_cons, List.foldl_map]
    exact foldl_finRange n (fun g k => f g k.succ) (fun k => P (k + 1)) (f g 0) (hs 0 g h0) fun k g h => hs k.succ g h

/-- The lanes from 1 to `k`, and the sum over a list of lanes added to the first lane's. -/
def upto (k : ℕ) : List (Fin 16) := (List.finRange 16).filter fun j => decide (0 < j.val ∧ j.val ≤ k)
def sumOver (v : IVec S16 32) (l : List (Fin 16)) : BitVec 32 := l.foldl (fun r k => r + v (at1 k.val k.isLt)) (v (at1 0 (by decide)))

theorem upto_zero : upto 0 = [] := by decide
theorem upto_succ : ∀ k : Fin 15, upto (k.val + 1) = upto k.val ++ [k.succ] := by decide

theorem ofLane_eq (k : Fin 16) : (Shape.ofLane (d := ![16]) k : S16.Idx) = at1 k.val k.isLt := by
  funext a; rw [Fin.eq_zero a]; rfl

theorem scan_eq (v : IVec S16 32) (k : ℕ) (hk : k < 16) : scan .sum v (at1 k hk) = sumOver v (upto k) := by
  have e : (fun (r : BitVec 32) (k : Fin 16) => ScanKind.sum.step r (v (Shape.ofLane (d := ![16]) k))) = fun r k => r + v (at1 k.val k.isLt) := by
    funext r k; rw [ofLane_eq]; rfl
  have e0 : v (Shape.ofLane (d := ![16]) (⟨0, by decide⟩ : Fin 16)) = v (at1 0 (by decide)) := by rw [ofLane_eq]
  show (upto k).foldl (fun (r : BitVec 32) (k : Fin 16) => ScanKind.sum.step r (v (Shape.ofLane (d := ![16]) k))) (v (Shape.ofLane (d := ![16]) (⟨0, by decide⟩ : Fin 16))) = _
  rw [e, e0]; rfl

theorem scan_zero (v : IVec S16 32) : scan .sum v (at1 0 (by decide)) = v (at1 0 (by decide)) := by
  rw [scan_eq, upto_zero]; rfl

theorem scan_succ (v : IVec S16 32) (k : ℕ) (hk : k + 1 < 16) :
    scan .sum v (at1 (k + 1) hk) = scan .sum v (at1 k (by omega)) + v (at1 (k + 1) hk) := by
  rw [scan_eq, scan_eq, upto_succ ⟨k, by omega⟩]
  unfold sumOver
  rw [List.foldl_append]; rfl

variable (i : grid0.Coords)

/-- Is a destination one of the tile's? -/
abbrev bit (w : BitVec 32) : BitVec 1 := IntOp.andi (IntOp.cmpi .sge w (lo i)) (IntOp.cmpi .slt w (hi i))

variable (ds : ℕ → BitVec 32)

/-- How many of the edges `a, …, a + n - 1` are the tile's. -/
def cnt (a : ℕ) : ℕ → ℕ
  | 0 => 0
  | n + 1 => if bit i (ds (a + n)) = 1 then cnt a n + 1 else cnt a n

/-- The values of the tile's edges among `a, …, a + n - 1`, in order. -/
def lst (val : ℕ → BitVec 32) (a : ℕ) : ℕ → ℕ → BitVec 32
  | 0, _ => 0
  | n + 1, q => if bit i (ds (a + n)) = 1 ∧ q = cnt i ds a n then val (a + n) else lst val a n q

theorem cnt_le (a : ℕ) : ∀ n, cnt i ds a n ≤ n
  | 0 => le_rfl
  | n + 1 => by have := cnt_le a n; simp only [cnt]; split <;> omega

/-- What holds of the value of each of the tile's edges holds of each entry of the list. -/
theorem lst_all (val : ℕ → BitVec 32) (a : ℕ) (R : BitVec 32 → Prop) : ∀ n, (∀ k < n, bit i (ds (a + k)) = 1 → R (val (a + k))) →
    ∀ q < cnt i ds a n, R (lst i ds val a n q)
  | 0, _, q, hq => absurd hq (Nat.not_lt_zero _)
  | n + 1, h, q, hq => by
    simp only [lst]
    split
    · next hc => exact h n (by omega) hc.1
    · next hc =>
      refine lst_all val a R n (fun k hk => h k (by omega)) q ?_
      simp only [cnt] at hq
      split at hq
      · next hb => have : q ≠ cnt i ds a n := fun e => hc ⟨hb, e⟩; omega
      · exact hq

/-- Word `q` of a list. -/
def rd (f : S8032.Idx → BitVec 32) (q : ℕ) : BitVec 32 := f (at1 (q % 8032) (Nat.mod_lt _ (by decide)))

theorem rd_at (f : S8032.Idx → BitVec 32) (q : ℕ) (h : q < 8032) : rd f q = f (at1 q h) := by
  unfold rd; refine congrArg f ?_; funext a; apply Fin.ext; show q % 8032 = q; exact Nat.mod_eq_of_lt h

variable (dv : Vec F S16 .i32) (a m : ℕ) (hd : ∀ e (he : e < 16), dv (at1 e he) = ds (a + m + e))
include hd

theorem mine_bit (e : ℕ) (he : e < 16) : mine i dv (at1 e he) = bit i (ds (a + (m + e))) := by
  rw [← Nat.add_assoc, ← hd e he]; rfl

omit hd in
theorem cnt_step : ∀ n, cnt i ds a m ≤ cnt i ds a (m + n) ∧ cnt i ds a (m + n) ≤ cnt i ds a m + n
  | 0 => ⟨le_rfl, le_rfl⟩
  | n + 1 => by
    have := cnt_step n
    show _ ≤ cnt i ds a (m + n + 1) ∧ cnt i ds a (m + n + 1) ≤ _
    simp only [cnt]; split <;> omega

omit hd in
theorem ext_bit (b : BitVec 1) : (Scalar.extui b : BitVec 32).toNat = if b = 1 then 1 else 0 := by
  revert b; decide

theorem counts_val : ∀ (e : ℕ) (he : e < 16), (counts (mine i dv) (at1 e he)).toNat + cnt i ds a m = cnt i ds a (m + e + 1)
  | 0, he => by
    show (scan .sum _ _).toNat + _ = _
    rw [scan_zero]
    show (Scalar.extui (mine i dv (at1 0 _)) : BitVec 32).toNat + _ = _
    rw [ext_bit, mine_bit i ds dv a m hd 0 (by decide)]
    simp only [cnt, Nat.add_zero]
    split <;> omega
  | e + 1, he => by
    have ih := counts_val e (by omega)
    have hs := cnt_step i ds a m (e + 1)
    have e1 : m + (e + 1) = m + e + 1 := by omega
    have h2 : (Scalar.extui (mine i dv (at1 (e + 1) he)) : BitVec 32).toNat = if bit i (ds (a + (m + (e + 1)))) = 1 then 1 else 0 := by
      rw [ext_bit, mine_bit i ds dv a m hd (e + 1) he]
    have e2 : counts (mine i dv) (at1 (e + 1) he) = counts (mine i dv) (at1 e (by omega)) + (Scalar.extui (mine i dv (at1 (e + 1) he)) : BitVec 32) := scan_succ _ e he
    have hl := cnt_le i ds a m
    rw [e1] at hs h2 ⊢
    have e3 : cnt i ds a (m + e + 1 + 1) = if bit i (ds (a + (m + e + 1))) = 1 then cnt i ds a (m + e + 1) + 1 else cnt i ds a (m + e + 1) := rfl
    rw [e2, e3, BitVec.toNat_add, h2]
    generalize cnt i ds a (m + e + 1) = x at *
    generalize (counts (mine i dv) (at1 e _)).toNat = y at *
    by_cases hh : bit i (ds (a + (m + e + 1))) = 1
    · rw [if_pos hh, if_pos hh]; omega
    · rw [if_neg hh, if_neg hh]; omega

/-- Where each lane goes. -/
theorem places_val (off : BitVec 32) (ho : off.toNat = cnt i ds a m) (hm : m + 16 ≤ 8000) (e : ℕ) (he : e < 16) :
    (places off (counts (mine i dv)) (at1 e he)).toNat = cnt i ds a (m + e + 1) - 1 := by
  have hc := counts_val i ds dv a m hd e he
  have hl := cnt_le i ds a (m + e + 1)
  generalize hcc : counts (mine i dv) (at1 e he) = c at hc
  show (IntOp.maxsi (off + counts (mine i dv) (at1 e he) - 1#32) 0#32).toNat = _
  rw [hcc]
  have h1 : (off + c).toNat = cnt i ds a (m + e + 1) := by rw [BitVec.toNat_add]; omega
  generalize off + c = w at h1
  rw [← h1] at hl ⊢
  by_cases h0 : w = 0#32
  · subst h0; decide
  · have hw : w.toNat ≠ 0 := fun h => h0 (BitVec.eq_of_toNat_eq (by simpa using h))
    have e1 : (w - 1#32).toNat = w.toNat - 1 := by
      rw [BitVec.toNat_sub]; simp; omega
    unfold IntOp.maxsi
    split
    · exact e1
    · next h =>
      rw [BitVec.slt, decide_eq_true_iff, BitVec.toInt_eq_toNat_of_lt (x := w - 1#32) (by rw [e1]; omega), e1] at h
      have hz : (0#32).toInt = 0 := by decide
      rw [hz] at h
      have h00 : (0#32).toNat = 0 := rfl
      rw [h00]; omega

theorem after_val (off : BitVec 32) (ho : off.toNat = cnt i ds a m) (hm : m + 16 ≤ 8000) :
    (after off (counts (mine i dv))).toNat = cnt i ds a (m + 16) := by
  have hc := counts_val i ds dv a m hd 15 (by decide)
  have hl := cnt_le i ds a (m + 16)
  have e : extractAt ![0] (extractStridedSlice S1 ![15] (counts (mine i dv)) slices_S16_o15_S1) inpos_S1_p0 = counts (mine i dv) (at1 15 (by decide)) := by
    generalize counts (mine i dv) = c
    unfold extractAt extractStridedSlice
    refine congrArg c ?_
    funext b; rw [Fin.eq_zero b]; rfl
  show (off + extractAt ![0] (extractStridedSlice S1 ![15] (counts (mine i dv)) slices_S16_o15_S1) inpos_S1_p0).toNat = _
  rw [show m + 15 + 1 = m + 16 from rfl] at hc
  rw [e, BitVec.toNat_add]; omega

theorem chk1_of (off : BitVec 32) (ho : off.toNat = cnt i ds a m) (hm : m + 16 ≤ 8000) : k0_chk1 (places off (counts (mine i dv))) := by
  have h : ∀ (b : Fin 1) (x : S16.Idx), ((![places off (counts (mine i dv))] : Fin 1 → IVec S16 32) b x).toNat < S8032.size b := by
    intro b x
    rw [Fin.eq_zero b]
    have hx : (x 0).val < 16 := (x 0).isLt
    show (places off (counts (mine i dv)) x).toNat < 8032
    have ex : x = at1 (x 0).val hx := eq_at1 x hx
    rw [ex, places_val i ds dv a m hd off ho hm _ hx]
    have := cnt_le i ds a (m + (x 0).val + 1)
    omega
  exact ⟨h, h⟩

/-- The masked scatter puts the tile's edges among the sixteen at the end of the list. -/
theorem store_lst (val : ℕ → BitVec 32) (sv : Vec F S16 .i32) (hs : ∀ e (he : e < 16), sv (at1 e he) = val (a + m + e)) (f : S8032.Idx → BitVec 32)
    (off : BitVec 32) (ho : off.toNat = cnt i ds a m) (hm : m + 16 ≤ 8000) (hf : ∀ q < cnt i ds a m, rd f q = lst i ds val a m q)
    (h : ∀ b x, ((![places off (counts (mine i dv))] : Fin 1 → IVec S16 32) b x).toNat < S8032.size b) :
    ∀ q < cnt i ds a (m + 16), rd (storeIdx (F := F) (s := S8032) (e := .i32) f ![places off (counts (mine i dv))] sv (mine i dv) false h) q = lst i ds val a (m + 16) q := by
  unfold storeIdx
  refine foldl_finRange 16 _ (fun k (g : S8032.Idx → BitVec 32) => ∀ q < cnt i ds a (m + k), rd g q = lst i ds val a (m + k) q) f hf ?_
  intro k g hg
  have hk := k.isLt
  have ek : (Shape.ofLane (d := ![16]) k : S16.Idx) = at1 k.val k.isLt := ofLane_eq k
  show ∀ q < cnt i ds a (m + k.val + 1), rd _ q = lst i ds val a (m + k.val + 1) q
  have hp := places_val i ds dv a m hd off ho hm k.val hk
  have hb := mine_bit i ds dv a m hd k.val hk
  have hcl := cnt_le i ds a (m + k.val)
  intro q hq
  dsimp only [idxAt]
  simp only [Bool.false_eq_true, if_false]
  rw [ek, hb]
  simp only [cnt] at hq hp
  simp only [lst]
  by_cases h1 : bit i (ds (a + (m + k.val))) = 1
  · rw [if_pos h1] at hq hp
    rw [if_pos h1, rd_at _ _ (by omega)]
    by_cases hqe : q = cnt i ds a (m + k.val)
    · rw [if_pos (show bit i (ds (a + (m + k.val))) = 1 ∧ q = cnt i ds a (m + k.val) from ⟨h1, hqe⟩), if_pos, hs k.val hk, Nat.add_assoc]
      intro b
      have hb0 : b = 0 := Fin.eq_zero b
      subst hb0
      show q = (places off (counts (mine i dv)) (at1 k.val hk)).toNat
      rw [hp]; omega
    · rw [if_neg (show ¬ (bit i (ds (a + (m + k.val))) = 1 ∧ q = cnt i ds a (m + k.val)) from fun hc => hqe hc.2), if_neg, ← hg q (by omega), rd_at _ _ (by omega)]
      intro hb
      have h0 : q = (places off (counts (mine i dv)) (at1 k.val hk)).toNat := hb 0
      rw [hp] at h0
      omega
  · rw [if_neg h1] at hq
    rw [if_neg h1, if_neg (show ¬ (bit i (ds (a + (m + k.val))) = 1 ∧ q = cnt i ds a (m + k.val)) from fun hc => h1 hc.1)]
    exact hg q hq

end Cert.Proof.Sage

end
-- ==== Proof.Where.lean ====
/-
  The offsets of the tile's loops outside the groups, as numbers.
-/
module

public import proofs.«01_k».proof.Proof.Setup

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

theorem trips1 : k0_t1_loop.trips = 2512 := by decide +kernel
theorem trips2 : k0_t2_loop.trips = 40 := by decide +kernel
theorem trips3 : k0_t3_loop.trips = 125 := by decide +kernel

theorem t1_lt (t : Fin k0_t1_loop.trips) : t.val < 2512 := lt_of_lt_of_eq t.isLt trips1
theorem t2_lt (t : Fin k0_t2_loop.trips) : t.val < 40 := lt_of_lt_of_eq t.isLt trips2
theorem t3_lt (t : Fin k0_t3_loop.trips) : t.val < 125 := lt_of_lt_of_eq t.isLt trips3

theorem iv_of (n : ℕ) (hn : n < 10000) : (Scf.iv 0#32 1#32 n : BitVec 32).toNat = n := by
  simp only [Scf.iv, BitVec.toNat_add, BitVec.toNat_mul, BitVec.toNat_ofNat]
  omega

theorem iv_eq (n : ℕ) (hn : n < 10000) : (Scf.iv 0#32 1#32 n : BitVec 32) = BitVec.ofNat 32 n := by
  apply BitVec.eq_of_toNat_eq; rw [iv_of n hn, BitVec.toNat_ofNat]; omega

theorem rem_two (n : ℕ) (hn : n < 40) : (Scalar.remsi (Scf.iv 0#32 1#32 n) 2#32 : BitVec 32).toNat = n % 2 := by
  have h : ∀ n : Fin 40, (Scalar.remsi (BitVec.ofNat 32 n.val) 2#32 : BitVec 32).toNat = n.val % 2 := by decide +kernel
  rw [iv_eq n (by omega)]
  exact h ⟨n, hn⟩

theorem off1_val (t : Fin k0_t1_loop.trips) : k0_off1 t 0 = 16 * t.val := by
  show ((Scf.iv 0#32 1#32 t.val : BitVec 32) * 16#32).toNat = _
  have := t1_lt t
  rw [BitVec.toNat_mul, iv_of _ (by omega)]; simp only [BitVec.toNat_ofNat]; omega
theorem off2_val (t : Fin k0_t2_loop.trips) : k0_off2 t 0 = 8000 * (t.val % 2) := by
  show ((Scalar.remsi (Scf.iv 0#32 1#32 t.val) 2#32 : BitVec 32) * 8000#32).toNat = _
  rw [BitVec.toNat_mul, rem_two _ (t2_lt t)]; simp only [BitVec.toNat_ofNat]; omega
theorem off3_val (t : Fin k0_t2_loop.trips) : k0_off3 t 0 = 8000 * ((t.val + 1) % 2) := by
  show ((1#32 - (Scalar.remsi (Scf.iv 0#32 1#32 t.val) 2#32 : BitVec 32)) * 8000#32).toNat = _
  have h : ∀ w : Fin 2, ((1#32 - BitVec.ofNat 32 w.val) * 8000#32).toNat = 8000 * ((w.val + 1) % 2) := by decide
  have e : (Scalar.remsi (Scf.iv 0#32 1#32 t.val) 2#32 : BitVec 32) = BitVec.ofNat 32 (t.val % 2) := by
    apply BitVec.eq_of_toNat_eq; rw [rem_two _ (t2_lt t), BitVec.toNat_ofNat]; omega
  rw [e, h ⟨t.val % 2, by omega⟩]
  show 8000 * ((t.val % 2 + 1) % 2) = _; omega
theorem off4_val (t : Fin k0_t2_loop.trips) : k0_off4 t 0 = 8000 * (t.val + 1) := by
  show (((Scf.iv 0#32 1#32 t.val : BitVec 32) + 1#32) * 8000#32).toNat = _
  have := t2_lt t
  rw [BitVec.toNat_mul, BitVec.toNat_add, iv_of _ (by omega)]; simp only [BitVec.toNat_ofNat]; omega
theorem off5_val (t : Fin k0_t2_loop.trips) (t3 : Fin k0_t3_loop.trips) (u : Fin 4) :
    k0_off5 t t3 (BitVec.ofNat 32 u.val) 0 = 8000 * (t.val % 2) + (64 * t3.val + 16 * u.val) := by
  show ((Scalar.remsi (Scf.iv 0#32 1#32 t.val) 2#32 : BitVec 32) * 8000#32 + (4#32 * (Scf.iv 0#32 1#32 t3.val : BitVec 32) + BitVec.ofNat 32 u.val) * 16#32).toNat = _
  have := t3_lt t3
  have := u.isLt
  rw [BitVec.toNat_add, BitVec.toNat_mul, rem_two _ (t2_lt t), BitVec.toNat_mul, BitVec.toNat_add, BitVec.toNat_mul, iv_of _ (by omega)]; simp only [BitVec.toNat_ofNat]; omega

theorem cond1_iff (t : Fin k0_t2_loop.trips) : k0_cond1 t = 1#1 ↔ t.val + 1 < 40 := by
  have h : ∀ n : Fin 40, (Scalar.cmpi .ne (Scalar.extui (Scalar.cmpi .slt (Scalar.addi (BitVec.ofNat 32 n.val) 1#32) 40#32) : BitVec 32) 0#32 : BitVec 1) = 1#1 ↔ n.val + 1 < 40 := by decide +kernel
  show (Scalar.cmpi .ne (Scalar.extui (Scalar.cmpi .slt (Scalar.addi (Scf.iv 0#32 1#32 t.val) 1#32) 40#32) : BitVec 32) 0#32 : BitVec 1) = 1#1 ↔ _
  have := t2_lt t
  rw [iv_eq _ (by omega)]
  exact h ⟨t.val, this⟩

/-- The number of the tile among the thirty-two, and the first of its nodes. -/
def tileNo (i : grid0.Coords) : ℕ := 2 * (i 1).val + (i 0).val

theorem core_lt (i : grid0.Coords) : (i 0).val < 2 := (i 0).isLt
theorem sub_lt (i : grid0.Coords) : (i 1).val < 16 := (i 1).isLt
theorem tileNo_lt (i : grid0.Coords) : tileNo i < 32 := by
  have := core_lt i; have := sub_lt i; unfold tileNo; omega

theorem lo_val (i : grid0.Coords) : (lo i).toNat = 313 * tileNo i := by
  have := core_lt i; have := sub_lt i
  show ((BitVec.ofNat 32 (i 1).val * 2#32 + BitVec.ofNat 32 (i 0).val) * 313#32).toNat = _
  simp only [BitVec.toNat_mul, BitVec.toNat_add, BitVec.toNat_ofNat, tileNo]; omega
theorem hi_val (i : grid0.Coords) : (hi i).toNat = 313 * tileNo i + 313 := by
  have := tileNo_lt i
  show (lo i + 313#32).toNat = _
  rw [BitVec.toNat_add, lo_val]; simp only [BitVec.toNat_ofNat]; omega
theorem off608_val (i : grid0.Coords) : k0_off608 i 0 = 40064 * tileNo i := by
  have := core_lt i; have := sub_lt i
  show (((BitVec.ofNat 32 (i 1).val * 2#32 + BitVec.ofNat 32 (i 0).val) * 313#32) * 128#32).toNat = _
  simp only [BitVec.toNat_mul, BitVec.toNat_add, BitVec.toNat_ofNat, tileNo]; omega

/-- A node is the tile's if and only if it is among its 313. -/
theorem bit_iff (i : grid0.Coords) (w : BitVec 32) (hw : w.toNat < 10000) :
    IntOp.andi (IntOp.cmpi .sge w (lo i)) (IntOp.cmpi .slt w (hi i)) = 1#1 ↔ 313 * tileNo i ≤ w.toNat ∧ w.toNat < 313 * tileNo i + 313 := by
  have := tileNo_lt i
  have hb : ∀ a b : Bool, IntOp.andi (BitVec.ofBool a) (BitVec.ofBool b) = 1#1 ↔ a = true ∧ b = true := by decide
  show IntOp.andi (BitVec.ofBool ((lo i).sle w)) (BitVec.ofBool (w.slt (hi i))) = 1#1 ↔ _
  rw [hb, BitVec.sle, BitVec.slt, decide_eq_true_iff, decide_eq_true_iff, BitVec.toInt_eq_toNat_of_lt (x := w) (by omega), BitVec.toInt_eq_toNat_of_lt (x := lo i) (by rw [lo_val]; omega),
    BitVec.toInt_eq_toNat_of_lt (x := hi i) (by rw [hi_val]; omega), lo_val, hi_val]
  omega

theorem sub_val (i : grid0.Coords) (w : BitVec 32) (h : 313 * tileNo i ≤ w.toNat) : (w - lo i).toNat = w.toNat - 313 * tileNo i := by
  have h1 := w.isLt
  have h2 := lo_val i
  rw [BitVec.toNat_sub]; omega

end Cert.Proof.Sage

end
-- ==== Proof.Scan.lean ====
/-
  The scan of one chunk: sixty-four edges at a time, the tile's edges put at the end of the two lists.
-/
module

public import proofs.«01_k».proof.Proof.Pick
public import proofs.«01_k».proof.Proof.Where

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

variable (d : Dev nD) (i : grid0.Coords)

theorem set_selS : (selSV.access (.whole S8032)).set = Finset.univ := Memref.set_access_whole cc0_scratch3
theorem read_selS (f : S8032.Idx → BitVec 32) : (selSV.access (.whole S8032)).read (Elt F) f = f := Memref.read_access_whole (Elt F) cc0_scratch3 f
theorem write_selS (f w : S8032.Idx → BitVec 32) : (selSV.access (.whole S8032)).write (Elt F) f w Finset.univ = w := Memref.write_access_whole_univ (Elt F) cc0_scratch3 f w

theorem set_selD : (selDV.access (.whole S8032)).set = Finset.univ := Memref.set_access_whole cc0_scratch4
theorem read_selD (f : S8032.Idx → BitVec 32) : (selDV.access (.whole S8032)).read (Elt F) f = f := Memref.read_access_whole (Elt F) cc0_scratch4 f
theorem write_selD (f w : S8032.Idx → BitVec 32) : (selDV.access (.whole S8032)).write (Elt F) f w Finset.univ = w := Memref.write_access_whole_univ (Elt F) cc0_scratch4 f w

section
variable (ds ss : ℕ → BitVec 32) (a m : ℕ)

/-- A list holds the tile's edges among the first `m` of the chunk. -/
def Holds (val : ℕ → BitVec 32) (m : ℕ) (f : S8032.Idx → BitVec 32) : Prop := ∀ q < cnt i ds a m, rd f q = lst i ds val a m q

/-- The two lists after the first `m` edges of the chunk. -/
def Lists (m : ℕ) : sProp (MM F) :=
  iprop(∃ fS fD : S8032.Idx → BitVec 32, ⌜Holds i ds a ss m fS ∧ Holds i ds a (fun k => ds k - lo i) m fD⌝
    ∗ (selSV.view.loc (thr d i) ↦{fullShare} fS) ∗ (selDV.view.loc (thr d i) ↦{fullShare} fD))

theorem wp_put {α : Type} {k : PUnit → Prog (Tile F i) α} {Q : α → sProp (MM F)} (off : BitVec 32) (dv sv : Vec F S16 .i32)
    (hd : ∀ e (he : e < 16), dv (at1 e he) = ds (a + m + e)) (hs : ∀ e (he : e < 16), sv (at1 e he) = ss (a + m + e))
    (ho : off.toNat = cnt i ds a m) (hm : m + 16 ≤ 8000) :
    Lists d i ds ss a m ⊢ iprop((Lists d i ds ss a (m + 16) -∗ run d i (k ⟨⟩) Q) -∗ run d i (put i selSV selDV off dv sv >>= k) Q) := by
  have hchk := chk1_of i ds dv a m hd off ho hm
  unfold Lists put run
  simp only [Prog.lift, op_bind, ret_bind, Prog.bind_assoc]
  iintro ⟨%fS, %fD, %hf, HS, HD⟩ Hk
  iapply (wp_assume 𝒱₀ (thr d i) none Set.univ hchk)
  iapply (SparseCore.wp_vectorStoreIdx 𝒱₀ (thr d i) none Set.univ (defs := defs₀ (F := F)) (base := selSV) (f := fS)) $$ [HS]
  · rw [set_selS]; iexact HS
  iintro HS
  iapply (SparseCore.wp_vectorStoreIdx 𝒱₀ (thr d i) none Set.univ (defs := defs₀ (F := F)) (base := selDV) (f := fD)) $$ [HD]
  · rw [set_selD]; iexact HD
  iintro HD
  rw [set_selS, set_selD, write_selS, write_selD, read_selS, read_selD]
  iapply Hk
  iexists _
  iexists _
  isplitr
  swap
  · isplitl [HS]
    · iexact HS
    · iexact HD
  ipureintro
  exact ⟨store_lst i ds dv a m hd ss sv hs fS off ho hm hf.1 (k0_idx1_inb _ hchk),
    store_lst i ds dv a m hd (fun k => ds k - lo i) (subi dv (broadcast S16 (lo i))) (fun e he => by rw [← hd e he]; rfl) fD off ho hm hf.2 (k0_idx2_inb _ hchk)⟩

/-- The elements of half `p` of a chunk buffer. -/
def halfSet (p : ℕ) : Finset S16000.Idx := Finset.univ.filter fun x => (x 0).val / 8000 = p

/-- Half `p` of a chunk buffer holds the words `val` from `a` on. -/
def Chunk (val : ℕ → BitVec 32) (p : ℕ) (g : S16000.Idx → BitVec 32) : Prop := ∀ x < 8000, ∀ h, g (at1 (8000 * p + x) h) = val (a + x)

variable (gS gD : S16000.Idx → BitVec 32) (t2 : Fin k0_t2_loop.trips) (t3 : Fin k0_t3_loop.trips)

theorem wp_wordS {α : Type} {k : Vec F S16 .i32 → Prog (Tile F i) α} {Q : α → sProp (MM F)} (val : ℕ → BitVec 32) (u : Fin 4)
    (hg : Chunk a val (t2.val % 2) gS) :
    (srcCV.view.loc (thr d i) ↦[halfSet (t2.val % 2)]{fullShare} gS)
      ⊢ iprop((∀ w : Vec F S16 .i32, ⌜∀ e (he : e < 16), w (at1 e he) = val (a + (64 * t3.val + 16 * u.val) + e)⌝
          -∗ (srcCV.view.loc (thr d i) ↦[halfSet (t2.val % 2)]{fullShare} gS) -∗ run d i (k w) Q)
        -∗ run d i (word i srcCV t2 t3 u >>= k) Q) := by
  have eo := off5_val t2 t3 u
  have ht := t3_lt t3
  have hu := u.isLt
  unfold run
  simp only [Prog.lift, op_bind, ret_bind]
  iintro H Hk
  iapply (wp_load_rect 𝒱₀ (thr d i) none Set.univ (defs := defs₀ (F := F)) (m := srcCV) (r := Rect.unit (s := S16000) (k0_off5 t2 t3 (BitVec.ofNat 32 u.val)) S16.size (k0_off5_inb t2 t3 u)) (q := fullShare) (f := gS) (S := halfSet (t2.val % 2)) (by
    intro x hx
    obtain ⟨y, -, rfl⟩ := Finset.mem_map.mp hx
    refine Finset.mem_filter.mpr ⟨Finset.mem_univ _, ?_⟩
    have hy : (y 0).val < 16 := (y 0).isLt
    show (k0_off5 t2 t3 (BitVec.ofNat 32 u.val) 0 + 1 * (y 0).val) / 8000 = t2.val % 2
    rw [eo]; omega)) $$ H
  iintro H
  iapply Hk $$ %_ %_ H
  intro e he
  refine (read_flat (Val := Elt F) (n := 16000) (m := 16) srcCV.view gS _ (k0_off5_inb t2 t3 u) (at1 e he)).trans ?_
  refine Eq.trans ?_ ((hg (64 * t3.val + 16 * u.val + e) (by omega) (by omega)).trans (congrArg val (by omega)))
  show gS _ = gS _
  refine congrArg gS ?_
  funext b; apply Fin.ext
  show k0_off5 t2 t3 (BitVec.ofNat 32 u.val) 0 + e = _
  rw [eo]
  show _ = 8000 * (t2.val % 2) + (64 * t3.val + 16 * u.val + e)
  omega

theorem wp_wordD {α : Type} {k : Vec F S16 .i32 → Prog (Tile F i) α} {Q : α → sProp (MM F)} (val : ℕ → BitVec 32) (u : Fin 4)
    (hg : Chunk a val (t2.val % 2) gD) :
    (dstCV.view.loc (thr d i) ↦[halfSet (t2.val % 2)]{fullShare} gD)
      ⊢ iprop((∀ w : Vec F S16 .i32, ⌜∀ e (he : e < 16), w (at1 e he) = val (a + (64 * t3.val + 16 * u.val) + e)⌝
          -∗ (dstCV.view.loc (thr d i) ↦[halfSet (t2.val % 2)]{fullShare} gD) -∗ run d i (k w) Q)
        -∗ run d i (word i dstCV t2 t3 u >>= k) Q) := by
  have eo := off5_val t2 t3 u
  have ht := t3_lt t3
  have hu := u.isLt
  unfold run
  simp only [Prog.lift, op_bind, ret_bind]
  iintro H Hk
  iapply (wp_load_rect 𝒱₀ (thr d i) none Set.univ (defs := defs₀ (F := F)) (m := dstCV) (r := Rect.unit (s := S16000) (k0_off5 t2 t3 (BitVec.ofNat 32 u.val)) S16.size (k0_off5_inb t2 t3 u)) (q := fullShare) (f := gD) (S := halfSet (t2.val % 2)) (by
    intro x hx
    obtain ⟨y, -, rfl⟩ := Finset.mem_map.mp hx
    refine Finset.mem_filter.mpr ⟨Finset.mem_univ _, ?_⟩
    have hy : (y 0).val < 16 := (y 0).isLt
    show (k0_off5 t2 t3 (BitVec.ofNat 32 u.val) 0 + 1 * (y 0).val) / 8000 = t2.val % 2
    rw [eo]; omega)) $$ H
  iintro H
  iapply Hk $$ %_ %_ H
  intro e he
  refine (read_flat (Val := Elt F) (n := 16000) (m := 16) dstCV.view gD _ (k0_off5_inb t2 t3 u) (at1 e he)).trans ?_
  refine Eq.trans ?_ ((hg (64 * t3.val + 16 * u.val + e) (by omega) (by omega)).trans (congrArg val (by omega)))
  show gD _ = gD _
  refine congrArg gD ?_
  funext b; apply Fin.ext
  show k0_off5 t2 t3 (BitVec.ofNat 32 u.val) 0 + e = _
  rw [eo]
  show _ = 8000 * (t2.val % 2) + (64 * t3.val + 16 * u.val + e)
  omega

/-- The chunk's two halves as the scan reads them. -/
abbrev Halves : sProp (MM F) :=
  iprop((srcCV.view.loc (thr d i) ↦[halfSet (t2.val % 2)]{fullShare} gS) ∗ (dstCV.view.loc (thr d i) ↦[halfSet (t2.val % 2)]{fullShare} gD))

theorem after_four (off : BitVec 32) (dv : Vec F S16 .i32) (n : ℕ) (hn : n + 16 ≤ 8000) (hd : ∀ e (he : e < 16), dv (at1 e he) = ds (a + n + e))
    (ho : off.toNat = cnt i ds a n) : (after off (counts (mine i dv))).toNat = cnt i ds a (n + 16) := after_val i ds dv a n hd off ho hn

theorem wp_scanTrip {α : Type} {k : BitVec 32 → Prog (Tile F i) α} {Q : α → sProp (MM F)} (off : BitVec 32)
    (hgS : Chunk a ss (t2.val % 2) gS) (hgD : Chunk a ds (t2.val % 2) gD) (ho : off.toNat = cnt i ds a (64 * t3.val)) :
    iprop(Lists d i ds ss a (64 * t3.val) ∗ Halves d i gS gD t2)
      ⊢ iprop((∀ off' : BitVec 32, ⌜off'.toNat = cnt i ds a (64 * (t3.val + 1))⌝ -∗ Lists d i ds ss a (64 * (t3.val + 1)) -∗ Halves d i gS gD t2 -∗ run d i (k off') Q)
        -∗ run d i (scanTrip i srcCV dstCV selSV selDV t2 t3 off >>= k) Q) := by
  have ht := t3_lt t3
  unfold scanTrip
  simp only [Prog.bind_assoc]
  iintro ⟨HL, HS, HD⟩ Hk
  iapply (wp_wordD d i a gD t2 t3 ds 0 hgD) $$ HD
  iintro %d0 %hd0 HD
  iapply (wp_wordS d i a gS t2 t3 ss 0 hgS) $$ HS
  iintro %s0 %hs0 HS
  iapply (wp_wordD d i a gD t2 t3 ds 1 hgD) $$ HD
  iintro %d1 %hd1 HD
  iapply (wp_wordS d i a gS t2 t3 ss 1 hgS) $$ HS
  iintro %s1 %hs1 HS
  iapply (wp_wordD d i a gD t2 t3 ds 2 hgD) $$ HD
  iintro %d2 %hd2 HD
  iapply (wp_wordS d i a gS t2 t3 ss 2 hgS) $$ HS
  iintro %s2 %hs2 HS
  iapply (wp_wordD d i a gD t2 t3 ds 3 hgD) $$ HD
  iintro %d3 %hd3 HD
  iapply (wp_wordS d i a gS t2 t3 ss 3 hgS) $$ HS
  iintro %s3 %hs3 HS
  have ho0 : (off).toNat = cnt i ds a (64 * t3.val + 16 * 0) := ho
  iapply (wp_put d i ds ss a (64 * t3.val + 16 * 0) _ d0 s0 hd0 hs0 ho0 (by omega)) $$ HL
  iintro HL
  have ho1 : (after (off) (counts (mine i d0))).toNat = cnt i ds a (64 * t3.val + 16 * 1) := after_val i ds d0 a (64 * t3.val + 16 * 0) hd0 _ ho0 (by omega)
  iapply (wp_put d i ds ss a (64 * t3.val + 16 * 1) _ d1 s1 hd1 hs1 ho1 (by omega)) $$ HL
  iintro HL
  have ho2 : (after (after (off) (counts (mine i d0))) (counts (mine i d1))).toNat = cnt i ds a (64 * t3.val + 16 * 2) := after_val i ds d1 a (64 * t3.val + 16 * 1) hd1 _ ho1 (by omega)
  iapply (wp_put d i ds ss a (64 * t3.val + 16 * 2) _ d2 s2 hd2 hs2 ho2 (by omega)) $$ HL
  iintro HL
  have ho3 : (after (after (after (off) (counts (mine i d0))) (counts (mine i d1))) (counts (mine i d2))).toNat = cnt i ds a (64 * t3.val + 16 * 3) := after_val i ds d2 a (64 * t3.val + 16 * 2) hd2 _ ho2 (by omega)
  iapply (wp_put d i ds ss a (64 * t3.val + 16 * 3) _ d3 s3 hd3 hs3 ho3 (by omega)) $$ HL
  iintro HL
  have ho4 : (after (after (after (after (off) (counts (mine i d0))) (counts (mine i d1))) (counts (mine i d2))) (counts (mine i d3))).toNat = cnt i ds a (64 * (t3.val + 1)) := after_val i ds d3 a (64 * t3.val + 16 * 3) hd3 _ ho3 (by omega)
  simp only [pure_eq, ret_bind]
  iapply Hk $$ %_ %ho4 HL [HS HD]
  isplitl [HS]
  · iexact HS
  · iexact HD

/-- The whole scan of a chunk. -/
theorem wp_scan {α : Type} {k : BitVec 32 → Prog (Tile F i) α} {Q : α → sProp (MM F)}
    (hgS : Chunk a ss (t2.val % 2) gS) (hgD : Chunk a ds (t2.val % 2) gD) :
    iprop(Lists d i ds ss a 0 ∗ Halves d i gS gD t2)
      ⊢ iprop((∀ v : BitVec 32, ⌜v.toNat = cnt i ds a 8000⌝ -∗ Lists d i ds ss a 8000 -∗ Halves d i gS gD t2 -∗ run d i (k v) Q)
        -∗ run d i (Scf.Loop.for k0_t3_loop k0_t3_ok 0#32 (fun t3 off => scanTrip i srcCV dstCV selSV selDV t2 t3 off) >>= k) Q) := by
  iintro H Hk
  unfold Scf.Loop.for
  iapply (Scf.wp_for_bind frame (wpE (defs₀ (F := F)) 𝒱₀ (thr d i) none) Set.univ _ _ _ k0_t3_ok 0#32 (fun t3 off => scanTrip i srcCV dstCV selSV selDV t2 t3 off)
    (fun n off => iprop(⌜off.toNat = cnt i ds a (64 * n)⌝ ∗ Lists d i ds ss a (64 * n) ∗ Halves d i gS gD t2)) (by
      intro t3 off
      rw [← Prog.bind_pure (scanTrip i srcCV dstCV selSV selDV t2 t3 off)]
      iintro ⟨%ho, H⟩
      iapply (wp_scanTrip d i ds ss a gS gD t2 t3 off hgS hgD ho) $$ H
      iintro %off' %ho' HL HH
      simp only [run, pure_eq, wp_ret]
      imodintro
      isplitr
      · ipureintro; exact ho'
      isplitl [HL]
      · iexact HL
      · iexact HH)) $$ [H]
  · isplitr
    · ipureintro; rfl
    · iexact H
  iintro %v ⟨%hv, HL, HH⟩
  have e : 64 * Scf.trips k0_t3_loop.lb k0_t3_loop.ub k0_t3_loop.st = 8000 := congrArg (64 * ·) trips3
  rw [e] at hv
  iapply Hk $$ %v %hv [HL] HH
  exact Entails.of_eq (by rw [e])

end

end Cert.Proof.Sage

end
-- ==== Proof.Lane.lean ====
/-
  One edge into the accumulator: its eight lanes, one after the other, leave the row of the edge's destination at the
  greater of itself and the gathered row, lane by lane, and every other row as it was.
-/
module

public import proofs.«01_k».proof.Proof.Setup

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-- Row `e` of slot `p` of the gathered rows, element by element. -/
def rowAt (g : S4x32x128.Idx → Elt F .f32) (p e j : ℕ) : Elt F .f32 :=
  g fun | 0 => ⟨p % 4, Nat.mod_lt _ (by decide)⟩ | 1 => ⟨e % 32, Nat.mod_lt _ (by decide)⟩ | 2 => ⟨j % 128, Nat.mod_lt _ (by decide)⟩

/-- The accumulator with the first `16 n` elements of its row `v` replaced. -/
def lanes (f : S40192.Idx → Elt F .f32) (row : ℕ → Elt F .f32) (v n : ℕ) : S40192.Idx → Elt F .f32 :=
  fun i => if (i 0).val / 128 = v ∧ (i 0).val % 128 < 16 * n then FloatOps.maximumf (f i) (row ((i 0).val % 128)) else f i

/-- The accumulator after one edge. -/
def edgeF (f : S40192.Idx → Elt F .f32) (row : ℕ → Elt F .f32) (v : ℕ) : S40192.Idx → Elt F .f32 :=
  fun i => if (i 0).val / 128 = v then FloatOps.maximumf (f i) (row ((i 0).val % 128)) else f i

theorem lanes_zero (f : S40192.Idx → Elt F .f32) (row : ℕ → Elt F .f32) (v : ℕ) : lanes f row v 0 = f := by
  funext i; simp [lanes]

theorem lanes_eight (f : S40192.Idx → Elt F .f32) (row : ℕ → Elt F .f32) (v : ℕ) : lanes f row v 8 = edgeF f row v := by
  funext i; simp only [lanes, edgeF]
  have : (i 0).val % 128 < 16 * 8 := Nat.mod_lt _ (by decide)
  simp [this]

/-- The sixteen words of a row that a lane reads. -/
theorem read_row (g : S4x32x128.Idx → Elt F .f32) (r : Fin 3 → ℕ) (hr : ∀ a, r a + S1x1x16.size a ≤ S4x32x128.size a) (x : S16.Idx) :
    shapeCast S16 ((rowsV.access (Rect.unit (s := S4x32x128) r S1x1x16.size hr)).read (Elt F) g) shapeCasts_S1x1x16_S16 x
      = rowAt g (r 0) (r 1) (r 2 + (x 0).val) := by
  have h0 := hr 0; have h1 := hr 1; have h2 := hr 2
  simp at h0 h1 h2
  have hx : (x 0).val < 16 := (x 0).isLt
  let y : S1x1x16.Idx := fun | 0 => ⟨0, by decide⟩ | 1 => ⟨0, by decide⟩ | 2 => ⟨(x 0).val, hx⟩
  rw [shapeCast_apply (s := S1x1x16) (t := S16) _ _ x y (by
    rw [Shape.rowMajor_val_three, Shape.rowMajor_val_one]; show (0 * 1 + 0) * 16 + (x 0).val = _; omega)]
  unfold rowAt
  rw [View.read_apply]
  show g _ = g _
  congr 1
  funext a; apply Fin.ext
  fin_cases a
  · show r 0 + 1 * 0 = r 0 % 4; omega
  · show r 1 + 1 * 0 = r 1 % 32; omega
  · show r 2 + 1 * (x 0).val = (r 2 + (x 0).val) % 128; omega

/-- A lane's write. -/
theorem write_lane (f : S40192.Idx → Elt F .f32) (g : S4x32x128.Idx → Elt F .f32) (v n p e : ℕ) (hn : n < 8) (o : Fin 1 → ℕ) (ho : ∀ a, o a + S16.size a ≤ S40192.size a)
    (r : Fin 3 → ℕ) (hr : ∀ a, r a + S1x1x16.size a ≤ S4x32x128.size a) (eo : o 0 = 128 * v + 16 * n) (e0 : r 0 = p) (e1 : r 1 = e) (e2 : r 2 = 16 * n) :
    (accV.access (Rect.unit (s := S40192) o S16.size ho)).write (Elt F) (lanes f (rowAt g p e) v n)
        (maximumf ((accV.access (Rect.unit (s := S40192) o S16.size ho)).read (Elt F) (lanes f (rowAt g p e) v n))
          (shapeCast S16 ((rowsV.access (Rect.unit (s := S4x32x128) r S1x1x16.size hr)).read (Elt F) g) shapeCasts_S1x1x16_S16)) Finset.univ
      = lanes f (rowAt g p e) v (n + 1) := by
  subst e0 e1
  funext i
  refine (write_flat (n := 40192) (m := 16) accV.view (lanes f (rowAt g (r 0) (r 1)) v n) _ o ho i).trans ?_
  split
  · next h =>
    show FloatOps.maximumf _ _ = _
    rw [read_row, show (accV.access (Rect.unit (s := S40192) o S16.size ho)).read (Elt F) (lanes f (rowAt g (r 0) (r 1)) v n) = _ from
      funext fun j => read_flat (n := 40192) (m := 16) accV.view (lanes f (rowAt g (r 0) (r 1)) v n) o ho j]
    have ei : (at1 (o 0 + ((i 0).val - o 0)) (by have : (i 0).val < 40192 := (i 0).isLt; omega) : S40192.Idx) = i := by
      funext a; rw [Fin.eq_zero a]; apply Fin.ext; show o 0 + ((i 0).val - o 0) = _; omega
    refine (congrArg (fun z => FloatOps.maximumf (lanes f (rowAt g (r 0) (r 1)) v n z) _) ei).trans ?_
    simp only [lanes]
    rw [if_neg (by omega), if_pos (by omega)]
    congr 2
    omega
  · next h =>
    show lanes f _ v n i = _
    simp only [lanes]
    by_cases hc : (i 0).val / 128 = v ∧ (i 0).val % 128 < 16 * n
    · rw [if_pos hc, if_pos (by omega)]
    · rw [if_neg hc, if_neg (by omega)]

variable (d : Dev nD) (i : grid0.Coords)

/-- The elements of slot `p`. -/
def slotSet (p : ℕ) : Finset S4x32x128.Idx := Finset.univ.filter fun x => (x 0).val = p

theorem wp_lane {α : Type} {k : PUnit → Prog (Tile F i) α} {Q : α → sProp (MM F)} (f : S40192.Idx → Elt F .f32) (g : S4x32x128.Idx → Elt F .f32) (v n p e : ℕ) (hn : n < 8) (o : Fin 1 → ℕ) (ho : ∀ a, o a + S16.size a ≤ S40192.size a)
    (r : Fin 3 → ℕ) (hr : ∀ a, r a + S1x1x16.size a ≤ S4x32x128.size a) (eo : o 0 = 128 * v + 16 * n) (e0 : r 0 = p) (e1 : r 1 = e) (e2 : r 2 = 16 * n) :
    iprop((accV.view.loc (thr d i) ↦{fullShare} lanes f (rowAt g p e) v n) ∗ (rowsV.view.loc (thr d i) ↦[slotSet p]{fullShare} g))
      ⊢ iprop((iprop((accV.view.loc (thr d i) ↦{fullShare} lanes f (rowAt g p e) v (n + 1)) ∗ (rowsV.view.loc (thr d i) ↦[slotSet p]{fullShare} g)) -∗ run d i (k ⟨⟩) Q)
        -∗ run d i (lane i accV rowsV o ho r hr >>= k) Q) := by
  unfold lane run
  iintro ⟨Ha, Hr⟩ Hk
  simp only [Prog.lift, op_bind, ret_bind, pure_eq]
  iapply (wp_load_rect 𝒱₀ (thr d i) none Set.univ (defs := defs₀ (F := F)) (m := accV) (r := Rect.unit (s := S40192) o S16.size ho) (q := fullShare) (f := lanes f (rowAt g p e) v n) (S := Finset.univ) (Finset.subset_univ _)) $$ Ha
  iintro Ha
  iapply (wp_load_rect 𝒱₀ (thr d i) none Set.univ (defs := defs₀ (F := F)) (m := rowsV) (r := Rect.unit (s := S4x32x128) r S1x1x16.size hr) (q := fullShare) (f := g) (S := slotSet p) (by
    intro x hx
    obtain ⟨y, -, rfl⟩ := Finset.mem_map.mp hx
    refine Finset.mem_filter.mpr ⟨Finset.mem_univ _, ?_⟩
    have hy : (y 0).val < 1 := (y 0).isLt
    show r 0 + 1 * (y 0).val = p
    omega)) $$ Hr
  iintro Hr
  iapply (wp_load_rect 𝒱₀ (thr d i) none Set.univ (defs := defs₀ (F := F)) (m := accV) (r := Rect.unit (s := S40192) o S16.size ho) (q := fullShare) (f := lanes f (rowAt g p e) v n) (S := Finset.univ) (Finset.subset_univ _)) $$ Ha
  iintro Ha
  iapply (wp_store 𝒱₀ (thr d i) none Set.univ (defs := defs₀ (F := F)) (m := accV) (r := Rect.unit (s := S40192) o S16.size ho) (f := lanes f (rowAt g p e) v n) (S := Finset.univ) (Finset.subset_univ _)) $$ Ha
  iintro Ha
  iapply Hk
  isplitl [Ha]
  · rw [← write_lane f g v n p e hn o ho r hr eo e0 e1 e2]; iexact Ha
  iexact Hr

/-- The accumulator after the first `n` edges of a group whose rows are in slot `p` and whose destinations are `D`. -/
def edgesF (f : S40192.Idx → Elt F .f32) (g : S4x32x128.Idx → Elt F .f32) (p : ℕ) (D : ℕ → ℕ) : ℕ → S40192.Idx → Elt F .f32
  | 0 => f
  | n + 1 => edgeF (edgesF f g p D n) (rowAt g p n) (D n)

theorem off20_val (v : BitVec 32) (n : ℕ) (hn : n < 8) (hv : v.toNat ≤ 313) : k0_off20 v (BitVec.ofNat 32 (16 * n)) 0 = 128 * v.toNat + 16 * n := by
  show (IntOp.addi (IntOp.muli v 128#32) (BitVec.ofNat 32 (16 * n))).toNat = _
  simp only [IntOp.addi, IntOp.muli, BitVec.toNat_add, BitVec.toNat_mul, BitVec.toNat_ofNat]
  omega

theorem chk6_of (v : BitVec 32) (hv : v.toNat ≤ 313) : k0_chk6 v := by
  intro r a
  rw [Fin.eq_zero a]
  have := off20_val v r.val r.isLt hv
  have hr := r.isLt
  show k0_off20 v (BitVec.ofNat 32 (16 * r.val)) 0 + 16 ≤ 40192
  omega

theorem wp_edge {α : Type} {k : PUnit → Prog (Tile F i) α} {Q : α → sProp (MM F)} (f : S40192.Idx → Elt F .f32) (g : S4x32x128.Idx → Elt F .f32) (p : ℕ) (D : ℕ → ℕ)
    (v pv : BitVec 32) (hpv : pv.toNat < 4) (ep : pv.toNat = p) (e : ℕ) (he : e < 32) (hv : v.toNat ≤ 313) (hD : D e = v.toNat) :
    iprop((accV.view.loc (thr d i) ↦{fullShare} edgesF f g p D e) ∗ (rowsV.view.loc (thr d i) ↦[slotSet p]{fullShare} g))
      ⊢ iprop((iprop((accV.view.loc (thr d i) ↦{fullShare} edgesF f g p D (e + 1)) ∗ (rowsV.view.loc (thr d i) ↦[slotSet p]{fullShare} g)) -∗ run d i (k ⟨⟩) Q)
        -∗ run d i (edge i accV rowsV v pv hpv e he >>= k) Q) := by
  rw [show edgesF f g p D (e + 1) = lanes (edgesF f g p D e) (rowAt g p e) v.toNat 8 by rw [lanes_eight, ← hD]; rfl]
  unfold edge
  simp only [Prog.lift, op_bind, ret_bind, Prog.bind_assoc]
  iintro ⟨Ha, Hr⟩ Hk
  iapply (wp_assume 𝒱₀ (thr d i) none Set.univ (chk6_of v hv))
  ihave Ha := (Entails.of_eq (show (accV.view.loc (thr d i) ↦{fullShare} edgesF f g p D e : sProp (MM F)) = (accV.view.loc (thr d i) ↦{fullShare} lanes (edgesF f g p D e) (rowAt g p e) v.toNat 0) by rw [lanes_zero])) $$ Ha
  iapply (wp_lane d i (edgesF f g p D e) g v.toNat 0 p e (by decide) _ _ _ _ (off20_val v 0 (by decide) hv) ep rfl rfl) $$ [Ha Hr]
  · isplitl [Ha] <;> iassumption
  iintro ⟨Ha, Hr⟩
  iapply (wp_lane d i (edgesF f g p D e) g v.toNat 1 p e (by decide) _ _ _ _ (off20_val v 1 (by decide) hv) ep rfl rfl) $$ [Ha Hr]
  · isplitl [Ha] <;> iassumption
  iintro ⟨Ha, Hr⟩
  iapply (wp_lane d i (edgesF f g p D e) g v.toNat 2 p e (by decide) _ _ _ _ (off20_val v 2 (by decide) hv) ep rfl rfl) $$ [Ha Hr]
  · isplitl [Ha] <;> iassumption
  iintro ⟨Ha, Hr⟩
  iapply (wp_lane d i (edgesF f g p D e) g v.toNat 3 p e (by decide) _ _ _ _ (off20_val v 3 (by decide) hv) ep rfl rfl) $$ [Ha Hr]
  · isplitl [Ha] <;> iassumption
  iintro ⟨Ha, Hr⟩
  iapply (wp_lane d i (edgesF f g p D e) g v.toNat 4 p e (by decide) _ _ _ _ (off20_val v 4 (by decide) hv) ep rfl rfl) $$ [Ha Hr]
  · isplitl [Ha] <;> iassumption
  iintro ⟨Ha, Hr⟩
  iapply (wp_lane d i (edgesF f g p D e) g v.toNat 5 p e (by decide) _ _ _ _ (off20_val v 5 (by decide) hv) ep rfl rfl) $$ [Ha Hr]
  · isplitl [Ha] <;> iassumption
  iintro ⟨Ha, Hr⟩
  iapply (wp_lane d i (edgesF f g p D e) g v.toNat 6 p e (by decide) _ _ _ _ (off20_val v 6 (by decide) hv) ep rfl rfl) $$ [Ha Hr]
  · isplitl [Ha] <;> iassumption
  iintro ⟨Ha, Hr⟩
  iapply (wp_lane d i (edgesF f g p D e) g v.toNat 7 p e (by decide) _ _ _ _ (off20_val v 7 (by decide) hv) ep rfl rfl) $$ [Ha Hr]
  · isplitl [Ha] <;> iassumption
  iintro ⟨Ha, Hr⟩
  iapply Hk
  isplitl [Ha] <;> iassumption

theorem dstAt_eq (x : Vec F S16 .i32) (e : ℕ) (he : e < 16) : dstAt x e he = x (at1 e he) := by
  show x _ = x _
  congr 1
  funext a; rw [Fin.eq_zero a]; apply Fin.ext
  show e + 1 * 0 = e; omega

theorem wp_half {α : Type} {k : PUnit → Prog (Tile F i) α} {Q : α → sProp (MM F)} (f : S40192.Idx → Elt F .f32) (g : S4x32x128.Idx → Elt F .f32) (p : ℕ) (D : ℕ → ℕ)
    (pv : BitVec 32) (hpv : pv.toNat < 4) (ep : pv.toNat = p) (x : Vec F S16 .i32) (b : ℕ) (hb : b < 2)
    (hD : ∀ e (he : e < 16), D (16 * b + e) = (dstAt x e he).toNat) (hle : ∀ e (he : e < 16), (dstAt x e he).toNat ≤ 313) :
    iprop((accV.view.loc (thr d i) ↦{fullShare} edgesF f g p D (16 * b)) ∗ (rowsV.view.loc (thr d i) ↦[slotSet p]{fullShare} g))
      ⊢ iprop((iprop((accV.view.loc (thr d i) ↦{fullShare} edgesF f g p D (16 * b + 16)) ∗ (rowsV.view.loc (thr d i) ↦[slotSet p]{fullShare} g)) -∗ run d i (k ⟨⟩) Q)
        -∗ run d i (half i accV rowsV x pv hpv b hb >>= k) Q) := by
  unfold half
  simp only [Prog.bind_assoc]
  iintro ⟨Ha, Hr⟩ Hk
  iapply (wp_edge d i f g p D (dstAt x 0 _) pv hpv ep (16 * b + 0) _ (hle _ _) (hD _ _)) $$ [Ha Hr]
  · isplitl [Ha] <;> iassumption
  iintro ⟨Ha, Hr⟩
  iapply (wp_edge d i f g p D (dstAt x 1 _) pv hpv ep (16 * b + 1) _ (hle _ _) (hD _ _)) $$ [Ha Hr]
  · isplitl [Ha] <;> iassumption
  iintro ⟨Ha, Hr⟩
  iapply (wp_edge d i f g p D (dstAt x 2 _) pv hpv ep (16 * b + 2) _ (hle _ _) (hD _ _)) $$ [Ha Hr]
  · isplitl [Ha] <;> iassumption
  iintro ⟨Ha, Hr⟩
  iapply (wp_edge d i f g p D (dstAt x 3 _) pv hpv ep (16 * b + 3) _ (hle _ _) (hD _ _)) $$ [Ha Hr]
  · isplitl [Ha] <;> iassumption
  iintro ⟨Ha, Hr⟩
  iapply (wp_edge d i f g p D (dstAt x 4 _) pv hpv ep (16 * b + 4) _ (hle _ _) (hD _ _)) $$ [Ha Hr]
  · isplitl [Ha] <;> iassumption
  iintro ⟨Ha, Hr⟩
  iapply (wp_edge d i f g p D (dstAt x 5 _) pv hpv ep (16 * b + 5) _ (hle _ _) (hD _ _)) $$ [Ha Hr]
  · isplitl [Ha] <;> iassumption
  iintro ⟨Ha, Hr⟩
  iapply (wp_edge d i f g p D (dstAt x 6 _) pv hpv ep (16 * b + 6) _ (hle _ _) (hD _ _)) $$ [Ha Hr]
  · isplitl [Ha] <;> iassumption
  iintro ⟨Ha, Hr⟩
  iapply (wp_edge d i f g p D (dstAt x 7 _) pv hpv ep (16 * b + 7) _ (hle _ _) (hD _ _)) $$ [Ha Hr]
  · isplitl [Ha] <;> iassumption
  iintro ⟨Ha, Hr⟩
  iapply (wp_edge d i f g p D (dstAt x 8 _) pv hpv ep (16 * b + 8) _ (hle _ _) (hD _ _)) $$ [Ha Hr]
  · isplitl [Ha] <;> iassumption
  iintro ⟨Ha, Hr⟩
  iapply (wp_edge d i f g p D (dstAt x 9 _) pv hpv ep (16 * b + 9) _ (hle _ _) (hD _ _)) $$ [Ha Hr]
  · isplitl [Ha] <;> iassumption
  iintro ⟨Ha, Hr⟩
  iapply (wp_edge d i f g p D (dstAt x 10 _) pv hpv ep (16 * b + 10) _ (hle _ _) (hD _ _)) $$ [Ha Hr]
  · isplitl [Ha] <;> iassumption
  iintro ⟨Ha, Hr⟩
  iapply (wp_edge d i f g p D (dstAt x 11 _) pv hpv ep (16 * b + 11) _ (hle _ _) (hD _ _)) $$ [Ha Hr]
  · isplitl [Ha] <;> iassumption
  iintro ⟨Ha, Hr⟩
  iapply (wp_edge d i f g p D (dstAt x 12 _) pv hpv ep (16 * b + 12) _ (hle _ _) (hD _ _)) $$ [Ha Hr]
  · isplitl [Ha] <;> iassumption
  iintro ⟨Ha, Hr⟩
  iapply (wp_edge d i f g p D (dstAt x 13 _) pv hpv ep (16 * b + 13) _ (hle _ _) (hD _ _)) $$ [Ha Hr]
  · isplitl [Ha] <;> iassumption
  iintro ⟨Ha, Hr⟩
  iapply (wp_edge d i f g p D (dstAt x 14 _) pv hpv ep (16 * b + 14) _ (hle _ _) (hD _ _)) $$ [Ha Hr]
  · isplitl [Ha] <;> iassumption
  iintro ⟨Ha, Hr⟩
  iapply (wp_edge d i f g p D (dstAt x 15 _) pv hpv ep (16 * b + 15) _ (hle _ _) (hD _ _)) $$ [Ha Hr]
  · isplitl [Ha] <;> iassumption
  iintro ⟨Ha, Hr⟩
  iapply Hk
  isplitl [Ha] <;> iassumption

end Cert.Proof.Sage

end
-- ==== Proof.Ring.lean ====
/-
  The gathers of the tile's group loop. Four slots of thirty-two rows, each with its own semaphore: a group's gather is
  in flight, or its slot is at rest. Starting one and waiting for one, with what the slot then holds.
-/
module

public import proofs.«01_k».proof.Proof.Lane
public import Idealize.ShloMosaic.Lib.ShareLeaves

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-- Row `s` of the table, element by element. -/
def hpRow (H : S10000x128.Idx → Elt F .f32) (s j : ℕ) : Elt F .f32 :=
  H fun | 0 => ⟨s % 10000, Nat.mod_lt _ (by decide)⟩ | 1 => ⟨j % 128, Nat.mod_lt _ (by decide)⟩

theorem slotOff_inb (p : Fin 4) : ∀ a, (![p.val, 0, 0] : Fin 3 → ℕ) a + S1x32x128.size a ≤ S4x32x128.size a := by
  intro a; have := p.isLt; fin_cases a <;> simp <;> omega
theorem semOff_inb (p : Fin 4) : ∀ a, (![p.val] : Fin 1 → ℕ) a + S1.size a ≤ S4.size a := by
  intro a; have := p.isLt; rw [Fin.eq_zero a]; show p.val + 1 ≤ 4; omega

/-- Slot `p` of the gathered rows, and its semaphore. -/
abbrev slotM (p : Fin 4) : Memref sig .scVector .vmem S32x128 .f32 := slotAt rowsV ![p.val, 0, 0] (slotOff_inb p)
abbrev gs (p : Fin 4) : DmaSem sig := slotSem cc0_scratch6 ![p.val] (semOff_inb p)

/-- The place in the slots of element `x` of slot `p`. -/
theorem slotM_emb (p : Fin 4) (x : S32x128.Idx) :
    (slotM p).view.emb x = (fun | 0 => ⟨p.val, p.isLt⟩ | 1 => ⟨(x 0).val, (x 0).isLt⟩ | 2 => ⟨(x 1).val, (x 1).isLt⟩ : S4x32x128.Idx) := by
  let y : S1x32x128.Idx := fun | 0 => ⟨0, by decide⟩ | 1 => ⟨(x 0).val, (x 0).isLt⟩ | 2 => ⟨(x 1).val, (x 1).isLt⟩
  have e : Shape.reshapeEquiv (s := S1x32x128) (s' := S32x128) squeezes_S1x32x128_S32x128.numel_eq x = y :=
    Shape.reshapeEquiv_eq_of_rowMajor _ (by
      rw [Shape.rowMajor_val_three, Shape.rowMajor_val_two]
      show (0 * 32 + (x 0).val) * 128 + (x 1).val = (x 0).val * 128 + (x 1).val; omega)
  show (Rect.unit (s := S4x32x128) ![p.val, 0, 0] S1x32x128.size (slotOff_inb p)).emb (Shape.reshapeEquiv (s := S1x32x128) (s' := S32x128) squeezes_S1x32x128_S32x128.numel_eq x) = _
  rw [e]
  funext a; apply Fin.ext
  fin_cases a
  · show p.val + 1 * 0 = p.val; omega
  · show 0 + 1 * (x 0).val = (x 0).val; omega
  · show 0 + 1 * (x 1).val = (x 1).val; omega

theorem slotM_set (p : Fin 4) : (slotM p).view.set = slotSet p.val := by
  ext x
  constructor
  · intro hx
    obtain ⟨y, -, rfl⟩ := Finset.mem_map.mp hx
    refine Finset.mem_filter.mpr ⟨Finset.mem_univ _, ?_⟩
    exact congrArg (fun i : S4x32x128.Idx => (i 0).val) (slotM_emb p y)
  · intro hx
    have h0 : (x 0).val = p.val := (Finset.mem_filter.mp hx).2
    refine Finset.mem_map.mpr ⟨fun | 0 => ⟨(x 1).val, (x 1).isLt⟩ | 1 => ⟨(x 2).val, (x 2).isLt⟩, Finset.mem_univ _, ?_⟩
    refine (slotM_emb p _).trans ?_
    funext a; apply Fin.ext
    fin_cases a
    · exact h0.symm
    · rfl
    · rfl

/-- The rows of a slot after a gather into it. -/
theorem rowAt_gather (p : Fin 4) (g : S4x32x128.Idx → Elt F .f32) (w : S32x128.Idx → Elt F .f32) (e j : ℕ) (he : e < 32) (hj : j < 128) :
    rowAt ((slotM p).view.write (Elt F) g w Finset.univ) p.val e j = w (fun | 0 => ⟨e, he⟩ | 1 => ⟨j, hj⟩) := by
  have h := View.write_emb_of_mem (v := (slotM p).view) (Val := Elt F) g w (M := Finset.univ) (x := (fun | 0 => ⟨e, he⟩ | 1 => ⟨j, hj⟩ : S32x128.Idx)) (Finset.mem_univ _)
  refine Eq.trans ?_ h
  unfold rowAt
  refine congrArg _ (Eq.trans ?_ (slotM_emb p _).symm)
  have := p.isLt
  funext a; apply Fin.ext
  fin_cases a
  · show p.val % 4 = p.val; omega
  · show e % 32 = e; omega
  · show j % 128 = j; omega

/-- What a gather of the rows that `S` names brings. -/
theorem payload_eq (H : S10000x128.Idx → Elt F .f32) (L : S32.Idx → BitVec 32) (hn : S32.numel = S32x128.size gathers_S10000x128_S32x128.axis')
    (hin : ∀ x, (L x).toNat < S10000x128.size gathers_S10000x128_S32x128.axis) (e j : ℕ) (he : e < 32) (hj : j < 128) :
    SparseCore.gatherPayload gathers_S10000x128_S32x128 H (SparseCore.rows (F := F) L hn hin) (fun | 0 => ⟨e, he⟩ | 1 => ⟨j, hj⟩ : S32x128.Idx) = hpRow H (L (at1 e he)).toNat j := by
  have hlt : (L (at1 e he)).toNat < 10000 := hin _
  have el : S32.rowMajor.symm ((⟨e, he⟩ : Fin (S32x128.size gathers_S10000x128_S32x128.axis')).cast hn.symm) = at1 e he := by
    rw [Equiv.symm_apply_eq]
    apply Fin.ext
    exact (Shape.rowMajor_val_one (at1 e he)).symm
  unfold SparseCore.gatherPayload hpRow
  congr 1
  funext b; apply Fin.ext
  fin_cases b
  · refine (congrArg Fin.val (Shape.Gathers.idx_axis gathers_S10000x128_S32x128 _ _)).trans ?_
    show (L (S32.rowMajor.symm ((⟨e, he⟩ : Fin (S32x128.size gathers_S10000x128_S32x128.axis')).cast hn.symm))).toNat = _
    rw [el]
    show _ = (L (at1 e he)).toNat % 10000
    omega
  · refine (Shape.Gathers.idx_of_ne gathers_S10000x128_S32x128 _ _ 1 (by decide)).trans ?_
    show j = j % 128
    omega

variable (d : Dev nD) (i : grid0.Coords)

/-- The credit of one gather. -/
abbrev rowsCredit : ℕ := (slotM 0).view.dmaCredit

/-- What a tile owes, up to waits on its own cells. -/
def Owing (O : CellTallies nD τ sig (HIx 1)) (W : Waits sig (HIx 1)) : sProp (MM F) :=
  iprop(∃ W', ⌜∀ p ∈ W', p ∈ W ∨ p.2 = none⌝ ∗ owes (thr d i) O W')

/-- A wait on a cell of the tile's own, for what is in flight on it. -/
theorem wp_wait {α : Type} {k : PUnit → Prog (Tile F i) α} {Q : α → sProp (MM F)} {sp sp' : Space} {s s' : Shape} {e e' : EltTy} {sem : DmaSem sig}
    {srcw : Memref sig .scVector sp' s' e'} {dstw : Memref sig .scVector sp s e} {hsrc : srcw.view.WordExact} {hdst : dstw.view.WordExact}
    {N : ℕ} (hN : dstw.view.dmaCredit = N) {P : sProp (MM F)} (O : CellTallies nD τ sig (HIx 1)) (W : Waits sig (HIx 1)) :
    iprop(Transfers.Flight countersEmb (thr d i) (.dma sem) (default : HIx 1) N P ∗ Owing d i O W ∗ Transfers.MayWaits (thr d i) (default : HIx 1) O)
      ⊢ iprop((iprop(P ∗ semVal (thr d i, .dma sem) 0 ∗ Owing d i O W) -∗ run d i (k ⟨⟩) Q)
        -∗ run d i (.op (.waitDma2 sem srcw dstw hsrc hdst) k) Q) := by
  unfold Owing run
  iintro ⟨Hf, ⟨%W', %hW, HO⟩, Hmw⟩ Hk
  iapply (Transfers.wp_waitLocalO countersEmb 𝒱₀ (thr d i) none (default : HIx 1) hN) $$ [Hf HO Hmw]
  · isplitl [Hf]; · iexact Hf
    isplitl [HO]; · iexact HO
    iapply (Transfers.MayWaits.elim (SemLoc.dma sem)) $$ Hmw
  iintro ⟨HP, Hv, HO⟩
  iapply Hk
  isplitl [HP]; · iexact HP
  isplitl [Hv]; · iexact Hv
  iexists _
  isplitr
  swap; · iexact HO
  ipureintro; intro p hp
  rcases Finset.mem_insert.mp hp with hp | hp
  · exact .inr (hp ▸ rfl)
  · exact hW p hp

section
variable (H : S10000x128.Idx → Elt F .f32) (fS : S8032.Idx → BitVec 32) (S : ℕ → ℕ) (qh qs : Fin 4 → PosShare TreeShare)

/-- The rows of group `b`, arrived in slot `p`. -/
def Got (p : Fin 4) (b : ℕ) : sProp (MM F) :=
  iprop(∃ g : S4x32x128.Idx → Elt F .f32, ⌜∀ e < 32, ∀ j < 128, rowAt g p.val e j = hpRow H (S (32 * b + e)) j⌝
    ∗ (rowsV.view.loc (thr d i) ↦[slotSet p.val]{fullShare} g)
    ∗ (hpV.view.loc (thr d i) ↦{qh p} H) ∗ (selSV.view.loc (thr d i) ↦{qs p} fS))

/-- Slot `p` at rest. -/
def Rest (p : Fin 4) : sProp (MM F) :=
  iprop((∃ g : S4x32x128.Idx → Elt F .f32, (rowsV.view.loc (thr d i) ↦[slotSet p.val]{fullShare} g))
    ∗ (hpV.view.loc (thr d i) ↦{qh p} H) ∗ (selSV.view.loc (thr d i) ↦{qs p} fS) ∗ semVal (thr d i, SemLoc.dma (gs p)) 0)

/-- Group `b`'s gather in flight into slot `p`. -/
def Going (p : Fin 4) (b : ℕ) : sProp (MM F) :=
  Transfers.Flight countersEmb (thr d i) (.dma (gs p)) (default : HIx 1) rowsCredit (Got d i H fS S qh qs p b)

theorem table_read : (table hpV).view.read (Elt F) H = H := by
  funext x
  refine (View.read_apply _ _).trans ?_
  show H _ = H _
  refine congrArg H ?_
  funext a; apply Fin.ext
  fin_cases a
  · show 0 + 1 * (x 0).val = (x 0).val; omega
  · show 0 + 1 * (x 1).val = (x 1).val; omega

theorem hN_gather (p : Fin 4) : ∀ h : S10000x128.Gathers 0 S32x128, ∑ j, ((slotM p).slice (S32x128.rowRect h.axis' j) (S32x128.stride_rowRect h.axis' j)).view.dmaCredit = rowsCredit := by
  intro h
  show ∑ j : Fin 32, (cc0_scratch5 : Ref sig .scVector).dmaCredit (S32x128.rowShape 0) .f32 = (cc0_scratch5 : Ref sig .scVector).dmaCredit S32x128 .f32
  decide

theorem wp_gather {α : Type} {k : PUnit → Prog (Tile F i) α} {Q : α → sProp (MM F)} (p : Fin 4) (b : ℕ)
    (r : Fin 3 → ℕ) (hr : ∀ a, r a + S1x32x128.size a ≤ S4x32x128.size a) (o : Fin 1 → ℕ) (ho : ∀ a, o a + S32.size a ≤ S8032.size a)
    (g : Fin 1 → ℕ) (hg : ∀ a, g a + S1.size a ≤ S4.size a) (er : r = ![p.val, 0, 0]) (eo : o 0 = 32 * b) (eg : g = ![p.val])
    (hS : ∀ e (he : e < 32), ∀ h, (fS (at1 (32 * b + e) h)).toNat = S (32 * b + e)) (hlt : ∀ e < 32, S (32 * b + e) < 10000) :
    Rest d i H fS qh qs p ⊢ iprop((Going d i H fS S qh qs p b -∗ run d i (k ⟨⟩) Q)
        -∗ run d i (gatherAt i hpV selSV rowsV cc0_scratch6 r hr o ho g hg >>= k) Q) := by
  subst er eg
  have hread : ∀ x : S32.Idx, (selSV.slice (Rect.unit (s := S8032) o S32.size ho) (fun _ => rfl)).view.read (Elt F) fS x
      = fS (at1 (32 * b + (x 0).val) (by have := ho 0; have h2 : (x 0).val < 32 := (x 0).isLt; simp at this; omega)) := by
    intro x
    refine (read_flat (Val := Elt F) (n := 8032) (m := 32) selSV.view fS o ho x).trans ?_
    show fS _ = fS _
    refine congrArg fS ?_
    funext a; apply Fin.ext; show o 0 + (x 0).val = 32 * b + (x 0).val; omega
  have hin : ∀ x, ((selSV.slice (Rect.unit (s := S8032) o S32.size ho) (fun _ => rfl)).view.read (Elt F) fS x).toNat < S10000x128.size gathers_S10000x128_S32x128.axis := by
    intro x
    rw [hread, hS _ (x 0).isLt]
    exact hlt _ (x 0).isLt
  unfold Rest run gatherAt
  iintro ⟨⟨%g0, Hr⟩, Hh, Hs, Hv⟩ Hk
  ihave ⟨Hh, Hh'⟩ := (pointsTo_split_subset (Finset.subset_univ (table hpV).view.set)).1 $$ Hh
  ihave ⟨Hs, Hs'⟩ := (pointsTo_split_subset (Finset.subset_univ (selSV.slice (Rect.unit (s := S8032) o S32.size ho) (fun _ => rfl)).view.set)).1 $$ Hs
  ihave Hr := (Entails.of_eq (show (rowsV.view.loc (thr d i) ↦[slotSet p.val]{fullShare} g0 : sProp (MM F)) = ((slotM p).view.loc (thr d i) ↦[(slotM p).view.set]{fullShare} g0) by rw [slotM_set])) $$ Hr
  iapply (SparseCore.wp_indirectGatherLocal countersEmb 𝒱₀ (thr d i) none (hg := gathers_S10000x128_S32x128) (default : HIx 1) rowsCredit (hN_gather p _) (by decide) hin) $$ [Hh Hr Hs Hv]
  · isplitl [Hh]; · iexact Hh
    isplitl [Hr]; · iexact Hr
    isplitl [Hs]; · iexact Hs
    iexact Hv
  iintro Hf
  iapply Hk
  unfold Going
  iapply (Transfers.Flight_mono countersEmb (thr d i) (D := iprop(((hpV.view.loc (thr d i) ↦[Finset.univ \ (table hpV).view.set]{qh p} H)
      ∗ (selSV.view.loc (thr d i) ↦[Finset.univ \ (selSV.slice (Rect.unit (s := S8032) o S32.size ho) (fun _ => rfl)).view.set]{qs p} fS))
      ∗ (((slotM p).view.loc (thr d i) ↦[(slotM p).view.set]{fullShare} ((slotM p).view.write (Elt F) g0
          (SparseCore.gatherPayload gathers_S10000x128_S32x128 ((table hpV).view.read (Elt F) H)
            (SparseCore.rows (F := F) ((selSV.slice (Rect.unit (s := S8032) o S32.size ho) (fun _ => rfl)).view.read (Elt F) fS) rfl hin)) Finset.univ))
        ∗ (hpV.view.loc (thr d i) ↦[(table hpV).view.set]{qh p} H)
        ∗ (selSV.view.loc (thr d i) ↦[(selSV.slice (Rect.unit (s := S8032) o S32.size ho) (fun _ => rfl)).view.set]{qs p} fS)))) (by
    unfold Got
    iintro ⟨⟨Hh', Hs'⟩, Hr, Hh, Hs⟩
    iexists _
    isplitr
    swap
    · isplitl [Hr]
      · iapply (Entails.of_eq (show ((slotM p).view.loc (thr d i) ↦[(slotM p).view.set]{fullShare} _ : sProp (MM F)) = (rowsV.view.loc (thr d i) ↦[slotSet p.val]{fullShare} _) by rw [slotM_set])) $$ Hr
      isplitl [Hh Hh']
      · iapply (pointsTo_split_subset (Finset.subset_univ (table hpV).view.set)).2
        isplitl [Hh] <;> iassumption
      · iapply (pointsTo_split_subset (Finset.subset_univ (selSV.slice (Rect.unit (s := S8032) o S32.size ho) (fun _ => rfl)).view.set)).2
        isplitl [Hs] <;> iassumption
    ipureintro
    intro e he j hj
    rw [rowAt_gather p _ _ e j he hj]
    refine (payload_eq _ _ _ hin e j he hj).trans ?_
    rw [hread, table_read]
    show hpRow H (fS (at1 (32 * b + e) _)).toNat j = _
    rw [hS e he]))
  iapply (Transfers.Flight_frame countersEmb (thr d i))
  isplitl [Hh' Hs']
  · isplitl [Hh'] <;> iassumption
  iexact Hf

end

end Cert.Proof.Sage

end
-- ==== Proof.Arith.lean ====
/-
  The numbers of the tile's group loop: how many groups of thirty-two the chosen edges make, which trips start another
  gather, and that every offset the loop computes stays inside its buffer, for the at most 8000 edges of a chunk.
-/
module

public import proofs.«01_k».proof.Proof.Setup

@[expose] public section

noncomputable section

namespace Cert.Proof.Sage

open Cert.KernelIdeal Cert.KernelIdeal.Facts₀ Cert.KernelIdeal.Facts
open Idealize.ShloMosaic

/-- Every count up to 8000 as 64 times one number and another one. -/
theorem split64 {P : ℕ → Prop} (h : ∀ a : Fin 126, ∀ b : Fin 64, P (64 * a.val + b.val)) (n : ℕ) (hn : n ≤ 8000) : P n := by
  have := h ⟨n / 64, by omega⟩ ⟨n % 64, Nat.mod_lt _ (by decide)⟩
  rwa [show 64 * (n / 64) + n % 64 = n by omega] at this

theorem groups_val (v : BitVec 32) (hv : v.toNat ≤ 8000) : (groups v).toNat = (v.toNat + 31) / 32 := by
  have := split64 (P := fun n => (groups (BitVec.ofNat 32 n)).toNat = (n + 31) / 32) (by decide +kernel) v.toNat hv
  rwa [BitVec.ofNat_toNat, BitVec.setWidth_eq] at this

/-- The group loop of a given number of groups. -/
def loopOf (g : BitVec 32) : Scf.Loop 32 := ⟨0#32, Scalar.addi 0#32 (Scalar.muli (Scalar.divsi (Scalar.subi g 0#32) 1#32) 1#32), 1#32⟩

theorem loopOf_eq (v : BitVec 32) : k0_t4_loop v = loopOf (groups v) := rfl

theorem groups_eq (v : BitVec 32) (hv : v.toNat ≤ 8000) : groups v = BitVec.ofNat 32 ((v.toNat + 31) / 32) := by
  apply BitVec.eq_of_toNat_eq; rw [groups_val v hv, BitVec.toNat_ofNat]; omega

theorem t4_trips (v : BitVec 32) (hv : v.toNat ≤ 8000) : (k0_t4_loop v).trips = (v.toNat + 31) / 32 := by
  have h : ∀ g : Fin 251, (loopOf (BitVec.ofNat 32 g.val)).trips = g.val := by decide +kernel
  rw [loopOf_eq, groups_eq v hv]
  exact h ⟨(v.toNat + 31) / 32, by omega⟩

theorem t4_ok (v : BitVec 32) (hv : v.toNat ≤ 8000) : (k0_t4_loop v).OK := by
  have h : ∀ g : Fin 251, (loopOf (BitVec.ofNat 32 g.val)).OK := by decide +kernel
  rw [loopOf_eq, groups_eq v hv]
  exact h ⟨(v.toNat + 31) / 32, by omega⟩

section
variable (v : BitVec 32) (hv : v.toNat ≤ 8000) (t : Fin (k0_t4_loop v).trips)
include hv

theorem t4_lt : t.val < (v.toNat + 31) / 32 := lt_of_lt_of_eq t.isLt (t4_trips v hv)

theorem iv_val : (Scf.iv 0#32 1#32 t.val : BitVec 32).toNat = t.val := by
  have := t4_lt v hv t
  simp only [Scf.iv, BitVec.toNat_add, BitVec.toNat_mul, BitVec.toNat_ofNat]
  omega

theorem rem_small (n : ℕ) (hn : n < 256) : (Scalar.remsi (BitVec.ofNat 32 n) 4#32 : BitVec 32).toNat = n % 4 := by
  have h : ∀ n : Fin 256, (Scalar.remsi (BitVec.ofNat 32 n.val) 4#32 : BitVec 32).toNat = n.val % 4 := by decide +kernel
  exact h ⟨n, hn⟩

theorem slot_val : (Scalar.remsi (Scf.iv 0#32 1#32 t.val) 4#32 : BitVec 32).toNat = t.val % 4 := by
  have := t4_lt v hv t
  have e : (Scf.iv 0#32 1#32 t.val : BitVec 32) = BitVec.ofNat 32 t.val := by
    apply BitVec.eq_of_toNat_eq; rw [iv_val v hv t, BitVec.toNat_ofNat]; omega
  rw [e]; exact rem_small v hv _ (by omega)

theorem slot4_val : (Scalar.remsi (Scalar.addi (Scf.iv 0#32 1#32 t.val) 4#32) 4#32 : BitVec 32).toNat = (t.val + 4) % 4 := by
  have := t4_lt v hv t
  have e : (Scalar.addi (Scf.iv 0#32 1#32 t.val) 4#32 : BitVec 32) = BitVec.ofNat 32 (t.val + 4) := by
    apply BitVec.eq_of_toNat_eq
    show ((Scf.iv 0#32 1#32 t.val : BitVec 32) + 4#32).toNat = _
    rw [BitVec.toNat_add, iv_val v hv t, BitVec.toNat_ofNat, BitVec.toNat_ofNat]
  rw [e]; exact rem_small v hv _ (by omega)

theorem off19_val : k0_off19 v t 0 = 32 * t.val := by
  show ((Scf.iv 0#32 1#32 t.val : BitVec 32) * 32#32 + 0#32).toNat = _
  have := t4_lt v hv t
  rw [BitVec.toNat_add, BitVec.toNat_mul, iv_val v hv t]; simp only [BitVec.toNat_ofNat]; omega
theorem off17_val : k0_off17 v t 0 = 32 * t.val := by
  show ((Scf.iv 0#32 1#32 t.val : BitVec 32) * 32#32).toNat = _
  have := t4_lt v hv t
  rw [BitVec.toNat_mul, iv_val v hv t]; simp only [BitVec.toNat_ofNat]; omega
theorem off164_val : k0_off164 v t 0 = 32 * t.val + 16 := by
  show ((Scf.iv 0#32 1#32 t.val : BitVec 32) * 32#32 + 16#32).toNat = _
  have := t4_lt v hv t
  rw [BitVec.toNat_add, BitVec.toNat_mul, iv_val v hv t]; simp only [BitVec.toNat_ofNat]; omega
theorem off310_val : k0_off310 v t 0 = 32 * (t.val + 4) := by
  show (((Scf.iv 0#32 1#32 t.val : BitVec 32) + 4#32) * 32#32).toNat = _
  have := t4_lt v hv t
  rw [BitVec.toNat_mul, BitVec.toNat_add, iv_val v hv t]; simp only [BitVec.toNat_ofNat]; omega

theorem cond6_iff : k0_cond6 v t = 1#1 ↔ t.val + 4 < (v.toNat + 31) / 32 := by
  have ht := t4_lt v hv t
  have hb : ∀ b : Bool, (Scalar.cmpi .ne (Scalar.extui (BitVec.ofBool b) : BitVec 32) 0#32 : BitVec 1) = 1#1 ↔ b = true := by decide
  have e : (Scalar.addi (Scf.iv 0#32 1#32 t.val) 4#32 : BitVec 32).toNat = t.val + 4 := by
    show ((Scf.iv 0#32 1#32 t.val : BitVec 32) + 4#32).toNat = _
    rw [BitVec.toNat_add, iv_val v hv t, BitVec.toNat_ofNat]; omega
  show (Scalar.cmpi .ne (Scalar.extui (BitVec.ofBool ((Scalar.addi (Scf.iv 0#32 1#32 t.val) 4#32 : BitVec 32).slt (groups v))) : BitVec 32) 0#32 : BitVec 1) = 1#1 ↔ _
  rw [hb, BitVec.slt, decide_eq_true_iff, BitVec.toInt_eq_toNat_of_lt (by rw [e]; omega), BitVec.toInt_eq_toNat_of_lt (by rw [groups_val v hv]; omega), e, groups_val v hv]
  omega

omit t in
theorem more_iff (k : ℕ) (hk : k < 4) : more v (BitVec.ofNat 32 k) = 1#1 ↔ k < (v.toNat + 31) / 32 := by
  have hb : ∀ b : Bool, (Scalar.cmpi .ne (Scalar.extui (BitVec.ofBool b) : BitVec 32) 0#32 : BitVec 1) = 1#1 ↔ b = true := by decide
  show (Scalar.cmpi .ne (Scalar.extui (BitVec.ofBool ((BitVec.ofNat 32 k).slt (groups v))) : BitVec 32) 0#32 : BitVec 1) = 1#1 ↔ _
  have e : (BitVec.ofNat 32 k).toNat = k := by rw [BitVec.toNat_ofNat]; omega
  rw [hb, BitVec.slt, decide_eq_true_iff, BitVec.toInt_eq_toNat_of_lt (by rw [e]; omega), BitVec.toInt_eq_toNat_of_lt (by rw [groups_val v hv]; omega), e, groups_val v hv]
  omega

omit t in
theorem off6_val : k0_off6 v 0 = v.toNat := rfl
omit t in
theorem off7_val : k0_off7 v 0 = v.toNat + 16 := by
  show (v + 16#32).toNat = _
  rw [BitVec.toNat_add, BitVec.toNat_ofNat]; omega

end

theorem row_ok (p e o : ℕ) (hp : p < 4) (he : e + 1 ≤ 32) (ho : o + 16 ≤ 128) : ∀ a, (![p, e, o] : Fin 3 → ℕ) a + S1x1x16.size a ≤ S4x32x128.size a := by
  intro a; fin_cases a <;> simp <;> omega

theorem none_left {P : Fin (0 : ℕ) → Prop} : ∀ t, P t := fun t => t.elim0

/-- The row offset of the group loop. -/
theorem row_of (v : BitVec 32) (hv : v.toNat ≤ 8000) (e o : ℕ) (he : e + 1 ≤ 32) (ho : o + 16 ≤ 128) :
    ∀ t : Fin (k0_t4_loop v).trips, ∀ a, (![(Scalar.remsi (Scf.iv 0#32 1#32 t.val) 4#32 : BitVec 32).toNat, e, o] : Fin 3 → ℕ) a + S1x1x16.size a ≤ S4x32x128.size a :=
  fun t => row_ok _ _ _ (by rw [slot_val v hv t]; omega) he ho

end Cert.Proof.Sage

end
-- ==== Proof.Group.lean ====
/-
  One trip of the group loop: thirty-two edges of the list into the accumulator, and the next gather of the slot.
-/
module

public import proofs.«01_k».proof.Proof.Ring
public import proofs.«01_k».proof.Proof.Arith

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-- The accumulator after `n` edges: edge `k` takes row `S k` of the table into row `D k` of the accumulator. -/
def runF (H : S10000x128.Idx → Elt F .f32) (S D : ℕ → ℕ) (f : S40192.Idx → Elt F .f32) : ℕ → S40192.Idx → Elt F .f32
  | 0 => f
  | n + 1 => edgeF (runF H S D f n) (hpRow H (S n)) (D n)

theorem edgeF_congr (f : S40192.Idx → Elt F .f32) (r r' : ℕ → Elt F .f32) (v : ℕ) (h : ∀ j < 128, r j = r' j) : edgeF f r v = edgeF f r' v := by
  funext x; simp only [edgeF]; rw [h _ (Nat.mod_lt _ (by decide))]

theorem edgesF_run (H : S10000x128.Idx → Elt F .f32) (S D : ℕ → ℕ) (f : S40192.Idx → Elt F .f32) (g : S4x32x128.Idx → Elt F .f32) (p b : ℕ)
    (hg : ∀ e < 32, ∀ j < 128, rowAt g p e j = hpRow H (S (32 * b + e)) j) :
    ∀ n ≤ 32, edgesF (runF H S D f (32 * b)) g p (fun e => D (32 * b + e)) n = runF H S D f (32 * b + n)
  | 0, _ => rfl
  | n + 1, h => by
    show edgeF (edgesF _ _ _ _ n) _ _ = edgeF (runF H S D f (32 * b + n)) _ _
    rw [edgesF_run H S D f g p b hg n (by omega)]
    exact edgeF_congr _ _ _ _ fun j hj => hg n (by omega) j hj

variable (d : Dev nD) (i : grid0.Coords)

/-- The slot of group `b`. -/
def sl (b : ℕ) : Fin 4 := ⟨b % 4, Nat.mod_lt _ (by decide)⟩
theorem sl_four (b : ℕ) : sl (b + 4) = sl b := Fin.ext (show (b + 4) % 4 = b % 4 by omega)

section
variable (H : S10000x128.Idx → Elt F .f32) (fS fD : S8032.Idx → BitVec 32) (S D : ℕ → ℕ) (qh qs : Fin 4 → PosShare TreeShare)

/-- Group `b`'s slot: its gather in flight if there is such a group, at rest if not. -/
def St (nb b : ℕ) : sProp (MM F) := if b < nb then Going d i H fS S qh qs (sl b) b else Rest d i H fS qh qs (sl b)

theorem wp_wait_slot {α : Type} {k : PUnit → Prog (Tile F i) α} {Q : α → sProp (MM F)} (p : Fin 4) (b : ℕ)
    (r : Fin 3 → ℕ) (hr : ∀ a, r a + S1x32x128.size a ≤ S4x32x128.size a)
    (g : Fin 1 → ℕ) (hg : ∀ a, g a + S1.size a ≤ S4.size a) (er : r = ![p.val, 0, 0]) (eg : g = ![p.val])
    (O : CellTallies nD τ sig (HIx 1)) (W : Waits sig (HIx 1)) (h1 : (table hpV).view.WordExact) (h2 : (slotAt rowsV r hr).view.WordExact) :
    iprop(Going d i H fS S qh qs p b ∗ Owing d i O W ∗ Transfers.MayWaits (thr d i) (default : HIx 1) O)
      ⊢ iprop((iprop(Got d i H fS S qh qs p b ∗ semVal (thr d i, .dma (gs p)) 0 ∗ Owing d i O W) -∗ run d i (k ⟨⟩) Q)
        -∗ run d i (SparseCore.waitIndirectGather (slotSem cc0_scratch6 g hg) (table hpV) (slotAt rowsV r hr) h1 h2 >>= k) Q) := by
  subst er eg
  unfold SparseCore.waitIndirectGather
  simp only [op_bind, ret_bind]
  exact wp_wait d i (dstw := slotM p) rfl O W

variable (v : BitVec 32) (hv : v.toNat ≤ 8000) (hc : k0_chk5 v)

include hv in
theorem wp_group {α : Type} {k : BitVec 32 → Prog (Tile F i) α} {Q : α → sProp (MM F)} (f : S40192.Idx → Elt F .f32)
    (hS : ∀ k, k < 32 * ((v.toNat + 31) / 32) → ∀ h, (fS (at1 k h)).toNat = S k) (hSlt : ∀ k, S k < 10000)
    (hD : ∀ k, k < 32 * ((v.toNat + 31) / 32) → ∀ h, (fD (at1 k h)).toNat = D k) (hDle : ∀ k, D k ≤ 313)
    (O : CellTallies nD τ sig (HIx 1)) (W : Waits sig (HIx 1)) (t : Fin (k0_t4_loop v).trips) :
    iprop((accV.view.loc (thr d i) ↦{fullShare} runF H S D f (32 * t.val)) ∗ (selDV.view.loc (thr d i) ↦{fullShare} fD)
        ∗ St d i H fS S qh qs ((v.toNat + 31) / 32) t.val ∗ Owing d i O W ∗ Transfers.MayWaits (thr d i) (default : HIx 1) O)
      ⊢ iprop((iprop((accV.view.loc (thr d i) ↦{fullShare} runF H S D f (32 * (t.val + 1))) ∗ (selDV.view.loc (thr d i) ↦{fullShare} fD)
        ∗ St d i H fS S qh qs ((v.toNat + 31) / 32) (t.val + 4) ∗ Owing d i O W) -∗ run d i (k 0#32) Q)
        -∗ run d i (group i hpV accV selSV selDV rowsV cc0_scratch6 v hc t >>= k) Q) := by
  have ht := t4_lt v hv t
  have esl : (Scalar.remsi (Scf.iv 0#32 1#32 t.val) 4#32 : BitVec 32).toNat = (sl t.val).val := slot_val v hv t
  have esl4 : (Scalar.remsi (Scalar.addi (Scf.iv 0#32 1#32 t.val) 4#32) 4#32 : BitVec 32).toNat = (sl (t.val + 4)).val := slot4_val v hv t
  have e16 : k0_off16 v t = ![(sl t.val).val, 0, 0] := congrArg (fun n => (![n, 0, 0] : Fin 3 → ℕ)) esl
  have e18 : k0_off18 v t = ![(sl t.val).val] := congrArg (fun n => (![n] : Fin 1 → ℕ)) esl
  have e309 : k0_off309 v t = ![(sl (t.val + 4)).val, 0, 0] := congrArg (fun n => (![n, 0, 0] : Fin 3 → ℕ)) esl4
  have e311 : k0_off311 v t = ![(sl (t.val + 4)).val] := congrArg (fun n => (![n] : Fin 1 → ℕ)) esl4
  -- the destinations of the two halves
  have hd : ∀ (o : Fin 1 → ℕ) (ho : ∀ a, o a + S16.size a ≤ S8032.size a) (b : ℕ), b < 2 → o 0 = 32 * t.val + 16 * b → ∀ e (he : e < 16),
      (dstAt ((selDV.access (Rect.unit (s := S8032) o S16.size ho)).read (Elt F) fD) e he).toNat = D (32 * t.val + (16 * b + e)) := by
    intro o ho b hb eo e he
    rw [dstAt_eq]
    refine Eq.trans ?_ (hD (32 * t.val + (16 * b + e)) (by omega) (by omega))
    refine congrArg BitVec.toNat ((read_flat (Val := Elt F) (n := 8032) (m := 16) selDV.view fD o ho (at1 e he)).trans ?_)
    show fD _ = fD _
    refine congrArg fD ?_
    funext a; apply Fin.ext; show o 0 + e = 32 * t.val + (16 * b + e); omega
  unfold group
  simp only [Prog.bind_assoc, St, if_pos ht]
  iintro ⟨Ha, HD, Hg, HO, #Hmw⟩ Hk
  iapply (wp_wait_slot d i H fS S qh qs (sl t.val) t.val _ _ _ _ e16 e18 O W) $$ [Hg HO]
  · isplitl [Hg]; · iexact Hg
    isplitl [HO]; · iexact HO
    iexact Hmw
  unfold Got
  iintro ⟨⟨%g, %hg, Hr, Hh, Hs⟩, Hv, HO⟩
  ihave Ha := (Entails.of_eq (show (accV.view.loc (thr d i) ↦{fullShare} runF H S D f (32 * t.val) : sProp (MM F))
    = (accV.view.loc (thr d i) ↦{fullShare} edgesF (runF H S D f (32 * t.val)) g (sl t.val).val (fun e => D (32 * t.val + e)) (16 * 0)) from rfl)) $$ Ha
  unfold run
  simp only [Prog.lift, op_bind, ret_bind, pure_eq]
  iapply (wp_load_rect 𝒱₀ (thr d i) none Set.univ (defs := defs₀ (F := F)) (m := selDV) (r := Rect.unit (s := S8032) (k0_off19 v t) S16.size (k0_off19_inb v hc t)) (q := fullShare) (f := fD) (S := Finset.univ) (Finset.subset_univ _)) $$ HD
  iintro HD
  iapply (wp_half d i (runF H S D f (32 * t.val)) g (sl t.val).val (fun e => D (32 * t.val + e)) _ (slot_lt hc t) esl _ 0 _
    (fun e he => (hd _ _ 0 (by decide) (off19_val v hv t) e he).symm) (fun e he => (hd _ _ 0 (by decide) (off19_val v hv t) e he).trans_le (hDle _))) $$ [Ha Hr]
  · isplitl [Ha] <;> iassumption
  iintro ⟨Ha, Hr⟩
  ihave Ha := (Entails.of_eq (show (accV.view.loc (thr d i) ↦{fullShare} edgesF (runF H S D f (32 * t.val)) g (sl t.val).val (fun e => D (32 * t.val + e)) (16 * 0 + 16) : sProp (MM F))
    = (accV.view.loc (thr d i) ↦{fullShare} edgesF (runF H S D f (32 * t.val)) g (sl t.val).val (fun e => D (32 * t.val + e)) (16 * 1)) from rfl)) $$ Ha
  unfold run
  iapply (wp_load_rect 𝒱₀ (thr d i) none Set.univ (defs := defs₀ (F := F)) (m := selDV) (r := Rect.unit (s := S8032) (k0_off164 v t) S16.size (k0_off164_inb v hc t)) (q := fullShare) (f := fD) (S := Finset.univ) (Finset.subset_univ _)) $$ HD
  iintro HD
  iapply (wp_half d i (runF H S D f (32 * t.val)) g (sl t.val).val (fun e => D (32 * t.val + e)) _ (slot_lt hc t) esl _ 1 _
    (fun e he => (hd _ _ 1 (by decide) (off164_val v hv t) e he).symm) (fun e he => (hd _ _ 1 (by decide) (off164_val v hv t) e he).trans_le (hDle _))) $$ [Ha Hr]
  · isplitl [Ha] <;> iassumption
  iintro ⟨Ha, Hr⟩
  ihave Ha := (Entails.of_eq (show (accV.view.loc (thr d i) ↦{fullShare} edgesF (runF H S D f (32 * t.val)) g (sl t.val).val (fun e => D (32 * t.val + e)) (16 * 1 + 16) : sProp (MM F))
    = (accV.view.loc (thr d i) ↦{fullShare} runF H S D f (32 * (t.val + 1))) by
      rw [show 16 * 1 + 16 = 32 from rfl, edgesF_run H S D f g (sl t.val).val t.val hg 32 le_rfl]; rfl)) $$ Ha
  ihave Hrest := (show iprop((rowsV.view.loc (thr d i) ↦[slotSet (sl t.val).val]{fullShare} g) ∗ (hpV.view.loc (thr d i) ↦{qh (sl t.val)} H)
      ∗ (selSV.view.loc (thr d i) ↦{qs (sl t.val)} fS) ∗ semVal (thr d i, SemLoc.dma (gs (sl t.val))) 0) ⊢ Rest d i H fS qh qs (sl (t.val + 4)) by
    rw [sl_four]; unfold Rest
    iintro ⟨Hr, Hh, Hs, Hv⟩
    isplitl [Hr]; · iexists _; iexact Hr
    isplitl [Hh]; · iexact Hh
    isplitl [Hs]; · iexact Hs
    iexact Hv) $$ [Hr Hh Hs Hv]
  · isplitl [Hr]; · iexact Hr
    isplitl [Hh]; · iexact Hh
    isplitl [Hs]; · iexact Hs
    iexact Hv
  by_cases h6 : k0_cond6 v t = 1#1
  · have hlt := (cond6_iff v hv t).mp h6
    rw [dif_pos h6, if_pos hlt]
    simp only [Prog.bind_assoc]
    iapply (wp_gather d i H fS S qh qs (sl (t.val + 4)) (t.val + 4) _ _ _ _ _ _ e309 (off310_val v hv t) e311
      (fun e he h => hS _ (by omega) h) (fun e he => hSlt _)) $$ Hrest
    iintro Hg
    simp only [ret_bind]
    iapply Hk
    isplitl [Ha]; · iexact Ha
    isplitl [HD]; · iexact HD
    isplitl [Hg]; · iexact Hg
    iexact HO
  · have hlt := mt (cond6_iff v hv t).mpr h6
    rw [dif_neg h6, if_neg hlt]
    simp only [ret_bind]
    iapply Hk
    isplitl [Ha]; · iexact Ha
    isplitl [HD]; · iexact HD
    isplitl [Hrest]; · iexact Hrest
    iexact HO

end

end Cert.Proof.Sage

end
-- ==== Proof.Chk5.lean ====
/-
  The check before the group loop holds for every count of chosen edges up to 8000.
-/
module

public import proofs.«01_k».proof.Proof.Arith

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (v : BitVec 32) (hv : v.toNat ≤ 8000)

theorem flat_le {o : Fin 1 → ℕ} (k m : ℕ) (h : o 0 + k ≤ m) : ∀ a, o a + (![k] : Fin 1 → ℕ) a ≤ (![m] : Fin 1 → ℕ) a := by
  intro a; rw [Fin.eq_zero a]; exact h

theorem slot_le (p : ℕ) (h : p < 4) : ∀ a, (![p, 0, 0] : Fin 3 → ℕ) a + S1x32x128.size a ≤ S4x32x128.size a := by
  intro a; fin_cases a <;> simp <;> omega

/-- The loop of the groups left over. -/
def restOf (g : BitVec 32) : Scf.Loop 32 :=
  ⟨Scalar.addi 0#32 (Scalar.muli (Scalar.divsi (Scalar.subi g 0#32) 1#32) 1#32), Scalar.addi 0#32 (Scalar.subi g 0#32), 1#32⟩

include hv in
theorem t5_ok : (k0_t5_loop v).OK := by
  have h : ∀ g : Fin 251, (restOf (BitVec.ofNat 32 g.val)).OK := by decide +kernel
  show (restOf (groups v)).OK
  rw [groups_eq v hv]
  exact h ⟨(v.toNat + 31) / 32, by omega⟩

theorem none5 {P : Fin (k0_t5_loop v).trips → Prop} : ∀ t, P t := fun t => absurd (lt_of_lt_of_eq t.isLt (no_rest v)) (Nat.not_lt_zero _)

include hv in
theorem chk5_0 : k0_chk5_0 v :=
  ⟨flat_le 16 8032 (by rw [off6_val v hv]; omega),
    flat_le 16 8032 (by rw [off7_val v hv]; omega),
    t4_ok v hv,
    fun t => slot_le _ (by rw [slot_val v hv t]; omega),
    fun t => flat_le 32 8032 (by rw [off17_val v hv t]; have := t4_lt v hv t; omega),
    fun t => flat_le 1 4 (by have := slot_val v hv t; show (Scalar.remsi (Scf.iv 0#32 1#32 t.val) 4#32 : BitVec 32).toNat + 1 ≤ 4; omega),
    fun t => flat_le 16 8032 (by rw [off19_val v hv t]; have := t4_lt v hv t; omega),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_1 : k0_chk5_1 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_2 : k0_chk5_2 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_3 : k0_chk5_3 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_4 : k0_chk5_4 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    fun t => flat_le 16 8032 (by rw [off164_val v hv t]; have := t4_lt v hv t; omega),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_5 : k0_chk5_5 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_6 : k0_chk5_6 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_7 : k0_chk5_7 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_8 : k0_chk5_8 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    fun t _ => slot_le _ (by rw [slot4_val v hv t]; omega),
    fun t h => flat_le 32 8032 (by rw [off310_val v hv t]; have := (cond6_iff v hv t).mp h; omega),
    fun t _ => flat_le 1 4 (by have := slot4_val v hv t; show (Scalar.remsi (Scalar.addi (Scf.iv 0#32 1#32 t.val) 4#32) 4#32 : BitVec 32).toNat + 1 ≤ 4; omega),
    t5_ok v hv,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_9 : k0_chk5_9 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_10 : k0_chk5_10 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_11 : k0_chk5_11 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_12 : k0_chk5_12 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_13 : k0_chk5_13 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_14 : k0_chk5_14 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_15 : k0_chk5_15 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_16 : k0_chk5_16 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
/-- The check. -/
theorem chk5_of : k0_chk5 v :=
  ⟨chk5_0 v hv, chk5_1 v hv, chk5_2 v hv, chk5_3 v hv, chk5_4 v hv, chk5_5 v hv, chk5_6 v hv, chk5_7 v hv, chk5_8 v hv, chk5_9 v hv, chk5_10 v hv, chk5_11 v hv, chk5_12 v hv, chk5_13 v hv, chk5_14 v hv, chk5_15 v hv, chk5_16 v hv⟩

end Cert.Proof.Sage

end
-- ==== Proof.Work.lean ====
/-
  The work on one chunk's lists: their padding, the first four gathers, and the group loop.
-/
module

public import proofs.«01_k».proof.Proof.Scan
public import proofs.«01_k».proof.Proof.Group
public import proofs.«01_k».proof.Proof.Chk5

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

variable (d : Dev nD) (i : grid0.Coords)

/-! ## The lists' padding -/

/-- Sixteen words of a list replaced by `x`. -/
def padF (f : S8032.Idx → BitVec 32) (n : ℕ) (x : BitVec 32) : S8032.Idx → BitVec 32 := fun j => if n ≤ (j 0).val ∧ (j 0).val < n + 16 then x else f j

theorem wp_pad_selS {α : Type} {k : PUnit → Prog (Tile F i) α} {Q : α → sProp (MM F)} (f : S8032.Idx → BitVec 32) (o : Fin 1 → ℕ)
    (ho : ∀ a, o a + S16.size a ≤ S8032.size a) (x : BitVec 32) (n : ℕ) (eo : o 0 = n) :
    (selSV.view.loc (thr d i) ↦{fullShare} f)
      ⊢ iprop(((selSV.view.loc (thr d i) ↦{fullShare} padF f n x) -∗ run d i (k ⟨⟩) Q) -∗ run d i (pad i selSV o ho x >>= k) Q) := by
  have e : ((selSV.access (Rect.unit (s := S8032) o S16.size ho)).write (Elt F) f (broadcast S16 x : Vec F S16 .i32) Finset.univ) = padF f n x := by
    subst eo
    funext j
    refine (write_flat (Val := Elt F) (n := 8032) (m := 16) selSV.view f (broadcast S16 x : Vec F S16 .i32) o ho j).trans ?_
    unfold padF
    split
    · rfl
    · rfl
  unfold pad run
  simp only [Prog.lift, op_bind, ret_bind]
  iintro H Hk
  iapply (wp_load_rect 𝒱₀ (thr d i) none Set.univ (defs := defs₀ (F := F)) (m := selSV) (r := Rect.unit (s := S8032) o S16.size ho) (q := fullShare) (f := f) (S := Finset.univ) (Finset.subset_univ _)) $$ H
  iintro H
  iapply (wp_store 𝒱₀ (thr d i) none Set.univ (defs := defs₀ (F := F)) (m := selSV) (r := Rect.unit (s := S8032) o S16.size ho) (f := f) (S := Finset.univ) (Finset.subset_univ _)) $$ H
  iintro H
  iapply Hk
  rw [← e]; iexact H

theorem wp_pad_selD {α : Type} {k : PUnit → Prog (Tile F i) α} {Q : α → sProp (MM F)} (f : S8032.Idx → BitVec 32) (o : Fin 1 → ℕ)
    (ho : ∀ a, o a + S16.size a ≤ S8032.size a) (x : BitVec 32) (n : ℕ) (eo : o 0 = n) :
    (selDV.view.loc (thr d i) ↦{fullShare} f)
      ⊢ iprop(((selDV.view.loc (thr d i) ↦{fullShare} padF f n x) -∗ run d i (k ⟨⟩) Q) -∗ run d i (pad i selDV o ho x >>= k) Q) := by
  have e : ((selDV.access (Rect.unit (s := S8032) o S16.size ho)).write (Elt F) f (broadcast S16 x : Vec F S16 .i32) Finset.univ) = padF f n x := by
    subst eo
    funext j
    refine (write_flat (Val := Elt F) (n := 8032) (m := 16) selDV.view f (broadcast S16 x : Vec F S16 .i32) o ho j).trans ?_
    unfold padF
    split
    · rfl
    · rfl
  unfold pad run
  simp only [Prog.lift, op_bind, ret_bind]
  iintro H Hk
  iapply (wp_load_rect 𝒱₀ (thr d i) none Set.univ (defs := defs₀ (F := F)) (m := selDV) (r := Rect.unit (s := S8032) o S16.size ho) (q := fullShare) (f := f) (S := Finset.univ) (Finset.subset_univ _)) $$ H
  iintro H
  iapply (wp_store 𝒱₀ (thr d i) none Set.univ (defs := defs₀ (F := F)) (m := selDV) (r := Rect.unit (s := S8032) o S16.size ho) (f := f) (S := Finset.univ) (Finset.subset_univ _)) $$ H
  iintro H
  iapply Hk
  rw [← e]; iexact H

/-! ## The work on one chunk's lists -/

/-- What follows the scan of a chunk. -/
def work (hp : Memref sig .scVector .hbm S10000x128 .f32) (acc : Memref sig .scVector .vmem S40192 .f32) (selS selD : Memref sig .scVector .vmem S8032 .i32)
    (rows : Memref sig .scVector .vmem S4x32x128 .f32) (gsem : DmaSems sig S4) (v : BitVec 32) : Prog (Tile F i) (BitVec 32) := do
  have hv : k0_chk5 v := (← Prog.lift (TpuEff.assume (k0_chk5 v) (k0_chk5.dec v))).down
  pad i selS (k0_off6 v) (k0_off6_inb v hv) 0#32
  pad i selS (k0_off7 v) (k0_off7_inb v hv) 0#32
  pad i selD (k0_off6 v) (k0_off6_inb v hv) 313#32
  let _x ← starts i hp selS selD rows gsem v hv
  let _r : BitVec 32 ← Scf.Loop.for (k0_t4_loop v) (k0_t4_ok v hv) 0#32 (fun t _ => group i hp acc selS selD rows gsem v hv t)
  pure 0#32

/-- A chunk is its waits, the next chunk's copies, the scan and that work. -/
theorem chunkTrip_eq (hp : Memref sig .scVector .hbm S10000x128 .f32) (src dst : Memref sig .scVector .hbm S320000 .i32) (acc : Memref sig .scVector .vmem S40192 .f32)
    (srcC dstC : Memref sig .scVector .vmem S16000 .i32) (selS selD : Memref sig .scVector .vmem S8032 .i32)
    (rows : Memref sig .scVector .vmem S4x32x128 .f32) (gsem : DmaSems sig S4) (csem : DmaSems sig S2) (t2 : Fin k0_t2_loop.trips) :
    chunkTrip (F := F) i hp src dst acc srcC dstC selS selD rows gsem csem t2 = (do
      fetched i csem src srcC (k0_off2 t2) (k0_off2_inb t2) ![0] inb_S2_S1_0
      fetched i csem dst dstC (k0_off2 t2) (k0_off2_inb t2) ![1] inb_S2_S1_1
      if h : k0_cond1 t2 = 1#1 then do
        fetch i csem src srcC (k0_off4 t2) (k0_off4_inb t2 h) (k0_off3 t2) (k0_off3_inb t2 h) ![0] inb_S2_S1_0
        fetch i csem dst dstC (k0_off4 t2) (k0_off4_inb t2 h) (k0_off3 t2) (k0_off3_inb t2 h) ![1] inb_S2_S1_1
        pure ⟨⟩
      else do
        pure ⟨⟩
      let v : BitVec 32 ← Scf.Loop.for k0_t3_loop k0_t3_ok 0#32 (fun t3 off => scanTrip i srcC dstC selS selD t2 t3 off)
      work i hp acc selS selD rows gsem v) := by
  unfold chunkTrip select work
  by_cases h : k0_cond1 t2 = 1#1
  · simp only [dif_pos h, Prog.bind_assoc, ret_bind, pure_eq]
  · simp only [dif_neg h, Prog.bind_assoc, ret_bind, pure_eq]

/-- A gather if there is such a group. -/
def startIf (c : BitVec 1) (p : Prog (Tile F i) PUnit) : Prog (Tile F i) PUnit := if c = 1#1 then p else pure ⟨⟩

theorem starts_if (hp : Memref sig .scVector .hbm S10000x128 .f32) (selS selD : Memref sig .scVector .vmem S8032 .i32)
    (rows : Memref sig .scVector .vmem S4x32x128 .f32) (gsem : DmaSems sig S4) (v : BitVec 32) (hv : k0_chk5 v) :
    starts (F := F) i hp selS selD rows gsem v hv = (do
      pad i selD (k0_off7 v) (k0_off7_inb v hv) 313#32
      startIf i (more v 0#32) (gatherAt i hp selS rows gsem k0_off8 k0_off8_inb ![0] inb_S8032_S32_0 k0_off9 k0_off9_inb)
      startIf i (more v 1#32) (gatherAt i hp selS rows gsem k0_off10 k0_off10_inb ![32] inb_S8032_S32_32 k0_off11 k0_off11_inb)
      startIf i (more v 2#32) (gatherAt i hp selS rows gsem k0_off12 k0_off12_inb ![64] inb_S8032_S32_64 k0_off13 k0_off13_inb)
      startIf i (more v 3#32) (gatherAt i hp selS rows gsem k0_off14 k0_off14_inb ![96] inb_S8032_S32_96 k0_off15 k0_off15_inb)
      pure ⟨groups v, 0#32⟩) := by
  unfold starts startIf
  by_cases h0 : more v 0#32 = 1#1 <;> by_cases h1 : more v 1#32 = 1#1 <;> by_cases h2 : more v 2#32 = 1#1 <;> by_cases h3 : more v 3#32 = 1#1 <;>
    simp only [h0, h1, h2, h3, if_true, if_false, Prog.bind_assoc, ret_bind, pure_eq]

section
variable (H : S10000x128.Idx → Elt F .f32) (qh : Fin 4 → PosShare TreeShare)

/-- One of the four slots, at rest, without its share of the list. -/
def Slot (p : Fin 4) : sProp (MM F) :=
  iprop((∃ g : S4x32x128.Idx → Elt F .f32, (rowsV.view.loc (thr d i) ↦[slotSet p.val]{fullShare} g))
    ∗ (hpV.view.loc (thr d i) ↦{qh p} H) ∗ semVal (thr d i, SemLoc.dma (gs p)) 0)

def Slots : sProp (MM F) := iprop(Slot d i H qh 0 ∗ Slot d i H qh 1 ∗ Slot d i H qh 2 ∗ Slot d i H qh 3)

/-- The four shares of the list. -/
abbrev qL (p : Fin 4) : PosShare TreeShare := ShareLeaves.leaf 2 fullShare p

theorem four (Φ : Fin 4 → sProp (MM F)) : bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

theorem pts_four {ℓ : Loc nD τ sig} (f : Buf (Elt F) ℓ) (q : PosShare TreeShare) : (ℓ ↦{q} f : sProp (MM F))
    = iprop((ℓ ↦{ShareLeaves.leaf 2 q (0 : Fin 4)} f) ∗ (ℓ ↦{ShareLeaves.leaf 2 q (1 : Fin 4)} f) ∗ (ℓ ↦{ShareLeaves.leaf 2 q (2 : Fin 4)} f) ∗ (ℓ ↦{ShareLeaves.leaf 2 q (3 : Fin 4)} f)) := by
  rw [ShareLeaves.pointsTo_leaves Finset.univ f 2 q]
  exact four fun p => (ℓ ↦{ShareLeaves.leaf 2 q p} f)

theorem selS_four (f : S8032.Idx → BitVec 32) : (selSV.view.loc (thr d i) ↦{fullShare} f : sProp (MM F))
    = iprop((selSV.view.loc (thr d i) ↦{qL 0} f) ∗ (selSV.view.loc (thr d i) ↦{qL 1} f) ∗ (selSV.view.loc (thr d i) ↦{qL 2} f) ∗ (selSV.view.loc (thr d i) ↦{qL 3} f)) :=
  pts_four (ℓ := selSV.view.loc (thr d i)) f fullShare

theorem rest_of_slot (f : S8032.Idx → BitVec 32) (p : Fin 4) : iprop(Slot d i H qh p ∗ (selSV.view.loc (thr d i) ↦{qL p} f)) ⊢ Rest d i H f qh qL p := by
  unfold Slot Rest
  iintro ⟨⟨Hr, Hh, Hv⟩, Hs⟩
  iframe Hr Hh Hs Hv

theorem slot_of_rest (f : S8032.Idx → BitVec 32) (p : Fin 4) : Rest d i H f qh qL p ⊢ iprop(Slot d i H qh p ∗ (selSV.view.loc (thr d i) ↦{qL p} f)) := by
  unfold Slot Rest
  iintro ⟨Hr, Hh, Hs, Hv⟩
  iframe Hr Hh Hs Hv

/-- The four slots with their shares, and the same with the list whole. -/
theorem rests_of (f : S8032.Idx → BitVec 32) : iprop(Slots d i H qh ∗ (selSV.view.loc (thr d i) ↦{fullShare} f))
    ⊢ iprop(Rest d i H f qh qL 0 ∗ Rest d i H f qh qL 1 ∗ Rest d i H f qh qL 2 ∗ Rest d i H f qh qL 3) := by
  rw [selS_four]
  unfold Slots
  iintro ⟨⟨H0, H1, H2, H3⟩, G0, G1, G2, G3⟩
  isplitl [H0 G0]; · iapply (rest_of_slot d i H qh f 0); iframe H0 G0
  isplitl [H1 G1]; · iapply (rest_of_slot d i H qh f 1); iframe H1 G1
  isplitl [H2 G2]; · iapply (rest_of_slot d i H qh f 2); iframe H2 G2
  iapply (rest_of_slot d i H qh f 3); iframe H3 G3

theorem of_rests (f : S8032.Idx → BitVec 32) : iprop(Rest d i H f qh qL 0 ∗ Rest d i H f qh qL 1 ∗ Rest d i H f qh qL 2 ∗ Rest d i H f qh qL 3)
    ⊢ iprop(Slots d i H qh ∗ (selSV.view.loc (thr d i) ↦{fullShare} f)) := by
  rw [selS_four]
  unfold Slots
  iintro ⟨H0, H1, H2, H3⟩
  ihave ⟨H0, G0⟩ := (slot_of_rest d i H qh f 0) $$ H0
  ihave ⟨H1, G1⟩ := (slot_of_rest d i H qh f 1) $$ H1
  ihave ⟨H2, G2⟩ := (slot_of_rest d i H qh f 2) $$ H2
  ihave ⟨H3, G3⟩ := (slot_of_rest d i H qh f 3) $$ H3
  iframe H0 H1 H2 H3 G0 G1 G2 G3

variable (fS fD : S8032.Idx → BitVec 32) (S D : ℕ → ℕ)

/-- The slots of the groups `b, …, b + 3`. -/
def Four (nb b : ℕ) : sProp (MM F) :=
  iprop(St d i H fS S qh qL nb b ∗ St d i H fS S qh qL nb (b + 1) ∗ St d i H fS S qh qL nb (b + 2) ∗ St d i H fS S qh qL nb (b + 3))

theorem four_done (nb : ℕ) : Four d i H qh fS S nb nb ⊢ iprop(Slots d i H qh ∗ (selSV.view.loc (thr d i) ↦{fullShare} fS)) := by
  refine BIBase.Entails.trans ?_ (of_rests d i H qh fS)
  unfold Four St
  rw [if_neg (by omega), if_neg (by omega), if_neg (by omega), if_neg (by omega)]
  iintro ⟨H0, H1, H2, H3⟩
  have hs : ∀ r, r < 4 → ∀ j, nb % 4 = r → sl (nb + j) = sl (r + j) := fun r _ j h => Fin.ext (show (nb + j) % 4 = (r + j) % 4 by omega)
  have h4 : nb % 4 = 0 ∨ nb % 4 = 1 ∨ nb % 4 = 2 ∨ nb % 4 = 3 := by omega
  have e0 := fun r hr => hs r hr 0
  rcases h4 with h | h | h | h
  · rw [show sl nb = 0 from hs 0 (by decide) 0 h, show sl (nb + 1) = 1 from hs 0 (by decide) 1 h, show sl (nb + 2) = 2 from hs 0 (by decide) 2 h, show sl (nb + 3) = 3 from hs 0 (by decide) 3 h]
    iframe H0 H1 H2 H3
  · rw [show sl nb = 1 from hs 1 (by decide) 0 h, show sl (nb + 1) = 2 from hs 1 (by decide) 1 h, show sl (nb + 2) = 3 from hs 1 (by decide) 2 h, show sl (nb + 3) = 0 from hs 1 (by decide) 3 h]
    iframe H0 H1 H2 H3
  · rw [show sl nb = 2 from hs 2 (by decide) 0 h, show sl (nb + 1) = 3 from hs 2 (by decide) 1 h, show sl (nb + 2) = 0 from hs 2 (by decide) 2 h, show sl (nb + 3) = 1 from hs 2 (by decide) 3 h]
    iframe H0 H1 H2 H3
  · rw [show sl nb = 3 from hs 3 (by decide) 0 h, show sl (nb + 1) = 0 from hs 3 (by decide) 1 h, show sl (nb + 2) = 1 from hs 3 (by decide) 2 h, show sl (nb + 3) = 2 from hs 3 (by decide) 3 h]
    iframe H0 H1 H2 H3

theorem wp_startIf {α : Type} {k : PUnit → Prog (Tile F i) α} {Q : α → sProp (MM F)} (nb : ℕ) (c : BitVec 1) (p : Fin 4) (hc : c = 1#1 ↔ p.val < nb)
    (r : Fin 3 → ℕ) (hr : ∀ a, r a + S1x32x128.size a ≤ S4x32x128.size a) (o : Fin 1 → ℕ) (ho : ∀ a, o a + S32.size a ≤ S8032.size a)
    (g : Fin 1 → ℕ) (hg : ∀ a, g a + S1.size a ≤ S4.size a) (er : r = ![p.val, 0, 0]) (eo : o 0 = 32 * p.val) (eg : g = ![p.val])
    (hS : ∀ k, k < 32 * nb → ∀ h, (fS (at1 k h)).toNat = S k) (hSlt : ∀ k, S k < 10000) :
    Rest d i H fS qh qL p ⊢ iprop((St d i H fS S qh qL nb p.val -∗ run d i (k ⟨⟩) Q)
      -∗ run d i (startIf i c (gatherAt i hpV selSV rowsV cc0_scratch6 r hr o ho g hg) >>= k) Q) := by
  have es : sl p.val = p := Fin.ext (Nat.mod_eq_of_lt p.isLt)
  unfold startIf St
  rw [es]
  by_cases h : c = 1#1
  · rw [if_pos h, if_pos (hc.mp h)]
    exact wp_gather d i H fS S qh qL p p.val r hr o ho g hg er eo eg (fun e he h' => hS _ (by have := hc.mp h; omega) h') (fun e he => hSlt _)
  · rw [if_neg h, if_neg (mt hc.mpr h)]
    simp only [pure_eq, ret_bind]
    iintro H Hk
    iapply Hk $$ H

end

section
variable (H : S10000x128.Idx → Elt F .f32) (qh : Fin 4 → PosShare TreeShare) (ds ss : ℕ → BitVec 32) (a : ℕ)

/-- The table row and the accumulator row of entry `k` of the lists of one chunk; the entries after the last one are the padding. -/
def srcOf (k : ℕ) : ℕ := if k < cnt i ds a 8000 then (lst i ds ss a 8000 k).toNat else 0
def rowOf (k : ℕ) : ℕ := if k < cnt i ds a 8000 then (lst i ds (fun k => ds k - lo i) a 8000 k).toNat else 313

theorem srcOf_lt (hss : ∀ k, (ss k).toNat < 10000) (k : ℕ) : srcOf i ds ss a k < 10000 := by
  unfold srcOf
  split
  · next h => exact lst_all i ds ss a (fun w => w.toNat < 10000) 8000 (fun k _ _ => hss _) k h
  · decide

theorem rowOf_le (hds : ∀ k, (ds k).toNat < 10000) (k : ℕ) : rowOf i ds a k ≤ 313 := by
  unfold rowOf
  split
  · next h =>
    refine lst_all i ds (fun k => ds k - lo i) a (fun w => w.toNat ≤ 313) 8000 (fun k _ hb => ?_) k h
    have h2 := (bit_iff i (ds (a + k)) (hds _)).mp hb
    show (ds (a + k) - lo i).toNat ≤ 313
    rw [sub_val i _ h2.1]; omega
  · decide

theorem padded (val : ℕ → BitVec 32) (f : S8032.Idx → BitVec 32) (x : BitVec 32) (hf : Holds i ds a val 8000 f) (k : ℕ) (hk : k < cnt i ds a 8000 + 32)
    (h : k < 8032) : (padF (padF f (cnt i ds a 8000) x) (cnt i ds a 8000 + 16) x (at1 k h)) = if k < cnt i ds a 8000 then lst i ds val a 8000 k else x := by
  show (if cnt i ds a 8000 + 16 ≤ k ∧ k < cnt i ds a 8000 + 16 + 16 then x else if cnt i ds a 8000 ≤ k ∧ k < cnt i ds a 8000 + 16 then x else f (at1 k h)) = _
  by_cases hc : k < cnt i ds a 8000
  · rw [if_neg (by omega), if_neg (by omega), if_pos hc, ← hf k hc, rd_at f k h]
  · rw [if_neg hc]
    by_cases h2 : k < cnt i ds a 8000 + 16
    · rw [if_neg (by omega), if_pos (by omega)]
    · rw [if_pos (by omega)]

/-- The accumulator after a chunk. -/
def chunkF (f : S40192.Idx → Elt F .f32) : S40192.Idx → Elt F .f32 :=
  runF H (srcOf i ds ss a) (rowOf i ds a) f (32 * ((cnt i ds a 8000 + 31) / 32))

/-- The two lists, with whatever they hold. -/
def Free : sProp (MM F) :=
  iprop(∃ fS fD : S8032.Idx → BitVec 32, (selSV.view.loc (thr d i) ↦{fullShare} fS) ∗ (selDV.view.loc (thr d i) ↦{fullShare} fD))

theorem wp_work {α : Type} {k : BitVec 32 → Prog (Tile F i) α} {Q : α → sProp (MM F)} (f : S40192.Idx → Elt F .f32) (v : BitVec 32)
    (hss : ∀ k, (ss k).toNat < 10000) (hds : ∀ k, (ds k).toNat < 10000) (ev : v.toNat = cnt i ds a 8000)
    (O : CellTallies nD τ sig (HIx 1)) (W : Waits sig (HIx 1)) :
    iprop(Lists d i ds ss a 8000 ∗ (accV.view.loc (thr d i) ↦{fullShare} f) ∗ Slots d i H qh ∗ Owing d i O W ∗ Transfers.MayWaits (thr d i) (default : HIx 1) O)
      ⊢ iprop((iprop((accV.view.loc (thr d i) ↦{fullShare} chunkF i H ds ss a f) ∗ Free d i ∗ Slots d i H qh ∗ Owing d i O W) -∗ run d i (k 0#32) Q)
        -∗ run d i (work i hpV accV selSV selDV rowsV cc0_scratch6 v >>= k) Q) := by
  have hn := cnt_le i ds a 8000
  have hv : v.toNat ≤ 8000 := by omega
  have hc := chk5_of v hv
  generalize hnn : cnt i ds a 8000 = n at hn ev
  unfold Lists
  iintro ⟨⟨%fS, %fD, %hf, HS, HD⟩, Ha, Hs, HO, #Hmw⟩ Hk
  have hpS := padded i ds a ss fS 0#32 hf.1
  have hpD := padded i ds a (fun k => ds k - lo i) fD 313#32 hf.2
  rw [hnn] at hpS hpD
  have hS : ∀ k, k < 32 * ((v.toNat + 31) / 32) → ∀ h, ((padF (padF fS n 0#32) (n + 16) 0#32) (at1 k h)).toNat = srcOf i ds ss a k := by
    intro k hk h
    rw [hpS k (by omega) h]; unfold srcOf; rw [hnn]; split <;> rfl
  have hD : ∀ k, k < 32 * ((v.toNat + 31) / 32) → ∀ h, ((padF (padF fD n 313#32) (n + 16) 313#32) (at1 k h)).toNat = rowOf i ds a k := by
    intro k hk h
    rw [hpD k (by omega) h]; unfold rowOf; rw [hnn]; split <;> rfl
  have hSlt := srcOf_lt i ds ss a hss
  have hDle := rowOf_le i ds a hds
  unfold work
  simp only [starts_if, Prog.bind_assoc, Prog.lift, op_bind, ret_bind, pure_eq]
  unfold run
  iapply (wp_assume 𝒱₀ (thr d i) none Set.univ hc)
  iapply (wp_pad_selS d i fS (k0_off6 v) (k0_off6_inb v hc) 0#32 n ev) $$ HS
  iintro HS
  iapply (wp_pad_selS d i (padF fS n 0#32) (k0_off7 v) (k0_off7_inb v hc) 0#32 (n + 16) ((off7_val v hv).trans (by rw [ev]))) $$ HS
  iintro HS
  iapply (wp_pad_selD d i fD (k0_off6 v) (k0_off6_inb v hc) 313#32 n ev) $$ HD
  iintro HD
  iapply (wp_pad_selD d i (padF fD n 313#32) (k0_off7 v) (k0_off7_inb v hc) 313#32 (n + 16) ((off7_val v hv).trans (by rw [ev]))) $$ HD
  iintro HD
  ihave ⟨R0, R1, R2, R3⟩ := (rests_of d i H qh (padF (padF fS n 0#32) (n + 16) 0#32)) $$ [Hs HS]
  · iframe Hs HS
  iapply (wp_startIf d i H qh (padF (padF fS n 0#32) (n + 16) 0#32) (srcOf i ds ss a) ((v.toNat + 31) / 32) _ 0 (more_iff v hv 0 (by decide)) _ k0_off8_inb _ inb_S8032_S32_0 _ k0_off9_inb
    (by decide) rfl (by decide) hS hSlt) $$ R0
  iintro R0
  iapply (wp_startIf d i H qh (padF (padF fS n 0#32) (n + 16) 0#32) (srcOf i ds ss a) ((v.toNat + 31) / 32) _ 1 (more_iff v hv 1 (by decide)) _ k0_off10_inb _ inb_S8032_S32_32 _ k0_off11_inb
    (by decide) rfl (by decide) hS hSlt) $$ R1
  iintro R1
  iapply (wp_startIf d i H qh (padF (padF fS n 0#32) (n + 16) 0#32) (srcOf i ds ss a) ((v.toNat + 31) / 32) _ 2 (more_iff v hv 2 (by decide)) _ k0_off12_inb _ inb_S8032_S32_64 _ k0_off13_inb
    (by decide) rfl (by decide) hS hSlt) $$ R2
  iintro R2
  iapply (wp_startIf d i H qh (padF (padF fS n 0#32) (n + 16) 0#32) (srcOf i ds ss a) ((v.toNat + 31) / 32) _ 3 (more_iff v hv 3 (by decide)) _ k0_off14_inb _ inb_S8032_S32_96 _ k0_off15_inb
    (by decide) rfl (by decide) hS hSlt) $$ R3
  iintro R3
  unfold Scf.Loop.for run
  iapply (Scf.wp_for_bind frame (wpE (defs₀ (F := F)) 𝒱₀ (thr d i) none) Set.univ _ _ _ (k0_t4_ok v hc) 0#32 (fun t _ => group i hpV accV selSV selDV rowsV cc0_scratch6 v hc t)
    (fun t _ => iprop((accV.view.loc (thr d i) ↦{fullShare} runF H (srcOf i ds ss a) (rowOf i ds a) f (32 * t))
      ∗ (selDV.view.loc (thr d i) ↦{fullShare} padF (padF fD n 313#32) (n + 16) 313#32)
      ∗ Four d i H qh (padF (padF fS n 0#32) (n + 16) 0#32) (srcOf i ds ss a) ((v.toNat + 31) / 32) t ∗ Owing d i O W ∗ Transfers.MayWaits (thr d i) (default : HIx 1) O)) (by
      intro t _
      rw [← Prog.bind_pure (group i hpV accV selSV selDV rowsV cc0_scratch6 v hc t)]
      unfold Four
      iintro ⟨Ha, HD, ⟨R0, R1, R2, R3⟩, HO, #Hmw⟩
      iapply (wp_group d i H (padF (padF fS n 0#32) (n + 16) 0#32) (padF (padF fD n 313#32) (n + 16) 313#32) (srcOf i ds ss a) (rowOf i ds a) qh qL v hv hc f hS hSlt hD hDle O W t) $$ [Ha HD R0 HO]
      · iframe Ha HD R0 HO Hmw
      iintro ⟨Ha, HD, R4, HO⟩
      simp only [run, pure_eq, wp_ret]
      imodintro
      iframe Ha HD HO Hmw R1 R2 R3 R4)) $$ [Ha HD R0 R1 R2 R3 HO]
  · unfold Four
    iframe Ha HD HO Hmw R0 R1 R2 R3
  iintro %r ⟨Ha, HD, HF, HO, Hmw'⟩
  have et : Scf.trips (k0_t4_loop v).lb (k0_t4_loop v).ub (k0_t4_loop v).st = (v.toNat + 31) / 32 := t4_trips v hv
  rw [et]
  ihave ⟨Hs, HS⟩ := (four_done d i H qh _ _ _) $$ HF
  iapply Hk
  isplitl [Ha]
  · unfold chunkF; rw [hnn, ← ev]; iexact Ha
  isplitl [HS HD]
  · unfold Free; iexists _; iexists _; iframe HS HD
  iframe Hs HO

end

end Cert.Proof.Sage

end
-- ==== Proof.Chunks.lean ====
/-
  The chunks of edges: each is copied while the one before it is worked on.
-/
module

public import proofs.«01_k».proof.Proof.Work

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

variable (d : Dev nD) (i : grid0.Coords)

/-- Word `k` of an edge list. -/
def wordsOf (f : S320000.Idx → BitVec 32) (k : ℕ) : BitVec 32 := f (at1 (k % 320000) (Nat.mod_lt _ (by decide)))

abbrev cs0 : DmaSem sig := chunkSem cc0_scratch7 ![0] inb_S2_S1_0
abbrev cs1 : DmaSem sig := chunkSem cc0_scratch7 ![1] inb_S2_S1_1

/-- The credit of a chunk's copy. -/
abbrev chunkCredit : ℕ := (chunkOf srcCV ![0] inb_S16000_S8000_0).view.dmaCredit

/-! ### The list of sources -/

section
variable (fe : S320000.Idx → BitVec 32) (q : PosShare TreeShare)

/-- Half `p` of the buffer, with whatever it holds. -/
def HalfS (p : ℕ) : sProp (MM F) := iprop(∃ g : S16000.Idx → BitVec 32, (srcCV.view.loc (thr d i) ↦[halfSet p]{fullShare} g))

theorem chunk_writeS (g : S16000.Idx → BitVec 32) (w : S8000.Idx → BitVec 32) (o' : Fin 1 → ℕ) (ho' : ∀ a, o' a + S8000.size a ≤ S16000.size a)
    (j : S16000.Idx) (x : ℕ) (hx : x < 8000) (hj : (j 0).val = o' 0 + x) :
    ((chunkOf srcCV o' ho').view.write (Elt F) g w Finset.univ) j = w (at1 x hx) := by
  have h := View.write_emb_of_mem (v := (chunkOf srcCV o' ho').view) (Val := Elt F) g w (M := Finset.univ) (x := at1 x hx) (Finset.mem_univ _)
  refine Eq.trans (congrArg _ ?_) h
  funext b; apply Fin.ext
  rw [Fin.eq_zero b]
  show (j 0).val = o' 0 + 1 * x
  omega

/-- Chunk `c` arrived. -/
def ComeS (c : ℕ) : sProp (MM F) :=
  iprop((∃ g : S16000.Idx → BitVec 32, ⌜Chunk (8000 * c) (wordsOf fe) (c % 2) g⌝ ∗ (srcCV.view.loc (thr d i) ↦[halfSet (c % 2)]{fullShare} g))
    ∗ (srcV.view.loc (thr d i) ↦{q} fe))

/-- Chunk `c`'s copy in flight. -/
def FlyS (c : ℕ) : sProp (MM F) :=
  Transfers.Flight countersEmb (thr d i) (.dma cs0) (default : HIx 1) chunkCredit (ComeS d i fe q c)

theorem wp_fetchS {α : Type} {k : PUnit → Prog (Tile F i) α} {Q : α → sProp (MM F)} (c : ℕ) (hc : c < 40)
    (o : Fin 1 → ℕ) (ho : ∀ a, o a + S8000.size a ≤ S320000.size a)
    (o' : Fin 1 → ℕ) (ho' : ∀ a, o' a + S8000.size a ≤ S16000.size a) (eo : o 0 = 8000 * c) (eo' : o' 0 = 8000 * (c % 2)) :
    iprop((srcV.view.loc (thr d i) ↦{q} fe) ∗ HalfS d i (c % 2) ∗ semVal (thr d i, SemLoc.dma cs0) 0)
      ⊢ iprop((FlyS d i fe q c -∗ run d i (k ⟨⟩) Q)
        -∗ run d i (fetch i cc0_scratch7 srcV srcCV o ho o' ho' ![0] inb_S2_S1_0 >>= k) Q) := by
  unfold HalfS run
  simp only [Prog.lift, op_bind, ret_bind]
  iintro ⟨Hm, ⟨%g, Hg⟩, Hv⟩ Hk
  iapply (Transfers.wp_dmaFromWhole countersEmb 𝒱₀ (thr d i) none (default : HIx 1) chunkCredit (Sd := halfSet (c % 2)) (by rfl) (by decide) (by
    intro x hx
    obtain ⟨y, -, rfl⟩ := Finset.mem_map.mp hx
    refine Finset.mem_filter.mpr ⟨Finset.mem_univ _, ?_⟩
    have hy : (y 0).val < 8000 := (y 0).isLt
    show (o' 0 + 1 * (y 0).val) / 8000 = c % 2
    rw [eo']; omega)) $$ [Hm Hg Hv]
  · isplitl [Hm]; · iexact Hm
    isplitl [Hg]; · iexact Hg
    iexact Hv
  iintro Hf
  iapply Hk
  unfold FlyS
  iapply (Transfers.Flight_mono countersEmb (thr d i) (D := iprop((srcCV.view.loc (thr d i) ↦[halfSet (c % 2)]{fullShare}
      ((chunkOf srcCV o' ho').view.write (Elt F) g ((edgesOf srcV o ho).view.read (Elt F) fe) Finset.univ)) ∗ (srcV.view.loc (thr d i) ↦{q} fe))) (by
    unfold ComeS
    iintro ⟨Hg, Hm⟩
    isplitl [Hg]
    · iexists _
      isplitr
      swap
      · iexact Hg
      ipureintro
      intro x hx h
      refine (chunk_writeS g _ o' ho' (at1 (8000 * (c % 2) + x) h) x hx (show 8000 * (c % 2) + x = o' 0 + x by omega)).trans ?_
      refine (read_flat (Val := Elt F) (n := 320000) (m := 8000) srcV.view fe o ho _).trans ?_
      show fe _ = fe _
      refine congrArg fe ?_
      funext b; apply Fin.ext
      show o 0 + x = (8000 * c + x) % 320000
      omega
    · iexact Hm))
  iexact Hf

theorem wp_fetchedS {α : Type} {k : PUnit → Prog (Tile F i) α} {Q : α → sProp (MM F)} (c : ℕ)
    (o' : Fin 1 → ℕ) (ho' : ∀ a, o' a + S8000.size a ≤ S16000.size a) (O : CellTallies nD τ sig (HIx 1)) (W : Waits sig (HIx 1)) :
    iprop(FlyS d i fe q c ∗ Owing d i O W ∗ Transfers.MayWaits (thr d i) (default : HIx 1) O)
      ⊢ iprop((iprop(ComeS d i fe q c ∗ semVal (thr d i, SemLoc.dma cs0) 0 ∗ Owing d i O W) -∗ run d i (k ⟨⟩) Q)
        -∗ run d i (fetched i cc0_scratch7 srcV srcCV o' ho' ![0] inb_S2_S1_0 >>= k) Q) := by
  unfold FlyS
  simp only [Prog.lift, op_bind, ret_bind]
  exact wp_wait d i (dstw := chunkOf srcCV o' ho') rfl O W

end

/-! ### The list of destinations -/

section
variable (fe : S320000.Idx → BitVec 32) (q : PosShare TreeShare)

/-- Half `p` of the buffer, with whatever it holds. -/
def HalfD (p : ℕ) : sProp (MM F) := iprop(∃ g : S16000.Idx → BitVec 32, (dstCV.view.loc (thr d i) ↦[halfSet p]{fullShare} g))

theorem chunk_writeD (g : S16000.Idx → BitVec 32) (w : S8000.Idx → BitVec 32) (o' : Fin 1 → ℕ) (ho' : ∀ a, o' a + S8000.size a ≤ S16000.size a)
    (j : S16000.Idx) (x : ℕ) (hx : x < 8000) (hj : (j 0).val = o' 0 + x) :
    ((chunkOf dstCV o' ho').view.write (Elt F) g w Finset.univ) j = w (at1 x hx) := by
  have h := View.write_emb_of_mem (v := (chunkOf dstCV o' ho').view) (Val := Elt F) g w (M := Finset.univ) (x := at1 x hx) (Finset.mem_univ _)
  refine Eq.trans (congrArg _ ?_) h
  funext b; apply Fin.ext
  rw [Fin.eq_zero b]
  show (j 0).val = o' 0 + 1 * x
  omega

/-- Chunk `c` arrived. -/
def ComeD (c : ℕ) : sProp (MM F) :=
  iprop((∃ g : S16000.Idx → BitVec 32, ⌜Chunk (8000 * c) (wordsOf fe) (c % 2) g⌝ ∗ (dstCV.view.loc (thr d i) ↦[halfSet (c % 2)]{fullShare} g))
    ∗ (dstV.view.loc (thr d i) ↦{q} fe))

/-- Chunk `c`'s copy in flight. -/
def FlyD (c : ℕ) : sProp (MM F) :=
  Transfers.Flight countersEmb (thr d i) (.dma cs1) (default : HIx 1) chunkCredit (ComeD d i fe q c)

theorem wp_fetchD {α : Type} {k : PUnit → Prog (Tile F i) α} {Q : α → sProp (MM F)} (c : ℕ) (hc : c < 40)
    (o : Fin 1 → ℕ) (ho : ∀ a, o a + S8000.size a ≤ S320000.size a)
    (o' : Fin 1 → ℕ) (ho' : ∀ a, o' a + S8000.size a ≤ S16000.size a) (eo : o 0 = 8000 * c) (eo' : o' 0 = 8000 * (c % 2)) :
    iprop((dstV.view.loc (thr d i) ↦{q} fe) ∗ HalfD d i (c % 2) ∗ semVal (thr d i, SemLoc.dma cs1) 0)
      ⊢ iprop((FlyD d i fe q c -∗ run d i (k ⟨⟩) Q)
        -∗ run d i (fetch i cc0_scratch7 dstV dstCV o ho o' ho' ![1] inb_S2_S1_1 >>= k) Q) := by
  unfold HalfD run
  simp only [Prog.lift, op_bind, ret_bind]
  iintro ⟨Hm, ⟨%g, Hg⟩, Hv⟩ Hk
  iapply (Transfers.wp_dmaFromWhole countersEmb 𝒱₀ (thr d i) none (default : HIx 1) chunkCredit (Sd := halfSet (c % 2)) (by rfl) (by decide) (by
    intro x hx
    obtain ⟨y, -, rfl⟩ := Finset.mem_map.mp hx
    refine Finset.mem_filter.mpr ⟨Finset.mem_univ _, ?_⟩
    have hy : (y 0).val < 8000 := (y 0).isLt
    show (o' 0 + 1 * (y 0).val) / 8000 = c % 2
    rw [eo']; omega)) $$ [Hm Hg Hv]
  · isplitl [Hm]; · iexact Hm
    isplitl [Hg]; · iexact Hg
    iexact Hv
  iintro Hf
  iapply Hk
  unfold FlyD
  iapply (Transfers.Flight_mono countersEmb (thr d i) (D := iprop((dstCV.view.loc (thr d i) ↦[halfSet (c % 2)]{fullShare}
      ((chunkOf dstCV o' ho').view.write (Elt F) g ((edgesOf dstV o ho).view.read (Elt F) fe) Finset.univ)) ∗ (dstV.view.loc (thr d i) ↦{q} fe))) (by
    unfold ComeD
    iintro ⟨Hg, Hm⟩
    isplitl [Hg]
    · iexists _
      isplitr
      swap
      · iexact Hg
      ipureintro
      intro x hx h
      refine (chunk_writeD g _ o' ho' (at1 (8000 * (c % 2) + x) h) x hx (show 8000 * (c % 2) + x = o' 0 + x by omega)).trans ?_
      refine (read_flat (Val := Elt F) (n := 320000) (m := 8000) dstV.view fe o ho _).trans ?_
      show fe _ = fe _
      refine congrArg fe ?_
      funext b; apply Fin.ext
      show o 0 + x = (8000 * c + x) % 320000
      omega
    · iexact Hm))
  iexact Hf

theorem wp_fetchedD {α : Type} {k : PUnit → Prog (Tile F i) α} {Q : α → sProp (MM F)} (c : ℕ)
    (o' : Fin 1 → ℕ) (ho' : ∀ a, o' a + S8000.size a ≤ S16000.size a) (O : CellTallies nD τ sig (HIx 1)) (W : Waits sig (HIx 1)) :
    iprop(FlyD d i fe q c ∗ Owing d i O W ∗ Transfers.MayWaits (thr d i) (default : HIx 1) O)
      ⊢ iprop((iprop(ComeD d i fe q c ∗ semVal (thr d i, SemLoc.dma cs1) 0 ∗ Owing d i O W) -∗ run d i (k ⟨⟩) Q)
        -∗ run d i (fetched i cc0_scratch7 dstV dstCV o' ho' ![1] inb_S2_S1_1 >>= k) Q) := by
  unfold FlyD
  simp only [Prog.lift, op_bind, ret_bind]
  exact wp_wait d i (dstw := chunkOf dstCV o' ho') rfl O W

end

section
variable (H : S10000x128.Idx → Elt F .f32) (qh : Fin 4 → PosShare TreeShare) (fs fd : S320000.Idx → BitVec 32) (qs qd : PosShare TreeShare)

/-- The two edge lists, their buffers and semaphores when nothing is in flight. -/
def Still (c : ℕ) : sProp (MM F) :=
  iprop(((srcV.view.loc (thr d i) ↦{qs} fs) ∗ HalfS d i (c % 2) ∗ HalfS d i ((c + 1) % 2) ∗ semVal (thr d i, SemLoc.dma cs0) 0)
    ∗ ((dstV.view.loc (thr d i) ↦{qd} fd) ∗ HalfD d i (c % 2) ∗ HalfD d i ((c + 1) % 2) ∗ semVal (thr d i, SemLoc.dma cs1) 0))

/-- Chunk `c` on its way. -/
def Moving (c : ℕ) : sProp (MM F) :=
  iprop((FlyS d i fs qs c ∗ HalfS d i ((c + 1) % 2)) ∗ (FlyD d i fd qd c ∗ HalfD d i ((c + 1) % 2)))

/-- Before chunk `c`. -/
def Edges (c : ℕ) : sProp (MM F) := if c < 40 then Moving d i fs fd qs qd c else Still d i fs fd qs qd c

/-- The accumulator after `c` chunks. -/
def accF (f : S40192.Idx → Elt F .f32) : ℕ → S40192.Idx → Elt F .f32
  | 0 => f
  | c + 1 => chunkF i H (wordsOf fd) (wordsOf fs) (8000 * c) (accF f c)

theorem wp_chunk {α : Type} {k : BitVec 32 → Prog (Tile F i) α} {Q : α → sProp (MM F)} (f : S40192.Idx → Elt F .f32)
    (hss : ∀ x, (fs x).toNat < 10000) (hds : ∀ x, (fd x).toNat < 10000) (O : CellTallies nD τ sig (HIx 1)) (W : Waits sig (HIx 1)) (t2 : Fin k0_t2_loop.trips) :
    iprop(Edges d i fs fd qs qd t2.val ∗ (accV.view.loc (thr d i) ↦{fullShare} accF i H fs fd f t2.val) ∗ Free d i ∗ Slots d i H qh
        ∗ Owing d i O W ∗ Transfers.MayWaits (thr d i) (default : HIx 1) O)
      ⊢ iprop((iprop(Edges d i fs fd qs qd (t2.val + 1) ∗ (accV.view.loc (thr d i) ↦{fullShare} accF i H fs fd f (t2.val + 1)) ∗ Free d i ∗ Slots d i H qh
          ∗ Owing d i O W) -∗ run d i (k 0#32) Q)
        -∗ run d i (chunkTrip i hpV srcV dstV accV srcCV dstCV selSV selDV rowsV cc0_scratch6 cc0_scratch7 t2 >>= k) Q) := by
  have ht := t2_lt t2
  rw [chunkTrip_eq]
  simp only [Prog.bind_assoc]
  iintro ⟨HE, Ha, HF, Hs, HO, #Hmw⟩ Hk
  ihave HE := (Entails.of_eq (show Edges d i fs fd qs qd t2.val = Moving d i fs fd qs qd t2.val from if_pos ht)) $$ HE
  unfold Moving
  icases HE with ⟨⟨HfS, HhS⟩, HfD, HhD⟩
  iapply (wp_fetchedS d i fs qs t2.val (k0_off2 t2) (k0_off2_inb t2) O W) $$ [HfS HO]
  · iframe HfS HO Hmw
  iintro ⟨HcS, HvS, HO⟩
  iapply (wp_fetchedD d i fd qd t2.val (k0_off2 t2) (k0_off2_inb t2) O W) $$ [HfD HO]
  · iframe HfD HO Hmw
  iintro ⟨HcD, HvD, HO⟩
  unfold ComeS ComeD
  icases HcS with ⟨⟨%gS, %hgS, HgS⟩, HmS⟩
  icases HcD with ⟨⟨%gD, %hgD, HgD⟩, HmD⟩
  -- the lists hold none of the chunk's edges yet
  ihave HL := (show Free d i ⊢ Lists d i (wordsOf fd) (wordsOf fs) (8000 * t2.val) 0 by
    unfold Free Lists
    iintro ⟨%f1, %f2, H1, H2⟩
    iexists f1; iexists f2
    isplitr
    · ipureintro; exact ⟨fun q h => absurd h (Nat.not_lt_zero _), fun q h => absurd h (Nat.not_lt_zero _)⟩
    iframe H1 H2) $$ HF
  have e2 : (t2.val + 1 + 1) % 2 = t2.val % 2 := by omega
  -- the rest of the trip, once the next chunk's copies are started
  have rest : iprop(((accV.view.loc (thr d i) ↦{fullShare} accF i H fs fd f t2.val) ∗ Slots d i H qh ∗ Owing d i O W ∗ Transfers.MayWaits (thr d i) (default : HIx 1) O
        ∗ Lists d i (wordsOf fd) (wordsOf fs) (8000 * t2.val) 0 ∗ Halves d i gS gD t2)
        ∗ (iprop(HalfS d i (t2.val % 2) ∗ HalfD d i (t2.val % 2) ∗ (accV.view.loc (thr d i) ↦{fullShare} accF i H fs fd f (t2.val + 1)) ∗ Free d i ∗ Slots d i H qh
          ∗ Owing d i O W) -∗ run d i (k 0#32) Q))
      ⊢ run d i (Scf.Loop.for k0_t3_loop k0_t3_ok 0#32 (fun t3 off => scanTrip i srcCV dstCV selSV selDV t2 t3 off)
          >>= fun v => work i hpV accV selSV selDV rowsV cc0_scratch6 v >>= k) Q := by
    iintro ⟨⟨Ha, Hs, HO, #Hmw, HL, HH⟩, Hk⟩
    iapply (wp_scan d i (wordsOf fd) (wordsOf fs) (8000 * t2.val) gS gD t2 hgS hgD) $$ [HL HH]
    · isplitl [HL]; · iexact HL
      iexact HH
    iintro %v %hv HL ⟨HgS, HgD⟩
    iapply (wp_work d i H qh (wordsOf fd) (wordsOf fs) (8000 * t2.val) (accF i H fs fd f t2.val) v (fun k => hss _) (fun k => hds _) hv O W) $$ [HL Ha Hs HO]
    · iframe HL Ha Hs HO Hmw
    iintro ⟨Ha, HF, Hs, HO⟩
    iapply Hk
    isplitl [HgS]; · unfold HalfS; iexists gS; iexact HgS
    isplitl [HgD]; · unfold HalfD; iexists gD; iexact HgD
    isplitl [Ha]; · iexact Ha
    iframe HF Hs HO
  by_cases h : k0_cond1 t2 = 1#1
  · have hlt := (cond1_iff t2).mp h
    rw [dif_pos h]
    simp only [Prog.bind_assoc]
    iapply (wp_fetchS d i fs qs (t2.val + 1) hlt (k0_off4 t2) (k0_off4_inb t2 h) (k0_off3 t2) (k0_off3_inb t2 h) (off4_val t2) (off3_val t2)) $$ [HmS HhS HvS]
    · iframe HmS HhS HvS
    iintro HfS
    iapply (wp_fetchD d i fd qd (t2.val + 1) hlt (k0_off4 t2) (k0_off4_inb t2 h) (k0_off3 t2) (k0_off3_inb t2 h) (off4_val t2) (off3_val t2)) $$ [HmD HhD HvD]
    · iframe HmD HhD HvD
    iintro HfD
    iapply rest
    isplitl [Ha Hs HO HL HgS HgD]
    · iframe Ha Hs HO Hmw HL
      isplitl [HgS]; · iexact HgS
      iexact HgD
    iintro ⟨HgS, HgD, Ha, HF, Hs, HO⟩
    iapply Hk
    isplitl [HfS HfD HgS HgD]
    · unfold Edges
      rw [if_pos hlt]
      unfold Moving
      rw [e2]
      iframe HfS HfD HgS HgD
    iframe Ha HF Hs HO
  · have hlt := mt (cond1_iff t2).mpr h
    rw [dif_neg h]
    simp only [Prog.bind_assoc]
    iapply rest
    isplitl [Ha Hs HO HL HgS HgD]
    · iframe Ha Hs HO Hmw HL
      isplitl [HgS]; · iexact HgS
      iexact HgD
    iintro ⟨HgS, HgD, Ha, HF, Hs, HO⟩
    iapply Hk
    isplitl [HmS HhS HvS HmD HhD HvD HgS HgD]
    · unfold Edges
      rw [if_neg hlt]
      unfold Still
      rw [e2]
      iframe HmS HhS HvS HmD HhD HvD HgS HgD
    iframe Ha HF Hs HO

end

end Cert.Proof.Sage

end
-- ==== Proof.Loops.lean ====
/-
  The clearing of the accumulator, and the loop over the chunks.
-/
module

public import proofs.«01_k».proof.Proof.Chunks

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-! ## Parts of a buffer -/

section
variable {ℓ : Loc nD τ sig} {n : ℕ} (S : Fin n → Finset (Idx ℓ)) (hd : ∀ i ∈ (Finset.univ : Finset (Fin n)), ∀ j ∈ (Finset.univ : Finset (Fin n)), i ≠ j → Disjoint (S i) (S j))
  (hc : (Finset.univ : Finset (Fin n)).biUnion S = Finset.univ)
include hd hc

theorem split_parts (q : PosShare TreeShare) (f : Buf (Elt F) ℓ) : (ℓ ↦{q} f : sProp (MM F)) = bigSep Finset.univ fun i => ℓ ↦[S i]{q} f := by
  rw [← pointsTo_biUnion Finset.univ S hd, hc]

theorem join_parts [hn : NeZero n] : (bigSep Finset.univ fun i => iprop(∃ f, ℓ ↦[S i]{fullShare} f)) ⊢ (iprop(∃ f, ℓ ↦{fullShare} f) : sProp (MM F)) := by
  refine (bigSep_exists_pi Finset.univ (fun i (f : Buf (Elt F) ℓ) => (ℓ ↦[S i]{fullShare} f : sProp (MM F)))).trans ?_
  iintro ⟨%fs, H⟩
  have : Nonempty (Buf (Elt F) ℓ) := ⟨fs 0⟩
  ihave H' := (pointsTo_biUnion_join (ℓ := ℓ) (q := fullShare) (Val := Elt F) Finset.univ S fs (fs 0) hd) $$ H
  icases H' with ⟨%g, -, Hg⟩
  rw [hc]
  iexists g; iexact Hg

end

/-- The elements of an index set by the value of a function. -/
theorem fibres_disjoint {I : Type} [Fintype I] [DecidableEq I] {n : ℕ} (p : I → ℕ) :
    ∀ i ∈ (Finset.univ : Finset (Fin n)), ∀ j ∈ (Finset.univ : Finset (Fin n)), i ≠ j →
      Disjoint (Finset.univ.filter fun x => p x = i.val) (Finset.univ.filter fun x => p x = j.val) := by
  intro i _ j _ h
  refine Finset.disjoint_left.mpr fun x hx hy => h (Fin.ext ?_)
  exact (Finset.mem_filter.mp hx).2.symm.trans (Finset.mem_filter.mp hy).2

theorem fibres_cover {I : Type} [Fintype I] [DecidableEq I] {n : ℕ} (p : I → ℕ) (hp : ∀ x, p x < n) :
    ((Finset.univ : Finset (Fin n)).biUnion fun i => Finset.univ.filter fun x => p x = i.val) = Finset.univ := by
  ext x
  simp only [Finset.mem_biUnion, Finset.mem_univ, true_and, iff_true]
  exact ⟨⟨p x, hp x⟩, Finset.mem_filter.mpr ⟨Finset.mem_univ _, rfl⟩⟩

theorem two (Φ : Fin 2 → sProp (MM F)) : bigSep Finset.univ Φ = iprop(Φ 0 ∗ Φ 1) := by
  rw [show (Finset.univ : Finset (Fin 2)) = {0, 1} from by decide, bigSep_insert (by decide), bigSep_singleton]
  rfl

variable (d : Dev nD) (i : grid0.Coords)

theorem halves_split {ℓ : Loc nD τ sig} (p : Idx ℓ → ℕ) (hp : ∀ x, p x < 2) (f : Buf (Elt F) ℓ) : (ℓ ↦{fullShare} f : sProp (MM F))
    = iprop((ℓ ↦[Finset.univ.filter fun x => p x = (0 : Fin 2).val]{fullShare} f) ∗ (ℓ ↦[Finset.univ.filter fun x => p x = (1 : Fin 2).val]{fullShare} f)) := by
  rw [split_parts (n := 2) (fun i => Finset.univ.filter fun x => p x = i.val) (fibres_disjoint p) (fibres_cover p hp)]
  exact two _

theorem halves_join {ℓ : Loc nD τ sig} (p : Idx ℓ → ℕ) (hp : ∀ x, p x < 2) :
    iprop((∃ f, ℓ ↦[Finset.univ.filter fun x => p x = (0 : Fin 2).val]{fullShare} f) ∗ (∃ f, ℓ ↦[Finset.univ.filter fun x => p x = (1 : Fin 2).val]{fullShare} f))
      ⊢ (iprop(∃ f, ℓ ↦{fullShare} f) : sProp (MM F)) := by
  refine BIBase.Entails.trans (Entails.of_eq ?_) (join_parts (n := 2) (fun i => Finset.univ.filter fun x => p x = i.val) (fibres_disjoint p) (fibres_cover p hp))
  exact (two fun k => iprop(∃ f, ℓ ↦[Finset.univ.filter fun x => p x = k.val]{fullShare} f)).symm

theorem slots_split {ℓ : Loc nD τ sig} (p : Idx ℓ → ℕ) (hp : ∀ x, p x < 4) (f : Buf (Elt F) ℓ) : (ℓ ↦{fullShare} f : sProp (MM F))
    = iprop((ℓ ↦[Finset.univ.filter fun x => p x = (0 : Fin 4).val]{fullShare} f) ∗ (ℓ ↦[Finset.univ.filter fun x => p x = (1 : Fin 4).val]{fullShare} f)
      ∗ (ℓ ↦[Finset.univ.filter fun x => p x = (2 : Fin 4).val]{fullShare} f) ∗ (ℓ ↦[Finset.univ.filter fun x => p x = (3 : Fin 4).val]{fullShare} f)) := by
  rw [split_parts (n := 4) (fun i => Finset.univ.filter fun x => p x = i.val) (fibres_disjoint p) (fibres_cover p hp)]
  exact four _

theorem slots_join {ℓ : Loc nD τ sig} (p : Idx ℓ → ℕ) (hp : ∀ x, p x < 4) :
    iprop((∃ f, ℓ ↦[Finset.univ.filter fun x => p x = (0 : Fin 4).val]{fullShare} f) ∗ (∃ f, ℓ ↦[Finset.univ.filter fun x => p x = (1 : Fin 4).val]{fullShare} f)
      ∗ (∃ f, ℓ ↦[Finset.univ.filter fun x => p x = (2 : Fin 4).val]{fullShare} f) ∗ (∃ f, ℓ ↦[Finset.univ.filter fun x => p x = (3 : Fin 4).val]{fullShare} f))
      ⊢ (iprop(∃ f, ℓ ↦{fullShare} f) : sProp (MM F)) := by
  refine BIBase.Entails.trans (Entails.of_eq ?_) (join_parts (n := 4) (fun i => Finset.univ.filter fun x => p x = i.val) (fibres_disjoint p) (fibres_cover p hp))
  exact (four fun k => iprop(∃ f, ℓ ↦[Finset.univ.filter fun x => p x = k.val]{fullShare} f)).symm

/-! ## The clearing of the accumulator -/

/-- All zeros. -/
def zeroF : S40192.Idx → Elt F .f32 := fun _ => Scalar.ofBits .f32 0x00000000#32

/-- The first `n` words cleared. -/
def clearF (f : S40192.Idx → Elt F .f32) (n : ℕ) : S40192.Idx → Elt F .f32 := fun j => if (j 0).val < n then Scalar.ofBits .f32 0x00000000#32 else f j

theorem write_clear (f : S40192.Idx → Elt F .f32) (n : ℕ) (o : Fin 1 → ℕ) (ho : ∀ a, o a + S16.size a ≤ S40192.size a) (eo : o 0 = n) :
    (accV.access (Rect.unit (s := S40192) o S16.size ho)).write (Elt F) (clearF f n) (broadcast S16 (Scalar.ofBits (F := F) .f32 0x00000000#32)) Finset.univ = clearF f (n + 16) := by
  funext j
  refine (write_flat (n := 40192) (m := 16) accV.view (clearF f n) _ o ho j).trans ?_
  split
  · next h =>
    show Scalar.ofBits .f32 0x00000000#32 = _
    unfold clearF
    rw [if_pos (by omega)]
  · next h =>
    show clearF f n j = _
    unfold clearF
    by_cases hc : (j 0).val < n
    · rw [if_pos hc, if_pos (by omega)]
    · rw [if_neg hc, if_neg (by omega)]

theorem wp_clear {α : Type} {k : BitVec 32 → Prog (Tile F i) α} {Q : α → sProp (MM F)} (f : S40192.Idx → Elt F .f32) :
    iprop(accV.view.loc (thr d i) ↦{fullShare} f)
      ⊢ iprop((∀ v : BitVec 32, (accV.view.loc (thr d i) ↦{fullShare} zeroF) -∗ run d i (k v) Q)
        -∗ run d i (Scf.Loop.for k0_t1_loop k0_t1_ok 0#32 (fun t _ => clear i accV t) >>= k) Q) := by
  iintro H Hk
  unfold Scf.Loop.for run
  iapply (Scf.wp_for_bind frame (wpE (defs₀ (F := F)) 𝒱₀ (thr d i) none) Set.univ _ _ _ k0_t1_ok 0#32 (fun t _ => clear i accV t)
    (fun n _ => iprop(accV.view.loc (thr d i) ↦{fullShare} clearF f (16 * n))) (by
      intro t acc
      unfold clear
      simp only [Prog.lift, op_bind, ret_bind, pure_eq]
      iintro Ha
      iapply (wp_load_rect 𝒱₀ (thr d i) none Set.univ (defs := defs₀ (F := F)) (m := accV) (r := Rect.unit (s := S40192) (k0_off1 t) S16.size (k0_off1_inb t)) (q := fullShare) (f := clearF f (16 * t.val)) (S := Finset.univ) (Finset.subset_univ _)) $$ Ha
      iintro Ha
      iapply (wp_store 𝒱₀ (thr d i) none Set.univ (defs := defs₀ (F := F)) (m := accV) (r := Rect.unit (s := S40192) (k0_off1 t) S16.size (k0_off1_inb t)) (f := clearF f (16 * t.val)) (S := Finset.univ) (Finset.subset_univ _)) $$ Ha
      iintro Ha
      simp only [wp_ret]
      imodintro
      ihave Ha := (Entails.of_eq (congrArg (fun g : S40192.Idx → Elt F .f32 => (accV.view.loc (thr d i) ↦{fullShare} g : sProp (MM F))) (write_clear f (16 * t.val) (k0_off1 t) (k0_off1_inb t) (off1_val t)))) $$ Ha
      iexact Ha)) $$ [H]
  · ihave H := (Entails.of_eq (congrArg (fun g : S40192.Idx → Elt F .f32 => (accV.view.loc (thr d i) ↦{fullShare} g : sProp (MM F)))
      (show f = clearF f (16 * 0) from funext fun j => (if_neg (Nat.not_lt_zero _)).symm))) $$ H
    iexact H
  iintro %v H
  iapply Hk
  have e : Scf.trips k0_t1_loop.lb k0_t1_loop.ub k0_t1_loop.st = 2512 := trips1
  rw [e]
  ihave H := (Entails.of_eq (congrArg (fun g : S40192.Idx → Elt F .f32 => (accV.view.loc (thr d i) ↦{fullShare} g : sProp (MM F)))
      (show clearF f (16 * 2512) = zeroF from funext fun j => if_pos (show (j 0).val < 16 * 2512 from (j 0).isLt)))) $$ H
  iexact H

/-! ## The chunks -/

section
variable (H : S10000x128.Idx → Elt F .f32) (qh : Fin 4 → PosShare TreeShare) (fs fd : S320000.Idx → BitVec 32) (qs qd : PosShare TreeShare)

/-- The tile's accumulator at the end. -/
def endF : S40192.Idx → Elt F .f32 := accF i H fs fd zeroF 40

theorem wp_chunks {α : Type} {k : BitVec 32 → Prog (Tile F i) α} {Q : α → sProp (MM F)}
    (hss : ∀ x, (fs x).toNat < 10000) (hds : ∀ x, (fd x).toNat < 10000) (O : CellTallies nD τ sig (HIx 1)) (W : Waits sig (HIx 1)) :
    iprop(Moving d i fs fd qs qd 0 ∗ (accV.view.loc (thr d i) ↦{fullShare} zeroF) ∗ Free d i ∗ Slots d i H qh
        ∗ Owing d i O W ∗ Transfers.MayWaits (thr d i) (default : HIx 1) O)
      ⊢ iprop((∀ v : BitVec 32, iprop(Still d i fs fd qs qd 40 ∗ (accV.view.loc (thr d i) ↦{fullShare} endF i H fs fd) ∗ Free d i ∗ Slots d i H qh
          ∗ Owing d i O W) -∗ run d i (k v) Q)
        -∗ run d i (Scf.Loop.for k0_t2_loop k0_t2_ok 0#32 (fun t2 _ => chunkTrip i hpV srcV dstV accV srcCV dstCV selSV selDV rowsV cc0_scratch6 cc0_scratch7 t2) >>= k) Q) := by
  iintro ⟨HE, Ha, HF, Hs, HO, #Hmw⟩ Hk
  unfold Scf.Loop.for run
  iapply (Scf.wp_for_bind frame (wpE (defs₀ (F := F)) 𝒱₀ (thr d i) none) Set.univ _ _ _ k0_t2_ok 0#32 (fun t2 _ => chunkTrip i hpV srcV dstV accV srcCV dstCV selSV selDV rowsV cc0_scratch6 cc0_scratch7 t2)
    (fun n _ => iprop((Edges d i fs fd qs qd n ∗ (accV.view.loc (thr d i) ↦{fullShare} accF i H fs fd zeroF n) ∗ Free d i ∗ Slots d i H qh
        ∗ Owing d i O W) ∗ Transfers.MayWaits (thr d i) (default : HIx 1) O)) (by
      intro t2 acc
      rw [← Prog.bind_pure (chunkTrip i hpV srcV dstV accV srcCV dstCV selSV selDV rowsV cc0_scratch6 cc0_scratch7 t2)]
      iintro ⟨⟨HE, Ha, HF, Hs, HO⟩, #Hmw⟩
      iapply (wp_chunk d i H qh fs fd qs qd zeroF hss hds O W t2) $$ [HE Ha HF Hs HO]
      · iframe HE Ha HF Hs HO Hmw
      iintro HR
      simp only [run, pure_eq, wp_ret]
      imodintro
      iframe HR Hmw)) $$ [HE Ha HF Hs HO]
  · iframe Hmw
    isplitl [HE]
    · unfold Edges
      rw [if_pos (by decide)]
      iexact HE
    isplitl [Ha]; · iexact Ha
    iframe HF Hs HO
  iintro %v ⟨⟨HE, Ha, HF, Hs, HO⟩, -⟩
  iapply Hk
  have e : Scf.trips k0_t2_loop.lb k0_t2_loop.ub k0_t2_loop.st = 40 := trips2
  rw [e]
  isplitl [HE]
  · ihave HE := (Entails.of_eq (show Edges d i fs fd qs qd 40 = Still d i fs fd qs qd 40 from if_neg (by decide))) $$ HE
    iexact HE
  isplitl [Ha]; · iexact Ha
  iframe HF Hs HO

end

end Cert.Proof.Sage

end
-- ==== Proof.Tile.lean ====
/-
  The tile: its program from its operands and its scratch to its part of the result.
-/
module

public import proofs.«01_k».proof.Proof.Loops

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-- The tile that writes the words `40064 w, …`. -/
def tileOf (w : ℕ) : grid0.Coords := fun
  | 0 => (⟨w % 2, Nat.mod_lt _ (by decide)⟩ : Fin 2)
  | 1 => (⟨w / 2 % 16, Nat.mod_lt _ (by decide)⟩ : Fin 16)

theorem tileOf_tileNo (i : grid0.Coords) : tileOf (tileNo i) = i := by
  have h0 := core_lt i
  have h1 := sub_lt i
  funext a
  fin_cases a
  · apply Fin.ext; show (2 * (i 1).val + (i 0).val) % 2 = (i 0).val; omega
  · apply Fin.ext; show (2 * (i 1).val + (i 0).val) / 2 % 16 = (i 1).val; omega

/-- The words that tile number `w` writes. -/
def outSet (w : ℕ) : Finset S1282048.Idx := Finset.univ.filter fun x => (x 0).val / 40064 = w

/-- What the call leaves: each tile's accumulator, one after the other. -/
def resF (H : S10000x128.Idx → Elt F .f32) (fs fd : S320000.Idx → BitVec 32) : S1282048.Idx → Elt F .f32 := fun x =>
  endF (tileOf ((x 0).val / 40064)) H fs fd (at1 ((x 0).val % 40064) (lt_trans (Nat.mod_lt _ (by decide)) (by decide)))

variable (d : Dev nD) (i : grid0.Coords)

abbrev osem : DmaSem sig := cc0_scoped0.sem
abbrev accO : Memref sig .scVector .vmem S40064 .f32 := accV.slice (Rect.unit (s := S40192) ![0] S40064.size inb_S40192_S40064_0) (fun _ => rfl)
abbrev outO : Memref sig .scVector .hbm S40064 .f32 := outV.slice (Rect.unit (s := S1282048) (k0_off608 i) S40064.size (k0_off608_inb i)) (fun _ => rfl)
abbrev outCredit : ℕ := (outO i).view.dmaCredit

/-- The tile's program with the wait that ends it. -/
def whole : Prog (Tile F i) PUnit :=
  tile i hpV srcV dstV outV accV srcCV dstCV selSV selDV rowsV cc0_scratch6 cc0_scratch7 cc0_scoped0
    >>= fun _ => .op (.waitDma2 cc0_scoped0.sem accO (outO i) (View.wordExact_bits rfl) (View.wordExact_bits rfl)) .ret

theorem body_eq : cc0__sc_body (F := F) i hpV (Memref.isWhole_whole _) srcV (Memref.isWhole_whole _) dstV (Memref.isWhole_whole _) outV (Memref.isWhole_whole _)
    accV (Memref.isWhole_whole _) srcCV (Memref.isWhole_whole _) dstCV (Memref.isWhole_whole _) selSV (Memref.isWhole_whole _) selDV (Memref.isWhole_whole _)
    rowsV (Memref.isWhole_whole _) cc0_scratch6 cc0_scratch7 cc0_scoped0 = whole i := by
  unfold cc0__sc_body whole
  rw [tile_eq]
  rfl

section
variable (H : S10000x128.Idx → Elt F .f32) (qp : PosShare TreeShare) (fs fd : S320000.Idx → BitVec 32) (qs qd : PosShare TreeShare)

theorem out_write (fo : S1282048.Idx → Elt F .f32) (x : S1282048.Idx) (hx : x ∈ outSet (tileNo i)) :
    (outO i).view.write (Elt F) fo (accO.view.read (Elt F) (endF i H fs fd)) Finset.univ x = resF H fs fd x := by
  have hx0 : (x 0).val / 40064 = tileNo i := (Finset.mem_filter.mp hx).2
  have hy : (x 0).val % 40064 < 40064 := Nat.mod_lt _ (by decide)
  have h := View.write_emb_of_mem (v := (outO i).view) (Val := Elt F) fo (accO.view.read (Elt F) (endF i H fs fd)) (M := Finset.univ) (x := at1 ((x 0).val % 40064) hy) (Finset.mem_univ _)
  refine Eq.trans (congrArg _ ?_) (h.trans ?_)
  · funext b; apply Fin.ext
    rw [Fin.eq_zero b]
    show (x 0).val = k0_off608 i 0 + 1 * ((x 0).val % 40064)
    rw [off608_val]
    omega
  · unfold resF
    rw [hx0, tileOf_tileNo]
    refine (read_flat (Val := Elt F) (n := 40192) (m := 40064) accV.view (endF i H fs fd) ![0] inb_S40192_S40064_0 _).trans ?_
    show endF i H fs fd _ = endF i H fs fd _
    refine congrArg (endF i H fs fd) ?_
    funext b; apply Fin.ext
    show 0 + (x 0).val % 40064 = (x 0).val % 40064
    omega

/-- The copy of the accumulator out, and the wait for it. -/
theorem wp_out {Q : PUnit → sProp (MM F)} (fo : S1282048.Idx → Elt F .f32) (O : CellTallies nD τ sig (HIx 1)) (W : Waits sig (HIx 1)) :
    iprop((accV.view.loc (thr d i) ↦{fullShare} endF i H fs fd) ∗ (outV.view.loc (thr d i) ↦[outSet (tileNo i)]{fullShare} fo)
        ∗ semVal (thr d i, SemLoc.dma osem) 0 ∗ Owing d i O W ∗ Transfers.MayWaits (thr d i) (default : HIx 1) O)
      ⊢ iprop((iprop((accV.view.loc (thr d i) ↦{fullShare} endF i H fs fd) ∗ (outV.view.loc (thr d i) ↦[outSet (tileNo i)]{fullShare} resF H fs fd)
          ∗ semVal (thr d i, SemLoc.dma osem) 0 ∗ Owing d i O W) -∗ Q ⟨⟩)
        -∗ run d i (.op (.enqueueDma accO (.here (outO i)) (.dma cc0_scoped0.sem) (View.wordExact_bits rfl) (View.wordExact_bits rfl) ⟨Or.inl rfl, trivial⟩)
            fun _ => .op (.waitDma2 cc0_scoped0.sem accO (outO i) (View.wordExact_bits rfl) (View.wordExact_bits rfl)) .ret) Q) := by
  unfold run
  iintro ⟨Ha, Ho, Hv, HO, #Hmw⟩ Hk
  iapply (Transfers.wp_dmaFromWhole countersEmb 𝒱₀ (thr d i) none (default : HIx 1) (outCredit i) (Sd := outSet (tileNo i)) (by rfl) (show 0 < (main_v0_scv : Ref sig .scVector).dmaCredit S40064 .f32 by decide) (by
    intro x hx
    obtain ⟨y, -, rfl⟩ := Finset.mem_map.mp hx
    refine Finset.mem_filter.mpr ⟨Finset.mem_univ _, ?_⟩
    have hy : (y 0).val < 40064 := (y 0).isLt
    show (k0_off608 i 0 + 1 * (y 0).val) / 40064 = tileNo i
    rw [off608_val]; omega)) $$ [Ha Ho Hv]
  · isplitl [Ha]; · iexact Ha
    isplitl [Ho]; · iexact Ho
    iexact Hv
  iintro Hf
  iapply (wp_wait d i (k := fun x => .ret x) (dstw := outO i) rfl O W) $$ [Hf HO]
  · iframe Hf HO Hmw
  iintro ⟨⟨Ho, Ha⟩, Hv, HO⟩
  simp only [run, wp_ret]
  imodintro
  iapply Hk
  isplitl [Ha]; · iexact Ha
  isplitl [Ho]
  · ihave Ho := (Entails.of_eq (pointsTo_congr (g := resF H fs fd) (out_write i H fs fd fo))) $$ Ho
    iexact Ho
  iframe Hv HO

/-- What the tile holds of its own: its scratch, at whatever contents, and its semaphores at zero. -/
def Scratch : sProp (MM F) :=
  iprop(((∃ f : S40192.Idx → Elt F .f32, (accV.view.loc (thr d i) ↦{fullShare} f))
      ∗ (∃ f : S16000.Idx → BitVec 32, (srcCV.view.loc (thr d i) ↦{fullShare} f))
      ∗ (∃ f : S16000.Idx → BitVec 32, (dstCV.view.loc (thr d i) ↦{fullShare} f))
      ∗ (∃ f : S8032.Idx → BitVec 32, (selSV.view.loc (thr d i) ↦{fullShare} f))
      ∗ (∃ f : S8032.Idx → BitVec 32, (selDV.view.loc (thr d i) ↦{fullShare} f))
      ∗ (∃ f : S4x32x128.Idx → Elt F .f32, (rowsV.view.loc (thr d i) ↦{fullShare} f)))
    ∗ (semVal (thr d i, SemLoc.dma (gs 0)) 0 ∗ semVal (thr d i, SemLoc.dma (gs 1)) 0 ∗ semVal (thr d i, SemLoc.dma (gs 2)) 0 ∗ semVal (thr d i, SemLoc.dma (gs 3)) 0
      ∗ semVal (thr d i, SemLoc.dma cs0) 0 ∗ semVal (thr d i, SemLoc.dma cs1) 0 ∗ semVal (thr d i, SemLoc.dma osem) 0))

/-- The tile's operands: shares of what it reads, and its part of the result. -/
def Ops (fo : S1282048.Idx → Elt F .f32) : sProp (MM F) :=
  iprop((hpV.view.loc (thr d i) ↦{qp} H) ∗ (srcV.view.loc (thr d i) ↦{qs} fs) ∗ (dstV.view.loc (thr d i) ↦{qd} fd)
    ∗ (outV.view.loc (thr d i) ↦[outSet (tileNo i)]{fullShare} fo))

theorem wp_tile (fo : S1282048.Idx → Elt F .f32) (hss : ∀ x, (fs x).toNat < 10000) (hds : ∀ x, (fd x).toNat < 10000) (O : CellTallies nD τ sig (HIx 1)) (W : Waits sig (HIx 1)) :
    iprop(Ops d i H qp fs fd qs qd fo ∗ Scratch d i ∗ owes (thr d i) O W ∗ Transfers.MayWaits (thr d i) (default : HIx 1) O)
      ⊢ run d i (whole i) fun _ => iprop(Ops d i H qp fs fd qs qd (resF H fs fd) ∗ Scratch d i ∗ Owing d i O W) := by
  unfold Ops Scratch whole tile
  simp only [Prog.bind_assoc]
  iintro ⟨⟨Hhp, Hsrc, Hdst, Hout⟩, ⟨⟨⟨%fa, Ha⟩, ⟨%f1, H1⟩, ⟨%f2, H2⟩, ⟨%f3, H3⟩, ⟨%f4, H4⟩, ⟨%f5, H5⟩⟩, V0, V1, V2, V3, C0, C1, VO⟩, HO, #Hmw⟩
  -- the accumulator cleared
  iapply (wp_clear d i fa) $$ Ha
  iintro %v Ha
  -- the first chunk's copies
  have hp2 : ∀ x : S16000.Idx, (x 0).val / 8000 < 2 := fun x => by have : (x 0).val < 16000 := (x 0).isLt; omega
  ihave H1 := (Entails.of_eq (halves_split (ℓ := srcCV.view.loc (thr d i)) (fun x : S16000.Idx => (x 0).val / 8000) hp2 f1)) $$ H1
  icases H1 with ⟨H10, H11⟩
  ihave H2 := (Entails.of_eq (halves_split (ℓ := dstCV.view.loc (thr d i)) (fun x : S16000.Idx => (x 0).val / 8000) hp2 f2)) $$ H2
  icases H2 with ⟨H20, H21⟩
  iapply (wp_fetchS d i fs qs 0 (by decide) ![0] inb_S320000_S8000_0 ![0] inb_S16000_S8000_0 rfl rfl) $$ [Hsrc H10 C0]
  · isplitl [Hsrc]; · iexact Hsrc
    isplitl [H10]; · unfold HalfS; iexists f1; iexact H10
    iexact C0
  iintro FS
  iapply (wp_fetchD d i fd qd 0 (by decide) ![0] inb_S320000_S8000_0 ![0] inb_S16000_S8000_0 rfl rfl) $$ [Hdst H20 C1]
  · isplitl [Hdst]; · iexact Hdst
    isplitl [H20]; · unfold HalfD; iexists f2; iexact H20
    iexact C1
  iintro FD
  -- the chunks
  ihave Hhp := (Entails.of_eq (pts_four (ℓ := hpV.view.loc (thr d i)) H qp)) $$ Hhp
  icases Hhp with ⟨P0, P1, P2, P3⟩
  have hp4 : ∀ x : S4x32x128.Idx, (x 0).val < 4 := fun x => (x 0).isLt
  ihave H5 := (Entails.of_eq (slots_split (ℓ := rowsV.view.loc (thr d i)) (fun x : S4x32x128.Idx => (x 0).val) hp4 f5)) $$ H5
  icases H5 with ⟨R0, R1, R2, R3⟩
  iapply (wp_chunks d i H (fun p => ShareLeaves.leaf 2 qp p) fs fd qs qd hss hds O W) $$ [FS FD H11 H21 Ha H3 H4 P0 P1 P2 P3 R0 R1 R2 R3 V0 V1 V2 V3 HO]
  · isplitl [FS FD H11 H21]
    · unfold Moving
      isplitl [FS H11]
      · isplitl [FS]; · iexact FS
        unfold HalfS; iexists f1; iexact H11
      · isplitl [FD]; · iexact FD
        unfold HalfD; iexists f2; iexact H21
    isplitl [Ha]; · iexact Ha
    isplitl [H3 H4]; · unfold Free; iexists f3; iexists f4; iframe H3 H4
    isplitl [P0 P1 P2 P3 R0 R1 R2 R3 V0 V1 V2 V3]
    · unfold Slots Slot
      isplitl [P0 R0 V0]
      · isplitl [R0]; · iexists f5; iexact R0
        iframe P0 V0
      isplitl [P1 R1 V1]
      · isplitl [R1]; · iexists f5; iexact R1
        iframe P1 V1
      isplitl [P2 R2 V2]
      · isplitl [R2]; · iexists f5; iexact R2
        iframe P2 V2
      · isplitl [R3]; · iexists f5; iexact R3
        iframe P3 V3
    isplitl [HO]
    · unfold Owing
      iexists W
      isplitr
      · ipureintro; exact fun p hp => .inl hp
      iexact HO
    iexact Hmw
  iintro %v' ⟨HE, Ha, HF, HS, HO⟩
  -- the accumulator out
  unfold Still Free Slots Slot HalfS HalfD
  icases HE with ⟨⟨Hsrc, H10, H11, C0⟩, Hdst, H20, H21, C1⟩
  icases HF with ⟨%g3, %g4, H3, H4⟩
  icases HS with ⟨⟨R0, P0, V0⟩, ⟨R1, P1, V1⟩, ⟨R2, P2, V2⟩, R3, P3, V3⟩
  simp only [Prog.lift, op_bind, ret_bind, pure_eq]
  iapply (wp_out d i H fs fd fo O W) $$ [Ha Hout VO HO]
  · iframe Ha Hout VO HO Hmw
  iintro ⟨Ha, Hout, VO, HO⟩
  ihave Hhp := (Entails.of_eq (pts_four (ℓ := hpV.view.loc (thr d i)) H qp).symm) $$ [P0 P1 P2 P3]
  · iframe P0 P1 P2 P3
  ihave H1 := (halves_join (ℓ := srcCV.view.loc (thr d i)) (fun x : S16000.Idx => (x 0).val / 8000) hp2) $$ [H10 H11]
  · isplitl [H10]; · iexact H10
    iexact H11
  ihave H2 := (halves_join (ℓ := dstCV.view.loc (thr d i)) (fun x : S16000.Idx => (x 0).val / 8000) hp2) $$ [H20 H21]
  · isplitl [H20]; · iexact H20
    iexact H21
  ihave H5 := (slots_join (ℓ := rowsV.view.loc (thr d i)) (fun x : S4x32x128.Idx => (x 0).val) hp4) $$ [R0 R1 R2 R3]
  · isplitl [R0]; · iexact R0
    isplitl [R1]; · iexact R1
    isplitl [R2]; · iexact R2
    iexact R3
  isplitl [Hhp Hsrc Hdst Hout]
  · iframe Hhp Hsrc Hdst Hout
  isplitr [HO]
  · isplitl [Ha H1 H2 H3 H4 H5]
    · isplitl [Ha]; · iexists _; iexact Ha
      isplitl [H1]; · iexact H1
      isplitl [H2]; · iexact H2
      isplitl [H3]; · iexists g3; iexact H3
      isplitl [H4]; · iexists g4; iexact H4
      iexact H5
    iframe V0 V1 V2 V3 C0 C1 VO
  iexact HO

end

end Cert.Proof.Sage

end
-- ==== Proof.Launch.lean ====
/-
  The call on its thirty-two tiles: what each is given and gives back.
-/
module

public import proofs.«01_k».proof.Proof.Tile
public import Idealize.ShloMosaic.Lib.SparseCore.Quiescent
public import Idealize.ShloMosaic.Lib.SparseCore.Ops
public import Idealize.ShloMosaic.Lib.StableHlo.Run
public import Idealize.ShloMosaic.Lib.Pipeline.Kit
public import proofs.«01_k».proof.Proof.Gen.KernelIdeal

@[expose] public section

noncomputable section

namespace Cert.Proof.Sage

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MM F) := embL

variable (m : (ℓ : Loc nD τ sig) → Buf (Elt F) ℓ) (ρ : Dev nD → PrngReg)

abbrev hLoc (d : Dev nD) : Loc nD τ sig := (SparseCore.T d).loc main_arg0
abbrev sLoc (d : Dev nD) : Loc nD τ sig := (SparseCore.T d).loc main_arg1
abbrev dLoc (d : Dev nD) : Loc nD τ sig := (SparseCore.T d).loc main_arg2
abbrev oLoc (d : Dev nD) : Loc nD τ sig := (SparseCore.T d).loc main_v0
abbrev yLoc (d : Dev nD) : Loc nD τ sig := (SparseCore.T d).loc main_v1
abbrev zLoc (d : Dev nD) : Loc nD τ sig := (SparseCore.T d).loc main_v2

variable [FloatOps F]

/-- What the call leaves in its result. -/
def flat (d : Dev nD) : S1282048.Idx → Elt F .f32 := resF (m (hLoc d)) (m (sLoc d)) (m (dLoc d))

/-- The share of the operands that tile number `w` reads. -/
abbrev qw (w : Fin 32) : PosShare TreeShare := ShareLeaves.leaf 5 fullShare w

/-- What tile number `w` is given and gives back. -/
def Tk (d : Dev nD) (w : Fin 32) (f : S1282048.Idx → Elt F .f32) : sProp (MM F) :=
  iprop((hLoc d ↦{qw w} m (hLoc d)) ∗ (sLoc d ↦{qw w} m (sLoc d)) ∗ (dLoc d ↦{qw w} m (dLoc d)) ∗ (oLoc d ↦[outSet w.val]{fullShare} f))

/-- The number of tile `s` of SparseCore `c`. -/
def num (c : Fin 2) (s : Fin 16) : Fin 32 := ⟨2 * s.val + c.val, by omega⟩

instance Tk_storable (d : Dev nD) (w : Fin 32) (f : S1282048.Idx → Elt F .f32) : BI.Storable (upEmb : UEmb _ (MM F)) (Tk m d w f) := by
  unfold Tk; infer_instance

def P : (K (F := F)).Pay (nD := nD) (Val := Elt F) (Name := ℕ) (U := UU) where
  st := fun q d c => match q with | 0 => bigSep Finset.univ fun s : Fin 16 => Tk m d (num (Fin.cast nCore_zero c) s) (m (oLoc d))
  dn := fun q d c => match q with | 0 => bigSep Finset.univ fun s : Fin 16 => Tk m d (num (Fin.cast nCore_zero c) s) (flat m d)
  go := fun q d c s => match q with | 0 => Tk m d (num (Fin.cast nCore_zero c) (Fin.cast nSub_zero s)) (m (oLoc d))
  td := fun q d c s => match q with | 0 => Tk m d (num (Fin.cast nCore_zero c) (Fin.cast nSub_zero s)) (flat m d)
  x := fun _ _ => iprop(emp)

instance P_storable : (P (F := F) m).IsStorable where
  st q d c := match q with
    | 0 => (inferInstance : BI.Storable (upEmb : UEmb _ (MM F)) (bigSep Finset.univ fun s : Fin 16 => Tk m d (num (Fin.cast nCore_zero c) s) (m (oLoc d))))
  dn q d c := match q with
    | 0 => (inferInstance : BI.Storable (upEmb : UEmb _ (MM F)) (bigSep Finset.univ fun s : Fin 16 => Tk m d (num (Fin.cast nCore_zero c) s) (flat m d)))
  go q d c s := match q with
    | 0 => (inferInstance : BI.Storable (upEmb : UEmb _ (MM F)) (Tk m d (num (Fin.cast nCore_zero c) (Fin.cast nSub_zero s)) (m (oLoc d))))
  td q d c s := match q with
    | 0 => (inferInstance : BI.Storable (upEmb : UEmb _ (MM F)) (Tk m d (num (Fin.cast nCore_zero c) (Fin.cast nSub_zero s)) (flat m d)))

/-- What the proof asks of the launch memory: the edges name nodes. -/
def PreOK : Prop := ∀ d : Dev nD, (∀ x : S320000.Idx, (m (sLoc d) x).toNat < 10000) ∧ ∀ x : S320000.Idx, (m (dLoc d) x).toNat < 10000

section Tile

variable (d : Dev nD) (i : grid0.Coords)

theorem cells_scoped : ∀ p : Fin 7, (SemLoc.dma p : SemLoc sig).isScoped .scVector = true := by decide

/-- The tile's buffers, by number. -/
abbrev bufRef : Fin 6 → Ref sig .scVector := ![cc0_scratch0, cc0_scratch1, cc0_scratch2, cc0_scratch3, cc0_scratch4, cc0_scratch5]

theorem bufRef_inj : Function.Injective bufRef := by
  have : ∀ p q : Fin 6, bufRef p = bufRef q → p = q := by decide
  exact fun p q h => this p q h

/-- Semaphore `p` of the tile. -/
abbrev cell (p : Fin 7) : GSem nD τ sig := (thr d i, SemLoc.dma p)

theorem cell_inj : Function.Injective (cell d i) := fun p q h => by
  have := congrArg Prod.snd h
  exact SemLoc.dma.inj this

omit [FloatOps F] in
theorem ownSems0_V : (ownSems0 (thr d i) : sProp (MM F))
    = iprop((semVal (thr d i, SemLoc.dma (gs 0)) 0 ∗ semVal (thr d i, SemLoc.dma (gs 1)) 0 ∗ semVal (thr d i, SemLoc.dma (gs 2)) 0 ∗ semVal (thr d i, SemLoc.dma (gs 3)) 0
      ∗ semVal (thr d i, SemLoc.dma cs0) 0 ∗ semVal (thr d i, SemLoc.dma cs1) 0 ∗ semVal (thr d i, SemLoc.dma osem) 0)
      ∗ bigSep (ownCells (thr d i) \ Finset.univ.map ⟨cell d i, cell_inj d i⟩) fun g => semVal g 0) := by
  unfold SparseCore.Cfg.ownSems0
  have hs : Finset.univ.map ⟨cell d i, cell_inj d i⟩ ⊆ ownCells (thr d i) := by
    intro g hg
    obtain ⟨p, -, rfl⟩ := Finset.mem_map.mp hg
    refine (mem_ownCells (g := cell d i p)).mpr ⟨rfl, ?_⟩
    show (SemLoc.dma p : SemLoc sig).isScoped .scVector = true
    exact cells_scoped p
  conv_lhs => rw [← Finset.union_sdiff_of_subset hs]
  refine (bigSep_union Finset.disjoint_sdiff).trans (congrArg (fun A => BI.sep A _) ?_)
  rw [bigSep_map, show (Finset.univ : Finset (Fin 7)) = {0, 1, 2, 3, 4, 5, 6} from by decide, bigSep_insert (by decide), bigSep_insert (by decide), bigSep_insert (by decide),
    bigSep_insert (by decide), bigSep_insert (by decide), bigSep_insert (by decide), bigSep_singleton]
  rfl

/-- Buffer `p` of the tile. -/
abbrev scr (p : Fin 6) : DevRef τ sig := (Proc.scVector (cV i) (jV i)).devRef
  (bufRef p)

theorem scr_inj : Function.Injective (scr i) := fun p q h => bufRef_inj (Proc.devRef_injective _ h)

omit [FloatOps F] in
theorem ownBufs_V : (ownBufs (thr d i) : sProp (MM F))
    = iprop(((∃ f : S40192.Idx → Elt F .f32, (accV.view.loc (thr d i) ↦{fullShare} f))
      ∗ (∃ f : S16000.Idx → BitVec 32, (srcCV.view.loc (thr d i) ↦{fullShare} f))
      ∗ (∃ f : S16000.Idx → BitVec 32, (dstCV.view.loc (thr d i) ↦{fullShare} f))
      ∗ (∃ f : S8032.Idx → BitVec 32, (selSV.view.loc (thr d i) ↦{fullShare} f))
      ∗ (∃ f : S8032.Idx → BitVec 32, (selDV.view.loc (thr d i) ↦{fullShare} f))
      ∗ (∃ f : S4x32x128.Idx → Elt F .f32, (rowsV.view.loc (thr d i) ↦{fullShare} f)))
      ∗ bigSep (ownRefs (τ := τ) (.scVector (cV i) (jV i)) \ Finset.univ.map ⟨scr i, scr_inj i⟩) fun b => iprop(∃ f, ((d, b) : Loc nD τ sig) ↦{fullShare} f)) := by
  unfold SparseCore.Cfg.ownBufs
  have hs : Finset.univ.map ⟨scr i, scr_inj i⟩ ⊆ ownRefs (τ := τ) (.scVector (cV i) (jV i)) := by
    intro g hg
    obtain ⟨p, -, rfl⟩ := Finset.mem_map.mp hg
    refine SparseCore.Cfg.mem_ownRefs_of_owner (p := Proc.scVector (cV i) (jV i)) (b := scr i p) ?_
    fin_cases p <;> rfl
  show bigSep (ownRefs (τ := τ) (.scVector (cV i) (jV i))) _ = _
  conv_lhs => rw [← Finset.union_sdiff_of_subset hs]
  refine (bigSep_union Finset.disjoint_sdiff).trans (congrArg (fun A => BI.sep A _) ?_)
  rw [bigSep_map, show (Finset.univ : Finset (Fin 6)) = {0, 1, 2, 3, 4, 5} from by decide, bigSep_insert (by decide), bigSep_insert (by decide), bigSep_insert (by decide),
    bigSep_insert (by decide), bigSep_insert (by decide), bigSep_singleton]
  rfl

theorem tile_body (c : Fin 2) (s : Fin 16) (h0 : (i 0).val = c.val) (h1 : (i 1).val = s.val) (hF : (K (F := F)).Facts) (hpre : PreOK m) (O : CellTallies nD τ sig (HIx 1)) (W : Waits sig (HIx 1)) (hO : ∀ g, O g none = 0) :
    iprop(levAts (K (F := F)).L (K (F := F)).lev ∗ emp ∗ Tk m d (num c s) (m (oLoc d))
        ∗ scopedBufs (thr d i) ∗ scopedSems0 (thr d i) ∗ owes (thr d i) O W)
      ⊢ wp frame (wpE (defs₀ (F := F)) 𝒱₀ (thr d i) none) Set.univ
          (cc0__sc_body (F := F) i hpV (Memref.isWhole_whole _) srcV (Memref.isWhole_whole _) dstV (Memref.isWhole_whole _) outV (Memref.isWhole_whole _)
            accV (Memref.isWhole_whole _) srcCV (Memref.isWhole_whole _) dstCV (Memref.isWhole_whole _) selSV (Memref.isWhole_whole _) selDV (Memref.isWhole_whole _)
            rowsV (Memref.isWhole_whole _) cc0_scratch6 cc0_scratch7 cc0_scoped0)
          fun _ => iprop(Tk m d (num c s) (flat m d)
            ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d (cV i) (jV i), SparseCore.Cfg.scopedSems0_V (Val := Elt F) d (cV i) (jV i), ownSems0_V, ownBufs_V]
  have en : (num c s).val = tileNo i := by unfold num tileNo; rw [h0, h1]
  have eT : ∀ f, Tk m d (num c s) f = Ops d i (m (hLoc d)) (qw (num c s)) (m (sLoc d)) (m (dLoc d)) (qw (num c s)) (qw (num c s)) f := by
    intro f; unfold Tk Ops; rw [en]
  rw [eT, eT]
  iintro ⟨#Hlv, -, HT, ⟨Hb, Hbufs⟩, ⟨Hs, Hsems⟩, HO⟩
  ihave Hmw := (show levAts (K (F := F)).L (K (F := F)).lev ⊢ Transfers.MayWaits (thr d i) (default : HIx 1) O from
    (K (F := F)).mayWaits_none (thr := thr d i) hO) $$ Hlv
  iapply (wp_wand frame _ _ ) $$ [HT Hb Hs HO]
  · iapply (wp_tile d i (m (hLoc d)) (qw (num c s)) (m (sLoc d)) (m (dLoc d)) (qw (num c s)) (qw (num c s)) (m (oLoc d)) (hpre d).1 (hpre d).2 O W) $$ [HT Hb Hs HO]
    unfold Scratch
    iframe HT Hb Hs HO Hmw
  unfold Scratch Owing
  iintro %v ⟨HT, ⟨Hb, Hs⟩, HO⟩
  isplitl [HT]; · iexact HT
  isplitl [Hb Hbufs]; · iframe Hb Hbufs
  isplitl [Hs Hsems]; · iframe Hs Hsems
  iexact HO

end Tile

end Cert.Proof.Sage

end
-- ==== Proof.Main.lean ====
/-
  The whole program's run: the call between the arrays and the two host operations after it.
-/
module

public import proofs.«01_k».proof.Proof.Launch

@[expose] public section

noncomputable section

namespace Cert.Proof.Sage

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.StableHlo (held wp_hlo_within)
variable (m : (ℓ : Loc nD τ sig) → Buf (Elt F) ℓ) (ρ : Dev nD → PrngReg)

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (F := F) (coordsV c s)
          hpV (Memref.isWhole_whole _) srcV (Memref.isWhole_whole _) dstV (Memref.isWhole_whole _) outV (Memref.isWhole_whole _)
          accV (Memref.isWhole_whole _) srcCV (Memref.isWhole_whole _) dstCV (Memref.isWhole_whole _) selSV (Memref.isWhole_whole _) selDV (Memref.isWhole_whole _)
          rowsV (Memref.isWhole_whole _) cc0_scratch6 cc0_scratch7 cc0_scoped0) ⟨⟩ c s := rfl

omit [FloatOps F] in
/-- What a tile leaves of its waits, weakened to what the launch asks. -/
theorem left_waits {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  iframe HA HB HC
  iexists W'
  isplitr
  · ipureintro; exact fun p hp => (h p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) (Fin.cast nCore_zero c) (Fin.cast nSub_zero i) rfl rfl facts hpre O W hO).trans
    (wp_mono frame _ _ fun _ => left_waits)

/-- A SparseCore is given exactly what its tiles are. -/
theorem vecSplit : (K (F := F)).VecSplit' (P m) 0 := by
  intro d c
  show iprop(bigSep Finset.univ fun s : Fin 16 => Tk m d (num (Fin.cast nCore_zero c) s) (m (oLoc d)))
    ⊢ |={Set.univ}=> iprop((bigSep Finset.univ fun s : Fin 16 => Tk m d (num (Fin.cast nCore_zero c) s) (m (oLoc d)))
      ∗ ((bigSep Finset.univ fun s : Fin 16 => Tk m d (num (Fin.cast nCore_zero c) s) (flat m d))
        -∗ (bigSep Finset.univ fun s : Fin 16 => Tk m d (num (Fin.cast nCore_zero c) s) (flat m d))))
  iintro H
  imodintro
  isplitl [H]; · iexact H
  iintro H; iexact H

/-! ## The arrays, tile by tile -/

/-- The call's arrays, its result at `f`. -/
def Arr (d : Dev nD) (f : S1282048.Idx → Elt F .f32) : sProp (MM F) :=
  iprop((hLoc d ↦{fullShare} m (hLoc d)) ∗ (sLoc d ↦{fullShare} m (sLoc d)) ∗ (dLoc d ↦{fullShare} m (dLoc d)) ∗ (oLoc d ↦{fullShare} f))

theorem tiles_lt (x : S1282048.Idx) : (x 0).val / 40064 < 32 := by
  have h : (x 0).val < 1282048 := (x 0).isLt
  omega

theorem shares (ℓ : Loc nD τ sig) (f : Buf (Elt F) ℓ) : (ℓ ↦{fullShare} f : sProp (MM F)) = bigSep Finset.univ fun w : Fin 32 => ℓ ↦{qw w} f :=
  ShareLeaves.pointsTo_leaves Finset.univ f 5 fullShare

theorem arr_tiles (d : Dev nD) (f : S1282048.Idx → Elt F .f32) :
    Arr m d f = bigSep Finset.univ fun c : Fin 2 => bigSep Finset.univ fun s : Fin 16 => Tk m d (num c s) f := by
  have e : Arr m d f = bigSep Finset.univ fun w : Fin 32 => Tk m d w f := by
    unfold Arr Tk
    rw [bigSep_sep', bigSep_sep', bigSep_sep', ← shares (hLoc d), ← shares (sLoc d), ← shares (dLoc d),
      split_parts (ℓ := oLoc d) (fun w : Fin 32 => outSet w.val) (fibres_disjoint fun x : S1282048.Idx => (x 0).val / 40064)
        (fibres_cover (fun x : S1282048.Idx => (x 0).val / 40064) tiles_lt) fullShare f]
  rw [e, bigSep_univ_equiv ((Equiv.prodComm (Fin 2) (Fin 16)).trans (finProdFinEquiv : Fin 16 × Fin 2 ≃ Fin 32)), bigSep_univ_prod]
  refine bigSep_congr fun c _ => bigSep_congr fun s _ => ?_
  refine congrArg (fun w => Tk m d w f) (Fin.ext ?_)
  show c.val + 2 * s.val = 2 * s.val + c.val
  omega

/-! ## The launch state -/

def u₀ : UU := (initOf (K (F := F)).hsCells (K (F := F)).hsToks, 1)

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [show (bigSep Finset.univ fun _ : Dev nD => iprop(emp)) = (iprop(emp) : sProp (MM F)) from bigSep_emp_const _]; iempintro
  rw [show (bigSep Finset.univ fun t : Thread nD τ => bigSep Finset.univ fun q : Fin 1 => (P (F := F) m).x q t) = iprop(emp) from
    (bigSep_congr fun _ _ => bigSep_univ_of_subsingleton (0 : Fin 1)).trans (bigSep_emp_const _)]
  iempintro

/-! ## The whole program -/

abbrev h' : DevRef τ sig := Proc.devRef .tc (main_arg0 : Ref sig .tc)
abbrev s' : DevRef τ sig := Proc.devRef .tc (main_arg1 : Ref sig .tc)
abbrev d' : DevRef τ sig := Proc.devRef .tc (main_arg2 : Ref sig .tc)
abbrev o' : DevRef τ sig := Proc.devRef .tc (main_v0 : Ref sig .tc)
abbrev y' : DevRef τ sig := Proc.devRef .tc (main_v1 : Ref sig .tc)
abbrev z' : DevRef τ sig := Proc.devRef .tc (main_v2 : Ref sig .tc)

/-- The two operations after the call. -/
abbrev opY : HloOp τ sig (Elt F) := StableHlo.reshape main_v0 main_v1 (rfl : (.f32 : EltTy) = .f32) shapeCasts_S1282048_S10016x128
abbrev opZ : HloOp τ sig (Elt F) := StableHlo.unary main_v1 main_v2
  ((extractStridedSlice S10000x128 ![0, 0] · slices_S10016x128_S10000x128_0_0) : (⟨S10016x128, .f32⟩ : BufTy).Contents (Elt F) → (⟨S10000x128, .f32⟩ : BufTy).Contents (Elt F))

abbrev S6 : Finset (DevRef τ sig) := {h', s', d', o', y', z'}

theorem held_S6 (d : Dev nD) (W : Valuation τ sig (Elt F)) :
    (held (T d) S6 W : sProp (MM F))
      = iprop((hLoc d ↦{fullShare} W h') ∗ (sLoc d ↦{fullShare} W s') ∗ (dLoc d ↦{fullShare} W d')
          ∗ (oLoc d ↦{fullShare} W o') ∗ (yLoc d ↦{fullShare} W y') ∗ (zLoc d ↦{fullShare} W z')) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp (MM F))
      = iprop((hLoc d ↦{fullShare} W main_arg0) ∗ (sLoc d ↦{fullShare} W main_arg1) ∗ (dLoc d ↦{fullShare} W main_arg2)
          ∗ (oLoc d ↦{fullShare} W main_v0) ∗ (yLoc d ↦{fullShare} W main_v1) ∗ (zLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays after the call. -/
def V1 (d : Dev nD) : Valuation τ sig (Elt F) := Function.update (fun b => m (d, b)) o' (flat m d)
theorem V1_h (d : Dev nD) : V1 m d h' = m (hLoc d) := Function.update_of_ne (show h' ≠ o' by decide) _ _
theorem V1_s (d : Dev nD) : V1 m d s' = m (sLoc d) := Function.update_of_ne (show s' ≠ o' by decide) _ _
theorem V1_d (d : Dev nD) : V1 m d d' = m (dLoc d) := Function.update_of_ne (show d' ≠ o' by decide) _ _
theorem V1_y (d : Dev nD) : V1 m d y' = m (yLoc d) := Function.update_of_ne (show y' ≠ o' by decide) _ _
theorem V1_z (d : Dev nD) : V1 m d z' = m (zLoc d) := Function.update_of_ne (show z' ≠ o' by decide) _ _
theorem V1_o (d : Dev nD) : V1 m d o' = flat m d := Function.update_self _ _ _

/-- What the program returns. -/
def out (d : Dev nD) : S10000x128.Idx → Elt F .f32 :=
  extractStridedSlice S10000x128 ![0, 0] (shapeCast S10016x128 (flat m d) shapeCasts_S1282048_S10016x128) slices_S10016x128_S10000x128_0_0

abbrev V2 (d : Dev nD) : Valuation τ sig (Elt F) := (opY (F := F)).result (V1 m d)
abbrev V3 (d : Dev nD) : Valuation τ sig (Elt F) := (opZ (F := F)).result (V2 m d)

theorem V2_y (d : Dev nD) : V2 m d y' = shapeCast S10016x128 (flat m d) shapeCasts_S1282048_S10016x128 :=
  (StableHlo.reshape_result' _ _ _ _ _).trans (by rw [V1_o]; rfl)
theorem V3_z (d : Dev nD) : V3 m d z' = out m d := (StableHlo.unary_result _ _ _ _ _ _).trans (by rw [V2_y]; rfl)
theorem V3_of (d : Dev nD) {b : DevRef τ sig} (hy : b ∉ ({y'} : Finset (DevRef τ sig))) (hz : b ∉ ({z'} : Finset (DevRef τ sig))) : V3 m d b = V1 m d b :=
  ((opZ (F := F)).result_of_not_mem _ hz).trans ((opY (F := F)).result_of_not_mem _ hy)

theorem hY : (opY (F := F)).bufs ⊆ S6 := show ({o', y'} : Finset (DevRef τ sig)) ⊆ S6 by decide
theorem hZ : (opZ (F := F)).bufs ⊆ S6 := show ({y', z'} : Finset (DevRef τ sig)) ⊆ S6 by decide

/-- What the claims read at the end. -/
abbrev FIN (d : Dev nD) : sProp (MM F) :=
  iprop((hLoc d ↦{fullShare} m (hLoc d)) ∗ (sLoc d ↦{fullShare} m (sLoc d)) ∗ (dLoc d ↦{fullShare} m (dLoc d)) ∗ (zLoc d ↦{fullShare} out m d))

theorem held_V3 (d : Dev nD) : (held (T d) S6 (V3 m d) : sProp (MM F))
    = iprop((hLoc d ↦{fullShare} m (hLoc d)) ∗ (sLoc d ↦{fullShare} m (sLoc d)) ∗ (dLoc d ↦{fullShare} m (dLoc d))
        ∗ (oLoc d ↦{fullShare} V3 m d o') ∗ (yLoc d ↦{fullShare} V3 m d y') ∗ (zLoc d ↦{fullShare} out m d)) := by
  rw [held_S6, V3_z, V3_of m d (b := h') (by decide) (by decide), V3_of m d (b := s') (by decide) (by decide), V3_of m d (b := d') (by decide) (by decide),
    V1_h, V1_s, V1_d]

theorem st0_eq (d : Dev nD) : (bigSep Finset.univ fun c : Fin ((K (F := F)).nCore 0) => (P m).st 0 d c) = Arr m d (m (oLoc d)) := (arr_tiles m d _).symm
theorem dn0_eq (d : Dev nD) : (bigSep Finset.univ fun c : Fin ((K (F := F)).nCore 0) => (P m).dn 0 d c) = Arr m d (flat m d) := (arr_tiles m d _).symm

/-- The program on the TensorCore: the call, the reshape, the slice. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hh, Hs, Hd, Ho, Hy, Hz⟩, Hts, -⟩, -⟩
  iapply ((K (F := F)).wp_run (D (F := F)) 𝒱 (EH := EH) (P := P m) κ d 0) $$ [Hst Hh Hs Hd Ho Hb Hy Hz Hts]
  isplitr; · iexact Hctx
  isplitl [Hst]; · iexact Hst
  isplitl [Hh Hs Hd Ho]
  · rw [st0_eq]; unfold Arr
    iframe Hh Hs Hd Ho
  iintro ⟨Hst, Hdn⟩
  ihave Hdn' := (Entails.of_eq ((dn0_eq m d).trans (by unfold Arr; rfl))) $$ Hdn
  icases Hdn' with ⟨Hh, Hs, Hd, Ho⟩
  iapply (wp_hlo_within 𝒱 (SparseCore.T d) none Set.univ (op := opY) (S := S6) hY (V := V1 m d)) $$ [Hb Hh Hs Hd Ho Hy Hz]
  · isplitl [Hb]; · iexact Hb
    rw [held_S6, V1_h, V1_s, V1_d, V1_o, V1_y, V1_z]
    iframe Hh Hs Hd Ho Hy Hz
  iintro ⟨Hb, Hheld⟩
  rw [wp_ret]; imodintro
  iapply (wp_hlo_within 𝒱 (SparseCore.T d) none Set.univ (op := opZ) (S := S6) hZ (V := V2 m d)) $$ [Hb Hheld]
  · isplitl [Hb] <;> iassumption
  iintro ⟨Hb, Hheld⟩
  ihave Hh := (Entails.of_eq (held_V3 m d)) $$ Hheld
  icases Hh with ⟨Hh, Hs, Hd, -, -, Hz⟩
  rw [wp_ret]; imodintro; imodintro
  iframe Hst
  isplitr [Hb Hts]
  · iframe Hh Hs Hd Hz
  isplitl [Hb] <;> iassumption

def fq (d : Dev nD) (p : Phys nD τ sig (Elt F)) : Prop :=
  (p.mem.mem (hLoc d) = m (hLoc d) ∧ p.mem.mem (sLoc d) = m (sLoc d) ∧ p.mem.mem (dLoc d) = m (dLoc d)) ∧ p.mem.mem (zLoc d) = out m d

theorem agree {p : Phys nD τ sig (Elt F)} {ℓ : Loc nD τ sig} {f : Buf (Elt F) ℓ} :
    iprop(SI p ∗ (ℓ ↦{fullShare} f)) ⊢ (iprop(SI p ∗ ⌜p.mem.mem ℓ = f⌝) : sProp (MM F)) := by
  iintro ⟨HSI, H⟩
  ihave H := (persistent_entails_right (SI_pointsTo_agree (st := p) (ℓ := ℓ) (I := Finset.univ) (q := fullShare) (f := f))) $$ [HSI H]
  · isplitl [HSI] <;> iassumption
  icases H with ⟨%h, HSI, -⟩
  isplitl [HSI]; · iexact HSI
  ipureintro; exact funext fun i => h i (Finset.mem_univ i)

theorem hfin (d : Dev nD) (p : Phys nD τ sig (Elt F)) : iprop(FIN m d ∗ SI p) ⊢ (⌜fq m d p⌝ : sProp (MM F)) := by
  iintro ⟨⟨Hh, Hs, Hd, Hz⟩, HSI⟩
  ihave H := (agree (p := p) (ℓ := hLoc d) (f := m (hLoc d))) $$ [HSI Hh]
  · iframe HSI Hh
  icases H with ⟨HSI, %eh⟩
  ihave H := (agree (p := p) (ℓ := sLoc d) (f := m (sLoc d))) $$ [HSI Hs]
  · iframe HSI Hs
  icases H with ⟨HSI, %es⟩
  ihave H := (agree (p := p) (ℓ := dLoc d) (f := m (dLoc d))) $$ [HSI Hd]
  · iframe HSI Hd
  icases H with ⟨HSI, %ed⟩
  ihave H := (agree (p := p) (ℓ := zLoc d) (f := out m d)) $$ [HSI Hz]
  · iframe HSI Hz
  icases H with ⟨HSI, %ez⟩
  ipureintro; exact ⟨⟨eh, es, ed⟩, ez⟩

/-- What a run ends in: the arguments as they were, the result `out`, every semaphore at zero. -/
def QC : PUnit × MemSt nD τ sig (Elt F) → Prop := fun r =>
  (∀ c : Dev nD, (r.2.mem (hLoc c) = m (hLoc c) ∧ r.2.mem (sLoc c) = m (sLoc c) ∧ r.2.mem (dLoc c) = m (dLoc c)) ∧ r.2.mem (zLoc c) = out m c) ∧ r.2.sem = fun _ => 0

/-- The program runs, whatever the order its threads go in, and ends in `QC`. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sage

end
-- ==== Proof.Frames.lean ====
/-
  The frames of the kernel and of its reference.
-/
module

public import proofs.«01_k».proof.Proof.Main
public import proofs.«01_k».proof.Defs
public import proofs.«01_k».proof.Proof.Gen.Kernel
public import proofs.«01_k».proof.Proof.Gen.KernelIdeal.Skeleton
public import proofs.«01_k».proof.Proof.Gen.ReferenceIdeal
public import proofs.«01_k».proof.Proof.Gen.Pre_edges_named
public import Idealize.ShloMosaic.Lib.Claim

@[expose] public section

noncomputable section

namespace Cert.Proof.Sage

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## What the preconditions say -/

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A signed word at least 0 and below 10000 is, as a natural number, below 10000. -/
theorem word_lt (v : BitVec 32) (e : IntOp.andi (IntOp.cmpi .sge v 0#32) (IntOp.cmpi .slt v 10000#32) = 1#1) : v.toNat < 10000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem named_ok (m : (ℓ : Loc nD τ sig) → Buf (Elt F) ℓ)
    (h : ∀ d : Dev nD, (Cert.Pre_edges_named.fn (F := F) (m (hLoc d)) (m (sLoc d)) (m (dLoc d))).1 = (fun _ => 1#1)
      ∧ (Cert.Pre_edges_named.fn (F := F) (m (hLoc d)) (m (sLoc d)) (m (dLoc d))).2 = (fun _ => 1#1)) : PreOK m := by
  intro d
  refine ⟨fun x => ?_, fun x => ?_⟩
  · have e := congrFun (h d).1 x
    simp only [Cert.Pre_edges_named.fn, andi, cmpi, broadcastInDim, constantI] at e
    exact word_lt _ e
  · have e := congrFun (h d).2 x
    simp only [Cert.Pre_edges_named.fn, andi, cmpi, broadcastInDim, constantI] at e
    exact word_lt _ e

/-! ## The frames -/

theorem frame_ideal : Cert.quiescent_KernelIdeal := fun m ρ h =>
  (θ_run Cert.KernelIdeal.defs _ _).mono (fun _ h => ⟨fun c => (h.1 c).1, h.2⟩) (run_main (F := Ideal) m ρ (named_ok m h))

open Cert.ReferenceIdeal in
theorem args_kept (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  hlo_run

theorem frame_reference : Cert.quiescent_ReferenceIdeal := fun m g _ =>
  Idealize.ShloMosaic.θ_run_mono (args_kept m g) fun r h => ⟨h, Idealize.ShloMosaic.sem_eq_zero_of_no_sems (by decide) r.2⟩

end Cert.Proof.Sage

end
-- ==== Proof.Frame.lean ====
/-
  The frame of the kernel at the floats as they are.
-/
module

public import proofs.«01_k».proof.Proof.Frames

@[expose] public section

noncomputable section

namespace Cert.Proof.Sage

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

set_option maxHeartbeats 8000000 in
/-- The printed kernel and its idealization are one text, so that the run over any floats is the run of both. -/
theorem frame_kernel : Cert.quiescent_Kernel := fun m ρ h =>
  (θ_run Cert.KernelIdeal.defs _ _).mono (fun _ h => ⟨fun c => (h.1 c).1, h.2⟩) (run_main (F := Bits) m ρ (named_ok (F := Bits) m h))

end Cert.Proof.Sage

end
-- ==== Proof.Pooled.lean ====
/-
  What the value claim's precondition says, and the frames under it.
-/
module

public import proofs.«01_k».proof.Proof.Frames
public import proofs.«01_k».proof.Proof.Gen.Pre_edges_and_pooled

@[expose] public section

noncomputable section

namespace Cert.Proof.Sage

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

theorem pooled_ok (m : (ℓ : Loc nD τ sig) → Buf (Elt Ideal) ℓ) (h : Cert.Pre_KernelIdeal_edges_and_pooled m) : PreOK m := by
  intro d
  refine ⟨fun x => ?_, fun x => ?_⟩
  · have e := congrFun (h d).1 x
    simp only [Cert.Pre_edges_and_pooled.fn, andi, cmpi, broadcastInDim, constantI] at e
    exact word_lt _ e
  · have e := congrFun (h d).2.1 x
    simp only [Cert.Pre_edges_and_pooled.fn, andi, cmpi, broadcastInDim, constantI] at e
    exact word_lt _ e

theorem frame_ideal_pooled : Cert.quiescent_KernelIdeal_pre_edges_and_pooled := fun m ρ h =>
  (θ_run Cert.KernelIdeal.defs _ _).mono (fun _ h => ⟨fun c => (h.1 c).1, h.2⟩) (run_main (F := Ideal) m ρ (pooled_ok m h))

theorem frame_reference_pooled : Cert.quiescent_ReferenceIdeal_pre_edges_and_pooled := fun m g _ =>
  Idealize.ShloMosaic.θ_run_mono (args_kept m g) fun r h => ⟨h, Idealize.ShloMosaic.sem_eq_zero_of_no_sems (by decide) r.2⟩

end Cert.Proof.Sage

end
-- ==== Proof.Fold.lean ====
/-
  What the kernel leaves in its result, as a running maximum: at node `v` and feature `j`, the maximum of 0 and of
  the pooled rows' features `j` over the edges whose destination is `v`, taken in the order of the edges.
-/
module

public import proofs.«01_k».proof.Proof.Main

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-! ## A running maximum over the numbers that a condition picks -/

/-- Start from `z` and take the maximum with `v k` for each `k < n` that has `p`. -/
def pick (p : ℕ → Prop) [DecidablePred p] (v : ℕ → Elt F .f32) (z : Elt F .f32) : ℕ → Elt F .f32
  | 0 => z
  | n + 1 => if p n then FloatOps.maximumf (pick p v z n) (v n) else pick p v z n

theorem pick_congr (p q : ℕ → Prop) [DecidablePred p] [DecidablePred q] (v w : ℕ → Elt F .f32) (z : Elt F .f32) :
    ∀ n, (∀ k < n, p k ↔ q k) → (∀ k < n, p k → v k = w k) → pick p v z n = pick q w z n
  | 0, _, _ => rfl
  | n + 1, hp, hv => by
    have ih := pick_congr p q v w z n (fun k hk => hp k (by omega)) (fun k hk => hv k (by omega))
    by_cases h : p n
    · simp only [pick, if_pos h, if_pos ((hp n (by omega)).mp h), ih, hv n (by omega) h]
    · simp only [pick, if_neg h, if_neg (fun h' => h ((hp n (by omega)).mpr h')), ih]

theorem pick_skip (p : ℕ → Prop) [DecidablePred p] (v : ℕ → Elt F .f32) (z : Elt F .f32) (n : ℕ) :
    ∀ m, (∀ k, n ≤ k → k < n + m → ¬ p k) → pick p v z (n + m) = pick p v z n
  | 0, _ => rfl
  | m + 1, h => by
    show (if p (n + m) then _ else pick p v z (n + m)) = _
    rw [if_neg (h _ (by omega) (by omega)), pick_skip p v z n m (fun k h1 h2 => h k h1 (by omega))]

theorem pick_add (p : ℕ → Prop) [DecidablePred p] (v : ℕ → Elt F .f32) (z : Elt F .f32) (a : ℕ) :
    ∀ n, pick (fun k => p (a + k)) (fun k => v (a + k)) (pick p v z a) n = pick p v z (a + n)
  | 0 => rfl
  | n + 1 => by
    show (if p (a + n) then FloatOps.maximumf (pick _ _ _ n) (v (a + n)) else pick _ _ _ n) = if p (a + n) then FloatOps.maximumf (pick p v z (a + n)) (v (a + n)) else pick p v z (a + n)
    rw [pick_add p v z a n]

/-! ## The tile's list of edges, as a running maximum over all edges -/

theorem runF_pick (H : S10000x128.Idx → Elt F .f32) (S D : ℕ → ℕ) (f : S40192.Idx → Elt F .f32) (x : S40192.Idx) :
    ∀ n, runF H S D f n x = pick (fun k => (x 0).val / 128 = D k) (fun k => hpRow H (S k) ((x 0).val % 128)) (f x) n
  | 0 => rfl
  | n + 1 => by
    show edgeF (runF H S D f n) (hpRow H (S n)) (D n) x = _
    simp only [edgeF, pick, runF_pick H S D f x n]

theorem pick_list (i : grid0.Coords) (ds vd vs : ℕ → BitVec 32) (a r : ℕ) (g : ℕ → Elt F .f32) (z : Elt F .f32) :
    ∀ n, pick (fun k => (lst i ds vd a n k).toNat = r) (fun k => g (lst i ds vs a n k).toNat) z (cnt i ds a n)
      = pick (fun k => bit i (ds (a + k)) = 1 ∧ (vd (a + k)).toNat = r) (fun k => g (vs (a + k)).toNat) z n
  | 0 => rfl
  | n + 1 => by
    have ih := pick_list i ds vd vs a r g z n
    by_cases h : bit i (ds (a + n)) = 1
    · have low : ∀ val : ℕ → BitVec 32, ∀ k < cnt i ds a n, lst i ds val a (n + 1) k = lst i ds val a n k := fun val k hk => by
        simp only [lst]; rw [if_neg (fun hc => by omega)]
      have top : ∀ val : ℕ → BitVec 32, lst i ds val a (n + 1) (cnt i ds a n) = val (a + n) := fun val => by
        simp only [lst]; rw [if_pos ⟨h, trivial⟩]
      have ec : cnt i ds a (n + 1) = cnt i ds a n + 1 := by simp only [cnt]; rw [if_pos h]
      have e := pick_congr (fun k => (lst i ds vd a (n + 1) k).toNat = r) (fun k => (lst i ds vd a n k).toNat = r)
        (fun k => g (lst i ds vs a (n + 1) k).toNat) (fun k => g (lst i ds vs a n k).toNat) z (cnt i ds a n)
        (fun k hk => by rw [low vd k hk]) (fun k hk _ => by rw [low vs k hk])
      rw [ec]
      show (if (lst i ds vd a (n + 1) (cnt i ds a n)).toNat = r then FloatOps.maximumf (pick _ _ _ _) (g (lst i ds vs a (n + 1) (cnt i ds a n)).toNat) else pick _ _ _ _)
        = if bit i (ds (a + n)) = 1 ∧ (vd (a + n)).toNat = r then FloatOps.maximumf (pick _ _ _ n) (g (vs (a + n)).toNat) else pick _ _ _ n
      rw [e, ih, top, top]
      by_cases hr : (vd (a + n)).toNat = r
      · rw [if_pos hr, if_pos ⟨h, hr⟩]
      · rw [if_neg hr, if_neg (fun hc => hr hc.2)]
    · have low : ∀ val : ℕ → BitVec 32, ∀ k, lst i ds val a (n + 1) k = lst i ds val a n k := fun val k => by
        simp only [lst]; rw [if_neg (fun hc => h hc.1)]
      have ec : cnt i ds a (n + 1) = cnt i ds a n := by simp only [cnt]; rw [if_neg h]
      rw [ec]
      simp only [low]
      rw [ih]
      show _ = if bit i (ds (a + n)) = 1 ∧ (vd (a + n)).toNat = r then _ else _
      rw [if_neg (fun hc => h hc.1)]

theorem chunkF_pick (i : grid0.Coords) (H : S10000x128.Idx → Elt F .f32) (ds ss : ℕ → BitVec 32) (a : ℕ) (f : S40192.Idx → Elt F .f32) (x : S40192.Idx)
    (hx : (x 0).val / 128 < 313) :
    chunkF i H ds ss a f x = pick (fun k => bit i (ds (a + k)) = 1 ∧ (ds (a + k) - lo i).toNat = (x 0).val / 128)
      (fun k => hpRow H (ss (a + k)).toNat ((x 0).val % 128)) (f x) 8000 := by
  rw [← pick_list i ds (fun k => ds k - lo i) ss a ((x 0).val / 128) (fun s => hpRow H s ((x 0).val % 128)) (f x) 8000]
  show runF H (srcOf i ds ss a) (rowOf i ds a) f _ x = _
  rw [runF_pick]
  have hc : 32 * ((cnt i ds a 8000 + 31) / 32) = cnt i ds a 8000 + (32 * ((cnt i ds a 8000 + 31) / 32) - cnt i ds a 8000) := by omega
  rw [hc, pick_skip]
  · refine pick_congr _ _ _ _ _ _ (fun k hk => ?_) (fun k hk _ => ?_)
    · simp only [rowOf]; rw [if_pos hk]; exact eq_comm
    · simp only [srcOf]; rw [if_pos hk]
  · intro k h1 _
    simp only [rowOf]; rw [if_neg (by omega)]; omega

theorem accF_pick (i : grid0.Coords) (H : S10000x128.Idx → Elt F .f32) (fs fd : S320000.Idx → BitVec 32) (f : S40192.Idx → Elt F .f32) (x : S40192.Idx)
    (hx : (x 0).val / 128 < 313) :
    ∀ c, accF i H fs fd f c x = pick (fun k => bit i (wordsOf fd k) = 1 ∧ (wordsOf fd k - lo i).toNat = (x 0).val / 128)
      (fun k => hpRow H (wordsOf fs k).toNat ((x 0).val % 128)) (f x) (8000 * c)
  | 0 => rfl
  | c + 1 => by
    show chunkF i H (wordsOf fd) (wordsOf fs) (8000 * c) (accF i H fs fd f c) x = _
    rw [chunkF_pick i H _ _ _ _ x hx, accF_pick i H fs fd f x hx c, Nat.mul_succ]
    exact pick_add (fun k => bit i (wordsOf fd k) = 1 ∧ (wordsOf fd k - lo i).toNat = (x 0).val / 128)
      (fun k => hpRow H (wordsOf fs k).toNat ((x 0).val % 128)) (f x) (8000 * c) 8000

/-- What the kernel leaves at node `v`, feature `j`: the maximum of 0 and the rows of the edges into `v`. -/
theorem resF_pick (H : S10000x128.Idx → Elt F .f32) (fs fd : S320000.Idx → BitVec 32) (hfd : ∀ x, (fd x).toNat < 10000) (x : S1282048.Idx) :
    resF H fs fd x = pick (fun k => (wordsOf fd k).toNat = (x 0).val / 128)
      (fun k => hpRow H (wordsOf fs k).toNat ((x 0).val % 128)) (Scalar.ofBits .f32 0x00000000#32) 320000 := by
  have hx0 : (x 0).val < 1282048 := (x 0).isLt
  have hw : (x 0).val / 40064 < 32 := by omega
  have ht : tileNo (tileOf ((x 0).val / 40064)) = (x 0).val / 40064 := by
    show 2 * ((x 0).val / 40064 / 2 % 16) + (x 0).val / 40064 % 2 = _
    omega
  have hr : (x 0).val % 40064 / 128 < 313 := by omega
  refine (accF_pick (tileOf ((x 0).val / 40064)) H fs fd zeroF (at1 ((x 0).val % 40064) (lt_trans (Nat.mod_lt _ (by decide)) (by decide))) hr 40).trans ?_
  refine pick_congr _ _ _ _ _ _ (fun k _ => ?_) (fun k _ _ => ?_)
  · have hk : (wordsOf fd k).toNat < 10000 := hfd _
    show bit _ _ = 1#1 ∧ (wordsOf fd k - lo (tileOf ((x 0).val / 40064))).toNat = (x 0).val % 40064 / 128 ↔ _
    rw [bit_iff _ _ hk, ht]
    constructor
    · rintro ⟨⟨h1, h2⟩, h3⟩
      rw [sub_val _ _ (by rw [ht]; exact h1), ht] at h3
      omega
    · intro h
      refine ⟨⟨by omega, by omega⟩, ?_⟩
      rw [sub_val _ _ (by rw [ht]; omega), ht]
      omega
  · show hpRow H _ ((x 0).val % 40064 % 128) = hpRow H _ ((x 0).val % 128)
    congr 1; omega

end Cert.Proof.Sage

end
-- ==== Proof.Entry.lean ====
/-
  The kernel's result, after the reshape and the cut to the nodes there are, entry by entry.
-/
module

public import proofs.«01_k».proof.Proof.Fold

@[expose] public section

noncomputable section

namespace Cert.Proof.Sage

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

variable (m : (ℓ : Loc nD τ sig) → Buf (Elt F) ℓ)

/-- The result at node `y 0`, feature `y 1`, as the running maximum. -/
theorem out_pick (hpre : PreOK m) (d : Dev nD) (y : S10000x128.Idx) :
    out m d y = pick (fun k => (wordsOf (m (dLoc d)) k).toNat = (y 0).val) (fun k => hpRow (m (hLoc d)) (wordsOf (m (sLoc d)) k).toNat (y 1).val)
      (Scalar.ofBits .f32 0x00000000#32) 320000 := by
  have h0 : (y 0).val < 10000 := (y 0).isLt
  have h1 : (y 1).val < 128 := (y 1).isLt
  have e : out m d y = flat m d (at1 ((y 0).val * 128 + (y 1).val) (by omega)) := by
    show flat m d (Shape.reshapeEquiv _ _) = _
    congr 1
    refine Shape.reshapeEquiv_eq_of_rowMajor _ ?_
    refine (Shape.rowMajor_val_one _).trans ((Shape.rowMajor_val_two _).trans ?_).symm
    show (0 + (y 0).val) * 128 + (0 + (y 1).val) = (y 0).val * 128 + (y 1).val
    omega
  rw [e]
  refine (resF_pick (m (hLoc d)) (m (sLoc d)) (m (dLoc d)) (hpre d).2 _).trans ?_
  refine pick_congr _ _ _ _ _ _ (fun k _ => ?_) (fun k _ _ => ?_)
  · show _ = ((y 0).val * 128 + (y 1).val) / 128 ↔ _
    have e : ((y 0).val * 128 + (y 1).val) / 128 = (y 0).val := by omega
    rw [e]
  · show hpRow _ _ (((y 0).val * 128 + (y 1).val) % 128) = _
    have e : ((y 0).val * 128 + (y 1).val) % 128 = (y 1).val := by omega
    rw [e]

end Cert.Proof.Sage

end
-- ==== Proof.Refer.lean ====
/-
  The reference's value, entry by entry, and that the kernel's running maximum is it: over the extended reals, where
  the pooled rows are at least 0 and below infinity.
-/
module

public import proofs.«01_k».proof.Proof.Fold
public import proofs.«01_k».proof.Proof.Gen.ReferenceIdeal
public import Idealize.ShloMosaic.PureOps.Reduce

@[expose] public section

noncomputable section

namespace Cert.Proof.Sage

open Cert.ReferenceIdeal Cert.ReferenceIdeal.Facts₀ Cert.ReferenceIdeal.Facts
open Idealize.ShloMosaic

/-! ## The reference's value, operation by operation -/

/-- The gathered rows, one per edge. -/
def gat (H : S10000x128.Idx → EReal) (fs : S320000.Idx → BitVec 32) : S320000x128.Idx → EReal :=
  Host.gather gather_S10000x128_S320000x1_S320000x128_1_0_n_n_0_1_1128 H (broadcastInDim S320000x1 ![0] bcast_S320000_S320000x1_0 fs)

/-- Node `v`, edge `e`: whether `e` ends in `v`. -/
def hit (fd : S320000.Idx → BitVec 32) : S10000x320000.Idx → BitVec 1 :=
  cmpi .eq (broadcastInDim S10000x320000 ![0, 1] bcast_S1x320000_S10000x320000_0_1 (broadcastInDim S1x320000 ![1] bcast_S320000_S1x320000_1 fd))
    (broadcastInDim S10000x320000 ![0, 1] bcast_S10000x1_S10000x320000_0_1 (broadcastInDim S10000x1 ![0] bcast_S10000_S10000x1_0 (iotaInDim S10000 32 0)))

/-- The rows of the edges that end in each node, the others minus infinity. -/
def msk (H : S10000x128.Idx → EReal) (fs fd : S320000.Idx → BitVec 32) : S10000x320000x128.Idx → EReal :=
  Idealize.ShloMosaic.select (broadcastInDim S10000x320000x128 ![0, 1, 2] bcast_S10000x320000x1_S10000x320000x128_0_1_2
      (broadcastInDim S10000x320000x1 ![0, 1] bcast_S10000x320000_S10000x320000x1_0_1 (hit fd)))
    (broadcastInDim S10000x320000x128 ![0, 1, 2] bcast_S1x320000x128_S10000x320000x128_0_1_2
      (broadcastInDim S1x320000x128 ![1, 2] bcast_S320000x128_S1x320000x128_1_2 (gat H fs)))
    (broadcastInDim S10000x320000x128 ![] bcast_S_S10000x320000x128 (constant (F := Ideal) S_ .f32 0xFF800000#32))

/-- The segment maximum. -/
def red (H : S10000x128.Idx → EReal) (fs fd : S320000.Idx → BitVec 32) : S10000x128.Idx → EReal :=
  Host.reduce (max : EReal → EReal → EReal) (msk H fs fd) (constant (F := Ideal) S_ .f32 0xFF800000#32) reducesTo_S10000x320000x128_S10000x128_d1 h_S_

/-- The segment maximum, 0 at a node that no edge ends in. -/
def refOut (H : S10000x128.Idx → EReal) (fs fd : S320000.Idx → BitVec 32) : S10000x128.Idx → EReal :=
  Idealize.ShloMosaic.select (cmpf (F := Ideal) .olt (Host.absf (F := Ideal) (red H fs fd)) (broadcastInDim S10000x128 ![] bcast_S_S10000x128 (constant (F := Ideal) S_ .f32 0x7F800000#32)))
    (red H fs fd) (broadcastInDim S10000x128 ![] bcast_S_S10000x128 (constant (F := Ideal) S_ .f32 0x00000000#32))

theorem gat_apply (H : S10000x128.Idx → EReal) (fs : S320000.Idx → BitVec 32) (hfs : ∀ x, (fs x).toNat < 10000) (x : S320000x128.Idx) :
    gat H fs x = hpRow (F := Ideal) H (fs (at1 (x 0).val (x 0).isLt)).toNat (x 1).val := by
  have hx1 : (x 1).val < 128 := (x 1).isLt
  show H _ = H _
  congr 1
  funext a
  apply Fin.ext
  match a with
  | 0 =>
    have e : (gather_S10000x128_S320000x1_S320000x128_1_0_n_n_0_1_1128.start x (broadcastInDim S320000x1 ![0] bcast_S320000_S320000x1_0 fs) 0)
        = min (fs (at1 (x 0).val (x 0).isLt)).toInt.toNat 9999 := by
      unfold GatherDims.start
      rw [dif_pos (by exact List.mem_singleton.mpr rfl)]
      show min (fs _).toInt.toNat 9999 = _
      congr 4
      funext b
      rw [Fin.eq_zero b]
      rfl
    show gather_S10000x128_S320000x1_S320000x128_1_0_n_n_0_1_1128.start x (broadcastInDim S320000x1 ![0] bcast_S320000_S320000x1_0 fs) 0 + _ + _ = _ % 10000
    have h := hfs (at1 (x 0).val (x 0).isLt)
    rw [GatherDims.batchCoord_eq_zero _ _ _ (by exact List.not_mem_nil), GatherDims.offCoord_eq_zero _ _ _ (by rw [GatherDims.mem_sKept]; exact fun h => h.1 (List.mem_singleton.mpr rfl)), e,
      BitVec.toInt_eq_toNat_of_lt (by omega)]
    omega
  | 1 =>
    show gather_S10000x128_S320000x1_S320000x128_1_0_n_n_0_1_1128.start x (broadcastInDim S320000x1 ![0] bcast_S320000_S320000x1_0 fs) 1 + _ + _ = (x 1).val % 128
    rw [GatherDims.batchCoord_eq_zero _ _ _ (by exact List.not_mem_nil)]
    have e0 : (gather_S10000x128_S320000x1_S320000x128_1_0_n_n_0_1_1128.start x (broadcastInDim S320000x1 ![0] bcast_S320000_S320000x1_0 fs) 1) = 0 := by
      unfold GatherDims.start
      rw [dif_neg (by show ¬ (1 : Fin 2) ∈ [(0 : Fin 2)]; decide)]
    have e1 : gather_S10000x128_S320000x1_S320000x128_1_0_n_n_0_1_1128.offCoord x 1 = (x 1).val := by
      unfold GatherDims.offCoord
      rw [dif_pos (by rw [GatherDims.mem_sKept]; exact ⟨by show ¬ (1 : Fin 2) ∈ [(0 : Fin 2)]; decide, List.not_mem_nil⟩)]
      rfl
    rw [e0, e1]
    omega

theorem hit_apply (fd : S320000.Idx → BitVec 32) (x : S10000x320000.Idx) :
    hit fd x = BitVec.ofBool (fd (at1 (x 1).val (x 1).isLt) == BitVec.ofNat 32 (x 0).val) := by
  show BitVec.ofBool (fd _ == BitVec.ofNat 32 _) = _
  congr 2
  congr 1
  funext b
  rw [Fin.eq_zero b]
  rfl

theorem ofBits_zero : Scalar.ofBits (F := Ideal) .f32 0x00000000#32 = (0 : EReal) := by
  show Ideal.ofBits .f32 0x00000000#32 = 0
  simp [Ideal.ofBits, Ideal.ieee]
theorem ofBits_top : Scalar.ofBits (F := Ideal) .f32 0x7F800000#32 = (⊤ : EReal) := by
  show Ideal.ofBits .f32 0x7F800000#32 = ⊤
  simp [Ideal.ofBits, Ideal.ieee]
theorem ofBits_bot : Scalar.ofBits (F := Ideal) .f32 0xFF800000#32 = (⊥ : EReal) := by
  show Ideal.ofBits .f32 0xFF800000#32 = ⊥
  simp [Ideal.ofBits, Ideal.ieee]

theorem msk_apply (H : S10000x128.Idx → EReal) (fs fd : S320000.Idx → BitVec 32) (hfs : ∀ x, (fs x).toNat < 10000) (x : S10000x320000x128.Idx) :
    msk H fs fd x = if (fd (at1 (x 1).val (x 1).isLt)).toNat = (x 0).val then hpRow (F := Ideal) H (fs (at1 (x 1).val (x 1).isLt)).toNat (x 2).val else ⊥ := by
  have hx0 : (x 0).val < 10000 := (x 0).isLt
  show Scalar.select (hit fd _) (gat H fs _) (Scalar.ofBits (F := Ideal) .f32 0xFF800000#32) = _
  rw [hit_apply, gat_apply H fs hfs, ofBits_bot]
  show Scalar.select (BitVec.ofBool (fd (at1 (x 1).val _) == BitVec.ofNat 32 (x 0).val)) (hpRow (F := Ideal) H (fs (at1 (x 1).val _)).toNat (x 2).val) (⊥ : EReal) = _
  by_cases h : (fd (at1 (x 1).val (x 1).isLt)).toNat = (x 0).val
  · have hb : (fd (at1 (x 1).val (x 1).isLt) == BitVec.ofNat 32 (x 0).val) = true := by
      rw [beq_iff_eq]; apply BitVec.eq_of_toNat_eq; rw [h, BitVec.toNat_ofNat]; omega
    rw [if_pos h, hb]; rfl
  · have hb : (fd (at1 (x 1).val (x 1).isLt) == BitVec.ofNat 32 (x 0).val) = false := by
      rw [beq_eq_false_iff_ne]; intro e; apply h; rw [e, BitVec.toNat_ofNat]; omega
    rw [if_neg h, hb]; rfl

/-- The index of node `y 0`, edge `k`, feature `y 1`. -/
def at3 (y : S10000x128.Idx) (k : ℕ) (hk : k < 320000) : S10000x320000x128.Idx := fun
  | 0 => y 0
  | 1 => ⟨k, hk⟩
  | 2 => y 1

theorem drop_iff (y : S10000x128.Idx) (x : S10000x320000x128.Idx) :
    reducesTo_S10000x320000x128_S10000x128_d1.drop x = y ↔ (x 0).val = (y 0).val ∧ (x 2).val = (y 1).val := by
  have h0 : (reducesTo_S10000x320000x128_S10000x128_d1.drop x 0 : ℕ) = (x 0).val := Shape.ReducesTo.drop_apply_val_of_eq _ x 0 0
  have h1 : (reducesTo_S10000x320000x128_S10000x128_d1.drop x 1 : ℕ) = (x 2).val := Shape.ReducesTo.drop_apply_val_of_eq _ x 1 2
  constructor
  · rintro rfl; exact ⟨h0.symm, h1.symm⟩
  · rintro ⟨e0, e1⟩
    funext b
    apply Fin.ext
    match b with
    | 0 => exact h0.trans e0
    | 1 => exact h1.trans e1

/-- A property of the entries of the segment of node `y 0`, feature `y 1`, spelled out. -/
theorem seg_iff (H : S10000x128.Idx → EReal) (fs fd : S320000.Idx → BitVec 32) (hfs : ∀ x, (fs x).toNat < 10000) (y : S10000x128.Idx) (R : EReal → Prop) (hR : R ⊥) :
    (∀ x ∈ Finset.univ.filter (fun x => reducesTo_S10000x320000x128_S10000x128_d1.drop x = y), R (msk H fs fd x))
      ↔ ∀ k < 320000, (wordsOf fd k).toNat = (y 0).val → R (hpRow (F := Ideal) H (wordsOf fs k).toNat (y 1).val) := by
  have ew : ∀ (f : S320000.Idx → BitVec 32) (k : ℕ) (hk : k < 320000), wordsOf f k = f (at1 k hk) := fun f k hk => by
    show f _ = f _
    congr 1
    funext a; apply Fin.ext; exact Nat.mod_eq_of_lt hk
  constructor
  · intro h k hk hd
    have := h (at3 y k hk) (Finset.mem_filter.mpr ⟨Finset.mem_univ _, (drop_iff y _).mpr ⟨rfl, rfl⟩⟩)
    rw [ew _ k hk] at hd ⊢
    have e : msk H fs fd (at3 y k hk) = hpRow (F := Ideal) H (fs (at1 k hk)).toNat (y 1).val := (msk_apply H fs fd hfs (at3 y k hk)).trans (if_pos hd)
    rw [e] at this
    exact this
  · intro h x hx
    obtain ⟨e0, e2⟩ := (drop_iff y x).mp (Finset.mem_filter.mp hx).2
    rw [msk_apply H fs fd hfs]
    split
    · next hd =>
      have := h (x 1).val (x 1).isLt (by rw [ew _ _ (x 1).isLt, hd, e0])
      rw [ew _ _ (x 1).isLt, ← e2] at this
      exact this
    · exact hR

theorem red_eq (H : S10000x128.Idx → EReal) (fs fd : S320000.Idx → BitVec 32) (y : S10000x128.Idx) :
    red H fs fd y = (Finset.univ.filter (fun x => reducesTo_S10000x320000x128_S10000x128_d1.drop x = y)).fold max ⊥ (msk H fs fd) := by
  have e : (constant (F := Ideal) S_ .f32 0xFF800000#32 (Shape.Idx.first h_S_) : EReal) = ⊥ := ofBits_bot
  rw [← e]
  exact Host.reduce_eq_fold max (msk H fs fd) _ _ _ y

theorem red_le (H : S10000x128.Idx → EReal) (fs fd : S320000.Idx → BitVec 32) (hfs : ∀ x, (fs x).toNat < 10000) (y : S10000x128.Idx) (b : EReal) :
    red H fs fd y ≤ b ↔ ∀ k < 320000, (wordsOf fd k).toNat = (y 0).val → hpRow (F := Ideal) H (wordsOf fs k).toNat (y 1).val ≤ b := by
  rw [red_eq, Finset.fold_max_le, ← seg_iff H fs fd hfs y (fun v => v ≤ b) bot_le]
  exact and_iff_right bot_le

theorem red_lt (H : S10000x128.Idx → EReal) (fs fd : S320000.Idx → BitVec 32) (hfs : ∀ x, (fs x).toNat < 10000) (hH : ∀ x, H x < ⊤) (y : S10000x128.Idx) :
    red H fs fd y < ⊤ := by
  rw [red_eq, Finset.fold_max_lt]
  exact ⟨bot_lt_top, (seg_iff H fs fd hfs y (fun v => v < ⊤) bot_lt_top).mpr fun _ _ _ => hH _⟩

theorem red_or (H : S10000x128.Idx → EReal) (fs fd : S320000.Idx → BitVec 32) (hfs : ∀ x, (fs x).toNat < 10000) (hH : ∀ x, 0 ≤ H x) (y : S10000x128.Idx) :
    red H fs fd y = ⊥ ∨ 0 ≤ red H fs fd y := by
  by_cases h : ∃ k < 320000, (wordsOf fd k).toNat = (y 0).val
  · obtain ⟨k, hk, hd⟩ := h
    exact Or.inr (le_trans (hH _) ((red_le H fs fd hfs y _).mp le_rfl k hk hd))
  · exact Or.inl (le_bot_iff.mp ((red_le H fs fd hfs y ⊥).mpr fun k hk hd => absurd ⟨k, hk, hd⟩ h))

theorem olt_apply (u v : EReal) : FloatOps.cmpf (F := Ideal) (φ := .f32) .olt u v = BitVec.ofBool (decide (u < v)) := rfl
theorem abs_apply (u : EReal) : FloatOps.hostAbsf (F := Ideal) (φ := .f32) u = max u (-u) := rfl

theorem finite_or_zero (R : S10000x128.Idx → EReal) (y : S10000x128.Idx) :
    (Idealize.ShloMosaic.select (cmpf (F := Ideal) .olt (Host.absf (F := Ideal) R) (broadcastInDim S10000x128 ![] bcast_S_S10000x128 (constant (F := Ideal) S_ .f32 0x7F800000#32)))
      R (broadcastInDim S10000x128 ![] bcast_S_S10000x128 (constant (F := Ideal) S_ .f32 0x00000000#32)) : S10000x128.Idx → EReal) y
      = if max (R y) (-(R y)) < ⊤ then R y else 0 := by
  have e : (Idealize.ShloMosaic.select (cmpf (F := Ideal) .olt (Host.absf (F := Ideal) R) (broadcastInDim S10000x128 ![] bcast_S_S10000x128 (constant (F := Ideal) S_ .f32 0x7F800000#32)))
      R (broadcastInDim S10000x128 ![] bcast_S_S10000x128 (constant (F := Ideal) S_ .f32 0x00000000#32)) : S10000x128.Idx → EReal) y
      = Scalar.select (FloatOps.cmpf (F := Ideal) (φ := .f32) .olt (FloatOps.hostAbsf (F := Ideal) (φ := .f32) (R y)) (Scalar.ofBits (F := Ideal) .f32 0x7F800000#32)) (R y)
        (Scalar.ofBits (F := Ideal) .f32 0x00000000#32 : EReal) := rfl
  rw [e, abs_apply, ofBits_top, ofBits_zero, olt_apply]
  by_cases h : max (R y) (-(R y)) < ⊤
  · rw [if_pos h, decide_eq_true h]; rfl
  · rw [if_neg h, decide_eq_false h]; rfl

theorem refOut_apply (H : S10000x128.Idx → EReal) (fs fd : S320000.Idx → BitVec 32) (y : S10000x128.Idx) :
    refOut H fs fd y = if max (red H fs fd y) (-(red H fs fd y)) < ⊤ then red H fs fd y else 0 :=
  finite_or_zero (red H fs fd) y

/-! ## The kernel's running maximum is the reference's value -/

theorem pick_le (p : ℕ → Prop) [DecidablePred p] (v : ℕ → EReal) (z b : EReal) :
    ∀ n, pick (F := Ideal) p v z n ≤ b ↔ z ≤ b ∧ ∀ k < n, p k → v k ≤ b
  | 0 => ⟨fun h => ⟨h, fun _ hk => absurd hk (Nat.not_lt_zero _)⟩, fun h => h.1⟩
  | n + 1 => by
    have ih := pick_le p v z b n
    have split : (∀ k < n + 1, p k → v k ≤ b) ↔ (∀ k < n, p k → v k ≤ b) ∧ (p n → v n ≤ b) :=
      ⟨fun h => ⟨fun k hk => h k (by omega), h n (by omega)⟩, fun h k hk => by
        rcases Nat.lt_succ_iff_lt_or_eq.mp hk with hk | rfl
        · exact h.1 k hk
        · exact h.2⟩
    rw [split]
    by_cases h : p n
    · simp only [pick, if_pos h]
      show max (pick (F := Ideal) p v z n) (v n) ≤ b ↔ _
      rw [max_le_iff, ih]
      exact ⟨fun ⟨⟨a, c⟩, e⟩ => ⟨a, c, fun _ => e⟩, fun ⟨a, c, e⟩ => ⟨⟨a, c⟩, e h⟩⟩
    · simp only [pick, if_neg h]
      rw [ih]
      exact ⟨fun ⟨a, c⟩ => ⟨a, c, fun e => absurd e h⟩, fun ⟨a, c, _⟩ => ⟨a, c⟩⟩

theorem pick_ref (H : S10000x128.Idx → EReal) (fs fd : S320000.Idx → BitVec 32) (hfs : ∀ x, (fs x).toNat < 10000) (h0 : ∀ x, 0 ≤ H x) (h1 : ∀ x, H x < ⊤) (y : S10000x128.Idx) :
    pick (F := Ideal) (fun k => (wordsOf fd k).toNat = (y 0).val) (fun k => hpRow (F := Ideal) H (wordsOf fs k).toNat (y 1).val) (0 : EReal) 320000 = refOut H fs fd y := by
  have e : pick (F := Ideal) (fun k => (wordsOf fd k).toNat = (y 0).val) (fun k => hpRow (F := Ideal) H (wordsOf fs k).toNat (y 1).val) (0 : EReal) 320000
      = max (0 : EReal) (red H fs fd y) :=
    eq_of_forall_ge_iff (α := EReal) fun b => by rw [pick_le, max_le_iff, red_le H fs fd hfs]
  rw [e, refOut_apply]
  rcases red_or H fs fd hfs h0 y with h | h
  · rw [h]; simp
  · rw [if_pos, max_eq_right h]
    refine max_lt (red_lt H fs fd hfs h1 y) (lt_of_le_of_lt ?_ EReal.zero_lt_top)
    rw [EReal.neg_le]; simpa using h

end Cert.Proof.Sage

end
-- ==== Proof.Agree.lean ====
/-
  The kernel's value is the reference's.
-/
module

public import proofs.«01_k».proof.Proof.Pooled
public import proofs.«01_k».proof.Proof.Entry
public import proofs.«01_k».proof.Proof.Refer

@[expose] public section

noncomputable section

namespace Cert.Proof.Sage

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

theorem oge_apply (u v : EReal) : FloatOps.cmpf (F := Ideal) (φ := .f32) .oge u v = BitVec.ofBool (decide (v ≤ u)) := rfl

/-- The pooled rows. -/
def pooled (m : (ℓ : Loc nD τ sig) → Buf (Elt Ideal) ℓ) (d : Dev nD) : S10000x128.Idx → EReal := m (hLoc d)

/-- The pooled rows are at least 0 and below infinity. -/
theorem pooled_val (m : (ℓ : Loc nD τ sig) → Buf (Elt Ideal) ℓ) (h : Cert.Pre_KernelIdeal_edges_and_pooled m) (d : Dev nD) (x : S10000x128.Idx) :
    0 ≤ pooled m d x ∧ pooled m d x < ⊤ := by
  have e := congrFun (h d).2.2 x
  simp only [Cert.Pre_edges_and_pooled.fn, andi, cmpf, broadcastInDim, constant] at e
  have e' : IntOp.andi (FloatOps.cmpf (F := Ideal) (φ := .f32) .oge (pooled m d x) (Scalar.ofBits (F := Ideal) .f32 0x00000000#32))
      (FloatOps.cmpf (F := Ideal) (φ := .f32) .olt (pooled m d x) (Scalar.ofBits (F := Ideal) .f32 0x7F800000#32)) = 1#1 := e
  rw [ofBits_zero, ofBits_top, oge_apply, olt_apply, andi_ofBool, ofBool_eq_one, Bool.and_eq_true, decide_eq_true_eq, decide_eq_true_eq] at e'
  exact e'

theorem out_ref (m : (ℓ : Loc nD τ sig) → Buf (Elt Ideal) ℓ) (h : Cert.Pre_KernelIdeal_edges_and_pooled m) (d : Dev nD) :
    refOut (m (hLoc d)) (m (sLoc d)) (m (dLoc d)) = out (F := Ideal) m d := by
  funext y
  have hp := pooled_ok m h
  rw [out_pick (F := Ideal) m hp d y, ofBits_zero]
  exact (pick_ref (m (hLoc d)) (m (sLoc d)) (m (dLoc d)) (hp d).1 (fun x => (pooled_val m h d x).1) (fun x => (pooled_val m h d x).2) y).symm

theorem run_values (m : (ℓ : Loc nD τ sig) → Buf (Elt Ideal) ℓ) (ρ : Dev nD → PrngReg) (h : PreOK m) :
    θ_run (Cert.KernelIdeal.defs (F := Ideal)) (Cert.KernelIdeal.threads (F := Ideal)) ⟨m, fun _ => 0, ρ⟩ (fun r => ∀ c : Dev nD,
      r.2.mem (zLoc c) = out (F := Ideal) m c ∧ r.2.mem (hLoc c) = m (hLoc c) ∧ r.2.mem (sLoc c) = m (sLoc c) ∧ r.2.mem (dLoc c) = m (dLoc c)) :=
  (θ_run Cert.KernelIdeal.defs _ _).mono (fun _ h c => ⟨(h.1 c).2, (h.1 c).1⟩) (run_main (F := Ideal) m ρ h)

theorem kernel_agrees : Cert.algebraic_KernelIdeal_ReferenceIdeal_pre_edges_and_pooled := by
  pair_intro
  · run_from (run_values m g (pooled_ok m hpre))
  · hlo_run
    refine Eq.trans ?_ (out_ref m hpre _)
    unfold refOut red msk gat hit
    simp -implicitDefEqProofs only [StableHlo.TRef.toBuf, StableHlo.TRef.ofBuf, cast_cast, cast_eq, id]
    rfl

end Cert.Proof.Sage

end
-- ==== Proof.Dense.lean ====
/-
  The steps a dense layer is made of, as the kernels' TensorCore bodies write them and as plain jnp
  writes them, over the extended reals: a product added to zeros is the product, a bias row laid
  under every row is the bias laid along the second axis, and the zero the result is clipped at.
-/
module

public import proofs.«01_k».proof.Proof.Gen.PreReferenceIdeal
public import Idealize.ShloMosaic.PureOps.Ideal.Laws
public import Idealize.ShloMosaic.Lib.Pointwise

@[expose] public section

noncomputable section

namespace Cert.Proof.Dense

open Idealize.ShloMosaic

/-- A matrix product whose accumulator is all zeros is the host's product. -/
theorem product {sl sr so : Shape} (d : DotDims sl sr so) (x : FVec Ideal sl .f32) (w : FVec Ideal sr .f32) :
    matmul d none x w (constant so .f32 0x00000000#32) = Host.dotGeneral d none x w :=
  funext fun j => (Ideal.matmul_constant_zero_apply d none x w j).trans (Ideal.dotGeneral_apply d none _ x w j).symm

/-- A bias: 128 numbers. -/
abbrev Sb : Shape := ⟨1, ![128]⟩
/-- The same as one row. -/
abbrev Sr : Shape := ⟨2, ![1, 128]⟩
/-- One row per node. -/
abbrev Sn : Shape := ⟨2, ![10000, 128]⟩

/-- A bias read as one row and laid under every row is the bias laid along the second axis. -/
theorem bias (b : FVec Ideal Sb .f32) (h : Sb.ShapeCasts Sr) (h' : Sr.ShapeCasts Sr) (hb : Sr.Broadcasts Sn)
    (h1 : Sb.BroadcastsInDim Sr (![1] : Fin 1 → Fin Sr.rank)) (h2 : Sr.BroadcastsInDim Sn (![0, 1] : Fin 2 → Fin Sn.rank)) :
    broadcastTo Sn (shapeCast Sr (shapeCast Sr b h) h') hb = broadcastInDim Sn ![0, 1] h2 (broadcastInDim Sr ![1] h1 b) := by
  funext j
  simp only [pointwise]
  rfl

/-- The zero a dense layer is clipped at. -/
theorem zeros (h0 : (⟨0, ![]⟩ : Shape).BroadcastsInDim Sn (![] : Fin 0 → Fin Sn.rank)) :
    (broadcast Sn (Scalar.ofBits .f32 0x00000000#32) : FVec Ideal Sn .f32)
      = broadcastInDim Sn ![] h0 (constant (⟨0, ![]⟩ : Shape) .f32 0x00000000#32) :=
  rfl

/-- Plain jnp's `relu(y + b)`. -/
abbrev clip (y : FVec Ideal Sn .f32) (b : FVec Ideal Sb .f32) : FVec Ideal Sn .f32 :=
  maximumf (addf y (broadcastInDim Sn ![0, 1] Cert.PreReferenceIdeal.Gen.bcast_S1x128_S10000x128_0_1
    (broadcastInDim Sr ![1] Cert.PreReferenceIdeal.Gen.bcast_S128_S1x128_1 b)))
    (broadcastInDim Sn ![] Cert.PreReferenceIdeal.Gen.bcast_S_S10000x128 (constant (⟨0, ![]⟩ : Shape) .f32 0x00000000#32))

/-- The bodies write it with the bias as one row laid under every row. -/
theorem clipped (y z : FVec Ideal Sn .f32) (hyz : y = z) (b : FVec Ideal Sb .f32) (h : Sb.ShapeCasts Sr) (h' : Sr.ShapeCasts Sr)
    (hb : Sr.Broadcasts Sn) :
    maximumf (addf y (broadcastTo Sn (shapeCast Sr (shapeCast Sr b h) h') hb)) (broadcast Sn (Scalar.ofBits .f32 0x00000000#32))
      = clip z b := by
  rw [hyz, bias b h h' hb _ _, zeros _]

/-- Plain jnp's product with a matrix of weights. -/
abbrev dot (x : FVec Ideal Sn .f32) (w : FVec Ideal (⟨2, ![128, 128]⟩ : Shape) .f32) : FVec Ideal Sn .f32 :=
  Host.dotGeneral Cert.PreReferenceIdeal.dot_S10000x128_S128x128_S10000x128_1_0_0_1_n_n none x w

end Cert.Proof.Dense

end
-- ==== Proof.PreCall.lean ====
/-
  The TensorCore call before the SparseCore one: its output array is what plain jnp computes.
-/
module

public import proofs.«01_k».proof.Defs
public import proofs.«01_k».proof.Proof.Dense
public import proofs.«01_k».proof.Proof.Gen.Pre.Frame
public import proofs.«01_k».proof.Proof.Gen.PreIdeal.Value
public import proofs.«01_k».proof.Proof.Gen.PreReferenceIdeal.Run

@[expose] public section

noncomputable section

namespace Cert.Proof.PreCall

open Cert.PreIdeal Cert.PreIdeal.Gen Idealize.ShloMosaic Idealize.ShloMosaic.TcCoe Idealize.SL.Sem

/-- What plain jnp computes of `x`, the weights and the bias. -/
abbrev layer (x : FVec Ideal S10000x128 .f32) (w : FVec Ideal S128x128 .f32) (b : FVec Ideal S128 .f32) : FVec Ideal S10000x128 .f32 :=
  Dense.clip (Dense.dot x w) b

/-- What the body stores, of the bias as a row, is that. -/
theorem stored (x : FVec Ideal S10000x128 .f32) (w : FVec Ideal S128x128 .f32) (b : FVec Ideal S128 .f32) :
    k0_pay1 x w (shapeCast S1x128 b shapeCasts_S128_S1x128) = layer x w b := by
  exact Dense.clipped _ _ (Dense.product _ x w) b _ _ _

variable (m : (ℓ : Loc nD τ sig) → Buf (Elt Ideal) ℓ)

/-- The host's reshape of the bias has run before the call. -/
theorem bias_row (c : Dev nD) :
    V m c main_v0 = shapeCast S1x128 (m ((c : Thread nD τ).loc main_arg2)) shapeCasts_S128_S1x128 := by
  dsimp only [V, hostOps0]
  after_results
  rfl

/-! Each window is one block, its whole array. -/

theorem block0 (c : Dev nD) : iblk m c 0 t0_0 = V m c main_arg0 :=
  Memref.read_access_unit_zero (Elt Ideal) main_arg0 (funext fun a => by fin_cases a <;> decide) _ _
theorem block1 (c : Dev nD) : iblk m c 1 t0_0 = V m c main_arg1 :=
  Memref.read_access_unit_zero (Elt Ideal) main_arg1 (funext fun a => by fin_cases a <;> decide) _ _
theorem block2 (c : Dev nD) : iblk m c 2 t0_0 = V m c main_v0 :=
  Memref.read_access_unit_zero (Elt Ideal) main_v0 (funext fun a => by fin_cases a <;> decide) _ _
theorem block3 (f : main_v1.ty.Contents (Elt Ideal)) : ((cfg0.win 3).blk t0_0).view.read (Elt Ideal) f = f :=
  Memref.read_access_unit_zero (Elt Ideal) main_v1 (funext fun a => by fin_cases a <;> decide) _ _

/-- The one store covers the output block, of whole loads. -/
theorem body (x : Vec Ideal S10000x128 .f32) (w : Vec Ideal S128x128 .f32) (b : Vec Ideal S1x128 .f32) :
    out0_3 x w b = k0_pay1 x w b := by
  have h0 : (![0, 0] : Fin 2 → Nat) = fun _ => 0 := funext fun a => by fin_cases a <;> rfl
  unfold out0_3
  rw [View.canon_unit_zero h0, View.ld_unit_zero h0, View.ld_unit_zero h0, View.ld_unit_zero h0]

/-- The output array after the run. -/
theorem final (c : Dev nD) :
    (dats m 0 c).arrAt 3 cfg0.N = layer (m ((c : Thread nD τ).loc main_arg0)) (m ((c : Thread nD τ).loc main_arg1))
      (m ((c : Thread nD τ).loc main_arg2)) := by
  have h := Value.blocks3 m c t0_0 (by decide)
  rw [Value.flushed3, body, block0, block1, block2, V_main_arg0, V_main_arg1, bias_row] at h
  exact (block3 _).symm.trans (h.trans (stored _ _ _))

/-- The call's run with its result, and plain jnp's. -/
theorem agrees : Cert.algebraic_PreIdeal_PreReferenceIdeal := by
  intro m g m' g' _ hm
  refine ⟨fun c => layer (m ((c : Thread nD τ).loc main_arg0)) (m ((c : Thread nD τ).loc main_arg1)) (m ((c : Thread nD τ).loc main_arg2)),
    θ_run_mono (Value.run_blocks m g) fun r h c => ⟨(h c).1.trans (final m c), (h c).2⟩,
    θ_run_mono (Cert.PreReferenceIdeal.Value.run m' g') fun r h c => ⟨(h c).1.trans ?_, (h c).2⟩⟩
  obtain ⟨h0, h1, h2⟩ := hm c
  rw [h0, h1, h2]

/-- Plain jnp runs and changes no argument. -/
theorem frame_reference : Cert.quiescent_PreReferenceIdeal := fun m g _ =>
  θ_run_mono (Cert.PreReferenceIdeal.Value.run m g) fun r h =>
    ⟨fun c => (h c).2, sem_eq_zero_of_no_sems (by decide) r.2⟩

end Cert.Proof.PreCall

end
-- ==== Proof.MidCall.lean ====
/-
  The TensorCore call between the SparseCore ones: its two output arrays are what plain jnp computes.
-/
module

public import proofs.«01_k».proof.Defs
public import proofs.«01_k».proof.Proof.Dense
public import proofs.«01_k».proof.Proof.Gen.Mid.Frame
public import proofs.«01_k».proof.Proof.Gen.MidIdeal.Value
public import proofs.«01_k».proof.Proof.Gen.MidReferenceIdeal.Run

@[expose] public section

noncomputable section

namespace Cert.Proof.MidCall

open Cert.MidIdeal Cert.MidIdeal.Gen Idealize.ShloMosaic Idealize.ShloMosaic.TcCoe Idealize.SL.Sem

/-- What plain jnp computes of `x` and the pooled features `a`. -/
abbrev combine (x a : FVec Ideal S10000x128 .f32) (ws wn : FVec Ideal S128x128 .f32) (b : FVec Ideal S128 .f32) : FVec Ideal S10000x128 .f32 :=
  Dense.clip (addf (Dense.dot x ws) (Dense.dot a wn)) b

/-- What the body stores of them, the bias as a row. -/
theorem stored (x a : FVec Ideal S10000x128 .f32) (ws wn : FVec Ideal S128x128 .f32) (b : FVec Ideal S128 .f32) :
    k0_pay1 x ws a wn (shapeCast S1x128 b shapeCasts_S128_S1x128) = combine x a ws wn b := by
  exact Dense.clipped _ _ (congrArg₂ addf (Dense.product _ x ws) (Dense.product _ a wn)) b _ _ _

/-- What the body stores second: the next layer's features of the first result. -/
theorem stored_next (x a : FVec Ideal S10000x128 .f32) (ws wn : FVec Ideal S128x128 .f32) (b : FVec Ideal S128 .f32)
    (wp : FVec Ideal S128x128 .f32) (bp : FVec Ideal S128 .f32) :
    k0_pay2 x ws a wn (shapeCast S1x128 b shapeCasts_S128_S1x128) wp (shapeCast S1x128 bp shapeCasts_S128_S1x128)
      = Dense.clip (Dense.dot (combine x a ws wn b) wp) bp := by
  unfold k0_pay2
  rw [stored]
  exact Dense.clipped _ _ (Dense.product _ _ wp) bp _ _ _

variable (m : (ℓ : Loc nD τ sig) → Buf (Elt Ideal) ℓ)

/-- The host's reshape of the first bias has run before the call. -/
theorem bias_row (c : Dev nD) :
    V m c main_v0 = shapeCast S1x128 (m ((c : Thread nD τ).loc main_arg4)) shapeCasts_S128_S1x128 := by
  dsimp only [V, hostOps0]
  after_results
  rfl

/-- The host's reshape of the second bias has run before the call. -/
theorem bias_row_next (c : Dev nD) :
    V m c main_v1 = shapeCast S1x128 (m ((c : Thread nD τ).loc main_arg6)) shapeCasts_S128_S1x128 := by
  dsimp only [V, hostOps0]
  after_results
  rfl

/-! Each window is one block, its whole array. -/

theorem block0 (c : Dev nD) : iblk m c 0 t0_0 = V m c main_arg0 :=
  Memref.read_access_unit_zero (Elt Ideal) main_arg0 (funext fun a => by fin_cases a <;> decide) _ _
theorem block1 (c : Dev nD) : iblk m c 1 t0_0 = V m c main_arg1 :=
  Memref.read_access_unit_zero (Elt Ideal) main_arg1 (funext fun a => by fin_cases a <;> decide) _ _
theorem block2 (c : Dev nD) : iblk m c 2 t0_0 = V m c main_arg2 :=
  Memref.read_access_unit_zero (Elt Ideal) main_arg2 (funext fun a => by fin_cases a <;> decide) _ _
theorem block3 (c : Dev nD) : iblk m c 3 t0_0 = V m c main_arg3 :=
  Memref.read_access_unit_zero (Elt Ideal) main_arg3 (funext fun a => by fin_cases a <;> decide) _ _
theorem block4 (c : Dev nD) : iblk m c 4 t0_0 = V m c main_v0 :=
  Memref.read_access_unit_zero (Elt Ideal) main_v0 (funext fun a => by fin_cases a <;> decide) _ _
theorem block5 (c : Dev nD) : iblk m c 5 t0_0 = V m c main_arg5 :=
  Memref.read_access_unit_zero (Elt Ideal) main_arg5 (funext fun a => by fin_cases a <;> decide) _ _
theorem block6 (c : Dev nD) : iblk m c 6 t0_0 = V m c main_v1 :=
  Memref.read_access_unit_zero (Elt Ideal) main_v1 (funext fun a => by fin_cases a <;> decide) _ _
theorem block7 (f : main_v2_0.ty.Contents (Elt Ideal)) : ((cfg0.win 7).blk t0_0).view.read (Elt Ideal) f = f :=
  Memref.read_access_unit_zero (Elt Ideal) main_v2_0 (funext fun a => by fin_cases a <;> decide) _ _
theorem block8 (f : main_v2_1.ty.Contents (Elt Ideal)) : ((cfg0.win 8).blk t0_0).view.read (Elt Ideal) f = f :=
  Memref.read_access_unit_zero (Elt Ideal) main_v2_1 (funext fun a => by fin_cases a <;> decide) _ _

/-- The one store into the first output covers its block, of whole loads. -/
theorem body7 (x a : Vec Ideal S10000x128 .f32) (ws wn : Vec Ideal S128x128 .f32) (b : Vec Ideal S1x128 .f32)
    (wp : Vec Ideal S128x128 .f32) (bp : Vec Ideal S1x128 .f32) :
    out0_7 x a ws wn b wp bp = k0_pay1 x ws a wn b := by
  have h0 : (![0, 0] : Fin 2 → Nat) = fun _ => 0 := funext fun a => by fin_cases a <;> rfl
  unfold out0_7
  rw [View.canon_unit_zero h0]
  repeat rw [View.ld_unit_zero h0]

/-- The one store into the second output covers its block, of whole loads. -/
theorem body8 (x a : Vec Ideal S10000x128 .f32) (ws wn : Vec Ideal S128x128 .f32) (b : Vec Ideal S1x128 .f32)
    (wp : Vec Ideal S128x128 .f32) (bp : Vec Ideal S1x128 .f32) :
    out0_8 x a ws wn b wp bp = k0_pay2 x ws a wn b wp bp := by
  have h0 : (![0, 0] : Fin 2 → Nat) = fun _ => 0 := funext fun a => by fin_cases a <;> rfl
  unfold out0_8
  rw [View.canon_unit_zero h0]
  repeat rw [View.ld_unit_zero h0]

/-- The first output array after the run. -/
theorem final (c : Dev nD) :
    (dats m 0 c).arrAt 7 cfg0.N = combine (m ((c : Thread nD τ).loc main_arg0)) (m ((c : Thread nD τ).loc main_arg1)) (m ((c : Thread nD τ).loc main_arg2)) (m ((c : Thread nD τ).loc main_arg3)) (m ((c : Thread nD τ).loc main_arg4)) := by
  have h := Value.blocks7 m c t0_0 (by decide)
  rw [Value.flushed7, body7, block0, block1, block2, block3, block4, V_main_arg0, V_main_arg1, V_main_arg2, V_main_arg3, bias_row] at h
  exact (block7 _).symm.trans (h.trans (stored _ _ _ _ _))

/-- The second output array after the run. -/
theorem final_next (c : Dev nD) :
    (dats m 0 c).arrAt 8 cfg0.N = Dense.clip (Dense.dot (combine (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (m ((c : Thread nD τ).loc main_arg6)) := by
  have h := Value.blocks8 m c t0_0 (by decide)
  rw [Value.flushed8, body8, block0, block1, block2, block3, block4, block5, block6, V_main_arg0, V_main_arg1, V_main_arg2, V_main_arg3,
    V_main_arg5, bias_row, bias_row_next] at h
  exact (block8 _).symm.trans (h.trans (stored_next _ _ _ _ _ _ _))

/-- The call's run with its results, and plain jnp's. -/
theorem agrees : Cert.algebraic_MidIdeal_MidReferenceIdeal := by
  intro m g m' g' _ hm
  refine ⟨fun c => combine (m ((c : Thread nD τ).loc main_arg0)) (m ((c : Thread nD τ).loc main_arg1)) (m ((c : Thread nD τ).loc main_arg2)) (m ((c : Thread nD τ).loc main_arg3)) (m ((c : Thread nD τ).loc main_arg4)),
    fun c => Dense.clip (Dense.dot (combine (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5))) (m ((c : Thread nD τ).loc main_arg6)),
    θ_run_mono (Value.run_blocks m g) fun r h c => ⟨(h c).1.trans (final m c), (h c).2.1.trans (final_next m c), (h c).2.2⟩,
    θ_run_mono (Cert.MidReferenceIdeal.Value.run m' g') fun r h c => ⟨(h c).1.trans ?_, (h c).2.1.trans ?_, (h c).2.2⟩⟩
  all_goals
    obtain ⟨h0, h1, h2, h3, h4, h5, h6⟩ := hm c
    simp only [h0, h1, h2, h3, h4, h5, h6]
    rfl

/-- Plain jnp runs and changes no argument. -/
theorem frame_reference : Cert.quiescent_MidReferenceIdeal := fun m g _ =>
  θ_run_mono (Cert.MidReferenceIdeal.Value.run m g) fun r h =>
    ⟨fun c => (h c).2.2, sem_eq_zero_of_no_sems (by decide) r.2⟩

end Cert.Proof.MidCall

end
-- ==== Proof.PostCall.lean ====
/-
  The TensorCore call after the second SparseCore one: its output array is what plain jnp computes.
-/
module

public import proofs.«01_k».proof.Defs
public import proofs.«01_k».proof.Proof.Dense
public import proofs.«01_k».proof.Proof.Gen.Post.Frame
public import proofs.«01_k».proof.Proof.Gen.PostIdeal.Value
public import proofs.«01_k».proof.Proof.Gen.PostReferenceIdeal.Run

@[expose] public section

noncomputable section

namespace Cert.Proof.PostCall

open Cert.PostIdeal Cert.PostIdeal.Gen Idealize.ShloMosaic Idealize.ShloMosaic.TcCoe Idealize.SL.Sem

/-- What plain jnp computes of `x` and the pooled features `a`. -/
abbrev combine (x a : FVec Ideal S10000x128 .f32) (ws wn : FVec Ideal S128x128 .f32) (b : FVec Ideal S128 .f32) : FVec Ideal S10000x128 .f32 :=
  Dense.clip (addf (Dense.dot x ws) (Dense.dot a wn)) b

/-- What the body stores of them, the bias as a row. -/
theorem stored (x a : FVec Ideal S10000x128 .f32) (ws wn : FVec Ideal S128x128 .f32) (b : FVec Ideal S128 .f32) :
    k0_pay1 x ws a wn (shapeCast S1x128 b shapeCasts_S128_S1x128) = combine x a ws wn b := by
  exact Dense.clipped _ _ (congrArg₂ addf (Dense.product _ x ws) (Dense.product _ a wn)) b _ _ _

variable (m : (ℓ : Loc nD τ sig) → Buf (Elt Ideal) ℓ)

/-- The host's reshape of the bias has run before the call. -/
theorem bias_row (c : Dev nD) :
    V m c main_v0 = shapeCast S1x128 (m ((c : Thread nD τ).loc main_arg4)) shapeCasts_S128_S1x128 := by
  dsimp only [V, hostOps0]
  after_results
  rfl

/-! Each window is one block, its whole array. -/

theorem block0 (c : Dev nD) : iblk m c 0 t0_0 = V m c main_arg0 :=
  Memref.read_access_unit_zero (Elt Ideal) main_arg0 (funext fun a => by fin_cases a <;> decide) _ _
theorem block1 (c : Dev nD) : iblk m c 1 t0_0 = V m c main_arg1 :=
  Memref.read_access_unit_zero (Elt Ideal) main_arg1 (funext fun a => by fin_cases a <;> decide) _ _
theorem block2 (c : Dev nD) : iblk m c 2 t0_0 = V m c main_arg2 :=
  Memref.read_access_unit_zero (Elt Ideal) main_arg2 (funext fun a => by fin_cases a <;> decide) _ _
theorem block3 (c : Dev nD) : iblk m c 3 t0_0 = V m c main_arg3 :=
  Memref.read_access_unit_zero (Elt Ideal) main_arg3 (funext fun a => by fin_cases a <;> decide) _ _
theorem block4 (c : Dev nD) : iblk m c 4 t0_0 = V m c main_v0 :=
  Memref.read_access_unit_zero (Elt Ideal) main_v0 (funext fun a => by fin_cases a <;> decide) _ _
theorem block5 (f : main_v1.ty.Contents (Elt Ideal)) : ((cfg0.win 5).blk t0_0).view.read (Elt Ideal) f = f :=
  Memref.read_access_unit_zero (Elt Ideal) main_v1 (funext fun a => by fin_cases a <;> decide) _ _

/-- The one store into the output covers its block, of whole loads. -/
theorem body5 (x a : Vec Ideal S10000x128 .f32) (ws wn : Vec Ideal S128x128 .f32) (b : Vec Ideal S1x128 .f32) :
    out0_5 x a ws wn b = k0_pay1 x ws a wn b := by
  have h0 : (![0, 0] : Fin 2 → Nat) = fun _ => 0 := funext fun a => by fin_cases a <;> rfl
  unfold out0_5
  rw [View.canon_unit_zero h0]
  repeat rw [View.ld_unit_zero h0]

/-- The output array after the run. -/
theorem final (c : Dev nD) :
    (dats m 0 c).arrAt 5 cfg0.N = combine (m ((c : Thread nD τ).loc main_arg0)) (m ((c : Thread nD τ).loc main_arg1)) (m ((c : Thread nD τ).loc main_arg2)) (m ((c : Thread nD τ).loc main_arg3)) (m ((c : Thread nD τ).loc main_arg4)) := by
  have h := Value.blocks5 m c t0_0 (by decide)
  rw [Value.flushed5, body5, block0, block1, block2, block3, block4, V_main_arg0, V_main_arg1, V_main_arg2, V_main_arg3, bias_row] at h
  exact (block5 _).symm.trans (h.trans (stored _ _ _ _ _))

/-- The call's run with its result, and plain jnp's. -/
theorem agrees : Cert.algebraic_PostIdeal_PostReferenceIdeal := by
  intro m g m' g' _ hm
  refine ⟨fun c => combine (m ((c : Thread nD τ).loc main_arg0)) (m ((c : Thread nD τ).loc main_arg1)) (m ((c : Thread nD τ).loc main_arg2)) (m ((c : Thread nD τ).loc main_arg3)) (m ((c : Thread nD τ).loc main_arg4)),
    θ_run_mono (Value.run_blocks m g) fun r h c => ⟨(h c).1.trans (final m c), (h c).2⟩,
    θ_run_mono (Cert.PostReferenceIdeal.Value.run m' g') fun r h c => ⟨(h c).1.trans ?_, (h c).2⟩⟩
  obtain ⟨h0, h1, h2, h3, h4⟩ := hm c
  rw [h0, h1, h2, h3, h4]
  rfl

/-- Plain jnp runs and changes no argument. -/
theorem frame_reference : Cert.quiescent_PostReferenceIdeal := fun m g _ =>
  θ_run_mono (Cert.PostReferenceIdeal.Value.run m g) fun r h =>
    ⟨fun c => (h c).2, sem_eq_zero_of_no_sems (by decide) r.2⟩

end Cert.Proof.PostCall

end
-- ==== Proof.Layer.Body.lean ====
/-
  The edge group of the kernel's tile, written once. The printed body of the group loop spells out 32 edges of 8
  sixteen-lane maxima each; here it is one lane (`lane`), one edge (`edge`), one half of a group (`half`), and the
  theorem that the printed body is this program.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.LayerIdeal
public import proofs.«01_k».proof.Proof.Gen.LayerIdeal.Skeleton

@[expose] public section

noncomputable section

namespace Cert.Proof.SageLayer

open Cert.LayerIdeal Cert.LayerIdeal.Facts₀ Cert.LayerIdeal.Facts
open Idealize.ShloMosaic
open Idealize.SL.Sem

variable {F : FTy → Type} [FloatOps F] [Facts]

/-- The effects of the tile at grid point `i`. -/
abbrev Tile (F : FTy → Type) (i : grid1.Coords) : Type → Type := TpuEff nD τ sig (Elt F) Λ₀ (Proc.scVector ((i 0).castLE hcore1) ((i 1).castLE hsub1))

section
variable (i : grid1.Coords) (acc : Memref sig .scVector .vmem S40192 .f32) (rows : Memref sig .scVector .vmem S4x32x128 .f32)

/-- One lane of sixteen: the accumulator's sixteen words at `o`, each replaced by the greater of itself and the row's word. -/
def lane (o : Fin 1 → ℕ) (ho : ∀ a, o a + S16.size a ≤ S40192.size a) (r : Fin 3 → ℕ) (hr : ∀ a, r a + S1x1x16.size a ≤ S4x32x128.size a) :
    Prog (Tile F i) PUnit := do
  let a : Vec F S16 .f32 ← Prog.lift (TpuEff.load acc (Rect.unit (s := S40192) o S16.size ho).toLoadRect (View.loadsAt_vmem h_S16))
  let b : Vec F S1x1x16 .f32 ← Prog.lift (TpuEff.load rows (Rect.unit (s := S4x32x128) r S1x1x16.size hr).toLoadRect (View.loadsAt_vmem h_S1x1x16))
  let _c : Vec F S16 .f32 ← Prog.lift (TpuEff.load acc (Rect.unit (s := S40192) o S16.size ho).toLoadRect (View.loadsAt_vmem h_S16))
  Prog.lift (TpuEff.store acc (Rect.unit (s := S40192) o S16.size ho) (maximumf a (shapeCast S16 b shapeCasts_S1x1x16_S16)) Finset.univ (View.stores_vmem_bits_univ h_S16 rfl) (.inl rfl))

/-- Where lane `j` of row `e` of slot `p` stands among the gathered rows. -/
abbrev rowOff (p : BitVec 32) (e j : ℕ) : Fin 3 → ℕ := ![(Scalar.indexCast p).toNat, e, 16 * j]

theorem rowOff_inb (p : BitVec 32) (hp : p.toNat < 4) (e j : ℕ) (he : e < 32) (hj : j < 8) :
    ∀ a, rowOff p e j a + S1x1x16.size a ≤ S4x32x128.size a := by
  have h4 : (Scalar.indexCast p).toNat < 4 := by simpa [Scalar.indexCast] using hp
  intro a
  fin_cases a <;> simp [rowOff] <;> first | omega | skip

/-- One edge: the row `e` of slot `p` into the accumulator's row `v`, lane by lane. -/
def edge (v : BitVec 32) (p : BitVec 32) (hp : p.toNat < 4) (e : ℕ) (he : e < 32) : Prog (Tile F i) PUnit := do
  have hv : k1_chk6 v := (← Prog.lift (TpuEff.assume (k1_chk6 v) (k1_chk6.dec v))).down
  lane i acc rows (k1_off20 v (BitVec.ofNat 32 (16 * 0))) (k1_off20_inb v hv 0) (rowOff p e 0) (rowOff_inb p hp e 0 he (by decide))
  lane i acc rows (k1_off20 v (BitVec.ofNat 32 (16 * 1))) (k1_off20_inb v hv 1) (rowOff p e 1) (rowOff_inb p hp e 1 he (by decide))
  lane i acc rows (k1_off20 v (BitVec.ofNat 32 (16 * 2))) (k1_off20_inb v hv 2) (rowOff p e 2) (rowOff_inb p hp e 2 he (by decide))
  lane i acc rows (k1_off20 v (BitVec.ofNat 32 (16 * 3))) (k1_off20_inb v hv 3) (rowOff p e 3) (rowOff_inb p hp e 3 he (by decide))
  lane i acc rows (k1_off20 v (BitVec.ofNat 32 (16 * 4))) (k1_off20_inb v hv 4) (rowOff p e 4) (rowOff_inb p hp e 4 he (by decide))
  lane i acc rows (k1_off20 v (BitVec.ofNat 32 (16 * 5))) (k1_off20_inb v hv 5) (rowOff p e 5) (rowOff_inb p hp e 5 he (by decide))
  lane i acc rows (k1_off20 v (BitVec.ofNat 32 (16 * 6))) (k1_off20_inb v hv 6) (rowOff p e 6) (rowOff_inb p hp e 6 he (by decide))
  lane i acc rows (k1_off20 v (BitVec.ofNat 32 (16 * 7))) (k1_off20_inb v hv 7) (rowOff p e 7) (rowOff_inb p hp e 7 he (by decide))

theorem slices_lane (e : ℕ) (he : e < 16) : S16.Slices ![e] S1 := by
  have h : ∀ e : Fin 16, S16.Slices ![(e : ℕ)] S1 := by decide
  exact h ⟨e, he⟩

/-- The destination of edge `e` of the sixteen that `d` names. -/
abbrev dstAt (d : Vec F S16 .i32) (e : ℕ) (he : e < 16) : BitVec 32 := extractAt ![0] (extractStridedSlice S1 ![e] d (slices_lane e he)) inpos_S1_p0

/-- Half a group: sixteen edges, whose destinations are the words of `d`. -/
def half (d : Vec F S16 .i32) (p : BitVec 32) (hp : p.toNat < 4) (g : ℕ) (hg : g < 2) : Prog (Tile F i) PUnit := do
  edge i acc rows (dstAt d 0 (by decide)) p hp (16 * g + 0) (by omega)
  edge i acc rows (dstAt d 1 (by decide)) p hp (16 * g + 1) (by omega)
  edge i acc rows (dstAt d 2 (by decide)) p hp (16 * g + 2) (by omega)
  edge i acc rows (dstAt d 3 (by decide)) p hp (16 * g + 3) (by omega)
  edge i acc rows (dstAt d 4 (by decide)) p hp (16 * g + 4) (by omega)
  edge i acc rows (dstAt d 5 (by decide)) p hp (16 * g + 5) (by omega)
  edge i acc rows (dstAt d 6 (by decide)) p hp (16 * g + 6) (by omega)
  edge i acc rows (dstAt d 7 (by decide)) p hp (16 * g + 7) (by omega)
  edge i acc rows (dstAt d 8 (by decide)) p hp (16 * g + 8) (by omega)
  edge i acc rows (dstAt d 9 (by decide)) p hp (16 * g + 9) (by omega)
  edge i acc rows (dstAt d 10 (by decide)) p hp (16 * g + 10) (by omega)
  edge i acc rows (dstAt d 11 (by decide)) p hp (16 * g + 11) (by omega)
  edge i acc rows (dstAt d 12 (by decide)) p hp (16 * g + 12) (by omega)
  edge i acc rows (dstAt d 13 (by decide)) p hp (16 * g + 13) (by omega)
  edge i acc rows (dstAt d 14 (by decide)) p hp (16 * g + 14) (by omega)
  edge i acc rows (dstAt d 15 (by decide)) p hp (16 * g + 15) (by omega)

end

section
variable (i : grid1.Coords) (hp : Memref sig .scVector .hbm S10000x128 .f32) (src dst : Memref sig .scVector .hbm S320000 .i32)
  (out : Memref sig .scVector .hbm S1282048 .f32) (acc : Memref sig .scVector .vmem S40192 .f32) (srcC dstC : Memref sig .scVector .vmem S16000 .i32)
  (selS selD : Memref sig .scVector .vmem S8032 .i32) (rows : Memref sig .scVector .vmem S4x32x128 .f32) (gsem : DmaSems sig S4)
  (csem : DmaSems sig S2) (osem : DmaSems sig S_)

/-- The slot of the gathered rows at offset `o`. -/
abbrev slotAt (o : Fin 3 → ℕ) (ho : ∀ a, o a + S1x32x128.size a ≤ S4x32x128.size a) : Memref sig .scVector .vmem S32x128 .f32 :=
  (rows.slice (Rect.unit (s := S4x32x128) o S1x32x128.size ho) (fun _ => rfl)).squeeze S32x128 squeezes_S1x32x128_S32x128
/-- Its semaphore. -/
abbrev slotSem (o : Fin 1 → ℕ) (ho : ∀ a, o a + S1.size a ≤ S4.size a) : DmaSem sig :=
  ((gsem.slice (Rect.unit (s := S4) o S1.size ho)).squeeze S_ squeezes_S1_S_).sem
/-- The whole table, as the gathers name it. -/
abbrev table : Memref sig .scVector .hbm S10000x128 .f32 :=
  hp.slice (Rect.unit (s := S10000x128) ![0, 0] S10000x128.size inb_S10000x128_S10000x128_0_0) (fun _ => rfl)

/-- Start the gather of thirty-two rows, named by the list at `o`, into the slot at `r`. -/
def gatherAt (r : Fin 3 → ℕ) (hr : ∀ a, r a + S1x32x128.size a ≤ S4x32x128.size a) (o : Fin 1 → ℕ) (ho : ∀ a, o a + S32.size a ≤ S8032.size a)
    (g : Fin 1 → ℕ) (hg : ∀ a, g a + S1.size a ≤ S4.size a) : Prog (Tile F i) PUnit := do
  SparseCore.enqueueIndirectGather rfl (table hp) (slotAt rows r hr) gathers_S10000x128_S32x128
    (selS.slice (Rect.unit (s := S8032) o S32.size ho) (fun _ => rfl)) rfl (slotSem gsem g hg) (View.wordExact_bits rfl) rfl (Or.inl rfl)

theorem slot_lt {v : BitVec 32} (hv : k1_chk5 v) (t : Fin (k1_t4_loop v).trips) : (Scalar.remsi (Scf.iv 0#32 1#32 t) 4#32).toNat < 4 := by
  have h : (Scalar.remsi (Scf.iv 0#32 1#32 t) 4#32).toNat + 1 ≤ 4 := k1_off16_inb v hv t 0
  omega

/-- One group of thirty-two edges: wait for its rows, take them into the accumulator, start the group four on. -/
def group (v : BitVec 32) (hv : k1_chk5 v) (t : Fin (k1_t4_loop v).trips) : Prog (Tile F i) (BitVec 32) := do
  SparseCore.waitIndirectGather (slotSem gsem (k1_off18 v t) (k1_off18_inb v hv t)) (table hp) (slotAt rows (k1_off16 v t) (k1_off16_inb v hv t))
    (View.wordExact_bits rfl) ((View.wordExact_bits rfl).reshape _ _)
  let d : Vec F S16 .i32 ← Prog.lift (TpuEff.load selD (Rect.unit (s := S8032) (k1_off19 v t) S16.size (k1_off19_inb v hv t)).toLoadRect (View.loadsAt_vmem h_S16))
  half i acc rows d (Scalar.remsi (Scf.iv 0#32 1#32 t) 4#32) (slot_lt hv t) 0 (by decide)
  let e : Vec F S16 .i32 ← Prog.lift (TpuEff.load selD (Rect.unit (s := S8032) (k1_off164 v t) S16.size (k1_off164_inb v hv t)).toLoadRect (View.loadsAt_vmem h_S16))
  half i acc rows e (Scalar.remsi (Scf.iv 0#32 1#32 t) 4#32) (slot_lt hv t) 1 (by decide)
  if h : k1_cond6 v t = 1#1 then do
    gatherAt i hp selS rows gsem (k1_off309 v t) (k1_off309_inb v hv t h) (k1_off310 v t) (k1_off310_inb v hv t h) (k1_off311 v t) (k1_off311_inb v hv t h)
    pure ⟨⟩
  else do
    pure ⟨⟩
  pure 0#32

/-- The first node of the tile, and the first one after its nodes. -/
abbrev lo : BitVec 32 := Scalar.muli (Scalar.addi (Scalar.muli (BitVec.ofNat 32 (i 1).val) 2#32) (BitVec.ofNat 32 (i 0).val)) 313#32
abbrev hi : BitVec 32 := Scalar.addi (lo i) 313#32

/-- Which of sixteen destinations are the tile's. -/
abbrev mine (d : Vec F S16 .i32) : IVec S16 1 := andi (cmpi .sge d (broadcast S16 (lo i))) (cmpi .slt d (broadcast S16 (hi i)))
/-- How many of the first lanes up to each one are set. -/
abbrev counts (m : IVec S16 1) : IVec S16 32 := scan .sum (extui 32 m natLt_1_32)
/-- Where each lane goes, from `off` on. -/
abbrev places (off : BitVec 32) (c : IVec S16 32) : IVec S16 32 :=
  maxsi (subi (addi (broadcast S16 off) c) (broadcast S16 1#32)) (broadcast S16 0#32)
/-- The offset after the sixteen. -/
abbrev after (off : BitVec 32) (c : IVec S16 32) : BitVec 32 :=
  Scalar.addi off (extractAt ![0] (extractStridedSlice S1 ![15] c slices_S16_o15_S1) inpos_S1_p0)

/-- Put the chosen lanes of sixteen edges at the end of the two lists. -/
def put (off : BitVec 32) (d s : Vec F S16 .i32) : Prog (Tile F i) PUnit := do
  have h : k1_chk1 (places off (counts (mine i d))) := (← Prog.lift (TpuEff.assume (k1_chk1 (places off (counts (mine i d)))) (k1_chk1.dec _))).down
  SparseCore.vectorStoreIdx selS ![places off (counts (mine i d))] s (mine i d) false (k1_idx1_inb _ h) (View.stores_vmem_bits_univ h_S8032 rfl)
  SparseCore.vectorStoreIdx selD ![places off (counts (mine i d))] (subi d (broadcast S16 (lo i))) (mine i d) false (k1_idx2_inb _ h) (View.stores_vmem_bits_univ h_S8032 rfl)

/-- Sixteen words of a chunk. -/
abbrev word (m : Memref sig .scVector .vmem S16000 .i32) (t2 : Fin k1_t2_loop.trips) (t3 : Fin k1_t3_loop.trips) (u : Fin 4) : Prog (Tile F i) (Vec F S16 .i32) :=
  Prog.lift (TpuEff.load m (Rect.unit (s := S16000) (k1_off5 t2 t3 (BitVec.ofNat 32 u.val)) S16.size (k1_off5_inb t2 t3 u)).toLoadRect (View.loadsAt_vmem h_S16))

/-- One trip of the scan: sixty-four edges. -/
def scanTrip (t2 : Fin k1_t2_loop.trips) (t3 : Fin k1_t3_loop.trips) (off : BitVec 32) : Prog (Tile F i) (BitVec 32) := do
  let d0 ← word i dstC t2 t3 0
  let s0 ← word i srcC t2 t3 0
  let d1 ← word i dstC t2 t3 1
  let s1 ← word i srcC t2 t3 1
  let d2 ← word i dstC t2 t3 2
  let s2 ← word i srcC t2 t3 2
  let d3 ← word i dstC t2 t3 3
  let s3 ← word i srcC t2 t3 3
  put i selS selD off d0 s0
  put i selS selD (after off (counts (mine i d0))) d1 s1
  put i selS selD (after (after off (counts (mine i d0))) (counts (mine i d1))) d2 s2
  put i selS selD (after (after (after off (counts (mine i d0))) (counts (mine i d1))) (counts (mine i d2))) d3 s3
  pure (after (after (after (after off (counts (mine i d0))) (counts (mine i d1))) (counts (mine i d2))) (counts (mine i d3)))

/-- A semaphore of the chunk copies. -/
abbrev chunkSem (o : Fin 1 → ℕ) (ho : ∀ a, o a + S1.size a ≤ S2.size a) : DmaSem sig :=
  ((csem.slice (Rect.unit (s := S2) o S1.size ho)).squeeze S_ squeezes_S1_S_).sem
/-- One of the two chunks that a buffer holds, and a chunk of an edge list. -/
abbrev chunkOf (m : Memref sig .scVector .vmem S16000 .i32) (o : Fin 1 → ℕ) (ho : ∀ a, o a + S8000.size a ≤ S16000.size a) : Memref sig .scVector .vmem S8000 .i32 :=
  m.slice (Rect.unit (s := S16000) o S8000.size ho) (fun _ => rfl)
abbrev edgesOf (m : Memref sig .scVector .hbm S320000 .i32) (o : Fin 1 → ℕ) (ho : ∀ a, o a + S8000.size a ≤ S320000.size a) : Memref sig .scVector .hbm S8000 .i32 :=
  m.slice (Rect.unit (s := S320000) o S8000.size ho) (fun _ => rfl)

/-- Start the copy of a chunk of an edge list. -/
abbrev fetch (m : Memref sig .scVector .hbm S320000 .i32) (c : Memref sig .scVector .vmem S16000 .i32) (o : Fin 1 → ℕ) (ho : ∀ a, o a + S8000.size a ≤ S320000.size a)
    (o' : Fin 1 → ℕ) (ho' : ∀ a, o' a + S8000.size a ≤ S16000.size a) (q : Fin 1 → ℕ) (hq : ∀ a, q a + S1.size a ≤ S2.size a) : Prog (Tile F i) PUnit :=
  Prog.lift (TpuEff.enqueueDma (edgesOf m o ho) (.here (chunkOf c o' ho')) (.dma (chunkSem csem q hq)) (View.wordExact_bits rfl) (View.wordExact_bits rfl) ⟨Or.inl rfl, trivial⟩)
/-- Wait for it. -/
abbrev fetched (m : Memref sig .scVector .hbm S320000 .i32) (c : Memref sig .scVector .vmem S16000 .i32)
    (o' : Fin 1 → ℕ) (ho' : ∀ a, o' a + S8000.size a ≤ S16000.size a) (q : Fin 1 → ℕ) (hq : ∀ a, q a + S1.size a ≤ S2.size a) : Prog (Tile F i) PUnit :=
  Prog.lift (TpuEff.waitDma2 (chunkSem csem q hq) (edgesOf m ![0] inb_S320000_S8000_0) (chunkOf c o' ho') (View.wordExact_bits rfl) (View.wordExact_bits rfl))

/-- Sixteen equal words into a list. -/
def pad (m : Memref sig .scVector .vmem S8032 .i32) (o : Fin 1 → ℕ) (ho : ∀ a, o a + S16.size a ≤ S8032.size a) (x : BitVec 32) : Prog (Tile F i) PUnit := do
  let _a : Vec F S16 .i32 ← Prog.lift (TpuEff.load m (Rect.unit (s := S8032) o S16.size ho).toLoadRect (View.loadsAt_vmem h_S16))
  Prog.lift (TpuEff.store m (Rect.unit (s := S8032) o S16.size ho) (broadcast S16 x) Finset.univ (View.stores_vmem_bits_univ h_S16 rfl) (.inl rfl))

/-- The edges of one chunk that are the tile's, in the two lists, and the lists' padding. -/
def select (t2 : Fin k1_t2_loop.trips) : Prog (Tile F i) (Σ' v : BitVec 32, k1_chk5 v) := do
  fetched i csem src srcC (k1_off2 t2) (k1_off2_inb t2) ![0] inb_S2_S1_0
  fetched i csem dst dstC (k1_off2 t2) (k1_off2_inb t2) ![1] inb_S2_S1_1
  if h : k1_cond1 t2 = 1#1 then do
    fetch i csem src srcC (k1_off4 t2) (k1_off4_inb t2 h) (k1_off3 t2) (k1_off3_inb t2 h) ![0] inb_S2_S1_0
    fetch i csem dst dstC (k1_off4 t2) (k1_off4_inb t2 h) (k1_off3 t2) (k1_off3_inb t2 h) ![1] inb_S2_S1_1
    pure ⟨⟩
  else do
    pure ⟨⟩
  let v : BitVec 32 ← Scf.Loop.for k1_t3_loop k1_t3_ok 0#32 (fun t3 off => scanTrip i srcC dstC selS selD t2 t3 off)
  have hv : k1_chk5 v := (← Prog.lift (TpuEff.assume (k1_chk5 v) (k1_chk5.dec v))).down
  pad i selS (k1_off6 v) (k1_off6_inb v hv) 0#32
  pad i selS (k1_off7 v) (k1_off7_inb v hv) 0#32
  pad i selD (k1_off6 v) (k1_off6_inb v hv) 313#32
  pure ⟨v, hv⟩

/-- The number of groups of thirty-two that `v` edges make. -/
def groups (v : BitVec 32) : BitVec 32 :=
  let v56 : BitVec 32 := Scalar.addi v 32#32
  let v57 : BitVec 32 := Scalar.subi v56 1#32
  let v58 : BitVec 32 := Scalar.divsi v57 32#32
  let v59 : BitVec 1 := Scalar.cmpi .sgt v57 0#32
  let v60 : BitVec 32 := Scalar.extui v59
  let v61 : BitVec 1 := Scalar.cmpi .slt v57 0#32
  let v62 : BitVec 32 := Scalar.extui v61
  let v63 : BitVec 32 := Scalar.subi v60 v62
  let v64 : BitVec 1 := Scalar.cmpi .sgt 32#32 0#32
  let v65 : BitVec 32 := Scalar.extui v64
  let v66 : BitVec 1 := Scalar.cmpi .slt 32#32 0#32
  let v67 : BitVec 32 := Scalar.extui v66
  let v68 : BitVec 32 := Scalar.subi v65 v67
  let v69 : BitVec 1 := Scalar.cmpi .ne v63 v68
  let v70 : BitVec 32 := Scalar.remsi v57 32#32
  let v71 : BitVec 1 := Scalar.cmpi .ne v70 0#32
  let v72 : BitVec 1 := Scalar.andi v69 v71
  let v73 : BitVec 32 := Scalar.subi v58 1#32
  Scalar.select v72 v73 v58

/-- Is group `k` one of those that `v` edges make? -/
abbrev more (v k : BitVec 32) : BitVec 1 := Scalar.cmpi .ne ((Scalar.extui (Scalar.cmpi .sgt (groups v) k) : BitVec 32)) 0#32

/-- The first groups' gathers. -/
def starts (v : BitVec 32) (hv : k1_chk5 v) : Prog (Tile F i) (Σ' (_ : BitVec 32), BitVec 32) := do
  pad i selD (k1_off7 v) (k1_off7_inb v hv) 313#32
  if more v 0#32 = 1#1 then do
    gatherAt i hp selS rows gsem k1_off8 k1_off8_inb ![0] inb_S8032_S32_0 k1_off9 k1_off9_inb
    pure ⟨⟩
  else do
    pure ⟨⟩
  if more v 1#32 = 1#1 then do
    gatherAt i hp selS rows gsem k1_off10 k1_off10_inb ![32] inb_S8032_S32_32 k1_off11 k1_off11_inb
    pure ⟨⟩
  else do
    pure ⟨⟩
  if more v 2#32 = 1#1 then do
    gatherAt i hp selS rows gsem k1_off12 k1_off12_inb ![64] inb_S8032_S32_64 k1_off13 k1_off13_inb
    pure ⟨⟩
  else do
    pure ⟨⟩
  if more v 3#32 = 1#1 then do
    gatherAt i hp selS rows gsem k1_off14 k1_off14_inb ![96] inb_S8032_S32_96 k1_off15 k1_off15_inb
    pure ⟨⟩
  else do
    pure ⟨⟩
  pure ⟨groups v, 0#32⟩

/-- One chunk of edges. -/
def chunkTrip (t2 : Fin k1_t2_loop.trips) : Prog (Tile F i) (BitVec 32) := do
  let ⟨v, hv⟩ ← select i src dst srcC dstC selS selD csem t2
  let ⟨_, _⟩ ← starts i hp selS selD rows gsem v hv
  let _r : BitVec 32 ← Scf.Loop.for (k1_t4_loop v) (k1_t4_ok v hv) 0#32 (fun t _ => group i hp acc selS selD rows gsem v hv t)
  pure 0#32

/-- One trip of the clearing of the accumulator. -/
def clear (t : Fin k1_t1_loop.trips) : Prog (Tile F i) (BitVec 32) := do
  let _a : Vec F S16 .f32 ← Prog.lift (TpuEff.load acc (Rect.unit (s := S40192) (k1_off1 t) S16.size (k1_off1_inb t)).toLoadRect (View.loadsAt_vmem h_S16))
  Prog.lift (TpuEff.store acc (Rect.unit (s := S40192) (k1_off1 t) S16.size (k1_off1_inb t)) (broadcast S16 (Scalar.ofBits .f32 0x00000000#32)) Finset.univ (View.stores_vmem_bits_univ h_S16 rfl) (.inl rfl))
  pure 0#32

/-- The tile's program. -/
def tile : Prog (Tile F i) PUnit := do
  let _a : BitVec 32 ← Scf.Loop.for k1_t1_loop k1_t1_ok 0#32 (fun t _ => clear i acc t)
  fetch i csem src srcC ![0] inb_S320000_S8000_0 ![0] inb_S16000_S8000_0 ![0] inb_S2_S1_0
  fetch i csem dst dstC ![0] inb_S320000_S8000_0 ![0] inb_S16000_S8000_0 ![1] inb_S2_S1_1
  let _b : BitVec 32 ← Scf.Loop.for k1_t2_loop k1_t2_ok 0#32 (fun t2 _ => chunkTrip i hp src dst acc srcC dstC selS selD rows gsem csem t2)
  Prog.lift (TpuEff.enqueueDma (acc.slice (Rect.unit (s := S40192) ![0] S40064.size inb_S40192_S40064_0) (fun _ => rfl))
    (.here (out.slice (Rect.unit (s := S1282048) (k1_off608 i) S40064.size (k1_off608_inb i)) (fun _ => rfl))) (.dma osem.sem)
    (View.wordExact_bits rfl) (View.wordExact_bits rfl) ⟨Or.inl rfl, trivial⟩)
  pure ⟨⟩

end

end Cert.Proof.SageLayer

end
-- ==== Proof.Layer.Eq.lean ====
/-
  The printed body of the tile is the program of Body.lean: the same effects in the same order.
-/
module

public import proofs.«01_k».proof.Proof.Layer.Body

@[expose] public section

noncomputable section

namespace Cert.Proof.SageLayer

open Cert.LayerIdeal Cert.LayerIdeal.Facts₀ Cert.LayerIdeal.Facts
open Idealize.ShloMosaic
open Idealize.SL.Sem

variable {F : FTy → Type} [FloatOps F] [Facts]

theorem op_congr {E : Type → Type} {α β : Type} {e e' : E β} {k k' : β → Prog E α} (he : e = e') (hk : ∀ x, k x = k' x) :
    Prog.op e k = Prog.op e' k' := by subst he; exact congrArg _ (funext hk)

theorem bind_congr {E : Type → Type} {α β : Type} {x x' : Prog E α} {k k' : α → Prog E β} (hx : x = x') (hk : ∀ a, k a = k' a) :
    (x >>= k) = (x' >>= k') := by subst hx; exact congrArg _ (funext hk)

theorem for_congr {E : Type → Type} {σ : Type} {l : Scf.Loop 32} {hok : l.OK} {init : σ}
    {body body' : Fin l.trips → σ → Prog E σ} (h : ∀ t a, body t a = body' t a) :
    Scf.Loop.for l hok init body = Scf.Loop.for l hok init body' := by
  have : body = body' := funext fun t => funext (h t)
  rw [this]

theorem dite_congr' {α : Sort*} {c : Prop} {d : Decidable c} {t t' : c → α} {e e' : ¬ c → α} (ht : ∀ h, t h = t' h) (he : ∀ h, e h = e' h) :
    @dite α c d t e = @dite α c d t' e' := by
  rw [funext ht, funext he]

theorem ite_congr' {α : Sort*} {c : Prop} {d : Decidable c} {t t' e e' : α} (ht : t = t') (he : e = e') :
    @ite α c d t e = @ite α c d t' e' := by
  rw [ht, he]

theorem for_bind_congr {E : Type → Type} {σ β : Type} {l : Scf.Loop 32} {hok : l.OK} {init : σ} {body body' : Fin l.trips → σ → Prog E σ}
    {k k' : σ → Prog E β} (h : ∀ t a, body t a = body' t a) (hk : ∀ a, k a = k' a) :
    (Scf.Loop.for l hok init body >>= k) = (Scf.Loop.for l hok init body' >>= k') := bind_congr (for_congr h) hk

theorem op_bind {E : Type → Type} {α β γ : Type} (e : E α) (c : α → Prog E β) (f : β → Prog E γ) :
    (Prog.op e c >>= f) = Prog.op e (fun x => c x >>= f) := rfl
theorem ret_bind {E : Type → Type} {α β : Type} (a : α) (f : α → Prog E β) : ((Prog.ret a : Prog E α) >>= f) = f a := rfl
theorem pure_eq {E : Type → Type} {α : Type} (a : α) : (pure a : Prog E α) = Prog.ret a := rfl

/-- A loop of no trips. -/
theorem for_none {E : Type → Type} {σ : Type} {l : Scf.Loop 32} {hok : l.OK} {init : σ} {body : Fin l.trips → σ → Prog E σ} (h : l.trips = 0) :
    Scf.Loop.for l hok init body = .ret init := by
  unfold Scf.Loop.for
  rw [Scf.for_eq]
  have : List.finRange (Scf.trips l.lb l.ub l.st) = [] := by
    rw [show Scf.trips l.lb l.ub l.st = 0 from h]; rfl
  rw [this]; rfl

theorem for_none_bind {E : Type → Type} {σ β : Type} {l : Scf.Loop 32} {hok : l.OK} {init : σ} {body : Fin l.trips → σ → Prog E σ} {k : σ → Prog E β}
    (h : l.trips = 0) : (Scf.Loop.for l hok init body >>= k) = k init := by
  rw [for_none h]; rfl

theorem no_rest (v : BitVec 32) : (k1_t5_loop v).trips = 0 := by
  have h : (k1_t5_loop v).lb = (k1_t5_loop v).ub := by
    show Scalar.addi 0#32 (Scalar.muli (Scalar.divsi (Scalar.subi (groups v) 0#32) 1#32) 1#32) = Scalar.addi 0#32 (Scalar.subi (groups v) 0#32)
    generalize groups v = g
    have h1 : Scalar.divsi (Scalar.subi g 0#32) 1#32 = g := by
      have hs : g.sdiv 1#32 = g := by rw [BitVec.sdiv_one]
      simp [Scalar.divsi, Scalar.subi, IntOp.divsi, IntOp.subi, IntOp.SDivCorner, hs]
    rw [h1]
    simp [Scalar.addi, Scalar.muli, Scalar.subi, IntOp.addi, IntOp.muli, IntOp.subi]
  show Scf.trips _ _ _ = 0
  rw [h]
  show (((k1_t5_loop v).ub.toInt - (k1_t5_loop v).ub.toInt + 1 - 1) / 1).toNat = 0
  simp

section
variable (i : grid1.Coords) (arg2 : Memref sig .scVector .hbm S10000x128 .f32) (harg2 : arg2.IsWhole) (arg3 : Memref sig .scVector .hbm S320000 .i32) (harg3 : arg3.IsWhole) (arg4 : Memref sig .scVector .hbm S320000 .i32) (harg4 : arg4.IsWhole) (arg5 : Memref sig .scVector .hbm S1282048 .f32) (harg5 : arg5.IsWhole) (arg6 : Memref sig .scVector .vmem S40192 .f32) (harg6 : arg6.IsWhole) (arg7 : Memref sig .scVector .vmem S16000 .i32) (harg7 : arg7.IsWhole) (arg8 : Memref sig .scVector .vmem S16000 .i32) (harg8 : arg8.IsWhole) (arg9 : Memref sig .scVector .vmem S8032 .i32) (harg9 : arg9.IsWhole) (arg10 : Memref sig .scVector .vmem S8032 .i32) (harg10 : arg10.IsWhole) (arg11 : Memref sig .scVector .vmem S4x32x128 .f32) (harg11 : arg11.IsWhole) (arg12 : DmaSems sig S4) (arg13 : DmaSems sig S2) (v21_r0 : DmaSems sig S_)

set_option maxRecDepth 100000 in
theorem select_eq (t2 : Fin k1_t2_loop.trips) : k1_part148 (F := F) i arg2 harg2 arg3 harg3 arg4 harg4 arg5 harg5 arg6 harg6 arg7 harg7 arg8 harg8 arg9 harg9 arg10 harg10 arg11 harg11 arg12 arg13 v21_r0 (lo i) (hi i) 0#32 1#32 t2 = select i arg3 arg4 arg7 arg8 arg9 arg10 arg13 t2 := by
  unfold k1_part148 select
  refine op_congr rfl fun x => op_congr rfl fun x => ?_
  refine dite_congr' (fun h => op_congr rfl fun x => op_congr rfl fun x => ?_) (fun h => ?_)
  all_goals
    refine for_bind_congr (fun t a => ?_) fun v => ?_
    · simp only [k1_part1, k1_part2, k1_part3, scanTrip, put, word, Prog.lift, SparseCore.vectorStoreIdx, op_bind, ret_bind, pure_eq]
      rfl
    · simp only [pad, Prog.lift, op_bind, ret_bind, pure_eq]

theorem starts_eq (v : BitVec 32) (hv : k1_chk5 v) : k1_part149 (F := F) i arg2 harg2 arg3 harg3 arg4 harg4 arg5 harg5 arg6 harg6 arg7 harg7 arg8 harg8 arg9 harg9 arg10 harg10 arg11 harg11 arg12 arg13 v21_r0 v hv = starts i arg2 arg9 arg10 arg11 arg12 v hv := by
  simp only [k1_part149, starts, pad, gatherAt, SparseCore.enqueueIndirectGather, Prog.lift, op_bind, ret_bind, pure_eq]
  rfl

set_option maxHeartbeats 40000000 in
set_option maxRecDepth 100000 in
theorem tile_eq : k1_part150 (F := F) i arg2 harg2 arg3 harg3 arg4 harg4 arg5 harg5 arg6 harg6 arg7 harg7 arg8 harg8 arg9 harg9 arg10 harg10 arg11 harg11 arg12 arg13 v21_r0 = tile i arg2 arg3 arg4 arg5 arg6 arg7 arg8 arg9 arg10 arg11 arg12 arg13 v21_r0 := by
  unfold k1_part150 tile
  refine bind_congr rfl fun x => ?_
  refine op_congr rfl fun x => op_congr rfl fun x => ?_
  refine for_bind_congr (fun t2 a => ?_) fun v => rfl
  refine bind_congr (select_eq ..) fun v => ?_
  obtain ⟨v, hv⟩ := v
  refine bind_congr (starts_eq ..) fun w => ?_
  obtain ⟨w, w'⟩ := w
  refine for_bind_congr (fun t a => ?_) fun r => ?_
  · iterate 1059 (refine op_congr ?_ (fun x => ?_); · rfl)
    rfl
  · exact for_none_bind (no_rest v)

end

end Cert.Proof.SageLayer

end
-- ==== Proof.Layer.Setup.lean ====
/-
  The names that the tile's proof is written in: the program as the launch theorem sees it, the resource algebra, the
  tile's buffers, and what a run of words written or read through a rectangle of a buffer is.
-/
module

public import proofs.«01_k».proof.Proof.Layer.Eq
public import Idealize.ShloMosaic.Lib.Pipeline.Value

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

abbrev UH : Type := URounds (GSem nD τ sig) ℕ
abbrev UR : Type := URounds (GSem nD τ sig) Unit
abbrev UU : Type := UH × (UR × Counters)

/-- The algebra of the whole proof. -/
abbrev MM (F : FTy → Type) := MT nD τ sig (HIx 1) (Elt F) ℕ UU ℕ

abbrev 𝒱₀ : Variants := Variants.none

variable {F : FTy → Type}

abbrev cV (i : grid1.Coords) : Fin τ.nSC := (i 0).castLE hcore1
abbrev jV (i : grid1.Coords) : Fin τ.nSub := (i 1).castLE hsub1
/-- The tile's thread. -/
abbrev thr (d : Dev nD) (i : grid1.Coords) : Thread nD τ := V d (cV i) (jV i)

abbrev hpV : Memref sig .scVector .hbm S10000x128 .f32 := Memref.whole main_v5_scv
abbrev srcV : Memref sig .scVector .hbm S320000 .i32 := Memref.whole main_v1_scv
abbrev dstV : Memref sig .scVector .hbm S320000 .i32 := Memref.whole main_v3_scv
abbrev outV : Memref sig .scVector .hbm S1282048 .f32 := Memref.whole main_v6_scv
abbrev accV : Memref sig .scVector .vmem S40192 .f32 := Memref.whole cc1_scratch0
abbrev srcCV : Memref sig .scVector .vmem S16000 .i32 := Memref.whole cc1_scratch1
abbrev dstCV : Memref sig .scVector .vmem S16000 .i32 := Memref.whole cc1_scratch2
abbrev selSV : Memref sig .scVector .vmem S8032 .i32 := Memref.whole cc1_scratch3
abbrev selDV : Memref sig .scVector .vmem S8032 .i32 := Memref.whole cc1_scratch4
abbrev rowsV : Memref sig .scVector .vmem S4x32x128 .f32 := Memref.whole cc1_scratch5

/-- A run of the tile at grid point `i`, on device `d`. -/
abbrev run [FloatOps F] [Facts] (d : Dev nD) (i : grid1.Coords) {α : Type} (p : Prog (Tile F i) α) (Q : α → sProp (MM F)) : sProp (MM F) :=
  wp frame (wpE (defs₀ (F := F)) 𝒱₀ (thr d i) none) Set.univ p Q

/-! ## Words through a rectangle of a flat buffer -/

/-- Index `x` of a flat shape. -/
abbrev at1 {n : ℕ} (x : ℕ) (h : x < n) : (⟨1, ![n]⟩ : Shape).Idx := fun a => ⟨x, by rw [Fin.eq_zero a]; exact h⟩

theorem eq_at1 {n : ℕ} (i : (⟨1, ![n]⟩ : Shape).Idx) (h : (i 0).val < n) : i = at1 (i 0).val h := by
  funext a; rw [Fin.eq_zero a]

/-- The words `o, …, o + m - 1` of a flat buffer replaced by `w`. -/
theorem write_flat {n m : ℕ} {κ : Kind} {Val : EltTy → Type} {sp : Space} {e : EltTy} (v : View sig κ sp ⟨1, ![n]⟩ e) (f : v.ty.Contents Val)
    (w : (⟨1, ![m]⟩ : Shape).Idx → Val e) (o : Fin 1 → ℕ) (ho : ∀ a, o a + (![m] : Fin 1 → ℕ) a ≤ (⟨1, ![n]⟩ : Shape).size a)
    (i : (⟨1, ![n]⟩ : Shape).Idx) :
    v.read Val ((v.slice (Rect.unit (s := ⟨1, ![n]⟩) o ![m] ho)).write Val f w Finset.univ) i
      = if h : o 0 ≤ (i 0).val ∧ (i 0).val < o 0 + m then w (at1 ((i 0).val - o 0) (by omega)) else v.read Val f i := by
  split
  · next h =>
    have e : i = (Rect.unit (s := ⟨1, ![n]⟩) o ![m] ho).emb (at1 (n := m) ((i 0).val - o 0) (by omega)) := by
      funext a; rw [Fin.eq_zero a]; apply Fin.ext; simp only [Rect.emb_apply]
      show (i 0).val = o 0 + 1 * ((i 0).val - o 0); omega
    conv_lhs => rw [e]
    exact View.read_slice_write_emb _ _ _ (Finset.mem_univ _)
  · next h =>
    refine View.read_slice_write_of_not_mem _ _ _ _ fun hm => h ?_
    obtain ⟨x, -, hx⟩ := Finset.mem_map.mp hm
    have hx0 : (x 0).val < m := (x 0).isLt
    have := congrArg (fun i : (⟨1, ![n]⟩ : Shape).Idx => (i 0).val) hx
    have e0 : o 0 + 1 * (x 0).val = (i 0).val := this
    omega

/-- The words of a flat buffer through a rectangle. -/
theorem read_flat {n m : ℕ} {κ : Kind} {Val : EltTy → Type} {sp : Space} {e : EltTy} (v : View sig κ sp ⟨1, ![n]⟩ e) (f : v.ty.Contents Val)
    (o : Fin 1 → ℕ) (ho : ∀ a, o a + (![m] : Fin 1 → ℕ) a ≤ (⟨1, ![n]⟩ : Shape).size a) (j : (⟨1, ![m]⟩ : Shape).Idx) :
    (v.slice (Rect.unit (s := ⟨1, ![n]⟩) o ![m] ho)).read Val f j
      = v.read Val f (at1 (o 0 + (j 0).val) (by have h1 := ho 0; have h2 : (j 0).val < m := (j 0).isLt; simp at h1; omega)) := by
  rw [View.read_apply, View.read_apply]
  congr 2
  show v.emb _ = v.emb _
  congr 1
  funext a; rw [Fin.eq_zero a]; apply Fin.ext
  show o 0 + 1 * (j 0).val = _; simp

end Cert.Proof.SageLayer

end
-- ==== Proof.Layer.Pick.lean ====
/-
  The choice of a tile's edges, as functions of the edge lists: how many of the first `n` edges of a chunk are the
  tile's (`cnt`) and where each goes (`lst`); and that the running sums of a mask and the masked scatter compute them.
-/
module

public import proofs.«01_k».proof.Proof.Layer.Setup

@[expose] public section

noncomputable section

namespace Cert.Proof.SageLayer

open Cert.LayerIdeal Cert.LayerIdeal.Facts₀ Cert.LayerIdeal.Facts
open Idealize.ShloMosaic

variable {F : FTy → Type} [FloatOps F] [Facts]

/-- A property carried along a fold over `0, …, n - 1`. -/
theorem foldl_finRange {σ : Type} : ∀ (n : ℕ) (f : σ → Fin n → σ) (P : ℕ → σ → Prop) (g : σ), P 0 g →
    (∀ (k : Fin n) (g : σ), P k.val g → P (k.val + 1) (f g k)) → P n ((List.finRange n).foldl f g)
  | 0, f, P, g, h0, _ => by simpa using h0
  | n + 1, f, P, g, h0, hs => by
    rw [List.finRange_succ, List.foldl_cons, List.foldl_map]
    exact foldl_finRange n (fun g k => f g k.succ) (fun k => P (k + 1)) (f g 0) (hs 0 g h0) fun k g h => hs k.succ g h

/-- The lanes from 1 to `k`, and the sum over a list of lanes added to the first lane's. -/
def upto (k : ℕ) : List (Fin 16) := (List.finRange 16).filter fun j => decide (0 < j.val ∧ j.val ≤ k)
def sumOver (v : IVec S16 32) (l : List (Fin 16)) : BitVec 32 := l.foldl (fun r k => r + v (at1 k.val k.isLt)) (v (at1 0 (by decide)))

theorem upto_zero : upto 0 = [] := by decide
theorem upto_succ : ∀ k : Fin 15, upto (k.val + 1) = upto k.val ++ [k.succ] := by decide

theorem ofLane_eq (k : Fin 16) : (Shape.ofLane (d := ![16]) k : S16.Idx) = at1 k.val k.isLt := by
  funext a; rw [Fin.eq_zero a]; rfl

theorem scan_eq (v : IVec S16 32) (k : ℕ) (hk : k < 16) : scan .sum v (at1 k hk) = sumOver v (upto k) := by
  have e : (fun (r : BitVec 32) (k : Fin 16) => ScanKind.sum.step r (v (Shape.ofLane (d := ![16]) k))) = fun r k => r + v (at1 k.val k.isLt) := by
    funext r k; rw [ofLane_eq]; rfl
  have e0 : v (Shape.ofLane (d := ![16]) (⟨0, by decide⟩ : Fin 16)) = v (at1 0 (by decide)) := by rw [ofLane_eq]
  show (upto k).foldl (fun (r : BitVec 32) (k : Fin 16) => ScanKind.sum.step r (v (Shape.ofLane (d := ![16]) k))) (v (Shape.ofLane (d := ![16]) (⟨0, by decide⟩ : Fin 16))) = _
  rw [e, e0]; rfl

theorem scan_zero (v : IVec S16 32) : scan .sum v (at1 0 (by decide)) = v (at1 0 (by decide)) := by
  rw [scan_eq, upto_zero]; rfl

theorem scan_succ (v : IVec S16 32) (k : ℕ) (hk : k + 1 < 16) :
    scan .sum v (at1 (k + 1) hk) = scan .sum v (at1 k (by omega)) + v (at1 (k + 1) hk) := by
  rw [scan_eq, scan_eq, upto_succ ⟨k, by omega⟩]
  unfold sumOver
  rw [List.foldl_append]; rfl

variable (i : grid1.Coords)

/-- Is a destination one of the tile's? -/
abbrev bit (w : BitVec 32) : BitVec 1 := IntOp.andi (IntOp.cmpi .sge w (lo i)) (IntOp.cmpi .slt w (hi i))

variable (ds : ℕ → BitVec 32)

/-- How many of the edges `a, …, a + n - 1` are the tile's. -/
def cnt (a : ℕ) : ℕ → ℕ
  | 0 => 0
  | n + 1 => if bit i (ds (a + n)) = 1 then cnt a n + 1 else cnt a n

/-- The values of the tile's edges among `a, …, a + n - 1`, in order. -/
def lst (val : ℕ → BitVec 32) (a : ℕ) : ℕ → ℕ → BitVec 32
  | 0, _ => 0
  | n + 1, q => if bit i (ds (a + n)) = 1 ∧ q = cnt i ds a n then val (a + n) else lst val a n q

theorem cnt_le (a : ℕ) : ∀ n, cnt i ds a n ≤ n
  | 0 => le_rfl
  | n + 1 => by have := cnt_le a n; simp only [cnt]; split <;> omega

/-- What holds of the value of each of the tile's edges holds of each entry of the list. -/
theorem lst_all (val : ℕ → BitVec 32) (a : ℕ) (R : BitVec 32 → Prop) : ∀ n, (∀ k < n, bit i (ds (a + k)) = 1 → R (val (a + k))) →
    ∀ q < cnt i ds a n, R (lst i ds val a n q)
  | 0, _, q, hq => absurd hq (Nat.not_lt_zero _)
  | n + 1, h, q, hq => by
    simp only [lst]
    split
    · next hc => exact h n (by omega) hc.1
    · next hc =>
      refine lst_all val a R n (fun k hk => h k (by omega)) q ?_
      simp only [cnt] at hq
      split at hq
      · next hb => have : q ≠ cnt i ds a n := fun e => hc ⟨hb, e⟩; omega
      · exact hq

/-- Word `q` of a list. -/
def rd (f : S8032.Idx → BitVec 32) (q : ℕ) : BitVec 32 := f (at1 (q % 8032) (Nat.mod_lt _ (by decide)))

theorem rd_at (f : S8032.Idx → BitVec 32) (q : ℕ) (h : q < 8032) : rd f q = f (at1 q h) := by
  unfold rd; refine congrArg f ?_; funext a; apply Fin.ext; show q % 8032 = q; exact Nat.mod_eq_of_lt h

variable (dv : Vec F S16 .i32) (a m : ℕ) (hd : ∀ e (he : e < 16), dv (at1 e he) = ds (a + m + e))
include hd

theorem mine_bit (e : ℕ) (he : e < 16) : mine i dv (at1 e he) = bit i (ds (a + (m + e))) := by
  rw [← Nat.add_assoc, ← hd e he]; rfl

omit hd in
theorem cnt_step : ∀ n, cnt i ds a m ≤ cnt i ds a (m + n) ∧ cnt i ds a (m + n) ≤ cnt i ds a m + n
  | 0 => ⟨le_rfl, le_rfl⟩
  | n + 1 => by
    have := cnt_step n
    show _ ≤ cnt i ds a (m + n + 1) ∧ cnt i ds a (m + n + 1) ≤ _
    simp only [cnt]; split <;> omega

omit hd in
theorem ext_bit (b : BitVec 1) : (Scalar.extui b : BitVec 32).toNat = if b = 1 then 1 else 0 := by
  revert b; decide

theorem counts_val : ∀ (e : ℕ) (he : e < 16), (counts (mine i dv) (at1 e he)).toNat + cnt i ds a m = cnt i ds a (m + e + 1)
  | 0, he => by
    show (scan .sum _ _).toNat + _ = _
    rw [scan_zero]
    show (Scalar.extui (mine i dv (at1 0 _)) : BitVec 32).toNat + _ = _
    rw [ext_bit, mine_bit i ds dv a m hd 0 (by decide)]
    simp only [cnt, Nat.add_zero]
    split <;> omega
  | e + 1, he => by
    have ih := counts_val e (by omega)
    have hs := cnt_step i ds a m (e + 1)
    have e1 : m + (e + 1) = m + e + 1 := by omega
    have h2 : (Scalar.extui (mine i dv (at1 (e + 1) he)) : BitVec 32).toNat = if bit i (ds (a + (m + (e + 1)))) = 1 then 1 else 0 := by
      rw [ext_bit, mine_bit i ds dv a m hd (e + 1) he]
    have e2 : counts (mine i dv) (at1 (e + 1) he) = counts (mine i dv) (at1 e (by omega)) + (Scalar.extui (mine i dv (at1 (e + 1) he)) : BitVec 32) := scan_succ _ e he
    have hl := cnt_le i ds a m
    rw [e1] at hs h2 ⊢
    have e3 : cnt i ds a (m + e + 1 + 1) = if bit i (ds (a + (m + e + 1))) = 1 then cnt i ds a (m + e + 1) + 1 else cnt i ds a (m + e + 1) := rfl
    rw [e2, e3, BitVec.toNat_add, h2]
    generalize cnt i ds a (m + e + 1) = x at *
    generalize (counts (mine i dv) (at1 e _)).toNat = y at *
    by_cases hh : bit i (ds (a + (m + e + 1))) = 1
    · rw [if_pos hh, if_pos hh]; omega
    · rw [if_neg hh, if_neg hh]; omega

/-- Where each lane goes. -/
theorem places_val (off : BitVec 32) (ho : off.toNat = cnt i ds a m) (hm : m + 16 ≤ 8000) (e : ℕ) (he : e < 16) :
    (places off (counts (mine i dv)) (at1 e he)).toNat = cnt i ds a (m + e + 1) - 1 := by
  have hc := counts_val i ds dv a m hd e he
  have hl := cnt_le i ds a (m + e + 1)
  generalize hcc : counts (mine i dv) (at1 e he) = c at hc
  show (IntOp.maxsi (off + counts (mine i dv) (at1 e he) - 1#32) 0#32).toNat = _
  rw [hcc]
  have h1 : (off + c).toNat = cnt i ds a (m + e + 1) := by rw [BitVec.toNat_add]; omega
  generalize off + c = w at h1
  rw [← h1] at hl ⊢
  by_cases h0 : w = 0#32
  · subst h0; decide
  · have hw : w.toNat ≠ 0 := fun h => h0 (BitVec.eq_of_toNat_eq (by simpa using h))
    have e1 : (w - 1#32).toNat = w.toNat - 1 := by
      rw [BitVec.toNat_sub]; simp; omega
    unfold IntOp.maxsi
    split
    · exact e1
    · next h =>
      rw [BitVec.slt, decide_eq_true_iff, BitVec.toInt_eq_toNat_of_lt (x := w - 1#32) (by rw [e1]; omega), e1] at h
      have hz : (0#32).toInt = 0 := by decide
      rw [hz] at h
      have h00 : (0#32).toNat = 0 := rfl
      rw [h00]; omega

theorem after_val (off : BitVec 32) (ho : off.toNat = cnt i ds a m) (hm : m + 16 ≤ 8000) :
    (after off (counts (mine i dv))).toNat = cnt i ds a (m + 16) := by
  have hc := counts_val i ds dv a m hd 15 (by decide)
  have hl := cnt_le i ds a (m + 16)
  have e : extractAt ![0] (extractStridedSlice S1 ![15] (counts (mine i dv)) slices_S16_o15_S1) inpos_S1_p0 = counts (mine i dv) (at1 15 (by decide)) := by
    generalize counts (mine i dv) = c
    unfold extractAt extractStridedSlice
    refine congrArg c ?_
    funext b; rw [Fin.eq_zero b]; rfl
  show (off + extractAt ![0] (extractStridedSlice S1 ![15] (counts (mine i dv)) slices_S16_o15_S1) inpos_S1_p0).toNat = _
  rw [show m + 15 + 1 = m + 16 from rfl] at hc
  rw [e, BitVec.toNat_add]; omega

theorem chk1_of (off : BitVec 32) (ho : off.toNat = cnt i ds a m) (hm : m + 16 ≤ 8000) : k1_chk1 (places off (counts (mine i dv))) := by
  have h : ∀ (b : Fin 1) (x : S16.Idx), ((![places off (counts (mine i dv))] : Fin 1 → IVec S16 32) b x).toNat < S8032.size b := by
    intro b x
    rw [Fin.eq_zero b]
    have hx : (x 0).val < 16 := (x 0).isLt
    show (places off (counts (mine i dv)) x).toNat < 8032
    have ex : x = at1 (x 0).val hx := eq_at1 x hx
    rw [ex, places_val i ds dv a m hd off ho hm _ hx]
    have := cnt_le i ds a (m + (x 0).val + 1)
    omega
  exact ⟨h, h⟩

/-- The masked scatter puts the tile's edges among the sixteen at the end of the list. -/
theorem store_lst (val : ℕ → BitVec 32) (sv : Vec F S16 .i32) (hs : ∀ e (he : e < 16), sv (at1 e he) = val (a + m + e)) (f : S8032.Idx → BitVec 32)
    (off : BitVec 32) (ho : off.toNat = cnt i ds a m) (hm : m + 16 ≤ 8000) (hf : ∀ q < cnt i ds a m, rd f q = lst i ds val a m q)
    (h : ∀ b x, ((![places off (counts (mine i dv))] : Fin 1 → IVec S16 32) b x).toNat < S8032.size b) :
    ∀ q < cnt i ds a (m + 16), rd (storeIdx (F := F) (s := S8032) (e := .i32) f ![places off (counts (mine i dv))] sv (mine i dv) false h) q = lst i ds val a (m + 16) q := by
  unfold storeIdx
  refine foldl_finRange 16 _ (fun k (g : S8032.Idx → BitVec 32) => ∀ q < cnt i ds a (m + k), rd g q = lst i ds val a (m + k) q) f hf ?_
  intro k g hg
  have hk := k.isLt
  have ek : (Shape.ofLane (d := ![16]) k : S16.Idx) = at1 k.val k.isLt := ofLane_eq k
  show ∀ q < cnt i ds a (m + k.val + 1), rd _ q = lst i ds val a (m + k.val + 1) q
  have hp := places_val i ds dv a m hd off ho hm k.val hk
  have hb := mine_bit i ds dv a m hd k.val hk
  have hcl := cnt_le i ds a (m + k.val)
  intro q hq
  dsimp only [idxAt]
  simp only [Bool.false_eq_true, if_false]
  rw [ek, hb]
  simp only [cnt] at hq hp
  simp only [lst]
  by_cases h1 : bit i (ds (a + (m + k.val))) = 1
  · rw [if_pos h1] at hq hp
    rw [if_pos h1, rd_at _ _ (by omega)]
    by_cases hqe : q = cnt i ds a (m + k.val)
    · rw [if_pos (show bit i (ds (a + (m + k.val))) = 1 ∧ q = cnt i ds a (m + k.val) from ⟨h1, hqe⟩), if_pos, hs k.val hk, Nat.add_assoc]
      intro b
      have hb0 : b = 0 := Fin.eq_zero b
      subst hb0
      show q = (places off (counts (mine i dv)) (at1 k.val hk)).toNat
      rw [hp]; omega
    · rw [if_neg (show ¬ (bit i (ds (a + (m + k.val))) = 1 ∧ q = cnt i ds a (m + k.val)) from fun hc => hqe hc.2), if_neg, ← hg q (by omega), rd_at _ _ (by omega)]
      intro hb
      have h0 : q = (places off (counts (mine i dv)) (at1 k.val hk)).toNat := hb 0
      rw [hp] at h0
      omega
  · rw [if_neg h1] at hq
    rw [if_neg h1, if_neg (show ¬ (bit i (ds (a + (m + k.val))) = 1 ∧ q = cnt i ds a (m + k.val)) from fun hc => h1 hc.1)]
    exact hg q hq

end Cert.Proof.SageLayer

end
-- ==== Proof.Layer.Where.lean ====
/-
  The offsets of the tile's loops outside the groups, as numbers.
-/
module

public import proofs.«01_k».proof.Proof.Layer.Setup

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

theorem trips1 : k1_t1_loop.trips = 2512 := by decide +kernel
theorem trips2 : k1_t2_loop.trips = 40 := by decide +kernel
theorem trips3 : k1_t3_loop.trips = 125 := by decide +kernel

theorem t1_lt (t : Fin k1_t1_loop.trips) : t.val < 2512 := lt_of_lt_of_eq t.isLt trips1
theorem t2_lt (t : Fin k1_t2_loop.trips) : t.val < 40 := lt_of_lt_of_eq t.isLt trips2
theorem t3_lt (t : Fin k1_t3_loop.trips) : t.val < 125 := lt_of_lt_of_eq t.isLt trips3

theorem iv_of (n : ℕ) (hn : n < 10000) : (Scf.iv 0#32 1#32 n : BitVec 32).toNat = n := by
  simp only [Scf.iv, BitVec.toNat_add, BitVec.toNat_mul, BitVec.toNat_ofNat]
  omega

theorem iv_eq (n : ℕ) (hn : n < 10000) : (Scf.iv 0#32 1#32 n : BitVec 32) = BitVec.ofNat 32 n := by
  apply BitVec.eq_of_toNat_eq; rw [iv_of n hn, BitVec.toNat_ofNat]; omega

theorem rem_two (n : ℕ) (hn : n < 40) : (Scalar.remsi (Scf.iv 0#32 1#32 n) 2#32 : BitVec 32).toNat = n % 2 := by
  have h : ∀ n : Fin 40, (Scalar.remsi (BitVec.ofNat 32 n.val) 2#32 : BitVec 32).toNat = n.val % 2 := by decide +kernel
  rw [iv_eq n (by omega)]
  exact h ⟨n, hn⟩

theorem off1_val (t : Fin k1_t1_loop.trips) : k1_off1 t 0 = 16 * t.val := by
  show ((Scf.iv 0#32 1#32 t.val : BitVec 32) * 16#32).toNat = _
  have := t1_lt t
  rw [BitVec.toNat_mul, iv_of _ (by omega)]; simp only [BitVec.toNat_ofNat]; omega
theorem off2_val (t : Fin k1_t2_loop.trips) : k1_off2 t 0 = 8000 * (t.val % 2) := by
  show ((Scalar.remsi (Scf.iv 0#32 1#32 t.val) 2#32 : BitVec 32) * 8000#32).toNat = _
  rw [BitVec.toNat_mul, rem_two _ (t2_lt t)]; simp only [BitVec.toNat_ofNat]; omega
theorem off3_val (t : Fin k1_t2_loop.trips) : k1_off3 t 0 = 8000 * ((t.val + 1) % 2) := by
  show ((1#32 - (Scalar.remsi (Scf.iv 0#32 1#32 t.val) 2#32 : BitVec 32)) * 8000#32).toNat = _
  have h : ∀ w : Fin 2, ((1#32 - BitVec.ofNat 32 w.val) * 8000#32).toNat = 8000 * ((w.val + 1) % 2) := by decide
  have e : (Scalar.remsi (Scf.iv 0#32 1#32 t.val) 2#32 : BitVec 32) = BitVec.ofNat 32 (t.val % 2) := by
    apply BitVec.eq_of_toNat_eq; rw [rem_two _ (t2_lt t), BitVec.toNat_ofNat]; omega
  rw [e, h ⟨t.val % 2, by omega⟩]
  show 8000 * ((t.val % 2 + 1) % 2) = _; omega
theorem off4_val (t : Fin k1_t2_loop.trips) : k1_off4 t 0 = 8000 * (t.val + 1) := by
  show (((Scf.iv 0#32 1#32 t.val : BitVec 32) + 1#32) * 8000#32).toNat = _
  have := t2_lt t
  rw [BitVec.toNat_mul, BitVec.toNat_add, iv_of _ (by omega)]; simp only [BitVec.toNat_ofNat]; omega
theorem off5_val (t : Fin k1_t2_loop.trips) (t3 : Fin k1_t3_loop.trips) (u : Fin 4) :
    k1_off5 t t3 (BitVec.ofNat 32 u.val) 0 = 8000 * (t.val % 2) + (64 * t3.val + 16 * u.val) := by
  show ((Scalar.remsi (Scf.iv 0#32 1#32 t.val) 2#32 : BitVec 32) * 8000#32 + (4#32 * (Scf.iv 0#32 1#32 t3.val : BitVec 32) + BitVec.ofNat 32 u.val) * 16#32).toNat = _
  have := t3_lt t3
  have := u.isLt
  rw [BitVec.toNat_add, BitVec.toNat_mul, rem_two _ (t2_lt t), BitVec.toNat_mul, BitVec.toNat_add, BitVec.toNat_mul, iv_of _ (by omega)]; simp only [BitVec.toNat_ofNat]; omega

theorem cond1_iff (t : Fin k1_t2_loop.trips) : k1_cond1 t = 1#1 ↔ t.val + 1 < 40 := by
  have h : ∀ n : Fin 40, (Scalar.cmpi .ne (Scalar.extui (Scalar.cmpi .slt (Scalar.addi (BitVec.ofNat 32 n.val) 1#32) 40#32) : BitVec 32) 0#32 : BitVec 1) = 1#1 ↔ n.val + 1 < 40 := by decide +kernel
  show (Scalar.cmpi .ne (Scalar.extui (Scalar.cmpi .slt (Scalar.addi (Scf.iv 0#32 1#32 t.val) 1#32) 40#32) : BitVec 32) 0#32 : BitVec 1) = 1#1 ↔ _
  have := t2_lt t
  rw [iv_eq _ (by omega)]
  exact h ⟨t.val, this⟩

/-- The number of the tile among the thirty-two, and the first of its nodes. -/
def tileNo (i : grid1.Coords) : ℕ := 2 * (i 1).val + (i 0).val

theorem core_lt (i : grid1.Coords) : (i 0).val < 2 := (i 0).isLt
theorem sub_lt (i : grid1.Coords) : (i 1).val < 16 := (i 1).isLt
theorem tileNo_lt (i : grid1.Coords) : tileNo i < 32 := by
  have := core_lt i; have := sub_lt i; unfold tileNo; omega

theorem lo_val (i : grid1.Coords) : (lo i).toNat = 313 * tileNo i := by
  have := core_lt i; have := sub_lt i
  show ((BitVec.ofNat 32 (i 1).val * 2#32 + BitVec.ofNat 32 (i 0).val) * 313#32).toNat = _
  simp only [BitVec.toNat_mul, BitVec.toNat_add, BitVec.toNat_ofNat, tileNo]; omega
theorem hi_val (i : grid1.Coords) : (hi i).toNat = 313 * tileNo i + 313 := by
  have := tileNo_lt i
  show (lo i + 313#32).toNat = _
  rw [BitVec.toNat_add, lo_val]; simp only [BitVec.toNat_ofNat]; omega
theorem off608_val (i : grid1.Coords) : k1_off608 i 0 = 40064 * tileNo i := by
  have := core_lt i; have := sub_lt i
  show (((BitVec.ofNat 32 (i 1).val * 2#32 + BitVec.ofNat 32 (i 0).val) * 313#32) * 128#32).toNat = _
  simp only [BitVec.toNat_mul, BitVec.toNat_add, BitVec.toNat_ofNat, tileNo]; omega

/-- A node is the tile's if and only if it is among its 313. -/
theorem bit_iff (i : grid1.Coords) (w : BitVec 32) (hw : w.toNat < 10000) :
    IntOp.andi (IntOp.cmpi .sge w (lo i)) (IntOp.cmpi .slt w (hi i)) = 1#1 ↔ 313 * tileNo i ≤ w.toNat ∧ w.toNat < 313 * tileNo i + 313 := by
  have := tileNo_lt i
  have hb : ∀ a b : Bool, IntOp.andi (BitVec.ofBool a) (BitVec.ofBool b) = 1#1 ↔ a = true ∧ b = true := by decide
  show IntOp.andi (BitVec.ofBool ((lo i).sle w)) (BitVec.ofBool (w.slt (hi i))) = 1#1 ↔ _
  rw [hb, BitVec.sle, BitVec.slt, decide_eq_true_iff, decide_eq_true_iff, BitVec.toInt_eq_toNat_of_lt (x := w) (by omega), BitVec.toInt_eq_toNat_of_lt (x := lo i) (by rw [lo_val]; omega),
    BitVec.toInt_eq_toNat_of_lt (x := hi i) (by rw [hi_val]; omega), lo_val, hi_val]
  omega

theorem sub_val (i : grid1.Coords) (w : BitVec 32) (h : 313 * tileNo i ≤ w.toNat) : (w - lo i).toNat = w.toNat - 313 * tileNo i := by
  have h1 := w.isLt
  have h2 := lo_val i
  rw [BitVec.toNat_sub]; omega

end Cert.Proof.SageLayer

end
-- ==== Proof.Layer.Scan.lean ====
/-
  The scan of one chunk: sixty-four edges at a time, the tile's edges put at the end of the two lists.
-/
module

public import proofs.«01_k».proof.Proof.Layer.Pick
public import proofs.«01_k».proof.Proof.Layer.Where

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

variable (d : Dev nD) (i : grid1.Coords)

theorem set_selS : (selSV.access (.whole S8032)).set = Finset.univ := Memref.set_access_whole cc1_scratch3
theorem read_selS (f : S8032.Idx → BitVec 32) : (selSV.access (.whole S8032)).read (Elt F) f = f := Memref.read_access_whole (Elt F) cc1_scratch3 f
theorem write_selS (f w : S8032.Idx → BitVec 32) : (selSV.access (.whole S8032)).write (Elt F) f w Finset.univ = w := Memref.write_access_whole_univ (Elt F) cc1_scratch3 f w

theorem set_selD : (selDV.access (.whole S8032)).set = Finset.univ := Memref.set_access_whole cc1_scratch4
theorem read_selD (f : S8032.Idx → BitVec 32) : (selDV.access (.whole S8032)).read (Elt F) f = f := Memref.read_access_whole (Elt F) cc1_scratch4 f
theorem write_selD (f w : S8032.Idx → BitVec 32) : (selDV.access (.whole S8032)).write (Elt F) f w Finset.univ = w := Memref.write_access_whole_univ (Elt F) cc1_scratch4 f w

section
variable (ds ss : ℕ → BitVec 32) (a m : ℕ)

/-- A list holds the tile's edges among the first `m` of the chunk. -/
def Holds (val : ℕ → BitVec 32) (m : ℕ) (f : S8032.Idx → BitVec 32) : Prop := ∀ q < cnt i ds a m, rd f q = lst i ds val a m q

/-- The two lists after the first `m` edges of the chunk. -/
def Lists (m : ℕ) : sProp (MM F) :=
  iprop(∃ fS fD : S8032.Idx → BitVec 32, ⌜Holds i ds a ss m fS ∧ Holds i ds a (fun k => ds k - lo i) m fD⌝
    ∗ (selSV.view.loc (thr d i) ↦{fullShare} fS) ∗ (selDV.view.loc (thr d i) ↦{fullShare} fD))

theorem wp_put {α : Type} {k : PUnit → Prog (Tile F i) α} {Q : α → sProp (MM F)} (off : BitVec 32) (dv sv : Vec F S16 .i32)
    (hd : ∀ e (he : e < 16), dv (at1 e he) = ds (a + m + e)) (hs : ∀ e (he : e < 16), sv (at1 e he) = ss (a + m + e))
    (ho : off.toNat = cnt i ds a m) (hm : m + 16 ≤ 8000) :
    Lists d i ds ss a m ⊢ iprop((Lists d i ds ss a (m + 16) -∗ run d i (k ⟨⟩) Q) -∗ run d i (put i selSV selDV off dv sv >>= k) Q) := by
  have hchk := chk1_of i ds dv a m hd off ho hm
  unfold Lists put run
  simp only [Prog.lift, op_bind, ret_bind, Prog.bind_assoc]
  iintro ⟨%fS, %fD, %hf, HS, HD⟩ Hk
  iapply (wp_assume 𝒱₀ (thr d i) none Set.univ hchk)
  iapply (SparseCore.wp_vectorStoreIdx 𝒱₀ (thr d i) none Set.univ (defs := defs₀ (F := F)) (base := selSV) (f := fS)) $$ [HS]
  · rw [set_selS]; iexact HS
  iintro HS
  iapply (SparseCore.wp_vectorStoreIdx 𝒱₀ (thr d i) none Set.univ (defs := defs₀ (F := F)) (base := selDV) (f := fD)) $$ [HD]
  · rw [set_selD]; iexact HD
  iintro HD
  rw [set_selS, set_selD, write_selS, write_selD, read_selS, read_selD]
  iapply Hk
  iexists _
  iexists _
  isplitr
  swap
  · isplitl [HS]
    · iexact HS
    · iexact HD
  ipureintro
  exact ⟨store_lst i ds dv a m hd ss sv hs fS off ho hm hf.1 (k1_idx1_inb _ hchk),
    store_lst i ds dv a m hd (fun k => ds k - lo i) (subi dv (broadcast S16 (lo i))) (fun e he => by rw [← hd e he]; rfl) fD off ho hm hf.2 (k1_idx2_inb _ hchk)⟩

/-- The elements of half `p` of a chunk buffer. -/
def halfSet (p : ℕ) : Finset S16000.Idx := Finset.univ.filter fun x => (x 0).val / 8000 = p

/-- Half `p` of a chunk buffer holds the words `val` from `a` on. -/
def Chunk (val : ℕ → BitVec 32) (p : ℕ) (g : S16000.Idx → BitVec 32) : Prop := ∀ x < 8000, ∀ h, g (at1 (8000 * p + x) h) = val (a + x)

variable (gS gD : S16000.Idx → BitVec 32) (t2 : Fin k1_t2_loop.trips) (t3 : Fin k1_t3_loop.trips)

theorem wp_wordS {α : Type} {k : Vec F S16 .i32 → Prog (Tile F i) α} {Q : α → sProp (MM F)} (val : ℕ → BitVec 32) (u : Fin 4)
    (hg : Chunk a val (t2.val % 2) gS) :
    (srcCV.view.loc (thr d i) ↦[halfSet (t2.val % 2)]{fullShare} gS)
      ⊢ iprop((∀ w : Vec F S16 .i32, ⌜∀ e (he : e < 16), w (at1 e he) = val (a + (64 * t3.val + 16 * u.val) + e)⌝
          -∗ (srcCV.view.loc (thr d i) ↦[halfSet (t2.val % 2)]{fullShare} gS) -∗ run d i (k w) Q)
        -∗ run d i (word i srcCV t2 t3 u >>= k) Q) := by
  have eo := off5_val t2 t3 u
  have ht := t3_lt t3
  have hu := u.isLt
  unfold run
  simp only [Prog.lift, op_bind, ret_bind]
  iintro H Hk
  iapply (wp_load_rect 𝒱₀ (thr d i) none Set.univ (defs := defs₀ (F := F)) (m := srcCV) (r := Rect.unit (s := S16000) (k1_off5 t2 t3 (BitVec.ofNat 32 u.val)) S16.size (k1_off5_inb t2 t3 u)) (q := fullShare) (f := gS) (S := halfSet (t2.val % 2)) (by
    intro x hx
    obtain ⟨y, -, rfl⟩ := Finset.mem_map.mp hx
    refine Finset.mem_filter.mpr ⟨Finset.mem_univ _, ?_⟩
    have hy : (y 0).val < 16 := (y 0).isLt
    show (k1_off5 t2 t3 (BitVec.ofNat 32 u.val) 0 + 1 * (y 0).val) / 8000 = t2.val % 2
    rw [eo]; omega)) $$ H
  iintro H
  iapply Hk $$ %_ %_ H
  intro e he
  refine (read_flat (Val := Elt F) (n := 16000) (m := 16) srcCV.view gS _ (k1_off5_inb t2 t3 u) (at1 e he)).trans ?_
  refine Eq.trans ?_ ((hg (64 * t3.val + 16 * u.val + e) (by omega) (by omega)).trans (congrArg val (by omega)))
  show gS _ = gS _
  refine congrArg gS ?_
  funext b; apply Fin.ext
  show k1_off5 t2 t3 (BitVec.ofNat 32 u.val) 0 + e = _
  rw [eo]
  show _ = 8000 * (t2.val % 2) + (64 * t3.val + 16 * u.val + e)
  omega

theorem wp_wordD {α : Type} {k : Vec F S16 .i32 → Prog (Tile F i) α} {Q : α → sProp (MM F)} (val : ℕ → BitVec 32) (u : Fin 4)
    (hg : Chunk a val (t2.val % 2) gD) :
    (dstCV.view.loc (thr d i) ↦[halfSet (t2.val % 2)]{fullShare} gD)
      ⊢ iprop((∀ w : Vec F S16 .i32, ⌜∀ e (he : e < 16), w (at1 e he) = val (a + (64 * t3.val + 16 * u.val) + e)⌝
          -∗ (dstCV.view.loc (thr d i) ↦[halfSet (t2.val % 2)]{fullShare} gD) -∗ run d i (k w) Q)
        -∗ run d i (word i dstCV t2 t3 u >>= k) Q) := by
  have eo := off5_val t2 t3 u
  have ht := t3_lt t3
  have hu := u.isLt
  unfold run
  simp only [Prog.lift, op_bind, ret_bind]
  iintro H Hk
  iapply (wp_load_rect 𝒱₀ (thr d i) none Set.univ (defs := defs₀ (F := F)) (m := dstCV) (r := Rect.unit (s := S16000) (k1_off5 t2 t3 (BitVec.ofNat 32 u.val)) S16.size (k1_off5_inb t2 t3 u)) (q := fullShare) (f := gD) (S := halfSet (t2.val % 2)) (by
    intro x hx
    obtain ⟨y, -, rfl⟩ := Finset.mem_map.mp hx
    refine Finset.mem_filter.mpr ⟨Finset.mem_univ _, ?_⟩
    have hy : (y 0).val < 16 := (y 0).isLt
    show (k1_off5 t2 t3 (BitVec.ofNat 32 u.val) 0 + 1 * (y 0).val) / 8000 = t2.val % 2
    rw [eo]; omega)) $$ H
  iintro H
  iapply Hk $$ %_ %_ H
  intro e he
  refine (read_flat (Val := Elt F) (n := 16000) (m := 16) dstCV.view gD _ (k1_off5_inb t2 t3 u) (at1 e he)).trans ?_
  refine Eq.trans ?_ ((hg (64 * t3.val + 16 * u.val + e) (by omega) (by omega)).trans (congrArg val (by omega)))
  show gD _ = gD _
  refine congrArg gD ?_
  funext b; apply Fin.ext
  show k1_off5 t2 t3 (BitVec.ofNat 32 u.val) 0 + e = _
  rw [eo]
  show _ = 8000 * (t2.val % 2) + (64 * t3.val + 16 * u.val + e)
  omega

/-- The chunk's two halves as the scan reads them. -/
abbrev Halves : sProp (MM F) :=
  iprop((srcCV.view.loc (thr d i) ↦[halfSet (t2.val % 2)]{fullShare} gS) ∗ (dstCV.view.loc (thr d i) ↦[halfSet (t2.val % 2)]{fullShare} gD))

theorem after_four (off : BitVec 32) (dv : Vec F S16 .i32) (n : ℕ) (hn : n + 16 ≤ 8000) (hd : ∀ e (he : e < 16), dv (at1 e he) = ds (a + n + e))
    (ho : off.toNat = cnt i ds a n) : (after off (counts (mine i dv))).toNat = cnt i ds a (n + 16) := after_val i ds dv a n hd off ho hn

theorem wp_scanTrip {α : Type} {k : BitVec 32 → Prog (Tile F i) α} {Q : α → sProp (MM F)} (off : BitVec 32)
    (hgS : Chunk a ss (t2.val % 2) gS) (hgD : Chunk a ds (t2.val % 2) gD) (ho : off.toNat = cnt i ds a (64 * t3.val)) :
    iprop(Lists d i ds ss a (64 * t3.val) ∗ Halves d i gS gD t2)
      ⊢ iprop((∀ off' : BitVec 32, ⌜off'.toNat = cnt i ds a (64 * (t3.val + 1))⌝ -∗ Lists d i ds ss a (64 * (t3.val + 1)) -∗ Halves d i gS gD t2 -∗ run d i (k off') Q)
        -∗ run d i (scanTrip i srcCV dstCV selSV selDV t2 t3 off >>= k) Q) := by
  have ht := t3_lt t3
  unfold scanTrip
  simp only [Prog.bind_assoc]
  iintro ⟨HL, HS, HD⟩ Hk
  iapply (wp_wordD d i a gD t2 t3 ds 0 hgD) $$ HD
  iintro %d0 %hd0 HD
  iapply (wp_wordS d i a gS t2 t3 ss 0 hgS) $$ HS
  iintro %s0 %hs0 HS
  iapply (wp_wordD d i a gD t2 t3 ds 1 hgD) $$ HD
  iintro %d1 %hd1 HD
  iapply (wp_wordS d i a gS t2 t3 ss 1 hgS) $$ HS
  iintro %s1 %hs1 HS
  iapply (wp_wordD d i a gD t2 t3 ds 2 hgD) $$ HD
  iintro %d2 %hd2 HD
  iapply (wp_wordS d i a gS t2 t3 ss 2 hgS) $$ HS
  iintro %s2 %hs2 HS
  iapply (wp_wordD d i a gD t2 t3 ds 3 hgD) $$ HD
  iintro %d3 %hd3 HD
  iapply (wp_wordS d i a gS t2 t3 ss 3 hgS) $$ HS
  iintro %s3 %hs3 HS
  have ho0 : (off).toNat = cnt i ds a (64 * t3.val + 16 * 0) := ho
  iapply (wp_put d i ds ss a (64 * t3.val + 16 * 0) _ d0 s0 hd0 hs0 ho0 (by omega)) $$ HL
  iintro HL
  have ho1 : (after (off) (counts (mine i d0))).toNat = cnt i ds a (64 * t3.val + 16 * 1) := after_val i ds d0 a (64 * t3.val + 16 * 0) hd0 _ ho0 (by omega)
  iapply (wp_put d i ds ss a (64 * t3.val + 16 * 1) _ d1 s1 hd1 hs1 ho1 (by omega)) $$ HL
  iintro HL
  have ho2 : (after (after (off) (counts (mine i d0))) (counts (mine i d1))).toNat = cnt i ds a (64 * t3.val + 16 * 2) := after_val i ds d1 a (64 * t3.val + 16 * 1) hd1 _ ho1 (by omega)
  iapply (wp_put d i ds ss a (64 * t3.val + 16 * 2) _ d2 s2 hd2 hs2 ho2 (by omega)) $$ HL
  iintro HL
  have ho3 : (after (after (after (off) (counts (mine i d0))) (counts (mine i d1))) (counts (mine i d2))).toNat = cnt i ds a (64 * t3.val + 16 * 3) := after_val i ds d2 a (64 * t3.val + 16 * 2) hd2 _ ho2 (by omega)
  iapply (wp_put d i ds ss a (64 * t3.val + 16 * 3) _ d3 s3 hd3 hs3 ho3 (by omega)) $$ HL
  iintro HL
  have ho4 : (after (after (after (after (off) (counts (mine i d0))) (counts (mine i d1))) (counts (mine i d2))) (counts (mine i d3))).toNat = cnt i ds a (64 * (t3.val + 1)) := after_val i ds d3 a (64 * t3.val + 16 * 3) hd3 _ ho3 (by omega)
  simp only [pure_eq, ret_bind]
  iapply Hk $$ %_ %ho4 HL [HS HD]
  isplitl [HS]
  · iexact HS
  · iexact HD

/-- The whole scan of a chunk. -/
theorem wp_scan {α : Type} {k : BitVec 32 → Prog (Tile F i) α} {Q : α → sProp (MM F)}
    (hgS : Chunk a ss (t2.val % 2) gS) (hgD : Chunk a ds (t2.val % 2) gD) :
    iprop(Lists d i ds ss a 0 ∗ Halves d i gS gD t2)
      ⊢ iprop((∀ v : BitVec 32, ⌜v.toNat = cnt i ds a 8000⌝ -∗ Lists d i ds ss a 8000 -∗ Halves d i gS gD t2 -∗ run d i (k v) Q)
        -∗ run d i (Scf.Loop.for k1_t3_loop k1_t3_ok 0#32 (fun t3 off => scanTrip i srcCV dstCV selSV selDV t2 t3 off) >>= k) Q) := by
  iintro H Hk
  unfold Scf.Loop.for
  iapply (Scf.wp_for_bind frame (wpE (defs₀ (F := F)) 𝒱₀ (thr d i) none) Set.univ _ _ _ k1_t3_ok 0#32 (fun t3 off => scanTrip i srcCV dstCV selSV selDV t2 t3 off)
    (fun n off => iprop(⌜off.toNat = cnt i ds a (64 * n)⌝ ∗ Lists d i ds ss a (64 * n) ∗ Halves d i gS gD t2)) (by
      intro t3 off
      rw [← Prog.bind_pure (scanTrip i srcCV dstCV selSV selDV t2 t3 off)]
      iintro ⟨%ho, H⟩
      iapply (wp_scanTrip d i ds ss a gS gD t2 t3 off hgS hgD ho) $$ H
      iintro %off' %ho' HL HH
      simp only [run, pure_eq, wp_ret]
      imodintro
      isplitr
      · ipureintro; exact ho'
      isplitl [HL]
      · iexact HL
      · iexact HH)) $$ [H]
  · isplitr
    · ipureintro; rfl
    · iexact H
  iintro %v ⟨%hv, HL, HH⟩
  have e : 64 * Scf.trips k1_t3_loop.lb k1_t3_loop.ub k1_t3_loop.st = 8000 := congrArg (64 * ·) trips3
  rw [e] at hv
  iapply Hk $$ %v %hv [HL] HH
  exact Entails.of_eq (by rw [e])

end

end Cert.Proof.SageLayer

end
-- ==== Proof.Layer.Lane.lean ====
/-
  One edge into the accumulator: its eight lanes, one after the other, leave the row of the edge's destination at the
  greater of itself and the gathered row, lane by lane, and every other row as it was.
-/
module

public import proofs.«01_k».proof.Proof.Layer.Setup

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-- Row `e` of slot `p` of the gathered rows, element by element. -/
def rowAt (g : S4x32x128.Idx → Elt F .f32) (p e j : ℕ) : Elt F .f32 :=
  g fun | 0 => ⟨p % 4, Nat.mod_lt _ (by decide)⟩ | 1 => ⟨e % 32, Nat.mod_lt _ (by decide)⟩ | 2 => ⟨j % 128, Nat.mod_lt _ (by decide)⟩

/-- The accumulator with the first `16 n` elements of its row `v` replaced. -/
def lanes (f : S40192.Idx → Elt F .f32) (row : ℕ → Elt F .f32) (v n : ℕ) : S40192.Idx → Elt F .f32 :=
  fun i => if (i 0).val / 128 = v ∧ (i 0).val % 128 < 16 * n then FloatOps.maximumf (f i) (row ((i 0).val % 128)) else f i

/-- The accumulator after one edge. -/
def edgeF (f : S40192.Idx → Elt F .f32) (row : ℕ → Elt F .f32) (v : ℕ) : S40192.Idx → Elt F .f32 :=
  fun i => if (i 0).val / 128 = v then FloatOps.maximumf (f i) (row ((i 0).val % 128)) else f i

theorem lanes_zero (f : S40192.Idx → Elt F .f32) (row : ℕ → Elt F .f32) (v : ℕ) : lanes f row v 0 = f := by
  funext i; simp [lanes]

theorem lanes_eight (f : S40192.Idx → Elt F .f32) (row : ℕ → Elt F .f32) (v : ℕ) : lanes f row v 8 = edgeF f row v := by
  funext i; simp only [lanes, edgeF]
  have : (i 0).val % 128 < 16 * 8 := Nat.mod_lt _ (by decide)
  simp [this]

/-- The sixteen words of a row that a lane reads. -/
theorem read_row (g : S4x32x128.Idx → Elt F .f32) (r : Fin 3 → ℕ) (hr : ∀ a, r a + S1x1x16.size a ≤ S4x32x128.size a) (x : S16.Idx) :
    shapeCast S16 ((rowsV.access (Rect.unit (s := S4x32x128) r S1x1x16.size hr)).read (Elt F) g) shapeCasts_S1x1x16_S16 x
      = rowAt g (r 0) (r 1) (r 2 + (x 0).val) := by
  have h0 := hr 0; have h1 := hr 1; have h2 := hr 2
  simp at h0 h1 h2
  have hx : (x 0).val < 16 := (x 0).isLt
  let y : S1x1x16.Idx := fun | 0 => ⟨0, by decide⟩ | 1 => ⟨0, by decide⟩ | 2 => ⟨(x 0).val, hx⟩
  rw [shapeCast_apply (s := S1x1x16) (t := S16) _ _ x y (by
    rw [Shape.rowMajor_val_three, Shape.rowMajor_val_one]; show (0 * 1 + 0) * 16 + (x 0).val = _; omega)]
  unfold rowAt
  rw [View.read_apply]
  show g _ = g _
  congr 1
  funext a; apply Fin.ext
  fin_cases a
  · show r 0 + 1 * 0 = r 0 % 4; omega
  · show r 1 + 1 * 0 = r 1 % 32; omega
  · show r 2 + 1 * (x 0).val = (r 2 + (x 0).val) % 128; omega

/-- A lane's write. -/
theorem write_lane (f : S40192.Idx → Elt F .f32) (g : S4x32x128.Idx → Elt F .f32) (v n p e : ℕ) (hn : n < 8) (o : Fin 1 → ℕ) (ho : ∀ a, o a + S16.size a ≤ S40192.size a)
    (r : Fin 3 → ℕ) (hr : ∀ a, r a + S1x1x16.size a ≤ S4x32x128.size a) (eo : o 0 = 128 * v + 16 * n) (e0 : r 0 = p) (e1 : r 1 = e) (e2 : r 2 = 16 * n) :
    (accV.access (Rect.unit (s := S40192) o S16.size ho)).write (Elt F) (lanes f (rowAt g p e) v n)
        (maximumf ((accV.access (Rect.unit (s := S40192) o S16.size ho)).read (Elt F) (lanes f (rowAt g p e) v n))
          (shapeCast S16 ((rowsV.access (Rect.unit (s := S4x32x128) r S1x1x16.size hr)).read (Elt F) g) shapeCasts_S1x1x16_S16)) Finset.univ
      = lanes f (rowAt g p e) v (n + 1) := by
  subst e0 e1
  funext i
  refine (write_flat (n := 40192) (m := 16) accV.view (lanes f (rowAt g (r 0) (r 1)) v n) _ o ho i).trans ?_
  split
  · next h =>
    show FloatOps.maximumf _ _ = _
    rw [read_row, show (accV.access (Rect.unit (s := S40192) o S16.size ho)).read (Elt F) (lanes f (rowAt g (r 0) (r 1)) v n) = _ from
      funext fun j => read_flat (n := 40192) (m := 16) accV.view (lanes f (rowAt g (r 0) (r 1)) v n) o ho j]
    have ei : (at1 (o 0 + ((i 0).val - o 0)) (by have : (i 0).val < 40192 := (i 0).isLt; omega) : S40192.Idx) = i := by
      funext a; rw [Fin.eq_zero a]; apply Fin.ext; show o 0 + ((i 0).val - o 0) = _; omega
    refine (congrArg (fun z => FloatOps.maximumf (lanes f (rowAt g (r 0) (r 1)) v n z) _) ei).trans ?_
    simp only [lanes]
    rw [if_neg (by omega), if_pos (by omega)]
    congr 2
    omega
  · next h =>
    show lanes f _ v n i = _
    simp only [lanes]
    by_cases hc : (i 0).val / 128 = v ∧ (i 0).val % 128 < 16 * n
    · rw [if_pos hc, if_pos (by omega)]
    · rw [if_neg hc, if_neg (by omega)]

variable (d : Dev nD) (i : grid1.Coords)

/-- The elements of slot `p`. -/
def slotSet (p : ℕ) : Finset S4x32x128.Idx := Finset.univ.filter fun x => (x 0).val = p

theorem wp_lane {α : Type} {k : PUnit → Prog (Tile F i) α} {Q : α → sProp (MM F)} (f : S40192.Idx → Elt F .f32) (g : S4x32x128.Idx → Elt F .f32) (v n p e : ℕ) (hn : n < 8) (o : Fin 1 → ℕ) (ho : ∀ a, o a + S16.size a ≤ S40192.size a)
    (r : Fin 3 → ℕ) (hr : ∀ a, r a + S1x1x16.size a ≤ S4x32x128.size a) (eo : o 0 = 128 * v + 16 * n) (e0 : r 0 = p) (e1 : r 1 = e) (e2 : r 2 = 16 * n) :
    iprop((accV.view.loc (thr d i) ↦{fullShare} lanes f (rowAt g p e) v n) ∗ (rowsV.view.loc (thr d i) ↦[slotSet p]{fullShare} g))
      ⊢ iprop((iprop((accV.view.loc (thr d i) ↦{fullShare} lanes f (rowAt g p e) v (n + 1)) ∗ (rowsV.view.loc (thr d i) ↦[slotSet p]{fullShare} g)) -∗ run d i (k ⟨⟩) Q)
        -∗ run d i (lane i accV rowsV o ho r hr >>= k) Q) := by
  unfold lane run
  iintro ⟨Ha, Hr⟩ Hk
  simp only [Prog.lift, op_bind, ret_bind, pure_eq]
  iapply (wp_load_rect 𝒱₀ (thr d i) none Set.univ (defs := defs₀ (F := F)) (m := accV) (r := Rect.unit (s := S40192) o S16.size ho) (q := fullShare) (f := lanes f (rowAt g p e) v n) (S := Finset.univ) (Finset.subset_univ _)) $$ Ha
  iintro Ha
  iapply (wp_load_rect 𝒱₀ (thr d i) none Set.univ (defs := defs₀ (F := F)) (m := rowsV) (r := Rect.unit (s := S4x32x128) r S1x1x16.size hr) (q := fullShare) (f := g) (S := slotSet p) (by
    intro x hx
    obtain ⟨y, -, rfl⟩ := Finset.mem_map.mp hx
    refine Finset.mem_filter.mpr ⟨Finset.mem_univ _, ?_⟩
    have hy : (y 0).val < 1 := (y 0).isLt
    show r 0 + 1 * (y 0).val = p
    omega)) $$ Hr
  iintro Hr
  iapply (wp_load_rect 𝒱₀ (thr d i) none Set.univ (defs := defs₀ (F := F)) (m := accV) (r := Rect.unit (s := S40192) o S16.size ho) (q := fullShare) (f := lanes f (rowAt g p e) v n) (S := Finset.univ) (Finset.subset_univ _)) $$ Ha
  iintro Ha
  iapply (wp_store 𝒱₀ (thr d i) none Set.univ (defs := defs₀ (F := F)) (m := accV) (r := Rect.unit (s := S40192) o S16.size ho) (f := lanes f (rowAt g p e) v n) (S := Finset.univ) (Finset.subset_univ _)) $$ Ha
  iintro Ha
  iapply Hk
  isplitl [Ha]
  · rw [← write_lane f g v n p e hn o ho r hr eo e0 e1 e2]; iexact Ha
  iexact Hr

/-- The accumulator after the first `n` edges of a group whose rows are in slot `p` and whose destinations are `D`. -/
def edgesF (f : S40192.Idx → Elt F .f32) (g : S4x32x128.Idx → Elt F .f32) (p : ℕ) (D : ℕ → ℕ) : ℕ → S40192.Idx → Elt F .f32
  | 0 => f
  | n + 1 => edgeF (edgesF f g p D n) (rowAt g p n) (D n)

theorem off20_val (v : BitVec 32) (n : ℕ) (hn : n < 8) (hv : v.toNat ≤ 313) : k1_off20 v (BitVec.ofNat 32 (16 * n)) 0 = 128 * v.toNat + 16 * n := by
  show (IntOp.addi (IntOp.muli v 128#32) (BitVec.ofNat 32 (16 * n))).toNat = _
  simp only [IntOp.addi, IntOp.muli, BitVec.toNat_add, BitVec.toNat_mul, BitVec.toNat_ofNat]
  omega

theorem chk6_of (v : BitVec 32) (hv : v.toNat ≤ 313) : k1_chk6 v := by
  intro r a
  rw [Fin.eq_zero a]
  have := off20_val v r.val r.isLt hv
  have hr := r.isLt
  show k1_off20 v (BitVec.ofNat 32 (16 * r.val)) 0 + 16 ≤ 40192
  omega

theorem wp_edge {α : Type} {k : PUnit → Prog (Tile F i) α} {Q : α → sProp (MM F)} (f : S40192.Idx → Elt F .f32) (g : S4x32x128.Idx → Elt F .f32) (p : ℕ) (D : ℕ → ℕ)
    (v pv : BitVec 32) (hpv : pv.toNat < 4) (ep : pv.toNat = p) (e : ℕ) (he : e < 32) (hv : v.toNat ≤ 313) (hD : D e = v.toNat) :
    iprop((accV.view.loc (thr d i) ↦{fullShare} edgesF f g p D e) ∗ (rowsV.view.loc (thr d i) ↦[slotSet p]{fullShare} g))
      ⊢ iprop((iprop((accV.view.loc (thr d i) ↦{fullShare} edgesF f g p D (e + 1)) ∗ (rowsV.view.loc (thr d i) ↦[slotSet p]{fullShare} g)) -∗ run d i (k ⟨⟩) Q)
        -∗ run d i (edge i accV rowsV v pv hpv e he >>= k) Q) := by
  rw [show edgesF f g p D (e + 1) = lanes (edgesF f g p D e) (rowAt g p e) v.toNat 8 by rw [lanes_eight, ← hD]; rfl]
  unfold edge
  simp only [Prog.lift, op_bind, ret_bind, Prog.bind_assoc]
  iintro ⟨Ha, Hr⟩ Hk
  iapply (wp_assume 𝒱₀ (thr d i) none Set.univ (chk6_of v hv))
  ihave Ha := (Entails.of_eq (show (accV.view.loc (thr d i) ↦{fullShare} edgesF f g p D e : sProp (MM F)) = (accV.view.loc (thr d i) ↦{fullShare} lanes (edgesF f g p D e) (rowAt g p e) v.toNat 0) by rw [lanes_zero])) $$ Ha
  iapply (wp_lane d i (edgesF f g p D e) g v.toNat 0 p e (by decide) _ _ _ _ (off20_val v 0 (by decide) hv) ep rfl rfl) $$ [Ha Hr]
  · isplitl [Ha] <;> iassumption
  iintro ⟨Ha, Hr⟩
  iapply (wp_lane d i (edgesF f g p D e) g v.toNat 1 p e (by decide) _ _ _ _ (off20_val v 1 (by decide) hv) ep rfl rfl) $$ [Ha Hr]
  · isplitl [Ha] <;> iassumption
  iintro ⟨Ha, Hr⟩
  iapply (wp_lane d i (edgesF f g p D e) g v.toNat 2 p e (by decide) _ _ _ _ (off20_val v 2 (by decide) hv) ep rfl rfl) $$ [Ha Hr]
  · isplitl [Ha] <;> iassumption
  iintro ⟨Ha, Hr⟩
  iapply (wp_lane d i (edgesF f g p D e) g v.toNat 3 p e (by decide) _ _ _ _ (off20_val v 3 (by decide) hv) ep rfl rfl) $$ [Ha Hr]
  · isplitl [Ha] <;> iassumption
  iintro ⟨Ha, Hr⟩
  iapply (wp_lane d i (edgesF f g p D e) g v.toNat 4 p e (by decide) _ _ _ _ (off20_val v 4 (by decide) hv) ep rfl rfl) $$ [Ha Hr]
  · isplitl [Ha] <;> iassumption
  iintro ⟨Ha, Hr⟩
  iapply (wp_lane d i (edgesF f g p D e) g v.toNat 5 p e (by decide) _ _ _ _ (off20_val v 5 (by decide) hv) ep rfl rfl) $$ [Ha Hr]
  · isplitl [Ha] <;> iassumption
  iintro ⟨Ha, Hr⟩
  iapply (wp_lane d i (edgesF f g p D e) g v.toNat 6 p e (by decide) _ _ _ _ (off20_val v 6 (by decide) hv) ep rfl rfl) $$ [Ha Hr]
  · isplitl [Ha] <;> iassumption
  iintro ⟨Ha, Hr⟩
  iapply (wp_lane d i (edgesF f g p D e) g v.toNat 7 p e (by decide) _ _ _ _ (off20_val v 7 (by decide) hv) ep rfl rfl) $$ [Ha Hr]
  · isplitl [Ha] <;> iassumption
  iintro ⟨Ha, Hr⟩
  iapply Hk
  isplitl [Ha] <;> iassumption

theorem dstAt_eq (x : Vec F S16 .i32) (e : ℕ) (he : e < 16) : dstAt x e he = x (at1 e he) := by
  show x _ = x _
  congr 1
  funext a; rw [Fin.eq_zero a]; apply Fin.ext
  show e + 1 * 0 = e; omega

theorem wp_half {α : Type} {k : PUnit → Prog (Tile F i) α} {Q : α → sProp (MM F)} (f : S40192.Idx → Elt F .f32) (g : S4x32x128.Idx → Elt F .f32) (p : ℕ) (D : ℕ → ℕ)
    (pv : BitVec 32) (hpv : pv.toNat < 4) (ep : pv.toNat = p) (x : Vec F S16 .i32) (b : ℕ) (hb : b < 2)
    (hD : ∀ e (he : e < 16), D (16 * b + e) = (dstAt x e he).toNat) (hle : ∀ e (he : e < 16), (dstAt x e he).toNat ≤ 313) :
    iprop((accV.view.loc (thr d i) ↦{fullShare} edgesF f g p D (16 * b)) ∗ (rowsV.view.loc (thr d i) ↦[slotSet p]{fullShare} g))
      ⊢ iprop((iprop((accV.view.loc (thr d i) ↦{fullShare} edgesF f g p D (16 * b + 16)) ∗ (rowsV.view.loc (thr d i) ↦[slotSet p]{fullShare} g)) -∗ run d i (k ⟨⟩) Q)
        -∗ run d i (half i accV rowsV x pv hpv b hb >>= k) Q) := by
  unfold half
  simp only [Prog.bind_assoc]
  iintro ⟨Ha, Hr⟩ Hk
  iapply (wp_edge d i f g p D (dstAt x 0 _) pv hpv ep (16 * b + 0) _ (hle _ _) (hD _ _)) $$ [Ha Hr]
  · isplitl [Ha] <;> iassumption
  iintro ⟨Ha, Hr⟩
  iapply (wp_edge d i f g p D (dstAt x 1 _) pv hpv ep (16 * b + 1) _ (hle _ _) (hD _ _)) $$ [Ha Hr]
  · isplitl [Ha] <;> iassumption
  iintro ⟨Ha, Hr⟩
  iapply (wp_edge d i f g p D (dstAt x 2 _) pv hpv ep (16 * b + 2) _ (hle _ _) (hD _ _)) $$ [Ha Hr]
  · isplitl [Ha] <;> iassumption
  iintro ⟨Ha, Hr⟩
  iapply (wp_edge d i f g p D (dstAt x 3 _) pv hpv ep (16 * b + 3) _ (hle _ _) (hD _ _)) $$ [Ha Hr]
  · isplitl [Ha] <;> iassumption
  iintro ⟨Ha, Hr⟩
  iapply (wp_edge d i f g p D (dstAt x 4 _) pv hpv ep (16 * b + 4) _ (hle _ _) (hD _ _)) $$ [Ha Hr]
  · isplitl [Ha] <;> iassumption
  iintro ⟨Ha, Hr⟩
  iapply (wp_edge d i f g p D (dstAt x 5 _) pv hpv ep (16 * b + 5) _ (hle _ _) (hD _ _)) $$ [Ha Hr]
  · isplitl [Ha] <;> iassumption
  iintro ⟨Ha, Hr⟩
  iapply (wp_edge d i f g p D (dstAt x 6 _) pv hpv ep (16 * b + 6) _ (hle _ _) (hD _ _)) $$ [Ha Hr]
  · isplitl [Ha] <;> iassumption
  iintro ⟨Ha, Hr⟩
  iapply (wp_edge d i f g p D (dstAt x 7 _) pv hpv ep (16 * b + 7) _ (hle _ _) (hD _ _)) $$ [Ha Hr]
  · isplitl [Ha] <;> iassumption
  iintro ⟨Ha, Hr⟩
  iapply (wp_edge d i f g p D (dstAt x 8 _) pv hpv ep (16 * b + 8) _ (hle _ _) (hD _ _)) $$ [Ha Hr]
  · isplitl [Ha] <;> iassumption
  iintro ⟨Ha, Hr⟩
  iapply (wp_edge d i f g p D (dstAt x 9 _) pv hpv ep (16 * b + 9) _ (hle _ _) (hD _ _)) $$ [Ha Hr]
  · isplitl [Ha] <;> iassumption
  iintro ⟨Ha, Hr⟩
  iapply (wp_edge d i f g p D (dstAt x 10 _) pv hpv ep (16 * b + 10) _ (hle _ _) (hD _ _)) $$ [Ha Hr]
  · isplitl [Ha] <;> iassumption
  iintro ⟨Ha, Hr⟩
  iapply (wp_edge d i f g p D (dstAt x 11 _) pv hpv ep (16 * b + 11) _ (hle _ _) (hD _ _)) $$ [Ha Hr]
  · isplitl [Ha] <;> iassumption
  iintro ⟨Ha, Hr⟩
  iapply (wp_edge d i f g p D (dstAt x 12 _) pv hpv ep (16 * b + 12) _ (hle _ _) (hD _ _)) $$ [Ha Hr]
  · isplitl [Ha] <;> iassumption
  iintro ⟨Ha, Hr⟩
  iapply (wp_edge d i f g p D (dstAt x 13 _) pv hpv ep (16 * b + 13) _ (hle _ _) (hD _ _)) $$ [Ha Hr]
  · isplitl [Ha] <;> iassumption
  iintro ⟨Ha, Hr⟩
  iapply (wp_edge d i f g p D (dstAt x 14 _) pv hpv ep (16 * b + 14) _ (hle _ _) (hD _ _)) $$ [Ha Hr]
  · isplitl [Ha] <;> iassumption
  iintro ⟨Ha, Hr⟩
  iapply (wp_edge d i f g p D (dstAt x 15 _) pv hpv ep (16 * b + 15) _ (hle _ _) (hD _ _)) $$ [Ha Hr]
  · isplitl [Ha] <;> iassumption
  iintro ⟨Ha, Hr⟩
  iapply Hk
  isplitl [Ha] <;> iassumption

end Cert.Proof.SageLayer

end
-- ==== Proof.Layer.Ring.lean ====
/-
  The gathers of the tile's group loop. Four slots of thirty-two rows, each with its own semaphore: a group's gather is
  in flight, or its slot is at rest. Starting one and waiting for one, with what the slot then holds.
-/
module

public import proofs.«01_k».proof.Proof.Layer.Lane
public import Idealize.ShloMosaic.Lib.ShareLeaves

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-- Row `s` of the table, element by element. -/
def hpRow (H : S10000x128.Idx → Elt F .f32) (s j : ℕ) : Elt F .f32 :=
  H fun | 0 => ⟨s % 10000, Nat.mod_lt _ (by decide)⟩ | 1 => ⟨j % 128, Nat.mod_lt _ (by decide)⟩

theorem slotOff_inb (p : Fin 4) : ∀ a, (![p.val, 0, 0] : Fin 3 → ℕ) a + S1x32x128.size a ≤ S4x32x128.size a := by
  intro a; have := p.isLt; fin_cases a <;> simp <;> omega
theorem semOff_inb (p : Fin 4) : ∀ a, (![p.val] : Fin 1 → ℕ) a + S1.size a ≤ S4.size a := by
  intro a; have := p.isLt; rw [Fin.eq_zero a]; show p.val + 1 ≤ 4; omega

/-- Slot `p` of the gathered rows, and its semaphore. -/
abbrev slotM (p : Fin 4) : Memref sig .scVector .vmem S32x128 .f32 := slotAt rowsV ![p.val, 0, 0] (slotOff_inb p)
abbrev gs (p : Fin 4) : DmaSem sig := slotSem cc1_scratch6 ![p.val] (semOff_inb p)

/-- The place in the slots of element `x` of slot `p`. -/
theorem slotM_emb (p : Fin 4) (x : S32x128.Idx) :
    (slotM p).view.emb x = (fun | 0 => ⟨p.val, p.isLt⟩ | 1 => ⟨(x 0).val, (x 0).isLt⟩ | 2 => ⟨(x 1).val, (x 1).isLt⟩ : S4x32x128.Idx) := by
  let y : S1x32x128.Idx := fun | 0 => ⟨0, by decide⟩ | 1 => ⟨(x 0).val, (x 0).isLt⟩ | 2 => ⟨(x 1).val, (x 1).isLt⟩
  have e : Shape.reshapeEquiv (s := S1x32x128) (s' := S32x128) squeezes_S1x32x128_S32x128.numel_eq x = y :=
    Shape.reshapeEquiv_eq_of_rowMajor _ (by
      rw [Shape.rowMajor_val_three, Shape.rowMajor_val_two]
      show (0 * 32 + (x 0).val) * 128 + (x 1).val = (x 0).val * 128 + (x 1).val; omega)
  show (Rect.unit (s := S4x32x128) ![p.val, 0, 0] S1x32x128.size (slotOff_inb p)).emb (Shape.reshapeEquiv (s := S1x32x128) (s' := S32x128) squeezes_S1x32x128_S32x128.numel_eq x) = _
  rw [e]
  funext a; apply Fin.ext
  fin_cases a
  · show p.val + 1 * 0 = p.val; omega
  · show 0 + 1 * (x 0).val = (x 0).val; omega
  · show 0 + 1 * (x 1).val = (x 1).val; omega

theorem slotM_set (p : Fin 4) : (slotM p).view.set = slotSet p.val := by
  ext x
  constructor
  · intro hx
    obtain ⟨y, -, rfl⟩ := Finset.mem_map.mp hx
    refine Finset.mem_filter.mpr ⟨Finset.mem_univ _, ?_⟩
    exact congrArg (fun i : S4x32x128.Idx => (i 0).val) (slotM_emb p y)
  · intro hx
    have h0 : (x 0).val = p.val := (Finset.mem_filter.mp hx).2
    refine Finset.mem_map.mpr ⟨fun | 0 => ⟨(x 1).val, (x 1).isLt⟩ | 1 => ⟨(x 2).val, (x 2).isLt⟩, Finset.mem_univ _, ?_⟩
    refine (slotM_emb p _).trans ?_
    funext a; apply Fin.ext
    fin_cases a
    · exact h0.symm
    · rfl
    · rfl

/-- The rows of a slot after a gather into it. -/
theorem rowAt_gather (p : Fin 4) (g : S4x32x128.Idx → Elt F .f32) (w : S32x128.Idx → Elt F .f32) (e j : ℕ) (he : e < 32) (hj : j < 128) :
    rowAt ((slotM p).view.write (Elt F) g w Finset.univ) p.val e j = w (fun | 0 => ⟨e, he⟩ | 1 => ⟨j, hj⟩) := by
  have h := View.write_emb_of_mem (v := (slotM p).view) (Val := Elt F) g w (M := Finset.univ) (x := (fun | 0 => ⟨e, he⟩ | 1 => ⟨j, hj⟩ : S32x128.Idx)) (Finset.mem_univ _)
  refine Eq.trans ?_ h
  unfold rowAt
  refine congrArg _ (Eq.trans ?_ (slotM_emb p _).symm)
  have := p.isLt
  funext a; apply Fin.ext
  fin_cases a
  · show p.val % 4 = p.val; omega
  · show e % 32 = e; omega
  · show j % 128 = j; omega

/-- What a gather of the rows that `S` names brings. -/
theorem payload_eq (H : S10000x128.Idx → Elt F .f32) (L : S32.Idx → BitVec 32) (hn : S32.numel = S32x128.size gathers_S10000x128_S32x128.axis')
    (hin : ∀ x, (L x).toNat < S10000x128.size gathers_S10000x128_S32x128.axis) (e j : ℕ) (he : e < 32) (hj : j < 128) :
    SparseCore.gatherPayload gathers_S10000x128_S32x128 H (SparseCore.rows (F := F) L hn hin) (fun | 0 => ⟨e, he⟩ | 1 => ⟨j, hj⟩ : S32x128.Idx) = hpRow H (L (at1 e he)).toNat j := by
  have hlt : (L (at1 e he)).toNat < 10000 := hin _
  have el : S32.rowMajor.symm ((⟨e, he⟩ : Fin (S32x128.size gathers_S10000x128_S32x128.axis')).cast hn.symm) = at1 e he := by
    rw [Equiv.symm_apply_eq]
    apply Fin.ext
    exact (Shape.rowMajor_val_one (at1 e he)).symm
  unfold SparseCore.gatherPayload hpRow
  congr 1
  funext b; apply Fin.ext
  fin_cases b
  · refine (congrArg Fin.val (Shape.Gathers.idx_axis gathers_S10000x128_S32x128 _ _)).trans ?_
    show (L (S32.rowMajor.symm ((⟨e, he⟩ : Fin (S32x128.size gathers_S10000x128_S32x128.axis')).cast hn.symm))).toNat = _
    rw [el]
    show _ = (L (at1 e he)).toNat % 10000
    omega
  · refine (Shape.Gathers.idx_of_ne gathers_S10000x128_S32x128 _ _ 1 (by decide)).trans ?_
    show j = j % 128
    omega

variable (d : Dev nD) (i : grid1.Coords)

/-- The credit of one gather. -/
abbrev rowsCredit : ℕ := (slotM 0).view.dmaCredit

/-- What a tile owes, up to waits on its own cells. -/
def Owing (O : CellTallies nD τ sig (HIx 1)) (W : Waits sig (HIx 1)) : sProp (MM F) :=
  iprop(∃ W', ⌜∀ p ∈ W', p ∈ W ∨ p.2 = none⌝ ∗ owes (thr d i) O W')

/-- A wait on a cell of the tile's own, for what is in flight on it. -/
theorem wp_wait {α : Type} {k : PUnit → Prog (Tile F i) α} {Q : α → sProp (MM F)} {sp sp' : Space} {s s' : Shape} {e e' : EltTy} {sem : DmaSem sig}
    {srcw : Memref sig .scVector sp' s' e'} {dstw : Memref sig .scVector sp s e} {hsrc : srcw.view.WordExact} {hdst : dstw.view.WordExact}
    {N : ℕ} (hN : dstw.view.dmaCredit = N) {P : sProp (MM F)} (O : CellTallies nD τ sig (HIx 1)) (W : Waits sig (HIx 1)) :
    iprop(Transfers.Flight countersEmb (thr d i) (.dma sem) (default : HIx 1) N P ∗ Owing d i O W ∗ Transfers.MayWaits (thr d i) (default : HIx 1) O)
      ⊢ iprop((iprop(P ∗ semVal (thr d i, .dma sem) 0 ∗ Owing d i O W) -∗ run d i (k ⟨⟩) Q)
        -∗ run d i (.op (.waitDma2 sem srcw dstw hsrc hdst) k) Q) := by
  unfold Owing run
  iintro ⟨Hf, ⟨%W', %hW, HO⟩, Hmw⟩ Hk
  iapply (Transfers.wp_waitLocalO countersEmb 𝒱₀ (thr d i) none (default : HIx 1) hN) $$ [Hf HO Hmw]
  · isplitl [Hf]; · iexact Hf
    isplitl [HO]; · iexact HO
    iapply (Transfers.MayWaits.elim (SemLoc.dma sem)) $$ Hmw
  iintro ⟨HP, Hv, HO⟩
  iapply Hk
  isplitl [HP]; · iexact HP
  isplitl [Hv]; · iexact Hv
  iexists _
  isplitr
  swap; · iexact HO
  ipureintro; intro p hp
  rcases Finset.mem_insert.mp hp with hp | hp
  · exact .inr (hp ▸ rfl)
  · exact hW p hp

section
variable (H : S10000x128.Idx → Elt F .f32) (fS : S8032.Idx → BitVec 32) (S : ℕ → ℕ) (qh qs : Fin 4 → PosShare TreeShare)

/-- The rows of group `b`, arrived in slot `p`. -/
def Got (p : Fin 4) (b : ℕ) : sProp (MM F) :=
  iprop(∃ g : S4x32x128.Idx → Elt F .f32, ⌜∀ e < 32, ∀ j < 128, rowAt g p.val e j = hpRow H (S (32 * b + e)) j⌝
    ∗ (rowsV.view.loc (thr d i) ↦[slotSet p.val]{fullShare} g)
    ∗ (hpV.view.loc (thr d i) ↦{qh p} H) ∗ (selSV.view.loc (thr d i) ↦{qs p} fS))

/-- Slot `p` at rest. -/
def Rest (p : Fin 4) : sProp (MM F) :=
  iprop((∃ g : S4x32x128.Idx → Elt F .f32, (rowsV.view.loc (thr d i) ↦[slotSet p.val]{fullShare} g))
    ∗ (hpV.view.loc (thr d i) ↦{qh p} H) ∗ (selSV.view.loc (thr d i) ↦{qs p} fS) ∗ semVal (thr d i, SemLoc.dma (gs p)) 0)

/-- Group `b`'s gather in flight into slot `p`. -/
def Going (p : Fin 4) (b : ℕ) : sProp (MM F) :=
  Transfers.Flight countersEmb (thr d i) (.dma (gs p)) (default : HIx 1) rowsCredit (Got d i H fS S qh qs p b)

theorem table_read : (table hpV).view.read (Elt F) H = H := by
  funext x
  refine (View.read_apply _ _).trans ?_
  show H _ = H _
  refine congrArg H ?_
  funext a; apply Fin.ext
  fin_cases a
  · show 0 + 1 * (x 0).val = (x 0).val; omega
  · show 0 + 1 * (x 1).val = (x 1).val; omega

theorem hN_gather (p : Fin 4) : ∀ h : S10000x128.Gathers 0 S32x128, ∑ j, ((slotM p).slice (S32x128.rowRect h.axis' j) (S32x128.stride_rowRect h.axis' j)).view.dmaCredit = rowsCredit := by
  intro h
  show ∑ j : Fin 32, (cc1_scratch5 : Ref sig .scVector).dmaCredit (S32x128.rowShape 0) .f32 = (cc1_scratch5 : Ref sig .scVector).dmaCredit S32x128 .f32
  decide

theorem wp_gather {α : Type} {k : PUnit → Prog (Tile F i) α} {Q : α → sProp (MM F)} (p : Fin 4) (b : ℕ)
    (r : Fin 3 → ℕ) (hr : ∀ a, r a + S1x32x128.size a ≤ S4x32x128.size a) (o : Fin 1 → ℕ) (ho : ∀ a, o a + S32.size a ≤ S8032.size a)
    (g : Fin 1 → ℕ) (hg : ∀ a, g a + S1.size a ≤ S4.size a) (er : r = ![p.val, 0, 0]) (eo : o 0 = 32 * b) (eg : g = ![p.val])
    (hS : ∀ e (he : e < 32), ∀ h, (fS (at1 (32 * b + e) h)).toNat = S (32 * b + e)) (hlt : ∀ e < 32, S (32 * b + e) < 10000) :
    Rest d i H fS qh qs p ⊢ iprop((Going d i H fS S qh qs p b -∗ run d i (k ⟨⟩) Q)
        -∗ run d i (gatherAt i hpV selSV rowsV cc1_scratch6 r hr o ho g hg >>= k) Q) := by
  subst er eg
  have hread : ∀ x : S32.Idx, (selSV.slice (Rect.unit (s := S8032) o S32.size ho) (fun _ => rfl)).view.read (Elt F) fS x
      = fS (at1 (32 * b + (x 0).val) (by have := ho 0; have h2 : (x 0).val < 32 := (x 0).isLt; simp at this; omega)) := by
    intro x
    refine (read_flat (Val := Elt F) (n := 8032) (m := 32) selSV.view fS o ho x).trans ?_
    show fS _ = fS _
    refine congrArg fS ?_
    funext a; apply Fin.ext; show o 0 + (x 0).val = 32 * b + (x 0).val; omega
  have hin : ∀ x, ((selSV.slice (Rect.unit (s := S8032) o S32.size ho) (fun _ => rfl)).view.read (Elt F) fS x).toNat < S10000x128.size gathers_S10000x128_S32x128.axis := by
    intro x
    rw [hread, hS _ (x 0).isLt]
    exact hlt _ (x 0).isLt
  unfold Rest run gatherAt
  iintro ⟨⟨%g0, Hr⟩, Hh, Hs, Hv⟩ Hk
  ihave ⟨Hh, Hh'⟩ := (pointsTo_split_subset (Finset.subset_univ (table hpV).view.set)).1 $$ Hh
  ihave ⟨Hs, Hs'⟩ := (pointsTo_split_subset (Finset.subset_univ (selSV.slice (Rect.unit (s := S8032) o S32.size ho) (fun _ => rfl)).view.set)).1 $$ Hs
  ihave Hr := (Entails.of_eq (show (rowsV.view.loc (thr d i) ↦[slotSet p.val]{fullShare} g0 : sProp (MM F)) = ((slotM p).view.loc (thr d i) ↦[(slotM p).view.set]{fullShare} g0) by rw [slotM_set])) $$ Hr
  iapply (SparseCore.wp_indirectGatherLocal countersEmb 𝒱₀ (thr d i) none (hg := gathers_S10000x128_S32x128) (default : HIx 1) rowsCredit (hN_gather p _) (by decide) hin) $$ [Hh Hr Hs Hv]
  · isplitl [Hh]; · iexact Hh
    isplitl [Hr]; · iexact Hr
    isplitl [Hs]; · iexact Hs
    iexact Hv
  iintro Hf
  iapply Hk
  unfold Going
  iapply (Transfers.Flight_mono countersEmb (thr d i) (D := iprop(((hpV.view.loc (thr d i) ↦[Finset.univ \ (table hpV).view.set]{qh p} H)
      ∗ (selSV.view.loc (thr d i) ↦[Finset.univ \ (selSV.slice (Rect.unit (s := S8032) o S32.size ho) (fun _ => rfl)).view.set]{qs p} fS))
      ∗ (((slotM p).view.loc (thr d i) ↦[(slotM p).view.set]{fullShare} ((slotM p).view.write (Elt F) g0
          (SparseCore.gatherPayload gathers_S10000x128_S32x128 ((table hpV).view.read (Elt F) H)
            (SparseCore.rows (F := F) ((selSV.slice (Rect.unit (s := S8032) o S32.size ho) (fun _ => rfl)).view.read (Elt F) fS) rfl hin)) Finset.univ))
        ∗ (hpV.view.loc (thr d i) ↦[(table hpV).view.set]{qh p} H)
        ∗ (selSV.view.loc (thr d i) ↦[(selSV.slice (Rect.unit (s := S8032) o S32.size ho) (fun _ => rfl)).view.set]{qs p} fS)))) (by
    unfold Got
    iintro ⟨⟨Hh', Hs'⟩, Hr, Hh, Hs⟩
    iexists _
    isplitr
    swap
    · isplitl [Hr]
      · iapply (Entails.of_eq (show ((slotM p).view.loc (thr d i) ↦[(slotM p).view.set]{fullShare} _ : sProp (MM F)) = (rowsV.view.loc (thr d i) ↦[slotSet p.val]{fullShare} _) by rw [slotM_set])) $$ Hr
      isplitl [Hh Hh']
      · iapply (pointsTo_split_subset (Finset.subset_univ (table hpV).view.set)).2
        isplitl [Hh] <;> iassumption
      · iapply (pointsTo_split_subset (Finset.subset_univ (selSV.slice (Rect.unit (s := S8032) o S32.size ho) (fun _ => rfl)).view.set)).2
        isplitl [Hs] <;> iassumption
    ipureintro
    intro e he j hj
    rw [rowAt_gather p _ _ e j he hj]
    refine (payload_eq _ _ _ hin e j he hj).trans ?_
    rw [hread, table_read]
    show hpRow H (fS (at1 (32 * b + e) _)).toNat j = _
    rw [hS e he]))
  iapply (Transfers.Flight_frame countersEmb (thr d i))
  isplitl [Hh' Hs']
  · isplitl [Hh'] <;> iassumption
  iexact Hf

end

end Cert.Proof.SageLayer

end
-- ==== Proof.Layer.Arith.lean ====
/-
  The numbers of the tile's group loop: how many groups of thirty-two the chosen edges make, which trips start another
  gather, and that every offset the loop computes stays inside its buffer, for the at most 8000 edges of a chunk.
-/
module

public import proofs.«01_k».proof.Proof.Layer.Setup

@[expose] public section

noncomputable section

namespace Cert.Proof.SageLayer

open Cert.LayerIdeal Cert.LayerIdeal.Facts₀ Cert.LayerIdeal.Facts
open Idealize.ShloMosaic

/-- Every count up to 8000 as 64 times one number and another one. -/
theorem split64 {P : ℕ → Prop} (h : ∀ a : Fin 126, ∀ b : Fin 64, P (64 * a.val + b.val)) (n : ℕ) (hn : n ≤ 8000) : P n := by
  have := h ⟨n / 64, by omega⟩ ⟨n % 64, Nat.mod_lt _ (by decide)⟩
  rwa [show 64 * (n / 64) + n % 64 = n by omega] at this

theorem groups_val (v : BitVec 32) (hv : v.toNat ≤ 8000) : (groups v).toNat = (v.toNat + 31) / 32 := by
  have := split64 (P := fun n => (groups (BitVec.ofNat 32 n)).toNat = (n + 31) / 32) (by decide +kernel) v.toNat hv
  rwa [BitVec.ofNat_toNat, BitVec.setWidth_eq] at this

/-- The group loop of a given number of groups. -/
def loopOf (g : BitVec 32) : Scf.Loop 32 := ⟨0#32, Scalar.addi 0#32 (Scalar.muli (Scalar.divsi (Scalar.subi g 0#32) 1#32) 1#32), 1#32⟩

theorem loopOf_eq (v : BitVec 32) : k1_t4_loop v = loopOf (groups v) := rfl

theorem groups_eq (v : BitVec 32) (hv : v.toNat ≤ 8000) : groups v = BitVec.ofNat 32 ((v.toNat + 31) / 32) := by
  apply BitVec.eq_of_toNat_eq; rw [groups_val v hv, BitVec.toNat_ofNat]; omega

theorem t4_trips (v : BitVec 32) (hv : v.toNat ≤ 8000) : (k1_t4_loop v).trips = (v.toNat + 31) / 32 := by
  have h : ∀ g : Fin 251, (loopOf (BitVec.ofNat 32 g.val)).trips = g.val := by decide +kernel
  rw [loopOf_eq, groups_eq v hv]
  exact h ⟨(v.toNat + 31) / 32, by omega⟩

theorem t4_ok (v : BitVec 32) (hv : v.toNat ≤ 8000) : (k1_t4_loop v).OK := by
  have h : ∀ g : Fin 251, (loopOf (BitVec.ofNat 32 g.val)).OK := by decide +kernel
  rw [loopOf_eq, groups_eq v hv]
  exact h ⟨(v.toNat + 31) / 32, by omega⟩

section
variable (v : BitVec 32) (hv : v.toNat ≤ 8000) (t : Fin (k1_t4_loop v).trips)
include hv

theorem t4_lt : t.val < (v.toNat + 31) / 32 := lt_of_lt_of_eq t.isLt (t4_trips v hv)

theorem iv_val : (Scf.iv 0#32 1#32 t.val : BitVec 32).toNat = t.val := by
  have := t4_lt v hv t
  simp only [Scf.iv, BitVec.toNat_add, BitVec.toNat_mul, BitVec.toNat_ofNat]
  omega

theorem rem_small (n : ℕ) (hn : n < 256) : (Scalar.remsi (BitVec.ofNat 32 n) 4#32 : BitVec 32).toNat = n % 4 := by
  have h : ∀ n : Fin 256, (Scalar.remsi (BitVec.ofNat 32 n.val) 4#32 : BitVec 32).toNat = n.val % 4 := by decide +kernel
  exact h ⟨n, hn⟩

theorem slot_val : (Scalar.remsi (Scf.iv 0#32 1#32 t.val) 4#32 : BitVec 32).toNat = t.val % 4 := by
  have := t4_lt v hv t
  have e : (Scf.iv 0#32 1#32 t.val : BitVec 32) = BitVec.ofNat 32 t.val := by
    apply BitVec.eq_of_toNat_eq; rw [iv_val v hv t, BitVec.toNat_ofNat]; omega
  rw [e]; exact rem_small v hv _ (by omega)

theorem slot4_val : (Scalar.remsi (Scalar.addi (Scf.iv 0#32 1#32 t.val) 4#32) 4#32 : BitVec 32).toNat = (t.val + 4) % 4 := by
  have := t4_lt v hv t
  have e : (Scalar.addi (Scf.iv 0#32 1#32 t.val) 4#32 : BitVec 32) = BitVec.ofNat 32 (t.val + 4) := by
    apply BitVec.eq_of_toNat_eq
    show ((Scf.iv 0#32 1#32 t.val : BitVec 32) + 4#32).toNat = _
    rw [BitVec.toNat_add, iv_val v hv t, BitVec.toNat_ofNat, BitVec.toNat_ofNat]
  rw [e]; exact rem_small v hv _ (by omega)

theorem off19_val : k1_off19 v t 0 = 32 * t.val := by
  show ((Scf.iv 0#32 1#32 t.val : BitVec 32) * 32#32 + 0#32).toNat = _
  have := t4_lt v hv t
  rw [BitVec.toNat_add, BitVec.toNat_mul, iv_val v hv t]; simp only [BitVec.toNat_ofNat]; omega
theorem off17_val : k1_off17 v t 0 = 32 * t.val := by
  show ((Scf.iv 0#32 1#32 t.val : BitVec 32) * 32#32).toNat = _
  have := t4_lt v hv t
  rw [BitVec.toNat_mul, iv_val v hv t]; simp only [BitVec.toNat_ofNat]; omega
theorem off164_val : k1_off164 v t 0 = 32 * t.val + 16 := by
  show ((Scf.iv 0#32 1#32 t.val : BitVec 32) * 32#32 + 16#32).toNat = _
  have := t4_lt v hv t
  rw [BitVec.toNat_add, BitVec.toNat_mul, iv_val v hv t]; simp only [BitVec.toNat_ofNat]; omega
theorem off310_val : k1_off310 v t 0 = 32 * (t.val + 4) := by
  show (((Scf.iv 0#32 1#32 t.val : BitVec 32) + 4#32) * 32#32).toNat = _
  have := t4_lt v hv t
  rw [BitVec.toNat_mul, BitVec.toNat_add, iv_val v hv t]; simp only [BitVec.toNat_ofNat]; omega

theorem cond6_iff : k1_cond6 v t = 1#1 ↔ t.val + 4 < (v.toNat + 31) / 32 := by
  have ht := t4_lt v hv t
  have hb : ∀ b : Bool, (Scalar.cmpi .ne (Scalar.extui (BitVec.ofBool b) : BitVec 32) 0#32 : BitVec 1) = 1#1 ↔ b = true := by decide
  have e : (Scalar.addi (Scf.iv 0#32 1#32 t.val) 4#32 : BitVec 32).toNat = t.val + 4 := by
    show ((Scf.iv 0#32 1#32 t.val : BitVec 32) + 4#32).toNat = _
    rw [BitVec.toNat_add, iv_val v hv t, BitVec.toNat_ofNat]; omega
  show (Scalar.cmpi .ne (Scalar.extui (BitVec.ofBool ((Scalar.addi (Scf.iv 0#32 1#32 t.val) 4#32 : BitVec 32).slt (groups v))) : BitVec 32) 0#32 : BitVec 1) = 1#1 ↔ _
  rw [hb, BitVec.slt, decide_eq_true_iff, BitVec.toInt_eq_toNat_of_lt (by rw [e]; omega), BitVec.toInt_eq_toNat_of_lt (by rw [groups_val v hv]; omega), e, groups_val v hv]
  omega

omit t in
theorem more_iff (k : ℕ) (hk : k < 4) : more v (BitVec.ofNat 32 k) = 1#1 ↔ k < (v.toNat + 31) / 32 := by
  have hb : ∀ b : Bool, (Scalar.cmpi .ne (Scalar.extui (BitVec.ofBool b) : BitVec 32) 0#32 : BitVec 1) = 1#1 ↔ b = true := by decide
  show (Scalar.cmpi .ne (Scalar.extui (BitVec.ofBool ((BitVec.ofNat 32 k).slt (groups v))) : BitVec 32) 0#32 : BitVec 1) = 1#1 ↔ _
  have e : (BitVec.ofNat 32 k).toNat = k := by rw [BitVec.toNat_ofNat]; omega
  rw [hb, BitVec.slt, decide_eq_true_iff, BitVec.toInt_eq_toNat_of_lt (by rw [e]; omega), BitVec.toInt_eq_toNat_of_lt (by rw [groups_val v hv]; omega), e, groups_val v hv]
  omega

omit t in
theorem off6_val : k1_off6 v 0 = v.toNat := rfl
omit t in
theorem off7_val : k1_off7 v 0 = v.toNat + 16 := by
  show (v + 16#32).toNat = _
  rw [BitVec.toNat_add, BitVec.toNat_ofNat]; omega

end

theorem row_ok (p e o : ℕ) (hp : p < 4) (he : e + 1 ≤ 32) (ho : o + 16 ≤ 128) : ∀ a, (![p, e, o] : Fin 3 → ℕ) a + S1x1x16.size a ≤ S4x32x128.size a := by
  intro a; fin_cases a <;> simp <;> omega

theorem none_left {P : Fin (0 : ℕ) → Prop} : ∀ t, P t := fun t => t.elim0

/-- The row offset of the group loop. -/
theorem row_of (v : BitVec 32) (hv : v.toNat ≤ 8000) (e o : ℕ) (he : e + 1 ≤ 32) (ho : o + 16 ≤ 128) :
    ∀ t : Fin (k1_t4_loop v).trips, ∀ a, (![(Scalar.remsi (Scf.iv 0#32 1#32 t.val) 4#32 : BitVec 32).toNat, e, o] : Fin 3 → ℕ) a + S1x1x16.size a ≤ S4x32x128.size a :=
  fun t => row_ok _ _ _ (by rw [slot_val v hv t]; omega) he ho

end Cert.Proof.SageLayer

end
-- ==== Proof.Layer.Group.lean ====
/-
  One trip of the group loop: thirty-two edges of the list into the accumulator, and the next gather of the slot.
-/
module

public import proofs.«01_k».proof.Proof.Layer.Ring
public import proofs.«01_k».proof.Proof.Layer.Arith

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-- The accumulator after `n` edges: edge `k` takes row `S k` of the table into row `D k` of the accumulator. -/
def runF (H : S10000x128.Idx → Elt F .f32) (S D : ℕ → ℕ) (f : S40192.Idx → Elt F .f32) : ℕ → S40192.Idx → Elt F .f32
  | 0 => f
  | n + 1 => edgeF (runF H S D f n) (hpRow H (S n)) (D n)

theorem edgeF_congr (f : S40192.Idx → Elt F .f32) (r r' : ℕ → Elt F .f32) (v : ℕ) (h : ∀ j < 128, r j = r' j) : edgeF f r v = edgeF f r' v := by
  funext x; simp only [edgeF]; rw [h _ (Nat.mod_lt _ (by decide))]

theorem edgesF_run (H : S10000x128.Idx → Elt F .f32) (S D : ℕ → ℕ) (f : S40192.Idx → Elt F .f32) (g : S4x32x128.Idx → Elt F .f32) (p b : ℕ)
    (hg : ∀ e < 32, ∀ j < 128, rowAt g p e j = hpRow H (S (32 * b + e)) j) :
    ∀ n ≤ 32, edgesF (runF H S D f (32 * b)) g p (fun e => D (32 * b + e)) n = runF H S D f (32 * b + n)
  | 0, _ => rfl
  | n + 1, h => by
    show edgeF (edgesF _ _ _ _ n) _ _ = edgeF (runF H S D f (32 * b + n)) _ _
    rw [edgesF_run H S D f g p b hg n (by omega)]
    exact edgeF_congr _ _ _ _ fun j hj => hg n (by omega) j hj

variable (d : Dev nD) (i : grid1.Coords)

/-- The slot of group `b`. -/
def sl (b : ℕ) : Fin 4 := ⟨b % 4, Nat.mod_lt _ (by decide)⟩
theorem sl_four (b : ℕ) : sl (b + 4) = sl b := Fin.ext (show (b + 4) % 4 = b % 4 by omega)

section
variable (H : S10000x128.Idx → Elt F .f32) (fS fD : S8032.Idx → BitVec 32) (S D : ℕ → ℕ) (qh qs : Fin 4 → PosShare TreeShare)

/-- Group `b`'s slot: its gather in flight if there is such a group, at rest if not. -/
def St (nb b : ℕ) : sProp (MM F) := if b < nb then Going d i H fS S qh qs (sl b) b else Rest d i H fS qh qs (sl b)

theorem wp_wait_slot {α : Type} {k : PUnit → Prog (Tile F i) α} {Q : α → sProp (MM F)} (p : Fin 4) (b : ℕ)
    (r : Fin 3 → ℕ) (hr : ∀ a, r a + S1x32x128.size a ≤ S4x32x128.size a)
    (g : Fin 1 → ℕ) (hg : ∀ a, g a + S1.size a ≤ S4.size a) (er : r = ![p.val, 0, 0]) (eg : g = ![p.val])
    (O : CellTallies nD τ sig (HIx 1)) (W : Waits sig (HIx 1)) (h1 : (table hpV).view.WordExact) (h2 : (slotAt rowsV r hr).view.WordExact) :
    iprop(Going d i H fS S qh qs p b ∗ Owing d i O W ∗ Transfers.MayWaits (thr d i) (default : HIx 1) O)
      ⊢ iprop((iprop(Got d i H fS S qh qs p b ∗ semVal (thr d i, .dma (gs p)) 0 ∗ Owing d i O W) -∗ run d i (k ⟨⟩) Q)
        -∗ run d i (SparseCore.waitIndirectGather (slotSem cc1_scratch6 g hg) (table hpV) (slotAt rowsV r hr) h1 h2 >>= k) Q) := by
  subst er eg
  unfold SparseCore.waitIndirectGather
  simp only [op_bind, ret_bind]
  exact wp_wait d i (dstw := slotM p) rfl O W

variable (v : BitVec 32) (hv : v.toNat ≤ 8000) (hc : k1_chk5 v)

include hv in
theorem wp_group {α : Type} {k : BitVec 32 → Prog (Tile F i) α} {Q : α → sProp (MM F)} (f : S40192.Idx → Elt F .f32)
    (hS : ∀ k, k < 32 * ((v.toNat + 31) / 32) → ∀ h, (fS (at1 k h)).toNat = S k) (hSlt : ∀ k, S k < 10000)
    (hD : ∀ k, k < 32 * ((v.toNat + 31) / 32) → ∀ h, (fD (at1 k h)).toNat = D k) (hDle : ∀ k, D k ≤ 313)
    (O : CellTallies nD τ sig (HIx 1)) (W : Waits sig (HIx 1)) (t : Fin (k1_t4_loop v).trips) :
    iprop((accV.view.loc (thr d i) ↦{fullShare} runF H S D f (32 * t.val)) ∗ (selDV.view.loc (thr d i) ↦{fullShare} fD)
        ∗ St d i H fS S qh qs ((v.toNat + 31) / 32) t.val ∗ Owing d i O W ∗ Transfers.MayWaits (thr d i) (default : HIx 1) O)
      ⊢ iprop((iprop((accV.view.loc (thr d i) ↦{fullShare} runF H S D f (32 * (t.val + 1))) ∗ (selDV.view.loc (thr d i) ↦{fullShare} fD)
        ∗ St d i H fS S qh qs ((v.toNat + 31) / 32) (t.val + 4) ∗ Owing d i O W) -∗ run d i (k 0#32) Q)
        -∗ run d i (group i hpV accV selSV selDV rowsV cc1_scratch6 v hc t >>= k) Q) := by
  have ht := t4_lt v hv t
  have esl : (Scalar.remsi (Scf.iv 0#32 1#32 t.val) 4#32 : BitVec 32).toNat = (sl t.val).val := slot_val v hv t
  have esl4 : (Scalar.remsi (Scalar.addi (Scf.iv 0#32 1#32 t.val) 4#32) 4#32 : BitVec 32).toNat = (sl (t.val + 4)).val := slot4_val v hv t
  have e16 : k1_off16 v t = ![(sl t.val).val, 0, 0] := congrArg (fun n => (![n, 0, 0] : Fin 3 → ℕ)) esl
  have e18 : k1_off18 v t = ![(sl t.val).val] := congrArg (fun n => (![n] : Fin 1 → ℕ)) esl
  have e309 : k1_off309 v t = ![(sl (t.val + 4)).val, 0, 0] := congrArg (fun n => (![n, 0, 0] : Fin 3 → ℕ)) esl4
  have e311 : k1_off311 v t = ![(sl (t.val + 4)).val] := congrArg (fun n => (![n] : Fin 1 → ℕ)) esl4
  -- the destinations of the two halves
  have hd : ∀ (o : Fin 1 → ℕ) (ho : ∀ a, o a + S16.size a ≤ S8032.size a) (b : ℕ), b < 2 → o 0 = 32 * t.val + 16 * b → ∀ e (he : e < 16),
      (dstAt ((selDV.access (Rect.unit (s := S8032) o S16.size ho)).read (Elt F) fD) e he).toNat = D (32 * t.val + (16 * b + e)) := by
    intro o ho b hb eo e he
    rw [dstAt_eq]
    refine Eq.trans ?_ (hD (32 * t.val + (16 * b + e)) (by omega) (by omega))
    refine congrArg BitVec.toNat ((read_flat (Val := Elt F) (n := 8032) (m := 16) selDV.view fD o ho (at1 e he)).trans ?_)
    show fD _ = fD _
    refine congrArg fD ?_
    funext a; apply Fin.ext; show o 0 + e = 32 * t.val + (16 * b + e); omega
  unfold group
  simp only [Prog.bind_assoc, St, if_pos ht]
  iintro ⟨Ha, HD, Hg, HO, #Hmw⟩ Hk
  iapply (wp_wait_slot d i H fS S qh qs (sl t.val) t.val _ _ _ _ e16 e18 O W) $$ [Hg HO]
  · isplitl [Hg]; · iexact Hg
    isplitl [HO]; · iexact HO
    iexact Hmw
  unfold Got
  iintro ⟨⟨%g, %hg, Hr, Hh, Hs⟩, Hv, HO⟩
  ihave Ha := (Entails.of_eq (show (accV.view.loc (thr d i) ↦{fullShare} runF H S D f (32 * t.val) : sProp (MM F))
    = (accV.view.loc (thr d i) ↦{fullShare} edgesF (runF H S D f (32 * t.val)) g (sl t.val).val (fun e => D (32 * t.val + e)) (16 * 0)) from rfl)) $$ Ha
  unfold run
  simp only [Prog.lift, op_bind, ret_bind, pure_eq]
  iapply (wp_load_rect 𝒱₀ (thr d i) none Set.univ (defs := defs₀ (F := F)) (m := selDV) (r := Rect.unit (s := S8032) (k1_off19 v t) S16.size (k1_off19_inb v hc t)) (q := fullShare) (f := fD) (S := Finset.univ) (Finset.subset_univ _)) $$ HD
  iintro HD
  iapply (wp_half d i (runF H S D f (32 * t.val)) g (sl t.val).val (fun e => D (32 * t.val + e)) _ (slot_lt hc t) esl _ 0 _
    (fun e he => (hd _ _ 0 (by decide) (off19_val v hv t) e he).symm) (fun e he => (hd _ _ 0 (by decide) (off19_val v hv t) e he).trans_le (hDle _))) $$ [Ha Hr]
  · isplitl [Ha] <;> iassumption
  iintro ⟨Ha, Hr⟩
  ihave Ha := (Entails.of_eq (show (accV.view.loc (thr d i) ↦{fullShare} edgesF (runF H S D f (32 * t.val)) g (sl t.val).val (fun e => D (32 * t.val + e)) (16 * 0 + 16) : sProp (MM F))
    = (accV.view.loc (thr d i) ↦{fullShare} edgesF (runF H S D f (32 * t.val)) g (sl t.val).val (fun e => D (32 * t.val + e)) (16 * 1)) from rfl)) $$ Ha
  unfold run
  iapply (wp_load_rect 𝒱₀ (thr d i) none Set.univ (defs := defs₀ (F := F)) (m := selDV) (r := Rect.unit (s := S8032) (k1_off164 v t) S16.size (k1_off164_inb v hc t)) (q := fullShare) (f := fD) (S := Finset.univ) (Finset.subset_univ _)) $$ HD
  iintro HD
  iapply (wp_half d i (runF H S D f (32 * t.val)) g (sl t.val).val (fun e => D (32 * t.val + e)) _ (slot_lt hc t) esl _ 1 _
    (fun e he => (hd _ _ 1 (by decide) (off164_val v hv t) e he).symm) (fun e he => (hd _ _ 1 (by decide) (off164_val v hv t) e he).trans_le (hDle _))) $$ [Ha Hr]
  · isplitl [Ha] <;> iassumption
  iintro ⟨Ha, Hr⟩
  ihave Ha := (Entails.of_eq (show (accV.view.loc (thr d i) ↦{fullShare} edgesF (runF H S D f (32 * t.val)) g (sl t.val).val (fun e => D (32 * t.val + e)) (16 * 1 + 16) : sProp (MM F))
    = (accV.view.loc (thr d i) ↦{fullShare} runF H S D f (32 * (t.val + 1))) by
      rw [show 16 * 1 + 16 = 32 from rfl, edgesF_run H S D f g (sl t.val).val t.val hg 32 le_rfl]; rfl)) $$ Ha
  ihave Hrest := (show iprop((rowsV.view.loc (thr d i) ↦[slotSet (sl t.val).val]{fullShare} g) ∗ (hpV.view.loc (thr d i) ↦{qh (sl t.val)} H)
      ∗ (selSV.view.loc (thr d i) ↦{qs (sl t.val)} fS) ∗ semVal (thr d i, SemLoc.dma (gs (sl t.val))) 0) ⊢ Rest d i H fS qh qs (sl (t.val + 4)) by
    rw [sl_four]; unfold Rest
    iintro ⟨Hr, Hh, Hs, Hv⟩
    isplitl [Hr]; · iexists _; iexact Hr
    isplitl [Hh]; · iexact Hh
    isplitl [Hs]; · iexact Hs
    iexact Hv) $$ [Hr Hh Hs Hv]
  · isplitl [Hr]; · iexact Hr
    isplitl [Hh]; · iexact Hh
    isplitl [Hs]; · iexact Hs
    iexact Hv
  by_cases h6 : k1_cond6 v t = 1#1
  · have hlt := (cond6_iff v hv t).mp h6
    rw [dif_pos h6, if_pos hlt]
    simp only [Prog.bind_assoc]
    iapply (wp_gather d i H fS S qh qs (sl (t.val + 4)) (t.val + 4) _ _ _ _ _ _ e309 (off310_val v hv t) e311
      (fun e he h => hS _ (by omega) h) (fun e he => hSlt _)) $$ Hrest
    iintro Hg
    simp only [ret_bind]
    iapply Hk
    isplitl [Ha]; · iexact Ha
    isplitl [HD]; · iexact HD
    isplitl [Hg]; · iexact Hg
    iexact HO
  · have hlt := mt (cond6_iff v hv t).mpr h6
    rw [dif_neg h6, if_neg hlt]
    simp only [ret_bind]
    iapply Hk
    isplitl [Ha]; · iexact Ha
    isplitl [HD]; · iexact HD
    isplitl [Hrest]; · iexact Hrest
    iexact HO

end

end Cert.Proof.SageLayer

end
-- ==== Proof.Layer.Chk5.lean ====
/-
  The check before the group loop holds for every count of chosen edges up to 8000.
-/
module

public import proofs.«01_k».proof.Proof.Layer.Arith

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable (v : BitVec 32) (hv : v.toNat ≤ 8000)

theorem flat_le {o : Fin 1 → ℕ} (k m : ℕ) (h : o 0 + k ≤ m) : ∀ a, o a + (![k] : Fin 1 → ℕ) a ≤ (![m] : Fin 1 → ℕ) a := by
  intro a; rw [Fin.eq_zero a]; exact h

theorem slot_le (p : ℕ) (h : p < 4) : ∀ a, (![p, 0, 0] : Fin 3 → ℕ) a + S1x32x128.size a ≤ S4x32x128.size a := by
  intro a; fin_cases a <;> simp <;> omega

/-- The loop of the groups left over. -/
def restOf (g : BitVec 32) : Scf.Loop 32 :=
  ⟨Scalar.addi 0#32 (Scalar.muli (Scalar.divsi (Scalar.subi g 0#32) 1#32) 1#32), Scalar.addi 0#32 (Scalar.subi g 0#32), 1#32⟩

include hv in
theorem t5_ok : (k1_t5_loop v).OK := by
  have h : ∀ g : Fin 251, (restOf (BitVec.ofNat 32 g.val)).OK := by decide +kernel
  show (restOf (groups v)).OK
  rw [groups_eq v hv]
  exact h ⟨(v.toNat + 31) / 32, by omega⟩

theorem none5 {P : Fin (k1_t5_loop v).trips → Prop} : ∀ t, P t := fun t => absurd (lt_of_lt_of_eq t.isLt (no_rest v)) (Nat.not_lt_zero _)

include hv in
theorem chk5_0 : k1_chk5_0 v :=
  ⟨flat_le 16 8032 (by rw [off6_val v hv]; omega),
    flat_le 16 8032 (by rw [off7_val v hv]; omega),
    t4_ok v hv,
    fun t => slot_le _ (by rw [slot_val v hv t]; omega),
    fun t => flat_le 32 8032 (by rw [off17_val v hv t]; have := t4_lt v hv t; omega),
    fun t => flat_le 1 4 (by have := slot_val v hv t; show (Scalar.remsi (Scf.iv 0#32 1#32 t.val) 4#32 : BitVec 32).toNat + 1 ≤ 4; omega),
    fun t => flat_le 16 8032 (by rw [off19_val v hv t]; have := t4_lt v hv t; omega),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_1 : k1_chk5_1 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_2 : k1_chk5_2 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_3 : k1_chk5_3 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_4 : k1_chk5_4 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    fun t => flat_le 16 8032 (by rw [off164_val v hv t]; have := t4_lt v hv t; omega),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_5 : k1_chk5_5 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_6 : k1_chk5_6 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_7 : k1_chk5_7 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide)⟩

include hv in
theorem chk5_8 : k1_chk5_8 v :=
  ⟨row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    row_of v hv _ _ (by decide) (by decide),
    fun t _ => slot_le _ (by rw [slot4_val v hv t]; omega),
    fun t h => flat_le 32 8032 (by rw [off310_val v hv t]; have := (cond6_iff v hv t).mp h; omega),
    fun t _ => flat_le 1 4 (by have := slot4_val v hv t; show (Scalar.remsi (Scalar.addi (Scf.iv 0#32 1#32 t.val) 4#32) 4#32 : BitVec 32).toNat + 1 ≤ 4; omega),
    t5_ok v hv,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_9 : k1_chk5_9 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_10 : k1_chk5_10 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_11 : k1_chk5_11 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_12 : k1_chk5_12 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_13 : k1_chk5_13 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_14 : k1_chk5_14 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_15 : k1_chk5_15 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
theorem chk5_16 : k1_chk5_16 v :=
  ⟨none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v,
    none5 v⟩

include hv in
/-- The check. -/
theorem chk5_of : k1_chk5 v :=
  ⟨chk5_0 v hv, chk5_1 v hv, chk5_2 v hv, chk5_3 v hv, chk5_4 v hv, chk5_5 v hv, chk5_6 v hv, chk5_7 v hv, chk5_8 v hv, chk5_9 v hv, chk5_10 v hv, chk5_11 v hv, chk5_12 v hv, chk5_13 v hv, chk5_14 v hv, chk5_15 v hv, chk5_16 v hv⟩

end Cert.Proof.SageLayer

end
-- ==== Proof.Layer.Work.lean ====
/-
  The work on one chunk's lists: their padding, the first four gathers, and the group loop.
-/
module

public import proofs.«01_k».proof.Proof.Layer.Scan
public import proofs.«01_k».proof.Proof.Layer.Group
public import proofs.«01_k».proof.Proof.Layer.Chk5

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

variable (d : Dev nD) (i : grid1.Coords)

/-! ## The lists' padding -/

/-- Sixteen words of a list replaced by `x`. -/
def padF (f : S8032.Idx → BitVec 32) (n : ℕ) (x : BitVec 32) : S8032.Idx → BitVec 32 := fun j => if n ≤ (j 0).val ∧ (j 0).val < n + 16 then x else f j

theorem wp_pad_selS {α : Type} {k : PUnit → Prog (Tile F i) α} {Q : α → sProp (MM F)} (f : S8032.Idx → BitVec 32) (o : Fin 1 → ℕ)
    (ho : ∀ a, o a + S16.size a ≤ S8032.size a) (x : BitVec 32) (n : ℕ) (eo : o 0 = n) :
    (selSV.view.loc (thr d i) ↦{fullShare} f)
      ⊢ iprop(((selSV.view.loc (thr d i) ↦{fullShare} padF f n x) -∗ run d i (k ⟨⟩) Q) -∗ run d i (pad i selSV o ho x >>= k) Q) := by
  have e : ((selSV.access (Rect.unit (s := S8032) o S16.size ho)).write (Elt F) f (broadcast S16 x : Vec F S16 .i32) Finset.univ) = padF f n x := by
    subst eo
    funext j
    refine (write_flat (Val := Elt F) (n := 8032) (m := 16) selSV.view f (broadcast S16 x : Vec F S16 .i32) o ho j).trans ?_
    unfold padF
    split
    · rfl
    · rfl
  unfold pad run
  simp only [Prog.lift, op_bind, ret_bind]
  iintro H Hk
  iapply (wp_load_rect 𝒱₀ (thr d i) none Set.univ (defs := defs₀ (F := F)) (m := selSV) (r := Rect.unit (s := S8032) o S16.size ho) (q := fullShare) (f := f) (S := Finset.univ) (Finset.subset_univ _)) $$ H
  iintro H
  iapply (wp_store 𝒱₀ (thr d i) none Set.univ (defs := defs₀ (F := F)) (m := selSV) (r := Rect.unit (s := S8032) o S16.size ho) (f := f) (S := Finset.univ) (Finset.subset_univ _)) $$ H
  iintro H
  iapply Hk
  rw [← e]; iexact H

theorem wp_pad_selD {α : Type} {k : PUnit → Prog (Tile F i) α} {Q : α → sProp (MM F)} (f : S8032.Idx → BitVec 32) (o : Fin 1 → ℕ)
    (ho : ∀ a, o a + S16.size a ≤ S8032.size a) (x : BitVec 32) (n : ℕ) (eo : o 0 = n) :
    (selDV.view.loc (thr d i) ↦{fullShare} f)
      ⊢ iprop(((selDV.view.loc (thr d i) ↦{fullShare} padF f n x) -∗ run d i (k ⟨⟩) Q) -∗ run d i (pad i selDV o ho x >>= k) Q) := by
  have e : ((selDV.access (Rect.unit (s := S8032) o S16.size ho)).write (Elt F) f (broadcast S16 x : Vec F S16 .i32) Finset.univ) = padF f n x := by
    subst eo
    funext j
    refine (write_flat (Val := Elt F) (n := 8032) (m := 16) selDV.view f (broadcast S16 x : Vec F S16 .i32) o ho j).trans ?_
    unfold padF
    split
    · rfl
    · rfl
  unfold pad run
  simp only [Prog.lift, op_bind, ret_bind]
  iintro H Hk
  iapply (wp_load_rect 𝒱₀ (thr d i) none Set.univ (defs := defs₀ (F := F)) (m := selDV) (r := Rect.unit (s := S8032) o S16.size ho) (q := fullShare) (f := f) (S := Finset.univ) (Finset.subset_univ _)) $$ H
  iintro H
  iapply (wp_store 𝒱₀ (thr d i) none Set.univ (defs := defs₀ (F := F)) (m := selDV) (r := Rect.unit (s := S8032) o S16.size ho) (f := f) (S := Finset.univ) (Finset.subset_univ _)) $$ H
  iintro H
  iapply Hk
  rw [← e]; iexact H

/-! ## The work on one chunk's lists -/

/-- What follows the scan of a chunk. -/
def work (hp : Memref sig .scVector .hbm S10000x128 .f32) (acc : Memref sig .scVector .vmem S40192 .f32) (selS selD : Memref sig .scVector .vmem S8032 .i32)
    (rows : Memref sig .scVector .vmem S4x32x128 .f32) (gsem : DmaSems sig S4) (v : BitVec 32) : Prog (Tile F i) (BitVec 32) := do
  have hv : k1_chk5 v := (← Prog.lift (TpuEff.assume (k1_chk5 v) (k1_chk5.dec v))).down
  pad i selS (k1_off6 v) (k1_off6_inb v hv) 0#32
  pad i selS (k1_off7 v) (k1_off7_inb v hv) 0#32
  pad i selD (k1_off6 v) (k1_off6_inb v hv) 313#32
  let _x ← starts i hp selS selD rows gsem v hv
  let _r : BitVec 32 ← Scf.Loop.for (k1_t4_loop v) (k1_t4_ok v hv) 0#32 (fun t _ => group i hp acc selS selD rows gsem v hv t)
  pure 0#32

/-- A chunk is its waits, the next chunk's copies, the scan and that work. -/
theorem chunkTrip_eq (hp : Memref sig .scVector .hbm S10000x128 .f32) (src dst : Memref sig .scVector .hbm S320000 .i32) (acc : Memref sig .scVector .vmem S40192 .f32)
    (srcC dstC : Memref sig .scVector .vmem S16000 .i32) (selS selD : Memref sig .scVector .vmem S8032 .i32)
    (rows : Memref sig .scVector .vmem S4x32x128 .f32) (gsem : DmaSems sig S4) (csem : DmaSems sig S2) (t2 : Fin k1_t2_loop.trips) :
    chunkTrip (F := F) i hp src dst acc srcC dstC selS selD rows gsem csem t2 = (do
      fetched i csem src srcC (k1_off2 t2) (k1_off2_inb t2) ![0] inb_S2_S1_0
      fetched i csem dst dstC (k1_off2 t2) (k1_off2_inb t2) ![1] inb_S2_S1_1
      if h : k1_cond1 t2 = 1#1 then do
        fetch i csem src srcC (k1_off4 t2) (k1_off4_inb t2 h) (k1_off3 t2) (k1_off3_inb t2 h) ![0] inb_S2_S1_0
        fetch i csem dst dstC (k1_off4 t2) (k1_off4_inb t2 h) (k1_off3 t2) (k1_off3_inb t2 h) ![1] inb_S2_S1_1
        pure ⟨⟩
      else do
        pure ⟨⟩
      let v : BitVec 32 ← Scf.Loop.for k1_t3_loop k1_t3_ok 0#32 (fun t3 off => scanTrip i srcC dstC selS selD t2 t3 off)
      work i hp acc selS selD rows gsem v) := by
  unfold chunkTrip select work
  by_cases h : k1_cond1 t2 = 1#1
  · simp only [dif_pos h, Prog.bind_assoc, ret_bind, pure_eq]
  · simp only [dif_neg h, Prog.bind_assoc, ret_bind, pure_eq]

/-- A gather if there is such a group. -/
def startIf (c : BitVec 1) (p : Prog (Tile F i) PUnit) : Prog (Tile F i) PUnit := if c = 1#1 then p else pure ⟨⟩

theorem starts_if (hp : Memref sig .scVector .hbm S10000x128 .f32) (selS selD : Memref sig .scVector .vmem S8032 .i32)
    (rows : Memref sig .scVector .vmem S4x32x128 .f32) (gsem : DmaSems sig S4) (v : BitVec 32) (hv : k1_chk5 v) :
    starts (F := F) i hp selS selD rows gsem v hv = (do
      pad i selD (k1_off7 v) (k1_off7_inb v hv) 313#32
      startIf i (more v 0#32) (gatherAt i hp selS rows gsem k1_off8 k1_off8_inb ![0] inb_S8032_S32_0 k1_off9 k1_off9_inb)
      startIf i (more v 1#32) (gatherAt i hp selS rows gsem k1_off10 k1_off10_inb ![32] inb_S8032_S32_32 k1_off11 k1_off11_inb)
      startIf i (more v 2#32) (gatherAt i hp selS rows gsem k1_off12 k1_off12_inb ![64] inb_S8032_S32_64 k1_off13 k1_off13_inb)
      startIf i (more v 3#32) (gatherAt i hp selS rows gsem k1_off14 k1_off14_inb ![96] inb_S8032_S32_96 k1_off15 k1_off15_inb)
      pure ⟨groups v, 0#32⟩) := by
  unfold starts startIf
  by_cases h0 : more v 0#32 = 1#1 <;> by_cases h1 : more v 1#32 = 1#1 <;> by_cases h2 : more v 2#32 = 1#1 <;> by_cases h3 : more v 3#32 = 1#1 <;>
    simp only [h0, h1, h2, h3, if_true, if_false, Prog.bind_assoc, ret_bind, pure_eq]

section
variable (H : S10000x128.Idx → Elt F .f32) (qh : Fin 4 → PosShare TreeShare)

/-- One of the four slots, at rest, without its share of the list. -/
def Slot (p : Fin 4) : sProp (MM F) :=
  iprop((∃ g : S4x32x128.Idx → Elt F .f32, (rowsV.view.loc (thr d i) ↦[slotSet p.val]{fullShare} g))
    ∗ (hpV.view.loc (thr d i) ↦{qh p} H) ∗ semVal (thr d i, SemLoc.dma (gs p)) 0)

def Slots : sProp (MM F) := iprop(Slot d i H qh 0 ∗ Slot d i H qh 1 ∗ Slot d i H qh 2 ∗ Slot d i H qh 3)

/-- The four shares of the list. -/
abbrev qL (p : Fin 4) : PosShare TreeShare := ShareLeaves.leaf 2 fullShare p

theorem four (Φ : Fin 4 → sProp (MM F)) : bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

theorem pts_four {ℓ : Loc nD τ sig} (f : Buf (Elt F) ℓ) (q : PosShare TreeShare) : (ℓ ↦{q} f : sProp (MM F))
    = iprop((ℓ ↦{ShareLeaves.leaf 2 q (0 : Fin 4)} f) ∗ (ℓ ↦{ShareLeaves.leaf 2 q (1 : Fin 4)} f) ∗ (ℓ ↦{ShareLeaves.leaf 2 q (2 : Fin 4)} f) ∗ (ℓ ↦{ShareLeaves.leaf 2 q (3 : Fin 4)} f)) := by
  rw [ShareLeaves.pointsTo_leaves Finset.univ f 2 q]
  exact four fun p => (ℓ ↦{ShareLeaves.leaf 2 q p} f)

theorem selS_four (f : S8032.Idx → BitVec 32) : (selSV.view.loc (thr d i) ↦{fullShare} f : sProp (MM F))
    = iprop((selSV.view.loc (thr d i) ↦{qL 0} f) ∗ (selSV.view.loc (thr d i) ↦{qL 1} f) ∗ (selSV.view.loc (thr d i) ↦{qL 2} f) ∗ (selSV.view.loc (thr d i) ↦{qL 3} f)) :=
  pts_four (ℓ := selSV.view.loc (thr d i)) f fullShare

theorem rest_of_slot (f : S8032.Idx → BitVec 32) (p : Fin 4) : iprop(Slot d i H qh p ∗ (selSV.view.loc (thr d i) ↦{qL p} f)) ⊢ Rest d i H f qh qL p := by
  unfold Slot Rest
  iintro ⟨⟨Hr, Hh, Hv⟩, Hs⟩
  iframe Hr Hh Hs Hv

theorem slot_of_rest (f : S8032.Idx → BitVec 32) (p : Fin 4) : Rest d i H f qh qL p ⊢ iprop(Slot d i H qh p ∗ (selSV.view.loc (thr d i) ↦{qL p} f)) := by
  unfold Slot Rest
  iintro ⟨Hr, Hh, Hs, Hv⟩
  iframe Hr Hh Hs Hv

/-- The four slots with their shares, and the same with the list whole. -/
theorem rests_of (f : S8032.Idx → BitVec 32) : iprop(Slots d i H qh ∗ (selSV.view.loc (thr d i) ↦{fullShare} f))
    ⊢ iprop(Rest d i H f qh qL 0 ∗ Rest d i H f qh qL 1 ∗ Rest d i H f qh qL 2 ∗ Rest d i H f qh qL 3) := by
  rw [selS_four]
  unfold Slots
  iintro ⟨⟨H0, H1, H2, H3⟩, G0, G1, G2, G3⟩
  isplitl [H0 G0]; · iapply (rest_of_slot d i H qh f 0); iframe H0 G0
  isplitl [H1 G1]; · iapply (rest_of_slot d i H qh f 1); iframe H1 G1
  isplitl [H2 G2]; · iapply (rest_of_slot d i H qh f 2); iframe H2 G2
  iapply (rest_of_slot d i H qh f 3); iframe H3 G3

theorem of_rests (f : S8032.Idx → BitVec 32) : iprop(Rest d i H f qh qL 0 ∗ Rest d i H f qh qL 1 ∗ Rest d i H f qh qL 2 ∗ Rest d i H f qh qL 3)
    ⊢ iprop(Slots d i H qh ∗ (selSV.view.loc (thr d i) ↦{fullShare} f)) := by
  rw [selS_four]
  unfold Slots
  iintro ⟨H0, H1, H2, H3⟩
  ihave ⟨H0, G0⟩ := (slot_of_rest d i H qh f 0) $$ H0
  ihave ⟨H1, G1⟩ := (slot_of_rest d i H qh f 1) $$ H1
  ihave ⟨H2, G2⟩ := (slot_of_rest d i H qh f 2) $$ H2
  ihave ⟨H3, G3⟩ := (slot_of_rest d i H qh f 3) $$ H3
  iframe H0 H1 H2 H3 G0 G1 G2 G3

variable (fS fD : S8032.Idx → BitVec 32) (S D : ℕ → ℕ)

/-- The slots of the groups `b, …, b + 3`. -/
def Four (nb b : ℕ) : sProp (MM F) :=
  iprop(St d i H fS S qh qL nb b ∗ St d i H fS S qh qL nb (b + 1) ∗ St d i H fS S qh qL nb (b + 2) ∗ St d i H fS S qh qL nb (b + 3))

theorem four_done (nb : ℕ) : Four d i H qh fS S nb nb ⊢ iprop(Slots d i H qh ∗ (selSV.view.loc (thr d i) ↦{fullShare} fS)) := by
  refine BIBase.Entails.trans ?_ (of_rests d i H qh fS)
  unfold Four St
  rw [if_neg (by omega), if_neg (by omega), if_neg (by omega), if_neg (by omega)]
  iintro ⟨H0, H1, H2, H3⟩
  have hs : ∀ r, r < 4 → ∀ j, nb % 4 = r → sl (nb + j) = sl (r + j) := fun r _ j h => Fin.ext (show (nb + j) % 4 = (r + j) % 4 by omega)
  have h4 : nb % 4 = 0 ∨ nb % 4 = 1 ∨ nb % 4 = 2 ∨ nb % 4 = 3 := by omega
  have e0 := fun r hr => hs r hr 0
  rcases h4 with h | h | h | h
  · rw [show sl nb = 0 from hs 0 (by decide) 0 h, show sl (nb + 1) = 1 from hs 0 (by decide) 1 h, show sl (nb + 2) = 2 from hs 0 (by decide) 2 h, show sl (nb + 3) = 3 from hs 0 (by decide) 3 h]
    iframe H0 H1 H2 H3
  · rw [show sl nb = 1 from hs 1 (by decide) 0 h, show sl (nb + 1) = 2 from hs 1 (by decide) 1 h, show sl (nb + 2) = 3 from hs 1 (by decide) 2 h, show sl (nb + 3) = 0 from hs 1 (by decide) 3 h]
    iframe H0 H1 H2 H3
  · rw [show sl nb = 2 from hs 2 (by decide) 0 h, show sl (nb + 1) = 3 from hs 2 (by decide) 1 h, show sl (nb + 2) = 0 from hs 2 (by decide) 2 h, show sl (nb + 3) = 1 from hs 2 (by decide) 3 h]
    iframe H0 H1 H2 H3
  · rw [show sl nb = 3 from hs 3 (by decide) 0 h, show sl (nb + 1) = 0 from hs 3 (by decide) 1 h, show sl (nb + 2) = 1 from hs 3 (by decide) 2 h, show sl (nb + 3) = 2 from hs 3 (by decide) 3 h]
    iframe H0 H1 H2 H3

theorem wp_startIf {α : Type} {k : PUnit → Prog (Tile F i) α} {Q : α → sProp (MM F)} (nb : ℕ) (c : BitVec 1) (p : Fin 4) (hc : c = 1#1 ↔ p.val < nb)
    (r : Fin 3 → ℕ) (hr : ∀ a, r a + S1x32x128.size a ≤ S4x32x128.size a) (o : Fin 1 → ℕ) (ho : ∀ a, o a + S32.size a ≤ S8032.size a)
    (g : Fin 1 → ℕ) (hg : ∀ a, g a + S1.size a ≤ S4.size a) (er : r = ![p.val, 0, 0]) (eo : o 0 = 32 * p.val) (eg : g = ![p.val])
    (hS : ∀ k, k < 32 * nb → ∀ h, (fS (at1 k h)).toNat = S k) (hSlt : ∀ k, S k < 10000) :
    Rest d i H fS qh qL p ⊢ iprop((St d i H fS S qh qL nb p.val -∗ run d i (k ⟨⟩) Q)
      -∗ run d i (startIf i c (gatherAt i hpV selSV rowsV cc1_scratch6 r hr o ho g hg) >>= k) Q) := by
  have es : sl p.val = p := Fin.ext (Nat.mod_eq_of_lt p.isLt)
  unfold startIf St
  rw [es]
  by_cases h : c = 1#1
  · rw [if_pos h, if_pos (hc.mp h)]
    exact wp_gather d i H fS S qh qL p p.val r hr o ho g hg er eo eg (fun e he h' => hS _ (by have := hc.mp h; omega) h') (fun e he => hSlt _)
  · rw [if_neg h, if_neg (mt hc.mpr h)]
    simp only [pure_eq, ret_bind]
    iintro H Hk
    iapply Hk $$ H

end

section
variable (H : S10000x128.Idx → Elt F .f32) (qh : Fin 4 → PosShare TreeShare) (ds ss : ℕ → BitVec 32) (a : ℕ)

/-- The table row and the accumulator row of entry `k` of the lists of one chunk; the entries after the last one are the padding. -/
def srcOf (k : ℕ) : ℕ := if k < cnt i ds a 8000 then (lst i ds ss a 8000 k).toNat else 0
def rowOf (k : ℕ) : ℕ := if k < cnt i ds a 8000 then (lst i ds (fun k => ds k - lo i) a 8000 k).toNat else 313

theorem srcOf_lt (hss : ∀ k, (ss k).toNat < 10000) (k : ℕ) : srcOf i ds ss a k < 10000 := by
  unfold srcOf
  split
  · next h => exact lst_all i ds ss a (fun w => w.toNat < 10000) 8000 (fun k _ _ => hss _) k h
  · decide

theorem rowOf_le (hds : ∀ k, (ds k).toNat < 10000) (k : ℕ) : rowOf i ds a k ≤ 313 := by
  unfold rowOf
  split
  · next h =>
    refine lst_all i ds (fun k => ds k - lo i) a (fun w => w.toNat ≤ 313) 8000 (fun k _ hb => ?_) k h
    have h2 := (bit_iff i (ds (a + k)) (hds _)).mp hb
    show (ds (a + k) - lo i).toNat ≤ 313
    rw [sub_val i _ h2.1]; omega
  · decide

theorem padded (val : ℕ → BitVec 32) (f : S8032.Idx → BitVec 32) (x : BitVec 32) (hf : Holds i ds a val 8000 f) (k : ℕ) (hk : k < cnt i ds a 8000 + 32)
    (h : k < 8032) : (padF (padF f (cnt i ds a 8000) x) (cnt i ds a 8000 + 16) x (at1 k h)) = if k < cnt i ds a 8000 then lst i ds val a 8000 k else x := by
  show (if cnt i ds a 8000 + 16 ≤ k ∧ k < cnt i ds a 8000 + 16 + 16 then x else if cnt i ds a 8000 ≤ k ∧ k < cnt i ds a 8000 + 16 then x else f (at1 k h)) = _
  by_cases hc : k < cnt i ds a 8000
  · rw [if_neg (by omega), if_neg (by omega), if_pos hc, ← hf k hc, rd_at f k h]
  · rw [if_neg hc]
    by_cases h2 : k < cnt i ds a 8000 + 16
    · rw [if_neg (by omega), if_pos (by omega)]
    · rw [if_pos (by omega)]

/-- The accumulator after a chunk. -/
def chunkF (f : S40192.Idx → Elt F .f32) : S40192.Idx → Elt F .f32 :=
  runF H (srcOf i ds ss a) (rowOf i ds a) f (32 * ((cnt i ds a 8000 + 31) / 32))

/-- The two lists, with whatever they hold. -/
def Free : sProp (MM F) :=
  iprop(∃ fS fD : S8032.Idx → BitVec 32, (selSV.view.loc (thr d i) ↦{fullShare} fS) ∗ (selDV.view.loc (thr d i) ↦{fullShare} fD))

theorem wp_work {α : Type} {k : BitVec 32 → Prog (Tile F i) α} {Q : α → sProp (MM F)} (f : S40192.Idx → Elt F .f32) (v : BitVec 32)
    (hss : ∀ k, (ss k).toNat < 10000) (hds : ∀ k, (ds k).toNat < 10000) (ev : v.toNat = cnt i ds a 8000)
    (O : CellTallies nD τ sig (HIx 1)) (W : Waits sig (HIx 1)) :
    iprop(Lists d i ds ss a 8000 ∗ (accV.view.loc (thr d i) ↦{fullShare} f) ∗ Slots d i H qh ∗ Owing d i O W ∗ Transfers.MayWaits (thr d i) (default : HIx 1) O)
      ⊢ iprop((iprop((accV.view.loc (thr d i) ↦{fullShare} chunkF i H ds ss a f) ∗ Free d i ∗ Slots d i H qh ∗ Owing d i O W) -∗ run d i (k 0#32) Q)
        -∗ run d i (work i hpV accV selSV selDV rowsV cc1_scratch6 v >>= k) Q) := by
  have hn := cnt_le i ds a 8000
  have hv : v.toNat ≤ 8000 := by omega
  have hc := chk5_of v hv
  generalize hnn : cnt i ds a 8000 = n at hn ev
  unfold Lists
  iintro ⟨⟨%fS, %fD, %hf, HS, HD⟩, Ha, Hs, HO, #Hmw⟩ Hk
  have hpS := padded i ds a ss fS 0#32 hf.1
  have hpD := padded i ds a (fun k => ds k - lo i) fD 313#32 hf.2
  rw [hnn] at hpS hpD
  have hS : ∀ k, k < 32 * ((v.toNat + 31) / 32) → ∀ h, ((padF (padF fS n 0#32) (n + 16) 0#32) (at1 k h)).toNat = srcOf i ds ss a k := by
    intro k hk h
    rw [hpS k (by omega) h]; unfold srcOf; rw [hnn]; split <;> rfl
  have hD : ∀ k, k < 32 * ((v.toNat + 31) / 32) → ∀ h, ((padF (padF fD n 313#32) (n + 16) 313#32) (at1 k h)).toNat = rowOf i ds a k := by
    intro k hk h
    rw [hpD k (by omega) h]; unfold rowOf; rw [hnn]; split <;> rfl
  have hSlt := srcOf_lt i ds ss a hss
  have hDle := rowOf_le i ds a hds
  unfold work
  simp only [starts_if, Prog.bind_assoc, Prog.lift, op_bind, ret_bind, pure_eq]
  unfold run
  iapply (wp_assume 𝒱₀ (thr d i) none Set.univ hc)
  iapply (wp_pad_selS d i fS (k1_off6 v) (k1_off6_inb v hc) 0#32 n ev) $$ HS
  iintro HS
  iapply (wp_pad_selS d i (padF fS n 0#32) (k1_off7 v) (k1_off7_inb v hc) 0#32 (n + 16) ((off7_val v hv).trans (by rw [ev]))) $$ HS
  iintro HS
  iapply (wp_pad_selD d i fD (k1_off6 v) (k1_off6_inb v hc) 313#32 n ev) $$ HD
  iintro HD
  iapply (wp_pad_selD d i (padF fD n 313#32) (k1_off7 v) (k1_off7_inb v hc) 313#32 (n + 16) ((off7_val v hv).trans (by rw [ev]))) $$ HD
  iintro HD
  ihave ⟨R0, R1, R2, R3⟩ := (rests_of d i H qh (padF (padF fS n 0#32) (n + 16) 0#32)) $$ [Hs HS]
  · iframe Hs HS
  iapply (wp_startIf d i H qh (padF (padF fS n 0#32) (n + 16) 0#32) (srcOf i ds ss a) ((v.toNat + 31) / 32) _ 0 (more_iff v hv 0 (by decide)) _ k1_off8_inb _ inb_S8032_S32_0 _ k1_off9_inb
    (by decide) rfl (by decide) hS hSlt) $$ R0
  iintro R0
  iapply (wp_startIf d i H qh (padF (padF fS n 0#32) (n + 16) 0#32) (srcOf i ds ss a) ((v.toNat + 31) / 32) _ 1 (more_iff v hv 1 (by decide)) _ k1_off10_inb _ inb_S8032_S32_32 _ k1_off11_inb
    (by decide) rfl (by decide) hS hSlt) $$ R1
  iintro R1
  iapply (wp_startIf d i H qh (padF (padF fS n 0#32) (n + 16) 0#32) (srcOf i ds ss a) ((v.toNat + 31) / 32) _ 2 (more_iff v hv 2 (by decide)) _ k1_off12_inb _ inb_S8032_S32_64 _ k1_off13_inb
    (by decide) rfl (by decide) hS hSlt) $$ R2
  iintro R2
  iapply (wp_startIf d i H qh (padF (padF fS n 0#32) (n + 16) 0#32) (srcOf i ds ss a) ((v.toNat + 31) / 32) _ 3 (more_iff v hv 3 (by decide)) _ k1_off14_inb _ inb_S8032_S32_96 _ k1_off15_inb
    (by decide) rfl (by decide) hS hSlt) $$ R3
  iintro R3
  unfold Scf.Loop.for run
  iapply (Scf.wp_for_bind frame (wpE (defs₀ (F := F)) 𝒱₀ (thr d i) none) Set.univ _ _ _ (k1_t4_ok v hc) 0#32 (fun t _ => group i hpV accV selSV selDV rowsV cc1_scratch6 v hc t)
    (fun t _ => iprop((accV.view.loc (thr d i) ↦{fullShare} runF H (srcOf i ds ss a) (rowOf i ds a) f (32 * t))
      ∗ (selDV.view.loc (thr d i) ↦{fullShare} padF (padF fD n 313#32) (n + 16) 313#32)
      ∗ Four d i H qh (padF (padF fS n 0#32) (n + 16) 0#32) (srcOf i ds ss a) ((v.toNat + 31) / 32) t ∗ Owing d i O W ∗ Transfers.MayWaits (thr d i) (default : HIx 1) O)) (by
      intro t _
      rw [← Prog.bind_pure (group i hpV accV selSV selDV rowsV cc1_scratch6 v hc t)]
      unfold Four
      iintro ⟨Ha, HD, ⟨R0, R1, R2, R3⟩, HO, #Hmw⟩
      iapply (wp_group d i H (padF (padF fS n 0#32) (n + 16) 0#32) (padF (padF fD n 313#32) (n + 16) 313#32) (srcOf i ds ss a) (rowOf i ds a) qh qL v hv hc f hS hSlt hD hDle O W t) $$ [Ha HD R0 HO]
      · iframe Ha HD R0 HO Hmw
      iintro ⟨Ha, HD, R4, HO⟩
      simp only [run, pure_eq, wp_ret]
      imodintro
      iframe Ha HD HO Hmw R1 R2 R3 R4)) $$ [Ha HD R0 R1 R2 R3 HO]
  · unfold Four
    iframe Ha HD HO Hmw R0 R1 R2 R3
  iintro %r ⟨Ha, HD, HF, HO, Hmw'⟩
  have et : Scf.trips (k1_t4_loop v).lb (k1_t4_loop v).ub (k1_t4_loop v).st = (v.toNat + 31) / 32 := t4_trips v hv
  rw [et]
  ihave ⟨Hs, HS⟩ := (four_done d i H qh _ _ _) $$ HF
  iapply Hk
  isplitl [Ha]
  · unfold chunkF; rw [hnn, ← ev]; iexact Ha
  isplitl [HS HD]
  · unfold Free; iexists _; iexists _; iframe HS HD
  iframe Hs HO

end

end Cert.Proof.SageLayer

end
-- ==== Proof.Layer.Chunks.lean ====
/-
  The chunks of edges: each is copied while the one before it is worked on.
-/
module

public import proofs.«01_k».proof.Proof.Layer.Work

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

variable (d : Dev nD) (i : grid1.Coords)

/-- Word `k` of an edge list. -/
def wordsOf (f : S320000.Idx → BitVec 32) (k : ℕ) : BitVec 32 := f (at1 (k % 320000) (Nat.mod_lt _ (by decide)))

abbrev cs0 : DmaSem sig := chunkSem cc1_scratch7 ![0] inb_S2_S1_0
abbrev cs1 : DmaSem sig := chunkSem cc1_scratch7 ![1] inb_S2_S1_1

/-- The credit of a chunk's copy. -/
abbrev chunkCredit : ℕ := (chunkOf srcCV ![0] inb_S16000_S8000_0).view.dmaCredit

/-! ### The list of sources -/

section
variable (fe : S320000.Idx → BitVec 32) (q : PosShare TreeShare)

/-- Half `p` of the buffer, with whatever it holds. -/
def HalfS (p : ℕ) : sProp (MM F) := iprop(∃ g : S16000.Idx → BitVec 32, (srcCV.view.loc (thr d i) ↦[halfSet p]{fullShare} g))

theorem chunk_writeS (g : S16000.Idx → BitVec 32) (w : S8000.Idx → BitVec 32) (o' : Fin 1 → ℕ) (ho' : ∀ a, o' a + S8000.size a ≤ S16000.size a)
    (j : S16000.Idx) (x : ℕ) (hx : x < 8000) (hj : (j 0).val = o' 0 + x) :
    ((chunkOf srcCV o' ho').view.write (Elt F) g w Finset.univ) j = w (at1 x hx) := by
  have h := View.write_emb_of_mem (v := (chunkOf srcCV o' ho').view) (Val := Elt F) g w (M := Finset.univ) (x := at1 x hx) (Finset.mem_univ _)
  refine Eq.trans (congrArg _ ?_) h
  funext b; apply Fin.ext
  rw [Fin.eq_zero b]
  show (j 0).val = o' 0 + 1 * x
  omega

/-- Chunk `c` arrived. -/
def ComeS (c : ℕ) : sProp (MM F) :=
  iprop((∃ g : S16000.Idx → BitVec 32, ⌜Chunk (8000 * c) (wordsOf fe) (c % 2) g⌝ ∗ (srcCV.view.loc (thr d i) ↦[halfSet (c % 2)]{fullShare} g))
    ∗ (srcV.view.loc (thr d i) ↦{q} fe))

/-- Chunk `c`'s copy in flight. -/
def FlyS (c : ℕ) : sProp (MM F) :=
  Transfers.Flight countersEmb (thr d i) (.dma cs0) (default : HIx 1) chunkCredit (ComeS d i fe q c)

theorem wp_fetchS {α : Type} {k : PUnit → Prog (Tile F i) α} {Q : α → sProp (MM F)} (c : ℕ) (hc : c < 40)
    (o : Fin 1 → ℕ) (ho : ∀ a, o a + S8000.size a ≤ S320000.size a)
    (o' : Fin 1 → ℕ) (ho' : ∀ a, o' a + S8000.size a ≤ S16000.size a) (eo : o 0 = 8000 * c) (eo' : o' 0 = 8000 * (c % 2)) :
    iprop((srcV.view.loc (thr d i) ↦{q} fe) ∗ HalfS d i (c % 2) ∗ semVal (thr d i, SemLoc.dma cs0) 0)
      ⊢ iprop((FlyS d i fe q c -∗ run d i (k ⟨⟩) Q)
        -∗ run d i (fetch i cc1_scratch7 srcV srcCV o ho o' ho' ![0] inb_S2_S1_0 >>= k) Q) := by
  unfold HalfS run
  simp only [Prog.lift, op_bind, ret_bind]
  iintro ⟨Hm, ⟨%g, Hg⟩, Hv⟩ Hk
  iapply (Transfers.wp_dmaFromWhole countersEmb 𝒱₀ (thr d i) none (default : HIx 1) chunkCredit (Sd := halfSet (c % 2)) (by rfl) (by decide) (by
    intro x hx
    obtain ⟨y, -, rfl⟩ := Finset.mem_map.mp hx
    refine Finset.mem_filter.mpr ⟨Finset.mem_univ _, ?_⟩
    have hy : (y 0).val < 8000 := (y 0).isLt
    show (o' 0 + 1 * (y 0).val) / 8000 = c % 2
    rw [eo']; omega)) $$ [Hm Hg Hv]
  · isplitl [Hm]; · iexact Hm
    isplitl [Hg]; · iexact Hg
    iexact Hv
  iintro Hf
  iapply Hk
  unfold FlyS
  iapply (Transfers.Flight_mono countersEmb (thr d i) (D := iprop((srcCV.view.loc (thr d i) ↦[halfSet (c % 2)]{fullShare}
      ((chunkOf srcCV o' ho').view.write (Elt F) g ((edgesOf srcV o ho).view.read (Elt F) fe) Finset.univ)) ∗ (srcV.view.loc (thr d i) ↦{q} fe))) (by
    unfold ComeS
    iintro ⟨Hg, Hm⟩
    isplitl [Hg]
    · iexists _
      isplitr
      swap
      · iexact Hg
      ipureintro
      intro x hx h
      refine (chunk_writeS g _ o' ho' (at1 (8000 * (c % 2) + x) h) x hx (show 8000 * (c % 2) + x = o' 0 + x by omega)).trans ?_
      refine (read_flat (Val := Elt F) (n := 320000) (m := 8000) srcV.view fe o ho _).trans ?_
      show fe _ = fe _
      refine congrArg fe ?_
      funext b; apply Fin.ext
      show o 0 + x = (8000 * c + x) % 320000
      omega
    · iexact Hm))
  iexact Hf

theorem wp_fetchedS {α : Type} {k : PUnit → Prog (Tile F i) α} {Q : α → sProp (MM F)} (c : ℕ)
    (o' : Fin 1 → ℕ) (ho' : ∀ a, o' a + S8000.size a ≤ S16000.size a) (O : CellTallies nD τ sig (HIx 1)) (W : Waits sig (HIx 1)) :
    iprop(FlyS d i fe q c ∗ Owing d i O W ∗ Transfers.MayWaits (thr d i) (default : HIx 1) O)
      ⊢ iprop((iprop(ComeS d i fe q c ∗ semVal (thr d i, SemLoc.dma cs0) 0 ∗ Owing d i O W) -∗ run d i (k ⟨⟩) Q)
        -∗ run d i (fetched i cc1_scratch7 srcV srcCV o' ho' ![0] inb_S2_S1_0 >>= k) Q) := by
  unfold FlyS
  simp only [Prog.lift, op_bind, ret_bind]
  exact wp_wait d i (dstw := chunkOf srcCV o' ho') rfl O W

end

/-! ### The list of destinations -/

section
variable (fe : S320000.Idx → BitVec 32) (q : PosShare TreeShare)

/-- Half `p` of the buffer, with whatever it holds. -/
def HalfD (p : ℕ) : sProp (MM F) := iprop(∃ g : S16000.Idx → BitVec 32, (dstCV.view.loc (thr d i) ↦[halfSet p]{fullShare} g))

theorem chunk_writeD (g : S16000.Idx → BitVec 32) (w : S8000.Idx → BitVec 32) (o' : Fin 1 → ℕ) (ho' : ∀ a, o' a + S8000.size a ≤ S16000.size a)
    (j : S16000.Idx) (x : ℕ) (hx : x < 8000) (hj : (j 0).val = o' 0 + x) :
    ((chunkOf dstCV o' ho').view.write (Elt F) g w Finset.univ) j = w (at1 x hx) := by
  have h := View.write_emb_of_mem (v := (chunkOf dstCV o' ho').view) (Val := Elt F) g w (M := Finset.univ) (x := at1 x hx) (Finset.mem_univ _)
  refine Eq.trans (congrArg _ ?_) h
  funext b; apply Fin.ext
  rw [Fin.eq_zero b]
  show (j 0).val = o' 0 + 1 * x
  omega

/-- Chunk `c` arrived. -/
def ComeD (c : ℕ) : sProp (MM F) :=
  iprop((∃ g : S16000.Idx → BitVec 32, ⌜Chunk (8000 * c) (wordsOf fe) (c % 2) g⌝ ∗ (dstCV.view.loc (thr d i) ↦[halfSet (c % 2)]{fullShare} g))
    ∗ (dstV.view.loc (thr d i) ↦{q} fe))

/-- Chunk `c`'s copy in flight. -/
def FlyD (c : ℕ) : sProp (MM F) :=
  Transfers.Flight countersEmb (thr d i) (.dma cs1) (default : HIx 1) chunkCredit (ComeD d i fe q c)

theorem wp_fetchD {α : Type} {k : PUnit → Prog (Tile F i) α} {Q : α → sProp (MM F)} (c : ℕ) (hc : c < 40)
    (o : Fin 1 → ℕ) (ho : ∀ a, o a + S8000.size a ≤ S320000.size a)
    (o' : Fin 1 → ℕ) (ho' : ∀ a, o' a + S8000.size a ≤ S16000.size a) (eo : o 0 = 8000 * c) (eo' : o' 0 = 8000 * (c % 2)) :
    iprop((dstV.view.loc (thr d i) ↦{q} fe) ∗ HalfD d i (c % 2) ∗ semVal (thr d i, SemLoc.dma cs1) 0)
      ⊢ iprop((FlyD d i fe q c -∗ run d i (k ⟨⟩) Q)
        -∗ run d i (fetch i cc1_scratch7 dstV dstCV o ho o' ho' ![1] inb_S2_S1_1 >>= k) Q) := by
  unfold HalfD run
  simp only [Prog.lift, op_bind, ret_bind]
  iintro ⟨Hm, ⟨%g, Hg⟩, Hv⟩ Hk
  iapply (Transfers.wp_dmaFromWhole countersEmb 𝒱₀ (thr d i) none (default : HIx 1) chunkCredit (Sd := halfSet (c % 2)) (by rfl) (by decide) (by
    intro x hx
    obtain ⟨y, -, rfl⟩ := Finset.mem_map.mp hx
    refine Finset.mem_filter.mpr ⟨Finset.mem_univ _, ?_⟩
    have hy : (y 0).val < 8000 := (y 0).isLt
    show (o' 0 + 1 * (y 0).val) / 8000 = c % 2
    rw [eo']; omega)) $$ [Hm Hg Hv]
  · isplitl [Hm]; · iexact Hm
    isplitl [Hg]; · iexact Hg
    iexact Hv
  iintro Hf
  iapply Hk
  unfold FlyD
  iapply (Transfers.Flight_mono countersEmb (thr d i) (D := iprop((dstCV.view.loc (thr d i) ↦[halfSet (c % 2)]{fullShare}
      ((chunkOf dstCV o' ho').view.write (Elt F) g ((edgesOf dstV o ho).view.read (Elt F) fe) Finset.univ)) ∗ (dstV.view.loc (thr d i) ↦{q} fe))) (by
    unfold ComeD
    iintro ⟨Hg, Hm⟩
    isplitl [Hg]
    · iexists _
      isplitr
      swap
      · iexact Hg
      ipureintro
      intro x hx h
      refine (chunk_writeD g _ o' ho' (at1 (8000 * (c % 2) + x) h) x hx (show 8000 * (c % 2) + x = o' 0 + x by omega)).trans ?_
      refine (read_flat (Val := Elt F) (n := 320000) (m := 8000) dstV.view fe o ho _).trans ?_
      show fe _ = fe _
      refine congrArg fe ?_
      funext b; apply Fin.ext
      show o 0 + x = (8000 * c + x) % 320000
      omega
    · iexact Hm))
  iexact Hf

theorem wp_fetchedD {α : Type} {k : PUnit → Prog (Tile F i) α} {Q : α → sProp (MM F)} (c : ℕ)
    (o' : Fin 1 → ℕ) (ho' : ∀ a, o' a + S8000.size a ≤ S16000.size a) (O : CellTallies nD τ sig (HIx 1)) (W : Waits sig (HIx 1)) :
    iprop(FlyD d i fe q c ∗ Owing d i O W ∗ Transfers.MayWaits (thr d i) (default : HIx 1) O)
      ⊢ iprop((iprop(ComeD d i fe q c ∗ semVal (thr d i, SemLoc.dma cs1) 0 ∗ Owing d i O W) -∗ run d i (k ⟨⟩) Q)
        -∗ run d i (fetched i cc1_scratch7 dstV dstCV o' ho' ![1] inb_S2_S1_1 >>= k) Q) := by
  unfold FlyD
  simp only [Prog.lift, op_bind, ret_bind]
  exact wp_wait d i (dstw := chunkOf dstCV o' ho') rfl O W

end

section
variable (H : S10000x128.Idx → Elt F .f32) (qh : Fin 4 → PosShare TreeShare) (fs fd : S320000.Idx → BitVec 32) (qs qd : PosShare TreeShare)

/-- The two edge lists, their buffers and semaphores when nothing is in flight. -/
def Still (c : ℕ) : sProp (MM F) :=
  iprop(((srcV.view.loc (thr d i) ↦{qs} fs) ∗ HalfS d i (c % 2) ∗ HalfS d i ((c + 1) % 2) ∗ semVal (thr d i, SemLoc.dma cs0) 0)
    ∗ ((dstV.view.loc (thr d i) ↦{qd} fd) ∗ HalfD d i (c % 2) ∗ HalfD d i ((c + 1) % 2) ∗ semVal (thr d i, SemLoc.dma cs1) 0))

/-- Chunk `c` on its way. -/
def Moving (c : ℕ) : sProp (MM F) :=
  iprop((FlyS d i fs qs c ∗ HalfS d i ((c + 1) % 2)) ∗ (FlyD d i fd qd c ∗ HalfD d i ((c + 1) % 2)))

/-- Before chunk `c`. -/
def Edges (c : ℕ) : sProp (MM F) := if c < 40 then Moving d i fs fd qs qd c else Still d i fs fd qs qd c

/-- The accumulator after `c` chunks. -/
def accF (f : S40192.Idx → Elt F .f32) : ℕ → S40192.Idx → Elt F .f32
  | 0 => f
  | c + 1 => chunkF i H (wordsOf fd) (wordsOf fs) (8000 * c) (accF f c)

theorem wp_chunk {α : Type} {k : BitVec 32 → Prog (Tile F i) α} {Q : α → sProp (MM F)} (f : S40192.Idx → Elt F .f32)
    (hss : ∀ x, (fs x).toNat < 10000) (hds : ∀ x, (fd x).toNat < 10000) (O : CellTallies nD τ sig (HIx 1)) (W : Waits sig (HIx 1)) (t2 : Fin k1_t2_loop.trips) :
    iprop(Edges d i fs fd qs qd t2.val ∗ (accV.view.loc (thr d i) ↦{fullShare} accF i H fs fd f t2.val) ∗ Free d i ∗ Slots d i H qh
        ∗ Owing d i O W ∗ Transfers.MayWaits (thr d i) (default : HIx 1) O)
      ⊢ iprop((iprop(Edges d i fs fd qs qd (t2.val + 1) ∗ (accV.view.loc (thr d i) ↦{fullShare} accF i H fs fd f (t2.val + 1)) ∗ Free d i ∗ Slots d i H qh
          ∗ Owing d i O W) -∗ run d i (k 0#32) Q)
        -∗ run d i (chunkTrip i hpV srcV dstV accV srcCV dstCV selSV selDV rowsV cc1_scratch6 cc1_scratch7 t2 >>= k) Q) := by
  have ht := t2_lt t2
  rw [chunkTrip_eq]
  simp only [Prog.bind_assoc]
  iintro ⟨HE, Ha, HF, Hs, HO, #Hmw⟩ Hk
  ihave HE := (Entails.of_eq (show Edges d i fs fd qs qd t2.val = Moving d i fs fd qs qd t2.val from if_pos ht)) $$ HE
  unfold Moving
  icases HE with ⟨⟨HfS, HhS⟩, HfD, HhD⟩
  iapply (wp_fetchedS d i fs qs t2.val (k1_off2 t2) (k1_off2_inb t2) O W) $$ [HfS HO]
  · iframe HfS HO Hmw
  iintro ⟨HcS, HvS, HO⟩
  iapply (wp_fetchedD d i fd qd t2.val (k1_off2 t2) (k1_off2_inb t2) O W) $$ [HfD HO]
  · iframe HfD HO Hmw
  iintro ⟨HcD, HvD, HO⟩
  unfold ComeS ComeD
  icases HcS with ⟨⟨%gS, %hgS, HgS⟩, HmS⟩
  icases HcD with ⟨⟨%gD, %hgD, HgD⟩, HmD⟩
  -- the lists hold none of the chunk's edges yet
  ihave HL := (show Free d i ⊢ Lists d i (wordsOf fd) (wordsOf fs) (8000 * t2.val) 0 by
    unfold Free Lists
    iintro ⟨%f1, %f2, H1, H2⟩
    iexists f1; iexists f2
    isplitr
    · ipureintro; exact ⟨fun q h => absurd h (Nat.not_lt_zero _), fun q h => absurd h (Nat.not_lt_zero _)⟩
    iframe H1 H2) $$ HF
  have e2 : (t2.val + 1 + 1) % 2 = t2.val % 2 := by omega
  -- the rest of the trip, once the next chunk's copies are started
  have rest : iprop(((accV.view.loc (thr d i) ↦{fullShare} accF i H fs fd f t2.val) ∗ Slots d i H qh ∗ Owing d i O W ∗ Transfers.MayWaits (thr d i) (default : HIx 1) O
        ∗ Lists d i (wordsOf fd) (wordsOf fs) (8000 * t2.val) 0 ∗ Halves d i gS gD t2)
        ∗ (iprop(HalfS d i (t2.val % 2) ∗ HalfD d i (t2.val % 2) ∗ (accV.view.loc (thr d i) ↦{fullShare} accF i H fs fd f (t2.val + 1)) ∗ Free d i ∗ Slots d i H qh
          ∗ Owing d i O W) -∗ run d i (k 0#32) Q))
      ⊢ run d i (Scf.Loop.for k1_t3_loop k1_t3_ok 0#32 (fun t3 off => scanTrip i srcCV dstCV selSV selDV t2 t3 off)
          >>= fun v => work i hpV accV selSV selDV rowsV cc1_scratch6 v >>= k) Q := by
    iintro ⟨⟨Ha, Hs, HO, #Hmw, HL, HH⟩, Hk⟩
    iapply (wp_scan d i (wordsOf fd) (wordsOf fs) (8000 * t2.val) gS gD t2 hgS hgD) $$ [HL HH]
    · isplitl [HL]; · iexact HL
      iexact HH
    iintro %v %hv HL ⟨HgS, HgD⟩
    iapply (wp_work d i H qh (wordsOf fd) (wordsOf fs) (8000 * t2.val) (accF i H fs fd f t2.val) v (fun k => hss _) (fun k => hds _) hv O W) $$ [HL Ha Hs HO]
    · iframe HL Ha Hs HO Hmw
    iintro ⟨Ha, HF, Hs, HO⟩
    iapply Hk
    isplitl [HgS]; · unfold HalfS; iexists gS; iexact HgS
    isplitl [HgD]; · unfold HalfD; iexists gD; iexact HgD
    isplitl [Ha]; · iexact Ha
    iframe HF Hs HO
  by_cases h : k1_cond1 t2 = 1#1
  · have hlt := (cond1_iff t2).mp h
    rw [dif_pos h]
    simp only [Prog.bind_assoc]
    iapply (wp_fetchS d i fs qs (t2.val + 1) hlt (k1_off4 t2) (k1_off4_inb t2 h) (k1_off3 t2) (k1_off3_inb t2 h) (off4_val t2) (off3_val t2)) $$ [HmS HhS HvS]
    · iframe HmS HhS HvS
    iintro HfS
    iapply (wp_fetchD d i fd qd (t2.val + 1) hlt (k1_off4 t2) (k1_off4_inb t2 h) (k1_off3 t2) (k1_off3_inb t2 h) (off4_val t2) (off3_val t2)) $$ [HmD HhD HvD]
    · iframe HmD HhD HvD
    iintro HfD
    iapply rest
    isplitl [Ha Hs HO HL HgS HgD]
    · iframe Ha Hs HO Hmw HL
      isplitl [HgS]; · iexact HgS
      iexact HgD
    iintro ⟨HgS, HgD, Ha, HF, Hs, HO⟩
    iapply Hk
    isplitl [HfS HfD HgS HgD]
    · unfold Edges
      rw [if_pos hlt]
      unfold Moving
      rw [e2]
      iframe HfS HfD HgS HgD
    iframe Ha HF Hs HO
  · have hlt := mt (cond1_iff t2).mpr h
    rw [dif_neg h]
    simp only [Prog.bind_assoc]
    iapply rest
    isplitl [Ha Hs HO HL HgS HgD]
    · iframe Ha Hs HO Hmw HL
      isplitl [HgS]; · iexact HgS
      iexact HgD
    iintro ⟨HgS, HgD, Ha, HF, Hs, HO⟩
    iapply Hk
    isplitl [HmS HhS HvS HmD HhD HvD HgS HgD]
    · unfold Edges
      rw [if_neg hlt]
      unfold Still
      rw [e2]
      iframe HmS HhS HvS HmD HhD HvD HgS HgD
    iframe Ha HF Hs HO

end

end Cert.Proof.SageLayer

end
-- ==== Proof.Layer.Loops.lean ====
/-
  The clearing of the accumulator, and the loop over the chunks.
-/
module

public import proofs.«01_k».proof.Proof.Layer.Chunks

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-! ## Parts of a buffer -/

section
variable {ℓ : Loc nD τ sig} {n : ℕ} (S : Fin n → Finset (Idx ℓ)) (hd : ∀ i ∈ (Finset.univ : Finset (Fin n)), ∀ j ∈ (Finset.univ : Finset (Fin n)), i ≠ j → Disjoint (S i) (S j))
  (hc : (Finset.univ : Finset (Fin n)).biUnion S = Finset.univ)
include hd hc

theorem split_parts (q : PosShare TreeShare) (f : Buf (Elt F) ℓ) : (ℓ ↦{q} f : sProp (MM F)) = bigSep Finset.univ fun i => ℓ ↦[S i]{q} f := by
  rw [← pointsTo_biUnion Finset.univ S hd, hc]

theorem join_parts [hn : NeZero n] : (bigSep Finset.univ fun i => iprop(∃ f, ℓ ↦[S i]{fullShare} f)) ⊢ (iprop(∃ f, ℓ ↦{fullShare} f) : sProp (MM F)) := by
  refine (bigSep_exists_pi Finset.univ (fun i (f : Buf (Elt F) ℓ) => (ℓ ↦[S i]{fullShare} f : sProp (MM F)))).trans ?_
  iintro ⟨%fs, H⟩
  have : Nonempty (Buf (Elt F) ℓ) := ⟨fs 0⟩
  ihave H' := (pointsTo_biUnion_join (ℓ := ℓ) (q := fullShare) (Val := Elt F) Finset.univ S fs (fs 0) hd) $$ H
  icases H' with ⟨%g, -, Hg⟩
  rw [hc]
  iexists g; iexact Hg

end

/-- The elements of an index set by the value of a function. -/
theorem fibres_disjoint {I : Type} [Fintype I] [DecidableEq I] {n : ℕ} (p : I → ℕ) :
    ∀ i ∈ (Finset.univ : Finset (Fin n)), ∀ j ∈ (Finset.univ : Finset (Fin n)), i ≠ j →
      Disjoint (Finset.univ.filter fun x => p x = i.val) (Finset.univ.filter fun x => p x = j.val) := by
  intro i _ j _ h
  refine Finset.disjoint_left.mpr fun x hx hy => h (Fin.ext ?_)
  exact (Finset.mem_filter.mp hx).2.symm.trans (Finset.mem_filter.mp hy).2

theorem fibres_cover {I : Type} [Fintype I] [DecidableEq I] {n : ℕ} (p : I → ℕ) (hp : ∀ x, p x < n) :
    ((Finset.univ : Finset (Fin n)).biUnion fun i => Finset.univ.filter fun x => p x = i.val) = Finset.univ := by
  ext x
  simp only [Finset.mem_biUnion, Finset.mem_univ, true_and, iff_true]
  exact ⟨⟨p x, hp x⟩, Finset.mem_filter.mpr ⟨Finset.mem_univ _, rfl⟩⟩

theorem two (Φ : Fin 2 → sProp (MM F)) : bigSep Finset.univ Φ = iprop(Φ 0 ∗ Φ 1) := by
  rw [show (Finset.univ : Finset (Fin 2)) = {0, 1} from by decide, bigSep_insert (by decide), bigSep_singleton]
  rfl

variable (d : Dev nD) (i : grid1.Coords)

theorem halves_split {ℓ : Loc nD τ sig} (p : Idx ℓ → ℕ) (hp : ∀ x, p x < 2) (f : Buf (Elt F) ℓ) : (ℓ ↦{fullShare} f : sProp (MM F))
    = iprop((ℓ ↦[Finset.univ.filter fun x => p x = (0 : Fin 2).val]{fullShare} f) ∗ (ℓ ↦[Finset.univ.filter fun x => p x = (1 : Fin 2).val]{fullShare} f)) := by
  rw [split_parts (n := 2) (fun i => Finset.univ.filter fun x => p x = i.val) (fibres_disjoint p) (fibres_cover p hp)]
  exact two _

theorem halves_join {ℓ : Loc nD τ sig} (p : Idx ℓ → ℕ) (hp : ∀ x, p x < 2) :
    iprop((∃ f, ℓ ↦[Finset.univ.filter fun x => p x = (0 : Fin 2).val]{fullShare} f) ∗ (∃ f, ℓ ↦[Finset.univ.filter fun x => p x = (1 : Fin 2).val]{fullShare} f))
      ⊢ (iprop(∃ f, ℓ ↦{fullShare} f) : sProp (MM F)) := by
  refine BIBase.Entails.trans (Entails.of_eq ?_) (join_parts (n := 2) (fun i => Finset.univ.filter fun x => p x = i.val) (fibres_disjoint p) (fibres_cover p hp))
  exact (two fun k => iprop(∃ f, ℓ ↦[Finset.univ.filter fun x => p x = k.val]{fullShare} f)).symm

theorem slots_split {ℓ : Loc nD τ sig} (p : Idx ℓ → ℕ) (hp : ∀ x, p x < 4) (f : Buf (Elt F) ℓ) : (ℓ ↦{fullShare} f : sProp (MM F))
    = iprop((ℓ ↦[Finset.univ.filter fun x => p x = (0 : Fin 4).val]{fullShare} f) ∗ (ℓ ↦[Finset.univ.filter fun x => p x = (1 : Fin 4).val]{fullShare} f)
      ∗ (ℓ ↦[Finset.univ.filter fun x => p x = (2 : Fin 4).val]{fullShare} f) ∗ (ℓ ↦[Finset.univ.filter fun x => p x = (3 : Fin 4).val]{fullShare} f)) := by
  rw [split_parts (n := 4) (fun i => Finset.univ.filter fun x => p x = i.val) (fibres_disjoint p) (fibres_cover p hp)]
  exact four _

theorem slots_join {ℓ : Loc nD τ sig} (p : Idx ℓ → ℕ) (hp : ∀ x, p x < 4) :
    iprop((∃ f, ℓ ↦[Finset.univ.filter fun x => p x = (0 : Fin 4).val]{fullShare} f) ∗ (∃ f, ℓ ↦[Finset.univ.filter fun x => p x = (1 : Fin 4).val]{fullShare} f)
      ∗ (∃ f, ℓ ↦[Finset.univ.filter fun x => p x = (2 : Fin 4).val]{fullShare} f) ∗ (∃ f, ℓ ↦[Finset.univ.filter fun x => p x = (3 : Fin 4).val]{fullShare} f))
      ⊢ (iprop(∃ f, ℓ ↦{fullShare} f) : sProp (MM F)) := by
  refine BIBase.Entails.trans (Entails.of_eq ?_) (join_parts (n := 4) (fun i => Finset.univ.filter fun x => p x = i.val) (fibres_disjoint p) (fibres_cover p hp))
  exact (four fun k => iprop(∃ f, ℓ ↦[Finset.univ.filter fun x => p x = k.val]{fullShare} f)).symm

/-! ## The clearing of the accumulator -/

/-- All zeros. -/
def zeroF : S40192.Idx → Elt F .f32 := fun _ => Scalar.ofBits .f32 0x00000000#32

/-- The first `n` words cleared. -/
def clearF (f : S40192.Idx → Elt F .f32) (n : ℕ) : S40192.Idx → Elt F .f32 := fun j => if (j 0).val < n then Scalar.ofBits .f32 0x00000000#32 else f j

theorem write_clear (f : S40192.Idx → Elt F .f32) (n : ℕ) (o : Fin 1 → ℕ) (ho : ∀ a, o a + S16.size a ≤ S40192.size a) (eo : o 0 = n) :
    (accV.access (Rect.unit (s := S40192) o S16.size ho)).write (Elt F) (clearF f n) (broadcast S16 (Scalar.ofBits (F := F) .f32 0x00000000#32)) Finset.univ = clearF f (n + 16) := by
  funext j
  refine (write_flat (n := 40192) (m := 16) accV.view (clearF f n) _ o ho j).trans ?_
  split
  · next h =>
    show Scalar.ofBits .f32 0x00000000#32 = _
    unfold clearF
    rw [if_pos (by omega)]
  · next h =>
    show clearF f n j = _
    unfold clearF
    by_cases hc : (j 0).val < n
    · rw [if_pos hc, if_pos (by omega)]
    · rw [if_neg hc, if_neg (by omega)]

theorem wp_clear {α : Type} {k : BitVec 32 → Prog (Tile F i) α} {Q : α → sProp (MM F)} (f : S40192.Idx → Elt F .f32) :
    iprop(accV.view.loc (thr d i) ↦{fullShare} f)
      ⊢ iprop((∀ v : BitVec 32, (accV.view.loc (thr d i) ↦{fullShare} zeroF) -∗ run d i (k v) Q)
        -∗ run d i (Scf.Loop.for k1_t1_loop k1_t1_ok 0#32 (fun t _ => clear i accV t) >>= k) Q) := by
  iintro H Hk
  unfold Scf.Loop.for run
  iapply (Scf.wp_for_bind frame (wpE (defs₀ (F := F)) 𝒱₀ (thr d i) none) Set.univ _ _ _ k1_t1_ok 0#32 (fun t _ => clear i accV t)
    (fun n _ => iprop(accV.view.loc (thr d i) ↦{fullShare} clearF f (16 * n))) (by
      intro t acc
      unfold clear
      simp only [Prog.lift, op_bind, ret_bind, pure_eq]
      iintro Ha
      iapply (wp_load_rect 𝒱₀ (thr d i) none Set.univ (defs := defs₀ (F := F)) (m := accV) (r := Rect.unit (s := S40192) (k1_off1 t) S16.size (k1_off1_inb t)) (q := fullShare) (f := clearF f (16 * t.val)) (S := Finset.univ) (Finset.subset_univ _)) $$ Ha
      iintro Ha
      iapply (wp_store 𝒱₀ (thr d i) none Set.univ (defs := defs₀ (F := F)) (m := accV) (r := Rect.unit (s := S40192) (k1_off1 t) S16.size (k1_off1_inb t)) (f := clearF f (16 * t.val)) (S := Finset.univ) (Finset.subset_univ _)) $$ Ha
      iintro Ha
      simp only [wp_ret]
      imodintro
      ihave Ha := (Entails.of_eq (congrArg (fun g : S40192.Idx → Elt F .f32 => (accV.view.loc (thr d i) ↦{fullShare} g : sProp (MM F))) (write_clear f (16 * t.val) (k1_off1 t) (k1_off1_inb t) (off1_val t)))) $$ Ha
      iexact Ha)) $$ [H]
  · ihave H := (Entails.of_eq (congrArg (fun g : S40192.Idx → Elt F .f32 => (accV.view.loc (thr d i) ↦{fullShare} g : sProp (MM F)))
      (show f = clearF f (16 * 0) from funext fun j => (if_neg (Nat.not_lt_zero _)).symm))) $$ H
    iexact H
  iintro %v H
  iapply Hk
  have e : Scf.trips k1_t1_loop.lb k1_t1_loop.ub k1_t1_loop.st = 2512 := trips1
  rw [e]
  ihave H := (Entails.of_eq (congrArg (fun g : S40192.Idx → Elt F .f32 => (accV.view.loc (thr d i) ↦{fullShare} g : sProp (MM F)))
      (show clearF f (16 * 2512) = zeroF from funext fun j => if_pos (show (j 0).val < 16 * 2512 from (j 0).isLt)))) $$ H
  iexact H

/-! ## The chunks -/

section
variable (H : S10000x128.Idx → Elt F .f32) (qh : Fin 4 → PosShare TreeShare) (fs fd : S320000.Idx → BitVec 32) (qs qd : PosShare TreeShare)

/-- The tile's accumulator at the end. -/
def endF : S40192.Idx → Elt F .f32 := accF i H fs fd zeroF 40

theorem wp_chunks {α : Type} {k : BitVec 32 → Prog (Tile F i) α} {Q : α → sProp (MM F)}
    (hss : ∀ x, (fs x).toNat < 10000) (hds : ∀ x, (fd x).toNat < 10000) (O : CellTallies nD τ sig (HIx 1)) (W : Waits sig (HIx 1)) :
    iprop(Moving d i fs fd qs qd 0 ∗ (accV.view.loc (thr d i) ↦{fullShare} zeroF) ∗ Free d i ∗ Slots d i H qh
        ∗ Owing d i O W ∗ Transfers.MayWaits (thr d i) (default : HIx 1) O)
      ⊢ iprop((∀ v : BitVec 32, iprop(Still d i fs fd qs qd 40 ∗ (accV.view.loc (thr d i) ↦{fullShare} endF i H fs fd) ∗ Free d i ∗ Slots d i H qh
          ∗ Owing d i O W) -∗ run d i (k v) Q)
        -∗ run d i (Scf.Loop.for k1_t2_loop k1_t2_ok 0#32 (fun t2 _ => chunkTrip i hpV srcV dstV accV srcCV dstCV selSV selDV rowsV cc1_scratch6 cc1_scratch7 t2) >>= k) Q) := by
  iintro ⟨HE, Ha, HF, Hs, HO, #Hmw⟩ Hk
  unfold Scf.Loop.for run
  iapply (Scf.wp_for_bind frame (wpE (defs₀ (F := F)) 𝒱₀ (thr d i) none) Set.univ _ _ _ k1_t2_ok 0#32 (fun t2 _ => chunkTrip i hpV srcV dstV accV srcCV dstCV selSV selDV rowsV cc1_scratch6 cc1_scratch7 t2)
    (fun n _ => iprop((Edges d i fs fd qs qd n ∗ (accV.view.loc (thr d i) ↦{fullShare} accF i H fs fd zeroF n) ∗ Free d i ∗ Slots d i H qh
        ∗ Owing d i O W) ∗ Transfers.MayWaits (thr d i) (default : HIx 1) O)) (by
      intro t2 acc
      rw [← Prog.bind_pure (chunkTrip i hpV srcV dstV accV srcCV dstCV selSV selDV rowsV cc1_scratch6 cc1_scratch7 t2)]
      iintro ⟨⟨HE, Ha, HF, Hs, HO⟩, #Hmw⟩
      iapply (wp_chunk d i H qh fs fd qs qd zeroF hss hds O W t2) $$ [HE Ha HF Hs HO]
      · iframe HE Ha HF Hs HO Hmw
      iintro HR
      simp only [run, pure_eq, wp_ret]
      imodintro
      iframe HR Hmw)) $$ [HE Ha HF Hs HO]
  · iframe Hmw
    isplitl [HE]
    · unfold Edges
      rw [if_pos (by decide)]
      iexact HE
    isplitl [Ha]; · iexact Ha
    iframe HF Hs HO
  iintro %v ⟨⟨HE, Ha, HF, Hs, HO⟩, -⟩
  iapply Hk
  have e : Scf.trips k1_t2_loop.lb k1_t2_loop.ub k1_t2_loop.st = 40 := trips2
  rw [e]
  isplitl [HE]
  · ihave HE := (Entails.of_eq (show Edges d i fs fd qs qd 40 = Still d i fs fd qs qd 40 from if_neg (by decide))) $$ HE
    iexact HE
  isplitl [Ha]; · iexact Ha
  iframe HF Hs HO

end

end Cert.Proof.SageLayer

end
-- ==== Proof.Layer.Tile.lean ====
/-
  The tile: its program from its operands and its scratch to its part of the result.
-/
module

public import proofs.«01_k».proof.Proof.Layer.Loops

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-- The tile that writes the words `40064 w, …`. -/
def tileOf (w : ℕ) : grid1.Coords := fun
  | 0 => (⟨w % 2, Nat.mod_lt _ (by decide)⟩ : Fin 2)
  | 1 => (⟨w / 2 % 16, Nat.mod_lt _ (by decide)⟩ : Fin 16)

theorem tileOf_tileNo (i : grid1.Coords) : tileOf (tileNo i) = i := by
  have h0 := core_lt i
  have h1 := sub_lt i
  funext a
  fin_cases a
  · apply Fin.ext; show (2 * (i 1).val + (i 0).val) % 2 = (i 0).val; omega
  · apply Fin.ext; show (2 * (i 1).val + (i 0).val) / 2 % 16 = (i 1).val; omega

/-- The words that tile number `w` writes. -/
def outSet (w : ℕ) : Finset S1282048.Idx := Finset.univ.filter fun x => (x 0).val / 40064 = w

/-- What the call leaves: each tile's accumulator, one after the other. -/
def resF (H : S10000x128.Idx → Elt F .f32) (fs fd : S320000.Idx → BitVec 32) : S1282048.Idx → Elt F .f32 := fun x =>
  endF (tileOf ((x 0).val / 40064)) H fs fd (at1 ((x 0).val % 40064) (lt_trans (Nat.mod_lt _ (by decide)) (by decide)))

variable (d : Dev nD) (i : grid1.Coords)

abbrev osem : DmaSem sig := cc1_scoped0.sem
abbrev accO : Memref sig .scVector .vmem S40064 .f32 := accV.slice (Rect.unit (s := S40192) ![0] S40064.size inb_S40192_S40064_0) (fun _ => rfl)
abbrev outO : Memref sig .scVector .hbm S40064 .f32 := outV.slice (Rect.unit (s := S1282048) (k1_off608 i) S40064.size (k1_off608_inb i)) (fun _ => rfl)
abbrev outCredit : ℕ := (outO i).view.dmaCredit

/-- The tile's program with the wait that ends it. -/
def whole : Prog (Tile F i) PUnit :=
  tile i hpV srcV dstV outV accV srcCV dstCV selSV selDV rowsV cc1_scratch6 cc1_scratch7 cc1_scoped0
    >>= fun _ => .op (.waitDma2 cc1_scoped0.sem accO (outO i) (View.wordExact_bits rfl) (View.wordExact_bits rfl)) .ret

theorem body_eq : cc1__sc_body (F := F) i hpV (Memref.isWhole_whole _) srcV (Memref.isWhole_whole _) dstV (Memref.isWhole_whole _) outV (Memref.isWhole_whole _)
    accV (Memref.isWhole_whole _) srcCV (Memref.isWhole_whole _) dstCV (Memref.isWhole_whole _) selSV (Memref.isWhole_whole _) selDV (Memref.isWhole_whole _)
    rowsV (Memref.isWhole_whole _) cc1_scratch6 cc1_scratch7 cc1_scoped0 = whole i := by
  unfold cc1__sc_body whole
  rw [tile_eq]
  rfl

section
variable (H : S10000x128.Idx → Elt F .f32) (qp : PosShare TreeShare) (fs fd : S320000.Idx → BitVec 32) (qs qd : PosShare TreeShare)

theorem out_write (fo : S1282048.Idx → Elt F .f32) (x : S1282048.Idx) (hx : x ∈ outSet (tileNo i)) :
    (outO i).view.write (Elt F) fo (accO.view.read (Elt F) (endF i H fs fd)) Finset.univ x = resF H fs fd x := by
  have hx0 : (x 0).val / 40064 = tileNo i := (Finset.mem_filter.mp hx).2
  have hy : (x 0).val % 40064 < 40064 := Nat.mod_lt _ (by decide)
  have h := View.write_emb_of_mem (v := (outO i).view) (Val := Elt F) fo (accO.view.read (Elt F) (endF i H fs fd)) (M := Finset.univ) (x := at1 ((x 0).val % 40064) hy) (Finset.mem_univ _)
  refine Eq.trans (congrArg _ ?_) (h.trans ?_)
  · funext b; apply Fin.ext
    rw [Fin.eq_zero b]
    show (x 0).val = k1_off608 i 0 + 1 * ((x 0).val % 40064)
    rw [off608_val]
    omega
  · unfold resF
    rw [hx0, tileOf_tileNo]
    refine (read_flat (Val := Elt F) (n := 40192) (m := 40064) accV.view (endF i H fs fd) ![0] inb_S40192_S40064_0 _).trans ?_
    show endF i H fs fd _ = endF i H fs fd _
    refine congrArg (endF i H fs fd) ?_
    funext b; apply Fin.ext
    show 0 + (x 0).val % 40064 = (x 0).val % 40064
    omega

/-- The copy of the accumulator out, and the wait for it. -/
theorem wp_out {Q : PUnit → sProp (MM F)} (fo : S1282048.Idx → Elt F .f32) (O : CellTallies nD τ sig (HIx 1)) (W : Waits sig (HIx 1)) :
    iprop((accV.view.loc (thr d i) ↦{fullShare} endF i H fs fd) ∗ (outV.view.loc (thr d i) ↦[outSet (tileNo i)]{fullShare} fo)
        ∗ semVal (thr d i, SemLoc.dma osem) 0 ∗ Owing d i O W ∗ Transfers.MayWaits (thr d i) (default : HIx 1) O)
      ⊢ iprop((iprop((accV.view.loc (thr d i) ↦{fullShare} endF i H fs fd) ∗ (outV.view.loc (thr d i) ↦[outSet (tileNo i)]{fullShare} resF H fs fd)
          ∗ semVal (thr d i, SemLoc.dma osem) 0 ∗ Owing d i O W) -∗ Q ⟨⟩)
        -∗ run d i (.op (.enqueueDma accO (.here (outO i)) (.dma cc1_scoped0.sem) (View.wordExact_bits rfl) (View.wordExact_bits rfl) ⟨Or.inl rfl, trivial⟩)
            fun _ => .op (.waitDma2 cc1_scoped0.sem accO (outO i) (View.wordExact_bits rfl) (View.wordExact_bits rfl)) .ret) Q) := by
  unfold run
  iintro ⟨Ha, Ho, Hv, HO, #Hmw⟩ Hk
  iapply (Transfers.wp_dmaFromWhole countersEmb 𝒱₀ (thr d i) none (default : HIx 1) (outCredit i) (Sd := outSet (tileNo i)) (by rfl) (show 0 < (main_v6_scv : Ref sig .scVector).dmaCredit S40064 .f32 by decide) (by
    intro x hx
    obtain ⟨y, -, rfl⟩ := Finset.mem_map.mp hx
    refine Finset.mem_filter.mpr ⟨Finset.mem_univ _, ?_⟩
    have hy : (y 0).val < 40064 := (y 0).isLt
    show (k1_off608 i 0 + 1 * (y 0).val) / 40064 = tileNo i
    rw [off608_val]; omega)) $$ [Ha Ho Hv]
  · isplitl [Ha]; · iexact Ha
    isplitl [Ho]; · iexact Ho
    iexact Hv
  iintro Hf
  iapply (wp_wait d i (k := fun x => .ret x) (dstw := outO i) rfl O W) $$ [Hf HO]
  · iframe Hf HO Hmw
  iintro ⟨⟨Ho, Ha⟩, Hv, HO⟩
  simp only [run, wp_ret]
  imodintro
  iapply Hk
  isplitl [Ha]; · iexact Ha
  isplitl [Ho]
  · ihave Ho := (Entails.of_eq (pointsTo_congr (g := resF H fs fd) (out_write i H fs fd fo))) $$ Ho
    iexact Ho
  iframe Hv HO

/-- What the tile holds of its own: its scratch, at whatever contents, and its semaphores at zero. -/
def Scratch : sProp (MM F) :=
  iprop(((∃ f : S40192.Idx → Elt F .f32, (accV.view.loc (thr d i) ↦{fullShare} f))
      ∗ (∃ f : S16000.Idx → BitVec 32, (srcCV.view.loc (thr d i) ↦{fullShare} f))
      ∗ (∃ f : S16000.Idx → BitVec 32, (dstCV.view.loc (thr d i) ↦{fullShare} f))
      ∗ (∃ f : S8032.Idx → BitVec 32, (selSV.view.loc (thr d i) ↦{fullShare} f))
      ∗ (∃ f : S8032.Idx → BitVec 32, (selDV.view.loc (thr d i) ↦{fullShare} f))
      ∗ (∃ f : S4x32x128.Idx → Elt F .f32, (rowsV.view.loc (thr d i) ↦{fullShare} f)))
    ∗ (semVal (thr d i, SemLoc.dma (gs 0)) 0 ∗ semVal (thr d i, SemLoc.dma (gs 1)) 0 ∗ semVal (thr d i, SemLoc.dma (gs 2)) 0 ∗ semVal (thr d i, SemLoc.dma (gs 3)) 0
      ∗ semVal (thr d i, SemLoc.dma cs0) 0 ∗ semVal (thr d i, SemLoc.dma cs1) 0 ∗ semVal (thr d i, SemLoc.dma osem) 0))

/-- The tile's operands: shares of what it reads, and its part of the result. -/
def Ops (fo : S1282048.Idx → Elt F .f32) : sProp (MM F) :=
  iprop((hpV.view.loc (thr d i) ↦{qp} H) ∗ (srcV.view.loc (thr d i) ↦{qs} fs) ∗ (dstV.view.loc (thr d i) ↦{qd} fd)
    ∗ (outV.view.loc (thr d i) ↦[outSet (tileNo i)]{fullShare} fo))

theorem wp_tile (fo : S1282048.Idx → Elt F .f32) (hss : ∀ x, (fs x).toNat < 10000) (hds : ∀ x, (fd x).toNat < 10000) (O : CellTallies nD τ sig (HIx 1)) (W : Waits sig (HIx 1)) :
    iprop(Ops d i H qp fs fd qs qd fo ∗ Scratch d i ∗ owes (thr d i) O W ∗ Transfers.MayWaits (thr d i) (default : HIx 1) O)
      ⊢ run d i (whole i) fun _ => iprop(Ops d i H qp fs fd qs qd (resF H fs fd) ∗ Scratch d i ∗ Owing d i O W) := by
  unfold Ops Scratch whole tile
  simp only [Prog.bind_assoc]
  iintro ⟨⟨Hhp, Hsrc, Hdst, Hout⟩, ⟨⟨⟨%fa, Ha⟩, ⟨%f1, H1⟩, ⟨%f2, H2⟩, ⟨%f3, H3⟩, ⟨%f4, H4⟩, ⟨%f5, H5⟩⟩, V0, V1, V2, V3, C0, C1, VO⟩, HO, #Hmw⟩
  -- the accumulator cleared
  iapply (wp_clear d i fa) $$ Ha
  iintro %v Ha
  -- the first chunk's copies
  have hp2 : ∀ x : S16000.Idx, (x 0).val / 8000 < 2 := fun x => by have : (x 0).val < 16000 := (x 0).isLt; omega
  ihave H1 := (Entails.of_eq (halves_split (ℓ := srcCV.view.loc (thr d i)) (fun x : S16000.Idx => (x 0).val / 8000) hp2 f1)) $$ H1
  icases H1 with ⟨H10, H11⟩
  ihave H2 := (Entails.of_eq (halves_split (ℓ := dstCV.view.loc (thr d i)) (fun x : S16000.Idx => (x 0).val / 8000) hp2 f2)) $$ H2
  icases H2 with ⟨H20, H21⟩
  iapply (wp_fetchS d i fs qs 0 (by decide) ![0] inb_S320000_S8000_0 ![0] inb_S16000_S8000_0 rfl rfl) $$ [Hsrc H10 C0]
  · isplitl [Hsrc]; · iexact Hsrc
    isplitl [H10]; · unfold HalfS; iexists f1; iexact H10
    iexact C0
  iintro FS
  iapply (wp_fetchD d i fd qd 0 (by decide) ![0] inb_S320000_S8000_0 ![0] inb_S16000_S8000_0 rfl rfl) $$ [Hdst H20 C1]
  · isplitl [Hdst]; · iexact Hdst
    isplitl [H20]; · unfold HalfD; iexists f2; iexact H20
    iexact C1
  iintro FD
  -- the chunks
  ihave Hhp := (Entails.of_eq (pts_four (ℓ := hpV.view.loc (thr d i)) H qp)) $$ Hhp
  icases Hhp with ⟨P0, P1, P2, P3⟩
  have hp4 : ∀ x : S4x32x128.Idx, (x 0).val < 4 := fun x => (x 0).isLt
  ihave H5 := (Entails.of_eq (slots_split (ℓ := rowsV.view.loc (thr d i)) (fun x : S4x32x128.Idx => (x 0).val) hp4 f5)) $$ H5
  icases H5 with ⟨R0, R1, R2, R3⟩
  iapply (wp_chunks d i H (fun p => ShareLeaves.leaf 2 qp p) fs fd qs qd hss hds O W) $$ [FS FD H11 H21 Ha H3 H4 P0 P1 P2 P3 R0 R1 R2 R3 V0 V1 V2 V3 HO]
  · isplitl [FS FD H11 H21]
    · unfold Moving
      isplitl [FS H11]
      · isplitl [FS]; · iexact FS
        unfold HalfS; iexists f1; iexact H11
      · isplitl [FD]; · iexact FD
        unfold HalfD; iexists f2; iexact H21
    isplitl [Ha]; · iexact Ha
    isplitl [H3 H4]; · unfold Free; iexists f3; iexists f4; iframe H3 H4
    isplitl [P0 P1 P2 P3 R0 R1 R2 R3 V0 V1 V2 V3]
    · unfold Slots Slot
      isplitl [P0 R0 V0]
      · isplitl [R0]; · iexists f5; iexact R0
        iframe P0 V0
      isplitl [P1 R1 V1]
      · isplitl [R1]; · iexists f5; iexact R1
        iframe P1 V1
      isplitl [P2 R2 V2]
      · isplitl [R2]; · iexists f5; iexact R2
        iframe P2 V2
      · isplitl [R3]; · iexists f5; iexact R3
        iframe P3 V3
    isplitl [HO]
    · unfold Owing
      iexists W
      isplitr
      · ipureintro; exact fun p hp => .inl hp
      iexact HO
    iexact Hmw
  iintro %v' ⟨HE, Ha, HF, HS, HO⟩
  -- the accumulator out
  unfold Still Free Slots Slot HalfS HalfD
  icases HE with ⟨⟨Hsrc, H10, H11, C0⟩, Hdst, H20, H21, C1⟩
  icases HF with ⟨%g3, %g4, H3, H4⟩
  icases HS with ⟨⟨R0, P0, V0⟩, ⟨R1, P1, V1⟩, ⟨R2, P2, V2⟩, R3, P3, V3⟩
  simp only [Prog.lift, op_bind, ret_bind, pure_eq]
  iapply (wp_out d i H fs fd fo O W) $$ [Ha Hout VO HO]
  · iframe Ha Hout VO HO Hmw
  iintro ⟨Ha, Hout, VO, HO⟩
  ihave Hhp := (Entails.of_eq (pts_four (ℓ := hpV.view.loc (thr d i)) H qp).symm) $$ [P0 P1 P2 P3]
  · iframe P0 P1 P2 P3
  ihave H1 := (halves_join (ℓ := srcCV.view.loc (thr d i)) (fun x : S16000.Idx => (x 0).val / 8000) hp2) $$ [H10 H11]
  · isplitl [H10]; · iexact H10
    iexact H11
  ihave H2 := (halves_join (ℓ := dstCV.view.loc (thr d i)) (fun x : S16000.Idx => (x 0).val / 8000) hp2) $$ [H20 H21]
  · isplitl [H20]; · iexact H20
    iexact H21
  ihave H5 := (slots_join (ℓ := rowsV.view.loc (thr d i)) (fun x : S4x32x128.Idx => (x 0).val) hp4) $$ [R0 R1 R2 R3]
  · isplitl [R0]; · iexact R0
    isplitl [R1]; · iexact R1
    isplitl [R2]; · iexact R2
    iexact R3
  isplitl [Hhp Hsrc Hdst Hout]
  · iframe Hhp Hsrc Hdst Hout
  isplitr [HO]
  · isplitl [Ha H1 H2 H3 H4 H5]
    · isplitl [Ha]; · iexists _; iexact Ha
      isplitl [H1]; · iexact H1
      isplitl [H2]; · iexact H2
      isplitl [H3]; · iexists g3; iexact H3
      isplitl [H4]; · iexists g4; iexact H4
      iexact H5
    iframe V0 V1 V2 V3 C0 C1 VO
  iexact HO

end

end Cert.Proof.SageLayer

end
-- ==== Proof.Layer.Launch.lean ====
/-
  The call on its thirty-two tiles: what each is given and gives back.
-/
module

public import proofs.«01_k».proof.Proof.Layer.Tile
public import Idealize.ShloMosaic.Lib.SparseCore.Quiescent
public import Idealize.ShloMosaic.Lib.SparseCore.Ops
public import Idealize.ShloMosaic.Lib.StableHlo.Run
public import Idealize.ShloMosaic.Lib.Pipeline.Kit
public import proofs.«01_k».proof.Proof.Gen.LayerIdeal

@[expose] public section

noncomputable section

namespace Cert.Proof.SageLayer

open Cert.LayerIdeal Cert.LayerIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MM F) := embL

variable (m : (ℓ : Loc nD τ sig) → Buf (Elt F) ℓ) (ρ : Dev nD → PrngReg)

abbrev hLoc (d : Dev nD) : Loc nD τ sig := (SparseCore.T d).loc main_v5
abbrev sLoc (d : Dev nD) : Loc nD τ sig := (SparseCore.T d).loc main_v1
abbrev dLoc (d : Dev nD) : Loc nD τ sig := (SparseCore.T d).loc main_v3
abbrev oLoc (d : Dev nD) : Loc nD τ sig := (SparseCore.T d).loc main_v6

variable [FloatOps F]

/-- What the call leaves in its result. -/
def flat (d : Dev nD) : S1282048.Idx → Elt F .f32 := resF (m (hLoc d)) (m (sLoc d)) (m (dLoc d))

/-- The share of the operands that tile number `w` reads. -/
abbrev qw (w : Fin 32) : PosShare TreeShare := ShareLeaves.leaf 5 fullShare w

/-- What tile number `w` is given and gives back. -/
def Tk (d : Dev nD) (w : Fin 32) (f : S1282048.Idx → Elt F .f32) : sProp (MM F) :=
  iprop((hLoc d ↦{qw w} m (hLoc d)) ∗ (sLoc d ↦{qw w} m (sLoc d)) ∗ (dLoc d ↦{qw w} m (dLoc d)) ∗ (oLoc d ↦[outSet w.val]{fullShare} f))

/-- The number of tile `s` of SparseCore `c`. -/
def num (c : Fin 2) (s : Fin 16) : Fin 32 := ⟨2 * s.val + c.val, by omega⟩

instance Tk_storable (d : Dev nD) (w : Fin 32) (f : S1282048.Idx → Elt F .f32) : BI.Storable (upEmb : UEmb _ (MM F)) (Tk m d w f) := by
  unfold Tk; infer_instance

def P : (K (F := F)).Pay (nD := nD) (Val := Elt F) (Name := ℕ) (U := UU) where
  st := fun q d c => match q with | 0 => bigSep Finset.univ fun s : Fin 16 => Tk m d (num (Fin.cast nCore_zero c) s) (m (oLoc d))
  dn := fun q d c => match q with | 0 => bigSep Finset.univ fun s : Fin 16 => Tk m d (num (Fin.cast nCore_zero c) s) (flat m d)
  go := fun q d c s => match q with | 0 => Tk m d (num (Fin.cast nCore_zero c) (Fin.cast nSub_zero s)) (m (oLoc d))
  td := fun q d c s => match q with | 0 => Tk m d (num (Fin.cast nCore_zero c) (Fin.cast nSub_zero s)) (flat m d)
  x := fun _ _ => iprop(emp)

instance P_storable : (P (F := F) m).IsStorable where
  st q d c := match q with
    | 0 => (inferInstance : BI.Storable (upEmb : UEmb _ (MM F)) (bigSep Finset.univ fun s : Fin 16 => Tk m d (num (Fin.cast nCore_zero c) s) (m (oLoc d))))
  dn q d c := match q with
    | 0 => (inferInstance : BI.Storable (upEmb : UEmb _ (MM F)) (bigSep Finset.univ fun s : Fin 16 => Tk m d (num (Fin.cast nCore_zero c) s) (flat m d)))
  go q d c s := match q with
    | 0 => (inferInstance : BI.Storable (upEmb : UEmb _ (MM F)) (Tk m d (num (Fin.cast nCore_zero c) (Fin.cast nSub_zero s)) (m (oLoc d))))
  td q d c s := match q with
    | 0 => (inferInstance : BI.Storable (upEmb : UEmb _ (MM F)) (Tk m d (num (Fin.cast nCore_zero c) (Fin.cast nSub_zero s)) (flat m d)))

/-- What the proof asks of the launch memory: the edges name nodes. -/
def PreOK : Prop := ∀ d : Dev nD, (∀ x : S320000.Idx, (m (sLoc d) x).toNat < 10000) ∧ ∀ x : S320000.Idx, (m (dLoc d) x).toNat < 10000

section Tile

variable (d : Dev nD) (i : grid1.Coords)

/-- The tile's semaphores, by number: the first four of the table are those of the call before. -/
abbrev tsem (p : Fin 7) : DmaSem sig := ⟨4 + p.val, Nat.lt_of_lt_of_le (Nat.add_lt_add_left p.isLt 4) (show 4 + 7 ≤ sig.nDmaSem by decide)⟩

theorem cells_scoped : ∀ p : Fin 7, (SemLoc.dma (tsem p) : SemLoc sig).isScoped .scVector = true := by decide

/-- The tile's buffers, by number. -/
abbrev bufRef : Fin 6 → Ref sig .scVector := ![cc1_scratch0, cc1_scratch1, cc1_scratch2, cc1_scratch3, cc1_scratch4, cc1_scratch5]

theorem bufRef_inj : Function.Injective bufRef := by
  have : ∀ p q : Fin 6, bufRef p = bufRef q → p = q := by decide
  exact fun p q h => this p q h

/-- Semaphore `p` of the tile. -/
abbrev cell (p : Fin 7) : GSem nD τ sig := (thr d i, SemLoc.dma (tsem p))

theorem cell_inj : Function.Injective (cell d i) := fun p q h => by
  have := congrArg Prod.snd h
  have e : 4 + p.val = 4 + q.val := congrArg Fin.val (SemLoc.dma.inj this)
  exact Fin.ext (by omega)

omit [FloatOps F] in
theorem ownSems0_V : (ownSems0 (thr d i) : sProp (MM F))
    = iprop((semVal (thr d i, SemLoc.dma (gs 0)) 0 ∗ semVal (thr d i, SemLoc.dma (gs 1)) 0 ∗ semVal (thr d i, SemLoc.dma (gs 2)) 0 ∗ semVal (thr d i, SemLoc.dma (gs 3)) 0
      ∗ semVal (thr d i, SemLoc.dma cs0) 0 ∗ semVal (thr d i, SemLoc.dma cs1) 0 ∗ semVal (thr d i, SemLoc.dma osem) 0)
      ∗ bigSep (ownCells (thr d i) \ Finset.univ.map ⟨cell d i, cell_inj d i⟩) fun g => semVal g 0) := by
  unfold SparseCore.Cfg.ownSems0
  have hs : Finset.univ.map ⟨cell d i, cell_inj d i⟩ ⊆ ownCells (thr d i) := by
    intro g hg
    obtain ⟨p, -, rfl⟩ := Finset.mem_map.mp hg
    refine (mem_ownCells (g := cell d i p)).mpr ⟨rfl, ?_⟩
    show (SemLoc.dma (tsem p) : SemLoc sig).isScoped .scVector = true
    exact cells_scoped p
  conv_lhs => rw [← Finset.union_sdiff_of_subset hs]
  refine (bigSep_union Finset.disjoint_sdiff).trans (congrArg (fun A => BI.sep A _) ?_)
  rw [bigSep_map, show (Finset.univ : Finset (Fin 7)) = {0, 1, 2, 3, 4, 5, 6} from by decide, bigSep_insert (by decide), bigSep_insert (by decide), bigSep_insert (by decide),
    bigSep_insert (by decide), bigSep_insert (by decide), bigSep_insert (by decide), bigSep_singleton]
  rfl

/-- Buffer `p` of the tile. -/
abbrev scr (p : Fin 6) : DevRef τ sig := (Proc.scVector (cV i) (jV i)).devRef
  (bufRef p)

theorem scr_inj : Function.Injective (scr i) := fun p q h => bufRef_inj (Proc.devRef_injective _ h)

omit [FloatOps F] in
theorem ownBufs_V : (ownBufs (thr d i) : sProp (MM F))
    = iprop(((∃ f : S40192.Idx → Elt F .f32, (accV.view.loc (thr d i) ↦{fullShare} f))
      ∗ (∃ f : S16000.Idx → BitVec 32, (srcCV.view.loc (thr d i) ↦{fullShare} f))
      ∗ (∃ f : S16000.Idx → BitVec 32, (dstCV.view.loc (thr d i) ↦{fullShare} f))
      ∗ (∃ f : S8032.Idx → BitVec 32, (selSV.view.loc (thr d i) ↦{fullShare} f))
      ∗ (∃ f : S8032.Idx → BitVec 32, (selDV.view.loc (thr d i) ↦{fullShare} f))
      ∗ (∃ f : S4x32x128.Idx → Elt F .f32, (rowsV.view.loc (thr d i) ↦{fullShare} f)))
      ∗ bigSep (ownRefs (τ := τ) (.scVector (cV i) (jV i)) \ Finset.univ.map ⟨scr i, scr_inj i⟩) fun b => iprop(∃ f, ((d, b) : Loc nD τ sig) ↦{fullShare} f)) := by
  unfold SparseCore.Cfg.ownBufs
  have hs : Finset.univ.map ⟨scr i, scr_inj i⟩ ⊆ ownRefs (τ := τ) (.scVector (cV i) (jV i)) := by
    intro g hg
    obtain ⟨p, -, rfl⟩ := Finset.mem_map.mp hg
    refine SparseCore.Cfg.mem_ownRefs_of_owner (p := Proc.scVector (cV i) (jV i)) (b := scr i p) ?_
    fin_cases p <;> rfl
  show bigSep (ownRefs (τ := τ) (.scVector (cV i) (jV i))) _ = _
  conv_lhs => rw [← Finset.union_sdiff_of_subset hs]
  refine (bigSep_union Finset.disjoint_sdiff).trans (congrArg (fun A => BI.sep A _) ?_)
  rw [bigSep_map, show (Finset.univ : Finset (Fin 6)) = {0, 1, 2, 3, 4, 5} from by decide, bigSep_insert (by decide), bigSep_insert (by decide), bigSep_insert (by decide),
    bigSep_insert (by decide), bigSep_insert (by decide), bigSep_singleton]
  rfl

theorem tile_body (c : Fin 2) (s : Fin 16) (h0 : (i 0).val = c.val) (h1 : (i 1).val = s.val) (hF : (K (F := F)).Facts) (hpre : PreOK m) (O : CellTallies nD τ sig (HIx 1)) (W : Waits sig (HIx 1)) (hO : ∀ g, O g none = 0) :
    iprop(levAts (K (F := F)).L (K (F := F)).lev ∗ emp ∗ Tk m d (num c s) (m (oLoc d))
        ∗ scopedBufs (thr d i) ∗ scopedSems0 (thr d i) ∗ owes (thr d i) O W)
      ⊢ wp frame (wpE (defs₀ (F := F)) 𝒱₀ (thr d i) none) Set.univ
          (cc1__sc_body (F := F) i hpV (Memref.isWhole_whole _) srcV (Memref.isWhole_whole _) dstV (Memref.isWhole_whole _) outV (Memref.isWhole_whole _)
            accV (Memref.isWhole_whole _) srcCV (Memref.isWhole_whole _) dstCV (Memref.isWhole_whole _) selSV (Memref.isWhole_whole _) selDV (Memref.isWhole_whole _)
            rowsV (Memref.isWhole_whole _) cc1_scratch6 cc1_scratch7 cc1_scoped0)
          fun _ => iprop(Tk m d (num c s) (flat m d)
            ∗ scopedBufs (thr d i) ∗ scopedSems0 (thr d i)
            ∗ ∃ W', ⌜∀ p ∈ W', p ∈ W ∨ p.2 = none⌝ ∗ owes (thr d i) O W') := by
  rw [body_eq, (K (F := F)).scopedBufs_V hF d (cV i) (jV i), SparseCore.Cfg.scopedSems0_V (Val := Elt F) d (cV i) (jV i), ownSems0_V, ownBufs_V]
  have en : (num c s).val = tileNo i := by unfold num tileNo; rw [h0, h1]
  have eT : ∀ f, Tk m d (num c s) f = Ops d i (m (hLoc d)) (qw (num c s)) (m (sLoc d)) (m (dLoc d)) (qw (num c s)) (qw (num c s)) f := by
    intro f; unfold Tk Ops; rw [en]
  rw [eT, eT]
  iintro ⟨#Hlv, -, HT, ⟨Hb, Hbufs⟩, ⟨Hs, Hsems⟩, HO⟩
  ihave Hmw := (show levAts (K (F := F)).L (K (F := F)).lev ⊢ Transfers.MayWaits (thr d i) (default : HIx 1) O from
    (K (F := F)).mayWaits_none (thr := thr d i) hO) $$ Hlv
  iapply (wp_wand frame _ _ ) $$ [HT Hb Hs HO]
  · iapply (wp_tile d i (m (hLoc d)) (qw (num c s)) (m (sLoc d)) (m (dLoc d)) (qw (num c s)) (qw (num c s)) (m (oLoc d)) (hpre d).1 (hpre d).2 O W) $$ [HT Hb Hs HO]
    unfold Scratch
    iframe HT Hb Hs HO Hmw
  unfold Scratch Owing
  iintro %v ⟨HT, ⟨Hb, Hs⟩, HO⟩
  isplitl [HT]; · iexact HT
  isplitl [Hb Hbufs]; · iframe Hb Hbufs
  isplitl [Hs Hsems]; · iframe Hs Hsems
  iexact HO

end Tile

end Cert.Proof.SageLayer

end
-- ==== Proof.Layer.Bodies.lean ====
/-
  The two dense calls around the SparseCore call: what their bodies store.
-/
module

public import proofs.«01_k».proof.Proof.Layer.Setup
public import proofs.«01_k».proof.Proof.Gen.LayerIdeal
public import proofs.«01_k».proof.Proof.Gen.LayerIdeal.Launch
public import proofs.«01_k».proof.Proof.Gen.LayerIdeal.Skeleton
public import proofs.«01_k».proof.Proof.Gen.LayerIdeal.Points
public import Idealize.ShloMosaic.Lib.Pipeline.FrameBody
public import Idealize.ShloMosaic.Lib.Pipeline.RegionArrays
public import Idealize.ShloMosaic.Lib.SparseCore.Quiescent
public import Idealize.ShloMosaic.Lib.Ring
public import Idealize.ShloMosaic.Lib.Tactic

@[expose] public section

set_option maxRecDepth 16384

noncomputable section

namespace Cert.Proof.SageLayer

open Cert.LayerIdeal Cert.LayerIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

set_option maxHeartbeats 1000000 in
/-- The body of `cc0__pre_body` on whole buffers: it reads its inputs whole, and stores its results whole. -/
theorem body0 (d : Dev nD) (a0 : Memref sig .tc .vmem S10000x128 .f32) (h0 : a0.IsWhole) (a1 : Memref sig .tc .vmem S128x128 .f32) (h1 : a1.IsWhole) (a2 : Memref sig .tc .vmem S1x128 .f32) (h2 : a2.IsWhole) (a3 : Memref sig .tc .vmem S10000x128 .f32) (h3 : a3.IsWhole)
    (x0 : Vec F S10000x128 .f32) (x1 : Vec F S128x128 .f32) (x2 : Vec F S1x128 .f32) (Q : PUnit → sProp (MM F)) :
    iprop(owns (T d) a0 fullShare x0 ∗ owns (T d) a1 fullShare x1 ∗ owns (T d) a2 fullShare x2 ∗ (∃ x, owns (T d) a3 fullShare x)
        ∗ (iprop(owns (T d) a0 fullShare x0 ∗ owns (T d) a1 fullShare x1 ∗ owns (T d) a2 fullShare x2 ∗ owns (T d) a3 fullShare (k0_pay1 x0 x1 x2)) -∗ Q ⟨⟩))
      ⊢ wp frame (wpE (defs₀ (F := F)) 𝒱₀ (T d) none) Set.univ (cc0__pre_body (F := F) a0 h0 a1 h1 a2 h2 a3 h3) Q := by
  have z : (![0, 0] : Fin 2 → Nat) = fun _ => 0 := funext fun a => by fin_cases a <;> rfl
  simp only [cc0__pre_body_eq_skeleton]; unfold cc0__pre_body_skel
  unfold owns
  iintro ⟨⟨%f0, %e0, H0⟩, ⟨%f1, %e1, H1⟩, ⟨%f2, %e2, H2⟩, ⟨%y3, %f3, -, H3⟩, Hk⟩
  subst e0 e1 e2
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  iexists _; isplitr
  swap; · iexact H3
  ipureintro
  refine (View.read_writes_eq_canon _ _ _ (View.cover_of_tiled _ S10000x128.size (by rfl))).trans ?_
  rw [View.canon_unit_zero z]
  simp only [View.readAt_eq_ld]
  repeat rw [View.ld_unit_zero z]

set_option maxHeartbeats 1000000 in
/-- The body of `cc2__mid_body` on whole buffers: it reads its inputs whole, and stores its results whole. -/
theorem body2 (d : Dev nD) (a0 : Memref sig .tc .vmem S10000x128 .f32) (h0 : a0.IsWhole) (a1 : Memref sig .tc .vmem S10000x128 .f32) (h1 : a1.IsWhole) (a2 : Memref sig .tc .vmem S128x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S10000x128 .f32) (h7 : a7.IsWhole) (a8 : Memref sig .tc .vmem S10000x128 .f32) (h8 : a8.IsWhole)
    (x0 : Vec F S10000x128 .f32) (x1 : Vec F S10000x128 .f32) (x2 : Vec F S128x128 .f32) (x3 : Vec F S128x128 .f32) (x4 : Vec F S1x128 .f32) (x5 : Vec F S128x128 .f32) (x6 : Vec F S1x128 .f32) (Q : PUnit → sProp (MM F)) :
    iprop(owns (T d) a0 fullShare x0 ∗ owns (T d) a1 fullShare x1 ∗ owns (T d) a2 fullShare x2 ∗ owns (T d) a3 fullShare x3 ∗ owns (T d) a4 fullShare x4 ∗ owns (T d) a5 fullShare x5 ∗ owns (T d) a6 fullShare x6 ∗ (∃ x, owns (T d) a7 fullShare x) ∗ (∃ x, owns (T d) a8 fullShare x)
        ∗ (iprop(owns (T d) a0 fullShare x0 ∗ owns (T d) a1 fullShare x1 ∗ owns (T d) a2 fullShare x2 ∗ owns (T d) a3 fullShare x3 ∗ owns (T d) a4 fullShare x4 ∗ owns (T d) a5 fullShare x5 ∗ owns (T d) a6 fullShare x6 ∗ owns (T d) a7 fullShare (k2_pay1 x0 x2 x1 x3 x4) ∗ owns (T d) a8 fullShare (k2_pay2 x0 x2 x1 x3 x4 x5 x6)) -∗ Q ⟨⟩))
      ⊢ wp frame (wpE (defs₀ (F := F)) 𝒱₀ (T d) none) Set.univ (cc2__mid_body (F := F) a0 h0 a1 h1 a2 h2 a3 h3 a4 h4 a5 h5 a6 h6 a7 h7 a8 h8) Q := by
  have z : (![0, 0] : Fin 2 → Nat) = fun _ => 0 := funext fun a => by fin_cases a <;> rfl
  simp only [cc2__mid_body_eq_skeleton]; unfold cc2__mid_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%y7, %f7, -, H7⟩, ⟨%y8, %f8, -, H8⟩, Hk⟩
  subst e0 e1 e2 e3 e4 e5 e6
  sl_exec
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap; · iexact H7
    ipureintro
    refine (View.read_writes_eq_canon _ _ _ (View.cover_of_tiled _ S10000x128.size (by rfl))).trans ?_
    rw [View.canon_unit_zero z]
    simp only [View.readAt_eq_ld]
    repeat rw [View.ld_unit_zero z]
  iexists _; isplitr
  swap; · iexact H8
  ipureintro
  refine (View.read_writes_eq_canon _ _ _ (View.cover_of_tiled _ S10000x128.size (by rfl))).trans ?_
  rw [View.canon_unit_zero z]
  simp only [View.readAt_eq_ld]
  repeat rw [View.ld_unit_zero z]

/-- What window `w`'s array holds in its block at point `t`. -/
def blk0 (W : Dev nD → Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F) (W c (Proc.devRef .tc (Pipeline.arrRef spec0 w)))

/-- The call's proof data: its arrays at `W`, its results at what the body stores, the debts of `O`. -/
def dat0 (W : Dev nD → Valuation τ sig (Elt F)) (O : Dev nD → CellTallies nD τ sig (HIx 1)) (B : Dev nD → Set (SemLoc sig × HIx 1)) (c : Dev nD) :
    Pipeline.Dat τ (Elt F) (HIx 1) ℕ UU ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => k0_pay1 (blk0 W c 0 t) (blk0 W c 1 t) (blk0 W c 2 t)
  Φ _ := Pipeline.scopedRest spec0 c
  q _ := fullShare
  owed _ := O c
  recorded _ := B c

section
variable (W : Dev nD → Valuation τ sig (Elt F)) (O : Dev nD → CellTallies nD τ sig (HIx 1)) (B : Dev nD → Set (SemLoc sig × HIx 1)) (c : Dev nD)

theorem after0_0 (t : Fin cfg0.N) : (dat0 W O B c).after 0 t = blk0 W c 0 t := by dsimp only [dat0]
theorem after0_1 (t : Fin cfg0.N) : (dat0 W O B c).after 1 t = blk0 W c 1 t := by dsimp only [dat0]
theorem after0_2 (t : Fin cfg0.N) : (dat0 W O B c).after 2 t = blk0 W c 2 t := by dsimp only [dat0]
theorem after0_3 (t : Fin cfg0.N) : (dat0 W O B c).after 3 t = k0_pay1 (blk0 W c 0 t) (blk0 W c 1 t) (blk0 W c 2 t) := by dsimp only [dat0]
theorem before0_0 (t : Fin cfg0.N) (x) : (dat0 W O B c).before 0 t x = blk0 W c 0 t :=
  ((dat0 W O B c).before_in_eq_fetched 0 rfl (fun _ => rfl) (fun _ _ _ => rfl) (fun t => by rw [after0_0]; rfl) t x).trans rfl
theorem before0_1 (t : Fin cfg0.N) (x) : (dat0 W O B c).before 1 t x = blk0 W c 1 t :=
  ((dat0 W O B c).before_in_eq_fetched 1 rfl (fun _ => rfl) (fun _ _ _ => rfl) (fun t => by rw [after0_1]; rfl) t x).trans rfl
theorem before0_2 (t : Fin cfg0.N) (x) : (dat0 W O B c).before 2 t x = blk0 W c 2 t :=
  ((dat0 W O B c).before_in_eq_fetched 2 rfl (fun _ => rfl) (fun _ _ _ => rfl) (fun t => by rw [after0_2]; rfl) t x).trans rfl

theorem point0 (t : Fin cfg0.N) :
    iprop((dat0 W O B c).Φ t.castSucc ∗ (dat0 W O B c).owesAt none t.castSucc
      ∗ (∃ x, owns (T c) (st0_0 t) fullShare ((dat0 W O B c).before 0 t x)) ∗ (∃ x, owns (T c) (st0_1 t) fullShare ((dat0 W O B c).before 1 t x)) ∗ (∃ x, owns (T c) (st0_2 t) fullShare ((dat0 W O B c).before 2 t x)) ∗ (∃ x, owns (T c) (st0_3 t) fullShare ((dat0 W O B c).before 3 t x)))
    ⊢ wp frame (wpE (defs₀ (F := F)) 𝒱₀ (T c) none) Set.univ (bodyAt0 t) (fun _ => iprop((dat0 W O B c).Φ t.succ ∗ (dat0 W O B c).owesAt none t.succ
      ∗ owns (T c) (st0_0 t) fullShare ((dat0 W O B c).after 0 t) ∗ owns (T c) (st0_1 t) fullShare ((dat0 W O B c).after 1 t) ∗ owns (T c) (st0_2 t) fullShare ((dat0 W O B c).after 2 t) ∗ owns (T c) (st0_3 t) fullShare ((dat0 W O B c).after 3 t))) := by
  simp only [before0_0, before0_1, before0_2]
  rw [show (dat0 W O B c).Φ t.succ = (dat0 W O B c).Φ t.castSucc from rfl,
    show (dat0 W O B c).owesAt none t.succ = (dat0 W O B c).owesAt none t.castSucc from rfl,
    after0_0, after0_1, after0_2, after0_3]
  iintro ⟨HΦ, Ho, ⟨%x0, H0⟩, ⟨%x1, H1⟩, ⟨%x2, H2⟩, ⟨%x3, H3⟩⟩
  iapply (body0 c _ _ _ _ _ _ _ _ (blk0 W c 0 t) (blk0 W c 1 t) (blk0 W c 2 t) _)
  isplitl [H0]; · iexact H0
  isplitl [H1]; · iexact H1
  isplitl [H2]; · iexact H2
  isplitl [H3]; · iexists _; iexact H3
  iintro ⟨H0, H1, H2, H3⟩
  iframe HΦ Ho H0 H1 H2 H3

theorem row0 (t : Fin cfg0.N) : defs₀ (F := F) .tc cfg0.body (cfg0.bodyArgs t (cfg0.slots t)) = bodyAt0 t := by
  unfold defs₀; first | rfl | rw [Defs.onTc_tc]

/-- The body's part of the call. -/
theorem obl0 : Pipeline.BodyObligation (dat0 W O B c) (defs₀ (F := F)) 𝒱₀ none Set.univ := fun t => by
  rw [bigSep_W0, bigSep_W0, row0]
  exact triple_restated (point0 W O B c t) rfl .rfl fun _ => .rfl

/-- The one point is the whole of each result. -/
theorem blkid0_3 (f : main_v5.ty.Contents (Elt F)) : ((cfg0.win 3).blk t0_0).view.read (Elt F) f = f :=
  Memref.read_access_unit_zero (Elt F) main_v5 (funext fun a => by fin_cases a <;> decide) _ _
theorem block0_0 : blk0 W c 0 t0_0 = W c (Proc.devRef .tc (main_arg0 : Ref sig .tc)) :=
  Memref.read_access_unit_zero (Elt F) main_arg0 (funext fun a => by fin_cases a <;> decide) _ _
theorem block0_1 : blk0 W c 1 t0_0 = W c (Proc.devRef .tc (main_arg2 : Ref sig .tc)) :=
  Memref.read_access_unit_zero (Elt F) main_arg2 (funext fun a => by fin_cases a <;> decide) _ _
theorem block0_2 : blk0 W c 2 t0_0 = W c (Proc.devRef .tc (main_v4 : Ref sig .tc)) :=
  Memref.read_access_unit_zero (Elt F) main_v4 (funext fun a => by fin_cases a <;> decide) _ _

theorem idx0_3 : ∀ t t' : Fin cfg0.N, win0_3.index t = win0_3.index t' → t = t' :=
  (by decide +kernel : ∀ t t' : Fin grid0.N, win0_3.index t = win0_3.index t' → t = t')

/-- Result 3 of the call, after it. -/
theorem final0_3 : (dat0 W O B c).arrAt 3 cfg0.N = k0_pay1 (W c (Proc.devRef .tc (main_arg0 : Ref sig .tc))) (W c (Proc.devRef .tc (main_arg2 : Ref sig .tc))) (W c (Proc.devRef .tc (main_v4 : Ref sig .tc))) := by
  have h := (dat0 W O B c).read_blk_arrAt_eq_flushed 3
    (fun t t' _ _ hne => (cfg0.win 3).disjoint_blk fun h => hne (idx0_3 t t' h)) cfg0.N t0_0 t0_0.isLt (flush0_3 _)
  have e : (dat0 W O B c).flushed 3 t0_0 = (dat0 W O B c).after 3 t0_0 := rfl
  rw [e, after0_3, block0_0, block0_1, block0_2] at h
  exact (blkid0_3 _).symm.trans h

end

/-- What window `w`'s array holds in its block at point `t`. -/
def blk2 (W : Dev nD → Valuation τ sig (Elt F)) (c : Dev nD) (w : Fin cfg2.W) (t : Fin cfg2.N) :
    ((cfg2.win w).xblock (cfg2.grid.coords t)).Idx → Elt F (cfg2.win w).elt :=
  ((cfg2.win w).blk t).view.read (Elt F) (W c (Proc.devRef .tc (Pipeline.arrRef spec2 w)))

/-- The call's proof data: its arrays at `W`, its results at what the body stores, the debts of `O`. -/
def dat2 (W : Dev nD → Valuation τ sig (Elt F)) (O : Dev nD → CellTallies nD τ sig (HIx 1)) (B : Dev nD → Set (SemLoc sig × HIx 1)) (c : Dev nD) :
    Pipeline.Dat τ (Elt F) (HIx 1) ℕ UU ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => blk2 W c 3 t
    | ⟨4, _⟩ => blk2 W c 4 t
    | ⟨5, _⟩ => blk2 W c 5 t
    | ⟨6, _⟩ => blk2 W c 6 t
    | ⟨7, _⟩ => k2_pay1 (blk2 W c 0 t) (blk2 W c 2 t) (blk2 W c 1 t) (blk2 W c 3 t) (blk2 W c 4 t)
    | ⟨8, _⟩ => k2_pay2 (blk2 W c 0 t) (blk2 W c 2 t) (blk2 W c 1 t) (blk2 W c 3 t) (blk2 W c 4 t) (blk2 W c 5 t) (blk2 W c 6 t)
  Φ _ := Pipeline.scopedRest spec2 c
  q _ := fullShare
  owed _ := O c
  recorded _ := B c

section
variable (W : Dev nD → Valuation τ sig (Elt F)) (O : Dev nD → CellTallies nD τ sig (HIx 1)) (B : Dev nD → Set (SemLoc sig × HIx 1)) (c : Dev nD)

theorem after2_0 (t : Fin cfg2.N) : (dat2 W O B c).after 0 t = blk2 W c 0 t := by dsimp only [dat2]
theorem after2_1 (t : Fin cfg2.N) : (dat2 W O B c).after 1 t = blk2 W c 1 t := by dsimp only [dat2]
theorem after2_2 (t : Fin cfg2.N) : (dat2 W O B c).after 2 t = blk2 W c 2 t := by dsimp only [dat2]
theorem after2_3 (t : Fin cfg2.N) : (dat2 W O B c).after 3 t = blk2 W c 3 t := by dsimp only [dat2]
theorem after2_4 (t : Fin cfg2.N) : (dat2 W O B c).after 4 t = blk2 W c 4 t := by dsimp only [dat2]
theorem after2_5 (t : Fin cfg2.N) : (dat2 W O B c).after 5 t = blk2 W c 5 t := by dsimp only [dat2]
theorem after2_6 (t : Fin cfg2.N) : (dat2 W O B c).after 6 t = blk2 W c 6 t := by dsimp only [dat2]
theorem after2_7 (t : Fin cfg2.N) : (dat2 W O B c).after 7 t = k2_pay1 (blk2 W c 0 t) (blk2 W c 2 t) (blk2 W c 1 t) (blk2 W c 3 t) (blk2 W c 4 t) := by dsimp only [dat2]
theorem after2_8 (t : Fin cfg2.N) : (dat2 W O B c).after 8 t = k2_pay2 (blk2 W c 0 t) (blk2 W c 2 t) (blk2 W c 1 t) (blk2 W c 3 t) (blk2 W c 4 t) (blk2 W c 5 t) (blk2 W c 6 t) := by dsimp only [dat2]
theorem before2_0 (t : Fin cfg2.N) (x) : (dat2 W O B c).before 0 t x = blk2 W c 0 t :=
  ((dat2 W O B c).before_in_eq_fetched 0 rfl (fun _ => rfl) (fun _ _ _ => rfl) (fun t => by rw [after2_0]; rfl) t x).trans rfl
theorem before2_1 (t : Fin cfg2.N) (x) : (dat2 W O B c).before 1 t x = blk2 W c 1 t :=
  ((dat2 W O B c).before_in_eq_fetched 1 rfl (fun _ => rfl) (fun _ _ _ => rfl) (fun t => by rw [after2_1]; rfl) t x).trans rfl
theorem before2_2 (t : Fin cfg2.N) (x) : (dat2 W O B c).before 2 t x = blk2 W c 2 t :=
  ((dat2 W O B c).before_in_eq_fetched 2 rfl (fun _ => rfl) (fun _ _ _ => rfl) (fun t => by rw [after2_2]; rfl) t x).trans rfl
theorem before2_3 (t : Fin cfg2.N) (x) : (dat2 W O B c).before 3 t x = blk2 W c 3 t :=
  ((dat2 W O B c).before_in_eq_fetched 3 rfl (fun _ => rfl) (fun _ _ _ => rfl) (fun t => by rw [after2_3]; rfl) t x).trans rfl
theorem before2_4 (t : Fin cfg2.N) (x) : (dat2 W O B c).before 4 t x = blk2 W c 4 t :=
  ((dat2 W O B c).before_in_eq_fetched 4 rfl (fun _ => rfl) (fun _ _ _ => rfl) (fun t => by rw [after2_4]; rfl) t x).trans rfl
theorem before2_5 (t : Fin cfg2.N) (x) : (dat2 W O B c).before 5 t x = blk2 W c 5 t :=
  ((dat2 W O B c).before_in_eq_fetched 5 rfl (fun _ => rfl) (fun _ _ _ => rfl) (fun t => by rw [after2_5]; rfl) t x).trans rfl
theorem before2_6 (t : Fin cfg2.N) (x) : (dat2 W O B c).before 6 t x = blk2 W c 6 t :=
  ((dat2 W O B c).before_in_eq_fetched 6 rfl (fun _ => rfl) (fun _ _ _ => rfl) (fun t => by rw [after2_6]; rfl) t x).trans rfl

theorem point2 (t : Fin cfg2.N) :
    iprop((dat2 W O B c).Φ t.castSucc ∗ (dat2 W O B c).owesAt none t.castSucc
      ∗ (∃ x, owns (T c) (st2_0 t) fullShare ((dat2 W O B c).before 0 t x)) ∗ (∃ x, owns (T c) (st2_1 t) fullShare ((dat2 W O B c).before 1 t x)) ∗ (∃ x, owns (T c) (st2_2 t) fullShare ((dat2 W O B c).before 2 t x)) ∗ (∃ x, owns (T c) (st2_3 t) fullShare ((dat2 W O B c).before 3 t x)) ∗ (∃ x, owns (T c) (st2_4 t) fullShare ((dat2 W O B c).before 4 t x)) ∗ (∃ x, owns (T c) (st2_5 t) fullShare ((dat2 W O B c).before 5 t x)) ∗ (∃ x, owns (T c) (st2_6 t) fullShare ((dat2 W O B c).before 6 t x)) ∗ (∃ x, owns (T c) (st2_7 t) fullShare ((dat2 W O B c).before 7 t x)) ∗ (∃ x, owns (T c) (st2_8 t) fullShare ((dat2 W O B c).before 8 t x)))
    ⊢ wp frame (wpE (defs₀ (F := F)) 𝒱₀ (T c) none) Set.univ (bodyAt2 t) (fun _ => iprop((dat2 W O B c).Φ t.succ ∗ (dat2 W O B c).owesAt none t.succ
      ∗ owns (T c) (st2_0 t) fullShare ((dat2 W O B c).after 0 t) ∗ owns (T c) (st2_1 t) fullShare ((dat2 W O B c).after 1 t) ∗ owns (T c) (st2_2 t) fullShare ((dat2 W O B c).after 2 t) ∗ owns (T c) (st2_3 t) fullShare ((dat2 W O B c).after 3 t) ∗ owns (T c) (st2_4 t) fullShare ((dat2 W O B c).after 4 t) ∗ owns (T c) (st2_5 t) fullShare ((dat2 W O B c).after 5 t) ∗ owns (T c) (st2_6 t) fullShare ((dat2 W O B c).after 6 t) ∗ owns (T c) (st2_7 t) fullShare ((dat2 W O B c).after 7 t) ∗ owns (T c) (st2_8 t) fullShare ((dat2 W O B c).after 8 t))) := by
  simp only [before2_0, before2_1, before2_2, before2_3, before2_4, before2_5, before2_6]
  rw [show (dat2 W O B c).Φ t.succ = (dat2 W O B c).Φ t.castSucc from rfl,
    show (dat2 W O B c).owesAt none t.succ = (dat2 W O B c).owesAt none t.castSucc from rfl,
    after2_0, after2_1, after2_2, after2_3, after2_4, after2_5, after2_6, after2_7, after2_8]
  iintro ⟨HΦ, Ho, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩⟩
  iapply (body2 c _ _ _ _ _ _ _ _ _ _ _ _ _ _ _ _ _ _ (blk2 W c 0 t) (blk2 W c 1 t) (blk2 W c 2 t) (blk2 W c 3 t) (blk2 W c 4 t) (blk2 W c 5 t) (blk2 W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  iframe HΦ Ho H0 H1 H2 H3 H4 H5 H6 H7 H8

theorem row2 (t : Fin cfg2.N) : defs₀ (F := F) .tc cfg2.body (cfg2.bodyArgs t (cfg2.slots t)) = bodyAt2 t := by
  unfold defs₀; first | rfl | rw [Defs.onTc_tc]

/-- The body's part of the call. -/
theorem obl2 : Pipeline.BodyObligation (dat2 W O B c) (defs₀ (F := F)) 𝒱₀ none Set.univ := fun t => by
  rw [bigSep_W2, bigSep_W2, row2]
  exact triple_restated (point2 W O B c t) rfl .rfl fun _ => .rfl

/-- The one point is the whole of each result. -/
theorem blkid2_7 (f : main_v11_0.ty.Contents (Elt F)) : ((cfg2.win 7).blk t2_0).view.read (Elt F) f = f :=
  Memref.read_access_unit_zero (Elt F) main_v11_0 (funext fun a => by fin_cases a <;> decide) _ _
theorem blkid2_8 (f : main_v11_1.ty.Contents (Elt F)) : ((cfg2.win 8).blk t2_0).view.read (Elt F) f = f :=
  Memref.read_access_unit_zero (Elt F) main_v11_1 (funext fun a => by fin_cases a <;> decide) _ _
theorem block2_0 : blk2 W c 0 t2_0 = W c (Proc.devRef .tc (main_arg0 : Ref sig .tc)) :=
  Memref.read_access_unit_zero (Elt F) main_arg0 (funext fun a => by fin_cases a <;> decide) _ _
theorem block2_1 : blk2 W c 1 t2_0 = W c (Proc.devRef .tc (main_v8 : Ref sig .tc)) :=
  Memref.read_access_unit_zero (Elt F) main_v8 (funext fun a => by fin_cases a <;> decide) _ _
theorem block2_2 : blk2 W c 2 t2_0 = W c (Proc.devRef .tc (main_arg4 : Ref sig .tc)) :=
  Memref.read_access_unit_zero (Elt F) main_arg4 (funext fun a => by fin_cases a <;> decide) _ _
theorem block2_3 : blk2 W c 3 t2_0 = W c (Proc.devRef .tc (main_arg5 : Ref sig .tc)) :=
  Memref.read_access_unit_zero (Elt F) main_arg5 (funext fun a => by fin_cases a <;> decide) _ _
theorem block2_4 : blk2 W c 4 t2_0 = W c (Proc.devRef .tc (main_v9 : Ref sig .tc)) :=
  Memref.read_access_unit_zero (Elt F) main_v9 (funext fun a => by fin_cases a <;> decide) _ _
theorem block2_5 : blk2 W c 5 t2_0 = W c (Proc.devRef .tc (main_arg2 : Ref sig .tc)) :=
  Memref.read_access_unit_zero (Elt F) main_arg2 (funext fun a => by fin_cases a <;> decide) _ _
theorem block2_6 : blk2 W c 6 t2_0 = W c (Proc.devRef .tc (main_v10 : Ref sig .tc)) :=
  Memref.read_access_unit_zero (Elt F) main_v10 (funext fun a => by fin_cases a <;> decide) _ _

theorem idx2_7 : ∀ t t' : Fin cfg2.N, win2_7.index t = win2_7.index t' → t = t' :=
  (by decide +kernel : ∀ t t' : Fin grid2.N, win2_7.index t = win2_7.index t' → t = t')

/-- Result 7 of the call, after it. -/
theorem final2_7 : (dat2 W O B c).arrAt 7 cfg2.N = k2_pay1 (W c (Proc.devRef .tc (main_arg0 : Ref sig .tc))) (W c (Proc.devRef .tc (main_arg4 : Ref sig .tc))) (W c (Proc.devRef .tc (main_v8 : Ref sig .tc))) (W c (Proc.devRef .tc (main_arg5 : Ref sig .tc))) (W c (Proc.devRef .tc (main_v9 : Ref sig .tc))) := by
  have h := (dat2 W O B c).read_blk_arrAt_eq_flushed 7
    (fun t t' _ _ hne => (cfg2.win 7).disjoint_blk fun h => hne (idx2_7 t t' h)) cfg2.N t2_0 t2_0.isLt (flush2_7 _)
  have e : (dat2 W O B c).flushed 7 t2_0 = (dat2 W O B c).after 7 t2_0 := rfl
  rw [e, after2_7, block2_0, block2_1, block2_2, block2_3, block2_4] at h
  exact (blkid2_7 _).symm.trans h

theorem idx2_8 : ∀ t t' : Fin cfg2.N, win2_8.index t = win2_8.index t' → t = t' :=
  (by decide +kernel : ∀ t t' : Fin grid2.N, win2_8.index t = win2_8.index t' → t = t')

/-- Result 8 of the call, after it. -/
theorem final2_8 : (dat2 W O B c).arrAt 8 cfg2.N = k2_pay2 (W c (Proc.devRef .tc (main_arg0 : Ref sig .tc))) (W c (Proc.devRef .tc (main_arg4 : Ref sig .tc))) (W c (Proc.devRef .tc (main_v8 : Ref sig .tc))) (W c (Proc.devRef .tc (main_arg5 : Ref sig .tc))) (W c (Proc.devRef .tc (main_v9 : Ref sig .tc))) (W c (Proc.devRef .tc (main_arg2 : Ref sig .tc))) (W c (Proc.devRef .tc (main_v10 : Ref sig .tc))) := by
  have h := (dat2 W O B c).read_blk_arrAt_eq_flushed 8
    (fun t t' _ _ hne => (cfg2.win 8).disjoint_blk fun h => hne (idx2_8 t t' h)) cfg2.N t2_0 t2_0.isLt (flush2_8 _)
  have e : (dat2 W O B c).flushed 8 t2_0 = (dat2 W O B c).after 8 t2_0 := rfl
  rw [e, after2_8, block2_0, block2_1, block2_2, block2_3, block2_4, block2_5, block2_6] at h
  exact (blkid2_8 _).symm.trans h

end

end Cert.Proof.SageLayer

end
-- ==== Proof.Layer.Regions.lean ====
/-
  A dense call as a step of the program on the TensorCore.
-/
module

public import proofs.«01_k».proof.Proof.Layer.Launch
public import proofs.«01_k».proof.Proof.Layer.Bodies

@[expose] public section

set_option maxRecDepth 16384

noncomputable section

namespace Cert.Proof.SageLayer

open Cert.LayerIdeal Cert.LayerIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.StableHlo (held)
open Idealize.ShloMosaic.Pipeline (Dat RegionSeg PLaunchFacts pin ucRefs arrRefs arrRef scopedRest cellsGhost toksInit BodyObligationLoose OwnSemFacts)

/-- The tables no call prefetches. -/
abbrev noTab : (p : Fin 2) → ((pcfgs (F := F)) p).Adm := fun q => (cfgs q).toPCfg_adm

/-- The proof data of both calls. -/
abbrev Data (F : FTy → Type) [FloatOps F] := (p : Fin 2) → (c : Dev nD) → Dat τ (Elt F) (HIx 1) ℕ UU ℕ (pin (pcfgs (F := F)) noTab p) c

/-- The waits the core has recorded before its SparseCore call `n`. -/
abbrev waited (n : ℕ) (c : Dev nD) : Set (SemLoc sig × HIx 1) := fun p => (K (F := F)).lev (T c, p.1) p.2 ≤ 8 * n

/-- The core before its SparseCore call `n` owes what that call and those after it ask. -/
abbrev Debt (n : ℕ) (c : Dev nD) : sProp (MM F) :=
  iprop(∃ Wd, ⌜(K (F := F)).WBelow (T c) Wd (8 * n)⌝ ∗ owes (T c) ((K (F := F)).Otc c n) Wd)

variable (pd : Data F) (p : Fin 2) (n : ℕ)

/-- A dense call between valuations `W` and `W'`, before SparseCore call `n`. -/
def seg (kit : PLaunchFacts (nD := nD) (τ := τ) (pcfgs (F := F)) p) (hK : (pcfgs (F := F) p).pre.K = 0)
    (hbody : ∀ c, BodyObligationLoose (pd p c) (defs₀ (F := F)) 𝒱₀ none Set.univ)
    (howed : ∀ c t, (pd p c).owed t = (K (F := F)).Otc c n) (hrec : ∀ c t, (pd p c).recorded t = waited (F := F) n c)
    (hshare : ∀ c w, (pd p c).share w = fullShare)
    (hΦ : ∀ c t, (pd p c).Φ t = scopedRest (pin (pcfgs (F := F)) noTab p).spec c)
    (W W' : Dev nD → Valuation τ sig (Elt F))
    (hW : ∀ c w, (pd p c).arrAt w 0 = W c (Proc.devRef .tc (arrRef (pin (pcfgs (F := F)) noTab p).spec w)))
    (hW' : ∀ c w, (pd p c).arrAt w (pin (pcfgs (F := F)) noTab p).N = W' c (Proc.devRef .tc (arrRef (pin (pcfgs (F := F)) noTab p).spec w))) :
    RegionSeg (pcfgs (F := F)) noTab pd none (defs₀ (F := F)) 𝒱₀ (K (F := F)).L (K (F := F)).lev p where
  win := kit.to₀.win
  block_pos := kit.block_pos
  stage_whole := kit.stage_whole
  K := PEmpty
  osem k := k.elim
  ho := OwnSemFacts.none _
  hbody := hbody
  hwaits c := Pipeline.cellsWaits_of_cut (pin (pcfgs (F := F)) noTab) pd none p c (8 * n) ((K (F := F)).Otc c n) (howed c)
    (fun _ _ => Finset.mem_univ _) (fun _ _ => Nat.zero_le _) (fun _ _ h => ⟨Finset.mem_univ _, SparseCore.Cfg.lev_of_Otc_pos h⟩)
  pre c := iprop(held (c.tc : Thread nD τ) (arrRefs (pcfgs (F := F) p).spec) (W c) ∗ Debt n c)
  post c := iprop(held (c.tc : Thread nD τ) (arrRefs (pcfgs (F := F) p).spec) (W' c) ∗ Debt n c)
  X _ := iprop(emp)
  Y _ := iprop(emp)
  Z _ := iprop(emp)
  hentry c := by
    rw [← Pipeline.arrays_held (pcfgs (F := F)) noTab pd p kit c (hshare c) ((pd p c).arrAt · 0) (W c) (hW c),
      Pipeline.ownSems0_none, Pipeline.prefHeld_of_none _ hK]
    iintro ⟨⟨Ha, %Wd, %hWd, HO⟩, -, -⟩
    imodintro
    isplitl [Ha]; · iexact Ha
    isplitr; · iempintro
    isplitl [HO]
    · unfold Dat.owesAt Pipeline.owesWithin Dat.bound
      rw [howed c 0, hrec c 0]
      iexists Wd; isplitr; · ipureintro; exact fun x hx => Or.inl (hWd x hx)
      iexact HO
    isplitr <;> iempintro
  hin c := by
    rw [hΦ c 0]
    iintro ⟨-, -, Hr⟩
    iexact Hr
  hout c := by
    rw [hΦ c _, Pipeline.ownSems0_none]
    iintro Hr
    isplitr; · iempintro
    isplitr; · iempintro
    iexact Hr
  hexit c := by
    rw [← Pipeline.arrays_held (pcfgs (F := F)) noTab pd p kit c (hshare c) ((pd p c).arrAt · (pin (pcfgs (F := F)) noTab p).N) (W' c) (hW' c)]
    iintro ⟨Ha, HO, -, -⟩
    imodintro
    isplitl [Ha]; · iexact Ha
    unfold Dat.owesAt Pipeline.owesWithin Dat.bound
    rw [howed c (Fin.last _), hrec c (Fin.last _)]
    icases HO with ⟨%Wd, %hWd, HO⟩; iexists Wd; isplitr
    · ipureintro
      intro x hx
      rcases hWd hx with h | ⟨w, s, rfl⟩
      · exact h
      · exact Nat.zero_le _
    iexact HO

/-- The ghost state of call `p` on core `d`. -/
abbrev Ghost (EP : Emb UR (MM F)) (d : Dev nD) : sProp (MM F) :=
  iprop(cellsGhost (pin (pcfgs (F := F)) noTab) EP p d ∗ toksInit (pin (pcfgs (F := F)) noTab) EP p d)

/-- The call as the dense program spells it. -/
abbrev denseCall : Prog (TpuEff nD τ sig (Elt F) (ΛP (F := F)) .tc) PUnit := .op (.customCall (Pipeline.entry p) ()) fun _ => .ret ⟨⟩

theorem call_lift : (Prog.lift (.customCall (SparseCore.inner (Pipeline.entry p)) ()) : Prog (TpuEff nD τ sig (Elt F) (SparseCore.Sig (ΛP (F := F)) 1) .tc) PUnit)
    = SparseCore.liftProg (Q := 1) (denseCall (F := F) p) := rfl

/-- A run of the call as the dense program spells it is a run of it in the whole program. -/
theorem call_wp (d : Dev nD) (Q : PUnit → sProp (MM F)) :
    wp frame (wpE (D (F := F)) 𝒱 (T d) none) Set.univ (denseCall (F := F) p) Q
      ⊢ wp frame (wpE ((K (F := F)).defs (D (F := F))) 𝒱 (T d) none) Set.univ
          (Prog.lift (.customCall (SparseCore.inner (Pipeline.entry p)) ())) Q :=
  (K (F := F)).wp_liftProg (D (F := F)) 𝒱 (T d) Set.univ none (denseCall (F := F) p) Q

/-- The ghost state of call `p`, its debt and its arrays, in what a run of it asks. -/
theorem call_region [∀ e, Nonempty (Elt F e)] (EP : Emb UR (MM F)) [EP.LandsIn (upEmb : UEmb _ (MM F))]
    (R : RegionSeg (pcfgs (F := F)) noTab pd none (defs₀ (F := F)) 𝒱₀ (K (F := F)).L (K (F := F)).lev p) (d : Dev nD) (Q : PUnit → sProp (MM F)) :
    iprop((iprop(boundary (T d) ∗ R.post d) -∗ wp frame (wpE (D (F := F)) 𝒱 (T d) none) Set.univ (.ret ⟨⟩) Q)
        ∗ boundary (T d) ∗ R.pre d ∗ levAts (K (F := F)).L (K (F := F)).lev ∗ Ghost p EP d)
      ⊢ wp frame (wpE (D (F := F)) 𝒱 (T d) none) Set.univ (denseCall (F := F) p) Q :=
  by
  have h := RegionSeg.wp (pcfgs (F := F)) noTab pd none (launch0.toP.cellOf_inj noTab) EP (defs₀ (F := F)) 𝒱₀ (K (F := F)).L (K (F := F)).lev R d none
    (fun u h => absurd h (Option.not_mem_none u)) (fun _ => .ret ⟨⟩) Q
  refine BI.Entails.trans ?_ h
  exact BI.Entails.refl _

/-- The step: from all the arrays at `W`, the call leaves them all at `W'`. -/
theorem seg_step [∀ e, Nonempty (Elt F e)] (EP : Emb UR (MM F)) [EP.LandsIn (upEmb : UEmb _ (MM F))]
    (R : RegionSeg (pcfgs (F := F)) noTab pd none (defs₀ (F := F)) 𝒱₀ (K (F := F)).L (K (F := F)).lev p)
    (W W' : Dev nD → Valuation τ sig (Elt F)) (A : Finset (DevRef τ sig))
    (hpre : ∀ c, R.pre c = iprop(held (T c) A (W c) ∗ Debt n c))
    (hpost : ∀ c, R.post c = iprop(held (T c) A (W' c) ∗ Debt n c))
    (hsub : A ⊆ ucRefs τ sig)
    (hrest : ∀ c, ∀ b ∈ ucRefs τ sig \ A, W c b = W' c b)
    (m : (ℓ : Loc nD τ sig) → Buf (Elt F) ℓ) (κ : GSem nD τ sig → ℕ) (d : Dev nD) (Q : PUnit → sProp (MM F)) :
    iprop((K (F := F)).ctx EH (P m) κ ∗ (K (F := F)).tcSt EH d n ∗ boundary (T d) ∗ held (T d) (ucRefs τ sig) (W d) ∗ Ghost p EP d
        ∗ (iprop((K (F := F)).tcSt EH d n ∗ boundary (T d) ∗ held (T d) (ucRefs τ sig) (W' d)) -∗ Q ⟨⟩))
      ⊢ wp frame (wpE ((K (F := F)).defs (D (F := F))) 𝒱 (T d) none) Set.univ
          (Prog.lift (.customCall (SparseCore.inner (Pipeline.entry p)) ())) Q := by
  have h := call_region pd p EP R d Q
  rw [hpre, hpost] at h
  rw [StableHlo.held_sub_split (T d) hsub (W d), StableHlo.held_sub_split (T d) hsub (W' d), StableHlo.held_congr (T d) (hrest d)]
  unfold SparseCore.Cfg.tcSt
  iintro ⟨Hctx, ⟨Hdebt, Hst⟩, Hb, ⟨Ha, Hr⟩, Hg, Hk⟩
  ihave Hlv := (SparseCore.Cfg.ctx_levAts κ) $$ Hctx
  iapply (call_wp p d Q)
  iapply h
  isplitl [Hst Hr Hk]
  · iintro ⟨Hb, Ha, Hdebt⟩
    rw [wp_ret]; imodintro
    iapply Hk
    isplitl [Hdebt Hst]
    · isplitl [Hdebt]; · iexact Hdebt
      iexact Hst
    isplitl [Hb]; · iexact Hb
    isplitl [Ha]; · iexact Ha
    iexact Hr
  isplitl [Hb]; · iexact Hb
  isplitl [Ha Hdebt]
  · isplitl [Ha]; · iexact Ha
    iexact Hdebt
  isplitl [Hlv]; · iexact Hlv
  iexact Hg

end Cert.Proof.SageLayer

end
-- ==== Proof.Layer.Stages.lean ====
/-
  The whole layer's run: the edges cut out, the dense call, the SparseCore call, the host operations, the second dense call.
-/
module

public import proofs.«01_k».proof.Proof.Layer.Regions

@[expose] public section

noncomputable section

namespace Cert.Proof.SageLayer

open Cert.LayerIdeal Cert.LayerIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.StableHlo (held wp_hlo_within)
variable (m : (ℓ : Loc nD τ sig) → Buf (Elt F) ℓ) (ρ : Dev nD → PrngReg)

/-! ## The obligation of a tile -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_body (F := F) (coordsV c s)
          hpV (Memref.isWhole_whole _) srcV (Memref.isWhole_whole _) dstV (Memref.isWhole_whole _) outV (Memref.isWhole_whole _)
          accV (Memref.isWhole_whole _) srcCV (Memref.isWhole_whole _) dstCV (Memref.isWhole_whole _) selSV (Memref.isWhole_whole _) selDV (Memref.isWhole_whole _)
          rowsV (Memref.isWhole_whole _) cc1_scratch6 cc1_scratch7 cc1_scoped0) ⟨⟩ c s := rfl

omit [FloatOps F] in
/-- What a tile leaves of its waits, weakened to what the launch asks. -/
theorem left_waits {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %h, HO⟩
  iframe HA HB HC
  iexists W'
  isplitr
  · ipureintro; exact fun p hp => (h p hp).imp_right Or.inl
  · iexact HO

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) (Fin.cast nCore_zero c) (Fin.cast nSub_zero i) rfl rfl facts hpre O W hO).trans
    (wp_mono frame _ _ fun _ => left_waits)

/-- A SparseCore is given exactly what its tiles are. -/
theorem vecSplit : (K (F := F)).VecSplit' (P m) 0 := by
  intro d c
  show iprop(bigSep Finset.univ fun s : Fin 16 => Tk m d (num (Fin.cast nCore_zero c) s) (m (oLoc d)))
    ⊢ |={Set.univ}=> iprop((bigSep Finset.univ fun s : Fin 16 => Tk m d (num (Fin.cast nCore_zero c) s) (m (oLoc d)))
      ∗ ((bigSep Finset.univ fun s : Fin 16 => Tk m d (num (Fin.cast nCore_zero c) s) (flat m d))
        -∗ (bigSep Finset.univ fun s : Fin 16 => Tk m d (num (Fin.cast nCore_zero c) s) (flat m d))))
  iintro H
  imodintro
  isplitl [H]; · iexact H
  iintro H; iexact H

/-! ## The arrays, tile by tile -/

/-- The call's arrays, its result at `f`. -/
def Arr (d : Dev nD) (f : S1282048.Idx → Elt F .f32) : sProp (MM F) :=
  iprop((hLoc d ↦{fullShare} m (hLoc d)) ∗ (sLoc d ↦{fullShare} m (sLoc d)) ∗ (dLoc d ↦{fullShare} m (dLoc d)) ∗ (oLoc d ↦{fullShare} f))

theorem tiles_lt (x : S1282048.Idx) : (x 0).val / 40064 < 32 := by
  have h : (x 0).val < 1282048 := (x 0).isLt
  omega

theorem shares (ℓ : Loc nD τ sig) (f : Buf (Elt F) ℓ) : (ℓ ↦{fullShare} f : sProp (MM F)) = bigSep Finset.univ fun w : Fin 32 => ℓ ↦{qw w} f :=
  ShareLeaves.pointsTo_leaves Finset.univ f 5 fullShare

theorem arr_tiles (d : Dev nD) (f : S1282048.Idx → Elt F .f32) :
    Arr m d f = bigSep Finset.univ fun c : Fin 2 => bigSep Finset.univ fun s : Fin 16 => Tk m d (num c s) f := by
  have e : Arr m d f = bigSep Finset.univ fun w : Fin 32 => Tk m d w f := by
    unfold Arr Tk
    rw [bigSep_sep', bigSep_sep', bigSep_sep', ← shares (hLoc d), ← shares (sLoc d), ← shares (dLoc d),
      split_parts (ℓ := oLoc d) (fun w : Fin 32 => outSet w.val) (fibres_disjoint fun x : S1282048.Idx => (x 0).val / 40064)
        (fibres_cover (fun x : S1282048.Idx => (x 0).val / 40064) tiles_lt) fullShare f]
  rw [e, bigSep_univ_equiv ((Equiv.prodComm (Fin 2) (Fin 16)).trans (finProdFinEquiv : Fin 16 × Fin 2 ≃ Fin 32)), bigSep_univ_prod]
  refine bigSep_congr fun c _ => bigSep_congr fun s _ => ?_
  refine congrArg (fun w => Tk m d w f) (Fin.ext ?_)
  show c.val + 2 * s.val = 2 * s.val + c.val
  omega

/-! ## The arrays, by name -/

abbrev ra0 : DevRef τ sig := Proc.devRef .tc (main_arg0 : Ref sig .tc)
abbrev ra1 : DevRef τ sig := Proc.devRef .tc (main_arg1 : Ref sig .tc)
abbrev ra2 : DevRef τ sig := Proc.devRef .tc (main_arg2 : Ref sig .tc)
abbrev ra3 : DevRef τ sig := Proc.devRef .tc (main_arg3 : Ref sig .tc)
abbrev ra4 : DevRef τ sig := Proc.devRef .tc (main_arg4 : Ref sig .tc)
abbrev ra5 : DevRef τ sig := Proc.devRef .tc (main_arg5 : Ref sig .tc)
abbrev ra6 : DevRef τ sig := Proc.devRef .tc (main_arg6 : Ref sig .tc)
abbrev rv0 : DevRef τ sig := Proc.devRef .tc (main_v0 : Ref sig .tc)
abbrev rv1 : DevRef τ sig := Proc.devRef .tc (main_v1 : Ref sig .tc)
abbrev rv2 : DevRef τ sig := Proc.devRef .tc (main_v2 : Ref sig .tc)
abbrev rv3 : DevRef τ sig := Proc.devRef .tc (main_v3 : Ref sig .tc)
abbrev rv4 : DevRef τ sig := Proc.devRef .tc (main_v4 : Ref sig .tc)
abbrev rv5 : DevRef τ sig := Proc.devRef .tc (main_v5 : Ref sig .tc)
abbrev rv6 : DevRef τ sig := Proc.devRef .tc (main_v6 : Ref sig .tc)
abbrev rv7 : DevRef τ sig := Proc.devRef .tc (main_v7 : Ref sig .tc)
abbrev rv8 : DevRef τ sig := Proc.devRef .tc (main_v8 : Ref sig .tc)
abbrev rv9 : DevRef τ sig := Proc.devRef .tc (main_v9 : Ref sig .tc)
abbrev rv10 : DevRef τ sig := Proc.devRef .tc (main_v10 : Ref sig .tc)
abbrev rw0 : DevRef τ sig := Proc.devRef .tc (main_v11_0 : Ref sig .tc)
abbrev rw1 : DevRef τ sig := Proc.devRef .tc (main_v11_1 : Ref sig .tc)

/-! ## The host operations -/

abbrev op0 : HloOp τ sig (Elt F) := StableHlo.unary main_arg1 main_v0
  ((extractStridedSlice S1x320000 ![0, 0] · slices_S2x320000_S1x320000_0_0) : (⟨S2x320000, .i32⟩ : BufTy).Contents (Elt F) → (⟨S1x320000, .i32⟩ : BufTy).Contents (Elt F))
abbrev op1 : HloOp τ sig (Elt F) := StableHlo.reshape main_v0 main_v1 (rfl : (.i32 : EltTy) = .i32) shapeCasts_S1x320000_S320000
abbrev op2 : HloOp τ sig (Elt F) := StableHlo.unary main_arg1 main_v2
  ((extractStridedSlice S1x320000 ![1, 0] · slices_S2x320000_S1x320000_1_0) : (⟨S2x320000, .i32⟩ : BufTy).Contents (Elt F) → (⟨S1x320000, .i32⟩ : BufTy).Contents (Elt F))
abbrev op3 : HloOp τ sig (Elt F) := StableHlo.reshape main_v2 main_v3 (rfl : (.i32 : EltTy) = .i32) shapeCasts_S1x320000_S320000
abbrev op4 : HloOp τ sig (Elt F) := StableHlo.reshape main_arg3 main_v4 (rfl : (.f32 : EltTy) = .f32) shapeCasts_S128_S1x128
abbrev op7 : HloOp τ sig (Elt F) := StableHlo.reshape main_v6 main_v7 (rfl : (.f32 : EltTy) = .f32) shapeCasts_S1282048_S10016x128
abbrev op8 : HloOp τ sig (Elt F) := StableHlo.unary main_v7 main_v8
  ((extractStridedSlice S10000x128 ![0, 0] · slices_S10016x128_S10000x128_0_0) : (⟨S10016x128, .f32⟩ : BufTy).Contents (Elt F) → (⟨S10000x128, .f32⟩ : BufTy).Contents (Elt F))
abbrev op9 : HloOp τ sig (Elt F) := StableHlo.reshape main_arg6 main_v9 (rfl : (.f32 : EltTy) = .f32) shapeCasts_S128_S1x128
abbrev op10 : HloOp τ sig (Elt F) := StableHlo.reshape main_arg3 main_v10 (rfl : (.f32 : EltTy) = .f32) shapeCasts_S128_S1x128

/-! ## The arrays along the run -/

/-- At the start. -/
def VS (d : Dev nD) : Valuation τ sig (Elt F) := fun b => m (d, b)
/-- Before the first dense call. -/
def VA (d : Dev nD) : Valuation τ sig (Elt F) :=
  (op4 (F := F)).result ((op3 (F := F)).result ((op2 (F := F)).result ((op1 (F := F)).result ((op0 (F := F)).result (VS m d)))))
/-- Before the SparseCore call. -/
def VB (d : Dev nD) : Valuation τ sig (Elt F) := Function.update (VA m d) rv5 (k0_pay1 (VA m d ra0) (VA m d ra2) (VA m d rv4))
/-- The memory the SparseCore call is started on. -/
def mB : (ℓ : Loc nD τ sig) → Buf (Elt F) ℓ := fun ℓ => VB m ℓ.1 ℓ.2
/-- After the SparseCore call. -/
def VC (d : Dev nD) : Valuation τ sig (Elt F) := Function.update (VB m d) rv6 (flat (mB m) d)
/-- Before the second dense call. -/
def VD (d : Dev nD) : Valuation τ sig (Elt F) :=
  (op10 (F := F)).result ((op9 (F := F)).result ((op8 (F := F)).result ((op7 (F := F)).result (VC m d))))
/-- What the second dense call leaves in its results. -/
def layer0 (V : Valuation τ sig (Elt F)) : S10000x128.Idx → Elt F .f32 := k2_pay1 (V ra0) (V ra4) (V rv8) (V ra5) (V rv9)
def layer1 (V : Valuation τ sig (Elt F)) : S10000x128.Idx → Elt F .f32 := k2_pay2 (V ra0) (V ra4) (V rv8) (V ra5) (V rv9) (V ra2) (V rv10)
/-- At the end. -/
def VE (d : Dev nD) : Valuation τ sig (Elt F) := Function.update (Function.update (VD m d) rw0 (layer0 (VD m d))) rw1 (layer1 (VD m d))

/-! ## What they hold -/

section
variable (d : Dev nD)

theorem VA_of {b : DevRef τ sig} (h0 : b ∉ ({rv0} : Finset (DevRef τ sig))) (h1 : b ∉ ({rv1} : Finset (DevRef τ sig))) (h2 : b ∉ ({rv2} : Finset (DevRef τ sig)))
    (h3 : b ∉ ({rv3} : Finset (DevRef τ sig))) (h4 : b ∉ ({rv4} : Finset (DevRef τ sig))) : VA m d b = m (d, b) :=
  ((op4 (F := F)).result_of_not_mem _ h4).trans (((op3 (F := F)).result_of_not_mem _ h3).trans (((op2 (F := F)).result_of_not_mem _ h2).trans
    (((op1 (F := F)).result_of_not_mem _ h1).trans ((op0 (F := F)).result_of_not_mem _ h0))))

theorem VD_of {b : DevRef τ sig} (h7 : b ∉ ({rv7} : Finset (DevRef τ sig))) (h8 : b ∉ ({rv8} : Finset (DevRef τ sig))) (h9 : b ∉ ({rv9} : Finset (DevRef τ sig)))
    (h10 : b ∉ ({rv10} : Finset (DevRef τ sig))) : VD m d b = VC m d b :=
  ((op10 (F := F)).result_of_not_mem _ h10).trans (((op9 (F := F)).result_of_not_mem _ h9).trans (((op8 (F := F)).result_of_not_mem _ h8).trans
    ((op7 (F := F)).result_of_not_mem _ h7)))

/-- The sources and the targets of the edges. -/
def srcs : S320000.Idx → BitVec 32 := shapeCast S320000 (extractStridedSlice S1x320000 ![0, 0] (m (d, ra1) : S2x320000.Idx → BitVec 32) slices_S2x320000_S1x320000_0_0) shapeCasts_S1x320000_S320000
def dsts : S320000.Idx → BitVec 32 := shapeCast S320000 (extractStridedSlice S1x320000 ![1, 0] (m (d, ra1) : S2x320000.Idx → BitVec 32) slices_S2x320000_S1x320000_1_0) shapeCasts_S1x320000_S320000
/-- A bias as a row. -/
abbrev row (b : S128.Idx → Elt F .f32) : S1x128.Idx → Elt F .f32 := shapeCast S1x128 b shapeCasts_S128_S1x128

theorem VA_v1 : VA m d rv1 = srcs m d := by
  refine ((op4 (F := F)).result_of_not_mem _ (show rv1 ∉ ({rv4} : Finset (DevRef τ sig)) by decide)).trans
    (((op3 (F := F)).result_of_not_mem _ (show rv1 ∉ ({rv3} : Finset (DevRef τ sig)) by decide)).trans
      (((op2 (F := F)).result_of_not_mem _ (show rv1 ∉ ({rv2} : Finset (DevRef τ sig)) by decide)).trans
        ((StableHlo.reshape_result' _ _ _ _ _).trans ?_)))
  rw [show (op0 (F := F)).result (VS m d) rv0 = _ from StableHlo.unary_result _ _ _ _ _ _]; rfl

theorem VA_v3 : VA m d rv3 = dsts m d := by
  refine ((op4 (F := F)).result_of_not_mem _ (show rv3 ∉ ({rv4} : Finset (DevRef τ sig)) by decide)).trans
    ((StableHlo.reshape_result' _ _ _ _ _).trans ?_)
  rw [show (op2 (F := F)).result ((op1 (F := F)).result ((op0 (F := F)).result (VS m d))) rv2 = _ from StableHlo.unary_result _ _ _ _ _ _,
    show ((op1 (F := F)).result ((op0 (F := F)).result (VS m d))) ra1 = m (d, ra1) from
      ((op1 (F := F)).result_of_not_mem _ (show ra1 ∉ ({rv1} : Finset (DevRef τ sig)) by decide)).trans
        ((op0 (F := F)).result_of_not_mem _ (show ra1 ∉ ({rv0} : Finset (DevRef τ sig)) by decide))]
  rfl

theorem VA_v4 : VA m d rv4 = row (m (d, ra3)) := by
  refine (StableHlo.reshape_result' _ _ _ _ _).trans ?_
  rw [show ((op3 (F := F)).result ((op2 (F := F)).result ((op1 (F := F)).result ((op0 (F := F)).result (VS m d))))) ra3 = m (d, ra3) from
    ((op3 (F := F)).result_of_not_mem _ (show ra3 ∉ ({rv3} : Finset (DevRef τ sig)) by decide)).trans
      (((op2 (F := F)).result_of_not_mem _ (show ra3 ∉ ({rv2} : Finset (DevRef τ sig)) by decide)).trans
        (((op1 (F := F)).result_of_not_mem _ (show ra3 ∉ ({rv1} : Finset (DevRef τ sig)) by decide)).trans
          ((op0 (F := F)).result_of_not_mem _ (show ra3 ∉ ({rv0} : Finset (DevRef τ sig)) by decide))))]
  rfl

/-- The projected features: what the first dense call leaves. -/
def proj : S10000x128.Idx → Elt F .f32 := k0_pay1 (m (d, ra0) : S10000x128.Idx → Elt F .f32) (m (d, ra2) : S128x128.Idx → Elt F .f32) (row (m (d, ra3)))

theorem VB_v5 : VB m d rv5 = k0_pay1 (VA m d ra0) (VA m d ra2) (VA m d rv4) := Function.update_self _ _ _
theorem VB_of {b : DevRef τ sig} (h : b ≠ rv5) : VB m d b = VA m d b := Function.update_of_ne h _ _
theorem VC_v6 : VC m d rv6 = flat (mB m) d := Function.update_self _ _ _
theorem VC_of {b : DevRef τ sig} (h : b ≠ rv6) : VC m d b = VB m d b := Function.update_of_ne h _ _

theorem mB_h : mB m (hLoc d) = proj m d := by
  refine (VB_v5 m d).trans ?_
  rw [VA_v4, VA_of m d (b := ra0) (by decide) (by decide) (by decide) (by decide) (by decide), VA_of m d (b := ra2) (by decide) (by decide) (by decide) (by decide) (by decide)]
  rfl
theorem mB_s : mB m (sLoc d) = srcs m d := (VB_of m d (b := rv1) (by decide)).trans (VA_v1 m d)
theorem mB_d : mB m (dLoc d) = dsts m d := (VB_of m d (b := rv3) (by decide)).trans (VA_v3 m d)

/-- The flat result of the SparseCore call as rows of nodes. -/
def pooled (m : (ℓ : Loc nD τ sig) → Buf (Elt F) ℓ) (d : Dev nD) : S10000x128.Idx → Elt F .f32 :=
  extractStridedSlice S10000x128 ![0, 0] (shapeCast S10016x128 (flat m d) shapeCasts_S1282048_S10016x128) slices_S10016x128_S10000x128_0_0

theorem VD_arg {b : DevRef τ sig} (hA : VA m d b = m (d, b)) (hD : VD m d b = VC m d b) (h5 : b ≠ rv5) (h6 : b ≠ rv6) : VD m d b = m (d, b) :=
  hD.trans ((VC_of m d h6).trans ((VB_of m d h5).trans hA))

theorem VD_args : (VD m d ra0 = m (d, ra0) ∧ VD m d ra1 = m (d, ra1) ∧ VD m d ra2 = m (d, ra2) ∧ VD m d ra3 = m (d, ra3)) ∧ VD m d ra4 = m (d, ra4) ∧ VD m d ra5 = m (d, ra5) ∧ VD m d ra6 = m (d, ra6) := by
  refine ⟨⟨?_, ?_, ?_, ?_⟩, ?_, ?_, ?_⟩
  all_goals exact VD_arg m d (VA_of m d (by decide) (by decide) (by decide) (by decide) (by decide)) (VD_of m d (by decide) (by decide) (by decide) (by decide)) (by decide) (by decide)

theorem VD_v8 : VD m d rv8 = pooled (mB m) d := by
  refine ((op10 (F := F)).result_of_not_mem _ (show rv8 ∉ ({rv10} : Finset (DevRef τ sig)) by decide)).trans
    (((op9 (F := F)).result_of_not_mem _ (show rv8 ∉ ({rv9} : Finset (DevRef τ sig)) by decide)).trans
      ((StableHlo.unary_result _ _ _ _ _ _).trans ?_))
  rw [show (op7 (F := F)).result (VC m d) rv7 = _ from StableHlo.reshape_result' _ _ _ _ _, VC_v6]
  rfl

theorem VD_v9 : VD m d rv9 = row (m (d, ra6)) := by
  refine ((op10 (F := F)).result_of_not_mem _ (show rv9 ∉ ({rv10} : Finset (DevRef τ sig)) by decide)).trans ((StableHlo.reshape_result' _ _ _ _ _).trans ?_)
  rw [show ((op8 (F := F)).result ((op7 (F := F)).result (VC m d))) ra6 = m (d, ra6) from
    ((op8 (F := F)).result_of_not_mem _ (show ra6 ∉ ({rv8} : Finset (DevRef τ sig)) by decide)).trans
      (((op7 (F := F)).result_of_not_mem _ (show ra6 ∉ ({rv7} : Finset (DevRef τ sig)) by decide)).trans
        ((VC_of m d (b := ra6) (by decide)).trans ((VB_of m d (b := ra6) (by decide)).trans
          (VA_of m d (by decide) (by decide) (by decide) (by decide) (by decide)))))]
  rfl

/-- What the layer returns. -/
def out : S10000x128.Idx → Elt F .f32 :=
  k2_pay1 (m (d, ra0) : S10000x128.Idx → Elt F .f32) (m (d, ra4) : S128x128.Idx → Elt F .f32) (pooled (mB m) d) (m (d, ra5) : S128x128.Idx → Elt F .f32) (row (m (d, ra6)))

theorem VE_w1 : VE m d rw1 = layer1 (VD m d) := Function.update_self _ _ _
theorem VE_l0 : VE m d rw0 = layer0 (VD m d) := by
  unfold VE
  rw [Function.update_of_ne (show rw0 ≠ rw1 by decide), Function.update_self]
theorem VE_w0 : VE m d rw0 = out m d := by
  rw [VE_l0]; unfold layer0
  rw [VD_v8, VD_v9, (VD_args m d).1.1, (VD_args m d).2.1, (VD_args m d).2.2.1]
  rfl

theorem VE_of {b : DevRef τ sig} (h0 : b ≠ rw0) (h1 : b ≠ rw1) : VE m d b = VD m d b := (Function.update_of_ne h1 _ _).trans (Function.update_of_ne h0 _ _)

end

/-! ## The dense calls -/

open Idealize.ShloMosaic.Pipeline (ucRefs arrRefs pin arrRef RegionSeg)

/-- The proof data of the two dense calls. -/
def datas : Data F := fun
  | 0 => fun c => dat0 (VA m) (fun c => (K (F := F)).Otc c 0) (waited (F := F) 0) c
  | 1 => fun c => dat2 (VD m) (fun c => (K (F := F)).Otc c 1) (waited (F := F) 1) c

theorem left0 (c : Dev nD) : ∀ w : Fin 4, (datas m 0 c).arrAt w (pin (pcfgs (F := F)) noTab 0).N = VB m c (Proc.devRef .tc (arrRef spec0 w)) := fun
  | 0 => ((datas m 0 c).arrAt_in 0 rfl _).trans (VB_of m c (b := ra0) (by decide)).symm
  | 1 => ((datas m 0 c).arrAt_in 1 rfl _).trans (VB_of m c (b := ra2) (by decide)).symm
  | 2 => ((datas m 0 c).arrAt_in 2 rfl _).trans (VB_of m c (b := rv4) (by decide)).symm
  | 3 => (final0_3 (VA m) (fun c => (K (F := F)).Otc c 0) (waited (F := F) 0) c).trans (VB_v5 m c).symm

theorem left1 (c : Dev nD) : ∀ w : Fin 9, (datas m 1 c).arrAt w (pin (pcfgs (F := F)) noTab 1).N = VE m c (Proc.devRef .tc (arrRef spec2 w)) := fun
  | 0 => ((datas m 1 c).arrAt_in 0 rfl _).trans (VE_of m c (b := ra0) (by decide) (by decide)).symm
  | 1 => ((datas m 1 c).arrAt_in 1 rfl _).trans (VE_of m c (b := rv8) (by decide) (by decide)).symm
  | 2 => ((datas m 1 c).arrAt_in 2 rfl _).trans (VE_of m c (b := ra4) (by decide) (by decide)).symm
  | 3 => ((datas m 1 c).arrAt_in 3 rfl _).trans (VE_of m c (b := ra5) (by decide) (by decide)).symm
  | 4 => ((datas m 1 c).arrAt_in 4 rfl _).trans (VE_of m c (b := rv9) (by decide) (by decide)).symm
  | 5 => ((datas m 1 c).arrAt_in 5 rfl _).trans (VE_of m c (b := ra2) (by decide) (by decide)).symm
  | 6 => ((datas m 1 c).arrAt_in 6 rfl _).trans (VE_of m c (b := rv10) (by decide) (by decide)).symm
  | 7 => (final2_7 (VD m) (fun c => (K (F := F)).Otc c 1) (waited (F := F) 1) c).trans (VE_l0 m c).symm
  | 8 => (final2_8 (VD m) (fun c => (K (F := F)).Otc c 1) (waited (F := F) 1) c).trans (VE_w1 m c).symm

theorem bodies0 (c : Dev nD) : Pipeline.BodyObligationLoose (datas m 0 c) (defs₀ (F := F)) 𝒱₀ none Set.univ :=
  (obl0 (VA m) (fun c => (K (F := F)).Otc c 0) (waited (F := F) 0) c).loose
theorem bodies1 (c : Dev nD) : Pipeline.BodyObligationLoose (datas m 1 c) (defs₀ (F := F)) 𝒱₀ none Set.univ :=
  (obl2 (VD m) (fun c => (K (F := F)).Otc c 1) (waited (F := F) 1) c).loose
theorem share0 (c : Dev nD) (w : Fin 4) : (datas m 0 c).share w = fullShare := (datas m 0 c).share_full (fun _ => rfl) w
theorem share1 (c : Dev nD) (w : Fin 9) : (datas m 1 c).share w = fullShare := (datas m 1 c).share_full (fun _ => rfl) w
theorem came0 (c : Dev nD) (w : Fin 4) : (datas m 0 c).arrAt w 0 = VA m c (Proc.devRef .tc (arrRef spec0 w)) := rfl
theorem came1 (c : Dev nD) (w : Fin 9) : (datas m 1 c).arrAt w 0 = VD m c (Proc.devRef .tc (arrRef spec2 w)) := rfl

theorem debt0 (c : Dev nD) (t) : (datas m 0 c).owed t = (K (F := F)).Otc c 0 := rfl
theorem debt1 (c : Dev nD) (t) : (datas m 1 c).owed t = (K (F := F)).Otc c 1 := rfl
theorem past0 (c : Dev nD) (t) : (datas m 0 c).recorded t = waited (F := F) 0 c := rfl
theorem past1 (c : Dev nD) (t) : (datas m 1 c).recorded t = waited (F := F) 1 c := rfl
theorem rest0 (c : Dev nD) (t) : (datas m 0 c).Φ t = Pipeline.scopedRest spec0 c := rfl
theorem rest1 (c : Dev nD) (t) : (datas m 1 c).Φ t = Pipeline.scopedRest spec2 c := rfl

def seg0 : RegionSeg (pcfgs (F := F)) noTab (datas m) none (defs₀ (F := F)) 𝒱₀ (K (F := F)).L (K (F := F)).lev 0 := by
  refine seg (datas m) 0 0 launch0.toP rfl ?_ ?_ ?_ ?_ ?_ (VA m) (VB m) ?_ ?_
  · exact bodies0 m
  · exact debt0 m
  · exact past0 m
  · exact share0 m
  · exact rest0 m
  · exact came0 m
  · exact left0 m

set_option maxHeartbeats 2000000 in
def seg1 : RegionSeg (pcfgs (F := F)) noTab (datas m) none (defs₀ (F := F)) 𝒱₀ (K (F := F)).L (K (F := F)).lev 1 := by
  refine seg (datas m) 1 1 launch2.toP rfl ?_ ?_ ?_ ?_ ?_ (VD m) (VE m) ?_ ?_
  · exact bodies1 m
  · exact debt1 m
  · exact past1 m
  · exact share1 m
  · exact rest1 m
  · exact came1 m
  · exact left1 m

theorem sub0 : arrRefs (τ := τ) spec0 ⊆ ucRefs τ sig := Pipeline.arrRefs_sub_ucRefs spec0 (by decide)
theorem sub1 : arrRefs (τ := τ) spec2 ⊆ ucRefs τ sig := Pipeline.arrRefs_sub_ucRefs spec2 (by decide)

theorem mem_arr {W : ℕ} (spec : Fin W → Pipeline.WinSpec sig 1) (w : Fin W) : Proc.devRef .tc (arrRef spec w) ∈ arrRefs (τ := τ) spec :=
  Finset.mem_map.mpr ⟨arrRef spec w, Finset.mem_image.mpr ⟨w, Finset.mem_univ _, rfl⟩, rfl⟩

end Cert.Proof.SageLayer

end
-- ==== Proof.Layer.Main.lean ====
/-
  The whole layer's run from its stages.
-/
module

public import proofs.«01_k».proof.Proof.Layer.Stages

@[expose] public section

set_option maxRecDepth 16384

noncomputable section

namespace Cert.Proof.SageLayer

open Cert.LayerIdeal Cert.LayerIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.StableHlo (held wp_hlo_within)
open Idealize.ShloMosaic.Pipeline (ucRefs arrRefs pin arrRef)

variable (m : (ℓ : Loc nD τ sig) → Buf (Elt F) ℓ) (ρ : Dev nD → PrngReg)

/-! ## The launch state -/

/-- Where the dense calls' transfers keep their rounds. -/
abbrev EP : Emb UR (MM F) := (Emb.inl : Emb UR (UR × Counters)).trans embR

theorem cells_apart : Function.Injective (Pipeline.cellOf (nD := nD) (τ := τ) (pin (pcfgs (F := F)) noTab)) := launch0.toP.cellOf_inj noTab

def u₀ : UU := (initOf (K (F := F)).hsCells (K (F := F)).hsToks,
  (initOf (Pipeline.cells (pin (pcfgs (F := F)) noTab) cells_apart) (Pipeline.launchToks (pin (pcfgs (F := F)) noTab) cells_apart), 1))

/-- What the launch gives each core for its dense calls. -/
abbrev Ghosts (d : Dev nD) : sProp (MM F) := iprop(Ghost 0 EP d ∗ Ghost 1 EP d)

theorem bigSep_two {A : Fin 2 → sProp (MM F)} : bigSep Finset.univ A = iprop(A 0 ∗ A 1) := by
  rw [show (Finset.univ : Finset (Fin 2)) = {0, 1} from by decide, SparseCore.bigSep_insert' (by decide), bigSep_singleton]

/-- Two pairs, the other way round. -/
theorem sep_swap (A B C E : sProp (MM F)) : iprop((A ∗ B) ∗ C ∗ E) ⊢ iprop((A ∗ C) ∗ B ∗ E) := by
  iintro ⟨⟨Ha, Hb⟩, Hc, Hd⟩
  isplitl [Ha Hc]
  · isplitl [Ha] <;> iassumption
  · isplitl [Hb] <;> iassumption

theorem ghosts_of : iprop((bigSep Finset.univ fun c : Dev nD => bigSep Finset.univ fun p => Pipeline.cellsGhost (pin (pcfgs (F := F)) noTab) EP p c)
      ∗ bigSep Finset.univ fun c : Dev nD => bigSep Finset.univ fun p => Pipeline.toksInit (pin (pcfgs (F := F)) noTab) EP p c)
    ⊢ (bigSep Finset.univ fun d : Dev nD => (Ghosts d : sProp (MM F))) := by
  rw [← bigSep_sep']
  refine bigSep_mono fun d _ => ?_
  rw [bigSep_two, bigSep_two]
  exact sep_swap _ _ _ _

theorem hu₀ : (ownU (u₀ (F := F)) : sProp (MM F))
    ⊢ |={Set.univ}=> iprop(BI.own (EH (initOf (K (F := F)).hsCells (K (F := F)).hsToks)) ∗ (bigSep Finset.univ fun d : Dev nD => Ghosts d)
        ∗ bigSep Finset.univ fun t : Thread nD τ => bigSep Finset.univ fun q : Fin 1 => (P (mB m)).x q t) := by
  unfold u₀
  iintro Hu
  ihave H := (ownU_pair (initOf (K (F := F)).hsCells (K (F := F)).hsToks)
    ((initOf (Pipeline.cells (pin (pcfgs (F := F)) noTab) cells_apart) (Pipeline.launchToks (pin (pcfgs (F := F)) noTab) cells_apart), 1) : UR × Counters)) $$ Hu
  icases H with ⟨HH, Hp⟩
  ihave H := (own_pair_emb embR (initOf (Pipeline.cells (pin (pcfgs (F := F)) noTab) cells_apart) (Pipeline.launchToks (pin (pcfgs (F := F)) noTab) cells_apart)) (1 : Counters)) $$ Hp
  icases H with ⟨Hp, -⟩
  imod (Pipeline.fund_ghost (pin (pcfgs (F := F)) noTab) EP cells_apart) $$ Hp with Hp
  imodintro
  isplitl [HH]; · iexact HH
  isplitl [Hp]; · iapply ghosts_of; iexact Hp
  rw [show (bigSep Finset.univ fun t : Thread nD τ => bigSep Finset.univ fun q : Fin 1 => (P (F := F) (mB m)).x q t) = iprop(emp) from
    (bigSep_congr fun _ _ => bigSep_univ_of_subsingleton (0 : Fin 1)).trans (bigSep_emp_const _)]
  iempintro

/-! ## The steps -/

theorem in0 : (op0 (F := F)).bufs ⊆ ucRefs τ sig := show ({ra1, rv0} : Finset (DevRef τ sig)) ⊆ ucRefs τ sig by decide
theorem in1 : (op1 (F := F)).bufs ⊆ ucRefs τ sig := show ({rv0, rv1} : Finset (DevRef τ sig)) ⊆ ucRefs τ sig by decide
theorem in2 : (op2 (F := F)).bufs ⊆ ucRefs τ sig := show ({ra1, rv2} : Finset (DevRef τ sig)) ⊆ ucRefs τ sig by decide
theorem in3 : (op3 (F := F)).bufs ⊆ ucRefs τ sig := show ({rv2, rv3} : Finset (DevRef τ sig)) ⊆ ucRefs τ sig by decide
theorem in4 : (op4 (F := F)).bufs ⊆ ucRefs τ sig := show ({ra3, rv4} : Finset (DevRef τ sig)) ⊆ ucRefs τ sig by decide
theorem in7 : (op7 (F := F)).bufs ⊆ ucRefs τ sig := show ({rv6, rv7} : Finset (DevRef τ sig)) ⊆ ucRefs τ sig by decide
theorem in8 : (op8 (F := F)).bufs ⊆ ucRefs τ sig := show ({rv7, rv8} : Finset (DevRef τ sig)) ⊆ ucRefs τ sig by decide
theorem in9 : (op9 (F := F)).bufs ⊆ ucRefs τ sig := show ({ra6, rv9} : Finset (DevRef τ sig)) ⊆ ucRefs τ sig by decide
theorem in10 : (op10 (F := F)).bufs ⊆ ucRefs τ sig := show ({ra3, rv10} : Finset (DevRef τ sig)) ⊆ ucRefs τ sig by decide

/-- The arrays of the SparseCore call. -/
abbrev S4 : Finset (DevRef τ sig) := {rv5, rv1, rv3, rv6}

theorem sub4 : S4 ⊆ ucRefs τ sig := by decide

theorem held_S4 (d : Dev nD) (V : Valuation τ sig (Elt F)) (h5 : V rv5 = mB m (hLoc d)) (h1 : V rv1 = mB m (sLoc d)) (h3 : V rv3 = mB m (dLoc d)) :
    (held (T d) S4 V : sProp (MM F)) = Arr (mB m) d (V rv6) := by
  unfold held S4 Arr
  rw [SparseCore.bigSep_insert' (by decide), SparseCore.bigSep_insert' (by decide), SparseCore.bigSep_insert' (by decide), bigSep_singleton, ← h5, ← h1, ← h3]

theorem held_S4_before (d : Dev nD) : (held (T d) S4 (VB m d) : sProp (MM F)) = Arr (mB m) d (mB m (oLoc d)) := held_S4 m d (VB m d) rfl rfl rfl
theorem held_S4_after (d : Dev nD) : (held (T d) S4 (VC m d) : sProp (MM F)) = Arr (mB m) d (flat (mB m) d) := by
  rw [held_S4 m d (VC m d) (VC_of m d (b := rv5) (by decide)) (VC_of m d (b := rv1) (by decide)) (VC_of m d (b := rv3) (by decide)), VC_v6]

theorem kept4 (d : Dev nD) : ∀ b ∈ ucRefs τ sig \ S4, VB m d b = VC m d b := fun b hb =>
  (VC_of m d fun e => (Finset.mem_sdiff.mp hb).2 (by rw [e]; decide)).symm
theorem mem_arrs {r W : ℕ} (spec : Fin W → Pipeline.WinSpec sig r) (w : Fin W) : Proc.devRef .tc (arrRef spec w) ∈ arrRefs (τ := τ) spec :=
  Finset.mem_map.mpr ⟨arrRef spec w, Finset.mem_image.mpr ⟨w, Finset.mem_univ _, rfl⟩, rfl⟩
theorem w3_mem : rv5 ∈ arrRefs spec0 := by
  have h : Proc.devRef .tc (arrRef spec0 (3 : Fin 4)) ∈ arrRefs (τ := τ) spec0 := mem_arrs spec0 _
  have e : Proc.devRef .tc (arrRef spec0 (3 : Fin 4)) = rv5 := rfl
  rw [← e]; exact h
theorem w7_mem : rw0 ∈ arrRefs spec2 := by
  have h : Proc.devRef .tc (arrRef spec2 (7 : Fin 9)) ∈ arrRefs (τ := τ) spec2 := mem_arrs spec2 _
  have e : Proc.devRef .tc (arrRef spec2 (7 : Fin 9)) = rw0 := rfl
  rw [← e]; exact h
theorem w8_mem : rw1 ∈ arrRefs spec2 := by
  have h : Proc.devRef .tc (arrRef spec2 (8 : Fin 9)) ∈ arrRefs (τ := τ) spec2 := mem_arrs spec2 _
  have e : Proc.devRef .tc (arrRef spec2 (8 : Fin 9)) = rw1 := rfl
  rw [← e]; exact h
theorem kept0 (d : Dev nD) : ∀ b ∈ ucRefs τ sig \ arrRefs spec0, VA m d b = VB m d b := fun b hb =>
  (VB_of m d fun e => (Finset.mem_sdiff.mp hb).2 (by rw [e]; exact w3_mem)).symm
theorem kept1 (d : Dev nD) : ∀ b ∈ ucRefs τ sig \ arrRefs spec2, VD m d b = VE m d b := fun b hb =>
  (VE_of m d (fun e => (Finset.mem_sdiff.mp hb).2 (by rw [e]; exact w7_mem))
    (fun e => (Finset.mem_sdiff.mp hb).2 (by rw [e]; exact w8_mem))).symm

theorem start_held (d : Dev nD) : (unscopedBufs d (fun b => m ((SparseCore.T d).loc b)) : sProp (MM F)) = held (T d) (ucRefs τ sig) (VS m d) :=
  Pipeline.unscopedBufs_held d (VS m d)

/-- The arguments and the result. -/
abbrev S8 : Finset (DevRef τ sig) := {ra0, ra1, ra2, ra3, ra4, ra5, ra6, rw0}

theorem sub8 : S8 ⊆ ucRefs τ sig := by decide

/-- What the claims read at the end. -/
abbrev FIN (d : Dev nD) : sProp (MM F) := held (T d) S8 (VE m d)

theorem st0_eq (d : Dev nD) : (bigSep Finset.univ fun c : Fin ((K (F := F)).nCore 0) => (P m).st 0 d c) = Arr m d (m (oLoc d)) := (arr_tiles m d _).symm
theorem dn0_eq (d : Dev nD) : (bigSep Finset.univ fun c : Fin ((K (F := F)).nCore 0) => (P m).dn 0 d c) = Arr m d (flat m d) := (arr_tiles m d _).symm

variable [∀ e, Nonempty (Elt F e)]

/-- The first dense call. -/
theorem step0 (κ : GSem nD τ sig → ℕ) (d : Dev nD) (Q : PUnit → sProp (MM F)) :
    iprop((K (F := F)).ctx EH (P (mB m)) κ ∗ (K (F := F)).tcSt EH d 0 ∗ boundary (T d) ∗ held (T d) (ucRefs τ sig) (VA m d) ∗ Ghost 0 EP d
        ∗ (iprop((K (F := F)).tcSt EH d 0 ∗ boundary (T d) ∗ held (T d) (ucRefs τ sig) (VB m d)) -∗ Q ⟨⟩))
      ⊢ wp frame (wpE ((K (F := F)).defs (D (F := F))) 𝒱 (T d) none) Set.univ
          (Prog.lift (.customCall (SparseCore.inner (Pipeline.entry 0)) ())) Q :=
  seg_step (datas m) 0 0 EP (seg0 m) (VA m) (VB m) (arrRefs spec0) (fun _ => rfl) (fun _ => rfl) sub0 (kept0 m) (mB m) κ d Q

/-- The second. -/
theorem step1 (κ : GSem nD τ sig → ℕ) (d : Dev nD) (Q : PUnit → sProp (MM F)) :
    iprop((K (F := F)).ctx EH (P (mB m)) κ ∗ (K (F := F)).tcSt EH d 1 ∗ boundary (T d) ∗ held (T d) (ucRefs τ sig) (VD m d) ∗ Ghost 1 EP d
        ∗ (iprop((K (F := F)).tcSt EH d 1 ∗ boundary (T d) ∗ held (T d) (ucRefs τ sig) (VE m d)) -∗ Q ⟨⟩))
      ⊢ wp frame (wpE ((K (F := F)).defs (D (F := F))) 𝒱 (T d) none) Set.univ
          (Prog.lift (.customCall (SparseCore.inner (Pipeline.entry 1)) ())) Q :=
  seg_step (datas m) 1 1 EP (seg1 m) (VD m) (VE m) (arrRefs spec2) (fun _ => rfl) (fun _ => rfl) sub1 (kept1 m) (mB m) κ d Q

/-- The layer on the TensorCore. -/
theorem hmain (κ : GSem nD τ sig → ℕ) (d : Dev nD) :
    iprop((K (F := F)).ctx EH (P (mB m)) κ ∗ (K (F := F)).tcSt EH d 0 ∗ (K (F := F)).tcRes m ρ d ∗ Ghosts d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_held]
  simp only [main, wp_bind, wp_pure]
  iintro ⟨#Hctx, Hst, ⟨Hb, Hheld, Hts, -⟩, Hg0, Hg1⟩
  iapply (wp_hlo_within 𝒱 (SparseCore.T d) none Set.univ (op := op0) (S := ucRefs τ sig) in0 (V := VS m d)) $$ [Hb Hheld]
  · isplitl [Hb] <;> iassumption
  iintro ⟨Hb, Hheld⟩
  rw [wp_ret]; imodintro
  iapply (wp_hlo_within 𝒱 (SparseCore.T d) none Set.univ (op := op1) (S := ucRefs τ sig) in1 (V := (op0 (F := F)).result (VS m d))) $$ [Hb Hheld]
  · isplitl [Hb] <;> iassumption
  iintro ⟨Hb, Hheld⟩
  rw [wp_ret]; imodintro
  iapply (wp_hlo_within 𝒱 (SparseCore.T d) none Set.univ (op := op2) (S := ucRefs τ sig) in2 (V := (op1 (F := F)).result ((op0 (F := F)).result (VS m d)))) $$ [Hb Hheld]
  · isplitl [Hb] <;> iassumption
  iintro ⟨Hb, Hheld⟩
  rw [wp_ret]; imodintro
  iapply (wp_hlo_within 𝒱 (SparseCore.T d) none Set.univ (op := op3) (S := ucRefs τ sig) in3 (V := (op2 (F := F)).result ((op1 (F := F)).result ((op0 (F := F)).result (VS m d))))) $$ [Hb Hheld]
  · isplitl [Hb] <;> iassumption
  iintro ⟨Hb, Hheld⟩
  rw [wp_ret]; imodintro
  iapply (wp_hlo_within 𝒱 (SparseCore.T d) none Set.univ (op := op4) (S := ucRefs τ sig) in4 (V := (op3 (F := F)).result ((op2 (F := F)).result ((op1 (F := F)).result ((op0 (F := F)).result (VS m d)))))) $$ [Hb Hheld]
  · isplitl [Hb] <;> iassumption
  iintro ⟨Hb, Hheld⟩
  rw [wp_ret]; imodintro
  iapply (step0 m κ d _) $$ [Hst Hb Hheld Hg0 Hg1 Hts]
  isplitr; · iexact Hctx
  isplitl [Hst]; · iexact Hst
  isplitl [Hb]; · iexact Hb
  isplitl [Hheld]; · iexact Hheld
  isplitl [Hg0]; · iexact Hg0
  iintro ⟨Hst, Hb, Hheld⟩
  ihave Hsp := (Entails.of_eq (StableHlo.held_sub_split (T d) sub4 (VB m d))) $$ Hheld
  icases Hsp with ⟨Ha, Hr⟩
  iapply ((K (F := F)).wp_run (D (F := F)) 𝒱 (EH := EH) (P := P (mB m)) κ d 0) $$ [Hst Ha Hr Hb Hg1 Hts]
  isplitr; · iexact Hctx
  isplitl [Hst]; · iexact Hst
  isplitl [Ha]
  · rw [st0_eq, ← held_S4_before]; iexact Ha
  iintro ⟨Hst, Hdn⟩
  ihave Ha := (Entails.of_eq ((dn0_eq (mB m) d).trans (held_S4_after m d).symm)) $$ Hdn
  ihave Hr' := (Entails.of_eq (StableHlo.held_congr (T d) (kept4 m d))) $$ Hr
  ihave Hheld := (Entails.of_eq (StableHlo.held_sub_split (T d) sub4 (VC m d)).symm) $$ [Ha Hr']
  · isplitl [Ha] <;> iassumption
  iapply (wp_hlo_within 𝒱 (SparseCore.T d) none Set.univ (op := op7) (S := ucRefs τ sig) in7 (V := VC m d)) $$ [Hb Hheld]
  · isplitl [Hb] <;> iassumption
  iintro ⟨Hb, Hheld⟩
  rw [wp_ret]; imodintro
  iapply (wp_hlo_within 𝒱 (SparseCore.T d) none Set.univ (op := op8) (S := ucRefs τ sig) in8 (V := (op7 (F := F)).result (VC m d))) $$ [Hb Hheld]
  · isplitl [Hb] <;> iassumption
  iintro ⟨Hb, Hheld⟩
  rw [wp_ret]; imodintro
  iapply (wp_hlo_within 𝒱 (SparseCore.T d) none Set.univ (op := op9) (S := ucRefs τ sig) in9 (V := (op8 (F := F)).result ((op7 (F := F)).result (VC m d)))) $$ [Hb Hheld]
  · isplitl [Hb] <;> iassumption
  iintro ⟨Hb, Hheld⟩
  rw [wp_ret]; imodintro
  iapply (wp_hlo_within 𝒱 (SparseCore.T d) none Set.univ (op := op10) (S := ucRefs τ sig) in10 (V := (op9 (F := F)).result ((op8 (F := F)).result ((op7 (F := F)).result (VC m d))))) $$ [Hb Hheld]
  · isplitl [Hb] <;> iassumption
  iintro ⟨Hb, Hheld⟩
  rw [wp_ret]; imodintro
  iapply (step1 m κ d _) $$ [Hst Hb Hheld Hg1 Hts]
  isplitr; · iexact Hctx
  isplitl [Hst]; · iexact Hst
  isplitl [Hb]; · iexact Hb
  isplitl [Hheld]; · iexact Hheld
  isplitl [Hg1]; · iexact Hg1
  iintro ⟨Hst, Hb, Hheld⟩
  ihave Hsp := (Entails.of_eq (StableHlo.held_sub_split (T d) sub8 (VE m d))) $$ Hheld
  icases Hsp with ⟨Ha, -⟩
  imodintro
  isplitl [Hst]; · iexact Hst
  isplitl [Ha]; · iexact Ha
  isplitl [Hb] <;> iassumption

/-! ## What a run ends in -/

def fq (d : Dev nD) (p : Phys nD τ sig (Elt F)) : Prop := ∀ b ∈ S8, p.mem.mem (d, b) = VE m d b

omit [∀ e, Nonempty (Elt F e)] in
theorem agree {p : Phys nD τ sig (Elt F)} {ℓ : Loc nD τ sig} {f : Buf (Elt F) ℓ} :
    iprop(SI p ∗ (ℓ ↦{fullShare} f)) ⊢ (iprop(SI p ∗ ⌜p.mem.mem ℓ = f⌝) : sProp (MM F)) := by
  iintro ⟨HSI, H⟩
  ihave H := (persistent_entails_right (SI_pointsTo_agree (st := p) (ℓ := ℓ) (I := Finset.univ) (q := fullShare) (f := f))) $$ [HSI H]
  · isplitl [HSI] <;> iassumption
  icases H with ⟨%h, HSI, -⟩
  isplitl [HSI]; · iexact HSI
  ipureintro; exact funext fun i => h i (Finset.mem_univ i)

omit [∀ e, Nonempty (Elt F e)] in
/-- Held arrays are what the memory has. -/
theorem held_agree (d : Dev nD) (V : Valuation τ sig (Elt F)) (p : Phys nD τ sig (Elt F)) (A : Finset (DevRef τ sig)) :
    iprop(held (T d) A V ∗ SI p) ⊢ (iprop(SI p ∗ ⌜∀ b ∈ A, p.mem.mem (d, b) = V b⌝) : sProp (MM F)) := by
  induction A using Finset.induction_on with
  | empty =>
    iintro ⟨-, HSI⟩
    isplitl [HSI]; · iexact HSI
    ipureintro; intro b hb; exact absurd hb (Finset.notMem_empty b)
  | insert a s ha ih =>
    have e : (held (T d) (insert a s) V : sProp (MM F)) = iprop((((d, a) : Loc nD τ sig) ↦{fullShare} V a) ∗ held (T d) s V) := by
      unfold held; rw [SparseCore.bigSep_insert' ha]
    rw [e]
    iintro ⟨⟨Ha, Hs⟩, HSI⟩
    ihave H := (agree (p := p) (ℓ := (d, a)) (f := V a)) $$ [HSI Ha]
    · isplitl [HSI] <;> iassumption
    icases H with ⟨HSI, %ea⟩
    ihave H := ih $$ [HSI Hs]
    · isplitl [Hs] <;> iassumption
    icases H with ⟨HSI, %es⟩
    isplitl [HSI]; · iexact HSI
    ipureintro; intro b hb
    rcases Finset.mem_insert.mp hb with rfl | hb
    · exact ea
    · exact es b hb

omit [∀ e, Nonempty (Elt F e)] in
theorem hfin (d : Dev nD) (p : Phys nD τ sig (Elt F)) : iprop(FIN m d ∗ SI p) ⊢ (⌜fq m d p⌝ : sProp (MM F)) := by
  iintro H
  ihave H := (held_agree d (VE m d) p S8) $$ H
  icases H with ⟨-, %h⟩
  ipureintro; exact h

/-- What a run ends in: the arguments as they were, the result `out`, every semaphore at zero. -/
def QC : PUnit × MemSt nD τ sig (Elt F) → Prop := fun r =>
  (∀ c : Dev nD, (r.2.mem (c, ra0) = m (c, ra0) ∧ r.2.mem (c, ra1) = m (c, ra1) ∧ r.2.mem (c, ra2) = m (c, ra2) ∧ r.2.mem (c, ra3) = m (c, ra3)
      ∧ r.2.mem (c, ra4) = m (c, ra4) ∧ r.2.mem (c, ra5) = m (c, ra5) ∧ r.2.mem (c, ra6) = m (c, ra6)) ∧ r.2.mem (c, rw0) = out m c) ∧ r.2.sem = fun _ => 0

omit [∀ e, Nonempty (Elt F e)] in
theorem VE_arg (d : Dev nD) {b : DevRef τ sig} (h : VD m d b = m (d, b)) (h0 : b ≠ rw0) (h1 : b ≠ rw1) : VE m d b = m (d, b) := (VE_of m d h0 h1).trans h

omit [∀ e, Nonempty (Elt F e)] in
theorem ends (s : Phys nD τ sig (Elt F)) (h : ∀ d, fq m d s) (hz : s.mem.sem = fun _ => 0) : QC m (⟨⟩, s.mem) := by
  refine ⟨fun c => ⟨⟨?_, ?_, ?_, ?_, ?_, ?_, ?_⟩, ?_⟩, hz⟩
  · exact (h c ra0 (by decide)).trans (VE_arg m c (VD_args m c).1.1 (by decide) (by decide))
  · exact (h c ra1 (by decide)).trans (VE_arg m c (VD_args m c).1.2.1 (by decide) (by decide))
  · exact (h c ra2 (by decide)).trans (VE_arg m c (VD_args m c).1.2.2.1 (by decide) (by decide))
  · exact (h c ra3 (by decide)).trans (VE_arg m c (VD_args m c).1.2.2.2 (by decide) (by decide))
  · exact (h c ra4 (by decide)).trans (VE_arg m c (VD_args m c).2.1 (by decide) (by decide))
  · exact (h c ra5 (by decide)).trans (VE_arg m c (VD_args m c).2.2.1 (by decide) (by decide))
  · exact (h c ra6 (by decide)).trans (VE_arg m c (VD_args m c).2.2.2 (by decide) (by decide))
  · exact (h c rw0 (by decide)).trans (VE_w0 m c)

/-- The layer runs, whatever the order its threads go in, and ends in `QC`. -/
theorem run_main (hpre : PreOK (mB m)) :
    θ_run (Cert.LayerIdeal.defs (F := F)) (Cert.LayerIdeal.threads (F := F)) ⟨m, fun _ => 0, ρ⟩ (QC m) :=
  SparseCore.Cfg.θ_run_sc_quiescent (K := K (F := F)) (D := D (F := F)) (𝒱 := 𝒱) (EH := EH) (P := P (mB m)) (A := ∅) facts v₀
    (fun q hq => match q with | 0 => nomatch hq)
    (fun q _ => match q with | 0 => tileObl (mB m) hpre)
    (fun q _ => match q with | 0 => SparseCore.Cfg.VecSplit.of_plain (vecSplit (mB m)))
    m ρ main (fun d => Ghosts d) (FIN m) (u₀ (F := F)) (sep_elim_left.trans (hu₀ m)) (hmain m ρ) (fq m) (hfin m) (QC m) (ends m)

end Cert.Proof.SageLayer

end
-- ==== Proof.Layer.Frames.lean ====
/-
  The frames of the layer and of its reference.
-/
module

public import proofs.«01_k».proof.Proof.Layer.Main
public import proofs.«01_k».proof.Proof.Frames
public import proofs.«01_k».proof.Proof.Gen.Layer
public import proofs.«01_k».proof.Proof.Gen.LayerReferenceIdeal
public import proofs.«01_k».proof.Proof.Gen.Pre_graph_named
public import proofs.«01_k».proof.Proof.Gen.Pre_graph_finite

@[expose] public section

set_option maxRecDepth 16384

noncomputable section

namespace Cert.Proof.SageLayer

open Cert.LayerIdeal Cert.LayerIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Cert.Proof.Sage (word_lt andi_ofBool ofBool_eq_one)

/-! ## What the preconditions say -/

/-- Edges whose ends are nodes are what the SparseCore call needs. -/
theorem edges_ok (m : (ℓ : Loc nD τ sig) → Buf (Elt F) ℓ)
    (h : ∀ (d : Dev nD) (x : S2x320000.Idx), (m (d, ra1) x : BitVec 32).toNat < 10000) : PreOK (mB m) := by
  intro d
  rw [mB_s, mB_d]
  refine ⟨fun x => ?_, fun x => ?_⟩
  · have e : ∃ y, srcs m d x = m (d, ra1) y := ⟨_, rfl⟩
    obtain ⟨y, e⟩ := e
    rw [e]; exact h d y
  · have e : ∃ y, dsts m d x = m (d, ra1) y := ⟨_, rfl⟩
    obtain ⟨y, e⟩ := e
    rw [e]; exact h d y

theorem named_ok (m : (ℓ : Loc nD τ sig) → Buf (Elt F) ℓ)
    (h : ∀ d : Dev nD, Cert.Pre_graph_named.fn (F := F) (m (d, ra0)) (m (d, ra1)) (m (d, ra2)) (m (d, ra3)) (m (d, ra4)) (m (d, ra5)) (m (d, ra6)) = (fun _ => 1#1)) : PreOK (mB m) := by
  refine edges_ok m fun d x => ?_
  have e := congrFun (h d) x
  simp only [Cert.Pre_graph_named.fn, andi, cmpi, broadcastInDim, constantI] at e
  exact word_lt _ e

theorem finite_ok (m : (ℓ : Loc nD τ sig) → Buf (Elt Ideal) ℓ) (h : Cert.Pre_LayerIdeal_graph_finite m) : PreOK (mB m) := by
  refine edges_ok m fun d x => ?_
  have e := congrFun (h d).1 x
  simp only [Cert.Pre_graph_finite.fn, andi, cmpi, broadcastInDim, constantI] at e
  exact word_lt _ e

/-! ## The frames -/

theorem frame_ideal : Cert.quiescent_LayerIdeal := fun m ρ h =>
  (θ_run Cert.LayerIdeal.defs _ _).mono (fun _ h => ⟨fun c => (h.1 c).1, h.2⟩) (run_main (F := Ideal) m ρ (named_ok m h))

theorem frame_ideal_finite : Cert.quiescent_LayerIdeal_pre_graph_finite := fun m ρ h =>
  (θ_run Cert.LayerIdeal.defs _ _).mono (fun _ h => ⟨fun c => (h.1 c).1, h.2⟩) (run_main (F := Ideal) m ρ (finite_ok m h))

open Cert.LayerReferenceIdeal in
theorem args_kept (m : (ℓ : Loc Cert.LayerReferenceIdeal.nD Cert.LayerReferenceIdeal.τ Cert.LayerReferenceIdeal.sig) → Buf (Elt Ideal) ℓ) (g : Dev Cert.LayerReferenceIdeal.nD → PrngReg) :
    θ_run (Cert.LayerReferenceIdeal.defs (F := Ideal)) (onTc (τ := Cert.LayerReferenceIdeal.τ) (Cert.LayerReferenceIdeal.main (F := Ideal))) ⟨m, fun _ => 0, g⟩ (fun r => ∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)) := by
  hlo_run

theorem frame_reference : Cert.quiescent_LayerReferenceIdeal := fun m g _ =>
  Idealize.ShloMosaic.θ_run_mono (args_kept m g) fun r h => ⟨h, Idealize.ShloMosaic.sem_eq_zero_of_no_sems (by decide) r.2⟩

theorem frame_reference_finite : Cert.quiescent_LayerReferenceIdeal_pre_graph_finite := fun m g _ =>
  Idealize.ShloMosaic.θ_run_mono (args_kept m g) fun r h => ⟨h, Idealize.ShloMosaic.sem_eq_zero_of_no_sems (by decide) r.2⟩

end Cert.Proof.SageLayer

end
-- ==== Proof.Layer.Frame.lean ====
/-
  The frame of the layer at the floats as they are.
-/
module

public import proofs.«01_k».proof.Proof.Layer.Frames

@[expose] public section

set_option maxRecDepth 16384

noncomputable section

namespace Cert.Proof.SageLayer

open Cert.LayerIdeal Cert.LayerIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! The printed layer and its idealization are one text: each of their bodies, and so their tables. -/

set_option maxHeartbeats 8000000 in
theorem tiles_same : Cert.Layer.cc1__sc_body (F := Bits) = Cert.LayerIdeal.cc1__sc_body (F := Bits) := rfl

theorem bodies_tc : Cert.Layer.defs₀ (F := Bits) .tc = Cert.LayerIdeal.defs₀ (F := Bits) .tc := by
  funext l a
  match l, a with
  | 0, (t, s) => rfl
  | 1, _ => rfl
  | 2, (t, s) => rfl

theorem bodies_scalar (c : Fin τ.nSC) : Cert.Layer.defs₀ (F := Bits) (.scScalar c) = Cert.LayerIdeal.defs₀ (F := Bits) (.scScalar c) := by
  funext l a
  match l, a with
  | 0, _ => rfl
  | 1, _ => rfl
  | 2, _ => rfl

theorem bodies_tile (c : Fin τ.nSC) (s : Fin τ.nSub) :
    Cert.Layer.defs₀ (F := Bits) (.scVector c s) 1 () = Cert.LayerIdeal.defs₀ (F := Bits) (.scVector c s) 1 () := by
  have e : Cert.Layer.defs₀ (F := Bits) (.scVector c s) 1 ()
      = SparseCore.onTile hcore1 hsub1 (fun c s => Cert.Layer.cc1__sc_body (F := Bits) (coordsV c s)
          hpV (Memref.isWhole_whole _) srcV (Memref.isWhole_whole _) dstV (Memref.isWhole_whole _) outV (Memref.isWhole_whole _)
          accV (Memref.isWhole_whole _) srcCV (Memref.isWhole_whole _) dstCV (Memref.isWhole_whole _) selSV (Memref.isWhole_whole _) selDV (Memref.isWhole_whole _)
          rowsV (Memref.isWhole_whole _) cc1_scratch6 cc1_scratch7 cc1_scoped0) ⟨⟩ c s := rfl
  rw [e, tiles_same, ← defs₀_vector]

theorem bodies_vector (c : Fin τ.nSC) (s : Fin τ.nSub) : Cert.Layer.defs₀ (F := Bits) (.scVector c s) = Cert.LayerIdeal.defs₀ (F := Bits) (.scVector c s) := by
  funext l a
  match l, a with
  | 0, _ => rfl
  | 1, _ => exact bodies_tile c s
  | 2, _ => rfl

theorem bodies_same : Cert.Layer.defs₀ (F := Bits) = Cert.LayerIdeal.defs₀ (F := Bits) := by
  funext p
  match p with
  | .tc => exact bodies_tc
  | .scScalar c => exact bodies_scalar c
  | .scVector c s => exact bodies_vector c s

theorem defs_same : Cert.Layer.defs (F := Bits) = Cert.LayerIdeal.defs (F := Bits) := by
  unfold Cert.Layer.defs Cert.LayerIdeal.defs
  rw [bodies_same]
  rfl

/-- So the run over any floats is the run of both. -/
theorem frame_layer : Cert.quiescent_Layer := by
  intro m ρ h
  rw [defs_same]
  exact (θ_run Cert.LayerIdeal.defs _ _).mono (fun _ h => ⟨fun c => (h.1 c).1, h.2⟩) (run_main (F := Bits) m ρ (named_ok (F := Bits) m h))

end Cert.Proof.SageLayer

end
-- ==== Proof.Layer.Fold.lean ====
/-
  What the kernel leaves in its result, as a running maximum: at node `v` and feature `j`, the maximum of 0 and of
  the pooled rows' features `j` over the edges whose destination is `v`, taken in the order of the edges.
-/
module

public import proofs.«01_k».proof.Proof.Layer.Main

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

/-! ## A running maximum over the numbers that a condition picks -/

/-- Start from `z` and take the maximum with `v k` for each `k < n` that has `p`. -/
def pick (p : ℕ → Prop) [DecidablePred p] (v : ℕ → Elt F .f32) (z : Elt F .f32) : ℕ → Elt F .f32
  | 0 => z
  | n + 1 => if p n then FloatOps.maximumf (pick p v z n) (v n) else pick p v z n

theorem pick_congr (p q : ℕ → Prop) [DecidablePred p] [DecidablePred q] (v w : ℕ → Elt F .f32) (z : Elt F .f32) :
    ∀ n, (∀ k < n, p k ↔ q k) → (∀ k < n, p k → v k = w k) → pick p v z n = pick q w z n
  | 0, _, _ => rfl
  | n + 1, hp, hv => by
    have ih := pick_congr p q v w z n (fun k hk => hp k (by omega)) (fun k hk => hv k (by omega))
    by_cases h : p n
    · simp only [pick, if_pos h, if_pos ((hp n (by omega)).mp h), ih, hv n (by omega) h]
    · simp only [pick, if_neg h, if_neg (fun h' => h ((hp n (by omega)).mpr h')), ih]

theorem pick_skip (p : ℕ → Prop) [DecidablePred p] (v : ℕ → Elt F .f32) (z : Elt F .f32) (n : ℕ) :
    ∀ m, (∀ k, n ≤ k → k < n + m → ¬ p k) → pick p v z (n + m) = pick p v z n
  | 0, _ => rfl
  | m + 1, h => by
    show (if p (n + m) then _ else pick p v z (n + m)) = _
    rw [if_neg (h _ (by omega) (by omega)), pick_skip p v z n m (fun k h1 h2 => h k h1 (by omega))]

theorem pick_add (p : ℕ → Prop) [DecidablePred p] (v : ℕ → Elt F .f32) (z : Elt F .f32) (a : ℕ) :
    ∀ n, pick (fun k => p (a + k)) (fun k => v (a + k)) (pick p v z a) n = pick p v z (a + n)
  | 0 => rfl
  | n + 1 => by
    show (if p (a + n) then FloatOps.maximumf (pick _ _ _ n) (v (a + n)) else pick _ _ _ n) = if p (a + n) then FloatOps.maximumf (pick p v z (a + n)) (v (a + n)) else pick p v z (a + n)
    rw [pick_add p v z a n]

/-! ## The tile's list of edges, as a running maximum over all edges -/

theorem runF_pick (H : S10000x128.Idx → Elt F .f32) (S D : ℕ → ℕ) (f : S40192.Idx → Elt F .f32) (x : S40192.Idx) :
    ∀ n, runF H S D f n x = pick (fun k => (x 0).val / 128 = D k) (fun k => hpRow H (S k) ((x 0).val % 128)) (f x) n
  | 0 => rfl
  | n + 1 => by
    show edgeF (runF H S D f n) (hpRow H (S n)) (D n) x = _
    simp only [edgeF, pick, runF_pick H S D f x n]

theorem pick_list (i : grid1.Coords) (ds vd vs : ℕ → BitVec 32) (a r : ℕ) (g : ℕ → Elt F .f32) (z : Elt F .f32) :
    ∀ n, pick (fun k => (lst i ds vd a n k).toNat = r) (fun k => g (lst i ds vs a n k).toNat) z (cnt i ds a n)
      = pick (fun k => bit i (ds (a + k)) = 1 ∧ (vd (a + k)).toNat = r) (fun k => g (vs (a + k)).toNat) z n
  | 0 => rfl
  | n + 1 => by
    have ih := pick_list i ds vd vs a r g z n
    by_cases h : bit i (ds (a + n)) = 1
    · have low : ∀ val : ℕ → BitVec 32, ∀ k < cnt i ds a n, lst i ds val a (n + 1) k = lst i ds val a n k := fun val k hk => by
        simp only [lst]; rw [if_neg (fun hc => by omega)]
      have top : ∀ val : ℕ → BitVec 32, lst i ds val a (n + 1) (cnt i ds a n) = val (a + n) := fun val => by
        simp only [lst]; rw [if_pos ⟨h, trivial⟩]
      have ec : cnt i ds a (n + 1) = cnt i ds a n + 1 := by simp only [cnt]; rw [if_pos h]
      have e := pick_congr (fun k => (lst i ds vd a (n + 1) k).toNat = r) (fun k => (lst i ds vd a n k).toNat = r)
        (fun k => g (lst i ds vs a (n + 1) k).toNat) (fun k => g (lst i ds vs a n k).toNat) z (cnt i ds a n)
        (fun k hk => by rw [low vd k hk]) (fun k hk _ => by rw [low vs k hk])
      rw [ec]
      show (if (lst i ds vd a (n + 1) (cnt i ds a n)).toNat = r then FloatOps.maximumf (pick _ _ _ _) (g (lst i ds vs a (n + 1) (cnt i ds a n)).toNat) else pick _ _ _ _)
        = if bit i (ds (a + n)) = 1 ∧ (vd (a + n)).toNat = r then FloatOps.maximumf (pick _ _ _ n) (g (vs (a + n)).toNat) else pick _ _ _ n
      rw [e, ih, top, top]
      by_cases hr : (vd (a + n)).toNat = r
      · rw [if_pos hr, if_pos ⟨h, hr⟩]
      · rw [if_neg hr, if_neg (fun hc => hr hc.2)]
    · have low : ∀ val : ℕ → BitVec 32, ∀ k, lst i ds val a (n + 1) k = lst i ds val a n k := fun val k => by
        simp only [lst]; rw [if_neg (fun hc => h hc.1)]
      have ec : cnt i ds a (n + 1) = cnt i ds a n := by simp only [cnt]; rw [if_neg h]
      rw [ec]
      simp only [low]
      rw [ih]
      show _ = if bit i (ds (a + n)) = 1 ∧ (vd (a + n)).toNat = r then _ else _
      rw [if_neg (fun hc => h hc.1)]

theorem chunkF_pick (i : grid1.Coords) (H : S10000x128.Idx → Elt F .f32) (ds ss : ℕ → BitVec 32) (a : ℕ) (f : S40192.Idx → Elt F .f32) (x : S40192.Idx)
    (hx : (x 0).val / 128 < 313) :
    chunkF i H ds ss a f x = pick (fun k => bit i (ds (a + k)) = 1 ∧ (ds (a + k) - lo i).toNat = (x 0).val / 128)
      (fun k => hpRow H (ss (a + k)).toNat ((x 0).val % 128)) (f x) 8000 := by
  rw [← pick_list i ds (fun k => ds k - lo i) ss a ((x 0).val / 128) (fun s => hpRow H s ((x 0).val % 128)) (f x) 8000]
  show runF H (srcOf i ds ss a) (rowOf i ds a) f _ x = _
  rw [runF_pick]
  have hc : 32 * ((cnt i ds a 8000 + 31) / 32) = cnt i ds a 8000 + (32 * ((cnt i ds a 8000 + 31) / 32) - cnt i ds a 8000) := by omega
  rw [hc, pick_skip]
  · refine pick_congr _ _ _ _ _ _ (fun k hk => ?_) (fun k hk _ => ?_)
    · simp only [rowOf]; rw [if_pos hk]; exact eq_comm
    · simp only [srcOf]; rw [if_pos hk]
  · intro k h1 _
    simp only [rowOf]; rw [if_neg (by omega)]; omega

theorem accF_pick (i : grid1.Coords) (H : S10000x128.Idx → Elt F .f32) (fs fd : S320000.Idx → BitVec 32) (f : S40192.Idx → Elt F .f32) (x : S40192.Idx)
    (hx : (x 0).val / 128 < 313) :
    ∀ c, accF i H fs fd f c x = pick (fun k => bit i (wordsOf fd k) = 1 ∧ (wordsOf fd k - lo i).toNat = (x 0).val / 128)
      (fun k => hpRow H (wordsOf fs k).toNat ((x 0).val % 128)) (f x) (8000 * c)
  | 0 => rfl
  | c + 1 => by
    show chunkF i H (wordsOf fd) (wordsOf fs) (8000 * c) (accF i H fs fd f c) x = _
    rw [chunkF_pick i H _ _ _ _ x hx, accF_pick i H fs fd f x hx c, Nat.mul_succ]
    exact pick_add (fun k => bit i (wordsOf fd k) = 1 ∧ (wordsOf fd k - lo i).toNat = (x 0).val / 128)
      (fun k => hpRow H (wordsOf fs k).toNat ((x 0).val % 128)) (f x) (8000 * c) 8000

/-- What the kernel leaves at node `v`, feature `j`: the maximum of 0 and the rows of the edges into `v`. -/
theorem resF_pick (H : S10000x128.Idx → Elt F .f32) (fs fd : S320000.Idx → BitVec 32) (hfd : ∀ x, (fd x).toNat < 10000) (x : S1282048.Idx) :
    resF H fs fd x = pick (fun k => (wordsOf fd k).toNat = (x 0).val / 128)
      (fun k => hpRow H (wordsOf fs k).toNat ((x 0).val % 128)) (Scalar.ofBits .f32 0x00000000#32) 320000 := by
  have hx0 : (x 0).val < 1282048 := (x 0).isLt
  have hw : (x 0).val / 40064 < 32 := by omega
  have ht : tileNo (tileOf ((x 0).val / 40064)) = (x 0).val / 40064 := by
    show 2 * ((x 0).val / 40064 / 2 % 16) + (x 0).val / 40064 % 2 = _
    omega
  have hr : (x 0).val % 40064 / 128 < 313 := by omega
  refine (accF_pick (tileOf ((x 0).val / 40064)) H fs fd zeroF (at1 ((x 0).val % 40064) (lt_trans (Nat.mod_lt _ (by decide)) (by decide))) hr 40).trans ?_
  refine pick_congr _ _ _ _ _ _ (fun k _ => ?_) (fun k _ _ => ?_)
  · have hk : (wordsOf fd k).toNat < 10000 := hfd _
    show bit _ _ = 1#1 ∧ (wordsOf fd k - lo (tileOf ((x 0).val / 40064))).toNat = (x 0).val % 40064 / 128 ↔ _
    rw [bit_iff _ _ hk, ht]
    constructor
    · rintro ⟨⟨h1, h2⟩, h3⟩
      rw [sub_val _ _ (by rw [ht]; exact h1), ht] at h3
      omega
    · intro h
      refine ⟨⟨by omega, by omega⟩, ?_⟩
      rw [sub_val _ _ (by rw [ht]; omega), ht]
      omega
  · show hpRow H _ ((x 0).val % 40064 % 128) = hpRow H _ ((x 0).val % 128)
    congr 1; omega

end Cert.Proof.SageLayer

end
-- ==== Proof.Layer.Entry.lean ====
/-
  The SparseCore call's result, after the reshape and the cut to the nodes there are, entry by entry.
-/
module

public import proofs.«01_k».proof.Proof.Layer.Fold

@[expose] public section

noncomputable section

namespace Cert.Proof.SageLayer

open Cert.LayerIdeal Cert.LayerIdeal.Facts₀ Cert.LayerIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

variable (m : (ℓ : Loc nD τ sig) → Buf (Elt F) ℓ)

/-- The result at node `y 0`, feature `y 1`, as the running maximum. -/
theorem pooled_pick (hpre : PreOK m) (d : Dev nD) (y : S10000x128.Idx) :
    pooled m d y = pick (fun k => (wordsOf (m (dLoc d)) k).toNat = (y 0).val) (fun k => hpRow (m (hLoc d)) (wordsOf (m (sLoc d)) k).toNat (y 1).val)
      (Scalar.ofBits .f32 0x00000000#32) 320000 := by
  have h0 : (y 0).val < 10000 := (y 0).isLt
  have h1 : (y 1).val < 128 := (y 1).isLt
  have e : pooled m d y = flat m d (at1 ((y 0).val * 128 + (y 1).val) (by omega)) := by
    show flat m d (Shape.reshapeEquiv _ _) = _
    congr 1
    refine Shape.reshapeEquiv_eq_of_rowMajor _ ?_
    refine (Shape.rowMajor_val_one _).trans ((Shape.rowMajor_val_two _).trans ?_).symm
    show (0 + (y 0).val) * 128 + (0 + (y 1).val) = (y 0).val * 128 + (y 1).val
    omega
  rw [e]
  refine (resF_pick (m (hLoc d)) (m (sLoc d)) (m (dLoc d)) (hpre d).2 _).trans ?_
  refine pick_congr _ _ _ _ _ _ (fun k _ => ?_) (fun k _ _ => ?_)
  · show _ = ((y 0).val * 128 + (y 1).val) / 128 ↔ _
    have e : ((y 0).val * 128 + (y 1).val) / 128 = (y 0).val := by omega
    rw [e]
  · show hpRow _ _ (((y 0).val * 128 + (y 1).val) % 128) = _
    have e : ((y 0).val * 128 + (y 1).val) % 128 = (y 1).val := by omega
    rw [e]

end Cert.Proof.SageLayer

end
-- ==== Proof.Layer.Refer.lean ====
/-
  The reference's value, entry by entry, and that the kernel's running maximum is it: over the extended reals, where
  the pooled rows are at least 0 and below infinity.
-/
module

public import proofs.«01_k».proof.Proof.Layer.Fold
public import proofs.«01_k».proof.Proof.Gen.LayerReferenceIdeal
public import Idealize.ShloMosaic.PureOps.Reduce

@[expose] public section

noncomputable section

namespace Cert.Proof.SageLayer

open Cert.LayerReferenceIdeal Cert.LayerReferenceIdeal.Facts₀ Cert.LayerReferenceIdeal.Facts
open Idealize.ShloMosaic

/-! ## The reference's value, operation by operation -/

/-- The gathered rows, one per edge. -/
def gat (H : S10000x128.Idx → EReal) (fs : S320000.Idx → BitVec 32) : S320000x128.Idx → EReal :=
  Host.gather gather_S10000x128_S320000x1_S320000x128_1_0_n_n_0_1_1128 H (broadcastInDim S320000x1 ![0] bcast_S320000_S320000x1_0 fs)

/-- Node `v`, edge `e`: whether `e` ends in `v`. -/
def hit (fd : S320000.Idx → BitVec 32) : S10000x320000.Idx → BitVec 1 :=
  cmpi .eq (broadcastInDim S10000x320000 ![0, 1] bcast_S1x320000_S10000x320000_0_1 (broadcastInDim S1x320000 ![1] bcast_S320000_S1x320000_1 fd))
    (broadcastInDim S10000x320000 ![0, 1] bcast_S10000x1_S10000x320000_0_1 (broadcastInDim S10000x1 ![0] bcast_S10000_S10000x1_0 (iotaInDim S10000 32 0)))

/-- The rows of the edges that end in each node, the others minus infinity. -/
def msk (H : S10000x128.Idx → EReal) (fs fd : S320000.Idx → BitVec 32) : S10000x320000x128.Idx → EReal :=
  Idealize.ShloMosaic.select (broadcastInDim S10000x320000x128 ![0, 1, 2] bcast_S10000x320000x1_S10000x320000x128_0_1_2
      (broadcastInDim S10000x320000x1 ![0, 1] bcast_S10000x320000_S10000x320000x1_0_1 (hit fd)))
    (broadcastInDim S10000x320000x128 ![0, 1, 2] bcast_S1x320000x128_S10000x320000x128_0_1_2
      (broadcastInDim S1x320000x128 ![1, 2] bcast_S320000x128_S1x320000x128_1_2 (gat H fs)))
    (broadcastInDim S10000x320000x128 ![] bcast_S_S10000x320000x128 (constant (F := Ideal) S_ .f32 0xFF800000#32))

/-- The segment maximum. -/
def red (H : S10000x128.Idx → EReal) (fs fd : S320000.Idx → BitVec 32) : S10000x128.Idx → EReal :=
  Host.reduce (max : EReal → EReal → EReal) (msk H fs fd) (constant (F := Ideal) S_ .f32 0xFF800000#32) reducesTo_S10000x320000x128_S10000x128_d1 h_S_

/-- The segment maximum, 0 at a node that no edge ends in. -/
def refOut (H : S10000x128.Idx → EReal) (fs fd : S320000.Idx → BitVec 32) : S10000x128.Idx → EReal :=
  Idealize.ShloMosaic.select (cmpf (F := Ideal) .olt (Host.absf (F := Ideal) (red H fs fd)) (broadcastInDim S10000x128 ![] bcast_S_S10000x128 (constant (F := Ideal) S_ .f32 0x7F800000#32)))
    (red H fs fd) (broadcastInDim S10000x128 ![] bcast_S_S10000x128 (constant (F := Ideal) S_ .f32 0x00000000#32))

theorem gat_apply (H : S10000x128.Idx → EReal) (fs : S320000.Idx → BitVec 32) (hfs : ∀ x, (fs x).toNat < 10000) (x : S320000x128.Idx) :
    gat H fs x = hpRow (F := Ideal) H (fs (at1 (x 0).val (x 0).isLt)).toNat (x 1).val := by
  have hx1 : (x 1).val < 128 := (x 1).isLt
  show H _ = H _
  congr 1
  funext a
  apply Fin.ext
  match a with
  | 0 =>
    have e : (gather_S10000x128_S320000x1_S320000x128_1_0_n_n_0_1_1128.start x (broadcastInDim S320000x1 ![0] bcast_S320000_S320000x1_0 fs) 0)
        = min (fs (at1 (x 0).val (x 0).isLt)).toInt.toNat 9999 := by
      unfold GatherDims.start
      rw [dif_pos (by exact List.mem_singleton.mpr rfl)]
      show min (fs _).toInt.toNat 9999 = _
      congr 4
      funext b
      rw [Fin.eq_zero b]
      rfl
    show gather_S10000x128_S320000x1_S320000x128_1_0_n_n_0_1_1128.start x (broadcastInDim S320000x1 ![0] bcast_S320000_S320000x1_0 fs) 0 + _ + _ = _ % 10000
    have h := hfs (at1 (x 0).val (x 0).isLt)
    rw [GatherDims.batchCoord_eq_zero _ _ _ (by exact List.not_mem_nil), GatherDims.offCoord_eq_zero _ _ _ (by rw [GatherDims.mem_sKept]; exact fun h => h.1 (List.mem_singleton.mpr rfl)), e,
      BitVec.toInt_eq_toNat_of_lt (by omega)]
    omega
  | 1 =>
    show gather_S10000x128_S320000x1_S320000x128_1_0_n_n_0_1_1128.start x (broadcastInDim S320000x1 ![0] bcast_S320000_S320000x1_0 fs) 1 + _ + _ = (x 1).val % 128
    rw [GatherDims.batchCoord_eq_zero _ _ _ (by exact List.not_mem_nil)]
    have e0 : (gather_S10000x128_S320000x1_S320000x128_1_0_n_n_0_1_1128.start x (broadcastInDim S320000x1 ![0] bcast_S320000_S320000x1_0 fs) 1) = 0 := by
      unfold GatherDims.start
      rw [dif_neg (by show ¬ (1 : Fin 2) ∈ [(0 : Fin 2)]; decide)]
    have e1 : gather_S10000x128_S320000x1_S320000x128_1_0_n_n_0_1_1128.offCoord x 1 = (x 1).val := by
      unfold GatherDims.offCoord
      rw [dif_pos (by rw [GatherDims.mem_sKept]; exact ⟨by show ¬ (1 : Fin 2) ∈ [(0 : Fin 2)]; decide, List.not_mem_nil⟩)]
      rfl
    rw [e0, e1]
    omega

theorem hit_apply (fd : S320000.Idx → BitVec 32) (x : S10000x320000.Idx) :
    hit fd x = BitVec.ofBool (fd (at1 (x 1).val (x 1).isLt) == BitVec.ofNat 32 (x 0).val) := by
  show BitVec.ofBool (fd _ == BitVec.ofNat 32 _) = _
  congr 2
  congr 1
  funext b
  rw [Fin.eq_zero b]
  rfl

theorem ofBits_zero : Scalar.ofBits (F := Ideal) .f32 0x00000000#32 = (0 : EReal) := by
  show Ideal.ofBits .f32 0x00000000#32 = 0
  simp [Ideal.ofBits, Ideal.ieee]
theorem ofBits_top : Scalar.ofBits (F := Ideal) .f32 0x7F800000#32 = (⊤ : EReal) := by
  show Ideal.ofBits .f32 0x7F800000#32 = ⊤
  simp [Ideal.ofBits, Ideal.ieee]
theorem ofBits_bot : Scalar.ofBits (F := Ideal) .f32 0xFF800000#32 = (⊥ : EReal) := by
  show Ideal.ofBits .f32 0xFF800000#32 = ⊥
  simp [Ideal.ofBits, Ideal.ieee]

theorem msk_apply (H : S10000x128.Idx → EReal) (fs fd : S320000.Idx → BitVec 32) (hfs : ∀ x, (fs x).toNat < 10000) (x : S10000x320000x128.Idx) :
    msk H fs fd x = if (fd (at1 (x 1).val (x 1).isLt)).toNat = (x 0).val then hpRow (F := Ideal) H (fs (at1 (x 1).val (x 1).isLt)).toNat (x 2).val else ⊥ := by
  have hx0 : (x 0).val < 10000 := (x 0).isLt
  show Scalar.select (hit fd _) (gat H fs _) (Scalar.ofBits (F := Ideal) .f32 0xFF800000#32) = _
  rw [hit_apply, gat_apply H fs hfs, ofBits_bot]
  show Scalar.select (BitVec.ofBool (fd (at1 (x 1).val _) == BitVec.ofNat 32 (x 0).val)) (hpRow (F := Ideal) H (fs (at1 (x 1).val _)).toNat (x 2).val) (⊥ : EReal) = _
  by_cases h : (fd (at1 (x 1).val (x 1).isLt)).toNat = (x 0).val
  · have hb : (fd (at1 (x 1).val (x 1).isLt) == BitVec.ofNat 32 (x 0).val) = true := by
      rw [beq_iff_eq]; apply BitVec.eq_of_toNat_eq; rw [h, BitVec.toNat_ofNat]; omega
    rw [if_pos h, hb]; rfl
  · have hb : (fd (at1 (x 1).val (x 1).isLt) == BitVec.ofNat 32 (x 0).val) = false := by
      rw [beq_eq_false_iff_ne]; intro e; apply h; rw [e, BitVec.toNat_ofNat]; omega
    rw [if_neg h, hb]; rfl

/-- The index of node `y 0`, edge `k`, feature `y 1`. -/
def at3 (y : S10000x128.Idx) (k : ℕ) (hk : k < 320000) : S10000x320000x128.Idx := fun
  | 0 => y 0
  | 1 => ⟨k, hk⟩
  | 2 => y 1

theorem drop_iff (y : S10000x128.Idx) (x : S10000x320000x128.Idx) :
    reducesTo_S10000x320000x128_S10000x128_d1.drop x = y ↔ (x 0).val = (y 0).val ∧ (x 2).val = (y 1).val := by
  have h0 : (reducesTo_S10000x320000x128_S10000x128_d1.drop x 0 : ℕ) = (x 0).val := Shape.ReducesTo.drop_apply_val_of_eq _ x 0 0
  have h1 : (reducesTo_S10000x320000x128_S10000x128_d1.drop x 1 : ℕ) = (x 2).val := Shape.ReducesTo.drop_apply_val_of_eq _ x 1 2
  constructor
  · rintro rfl; exact ⟨h0.symm, h1.symm⟩
  · rintro ⟨e0, e1⟩
    funext b
    apply Fin.ext
    match b with
    | 0 => exact h0.trans e0
    | 1 => exact h1.trans e1

/-- A property of the entries of the segment of node `y 0`, feature `y 1`, spelled out. -/
theorem seg_iff (H : S10000x128.Idx → EReal) (fs fd : S320000.Idx → BitVec 32) (hfs : ∀ x, (fs x).toNat < 10000) (y : S10000x128.Idx) (R : EReal → Prop) (hR : R ⊥) :
    (∀ x ∈ Finset.univ.filter (fun x => reducesTo_S10000x320000x128_S10000x128_d1.drop x = y), R (msk H fs fd x))
      ↔ ∀ k < 320000, (wordsOf fd k).toNat = (y 0).val → R (hpRow (F := Ideal) H (wordsOf fs k).toNat (y 1).val) := by
  have ew : ∀ (f : S320000.Idx → BitVec 32) (k : ℕ) (hk : k < 320000), wordsOf f k = f (at1 k hk) := fun f k hk => by
    show f _ = f _
    congr 1
    funext a; apply Fin.ext; exact Nat.mod_eq_of_lt hk
  constructor
  · intro h k hk hd
    have := h (at3 y k hk) (Finset.mem_filter.mpr ⟨Finset.mem_univ _, (drop_iff y _).mpr ⟨rfl, rfl⟩⟩)
    rw [ew _ k hk] at hd ⊢
    have e : msk H fs fd (at3 y k hk) = hpRow (F := Ideal) H (fs (at1 k hk)).toNat (y 1).val := (msk_apply H fs fd hfs (at3 y k hk)).trans (if_pos hd)
    rw [e] at this
    exact this
  · intro h x hx
    obtain ⟨e0, e2⟩ := (drop_iff y x).mp (Finset.mem_filter.mp hx).2
    rw [msk_apply H fs fd hfs]
    split
    · next hd =>
      have := h (x 1).val (x 1).isLt (by rw [ew _ _ (x 1).isLt, hd, e0])
      rw [ew _ _ (x 1).isLt, ← e2] at this
      exact this
    · exact hR

theorem red_eq (H : S10000x128.Idx → EReal) (fs fd : S320000.Idx → BitVec 32) (y : S10000x128.Idx) :
    red H fs fd y = (Finset.univ.filter (fun x => reducesTo_S10000x320000x128_S10000x128_d1.drop x = y)).fold max ⊥ (msk H fs fd) := by
  have e : (constant (F := Ideal) S_ .f32 0xFF800000#32 (Shape.Idx.first h_S_) : EReal) = ⊥ := ofBits_bot
  rw [← e]
  exact Host.reduce_eq_fold max (msk H fs fd) _ _ _ y

theorem red_le (H : S10000x128.Idx → EReal) (fs fd : S320000.Idx → BitVec 32) (hfs : ∀ x, (fs x).toNat < 10000) (y : S10000x128.Idx) (b : EReal) :
    red H fs fd y ≤ b ↔ ∀ k < 320000, (wordsOf fd k).toNat = (y 0).val → hpRow (F := Ideal) H (wordsOf fs k).toNat (y 1).val ≤ b := by
  rw [red_eq, Finset.fold_max_le, ← seg_iff H fs fd hfs y (fun v => v ≤ b) bot_le]
  exact and_iff_right bot_le

theorem red_lt (H : S10000x128.Idx → EReal) (fs fd : S320000.Idx → BitVec 32) (hfs : ∀ x, (fs x).toNat < 10000) (hH : ∀ x, H x < ⊤) (y : S10000x128.Idx) :
    red H fs fd y < ⊤ := by
  rw [red_eq, Finset.fold_max_lt]
  exact ⟨bot_lt_top, (seg_iff H fs fd hfs y (fun v => v < ⊤) bot_lt_top).mpr fun _ _ _ => hH _⟩

theorem red_or (H : S10000x128.Idx → EReal) (fs fd : S320000.Idx → BitVec 32) (hfs : ∀ x, (fs x).toNat < 10000) (hH : ∀ x, 0 ≤ H x) (y : S10000x128.Idx) :
    red H fs fd y = ⊥ ∨ 0 ≤ red H fs fd y := by
  by_cases h : ∃ k < 320000, (wordsOf fd k).toNat = (y 0).val
  · obtain ⟨k, hk, hd⟩ := h
    exact Or.inr (le_trans (hH _) ((red_le H fs fd hfs y _).mp le_rfl k hk hd))
  · exact Or.inl (le_bot_iff.mp ((red_le H fs fd hfs y ⊥).mpr fun k hk hd => absurd ⟨k, hk, hd⟩ h))

theorem olt_apply (u v : EReal) : FloatOps.cmpf (F := Ideal) (φ := .f32) .olt u v = BitVec.ofBool (decide (u < v)) := rfl
theorem abs_apply (u : EReal) : FloatOps.hostAbsf (F := Ideal) (φ := .f32) u = max u (-u) := rfl

theorem finite_or_zero (R : S10000x128.Idx → EReal) (y : S10000x128.Idx) :
    (Idealize.ShloMosaic.select (cmpf (F := Ideal) .olt (Host.absf (F := Ideal) R) (broadcastInDim S10000x128 ![] bcast_S_S10000x128 (constant (F := Ideal) S_ .f32 0x7F800000#32)))
      R (broadcastInDim S10000x128 ![] bcast_S_S10000x128 (constant (F := Ideal) S_ .f32 0x00000000#32)) : S10000x128.Idx → EReal) y
      = if max (R y) (-(R y)) < ⊤ then R y else 0 := by
  have e : (Idealize.ShloMosaic.select (cmpf (F := Ideal) .olt (Host.absf (F := Ideal) R) (broadcastInDim S10000x128 ![] bcast_S_S10000x128 (constant (F := Ideal) S_ .f32 0x7F800000#32)))
      R (broadcastInDim S10000x128 ![] bcast_S_S10000x128 (constant (F := Ideal) S_ .f32 0x00000000#32)) : S10000x128.Idx → EReal) y
      = Scalar.select (FloatOps.cmpf (F := Ideal) (φ := .f32) .olt (FloatOps.hostAbsf (F := Ideal) (φ := .f32) (R y)) (Scalar.ofBits (F := Ideal) .f32 0x7F800000#32)) (R y)
        (Scalar.ofBits (F := Ideal) .f32 0x00000000#32 : EReal) := rfl
  rw [e, abs_apply, ofBits_top, ofBits_zero, olt_apply]
  by_cases h : max (R y) (-(R y)) < ⊤
  · rw [if_pos h, decide_eq_true h]; rfl
  · rw [if_neg h, decide_eq_false h]; rfl

theorem refOut_apply (H : S10000x128.Idx → EReal) (fs fd : S320000.Idx → BitVec 32) (y : S10000x128.Idx) :
    refOut H fs fd y = if max (red H fs fd y) (-(red H fs fd y)) < ⊤ then red H fs fd y else 0 :=
  finite_or_zero (red H fs fd) y

/-! ## The kernel's running maximum is the reference's value -/

theorem pick_le (p : ℕ → Prop) [DecidablePred p] (v : ℕ → EReal) (z b : EReal) :
    ∀ n, pick (F := Ideal) p v z n ≤ b ↔ z ≤ b ∧ ∀ k < n, p k → v k ≤ b
  | 0 => ⟨fun h => ⟨h, fun _ hk => absurd hk (Nat.not_lt_zero _)⟩, fun h => h.1⟩
  | n + 1 => by
    have ih := pick_le p v z b n
    have split : (∀ k < n + 1, p k → v k ≤ b) ↔ (∀ k < n, p k → v k ≤ b) ∧ (p n → v n ≤ b) :=
      ⟨fun h => ⟨fun k hk => h k (by omega), h n (by omega)⟩, fun h k hk => by
        rcases Nat.lt_succ_iff_lt_or_eq.mp hk with hk | rfl
        · exact h.1 k hk
        · exact h.2⟩
    rw [split]
    by_cases h : p n
    · simp only [pick, if_pos h]
      show max (pick (F := Ideal) p v z n) (v n) ≤ b ↔ _
      rw [max_le_iff, ih]
      exact ⟨fun ⟨⟨a, c⟩, e⟩ => ⟨a, c, fun _ => e⟩, fun ⟨a, c, e⟩ => ⟨⟨a, c⟩, e h⟩⟩
    · simp only [pick, if_neg h]
      rw [ih]
      exact ⟨fun ⟨a, c⟩ => ⟨a, c, fun e => absurd e h⟩, fun ⟨a, c, _⟩ => ⟨a, c⟩⟩

theorem pick_ref (H : S10000x128.Idx → EReal) (fs fd : S320000.Idx → BitVec 32) (hfs : ∀ x, (fs x).toNat < 10000) (h0 : ∀ x, 0 ≤ H x) (h1 : ∀ x, H x < ⊤) (y : S10000x128.Idx) :
    pick (F := Ideal) (fun k => (wordsOf fd k).toNat = (y 0).val) (fun k => hpRow (F := Ideal) H (wordsOf fs k).toNat (y 1).val) (0 : EReal) 320000 = refOut H fs fd y := by
  have e : pick (F := Ideal) (fun k => (wordsOf fd k).toNat = (y 0).val) (fun k => hpRow (F := Ideal) H (wordsOf fs k).toNat (y 1).val) (0 : EReal) 320000
      = max (0 : EReal) (red H fs fd y) :=
    eq_of_forall_ge_iff (α := EReal) fun b => by rw [pick_le, max_le_iff, red_le H fs fd hfs]
  rw [e, refOut_apply]
  rcases red_or H fs fd hfs h0 y with h | h
  · rw [h]; simp
  · rw [if_pos, max_eq_right h]
    refine max_lt (red_lt H fs fd hfs h1 y) (lt_of_le_of_lt ?_ EReal.zero_lt_top)
    rw [EReal.neg_le]; simpa using h

end Cert.Proof.SageLayer

end
-- ==== Proof.Layer.Agree.lean ====
/-
  The layer's value is the reference's.
-/
module

public import proofs.«01_k».proof.Proof.Layer.Frames
public import proofs.«01_k».proof.Proof.Layer.Entry
public import proofs.«01_k».proof.Proof.Layer.Refer
public import proofs.«01_k».proof.Proof.Dense

@[expose] public section

set_option maxRecDepth 16384

noncomputable section

namespace Cert.Proof.SageLayer

open Cert.LayerIdeal Cert.LayerIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.Sage (andi_ofBool ofBool_eq_one)

variable (m : (ℓ : Loc nD τ sig) → Buf (Elt Ideal) ℓ)

/-! ## The pooled rows -/

/-- What is below infinity in absolute value is a real number. -/
theorem real_of {u : EReal} (h : max u (-u) < ⊤) : ∃ r : ℝ, u = (r : EReal) := by
  induction u with
  | bot => simp at h
  | coe r => exact ⟨r, rfl⟩
  | top => simp at h

/-- What the precondition compares is below infinity. -/
theorem below_top (u : EReal) (e : FloatOps.cmpf (F := Ideal) (φ := .f32) .olt (FloatOps.hostAbsf (F := Ideal) (φ := .f32) u) (Scalar.ofBits (F := Ideal) .f32 0x7F800000#32) = 1#1) :
    ∃ r : ℝ, u = (r : EReal) := by
  rw [ofBits_top, olt_apply, abs_apply, ofBool_eq_one, decide_eq_true_eq] at e
  exact real_of e

theorem finite_x (h : Cert.Pre_LayerIdeal_graph_finite m) (d : Dev nD) (x : S10000x128.Idx) : ∃ r : ℝ, (m (d, ra0) x : EReal) = (r : EReal) :=
  below_top _ (congrFun (h d).2.1 x)
theorem finite_w (h : Cert.Pre_LayerIdeal_graph_finite m) (d : Dev nD) (x : S128x128.Idx) : ∃ r : ℝ, (m (d, ra2) x : EReal) = (r : EReal) :=
  below_top _ (congrFun (h d).2.2.1 x)
theorem finite_b (h : Cert.Pre_LayerIdeal_graph_finite m) (d : Dev nD) (x : S128.Idx) : ∃ r : ℝ, (m (d, ra3) x : EReal) = (r : EReal) :=
  below_top _ (congrFun (h d).2.2.2 x)

/-- A sum of numbers below infinity is below infinity. -/
theorem sum_below {ι : Type} (s : Finset ι) (f : ι → EReal) (h : ∀ i, f i < ⊤) : ∑ i ∈ s, f i < ⊤ := by
  classical
  induction s using Finset.induction_on with
  | empty => simp
  | insert a s ha ih => rw [Finset.sum_insert ha]; exact EReal.add_lt_top (h a).ne ih.ne

/-- A product of matrices of real numbers is below infinity. -/
theorem dot_below (x : FVec Ideal Dense.Sn .f32) (w : FVec Ideal (⟨2, ![128, 128]⟩ : Shape) .f32) (hx : ∀ i, ∃ r : ℝ, (x i : EReal) = (r : EReal))
    (hw : ∀ i, ∃ r : ℝ, (w i : EReal) = (r : EReal)) (y : Dense.Sn.Idx) : (Dense.dot x w y : EReal) < ⊤ := by
  have e : (Dense.dot x w y : EReal) = _ := Ideal.dotGeneral_apply _ none _ x w y
  rw [e]
  refine sum_below _ _ fun k => ?_
  obtain ⟨r, hr⟩ := hx (Cert.PreReferenceIdeal.dot_S10000x128_S128x128_S10000x128_1_0_0_1_n_n.lhsIdx y k)
  obtain ⟨s, hs⟩ := hw (Cert.PreReferenceIdeal.dot_S10000x128_S128x128_S10000x128_1_0_0_1_n_n.rhsIdx y k)
  rw [hr, hs, ← EReal.coe_mul]
  exact EReal.coe_lt_top _

/-- A clipped layer's entry is the greater of 0 and its sum with a bias. -/
theorem clip_apply (y : FVec Ideal Dense.Sn .f32) (b : FVec Ideal Dense.Sb .f32) (j : Dense.Sn.Idx) :
    ∃ i, (Dense.clip y b j : EReal) = max ((y j : EReal) + (b i : EReal)) 0 := by
  have e : ∃ i, (Dense.clip y b j : EReal) = max ((y j : EReal) + (b i : EReal)) (Scalar.ofBits (F := Ideal) .f32 0x00000000#32 : EReal) := ⟨_, rfl⟩
  rwa [ofBits_zero] at e

theorem proj_eq (d : Dev nD) : proj m d = Dense.clip (Dense.dot (m (d, ra0)) (m (d, ra2))) (m (d, ra3)) := by
  unfold proj
  exact Dense.clipped _ _ (Dense.product _ _ _) _ _ _ _

/-- The pooled rows are at least 0 and below infinity. -/
theorem proj_val (h : Cert.Pre_LayerIdeal_graph_finite m) (d : Dev nD) (x : S10000x128.Idx) : (0 : EReal) ≤ proj m d x ∧ (proj m d x : EReal) < ⊤ := by
  rw [proj_eq]
  obtain ⟨i, e⟩ := clip_apply (Dense.dot (m (d, ra0)) (m (d, ra2))) (m (d, ra3)) x
  rw [e]
  refine ⟨le_max_right _ _, max_lt (EReal.add_lt_top (dot_below _ _ (finite_x m h d) (finite_w m h d) x).ne ?_) EReal.zero_lt_top⟩
  obtain ⟨r, hr⟩ := finite_b m h d i
  rw [hr]; exact EReal.coe_ne_top r

/-! ## The value -/

/-- The reference's maxima are the SparseCore call's. -/
theorem maxima (h : Cert.Pre_LayerIdeal_graph_finite m) (d : Dev nD) : refOut (proj m d) (srcs m d) (dsts m d) = pooled (F := Ideal) (mB m) d := by
  funext y
  have hp := finite_ok m h
  rw [pooled_pick (F := Ideal) (mB m) hp d y, ofBits_zero, mB_h, mB_s, mB_d]
  have hs : ∀ x, (srcs m d x).toNat < 10000 := fun x => by have e := (hp d).1 x; rw [mB_s] at e; exact e
  exact (pick_ref (proj m d) (srcs m d) (dsts m d) hs (fun x => (proj_val m h d x).1) (fun x => (proj_val m h d x).2) y).symm

/-- What the second dense call stores. -/
theorem stored (x a : FVec Ideal S10000x128 .f32) (ws wn : FVec Ideal S128x128 .f32) (b : FVec Ideal S128 .f32) :
    k2_pay1 x ws a wn (shapeCast S1x128 b shapeCasts_S128_S1x128) = Dense.clip (addf (Dense.dot x ws) (Dense.dot a wn)) b := by
  unfold k2_pay1
  rw [shapeCast_id a]
  exact Dense.clipped _ _ (congrArg₂ addf (Dense.product _ x ws) (Dense.product _ a wn)) b _ _ _

/-- What plain jnp computes of the layer, of its pooled rows' maxima. -/
theorem out_ref (h : Cert.Pre_LayerIdeal_graph_finite m) (d : Dev nD) :
    Dense.clip (addf (Dense.dot (m (d, ra0)) (m (d, ra4))) (Dense.dot (refOut (Dense.clip (Dense.dot (m (d, ra0)) (m (d, ra2))) (m (d, ra3))) (srcs m d) (dsts m d)) (m (d, ra5)))) (m (d, ra6))
      = out (F := Ideal) m d := by
  rw [← proj_eq, maxima m h]
  unfold out
  exact (stored _ _ _ _ _).symm

theorem run_values (ρ : Dev nD → PrngReg) (h : PreOK (mB m)) :
    θ_run (Cert.LayerIdeal.defs (F := Ideal)) (Cert.LayerIdeal.threads (F := Ideal)) ⟨m, fun _ => 0, ρ⟩ (fun r => ∀ c : Dev nD,
      r.2.mem (c, rw0) = out (F := Ideal) m c ∧ r.2.mem (c, ra0) = m (c, ra0) ∧ r.2.mem (c, ra1) = m (c, ra1) ∧ r.2.mem (c, ra2) = m (c, ra2) ∧ r.2.mem (c, ra3) = m (c, ra3) ∧ r.2.mem (c, ra4) = m (c, ra4) ∧ r.2.mem (c, ra5) = m (c, ra5) ∧ r.2.mem (c, ra6) = m (c, ra6)) :=
  (θ_run Cert.LayerIdeal.defs _ _).mono (fun _ h c => ⟨(h.1 c).2, (h.1 c).1⟩) (run_main (F := Ideal) m ρ h)

theorem layer_agrees : Cert.algebraic_LayerIdeal_LayerReferenceIdeal_pre_graph_finite := by
  pair_intro
  · run_from (run_values m g (finite_ok m hpre))
  · hlo_run
    refine Eq.trans ?_ (out_ref m hpre _)
    unfold refOut red msk gat hit srcs dsts
    simp -implicitDefEqProofs only [StableHlo.TRef.toBuf, StableHlo.TRef.ofBuf, cast_cast, cast_eq, id]
    rfl

end Cert.Proof.SageLayer

end
-- ==== Proof.lean ====
/-
  The proof of `Cert.Claim`: the frames of the kernels, of their idealizations and of the references,
  and that each idealized kernel computes what its reference does.
-/
module

public import proofs.«01_k».proof.Defs
public import proofs.«01_k».proof.Proof.Frame
public import proofs.«01_k».proof.Proof.Agree
public import proofs.«01_k».proof.Proof.PreCall
public import proofs.«01_k».proof.Proof.MidCall
public import proofs.«01_k».proof.Proof.PostCall
public import proofs.«01_k».proof.Proof.Layer.Frame
public import proofs.«01_k».proof.Proof.Layer.Agree

@[expose] public section

noncomputable section

namespace Cert.Proof

theorem claim : Cert.Claim :=
  ⟨Cert.Kernel.Gen.facts, Cert.KernelIdeal.Gen.facts, Cert.ReferenceIdeal.Gen.facts,
    Cert.Pre.Gen.facts, Cert.PreIdeal.Gen.facts, Cert.PreReferenceIdeal.Gen.facts,
    Cert.Mid.Gen.facts, Cert.MidIdeal.Gen.facts, Cert.MidReferenceIdeal.Gen.facts,
    Cert.Post.Gen.facts, Cert.PostIdeal.Gen.facts, Cert.PostReferenceIdeal.Gen.facts,
    Cert.Layer.Gen.facts, Cert.LayerIdeal.Gen.facts, Cert.LayerReferenceIdeal.Gen.facts,
    Cert.Pre_edges_named.Gen.facts, Cert.Pre_edges_and_pooled.Gen.facts, Cert.Pre_graph_named.Gen.facts, Cert.Pre_graph_finite.Gen.facts,
    Sage.frame_kernel, Sage.frame_ideal, Sage.frame_ideal_pooled, Sage.frame_reference, Sage.frame_reference_pooled,
    fun m g _ => Cert.Pre.Gen.frame m g, fun m g _ => Cert.PreIdeal.Gen.frame m g, PreCall.frame_reference,
    fun m g _ => Cert.Mid.Gen.frame m g, fun m g _ => Cert.MidIdeal.Gen.frame m g, MidCall.frame_reference,
    fun m g _ => Cert.Post.Gen.frame m g, fun m g _ => Cert.PostIdeal.Gen.frame m g, PostCall.frame_reference,
    SageLayer.frame_layer, SageLayer.frame_ideal, SageLayer.frame_ideal_finite, SageLayer.frame_reference, SageLayer.frame_reference_finite,
    trivial, Sage.kernel_agrees, trivial, PreCall.agrees, trivial, MidCall.agrees, trivial, PostCall.agrees, trivial, SageLayer.layer_agrees⟩

end Cert.Proof

end
